-- ==== Defs.lean ====
def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_ScOutDw (m : (ℓ : Loc Cert.ScOutDw.nD Cert.ScOutDw.τ Cert.ScOutDw.sig) → Buf (Elt Bits) ℓ) : Prop :=
  True

def Pre_ScOutDwIdeal (m : (ℓ : Loc Cert.ScOutDwIdeal.nD Cert.ScOutDwIdeal.τ Cert.ScOutDwIdeal.sig) → Buf (Elt Ideal) ℓ) : Prop :=
  True

def Pre_ScOutDwRefIdeal (m : (ℓ : Loc Cert.ScOutDwRefIdeal.nD Cert.ScOutDwRefIdeal.τ Cert.ScOutDwRefIdeal.sig) → Buf (Elt Ideal) ℓ) : Prop :=
  True

def Pre_ScInDw (m : (ℓ : Loc Cert.ScInDw.nD Cert.ScInDw.τ Cert.ScInDw.sig) → Buf (Elt Bits) ℓ) : Prop :=
  True

def Pre_ScInDwIdeal (m : (ℓ : Loc Cert.ScInDwIdeal.nD Cert.ScInDwIdeal.τ Cert.ScInDwIdeal.sig) → Buf (Elt Ideal) ℓ) : Prop :=
  True

def Pre_ScInDwRefIdeal (m : (ℓ : Loc Cert.ScInDwRefIdeal.nD Cert.ScInDwRefIdeal.τ Cert.ScInDwRefIdeal.sig) → Buf (Elt Ideal) ℓ) : Prop :=
  True

def Pre_LruOutDw (m : (ℓ : Loc Cert.LruOutDw.nD Cert.LruOutDw.τ Cert.LruOutDw.sig) → Buf (Elt Bits) ℓ) : Prop :=
  True

def Pre_LruOutDwIdeal (m : (ℓ : Loc Cert.LruOutDwIdeal.nD Cert.LruOutDwIdeal.τ Cert.LruOutDwIdeal.sig) → Buf (Elt Ideal) ℓ) : Prop :=
  True

def Pre_LruOutDwRefIdeal (m : (ℓ : Loc Cert.LruOutDwRefIdeal.nD Cert.LruOutDwRefIdeal.τ Cert.LruOutDwRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_ScInDx (m : (ℓ : Loc Cert.ScInDx.nD Cert.ScInDx.τ Cert.ScInDx.sig) → Buf (Elt Bits) ℓ) : Prop :=
  True

def Pre_ScInDxIdeal (m : (ℓ : Loc Cert.ScInDxIdeal.nD Cert.ScInDxIdeal.τ Cert.ScInDxIdeal.sig) → Buf (Elt Ideal) ℓ) : Prop :=
  True

def Pre_ScInDxRefIdeal (m : (ℓ : Loc Cert.ScInDxRefIdeal.nD Cert.ScInDxRefIdeal.τ Cert.ScInDxRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_ScOutDx (m : (ℓ : Loc Cert.ScOutDx.nD Cert.ScOutDx.τ Cert.ScOutDx.sig) → Buf (Elt Bits) ℓ) : Prop :=
  True

def Pre_ScOutDxIdeal (m : (ℓ : Loc Cert.ScOutDxIdeal.nD Cert.ScOutDxIdeal.τ Cert.ScOutDxIdeal.sig) → Buf (Elt Ideal) ℓ) : Prop :=
  True

def Pre_ScOutDxRefIdeal (m : (ℓ : Loc Cert.ScOutDxRefIdeal.nD Cert.ScOutDxRefIdeal.τ Cert.ScOutDxRefIdeal.sig) → Buf (Elt Ideal) ℓ) : Prop :=
  True

def Pre_LruOutDx (m : (ℓ : Loc Cert.LruOutDx.nD Cert.LruOutDx.τ Cert.LruOutDx.sig) → Buf (Elt Bits) ℓ) : Prop :=
  True

def Pre_LruOutDxIdeal (m : (ℓ : Loc Cert.LruOutDxIdeal.nD Cert.LruOutDxIdeal.τ Cert.LruOutDxIdeal.sig) → Buf (Elt Ideal) ℓ) : Prop :=
  True

def Pre_LruOutDxRefIdeal (m : (ℓ : Loc Cert.LruOutDxRefIdeal.nD Cert.LruOutDxRefIdeal.τ Cert.LruOutDxRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_FfnDownLn (m : (ℓ : Loc Cert.FfnDownLn.nD Cert.FfnDownLn.τ Cert.FfnDownLn.sig) → Buf (Elt Bits) ℓ) : Prop :=
  True

def Pre_FfnDownLnIdeal (m : (ℓ : Loc Cert.FfnDownLnIdeal.nD Cert.FfnDownLnIdeal.τ Cert.FfnDownLnIdeal.sig) → Buf (Elt Ideal) ℓ) : Prop :=
  True

def Pre_FfnDownLnRefIdeal (m : (ℓ : Loc Cert.FfnDownLnRefIdeal.nD Cert.FfnDownLnRefIdeal.τ Cert.FfnDownLnRefIdeal.sig) → Buf (Elt Ideal) ℓ) : Prop :=
  True

def Pre_ScOutLn (m : (ℓ : Loc Cert.ScOutLn.nD Cert.ScOutLn.τ Cert.ScOutLn.sig) → Buf (Elt Bits) ℓ) : Prop :=
  True

def Pre_ScOutLnIdeal (m : (ℓ : Loc Cert.ScOutLnIdeal.nD Cert.ScOutLnIdeal.τ Cert.ScOutLnIdeal.sig) → Buf (Elt Ideal) ℓ) : Prop :=
  True

def Pre_ScOutLnRefIdeal (m : (ℓ : Loc Cert.ScOutLnRefIdeal.nD Cert.ScOutLnRefIdeal.τ Cert.ScOutLnRefIdeal.sig) → Buf (Elt Ideal) ℓ) : Prop :=
  True

def Pre_LruOutLn (m : (ℓ : Loc Cert.LruOutLn.nD Cert.LruOutLn.τ Cert.LruOutLn.sig) → Buf (Elt Bits) ℓ) : Prop :=
  True

def Pre_LruOutLnIdeal (m : (ℓ : Loc Cert.LruOutLnIdeal.nD Cert.LruOutLnIdeal.τ Cert.LruOutLnIdeal.sig) → Buf (Elt Ideal) ℓ) : Prop :=
  True

def Pre_LruOutLnRefIdeal (m : (ℓ : Loc Cert.LruOutLnRefIdeal.nD Cert.LruOutLnRefIdeal.τ Cert.LruOutLnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite [hPre_finite : Cert.Pre_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite [hPre_finite : Cert.Pre_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_UpdScIn (m : (ℓ : Loc Cert.UpdScIn.nD Cert.UpdScIn.τ Cert.UpdScIn.sig) → Buf (Elt Bits) ℓ) : Prop :=
  True

def Pre_UpdScInIdeal (m : (ℓ : Loc Cert.UpdScInIdeal.nD Cert.UpdScInIdeal.τ Cert.UpdScInIdeal.sig) → Buf (Elt Ideal) ℓ) : Prop :=
  True

def Pre_UpdScInRefIdeal (m : (ℓ : Loc Cert.UpdScInRefIdeal.nD Cert.UpdScInRefIdeal.τ Cert.UpdScInRefIdeal.sig) → Buf (Elt Ideal) ℓ) : Prop :=
  True

def Pre_UpdScOut (m : (ℓ : Loc Cert.UpdScOut.nD Cert.UpdScOut.τ Cert.UpdScOut.sig) → Buf (Elt Bits) ℓ) : Prop :=
  True

def Pre_UpdScOutIdeal (m : (ℓ : Loc Cert.UpdScOutIdeal.nD Cert.UpdScOutIdeal.τ Cert.UpdScOutIdeal.sig) → Buf (Elt Ideal) ℓ) : Prop :=
  True

def Pre_UpdScOutRefIdeal (m : (ℓ : Loc Cert.UpdScOutRefIdeal.nD Cert.UpdScOutRefIdeal.τ Cert.UpdScOutRefIdeal.sig) → Buf (Elt Ideal) ℓ) : Prop :=
  True

def Pre_UpdLruIn (m : (ℓ : Loc Cert.UpdLruIn.nD Cert.UpdLruIn.τ Cert.UpdLruIn.sig) → Buf (Elt Bits) ℓ) : Prop :=
  True

def Pre_UpdLruInIdeal (m : (ℓ : Loc Cert.UpdLruInIdeal.nD Cert.UpdLruInIdeal.τ Cert.UpdLruInIdeal.sig) → Buf (Elt Ideal) ℓ) : Prop :=
  True

def Pre_UpdLruInRefIdeal (m : (ℓ : Loc Cert.UpdLruInRefIdeal.nD Cert.UpdLruInRefIdeal.τ Cert.UpdLruInRefIdeal.sig) → Buf (Elt Ideal) ℓ) : Prop :=
  True

def Pre_UpdLruOut (m : (ℓ : Loc Cert.UpdLruOut.nD Cert.UpdLruOut.τ Cert.UpdLruOut.sig) → Buf (Elt Bits) ℓ) : Prop :=
  True

def Pre_UpdLruOutIdeal (m : (ℓ : Loc Cert.UpdLruOutIdeal.nD Cert.UpdLruOutIdeal.τ Cert.UpdLruOutIdeal.sig) → Buf (Elt Ideal) ℓ) : Prop :=
  True

def Pre_UpdLruOutRefIdeal (m : (ℓ : Loc Cert.UpdLruOutRefIdeal.nD Cert.UpdLruOutRefIdeal.τ Cert.UpdLruOutRefIdeal.sig) → Buf (Elt Ideal) ℓ) : Prop :=
  True

def Pre_UpdUp (m : (ℓ : Loc Cert.UpdUp.nD Cert.UpdUp.τ Cert.UpdUp.sig) → Buf (Elt Bits) ℓ) : Prop :=
  True

def Pre_UpdUpIdeal (m : (ℓ : Loc Cert.UpdUpIdeal.nD Cert.UpdUpIdeal.τ Cert.UpdUpIdeal.sig) → Buf (Elt Ideal) ℓ) : Prop :=
  True

def Pre_UpdUpRefIdeal (m : (ℓ : Loc Cert.UpdUpRefIdeal.nD Cert.UpdUpRefIdeal.τ Cert.UpdUpRefIdeal.sig) → Buf (Elt Ideal) ℓ) : Prop :=
  True

def Pre_UpdDown (m : (ℓ : Loc Cert.UpdDown.nD Cert.UpdDown.τ Cert.UpdDown.sig) → Buf (Elt Bits) ℓ) : Prop :=
  True

def Pre_UpdDownIdeal (m : (ℓ : Loc Cert.UpdDownIdeal.nD Cert.UpdDownIdeal.τ Cert.UpdDownIdeal.sig) → Buf (Elt Ideal) ℓ) : Prop :=
  True

def Pre_UpdDownRefIdeal (m : (ℓ : Loc Cert.UpdDownRefIdeal.nD Cert.UpdDownRefIdeal.τ Cert.UpdDownRefIdeal.sig) → Buf (Elt Ideal) ℓ) : Prop :=
  True

def Pre_UpdGate (m : (ℓ : Loc Cert.UpdGate.nD Cert.UpdGate.τ Cert.UpdGate.sig) → Buf (Elt Bits) ℓ) : Prop :=
  True

def Pre_UpdGateIdeal (m : (ℓ : Loc Cert.UpdGateIdeal.nD Cert.UpdGateIdeal.τ Cert.UpdGateIdeal.sig) → Buf (Elt Ideal) ℓ) : Prop :=
  True

def Pre_UpdGateRefIdeal (m : (ℓ : Loc Cert.UpdGateRefIdeal.nD Cert.UpdGateRefIdeal.τ Cert.UpdGateRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_UpdPack (m : (ℓ : Loc Cert.UpdPack.nD Cert.UpdPack.τ Cert.UpdPack.sig) → Buf (Elt Bits) ℓ) : Prop :=
  True

def Pre_UpdPackIdeal (m : (ℓ : Loc Cert.UpdPackIdeal.nD Cert.UpdPackIdeal.τ Cert.UpdPackIdeal.sig) → Buf (Elt Ideal) ℓ) : Prop :=
  True

def Pre_UpdPackRefIdeal (m : (ℓ : Loc Cert.UpdPackRefIdeal.nD Cert.UpdPackRefIdeal.τ Cert.UpdPackRefIdeal.sig) → Buf (Elt Ideal) ℓ) : Prop :=
  True

def Pre_UpdSmall (m : (ℓ : Loc Cert.UpdSmall.nD Cert.UpdSmall.τ Cert.UpdSmall.sig) → Buf (Elt Bits) ℓ) : Prop :=
  True

def Pre_UpdSmallIdeal (m : (ℓ : Loc Cert.UpdSmallIdeal.nD Cert.UpdSmallIdeal.τ Cert.UpdSmallIdeal.sig) → Buf (Elt Ideal) ℓ) : Prop :=
  True

def Pre_UpdSmallRefIdeal (m : (ℓ : Loc Cert.UpdSmallRefIdeal.nD Cert.UpdSmallRefIdeal.τ Cert.UpdSmallRefIdeal.sig) → Buf (Elt Ideal) ℓ) : Prop :=
  True

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_finite_error [hPre_finite_error : Cert.Pre_finite_error.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_finite_error.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3))) = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_finite_error [hPre_finite_error : Cert.Pre_finite_error.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_finite_error.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2)
      ∧ r.2.mem ((c.tc : Thread Cert.ScBwd.nD Cert.ScBwd.τ).loc Cert.ScBwd.main_arg3) = m ((c.tc : Thread Cert.ScBwd.nD Cert.ScBwd.τ).loc Cert.ScBwd.main_arg3))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
      ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2)
      ∧ r.2.mem ((c.tc : Thread Cert.ScRefIdeal.nD Cert.ScRefIdeal.τ).loc Cert.ScRefIdeal.main_arg3) = m ((c.tc : Thread Cert.ScRefIdeal.nD Cert.ScRefIdeal.τ).loc Cert.ScRefIdeal.main_arg3))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_ScOutDw [hScOutDw : Cert.ScOutDw.Facts] : Prop :=
  ∀ (m : (ℓ : Loc Cert.ScOutDw.nD Cert.ScOutDw.τ Cert.ScOutDw.sig) → Buf (Elt Bits) ℓ) (g : Dev Cert.ScOutDw.nD → PrngReg), Pre_ScOutDw m →
    θ_run (Cert.ScOutDw.defs (F := Bits)) (onTc (τ := Cert.ScOutDw.τ) (Cert.ScOutDw.main (F := Bits))) ⟨m, fun _ => 0, g⟩ (fun r => (∀ c : Dev Cert.ScOutDw.nD,
      r.2.mem ((c.tc : Thread Cert.ScOutDw.nD Cert.ScOutDw.τ).loc Cert.ScOutDw.main_arg0) = m ((c.tc : Thread Cert.ScOutDw.nD Cert.ScOutDw.τ).loc Cert.ScOutDw.main_arg0)
      ∧ r.2.mem ((c.tc : Thread Cert.ScOutDw.nD Cert.ScOutDw.τ).loc Cert.ScOutDw.main_arg1) = m ((c.tc : Thread Cert.ScOutDw.nD Cert.ScOutDw.τ).loc Cert.ScOutDw.main_arg1))
      ∧ r.2.sem = fun _ => 0)

def quiescent_ScOutDwIdeal [hScOutDwIdeal : Cert.ScOutDwIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg), Pre_ScOutDwIdeal m →
    θ_run (Cert.ScOutDwIdeal.defs (F := Ideal)) (onTc (τ := Cert.ScOutDwIdeal.τ) (Cert.ScOutDwIdeal.main (F := Ideal))) ⟨m, fun _ => 0, g⟩ (fun r => (∀ c : Dev Cert.ScOutDwIdeal.nD,
      r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
      ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ r.2.sem = fun _ => 0)

def quiescent_ScOutDwRefIdeal [hScOutDwRefIdeal : Cert.ScOutDwRefIdeal.Facts] : Prop :=
  ∀ (m : (ℓ : Loc Cert.ScOutDwRefIdeal.nD Cert.ScOutDwRefIdeal.τ Cert.ScOutDwRefIdeal.sig) → Buf (Elt Ideal) ℓ) (g : Dev Cert.ScOutDwRefIdeal.nD → PrngReg), Pre_ScOutDwRefIdeal m →
    θ_run (Cert.ScOutDwRefIdeal.defs (F := Ideal)) (onTc (τ := Cert.ScOutDwRefIdeal.τ) (Cert.ScOutDwRefIdeal.main (F := Ideal))) ⟨m, fun _ => 0, g⟩ (fun r => (∀ c : Dev Cert.ScOutDwRefIdeal.nD,
      r.2.mem ((c.tc : Thread Cert.ScOutDwRefIdeal.nD Cert.ScOutDwRefIdeal.τ).loc Cert.ScOutDwRefIdeal.main_arg0) = m ((c.tc : Thread Cert.ScOutDwRefIdeal.nD Cert.ScOutDwRefIdeal.τ).loc Cert.ScOutDwRefIdeal.main_arg0)
      ∧ r.2.mem ((c.tc : Thread Cert.ScOutDwRefIdeal.nD Cert.ScOutDwRefIdeal.τ).loc Cert.ScOutDwRefIdeal.main_arg1) = m ((c.tc : Thread Cert.ScOutDwRefIdeal.nD Cert.ScOutDwRefIdeal.τ).loc Cert.ScOutDwRefIdeal.main_arg1))
      ∧ r.2.sem = fun _ => 0)

def quiescent_ScInDw [hScInDw : Cert.ScInDw.Facts] : Prop :=
  ∀ (m : (ℓ : Loc Cert.ScInDw.nD Cert.ScInDw.τ Cert.ScInDw.sig) → Buf (Elt Bits) ℓ) (g : Dev Cert.ScInDw.nD → PrngReg), Pre_ScInDw m →
    θ_run (Cert.ScInDw.defs (F := Bits)) (onTc (τ := Cert.ScInDw.τ) (Cert.ScInDw.main (F := Bits))) ⟨m, fun _ => 0, g⟩ (fun r => (∀ c : Dev Cert.ScInDw.nD,
      r.2.mem ((c.tc : Thread Cert.ScInDw.nD Cert.ScInDw.τ).loc Cert.ScInDw.main_arg0) = m ((c.tc : Thread Cert.ScInDw.nD Cert.ScInDw.τ).loc Cert.ScInDw.main_arg0)
      ∧ r.2.mem ((c.tc : Thread Cert.ScInDw.nD Cert.ScInDw.τ).loc Cert.ScInDw.main_arg1) = m ((c.tc : Thread Cert.ScInDw.nD Cert.ScInDw.τ).loc Cert.ScInDw.main_arg1))
      ∧ r.2.sem = fun _ => 0)

def quiescent_ScInDwIdeal [hScInDwIdeal : Cert.ScInDwIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg), Pre_ScInDwIdeal m →
    θ_run (Cert.ScInDwIdeal.defs (F := Ideal)) (onTc (τ := Cert.ScInDwIdeal.τ) (Cert.ScInDwIdeal.main (F := Ideal))) ⟨m, fun _ => 0, g⟩ (fun r => (∀ c : Dev Cert.ScInDwIdeal.nD,
      r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
      ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ r.2.sem = fun _ => 0)

def quiescent_ScInDwRefIdeal [hScInDwRefIdeal : Cert.ScInDwRefIdeal.Facts] : Prop :=
  ∀ (m : (ℓ : Loc Cert.ScInDwRefIdeal.nD Cert.ScInDwRefIdeal.τ Cert.ScInDwRefIdeal.sig) → Buf (Elt Ideal) ℓ) (g : Dev Cert.ScInDwRefIdeal.nD → PrngReg), Pre_ScInDwRefIdeal m →
    θ_run (Cert.ScInDwRefIdeal.defs (F := Ideal)) (onTc (τ := Cert.ScInDwRefIdeal.τ) (Cert.ScInDwRefIdeal.main (F := Ideal))) ⟨m, fun _ => 0, g⟩ (fun r => (∀ c : Dev Cert.ScInDwRefIdeal.nD,
      r.2.mem ((c.tc : Thread Cert.ScInDwRefIdeal.nD Cert.ScInDwRefIdeal.τ).loc Cert.ScInDwRefIdeal.main_arg0) = m ((c.tc : Thread Cert.ScInDwRefIdeal.nD Cert.ScInDwRefIdeal.τ).loc Cert.ScInDwRefIdeal.main_arg0)
      ∧ r.2.mem ((c.tc : Thread Cert.ScInDwRefIdeal.nD Cert.ScInDwRefIdeal.τ).loc Cert.ScInDwRefIdeal.main_arg1) = m ((c.tc : Thread Cert.ScInDwRefIdeal.nD Cert.ScInDwRefIdeal.τ).loc Cert.ScInDwRefIdeal.main_arg1))
      ∧ r.2.sem = fun _ => 0)

def quiescent_LruOutDw [hLruOutDw : Cert.LruOutDw.Facts] : Prop :=
  ∀ (m : (ℓ : Loc Cert.LruOutDw.nD Cert.LruOutDw.τ Cert.LruOutDw.sig) → Buf (Elt Bits) ℓ) (g : Dev Cert.LruOutDw.nD → PrngReg), Pre_LruOutDw m →
    θ_run (Cert.LruOutDw.defs (F := Bits)) (onTc (τ := Cert.LruOutDw.τ) (Cert.LruOutDw.main (F := Bits))) ⟨m, fun _ => 0, g⟩ (fun r => (∀ c : Dev Cert.LruOutDw.nD,
      r.2.mem ((c.tc : Thread Cert.LruOutDw.nD Cert.LruOutDw.τ).loc Cert.LruOutDw.main_arg0) = m ((c.tc : Thread Cert.LruOutDw.nD Cert.LruOutDw.τ).loc Cert.LruOutDw.main_arg0)
      ∧ r.2.mem ((c.tc : Thread Cert.LruOutDw.nD Cert.LruOutDw.τ).loc Cert.LruOutDw.main_arg1) = m ((c.tc : Thread Cert.LruOutDw.nD Cert.LruOutDw.τ).loc Cert.LruOutDw.main_arg1))
      ∧ r.2.sem = fun _ => 0)

def quiescent_LruOutDwIdeal [hLruOutDwIdeal : Cert.LruOutDwIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg), Pre_LruOutDwIdeal m →
    θ_run (Cert.LruOutDwIdeal.defs (F := Ideal)) (onTc (τ := Cert.LruOutDwIdeal.τ) (Cert.LruOutDwIdeal.main (F := Ideal))) ⟨m, fun _ => 0, g⟩ (fun r => (∀ c : Dev Cert.LruOutDwIdeal.nD,
      r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
      ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ r.2.sem = fun _ => 0)

def quiescent_LruOutDwRefIdeal [hLruOutDwRefIdeal : Cert.LruOutDwRefIdeal.Facts] : Prop :=
  ∀ (m : (ℓ : Loc Cert.LruOutDwRefIdeal.nD Cert.LruOutDwRefIdeal.τ Cert.LruOutDwRefIdeal.sig) → Buf (Elt Ideal) ℓ) (g : Dev Cert.LruOutDwRefIdeal.nD → PrngReg), Pre_LruOutDwRefIdeal m →
    θ_run (Cert.LruOutDwRefIdeal.defs (F := Ideal)) (onTc (τ := Cert.LruOutDwRefIdeal.τ) (Cert.LruOutDwRefIdeal.main (F := Ideal))) ⟨m, fun _ => 0, g⟩ (fun r => (∀ c : Dev Cert.LruOutDwRefIdeal.nD,
      r.2.mem ((c.tc : Thread Cert.LruOutDwRefIdeal.nD Cert.LruOutDwRefIdeal.τ).loc Cert.LruOutDwRefIdeal.main_arg0) = m ((c.tc : Thread Cert.LruOutDwRefIdeal.nD Cert.LruOutDwRefIdeal.τ).loc Cert.LruOutDwRefIdeal.main_arg0)
      ∧ r.2.mem ((c.tc : Thread Cert.LruOutDwRefIdeal.nD Cert.LruOutDwRefIdeal.τ).loc Cert.LruOutDwRefIdeal.main_arg1) = m ((c.tc : Thread Cert.LruOutDwRefIdeal.nD Cert.LruOutDwRefIdeal.τ).loc Cert.LruOutDwRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2))
      ∧ r.2.sem = fun _ => 0)

def quiescent_ScInDx [hScInDx : Cert.ScInDx.Facts] : Prop :=
  ∀ (m : (ℓ : Loc Cert.ScInDx.nD Cert.ScInDx.τ Cert.ScInDx.sig) → Buf (Elt Bits) ℓ) (g : Dev Cert.ScInDx.nD → PrngReg), Pre_ScInDx m →
    θ_run (Cert.ScInDx.defs (F := Bits)) (onTc (τ := Cert.ScInDx.τ) (Cert.ScInDx.main (F := Bits))) ⟨m, fun _ => 0, g⟩ (fun r => (∀ c : Dev Cert.ScInDx.nD,
      r.2.mem ((c.tc : Thread Cert.ScInDx.nD Cert.ScInDx.τ).loc Cert.ScInDx.main_arg0) = m ((c.tc : Thread Cert.ScInDx.nD Cert.ScInDx.τ).loc Cert.ScInDx.main_arg0)
      ∧ r.2.mem ((c.tc : Thread Cert.ScInDx.nD Cert.ScInDx.τ).loc Cert.ScInDx.main_arg1) = m ((c.tc : Thread Cert.ScInDx.nD Cert.ScInDx.τ).loc Cert.ScInDx.main_arg1)
      ∧ r.2.mem ((c.tc : Thread Cert.ScInDx.nD Cert.ScInDx.τ).loc Cert.ScInDx.main_arg2) = m ((c.tc : Thread Cert.ScInDx.nD Cert.ScInDx.τ).loc Cert.ScInDx.main_arg2))
      ∧ r.2.sem = fun _ => 0)

def quiescent_ScInDxIdeal [hScInDxIdeal : Cert.ScInDxIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg), Pre_ScInDxIdeal m →
    θ_run (Cert.ScInDxIdeal.defs (F := Ideal)) (onTc (τ := Cert.ScInDxIdeal.τ) (Cert.ScInDxIdeal.main (F := Ideal))) ⟨m, fun _ => 0, g⟩ (fun r => (∀ c : Dev Cert.ScInDxIdeal.nD,
      r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
      ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1)
      ∧ r.2.mem ((c.tc : Thread Cert.ScInDxIdeal.nD Cert.ScInDxIdeal.τ).loc Cert.ScInDxIdeal.main_arg2) = m ((c.tc : Thread Cert.ScInDxIdeal.nD Cert.ScInDxIdeal.τ).loc Cert.ScInDxIdeal.main_arg2))
      ∧ r.2.sem = fun _ => 0)

def quiescent_ScInDxRefIdeal [hScInDxRefIdeal : Cert.ScInDxRefIdeal.Facts] : Prop :=
  ∀ (m : (ℓ : Loc Cert.ScInDxRefIdeal.nD Cert.ScInDxRefIdeal.τ Cert.ScInDxRefIdeal.sig) → Buf (Elt Ideal) ℓ) (g : Dev Cert.ScInDxRefIdeal.nD → PrngReg), Pre_ScInDxRefIdeal m →
    θ_run (Cert.ScInDxRefIdeal.defs (F := Ideal)) (onTc (τ := Cert.ScInDxRefIdeal.τ) (Cert.ScInDxRefIdeal.main (F := Ideal))) ⟨m, fun _ => 0, g⟩ (fun r => (∀ c : Dev Cert.ScInDxRefIdeal.nD,
      r.2.mem ((c.tc : Thread Cert.ScInDxRefIdeal.nD Cert.ScInDxRefIdeal.τ).loc Cert.ScInDxRefIdeal.main_arg0) = m ((c.tc : Thread Cert.ScInDxRefIdeal.nD Cert.ScInDxRefIdeal.τ).loc Cert.ScInDxRefIdeal.main_arg0)
      ∧ r.2.mem ((c.tc : Thread Cert.ScInDxRefIdeal.nD Cert.ScInDxRefIdeal.τ).loc Cert.ScInDxRefIdeal.main_arg1) = m ((c.tc : Thread Cert.ScInDxRefIdeal.nD Cert.ScInDxRefIdeal.τ).loc Cert.ScInDxRefIdeal.main_arg1)
      ∧ r.2.mem ((c.tc : Thread Cert.ScInDxRefIdeal.nD Cert.ScInDxRefIdeal.τ).loc Cert.ScInDxRefIdeal.main_arg2) = m ((c.tc : Thread Cert.ScInDxRefIdeal.nD Cert.ScInDxRefIdeal.τ).loc Cert.ScInDxRefIdeal.main_arg2))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1)
      ∧ r.2.mem ((c.tc : Thread Cert.LruInDx.nD Cert.LruInDx.τ).loc Cert.LruInDx.main_arg2) = m ((c.tc : Thread Cert.LruInDx.nD Cert.LruInDx.τ).loc Cert.LruInDx.main_arg2))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1)
      ∧ r.2.mem ((c.tc : Thread Cert.LruInDxIdeal.nD Cert.LruInDxIdeal.τ).loc Cert.LruInDxIdeal.main_arg2) = m ((c.tc : Thread Cert.LruInDxIdeal.nD Cert.LruInDxIdeal.τ).loc Cert.LruInDxIdeal.main_arg2))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1)
      ∧ r.2.mem ((c.tc : Thread Cert.LruInDxRefIdeal.nD Cert.LruInDxRefIdeal.τ).loc Cert.LruInDxRefIdeal.main_arg2) = m ((c.tc : Thread Cert.LruInDxRefIdeal.nD Cert.LruInDxRefIdeal.τ).loc Cert.LruInDxRefIdeal.main_arg2))
      ∧ r.2.sem = fun _ => 0)

def quiescent_ScOutDx [hScOutDx : Cert.ScOutDx.Facts] : Prop :=
  ∀ (m : (ℓ : Loc Cert.ScOutDx.nD Cert.ScOutDx.τ Cert.ScOutDx.sig) → Buf (Elt Bits) ℓ) (g : Dev Cert.ScOutDx.nD → PrngReg), Pre_ScOutDx m →
    θ_run (Cert.ScOutDx.defs (F := Bits)) (onTc (τ := Cert.ScOutDx.τ) (Cert.ScOutDx.main (F := Bits))) ⟨m, fun _ => 0, g⟩ (fun r => (∀ c : Dev Cert.ScOutDx.nD,
      r.2.mem ((c.tc : Thread Cert.ScOutDx.nD Cert.ScOutDx.τ).loc Cert.ScOutDx.main_arg0) = m ((c.tc : Thread Cert.ScOutDx.nD Cert.ScOutDx.τ).loc Cert.ScOutDx.main_arg0)
      ∧ r.2.mem ((c.tc : Thread Cert.ScOutDx.nD Cert.ScOutDx.τ).loc Cert.ScOutDx.main_arg1) = m ((c.tc : Thread Cert.ScOutDx.nD Cert.ScOutDx.τ).loc Cert.ScOutDx.main_arg1))
      ∧ r.2.sem = fun _ => 0)

def quiescent_ScOutDxIdeal [hScOutDxIdeal : Cert.ScOutDxIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg), Pre_ScOutDxIdeal m →
    θ_run (Cert.ScOutDxIdeal.defs (F := Ideal)) (onTc (τ := Cert.ScOutDxIdeal.τ) (Cert.ScOutDxIdeal.main (F := Ideal))) ⟨m, fun _ => 0, g⟩ (fun r => (∀ c : Dev Cert.ScOutDxIdeal.nD,
      r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
      ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ r.2.sem = fun _ => 0)

def quiescent_ScOutDxRefIdeal [hScOutDxRefIdeal : Cert.ScOutDxRefIdeal.Facts] : Prop :=
  ∀ (m : (ℓ : Loc Cert.ScOutDxRefIdeal.nD Cert.ScOutDxRefIdeal.τ Cert.ScOutDxRefIdeal.sig) → Buf (Elt Ideal) ℓ) (g : Dev Cert.ScOutDxRefIdeal.nD → PrngReg), Pre_ScOutDxRefIdeal m →
    θ_run (Cert.ScOutDxRefIdeal.defs (F := Ideal)) (onTc (τ := Cert.ScOutDxRefIdeal.τ) (Cert.ScOutDxRefIdeal.main (F := Ideal))) ⟨m, fun _ => 0, g⟩ (fun r => (∀ c : Dev Cert.ScOutDxRefIdeal.nD,
      r.2.mem ((c.tc : Thread Cert.ScOutDxRefIdeal.nD Cert.ScOutDxRefIdeal.τ).loc Cert.ScOutDxRefIdeal.main_arg0) = m ((c.tc : Thread Cert.ScOutDxRefIdeal.nD Cert.ScOutDxRefIdeal.τ).loc Cert.ScOutDxRefIdeal.main_arg0)
      ∧ r.2.mem ((c.tc : Thread Cert.ScOutDxRefIdeal.nD Cert.ScOutDxRefIdeal.τ).loc Cert.ScOutDxRefIdeal.main_arg1) = m ((c.tc : Thread Cert.ScOutDxRefIdeal.nD Cert.ScOutDxRefIdeal.τ).loc Cert.ScOutDxRefIdeal.main_arg1))
      ∧ r.2.sem = fun _ => 0)

def quiescent_LruOutDx [hLruOutDx : Cert.LruOutDx.Facts] : Prop :=
  ∀ (m : (ℓ : Loc Cert.LruOutDx.nD Cert.LruOutDx.τ Cert.LruOutDx.sig) → Buf (Elt Bits) ℓ) (g : Dev Cert.LruOutDx.nD → PrngReg), Pre_LruOutDx m →
    θ_run (Cert.LruOutDx.defs (F := Bits)) (onTc (τ := Cert.LruOutDx.τ) (Cert.LruOutDx.main (F := Bits))) ⟨m, fun _ => 0, g⟩ (fun r => (∀ c : Dev Cert.LruOutDx.nD,
      r.2.mem ((c.tc : Thread Cert.LruOutDx.nD Cert.LruOutDx.τ).loc Cert.LruOutDx.main_arg0) = m ((c.tc : Thread Cert.LruOutDx.nD Cert.LruOutDx.τ).loc Cert.LruOutDx.main_arg0)
      ∧ r.2.mem ((c.tc : Thread Cert.LruOutDx.nD Cert.LruOutDx.τ).loc Cert.LruOutDx.main_arg1) = m ((c.tc : Thread Cert.LruOutDx.nD Cert.LruOutDx.τ).loc Cert.LruOutDx.main_arg1))
      ∧ r.2.sem = fun _ => 0)

def quiescent_LruOutDxIdeal [hLruOutDxIdeal : Cert.LruOutDxIdeal.Facts] : Prop :=
  ∀ (m : (ℓ : Loc Cert.LruOutDxIdeal.nD Cert.LruOutDxIdeal.τ Cert.LruOutDxIdeal.sig) → Buf (Elt Ideal) ℓ) (g : Dev Cert.LruOutDxIdeal.nD → PrngReg), Pre_LruOutDxIdeal m →
    θ_run (Cert.LruOutDxIdeal.defs (F := Ideal)) (onTc (τ := Cert.LruOutDxIdeal.τ) (Cert.LruOutDxIdeal.main (F := Ideal))) ⟨m, fun _ => 0, g⟩ (fun r => (∀ c : Dev Cert.LruOutDxIdeal.nD,
      r.2.mem ((c.tc : Thread Cert.LruOutDxIdeal.nD Cert.LruOutDxIdeal.τ).loc Cert.LruOutDxIdeal.main_arg0) = m ((c.tc : Thread Cert.LruOutDxIdeal.nD Cert.LruOutDxIdeal.τ).loc Cert.LruOutDxIdeal.main_arg0)
      ∧ r.2.mem ((c.tc : Thread Cert.LruOutDxIdeal.nD Cert.LruOutDxIdeal.τ).loc Cert.LruOutDxIdeal.main_arg1) = m ((c.tc : Thread Cert.LruOutDxIdeal.nD Cert.LruOutDxIdeal.τ).loc Cert.LruOutDxIdeal.main_arg1))
      ∧ r.2.sem = fun _ => 0)

def quiescent_LruOutDxRefIdeal [hLruOutDxRefIdeal : Cert.LruOutDxRefIdeal.Facts] : Prop :=
  ∀ (m : (ℓ : Loc Cert.LruOutDxRefIdeal.nD Cert.LruOutDxRefIdeal.τ Cert.LruOutDxRefIdeal.sig) → Buf (Elt Ideal) ℓ) (g : Dev Cert.LruOutDxRefIdeal.nD → PrngReg), Pre_LruOutDxRefIdeal m →
    θ_run (Cert.LruOutDxRefIdeal.defs (F := Ideal)) (onTc (τ := Cert.LruOutDxRefIdeal.τ) (Cert.LruOutDxRefIdeal.main (F := Ideal))) ⟨m, fun _ => 0, g⟩ (fun r => (∀ c : Dev Cert.LruOutDxRefIdeal.nD,
      r.2.mem ((c.tc : Thread Cert.LruOutDxRefIdeal.nD Cert.LruOutDxRefIdeal.τ).loc Cert.LruOutDxRefIdeal.main_arg0) = m ((c.tc : Thread Cert.LruOutDxRefIdeal.nD Cert.LruOutDxRefIdeal.τ).loc Cert.LruOutDxRefIdeal.main_arg0)
      ∧ r.2.mem ((c.tc : Thread Cert.LruOutDxRefIdeal.nD Cert.LruOutDxRefIdeal.τ).loc Cert.LruOutDxRefIdeal.main_arg1) = m ((c.tc : Thread Cert.LruOutDxRefIdeal.nD Cert.LruOutDxRefIdeal.τ).loc Cert.LruOutDxRefIdeal.main_arg1))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1)
      ∧ r.2.mem ((c.tc : Thread Cert.LruIn.nD Cert.LruIn.τ).loc Cert.LruIn.main_arg2) = m ((c.tc : Thread Cert.LruIn.nD Cert.LruIn.τ).loc Cert.LruIn.main_arg2))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1)
      ∧ r.2.mem ((c.tc : Thread Cert.LruInRefIdeal.nD Cert.LruInRefIdeal.τ).loc Cert.LruInRefIdeal.main_arg2) = m ((c.tc : Thread Cert.LruInRefIdeal.nD Cert.LruInRefIdeal.τ).loc Cert.LruInRefIdeal.main_arg2))
      ∧ r.2.sem = fun _ => 0)

def quiescent_FfnDownLn [hFfnDownLn : Cert.FfnDownLn.Facts] : Prop :=
  ∀ (m : (ℓ : Loc Cert.FfnDownLn.nD Cert.FfnDownLn.τ Cert.FfnDownLn.sig) → Buf (Elt Bits) ℓ) (g : Dev Cert.FfnDownLn.nD → PrngReg), Pre_FfnDownLn m →
    θ_run (Cert.FfnDownLn.defs (F := Bits)) (onTc (τ := Cert.FfnDownLn.τ) (Cert.FfnDownLn.main (F := Bits))) ⟨m, fun _ => 0, g⟩ (fun r => (∀ c : Dev Cert.FfnDownLn.nD,
      r.2.mem ((c.tc : Thread Cert.FfnDownLn.nD Cert.FfnDownLn.τ).loc Cert.FfnDownLn.main_arg0) = m ((c.tc : Thread Cert.FfnDownLn.nD Cert.FfnDownLn.τ).loc Cert.FfnDownLn.main_arg0)
      ∧ r.2.mem ((c.tc : Thread Cert.FfnDownLn.nD Cert.FfnDownLn.τ).loc Cert.FfnDownLn.main_arg1) = m ((c.tc : Thread Cert.FfnDownLn.nD Cert.FfnDownLn.τ).loc Cert.FfnDownLn.main_arg1)
      ∧ r.2.mem ((c.tc : Thread Cert.FfnDownLn.nD Cert.FfnDownLn.τ).loc Cert.FfnDownLn.main_arg2) = m ((c.tc : Thread Cert.FfnDownLn.nD Cert.FfnDownLn.τ).loc Cert.FfnDownLn.main_arg2)
      ∧ r.2.mem ((c.tc : Thread Cert.FfnDownLn.nD Cert.FfnDownLn.τ).loc Cert.FfnDownLn.main_arg3) = m ((c.tc : Thread Cert.FfnDownLn.nD Cert.FfnDownLn.τ).loc Cert.FfnDownLn.main_arg3)
      ∧ r.2.mem ((c.tc : Thread Cert.FfnDownLn.nD Cert.FfnDownLn.τ).loc Cert.FfnDownLn.main_arg4) = m ((c.tc : Thread Cert.FfnDownLn.nD Cert.FfnDownLn.τ).loc Cert.FfnDownLn.main_arg4))
      ∧ r.2.sem = fun _ => 0)

def quiescent_FfnDownLnIdeal [hFfnDownLnIdeal : Cert.FfnDownLnIdeal.Facts] : Prop :=
  ∀ (m : (ℓ : Loc Cert.FfnDownLnIdeal.nD Cert.FfnDownLnIdeal.τ Cert.FfnDownLnIdeal.sig) → Buf (Elt Ideal) ℓ) (g : Dev Cert.FfnDownLnIdeal.nD → PrngReg), Pre_FfnDownLnIdeal m →
    θ_run (Cert.FfnDownLnIdeal.defs (F := Ideal)) (onTc (τ := Cert.FfnDownLnIdeal.τ) (Cert.FfnDownLnIdeal.main (F := Ideal))) ⟨m, fun _ => 0, g⟩ (fun r => (∀ c : Dev Cert.FfnDownLnIdeal.nD,
      r.2.mem ((c.tc : Thread Cert.FfnDownLnIdeal.nD Cert.FfnDownLnIdeal.τ).loc Cert.FfnDownLnIdeal.main_arg0) = m ((c.tc : Thread Cert.FfnDownLnIdeal.nD Cert.FfnDownLnIdeal.τ).loc Cert.FfnDownLnIdeal.main_arg0)
      ∧ r.2.mem ((c.tc : Thread Cert.FfnDownLnIdeal.nD Cert.FfnDownLnIdeal.τ).loc Cert.FfnDownLnIdeal.main_arg1) = m ((c.tc : Thread Cert.FfnDownLnIdeal.nD Cert.FfnDownLnIdeal.τ).loc Cert.FfnDownLnIdeal.main_arg1)
      ∧ r.2.mem ((c.tc : Thread Cert.FfnDownLnIdeal.nD Cert.FfnDownLnIdeal.τ).loc Cert.FfnDownLnIdeal.main_arg2) = m ((c.tc : Thread Cert.FfnDownLnIdeal.nD Cert.FfnDownLnIdeal.τ).loc Cert.FfnDownLnIdeal.main_arg2)
      ∧ r.2.mem ((c.tc : Thread Cert.FfnDownLnIdeal.nD Cert.FfnDownLnIdeal.τ).loc Cert.FfnDownLnIdeal.main_arg3) = m ((c.tc : Thread Cert.FfnDownLnIdeal.nD Cert.FfnDownLnIdeal.τ).loc Cert.FfnDownLnIdeal.main_arg3)
      ∧ r.2.mem ((c.tc : Thread Cert.FfnDownLnIdeal.nD Cert.FfnDownLnIdeal.τ).loc Cert.FfnDownLnIdeal.main_arg4) = m ((c.tc : Thread Cert.FfnDownLnIdeal.nD Cert.FfnDownLnIdeal.τ).loc Cert.FfnDownLnIdeal.main_arg4))
      ∧ r.2.sem = fun _ => 0)

def quiescent_FfnDownLnRefIdeal [hFfnDownLnRefIdeal : Cert.FfnDownLnRefIdeal.Facts] : Prop :=
  ∀ (m : (ℓ : Loc Cert.FfnDownLnRefIdeal.nD Cert.FfnDownLnRefIdeal.τ Cert.FfnDownLnRefIdeal.sig) → Buf (Elt Ideal) ℓ) (g : Dev Cert.FfnDownLnRefIdeal.nD → PrngReg), Pre_FfnDownLnRefIdeal m →
    θ_run (Cert.FfnDownLnRefIdeal.defs (F := Ideal)) (onTc (τ := Cert.FfnDownLnRefIdeal.τ) (Cert.FfnDownLnRefIdeal.main (F := Ideal))) ⟨m, fun _ => 0, g⟩ (fun r => (∀ c : Dev Cert.FfnDownLnRefIdeal.nD,
      r.2.mem ((c.tc : Thread Cert.FfnDownLnRefIdeal.nD Cert.FfnDownLnRefIdeal.τ).loc Cert.FfnDownLnRefIdeal.main_arg0) = m ((c.tc : Thread Cert.FfnDownLnRefIdeal.nD Cert.FfnDownLnRefIdeal.τ).loc Cert.FfnDownLnRefIdeal.main_arg0)
      ∧ r.2.mem ((c.tc : Thread Cert.FfnDownLnRefIdeal.nD Cert.FfnDownLnRefIdeal.τ).loc Cert.FfnDownLnRefIdeal.main_arg1) = m ((c.tc : Thread Cert.FfnDownLnRefIdeal.nD Cert.FfnDownLnRefIdeal.τ).loc Cert.FfnDownLnRefIdeal.main_arg1)
      ∧ r.2.mem ((c.tc : Thread Cert.FfnDownLnRefIdeal.nD Cert.FfnDownLnRefIdeal.τ).loc Cert.FfnDownLnRefIdeal.main_arg2) = m ((c.tc : Thread Cert.FfnDownLnRefIdeal.nD Cert.FfnDownLnRefIdeal.τ).loc Cert.FfnDownLnRefIdeal.main_arg2)
      ∧ r.2.mem ((c.tc : Thread Cert.FfnDownLnRefIdeal.nD Cert.FfnDownLnRefIdeal.τ).loc Cert.FfnDownLnRefIdeal.main_arg3) = m ((c.tc : Thread Cert.FfnDownLnRefIdeal.nD Cert.FfnDownLnRefIdeal.τ).loc Cert.FfnDownLnRefIdeal.main_arg3)
      ∧ r.2.mem ((c.tc : Thread Cert.FfnDownLnRefIdeal.nD Cert.FfnDownLnRefIdeal.τ).loc Cert.FfnDownLnRefIdeal.main_arg4) = m ((c.tc : Thread Cert.FfnDownLnRefIdeal.nD Cert.FfnDownLnRefIdeal.τ).loc Cert.FfnDownLnRefIdeal.main_arg4))
      ∧ r.2.sem = fun _ => 0)

def quiescent_ScOutLn [hScOutLn : Cert.ScOutLn.Facts] : Prop :=
  ∀ (m : (ℓ : Loc Cert.ScOutLn.nD Cert.ScOutLn.τ Cert.ScOutLn.sig) → Buf (Elt Bits) ℓ) (g : Dev Cert.ScOutLn.nD → PrngReg), Pre_ScOutLn m →
    θ_run (Cert.ScOutLn.defs (F := Bits)) (onTc (τ := Cert.ScOutLn.τ) (Cert.ScOutLn.main (F := Bits))) ⟨m, fun _ => 0, g⟩ (fun r => (∀ c : Dev Cert.ScOutLn.nD,
      r.2.mem ((c.tc : Thread Cert.ScOutLn.nD Cert.ScOutLn.τ).loc Cert.ScOutLn.main_arg0) = m ((c.tc : Thread Cert.ScOutLn.nD Cert.ScOutLn.τ).loc Cert.ScOutLn.main_arg0)
      ∧ r.2.mem ((c.tc : Thread Cert.ScOutLn.nD Cert.ScOutLn.τ).loc Cert.ScOutLn.main_arg1) = m ((c.tc : Thread Cert.ScOutLn.nD Cert.ScOutLn.τ).loc Cert.ScOutLn.main_arg1)
      ∧ r.2.mem ((c.tc : Thread Cert.ScOutLn.nD Cert.ScOutLn.τ).loc Cert.ScOutLn.main_arg2) = m ((c.tc : Thread Cert.ScOutLn.nD Cert.ScOutLn.τ).loc Cert.ScOutLn.main_arg2)
      ∧ r.2.mem ((c.tc : Thread Cert.ScOutLn.nD Cert.ScOutLn.τ).loc Cert.ScOutLn.main_arg3) = m ((c.tc : Thread Cert.ScOutLn.nD Cert.ScOutLn.τ).loc Cert.ScOutLn.main_arg3)
      ∧ r.2.mem ((c.tc : Thread Cert.ScOutLn.nD Cert.ScOutLn.τ).loc Cert.ScOutLn.main_arg4) = m ((c.tc : Thread Cert.ScOutLn.nD Cert.ScOutLn.τ).loc Cert.ScOutLn.main_arg4))
      ∧ r.2.sem = fun _ => 0)

def quiescent_ScOutLnIdeal [hScOutLnIdeal : Cert.ScOutLnIdeal.Facts] : Prop :=
  ∀ (m : (ℓ : Loc Cert.ScOutLnIdeal.nD Cert.ScOutLnIdeal.τ Cert.ScOutLnIdeal.sig) → Buf (Elt Ideal) ℓ) (g : Dev Cert.ScOutLnIdeal.nD → PrngReg), Pre_ScOutLnIdeal m →
    θ_run (Cert.ScOutLnIdeal.defs (F := Ideal)) (onTc (τ := Cert.ScOutLnIdeal.τ) (Cert.ScOutLnIdeal.main (F := Ideal))) ⟨m, fun _ => 0, g⟩ (fun r => (∀ c : Dev Cert.ScOutLnIdeal.nD,
      r.2.mem ((c.tc : Thread Cert.ScOutLnIdeal.nD Cert.ScOutLnIdeal.τ).loc Cert.ScOutLnIdeal.main_arg0) = m ((c.tc : Thread Cert.ScOutLnIdeal.nD Cert.ScOutLnIdeal.τ).loc Cert.ScOutLnIdeal.main_arg0)
      ∧ r.2.mem ((c.tc : Thread Cert.ScOutLnIdeal.nD Cert.ScOutLnIdeal.τ).loc Cert.ScOutLnIdeal.main_arg1) = m ((c.tc : Thread Cert.ScOutLnIdeal.nD Cert.ScOutLnIdeal.τ).loc Cert.ScOutLnIdeal.main_arg1)
      ∧ r.2.mem ((c.tc : Thread Cert.ScOutLnIdeal.nD Cert.ScOutLnIdeal.τ).loc Cert.ScOutLnIdeal.main_arg2) = m ((c.tc : Thread Cert.ScOutLnIdeal.nD Cert.ScOutLnIdeal.τ).loc Cert.ScOutLnIdeal.main_arg2)
      ∧ r.2.mem ((c.tc : Thread Cert.ScOutLnIdeal.nD Cert.ScOutLnIdeal.τ).loc Cert.ScOutLnIdeal.main_arg3) = m ((c.tc : Thread Cert.ScOutLnIdeal.nD Cert.ScOutLnIdeal.τ).loc Cert.ScOutLnIdeal.main_arg3)
      ∧ r.2.mem ((c.tc : Thread Cert.ScOutLnIdeal.nD Cert.ScOutLnIdeal.τ).loc Cert.ScOutLnIdeal.main_arg4) = m ((c.tc : Thread Cert.ScOutLnIdeal.nD Cert.ScOutLnIdeal.τ).loc Cert.ScOutLnIdeal.main_arg4))
      ∧ r.2.sem = fun _ => 0)

def quiescent_ScOutLnRefIdeal [hScOutLnRefIdeal : Cert.ScOutLnRefIdeal.Facts] : Prop :=
  ∀ (m : (ℓ : Loc Cert.ScOutLnRefIdeal.nD Cert.ScOutLnRefIdeal.τ Cert.ScOutLnRefIdeal.sig) → Buf (Elt Ideal) ℓ) (g : Dev Cert.ScOutLnRefIdeal.nD → PrngReg), Pre_ScOutLnRefIdeal m →
    θ_run (Cert.ScOutLnRefIdeal.defs (F := Ideal)) (onTc (τ := Cert.ScOutLnRefIdeal.τ) (Cert.ScOutLnRefIdeal.main (F := Ideal))) ⟨m, fun _ => 0, g⟩ (fun r => (∀ c : Dev Cert.ScOutLnRefIdeal.nD,
      r.2.mem ((c.tc : Thread Cert.ScOutLnRefIdeal.nD Cert.ScOutLnRefIdeal.τ).loc Cert.ScOutLnRefIdeal.main_arg0) = m ((c.tc : Thread Cert.ScOutLnRefIdeal.nD Cert.ScOutLnRefIdeal.τ).loc Cert.ScOutLnRefIdeal.main_arg0)
      ∧ r.2.mem ((c.tc : Thread Cert.ScOutLnRefIdeal.nD Cert.ScOutLnRefIdeal.τ).loc Cert.ScOutLnRefIdeal.main_arg1) = m ((c.tc : Thread Cert.ScOutLnRefIdeal.nD Cert.ScOutLnRefIdeal.τ).loc Cert.ScOutLnRefIdeal.main_arg1)
      ∧ r.2.mem ((c.tc : Thread Cert.ScOutLnRefIdeal.nD Cert.ScOutLnRefIdeal.τ).loc Cert.ScOutLnRefIdeal.main_arg2) = m ((c.tc : Thread Cert.ScOutLnRefIdeal.nD Cert.ScOutLnRefIdeal.τ).loc Cert.ScOutLnRefIdeal.main_arg2)
      ∧ r.2.mem ((c.tc : Thread Cert.ScOutLnRefIdeal.nD Cert.ScOutLnRefIdeal.τ).loc Cert.ScOutLnRefIdeal.main_arg3) = m ((c.tc : Thread Cert.ScOutLnRefIdeal.nD Cert.ScOutLnRefIdeal.τ).loc Cert.ScOutLnRefIdeal.main_arg3)
      ∧ r.2.mem ((c.tc : Thread Cert.ScOutLnRefIdeal.nD Cert.ScOutLnRefIdeal.τ).loc Cert.ScOutLnRefIdeal.main_arg4) = m ((c.tc : Thread Cert.ScOutLnRefIdeal.nD Cert.ScOutLnRefIdeal.τ).loc Cert.ScOutLnRefIdeal.main_arg4))
      ∧ r.2.sem = fun _ => 0)

def quiescent_LruOutLn [hLruOutLn : Cert.LruOutLn.Facts] : Prop :=
  ∀ (m : (ℓ : Loc Cert.LruOutLn.nD Cert.LruOutLn.τ Cert.LruOutLn.sig) → Buf (Elt Bits) ℓ) (g : Dev Cert.LruOutLn.nD → PrngReg), Pre_LruOutLn m →
    θ_run (Cert.LruOutLn.defs (F := Bits)) (onTc (τ := Cert.LruOutLn.τ) (Cert.LruOutLn.main (F := Bits))) ⟨m, fun _ => 0, g⟩ (fun r => (∀ c : Dev Cert.LruOutLn.nD,
      r.2.mem ((c.tc : Thread Cert.LruOutLn.nD Cert.LruOutLn.τ).loc Cert.LruOutLn.main_arg0) = m ((c.tc : Thread Cert.LruOutLn.nD Cert.LruOutLn.τ).loc Cert.LruOutLn.main_arg0)
      ∧ r.2.mem ((c.tc : Thread Cert.LruOutLn.nD Cert.LruOutLn.τ).loc Cert.LruOutLn.main_arg1) = m ((c.tc : Thread Cert.LruOutLn.nD Cert.LruOutLn.τ).loc Cert.LruOutLn.main_arg1)
      ∧ r.2.mem ((c.tc : Thread Cert.LruOutLn.nD Cert.LruOutLn.τ).loc Cert.LruOutLn.main_arg2) = m ((c.tc : Thread Cert.LruOutLn.nD Cert.LruOutLn.τ).loc Cert.LruOutLn.main_arg2)
      ∧ r.2.mem ((c.tc : Thread Cert.LruOutLn.nD Cert.LruOutLn.τ).loc Cert.LruOutLn.main_arg3) = m ((c.tc : Thread Cert.LruOutLn.nD Cert.LruOutLn.τ).loc Cert.LruOutLn.main_arg3)
      ∧ r.2.mem ((c.tc : Thread Cert.LruOutLn.nD Cert.LruOutLn.τ).loc Cert.LruOutLn.main_arg4) = m ((c.tc : Thread Cert.LruOutLn.nD Cert.LruOutLn.τ).loc Cert.LruOutLn.main_arg4))
      ∧ r.2.sem = fun _ => 0)

def quiescent_LruOutLnIdeal [hLruOutLnIdeal : Cert.LruOutLnIdeal.Facts] : Prop :=
  ∀ (m : (ℓ : Loc Cert.LruOutLnIdeal.nD Cert.LruOutLnIdeal.τ Cert.LruOutLnIdeal.sig) → Buf (Elt Ideal) ℓ) (g : Dev Cert.LruOutLnIdeal.nD → PrngReg), Pre_LruOutLnIdeal m →
    θ_run (Cert.LruOutLnIdeal.defs (F := Ideal)) (onTc (τ := Cert.LruOutLnIdeal.τ) (Cert.LruOutLnIdeal.main (F := Ideal))) ⟨m, fun _ => 0, g⟩ (fun r => (∀ c : Dev Cert.LruOutLnIdeal.nD,
      r.2.mem ((c.tc : Thread Cert.LruOutLnIdeal.nD Cert.LruOutLnIdeal.τ).loc Cert.LruOutLnIdeal.main_arg0) = m ((c.tc : Thread Cert.LruOutLnIdeal.nD Cert.LruOutLnIdeal.τ).loc Cert.LruOutLnIdeal.main_arg0)
      ∧ r.2.mem ((c.tc : Thread Cert.LruOutLnIdeal.nD Cert.LruOutLnIdeal.τ).loc Cert.LruOutLnIdeal.main_arg1) = m ((c.tc : Thread Cert.LruOutLnIdeal.nD Cert.LruOutLnIdeal.τ).loc Cert.LruOutLnIdeal.main_arg1)
      ∧ r.2.mem ((c.tc : Thread Cert.LruOutLnIdeal.nD Cert.LruOutLnIdeal.τ).loc Cert.LruOutLnIdeal.main_arg2) = m ((c.tc : Thread Cert.LruOutLnIdeal.nD Cert.LruOutLnIdeal.τ).loc Cert.LruOutLnIdeal.main_arg2)
      ∧ r.2.mem ((c.tc : Thread Cert.LruOutLnIdeal.nD Cert.LruOutLnIdeal.τ).loc Cert.LruOutLnIdeal.main_arg3) = m ((c.tc : Thread Cert.LruOutLnIdeal.nD Cert.LruOutLnIdeal.τ).loc Cert.LruOutLnIdeal.main_arg3)
      ∧ r.2.mem ((c.tc : Thread Cert.LruOutLnIdeal.nD Cert.LruOutLnIdeal.τ).loc Cert.LruOutLnIdeal.main_arg4) = m ((c.tc : Thread Cert.LruOutLnIdeal.nD Cert.LruOutLnIdeal.τ).loc Cert.LruOutLnIdeal.main_arg4))
      ∧ r.2.sem = fun _ => 0)

def quiescent_LruOutLnRefIdeal [hLruOutLnRefIdeal : Cert.LruOutLnRefIdeal.Facts] : Prop :=
  ∀ (m : (ℓ : Loc Cert.LruOutLnRefIdeal.nD Cert.LruOutLnRefIdeal.τ Cert.LruOutLnRefIdeal.sig) → Buf (Elt Ideal) ℓ) (g : Dev Cert.LruOutLnRefIdeal.nD → PrngReg), Pre_LruOutLnRefIdeal m →
    θ_run (Cert.LruOutLnRefIdeal.defs (F := Ideal)) (onTc (τ := Cert.LruOutLnRefIdeal.τ) (Cert.LruOutLnRefIdeal.main (F := Ideal))) ⟨m, fun _ => 0, g⟩ (fun r => (∀ c : Dev Cert.LruOutLnRefIdeal.nD,
      r.2.mem ((c.tc : Thread Cert.LruOutLnRefIdeal.nD Cert.LruOutLnRefIdeal.τ).loc Cert.LruOutLnRefIdeal.main_arg0) = m ((c.tc : Thread Cert.LruOutLnRefIdeal.nD Cert.LruOutLnRefIdeal.τ).loc Cert.LruOutLnRefIdeal.main_arg0)
      ∧ r.2.mem ((c.tc : Thread Cert.LruOutLnRefIdeal.nD Cert.LruOutLnRefIdeal.τ).loc Cert.LruOutLnRefIdeal.main_arg1) = m ((c.tc : Thread Cert.LruOutLnRefIdeal.nD Cert.LruOutLnRefIdeal.τ).loc Cert.LruOutLnRefIdeal.main_arg1)
      ∧ r.2.mem ((c.tc : Thread Cert.LruOutLnRefIdeal.nD Cert.LruOutLnRefIdeal.τ).loc Cert.LruOutLnRefIdeal.main_arg2) = m ((c.tc : Thread Cert.LruOutLnRefIdeal.nD Cert.LruOutLnRefIdeal.τ).loc Cert.LruOutLnRefIdeal.main_arg2)
      ∧ r.2.mem ((c.tc : Thread Cert.LruOutLnRefIdeal.nD Cert.LruOutLnRefIdeal.τ).loc Cert.LruOutLnRefIdeal.main_arg3) = m ((c.tc : Thread Cert.LruOutLnRefIdeal.nD Cert.LruOutLnRefIdeal.τ).loc Cert.LruOutLnRefIdeal.main_arg3)
      ∧ r.2.mem ((c.tc : Thread Cert.LruOutLnRefIdeal.nD Cert.LruOutLnRefIdeal.τ).loc Cert.LruOutLnRefIdeal.main_arg4) = m ((c.tc : Thread Cert.LruOutLnRefIdeal.nD Cert.LruOutLnRefIdeal.τ).loc Cert.LruOutLnRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite [hLnBwdIdeal : Cert.LnBwdIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite [hLnBwdRefIdeal : Cert.LnBwdRefIdeal.Facts] [hPre_finite : Cert.Pre_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_UpdScIn [hUpdScIn : Cert.UpdScIn.Facts] : Prop :=
  ∀ (m : (ℓ : Loc Cert.UpdScIn.nD Cert.UpdScIn.τ Cert.UpdScIn.sig) → Buf (Elt Bits) ℓ) (g : Dev Cert.UpdScIn.nD → PrngReg), Pre_UpdScIn m →
    θ_run (Cert.UpdScIn.defs (F := Bits)) (onTc (τ := Cert.UpdScIn.τ) (Cert.UpdScIn.main (F := Bits))) ⟨m, fun _ => 0, g⟩ (fun r => (∀ c : Dev Cert.UpdScIn.nD,
      r.2.mem ((c.tc : Thread Cert.UpdScIn.nD Cert.UpdScIn.τ).loc Cert.UpdScIn.main_arg0) = m ((c.tc : Thread Cert.UpdScIn.nD Cert.UpdScIn.τ).loc Cert.UpdScIn.main_arg0)
      ∧ r.2.mem ((c.tc : Thread Cert.UpdScIn.nD Cert.UpdScIn.τ).loc Cert.UpdScIn.main_arg1) = m ((c.tc : Thread Cert.UpdScIn.nD Cert.UpdScIn.τ).loc Cert.UpdScIn.main_arg1)
      ∧ r.2.mem ((c.tc : Thread Cert.UpdScIn.nD Cert.UpdScIn.τ).loc Cert.UpdScIn.main_arg2) = m ((c.tc : Thread Cert.UpdScIn.nD Cert.UpdScIn.τ).loc Cert.UpdScIn.main_arg2)
      ∧ r.2.mem ((c.tc : Thread Cert.UpdScIn.nD Cert.UpdScIn.τ).loc Cert.UpdScIn.main_arg3) = m ((c.tc : Thread Cert.UpdScIn.nD Cert.UpdScIn.τ).loc Cert.UpdScIn.main_arg3)
      ∧ r.2.mem ((c.tc : Thread Cert.UpdScIn.nD Cert.UpdScIn.τ).loc Cert.UpdScIn.main_arg4) = m ((c.tc : Thread Cert.UpdScIn.nD Cert.UpdScIn.τ).loc Cert.UpdScIn.main_arg4)
      ∧ r.2.mem ((c.tc : Thread Cert.UpdScIn.nD Cert.UpdScIn.τ).loc Cert.UpdScIn.main_arg5) = m ((c.tc : Thread Cert.UpdScIn.nD Cert.UpdScIn.τ).loc Cert.UpdScIn.main_arg5))
      ∧ r.2.sem = fun _ => 0)

def quiescent_UpdScInIdeal [hUpdScInIdeal : Cert.UpdScInIdeal.Facts] : Prop :=
  ∀ (m : (ℓ : Loc Cert.UpdScInIdeal.nD Cert.UpdScInIdeal.τ Cert.UpdScInIdeal.sig) → Buf (Elt Ideal) ℓ) (g : Dev Cert.UpdScInIdeal.nD → PrngReg), Pre_UpdScInIdeal m →
    θ_run (Cert.UpdScInIdeal.defs (F := Ideal)) (onTc (τ := Cert.UpdScInIdeal.τ) (Cert.UpdScInIdeal.main (F := Ideal))) ⟨m, fun _ => 0, g⟩ (fun r => (∀ c : Dev Cert.UpdScInIdeal.nD,
      r.2.mem ((c.tc : Thread Cert.UpdScInIdeal.nD Cert.UpdScInIdeal.τ).loc Cert.UpdScInIdeal.main_arg0) = m ((c.tc : Thread Cert.UpdScInIdeal.nD Cert.UpdScInIdeal.τ).loc Cert.UpdScInIdeal.main_arg0)
      ∧ r.2.mem ((c.tc : Thread Cert.UpdScInIdeal.nD Cert.UpdScInIdeal.τ).loc Cert.UpdScInIdeal.main_arg1) = m ((c.tc : Thread Cert.UpdScInIdeal.nD Cert.UpdScInIdeal.τ).loc Cert.UpdScInIdeal.main_arg1)
      ∧ r.2.mem ((c.tc : Thread Cert.UpdScInIdeal.nD Cert.UpdScInIdeal.τ).loc Cert.UpdScInIdeal.main_arg2) = m ((c.tc : Thread Cert.UpdScInIdeal.nD Cert.UpdScInIdeal.τ).loc Cert.UpdScInIdeal.main_arg2)
      ∧ r.2.mem ((c.tc : Thread Cert.UpdScInIdeal.nD Cert.UpdScInIdeal.τ).loc Cert.UpdScInIdeal.main_arg3) = m ((c.tc : Thread Cert.UpdScInIdeal.nD Cert.UpdScInIdeal.τ).loc Cert.UpdScInIdeal.main_arg3)
      ∧ r.2.mem ((c.tc : Thread Cert.UpdScInIdeal.nD Cert.UpdScInIdeal.τ).loc Cert.UpdScInIdeal.main_arg4) = m ((c.tc : Thread Cert.UpdScInIdeal.nD Cert.UpdScInIdeal.τ).loc Cert.UpdScInIdeal.main_arg4)
      ∧ r.2.mem ((c.tc : Thread Cert.UpdScInIdeal.nD Cert.UpdScInIdeal.τ).loc Cert.UpdScInIdeal.main_arg5) = m ((c.tc : Thread Cert.UpdScInIdeal.nD Cert.UpdScInIdeal.τ).loc Cert.UpdScInIdeal.main_arg5))
      ∧ r.2.sem = fun _ => 0)

def quiescent_UpdScInRefIdeal [hUpdScInRefIdeal : Cert.UpdScInRefIdeal.Facts] : Prop :=
  ∀ (m : (ℓ : Loc Cert.UpdScInRefIdeal.nD Cert.UpdScInRefIdeal.τ Cert.UpdScInRefIdeal.sig) → Buf (Elt Ideal) ℓ) (g : Dev Cert.UpdScInRefIdeal.nD → PrngReg), Pre_UpdScInRefIdeal m →
    θ_run (Cert.UpdScInRefIdeal.defs (F := Ideal)) (onTc (τ := Cert.UpdScInRefIdeal.τ) (Cert.UpdScInRefIdeal.main (F := Ideal))) ⟨m, fun _ => 0, g⟩ (fun r => (∀ c : Dev Cert.UpdScInRefIdeal.nD,
      r.2.mem ((c.tc : Thread Cert.UpdScInRefIdeal.nD Cert.UpdScInRefIdeal.τ).loc Cert.UpdScInRefIdeal.main_arg0) = m ((c.tc : Thread Cert.UpdScInRefIdeal.nD Cert.UpdScInRefIdeal.τ).loc Cert.UpdScInRefIdeal.main_arg0)
      ∧ r.2.mem ((c.tc : Thread Cert.UpdScInRefIdeal.nD Cert.UpdScInRefIdeal.τ).loc Cert.UpdScInRefIdeal.main_arg1) = m ((c.tc : Thread Cert.UpdScInRefIdeal.nD Cert.UpdScInRefIdeal.τ).loc Cert.UpdScInRefIdeal.main_arg1)
      ∧ r.2.mem ((c.tc : Thread Cert.UpdScInRefIdeal.nD Cert.UpdScInRefIdeal.τ).loc Cert.UpdScInRefIdeal.main_arg2) = m ((c.tc : Thread Cert.UpdScInRefIdeal.nD Cert.UpdScInRefIdeal.τ).loc Cert.UpdScInRefIdeal.main_arg2)
      ∧ r.2.mem ((c.tc : Thread Cert.UpdScInRefIdeal.nD Cert.UpdScInRefIdeal.τ).loc Cert.UpdScInRefIdeal.main_arg3) = m ((c.tc : Thread Cert.UpdScInRefIdeal.nD Cert.UpdScInRefIdeal.τ).loc Cert.UpdScInRefIdeal.main_arg3)
      ∧ r.2.mem ((c.tc : Thread Cert.UpdScInRefIdeal.nD Cert.UpdScInRefIdeal.τ).loc Cert.UpdScInRefIdeal.main_arg4) = m ((c.tc : Thread Cert.UpdScInRefIdeal.nD Cert.UpdScInRefIdeal.τ).loc Cert.UpdScInRefIdeal.main_arg4)
      ∧ r.2.mem ((c.tc : Thread Cert.UpdScInRefIdeal.nD Cert.UpdScInRefIdeal.τ).loc Cert.UpdScInRefIdeal.main_arg5) = m ((c.tc : Thread Cert.UpdScInRefIdeal.nD Cert.UpdScInRefIdeal.τ).loc Cert.UpdScInRefIdeal.main_arg5))
      ∧ r.2.sem = fun _ => 0)

def quiescent_UpdScOut [hUpdScOut : Cert.UpdScOut.Facts] : Prop :=
  ∀ (m : (ℓ : Loc Cert.UpdScOut.nD Cert.UpdScOut.τ Cert.UpdScOut.sig) → Buf (Elt Bits) ℓ) (g : Dev Cert.UpdScOut.nD → PrngReg), Pre_UpdScOut m →
    θ_run (Cert.UpdScOut.defs (F := Bits)) (onTc (τ := Cert.UpdScOut.τ) (Cert.UpdScOut.main (F := Bits))) ⟨m, fun _ => 0, g⟩ (fun r => (∀ c : Dev Cert.UpdScOut.nD,
      r.2.mem ((c.tc : Thread Cert.UpdScOut.nD Cert.UpdScOut.τ).loc Cert.UpdScOut.main_arg0) = m ((c.tc : Thread Cert.UpdScOut.nD Cert.UpdScOut.τ).loc Cert.UpdScOut.main_arg0)
      ∧ r.2.mem ((c.tc : Thread Cert.UpdScOut.nD Cert.UpdScOut.τ).loc Cert.UpdScOut.main_arg1) = m ((c.tc : Thread Cert.UpdScOut.nD Cert.UpdScOut.τ).loc Cert.UpdScOut.main_arg1)
      ∧ r.2.mem ((c.tc : Thread Cert.UpdScOut.nD Cert.UpdScOut.τ).loc Cert.UpdScOut.main_arg2) = m ((c.tc : Thread Cert.UpdScOut.nD Cert.UpdScOut.τ).loc Cert.UpdScOut.main_arg2)
      ∧ r.2.mem ((c.tc : Thread Cert.UpdScOut.nD Cert.UpdScOut.τ).loc Cert.UpdScOut.main_arg3) = m ((c.tc : Thread Cert.UpdScOut.nD Cert.UpdScOut.τ).loc Cert.UpdScOut.main_arg3)
      ∧ r.2.mem ((c.tc : Thread Cert.UpdScOut.nD Cert.UpdScOut.τ).loc Cert.UpdScOut.main_arg4) = m ((c.tc : Thread Cert.UpdScOut.nD Cert.UpdScOut.τ).loc Cert.UpdScOut.main_arg4)
      ∧ r.2.mem ((c.tc : Thread Cert.UpdScOut.nD Cert.UpdScOut.τ).loc Cert.UpdScOut.main_arg5) = m ((c.tc : Thread Cert.UpdScOut.nD Cert.UpdScOut.τ).loc Cert.UpdScOut.main_arg5))
      ∧ r.2.sem = fun _ => 0)

def quiescent_UpdScOutIdeal [hUpdScOutIdeal : Cert.UpdScOutIdeal.Facts] : Prop :=
  ∀ (m : (ℓ : Loc Cert.UpdScOutIdeal.nD Cert.UpdScOutIdeal.τ Cert.UpdScOutIdeal.sig) → Buf (Elt Ideal) ℓ) (g : Dev Cert.UpdScOutIdeal.nD → PrngReg), Pre_UpdScOutIdeal m →
    θ_run (Cert.UpdScOutIdeal.defs (F := Ideal)) (onTc (τ := Cert.UpdScOutIdeal.τ) (Cert.UpdScOutIdeal.main (F := Ideal))) ⟨m, fun _ => 0, g⟩ (fun r => (∀ c : Dev Cert.UpdScOutIdeal.nD,
      r.2.mem ((c.tc : Thread Cert.UpdScOutIdeal.nD Cert.UpdScOutIdeal.τ).loc Cert.UpdScOutIdeal.main_arg0) = m ((c.tc : Thread Cert.UpdScOutIdeal.nD Cert.UpdScOutIdeal.τ).loc Cert.UpdScOutIdeal.main_arg0)
      ∧ r.2.mem ((c.tc : Thread Cert.UpdScOutIdeal.nD Cert.UpdScOutIdeal.τ).loc Cert.UpdScOutIdeal.main_arg1) = m ((c.tc : Thread Cert.UpdScOutIdeal.nD Cert.UpdScOutIdeal.τ).loc Cert.UpdScOutIdeal.main_arg1)
      ∧ r.2.mem ((c.tc : Thread Cert.UpdScOutIdeal.nD Cert.UpdScOutIdeal.τ).loc Cert.UpdScOutIdeal.main_arg2) = m ((c.tc : Thread Cert.UpdScOutIdeal.nD Cert.UpdScOutIdeal.τ).loc Cert.UpdScOutIdeal.main_arg2)
      ∧ r.2.mem ((c.tc : Thread Cert.UpdScOutIdeal.nD Cert.UpdScOutIdeal.τ).loc Cert.UpdScOutIdeal.main_arg3) = m ((c.tc : Thread Cert.UpdScOutIdeal.nD Cert.UpdScOutIdeal.τ).loc Cert.UpdScOutIdeal.main_arg3)
      ∧ r.2.mem ((c.tc : Thread Cert.UpdScOutIdeal.nD Cert.UpdScOutIdeal.τ).loc Cert.UpdScOutIdeal.main_arg4) = m ((c.tc : Thread Cert.UpdScOutIdeal.nD Cert.UpdScOutIdeal.τ).loc Cert.UpdScOutIdeal.main_arg4)
      ∧ r.2.mem ((c.tc : Thread Cert.UpdScOutIdeal.nD Cert.UpdScOutIdeal.τ).loc Cert.UpdScOutIdeal.main_arg5) = m ((c.tc : Thread Cert.UpdScOutIdeal.nD Cert.UpdScOutIdeal.τ).loc Cert.UpdScOutIdeal.main_arg5))
      ∧ r.2.sem = fun _ => 0)

def quiescent_UpdScOutRefIdeal [hUpdScOutRefIdeal : Cert.UpdScOutRefIdeal.Facts] : Prop :=
  ∀ (m : (ℓ : Loc Cert.UpdScOutRefIdeal.nD Cert.UpdScOutRefIdeal.τ Cert.UpdScOutRefIdeal.sig) → Buf (Elt Ideal) ℓ) (g : Dev Cert.UpdScOutRefIdeal.nD → PrngReg), Pre_UpdScOutRefIdeal m →
    θ_run (Cert.UpdScOutRefIdeal.defs (F := Ideal)) (onTc (τ := Cert.UpdScOutRefIdeal.τ) (Cert.UpdScOutRefIdeal.main (F := Ideal))) ⟨m, fun _ => 0, g⟩ (fun r => (∀ c : Dev Cert.UpdScOutRefIdeal.nD,
      r.2.mem ((c.tc : Thread Cert.UpdScOutRefIdeal.nD Cert.UpdScOutRefIdeal.τ).loc Cert.UpdScOutRefIdeal.main_arg0) = m ((c.tc : Thread Cert.UpdScOutRefIdeal.nD Cert.UpdScOutRefIdeal.τ).loc Cert.UpdScOutRefIdeal.main_arg0)
      ∧ r.2.mem ((c.tc : Thread Cert.UpdScOutRefIdeal.nD Cert.UpdScOutRefIdeal.τ).loc Cert.UpdScOutRefIdeal.main_arg1) = m ((c.tc : Thread Cert.UpdScOutRefIdeal.nD Cert.UpdScOutRefIdeal.τ).loc Cert.UpdScOutRefIdeal.main_arg1)
      ∧ r.2.mem ((c.tc : Thread Cert.UpdScOutRefIdeal.nD Cert.UpdScOutRefIdeal.τ).loc Cert.UpdScOutRefIdeal.main_arg2) = m ((c.tc : Thread Cert.UpdScOutRefIdeal.nD Cert.UpdScOutRefIdeal.τ).loc Cert.UpdScOutRefIdeal.main_arg2)
      ∧ r.2.mem ((c.tc : Thread Cert.UpdScOutRefIdeal.nD Cert.UpdScOutRefIdeal.τ).loc Cert.UpdScOutRefIdeal.main_arg3) = m ((c.tc : Thread Cert.UpdScOutRefIdeal.nD Cert.UpdScOutRefIdeal.τ).loc Cert.UpdScOutRefIdeal.main_arg3)
      ∧ r.2.mem ((c.tc : Thread Cert.UpdScOutRefIdeal.nD Cert.UpdScOutRefIdeal.τ).loc Cert.UpdScOutRefIdeal.main_arg4) = m ((c.tc : Thread Cert.UpdScOutRefIdeal.nD Cert.UpdScOutRefIdeal.τ).loc Cert.UpdScOutRefIdeal.main_arg4)
      ∧ r.2.mem ((c.tc : Thread Cert.UpdScOutRefIdeal.nD Cert.UpdScOutRefIdeal.τ).loc Cert.UpdScOutRefIdeal.main_arg5) = m ((c.tc : Thread Cert.UpdScOutRefIdeal.nD Cert.UpdScOutRefIdeal.τ).loc Cert.UpdScOutRefIdeal.main_arg5))
      ∧ r.2.sem = fun _ => 0)

def quiescent_UpdLruIn [hUpdLruIn : Cert.UpdLruIn.Facts] : Prop :=
  ∀ (m : (ℓ : Loc Cert.UpdLruIn.nD Cert.UpdLruIn.τ Cert.UpdLruIn.sig) → Buf (Elt Bits) ℓ) (g : Dev Cert.UpdLruIn.nD → PrngReg), Pre_UpdLruIn m →
    θ_run (Cert.UpdLruIn.defs (F := Bits)) (onTc (τ := Cert.UpdLruIn.τ) (Cert.UpdLruIn.main (F := Bits))) ⟨m, fun _ => 0, g⟩ (fun r => (∀ c : Dev Cert.UpdLruIn.nD,
      r.2.mem ((c.tc : Thread Cert.UpdLruIn.nD Cert.UpdLruIn.τ).loc Cert.UpdLruIn.main_arg0) = m ((c.tc : Thread Cert.UpdLruIn.nD Cert.UpdLruIn.τ).loc Cert.UpdLruIn.main_arg0)
      ∧ r.2.mem ((c.tc : Thread Cert.UpdLruIn.nD Cert.UpdLruIn.τ).loc Cert.UpdLruIn.main_arg1) = m ((c.tc : Thread Cert.UpdLruIn.nD Cert.UpdLruIn.τ).loc Cert.UpdLruIn.main_arg1)
      ∧ r.2.mem ((c.tc : Thread Cert.UpdLruIn.nD Cert.UpdLruIn.τ).loc Cert.UpdLruIn.main_arg2) = m ((c.tc : Thread Cert.UpdLruIn.nD Cert.UpdLruIn.τ).loc Cert.UpdLruIn.main_arg2)
      ∧ r.2.mem ((c.tc : Thread Cert.UpdLruIn.nD Cert.UpdLruIn.τ).loc Cert.UpdLruIn.main_arg3) = m ((c.tc : Thread Cert.UpdLruIn.nD Cert.UpdLruIn.τ).loc Cert.UpdLruIn.main_arg3)
      ∧ r.2.mem ((c.tc : Thread Cert.UpdLruIn.nD Cert.UpdLruIn.τ).loc Cert.UpdLruIn.main_arg4) = m ((c.tc : Thread Cert.UpdLruIn.nD Cert.UpdLruIn.τ).loc Cert.UpdLruIn.main_arg4)
      ∧ r.2.mem ((c.tc : Thread Cert.UpdLruIn.nD Cert.UpdLruIn.τ).loc Cert.UpdLruIn.main_arg5) = m ((c.tc : Thread Cert.UpdLruIn.nD Cert.UpdLruIn.τ).loc Cert.UpdLruIn.main_arg5))
      ∧ r.2.sem = fun _ => 0)

def quiescent_UpdLruInIdeal [hUpdLruInIdeal : Cert.UpdLruInIdeal.Facts] : Prop :=
  ∀ (m : (ℓ : Loc Cert.UpdLruInIdeal.nD Cert.UpdLruInIdeal.τ Cert.UpdLruInIdeal.sig) → Buf (Elt Ideal) ℓ) (g : Dev Cert.UpdLruInIdeal.nD → PrngReg), Pre_UpdLruInIdeal m →
    θ_run (Cert.UpdLruInIdeal.defs (F := Ideal)) (onTc (τ := Cert.UpdLruInIdeal.τ) (Cert.UpdLruInIdeal.main (F := Ideal))) ⟨m, fun _ => 0, g⟩ (fun r => (∀ c : Dev Cert.UpdLruInIdeal.nD,
      r.2.mem ((c.tc : Thread Cert.UpdLruInIdeal.nD Cert.UpdLruInIdeal.τ).loc Cert.UpdLruInIdeal.main_arg0) = m ((c.tc : Thread Cert.UpdLruInIdeal.nD Cert.UpdLruInIdeal.τ).loc Cert.UpdLruInIdeal.main_arg0)
      ∧ r.2.mem ((c.tc : Thread Cert.UpdLruInIdeal.nD Cert.UpdLruInIdeal.τ).loc Cert.UpdLruInIdeal.main_arg1) = m ((c.tc : Thread Cert.UpdLruInIdeal.nD Cert.UpdLruInIdeal.τ).loc Cert.UpdLruInIdeal.main_arg1)
      ∧ r.2.mem ((c.tc : Thread Cert.UpdLruInIdeal.nD Cert.UpdLruInIdeal.τ).loc Cert.UpdLruInIdeal.main_arg2) = m ((c.tc : Thread Cert.UpdLruInIdeal.nD Cert.UpdLruInIdeal.τ).loc Cert.UpdLruInIdeal.main_arg2)
      ∧ r.2.mem ((c.tc : Thread Cert.UpdLruInIdeal.nD Cert.UpdLruInIdeal.τ).loc Cert.UpdLruInIdeal.main_arg3) = m ((c.tc : Thread Cert.UpdLruInIdeal.nD Cert.UpdLruInIdeal.τ).loc Cert.UpdLruInIdeal.main_arg3)
      ∧ r.2.mem ((c.tc : Thread Cert.UpdLruInIdeal.nD Cert.UpdLruInIdeal.τ).loc Cert.UpdLruInIdeal.main_arg4) = m ((c.tc : Thread Cert.UpdLruInIdeal.nD Cert.UpdLruInIdeal.τ).loc Cert.UpdLruInIdeal.main_arg4)
      ∧ r.2.mem ((c.tc : Thread Cert.UpdLruInIdeal.nD Cert.UpdLruInIdeal.τ).loc Cert.UpdLruInIdeal.main_arg5) = m ((c.tc : Thread Cert.UpdLruInIdeal.nD Cert.UpdLruInIdeal.τ).loc Cert.UpdLruInIdeal.main_arg5))
      ∧ r.2.sem = fun _ => 0)

def quiescent_UpdLruInRefIdeal [hUpdLruInRefIdeal : Cert.UpdLruInRefIdeal.Facts] : Prop :=
  ∀ (m : (ℓ : Loc Cert.UpdLruInRefIdeal.nD Cert.UpdLruInRefIdeal.τ Cert.UpdLruInRefIdeal.sig) → Buf (Elt Ideal) ℓ) (g : Dev Cert.UpdLruInRefIdeal.nD → PrngReg), Pre_UpdLruInRefIdeal m →
    θ_run (Cert.UpdLruInRefIdeal.defs (F := Ideal)) (onTc (τ := Cert.UpdLruInRefIdeal.τ) (Cert.UpdLruInRefIdeal.main (F := Ideal))) ⟨m, fun _ => 0, g⟩ (fun r => (∀ c : Dev Cert.UpdLruInRefIdeal.nD,
      r.2.mem ((c.tc : Thread Cert.UpdLruInRefIdeal.nD Cert.UpdLruInRefIdeal.τ).loc Cert.UpdLruInRefIdeal.main_arg0) = m ((c.tc : Thread Cert.UpdLruInRefIdeal.nD Cert.UpdLruInRefIdeal.τ).loc Cert.UpdLruInRefIdeal.main_arg0)
      ∧ r.2.mem ((c.tc : Thread Cert.UpdLruInRefIdeal.nD Cert.UpdLruInRefIdeal.τ).loc Cert.UpdLruInRefIdeal.main_arg1) = m ((c.tc : Thread Cert.UpdLruInRefIdeal.nD Cert.UpdLruInRefIdeal.τ).loc Cert.UpdLruInRefIdeal.main_arg1)
      ∧ r.2.mem ((c.tc : Thread Cert.UpdLruInRefIdeal.nD Cert.UpdLruInRefIdeal.τ).loc Cert.UpdLruInRefIdeal.main_arg2) = m ((c.tc : Thread Cert.UpdLruInRefIdeal.nD Cert.UpdLruInRefIdeal.τ).loc Cert.UpdLruInRefIdeal.main_arg2)
      ∧ r.2.mem ((c.tc : Thread Cert.UpdLruInRefIdeal.nD Cert.UpdLruInRefIdeal.τ).loc Cert.UpdLruInRefIdeal.main_arg3) = m ((c.tc : Thread Cert.UpdLruInRefIdeal.nD Cert.UpdLruInRefIdeal.τ).loc Cert.UpdLruInRefIdeal.main_arg3)
      ∧ r.2.mem ((c.tc : Thread Cert.UpdLruInRefIdeal.nD Cert.UpdLruInRefIdeal.τ).loc Cert.UpdLruInRefIdeal.main_arg4) = m ((c.tc : Thread Cert.UpdLruInRefIdeal.nD Cert.UpdLruInRefIdeal.τ).loc Cert.UpdLruInRefIdeal.main_arg4)
      ∧ r.2.mem ((c.tc : Thread Cert.UpdLruInRefIdeal.nD Cert.UpdLruInRefIdeal.τ).loc Cert.UpdLruInRefIdeal.main_arg5) = m ((c.tc : Thread Cert.UpdLruInRefIdeal.nD Cert.UpdLruInRefIdeal.τ).loc Cert.UpdLruInRefIdeal.main_arg5))
      ∧ r.2.sem = fun _ => 0)

def quiescent_UpdLruOut [hUpdLruOut : Cert.UpdLruOut.Facts] : Prop :=
  ∀ (m : (ℓ : Loc Cert.UpdLruOut.nD Cert.UpdLruOut.τ Cert.UpdLruOut.sig) → Buf (Elt Bits) ℓ) (g : Dev Cert.UpdLruOut.nD → PrngReg), Pre_UpdLruOut m →
    θ_run (Cert.UpdLruOut.defs (F := Bits)) (onTc (τ := Cert.UpdLruOut.τ) (Cert.UpdLruOut.main (F := Bits))) ⟨m, fun _ => 0, g⟩ (fun r => (∀ c : Dev Cert.UpdLruOut.nD,
      r.2.mem ((c.tc : Thread Cert.UpdLruOut.nD Cert.UpdLruOut.τ).loc Cert.UpdLruOut.main_arg0) = m ((c.tc : Thread Cert.UpdLruOut.nD Cert.UpdLruOut.τ).loc Cert.UpdLruOut.main_arg0)
      ∧ r.2.mem ((c.tc : Thread Cert.UpdLruOut.nD Cert.UpdLruOut.τ).loc Cert.UpdLruOut.main_arg1) = m ((c.tc : Thread Cert.UpdLruOut.nD Cert.UpdLruOut.τ).loc Cert.UpdLruOut.main_arg1)
      ∧ r.2.mem ((c.tc : Thread Cert.UpdLruOut.nD Cert.UpdLruOut.τ).loc Cert.UpdLruOut.main_arg2) = m ((c.tc : Thread Cert.UpdLruOut.nD Cert.UpdLruOut.τ).loc Cert.UpdLruOut.main_arg2)
      ∧ r.2.mem ((c.tc : Thread Cert.UpdLruOut.nD Cert.UpdLruOut.τ).loc Cert.UpdLruOut.main_arg3) = m ((c.tc : Thread Cert.UpdLruOut.nD Cert.UpdLruOut.τ).loc Cert.UpdLruOut.main_arg3)
      ∧ r.2.mem ((c.tc : Thread Cert.UpdLruOut.nD Cert.UpdLruOut.τ).loc Cert.UpdLruOut.main_arg4) = m ((c.tc : Thread Cert.UpdLruOut.nD Cert.UpdLruOut.τ).loc Cert.UpdLruOut.main_arg4)
      ∧ r.2.mem ((c.tc : Thread Cert.UpdLruOut.nD Cert.UpdLruOut.τ).loc Cert.UpdLruOut.main_arg5) = m ((c.tc : Thread Cert.UpdLruOut.nD Cert.UpdLruOut.τ).loc Cert.UpdLruOut.main_arg5))
      ∧ r.2.sem = fun _ => 0)

def quiescent_UpdLruOutIdeal [hUpdLruOutIdeal : Cert.UpdLruOutIdeal.Facts] : Prop :=
  ∀ (m : (ℓ : Loc Cert.UpdLruOutIdeal.nD Cert.UpdLruOutIdeal.τ Cert.UpdLruOutIdeal.sig) → Buf (Elt Ideal) ℓ) (g : Dev Cert.UpdLruOutIdeal.nD → PrngReg), Pre_UpdLruOutIdeal m →
    θ_run (Cert.UpdLruOutIdeal.defs (F := Ideal)) (onTc (τ := Cert.UpdLruOutIdeal.τ) (Cert.UpdLruOutIdeal.main (F := Ideal))) ⟨m, fun _ => 0, g⟩ (fun r => (∀ c : Dev Cert.UpdLruOutIdeal.nD,
      r.2.mem ((c.tc : Thread Cert.UpdLruOutIdeal.nD Cert.UpdLruOutIdeal.τ).loc Cert.UpdLruOutIdeal.main_arg0) = m ((c.tc : Thread Cert.UpdLruOutIdeal.nD Cert.UpdLruOutIdeal.τ).loc Cert.UpdLruOutIdeal.main_arg0)
      ∧ r.2.mem ((c.tc : Thread Cert.UpdLruOutIdeal.nD Cert.UpdLruOutIdeal.τ).loc Cert.UpdLruOutIdeal.main_arg1) = m ((c.tc : Thread Cert.UpdLruOutIdeal.nD Cert.UpdLruOutIdeal.τ).loc Cert.UpdLruOutIdeal.main_arg1)
      ∧ r.2.mem ((c.tc : Thread Cert.UpdLruOutIdeal.nD Cert.UpdLruOutIdeal.τ).loc Cert.UpdLruOutIdeal.main_arg2) = m ((c.tc : Thread Cert.UpdLruOutIdeal.nD Cert.UpdLruOutIdeal.τ).loc Cert.UpdLruOutIdeal.main_arg2)
      ∧ r.2.mem ((c.tc : Thread Cert.UpdLruOutIdeal.nD Cert.UpdLruOutIdeal.τ).loc Cert.UpdLruOutIdeal.main_arg3) = m ((c.tc : Thread Cert.UpdLruOutIdeal.nD Cert.UpdLruOutIdeal.τ).loc Cert.UpdLruOutIdeal.main_arg3)
      ∧ r.2.mem ((c.tc : Thread Cert.UpdLruOutIdeal.nD Cert.UpdLruOutIdeal.τ).loc Cert.UpdLruOutIdeal.main_arg4) = m ((c.tc : Thread Cert.UpdLruOutIdeal.nD Cert.UpdLruOutIdeal.τ).loc Cert.UpdLruOutIdeal.main_arg4)
      ∧ r.2.mem ((c.tc : Thread Cert.UpdLruOutIdeal.nD Cert.UpdLruOutIdeal.τ).loc Cert.UpdLruOutIdeal.main_arg5) = m ((c.tc : Thread Cert.UpdLruOutIdeal.nD Cert.UpdLruOutIdeal.τ).loc Cert.UpdLruOutIdeal.main_arg5))
      ∧ r.2.sem = fun _ => 0)

def quiescent_UpdLruOutRefIdeal [hUpdLruOutRefIdeal : Cert.UpdLruOutRefIdeal.Facts] : Prop :=
  ∀ (m : (ℓ : Loc Cert.UpdLruOutRefIdeal.nD Cert.UpdLruOutRefIdeal.τ Cert.UpdLruOutRefIdeal.sig) → Buf (Elt Ideal) ℓ) (g : Dev Cert.UpdLruOutRefIdeal.nD → PrngReg), Pre_UpdLruOutRefIdeal m →
    θ_run (Cert.UpdLruOutRefIdeal.defs (F := Ideal)) (onTc (τ := Cert.UpdLruOutRefIdeal.τ) (Cert.UpdLruOutRefIdeal.main (F := Ideal))) ⟨m, fun _ => 0, g⟩ (fun r => (∀ c : Dev Cert.UpdLruOutRefIdeal.nD,
      r.2.mem ((c.tc : Thread Cert.UpdLruOutRefIdeal.nD Cert.UpdLruOutRefIdeal.τ).loc Cert.UpdLruOutRefIdeal.main_arg0) = m ((c.tc : Thread Cert.UpdLruOutRefIdeal.nD Cert.UpdLruOutRefIdeal.τ).loc Cert.UpdLruOutRefIdeal.main_arg0)
      ∧ r.2.mem ((c.tc : Thread Cert.UpdLruOutRefIdeal.nD Cert.UpdLruOutRefIdeal.τ).loc Cert.UpdLruOutRefIdeal.main_arg1) = m ((c.tc : Thread Cert.UpdLruOutRefIdeal.nD Cert.UpdLruOutRefIdeal.τ).loc Cert.UpdLruOutRefIdeal.main_arg1)
      ∧ r.2.mem ((c.tc : Thread Cert.UpdLruOutRefIdeal.nD Cert.UpdLruOutRefIdeal.τ).loc Cert.UpdLruOutRefIdeal.main_arg2) = m ((c.tc : Thread Cert.UpdLruOutRefIdeal.nD Cert.UpdLruOutRefIdeal.τ).loc Cert.UpdLruOutRefIdeal.main_arg2)
      ∧ r.2.mem ((c.tc : Thread Cert.UpdLruOutRefIdeal.nD Cert.UpdLruOutRefIdeal.τ).loc Cert.UpdLruOutRefIdeal.main_arg3) = m ((c.tc : Thread Cert.UpdLruOutRefIdeal.nD Cert.UpdLruOutRefIdeal.τ).loc Cert.UpdLruOutRefIdeal.main_arg3)
      ∧ r.2.mem ((c.tc : Thread Cert.UpdLruOutRefIdeal.nD Cert.UpdLruOutRefIdeal.τ).loc Cert.UpdLruOutRefIdeal.main_arg4) = m ((c.tc : Thread Cert.UpdLruOutRefIdeal.nD Cert.UpdLruOutRefIdeal.τ).loc Cert.UpdLruOutRefIdeal.main_arg4)
      ∧ r.2.mem ((c.tc : Thread Cert.UpdLruOutRefIdeal.nD Cert.UpdLruOutRefIdeal.τ).loc Cert.UpdLruOutRefIdeal.main_arg5) = m ((c.tc : Thread Cert.UpdLruOutRefIdeal.nD Cert.UpdLruOutRefIdeal.τ).loc Cert.UpdLruOutRefIdeal.main_arg5))
      ∧ r.2.sem = fun _ => 0)

def quiescent_UpdUp [hUpdUp : Cert.UpdUp.Facts] : Prop :=
  ∀ (m : (ℓ : Loc Cert.UpdUp.nD Cert.UpdUp.τ Cert.UpdUp.sig) → Buf (Elt Bits) ℓ) (g : Dev Cert.UpdUp.nD → PrngReg), Pre_UpdUp m →
    θ_run (Cert.UpdUp.defs (F := Bits)) (onTc (τ := Cert.UpdUp.τ) (Cert.UpdUp.main (F := Bits))) ⟨m, fun _ => 0, g⟩ (fun r => (∀ c : Dev Cert.UpdUp.nD,
      r.2.mem ((c.tc : Thread Cert.UpdUp.nD Cert.UpdUp.τ).loc Cert.UpdUp.main_arg0) = m ((c.tc : Thread Cert.UpdUp.nD Cert.UpdUp.τ).loc Cert.UpdUp.main_arg0)
      ∧ r.2.mem ((c.tc : Thread Cert.UpdUp.nD Cert.UpdUp.τ).loc Cert.UpdUp.main_arg1) = m ((c.tc : Thread Cert.UpdUp.nD Cert.UpdUp.τ).loc Cert.UpdUp.main_arg1)
      ∧ r.2.mem ((c.tc : Thread Cert.UpdUp.nD Cert.UpdUp.τ).loc Cert.UpdUp.main_arg2) = m ((c.tc : Thread Cert.UpdUp.nD Cert.UpdUp.τ).loc Cert.UpdUp.main_arg2)
      ∧ r.2.mem ((c.tc : Thread Cert.UpdUp.nD Cert.UpdUp.τ).loc Cert.UpdUp.main_arg3) = m ((c.tc : Thread Cert.UpdUp.nD Cert.UpdUp.τ).loc Cert.UpdUp.main_arg3)
      ∧ r.2.mem ((c.tc : Thread Cert.UpdUp.nD Cert.UpdUp.τ).loc Cert.UpdUp.main_arg4) = m ((c.tc : Thread Cert.UpdUp.nD Cert.UpdUp.τ).loc Cert.UpdUp.main_arg4)
      ∧ r.2.mem ((c.tc : Thread Cert.UpdUp.nD Cert.UpdUp.τ).loc Cert.UpdUp.main_arg5) = m ((c.tc : Thread Cert.UpdUp.nD Cert.UpdUp.τ).loc Cert.UpdUp.main_arg5))
      ∧ r.2.sem = fun _ => 0)

def quiescent_UpdUpIdeal [hUpdUpIdeal : Cert.UpdUpIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg), Pre_UpdUpIdeal m →
    θ_run (Cert.UpdUpIdeal.defs (F := Ideal)) (onTc (τ := Cert.UpdUpIdeal.τ) (Cert.UpdUpIdeal.main (F := Ideal))) ⟨m, fun _ => 0, g⟩ (fun r => (∀ c : Dev Cert.UpdUpIdeal.nD,
      r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
      ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
      ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
      ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3)
      ∧ r.2.mem ((c.tc : Thread Cert.UpdUpIdeal.nD Cert.UpdUpIdeal.τ).loc Cert.UpdUpIdeal.main_arg4) = m ((c.tc : Thread Cert.UpdUpIdeal.nD Cert.UpdUpIdeal.τ).loc Cert.UpdUpIdeal.main_arg4)
      ∧ r.2.mem ((c.tc : Thread Cert.UpdUpIdeal.nD Cert.UpdUpIdeal.τ).loc Cert.UpdUpIdeal.main_arg5) = m ((c.tc : Thread Cert.UpdUpIdeal.nD Cert.UpdUpIdeal.τ).loc Cert.UpdUpIdeal.main_arg5))
      ∧ r.2.sem = fun _ => 0)

def quiescent_UpdUpRefIdeal [hUpdUpRefIdeal : Cert.UpdUpRefIdeal.Facts] : Prop :=
  ∀ (m : (ℓ : Loc Cert.UpdUpRefIdeal.nD Cert.UpdUpRefIdeal.τ Cert.UpdUpRefIdeal.sig) → Buf (Elt Ideal) ℓ) (g : Dev Cert.UpdUpRefIdeal.nD → PrngReg), Pre_UpdUpRefIdeal m →
    θ_run (Cert.UpdUpRefIdeal.defs (F := Ideal)) (onTc (τ := Cert.UpdUpRefIdeal.τ) (Cert.UpdUpRefIdeal.main (F := Ideal))) ⟨m, fun _ => 0, g⟩ (fun r => (∀ c : Dev Cert.UpdUpRefIdeal.nD,
      r.2.mem ((c.tc : Thread Cert.UpdUpRefIdeal.nD Cert.UpdUpRefIdeal.τ).loc Cert.UpdUpRefIdeal.main_arg0) = m ((c.tc : Thread Cert.UpdUpRefIdeal.nD Cert.UpdUpRefIdeal.τ).loc Cert.UpdUpRefIdeal.main_arg0)
      ∧ r.2.mem ((c.tc : Thread Cert.UpdUpRefIdeal.nD Cert.UpdUpRefIdeal.τ).loc Cert.UpdUpRefIdeal.main_arg1) = m ((c.tc : Thread Cert.UpdUpRefIdeal.nD Cert.UpdUpRefIdeal.τ).loc Cert.UpdUpRefIdeal.main_arg1)
      ∧ r.2.mem ((c.tc : Thread Cert.UpdUpRefIdeal.nD Cert.UpdUpRefIdeal.τ).loc Cert.UpdUpRefIdeal.main_arg2) = m ((c.tc : Thread Cert.UpdUpRefIdeal.nD Cert.UpdUpRefIdeal.τ).loc Cert.UpdUpRefIdeal.main_arg2)
      ∧ r.2.mem ((c.tc : Thread Cert.UpdUpRefIdeal.nD Cert.UpdUpRefIdeal.τ).loc Cert.UpdUpRefIdeal.main_arg3) = m ((c.tc : Thread Cert.UpdUpRefIdeal.nD Cert.UpdUpRefIdeal.τ).loc Cert.UpdUpRefIdeal.main_arg3)
      ∧ r.2.mem ((c.tc : Thread Cert.UpdUpRefIdeal.nD Cert.UpdUpRefIdeal.τ).loc Cert.UpdUpRefIdeal.main_arg4) = m ((c.tc : Thread Cert.UpdUpRefIdeal.nD Cert.UpdUpRefIdeal.τ).loc Cert.UpdUpRefIdeal.main_arg4)
      ∧ r.2.mem ((c.tc : Thread Cert.UpdUpRefIdeal.nD Cert.UpdUpRefIdeal.τ).loc Cert.UpdUpRefIdeal.main_arg5) = m ((c.tc : Thread Cert.UpdUpRefIdeal.nD Cert.UpdUpRefIdeal.τ).loc Cert.UpdUpRefIdeal.main_arg5))
      ∧ r.2.sem = fun _ => 0)

def quiescent_UpdDown [hUpdDown : Cert.UpdDown.Facts] : Prop :=
  ∀ (m : (ℓ : Loc Cert.UpdDown.nD Cert.UpdDown.τ Cert.UpdDown.sig) → Buf (Elt Bits) ℓ) (g : Dev Cert.UpdDown.nD → PrngReg), Pre_UpdDown m →
    θ_run (Cert.UpdDown.defs (F := Bits)) (onTc (τ := Cert.UpdDown.τ) (Cert.UpdDown.main (F := Bits))) ⟨m, fun _ => 0, g⟩ (fun r => (∀ c : Dev Cert.UpdDown.nD,
      r.2.mem ((c.tc : Thread Cert.UpdDown.nD Cert.UpdDown.τ).loc Cert.UpdDown.main_arg0) = m ((c.tc : Thread Cert.UpdDown.nD Cert.UpdDown.τ).loc Cert.UpdDown.main_arg0)
      ∧ r.2.mem ((c.tc : Thread Cert.UpdDown.nD Cert.UpdDown.τ).loc Cert.UpdDown.main_arg1) = m ((c.tc : Thread Cert.UpdDown.nD Cert.UpdDown.τ).loc Cert.UpdDown.main_arg1)
      ∧ r.2.mem ((c.tc : Thread Cert.UpdDown.nD Cert.UpdDown.τ).loc Cert.UpdDown.main_arg2) = m ((c.tc : Thread Cert.UpdDown.nD Cert.UpdDown.τ).loc Cert.UpdDown.main_arg2)
      ∧ r.2.mem ((c.tc : Thread Cert.UpdDown.nD Cert.UpdDown.τ).loc Cert.UpdDown.main_arg3) = m ((c.tc : Thread Cert.UpdDown.nD Cert.UpdDown.τ).loc Cert.UpdDown.main_arg3)
      ∧ r.2.mem ((c.tc : Thread Cert.UpdDown.nD Cert.UpdDown.τ).loc Cert.UpdDown.main_arg4) = m ((c.tc : Thread Cert.UpdDown.nD Cert.UpdDown.τ).loc Cert.UpdDown.main_arg4)
      ∧ r.2.mem ((c.tc : Thread Cert.UpdDown.nD Cert.UpdDown.τ).loc Cert.UpdDown.main_arg5) = m ((c.tc : Thread Cert.UpdDown.nD Cert.UpdDown.τ).loc Cert.UpdDown.main_arg5))
      ∧ r.2.sem = fun _ => 0)

def quiescent_UpdDownIdeal [hUpdDownIdeal : Cert.UpdDownIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg), Pre_UpdDownIdeal m →
    θ_run (Cert.UpdDownIdeal.defs (F := Ideal)) (onTc (τ := Cert.UpdDownIdeal.τ) (Cert.UpdDownIdeal.main (F := Ideal))) ⟨m, fun _ => 0, g⟩ (fun r => (∀ c : Dev Cert.UpdDownIdeal.nD,
      r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
      ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
      ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
      ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3)
      ∧ r.2.mem ((c.tc : Thread Cert.UpdDownIdeal.nD Cert.UpdDownIdeal.τ).loc Cert.UpdDownIdeal.main_arg4) = m ((c.tc : Thread Cert.UpdDownIdeal.nD Cert.UpdDownIdeal.τ).loc Cert.UpdDownIdeal.main_arg4)
      ∧ r.2.mem ((c.tc : Thread Cert.UpdDownIdeal.nD Cert.UpdDownIdeal.τ).loc Cert.UpdDownIdeal.main_arg5) = m ((c.tc : Thread Cert.UpdDownIdeal.nD Cert.UpdDownIdeal.τ).loc Cert.UpdDownIdeal.main_arg5))
      ∧ r.2.sem = fun _ => 0)

def quiescent_UpdDownRefIdeal [hUpdDownRefIdeal : Cert.UpdDownRefIdeal.Facts] : Prop :=
  ∀ (m : (ℓ : Loc Cert.UpdDownRefIdeal.nD Cert.UpdDownRefIdeal.τ Cert.UpdDownRefIdeal.sig) → Buf (Elt Ideal) ℓ) (g : Dev Cert.UpdDownRefIdeal.nD → PrngReg), Pre_UpdDownRefIdeal m →
    θ_run (Cert.UpdDownRefIdeal.defs (F := Ideal)) (onTc (τ := Cert.UpdDownRefIdeal.τ) (Cert.UpdDownRefIdeal.main (F := Ideal))) ⟨m, fun _ => 0, g⟩ (fun r => (∀ c : Dev Cert.UpdDownRefIdeal.nD,
      r.2.mem ((c.tc : Thread Cert.UpdDownRefIdeal.nD Cert.UpdDownRefIdeal.τ).loc Cert.UpdDownRefIdeal.main_arg0) = m ((c.tc : Thread Cert.UpdDownRefIdeal.nD Cert.UpdDownRefIdeal.τ).loc Cert.UpdDownRefIdeal.main_arg0)
      ∧ r.2.mem ((c.tc : Thread Cert.UpdDownRefIdeal.nD Cert.UpdDownRefIdeal.τ).loc Cert.UpdDownRefIdeal.main_arg1) = m ((c.tc : Thread Cert.UpdDownRefIdeal.nD Cert.UpdDownRefIdeal.τ).loc Cert.UpdDownRefIdeal.main_arg1)
      ∧ r.2.mem ((c.tc : Thread Cert.UpdDownRefIdeal.nD Cert.UpdDownRefIdeal.τ).loc Cert.UpdDownRefIdeal.main_arg2) = m ((c.tc : Thread Cert.UpdDownRefIdeal.nD Cert.UpdDownRefIdeal.τ).loc Cert.UpdDownRefIdeal.main_arg2)
      ∧ r.2.mem ((c.tc : Thread Cert.UpdDownRefIdeal.nD Cert.UpdDownRefIdeal.τ).loc Cert.UpdDownRefIdeal.main_arg3) = m ((c.tc : Thread Cert.UpdDownRefIdeal.nD Cert.UpdDownRefIdeal.τ).loc Cert.UpdDownRefIdeal.main_arg3)
      ∧ r.2.mem ((c.tc : Thread Cert.UpdDownRefIdeal.nD Cert.UpdDownRefIdeal.τ).loc Cert.UpdDownRefIdeal.main_arg4) = m ((c.tc : Thread Cert.UpdDownRefIdeal.nD Cert.UpdDownRefIdeal.τ).loc Cert.UpdDownRefIdeal.main_arg4)
      ∧ r.2.mem ((c.tc : Thread Cert.UpdDownRefIdeal.nD Cert.UpdDownRefIdeal.τ).loc Cert.UpdDownRefIdeal.main_arg5) = m ((c.tc : Thread Cert.UpdDownRefIdeal.nD Cert.UpdDownRefIdeal.τ).loc Cert.UpdDownRefIdeal.main_arg5))
      ∧ r.2.sem = fun _ => 0)

def quiescent_UpdGate [hUpdGate : Cert.UpdGate.Facts] : Prop :=
  ∀ (m : (ℓ : Loc Cert.UpdGate.nD Cert.UpdGate.τ Cert.UpdGate.sig) → Buf (Elt Bits) ℓ) (g : Dev Cert.UpdGate.nD → PrngReg), Pre_UpdGate m →
    θ_run (Cert.UpdGate.defs (F := Bits)) (onTc (τ := Cert.UpdGate.τ) (Cert.UpdGate.main (F := Bits))) ⟨m, fun _ => 0, g⟩ (fun r => (∀ c : Dev Cert.UpdGate.nD,
      r.2.mem ((c.tc : Thread Cert.UpdGate.nD Cert.UpdGate.τ).loc Cert.UpdGate.main_arg0) = m ((c.tc : Thread Cert.UpdGate.nD Cert.UpdGate.τ).loc Cert.UpdGate.main_arg0)
      ∧ r.2.mem ((c.tc : Thread Cert.UpdGate.nD Cert.UpdGate.τ).loc Cert.UpdGate.main_arg1) = m ((c.tc : Thread Cert.UpdGate.nD Cert.UpdGate.τ).loc Cert.UpdGate.main_arg1)
      ∧ r.2.mem ((c.tc : Thread Cert.UpdGate.nD Cert.UpdGate.τ).loc Cert.UpdGate.main_arg2) = m ((c.tc : Thread Cert.UpdGate.nD Cert.UpdGate.τ).loc Cert.UpdGate.main_arg2)
      ∧ r.2.mem ((c.tc : Thread Cert.UpdGate.nD Cert.UpdGate.τ).loc Cert.UpdGate.main_arg3) = m ((c.tc : Thread Cert.UpdGate.nD Cert.UpdGate.τ).loc Cert.UpdGate.main_arg3)
      ∧ r.2.mem ((c.tc : Thread Cert.UpdGate.nD Cert.UpdGate.τ).loc Cert.UpdGate.main_arg4) = m ((c.tc : Thread Cert.UpdGate.nD Cert.UpdGate.τ).loc Cert.UpdGate.main_arg4)
      ∧ r.2.mem ((c.tc : Thread Cert.UpdGate.nD Cert.UpdGate.τ).loc Cert.UpdGate.main_arg5) = m ((c.tc : Thread Cert.UpdGate.nD Cert.UpdGate.τ).loc Cert.UpdGate.main_arg5))
      ∧ r.2.sem = fun _ => 0)

def quiescent_UpdGateIdeal [hUpdGateIdeal : Cert.UpdGateIdeal.Facts] : Prop :=
  ∀ (m : (ℓ : Loc Cert.UpdGateIdeal.nD Cert.UpdGateIdeal.τ Cert.UpdGateIdeal.sig) → Buf (Elt Ideal) ℓ) (g : Dev Cert.UpdGateIdeal.nD → PrngReg), Pre_UpdGateIdeal m →
    θ_run (Cert.UpdGateIdeal.defs (F := Ideal)) (onTc (τ := Cert.UpdGateIdeal.τ) (Cert.UpdGateIdeal.main (F := Ideal))) ⟨m, fun _ => 0, g⟩ (fun r => (∀ c : Dev Cert.UpdGateIdeal.nD,
      r.2.mem ((c.tc : Thread Cert.UpdGateIdeal.nD Cert.UpdGateIdeal.τ).loc Cert.UpdGateIdeal.main_arg0) = m ((c.tc : Thread Cert.UpdGateIdeal.nD Cert.UpdGateIdeal.τ).loc Cert.UpdGateIdeal.main_arg0)
      ∧ r.2.mem ((c.tc : Thread Cert.UpdGateIdeal.nD Cert.UpdGateIdeal.τ).loc Cert.UpdGateIdeal.main_arg1) = m ((c.tc : Thread Cert.UpdGateIdeal.nD Cert.UpdGateIdeal.τ).loc Cert.UpdGateIdeal.main_arg1)
      ∧ r.2.mem ((c.tc : Thread Cert.UpdGateIdeal.nD Cert.UpdGateIdeal.τ).loc Cert.UpdGateIdeal.main_arg2) = m ((c.tc : Thread Cert.UpdGateIdeal.nD Cert.UpdGateIdeal.τ).loc Cert.UpdGateIdeal.main_arg2)
      ∧ r.2.mem ((c.tc : Thread Cert.UpdGateIdeal.nD Cert.UpdGateIdeal.τ).loc Cert.UpdGateIdeal.main_arg3) = m ((c.tc : Thread Cert.UpdGateIdeal.nD Cert.UpdGateIdeal.τ).loc Cert.UpdGateIdeal.main_arg3)
      ∧ r.2.mem ((c.tc : Thread Cert.UpdGateIdeal.nD Cert.UpdGateIdeal.τ).loc Cert.UpdGateIdeal.main_arg4) = m ((c.tc : Thread Cert.UpdGateIdeal.nD Cert.UpdGateIdeal.τ).loc Cert.UpdGateIdeal.main_arg4)
      ∧ r.2.mem ((c.tc : Thread Cert.UpdGateIdeal.nD Cert.UpdGateIdeal.τ).loc Cert.UpdGateIdeal.main_arg5) = m ((c.tc : Thread Cert.UpdGateIdeal.nD Cert.UpdGateIdeal.τ).loc Cert.UpdGateIdeal.main_arg5))
      ∧ r.2.sem = fun _ => 0)

def quiescent_UpdGateRefIdeal [hUpdGateRefIdeal : Cert.UpdGateRefIdeal.Facts] : Prop :=
  ∀ (m : (ℓ : Loc Cert.UpdGateRefIdeal.nD Cert.UpdGateRefIdeal.τ Cert.UpdGateRefIdeal.sig) → Buf (Elt Ideal) ℓ) (g : Dev Cert.UpdGateRefIdeal.nD → PrngReg), Pre_UpdGateRefIdeal m →
    θ_run (Cert.UpdGateRefIdeal.defs (F := Ideal)) (onTc (τ := Cert.UpdGateRefIdeal.τ) (Cert.UpdGateRefIdeal.main (F := Ideal))) ⟨m, fun _ => 0, g⟩ (fun r => (∀ c : Dev Cert.UpdGateRefIdeal.nD,
      r.2.mem ((c.tc : Thread Cert.UpdGateRefIdeal.nD Cert.UpdGateRefIdeal.τ).loc Cert.UpdGateRefIdeal.main_arg0) = m ((c.tc : Thread Cert.UpdGateRefIdeal.nD Cert.UpdGateRefIdeal.τ).loc Cert.UpdGateRefIdeal.main_arg0)
      ∧ r.2.mem ((c.tc : Thread Cert.UpdGateRefIdeal.nD Cert.UpdGateRefIdeal.τ).loc Cert.UpdGateRefIdeal.main_arg1) = m ((c.tc : Thread Cert.UpdGateRefIdeal.nD Cert.UpdGateRefIdeal.τ).loc Cert.UpdGateRefIdeal.main_arg1)
      ∧ r.2.mem ((c.tc : Thread Cert.UpdGateRefIdeal.nD Cert.UpdGateRefIdeal.τ).loc Cert.UpdGateRefIdeal.main_arg2) = m ((c.tc : Thread Cert.UpdGateRefIdeal.nD Cert.UpdGateRefIdeal.τ).loc Cert.UpdGateRefIdeal.main_arg2)
      ∧ r.2.mem ((c.tc : Thread Cert.UpdGateRefIdeal.nD Cert.UpdGateRefIdeal.τ).loc Cert.UpdGateRefIdeal.main_arg3) = m ((c.tc : Thread Cert.UpdGateRefIdeal.nD Cert.UpdGateRefIdeal.τ).loc Cert.UpdGateRefIdeal.main_arg3)
      ∧ r.2.mem ((c.tc : Thread Cert.UpdGateRefIdeal.nD Cert.UpdGateRefIdeal.τ).loc Cert.UpdGateRefIdeal.main_arg4) = m ((c.tc : Thread Cert.UpdGateRefIdeal.nD Cert.UpdGateRefIdeal.τ).loc Cert.UpdGateRefIdeal.main_arg4)
      ∧ r.2.mem ((c.tc : Thread Cert.UpdGateRefIdeal.nD Cert.UpdGateRefIdeal.τ).loc Cert.UpdGateRefIdeal.main_arg5) = m ((c.tc : Thread Cert.UpdGateRefIdeal.nD Cert.UpdGateRefIdeal.τ).loc Cert.UpdGateRefIdeal.main_arg5))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1)
      ∧ r.2.mem ((c.tc : Thread Cert.ScFwd.nD Cert.ScFwd.τ).loc Cert.ScFwd.main_arg2) = m ((c.tc : Thread Cert.ScFwd.nD Cert.ScFwd.τ).loc Cert.ScFwd.main_arg2))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
      ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1)
      ∧ r.2.mem ((c.tc : Thread Cert.ScFwdRefIdeal.nD Cert.ScFwdRefIdeal.τ).loc Cert.ScFwdRefIdeal.main_arg2) = m ((c.tc : Thread Cert.ScFwdRefIdeal.nD Cert.ScFwdRefIdeal.τ).loc Cert.ScFwdRefIdeal.main_arg2))
      ∧ r.2.sem = fun _ => 0)

def quiescent_UpdPack [hUpdPack : Cert.UpdPack.Facts] : Prop :=
  ∀ (m : (ℓ : Loc Cert.UpdPack.nD Cert.UpdPack.τ Cert.UpdPack.sig) → Buf (Elt Bits) ℓ) (g : Dev Cert.UpdPack.nD → PrngReg), Pre_UpdPack m →
    θ_run (Cert.UpdPack.defs (F := Bits)) (onTc (τ := Cert.UpdPack.τ) (Cert.UpdPack.main (F := Bits))) ⟨m, fun _ => 0, g⟩ (fun r => (∀ c : Dev Cert.UpdPack.nD,
      r.2.mem ((c.tc : Thread Cert.UpdPack.nD Cert.UpdPack.τ).loc Cert.UpdPack.main_arg0) = m ((c.tc : Thread Cert.UpdPack.nD Cert.UpdPack.τ).loc Cert.UpdPack.main_arg0)
      ∧ r.2.mem ((c.tc : Thread Cert.UpdPack.nD Cert.UpdPack.τ).loc Cert.UpdPack.main_arg1) = m ((c.tc : Thread Cert.UpdPack.nD Cert.UpdPack.τ).loc Cert.UpdPack.main_arg1)
      ∧ r.2.mem ((c.tc : Thread Cert.UpdPack.nD Cert.UpdPack.τ).loc Cert.UpdPack.main_arg2) = m ((c.tc : Thread Cert.UpdPack.nD Cert.UpdPack.τ).loc Cert.UpdPack.main_arg2)
      ∧ r.2.mem ((c.tc : Thread Cert.UpdPack.nD Cert.UpdPack.τ).loc Cert.UpdPack.main_arg3) = m ((c.tc : Thread Cert.UpdPack.nD Cert.UpdPack.τ).loc Cert.UpdPack.main_arg3)
      ∧ r.2.mem ((c.tc : Thread Cert.UpdPack.nD Cert.UpdPack.τ).loc Cert.UpdPack.main_arg4) = m ((c.tc : Thread Cert.UpdPack.nD Cert.UpdPack.τ).loc Cert.UpdPack.main_arg4)
      ∧ r.2.mem ((c.tc : Thread Cert.UpdPack.nD Cert.UpdPack.τ).loc Cert.UpdPack.main_arg5) = m ((c.tc : Thread Cert.UpdPack.nD Cert.UpdPack.τ).loc Cert.UpdPack.main_arg5))
      ∧ r.2.sem = fun _ => 0)

def quiescent_UpdPackIdeal [hUpdPackIdeal : Cert.UpdPackIdeal.Facts] : Prop :=
  ∀ (m : (ℓ : Loc Cert.UpdPackIdeal.nD Cert.UpdPackIdeal.τ Cert.UpdPackIdeal.sig) → Buf (Elt Ideal) ℓ) (g : Dev Cert.UpdPackIdeal.nD → PrngReg), Pre_UpdPackIdeal m →
    θ_run (Cert.UpdPackIdeal.defs (F := Ideal)) (onTc (τ := Cert.UpdPackIdeal.τ) (Cert.UpdPackIdeal.main (F := Ideal))) ⟨m, fun _ => 0, g⟩ (fun r => (∀ c : Dev Cert.UpdPackIdeal.nD,
      r.2.mem ((c.tc : Thread Cert.UpdPackIdeal.nD Cert.UpdPackIdeal.τ).loc Cert.UpdPackIdeal.main_arg0) = m ((c.tc : Thread Cert.UpdPackIdeal.nD Cert.UpdPackIdeal.τ).loc Cert.UpdPackIdeal.main_arg0)
      ∧ r.2.mem ((c.tc : Thread Cert.UpdPackIdeal.nD Cert.UpdPackIdeal.τ).loc Cert.UpdPackIdeal.main_arg1) = m ((c.tc : Thread Cert.UpdPackIdeal.nD Cert.UpdPackIdeal.τ).loc Cert.UpdPackIdeal.main_arg1)
      ∧ r.2.mem ((c.tc : Thread Cert.UpdPackIdeal.nD Cert.UpdPackIdeal.τ).loc Cert.UpdPackIdeal.main_arg2) = m ((c.tc : Thread Cert.UpdPackIdeal.nD Cert.UpdPackIdeal.τ).loc Cert.UpdPackIdeal.main_arg2)
      ∧ r.2.mem ((c.tc : Thread Cert.UpdPackIdeal.nD Cert.UpdPackIdeal.τ).loc Cert.UpdPackIdeal.main_arg3) = m ((c.tc : Thread Cert.UpdPackIdeal.nD Cert.UpdPackIdeal.τ).loc Cert.UpdPackIdeal.main_arg3)
      ∧ r.2.mem ((c.tc : Thread Cert.UpdPackIdeal.nD Cert.UpdPackIdeal.τ).loc Cert.UpdPackIdeal.main_arg4) = m ((c.tc : Thread Cert.UpdPackIdeal.nD Cert.UpdPackIdeal.τ).loc Cert.UpdPackIdeal.main_arg4)
      ∧ r.2.mem ((c.tc : Thread Cert.UpdPackIdeal.nD Cert.UpdPackIdeal.τ).loc Cert.UpdPackIdeal.main_arg5) = m ((c.tc : Thread Cert.UpdPackIdeal.nD Cert.UpdPackIdeal.τ).loc Cert.UpdPackIdeal.main_arg5))
      ∧ r.2.sem = fun _ => 0)

def quiescent_UpdPackRefIdeal [hUpdPackRefIdeal : Cert.UpdPackRefIdeal.Facts] : Prop :=
  ∀ (m : (ℓ : Loc Cert.UpdPackRefIdeal.nD Cert.UpdPackRefIdeal.τ Cert.UpdPackRefIdeal.sig) → Buf (Elt Ideal) ℓ) (g : Dev Cert.UpdPackRefIdeal.nD → PrngReg), Pre_UpdPackRefIdeal m →
    θ_run (Cert.UpdPackRefIdeal.defs (F := Ideal)) (onTc (τ := Cert.UpdPackRefIdeal.τ) (Cert.UpdPackRefIdeal.main (F := Ideal))) ⟨m, fun _ => 0, g⟩ (fun r => (∀ c : Dev Cert.UpdPackRefIdeal.nD,
      r.2.mem ((c.tc : Thread Cert.UpdPackRefIdeal.nD Cert.UpdPackRefIdeal.τ).loc Cert.UpdPackRefIdeal.main_arg0) = m ((c.tc : Thread Cert.UpdPackRefIdeal.nD Cert.UpdPackRefIdeal.τ).loc Cert.UpdPackRefIdeal.main_arg0)
      ∧ r.2.mem ((c.tc : Thread Cert.UpdPackRefIdeal.nD Cert.UpdPackRefIdeal.τ).loc Cert.UpdPackRefIdeal.main_arg1) = m ((c.tc : Thread Cert.UpdPackRefIdeal.nD Cert.UpdPackRefIdeal.τ).loc Cert.UpdPackRefIdeal.main_arg1)
      ∧ r.2.mem ((c.tc : Thread Cert.UpdPackRefIdeal.nD Cert.UpdPackRefIdeal.τ).loc Cert.UpdPackRefIdeal.main_arg2) = m ((c.tc : Thread Cert.UpdPackRefIdeal.nD Cert.UpdPackRefIdeal.τ).loc Cert.UpdPackRefIdeal.main_arg2)
      ∧ r.2.mem ((c.tc : Thread Cert.UpdPackRefIdeal.nD Cert.UpdPackRefIdeal.τ).loc Cert.UpdPackRefIdeal.main_arg3) = m ((c.tc : Thread Cert.UpdPackRefIdeal.nD Cert.UpdPackRefIdeal.τ).loc Cert.UpdPackRefIdeal.main_arg3)
      ∧ r.2.mem ((c.tc : Thread Cert.UpdPackRefIdeal.nD Cert.UpdPackRefIdeal.τ).loc Cert.UpdPackRefIdeal.main_arg4) = m ((c.tc : Thread Cert.UpdPackRefIdeal.nD Cert.UpdPackRefIdeal.τ).loc Cert.UpdPackRefIdeal.main_arg4)
      ∧ r.2.mem ((c.tc : Thread Cert.UpdPackRefIdeal.nD Cert.UpdPackRefIdeal.τ).loc Cert.UpdPackRefIdeal.main_arg5) = m ((c.tc : Thread Cert.UpdPackRefIdeal.nD Cert.UpdPackRefIdeal.τ).loc Cert.UpdPackRefIdeal.main_arg5))
      ∧ r.2.sem = fun _ => 0)

def quiescent_UpdSmall [hUpdSmall : Cert.UpdSmall.Facts] : Prop :=
  ∀ (m : (ℓ : Loc Cert.UpdSmall.nD Cert.UpdSmall.τ Cert.UpdSmall.sig) → Buf (Elt Bits) ℓ) (g : Dev Cert.UpdSmall.nD → PrngReg), Pre_UpdSmall m →
    θ_run (Cert.UpdSmall.defs (F := Bits)) (onTc (τ := Cert.UpdSmall.τ) (Cert.UpdSmall.main (F := Bits))) ⟨m, fun _ => 0, g⟩ (fun r => (∀ c : Dev Cert.UpdSmall.nD,
      r.2.mem ((c.tc : Thread Cert.UpdSmall.nD Cert.UpdSmall.τ).loc Cert.UpdSmall.main_arg0) = m ((c.tc : Thread Cert.UpdSmall.nD Cert.UpdSmall.τ).loc Cert.UpdSmall.main_arg0)
      ∧ r.2.mem ((c.tc : Thread Cert.UpdSmall.nD Cert.UpdSmall.τ).loc Cert.UpdSmall.main_arg1) = m ((c.tc : Thread Cert.UpdSmall.nD Cert.UpdSmall.τ).loc Cert.UpdSmall.main_arg1)
      ∧ r.2.mem ((c.tc : Thread Cert.UpdSmall.nD Cert.UpdSmall.τ).loc Cert.UpdSmall.main_arg2) = m ((c.tc : Thread Cert.UpdSmall.nD Cert.UpdSmall.τ).loc Cert.UpdSmall.main_arg2)
      ∧ r.2.mem ((c.tc : Thread Cert.UpdSmall.nD Cert.UpdSmall.τ).loc Cert.UpdSmall.main_arg3) = m ((c.tc : Thread Cert.UpdSmall.nD Cert.UpdSmall.τ).loc Cert.UpdSmall.main_arg3)
      ∧ r.2.mem ((c.tc : Thread Cert.UpdSmall.nD Cert.UpdSmall.τ).loc Cert.UpdSmall.main_arg4) = m ((c.tc : Thread Cert.UpdSmall.nD Cert.UpdSmall.τ).loc Cert.UpdSmall.main_arg4)
      ∧ r.2.mem ((c.tc : Thread Cert.UpdSmall.nD Cert.UpdSmall.τ).loc Cert.UpdSmall.main_arg5) = m ((c.tc : Thread Cert.UpdSmall.nD Cert.UpdSmall.τ).loc Cert.UpdSmall.main_arg5)
      ∧ r.2.mem ((c.tc : Thread Cert.UpdSmall.nD Cert.UpdSmall.τ).loc Cert.UpdSmall.main_arg6) = m ((c.tc : Thread Cert.UpdSmall.nD Cert.UpdSmall.τ).loc Cert.UpdSmall.main_arg6)
      ∧ r.2.mem ((c.tc : Thread Cert.UpdSmall.nD Cert.UpdSmall.τ).loc Cert.UpdSmall.main_arg7) = m ((c.tc : Thread Cert.UpdSmall.nD Cert.UpdSmall.τ).loc Cert.UpdSmall.main_arg7)
      ∧ r.2.mem ((c.tc : Thread Cert.UpdSmall.nD Cert.UpdSmall.τ).loc Cert.UpdSmall.main_arg8) = m ((c.tc : Thread Cert.UpdSmall.nD Cert.UpdSmall.τ).loc Cert.UpdSmall.main_arg8)
      ∧ r.2.mem ((c.tc : Thread Cert.UpdSmall.nD Cert.UpdSmall.τ).loc Cert.UpdSmall.main_arg9) = m ((c.tc : Thread Cert.UpdSmall.nD Cert.UpdSmall.τ).loc Cert.UpdSmall.main_arg9)
      ∧ r.2.mem ((c.tc : Thread Cert.UpdSmall.nD Cert.UpdSmall.τ).loc Cert.UpdSmall.main_arg10) = m ((c.tc : Thread Cert.UpdSmall.nD Cert.UpdSmall.τ).loc Cert.UpdSmall.main_arg10)
      ∧ r.2.mem ((c.tc : Thread Cert.UpdSmall.nD Cert.UpdSmall.τ).loc Cert.UpdSmall.main_arg11) = m ((c.tc : Thread Cert.UpdSmall.nD Cert.UpdSmall.τ).loc Cert.UpdSmall.main_arg11)
      ∧ r.2.mem ((c.tc : Thread Cert.UpdSmall.nD Cert.UpdSmall.τ).loc Cert.UpdSmall.main_arg12) = m ((c.tc : Thread Cert.UpdSmall.nD Cert.UpdSmall.τ).loc Cert.UpdSmall.main_arg12)
      ∧ r.2.mem ((c.tc : Thread Cert.UpdSmall.nD Cert.UpdSmall.τ).loc Cert.UpdSmall.main_arg13) = m ((c.tc : Thread Cert.UpdSmall.nD Cert.UpdSmall.τ).loc Cert.UpdSmall.main_arg13)
      ∧ r.2.mem ((c.tc : Thread Cert.UpdSmall.nD Cert.UpdSmall.τ).loc Cert.UpdSmall.main_arg14) = m ((c.tc : Thread Cert.UpdSmall.nD Cert.UpdSmall.τ).loc Cert.UpdSmall.main_arg14)
      ∧ r.2.mem ((c.tc : Thread Cert.UpdSmall.nD Cert.UpdSmall.τ).loc Cert.UpdSmall.main_arg15) = m ((c.tc : Thread Cert.UpdSmall.nD Cert.UpdSmall.τ).loc Cert.UpdSmall.main_arg15)
      ∧ r.2.mem ((c.tc : Thread Cert.UpdSmall.nD Cert.UpdSmall.τ).loc Cert.UpdSmall.main_arg16) = m ((c.tc : Thread Cert.UpdSmall.nD Cert.UpdSmall.τ).loc Cert.UpdSmall.main_arg16)
      ∧ r.2.mem ((c.tc : Thread Cert.UpdSmall.nD Cert.UpdSmall.τ).loc Cert.UpdSmall.main_arg17) = m ((c.tc : Thread Cert.UpdSmall.nD Cert.UpdSmall.τ).loc Cert.UpdSmall.main_arg17)
      ∧ r.2.mem ((c.tc : Thread Cert.UpdSmall.nD Cert.UpdSmall.τ).loc Cert.UpdSmall.main_arg18) = m ((c.tc : Thread Cert.UpdSmall.nD Cert.UpdSmall.τ).loc Cert.UpdSmall.main_arg18)
      ∧ r.2.mem ((c.tc : Thread Cert.UpdSmall.nD Cert.UpdSmall.τ).loc Cert.UpdSmall.main_arg19) = m ((c.tc : Thread Cert.UpdSmall.nD Cert.UpdSmall.τ).loc Cert.UpdSmall.main_arg19)
      ∧ r.2.mem ((c.tc : Thread Cert.UpdSmall.nD Cert.UpdSmall.τ).loc Cert.UpdSmall.main_arg20) = m ((c.tc : Thread Cert.UpdSmall.nD Cert.UpdSmall.τ).loc Cert.UpdSmall.main_arg20)
      ∧ r.2.mem ((c.tc : Thread Cert.UpdSmall.nD Cert.UpdSmall.τ).loc Cert.UpdSmall.main_arg21) = m ((c.tc : Thread Cert.UpdSmall.nD Cert.UpdSmall.τ).loc Cert.UpdSmall.main_arg21)
      ∧ r.2.mem ((c.tc : Thread Cert.UpdSmall.nD Cert.UpdSmall.τ).loc Cert.UpdSmall.main_arg22) = m ((c.tc : Thread Cert.UpdSmall.nD Cert.UpdSmall.τ).loc Cert.UpdSmall.main_arg22)
      ∧ r.2.mem ((c.tc : Thread Cert.UpdSmall.nD Cert.UpdSmall.τ).loc Cert.UpdSmall.main_arg23) = m ((c.tc : Thread Cert.UpdSmall.nD Cert.UpdSmall.τ).loc Cert.UpdSmall.main_arg23)
      ∧ r.2.mem ((c.tc : Thread Cert.UpdSmall.nD Cert.UpdSmall.τ).loc Cert.UpdSmall.main_arg24) = m ((c.tc : Thread Cert.UpdSmall.nD Cert.UpdSmall.τ).loc Cert.UpdSmall.main_arg24)
      ∧ r.2.mem ((c.tc : Thread Cert.UpdSmall.nD Cert.UpdSmall.τ).loc Cert.UpdSmall.main_arg25) = m ((c.tc : Thread Cert.UpdSmall.nD Cert.UpdSmall.τ).loc Cert.UpdSmall.main_arg25)
      ∧ r.2.mem ((c.tc : Thread Cert.UpdSmall.nD Cert.UpdSmall.τ).loc Cert.UpdSmall.main_arg26) = m ((c.tc : Thread Cert.UpdSmall.nD Cert.UpdSmall.τ).loc Cert.UpdSmall.main_arg26)
      ∧ r.2.mem ((c.tc : Thread Cert.UpdSmall.nD Cert.UpdSmall.τ).loc Cert.UpdSmall.main_arg27) = m ((c.tc : Thread Cert.UpdSmall.nD Cert.UpdSmall.τ).loc Cert.UpdSmall.main_arg27)
      ∧ r.2.mem ((c.tc : Thread Cert.UpdSmall.nD Cert.UpdSmall.τ).loc Cert.UpdSmall.main_arg28) = m ((c.tc : Thread Cert.UpdSmall.nD Cert.UpdSmall.τ).loc Cert.UpdSmall.main_arg28)
      ∧ r.2.mem ((c.tc : Thread Cert.UpdSmall.nD Cert.UpdSmall.τ).loc Cert.UpdSmall.main_arg29) = m ((c.tc : Thread Cert.UpdSmall.nD Cert.UpdSmall.τ).loc Cert.UpdSmall.main_arg29)
      ∧ r.2.mem ((c.tc : Thread Cert.UpdSmall.nD Cert.UpdSmall.τ).loc Cert.UpdSmall.main_arg30) = m ((c.tc : Thread Cert.UpdSmall.nD Cert.UpdSmall.τ).loc Cert.UpdSmall.main_arg30)
      ∧ r.2.mem ((c.tc : Thread Cert.UpdSmall.nD Cert.UpdSmall.τ).loc Cert.UpdSmall.main_arg31) = m ((c.tc : Thread Cert.UpdSmall.nD Cert.UpdSmall.τ).loc Cert.UpdSmall.main_arg31)
      ∧ r.2.mem ((c.tc : Thread Cert.UpdSmall.nD Cert.UpdSmall.τ).loc Cert.UpdSmall.main_arg32) = m ((c.tc : Thread Cert.UpdSmall.nD Cert.UpdSmall.τ).loc Cert.UpdSmall.main_arg32)
      ∧ r.2.mem ((c.tc : Thread Cert.UpdSmall.nD Cert.UpdSmall.τ).loc Cert.UpdSmall.main_arg33) = m ((c.tc : Thread Cert.UpdSmall.nD Cert.UpdSmall.τ).loc Cert.UpdSmall.main_arg33)
      ∧ r.2.mem ((c.tc : Thread Cert.UpdSmall.nD Cert.UpdSmall.τ).loc Cert.UpdSmall.main_arg34) = m ((c.tc : Thread Cert.UpdSmall.nD Cert.UpdSmall.τ).loc Cert.UpdSmall.main_arg34)
      ∧ r.2.mem ((c.tc : Thread Cert.UpdSmall.nD Cert.UpdSmall.τ).loc Cert.UpdSmall.main_arg35) = m ((c.tc : Thread Cert.UpdSmall.nD Cert.UpdSmall.τ).loc Cert.UpdSmall.main_arg35))
      ∧ r.2.sem = fun _ => 0)

def quiescent_UpdSmallIdeal [hUpdSmallIdeal : Cert.UpdSmallIdeal.Facts] : Prop :=
  ∀ (m : (ℓ : Loc Cert.UpdSmallIdeal.nD Cert.UpdSmallIdeal.τ Cert.UpdSmallIdeal.sig) → Buf (Elt Ideal) ℓ) (g : Dev Cert.UpdSmallIdeal.nD → PrngReg), Pre_UpdSmallIdeal m →
    θ_run (Cert.UpdSmallIdeal.defs (F := Ideal)) (onTc (τ := Cert.UpdSmallIdeal.τ) (Cert.UpdSmallIdeal.main (F := Ideal))) ⟨m, fun _ => 0, g⟩ (fun r => (∀ c : Dev Cert.UpdSmallIdeal.nD,
      r.2.mem ((c.tc : Thread Cert.UpdSmallIdeal.nD Cert.UpdSmallIdeal.τ).loc Cert.UpdSmallIdeal.main_arg0) = m ((c.tc : Thread Cert.UpdSmallIdeal.nD Cert.UpdSmallIdeal.τ).loc Cert.UpdSmallIdeal.main_arg0)
      ∧ r.2.mem ((c.tc : Thread Cert.UpdSmallIdeal.nD Cert.UpdSmallIdeal.τ).loc Cert.UpdSmallIdeal.main_arg1) = m ((c.tc : Thread Cert.UpdSmallIdeal.nD Cert.UpdSmallIdeal.τ).loc Cert.UpdSmallIdeal.main_arg1)
      ∧ r.2.mem ((c.tc : Thread Cert.UpdSmallIdeal.nD Cert.UpdSmallIdeal.τ).loc Cert.UpdSmallIdeal.main_arg2) = m ((c.tc : Thread Cert.UpdSmallIdeal.nD Cert.UpdSmallIdeal.τ).loc Cert.UpdSmallIdeal.main_arg2)
      ∧ r.2.mem ((c.tc : Thread Cert.UpdSmallIdeal.nD Cert.UpdSmallIdeal.τ).loc Cert.UpdSmallIdeal.main_arg3) = m ((c.tc : Thread Cert.UpdSmallIdeal.nD Cert.UpdSmallIdeal.τ).loc Cert.UpdSmallIdeal.main_arg3)
      ∧ r.2.mem ((c.tc : Thread Cert.UpdSmallIdeal.nD Cert.UpdSmallIdeal.τ).loc Cert.UpdSmallIdeal.main_arg4) = m ((c.tc : Thread Cert.UpdSmallIdeal.nD Cert.UpdSmallIdeal.τ).loc Cert.UpdSmallIdeal.main_arg4)
      ∧ r.2.mem ((c.tc : Thread Cert.UpdSmallIdeal.nD Cert.UpdSmallIdeal.τ).loc Cert.UpdSmallIdeal.main_arg5) = m ((c.tc : Thread Cert.UpdSmallIdeal.nD Cert.UpdSmallIdeal.τ).loc Cert.UpdSmallIdeal.main_arg5)
      ∧ r.2.mem ((c.tc : Thread Cert.UpdSmallIdeal.nD Cert.UpdSmallIdeal.τ).loc Cert.UpdSmallIdeal.main_arg6) = m ((c.tc : Thread Cert.UpdSmallIdeal.nD Cert.UpdSmallIdeal.τ).loc Cert.UpdSmallIdeal.main_arg6)
      ∧ r.2.mem ((c.tc : Thread Cert.UpdSmallIdeal.nD Cert.UpdSmallIdeal.τ).loc Cert.UpdSmallIdeal.main_arg7) = m ((c.tc : Thread Cert.UpdSmallIdeal.nD Cert.UpdSmallIdeal.τ).loc Cert.UpdSmallIdeal.main_arg7)
      ∧ r.2.mem ((c.tc : Thread Cert.UpdSmallIdeal.nD Cert.UpdSmallIdeal.τ).loc Cert.UpdSmallIdeal.main_arg8) = m ((c.tc : Thread Cert.UpdSmallIdeal.nD Cert.UpdSmallIdeal.τ).loc Cert.UpdSmallIdeal.main_arg8)
      ∧ r.2.mem ((c.tc : Thread Cert.UpdSmallIdeal.nD Cert.UpdSmallIdeal.τ).loc Cert.UpdSmallIdeal.main_arg9) = m ((c.tc : Thread Cert.UpdSmallIdeal.nD Cert.UpdSmallIdeal.τ).loc Cert.UpdSmallIdeal.main_arg9)
      ∧ r.2.mem ((c.tc : Thread Cert.UpdSmallIdeal.nD Cert.UpdSmallIdeal.τ).loc Cert.UpdSmallIdeal.main_arg10) = m ((c.tc : Thread Cert.UpdSmallIdeal.nD Cert.UpdSmallIdeal.τ).loc Cert.UpdSmallIdeal.main_arg10)
      ∧ r.2.mem ((c.tc : Thread Cert.UpdSmallIdeal.nD Cert.UpdSmallIdeal.τ).loc Cert.UpdSmallIdeal.main_arg11) = m ((c.tc : Thread Cert.UpdSmallIdeal.nD Cert.UpdSmallIdeal.τ).loc Cert.UpdSmallIdeal.main_arg11)
      ∧ r.2.mem ((c.tc : Thread Cert.UpdSmallIdeal.nD Cert.UpdSmallIdeal.τ).loc Cert.UpdSmallIdeal.main_arg12) = m ((c.tc : Thread Cert.UpdSmallIdeal.nD Cert.UpdSmallIdeal.τ).loc Cert.UpdSmallIdeal.main_arg12)
      ∧ r.2.mem ((c.tc : Thread Cert.UpdSmallIdeal.nD Cert.UpdSmallIdeal.τ).loc Cert.UpdSmallIdeal.main_arg13) = m ((c.tc : Thread Cert.UpdSmallIdeal.nD Cert.UpdSmallIdeal.τ).loc Cert.UpdSmallIdeal.main_arg13)
      ∧ r.2.mem ((c.tc : Thread Cert.UpdSmallIdeal.nD Cert.UpdSmallIdeal.τ).loc Cert.UpdSmallIdeal.main_arg14) = m ((c.tc : Thread Cert.UpdSmallIdeal.nD Cert.UpdSmallIdeal.τ).loc Cert.UpdSmallIdeal.main_arg14)
      ∧ r.2.mem ((c.tc : Thread Cert.UpdSmallIdeal.nD Cert.UpdSmallIdeal.τ).loc Cert.UpdSmallIdeal.main_arg15) = m ((c.tc : Thread Cert.UpdSmallIdeal.nD Cert.UpdSmallIdeal.τ).loc Cert.UpdSmallIdeal.main_arg15)
      ∧ r.2.mem ((c.tc : Thread Cert.UpdSmallIdeal.nD Cert.UpdSmallIdeal.τ).loc Cert.UpdSmallIdeal.main_arg16) = m ((c.tc : Thread Cert.UpdSmallIdeal.nD Cert.UpdSmallIdeal.τ).loc Cert.UpdSmallIdeal.main_arg16)
      ∧ r.2.mem ((c.tc : Thread Cert.UpdSmallIdeal.nD Cert.UpdSmallIdeal.τ).loc Cert.UpdSmallIdeal.main_arg17) = m ((c.tc : Thread Cert.UpdSmallIdeal.nD Cert.UpdSmallIdeal.τ).loc Cert.UpdSmallIdeal.main_arg17)
      ∧ r.2.mem ((c.tc : Thread Cert.UpdSmallIdeal.nD Cert.UpdSmallIdeal.τ).loc Cert.UpdSmallIdeal.main_arg18) = m ((c.tc : Thread Cert.UpdSmallIdeal.nD Cert.UpdSmallIdeal.τ).loc Cert.UpdSmallIdeal.main_arg18)
      ∧ r.2.mem ((c.tc : Thread Cert.UpdSmallIdeal.nD Cert.UpdSmallIdeal.τ).loc Cert.UpdSmallIdeal.main_arg19) = m ((c.tc : Thread Cert.UpdSmallIdeal.nD Cert.UpdSmallIdeal.τ).loc Cert.UpdSmallIdeal.main_arg19)
      ∧ r.2.mem ((c.tc : Thread Cert.UpdSmallIdeal.nD Cert.UpdSmallIdeal.τ).loc Cert.UpdSmallIdeal.main_arg20) = m ((c.tc : Thread Cert.UpdSmallIdeal.nD Cert.UpdSmallIdeal.τ).loc Cert.UpdSmallIdeal.main_arg20)
      ∧ r.2.mem ((c.tc : Thread Cert.UpdSmallIdeal.nD Cert.UpdSmallIdeal.τ).loc Cert.UpdSmallIdeal.main_arg21) = m ((c.tc : Thread Cert.UpdSmallIdeal.nD Cert.UpdSmallIdeal.τ).loc Cert.UpdSmallIdeal.main_arg21)
      ∧ r.2.mem ((c.tc : Thread Cert.UpdSmallIdeal.nD Cert.UpdSmallIdeal.τ).loc Cert.UpdSmallIdeal.main_arg22) = m ((c.tc : Thread Cert.UpdSmallIdeal.nD Cert.UpdSmallIdeal.τ).loc Cert.UpdSmallIdeal.main_arg22)
      ∧ r.2.mem ((c.tc : Thread Cert.UpdSmallIdeal.nD Cert.UpdSmallIdeal.τ).loc Cert.UpdSmallIdeal.main_arg23) = m ((c.tc : Thread Cert.UpdSmallIdeal.nD Cert.UpdSmallIdeal.τ).loc Cert.UpdSmallIdeal.main_arg23)
      ∧ r.2.mem ((c.tc : Thread Cert.UpdSmallIdeal.nD Cert.UpdSmallIdeal.τ).loc Cert.UpdSmallIdeal.main_arg24) = m ((c.tc : Thread Cert.UpdSmallIdeal.nD Cert.UpdSmallIdeal.τ).loc Cert.UpdSmallIdeal.main_arg24)
      ∧ r.2.mem ((c.tc : Thread Cert.UpdSmallIdeal.nD Cert.UpdSmallIdeal.τ).loc Cert.UpdSmallIdeal.main_arg25) = m ((c.tc : Thread Cert.UpdSmallIdeal.nD Cert.UpdSmallIdeal.τ).loc Cert.UpdSmallIdeal.main_arg25)
      ∧ r.2.mem ((c.tc : Thread Cert.UpdSmallIdeal.nD Cert.UpdSmallIdeal.τ).loc Cert.UpdSmallIdeal.main_arg26) = m ((c.tc : Thread Cert.UpdSmallIdeal.nD Cert.UpdSmallIdeal.τ).loc Cert.UpdSmallIdeal.main_arg26)
      ∧ r.2.mem ((c.tc : Thread Cert.UpdSmallIdeal.nD Cert.UpdSmallIdeal.τ).loc Cert.UpdSmallIdeal.main_arg27) = m ((c.tc : Thread Cert.UpdSmallIdeal.nD Cert.UpdSmallIdeal.τ).loc Cert.UpdSmallIdeal.main_arg27)
      ∧ r.2.mem ((c.tc : Thread Cert.UpdSmallIdeal.nD Cert.UpdSmallIdeal.τ).loc Cert.UpdSmallIdeal.main_arg28) = m ((c.tc : Thread Cert.UpdSmallIdeal.nD Cert.UpdSmallIdeal.τ).loc Cert.UpdSmallIdeal.main_arg28)
      ∧ r.2.mem ((c.tc : Thread Cert.UpdSmallIdeal.nD Cert.UpdSmallIdeal.τ).loc Cert.UpdSmallIdeal.main_arg29) = m ((c.tc : Thread Cert.UpdSmallIdeal.nD Cert.UpdSmallIdeal.τ).loc Cert.UpdSmallIdeal.main_arg29)
      ∧ r.2.mem ((c.tc : Thread Cert.UpdSmallIdeal.nD Cert.UpdSmallIdeal.τ).loc Cert.UpdSmallIdeal.main_arg30) = m ((c.tc : Thread Cert.UpdSmallIdeal.nD Cert.UpdSmallIdeal.τ).loc Cert.UpdSmallIdeal.main_arg30)
      ∧ r.2.mem ((c.tc : Thread Cert.UpdSmallIdeal.nD Cert.UpdSmallIdeal.τ).loc Cert.UpdSmallIdeal.main_arg31) = m ((c.tc : Thread Cert.UpdSmallIdeal.nD Cert.UpdSmallIdeal.τ).loc Cert.UpdSmallIdeal.main_arg31)
      ∧ r.2.mem ((c.tc : Thread Cert.UpdSmallIdeal.nD Cert.UpdSmallIdeal.τ).loc Cert.UpdSmallIdeal.main_arg32) = m ((c.tc : Thread Cert.UpdSmallIdeal.nD Cert.UpdSmallIdeal.τ).loc Cert.UpdSmallIdeal.main_arg32)
      ∧ r.2.mem ((c.tc : Thread Cert.UpdSmallIdeal.nD Cert.UpdSmallIdeal.τ).loc Cert.UpdSmallIdeal.main_arg33) = m ((c.tc : Thread Cert.UpdSmallIdeal.nD Cert.UpdSmallIdeal.τ).loc Cert.UpdSmallIdeal.main_arg33)
      ∧ r.2.mem ((c.tc : Thread Cert.UpdSmallIdeal.nD Cert.UpdSmallIdeal.τ).loc Cert.UpdSmallIdeal.main_arg34) = m ((c.tc : Thread Cert.UpdSmallIdeal.nD Cert.UpdSmallIdeal.τ).loc Cert.UpdSmallIdeal.main_arg34)
      ∧ r.2.mem ((c.tc : Thread Cert.UpdSmallIdeal.nD Cert.UpdSmallIdeal.τ).loc Cert.UpdSmallIdeal.main_arg35) = m ((c.tc : Thread Cert.UpdSmallIdeal.nD Cert.UpdSmallIdeal.τ).loc Cert.UpdSmallIdeal.main_arg35))
      ∧ r.2.sem = fun _ => 0)

def quiescent_UpdSmallRefIdeal [hUpdSmallRefIdeal : Cert.UpdSmallRefIdeal.Facts] : Prop :=
  ∀ (m : (ℓ : Loc Cert.UpdSmallRefIdeal.nD Cert.UpdSmallRefIdeal.τ Cert.UpdSmallRefIdeal.sig) → Buf (Elt Ideal) ℓ) (g : Dev Cert.UpdSmallRefIdeal.nD → PrngReg), Pre_UpdSmallRefIdeal m →
    θ_run (Cert.UpdSmallRefIdeal.defs (F := Ideal)) (onTc (τ := Cert.UpdSmallRefIdeal.τ) (Cert.UpdSmallRefIdeal.main (F := Ideal))) ⟨m, fun _ => 0, g⟩ (fun r => (∀ c : Dev Cert.UpdSmallRefIdeal.nD,
      r.2.mem ((c.tc : Thread Cert.UpdSmallRefIdeal.nD Cert.UpdSmallRefIdeal.τ).loc Cert.UpdSmallRefIdeal.main_arg0) = m ((c.tc : Thread Cert.UpdSmallRefIdeal.nD Cert.UpdSmallRefIdeal.τ).loc Cert.UpdSmallRefIdeal.main_arg0)
      ∧ r.2.mem ((c.tc : Thread Cert.UpdSmallRefIdeal.nD Cert.UpdSmallRefIdeal.τ).loc Cert.UpdSmallRefIdeal.main_arg1) = m ((c.tc : Thread Cert.UpdSmallRefIdeal.nD Cert.UpdSmallRefIdeal.τ).loc Cert.UpdSmallRefIdeal.main_arg1)
      ∧ r.2.mem ((c.tc : Thread Cert.UpdSmallRefIdeal.nD Cert.UpdSmallRefIdeal.τ).loc Cert.UpdSmallRefIdeal.main_arg2) = m ((c.tc : Thread Cert.UpdSmallRefIdeal.nD Cert.UpdSmallRefIdeal.τ).loc Cert.UpdSmallRefIdeal.main_arg2)
      ∧ r.2.mem ((c.tc : Thread Cert.UpdSmallRefIdeal.nD Cert.UpdSmallRefIdeal.τ).loc Cert.UpdSmallRefIdeal.main_arg3) = m ((c.tc : Thread Cert.UpdSmallRefIdeal.nD Cert.UpdSmallRefIdeal.τ).loc Cert.UpdSmallRefIdeal.main_arg3)
      ∧ r.2.mem ((c.tc : Thread Cert.UpdSmallRefIdeal.nD Cert.UpdSmallRefIdeal.τ).loc Cert.UpdSmallRefIdeal.main_arg4) = m ((c.tc : Thread Cert.UpdSmallRefIdeal.nD Cert.UpdSmallRefIdeal.τ).loc Cert.UpdSmallRefIdeal.main_arg4)
      ∧ r.2.mem ((c.tc : Thread Cert.UpdSmallRefIdeal.nD Cert.UpdSmallRefIdeal.τ).loc Cert.UpdSmallRefIdeal.main_arg5) = m ((c.tc : Thread Cert.UpdSmallRefIdeal.nD Cert.UpdSmallRefIdeal.τ).loc Cert.UpdSmallRefIdeal.main_arg5)
      ∧ r.2.mem ((c.tc : Thread Cert.UpdSmallRefIdeal.nD Cert.UpdSmallRefIdeal.τ).loc Cert.UpdSmallRefIdeal.main_arg6) = m ((c.tc : Thread Cert.UpdSmallRefIdeal.nD Cert.UpdSmallRefIdeal.τ).loc Cert.UpdSmallRefIdeal.main_arg6)
      ∧ r.2.mem ((c.tc : Thread Cert.UpdSmallRefIdeal.nD Cert.UpdSmallRefIdeal.τ).loc Cert.UpdSmallRefIdeal.main_arg7) = m ((c.tc : Thread Cert.UpdSmallRefIdeal.nD Cert.UpdSmallRefIdeal.τ).loc Cert.UpdSmallRefIdeal.main_arg7)
      ∧ r.2.mem ((c.tc : Thread Cert.UpdSmallRefIdeal.nD Cert.UpdSmallRefIdeal.τ).loc Cert.UpdSmallRefIdeal.main_arg8) = m ((c.tc : Thread Cert.UpdSmallRefIdeal.nD Cert.UpdSmallRefIdeal.τ).loc Cert.UpdSmallRefIdeal.main_arg8)
      ∧ r.2.mem ((c.tc : Thread Cert.UpdSmallRefIdeal.nD Cert.UpdSmallRefIdeal.τ).loc Cert.UpdSmallRefIdeal.main_arg9) = m ((c.tc : Thread Cert.UpdSmallRefIdeal.nD Cert.UpdSmallRefIdeal.τ).loc Cert.UpdSmallRefIdeal.main_arg9)
      ∧ r.2.mem ((c.tc : Thread Cert.UpdSmallRefIdeal.nD Cert.UpdSmallRefIdeal.τ).loc Cert.UpdSmallRefIdeal.main_arg10) = m ((c.tc : Thread Cert.UpdSmallRefIdeal.nD Cert.UpdSmallRefIdeal.τ).loc Cert.UpdSmallRefIdeal.main_arg10)
      ∧ r.2.mem ((c.tc : Thread Cert.UpdSmallRefIdeal.nD Cert.UpdSmallRefIdeal.τ).loc Cert.UpdSmallRefIdeal.main_arg11) = m ((c.tc : Thread Cert.UpdSmallRefIdeal.nD Cert.UpdSmallRefIdeal.τ).loc Cert.UpdSmallRefIdeal.main_arg11)
      ∧ r.2.mem ((c.tc : Thread Cert.UpdSmallRefIdeal.nD Cert.UpdSmallRefIdeal.τ).loc Cert.UpdSmallRefIdeal.main_arg12) = m ((c.tc : Thread Cert.UpdSmallRefIdeal.nD Cert.UpdSmallRefIdeal.τ).loc Cert.UpdSmallRefIdeal.main_arg12)
      ∧ r.2.mem ((c.tc : Thread Cert.UpdSmallRefIdeal.nD Cert.UpdSmallRefIdeal.τ).loc Cert.UpdSmallRefIdeal.main_arg13) = m ((c.tc : Thread Cert.UpdSmallRefIdeal.nD Cert.UpdSmallRefIdeal.τ).loc Cert.UpdSmallRefIdeal.main_arg13)
      ∧ r.2.mem ((c.tc : Thread Cert.UpdSmallRefIdeal.nD Cert.UpdSmallRefIdeal.τ).loc Cert.UpdSmallRefIdeal.main_arg14) = m ((c.tc : Thread Cert.UpdSmallRefIdeal.nD Cert.UpdSmallRefIdeal.τ).loc Cert.UpdSmallRefIdeal.main_arg14)
      ∧ r.2.mem ((c.tc : Thread Cert.UpdSmallRefIdeal.nD Cert.UpdSmallRefIdeal.τ).loc Cert.UpdSmallRefIdeal.main_arg15) = m ((c.tc : Thread Cert.UpdSmallRefIdeal.nD Cert.UpdSmallRefIdeal.τ).loc Cert.UpdSmallRefIdeal.main_arg15)
      ∧ r.2.mem ((c.tc : Thread Cert.UpdSmallRefIdeal.nD Cert.UpdSmallRefIdeal.τ).loc Cert.UpdSmallRefIdeal.main_arg16) = m ((c.tc : Thread Cert.UpdSmallRefIdeal.nD Cert.UpdSmallRefIdeal.τ).loc Cert.UpdSmallRefIdeal.main_arg16)
      ∧ r.2.mem ((c.tc : Thread Cert.UpdSmallRefIdeal.nD Cert.UpdSmallRefIdeal.τ).loc Cert.UpdSmallRefIdeal.main_arg17) = m ((c.tc : Thread Cert.UpdSmallRefIdeal.nD Cert.UpdSmallRefIdeal.τ).loc Cert.UpdSmallRefIdeal.main_arg17)
      ∧ r.2.mem ((c.tc : Thread Cert.UpdSmallRefIdeal.nD Cert.UpdSmallRefIdeal.τ).loc Cert.UpdSmallRefIdeal.main_arg18) = m ((c.tc : Thread Cert.UpdSmallRefIdeal.nD Cert.UpdSmallRefIdeal.τ).loc Cert.UpdSmallRefIdeal.main_arg18)
      ∧ r.2.mem ((c.tc : Thread Cert.UpdSmallRefIdeal.nD Cert.UpdSmallRefIdeal.τ).loc Cert.UpdSmallRefIdeal.main_arg19) = m ((c.tc : Thread Cert.UpdSmallRefIdeal.nD Cert.UpdSmallRefIdeal.τ).loc Cert.UpdSmallRefIdeal.main_arg19)
      ∧ r.2.mem ((c.tc : Thread Cert.UpdSmallRefIdeal.nD Cert.UpdSmallRefIdeal.τ).loc Cert.UpdSmallRefIdeal.main_arg20) = m ((c.tc : Thread Cert.UpdSmallRefIdeal.nD Cert.UpdSmallRefIdeal.τ).loc Cert.UpdSmallRefIdeal.main_arg20)
      ∧ r.2.mem ((c.tc : Thread Cert.UpdSmallRefIdeal.nD Cert.UpdSmallRefIdeal.τ).loc Cert.UpdSmallRefIdeal.main_arg21) = m ((c.tc : Thread Cert.UpdSmallRefIdeal.nD Cert.UpdSmallRefIdeal.τ).loc Cert.UpdSmallRefIdeal.main_arg21)
      ∧ r.2.mem ((c.tc : Thread Cert.UpdSmallRefIdeal.nD Cert.UpdSmallRefIdeal.τ).loc Cert.UpdSmallRefIdeal.main_arg22) = m ((c.tc : Thread Cert.UpdSmallRefIdeal.nD Cert.UpdSmallRefIdeal.τ).loc Cert.UpdSmallRefIdeal.main_arg22)
      ∧ r.2.mem ((c.tc : Thread Cert.UpdSmallRefIdeal.nD Cert.UpdSmallRefIdeal.τ).loc Cert.UpdSmallRefIdeal.main_arg23) = m ((c.tc : Thread Cert.UpdSmallRefIdeal.nD Cert.UpdSmallRefIdeal.τ).loc Cert.UpdSmallRefIdeal.main_arg23)
      ∧ r.2.mem ((c.tc : Thread Cert.UpdSmallRefIdeal.nD Cert.UpdSmallRefIdeal.τ).loc Cert.UpdSmallRefIdeal.main_arg24) = m ((c.tc : Thread Cert.UpdSmallRefIdeal.nD Cert.UpdSmallRefIdeal.τ).loc Cert.UpdSmallRefIdeal.main_arg24)
      ∧ r.2.mem ((c.tc : Thread Cert.UpdSmallRefIdeal.nD Cert.UpdSmallRefIdeal.τ).loc Cert.UpdSmallRefIdeal.main_arg25) = m ((c.tc : Thread Cert.UpdSmallRefIdeal.nD Cert.UpdSmallRefIdeal.τ).loc Cert.UpdSmallRefIdeal.main_arg25)
      ∧ r.2.mem ((c.tc : Thread Cert.UpdSmallRefIdeal.nD Cert.UpdSmallRefIdeal.τ).loc Cert.UpdSmallRefIdeal.main_arg26) = m ((c.tc : Thread Cert.UpdSmallRefIdeal.nD Cert.UpdSmallRefIdeal.τ).loc Cert.UpdSmallRefIdeal.main_arg26)
      ∧ r.2.mem ((c.tc : Thread Cert.UpdSmallRefIdeal.nD Cert.UpdSmallRefIdeal.τ).loc Cert.UpdSmallRefIdeal.main_arg27) = m ((c.tc : Thread Cert.UpdSmallRefIdeal.nD Cert.UpdSmallRefIdeal.τ).loc Cert.UpdSmallRefIdeal.main_arg27)
      ∧ r.2.mem ((c.tc : Thread Cert.UpdSmallRefIdeal.nD Cert.UpdSmallRefIdeal.τ).loc Cert.UpdSmallRefIdeal.main_arg28) = m ((c.tc : Thread Cert.UpdSmallRefIdeal.nD Cert.UpdSmallRefIdeal.τ).loc Cert.UpdSmallRefIdeal.main_arg28)
      ∧ r.2.mem ((c.tc : Thread Cert.UpdSmallRefIdeal.nD Cert.UpdSmallRefIdeal.τ).loc Cert.UpdSmallRefIdeal.main_arg29) = m ((c.tc : Thread Cert.UpdSmallRefIdeal.nD Cert.UpdSmallRefIdeal.τ).loc Cert.UpdSmallRefIdeal.main_arg29)
      ∧ r.2.mem ((c.tc : Thread Cert.UpdSmallRefIdeal.nD Cert.UpdSmallRefIdeal.τ).loc Cert.UpdSmallRefIdeal.main_arg30) = m ((c.tc : Thread Cert.UpdSmallRefIdeal.nD Cert.UpdSmallRefIdeal.τ).loc Cert.UpdSmallRefIdeal.main_arg30)
      ∧ r.2.mem ((c.tc : Thread Cert.UpdSmallRefIdeal.nD Cert.UpdSmallRefIdeal.τ).loc Cert.UpdSmallRefIdeal.main_arg31) = m ((c.tc : Thread Cert.UpdSmallRefIdeal.nD Cert.UpdSmallRefIdeal.τ).loc Cert.UpdSmallRefIdeal.main_arg31)
      ∧ r.2.mem ((c.tc : Thread Cert.UpdSmallRefIdeal.nD Cert.UpdSmallRefIdeal.τ).loc Cert.UpdSmallRefIdeal.main_arg32) = m ((c.tc : Thread Cert.UpdSmallRefIdeal.nD Cert.UpdSmallRefIdeal.τ).loc Cert.UpdSmallRefIdeal.main_arg32)
      ∧ r.2.mem ((c.tc : Thread Cert.UpdSmallRefIdeal.nD Cert.UpdSmallRefIdeal.τ).loc Cert.UpdSmallRefIdeal.main_arg33) = m ((c.tc : Thread Cert.UpdSmallRefIdeal.nD Cert.UpdSmallRefIdeal.τ).loc Cert.UpdSmallRefIdeal.main_arg33)
      ∧ r.2.mem ((c.tc : Thread Cert.UpdSmallRefIdeal.nD Cert.UpdSmallRefIdeal.τ).loc Cert.UpdSmallRefIdeal.main_arg34) = m ((c.tc : Thread Cert.UpdSmallRefIdeal.nD Cert.UpdSmallRefIdeal.τ).loc Cert.UpdSmallRefIdeal.main_arg34)
      ∧ r.2.mem ((c.tc : Thread Cert.UpdSmallRefIdeal.nD Cert.UpdSmallRefIdeal.τ).loc Cert.UpdSmallRefIdeal.main_arg35) = m ((c.tc : Thread Cert.UpdSmallRefIdeal.nD Cert.UpdSmallRefIdeal.τ).loc Cert.UpdSmallRefIdeal.main_arg35))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ r.2.sem = fun _ => 0)

def quiescent_LnLossIdeal_pre_finite_error [hLnLossIdeal : Cert.LnLossIdeal.Facts] [hPre_finite_error : Cert.Pre_finite_error.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_finite_error m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3))
      ∧ r.2.sem = fun _ => 0)

def quiescent_LnLossRefIdeal_pre_finite_error [hLnLossRefIdeal : Cert.LnLossRefIdeal.Facts] [hPre_finite_error : Cert.Pre_finite_error.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_finite_error m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def preserves_ScBwd_ScBwdIdeal : Prop :=
  True

def algebraic_ScBwdIdeal_ScRefIdeal [hScBwdIdeal : Cert.ScBwdIdeal.Facts] [hScRefIdeal : Cert.ScRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScBwdIdeal m →
    (∀ c : Dev Cert.ScBwdIdeal.nD,
      m' ((c.tc : Thread Cert.ScRefIdeal.nD Cert.ScRefIdeal.τ).loc Cert.ScRefIdeal.main_arg0) = m ((c.tc : Thread Cert.ScBwdIdeal.nD Cert.ScBwdIdeal.τ).loc Cert.ScBwdIdeal.main_arg0)
      ∧ m' ((c.tc : Thread Cert.ScRefIdeal.nD Cert.ScRefIdeal.τ).loc Cert.ScRefIdeal.main_arg1) = m ((c.tc : Thread Cert.ScBwdIdeal.nD Cert.ScBwdIdeal.τ).loc Cert.ScBwdIdeal.main_arg1)
      ∧ m' ((c.tc : Thread Cert.ScRefIdeal.nD Cert.ScRefIdeal.τ).loc Cert.ScRefIdeal.main_arg2) = m ((c.tc : Thread Cert.ScBwdIdeal.nD Cert.ScBwdIdeal.τ).loc Cert.ScBwdIdeal.main_arg2)
      ∧ m' ((c.tc : Thread Cert.ScRefIdeal.nD Cert.ScRefIdeal.τ).loc Cert.ScRefIdeal.main_arg3) = m ((c.tc : Thread Cert.ScBwdIdeal.nD Cert.ScBwdIdeal.τ).loc Cert.ScBwdIdeal.main_arg3)) →
    ∃ (v0 : (c : Dev Cert.ScBwdIdeal.nD) → Buf (Elt Ideal) ((c.tc : Thread Cert.ScBwdIdeal.nD Cert.ScBwdIdeal.τ).loc Cert.ScBwdIdeal.main_v1_0)) (v1 : (c : Dev Cert.ScBwdIdeal.nD) → Buf (Elt Ideal) ((c.tc : Thread Cert.ScBwdIdeal.nD Cert.ScBwdIdeal.τ).loc Cert.ScBwdIdeal.main_v1_1)) (v2 : (c : Dev Cert.ScBwdIdeal.nD) → Buf (Elt Ideal) ((c.tc : Thread Cert.ScBwdIdeal.nD Cert.ScBwdIdeal.τ).loc Cert.ScBwdIdeal.main_v1_2)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v1_0) = v0 c
          ∧ r.2.mem ((c.tc : Thread Cert.ScBwdIdeal.nD Cert.ScBwdIdeal.τ).loc Cert.ScBwdIdeal.main_v1_1) = v1 c
          ∧ r.2.mem ((c.tc : Thread Cert.ScBwdIdeal.nD Cert.ScBwdIdeal.τ).loc Cert.ScBwdIdeal.main_v1_2) = v2 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
          ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v80) = v0 c
          ∧ r.2.mem ((c.tc : Thread Cert.ScRefIdeal.nD Cert.ScRefIdeal.τ).loc Cert.ScRefIdeal.main_v68) = v1 c
          ∧ r.2.mem ((c.tc : Thread Cert.ScRefIdeal.nD Cert.ScRefIdeal.τ).loc Cert.ScRefIdeal.main_v81) = v2 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2)
          ∧ r.2.mem ((c.tc : Thread Cert.ScRefIdeal.nD Cert.ScRefIdeal.τ).loc Cert.ScRefIdeal.main_arg3) = m' ((c.tc : Thread Cert.ScRefIdeal.nD Cert.ScRefIdeal.τ).loc Cert.ScRefIdeal.main_arg3))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v1)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v1) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v7) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v12) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_ScOutDw_ScOutDwIdeal : Prop :=
  True

def algebraic_ScOutDwIdeal_ScOutDwRefIdeal [hScOutDwIdeal : Cert.ScOutDwIdeal.Facts] [hScOutDwRefIdeal : Cert.ScOutDwRefIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg)
    (m' : (ℓ : Loc Cert.ScOutDwRefIdeal.nD Cert.ScOutDwRefIdeal.τ Cert.ScOutDwRefIdeal.sig) → Buf (Elt Ideal) ℓ) (g' : Dev Cert.ScOutDwRefIdeal.nD → PrngReg), Pre_ScOutDwIdeal m →
    (∀ c : Dev Cert.ScOutDwIdeal.nD,
      m' ((c.tc : Thread Cert.ScOutDwRefIdeal.nD Cert.ScOutDwRefIdeal.τ).loc Cert.ScOutDwRefIdeal.main_arg0) = m ((c.tc : Thread Cert.ScOutDwIdeal.nD Cert.ScOutDwIdeal.τ).loc Cert.ScOutDwIdeal.main_arg0)
      ∧ m' ((c.tc : Thread Cert.ScOutDwRefIdeal.nD Cert.ScOutDwRefIdeal.τ).loc Cert.ScOutDwRefIdeal.main_arg1) = m ((c.tc : Thread Cert.ScOutDwIdeal.nD Cert.ScOutDwIdeal.τ).loc Cert.ScOutDwIdeal.main_arg1)) →
    ∃ (v0 : (c : Dev Cert.ScOutDwIdeal.nD) → Buf (Elt Ideal) ((c.tc : Thread Cert.ScOutDwIdeal.nD Cert.ScOutDwIdeal.τ).loc Cert.ScOutDwIdeal.main_v1)),
      θ_run (Cert.ScOutDwIdeal.defs (F := Ideal)) (onTc (τ := Cert.ScOutDwIdeal.τ) (Cert.ScOutDwIdeal.main (F := Ideal))) ⟨m, fun _ => 0, g⟩ (fun r => ∀ c : Dev Cert.ScOutDwIdeal.nD,
          r.2.mem ((c.tc : Thread Cert.ScOutDwIdeal.nD Cert.ScOutDwIdeal.τ).loc Cert.ScOutDwIdeal.main_v1) = v0 c
          ∧ r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
          ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ θ_run (Cert.ScOutDwRefIdeal.defs (F := Ideal)) (onTc (τ := Cert.ScOutDwRefIdeal.τ) (Cert.ScOutDwRefIdeal.main (F := Ideal))) ⟨m', fun _ => 0, g'⟩ (fun r => ∀ c : Dev Cert.ScOutDwRefIdeal.nD,
          r.2.mem ((c.tc : Thread Cert.ScOutDwRefIdeal.nD Cert.ScOutDwRefIdeal.τ).loc Cert.ScOutDwRefIdeal.main_v7) = v0 c
          ∧ r.2.mem ((c.tc : Thread Cert.ScOutDwRefIdeal.nD Cert.ScOutDwRefIdeal.τ).loc Cert.ScOutDwRefIdeal.main_arg0) = m' ((c.tc : Thread Cert.ScOutDwRefIdeal.nD Cert.ScOutDwRefIdeal.τ).loc Cert.ScOutDwRefIdeal.main_arg0)
          ∧ r.2.mem ((c.tc : Thread Cert.ScOutDwRefIdeal.nD Cert.ScOutDwRefIdeal.τ).loc Cert.ScOutDwRefIdeal.main_arg1) = m' ((c.tc : Thread Cert.ScOutDwRefIdeal.nD Cert.ScOutDwRefIdeal.τ).loc Cert.ScOutDwRefIdeal.main_arg1))

def preserves_ScInDw_ScInDwIdeal : Prop :=
  True

def algebraic_ScInDwIdeal_ScInDwRefIdeal [hScInDwIdeal : Cert.ScInDwIdeal.Facts] [hScInDwRefIdeal : Cert.ScInDwRefIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg)
    (m' : (ℓ : Loc Cert.ScInDwRefIdeal.nD Cert.ScInDwRefIdeal.τ Cert.ScInDwRefIdeal.sig) → Buf (Elt Ideal) ℓ) (g' : Dev Cert.ScInDwRefIdeal.nD → PrngReg), Pre_ScInDwIdeal m →
    (∀ c : Dev Cert.ScInDwIdeal.nD,
      m' ((c.tc : Thread Cert.ScInDwRefIdeal.nD Cert.ScInDwRefIdeal.τ).loc Cert.ScInDwRefIdeal.main_arg0) = m ((c.tc : Thread Cert.ScInDwIdeal.nD Cert.ScInDwIdeal.τ).loc Cert.ScInDwIdeal.main_arg0)
      ∧ m' ((c.tc : Thread Cert.ScInDwRefIdeal.nD Cert.ScInDwRefIdeal.τ).loc Cert.ScInDwRefIdeal.main_arg1) = m ((c.tc : Thread Cert.ScInDwIdeal.nD Cert.ScInDwIdeal.τ).loc Cert.ScInDwIdeal.main_arg1)) →
    ∃ (v0 : (c : Dev Cert.ScInDwIdeal.nD) → Buf (Elt Ideal) ((c.tc : Thread Cert.ScInDwIdeal.nD Cert.ScInDwIdeal.τ).loc Cert.ScInDwIdeal.main_v0)),
      θ_run (Cert.ScInDwIdeal.defs (F := Ideal)) (onTc (τ := Cert.ScInDwIdeal.τ) (Cert.ScInDwIdeal.main (F := Ideal))) ⟨m, fun _ => 0, g⟩ (fun r => ∀ c : Dev Cert.ScInDwIdeal.nD,
          r.2.mem ((c.tc : Thread Cert.ScInDwIdeal.nD Cert.ScInDwIdeal.τ).loc Cert.ScInDwIdeal.main_v0) = v0 c
          ∧ r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
          ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ θ_run (Cert.ScInDwRefIdeal.defs (F := Ideal)) (onTc (τ := Cert.ScInDwRefIdeal.τ) (Cert.ScInDwRefIdeal.main (F := Ideal))) ⟨m', fun _ => 0, g'⟩ (fun r => ∀ c : Dev Cert.ScInDwRefIdeal.nD,
          r.2.mem ((c.tc : Thread Cert.ScInDwRefIdeal.nD Cert.ScInDwRefIdeal.τ).loc Cert.ScInDwRefIdeal.main_v14) = v0 c
          ∧ r.2.mem ((c.tc : Thread Cert.ScInDwRefIdeal.nD Cert.ScInDwRefIdeal.τ).loc Cert.ScInDwRefIdeal.main_arg0) = m' ((c.tc : Thread Cert.ScInDwRefIdeal.nD Cert.ScInDwRefIdeal.τ).loc Cert.ScInDwRefIdeal.main_arg0)
          ∧ r.2.mem ((c.tc : Thread Cert.ScInDwRefIdeal.nD Cert.ScInDwRefIdeal.τ).loc Cert.ScInDwRefIdeal.main_arg1) = m' ((c.tc : Thread Cert.ScInDwRefIdeal.nD Cert.ScInDwRefIdeal.τ).loc Cert.ScInDwRefIdeal.main_arg1))

def preserves_LruOutDw_LruOutDwIdeal : Prop :=
  True

def algebraic_LruOutDwIdeal_LruOutDwRefIdeal [hLruOutDwIdeal : Cert.LruOutDwIdeal.Facts] [hLruOutDwRefIdeal : Cert.LruOutDwRefIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg)
    (m' : (ℓ : Loc Cert.LruOutDwRefIdeal.nD Cert.LruOutDwRefIdeal.τ Cert.LruOutDwRefIdeal.sig) → Buf (Elt Ideal) ℓ) (g' : Dev Cert.LruOutDwRefIdeal.nD → PrngReg), Pre_LruOutDwIdeal m →
    (∀ c : Dev Cert.LruOutDwIdeal.nD,
      m' ((c.tc : Thread Cert.LruOutDwRefIdeal.nD Cert.LruOutDwRefIdeal.τ).loc Cert.LruOutDwRefIdeal.main_arg0) = m ((c.tc : Thread Cert.LruOutDwIdeal.nD Cert.LruOutDwIdeal.τ).loc Cert.LruOutDwIdeal.main_arg0)
      ∧ m' ((c.tc : Thread Cert.LruOutDwRefIdeal.nD Cert.LruOutDwRefIdeal.τ).loc Cert.LruOutDwRefIdeal.main_arg1) = m ((c.tc : Thread Cert.LruOutDwIdeal.nD Cert.LruOutDwIdeal.τ).loc Cert.LruOutDwIdeal.main_arg1)) →
    ∃ (v0 : (c : Dev Cert.LruOutDwIdeal.nD) → Buf (Elt Ideal) ((c.tc : Thread Cert.LruOutDwIdeal.nD Cert.LruOutDwIdeal.τ).loc Cert.LruOutDwIdeal.main_v1)),
      θ_run (Cert.LruOutDwIdeal.defs (F := Ideal)) (onTc (τ := Cert.LruOutDwIdeal.τ) (Cert.LruOutDwIdeal.main (F := Ideal))) ⟨m, fun _ => 0, g⟩ (fun r => ∀ c : Dev Cert.LruOutDwIdeal.nD,
          r.2.mem ((c.tc : Thread Cert.LruOutDwIdeal.nD Cert.LruOutDwIdeal.τ).loc Cert.LruOutDwIdeal.main_v1) = v0 c
          ∧ r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
          ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ θ_run (Cert.LruOutDwRefIdeal.defs (F := Ideal)) (onTc (τ := Cert.LruOutDwRefIdeal.τ) (Cert.LruOutDwRefIdeal.main (F := Ideal))) ⟨m', fun _ => 0, g'⟩ (fun r => ∀ c : Dev Cert.LruOutDwRefIdeal.nD,
          r.2.mem ((c.tc : Thread Cert.LruOutDwRefIdeal.nD Cert.LruOutDwRefIdeal.τ).loc Cert.LruOutDwRefIdeal.main_v7) = v0 c
          ∧ r.2.mem ((c.tc : Thread Cert.LruOutDwRefIdeal.nD Cert.LruOutDwRefIdeal.τ).loc Cert.LruOutDwRefIdeal.main_arg0) = m' ((c.tc : Thread Cert.LruOutDwRefIdeal.nD Cert.LruOutDwRefIdeal.τ).loc Cert.LruOutDwRefIdeal.main_arg0)
          ∧ r.2.mem ((c.tc : Thread Cert.LruOutDwRefIdeal.nD Cert.LruOutDwRefIdeal.τ).loc Cert.LruOutDwRefIdeal.main_arg1) = m' ((c.tc : Thread Cert.LruOutDwRefIdeal.nD Cert.LruOutDwRefIdeal.τ).loc Cert.LruOutDwRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v12) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)) →
    ∃ (v0 : (c : Dev Cert.FfnUpDxIdeal.nD) → Buf (Elt Ideal) ((c.tc : Thread Cert.FfnUpDxIdeal.nD Cert.FfnUpDxIdeal.τ).loc Cert.FfnUpDxIdeal.main_v1)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v1) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v16) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2))

def preserves_ScInDx_ScInDxIdeal : Prop :=
  True

def algebraic_ScInDxIdeal_ScInDxRefIdeal [hScInDxIdeal : Cert.ScInDxIdeal.Facts] [hScInDxRefIdeal : Cert.ScInDxRefIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg)
    (m' : (ℓ : Loc Cert.ScInDxRefIdeal.nD Cert.ScInDxRefIdeal.τ Cert.ScInDxRefIdeal.sig) → Buf (Elt Ideal) ℓ) (g' : Dev Cert.ScInDxRefIdeal.nD → PrngReg), Pre_ScInDxIdeal m →
    (∀ c : Dev Cert.ScInDxIdeal.nD,
      m' ((c.tc : Thread Cert.ScInDxRefIdeal.nD Cert.ScInDxRefIdeal.τ).loc Cert.ScInDxRefIdeal.main_arg0) = m ((c.tc : Thread Cert.ScInDxIdeal.nD Cert.ScInDxIdeal.τ).loc Cert.ScInDxIdeal.main_arg0)
      ∧ m' ((c.tc : Thread Cert.ScInDxRefIdeal.nD Cert.ScInDxRefIdeal.τ).loc Cert.ScInDxRefIdeal.main_arg1) = m ((c.tc : Thread Cert.ScInDxIdeal.nD Cert.ScInDxIdeal.τ).loc Cert.ScInDxIdeal.main_arg1)
      ∧ m' ((c.tc : Thread Cert.ScInDxRefIdeal.nD Cert.ScInDxRefIdeal.τ).loc Cert.ScInDxRefIdeal.main_arg2) = m ((c.tc : Thread Cert.ScInDxIdeal.nD Cert.ScInDxIdeal.τ).loc Cert.ScInDxIdeal.main_arg2)) →
    ∃ (v0 : (c : Dev Cert.ScInDxIdeal.nD) → Buf (Elt Ideal) ((c.tc : Thread Cert.ScInDxIdeal.nD Cert.ScInDxIdeal.τ).loc Cert.ScInDxIdeal.main_v1)),
      θ_run (Cert.ScInDxIdeal.defs (F := Ideal)) (onTc (τ := Cert.ScInDxIdeal.τ) (Cert.ScInDxIdeal.main (F := Ideal))) ⟨m, fun _ => 0, g⟩ (fun r => ∀ c : Dev Cert.ScInDxIdeal.nD,
          r.2.mem ((c.tc : Thread Cert.ScInDxIdeal.nD Cert.ScInDxIdeal.τ).loc Cert.ScInDxIdeal.main_v1) = v0 c
          ∧ r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
          ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1)
          ∧ r.2.mem ((c.tc : Thread Cert.ScInDxIdeal.nD Cert.ScInDxIdeal.τ).loc Cert.ScInDxIdeal.main_arg2) = m ((c.tc : Thread Cert.ScInDxIdeal.nD Cert.ScInDxIdeal.τ).loc Cert.ScInDxIdeal.main_arg2))
      ∧ θ_run (Cert.ScInDxRefIdeal.defs (F := Ideal)) (onTc (τ := Cert.ScInDxRefIdeal.τ) (Cert.ScInDxRefIdeal.main (F := Ideal))) ⟨m', fun _ => 0, g'⟩ (fun r => ∀ c : Dev Cert.ScInDxRefIdeal.nD,
          r.2.mem ((c.tc : Thread Cert.ScInDxRefIdeal.nD Cert.ScInDxRefIdeal.τ).loc Cert.ScInDxRefIdeal.main_v18) = v0 c
          ∧ r.2.mem ((c.tc : Thread Cert.ScInDxRefIdeal.nD Cert.ScInDxRefIdeal.τ).loc Cert.ScInDxRefIdeal.main_arg0) = m' ((c.tc : Thread Cert.ScInDxRefIdeal.nD Cert.ScInDxRefIdeal.τ).loc Cert.ScInDxRefIdeal.main_arg0)
          ∧ r.2.mem ((c.tc : Thread Cert.ScInDxRefIdeal.nD Cert.ScInDxRefIdeal.τ).loc Cert.ScInDxRefIdeal.main_arg1) = m' ((c.tc : Thread Cert.ScInDxRefIdeal.nD Cert.ScInDxRefIdeal.τ).loc Cert.ScInDxRefIdeal.main_arg1)
          ∧ r.2.mem ((c.tc : Thread Cert.ScInDxRefIdeal.nD Cert.ScInDxRefIdeal.τ).loc Cert.ScInDxRefIdeal.main_arg2) = m' ((c.tc : Thread Cert.ScInDxRefIdeal.nD Cert.ScInDxRefIdeal.τ).loc Cert.ScInDxRefIdeal.main_arg2))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)
      ∧ m' ((c.tc : Thread Cert.LruInDxRefIdeal.nD Cert.LruInDxRefIdeal.τ).loc Cert.LruInDxRefIdeal.main_arg2) = m ((c.tc : Thread Cert.LruInDxIdeal.nD Cert.LruInDxIdeal.τ).loc Cert.LruInDxIdeal.main_arg2)) →
    ∃ (v0 : (c : Dev Cert.LruInDxIdeal.nD) → Buf (Elt Ideal) ((c.tc : Thread Cert.LruInDxIdeal.nD Cert.LruInDxIdeal.τ).loc Cert.LruInDxIdeal.main_v1)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v1) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1)
          ∧ r.2.mem ((c.tc : Thread Cert.LruInDxIdeal.nD Cert.LruInDxIdeal.τ).loc Cert.LruInDxIdeal.main_arg2) = m ((c.tc : Thread Cert.LruInDxIdeal.nD Cert.LruInDxIdeal.τ).loc Cert.LruInDxIdeal.main_arg2))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v16) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1)
          ∧ r.2.mem ((c.tc : Thread Cert.LruInDxRefIdeal.nD Cert.LruInDxRefIdeal.τ).loc Cert.LruInDxRefIdeal.main_arg2) = m' ((c.tc : Thread Cert.LruInDxRefIdeal.nD Cert.LruInDxRefIdeal.τ).loc Cert.LruInDxRefIdeal.main_arg2))

def preserves_ScOutDx_ScOutDxIdeal : Prop :=
  True

def algebraic_ScOutDxIdeal_ScOutDxRefIdeal [hScOutDxIdeal : Cert.ScOutDxIdeal.Facts] [hScOutDxRefIdeal : Cert.ScOutDxRefIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg)
    (m' : (ℓ : Loc Cert.ScOutDxRefIdeal.nD Cert.ScOutDxRefIdeal.τ Cert.ScOutDxRefIdeal.sig) → Buf (Elt Ideal) ℓ) (g' : Dev Cert.ScOutDxRefIdeal.nD → PrngReg), Pre_ScOutDxIdeal m →
    (∀ c : Dev Cert.ScOutDxIdeal.nD,
      m' ((c.tc : Thread Cert.ScOutDxRefIdeal.nD Cert.ScOutDxRefIdeal.τ).loc Cert.ScOutDxRefIdeal.main_arg0) = m ((c.tc : Thread Cert.ScOutDxIdeal.nD Cert.ScOutDxIdeal.τ).loc Cert.ScOutDxIdeal.main_arg0)
      ∧ m' ((c.tc : Thread Cert.ScOutDxRefIdeal.nD Cert.ScOutDxRefIdeal.τ).loc Cert.ScOutDxRefIdeal.main_arg1) = m ((c.tc : Thread Cert.ScOutDxIdeal.nD Cert.ScOutDxIdeal.τ).loc Cert.ScOutDxIdeal.main_arg1)) →
    ∃ (v0 : (c : Dev Cert.ScOutDxIdeal.nD) → Buf (Elt Ideal) ((c.tc : Thread Cert.ScOutDxIdeal.nD Cert.ScOutDxIdeal.τ).loc Cert.ScOutDxIdeal.main_v1)),
      θ_run (Cert.ScOutDxIdeal.defs (F := Ideal)) (onTc (τ := Cert.ScOutDxIdeal.τ) (Cert.ScOutDxIdeal.main (F := Ideal))) ⟨m, fun _ => 0, g⟩ (fun r => ∀ c : Dev Cert.ScOutDxIdeal.nD,
          r.2.mem ((c.tc : Thread Cert.ScOutDxIdeal.nD Cert.ScOutDxIdeal.τ).loc Cert.ScOutDxIdeal.main_v1) = v0 c
          ∧ r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
          ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ θ_run (Cert.ScOutDxRefIdeal.defs (F := Ideal)) (onTc (τ := Cert.ScOutDxRefIdeal.τ) (Cert.ScOutDxRefIdeal.main (F := Ideal))) ⟨m', fun _ => 0, g'⟩ (fun r => ∀ c : Dev Cert.ScOutDxRefIdeal.nD,
          r.2.mem ((c.tc : Thread Cert.ScOutDxRefIdeal.nD Cert.ScOutDxRefIdeal.τ).loc Cert.ScOutDxRefIdeal.main_v7) = v0 c
          ∧ r.2.mem ((c.tc : Thread Cert.ScOutDxRefIdeal.nD Cert.ScOutDxRefIdeal.τ).loc Cert.ScOutDxRefIdeal.main_arg0) = m' ((c.tc : Thread Cert.ScOutDxRefIdeal.nD Cert.ScOutDxRefIdeal.τ).loc Cert.ScOutDxRefIdeal.main_arg0)
          ∧ r.2.mem ((c.tc : Thread Cert.ScOutDxRefIdeal.nD Cert.ScOutDxRefIdeal.τ).loc Cert.ScOutDxRefIdeal.main_arg1) = m' ((c.tc : Thread Cert.ScOutDxRefIdeal.nD Cert.ScOutDxRefIdeal.τ).loc Cert.ScOutDxRefIdeal.main_arg1))

def preserves_LruOutDx_LruOutDxIdeal : Prop :=
  True

def algebraic_LruOutDxIdeal_LruOutDxRefIdeal [hLruOutDxIdeal : Cert.LruOutDxIdeal.Facts] [hLruOutDxRefIdeal : Cert.LruOutDxRefIdeal.Facts] : Prop :=
  ∀ (m : (ℓ : Loc Cert.LruOutDxIdeal.nD Cert.LruOutDxIdeal.τ Cert.LruOutDxIdeal.sig) → Buf (Elt Ideal) ℓ) (g : Dev Cert.LruOutDxIdeal.nD → PrngReg)
    (m' : (ℓ : Loc Cert.LruOutDxRefIdeal.nD Cert.LruOutDxRefIdeal.τ Cert.LruOutDxRefIdeal.sig) → Buf (Elt Ideal) ℓ) (g' : Dev Cert.LruOutDxRefIdeal.nD → PrngReg), Pre_LruOutDxIdeal m →
    (∀ c : Dev Cert.LruOutDxIdeal.nD,
      m' ((c.tc : Thread Cert.LruOutDxRefIdeal.nD Cert.LruOutDxRefIdeal.τ).loc Cert.LruOutDxRefIdeal.main_arg0) = m ((c.tc : Thread Cert.LruOutDxIdeal.nD Cert.LruOutDxIdeal.τ).loc Cert.LruOutDxIdeal.main_arg0)
      ∧ m' ((c.tc : Thread Cert.LruOutDxRefIdeal.nD Cert.LruOutDxRefIdeal.τ).loc Cert.LruOutDxRefIdeal.main_arg1) = m ((c.tc : Thread Cert.LruOutDxIdeal.nD Cert.LruOutDxIdeal.τ).loc Cert.LruOutDxIdeal.main_arg1)) →
    ∃ (v0 : (c : Dev Cert.LruOutDxIdeal.nD) → Buf (Elt Ideal) ((c.tc : Thread Cert.LruOutDxIdeal.nD Cert.LruOutDxIdeal.τ).loc Cert.LruOutDxIdeal.main_v1)),
      θ_run (Cert.LruOutDxIdeal.defs (F := Ideal)) (onTc (τ := Cert.LruOutDxIdeal.τ) (Cert.LruOutDxIdeal.main (F := Ideal))) ⟨m, fun _ => 0, g⟩ (fun r => ∀ c : Dev Cert.LruOutDxIdeal.nD,
          r.2.mem ((c.tc : Thread Cert.LruOutDxIdeal.nD Cert.LruOutDxIdeal.τ).loc Cert.LruOutDxIdeal.main_v1) = v0 c
          ∧ r.2.mem ((c.tc : Thread Cert.LruOutDxIdeal.nD Cert.LruOutDxIdeal.τ).loc Cert.LruOutDxIdeal.main_arg0) = m ((c.tc : Thread Cert.LruOutDxIdeal.nD Cert.LruOutDxIdeal.τ).loc Cert.LruOutDxIdeal.main_arg0)
          ∧ r.2.mem ((c.tc : Thread Cert.LruOutDxIdeal.nD Cert.LruOutDxIdeal.τ).loc Cert.LruOutDxIdeal.main_arg1) = m ((c.tc : Thread Cert.LruOutDxIdeal.nD Cert.LruOutDxIdeal.τ).loc Cert.LruOutDxIdeal.main_arg1))
      ∧ θ_run (Cert.LruOutDxRefIdeal.defs (F := Ideal)) (onTc (τ := Cert.LruOutDxRefIdeal.τ) (Cert.LruOutDxRefIdeal.main (F := Ideal))) ⟨m', fun _ => 0, g'⟩ (fun r => ∀ c : Dev Cert.LruOutDxRefIdeal.nD,
          r.2.mem ((c.tc : Thread Cert.LruOutDxRefIdeal.nD Cert.LruOutDxRefIdeal.τ).loc Cert.LruOutDxRefIdeal.main_v7) = v0 c
          ∧ r.2.mem ((c.tc : Thread Cert.LruOutDxRefIdeal.nD Cert.LruOutDxRefIdeal.τ).loc Cert.LruOutDxRefIdeal.main_arg0) = m' ((c.tc : Thread Cert.LruOutDxRefIdeal.nD Cert.LruOutDxRefIdeal.τ).loc Cert.LruOutDxRefIdeal.main_arg0)
          ∧ r.2.mem ((c.tc : Thread Cert.LruOutDxRefIdeal.nD Cert.LruOutDxRefIdeal.τ).loc Cert.LruOutDxRefIdeal.main_arg1) = m' ((c.tc : Thread Cert.LruOutDxRefIdeal.nD Cert.LruOutDxRefIdeal.τ).loc Cert.LruOutDxRefIdeal.main_arg1))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v1)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v1) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v3) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)
      ∧ m' ((c.tc : Thread Cert.LruInRefIdeal.nD Cert.LruInRefIdeal.τ).loc Cert.LruInRefIdeal.main_arg2) = m ((c.tc : Thread Cert.LruInIdeal.nD Cert.LruInIdeal.τ).loc Cert.LruInIdeal.main_arg2)) →
    ∃ (v0 : (c : Dev Cert.LruInIdeal.nD) → Buf (Elt Ideal) ((c.tc : Thread Cert.LruInIdeal.nD Cert.LruInIdeal.τ).loc Cert.LruInIdeal.main_v2)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v2) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
          ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v6) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1)
          ∧ r.2.mem ((c.tc : Thread Cert.LruInRefIdeal.nD Cert.LruInRefIdeal.τ).loc Cert.LruInRefIdeal.main_arg2) = m' ((c.tc : Thread Cert.LruInRefIdeal.nD Cert.LruInRefIdeal.τ).loc Cert.LruInRefIdeal.main_arg2))

def preserves_FfnDownLn_FfnDownLnIdeal : Prop :=
  True

def algebraic_FfnDownLnIdeal_FfnDownLnRefIdeal [hFfnDownLnIdeal : Cert.FfnDownLnIdeal.Facts] [hFfnDownLnRefIdeal : Cert.FfnDownLnRefIdeal.Facts] : Prop :=
  ∀ (m : (ℓ : Loc Cert.FfnDownLnIdeal.nD Cert.FfnDownLnIdeal.τ Cert.FfnDownLnIdeal.sig) → Buf (Elt Ideal) ℓ) (g : Dev Cert.FfnDownLnIdeal.nD → PrngReg)
    (m' : (ℓ : Loc Cert.FfnDownLnRefIdeal.nD Cert.FfnDownLnRefIdeal.τ Cert.FfnDownLnRefIdeal.sig) → Buf (Elt Ideal) ℓ) (g' : Dev Cert.FfnDownLnRefIdeal.nD → PrngReg), Pre_FfnDownLnIdeal m →
    (∀ c : Dev Cert.FfnDownLnIdeal.nD,
      m' ((c.tc : Thread Cert.FfnDownLnRefIdeal.nD Cert.FfnDownLnRefIdeal.τ).loc Cert.FfnDownLnRefIdeal.main_arg0) = m ((c.tc : Thread Cert.FfnDownLnIdeal.nD Cert.FfnDownLnIdeal.τ).loc Cert.FfnDownLnIdeal.main_arg0)
      ∧ m' ((c.tc : Thread Cert.FfnDownLnRefIdeal.nD Cert.FfnDownLnRefIdeal.τ).loc Cert.FfnDownLnRefIdeal.main_arg1) = m ((c.tc : Thread Cert.FfnDownLnIdeal.nD Cert.FfnDownLnIdeal.τ).loc Cert.FfnDownLnIdeal.main_arg1)
      ∧ m' ((c.tc : Thread Cert.FfnDownLnRefIdeal.nD Cert.FfnDownLnRefIdeal.τ).loc Cert.FfnDownLnRefIdeal.main_arg2) = m ((c.tc : Thread Cert.FfnDownLnIdeal.nD Cert.FfnDownLnIdeal.τ).loc Cert.FfnDownLnIdeal.main_arg2)
      ∧ m' ((c.tc : Thread Cert.FfnDownLnRefIdeal.nD Cert.FfnDownLnRefIdeal.τ).loc Cert.FfnDownLnRefIdeal.main_arg3) = m ((c.tc : Thread Cert.FfnDownLnIdeal.nD Cert.FfnDownLnIdeal.τ).loc Cert.FfnDownLnIdeal.main_arg3)
      ∧ m' ((c.tc : Thread Cert.FfnDownLnRefIdeal.nD Cert.FfnDownLnRefIdeal.τ).loc Cert.FfnDownLnRefIdeal.main_arg4) = m ((c.tc : Thread Cert.FfnDownLnIdeal.nD Cert.FfnDownLnIdeal.τ).loc Cert.FfnDownLnIdeal.main_arg4)) →
    ∃ (v0 : (c : Dev Cert.FfnDownLnIdeal.nD) → Buf (Elt Ideal) ((c.tc : Thread Cert.FfnDownLnIdeal.nD Cert.FfnDownLnIdeal.τ).loc Cert.FfnDownLnIdeal.main_v3_0)) (v1 : (c : Dev Cert.FfnDownLnIdeal.nD) → Buf (Elt Ideal) ((c.tc : Thread Cert.FfnDownLnIdeal.nD Cert.FfnDownLnIdeal.τ).loc Cert.FfnDownLnIdeal.main_v3_1)) (v2 : (c : Dev Cert.FfnDownLnIdeal.nD) → Buf (Elt Ideal) ((c.tc : Thread Cert.FfnDownLnIdeal.nD Cert.FfnDownLnIdeal.τ).loc Cert.FfnDownLnIdeal.main_v3_2)),
      θ_run (Cert.FfnDownLnIdeal.defs (F := Ideal)) (onTc (τ := Cert.FfnDownLnIdeal.τ) (Cert.FfnDownLnIdeal.main (F := Ideal))) ⟨m, fun _ => 0, g⟩ (fun r => ∀ c : Dev Cert.FfnDownLnIdeal.nD,
          r.2.mem ((c.tc : Thread Cert.FfnDownLnIdeal.nD Cert.FfnDownLnIdeal.τ).loc Cert.FfnDownLnIdeal.main_v3_0) = v0 c
          ∧ r.2.mem ((c.tc : Thread Cert.FfnDownLnIdeal.nD Cert.FfnDownLnIdeal.τ).loc Cert.FfnDownLnIdeal.main_v3_1) = v1 c
          ∧ r.2.mem ((c.tc : Thread Cert.FfnDownLnIdeal.nD Cert.FfnDownLnIdeal.τ).loc Cert.FfnDownLnIdeal.main_v3_2) = v2 c
          ∧ r.2.mem ((c.tc : Thread Cert.FfnDownLnIdeal.nD Cert.FfnDownLnIdeal.τ).loc Cert.FfnDownLnIdeal.main_arg0) = m ((c.tc : Thread Cert.FfnDownLnIdeal.nD Cert.FfnDownLnIdeal.τ).loc Cert.FfnDownLnIdeal.main_arg0)
          ∧ r.2.mem ((c.tc : Thread Cert.FfnDownLnIdeal.nD Cert.FfnDownLnIdeal.τ).loc Cert.FfnDownLnIdeal.main_arg1) = m ((c.tc : Thread Cert.FfnDownLnIdeal.nD Cert.FfnDownLnIdeal.τ).loc Cert.FfnDownLnIdeal.main_arg1)
          ∧ r.2.mem ((c.tc : Thread Cert.FfnDownLnIdeal.nD Cert.FfnDownLnIdeal.τ).loc Cert.FfnDownLnIdeal.main_arg2) = m ((c.tc : Thread Cert.FfnDownLnIdeal.nD Cert.FfnDownLnIdeal.τ).loc Cert.FfnDownLnIdeal.main_arg2)
          ∧ r.2.mem ((c.tc : Thread Cert.FfnDownLnIdeal.nD Cert.FfnDownLnIdeal.τ).loc Cert.FfnDownLnIdeal.main_arg3) = m ((c.tc : Thread Cert.FfnDownLnIdeal.nD Cert.FfnDownLnIdeal.τ).loc Cert.FfnDownLnIdeal.main_arg3)
          ∧ r.2.mem ((c.tc : Thread Cert.FfnDownLnIdeal.nD Cert.FfnDownLnIdeal.τ).loc Cert.FfnDownLnIdeal.main_arg4) = m ((c.tc : Thread Cert.FfnDownLnIdeal.nD Cert.FfnDownLnIdeal.τ).loc Cert.FfnDownLnIdeal.main_arg4))
      ∧ θ_run (Cert.FfnDownLnRefIdeal.defs (F := Ideal)) (onTc (τ := Cert.FfnDownLnRefIdeal.τ) (Cert.FfnDownLnRefIdeal.main (F := Ideal))) ⟨m', fun _ => 0, g'⟩ (fun r => ∀ c : Dev Cert.FfnDownLnRefIdeal.nD,
          r.2.mem ((c.tc : Thread Cert.FfnDownLnRefIdeal.nD Cert.FfnDownLnRefIdeal.τ).loc Cert.FfnDownLnRefIdeal.main_v5) = v0 c
          ∧ r.2.mem ((c.tc : Thread Cert.FfnDownLnRefIdeal.nD Cert.FfnDownLnRefIdeal.τ).loc Cert.FfnDownLnRefIdeal.main_v29) = v1 c
          ∧ r.2.mem ((c.tc : Thread Cert.FfnDownLnRefIdeal.nD Cert.FfnDownLnRefIdeal.τ).loc Cert.FfnDownLnRefIdeal.main_v30) = v2 c
          ∧ r.2.mem ((c.tc : Thread Cert.FfnDownLnRefIdeal.nD Cert.FfnDownLnRefIdeal.τ).loc Cert.FfnDownLnRefIdeal.main_arg0) = m' ((c.tc : Thread Cert.FfnDownLnRefIdeal.nD Cert.FfnDownLnRefIdeal.τ).loc Cert.FfnDownLnRefIdeal.main_arg0)
          ∧ r.2.mem ((c.tc : Thread Cert.FfnDownLnRefIdeal.nD Cert.FfnDownLnRefIdeal.τ).loc Cert.FfnDownLnRefIdeal.main_arg1) = m' ((c.tc : Thread Cert.FfnDownLnRefIdeal.nD Cert.FfnDownLnRefIdeal.τ).loc Cert.FfnDownLnRefIdeal.main_arg1)
          ∧ r.2.mem ((c.tc : Thread Cert.FfnDownLnRefIdeal.nD Cert.FfnDownLnRefIdeal.τ).loc Cert.FfnDownLnRefIdeal.main_arg2) = m' ((c.tc : Thread Cert.FfnDownLnRefIdeal.nD Cert.FfnDownLnRefIdeal.τ).loc Cert.FfnDownLnRefIdeal.main_arg2)
          ∧ r.2.mem ((c.tc : Thread Cert.FfnDownLnRefIdeal.nD Cert.FfnDownLnRefIdeal.τ).loc Cert.FfnDownLnRefIdeal.main_arg3) = m' ((c.tc : Thread Cert.FfnDownLnRefIdeal.nD Cert.FfnDownLnRefIdeal.τ).loc Cert.FfnDownLnRefIdeal.main_arg3)
          ∧ r.2.mem ((c.tc : Thread Cert.FfnDownLnRefIdeal.nD Cert.FfnDownLnRefIdeal.τ).loc Cert.FfnDownLnRefIdeal.main_arg4) = m' ((c.tc : Thread Cert.FfnDownLnRefIdeal.nD Cert.FfnDownLnRefIdeal.τ).loc Cert.FfnDownLnRefIdeal.main_arg4))

def preserves_ScOutLn_ScOutLnIdeal : Prop :=
  True

def algebraic_ScOutLnIdeal_ScOutLnRefIdeal [hScOutLnIdeal : Cert.ScOutLnIdeal.Facts] [hScOutLnRefIdeal : Cert.ScOutLnRefIdeal.Facts] : Prop :=
  ∀ (m : (ℓ : Loc Cert.ScOutLnIdeal.nD Cert.ScOutLnIdeal.τ Cert.ScOutLnIdeal.sig) → Buf (Elt Ideal) ℓ) (g : Dev Cert.ScOutLnIdeal.nD → PrngReg)
    (m' : (ℓ : Loc Cert.ScOutLnRefIdeal.nD Cert.ScOutLnRefIdeal.τ Cert.ScOutLnRefIdeal.sig) → Buf (Elt Ideal) ℓ) (g' : Dev Cert.ScOutLnRefIdeal.nD → PrngReg), Pre_ScOutLnIdeal m →
    (∀ c : Dev Cert.ScOutLnIdeal.nD,
      m' ((c.tc : Thread Cert.ScOutLnRefIdeal.nD Cert.ScOutLnRefIdeal.τ).loc Cert.ScOutLnRefIdeal.main_arg0) = m ((c.tc : Thread Cert.ScOutLnIdeal.nD Cert.ScOutLnIdeal.τ).loc Cert.ScOutLnIdeal.main_arg0)
      ∧ m' ((c.tc : Thread Cert.ScOutLnRefIdeal.nD Cert.ScOutLnRefIdeal.τ).loc Cert.ScOutLnRefIdeal.main_arg1) = m ((c.tc : Thread Cert.ScOutLnIdeal.nD Cert.ScOutLnIdeal.τ).loc Cert.ScOutLnIdeal.main_arg1)
      ∧ m' ((c.tc : Thread Cert.ScOutLnRefIdeal.nD Cert.ScOutLnRefIdeal.τ).loc Cert.ScOutLnRefIdeal.main_arg2) = m ((c.tc : Thread Cert.ScOutLnIdeal.nD Cert.ScOutLnIdeal.τ).loc Cert.ScOutLnIdeal.main_arg2)
      ∧ m' ((c.tc : Thread Cert.ScOutLnRefIdeal.nD Cert.ScOutLnRefIdeal.τ).loc Cert.ScOutLnRefIdeal.main_arg3) = m ((c.tc : Thread Cert.ScOutLnIdeal.nD Cert.ScOutLnIdeal.τ).loc Cert.ScOutLnIdeal.main_arg3)
      ∧ m' ((c.tc : Thread Cert.ScOutLnRefIdeal.nD Cert.ScOutLnRefIdeal.τ).loc Cert.ScOutLnRefIdeal.main_arg4) = m ((c.tc : Thread Cert.ScOutLnIdeal.nD Cert.ScOutLnIdeal.τ).loc Cert.ScOutLnIdeal.main_arg4)) →
    ∃ (v0 : (c : Dev Cert.ScOutLnIdeal.nD) → Buf (Elt Ideal) ((c.tc : Thread Cert.ScOutLnIdeal.nD Cert.ScOutLnIdeal.τ).loc Cert.ScOutLnIdeal.main_v3_0)) (v1 : (c : Dev Cert.ScOutLnIdeal.nD) → Buf (Elt Ideal) ((c.tc : Thread Cert.ScOutLnIdeal.nD Cert.ScOutLnIdeal.τ).loc Cert.ScOutLnIdeal.main_v3_1)) (v2 : (c : Dev Cert.ScOutLnIdeal.nD) → Buf (Elt Ideal) ((c.tc : Thread Cert.ScOutLnIdeal.nD Cert.ScOutLnIdeal.τ).loc Cert.ScOutLnIdeal.main_v3_2)),
      θ_run (Cert.ScOutLnIdeal.defs (F := Ideal)) (onTc (τ := Cert.ScOutLnIdeal.τ) (Cert.ScOutLnIdeal.main (F := Ideal))) ⟨m, fun _ => 0, g⟩ (fun r => ∀ c : Dev Cert.ScOutLnIdeal.nD,
          r.2.mem ((c.tc : Thread Cert.ScOutLnIdeal.nD Cert.ScOutLnIdeal.τ).loc Cert.ScOutLnIdeal.main_v3_0) = v0 c
          ∧ r.2.mem ((c.tc : Thread Cert.ScOutLnIdeal.nD Cert.ScOutLnIdeal.τ).loc Cert.ScOutLnIdeal.main_v3_1) = v1 c
          ∧ r.2.mem ((c.tc : Thread Cert.ScOutLnIdeal.nD Cert.ScOutLnIdeal.τ).loc Cert.ScOutLnIdeal.main_v3_2) = v2 c
          ∧ r.2.mem ((c.tc : Thread Cert.ScOutLnIdeal.nD Cert.ScOutLnIdeal.τ).loc Cert.ScOutLnIdeal.main_arg0) = m ((c.tc : Thread Cert.ScOutLnIdeal.nD Cert.ScOutLnIdeal.τ).loc Cert.ScOutLnIdeal.main_arg0)
          ∧ r.2.mem ((c.tc : Thread Cert.ScOutLnIdeal.nD Cert.ScOutLnIdeal.τ).loc Cert.ScOutLnIdeal.main_arg1) = m ((c.tc : Thread Cert.ScOutLnIdeal.nD Cert.ScOutLnIdeal.τ).loc Cert.ScOutLnIdeal.main_arg1)
          ∧ r.2.mem ((c.tc : Thread Cert.ScOutLnIdeal.nD Cert.ScOutLnIdeal.τ).loc Cert.ScOutLnIdeal.main_arg2) = m ((c.tc : Thread Cert.ScOutLnIdeal.nD Cert.ScOutLnIdeal.τ).loc Cert.ScOutLnIdeal.main_arg2)
          ∧ r.2.mem ((c.tc : Thread Cert.ScOutLnIdeal.nD Cert.ScOutLnIdeal.τ).loc Cert.ScOutLnIdeal.main_arg3) = m ((c.tc : Thread Cert.ScOutLnIdeal.nD Cert.ScOutLnIdeal.τ).loc Cert.ScOutLnIdeal.main_arg3)
          ∧ r.2.mem ((c.tc : Thread Cert.ScOutLnIdeal.nD Cert.ScOutLnIdeal.τ).loc Cert.ScOutLnIdeal.main_arg4) = m ((c.tc : Thread Cert.ScOutLnIdeal.nD Cert.ScOutLnIdeal.τ).loc Cert.ScOutLnIdeal.main_arg4))
      ∧ θ_run (Cert.ScOutLnRefIdeal.defs (F := Ideal)) (onTc (τ := Cert.ScOutLnRefIdeal.τ) (Cert.ScOutLnRefIdeal.main (F := Ideal))) ⟨m', fun _ => 0, g'⟩ (fun r => ∀ c : Dev Cert.ScOutLnRefIdeal.nD,
          r.2.mem ((c.tc : Thread Cert.ScOutLnRefIdeal.nD Cert.ScOutLnRefIdeal.τ).loc Cert.ScOutLnRefIdeal.main_v5) = v0 c
          ∧ r.2.mem ((c.tc : Thread Cert.ScOutLnRefIdeal.nD Cert.ScOutLnRefIdeal.τ).loc Cert.ScOutLnRefIdeal.main_v29) = v1 c
          ∧ r.2.mem ((c.tc : Thread Cert.ScOutLnRefIdeal.nD Cert.ScOutLnRefIdeal.τ).loc Cert.ScOutLnRefIdeal.main_v30) = v2 c
          ∧ r.2.mem ((c.tc : Thread Cert.ScOutLnRefIdeal.nD Cert.ScOutLnRefIdeal.τ).loc Cert.ScOutLnRefIdeal.main_arg0) = m' ((c.tc : Thread Cert.ScOutLnRefIdeal.nD Cert.ScOutLnRefIdeal.τ).loc Cert.ScOutLnRefIdeal.main_arg0)
          ∧ r.2.mem ((c.tc : Thread Cert.ScOutLnRefIdeal.nD Cert.ScOutLnRefIdeal.τ).loc Cert.ScOutLnRefIdeal.main_arg1) = m' ((c.tc : Thread Cert.ScOutLnRefIdeal.nD Cert.ScOutLnRefIdeal.τ).loc Cert.ScOutLnRefIdeal.main_arg1)
          ∧ r.2.mem ((c.tc : Thread Cert.ScOutLnRefIdeal.nD Cert.ScOutLnRefIdeal.τ).loc Cert.ScOutLnRefIdeal.main_arg2) = m' ((c.tc : Thread Cert.ScOutLnRefIdeal.nD Cert.ScOutLnRefIdeal.τ).loc Cert.ScOutLnRefIdeal.main_arg2)
          ∧ r.2.mem ((c.tc : Thread Cert.ScOutLnRefIdeal.nD Cert.ScOutLnRefIdeal.τ).loc Cert.ScOutLnRefIdeal.main_arg3) = m' ((c.tc : Thread Cert.ScOutLnRefIdeal.nD Cert.ScOutLnRefIdeal.τ).loc Cert.ScOutLnRefIdeal.main_arg3)
          ∧ r.2.mem ((c.tc : Thread Cert.ScOutLnRefIdeal.nD Cert.ScOutLnRefIdeal.τ).loc Cert.ScOutLnRefIdeal.main_arg4) = m' ((c.tc : Thread Cert.ScOutLnRefIdeal.nD Cert.ScOutLnRefIdeal.τ).loc Cert.ScOutLnRefIdeal.main_arg4))

def preserves_LruOutLn_LruOutLnIdeal : Prop :=
  True

def algebraic_LruOutLnIdeal_LruOutLnRefIdeal [hLruOutLnIdeal : Cert.LruOutLnIdeal.Facts] [hLruOutLnRefIdeal : Cert.LruOutLnRefIdeal.Facts] : Prop :=
  ∀ (m : (ℓ : Loc Cert.LruOutLnIdeal.nD Cert.LruOutLnIdeal.τ Cert.LruOutLnIdeal.sig) → Buf (Elt Ideal) ℓ) (g : Dev Cert.LruOutLnIdeal.nD → PrngReg)
    (m' : (ℓ : Loc Cert.LruOutLnRefIdeal.nD Cert.LruOutLnRefIdeal.τ Cert.LruOutLnRefIdeal.sig) → Buf (Elt Ideal) ℓ) (g' : Dev Cert.LruOutLnRefIdeal.nD → PrngReg), Pre_LruOutLnIdeal m →
    (∀ c : Dev Cert.LruOutLnIdeal.nD,
      m' ((c.tc : Thread Cert.LruOutLnRefIdeal.nD Cert.LruOutLnRefIdeal.τ).loc Cert.LruOutLnRefIdeal.main_arg0) = m ((c.tc : Thread Cert.LruOutLnIdeal.nD Cert.LruOutLnIdeal.τ).loc Cert.LruOutLnIdeal.main_arg0)
      ∧ m' ((c.tc : Thread Cert.LruOutLnRefIdeal.nD Cert.LruOutLnRefIdeal.τ).loc Cert.LruOutLnRefIdeal.main_arg1) = m ((c.tc : Thread Cert.LruOutLnIdeal.nD Cert.LruOutLnIdeal.τ).loc Cert.LruOutLnIdeal.main_arg1)
      ∧ m' ((c.tc : Thread Cert.LruOutLnRefIdeal.nD Cert.LruOutLnRefIdeal.τ).loc Cert.LruOutLnRefIdeal.main_arg2) = m ((c.tc : Thread Cert.LruOutLnIdeal.nD Cert.LruOutLnIdeal.τ).loc Cert.LruOutLnIdeal.main_arg2)
      ∧ m' ((c.tc : Thread Cert.LruOutLnRefIdeal.nD Cert.LruOutLnRefIdeal.τ).loc Cert.LruOutLnRefIdeal.main_arg3) = m ((c.tc : Thread Cert.LruOutLnIdeal.nD Cert.LruOutLnIdeal.τ).loc Cert.LruOutLnIdeal.main_arg3)
      ∧ m' ((c.tc : Thread Cert.LruOutLnRefIdeal.nD Cert.LruOutLnRefIdeal.τ).loc Cert.LruOutLnRefIdeal.main_arg4) = m ((c.tc : Thread Cert.LruOutLnIdeal.nD Cert.LruOutLnIdeal.τ).loc Cert.LruOutLnIdeal.main_arg4)) →
    ∃ (v0 : (c : Dev Cert.LruOutLnIdeal.nD) → Buf (Elt Ideal) ((c.tc : Thread Cert.LruOutLnIdeal.nD Cert.LruOutLnIdeal.τ).loc Cert.LruOutLnIdeal.main_v3_0)) (v1 : (c : Dev Cert.LruOutLnIdeal.nD) → Buf (Elt Ideal) ((c.tc : Thread Cert.LruOutLnIdeal.nD Cert.LruOutLnIdeal.τ).loc Cert.LruOutLnIdeal.main_v3_1)) (v2 : (c : Dev Cert.LruOutLnIdeal.nD) → Buf (Elt Ideal) ((c.tc : Thread Cert.LruOutLnIdeal.nD Cert.LruOutLnIdeal.τ).loc Cert.LruOutLnIdeal.main_v3_2)),
      θ_run (Cert.LruOutLnIdeal.defs (F := Ideal)) (onTc (τ := Cert.LruOutLnIdeal.τ) (Cert.LruOutLnIdeal.main (F := Ideal))) ⟨m, fun _ => 0, g⟩ (fun r => ∀ c : Dev Cert.LruOutLnIdeal.nD,
          r.2.mem ((c.tc : Thread Cert.LruOutLnIdeal.nD Cert.LruOutLnIdeal.τ).loc Cert.LruOutLnIdeal.main_v3_0) = v0 c
          ∧ r.2.mem ((c.tc : Thread Cert.LruOutLnIdeal.nD Cert.LruOutLnIdeal.τ).loc Cert.LruOutLnIdeal.main_v3_1) = v1 c
          ∧ r.2.mem ((c.tc : Thread Cert.LruOutLnIdeal.nD Cert.LruOutLnIdeal.τ).loc Cert.LruOutLnIdeal.main_v3_2) = v2 c
          ∧ r.2.mem ((c.tc : Thread Cert.LruOutLnIdeal.nD Cert.LruOutLnIdeal.τ).loc Cert.LruOutLnIdeal.main_arg0) = m ((c.tc : Thread Cert.LruOutLnIdeal.nD Cert.LruOutLnIdeal.τ).loc Cert.LruOutLnIdeal.main_arg0)
          ∧ r.2.mem ((c.tc : Thread Cert.LruOutLnIdeal.nD Cert.LruOutLnIdeal.τ).loc Cert.LruOutLnIdeal.main_arg1) = m ((c.tc : Thread Cert.LruOutLnIdeal.nD Cert.LruOutLnIdeal.τ).loc Cert.LruOutLnIdeal.main_arg1)
          ∧ r.2.mem ((c.tc : Thread Cert.LruOutLnIdeal.nD Cert.LruOutLnIdeal.τ).loc Cert.LruOutLnIdeal.main_arg2) = m ((c.tc : Thread Cert.LruOutLnIdeal.nD Cert.LruOutLnIdeal.τ).loc Cert.LruOutLnIdeal.main_arg2)
          ∧ r.2.mem ((c.tc : Thread Cert.LruOutLnIdeal.nD Cert.LruOutLnIdeal.τ).loc Cert.LruOutLnIdeal.main_arg3) = m ((c.tc : Thread Cert.LruOutLnIdeal.nD Cert.LruOutLnIdeal.τ).loc Cert.LruOutLnIdeal.main_arg3)
          ∧ r.2.mem ((c.tc : Thread Cert.LruOutLnIdeal.nD Cert.LruOutLnIdeal.τ).loc Cert.LruOutLnIdeal.main_arg4) = m ((c.tc : Thread Cert.LruOutLnIdeal.nD Cert.LruOutLnIdeal.τ).loc Cert.LruOutLnIdeal.main_arg4))
      ∧ θ_run (Cert.LruOutLnRefIdeal.defs (F := Ideal)) (onTc (τ := Cert.LruOutLnRefIdeal.τ) (Cert.LruOutLnRefIdeal.main (F := Ideal))) ⟨m', fun _ => 0, g'⟩ (fun r => ∀ c : Dev Cert.LruOutLnRefIdeal.nD,
          r.2.mem ((c.tc : Thread Cert.LruOutLnRefIdeal.nD Cert.LruOutLnRefIdeal.τ).loc Cert.LruOutLnRefIdeal.main_v5) = v0 c
          ∧ r.2.mem ((c.tc : Thread Cert.LruOutLnRefIdeal.nD Cert.LruOutLnRefIdeal.τ).loc Cert.LruOutLnRefIdeal.main_v29) = v1 c
          ∧ r.2.mem ((c.tc : Thread Cert.LruOutLnRefIdeal.nD Cert.LruOutLnRefIdeal.τ).loc Cert.LruOutLnRefIdeal.main_v30) = v2 c
          ∧ r.2.mem ((c.tc : Thread Cert.LruOutLnRefIdeal.nD Cert.LruOutLnRefIdeal.τ).loc Cert.LruOutLnRefIdeal.main_arg0) = m' ((c.tc : Thread Cert.LruOutLnRefIdeal.nD Cert.LruOutLnRefIdeal.τ).loc Cert.LruOutLnRefIdeal.main_arg0)
          ∧ r.2.mem ((c.tc : Thread Cert.LruOutLnRefIdeal.nD Cert.LruOutLnRefIdeal.τ).loc Cert.LruOutLnRefIdeal.main_arg1) = m' ((c.tc : Thread Cert.LruOutLnRefIdeal.nD Cert.LruOutLnRefIdeal.τ).loc Cert.LruOutLnRefIdeal.main_arg1)
          ∧ r.2.mem ((c.tc : Thread Cert.LruOutLnRefIdeal.nD Cert.LruOutLnRefIdeal.τ).loc Cert.LruOutLnRefIdeal.main_arg2) = m' ((c.tc : Thread Cert.LruOutLnRefIdeal.nD Cert.LruOutLnRefIdeal.τ).loc Cert.LruOutLnRefIdeal.main_arg2)
          ∧ r.2.mem ((c.tc : Thread Cert.LruOutLnRefIdeal.nD Cert.LruOutLnRefIdeal.τ).loc Cert.LruOutLnRefIdeal.main_arg3) = m' ((c.tc : Thread Cert.LruOutLnRefIdeal.nD Cert.LruOutLnRefIdeal.τ).loc Cert.LruOutLnRefIdeal.main_arg3)
          ∧ r.2.mem ((c.tc : Thread Cert.LruOutLnRefIdeal.nD Cert.LruOutLnRefIdeal.τ).loc Cert.LruOutLnRefIdeal.main_arg4) = m' ((c.tc : Thread Cert.LruOutLnRefIdeal.nD Cert.LruOutLnRefIdeal.τ).loc Cert.LruOutLnRefIdeal.main_arg4))

def preserves_LnBwd_LnBwdIdeal : Prop :=
  True

def algebraic_LnBwdIdeal_LnBwdRefIdeal_pre_finite [hLnBwdIdeal : Cert.LnBwdIdeal.Facts] [hLnBwdRefIdeal : Cert.LnBwdRefIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v63) = v0 c
          ∧ r.2.mem ((c.tc : Thread Cert.LnBwdRefIdeal.nD Cert.LnBwdRefIdeal.τ).loc Cert.LnBwdRefIdeal.main_v64) = v1 c
          ∧ r.2.mem ((c.tc : Thread Cert.LnBwdRefIdeal.nD Cert.LnBwdRefIdeal.τ).loc Cert.LnBwdRefIdeal.main_v65) = v2 c
          ∧ r.2.mem ((c.tc : Thread Cert.LnBwdRefIdeal.nD Cert.LnBwdRefIdeal.τ).loc Cert.LnBwdRefIdeal.main_v66) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)) (v2 : (c : Dev Cert.FfnUpIdeal.nD) → Buf (Elt Ideal) ((c.tc : Thread Cert.FfnUpIdeal.nD Cert.FfnUpIdeal.τ).loc Cert.FfnUpIdeal.main_v2_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_v2_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v38) = v0 c
          ∧ r.2.mem ((c.tc : Thread Cert.FfnUpRefIdeal.nD Cert.FfnUpRefIdeal.τ).loc Cert.FfnUpRefIdeal.main_v45) = v1 c
          ∧ r.2.mem ((c.tc : Thread Cert.FfnUpRefIdeal.nD Cert.FfnUpRefIdeal.τ).loc Cert.FfnUpRefIdeal.main_v47) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_UpdScIn_UpdScInIdeal : Prop :=
  True

def algebraic_UpdScInIdeal_UpdScInRefIdeal [hUpdScInIdeal : Cert.UpdScInIdeal.Facts] [hUpdScInRefIdeal : Cert.UpdScInRefIdeal.Facts] : Prop :=
  ∀ (m : (ℓ : Loc Cert.UpdScInIdeal.nD Cert.UpdScInIdeal.τ Cert.UpdScInIdeal.sig) → Buf (Elt Ideal) ℓ) (g : Dev Cert.UpdScInIdeal.nD → PrngReg)
    (m' : (ℓ : Loc Cert.UpdScInRefIdeal.nD Cert.UpdScInRefIdeal.τ Cert.UpdScInRefIdeal.sig) → Buf (Elt Ideal) ℓ) (g' : Dev Cert.UpdScInRefIdeal.nD → PrngReg), Pre_UpdScInIdeal m →
    (∀ c : Dev Cert.UpdScInIdeal.nD,
      m' ((c.tc : Thread Cert.UpdScInRefIdeal.nD Cert.UpdScInRefIdeal.τ).loc Cert.UpdScInRefIdeal.main_arg0) = m ((c.tc : Thread Cert.UpdScInIdeal.nD Cert.UpdScInIdeal.τ).loc Cert.UpdScInIdeal.main_arg0)
      ∧ m' ((c.tc : Thread Cert.UpdScInRefIdeal.nD Cert.UpdScInRefIdeal.τ).loc Cert.UpdScInRefIdeal.main_arg1) = m ((c.tc : Thread Cert.UpdScInIdeal.nD Cert.UpdScInIdeal.τ).loc Cert.UpdScInIdeal.main_arg1)
      ∧ m' ((c.tc : Thread Cert.UpdScInRefIdeal.nD Cert.UpdScInRefIdeal.τ).loc Cert.UpdScInRefIdeal.main_arg2) = m ((c.tc : Thread Cert.UpdScInIdeal.nD Cert.UpdScInIdeal.τ).loc Cert.UpdScInIdeal.main_arg2)
      ∧ m' ((c.tc : Thread Cert.UpdScInRefIdeal.nD Cert.UpdScInRefIdeal.τ).loc Cert.UpdScInRefIdeal.main_arg3) = m ((c.tc : Thread Cert.UpdScInIdeal.nD Cert.UpdScInIdeal.τ).loc Cert.UpdScInIdeal.main_arg3)
      ∧ m' ((c.tc : Thread Cert.UpdScInRefIdeal.nD Cert.UpdScInRefIdeal.τ).loc Cert.UpdScInRefIdeal.main_arg4) = m ((c.tc : Thread Cert.UpdScInIdeal.nD Cert.UpdScInIdeal.τ).loc Cert.UpdScInIdeal.main_arg4)
      ∧ m' ((c.tc : Thread Cert.UpdScInRefIdeal.nD Cert.UpdScInRefIdeal.τ).loc Cert.UpdScInRefIdeal.main_arg5) = m ((c.tc : Thread Cert.UpdScInIdeal.nD Cert.UpdScInIdeal.τ).loc Cert.UpdScInIdeal.main_arg5)) →
    ∃ (v0 : (c : Dev Cert.UpdScInIdeal.nD) → Buf (Elt Ideal) ((c.tc : Thread Cert.UpdScInIdeal.nD Cert.UpdScInIdeal.τ).loc Cert.UpdScInIdeal.main_v4)) (v1 : (c : Dev Cert.UpdScInIdeal.nD) → Buf (Elt Ideal) ((c.tc : Thread Cert.UpdScInIdeal.nD Cert.UpdScInIdeal.τ).loc Cert.UpdScInIdeal.main_v5)) (v2 : (c : Dev Cert.UpdScInIdeal.nD) → Buf (Elt Ideal) ((c.tc : Thread Cert.UpdScInIdeal.nD Cert.UpdScInIdeal.τ).loc Cert.UpdScInIdeal.main_v6)) (v3 : (c : Dev Cert.UpdScInIdeal.nD) → Buf (Elt Ideal) ((c.tc : Thread Cert.UpdScInIdeal.nD Cert.UpdScInIdeal.τ).loc Cert.UpdScInIdeal.main_v7)),
      θ_run (Cert.UpdScInIdeal.defs (F := Ideal)) (onTc (τ := Cert.UpdScInIdeal.τ) (Cert.UpdScInIdeal.main (F := Ideal))) ⟨m, fun _ => 0, g⟩ (fun r => ∀ c : Dev Cert.UpdScInIdeal.nD,
          r.2.mem ((c.tc : Thread Cert.UpdScInIdeal.nD Cert.UpdScInIdeal.τ).loc Cert.UpdScInIdeal.main_v4) = v0 c
          ∧ r.2.mem ((c.tc : Thread Cert.UpdScInIdeal.nD Cert.UpdScInIdeal.τ).loc Cert.UpdScInIdeal.main_v5) = v1 c
          ∧ r.2.mem ((c.tc : Thread Cert.UpdScInIdeal.nD Cert.UpdScInIdeal.τ).loc Cert.UpdScInIdeal.main_v6) = v2 c
          ∧ r.2.mem ((c.tc : Thread Cert.UpdScInIdeal.nD Cert.UpdScInIdeal.τ).loc Cert.UpdScInIdeal.main_v7) = v3 c
          ∧ r.2.mem ((c.tc : Thread Cert.UpdScInIdeal.nD Cert.UpdScInIdeal.τ).loc Cert.UpdScInIdeal.main_arg0) = m ((c.tc : Thread Cert.UpdScInIdeal.nD Cert.UpdScInIdeal.τ).loc Cert.UpdScInIdeal.main_arg0)
          ∧ r.2.mem ((c.tc : Thread Cert.UpdScInIdeal.nD Cert.UpdScInIdeal.τ).loc Cert.UpdScInIdeal.main_arg1) = m ((c.tc : Thread Cert.UpdScInIdeal.nD Cert.UpdScInIdeal.τ).loc Cert.UpdScInIdeal.main_arg1)
          ∧ r.2.mem ((c.tc : Thread Cert.UpdScInIdeal.nD Cert.UpdScInIdeal.τ).loc Cert.UpdScInIdeal.main_arg2) = m ((c.tc : Thread Cert.UpdScInIdeal.nD Cert.UpdScInIdeal.τ).loc Cert.UpdScInIdeal.main_arg2)
          ∧ r.2.mem ((c.tc : Thread Cert.UpdScInIdeal.nD Cert.UpdScInIdeal.τ).loc Cert.UpdScInIdeal.main_arg3) = m ((c.tc : Thread Cert.UpdScInIdeal.nD Cert.UpdScInIdeal.τ).loc Cert.UpdScInIdeal.main_arg3)
          ∧ r.2.mem ((c.tc : Thread Cert.UpdScInIdeal.nD Cert.UpdScInIdeal.τ).loc Cert.UpdScInIdeal.main_arg4) = m ((c.tc : Thread Cert.UpdScInIdeal.nD Cert.UpdScInIdeal.τ).loc Cert.UpdScInIdeal.main_arg4)
          ∧ r.2.mem ((c.tc : Thread Cert.UpdScInIdeal.nD Cert.UpdScInIdeal.τ).loc Cert.UpdScInIdeal.main_arg5) = m ((c.tc : Thread Cert.UpdScInIdeal.nD Cert.UpdScInIdeal.τ).loc Cert.UpdScInIdeal.main_arg5))
      ∧ θ_run (Cert.UpdScInRefIdeal.defs (F := Ideal)) (onTc (τ := Cert.UpdScInRefIdeal.τ) (Cert.UpdScInRefIdeal.main (F := Ideal))) ⟨m', fun _ => 0, g'⟩ (fun r => ∀ c : Dev Cert.UpdScInRefIdeal.nD,
          r.2.mem ((c.tc : Thread Cert.UpdScInRefIdeal.nD Cert.UpdScInRefIdeal.τ).loc Cert.UpdScInRefIdeal.main_v6) = v0 c
          ∧ r.2.mem ((c.tc : Thread Cert.UpdScInRefIdeal.nD Cert.UpdScInRefIdeal.τ).loc Cert.UpdScInRefIdeal.main_v30) = v1 c
          ∧ r.2.mem ((c.tc : Thread Cert.UpdScInRefIdeal.nD Cert.UpdScInRefIdeal.τ).loc Cert.UpdScInRefIdeal.main_v11) = v2 c
          ∧ r.2.mem ((c.tc : Thread Cert.UpdScInRefIdeal.nD Cert.UpdScInRefIdeal.τ).loc Cert.UpdScInRefIdeal.main_v17) = v3 c
          ∧ r.2.mem ((c.tc : Thread Cert.UpdScInRefIdeal.nD Cert.UpdScInRefIdeal.τ).loc Cert.UpdScInRefIdeal.main_arg0) = m' ((c.tc : Thread Cert.UpdScInRefIdeal.nD Cert.UpdScInRefIdeal.τ).loc Cert.UpdScInRefIdeal.main_arg0)
          ∧ r.2.mem ((c.tc : Thread Cert.UpdScInRefIdeal.nD Cert.UpdScInRefIdeal.τ).loc Cert.UpdScInRefIdeal.main_arg1) = m' ((c.tc : Thread Cert.UpdScInRefIdeal.nD Cert.UpdScInRefIdeal.τ).loc Cert.UpdScInRefIdeal.main_arg1)
          ∧ r.2.mem ((c.tc : Thread Cert.UpdScInRefIdeal.nD Cert.UpdScInRefIdeal.τ).loc Cert.UpdScInRefIdeal.main_arg2) = m' ((c.tc : Thread Cert.UpdScInRefIdeal.nD Cert.UpdScInRefIdeal.τ).loc Cert.UpdScInRefIdeal.main_arg2)
          ∧ r.2.mem ((c.tc : Thread Cert.UpdScInRefIdeal.nD Cert.UpdScInRefIdeal.τ).loc Cert.UpdScInRefIdeal.main_arg3) = m' ((c.tc : Thread Cert.UpdScInRefIdeal.nD Cert.UpdScInRefIdeal.τ).loc Cert.UpdScInRefIdeal.main_arg3)
          ∧ r.2.mem ((c.tc : Thread Cert.UpdScInRefIdeal.nD Cert.UpdScInRefIdeal.τ).loc Cert.UpdScInRefIdeal.main_arg4) = m' ((c.tc : Thread Cert.UpdScInRefIdeal.nD Cert.UpdScInRefIdeal.τ).loc Cert.UpdScInRefIdeal.main_arg4)
          ∧ r.2.mem ((c.tc : Thread Cert.UpdScInRefIdeal.nD Cert.UpdScInRefIdeal.τ).loc Cert.UpdScInRefIdeal.main_arg5) = m' ((c.tc : Thread Cert.UpdScInRefIdeal.nD Cert.UpdScInRefIdeal.τ).loc Cert.UpdScInRefIdeal.main_arg5))

def preserves_UpdScOut_UpdScOutIdeal : Prop :=
  True

def algebraic_UpdScOutIdeal_UpdScOutRefIdeal [hUpdScOutIdeal : Cert.UpdScOutIdeal.Facts] [hUpdScOutRefIdeal : Cert.UpdScOutRefIdeal.Facts] : Prop :=
  ∀ (m : (ℓ : Loc Cert.UpdScOutIdeal.nD Cert.UpdScOutIdeal.τ Cert.UpdScOutIdeal.sig) → Buf (Elt Ideal) ℓ) (g : Dev Cert.UpdScOutIdeal.nD → PrngReg)
    (m' : (ℓ : Loc Cert.UpdScOutRefIdeal.nD Cert.UpdScOutRefIdeal.τ Cert.UpdScOutRefIdeal.sig) → Buf (Elt Ideal) ℓ) (g' : Dev Cert.UpdScOutRefIdeal.nD → PrngReg), Pre_UpdScOutIdeal m →
    (∀ c : Dev Cert.UpdScOutIdeal.nD,
      m' ((c.tc : Thread Cert.UpdScOutRefIdeal.nD Cert.UpdScOutRefIdeal.τ).loc Cert.UpdScOutRefIdeal.main_arg0) = m ((c.tc : Thread Cert.UpdScOutIdeal.nD Cert.UpdScOutIdeal.τ).loc Cert.UpdScOutIdeal.main_arg0)
      ∧ m' ((c.tc : Thread Cert.UpdScOutRefIdeal.nD Cert.UpdScOutRefIdeal.τ).loc Cert.UpdScOutRefIdeal.main_arg1) = m ((c.tc : Thread Cert.UpdScOutIdeal.nD Cert.UpdScOutIdeal.τ).loc Cert.UpdScOutIdeal.main_arg1)
      ∧ m' ((c.tc : Thread Cert.UpdScOutRefIdeal.nD Cert.UpdScOutRefIdeal.τ).loc Cert.UpdScOutRefIdeal.main_arg2) = m ((c.tc : Thread Cert.UpdScOutIdeal.nD Cert.UpdScOutIdeal.τ).loc Cert.UpdScOutIdeal.main_arg2)
      ∧ m' ((c.tc : Thread Cert.UpdScOutRefIdeal.nD Cert.UpdScOutRefIdeal.τ).loc Cert.UpdScOutRefIdeal.main_arg3) = m ((c.tc : Thread Cert.UpdScOutIdeal.nD Cert.UpdScOutIdeal.τ).loc Cert.UpdScOutIdeal.main_arg3)
      ∧ m' ((c.tc : Thread Cert.UpdScOutRefIdeal.nD Cert.UpdScOutRefIdeal.τ).loc Cert.UpdScOutRefIdeal.main_arg4) = m ((c.tc : Thread Cert.UpdScOutIdeal.nD Cert.UpdScOutIdeal.τ).loc Cert.UpdScOutIdeal.main_arg4)
      ∧ m' ((c.tc : Thread Cert.UpdScOutRefIdeal.nD Cert.UpdScOutRefIdeal.τ).loc Cert.UpdScOutRefIdeal.main_arg5) = m ((c.tc : Thread Cert.UpdScOutIdeal.nD Cert.UpdScOutIdeal.τ).loc Cert.UpdScOutIdeal.main_arg5)) →
    ∃ (v0 : (c : Dev Cert.UpdScOutIdeal.nD) → Buf (Elt Ideal) ((c.tc : Thread Cert.UpdScOutIdeal.nD Cert.UpdScOutIdeal.τ).loc Cert.UpdScOutIdeal.main_v4)) (v1 : (c : Dev Cert.UpdScOutIdeal.nD) → Buf (Elt Ideal) ((c.tc : Thread Cert.UpdScOutIdeal.nD Cert.UpdScOutIdeal.τ).loc Cert.UpdScOutIdeal.main_v5)) (v2 : (c : Dev Cert.UpdScOutIdeal.nD) → Buf (Elt Ideal) ((c.tc : Thread Cert.UpdScOutIdeal.nD Cert.UpdScOutIdeal.τ).loc Cert.UpdScOutIdeal.main_v6)) (v3 : (c : Dev Cert.UpdScOutIdeal.nD) → Buf (Elt Ideal) ((c.tc : Thread Cert.UpdScOutIdeal.nD Cert.UpdScOutIdeal.τ).loc Cert.UpdScOutIdeal.main_v7)),
      θ_run (Cert.UpdScOutIdeal.defs (F := Ideal)) (onTc (τ := Cert.UpdScOutIdeal.τ) (Cert.UpdScOutIdeal.main (F := Ideal))) ⟨m, fun _ => 0, g⟩ (fun r => ∀ c : Dev Cert.UpdScOutIdeal.nD,
          r.2.mem ((c.tc : Thread Cert.UpdScOutIdeal.nD Cert.UpdScOutIdeal.τ).loc Cert.UpdScOutIdeal.main_v4) = v0 c
          ∧ r.2.mem ((c.tc : Thread Cert.UpdScOutIdeal.nD Cert.UpdScOutIdeal.τ).loc Cert.UpdScOutIdeal.main_v5) = v1 c
          ∧ r.2.mem ((c.tc : Thread Cert.UpdScOutIdeal.nD Cert.UpdScOutIdeal.τ).loc Cert.UpdScOutIdeal.main_v6) = v2 c
          ∧ r.2.mem ((c.tc : Thread Cert.UpdScOutIdeal.nD Cert.UpdScOutIdeal.τ).loc Cert.UpdScOutIdeal.main_v7) = v3 c
          ∧ r.2.mem ((c.tc : Thread Cert.UpdScOutIdeal.nD Cert.UpdScOutIdeal.τ).loc Cert.UpdScOutIdeal.main_arg0) = m ((c.tc : Thread Cert.UpdScOutIdeal.nD Cert.UpdScOutIdeal.τ).loc Cert.UpdScOutIdeal.main_arg0)
          ∧ r.2.mem ((c.tc : Thread Cert.UpdScOutIdeal.nD Cert.UpdScOutIdeal.τ).loc Cert.UpdScOutIdeal.main_arg1) = m ((c.tc : Thread Cert.UpdScOutIdeal.nD Cert.UpdScOutIdeal.τ).loc Cert.UpdScOutIdeal.main_arg1)
          ∧ r.2.mem ((c.tc : Thread Cert.UpdScOutIdeal.nD Cert.UpdScOutIdeal.τ).loc Cert.UpdScOutIdeal.main_arg2) = m ((c.tc : Thread Cert.UpdScOutIdeal.nD Cert.UpdScOutIdeal.τ).loc Cert.UpdScOutIdeal.main_arg2)
          ∧ r.2.mem ((c.tc : Thread Cert.UpdScOutIdeal.nD Cert.UpdScOutIdeal.τ).loc Cert.UpdScOutIdeal.main_arg3) = m ((c.tc : Thread Cert.UpdScOutIdeal.nD Cert.UpdScOutIdeal.τ).loc Cert.UpdScOutIdeal.main_arg3)
          ∧ r.2.mem ((c.tc : Thread Cert.UpdScOutIdeal.nD Cert.UpdScOutIdeal.τ).loc Cert.UpdScOutIdeal.main_arg4) = m ((c.tc : Thread Cert.UpdScOutIdeal.nD Cert.UpdScOutIdeal.τ).loc Cert.UpdScOutIdeal.main_arg4)
          ∧ r.2.mem ((c.tc : Thread Cert.UpdScOutIdeal.nD Cert.UpdScOutIdeal.τ).loc Cert.UpdScOutIdeal.main_arg5) = m ((c.tc : Thread Cert.UpdScOutIdeal.nD Cert.UpdScOutIdeal.τ).loc Cert.UpdScOutIdeal.main_arg5))
      ∧ θ_run (Cert.UpdScOutRefIdeal.defs (F := Ideal)) (onTc (τ := Cert.UpdScOutRefIdeal.τ) (Cert.UpdScOutRefIdeal.main (F := Ideal))) ⟨m', fun _ => 0, g'⟩ (fun r => ∀ c : Dev Cert.UpdScOutRefIdeal.nD,
          r.2.mem ((c.tc : Thread Cert.UpdScOutRefIdeal.nD Cert.UpdScOutRefIdeal.τ).loc Cert.UpdScOutRefIdeal.main_v6) = v0 c
          ∧ r.2.mem ((c.tc : Thread Cert.UpdScOutRefIdeal.nD Cert.UpdScOutRefIdeal.τ).loc Cert.UpdScOutRefIdeal.main_v30) = v1 c
          ∧ r.2.mem ((c.tc : Thread Cert.UpdScOutRefIdeal.nD Cert.UpdScOutRefIdeal.τ).loc Cert.UpdScOutRefIdeal.main_v11) = v2 c
          ∧ r.2.mem ((c.tc : Thread Cert.UpdScOutRefIdeal.nD Cert.UpdScOutRefIdeal.τ).loc Cert.UpdScOutRefIdeal.main_v17) = v3 c
          ∧ r.2.mem ((c.tc : Thread Cert.UpdScOutRefIdeal.nD Cert.UpdScOutRefIdeal.τ).loc Cert.UpdScOutRefIdeal.main_arg0) = m' ((c.tc : Thread Cert.UpdScOutRefIdeal.nD Cert.UpdScOutRefIdeal.τ).loc Cert.UpdScOutRefIdeal.main_arg0)
          ∧ r.2.mem ((c.tc : Thread Cert.UpdScOutRefIdeal.nD Cert.UpdScOutRefIdeal.τ).loc Cert.UpdScOutRefIdeal.main_arg1) = m' ((c.tc : Thread Cert.UpdScOutRefIdeal.nD Cert.UpdScOutRefIdeal.τ).loc Cert.UpdScOutRefIdeal.main_arg1)
          ∧ r.2.mem ((c.tc : Thread Cert.UpdScOutRefIdeal.nD Cert.UpdScOutRefIdeal.τ).loc Cert.UpdScOutRefIdeal.main_arg2) = m' ((c.tc : Thread Cert.UpdScOutRefIdeal.nD Cert.UpdScOutRefIdeal.τ).loc Cert.UpdScOutRefIdeal.main_arg2)
          ∧ r.2.mem ((c.tc : Thread Cert.UpdScOutRefIdeal.nD Cert.UpdScOutRefIdeal.τ).loc Cert.UpdScOutRefIdeal.main_arg3) = m' ((c.tc : Thread Cert.UpdScOutRefIdeal.nD Cert.UpdScOutRefIdeal.τ).loc Cert.UpdScOutRefIdeal.main_arg3)
          ∧ r.2.mem ((c.tc : Thread Cert.UpdScOutRefIdeal.nD Cert.UpdScOutRefIdeal.τ).loc Cert.UpdScOutRefIdeal.main_arg4) = m' ((c.tc : Thread Cert.UpdScOutRefIdeal.nD Cert.UpdScOutRefIdeal.τ).loc Cert.UpdScOutRefIdeal.main_arg4)
          ∧ r.2.mem ((c.tc : Thread Cert.UpdScOutRefIdeal.nD Cert.UpdScOutRefIdeal.τ).loc Cert.UpdScOutRefIdeal.main_arg5) = m' ((c.tc : Thread Cert.UpdScOutRefIdeal.nD Cert.UpdScOutRefIdeal.τ).loc Cert.UpdScOutRefIdeal.main_arg5))

def preserves_UpdLruIn_UpdLruInIdeal : Prop :=
  True

def algebraic_UpdLruInIdeal_UpdLruInRefIdeal [hUpdLruInIdeal : Cert.UpdLruInIdeal.Facts] [hUpdLruInRefIdeal : Cert.UpdLruInRefIdeal.Facts] : Prop :=
  ∀ (m : (ℓ : Loc Cert.UpdLruInIdeal.nD Cert.UpdLruInIdeal.τ Cert.UpdLruInIdeal.sig) → Buf (Elt Ideal) ℓ) (g : Dev Cert.UpdLruInIdeal.nD → PrngReg)
    (m' : (ℓ : Loc Cert.UpdLruInRefIdeal.nD Cert.UpdLruInRefIdeal.τ Cert.UpdLruInRefIdeal.sig) → Buf (Elt Ideal) ℓ) (g' : Dev Cert.UpdLruInRefIdeal.nD → PrngReg), Pre_UpdLruInIdeal m →
    (∀ c : Dev Cert.UpdLruInIdeal.nD,
      m' ((c.tc : Thread Cert.UpdLruInRefIdeal.nD Cert.UpdLruInRefIdeal.τ).loc Cert.UpdLruInRefIdeal.main_arg0) = m ((c.tc : Thread Cert.UpdLruInIdeal.nD Cert.UpdLruInIdeal.τ).loc Cert.UpdLruInIdeal.main_arg0)
      ∧ m' ((c.tc : Thread Cert.UpdLruInRefIdeal.nD Cert.UpdLruInRefIdeal.τ).loc Cert.UpdLruInRefIdeal.main_arg1) = m ((c.tc : Thread Cert.UpdLruInIdeal.nD Cert.UpdLruInIdeal.τ).loc Cert.UpdLruInIdeal.main_arg1)
      ∧ m' ((c.tc : Thread Cert.UpdLruInRefIdeal.nD Cert.UpdLruInRefIdeal.τ).loc Cert.UpdLruInRefIdeal.main_arg2) = m ((c.tc : Thread Cert.UpdLruInIdeal.nD Cert.UpdLruInIdeal.τ).loc Cert.UpdLruInIdeal.main_arg2)
      ∧ m' ((c.tc : Thread Cert.UpdLruInRefIdeal.nD Cert.UpdLruInRefIdeal.τ).loc Cert.UpdLruInRefIdeal.main_arg3) = m ((c.tc : Thread Cert.UpdLruInIdeal.nD Cert.UpdLruInIdeal.τ).loc Cert.UpdLruInIdeal.main_arg3)
      ∧ m' ((c.tc : Thread Cert.UpdLruInRefIdeal.nD Cert.UpdLruInRefIdeal.τ).loc Cert.UpdLruInRefIdeal.main_arg4) = m ((c.tc : Thread Cert.UpdLruInIdeal.nD Cert.UpdLruInIdeal.τ).loc Cert.UpdLruInIdeal.main_arg4)
      ∧ m' ((c.tc : Thread Cert.UpdLruInRefIdeal.nD Cert.UpdLruInRefIdeal.τ).loc Cert.UpdLruInRefIdeal.main_arg5) = m ((c.tc : Thread Cert.UpdLruInIdeal.nD Cert.UpdLruInIdeal.τ).loc Cert.UpdLruInIdeal.main_arg5)) →
    ∃ (v0 : (c : Dev Cert.UpdLruInIdeal.nD) → Buf (Elt Ideal) ((c.tc : Thread Cert.UpdLruInIdeal.nD Cert.UpdLruInIdeal.τ).loc Cert.UpdLruInIdeal.main_v4)) (v1 : (c : Dev Cert.UpdLruInIdeal.nD) → Buf (Elt Ideal) ((c.tc : Thread Cert.UpdLruInIdeal.nD Cert.UpdLruInIdeal.τ).loc Cert.UpdLruInIdeal.main_v5)) (v2 : (c : Dev Cert.UpdLruInIdeal.nD) → Buf (Elt Ideal) ((c.tc : Thread Cert.UpdLruInIdeal.nD Cert.UpdLruInIdeal.τ).loc Cert.UpdLruInIdeal.main_v6)) (v3 : (c : Dev Cert.UpdLruInIdeal.nD) → Buf (Elt Ideal) ((c.tc : Thread Cert.UpdLruInIdeal.nD Cert.UpdLruInIdeal.τ).loc Cert.UpdLruInIdeal.main_v7)),
      θ_run (Cert.UpdLruInIdeal.defs (F := Ideal)) (onTc (τ := Cert.UpdLruInIdeal.τ) (Cert.UpdLruInIdeal.main (F := Ideal))) ⟨m, fun _ => 0, g⟩ (fun r => ∀ c : Dev Cert.UpdLruInIdeal.nD,
          r.2.mem ((c.tc : Thread Cert.UpdLruInIdeal.nD Cert.UpdLruInIdeal.τ).loc Cert.UpdLruInIdeal.main_v4) = v0 c
          ∧ r.2.mem ((c.tc : Thread Cert.UpdLruInIdeal.nD Cert.UpdLruInIdeal.τ).loc Cert.UpdLruInIdeal.main_v5) = v1 c
          ∧ r.2.mem ((c.tc : Thread Cert.UpdLruInIdeal.nD Cert.UpdLruInIdeal.τ).loc Cert.UpdLruInIdeal.main_v6) = v2 c
          ∧ r.2.mem ((c.tc : Thread Cert.UpdLruInIdeal.nD Cert.UpdLruInIdeal.τ).loc Cert.UpdLruInIdeal.main_v7) = v3 c
          ∧ r.2.mem ((c.tc : Thread Cert.UpdLruInIdeal.nD Cert.UpdLruInIdeal.τ).loc Cert.UpdLruInIdeal.main_arg0) = m ((c.tc : Thread Cert.UpdLruInIdeal.nD Cert.UpdLruInIdeal.τ).loc Cert.UpdLruInIdeal.main_arg0)
          ∧ r.2.mem ((c.tc : Thread Cert.UpdLruInIdeal.nD Cert.UpdLruInIdeal.τ).loc Cert.UpdLruInIdeal.main_arg1) = m ((c.tc : Thread Cert.UpdLruInIdeal.nD Cert.UpdLruInIdeal.τ).loc Cert.UpdLruInIdeal.main_arg1)
          ∧ r.2.mem ((c.tc : Thread Cert.UpdLruInIdeal.nD Cert.UpdLruInIdeal.τ).loc Cert.UpdLruInIdeal.main_arg2) = m ((c.tc : Thread Cert.UpdLruInIdeal.nD Cert.UpdLruInIdeal.τ).loc Cert.UpdLruInIdeal.main_arg2)
          ∧ r.2.mem ((c.tc : Thread Cert.UpdLruInIdeal.nD Cert.UpdLruInIdeal.τ).loc Cert.UpdLruInIdeal.main_arg3) = m ((c.tc : Thread Cert.UpdLruInIdeal.nD Cert.UpdLruInIdeal.τ).loc Cert.UpdLruInIdeal.main_arg3)
          ∧ r.2.mem ((c.tc : Thread Cert.UpdLruInIdeal.nD Cert.UpdLruInIdeal.τ).loc Cert.UpdLruInIdeal.main_arg4) = m ((c.tc : Thread Cert.UpdLruInIdeal.nD Cert.UpdLruInIdeal.τ).loc Cert.UpdLruInIdeal.main_arg4)
          ∧ r.2.mem ((c.tc : Thread Cert.UpdLruInIdeal.nD Cert.UpdLruInIdeal.τ).loc Cert.UpdLruInIdeal.main_arg5) = m ((c.tc : Thread Cert.UpdLruInIdeal.nD Cert.UpdLruInIdeal.τ).loc Cert.UpdLruInIdeal.main_arg5))
      ∧ θ_run (Cert.UpdLruInRefIdeal.defs (F := Ideal)) (onTc (τ := Cert.UpdLruInRefIdeal.τ) (Cert.UpdLruInRefIdeal.main (F := Ideal))) ⟨m', fun _ => 0, g'⟩ (fun r => ∀ c : Dev Cert.UpdLruInRefIdeal.nD,
          r.2.mem ((c.tc : Thread Cert.UpdLruInRefIdeal.nD Cert.UpdLruInRefIdeal.τ).loc Cert.UpdLruInRefIdeal.main_v6) = v0 c
          ∧ r.2.mem ((c.tc : Thread Cert.UpdLruInRefIdeal.nD Cert.UpdLruInRefIdeal.τ).loc Cert.UpdLruInRefIdeal.main_v30) = v1 c
          ∧ r.2.mem ((c.tc : Thread Cert.UpdLruInRefIdeal.nD Cert.UpdLruInRefIdeal.τ).loc Cert.UpdLruInRefIdeal.main_v11) = v2 c
          ∧ r.2.mem ((c.tc : Thread Cert.UpdLruInRefIdeal.nD Cert.UpdLruInRefIdeal.τ).loc Cert.UpdLruInRefIdeal.main_v17) = v3 c
          ∧ r.2.mem ((c.tc : Thread Cert.UpdLruInRefIdeal.nD Cert.UpdLruInRefIdeal.τ).loc Cert.UpdLruInRefIdeal.main_arg0) = m' ((c.tc : Thread Cert.UpdLruInRefIdeal.nD Cert.UpdLruInRefIdeal.τ).loc Cert.UpdLruInRefIdeal.main_arg0)
          ∧ r.2.mem ((c.tc : Thread Cert.UpdLruInRefIdeal.nD Cert.UpdLruInRefIdeal.τ).loc Cert.UpdLruInRefIdeal.main_arg1) = m' ((c.tc : Thread Cert.UpdLruInRefIdeal.nD Cert.UpdLruInRefIdeal.τ).loc Cert.UpdLruInRefIdeal.main_arg1)
          ∧ r.2.mem ((c.tc : Thread Cert.UpdLruInRefIdeal.nD Cert.UpdLruInRefIdeal.τ).loc Cert.UpdLruInRefIdeal.main_arg2) = m' ((c.tc : Thread Cert.UpdLruInRefIdeal.nD Cert.UpdLruInRefIdeal.τ).loc Cert.UpdLruInRefIdeal.main_arg2)
          ∧ r.2.mem ((c.tc : Thread Cert.UpdLruInRefIdeal.nD Cert.UpdLruInRefIdeal.τ).loc Cert.UpdLruInRefIdeal.main_arg3) = m' ((c.tc : Thread Cert.UpdLruInRefIdeal.nD Cert.UpdLruInRefIdeal.τ).loc Cert.UpdLruInRefIdeal.main_arg3)
          ∧ r.2.mem ((c.tc : Thread Cert.UpdLruInRefIdeal.nD Cert.UpdLruInRefIdeal.τ).loc Cert.UpdLruInRefIdeal.main_arg4) = m' ((c.tc : Thread Cert.UpdLruInRefIdeal.nD Cert.UpdLruInRefIdeal.τ).loc Cert.UpdLruInRefIdeal.main_arg4)
          ∧ r.2.mem ((c.tc : Thread Cert.UpdLruInRefIdeal.nD Cert.UpdLruInRefIdeal.τ).loc Cert.UpdLruInRefIdeal.main_arg5) = m' ((c.tc : Thread Cert.UpdLruInRefIdeal.nD Cert.UpdLruInRefIdeal.τ).loc Cert.UpdLruInRefIdeal.main_arg5))

def preserves_UpdLruOut_UpdLruOutIdeal : Prop :=
  True

def algebraic_UpdLruOutIdeal_UpdLruOutRefIdeal [hUpdLruOutIdeal : Cert.UpdLruOutIdeal.Facts] [hUpdLruOutRefIdeal : Cert.UpdLruOutRefIdeal.Facts] : Prop :=
  ∀ (m : (ℓ : Loc Cert.UpdLruOutIdeal.nD Cert.UpdLruOutIdeal.τ Cert.UpdLruOutIdeal.sig) → Buf (Elt Ideal) ℓ) (g : Dev Cert.UpdLruOutIdeal.nD → PrngReg)
    (m' : (ℓ : Loc Cert.UpdLruOutRefIdeal.nD Cert.UpdLruOutRefIdeal.τ Cert.UpdLruOutRefIdeal.sig) → Buf (Elt Ideal) ℓ) (g' : Dev Cert.UpdLruOutRefIdeal.nD → PrngReg), Pre_UpdLruOutIdeal m →
    (∀ c : Dev Cert.UpdLruOutIdeal.nD,
      m' ((c.tc : Thread Cert.UpdLruOutRefIdeal.nD Cert.UpdLruOutRefIdeal.τ).loc Cert.UpdLruOutRefIdeal.main_arg0) = m ((c.tc : Thread Cert.UpdLruOutIdeal.nD Cert.UpdLruOutIdeal.τ).loc Cert.UpdLruOutIdeal.main_arg0)
      ∧ m' ((c.tc : Thread Cert.UpdLruOutRefIdeal.nD Cert.UpdLruOutRefIdeal.τ).loc Cert.UpdLruOutRefIdeal.main_arg1) = m ((c.tc : Thread Cert.UpdLruOutIdeal.nD Cert.UpdLruOutIdeal.τ).loc Cert.UpdLruOutIdeal.main_arg1)
      ∧ m' ((c.tc : Thread Cert.UpdLruOutRefIdeal.nD Cert.UpdLruOutRefIdeal.τ).loc Cert.UpdLruOutRefIdeal.main_arg2) = m ((c.tc : Thread Cert.UpdLruOutIdeal.nD Cert.UpdLruOutIdeal.τ).loc Cert.UpdLruOutIdeal.main_arg2)
      ∧ m' ((c.tc : Thread Cert.UpdLruOutRefIdeal.nD Cert.UpdLruOutRefIdeal.τ).loc Cert.UpdLruOutRefIdeal.main_arg3) = m ((c.tc : Thread Cert.UpdLruOutIdeal.nD Cert.UpdLruOutIdeal.τ).loc Cert.UpdLruOutIdeal.main_arg3)
      ∧ m' ((c.tc : Thread Cert.UpdLruOutRefIdeal.nD Cert.UpdLruOutRefIdeal.τ).loc Cert.UpdLruOutRefIdeal.main_arg4) = m ((c.tc : Thread Cert.UpdLruOutIdeal.nD Cert.UpdLruOutIdeal.τ).loc Cert.UpdLruOutIdeal.main_arg4)
      ∧ m' ((c.tc : Thread Cert.UpdLruOutRefIdeal.nD Cert.UpdLruOutRefIdeal.τ).loc Cert.UpdLruOutRefIdeal.main_arg5) = m ((c.tc : Thread Cert.UpdLruOutIdeal.nD Cert.UpdLruOutIdeal.τ).loc Cert.UpdLruOutIdeal.main_arg5)) →
    ∃ (v0 : (c : Dev Cert.UpdLruOutIdeal.nD) → Buf (Elt Ideal) ((c.tc : Thread Cert.UpdLruOutIdeal.nD Cert.UpdLruOutIdeal.τ).loc Cert.UpdLruOutIdeal.main_v4)) (v1 : (c : Dev Cert.UpdLruOutIdeal.nD) → Buf (Elt Ideal) ((c.tc : Thread Cert.UpdLruOutIdeal.nD Cert.UpdLruOutIdeal.τ).loc Cert.UpdLruOutIdeal.main_v5)) (v2 : (c : Dev Cert.UpdLruOutIdeal.nD) → Buf (Elt Ideal) ((c.tc : Thread Cert.UpdLruOutIdeal.nD Cert.UpdLruOutIdeal.τ).loc Cert.UpdLruOutIdeal.main_v6)) (v3 : (c : Dev Cert.UpdLruOutIdeal.nD) → Buf (Elt Ideal) ((c.tc : Thread Cert.UpdLruOutIdeal.nD Cert.UpdLruOutIdeal.τ).loc Cert.UpdLruOutIdeal.main_v7)),
      θ_run (Cert.UpdLruOutIdeal.defs (F := Ideal)) (onTc (τ := Cert.UpdLruOutIdeal.τ) (Cert.UpdLruOutIdeal.main (F := Ideal))) ⟨m, fun _ => 0, g⟩ (fun r => ∀ c : Dev Cert.UpdLruOutIdeal.nD,
          r.2.mem ((c.tc : Thread Cert.UpdLruOutIdeal.nD Cert.UpdLruOutIdeal.τ).loc Cert.UpdLruOutIdeal.main_v4) = v0 c
          ∧ r.2.mem ((c.tc : Thread Cert.UpdLruOutIdeal.nD Cert.UpdLruOutIdeal.τ).loc Cert.UpdLruOutIdeal.main_v5) = v1 c
          ∧ r.2.mem ((c.tc : Thread Cert.UpdLruOutIdeal.nD Cert.UpdLruOutIdeal.τ).loc Cert.UpdLruOutIdeal.main_v6) = v2 c
          ∧ r.2.mem ((c.tc : Thread Cert.UpdLruOutIdeal.nD Cert.UpdLruOutIdeal.τ).loc Cert.UpdLruOutIdeal.main_v7) = v3 c
          ∧ r.2.mem ((c.tc : Thread Cert.UpdLruOutIdeal.nD Cert.UpdLruOutIdeal.τ).loc Cert.UpdLruOutIdeal.main_arg0) = m ((c.tc : Thread Cert.UpdLruOutIdeal.nD Cert.UpdLruOutIdeal.τ).loc Cert.UpdLruOutIdeal.main_arg0)
          ∧ r.2.mem ((c.tc : Thread Cert.UpdLruOutIdeal.nD Cert.UpdLruOutIdeal.τ).loc Cert.UpdLruOutIdeal.main_arg1) = m ((c.tc : Thread Cert.UpdLruOutIdeal.nD Cert.UpdLruOutIdeal.τ).loc Cert.UpdLruOutIdeal.main_arg1)
          ∧ r.2.mem ((c.tc : Thread Cert.UpdLruOutIdeal.nD Cert.UpdLruOutIdeal.τ).loc Cert.UpdLruOutIdeal.main_arg2) = m ((c.tc : Thread Cert.UpdLruOutIdeal.nD Cert.UpdLruOutIdeal.τ).loc Cert.UpdLruOutIdeal.main_arg2)
          ∧ r.2.mem ((c.tc : Thread Cert.UpdLruOutIdeal.nD Cert.UpdLruOutIdeal.τ).loc Cert.UpdLruOutIdeal.main_arg3) = m ((c.tc : Thread Cert.UpdLruOutIdeal.nD Cert.UpdLruOutIdeal.τ).loc Cert.UpdLruOutIdeal.main_arg3)
          ∧ r.2.mem ((c.tc : Thread Cert.UpdLruOutIdeal.nD Cert.UpdLruOutIdeal.τ).loc Cert.UpdLruOutIdeal.main_arg4) = m ((c.tc : Thread Cert.UpdLruOutIdeal.nD Cert.UpdLruOutIdeal.τ).loc Cert.UpdLruOutIdeal.main_arg4)
          ∧ r.2.mem ((c.tc : Thread Cert.UpdLruOutIdeal.nD Cert.UpdLruOutIdeal.τ).loc Cert.UpdLruOutIdeal.main_arg5) = m ((c.tc : Thread Cert.UpdLruOutIdeal.nD Cert.UpdLruOutIdeal.τ).loc Cert.UpdLruOutIdeal.main_arg5))
      ∧ θ_run (Cert.UpdLruOutRefIdeal.defs (F := Ideal)) (onTc (τ := Cert.UpdLruOutRefIdeal.τ) (Cert.UpdLruOutRefIdeal.main (F := Ideal))) ⟨m', fun _ => 0, g'⟩ (fun r => ∀ c : Dev Cert.UpdLruOutRefIdeal.nD,
          r.2.mem ((c.tc : Thread Cert.UpdLruOutRefIdeal.nD Cert.UpdLruOutRefIdeal.τ).loc Cert.UpdLruOutRefIdeal.main_v6) = v0 c
          ∧ r.2.mem ((c.tc : Thread Cert.UpdLruOutRefIdeal.nD Cert.UpdLruOutRefIdeal.τ).loc Cert.UpdLruOutRefIdeal.main_v30) = v1 c
          ∧ r.2.mem ((c.tc : Thread Cert.UpdLruOutRefIdeal.nD Cert.UpdLruOutRefIdeal.τ).loc Cert.UpdLruOutRefIdeal.main_v11) = v2 c
          ∧ r.2.mem ((c.tc : Thread Cert.UpdLruOutRefIdeal.nD Cert.UpdLruOutRefIdeal.τ).loc Cert.UpdLruOutRefIdeal.main_v17) = v3 c
          ∧ r.2.mem ((c.tc : Thread Cert.UpdLruOutRefIdeal.nD Cert.UpdLruOutRefIdeal.τ).loc Cert.UpdLruOutRefIdeal.main_arg0) = m' ((c.tc : Thread Cert.UpdLruOutRefIdeal.nD Cert.UpdLruOutRefIdeal.τ).loc Cert.UpdLruOutRefIdeal.main_arg0)
          ∧ r.2.mem ((c.tc : Thread Cert.UpdLruOutRefIdeal.nD Cert.UpdLruOutRefIdeal.τ).loc Cert.UpdLruOutRefIdeal.main_arg1) = m' ((c.tc : Thread Cert.UpdLruOutRefIdeal.nD Cert.UpdLruOutRefIdeal.τ).loc Cert.UpdLruOutRefIdeal.main_arg1)
          ∧ r.2.mem ((c.tc : Thread Cert.UpdLruOutRefIdeal.nD Cert.UpdLruOutRefIdeal.τ).loc Cert.UpdLruOutRefIdeal.main_arg2) = m' ((c.tc : Thread Cert.UpdLruOutRefIdeal.nD Cert.UpdLruOutRefIdeal.τ).loc Cert.UpdLruOutRefIdeal.main_arg2)
          ∧ r.2.mem ((c.tc : Thread Cert.UpdLruOutRefIdeal.nD Cert.UpdLruOutRefIdeal.τ).loc Cert.UpdLruOutRefIdeal.main_arg3) = m' ((c.tc : Thread Cert.UpdLruOutRefIdeal.nD Cert.UpdLruOutRefIdeal.τ).loc Cert.UpdLruOutRefIdeal.main_arg3)
          ∧ r.2.mem ((c.tc : Thread Cert.UpdLruOutRefIdeal.nD Cert.UpdLruOutRefIdeal.τ).loc Cert.UpdLruOutRefIdeal.main_arg4) = m' ((c.tc : Thread Cert.UpdLruOutRefIdeal.nD Cert.UpdLruOutRefIdeal.τ).loc Cert.UpdLruOutRefIdeal.main_arg4)
          ∧ r.2.mem ((c.tc : Thread Cert.UpdLruOutRefIdeal.nD Cert.UpdLruOutRefIdeal.τ).loc Cert.UpdLruOutRefIdeal.main_arg5) = m' ((c.tc : Thread Cert.UpdLruOutRefIdeal.nD Cert.UpdLruOutRefIdeal.τ).loc Cert.UpdLruOutRefIdeal.main_arg5))

def preserves_UpdUp_UpdUpIdeal : Prop :=
  True

def algebraic_UpdUpIdeal_UpdUpRefIdeal [hUpdUpIdeal : Cert.UpdUpIdeal.Facts] [hUpdUpRefIdeal : Cert.UpdUpRefIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg)
    (m' : (ℓ : Loc Cert.UpdUpRefIdeal.nD Cert.UpdUpRefIdeal.τ Cert.UpdUpRefIdeal.sig) → Buf (Elt Ideal) ℓ) (g' : Dev Cert.UpdUpRefIdeal.nD → PrngReg), Pre_UpdUpIdeal m →
    (∀ c : Dev Cert.UpdUpIdeal.nD,
      m' ((c.tc : Thread Cert.UpdUpRefIdeal.nD Cert.UpdUpRefIdeal.τ).loc Cert.UpdUpRefIdeal.main_arg0) = m ((c.tc : Thread Cert.UpdUpIdeal.nD Cert.UpdUpIdeal.τ).loc Cert.UpdUpIdeal.main_arg0)
      ∧ m' ((c.tc : Thread Cert.UpdUpRefIdeal.nD Cert.UpdUpRefIdeal.τ).loc Cert.UpdUpRefIdeal.main_arg1) = m ((c.tc : Thread Cert.UpdUpIdeal.nD Cert.UpdUpIdeal.τ).loc Cert.UpdUpIdeal.main_arg1)
      ∧ m' ((c.tc : Thread Cert.UpdUpRefIdeal.nD Cert.UpdUpRefIdeal.τ).loc Cert.UpdUpRefIdeal.main_arg2) = m ((c.tc : Thread Cert.UpdUpIdeal.nD Cert.UpdUpIdeal.τ).loc Cert.UpdUpIdeal.main_arg2)
      ∧ m' ((c.tc : Thread Cert.UpdUpRefIdeal.nD Cert.UpdUpRefIdeal.τ).loc Cert.UpdUpRefIdeal.main_arg3) = m ((c.tc : Thread Cert.UpdUpIdeal.nD Cert.UpdUpIdeal.τ).loc Cert.UpdUpIdeal.main_arg3)
      ∧ m' ((c.tc : Thread Cert.UpdUpRefIdeal.nD Cert.UpdUpRefIdeal.τ).loc Cert.UpdUpRefIdeal.main_arg4) = m ((c.tc : Thread Cert.UpdUpIdeal.nD Cert.UpdUpIdeal.τ).loc Cert.UpdUpIdeal.main_arg4)
      ∧ m' ((c.tc : Thread Cert.UpdUpRefIdeal.nD Cert.UpdUpRefIdeal.τ).loc Cert.UpdUpRefIdeal.main_arg5) = m ((c.tc : Thread Cert.UpdUpIdeal.nD Cert.UpdUpIdeal.τ).loc Cert.UpdUpIdeal.main_arg5)) →
    ∃ (v0 : (c : Dev Cert.UpdUpIdeal.nD) → Buf (Elt Ideal) ((c.tc : Thread Cert.UpdUpIdeal.nD Cert.UpdUpIdeal.τ).loc Cert.UpdUpIdeal.main_v4)) (v1 : (c : Dev Cert.UpdUpIdeal.nD) → Buf (Elt Ideal) ((c.tc : Thread Cert.UpdUpIdeal.nD Cert.UpdUpIdeal.τ).loc Cert.UpdUpIdeal.main_v5)) (v2 : (c : Dev Cert.UpdUpIdeal.nD) → Buf (Elt Ideal) ((c.tc : Thread Cert.UpdUpIdeal.nD Cert.UpdUpIdeal.τ).loc Cert.UpdUpIdeal.main_v6)) (v3 : (c : Dev Cert.UpdUpIdeal.nD) → Buf (Elt Ideal) ((c.tc : Thread Cert.UpdUpIdeal.nD Cert.UpdUpIdeal.τ).loc Cert.UpdUpIdeal.main_v7)),
      θ_run (Cert.UpdUpIdeal.defs (F := Ideal)) (onTc (τ := Cert.UpdUpIdeal.τ) (Cert.UpdUpIdeal.main (F := Ideal))) ⟨m, fun _ => 0, g⟩ (fun r => ∀ c : Dev Cert.UpdUpIdeal.nD,
          r.2.mem ((c.tc : Thread Cert.UpdUpIdeal.nD Cert.UpdUpIdeal.τ).loc Cert.UpdUpIdeal.main_v4) = v0 c
          ∧ r.2.mem ((c.tc : Thread Cert.UpdUpIdeal.nD Cert.UpdUpIdeal.τ).loc Cert.UpdUpIdeal.main_v5) = v1 c
          ∧ r.2.mem ((c.tc : Thread Cert.UpdUpIdeal.nD Cert.UpdUpIdeal.τ).loc Cert.UpdUpIdeal.main_v6) = v2 c
          ∧ r.2.mem ((c.tc : Thread Cert.UpdUpIdeal.nD Cert.UpdUpIdeal.τ).loc Cert.UpdUpIdeal.main_v7) = v3 c
          ∧ r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
          ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
          ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
          ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3)
          ∧ r.2.mem ((c.tc : Thread Cert.UpdUpIdeal.nD Cert.UpdUpIdeal.τ).loc Cert.UpdUpIdeal.main_arg4) = m ((c.tc : Thread Cert.UpdUpIdeal.nD Cert.UpdUpIdeal.τ).loc Cert.UpdUpIdeal.main_arg4)
          ∧ r.2.mem ((c.tc : Thread Cert.UpdUpIdeal.nD Cert.UpdUpIdeal.τ).loc Cert.UpdUpIdeal.main_arg5) = m ((c.tc : Thread Cert.UpdUpIdeal.nD Cert.UpdUpIdeal.τ).loc Cert.UpdUpIdeal.main_arg5))
      ∧ θ_run (Cert.UpdUpRefIdeal.defs (F := Ideal)) (onTc (τ := Cert.UpdUpRefIdeal.τ) (Cert.UpdUpRefIdeal.main (F := Ideal))) ⟨m', fun _ => 0, g'⟩ (fun r => ∀ c : Dev Cert.UpdUpRefIdeal.nD,
          r.2.mem ((c.tc : Thread Cert.UpdUpRefIdeal.nD Cert.UpdUpRefIdeal.τ).loc Cert.UpdUpRefIdeal.main_v6) = v0 c
          ∧ r.2.mem ((c.tc : Thread Cert.UpdUpRefIdeal.nD Cert.UpdUpRefIdeal.τ).loc Cert.UpdUpRefIdeal.main_v30) = v1 c
          ∧ r.2.mem ((c.tc : Thread Cert.UpdUpRefIdeal.nD Cert.UpdUpRefIdeal.τ).loc Cert.UpdUpRefIdeal.main_v11) = v2 c
          ∧ r.2.mem ((c.tc : Thread Cert.UpdUpRefIdeal.nD Cert.UpdUpRefIdeal.τ).loc Cert.UpdUpRefIdeal.main_v17) = v3 c
          ∧ r.2.mem ((c.tc : Thread Cert.UpdUpRefIdeal.nD Cert.UpdUpRefIdeal.τ).loc Cert.UpdUpRefIdeal.main_arg0) = m' ((c.tc : Thread Cert.UpdUpRefIdeal.nD Cert.UpdUpRefIdeal.τ).loc Cert.UpdUpRefIdeal.main_arg0)
          ∧ r.2.mem ((c.tc : Thread Cert.UpdUpRefIdeal.nD Cert.UpdUpRefIdeal.τ).loc Cert.UpdUpRefIdeal.main_arg1) = m' ((c.tc : Thread Cert.UpdUpRefIdeal.nD Cert.UpdUpRefIdeal.τ).loc Cert.UpdUpRefIdeal.main_arg1)
          ∧ r.2.mem ((c.tc : Thread Cert.UpdUpRefIdeal.nD Cert.UpdUpRefIdeal.τ).loc Cert.UpdUpRefIdeal.main_arg2) = m' ((c.tc : Thread Cert.UpdUpRefIdeal.nD Cert.UpdUpRefIdeal.τ).loc Cert.UpdUpRefIdeal.main_arg2)
          ∧ r.2.mem ((c.tc : Thread Cert.UpdUpRefIdeal.nD Cert.UpdUpRefIdeal.τ).loc Cert.UpdUpRefIdeal.main_arg3) = m' ((c.tc : Thread Cert.UpdUpRefIdeal.nD Cert.UpdUpRefIdeal.τ).loc Cert.UpdUpRefIdeal.main_arg3)
          ∧ r.2.mem ((c.tc : Thread Cert.UpdUpRefIdeal.nD Cert.UpdUpRefIdeal.τ).loc Cert.UpdUpRefIdeal.main_arg4) = m' ((c.tc : Thread Cert.UpdUpRefIdeal.nD Cert.UpdUpRefIdeal.τ).loc Cert.UpdUpRefIdeal.main_arg4)
          ∧ r.2.mem ((c.tc : Thread Cert.UpdUpRefIdeal.nD Cert.UpdUpRefIdeal.τ).loc Cert.UpdUpRefIdeal.main_arg5) = m' ((c.tc : Thread Cert.UpdUpRefIdeal.nD Cert.UpdUpRefIdeal.τ).loc Cert.UpdUpRefIdeal.main_arg5))

def preserves_UpdDown_UpdDownIdeal : Prop :=
  True

def algebraic_UpdDownIdeal_UpdDownRefIdeal [hUpdDownIdeal : Cert.UpdDownIdeal.Facts] [hUpdDownRefIdeal : Cert.UpdDownRefIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg)
    (m' : (ℓ : Loc Cert.UpdDownRefIdeal.nD Cert.UpdDownRefIdeal.τ Cert.UpdDownRefIdeal.sig) → Buf (Elt Ideal) ℓ) (g' : Dev Cert.UpdDownRefIdeal.nD → PrngReg), Pre_UpdDownIdeal m →
    (∀ c : Dev Cert.UpdDownIdeal.nD,
      m' ((c.tc : Thread Cert.UpdDownRefIdeal.nD Cert.UpdDownRefIdeal.τ).loc Cert.UpdDownRefIdeal.main_arg0) = m ((c.tc : Thread Cert.UpdDownIdeal.nD Cert.UpdDownIdeal.τ).loc Cert.UpdDownIdeal.main_arg0)
      ∧ m' ((c.tc : Thread Cert.UpdDownRefIdeal.nD Cert.UpdDownRefIdeal.τ).loc Cert.UpdDownRefIdeal.main_arg1) = m ((c.tc : Thread Cert.UpdDownIdeal.nD Cert.UpdDownIdeal.τ).loc Cert.UpdDownIdeal.main_arg1)
      ∧ m' ((c.tc : Thread Cert.UpdDownRefIdeal.nD Cert.UpdDownRefIdeal.τ).loc Cert.UpdDownRefIdeal.main_arg2) = m ((c.tc : Thread Cert.UpdDownIdeal.nD Cert.UpdDownIdeal.τ).loc Cert.UpdDownIdeal.main_arg2)
      ∧ m' ((c.tc : Thread Cert.UpdDownRefIdeal.nD Cert.UpdDownRefIdeal.τ).loc Cert.UpdDownRefIdeal.main_arg3) = m ((c.tc : Thread Cert.UpdDownIdeal.nD Cert.UpdDownIdeal.τ).loc Cert.UpdDownIdeal.main_arg3)
      ∧ m' ((c.tc : Thread Cert.UpdDownRefIdeal.nD Cert.UpdDownRefIdeal.τ).loc Cert.UpdDownRefIdeal.main_arg4) = m ((c.tc : Thread Cert.UpdDownIdeal.nD Cert.UpdDownIdeal.τ).loc Cert.UpdDownIdeal.main_arg4)
      ∧ m' ((c.tc : Thread Cert.UpdDownRefIdeal.nD Cert.UpdDownRefIdeal.τ).loc Cert.UpdDownRefIdeal.main_arg5) = m ((c.tc : Thread Cert.UpdDownIdeal.nD Cert.UpdDownIdeal.τ).loc Cert.UpdDownIdeal.main_arg5)) →
    ∃ (v0 : (c : Dev Cert.UpdDownIdeal.nD) → Buf (Elt Ideal) ((c.tc : Thread Cert.UpdDownIdeal.nD Cert.UpdDownIdeal.τ).loc Cert.UpdDownIdeal.main_v4)) (v1 : (c : Dev Cert.UpdDownIdeal.nD) → Buf (Elt Ideal) ((c.tc : Thread Cert.UpdDownIdeal.nD Cert.UpdDownIdeal.τ).loc Cert.UpdDownIdeal.main_v5)) (v2 : (c : Dev Cert.UpdDownIdeal.nD) → Buf (Elt Ideal) ((c.tc : Thread Cert.UpdDownIdeal.nD Cert.UpdDownIdeal.τ).loc Cert.UpdDownIdeal.main_v6)) (v3 : (c : Dev Cert.UpdDownIdeal.nD) → Buf (Elt Ideal) ((c.tc : Thread Cert.UpdDownIdeal.nD Cert.UpdDownIdeal.τ).loc Cert.UpdDownIdeal.main_v7)),
      θ_run (Cert.UpdDownIdeal.defs (F := Ideal)) (onTc (τ := Cert.UpdDownIdeal.τ) (Cert.UpdDownIdeal.main (F := Ideal))) ⟨m, fun _ => 0, g⟩ (fun r => ∀ c : Dev Cert.UpdDownIdeal.nD,
          r.2.mem ((c.tc : Thread Cert.UpdDownIdeal.nD Cert.UpdDownIdeal.τ).loc Cert.UpdDownIdeal.main_v4) = v0 c
          ∧ r.2.mem ((c.tc : Thread Cert.UpdDownIdeal.nD Cert.UpdDownIdeal.τ).loc Cert.UpdDownIdeal.main_v5) = v1 c
          ∧ r.2.mem ((c.tc : Thread Cert.UpdDownIdeal.nD Cert.UpdDownIdeal.τ).loc Cert.UpdDownIdeal.main_v6) = v2 c
          ∧ r.2.mem ((c.tc : Thread Cert.UpdDownIdeal.nD Cert.UpdDownIdeal.τ).loc Cert.UpdDownIdeal.main_v7) = v3 c
          ∧ r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
          ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
          ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
          ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3)
          ∧ r.2.mem ((c.tc : Thread Cert.UpdDownIdeal.nD Cert.UpdDownIdeal.τ).loc Cert.UpdDownIdeal.main_arg4) = m ((c.tc : Thread Cert.UpdDownIdeal.nD Cert.UpdDownIdeal.τ).loc Cert.UpdDownIdeal.main_arg4)
          ∧ r.2.mem ((c.tc : Thread Cert.UpdDownIdeal.nD Cert.UpdDownIdeal.τ).loc Cert.UpdDownIdeal.main_arg5) = m ((c.tc : Thread Cert.UpdDownIdeal.nD Cert.UpdDownIdeal.τ).loc Cert.UpdDownIdeal.main_arg5))
      ∧ θ_run (Cert.UpdDownRefIdeal.defs (F := Ideal)) (onTc (τ := Cert.UpdDownRefIdeal.τ) (Cert.UpdDownRefIdeal.main (F := Ideal))) ⟨m', fun _ => 0, g'⟩ (fun r => ∀ c : Dev Cert.UpdDownRefIdeal.nD,
          r.2.mem ((c.tc : Thread Cert.UpdDownRefIdeal.nD Cert.UpdDownRefIdeal.τ).loc Cert.UpdDownRefIdeal.main_v6) = v0 c
          ∧ r.2.mem ((c.tc : Thread Cert.UpdDownRefIdeal.nD Cert.UpdDownRefIdeal.τ).loc Cert.UpdDownRefIdeal.main_v30) = v1 c
          ∧ r.2.mem ((c.tc : Thread Cert.UpdDownRefIdeal.nD Cert.UpdDownRefIdeal.τ).loc Cert.UpdDownRefIdeal.main_v11) = v2 c
          ∧ r.2.mem ((c.tc : Thread Cert.UpdDownRefIdeal.nD Cert.UpdDownRefIdeal.τ).loc Cert.UpdDownRefIdeal.main_v17) = v3 c
          ∧ r.2.mem ((c.tc : Thread Cert.UpdDownRefIdeal.nD Cert.UpdDownRefIdeal.τ).loc Cert.UpdDownRefIdeal.main_arg0) = m' ((c.tc : Thread Cert.UpdDownRefIdeal.nD Cert.UpdDownRefIdeal.τ).loc Cert.UpdDownRefIdeal.main_arg0)
          ∧ r.2.mem ((c.tc : Thread Cert.UpdDownRefIdeal.nD Cert.UpdDownRefIdeal.τ).loc Cert.UpdDownRefIdeal.main_arg1) = m' ((c.tc : Thread Cert.UpdDownRefIdeal.nD Cert.UpdDownRefIdeal.τ).loc Cert.UpdDownRefIdeal.main_arg1)
          ∧ r.2.mem ((c.tc : Thread Cert.UpdDownRefIdeal.nD Cert.UpdDownRefIdeal.τ).loc Cert.UpdDownRefIdeal.main_arg2) = m' ((c.tc : Thread Cert.UpdDownRefIdeal.nD Cert.UpdDownRefIdeal.τ).loc Cert.UpdDownRefIdeal.main_arg2)
          ∧ r.2.mem ((c.tc : Thread Cert.UpdDownRefIdeal.nD Cert.UpdDownRefIdeal.τ).loc Cert.UpdDownRefIdeal.main_arg3) = m' ((c.tc : Thread Cert.UpdDownRefIdeal.nD Cert.UpdDownRefIdeal.τ).loc Cert.UpdDownRefIdeal.main_arg3)
          ∧ r.2.mem ((c.tc : Thread Cert.UpdDownRefIdeal.nD Cert.UpdDownRefIdeal.τ).loc Cert.UpdDownRefIdeal.main_arg4) = m' ((c.tc : Thread Cert.UpdDownRefIdeal.nD Cert.UpdDownRefIdeal.τ).loc Cert.UpdDownRefIdeal.main_arg4)
          ∧ r.2.mem ((c.tc : Thread Cert.UpdDownRefIdeal.nD Cert.UpdDownRefIdeal.τ).loc Cert.UpdDownRefIdeal.main_arg5) = m' ((c.tc : Thread Cert.UpdDownRefIdeal.nD Cert.UpdDownRefIdeal.τ).loc Cert.UpdDownRefIdeal.main_arg5))

def preserves_UpdGate_UpdGateIdeal : Prop :=
  True

def algebraic_UpdGateIdeal_UpdGateRefIdeal [hUpdGateIdeal : Cert.UpdGateIdeal.Facts] [hUpdGateRefIdeal : Cert.UpdGateRefIdeal.Facts] : Prop :=
  ∀ (m : (ℓ : Loc Cert.UpdGateIdeal.nD Cert.UpdGateIdeal.τ Cert.UpdGateIdeal.sig) → Buf (Elt Ideal) ℓ) (g : Dev Cert.UpdGateIdeal.nD → PrngReg)
    (m' : (ℓ : Loc Cert.UpdGateRefIdeal.nD Cert.UpdGateRefIdeal.τ Cert.UpdGateRefIdeal.sig) → Buf (Elt Ideal) ℓ) (g' : Dev Cert.UpdGateRefIdeal.nD → PrngReg), Pre_UpdGateIdeal m →
    (∀ c : Dev Cert.UpdGateIdeal.nD,
      m' ((c.tc : Thread Cert.UpdGateRefIdeal.nD Cert.UpdGateRefIdeal.τ).loc Cert.UpdGateRefIdeal.main_arg0) = m ((c.tc : Thread Cert.UpdGateIdeal.nD Cert.UpdGateIdeal.τ).loc Cert.UpdGateIdeal.main_arg0)
      ∧ m' ((c.tc : Thread Cert.UpdGateRefIdeal.nD Cert.UpdGateRefIdeal.τ).loc Cert.UpdGateRefIdeal.main_arg1) = m ((c.tc : Thread Cert.UpdGateIdeal.nD Cert.UpdGateIdeal.τ).loc Cert.UpdGateIdeal.main_arg1)
      ∧ m' ((c.tc : Thread Cert.UpdGateRefIdeal.nD Cert.UpdGateRefIdeal.τ).loc Cert.UpdGateRefIdeal.main_arg2) = m ((c.tc : Thread Cert.UpdGateIdeal.nD Cert.UpdGateIdeal.τ).loc Cert.UpdGateIdeal.main_arg2)
      ∧ m' ((c.tc : Thread Cert.UpdGateRefIdeal.nD Cert.UpdGateRefIdeal.τ).loc Cert.UpdGateRefIdeal.main_arg3) = m ((c.tc : Thread Cert.UpdGateIdeal.nD Cert.UpdGateIdeal.τ).loc Cert.UpdGateIdeal.main_arg3)
      ∧ m' ((c.tc : Thread Cert.UpdGateRefIdeal.nD Cert.UpdGateRefIdeal.τ).loc Cert.UpdGateRefIdeal.main_arg4) = m ((c.tc : Thread Cert.UpdGateIdeal.nD Cert.UpdGateIdeal.τ).loc Cert.UpdGateIdeal.main_arg4)
      ∧ m' ((c.tc : Thread Cert.UpdGateRefIdeal.nD Cert.UpdGateRefIdeal.τ).loc Cert.UpdGateRefIdeal.main_arg5) = m ((c.tc : Thread Cert.UpdGateIdeal.nD Cert.UpdGateIdeal.τ).loc Cert.UpdGateIdeal.main_arg5)) →
    ∃ (v0 : (c : Dev Cert.UpdGateIdeal.nD) → Buf (Elt Ideal) ((c.tc : Thread Cert.UpdGateIdeal.nD Cert.UpdGateIdeal.τ).loc Cert.UpdGateIdeal.main_v4)) (v1 : (c : Dev Cert.UpdGateIdeal.nD) → Buf (Elt Ideal) ((c.tc : Thread Cert.UpdGateIdeal.nD Cert.UpdGateIdeal.τ).loc Cert.UpdGateIdeal.main_v5)) (v2 : (c : Dev Cert.UpdGateIdeal.nD) → Buf (Elt Ideal) ((c.tc : Thread Cert.UpdGateIdeal.nD Cert.UpdGateIdeal.τ).loc Cert.UpdGateIdeal.main_v6)) (v3 : (c : Dev Cert.UpdGateIdeal.nD) → Buf (Elt Ideal) ((c.tc : Thread Cert.UpdGateIdeal.nD Cert.UpdGateIdeal.τ).loc Cert.UpdGateIdeal.main_v7)),
      θ_run (Cert.UpdGateIdeal.defs (F := Ideal)) (onTc (τ := Cert.UpdGateIdeal.τ) (Cert.UpdGateIdeal.main (F := Ideal))) ⟨m, fun _ => 0, g⟩ (fun r => ∀ c : Dev Cert.UpdGateIdeal.nD,
          r.2.mem ((c.tc : Thread Cert.UpdGateIdeal.nD Cert.UpdGateIdeal.τ).loc Cert.UpdGateIdeal.main_v4) = v0 c
          ∧ r.2.mem ((c.tc : Thread Cert.UpdGateIdeal.nD Cert.UpdGateIdeal.τ).loc Cert.UpdGateIdeal.main_v5) = v1 c
          ∧ r.2.mem ((c.tc : Thread Cert.UpdGateIdeal.nD Cert.UpdGateIdeal.τ).loc Cert.UpdGateIdeal.main_v6) = v2 c
          ∧ r.2.mem ((c.tc : Thread Cert.UpdGateIdeal.nD Cert.UpdGateIdeal.τ).loc Cert.UpdGateIdeal.main_v7) = v3 c
          ∧ r.2.mem ((c.tc : Thread Cert.UpdGateIdeal.nD Cert.UpdGateIdeal.τ).loc Cert.UpdGateIdeal.main_arg0) = m ((c.tc : Thread Cert.UpdGateIdeal.nD Cert.UpdGateIdeal.τ).loc Cert.UpdGateIdeal.main_arg0)
          ∧ r.2.mem ((c.tc : Thread Cert.UpdGateIdeal.nD Cert.UpdGateIdeal.τ).loc Cert.UpdGateIdeal.main_arg1) = m ((c.tc : Thread Cert.UpdGateIdeal.nD Cert.UpdGateIdeal.τ).loc Cert.UpdGateIdeal.main_arg1)
          ∧ r.2.mem ((c.tc : Thread Cert.UpdGateIdeal.nD Cert.UpdGateIdeal.τ).loc Cert.UpdGateIdeal.main_arg2) = m ((c.tc : Thread Cert.UpdGateIdeal.nD Cert.UpdGateIdeal.τ).loc Cert.UpdGateIdeal.main_arg2)
          ∧ r.2.mem ((c.tc : Thread Cert.UpdGateIdeal.nD Cert.UpdGateIdeal.τ).loc Cert.UpdGateIdeal.main_arg3) = m ((c.tc : Thread Cert.UpdGateIdeal.nD Cert.UpdGateIdeal.τ).loc Cert.UpdGateIdeal.main_arg3)
          ∧ r.2.mem ((c.tc : Thread Cert.UpdGateIdeal.nD Cert.UpdGateIdeal.τ).loc Cert.UpdGateIdeal.main_arg4) = m ((c.tc : Thread Cert.UpdGateIdeal.nD Cert.UpdGateIdeal.τ).loc Cert.UpdGateIdeal.main_arg4)
          ∧ r.2.mem ((c.tc : Thread Cert.UpdGateIdeal.nD Cert.UpdGateIdeal.τ).loc Cert.UpdGateIdeal.main_arg5) = m ((c.tc : Thread Cert.UpdGateIdeal.nD Cert.UpdGateIdeal.τ).loc Cert.UpdGateIdeal.main_arg5))
      ∧ θ_run (Cert.UpdGateRefIdeal.defs (F := Ideal)) (onTc (τ := Cert.UpdGateRefIdeal.τ) (Cert.UpdGateRefIdeal.main (F := Ideal))) ⟨m', fun _ => 0, g'⟩ (fun r => ∀ c : Dev Cert.UpdGateRefIdeal.nD,
          r.2.mem ((c.tc : Thread Cert.UpdGateRefIdeal.nD Cert.UpdGateRefIdeal.τ).loc Cert.UpdGateRefIdeal.main_v6) = v0 c
          ∧ r.2.mem ((c.tc : Thread Cert.UpdGateRefIdeal.nD Cert.UpdGateRefIdeal.τ).loc Cert.UpdGateRefIdeal.main_v30) = v1 c
          ∧ r.2.mem ((c.tc : Thread Cert.UpdGateRefIdeal.nD Cert.UpdGateRefIdeal.τ).loc Cert.UpdGateRefIdeal.main_v11) = v2 c
          ∧ r.2.mem ((c.tc : Thread Cert.UpdGateRefIdeal.nD Cert.UpdGateRefIdeal.τ).loc Cert.UpdGateRefIdeal.main_v17) = v3 c
          ∧ r.2.mem ((c.tc : Thread Cert.UpdGateRefIdeal.nD Cert.UpdGateRefIdeal.τ).loc Cert.UpdGateRefIdeal.main_arg0) = m' ((c.tc : Thread Cert.UpdGateRefIdeal.nD Cert.UpdGateRefIdeal.τ).loc Cert.UpdGateRefIdeal.main_arg0)
          ∧ r.2.mem ((c.tc : Thread Cert.UpdGateRefIdeal.nD Cert.UpdGateRefIdeal.τ).loc Cert.UpdGateRefIdeal.main_arg1) = m' ((c.tc : Thread Cert.UpdGateRefIdeal.nD Cert.UpdGateRefIdeal.τ).loc Cert.UpdGateRefIdeal.main_arg1)
          ∧ r.2.mem ((c.tc : Thread Cert.UpdGateRefIdeal.nD Cert.UpdGateRefIdeal.τ).loc Cert.UpdGateRefIdeal.main_arg2) = m' ((c.tc : Thread Cert.UpdGateRefIdeal.nD Cert.UpdGateRefIdeal.τ).loc Cert.UpdGateRefIdeal.main_arg2)
          ∧ r.2.mem ((c.tc : Thread Cert.UpdGateRefIdeal.nD Cert.UpdGateRefIdeal.τ).loc Cert.UpdGateRefIdeal.main_arg3) = m' ((c.tc : Thread Cert.UpdGateRefIdeal.nD Cert.UpdGateRefIdeal.τ).loc Cert.UpdGateRefIdeal.main_arg3)
          ∧ r.2.mem ((c.tc : Thread Cert.UpdGateRefIdeal.nD Cert.UpdGateRefIdeal.τ).loc Cert.UpdGateRefIdeal.main_arg4) = m' ((c.tc : Thread Cert.UpdGateRefIdeal.nD Cert.UpdGateRefIdeal.τ).loc Cert.UpdGateRefIdeal.main_arg4)
          ∧ r.2.mem ((c.tc : Thread Cert.UpdGateRefIdeal.nD Cert.UpdGateRefIdeal.τ).loc Cert.UpdGateRefIdeal.main_arg5) = m' ((c.tc : Thread Cert.UpdGateRefIdeal.nD Cert.UpdGateRefIdeal.τ).loc Cert.UpdGateRefIdeal.main_arg5))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)
      ∧ m' ((c.tc : Thread Cert.ScFwdRefIdeal.nD Cert.ScFwdRefIdeal.τ).loc Cert.ScFwdRefIdeal.main_arg2) = m ((c.tc : Thread Cert.ScFwdIdeal.nD Cert.ScFwdIdeal.τ).loc Cert.ScFwdIdeal.main_arg2)) →
    ∃ (v0 : (c : Dev Cert.ScFwdIdeal.nD) → Buf (Elt Ideal) ((c.tc : Thread Cert.ScFwdIdeal.nD Cert.ScFwdIdeal.τ).loc Cert.ScFwdIdeal.main_v1)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v1) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
          ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v32) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1)
          ∧ r.2.mem ((c.tc : Thread Cert.ScFwdRefIdeal.nD Cert.ScFwdRefIdeal.τ).loc Cert.ScFwdRefIdeal.main_arg2) = m' ((c.tc : Thread Cert.ScFwdRefIdeal.nD Cert.ScFwdRefIdeal.τ).loc Cert.ScFwdRefIdeal.main_arg2))

def preserves_UpdPack_UpdPackIdeal : Prop :=
  True

def algebraic_UpdPackIdeal_UpdPackRefIdeal [hUpdPackIdeal : Cert.UpdPackIdeal.Facts] [hUpdPackRefIdeal : Cert.UpdPackRefIdeal.Facts] : Prop :=
  ∀ (m : (ℓ : Loc Cert.UpdPackIdeal.nD Cert.UpdPackIdeal.τ Cert.UpdPackIdeal.sig) → Buf (Elt Ideal) ℓ) (g : Dev Cert.UpdPackIdeal.nD → PrngReg)
    (m' : (ℓ : Loc Cert.UpdPackRefIdeal.nD Cert.UpdPackRefIdeal.τ Cert.UpdPackRefIdeal.sig) → Buf (Elt Ideal) ℓ) (g' : Dev Cert.UpdPackRefIdeal.nD → PrngReg), Pre_UpdPackIdeal m →
    (∀ c : Dev Cert.UpdPackIdeal.nD,
      m' ((c.tc : Thread Cert.UpdPackRefIdeal.nD Cert.UpdPackRefIdeal.τ).loc Cert.UpdPackRefIdeal.main_arg0) = m ((c.tc : Thread Cert.UpdPackIdeal.nD Cert.UpdPackIdeal.τ).loc Cert.UpdPackIdeal.main_arg0)
      ∧ m' ((c.tc : Thread Cert.UpdPackRefIdeal.nD Cert.UpdPackRefIdeal.τ).loc Cert.UpdPackRefIdeal.main_arg1) = m ((c.tc : Thread Cert.UpdPackIdeal.nD Cert.UpdPackIdeal.τ).loc Cert.UpdPackIdeal.main_arg1)
      ∧ m' ((c.tc : Thread Cert.UpdPackRefIdeal.nD Cert.UpdPackRefIdeal.τ).loc Cert.UpdPackRefIdeal.main_arg2) = m ((c.tc : Thread Cert.UpdPackIdeal.nD Cert.UpdPackIdeal.τ).loc Cert.UpdPackIdeal.main_arg2)
      ∧ m' ((c.tc : Thread Cert.UpdPackRefIdeal.nD Cert.UpdPackRefIdeal.τ).loc Cert.UpdPackRefIdeal.main_arg3) = m ((c.tc : Thread Cert.UpdPackIdeal.nD Cert.UpdPackIdeal.τ).loc Cert.UpdPackIdeal.main_arg3)
      ∧ m' ((c.tc : Thread Cert.UpdPackRefIdeal.nD Cert.UpdPackRefIdeal.τ).loc Cert.UpdPackRefIdeal.main_arg4) = m ((c.tc : Thread Cert.UpdPackIdeal.nD Cert.UpdPackIdeal.τ).loc Cert.UpdPackIdeal.main_arg4)
      ∧ m' ((c.tc : Thread Cert.UpdPackRefIdeal.nD Cert.UpdPackRefIdeal.τ).loc Cert.UpdPackRefIdeal.main_arg5) = m ((c.tc : Thread Cert.UpdPackIdeal.nD Cert.UpdPackIdeal.τ).loc Cert.UpdPackIdeal.main_arg5)) →
    ∃ (v0 : (c : Dev Cert.UpdPackIdeal.nD) → Buf (Elt Ideal) ((c.tc : Thread Cert.UpdPackIdeal.nD Cert.UpdPackIdeal.τ).loc Cert.UpdPackIdeal.main_v4)) (v1 : (c : Dev Cert.UpdPackIdeal.nD) → Buf (Elt Ideal) ((c.tc : Thread Cert.UpdPackIdeal.nD Cert.UpdPackIdeal.τ).loc Cert.UpdPackIdeal.main_v5)) (v2 : (c : Dev Cert.UpdPackIdeal.nD) → Buf (Elt Ideal) ((c.tc : Thread Cert.UpdPackIdeal.nD Cert.UpdPackIdeal.τ).loc Cert.UpdPackIdeal.main_v6)) (v3 : (c : Dev Cert.UpdPackIdeal.nD) → Buf (Elt Ideal) ((c.tc : Thread Cert.UpdPackIdeal.nD Cert.UpdPackIdeal.τ).loc Cert.UpdPackIdeal.main_v7)),
      θ_run (Cert.UpdPackIdeal.defs (F := Ideal)) (onTc (τ := Cert.UpdPackIdeal.τ) (Cert.UpdPackIdeal.main (F := Ideal))) ⟨m, fun _ => 0, g⟩ (fun r => ∀ c : Dev Cert.UpdPackIdeal.nD,
          r.2.mem ((c.tc : Thread Cert.UpdPackIdeal.nD Cert.UpdPackIdeal.τ).loc Cert.UpdPackIdeal.main_v4) = v0 c
          ∧ r.2.mem ((c.tc : Thread Cert.UpdPackIdeal.nD Cert.UpdPackIdeal.τ).loc Cert.UpdPackIdeal.main_v5) = v1 c
          ∧ r.2.mem ((c.tc : Thread Cert.UpdPackIdeal.nD Cert.UpdPackIdeal.τ).loc Cert.UpdPackIdeal.main_v6) = v2 c
          ∧ r.2.mem ((c.tc : Thread Cert.UpdPackIdeal.nD Cert.UpdPackIdeal.τ).loc Cert.UpdPackIdeal.main_v7) = v3 c
          ∧ r.2.mem ((c.tc : Thread Cert.UpdPackIdeal.nD Cert.UpdPackIdeal.τ).loc Cert.UpdPackIdeal.main_arg0) = m ((c.tc : Thread Cert.UpdPackIdeal.nD Cert.UpdPackIdeal.τ).loc Cert.UpdPackIdeal.main_arg0)
          ∧ r.2.mem ((c.tc : Thread Cert.UpdPackIdeal.nD Cert.UpdPackIdeal.τ).loc Cert.UpdPackIdeal.main_arg1) = m ((c.tc : Thread Cert.UpdPackIdeal.nD Cert.UpdPackIdeal.τ).loc Cert.UpdPackIdeal.main_arg1)
          ∧ r.2.mem ((c.tc : Thread Cert.UpdPackIdeal.nD Cert.UpdPackIdeal.τ).loc Cert.UpdPackIdeal.main_arg2) = m ((c.tc : Thread Cert.UpdPackIdeal.nD Cert.UpdPackIdeal.τ).loc Cert.UpdPackIdeal.main_arg2)
          ∧ r.2.mem ((c.tc : Thread Cert.UpdPackIdeal.nD Cert.UpdPackIdeal.τ).loc Cert.UpdPackIdeal.main_arg3) = m ((c.tc : Thread Cert.UpdPackIdeal.nD Cert.UpdPackIdeal.τ).loc Cert.UpdPackIdeal.main_arg3)
          ∧ r.2.mem ((c.tc : Thread Cert.UpdPackIdeal.nD Cert.UpdPackIdeal.τ).loc Cert.UpdPackIdeal.main_arg4) = m ((c.tc : Thread Cert.UpdPackIdeal.nD Cert.UpdPackIdeal.τ).loc Cert.UpdPackIdeal.main_arg4)
          ∧ r.2.mem ((c.tc : Thread Cert.UpdPackIdeal.nD Cert.UpdPackIdeal.τ).loc Cert.UpdPackIdeal.main_arg5) = m ((c.tc : Thread Cert.UpdPackIdeal.nD Cert.UpdPackIdeal.τ).loc Cert.UpdPackIdeal.main_arg5))
      ∧ θ_run (Cert.UpdPackRefIdeal.defs (F := Ideal)) (onTc (τ := Cert.UpdPackRefIdeal.τ) (Cert.UpdPackRefIdeal.main (F := Ideal))) ⟨m', fun _ => 0, g'⟩ (fun r => ∀ c : Dev Cert.UpdPackRefIdeal.nD,
          r.2.mem ((c.tc : Thread Cert.UpdPackRefIdeal.nD Cert.UpdPackRefIdeal.τ).loc Cert.UpdPackRefIdeal.main_v6) = v0 c
          ∧ r.2.mem ((c.tc : Thread Cert.UpdPackRefIdeal.nD Cert.UpdPackRefIdeal.τ).loc Cert.UpdPackRefIdeal.main_v30) = v1 c
          ∧ r.2.mem ((c.tc : Thread Cert.UpdPackRefIdeal.nD Cert.UpdPackRefIdeal.τ).loc Cert.UpdPackRefIdeal.main_v11) = v2 c
          ∧ r.2.mem ((c.tc : Thread Cert.UpdPackRefIdeal.nD Cert.UpdPackRefIdeal.τ).loc Cert.UpdPackRefIdeal.main_v17) = v3 c
          ∧ r.2.mem ((c.tc : Thread Cert.UpdPackRefIdeal.nD Cert.UpdPackRefIdeal.τ).loc Cert.UpdPackRefIdeal.main_arg0) = m' ((c.tc : Thread Cert.UpdPackRefIdeal.nD Cert.UpdPackRefIdeal.τ).loc Cert.UpdPackRefIdeal.main_arg0)
          ∧ r.2.mem ((c.tc : Thread Cert.UpdPackRefIdeal.nD Cert.UpdPackRefIdeal.τ).loc Cert.UpdPackRefIdeal.main_arg1) = m' ((c.tc : Thread Cert.UpdPackRefIdeal.nD Cert.UpdPackRefIdeal.τ).loc Cert.UpdPackRefIdeal.main_arg1)
          ∧ r.2.mem ((c.tc : Thread Cert.UpdPackRefIdeal.nD Cert.UpdPackRefIdeal.τ).loc Cert.UpdPackRefIdeal.main_arg2) = m' ((c.tc : Thread Cert.UpdPackRefIdeal.nD Cert.UpdPackRefIdeal.τ).loc Cert.UpdPackRefIdeal.main_arg2)
          ∧ r.2.mem ((c.tc : Thread Cert.UpdPackRefIdeal.nD Cert.UpdPackRefIdeal.τ).loc Cert.UpdPackRefIdeal.main_arg3) = m' ((c.tc : Thread Cert.UpdPackRefIdeal.nD Cert.UpdPackRefIdeal.τ).loc Cert.UpdPackRefIdeal.main_arg3)
          ∧ r.2.mem ((c.tc : Thread Cert.UpdPackRefIdeal.nD Cert.UpdPackRefIdeal.τ).loc Cert.UpdPackRefIdeal.main_arg4) = m' ((c.tc : Thread Cert.UpdPackRefIdeal.nD Cert.UpdPackRefIdeal.τ).loc Cert.UpdPackRefIdeal.main_arg4)
          ∧ r.2.mem ((c.tc : Thread Cert.UpdPackRefIdeal.nD Cert.UpdPackRefIdeal.τ).loc Cert.UpdPackRefIdeal.main_arg5) = m' ((c.tc : Thread Cert.UpdPackRefIdeal.nD Cert.UpdPackRefIdeal.τ).loc Cert.UpdPackRefIdeal.main_arg5))

def preserves_UpdSmall_UpdSmallIdeal : Prop :=
  True

def algebraic_UpdSmallIdeal_UpdSmallRefIdeal [hUpdSmallIdeal : Cert.UpdSmallIdeal.Facts] [hUpdSmallRefIdeal : Cert.UpdSmallRefIdeal.Facts] : Prop :=
  ∀ (m : (ℓ : Loc Cert.UpdSmallIdeal.nD Cert.UpdSmallIdeal.τ Cert.UpdSmallIdeal.sig) → Buf (Elt Ideal) ℓ) (g : Dev Cert.UpdSmallIdeal.nD → PrngReg)
    (m' : (ℓ : Loc Cert.UpdSmallRefIdeal.nD Cert.UpdSmallRefIdeal.τ Cert.UpdSmallRefIdeal.sig) → Buf (Elt Ideal) ℓ) (g' : Dev Cert.UpdSmallRefIdeal.nD → PrngReg), Pre_UpdSmallIdeal m →
    (∀ c : Dev Cert.UpdSmallIdeal.nD,
      m' ((c.tc : Thread Cert.UpdSmallRefIdeal.nD Cert.UpdSmallRefIdeal.τ).loc Cert.UpdSmallRefIdeal.main_arg0) = m ((c.tc : Thread Cert.UpdSmallIdeal.nD Cert.UpdSmallIdeal.τ).loc Cert.UpdSmallIdeal.main_arg0)
      ∧ m' ((c.tc : Thread Cert.UpdSmallRefIdeal.nD Cert.UpdSmallRefIdeal.τ).loc Cert.UpdSmallRefIdeal.main_arg1) = m ((c.tc : Thread Cert.UpdSmallIdeal.nD Cert.UpdSmallIdeal.τ).loc Cert.UpdSmallIdeal.main_arg1)
      ∧ m' ((c.tc : Thread Cert.UpdSmallRefIdeal.nD Cert.UpdSmallRefIdeal.τ).loc Cert.UpdSmallRefIdeal.main_arg2) = m ((c.tc : Thread Cert.UpdSmallIdeal.nD Cert.UpdSmallIdeal.τ).loc Cert.UpdSmallIdeal.main_arg2)
      ∧ m' ((c.tc : Thread Cert.UpdSmallRefIdeal.nD Cert.UpdSmallRefIdeal.τ).loc Cert.UpdSmallRefIdeal.main_arg3) = m ((c.tc : Thread Cert.UpdSmallIdeal.nD Cert.UpdSmallIdeal.τ).loc Cert.UpdSmallIdeal.main_arg3)
      ∧ m' ((c.tc : Thread Cert.UpdSmallRefIdeal.nD Cert.UpdSmallRefIdeal.τ).loc Cert.UpdSmallRefIdeal.main_arg4) = m ((c.tc : Thread Cert.UpdSmallIdeal.nD Cert.UpdSmallIdeal.τ).loc Cert.UpdSmallIdeal.main_arg4)
      ∧ m' ((c.tc : Thread Cert.UpdSmallRefIdeal.nD Cert.UpdSmallRefIdeal.τ).loc Cert.UpdSmallRefIdeal.main_arg5) = m ((c.tc : Thread Cert.UpdSmallIdeal.nD Cert.UpdSmallIdeal.τ).loc Cert.UpdSmallIdeal.main_arg5)
      ∧ m' ((c.tc : Thread Cert.UpdSmallRefIdeal.nD Cert.UpdSmallRefIdeal.τ).loc Cert.UpdSmallRefIdeal.main_arg6) = m ((c.tc : Thread Cert.UpdSmallIdeal.nD Cert.UpdSmallIdeal.τ).loc Cert.UpdSmallIdeal.main_arg6)
      ∧ m' ((c.tc : Thread Cert.UpdSmallRefIdeal.nD Cert.UpdSmallRefIdeal.τ).loc Cert.UpdSmallRefIdeal.main_arg7) = m ((c.tc : Thread Cert.UpdSmallIdeal.nD Cert.UpdSmallIdeal.τ).loc Cert.UpdSmallIdeal.main_arg7)
      ∧ m' ((c.tc : Thread Cert.UpdSmallRefIdeal.nD Cert.UpdSmallRefIdeal.τ).loc Cert.UpdSmallRefIdeal.main_arg8) = m ((c.tc : Thread Cert.UpdSmallIdeal.nD Cert.UpdSmallIdeal.τ).loc Cert.UpdSmallIdeal.main_arg8)
      ∧ m' ((c.tc : Thread Cert.UpdSmallRefIdeal.nD Cert.UpdSmallRefIdeal.τ).loc Cert.UpdSmallRefIdeal.main_arg9) = m ((c.tc : Thread Cert.UpdSmallIdeal.nD Cert.UpdSmallIdeal.τ).loc Cert.UpdSmallIdeal.main_arg9)
      ∧ m' ((c.tc : Thread Cert.UpdSmallRefIdeal.nD Cert.UpdSmallRefIdeal.τ).loc Cert.UpdSmallRefIdeal.main_arg10) = m ((c.tc : Thread Cert.UpdSmallIdeal.nD Cert.UpdSmallIdeal.τ).loc Cert.UpdSmallIdeal.main_arg10)
      ∧ m' ((c.tc : Thread Cert.UpdSmallRefIdeal.nD Cert.UpdSmallRefIdeal.τ).loc Cert.UpdSmallRefIdeal.main_arg11) = m ((c.tc : Thread Cert.UpdSmallIdeal.nD Cert.UpdSmallIdeal.τ).loc Cert.UpdSmallIdeal.main_arg11)
      ∧ m' ((c.tc : Thread Cert.UpdSmallRefIdeal.nD Cert.UpdSmallRefIdeal.τ).loc Cert.UpdSmallRefIdeal.main_arg12) = m ((c.tc : Thread Cert.UpdSmallIdeal.nD Cert.UpdSmallIdeal.τ).loc Cert.UpdSmallIdeal.main_arg12)
      ∧ m' ((c.tc : Thread Cert.UpdSmallRefIdeal.nD Cert.UpdSmallRefIdeal.τ).loc Cert.UpdSmallRefIdeal.main_arg13) = m ((c.tc : Thread Cert.UpdSmallIdeal.nD Cert.UpdSmallIdeal.τ).loc Cert.UpdSmallIdeal.main_arg13)
      ∧ m' ((c.tc : Thread Cert.UpdSmallRefIdeal.nD Cert.UpdSmallRefIdeal.τ).loc Cert.UpdSmallRefIdeal.main_arg14) = m ((c.tc : Thread Cert.UpdSmallIdeal.nD Cert.UpdSmallIdeal.τ).loc Cert.UpdSmallIdeal.main_arg14)
      ∧ m' ((c.tc : Thread Cert.UpdSmallRefIdeal.nD Cert.UpdSmallRefIdeal.τ).loc Cert.UpdSmallRefIdeal.main_arg15) = m ((c.tc : Thread Cert.UpdSmallIdeal.nD Cert.UpdSmallIdeal.τ).loc Cert.UpdSmallIdeal.main_arg15)
      ∧ m' ((c.tc : Thread Cert.UpdSmallRefIdeal.nD Cert.UpdSmallRefIdeal.τ).loc Cert.UpdSmallRefIdeal.main_arg16) = m ((c.tc : Thread Cert.UpdSmallIdeal.nD Cert.UpdSmallIdeal.τ).loc Cert.UpdSmallIdeal.main_arg16)
      ∧ m' ((c.tc : Thread Cert.UpdSmallRefIdeal.nD Cert.UpdSmallRefIdeal.τ).loc Cert.UpdSmallRefIdeal.main_arg17) = m ((c.tc : Thread Cert.UpdSmallIdeal.nD Cert.UpdSmallIdeal.τ).loc Cert.UpdSmallIdeal.main_arg17)
      ∧ m' ((c.tc : Thread Cert.UpdSmallRefIdeal.nD Cert.UpdSmallRefIdeal.τ).loc Cert.UpdSmallRefIdeal.main_arg18) = m ((c.tc : Thread Cert.UpdSmallIdeal.nD Cert.UpdSmallIdeal.τ).loc Cert.UpdSmallIdeal.main_arg18)
      ∧ m' ((c.tc : Thread Cert.UpdSmallRefIdeal.nD Cert.UpdSmallRefIdeal.τ).loc Cert.UpdSmallRefIdeal.main_arg19) = m ((c.tc : Thread Cert.UpdSmallIdeal.nD Cert.UpdSmallIdeal.τ).loc Cert.UpdSmallIdeal.main_arg19)
      ∧ m' ((c.tc : Thread Cert.UpdSmallRefIdeal.nD Cert.UpdSmallRefIdeal.τ).loc Cert.UpdSmallRefIdeal.main_arg20) = m ((c.tc : Thread Cert.UpdSmallIdeal.nD Cert.UpdSmallIdeal.τ).loc Cert.UpdSmallIdeal.main_arg20)
      ∧ m' ((c.tc : Thread Cert.UpdSmallRefIdeal.nD Cert.UpdSmallRefIdeal.τ).loc Cert.UpdSmallRefIdeal.main_arg21) = m ((c.tc : Thread Cert.UpdSmallIdeal.nD Cert.UpdSmallIdeal.τ).loc Cert.UpdSmallIdeal.main_arg21)
      ∧ m' ((c.tc : Thread Cert.UpdSmallRefIdeal.nD Cert.UpdSmallRefIdeal.τ).loc Cert.UpdSmallRefIdeal.main_arg22) = m ((c.tc : Thread Cert.UpdSmallIdeal.nD Cert.UpdSmallIdeal.τ).loc Cert.UpdSmallIdeal.main_arg22)
      ∧ m' ((c.tc : Thread Cert.UpdSmallRefIdeal.nD Cert.UpdSmallRefIdeal.τ).loc Cert.UpdSmallRefIdeal.main_arg23) = m ((c.tc : Thread Cert.UpdSmallIdeal.nD Cert.UpdSmallIdeal.τ).loc Cert.UpdSmallIdeal.main_arg23)
      ∧ m' ((c.tc : Thread Cert.UpdSmallRefIdeal.nD Cert.UpdSmallRefIdeal.τ).loc Cert.UpdSmallRefIdeal.main_arg24) = m ((c.tc : Thread Cert.UpdSmallIdeal.nD Cert.UpdSmallIdeal.τ).loc Cert.UpdSmallIdeal.main_arg24)
      ∧ m' ((c.tc : Thread Cert.UpdSmallRefIdeal.nD Cert.UpdSmallRefIdeal.τ).loc Cert.UpdSmallRefIdeal.main_arg25) = m ((c.tc : Thread Cert.UpdSmallIdeal.nD Cert.UpdSmallIdeal.τ).loc Cert.UpdSmallIdeal.main_arg25)
      ∧ m' ((c.tc : Thread Cert.UpdSmallRefIdeal.nD Cert.UpdSmallRefIdeal.τ).loc Cert.UpdSmallRefIdeal.main_arg26) = m ((c.tc : Thread Cert.UpdSmallIdeal.nD Cert.UpdSmallIdeal.τ).loc Cert.UpdSmallIdeal.main_arg26)
      ∧ m' ((c.tc : Thread Cert.UpdSmallRefIdeal.nD Cert.UpdSmallRefIdeal.τ).loc Cert.UpdSmallRefIdeal.main_arg27) = m ((c.tc : Thread Cert.UpdSmallIdeal.nD Cert.UpdSmallIdeal.τ).loc Cert.UpdSmallIdeal.main_arg27)
      ∧ m' ((c.tc : Thread Cert.UpdSmallRefIdeal.nD Cert.UpdSmallRefIdeal.τ).loc Cert.UpdSmallRefIdeal.main_arg28) = m ((c.tc : Thread Cert.UpdSmallIdeal.nD Cert.UpdSmallIdeal.τ).loc Cert.UpdSmallIdeal.main_arg28)
      ∧ m' ((c.tc : Thread Cert.UpdSmallRefIdeal.nD Cert.UpdSmallRefIdeal.τ).loc Cert.UpdSmallRefIdeal.main_arg29) = m ((c.tc : Thread Cert.UpdSmallIdeal.nD Cert.UpdSmallIdeal.τ).loc Cert.UpdSmallIdeal.main_arg29)
      ∧ m' ((c.tc : Thread Cert.UpdSmallRefIdeal.nD Cert.UpdSmallRefIdeal.τ).loc Cert.UpdSmallRefIdeal.main_arg30) = m ((c.tc : Thread Cert.UpdSmallIdeal.nD Cert.UpdSmallIdeal.τ).loc Cert.UpdSmallIdeal.main_arg30)
      ∧ m' ((c.tc : Thread Cert.UpdSmallRefIdeal.nD Cert.UpdSmallRefIdeal.τ).loc Cert.UpdSmallRefIdeal.main_arg31) = m ((c.tc : Thread Cert.UpdSmallIdeal.nD Cert.UpdSmallIdeal.τ).loc Cert.UpdSmallIdeal.main_arg31)
      ∧ m' ((c.tc : Thread Cert.UpdSmallRefIdeal.nD Cert.UpdSmallRefIdeal.τ).loc Cert.UpdSmallRefIdeal.main_arg32) = m ((c.tc : Thread Cert.UpdSmallIdeal.nD Cert.UpdSmallIdeal.τ).loc Cert.UpdSmallIdeal.main_arg32)
      ∧ m' ((c.tc : Thread Cert.UpdSmallRefIdeal.nD Cert.UpdSmallRefIdeal.τ).loc Cert.UpdSmallRefIdeal.main_arg33) = m ((c.tc : Thread Cert.UpdSmallIdeal.nD Cert.UpdSmallIdeal.τ).loc Cert.UpdSmallIdeal.main_arg33)
      ∧ m' ((c.tc : Thread Cert.UpdSmallRefIdeal.nD Cert.UpdSmallRefIdeal.τ).loc Cert.UpdSmallRefIdeal.main_arg34) = m ((c.tc : Thread Cert.UpdSmallIdeal.nD Cert.UpdSmallIdeal.τ).loc Cert.UpdSmallIdeal.main_arg34)
      ∧ m' ((c.tc : Thread Cert.UpdSmallRefIdeal.nD Cert.UpdSmallRefIdeal.τ).loc Cert.UpdSmallRefIdeal.main_arg35) = m ((c.tc : Thread Cert.UpdSmallIdeal.nD Cert.UpdSmallIdeal.τ).loc Cert.UpdSmallIdeal.main_arg35)) →
    ∃ (v0 : (c : Dev Cert.UpdSmallIdeal.nD) → Buf (Elt Ideal) ((c.tc : Thread Cert.UpdSmallIdeal.nD Cert.UpdSmallIdeal.τ).loc Cert.UpdSmallIdeal.main_v56)) (v1 : (c : Dev Cert.UpdSmallIdeal.nD) → Buf (Elt Ideal) ((c.tc : Thread Cert.UpdSmallIdeal.nD Cert.UpdSmallIdeal.τ).loc Cert.UpdSmallIdeal.main_v58)) (v2 : (c : Dev Cert.UpdSmallIdeal.nD) → Buf (Elt Ideal) ((c.tc : Thread Cert.UpdSmallIdeal.nD Cert.UpdSmallIdeal.τ).loc Cert.UpdSmallIdeal.main_v60)) (v3 : (c : Dev Cert.UpdSmallIdeal.nD) → Buf (Elt Ideal) ((c.tc : Thread Cert.UpdSmallIdeal.nD Cert.UpdSmallIdeal.τ).loc Cert.UpdSmallIdeal.main_v62)) (v4 : (c : Dev Cert.UpdSmallIdeal.nD) → Buf (Elt Ideal) ((c.tc : Thread Cert.UpdSmallIdeal.nD Cert.UpdSmallIdeal.τ).loc Cert.UpdSmallIdeal.main_v64)) (v5 : (c : Dev Cert.UpdSmallIdeal.nD) → Buf (Elt Ideal) ((c.tc : Thread Cert.UpdSmallIdeal.nD Cert.UpdSmallIdeal.τ).loc Cert.UpdSmallIdeal.main_v66)) (v6 : (c : Dev Cert.UpdSmallIdeal.nD) → Buf (Elt Ideal) ((c.tc : Thread Cert.UpdSmallIdeal.nD Cert.UpdSmallIdeal.τ).loc Cert.UpdSmallIdeal.main_v68)) (v7 : (c : Dev Cert.UpdSmallIdeal.nD) → Buf (Elt Ideal) ((c.tc : Thread Cert.UpdSmallIdeal.nD Cert.UpdSmallIdeal.τ).loc Cert.UpdSmallIdeal.main_v70)) (v8 : (c : Dev Cert.UpdSmallIdeal.nD) → Buf (Elt Ideal) ((c.tc : Thread Cert.UpdSmallIdeal.nD Cert.UpdSmallIdeal.τ).loc Cert.UpdSmallIdeal.main_v72)) (v9 : (c : Dev Cert.UpdSmallIdeal.nD) → Buf (Elt Ideal) ((c.tc : Thread Cert.UpdSmallIdeal.nD Cert.UpdSmallIdeal.τ).loc Cert.UpdSmallIdeal.main_v74)) (v10 : (c : Dev Cert.UpdSmallIdeal.nD) → Buf (Elt Ideal) ((c.tc : Thread Cert.UpdSmallIdeal.nD Cert.UpdSmallIdeal.τ).loc Cert.UpdSmallIdeal.main_v76)) (v11 : (c : Dev Cert.UpdSmallIdeal.nD) → Buf (Elt Ideal) ((c.tc : Thread Cert.UpdSmallIdeal.nD Cert.UpdSmallIdeal.τ).loc Cert.UpdSmallIdeal.main_v80)) (v12 : (c : Dev Cert.UpdSmallIdeal.nD) → Buf (Elt Ideal) ((c.tc : Thread Cert.UpdSmallIdeal.nD Cert.UpdSmallIdeal.τ).loc Cert.UpdSmallIdeal.main_v82)) (v13 : (c : Dev Cert.UpdSmallIdeal.nD) → Buf (Elt Ideal) ((c.tc : Thread Cert.UpdSmallIdeal.nD Cert.UpdSmallIdeal.τ).loc Cert.UpdSmallIdeal.main_v84)) (v14 : (c : Dev Cert.UpdSmallIdeal.nD) → Buf (Elt Ideal) ((c.tc : Thread Cert.UpdSmallIdeal.nD Cert.UpdSmallIdeal.τ).loc Cert.UpdSmallIdeal.main_v86)) (v15 : (c : Dev Cert.UpdSmallIdeal.nD) → Buf (Elt Ideal) ((c.tc : Thread Cert.UpdSmallIdeal.nD Cert.UpdSmallIdeal.τ).loc Cert.UpdSmallIdeal.main_v88)) (v16 : (c : Dev Cert.UpdSmallIdeal.nD) → Buf (Elt Ideal) ((c.tc : Thread Cert.UpdSmallIdeal.nD Cert.UpdSmallIdeal.τ).loc Cert.UpdSmallIdeal.main_v90)) (v17 : (c : Dev Cert.UpdSmallIdeal.nD) → Buf (Elt Ideal) ((c.tc : Thread Cert.UpdSmallIdeal.nD Cert.UpdSmallIdeal.τ).loc Cert.UpdSmallIdeal.main_v92)) (v18 : (c : Dev Cert.UpdSmallIdeal.nD) → Buf (Elt Ideal) ((c.tc : Thread Cert.UpdSmallIdeal.nD Cert.UpdSmallIdeal.τ).loc Cert.UpdSmallIdeal.main_v94)) (v19 : (c : Dev Cert.UpdSmallIdeal.nD) → Buf (Elt Ideal) ((c.tc : Thread Cert.UpdSmallIdeal.nD Cert.UpdSmallIdeal.τ).loc Cert.UpdSmallIdeal.main_v96)) (v20 : (c : Dev Cert.UpdSmallIdeal.nD) → Buf (Elt Ideal) ((c.tc : Thread Cert.UpdSmallIdeal.nD Cert.UpdSmallIdeal.τ).loc Cert.UpdSmallIdeal.main_v98)) (v21 : (c : Dev Cert.UpdSmallIdeal.nD) → Buf (Elt Ideal) ((c.tc : Thread Cert.UpdSmallIdeal.nD Cert.UpdSmallIdeal.τ).loc Cert.UpdSmallIdeal.main_v100)) (v22 : (c : Dev Cert.UpdSmallIdeal.nD) → Buf (Elt Ideal) ((c.tc : Thread Cert.UpdSmallIdeal.nD Cert.UpdSmallIdeal.τ).loc Cert.UpdSmallIdeal.main_v104)) (v23 : (c : Dev Cert.UpdSmallIdeal.nD) → Buf (Elt Ideal) ((c.tc : Thread Cert.UpdSmallIdeal.nD Cert.UpdSmallIdeal.τ).loc Cert.UpdSmallIdeal.main_v106)) (v24 : (c : Dev Cert.UpdSmallIdeal.nD) → Buf (Elt Ideal) ((c.tc : Thread Cert.UpdSmallIdeal.nD Cert.UpdSmallIdeal.τ).loc Cert.UpdSmallIdeal.main_v108)) (v25 : (c : Dev Cert.UpdSmallIdeal.nD) → Buf (Elt Ideal) ((c.tc : Thread Cert.UpdSmallIdeal.nD Cert.UpdSmallIdeal.τ).loc Cert.UpdSmallIdeal.main_v110)) (v26 : (c : Dev Cert.UpdSmallIdeal.nD) → Buf (Elt Ideal) ((c.tc : Thread Cert.UpdSmallIdeal.nD Cert.UpdSmallIdeal.τ).loc Cert.UpdSmallIdeal.main_v112)) (v27 : (c : Dev Cert.UpdSmallIdeal.nD) → Buf (Elt Ideal) ((c.tc : Thread Cert.UpdSmallIdeal.nD Cert.UpdSmallIdeal.τ).loc Cert.UpdSmallIdeal.main_v114)) (v28 : (c : Dev Cert.UpdSmallIdeal.nD) → Buf (Elt Ideal) ((c.tc : Thread Cert.UpdSmallIdeal.nD Cert.UpdSmallIdeal.τ).loc Cert.UpdSmallIdeal.main_v116)) (v29 : (c : Dev Cert.UpdSmallIdeal.nD) → Buf (Elt Ideal) ((c.tc : Thread Cert.UpdSmallIdeal.nD Cert.UpdSmallIdeal.τ).loc Cert.UpdSmallIdeal.main_v118)) (v30 : (c : Dev Cert.UpdSmallIdeal.nD) → Buf (Elt Ideal) ((c.tc : Thread Cert.UpdSmallIdeal.nD Cert.UpdSmallIdeal.τ).loc Cert.UpdSmallIdeal.main_v120)) (v31 : (c : Dev Cert.UpdSmallIdeal.nD) → Buf (Elt Ideal) ((c.tc : Thread Cert.UpdSmallIdeal.nD Cert.UpdSmallIdeal.τ).loc Cert.UpdSmallIdeal.main_v122)) (v32 : (c : Dev Cert.UpdSmallIdeal.nD) → Buf (Elt Ideal) ((c.tc : Thread Cert.UpdSmallIdeal.nD Cert.UpdSmallIdeal.τ).loc Cert.UpdSmallIdeal.main_v124)) (v33 : (c : Dev Cert.UpdSmallIdeal.nD) → Buf (Elt Ideal) ((c.tc : Thread Cert.UpdSmallIdeal.nD Cert.UpdSmallIdeal.τ).loc Cert.UpdSmallIdeal.main_v128)) (v34 : (c : Dev Cert.UpdSmallIdeal.nD) → Buf (Elt Ideal) ((c.tc : Thread Cert.UpdSmallIdeal.nD Cert.UpdSmallIdeal.τ).loc Cert.UpdSmallIdeal.main_v130)) (v35 : (c : Dev Cert.UpdSmallIdeal.nD) → Buf (Elt Ideal) ((c.tc : Thread Cert.UpdSmallIdeal.nD Cert.UpdSmallIdeal.τ).loc Cert.UpdSmallIdeal.main_v132)) (v36 : (c : Dev Cert.UpdSmallIdeal.nD) → Buf (Elt Ideal) ((c.tc : Thread Cert.UpdSmallIdeal.nD Cert.UpdSmallIdeal.τ).loc Cert.UpdSmallIdeal.main_v134)) (v37 : (c : Dev Cert.UpdSmallIdeal.nD) → Buf (Elt Ideal) ((c.tc : Thread Cert.UpdSmallIdeal.nD Cert.UpdSmallIdeal.τ).loc Cert.UpdSmallIdeal.main_v136)) (v38 : (c : Dev Cert.UpdSmallIdeal.nD) → Buf (Elt Ideal) ((c.tc : Thread Cert.UpdSmallIdeal.nD Cert.UpdSmallIdeal.τ).loc Cert.UpdSmallIdeal.main_v138)) (v39 : (c : Dev Cert.UpdSmallIdeal.nD) → Buf (Elt Ideal) ((c.tc : Thread Cert.UpdSmallIdeal.nD Cert.UpdSmallIdeal.τ).loc Cert.UpdSmallIdeal.main_v140)) (v40 : (c : Dev Cert.UpdSmallIdeal.nD) → Buf (Elt Ideal) ((c.tc : Thread Cert.UpdSmallIdeal.nD Cert.UpdSmallIdeal.τ).loc Cert.UpdSmallIdeal.main_v142)) (v41 : (c : Dev Cert.UpdSmallIdeal.nD) → Buf (Elt Ideal) ((c.tc : Thread Cert.UpdSmallIdeal.nD Cert.UpdSmallIdeal.τ).loc Cert.UpdSmallIdeal.main_v144)) (v42 : (c : Dev Cert.UpdSmallIdeal.nD) → Buf (Elt Ideal) ((c.tc : Thread Cert.UpdSmallIdeal.nD Cert.UpdSmallIdeal.τ).loc Cert.UpdSmallIdeal.main_v146)) (v43 : (c : Dev Cert.UpdSmallIdeal.nD) → Buf (Elt Ideal) ((c.tc : Thread Cert.UpdSmallIdeal.nD Cert.UpdSmallIdeal.τ).loc Cert.UpdSmallIdeal.main_v148)),
      θ_run (Cert.UpdSmallIdeal.defs (F := Ideal)) (onTc (τ := Cert.UpdSmallIdeal.τ) (Cert.UpdSmallIdeal.main (F := Ideal))) ⟨m, fun _ => 0, g⟩ (fun r => ∀ c : Dev Cert.UpdSmallIdeal.nD,
          r.2.mem ((c.tc : Thread Cert.UpdSmallIdeal.nD Cert.UpdSmallIdeal.τ).loc Cert.UpdSmallIdeal.main_v56) = v0 c
          ∧ r.2.mem ((c.tc : Thread Cert.UpdSmallIdeal.nD Cert.UpdSmallIdeal.τ).loc Cert.UpdSmallIdeal.main_v58) = v1 c
          ∧ r.2.mem ((c.tc : Thread Cert.UpdSmallIdeal.nD Cert.UpdSmallIdeal.τ).loc Cert.UpdSmallIdeal.main_v60) = v2 c
          ∧ r.2.mem ((c.tc : Thread Cert.UpdSmallIdeal.nD Cert.UpdSmallIdeal.τ).loc Cert.UpdSmallIdeal.main_v62) = v3 c
          ∧ r.2.mem ((c.tc : Thread Cert.UpdSmallIdeal.nD Cert.UpdSmallIdeal.τ).loc Cert.UpdSmallIdeal.main_v64) = v4 c
          ∧ r.2.mem ((c.tc : Thread Cert.UpdSmallIdeal.nD Cert.UpdSmallIdeal.τ).loc Cert.UpdSmallIdeal.main_v66) = v5 c
          ∧ r.2.mem ((c.tc : Thread Cert.UpdSmallIdeal.nD Cert.UpdSmallIdeal.τ).loc Cert.UpdSmallIdeal.main_v68) = v6 c
          ∧ r.2.mem ((c.tc : Thread Cert.UpdSmallIdeal.nD Cert.UpdSmallIdeal.τ).loc Cert.UpdSmallIdeal.main_v70) = v7 c
          ∧ r.2.mem ((c.tc : Thread Cert.UpdSmallIdeal.nD Cert.UpdSmallIdeal.τ).loc Cert.UpdSmallIdeal.main_v72) = v8 c
          ∧ r.2.mem ((c.tc : Thread Cert.UpdSmallIdeal.nD Cert.UpdSmallIdeal.τ).loc Cert.UpdSmallIdeal.main_v74) = v9 c
          ∧ r.2.mem ((c.tc : Thread Cert.UpdSmallIdeal.nD Cert.UpdSmallIdeal.τ).loc Cert.UpdSmallIdeal.main_v76) = v10 c
          ∧ r.2.mem ((c.tc : Thread Cert.UpdSmallIdeal.nD Cert.UpdSmallIdeal.τ).loc Cert.UpdSmallIdeal.main_v80) = v11 c
          ∧ r.2.mem ((c.tc : Thread Cert.UpdSmallIdeal.nD Cert.UpdSmallIdeal.τ).loc Cert.UpdSmallIdeal.main_v82) = v12 c
          ∧ r.2.mem ((c.tc : Thread Cert.UpdSmallIdeal.nD Cert.UpdSmallIdeal.τ).loc Cert.UpdSmallIdeal.main_v84) = v13 c
          ∧ r.2.mem ((c.tc : Thread Cert.UpdSmallIdeal.nD Cert.UpdSmallIdeal.τ).loc Cert.UpdSmallIdeal.main_v86) = v14 c
          ∧ r.2.mem ((c.tc : Thread Cert.UpdSmallIdeal.nD Cert.UpdSmallIdeal.τ).loc Cert.UpdSmallIdeal.main_v88) = v15 c
          ∧ r.2.mem ((c.tc : Thread Cert.UpdSmallIdeal.nD Cert.UpdSmallIdeal.τ).loc Cert.UpdSmallIdeal.main_v90) = v16 c
          ∧ r.2.mem ((c.tc : Thread Cert.UpdSmallIdeal.nD Cert.UpdSmallIdeal.τ).loc Cert.UpdSmallIdeal.main_v92) = v17 c
          ∧ r.2.mem ((c.tc : Thread Cert.UpdSmallIdeal.nD Cert.UpdSmallIdeal.τ).loc Cert.UpdSmallIdeal.main_v94) = v18 c
          ∧ r.2.mem ((c.tc : Thread Cert.UpdSmallIdeal.nD Cert.UpdSmallIdeal.τ).loc Cert.UpdSmallIdeal.main_v96) = v19 c
          ∧ r.2.mem ((c.tc : Thread Cert.UpdSmallIdeal.nD Cert.UpdSmallIdeal.τ).loc Cert.UpdSmallIdeal.main_v98) = v20 c
          ∧ r.2.mem ((c.tc : Thread Cert.UpdSmallIdeal.nD Cert.UpdSmallIdeal.τ).loc Cert.UpdSmallIdeal.main_v100) = v21 c
          ∧ r.2.mem ((c.tc : Thread Cert.UpdSmallIdeal.nD Cert.UpdSmallIdeal.τ).loc Cert.UpdSmallIdeal.main_v104) = v22 c
          ∧ r.2.mem ((c.tc : Thread Cert.UpdSmallIdeal.nD Cert.UpdSmallIdeal.τ).loc Cert.UpdSmallIdeal.main_v106) = v23 c
          ∧ r.2.mem ((c.tc : Thread Cert.UpdSmallIdeal.nD Cert.UpdSmallIdeal.τ).loc Cert.UpdSmallIdeal.main_v108) = v24 c
          ∧ r.2.mem ((c.tc : Thread Cert.UpdSmallIdeal.nD Cert.UpdSmallIdeal.τ).loc Cert.UpdSmallIdeal.main_v110) = v25 c
          ∧ r.2.mem ((c.tc : Thread Cert.UpdSmallIdeal.nD Cert.UpdSmallIdeal.τ).loc Cert.UpdSmallIdeal.main_v112) = v26 c
          ∧ r.2.mem ((c.tc : Thread Cert.UpdSmallIdeal.nD Cert.UpdSmallIdeal.τ).loc Cert.UpdSmallIdeal.main_v114) = v27 c
          ∧ r.2.mem ((c.tc : Thread Cert.UpdSmallIdeal.nD Cert.UpdSmallIdeal.τ).loc Cert.UpdSmallIdeal.main_v116) = v28 c
          ∧ r.2.mem ((c.tc : Thread Cert.UpdSmallIdeal.nD Cert.UpdSmallIdeal.τ).loc Cert.UpdSmallIdeal.main_v118) = v29 c
          ∧ r.2.mem ((c.tc : Thread Cert.UpdSmallIdeal.nD Cert.UpdSmallIdeal.τ).loc Cert.UpdSmallIdeal.main_v120) = v30 c
          ∧ r.2.mem ((c.tc : Thread Cert.UpdSmallIdeal.nD Cert.UpdSmallIdeal.τ).loc Cert.UpdSmallIdeal.main_v122) = v31 c
          ∧ r.2.mem ((c.tc : Thread Cert.UpdSmallIdeal.nD Cert.UpdSmallIdeal.τ).loc Cert.UpdSmallIdeal.main_v124) = v32 c
          ∧ r.2.mem ((c.tc : Thread Cert.UpdSmallIdeal.nD Cert.UpdSmallIdeal.τ).loc Cert.UpdSmallIdeal.main_v128) = v33 c
          ∧ r.2.mem ((c.tc : Thread Cert.UpdSmallIdeal.nD Cert.UpdSmallIdeal.τ).loc Cert.UpdSmallIdeal.main_v130) = v34 c
          ∧ r.2.mem ((c.tc : Thread Cert.UpdSmallIdeal.nD Cert.UpdSmallIdeal.τ).loc Cert.UpdSmallIdeal.main_v132) = v35 c
          ∧ r.2.mem ((c.tc : Thread Cert.UpdSmallIdeal.nD Cert.UpdSmallIdeal.τ).loc Cert.UpdSmallIdeal.main_v134) = v36 c
          ∧ r.2.mem ((c.tc : Thread Cert.UpdSmallIdeal.nD Cert.UpdSmallIdeal.τ).loc Cert.UpdSmallIdeal.main_v136) = v37 c
          ∧ r.2.mem ((c.tc : Thread Cert.UpdSmallIdeal.nD Cert.UpdSmallIdeal.τ).loc Cert.UpdSmallIdeal.main_v138) = v38 c
          ∧ r.2.mem ((c.tc : Thread Cert.UpdSmallIdeal.nD Cert.UpdSmallIdeal.τ).loc Cert.UpdSmallIdeal.main_v140) = v39 c
          ∧ r.2.mem ((c.tc : Thread Cert.UpdSmallIdeal.nD Cert.UpdSmallIdeal.τ).loc Cert.UpdSmallIdeal.main_v142) = v40 c
          ∧ r.2.mem ((c.tc : Thread Cert.UpdSmallIdeal.nD Cert.UpdSmallIdeal.τ).loc Cert.UpdSmallIdeal.main_v144) = v41 c
          ∧ r.2.mem ((c.tc : Thread Cert.UpdSmallIdeal.nD Cert.UpdSmallIdeal.τ).loc Cert.UpdSmallIdeal.main_v146) = v42 c
          ∧ r.2.mem ((c.tc : Thread Cert.UpdSmallIdeal.nD Cert.UpdSmallIdeal.τ).loc Cert.UpdSmallIdeal.main_v148) = v43 c
          ∧ r.2.mem ((c.tc : Thread Cert.UpdSmallIdeal.nD Cert.UpdSmallIdeal.τ).loc Cert.UpdSmallIdeal.main_arg0) = m ((c.tc : Thread Cert.UpdSmallIdeal.nD Cert.UpdSmallIdeal.τ).loc Cert.UpdSmallIdeal.main_arg0)
          ∧ r.2.mem ((c.tc : Thread Cert.UpdSmallIdeal.nD Cert.UpdSmallIdeal.τ).loc Cert.UpdSmallIdeal.main_arg1) = m ((c.tc : Thread Cert.UpdSmallIdeal.nD Cert.UpdSmallIdeal.τ).loc Cert.UpdSmallIdeal.main_arg1)
          ∧ r.2.mem ((c.tc : Thread Cert.UpdSmallIdeal.nD Cert.UpdSmallIdeal.τ).loc Cert.UpdSmallIdeal.main_arg2) = m ((c.tc : Thread Cert.UpdSmallIdeal.nD Cert.UpdSmallIdeal.τ).loc Cert.UpdSmallIdeal.main_arg2)
          ∧ r.2.mem ((c.tc : Thread Cert.UpdSmallIdeal.nD Cert.UpdSmallIdeal.τ).loc Cert.UpdSmallIdeal.main_arg3) = m ((c.tc : Thread Cert.UpdSmallIdeal.nD Cert.UpdSmallIdeal.τ).loc Cert.UpdSmallIdeal.main_arg3)
          ∧ r.2.mem ((c.tc : Thread Cert.UpdSmallIdeal.nD Cert.UpdSmallIdeal.τ).loc Cert.UpdSmallIdeal.main_arg4) = m ((c.tc : Thread Cert.UpdSmallIdeal.nD Cert.UpdSmallIdeal.τ).loc Cert.UpdSmallIdeal.main_arg4)
          ∧ r.2.mem ((c.tc : Thread Cert.UpdSmallIdeal.nD Cert.UpdSmallIdeal.τ).loc Cert.UpdSmallIdeal.main_arg5) = m ((c.tc : Thread Cert.UpdSmallIdeal.nD Cert.UpdSmallIdeal.τ).loc Cert.UpdSmallIdeal.main_arg5)
          ∧ r.2.mem ((c.tc : Thread Cert.UpdSmallIdeal.nD Cert.UpdSmallIdeal.τ).loc Cert.UpdSmallIdeal.main_arg6) = m ((c.tc : Thread Cert.UpdSmallIdeal.nD Cert.UpdSmallIdeal.τ).loc Cert.UpdSmallIdeal.main_arg6)
          ∧ r.2.mem ((c.tc : Thread Cert.UpdSmallIdeal.nD Cert.UpdSmallIdeal.τ).loc Cert.UpdSmallIdeal.main_arg7) = m ((c.tc : Thread Cert.UpdSmallIdeal.nD Cert.UpdSmallIdeal.τ).loc Cert.UpdSmallIdeal.main_arg7)
          ∧ r.2.mem ((c.tc : Thread Cert.UpdSmallIdeal.nD Cert.UpdSmallIdeal.τ).loc Cert.UpdSmallIdeal.main_arg8) = m ((c.tc : Thread Cert.UpdSmallIdeal.nD Cert.UpdSmallIdeal.τ).loc Cert.UpdSmallIdeal.main_arg8)
          ∧ r.2.mem ((c.tc : Thread Cert.UpdSmallIdeal.nD Cert.UpdSmallIdeal.τ).loc Cert.UpdSmallIdeal.main_arg9) = m ((c.tc : Thread Cert.UpdSmallIdeal.nD Cert.UpdSmallIdeal.τ).loc Cert.UpdSmallIdeal.main_arg9)
          ∧ r.2.mem ((c.tc : Thread Cert.UpdSmallIdeal.nD Cert.UpdSmallIdeal.τ).loc Cert.UpdSmallIdeal.main_arg10) = m ((c.tc : Thread Cert.UpdSmallIdeal.nD Cert.UpdSmallIdeal.τ).loc Cert.UpdSmallIdeal.main_arg10)
          ∧ r.2.mem ((c.tc : Thread Cert.UpdSmallIdeal.nD Cert.UpdSmallIdeal.τ).loc Cert.UpdSmallIdeal.main_arg11) = m ((c.tc : Thread Cert.UpdSmallIdeal.nD Cert.UpdSmallIdeal.τ).loc Cert.UpdSmallIdeal.main_arg11)
          ∧ r.2.mem ((c.tc : Thread Cert.UpdSmallIdeal.nD Cert.UpdSmallIdeal.τ).loc Cert.UpdSmallIdeal.main_arg12) = m ((c.tc : Thread Cert.UpdSmallIdeal.nD Cert.UpdSmallIdeal.τ).loc Cert.UpdSmallIdeal.main_arg12)
          ∧ r.2.mem ((c.tc : Thread Cert.UpdSmallIdeal.nD Cert.UpdSmallIdeal.τ).loc Cert.UpdSmallIdeal.main_arg13) = m ((c.tc : Thread Cert.UpdSmallIdeal.nD Cert.UpdSmallIdeal.τ).loc Cert.UpdSmallIdeal.main_arg13)
          ∧ r.2.mem ((c.tc : Thread Cert.UpdSmallIdeal.nD Cert.UpdSmallIdeal.τ).loc Cert.UpdSmallIdeal.main_arg14) = m ((c.tc : Thread Cert.UpdSmallIdeal.nD Cert.UpdSmallIdeal.τ).loc Cert.UpdSmallIdeal.main_arg14)
          ∧ r.2.mem ((c.tc : Thread Cert.UpdSmallIdeal.nD Cert.UpdSmallIdeal.τ).loc Cert.UpdSmallIdeal.main_arg15) = m ((c.tc : Thread Cert.UpdSmallIdeal.nD Cert.UpdSmallIdeal.τ).loc Cert.UpdSmallIdeal.main_arg15)
          ∧ r.2.mem ((c.tc : Thread Cert.UpdSmallIdeal.nD Cert.UpdSmallIdeal.τ).loc Cert.UpdSmallIdeal.main_arg16) = m ((c.tc : Thread Cert.UpdSmallIdeal.nD Cert.UpdSmallIdeal.τ).loc Cert.UpdSmallIdeal.main_arg16)
          ∧ r.2.mem ((c.tc : Thread Cert.UpdSmallIdeal.nD Cert.UpdSmallIdeal.τ).loc Cert.UpdSmallIdeal.main_arg17) = m ((c.tc : Thread Cert.UpdSmallIdeal.nD Cert.UpdSmallIdeal.τ).loc Cert.UpdSmallIdeal.main_arg17)
          ∧ r.2.mem ((c.tc : Thread Cert.UpdSmallIdeal.nD Cert.UpdSmallIdeal.τ).loc Cert.UpdSmallIdeal.main_arg18) = m ((c.tc : Thread Cert.UpdSmallIdeal.nD Cert.UpdSmallIdeal.τ).loc Cert.UpdSmallIdeal.main_arg18)
          ∧ r.2.mem ((c.tc : Thread Cert.UpdSmallIdeal.nD Cert.UpdSmallIdeal.τ).loc Cert.UpdSmallIdeal.main_arg19) = m ((c.tc : Thread Cert.UpdSmallIdeal.nD Cert.UpdSmallIdeal.τ).loc Cert.UpdSmallIdeal.main_arg19)
          ∧ r.2.mem ((c.tc : Thread Cert.UpdSmallIdeal.nD Cert.UpdSmallIdeal.τ).loc Cert.UpdSmallIdeal.main_arg20) = m ((c.tc : Thread Cert.UpdSmallIdeal.nD Cert.UpdSmallIdeal.τ).loc Cert.UpdSmallIdeal.main_arg20)
          ∧ r.2.mem ((c.tc : Thread Cert.UpdSmallIdeal.nD Cert.UpdSmallIdeal.τ).loc Cert.UpdSmallIdeal.main_arg21) = m ((c.tc : Thread Cert.UpdSmallIdeal.nD Cert.UpdSmallIdeal.τ).loc Cert.UpdSmallIdeal.main_arg21)
          ∧ r.2.mem ((c.tc : Thread Cert.UpdSmallIdeal.nD Cert.UpdSmallIdeal.τ).loc Cert.UpdSmallIdeal.main_arg22) = m ((c.tc : Thread Cert.UpdSmallIdeal.nD Cert.UpdSmallIdeal.τ).loc Cert.UpdSmallIdeal.main_arg22)
          ∧ r.2.mem ((c.tc : Thread Cert.UpdSmallIdeal.nD Cert.UpdSmallIdeal.τ).loc Cert.UpdSmallIdeal.main_arg23) = m ((c.tc : Thread Cert.UpdSmallIdeal.nD Cert.UpdSmallIdeal.τ).loc Cert.UpdSmallIdeal.main_arg23)
          ∧ r.2.mem ((c.tc : Thread Cert.UpdSmallIdeal.nD Cert.UpdSmallIdeal.τ).loc Cert.UpdSmallIdeal.main_arg24) = m ((c.tc : Thread Cert.UpdSmallIdeal.nD Cert.UpdSmallIdeal.τ).loc Cert.UpdSmallIdeal.main_arg24)
          ∧ r.2.mem ((c.tc : Thread Cert.UpdSmallIdeal.nD Cert.UpdSmallIdeal.τ).loc Cert.UpdSmallIdeal.main_arg25) = m ((c.tc : Thread Cert.UpdSmallIdeal.nD Cert.UpdSmallIdeal.τ).loc Cert.UpdSmallIdeal.main_arg25)
          ∧ r.2.mem ((c.tc : Thread Cert.UpdSmallIdeal.nD Cert.UpdSmallIdeal.τ).loc Cert.UpdSmallIdeal.main_arg26) = m ((c.tc : Thread Cert.UpdSmallIdeal.nD Cert.UpdSmallIdeal.τ).loc Cert.UpdSmallIdeal.main_arg26)
          ∧ r.2.mem ((c.tc : Thread Cert.UpdSmallIdeal.nD Cert.UpdSmallIdeal.τ).loc Cert.UpdSmallIdeal.main_arg27) = m ((c.tc : Thread Cert.UpdSmallIdeal.nD Cert.UpdSmallIdeal.τ).loc Cert.UpdSmallIdeal.main_arg27)
          ∧ r.2.mem ((c.tc : Thread Cert.UpdSmallIdeal.nD Cert.UpdSmallIdeal.τ).loc Cert.UpdSmallIdeal.main_arg28) = m ((c.tc : Thread Cert.UpdSmallIdeal.nD Cert.UpdSmallIdeal.τ).loc Cert.UpdSmallIdeal.main_arg28)
          ∧ r.2.mem ((c.tc : Thread Cert.UpdSmallIdeal.nD Cert.UpdSmallIdeal.τ).loc Cert.UpdSmallIdeal.main_arg29) = m ((c.tc : Thread Cert.UpdSmallIdeal.nD Cert.UpdSmallIdeal.τ).loc Cert.UpdSmallIdeal.main_arg29)
          ∧ r.2.mem ((c.tc : Thread Cert.UpdSmallIdeal.nD Cert.UpdSmallIdeal.τ).loc Cert.UpdSmallIdeal.main_arg30) = m ((c.tc : Thread Cert.UpdSmallIdeal.nD Cert.UpdSmallIdeal.τ).loc Cert.UpdSmallIdeal.main_arg30)
          ∧ r.2.mem ((c.tc : Thread Cert.UpdSmallIdeal.nD Cert.UpdSmallIdeal.τ).loc Cert.UpdSmallIdeal.main_arg31) = m ((c.tc : Thread Cert.UpdSmallIdeal.nD Cert.UpdSmallIdeal.τ).loc Cert.UpdSmallIdeal.main_arg31)
          ∧ r.2.mem ((c.tc : Thread Cert.UpdSmallIdeal.nD Cert.UpdSmallIdeal.τ).loc Cert.UpdSmallIdeal.main_arg32) = m ((c.tc : Thread Cert.UpdSmallIdeal.nD Cert.UpdSmallIdeal.τ).loc Cert.UpdSmallIdeal.main_arg32)
          ∧ r.2.mem ((c.tc : Thread Cert.UpdSmallIdeal.nD Cert.UpdSmallIdeal.τ).loc Cert.UpdSmallIdeal.main_arg33) = m ((c.tc : Thread Cert.UpdSmallIdeal.nD Cert.UpdSmallIdeal.τ).loc Cert.UpdSmallIdeal.main_arg33)
          ∧ r.2.mem ((c.tc : Thread Cert.UpdSmallIdeal.nD Cert.UpdSmallIdeal.τ).loc Cert.UpdSmallIdeal.main_arg34) = m ((c.tc : Thread Cert.UpdSmallIdeal.nD Cert.UpdSmallIdeal.τ).loc Cert.UpdSmallIdeal.main_arg34)
          ∧ r.2.mem ((c.tc : Thread Cert.UpdSmallIdeal.nD Cert.UpdSmallIdeal.τ).loc Cert.UpdSmallIdeal.main_arg35) = m ((c.tc : Thread Cert.UpdSmallIdeal.nD Cert.UpdSmallIdeal.τ).loc Cert.UpdSmallIdeal.main_arg35))
      ∧ θ_run (Cert.UpdSmallRefIdeal.defs (F := Ideal)) (onTc (τ := Cert.UpdSmallRefIdeal.τ) (Cert.UpdSmallRefIdeal.main (F := Ideal))) ⟨m', fun _ => 0, g'⟩ (fun r => ∀ c : Dev Cert.UpdSmallRefIdeal.nD,
          r.2.mem ((c.tc : Thread Cert.UpdSmallRefIdeal.nD Cert.UpdSmallRefIdeal.τ).loc Cert.UpdSmallRefIdeal.main_v9) = v0 c
          ∧ r.2.mem ((c.tc : Thread Cert.UpdSmallRefIdeal.nD Cert.UpdSmallRefIdeal.τ).loc Cert.UpdSmallRefIdeal.main_v35) = v1 c
          ∧ r.2.mem ((c.tc : Thread Cert.UpdSmallRefIdeal.nD Cert.UpdSmallRefIdeal.τ).loc Cert.UpdSmallRefIdeal.main_v61) = v2 c
          ∧ r.2.mem ((c.tc : Thread Cert.UpdSmallRefIdeal.nD Cert.UpdSmallRefIdeal.τ).loc Cert.UpdSmallRefIdeal.main_v87) = v3 c
          ∧ r.2.mem ((c.tc : Thread Cert.UpdSmallRefIdeal.nD Cert.UpdSmallRefIdeal.τ).loc Cert.UpdSmallRefIdeal.main_v113) = v4 c
          ∧ r.2.mem ((c.tc : Thread Cert.UpdSmallRefIdeal.nD Cert.UpdSmallRefIdeal.τ).loc Cert.UpdSmallRefIdeal.main_v139) = v5 c
          ∧ r.2.mem ((c.tc : Thread Cert.UpdSmallRefIdeal.nD Cert.UpdSmallRefIdeal.τ).loc Cert.UpdSmallRefIdeal.main_v165) = v6 c
          ∧ r.2.mem ((c.tc : Thread Cert.UpdSmallRefIdeal.nD Cert.UpdSmallRefIdeal.τ).loc Cert.UpdSmallRefIdeal.main_v191) = v7 c
          ∧ r.2.mem ((c.tc : Thread Cert.UpdSmallRefIdeal.nD Cert.UpdSmallRefIdeal.τ).loc Cert.UpdSmallRefIdeal.main_v217) = v8 c
          ∧ r.2.mem ((c.tc : Thread Cert.UpdSmallRefIdeal.nD Cert.UpdSmallRefIdeal.τ).loc Cert.UpdSmallRefIdeal.main_v243) = v9 c
          ∧ r.2.mem ((c.tc : Thread Cert.UpdSmallRefIdeal.nD Cert.UpdSmallRefIdeal.τ).loc Cert.UpdSmallRefIdeal.main_v269) = v10 c
          ∧ r.2.mem ((c.tc : Thread Cert.UpdSmallRefIdeal.nD Cert.UpdSmallRefIdeal.τ).loc Cert.UpdSmallRefIdeal.main_v33) = v11 c
          ∧ r.2.mem ((c.tc : Thread Cert.UpdSmallRefIdeal.nD Cert.UpdSmallRefIdeal.τ).loc Cert.UpdSmallRefIdeal.main_v59) = v12 c
          ∧ r.2.mem ((c.tc : Thread Cert.UpdSmallRefIdeal.nD Cert.UpdSmallRefIdeal.τ).loc Cert.UpdSmallRefIdeal.main_v85) = v13 c
          ∧ r.2.mem ((c.tc : Thread Cert.UpdSmallRefIdeal.nD Cert.UpdSmallRefIdeal.τ).loc Cert.UpdSmallRefIdeal.main_v111) = v14 c
          ∧ r.2.mem ((c.tc : Thread Cert.UpdSmallRefIdeal.nD Cert.UpdSmallRefIdeal.τ).loc Cert.UpdSmallRefIdeal.main_v137) = v15 c
          ∧ r.2.mem ((c.tc : Thread Cert.UpdSmallRefIdeal.nD Cert.UpdSmallRefIdeal.τ).loc Cert.UpdSmallRefIdeal.main_v163) = v16 c
          ∧ r.2.mem ((c.tc : Thread Cert.UpdSmallRefIdeal.nD Cert.UpdSmallRefIdeal.τ).loc Cert.UpdSmallRefIdeal.main_v189) = v17 c
          ∧ r.2.mem ((c.tc : Thread Cert.UpdSmallRefIdeal.nD Cert.UpdSmallRefIdeal.τ).loc Cert.UpdSmallRefIdeal.main_v215) = v18 c
          ∧ r.2.mem ((c.tc : Thread Cert.UpdSmallRefIdeal.nD Cert.UpdSmallRefIdeal.τ).loc Cert.UpdSmallRefIdeal.main_v241) = v19 c
          ∧ r.2.mem ((c.tc : Thread Cert.UpdSmallRefIdeal.nD Cert.UpdSmallRefIdeal.τ).loc Cert.UpdSmallRefIdeal.main_v267) = v20 c
          ∧ r.2.mem ((c.tc : Thread Cert.UpdSmallRefIdeal.nD Cert.UpdSmallRefIdeal.τ).loc Cert.UpdSmallRefIdeal.main_v293) = v21 c
          ∧ r.2.mem ((c.tc : Thread Cert.UpdSmallRefIdeal.nD Cert.UpdSmallRefIdeal.τ).loc Cert.UpdSmallRefIdeal.main_v14) = v22 c
          ∧ r.2.mem ((c.tc : Thread Cert.UpdSmallRefIdeal.nD Cert.UpdSmallRefIdeal.τ).loc Cert.UpdSmallRefIdeal.main_v40) = v23 c
          ∧ r.2.mem ((c.tc : Thread Cert.UpdSmallRefIdeal.nD Cert.UpdSmallRefIdeal.τ).loc Cert.UpdSmallRefIdeal.main_v66) = v24 c
          ∧ r.2.mem ((c.tc : Thread Cert.UpdSmallRefIdeal.nD Cert.UpdSmallRefIdeal.τ).loc Cert.UpdSmallRefIdeal.main_v92) = v25 c
          ∧ r.2.mem ((c.tc : Thread Cert.UpdSmallRefIdeal.nD Cert.UpdSmallRefIdeal.τ).loc Cert.UpdSmallRefIdeal.main_v118) = v26 c
          ∧ r.2.mem ((c.tc : Thread Cert.UpdSmallRefIdeal.nD Cert.UpdSmallRefIdeal.τ).loc Cert.UpdSmallRefIdeal.main_v144) = v27 c
          ∧ r.2.mem ((c.tc : Thread Cert.UpdSmallRefIdeal.nD Cert.UpdSmallRefIdeal.τ).loc Cert.UpdSmallRefIdeal.main_v170) = v28 c
          ∧ r.2.mem ((c.tc : Thread Cert.UpdSmallRefIdeal.nD Cert.UpdSmallRefIdeal.τ).loc Cert.UpdSmallRefIdeal.main_v196) = v29 c
          ∧ r.2.mem ((c.tc : Thread Cert.UpdSmallRefIdeal.nD Cert.UpdSmallRefIdeal.τ).loc Cert.UpdSmallRefIdeal.main_v222) = v30 c
          ∧ r.2.mem ((c.tc : Thread Cert.UpdSmallRefIdeal.nD Cert.UpdSmallRefIdeal.τ).loc Cert.UpdSmallRefIdeal.main_v248) = v31 c
          ∧ r.2.mem ((c.tc : Thread Cert.UpdSmallRefIdeal.nD Cert.UpdSmallRefIdeal.τ).loc Cert.UpdSmallRefIdeal.main_v274) = v32 c
          ∧ r.2.mem ((c.tc : Thread Cert.UpdSmallRefIdeal.nD Cert.UpdSmallRefIdeal.τ).loc Cert.UpdSmallRefIdeal.main_v20) = v33 c
          ∧ r.2.mem ((c.tc : Thread Cert.UpdSmallRefIdeal.nD Cert.UpdSmallRefIdeal.τ).loc Cert.UpdSmallRefIdeal.main_v46) = v34 c
          ∧ r.2.mem ((c.tc : Thread Cert.UpdSmallRefIdeal.nD Cert.UpdSmallRefIdeal.τ).loc Cert.UpdSmallRefIdeal.main_v72) = v35 c
          ∧ r.2.mem ((c.tc : Thread Cert.UpdSmallRefIdeal.nD Cert.UpdSmallRefIdeal.τ).loc Cert.UpdSmallRefIdeal.main_v98) = v36 c
          ∧ r.2.mem ((c.tc : Thread Cert.UpdSmallRefIdeal.nD Cert.UpdSmallRefIdeal.τ).loc Cert.UpdSmallRefIdeal.main_v124) = v37 c
          ∧ r.2.mem ((c.tc : Thread Cert.UpdSmallRefIdeal.nD Cert.UpdSmallRefIdeal.τ).loc Cert.UpdSmallRefIdeal.main_v150) = v38 c
          ∧ r.2.mem ((c.tc : Thread Cert.UpdSmallRefIdeal.nD Cert.UpdSmallRefIdeal.τ).loc Cert.UpdSmallRefIdeal.main_v176) = v39 c
          ∧ r.2.mem ((c.tc : Thread Cert.UpdSmallRefIdeal.nD Cert.UpdSmallRefIdeal.τ).loc Cert.UpdSmallRefIdeal.main_v202) = v40 c
          ∧ r.2.mem ((c.tc : Thread Cert.UpdSmallRefIdeal.nD Cert.UpdSmallRefIdeal.τ).loc Cert.UpdSmallRefIdeal.main_v228) = v41 c
          ∧ r.2.mem ((c.tc : Thread Cert.UpdSmallRefIdeal.nD Cert.UpdSmallRefIdeal.τ).loc Cert.UpdSmallRefIdeal.main_v254) = v42 c
          ∧ r.2.mem ((c.tc : Thread Cert.UpdSmallRefIdeal.nD Cert.UpdSmallRefIdeal.τ).loc Cert.UpdSmallRefIdeal.main_v280) = v43 c
          ∧ r.2.mem ((c.tc : Thread Cert.UpdSmallRefIdeal.nD Cert.UpdSmallRefIdeal.τ).loc Cert.UpdSmallRefIdeal.main_arg0) = m' ((c.tc : Thread Cert.UpdSmallRefIdeal.nD Cert.UpdSmallRefIdeal.τ).loc Cert.UpdSmallRefIdeal.main_arg0)
          ∧ r.2.mem ((c.tc : Thread Cert.UpdSmallRefIdeal.nD Cert.UpdSmallRefIdeal.τ).loc Cert.UpdSmallRefIdeal.main_arg1) = m' ((c.tc : Thread Cert.UpdSmallRefIdeal.nD Cert.UpdSmallRefIdeal.τ).loc Cert.UpdSmallRefIdeal.main_arg1)
          ∧ r.2.mem ((c.tc : Thread Cert.UpdSmallRefIdeal.nD Cert.UpdSmallRefIdeal.τ).loc Cert.UpdSmallRefIdeal.main_arg2) = m' ((c.tc : Thread Cert.UpdSmallRefIdeal.nD Cert.UpdSmallRefIdeal.τ).loc Cert.UpdSmallRefIdeal.main_arg2)
          ∧ r.2.mem ((c.tc : Thread Cert.UpdSmallRefIdeal.nD Cert.UpdSmallRefIdeal.τ).loc Cert.UpdSmallRefIdeal.main_arg3) = m' ((c.tc : Thread Cert.UpdSmallRefIdeal.nD Cert.UpdSmallRefIdeal.τ).loc Cert.UpdSmallRefIdeal.main_arg3)
          ∧ r.2.mem ((c.tc : Thread Cert.UpdSmallRefIdeal.nD Cert.UpdSmallRefIdeal.τ).loc Cert.UpdSmallRefIdeal.main_arg4) = m' ((c.tc : Thread Cert.UpdSmallRefIdeal.nD Cert.UpdSmallRefIdeal.τ).loc Cert.UpdSmallRefIdeal.main_arg4)
          ∧ r.2.mem ((c.tc : Thread Cert.UpdSmallRefIdeal.nD Cert.UpdSmallRefIdeal.τ).loc Cert.UpdSmallRefIdeal.main_arg5) = m' ((c.tc : Thread Cert.UpdSmallRefIdeal.nD Cert.UpdSmallRefIdeal.τ).loc Cert.UpdSmallRefIdeal.main_arg5)
          ∧ r.2.mem ((c.tc : Thread Cert.UpdSmallRefIdeal.nD Cert.UpdSmallRefIdeal.τ).loc Cert.UpdSmallRefIdeal.main_arg6) = m' ((c.tc : Thread Cert.UpdSmallRefIdeal.nD Cert.UpdSmallRefIdeal.τ).loc Cert.UpdSmallRefIdeal.main_arg6)
          ∧ r.2.mem ((c.tc : Thread Cert.UpdSmallRefIdeal.nD Cert.UpdSmallRefIdeal.τ).loc Cert.UpdSmallRefIdeal.main_arg7) = m' ((c.tc : Thread Cert.UpdSmallRefIdeal.nD Cert.UpdSmallRefIdeal.τ).loc Cert.UpdSmallRefIdeal.main_arg7)
          ∧ r.2.mem ((c.tc : Thread Cert.UpdSmallRefIdeal.nD Cert.UpdSmallRefIdeal.τ).loc Cert.UpdSmallRefIdeal.main_arg8) = m' ((c.tc : Thread Cert.UpdSmallRefIdeal.nD Cert.UpdSmallRefIdeal.τ).loc Cert.UpdSmallRefIdeal.main_arg8)
          ∧ r.2.mem ((c.tc : Thread Cert.UpdSmallRefIdeal.nD Cert.UpdSmallRefIdeal.τ).loc Cert.UpdSmallRefIdeal.main_arg9) = m' ((c.tc : Thread Cert.UpdSmallRefIdeal.nD Cert.UpdSmallRefIdeal.τ).loc Cert.UpdSmallRefIdeal.main_arg9)
          ∧ r.2.mem ((c.tc : Thread Cert.UpdSmallRefIdeal.nD Cert.UpdSmallRefIdeal.τ).loc Cert.UpdSmallRefIdeal.main_arg10) = m' ((c.tc : Thread Cert.UpdSmallRefIdeal.nD Cert.UpdSmallRefIdeal.τ).loc Cert.UpdSmallRefIdeal.main_arg10)
          ∧ r.2.mem ((c.tc : Thread Cert.UpdSmallRefIdeal.nD Cert.UpdSmallRefIdeal.τ).loc Cert.UpdSmallRefIdeal.main_arg11) = m' ((c.tc : Thread Cert.UpdSmallRefIdeal.nD Cert.UpdSmallRefIdeal.τ).loc Cert.UpdSmallRefIdeal.main_arg11)
          ∧ r.2.mem ((c.tc : Thread Cert.UpdSmallRefIdeal.nD Cert.UpdSmallRefIdeal.τ).loc Cert.UpdSmallRefIdeal.main_arg12) = m' ((c.tc : Thread Cert.UpdSmallRefIdeal.nD Cert.UpdSmallRefIdeal.τ).loc Cert.UpdSmallRefIdeal.main_arg12)
          ∧ r.2.mem ((c.tc : Thread Cert.UpdSmallRefIdeal.nD Cert.UpdSmallRefIdeal.τ).loc Cert.UpdSmallRefIdeal.main_arg13) = m' ((c.tc : Thread Cert.UpdSmallRefIdeal.nD Cert.UpdSmallRefIdeal.τ).loc Cert.UpdSmallRefIdeal.main_arg13)
          ∧ r.2.mem ((c.tc : Thread Cert.UpdSmallRefIdeal.nD Cert.UpdSmallRefIdeal.τ).loc Cert.UpdSmallRefIdeal.main_arg14) = m' ((c.tc : Thread Cert.UpdSmallRefIdeal.nD Cert.UpdSmallRefIdeal.τ).loc Cert.UpdSmallRefIdeal.main_arg14)
          ∧ r.2.mem ((c.tc : Thread Cert.UpdSmallRefIdeal.nD Cert.UpdSmallRefIdeal.τ).loc Cert.UpdSmallRefIdeal.main_arg15) = m' ((c.tc : Thread Cert.UpdSmallRefIdeal.nD Cert.UpdSmallRefIdeal.τ).loc Cert.UpdSmallRefIdeal.main_arg15)
          ∧ r.2.mem ((c.tc : Thread Cert.UpdSmallRefIdeal.nD Cert.UpdSmallRefIdeal.τ).loc Cert.UpdSmallRefIdeal.main_arg16) = m' ((c.tc : Thread Cert.UpdSmallRefIdeal.nD Cert.UpdSmallRefIdeal.τ).loc Cert.UpdSmallRefIdeal.main_arg16)
          ∧ r.2.mem ((c.tc : Thread Cert.UpdSmallRefIdeal.nD Cert.UpdSmallRefIdeal.τ).loc Cert.UpdSmallRefIdeal.main_arg17) = m' ((c.tc : Thread Cert.UpdSmallRefIdeal.nD Cert.UpdSmallRefIdeal.τ).loc Cert.UpdSmallRefIdeal.main_arg17)
          ∧ r.2.mem ((c.tc : Thread Cert.UpdSmallRefIdeal.nD Cert.UpdSmallRefIdeal.τ).loc Cert.UpdSmallRefIdeal.main_arg18) = m' ((c.tc : Thread Cert.UpdSmallRefIdeal.nD Cert.UpdSmallRefIdeal.τ).loc Cert.UpdSmallRefIdeal.main_arg18)
          ∧ r.2.mem ((c.tc : Thread Cert.UpdSmallRefIdeal.nD Cert.UpdSmallRefIdeal.τ).loc Cert.UpdSmallRefIdeal.main_arg19) = m' ((c.tc : Thread Cert.UpdSmallRefIdeal.nD Cert.UpdSmallRefIdeal.τ).loc Cert.UpdSmallRefIdeal.main_arg19)
          ∧ r.2.mem ((c.tc : Thread Cert.UpdSmallRefIdeal.nD Cert.UpdSmallRefIdeal.τ).loc Cert.UpdSmallRefIdeal.main_arg20) = m' ((c.tc : Thread Cert.UpdSmallRefIdeal.nD Cert.UpdSmallRefIdeal.τ).loc Cert.UpdSmallRefIdeal.main_arg20)
          ∧ r.2.mem ((c.tc : Thread Cert.UpdSmallRefIdeal.nD Cert.UpdSmallRefIdeal.τ).loc Cert.UpdSmallRefIdeal.main_arg21) = m' ((c.tc : Thread Cert.UpdSmallRefIdeal.nD Cert.UpdSmallRefIdeal.τ).loc Cert.UpdSmallRefIdeal.main_arg21)
          ∧ r.2.mem ((c.tc : Thread Cert.UpdSmallRefIdeal.nD Cert.UpdSmallRefIdeal.τ).loc Cert.UpdSmallRefIdeal.main_arg22) = m' ((c.tc : Thread Cert.UpdSmallRefIdeal.nD Cert.UpdSmallRefIdeal.τ).loc Cert.UpdSmallRefIdeal.main_arg22)
          ∧ r.2.mem ((c.tc : Thread Cert.UpdSmallRefIdeal.nD Cert.UpdSmallRefIdeal.τ).loc Cert.UpdSmallRefIdeal.main_arg23) = m' ((c.tc : Thread Cert.UpdSmallRefIdeal.nD Cert.UpdSmallRefIdeal.τ).loc Cert.UpdSmallRefIdeal.main_arg23)
          ∧ r.2.mem ((c.tc : Thread Cert.UpdSmallRefIdeal.nD Cert.UpdSmallRefIdeal.τ).loc Cert.UpdSmallRefIdeal.main_arg24) = m' ((c.tc : Thread Cert.UpdSmallRefIdeal.nD Cert.UpdSmallRefIdeal.τ).loc Cert.UpdSmallRefIdeal.main_arg24)
          ∧ r.2.mem ((c.tc : Thread Cert.UpdSmallRefIdeal.nD Cert.UpdSmallRefIdeal.τ).loc Cert.UpdSmallRefIdeal.main_arg25) = m' ((c.tc : Thread Cert.UpdSmallRefIdeal.nD Cert.UpdSmallRefIdeal.τ).loc Cert.UpdSmallRefIdeal.main_arg25)
          ∧ r.2.mem ((c.tc : Thread Cert.UpdSmallRefIdeal.nD Cert.UpdSmallRefIdeal.τ).loc Cert.UpdSmallRefIdeal.main_arg26) = m' ((c.tc : Thread Cert.UpdSmallRefIdeal.nD Cert.UpdSmallRefIdeal.τ).loc Cert.UpdSmallRefIdeal.main_arg26)
          ∧ r.2.mem ((c.tc : Thread Cert.UpdSmallRefIdeal.nD Cert.UpdSmallRefIdeal.τ).loc Cert.UpdSmallRefIdeal.main_arg27) = m' ((c.tc : Thread Cert.UpdSmallRefIdeal.nD Cert.UpdSmallRefIdeal.τ).loc Cert.UpdSmallRefIdeal.main_arg27)
          ∧ r.2.mem ((c.tc : Thread Cert.UpdSmallRefIdeal.nD Cert.UpdSmallRefIdeal.τ).loc Cert.UpdSmallRefIdeal.main_arg28) = m' ((c.tc : Thread Cert.UpdSmallRefIdeal.nD Cert.UpdSmallRefIdeal.τ).loc Cert.UpdSmallRefIdeal.main_arg28)
          ∧ r.2.mem ((c.tc : Thread Cert.UpdSmallRefIdeal.nD Cert.UpdSmallRefIdeal.τ).loc Cert.UpdSmallRefIdeal.main_arg29) = m' ((c.tc : Thread Cert.UpdSmallRefIdeal.nD Cert.UpdSmallRefIdeal.τ).loc Cert.UpdSmallRefIdeal.main_arg29)
          ∧ r.2.mem ((c.tc : Thread Cert.UpdSmallRefIdeal.nD Cert.UpdSmallRefIdeal.τ).loc Cert.UpdSmallRefIdeal.main_arg30) = m' ((c.tc : Thread Cert.UpdSmallRefIdeal.nD Cert.UpdSmallRefIdeal.τ).loc Cert.UpdSmallRefIdeal.main_arg30)
          ∧ r.2.mem ((c.tc : Thread Cert.UpdSmallRefIdeal.nD Cert.UpdSmallRefIdeal.τ).loc Cert.UpdSmallRefIdeal.main_arg31) = m' ((c.tc : Thread Cert.UpdSmallRefIdeal.nD Cert.UpdSmallRefIdeal.τ).loc Cert.UpdSmallRefIdeal.main_arg31)
          ∧ r.2.mem ((c.tc : Thread Cert.UpdSmallRefIdeal.nD Cert.UpdSmallRefIdeal.τ).loc Cert.UpdSmallRefIdeal.main_arg32) = m' ((c.tc : Thread Cert.UpdSmallRefIdeal.nD Cert.UpdSmallRefIdeal.τ).loc Cert.UpdSmallRefIdeal.main_arg32)
          ∧ r.2.mem ((c.tc : Thread Cert.UpdSmallRefIdeal.nD Cert.UpdSmallRefIdeal.τ).loc Cert.UpdSmallRefIdeal.main_arg33) = m' ((c.tc : Thread Cert.UpdSmallRefIdeal.nD Cert.UpdSmallRefIdeal.τ).loc Cert.UpdSmallRefIdeal.main_arg33)
          ∧ r.2.mem ((c.tc : Thread Cert.UpdSmallRefIdeal.nD Cert.UpdSmallRefIdeal.τ).loc Cert.UpdSmallRefIdeal.main_arg34) = m' ((c.tc : Thread Cert.UpdSmallRefIdeal.nD Cert.UpdSmallRefIdeal.τ).loc Cert.UpdSmallRefIdeal.main_arg34)
          ∧ r.2.mem ((c.tc : Thread Cert.UpdSmallRefIdeal.nD Cert.UpdSmallRefIdeal.τ).loc Cert.UpdSmallRefIdeal.main_arg35) = m' ((c.tc : Thread Cert.UpdSmallRefIdeal.nD Cert.UpdSmallRefIdeal.τ).loc Cert.UpdSmallRefIdeal.main_arg35))

def preserves_LnLoss_LnLossIdeal : Prop :=
  True

def algebraic_LnLossIdeal_LnLossRefIdeal_pre_finite_error [hLnLossIdeal : Cert.LnLossIdeal.Facts] [hLnLossRefIdeal : Cert.LnLossRefIdeal.Facts] [hPre_finite_error : Cert.Pre_finite_error.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_finite_error m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)) →
    ∃ (v0 : (c : Dev Cert.LnLossIdeal.nD) → Buf (Elt Ideal) ((c.tc : Thread Cert.LnLossIdeal.nD Cert.LnLossIdeal.τ).loc Cert.LnLossIdeal.main_v1_0)) (v1 : (c : Dev Cert.LnLossIdeal.nD) → Buf (Elt Ideal) ((c.tc : Thread Cert.LnLossIdeal.nD Cert.LnLossIdeal.τ).loc Cert.LnLossIdeal.main_v1_1)) (v2 : (c : Dev Cert.LnLossIdeal.nD) → Buf (Elt Ideal) ((c.tc : Thread Cert.LnLossIdeal.nD Cert.LnLossIdeal.τ).loc Cert.LnLossIdeal.main_v1_2)) (v3 : (c : Dev Cert.LnLossIdeal.nD) → Buf (Elt Ideal) ((c.tc : Thread Cert.LnLossIdeal.nD Cert.LnLossIdeal.τ).loc Cert.LnLossIdeal.main_v1_3)) (v4 : (c : Dev Cert.LnLossIdeal.nD) → Buf (Elt Ideal) ((c.tc : Thread Cert.LnLossIdeal.nD Cert.LnLossIdeal.τ).loc Cert.LnLossIdeal.main_v2)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v1_0) = v0 c
          ∧ r.2.mem ((c.tc : Thread Cert.LnLossIdeal.nD Cert.LnLossIdeal.τ).loc Cert.LnLossIdeal.main_v1_1) = v1 c
          ∧ r.2.mem ((c.tc : Thread Cert.LnLossIdeal.nD Cert.LnLossIdeal.τ).loc Cert.LnLossIdeal.main_v1_2) = v2 c
          ∧ r.2.mem ((c.tc : Thread Cert.LnLossIdeal.nD Cert.LnLossIdeal.τ).loc Cert.LnLossIdeal.main_v1_3) = v3 c
          ∧ r.2.mem ((c.tc : Thread Cert.LnLossIdeal.nD Cert.LnLossIdeal.τ).loc Cert.LnLossIdeal.main_v2) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v78) = v0 c
          ∧ r.2.mem ((c.tc : Thread Cert.LnLossRefIdeal.nD Cert.LnLossRefIdeal.τ).loc Cert.LnLossRefIdeal.main_v79) = v1 c
          ∧ r.2.mem ((c.tc : Thread Cert.LnLossRefIdeal.nD Cert.LnLossRefIdeal.τ).loc Cert.LnLossRefIdeal.main_v80) = v2 c
          ∧ r.2.mem ((c.tc : Thread Cert.LnLossRefIdeal.nD Cert.LnLossRefIdeal.τ).loc Cert.LnLossRefIdeal.main_v81) = v3 c
          ∧ r.2.mem ((c.tc : Thread Cert.LnLossRefIdeal.nD Cert.LnLossRefIdeal.τ).loc Cert.LnLossRefIdeal.main_v8) = v4 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg1))
      ∧ m ((c.tc : Thread Cert.LossIdeal.nD Cert.LossIdeal.τ).loc Cert.LossIdeal.main_arg2) = m' (((0 : Dev Cert.LossRefIdeal.nD).tc : Thread Cert.LossRefIdeal.nD Cert.LossRefIdeal.τ).loc Cert.LossRefIdeal.main_arg2)
      ∧ m ((c.tc : Thread Cert.LossIdeal.nD Cert.LossIdeal.τ).loc Cert.LossIdeal.main_arg3) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg3))) →
    ∃ (v0 : Buf (Elt Ideal) (((0 : Dev Cert.LossRefIdeal.nD).tc : Thread Cert.LossRefIdeal.nD Cert.LossRefIdeal.τ).loc Cert.LossRefIdeal.main_v6)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v6) = v0
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1)
          ∧ r.2.mem (((0 : Dev Cert.LossRefIdeal.nD).tc : Thread Cert.LossRefIdeal.nD Cert.LossRefIdeal.τ).loc Cert.LossRefIdeal.main_arg2) = m' (((0 : Dev Cert.LossRefIdeal.nD).tc : Thread Cert.LossRefIdeal.nD Cert.LossRefIdeal.τ).loc Cert.LossRefIdeal.main_arg2)
          ∧ r.2.mem (((0 : Dev Cert.LossRefIdeal.nD).tc : Thread Cert.LossRefIdeal.nD Cert.LossRefIdeal.τ).loc Cert.LossRefIdeal.main_arg3) = m' (((0 : Dev Cert.LossRefIdeal.nD).tc : Thread Cert.LossRefIdeal.nD Cert.LossRefIdeal.τ).loc Cert.LossRefIdeal.main_arg3))

def Claim : Prop :=
  ∃ (hScBwd : Cert.ScBwd.Facts) (hScBwdIdeal : Cert.ScBwdIdeal.Facts) (hScRefIdeal : Cert.ScRefIdeal.Facts) (hFfnDownDw : Cert.FfnDownDw.Facts) (hFfnDownDwIdeal : Cert.FfnDownDwIdeal.Facts) (hFfnDownDwRefIdeal : Cert.FfnDownDwRefIdeal.Facts) (hFfnUpDw : Cert.FfnUpDw.Facts) (hFfnUpDwIdeal : Cert.FfnUpDwIdeal.Facts) (hFfnUpDwRefIdeal : Cert.FfnUpDwRefIdeal.Facts) (hScOutDw : Cert.ScOutDw.Facts) (hScOutDwIdeal : Cert.ScOutDwIdeal.Facts) (hScOutDwRefIdeal : Cert.ScOutDwRefIdeal.Facts) (hScInDw : Cert.ScInDw.Facts) (hScInDwIdeal : Cert.ScInDwIdeal.Facts) (hScInDwRefIdeal : Cert.ScInDwRefIdeal.Facts) (hLruOutDw : Cert.LruOutDw.Facts) (hLruOutDwIdeal : Cert.LruOutDwIdeal.Facts) (hLruOutDwRefIdeal : Cert.LruOutDwRefIdeal.Facts) (hLruInDw : Cert.LruInDw.Facts) (hLruInDwIdeal : Cert.LruInDwIdeal.Facts) (hLruInDwRefIdeal : Cert.LruInDwRefIdeal.Facts) (hFfnUpDx : Cert.FfnUpDx.Facts) (hFfnUpDxIdeal : Cert.FfnUpDxIdeal.Facts) (hFfnUpDxRefIdeal : Cert.FfnUpDxRefIdeal.Facts) (hScInDx : Cert.ScInDx.Facts) (hScInDxIdeal : Cert.ScInDxIdeal.Facts) (hScInDxRefIdeal : Cert.ScInDxRefIdeal.Facts) (hLruInDx : Cert.LruInDx.Facts) (hLruInDxIdeal : Cert.LruInDxIdeal.Facts) (hLruInDxRefIdeal : Cert.LruInDxRefIdeal.Facts) (hScOutDx : Cert.ScOutDx.Facts) (hScOutDxIdeal : Cert.ScOutDxIdeal.Facts) (hScOutDxRefIdeal : Cert.ScOutDxRefIdeal.Facts) (hLruOutDx : Cert.LruOutDx.Facts) (hLruOutDxIdeal : Cert.LruOutDxIdeal.Facts) (hLruOutDxRefIdeal : Cert.LruOutDxRefIdeal.Facts) (hScIn : Cert.ScIn.Facts) (hScInIdeal : Cert.ScInIdeal.Facts) (hScInRefIdeal : Cert.ScInRefIdeal.Facts) (hLruIn : Cert.LruIn.Facts) (hLruInIdeal : Cert.LruInIdeal.Facts) (hLruInRefIdeal : Cert.LruInRefIdeal.Facts) (hFfnDownLn : Cert.FfnDownLn.Facts) (hFfnDownLnIdeal : Cert.FfnDownLnIdeal.Facts) (hFfnDownLnRefIdeal : Cert.FfnDownLnRefIdeal.Facts) (hScOutLn : Cert.ScOutLn.Facts) (hScOutLnIdeal : Cert.ScOutLnIdeal.Facts) (hScOutLnRefIdeal : Cert.ScOutLnRefIdeal.Facts) (hLruOutLn : Cert.LruOutLn.Facts) (hLruOutLnIdeal : Cert.LruOutLnIdeal.Facts) (hLruOutLnRefIdeal : Cert.LruOutLnRefIdeal.Facts) (hLnBwd : Cert.LnBwd.Facts) (hLnBwdIdeal : Cert.LnBwdIdeal.Facts) (hLnBwdRefIdeal : Cert.LnBwdRefIdeal.Facts) (hFfnUp : Cert.FfnUp.Facts) (hFfnUpIdeal : Cert.FfnUpIdeal.Facts) (hFfnUpRefIdeal : Cert.FfnUpRefIdeal.Facts) (hUpdScIn : Cert.UpdScIn.Facts) (hUpdScInIdeal : Cert.UpdScInIdeal.Facts) (hUpdScInRefIdeal : Cert.UpdScInRefIdeal.Facts) (hUpdScOut : Cert.UpdScOut.Facts) (hUpdScOutIdeal : Cert.UpdScOutIdeal.Facts) (hUpdScOutRefIdeal : Cert.UpdScOutRefIdeal.Facts) (hUpdLruIn : Cert.UpdLruIn.Facts) (hUpdLruInIdeal : Cert.UpdLruInIdeal.Facts) (hUpdLruInRefIdeal : Cert.UpdLruInRefIdeal.Facts) (hUpdLruOut : Cert.UpdLruOut.Facts) (hUpdLruOutIdeal : Cert.UpdLruOutIdeal.Facts) (hUpdLruOutRefIdeal : Cert.UpdLruOutRefIdeal.Facts) (hUpdUp : Cert.UpdUp.Facts) (hUpdUpIdeal : Cert.UpdUpIdeal.Facts) (hUpdUpRefIdeal : Cert.UpdUpRefIdeal.Facts) (hUpdDown : Cert.UpdDown.Facts) (hUpdDownIdeal : Cert.UpdDownIdeal.Facts) (hUpdDownRefIdeal : Cert.UpdDownRefIdeal.Facts) (hUpdGate : Cert.UpdGate.Facts) (hUpdGateIdeal : Cert.UpdGateIdeal.Facts) (hUpdGateRefIdeal : Cert.UpdGateRefIdeal.Facts) (hScFwd : Cert.ScFwd.Facts) (hScFwdIdeal : Cert.ScFwdIdeal.Facts) (hScFwdRefIdeal : Cert.ScFwdRefIdeal.Facts) (hUpdPack : Cert.UpdPack.Facts) (hUpdPackIdeal : Cert.UpdPackIdeal.Facts) (hUpdPackRefIdeal : Cert.UpdPackRefIdeal.Facts) (hUpdSmall : Cert.UpdSmall.Facts) (hUpdSmallIdeal : Cert.UpdSmallIdeal.Facts) (hUpdSmallRefIdeal : Cert.UpdSmallRefIdeal.Facts) (hLnLoss : Cert.LnLoss.Facts) (hLnLossIdeal : Cert.LnLossIdeal.Facts) (hLnLossRefIdeal : Cert.LnLossRefIdeal.Facts) (hLoss : Cert.Loss.Facts) (hLossIdeal : Cert.LossIdeal.Facts) (hLossRefIdeal : Cert.LossRefIdeal.Facts) (hPre_finite : Cert.Pre_finite.Facts) (hPre_finite_error : Cert.Pre_finite_error.Facts),
    quiescent_ScBwd (hScBwd := hScBwd)
    ∧ quiescent_ScBwdIdeal (hScBwdIdeal := hScBwdIdeal)
    ∧ quiescent_ScRefIdeal (hScRefIdeal := hScRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_ScOutDw (hScOutDw := hScOutDw)
    ∧ quiescent_ScOutDwIdeal (hScOutDwIdeal := hScOutDwIdeal)
    ∧ quiescent_ScOutDwRefIdeal (hScOutDwRefIdeal := hScOutDwRefIdeal)
    ∧ quiescent_ScInDw (hScInDw := hScInDw)
    ∧ quiescent_ScInDwIdeal (hScInDwIdeal := hScInDwIdeal)
    ∧ quiescent_ScInDwRefIdeal (hScInDwRefIdeal := hScInDwRefIdeal)
    ∧ quiescent_LruOutDw (hLruOutDw := hLruOutDw)
    ∧ quiescent_LruOutDwIdeal (hLruOutDwIdeal := hLruOutDwIdeal)
    ∧ quiescent_LruOutDwRefIdeal (hLruOutDwRefIdeal := hLruOutDwRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_ScInDx (hScInDx := hScInDx)
    ∧ quiescent_ScInDxIdeal (hScInDxIdeal := hScInDxIdeal)
    ∧ quiescent_ScInDxRefIdeal (hScInDxRefIdeal := hScInDxRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_ScOutDx (hScOutDx := hScOutDx)
    ∧ quiescent_ScOutDxIdeal (hScOutDxIdeal := hScOutDxIdeal)
    ∧ quiescent_ScOutDxRefIdeal (hScOutDxRefIdeal := hScOutDxRefIdeal)
    ∧ quiescent_LruOutDx (hLruOutDx := hLruOutDx)
    ∧ quiescent_LruOutDxIdeal (hLruOutDxIdeal := hLruOutDxIdeal)
    ∧ quiescent_LruOutDxRefIdeal (hLruOutDxRefIdeal := hLruOutDxRefIdeal)
    ∧ quiescent_ScIn (hScIn := hScIn)
    ∧ quiescent_ScInIdeal (hScInIdeal := hScInIdeal)
    ∧ quiescent_ScInRefIdeal (hScInRefIdeal := hScInRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_FfnDownLn (hFfnDownLn := hFfnDownLn)
    ∧ quiescent_FfnDownLnIdeal (hFfnDownLnIdeal := hFfnDownLnIdeal)
    ∧ quiescent_FfnDownLnRefIdeal (hFfnDownLnRefIdeal := hFfnDownLnRefIdeal)
    ∧ quiescent_ScOutLn (hScOutLn := hScOutLn)
    ∧ quiescent_ScOutLnIdeal (hScOutLnIdeal := hScOutLnIdeal)
    ∧ quiescent_ScOutLnRefIdeal (hScOutLnRefIdeal := hScOutLnRefIdeal)
    ∧ quiescent_LruOutLn (hLruOutLn := hLruOutLn)
    ∧ quiescent_LruOutLnIdeal (hLruOutLnIdeal := hLruOutLnIdeal)
    ∧ quiescent_LruOutLnRefIdeal (hLruOutLnRefIdeal := hLruOutLnRefIdeal)
    ∧ quiescent_LnBwd (hLnBwd := hLnBwd)
    ∧ quiescent_LnBwdIdeal (hLnBwdIdeal := hLnBwdIdeal)
    ∧ quiescent_LnBwdIdeal_pre_finite (hLnBwdIdeal := hLnBwdIdeal) (hPre_finite := hPre_finite)
    ∧ quiescent_LnBwdRefIdeal (hLnBwdRefIdeal := hLnBwdRefIdeal)
    ∧ quiescent_LnBwdRefIdeal_pre_finite (hLnBwdRefIdeal := hLnBwdRefIdeal) (hPre_finite := hPre_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_UpdScIn (hUpdScIn := hUpdScIn)
    ∧ quiescent_UpdScInIdeal (hUpdScInIdeal := hUpdScInIdeal)
    ∧ quiescent_UpdScInRefIdeal (hUpdScInRefIdeal := hUpdScInRefIdeal)
    ∧ quiescent_UpdScOut (hUpdScOut := hUpdScOut)
    ∧ quiescent_UpdScOutIdeal (hUpdScOutIdeal := hUpdScOutIdeal)
    ∧ quiescent_UpdScOutRefIdeal (hUpdScOutRefIdeal := hUpdScOutRefIdeal)
    ∧ quiescent_UpdLruIn (hUpdLruIn := hUpdLruIn)
    ∧ quiescent_UpdLruInIdeal (hUpdLruInIdeal := hUpdLruInIdeal)
    ∧ quiescent_UpdLruInRefIdeal (hUpdLruInRefIdeal := hUpdLruInRefIdeal)
    ∧ quiescent_UpdLruOut (hUpdLruOut := hUpdLruOut)
    ∧ quiescent_UpdLruOutIdeal (hUpdLruOutIdeal := hUpdLruOutIdeal)
    ∧ quiescent_UpdLruOutRefIdeal (hUpdLruOutRefIdeal := hUpdLruOutRefIdeal)
    ∧ quiescent_UpdUp (hUpdUp := hUpdUp)
    ∧ quiescent_UpdUpIdeal (hUpdUpIdeal := hUpdUpIdeal)
    ∧ quiescent_UpdUpRefIdeal (hUpdUpRefIdeal := hUpdUpRefIdeal)
    ∧ quiescent_UpdDown (hUpdDown := hUpdDown)
    ∧ quiescent_UpdDownIdeal (hUpdDownIdeal := hUpdDownIdeal)
    ∧ quiescent_UpdDownRefIdeal (hUpdDownRefIdeal := hUpdDownRefIdeal)
    ∧ quiescent_UpdGate (hUpdGate := hUpdGate)
    ∧ quiescent_UpdGateIdeal (hUpdGateIdeal := hUpdGateIdeal)
    ∧ quiescent_UpdGateRefIdeal (hUpdGateRefIdeal := hUpdGateRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_UpdPack (hUpdPack := hUpdPack)
    ∧ quiescent_UpdPackIdeal (hUpdPackIdeal := hUpdPackIdeal)
    ∧ quiescent_UpdPackRefIdeal (hUpdPackRefIdeal := hUpdPackRefIdeal)
    ∧ quiescent_UpdSmall (hUpdSmall := hUpdSmall)
    ∧ quiescent_UpdSmallIdeal (hUpdSmallIdeal := hUpdSmallIdeal)
    ∧ quiescent_UpdSmallRefIdeal (hUpdSmallRefIdeal := hUpdSmallRefIdeal)
    ∧ quiescent_LnLoss (hLnLoss := hLnLoss)
    ∧ quiescent_LnLossIdeal (hLnLossIdeal := hLnLossIdeal)
    ∧ quiescent_LnLossIdeal_pre_finite_error (hLnLossIdeal := hLnLossIdeal) (hPre_finite_error := hPre_finite_error)
    ∧ quiescent_LnLossRefIdeal (hLnLossRefIdeal := hLnLossRefIdeal)
    ∧ quiescent_LnLossRefIdeal_pre_finite_error (hLnLossRefIdeal := hLnLossRefIdeal) (hPre_finite_error := hPre_finite_error)
    ∧ quiescent_Loss (hLoss := hLoss)
    ∧ quiescent_LossIdeal (hLossIdeal := hLossIdeal)
    ∧ quiescent_LossRefIdeal (hLossRefIdeal := hLossRefIdeal)
    ∧ preserves_ScBwd_ScBwdIdeal
    ∧ algebraic_ScBwdIdeal_ScRefIdeal (hScBwdIdeal := hScBwdIdeal) (hScRefIdeal := hScRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_ScOutDw_ScOutDwIdeal
    ∧ algebraic_ScOutDwIdeal_ScOutDwRefIdeal (hScOutDwIdeal := hScOutDwIdeal) (hScOutDwRefIdeal := hScOutDwRefIdeal)
    ∧ preserves_ScInDw_ScInDwIdeal
    ∧ algebraic_ScInDwIdeal_ScInDwRefIdeal (hScInDwIdeal := hScInDwIdeal) (hScInDwRefIdeal := hScInDwRefIdeal)
    ∧ preserves_LruOutDw_LruOutDwIdeal
    ∧ algebraic_LruOutDwIdeal_LruOutDwRefIdeal (hLruOutDwIdeal := hLruOutDwIdeal) (hLruOutDwRefIdeal := hLruOutDwRefIdeal)
    ∧ preserves_LruInDw_LruInDwIdeal
    ∧ algebraic_LruInDwIdeal_LruInDwRefIdeal (hLruInDwIdeal := hLruInDwIdeal) (hLruInDwRefIdeal := hLruInDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_ScInDx_ScInDxIdeal
    ∧ algebraic_ScInDxIdeal_ScInDxRefIdeal (hScInDxIdeal := hScInDxIdeal) (hScInDxRefIdeal := hScInDxRefIdeal)
    ∧ preserves_LruInDx_LruInDxIdeal
    ∧ algebraic_LruInDxIdeal_LruInDxRefIdeal (hLruInDxIdeal := hLruInDxIdeal) (hLruInDxRefIdeal := hLruInDxRefIdeal)
    ∧ preserves_ScOutDx_ScOutDxIdeal
    ∧ algebraic_ScOutDxIdeal_ScOutDxRefIdeal (hScOutDxIdeal := hScOutDxIdeal) (hScOutDxRefIdeal := hScOutDxRefIdeal)
    ∧ preserves_LruOutDx_LruOutDxIdeal
    ∧ algebraic_LruOutDxIdeal_LruOutDxRefIdeal (hLruOutDxIdeal := hLruOutDxIdeal) (hLruOutDxRefIdeal := hLruOutDxRefIdeal)
    ∧ preserves_ScIn_ScInIdeal
    ∧ algebraic_ScInIdeal_ScInRefIdeal (hScInIdeal := hScInIdeal) (hScInRefIdeal := hScInRefIdeal)
    ∧ preserves_LruIn_LruInIdeal
    ∧ algebraic_LruInIdeal_LruInRefIdeal (hLruInIdeal := hLruInIdeal) (hLruInRefIdeal := hLruInRefIdeal)
    ∧ preserves_FfnDownLn_FfnDownLnIdeal
    ∧ algebraic_FfnDownLnIdeal_FfnDownLnRefIdeal (hFfnDownLnIdeal := hFfnDownLnIdeal) (hFfnDownLnRefIdeal := hFfnDownLnRefIdeal)
    ∧ preserves_ScOutLn_ScOutLnIdeal
    ∧ algebraic_ScOutLnIdeal_ScOutLnRefIdeal (hScOutLnIdeal := hScOutLnIdeal) (hScOutLnRefIdeal := hScOutLnRefIdeal)
    ∧ preserves_LruOutLn_LruOutLnIdeal
    ∧ algebraic_LruOutLnIdeal_LruOutLnRefIdeal (hLruOutLnIdeal := hLruOutLnIdeal) (hLruOutLnRefIdeal := hLruOutLnRefIdeal)
    ∧ preserves_LnBwd_LnBwdIdeal
    ∧ algebraic_LnBwdIdeal_LnBwdRefIdeal_pre_finite (hLnBwdIdeal := hLnBwdIdeal) (hLnBwdRefIdeal := hLnBwdRefIdeal) (hPre_finite := hPre_finite)
    ∧ preserves_FfnUp_FfnUpIdeal
    ∧ algebraic_FfnUpIdeal_FfnUpRefIdeal (hFfnUpIdeal := hFfnUpIdeal) (hFfnUpRefIdeal := hFfnUpRefIdeal)
    ∧ preserves_UpdScIn_UpdScInIdeal
    ∧ algebraic_UpdScInIdeal_UpdScInRefIdeal (hUpdScInIdeal := hUpdScInIdeal) (hUpdScInRefIdeal := hUpdScInRefIdeal)
    ∧ preserves_UpdScOut_UpdScOutIdeal
    ∧ algebraic_UpdScOutIdeal_UpdScOutRefIdeal (hUpdScOutIdeal := hUpdScOutIdeal) (hUpdScOutRefIdeal := hUpdScOutRefIdeal)
    ∧ preserves_UpdLruIn_UpdLruInIdeal
    ∧ algebraic_UpdLruInIdeal_UpdLruInRefIdeal (hUpdLruInIdeal := hUpdLruInIdeal) (hUpdLruInRefIdeal := hUpdLruInRefIdeal)
    ∧ preserves_UpdLruOut_UpdLruOutIdeal
    ∧ algebraic_UpdLruOutIdeal_UpdLruOutRefIdeal (hUpdLruOutIdeal := hUpdLruOutIdeal) (hUpdLruOutRefIdeal := hUpdLruOutRefIdeal)
    ∧ preserves_UpdUp_UpdUpIdeal
    ∧ algebraic_UpdUpIdeal_UpdUpRefIdeal (hUpdUpIdeal := hUpdUpIdeal) (hUpdUpRefIdeal := hUpdUpRefIdeal)
    ∧ preserves_UpdDown_UpdDownIdeal
    ∧ algebraic_UpdDownIdeal_UpdDownRefIdeal (hUpdDownIdeal := hUpdDownIdeal) (hUpdDownRefIdeal := hUpdDownRefIdeal)
    ∧ preserves_UpdGate_UpdGateIdeal
    ∧ algebraic_UpdGateIdeal_UpdGateRefIdeal (hUpdGateIdeal := hUpdGateIdeal) (hUpdGateRefIdeal := hUpdGateRefIdeal)
    ∧ preserves_ScFwd_ScFwdIdeal
    ∧ algebraic_ScFwdIdeal_ScFwdRefIdeal (hScFwdIdeal := hScFwdIdeal) (hScFwdRefIdeal := hScFwdRefIdeal)
    ∧ preserves_UpdPack_UpdPackIdeal
    ∧ algebraic_UpdPackIdeal_UpdPackRefIdeal (hUpdPackIdeal := hUpdPackIdeal) (hUpdPackRefIdeal := hUpdPackRefIdeal)
    ∧ preserves_UpdSmall_UpdSmallIdeal
    ∧ algebraic_UpdSmallIdeal_UpdSmallRefIdeal (hUpdSmallIdeal := hUpdSmallIdeal) (hUpdSmallRefIdeal := hUpdSmallRefIdeal)
    ∧ preserves_LnLoss_LnLossIdeal
    ∧ algebraic_LnLossIdeal_LnLossRefIdeal_pre_finite_error (hLnLossIdeal := hLnLossIdeal) (hLnLossRefIdeal := hLnLossRefIdeal) (hPre_finite_error := hPre_finite_error)
    ∧ preserves_Loss_LossIdeal
    ∧ algebraic_LossIdeal_LossRefIdeal (hLossIdeal := hLossIdeal) (hLossRefIdeal := hLossRefIdeal)
-- ==== Pre_finite.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

class Facts : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1024 .f32) : IVec S8192x1024 1 :=
  let main_v0 : FVec F S1x1024 .f32 := broadcastInDim S1x1024 ![1] bcast_S1024_S1x1024_1 main_arg2
  let main_v1 : FVec F S8192x1024 .f32 := broadcastInDim S8192x1024 ![0, 1] bcast_S1x1024_S8192x1024_0_1 main_v0
  let main_v2 : FVec F S8192x1024 .f32 := mulf main_arg0 main_v1
  let main_v3 : FVec F S8192x1024 .f32 := Host.absf main_v2
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  main_v5
-- ==== Pre_finite_error.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

class Facts : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1024 .f32) (main_arg3 : FVec F S8192x1024 .f32) : IVec S8192x1024 1 :=
  let main_v0 : FVec F S8192x1024 .f32 := subf main_arg0 main_arg3
  let main_v1 : FVec F S1x1024 .f32 := broadcastInDim S1x1024 ![1] bcast_S1024_S1x1024_1 main_arg2
  let main_v2 : FVec F S8192x1024 .f32 := broadcastInDim S8192x1024 ![0, 1] bcast_S1x1024_S8192x1024_0_1 main_v1
  let main_v3 : FVec F S8192x1024 .f32 := mulf main_v0 main_v2
  let main_v4 : FVec F S8192x1024 .f32 := Host.absf main_v3
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  main_v6
-- ==== ScBwd.lean ====
abbrev S8192x3072 : Shape := ⟨2, ![8192, 3072]⟩
abbrev S8192x1024 : Shape := ⟨2, ![8192, 1024]⟩
abbrev S3x1024 : Shape := ⟨2, ![3, 1024]⟩
abbrev S1024 : Shape := ⟨1, ![1024]⟩
abbrev S1x1024 : Shape := ⟨2, ![1, 1024]⟩
abbrev S3x8192x1024 : Shape := ⟨3, ![3, 8192, 1024]⟩
abbrev S256x1024 : Shape := ⟨2, ![256, 1024]⟩
abbrev S16x1024 : Shape := ⟨2, ![16, 1024]⟩
abbrev S3x256x1024 : Shape := ⟨3, ![3, 256, 1024]⟩
abbrev S8x1024 : Shape := ⟨2, ![8, 1024]⟩
abbrev S272x1024 : Shape := ⟨2, ![272, 1024]⟩
abbrev S264x1024 : Shape := ⟨2, ![264, 1024]⟩
abbrev S1x256x1024 : Shape := ⟨3, ![1, 256, 1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S1024, .f32⟩
  | .hbm, ⟨4, _⟩ => ⟨S1x1024, .f32⟩
  | .hbm, ⟨5, _⟩ => ⟨S3x8192x1024, .bf16⟩
  | .hbm, ⟨6, _⟩ => ⟨S3x1024, .f32⟩
  | .hbm, ⟨7, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .bf16⟩
  | .local _ .vmem, ⟨11, _⟩ => ⟨S256x1024, .bf16⟩
  | .local _ .vmem, ⟨12, _⟩ => ⟨S3x1024, .f32⟩
  | .local _ .vmem, ⟨13, _⟩ => ⟨S1x1024, .f32⟩
  | .local _ .vmem, ⟨14, _⟩ => ⟨S3x256x1024, .bf16⟩
  | .local _ .vmem, ⟨15, _⟩ => ⟨S3x256x1024, .bf16⟩
  | .local _ .vmem, ⟨16, _⟩ => ⟨S3x1024, .f32⟩
  | .local _ .vmem, ⟨17, _⟩ => ⟨S1x1024, .f32⟩
  | .local _ .vmem, ⟨18, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ScRefIdeal.lean ====
abbrev S8192x3072 : Shape := ⟨2, ![8192, 3072]⟩
abbrev S8192x1024 : Shape := ⟨2, ![8192, 1024]⟩
abbrev S3x1024 : Shape := ⟨2, ![3, 1024]⟩
abbrev S1024 : Shape := ⟨1, ![1024]⟩
abbrev S4x2048x3072 : Shape := ⟨3, ![4, 2048, 3072]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1x1x1024 : Shape := ⟨3, ![1, 1, 1024]⟩
abbrev S1x4x2048x1024 : Shape := ⟨4, ![1, 4, 2048, 1024]⟩
abbrev S3x4x2048x1024 : Shape := ⟨4, ![3, 4, 2048, 1024]⟩
abbrev S3x8192x1024 : Shape := ⟨3, ![3, 8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S1024, .f32⟩
  | .hbm, ⟨4, _⟩ => ⟨S8192x3072, .f32⟩
  | .hbm, ⟨5, _⟩ => ⟨S4x2048x3072, .f32⟩
  | .hbm, ⟨6, _⟩ => ⟨S8192x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2x1024, .f32⟩
  | .hbm, ⟨14, _⟩ => ⟨S4x2050x1024, .f32⟩
  | .hbm, ⟨15, _⟩ => ⟨S_, .f32⟩
  | .hbm, ⟨16, _⟩ => ⟨S4x2x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S_, .f32⟩
  | .hbm, ⟨55, _⟩ => ⟨S4x2050x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S_, .f32⟩
  | .hbm, ⟨69, _⟩ => ⟨S4x2050x1024, .f32⟩
  | .hbm, ⟨70, _⟩ => ⟨S4x2050x1024, .f32⟩
  | .hbm, ⟨71, _⟩ => ⟨S_, .f32⟩
  | .hbm, ⟨72, _⟩ => ⟨S1024, .f32⟩
  | .hbm, ⟨73, _⟩ => ⟨S1x1x1024, .f32⟩
  | .hbm, ⟨74, _⟩ => ⟨S_, .f32⟩
  | .hbm, ⟨75, _⟩ => ⟨S1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S3x1024, .f32⟩
  | .hbm, ⟨87, _⟩ => ⟨S3x1024, .f32⟩
  | .hbm, ⟨88, _⟩ => ⟨S_, .f32⟩
  | .hbm, ⟨89, _⟩ => ⟨S4x2050x1024, .f32⟩
  | .hbm, ⟨90, _⟩ => ⟨S4x2050x1024, .f32⟩
  | .hbm, ⟨91, _⟩ => ⟨S4x2x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S1x4x2048x1024, .f32⟩
  | .hbm, ⟨96, _⟩ => ⟨S1x4x2048x1024, .f32⟩
  | .hbm, ⟨97, _⟩ => ⟨S1x4x2048x1024, .f32⟩
  | .hbm, ⟨98, _⟩ => ⟨S3x4x2048x1024, .f32⟩
  | .hbm, ⟨99, _⟩ => ⟨S3x8192x1024, .f32⟩
  | .hbm, ⟨100, _⟩ => ⟨S3x8192x1024, .bf16⟩
  | .hbm, ⟨101, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== FfnDownDw.lean ====
abbrev S8192x2816 : Shape := ⟨2, ![8192, 2816]⟩
abbrev S8192x1024 : Shape := ⟨2, ![8192, 1024]⟩
abbrev S1x8192x1024 : Shape := ⟨3, ![1, 8192, 1024]⟩
abbrev S2816x1024 : Shape := ⟨2, ![2816, 1024]⟩
abbrev S2048x1408 : Shape := ⟨2, ![2048, 1408]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x8192x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnUpDw.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S1x8192x2816 : Shape := ⟨3, ![1, 8192, 2816]⟩
abbrev S8192x2816 : Shape := ⟨2, ![8192, 2816]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S1x8192x2816, .bf16⟩
  | .hbm, ⟨7, _⟩ => ⟨S8192x2816, .bf16⟩
  | .hbm, ⟨8, _⟩ => ⟨S1x8192x2816, .bf16⟩
  | .hbm, ⟨9, _⟩ => ⟨S8192x2816, .bf16⟩
  | .hbm, ⟨10, _⟩ => ⟨S8192x5632, .bf16⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S8192x1024, .f32⟩
  | .hbm, ⟨15, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== ScOutDw.lean ====
abbrev S8192x1024 : Shape := ⟨2, ![8192, 1024]⟩
abbrev S1x8192x1024 : Shape := ⟨3, ![1, 8192, 1024]⟩
abbrev S1024x1024 : Shape := ⟨2, ![1024, 1024]⟩
abbrev S2048x1024 : Shape := ⟨2, ![2048, 1024]⟩
abbrev S1x2048x1024 : Shape := ⟨3, ![1, 2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ScOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ScInDw.lean ====
abbrev S8192x1024 : Shape := ⟨2, ![8192, 1024]⟩
abbrev S3x8192x1024 : Shape := ⟨3, ![3, 8192, 1024]⟩
abbrev S1024x3072 : Shape := ⟨2, ![1024, 3072]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDwRefIdeal.lean ====
abbrev S8192x1024 : Shape := ⟨2, ![8192, 1024]⟩
abbrev S3x8192x1024 : Shape := ⟨3, ![3, 8192, 1024]⟩
abbrev S_ : Shape := ⟨0, ![]⟩
abbrev S1024x3072 : Shape := ⟨2, ![1024, 3072]⟩
abbrev S8192x3072 : Shape := ⟨2, ![8192, 3072]⟩
abbrev S1x8192x1024 : Shape := ⟨3, ![1, 8192, 1024]⟩
abbrev S3072x1024 : Shape := ⟨2, ![3072, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S1x8192x1024, .bf16⟩
  | .hbm, ⟨7, _⟩ => ⟨S8192x1024, .bf16⟩
  | .hbm, ⟨8, _⟩ => ⟨S1x8192x1024, .bf16⟩
  | .hbm, ⟨9, _⟩ => ⟨S8192x1024, .bf16⟩
  | .hbm, ⟨10, _⟩ => ⟨S1x8192x1024, .bf16⟩
  | .hbm, ⟨11, _⟩ => ⟨S8192x1024, .bf16⟩
  | .hbm, ⟨12, _⟩ => ⟨S8192x3072, .bf16⟩
  | .hbm, ⟨13, _⟩ => ⟨S8192x3072, .f32⟩
  | .hbm, ⟨14, _⟩ => ⟨S3072x1024, .f32⟩
  | .hbm, ⟨15, _⟩ => ⟨S1024x3072, .f32⟩
  | .hbm, ⟨16, _⟩ => ⟨S8192x1024, .f32⟩
  | .hbm, ⟨17, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== LruOutDw.lean ====
abbrev S8192x1280 : Shape := ⟨2, ![8192, 1280]⟩
abbrev S8192x1024 : Shape := ⟨2, ![8192, 1024]⟩
abbrev S1x8192x1024 : Shape := ⟨3, ![1, 8192, 1024]⟩
abbrev S1280x1024 : Shape := ⟨2, ![1280, 1024]⟩
abbrev S2048x1280 : Shape := ⟨2, ![2048, 1280]⟩
abbrev S1x2048x1024 : Shape := ⟨3, ![1, 2048, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1x8192x1024, .bf16⟩
  | .hbm, ⟨3, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1280x1024, .bf16⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruOutDwRefIdeal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S8192x1280, .f32⟩
  | .hbm, ⟨3, _⟩ => ⟨S_, .f32⟩
  | .hbm, ⟨4, _⟩ => ⟨S1280x1024, .f32⟩
  | .hbm, ⟨5, _⟩ => ⟨S8192x1024, .f32⟩
  | .hbm, ⟨6, _⟩ => ⟨S8192x1024, .f32⟩
  | .hbm, ⟨7, _⟩ => ⟨S1024x1280, .f32⟩
  | .hbm, ⟨8, _⟩ => ⟨S1280x1024, .f32⟩
  | .hbm, ⟨9, _⟩ => ⟨S8192x1280, .f32⟩
  | .hbm, ⟨10, _⟩ => ⟨S1280x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LruInDw.lean ====
abbrev S8192x1024 : Shape := ⟨2, ![8192, 1024]⟩
abbrev S2x8192x1280 : Shape := ⟨3, ![2, 8192, 1280]⟩
abbrev S1024x2560 : Shape := ⟨2, ![1024, 2560]⟩
abbrev S2048x1024 : Shape := ⟨2, ![2048, 1024]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x1280, .bf16⟩
  | .hbm, ⟨2, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDwRefIdeal.lean ====
abbrev S8192x1024 : Shape := ⟨2, ![8192, 1024]⟩
abbrev S2x8192x1280 : Shape := ⟨3, ![2, 8192, 1280]⟩
abbrev S_ : Shape := ⟨0, ![]⟩
abbrev S1024x2560 : Shape := ⟨2, ![1024, 2560]⟩
abbrev S8192x2560 : Shape := ⟨2, ![8192, 2560]⟩
abbrev S1x8192x1280 : Shape := ⟨3, ![1, 8192, 1280]⟩
abbrev S8192x1280 : Shape := ⟨2, ![8192, 1280]⟩
abbrev S2560x1024 : Shape := ⟨2, ![2560, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x1280, .bf16⟩
  | .hbm, ⟨2, _⟩ => ⟨S8192x1024, .f32⟩
  | .hbm, ⟨3, _⟩ => ⟨S_, .f32⟩
  | .hbm, ⟨4, _⟩ => ⟨S1024x2560, .f32⟩
  | .hbm, ⟨5, _⟩ => ⟨S8192x2560, .f32⟩
  | .hbm, ⟨6, _⟩ => ⟨S1x8192x1280, .bf16⟩
  | .hbm, ⟨7, _⟩ => ⟨S8192x1280, .bf16⟩
  | .hbm, ⟨8, _⟩ => ⟨S1x8192x1280, .bf16⟩
  | .hbm, ⟨9, _⟩ => ⟨S8192x1280, .bf16⟩
  | .hbm, ⟨10, _⟩ => ⟨S8192x2560, .bf16⟩
  | .hbm, ⟨11, _⟩ => ⟨S8192x2560, .f32⟩
  | .hbm, ⟨12, _⟩ => ⟨S2560x1024, .f32⟩
  | .hbm, ⟨13, _⟩ => ⟨S1024x2560, .f32⟩
  | .hbm, ⟨14, _⟩ => ⟨S8192x1024, .f32⟩
  | .hbm, ⟨15, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== FfnUpDx.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x5632 : Shape := ⟨3, ![1, 1024, 5632]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1x1024x5632, .bf16⟩
  | .hbm, ⟨4, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnUpDxRefIdeal.lean ====
abbrev S2x8192x2816 : Shape := ⟨3, ![2, 8192, 2816]⟩
abbrev S1024x5632 : Shape := ⟨2, ![1024, 5632]⟩
abbrev S8192x1024 : Shape := ⟨2, ![8192, 1024]⟩
abbrev S_ : Shape := ⟨0, ![]⟩
abbrev S8192x5632 : Shape := ⟨2, ![8192, 5632]⟩
abbrev S1x8192x2816 : Shape := ⟨3, ![1, 8192, 2816]⟩
abbrev S8192x2816 : Shape := ⟨2, ![8192, 2816]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x5632, .f32⟩
  | .hbm, ⟨10, _⟩ => ⟨S1x8192x2816, .bf16⟩
  | .hbm, ⟨11, _⟩ => ⟨S8192x2816, .bf16⟩
  | .hbm, ⟨12, _⟩ => ⟨S1x8192x2816, .bf16⟩
  | .hbm, ⟨13, _⟩ => ⟨S8192x2816, .bf16⟩
  | .hbm, ⟨14, _⟩ => ⟨S8192x5632, .bf16⟩
  | .hbm, ⟨15, _⟩ => ⟨S8192x5632, .f32⟩
  | .hbm, ⟨16, _⟩ => ⟨S5632x1024, .f32⟩
  | .hbm, ⟨17, _⟩ => ⟨S1024x5632, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ScInDx.lean ====
abbrev S3x8192x1024 : Shape := ⟨3, ![3, 8192, 1024]⟩
abbrev S1024x3072 : Shape := ⟨2, ![1024, 3072]⟩
abbrev S8192x1024 : Shape := ⟨2, ![8192, 1024]⟩
abbrev S1x1024x3072 : Shape := ⟨3, ![1, 1024, 3072]⟩
abbrev S1x1024x1024 : Shape := ⟨3, ![1, 1024, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .bf16⟩
  | .hbm, ⟨2, _⟩ => ⟨S8192x1024, .f32⟩
  | .hbm, ⟨3, _⟩ => ⟨S1x1024x3072, .bf16⟩
  | .hbm, ⟨4, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ScInDxRefIdeal.lean ====
abbrev S3x8192x1024 : Shape := ⟨3, ![3, 8192, 1024]⟩
abbrev S1024x3072 : Shape := ⟨2, ![1024, 3072]⟩
abbrev S8192x1024 : Shape := ⟨2, ![8192, 1024]⟩
abbrev S_ : Shape := ⟨0, ![]⟩
abbrev S8192x3072 : Shape := ⟨2, ![8192, 3072]⟩
abbrev S1x8192x1024 : Shape := ⟨3, ![1, 8192, 1024]⟩
abbrev S3072x1024 : Shape := ⟨2, ![3072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x3072, .f32⟩
  | .hbm, ⟨10, _⟩ => ⟨S1x8192x1024, .bf16⟩
  | .hbm, ⟨11, _⟩ => ⟨S8192x1024, .bf16⟩
  | .hbm, ⟨12, _⟩ => ⟨S1x8192x1024, .bf16⟩
  | .hbm, ⟨13, _⟩ => ⟨S8192x1024, .bf16⟩
  | .hbm, ⟨14, _⟩ => ⟨S1x8192x1024, .bf16⟩
  | .hbm, ⟨15, _⟩ => ⟨S8192x1024, .bf16⟩
  | .hbm, ⟨16, _⟩ => ⟨S8192x3072, .bf16⟩
  | .hbm, ⟨17, _⟩ => ⟨S8192x3072, .f32⟩
  | .hbm, ⟨18, _⟩ => ⟨S3072x1024, .f32⟩
  | .hbm, ⟨19, _⟩ => ⟨S1024x3072, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== LruInDx.lean ====
abbrev S2x8192x1280 : Shape := ⟨3, ![2, 8192, 1280]⟩
abbrev S1024x2560 : Shape := ⟨2, ![1024, 2560]⟩
abbrev S8192x1024 : Shape := ⟨2, ![8192, 1024]⟩
abbrev S1x1024x2560 : Shape := ⟨3, ![1, 1024, 2560]⟩
abbrev S1x1024x1280 : Shape := ⟨3, ![1, 1024, 1280]⟩
abbrev S1024x1024 : Shape := ⟨2, ![1024, 1024]⟩
abbrev S1024x1280 : Shape := ⟨2, ![1024, 1280]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x1280, .bf16⟩
  | .hbm, ⟨1, _⟩ => ⟨S1024x2560, .bf16⟩
  | .hbm, ⟨2, _⟩ => ⟨S8192x1024, .f32⟩
  | .hbm, ⟨3, _⟩ => ⟨S1x1024x2560, .bf16⟩
  | .hbm, ⟨4, _⟩ => ⟨S8192x1024, .f32⟩
  | .local _ .vmem, ⟨0, _⟩ => ⟨S1x1024x1280, .bf16⟩
  | .local _ .vmem, ⟨1, _⟩ => ⟨S1x1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== LruInDxRefIdeal.lean ====
abbrev S2x8192x1280 : Shape := ⟨3, ![2, 8192, 1280]⟩
abbrev S1024x2560 : Shape := ⟨2, ![1024, 2560]⟩
abbrev S8192x1024 : Shape := ⟨2, ![8192, 1024]⟩
abbrev S_ : Shape := ⟨0, ![]⟩
abbrev S8192x2560 : Shape := ⟨2, ![8192, 2560]⟩
abbrev S1x8192x1280 : Shape := ⟨3, ![1, 8192, 1280]⟩
abbrev S8192x1280 : Shape := ⟨2, ![8192, 1280]⟩
abbrev S2560x1024 : Shape := ⟨2, ![2560, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x1280, .bf16⟩
  | .hbm, ⟨1, _⟩ => ⟨S1024x2560, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2560, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2560, .f32⟩
  | .hbm, ⟨10, _⟩ => ⟨S1x8192x1280, .bf16⟩
  | .hbm, ⟨11, _⟩ => ⟨S8192x1280, .bf16⟩
  | .hbm, ⟨12, _⟩ => ⟨S1x8192x1280, .bf16⟩
  | .hbm, ⟨13, _⟩ => ⟨S8192x1280, .bf16⟩
  | .hbm, ⟨14, _⟩ => ⟨S8192x2560, .bf16⟩
  | .hbm, ⟨15, _⟩ => ⟨S8192x2560, .f32⟩
  | .hbm, ⟨16, _⟩ => ⟨S2560x1024, .f32⟩
  | .hbm, ⟨17, _⟩ => ⟨S1024x2560, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S2x8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ScOutDx.lean ====
abbrev S8192x1024 : Shape := ⟨2, ![8192, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ScOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LruOutDx.lean ====
abbrev S8192x1024 : Shape := ⟨2, ![8192, 1024]⟩
abbrev S1280x1024 : Shape := ⟨2, ![1280, 1024]⟩
abbrev S1x1280x1024 : Shape := ⟨3, ![1, 1280, 1024]⟩
abbrev S8192x1280 : Shape := ⟨2, ![8192, 1280]⟩
abbrev S512x1024 : Shape := ⟨2, ![512, 1024]⟩
abbrev S512x1280 : Shape := ⟨2, ![512, 1280]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280x1024, .bf16⟩
  | .hbm, ⟨3, _⟩ => ⟨S8192x1280, .bf16⟩
  | .local _ .vmem, ⟨0, _⟩ => ⟨S512x1024, .bf16⟩
  | .local _ .vmem, ⟨1, _⟩ => ⟨S512x1024, .bf16⟩
  | .local _ .vmem, ⟨2, _⟩ => ⟨S1x1280x1024, .bf16⟩
  | .local _ .vmem, ⟨3, _⟩ => ⟨S512x1280, .bf16⟩
  | .local _ .vmem, ⟨4, _⟩ => ⟨S512x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruOutDxRefIdeal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S_, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1024, .f32⟩
  | .hbm, ⟨7, _⟩ => ⟨S1024x1280, .f32⟩
  | .hbm, ⟨8, _⟩ => ⟨S1280x1024, .f32⟩
  | .hbm, ⟨9, _⟩ => ⟨S8192x1280, .f32⟩
  | .hbm, ⟨10, _⟩ => ⟨S8192x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ScIn.lean ====
abbrev S8192x1024 : Shape := ⟨2, ![8192, 1024]⟩
abbrev S1024x3072 : Shape := ⟨2, ![1024, 3072]⟩
abbrev S1x1024x3072 : Shape := ⟨3, ![1, 1024, 3072]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x1024x3072, .bf16⟩
  | .hbm, ⟨3, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3072, .bf16⟩
  | .local _ .vmem, ⟨3, _⟩ => ⟨S512x3072, .bf16⟩
  | .local _ .vmem, ⟨4, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ScInRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LruIn.lean ====
abbrev S8192x1024 : Shape := ⟨2, ![8192, 1024]⟩
abbrev S1024x2560 : Shape := ⟨2, ![1024, 2560]⟩
abbrev S2560 : Shape := ⟨1, ![2560]⟩
abbrev S1x1024x2560 : Shape := ⟨3, ![1, 1024, 2560]⟩
abbrev S1x2560 : Shape := ⟨2, ![1, 2560]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S2560, .f32⟩
  | .hbm, ⟨3, _⟩ => ⟨S1x1024x2560, .bf16⟩
  | .hbm, ⟨4, _⟩ => ⟨S1x2560, .f32⟩
  | .hbm, ⟨5, _⟩ => ⟨S8192x2560, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2560, .bf16⟩
  | .local _ .vmem, ⟨3, _⟩ => ⟨S1x2560, .f32⟩
  | .local _ .vmem, ⟨4, _⟩ => ⟨S512x2560, .bf16⟩
  | .local _ .vmem, ⟨5, _⟩ => ⟨S512x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruInRefIdeal.lean ====
abbrev S8192x1024 : Shape := ⟨2, ![8192, 1024]⟩
abbrev S1024x2560 : Shape := ⟨2, ![1024, 2560]⟩
abbrev S2560 : Shape := ⟨1, ![2560]⟩
abbrev S8192x2560 : Shape := ⟨2, ![8192, 2560]⟩
abbrev S1x2560 : Shape := ⟨2, ![1, 2560]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S2560, .f32⟩
  | .hbm, ⟨3, _⟩ => ⟨S8192x1024, .f32⟩
  | .hbm, ⟨4, _⟩ => ⟨S1024x2560, .f32⟩
  | .hbm, ⟨5, _⟩ => ⟨S8192x2560, .f32⟩
  | .hbm, ⟨6, _⟩ => ⟨S1x2560, .f32⟩
  | .hbm, ⟨7, _⟩ => ⟨S8192x2560, .f32⟩
  | .hbm, ⟨8, _⟩ => ⟨S8192x2560, .f32⟩
  | .hbm, ⟨9, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDownLn.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x2816x1024 : Shape := ⟨3, ![1, 2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x2816x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownLnRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== ScOutLn.lean ====
abbrev S8192x1024 : Shape := ⟨2, ![8192, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScOutLnRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LruOutLn.lean ====
abbrev S8192x1280 : Shape := ⟨2, ![8192, 1280]⟩
abbrev S1280x1024 : Shape := ⟨2, ![1280, 1024]⟩
abbrev S8192x1024 : Shape := ⟨2, ![8192, 1024]⟩
abbrev S1024 : Shape := ⟨1, ![1024]⟩
abbrev S1x1280x1024 : Shape := ⟨3, ![1, 1280, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1280x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x1280, .bf16⟩
  | .local _ .vmem, ⟨1, _⟩ => ⟨S512x1280, .bf16⟩
  | .local _ .vmem, ⟨2, _⟩ => ⟨S1x1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LruOutLnRefIdeal.lean ====
abbrev S8192x1280 : Shape := ⟨2, ![8192, 1280]⟩
abbrev S1280x1024 : Shape := ⟨2, ![1280, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1280, .f32⟩
  | .hbm, ⟨9, _⟩ => ⟨S1280x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LnBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S1x1024, .f32⟩
  | .hbm, ⟨88, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S1x1024x5632 : Shape := ⟨3, ![1, 1024, 5632]⟩
abbrev S1x5632 : Shape := ⟨2, ![1, 5632]⟩
abbrev S2x8192x2816 : Shape := ⟨3, ![2, 8192, 2816]⟩
abbrev S8192x2816 : Shape := ⟨2, ![8192, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S2x512x1408 : Shape := ⟨3, ![2, 512, 1408]⟩
abbrev S512x1408 : Shape := ⟨2, ![512, 1408]⟩
abbrev S520x1408 : Shape := ⟨2, ![520, 1408]⟩
abbrev S8x1408 : Shape := ⟨2, ![8, 1408]⟩
abbrev S1x1024x256 : Shape := ⟨3, ![1, 1024, 256]⟩
abbrev S1024x256 : Shape := ⟨2, ![1024, 256]⟩
abbrev S512x256 : Shape := ⟨2, ![512, 256]⟩
abbrev S1x128 : Shape := ⟨2, ![1, 128]⟩
abbrev S136x128 : Shape := ⟨2, ![136, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 9
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S1x1024x5632, .bf16⟩
  | .hbm, ⟨5, _⟩ => ⟨S1x5632, .f32⟩
  | .hbm, ⟨6, _⟩ => ⟨S2x8192x2816, .bf16⟩
  | .hbm, ⟨7, _⟩ => ⟨S2x8192x2816, .bf16⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S2x512x1408, .bf16⟩
  | .local _ .vmem, ⟨15, _⟩ => ⟨S2x512x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | .local _ .vmem, ⟨20, _⟩ => ⟨S520x1408, .f32⟩
  | .local _ .vmem, ⟨21, _⟩ => ⟨S520x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpRefIdeal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S8192x5632 : Shape := ⟨2, ![8192, 5632]⟩
abbrev S4x2048x5632 : Shape := ⟨3, ![4, 2048, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S4x2048x5632, .f32⟩
  | .hbm, ⟨8, _⟩ => ⟨S_, .i32⟩
  | .hbm, ⟨9, _⟩ => ⟨S_, .f32⟩
  | .hbm, ⟨10, _⟩ => ⟨S4x2050x5632, .f32⟩
  | .hbm, ⟨11, _⟩ => ⟨S4x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S4x2048x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S8192x5632, .f32⟩
  | .hbm, ⟨47, _⟩ => ⟨S8192x2816, .f32⟩
  | .hbm, ⟨48, _⟩ => ⟨S8192x2816, .f32⟩
  | .hbm, ⟨49, _⟩ => ⟨S1x8192x2816, .f32⟩
  | .hbm, ⟨50, _⟩ => ⟨S1x8192x2816, .f32⟩
  | .hbm, ⟨51, _⟩ => ⟨S2x8192x2816, .f32⟩
  | .hbm, ⟨52, _⟩ => ⟨S2x8192x2816, .bf16⟩
  | .hbm, ⟨53, _⟩ => ⟨S8192x5632, .f32⟩
  | .hbm, ⟨54, _⟩ => ⟨S8192x2816, .f32⟩
  | .hbm, ⟨55, _⟩ => ⟨S8192x2816, .f32⟩
  | .hbm, ⟨56, _⟩ => ⟨S1x8192x2816, .f32⟩
  | .hbm, ⟨57, _⟩ => ⟨S1x8192x2816, .f32⟩
  | .hbm, ⟨58, _⟩ => ⟨S2x8192x2816, .f32⟩
  | .hbm, ⟨59, _⟩ => ⟨S2x8192x2816, .bf16⟩
  | .hbm, ⟨60, _⟩ => ⟨S8192x2816, .f32⟩
  | .hbm, ⟨61, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== UpdScIn.lean ====
abbrev S1 : Shape := ⟨1, ![1]⟩
abbrev S2x1024x768 : Shape := ⟨3, ![2, 1024, 768]⟩
abbrev S2x512x768 : Shape := ⟨3, ![2, 512, 768]⟩
abbrev S2x2x512x768 : Shape := ⟨4, ![2, 2, 512, 768]⟩
abbrev S1x1x512x768 : Shape := ⟨4, ![1, 1, 512, 768]⟩
abbrev S1x512x768 : Shape := ⟨3, ![1, 512, 768]⟩
abbrev S512x768 : Shape := ⟨2, ![512, 768]⟩

abbrev nBuf : Space → Nat
  | .hbm => 16
  | .vmem => 18
  | .smem => 1
  | _ => 0

abbrev bufTy : (tb : Table) → Fin (tcTables nBuf tb) → BufTy
  | .hbm, ⟨0, _⟩ => ⟨S2x1024x768, .f32⟩
  | .hbm, ⟨1, _⟩ => ⟨S2x512x768, .f32⟩
  | .hbm, ⟨2, _⟩ => ⟨S2x512x768, .f32⟩
  | .hbm, ⟨3, _⟩ => ⟨S2x1024x768, .f32⟩
  | .hbm, ⟨4, _⟩ => ⟨S2x1024x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2x2x512x768, .f32⟩
  | .hbm, ⟨11, _⟩ => ⟨S2x2x512x768, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .local _ .vmem, ⟨0, _⟩ => ⟨S1x1x512x768, .f32⟩
  | .local _ .vmem, ⟨1, _⟩ => ⟨S1x1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x1x512x768, .f32⟩
  | .local _ .vmem, ⟨7, _⟩ => ⟨S1x1x512x768, .f32⟩
  | .local _ .vmem, ⟨8, _⟩ => ⟨S1x1x512x768, .f32⟩
  | .local _ .vmem, ⟨9, _⟩ => ⟨S1x1x512x768, .f32⟩
  | .local _ .vmem, ⟨10, _⟩ => ⟨S1x1x512x768, .f32⟩
  | .local _ .vmem, ⟨11, _⟩ => ⟨S1x1x512x768, .f32⟩
  | .local _ .vmem, ⟨12, _⟩ => ⟨S1x1x512x768, .f32⟩
  | .local _ .vmem, ⟨13, _⟩ => ⟨S1x1x512x768, .f32⟩
  | .local _ .vmem, ⟨14, _⟩ => ⟨S1x1x512x768, .f32⟩
  | .local _ .vmem, ⟨15, _⟩ => ⟨S1x1x512x768, .f32⟩
  | .local _ .vmem, ⟨16, _⟩ => ⟨S1x1x512x768, .f32⟩
  | .local _ .vmem, ⟨17, _⟩ => ⟨S1x1x512x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdScInIdeal.lean ====
abbrev S1 : Shape := ⟨1, ![1]⟩
abbrev S2x1024x768 : Shape := ⟨3, ![2, 1024, 768]⟩
abbrev S2x512x768 : Shape := ⟨3, ![2, 512, 768]⟩
abbrev S2x2x512x768 : Shape := ⟨4, ![2, 2, 512, 768]⟩
abbrev S1x1x512x768 : Shape := ⟨4, ![1, 1, 512, 768]⟩
abbrev S1x512x768 : Shape := ⟨3, ![1, 512, 768]⟩
abbrev S512x768 : Shape := ⟨2, ![512, 768]⟩

abbrev nBuf : Space → Nat
  | .hbm => 16
  | .vmem => 18
  | .smem => 1
  | _ => 0

abbrev bufTy : (tb : Table) → Fin (tcTables nBuf tb) → BufTy
  | .hbm, ⟨0, _⟩ => ⟨S2x1024x768, .f32⟩
  | .hbm, ⟨1, _⟩ => ⟨S2x512x768, .f32⟩
  | .hbm, ⟨2, _⟩ => ⟨S2x512x768, .f32⟩
  | .hbm, ⟨3, _⟩ => ⟨S2x1024x768, .f32⟩
  | .hbm, ⟨4, _⟩ => ⟨S2x1024x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2x2x512x768, .f32⟩
  | .hbm, ⟨11, _⟩ => ⟨S2x2x512x768, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .local _ .vmem, ⟨0, _⟩ => ⟨S1x1x512x768, .f32⟩
  | .local _ .vmem, ⟨1, _⟩ => ⟨S1x1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x1x512x768, .f32⟩
  | .local _ .vmem, ⟨7, _⟩ => ⟨S1x1x512x768, .f32⟩
  | .local _ .vmem, ⟨8, _⟩ => ⟨S1x1x512x768, .f32⟩
  | .local _ .vmem, ⟨9, _⟩ => ⟨S1x1x512x768, .f32⟩
  | .local _ .vmem, ⟨10, _⟩ => ⟨S1x1x512x768, .f32⟩
  | .local _ .vmem, ⟨11, _⟩ => ⟨S1x1x512x768, .f32⟩
  | .local _ .vmem, ⟨12, _⟩ => ⟨S1x1x512x768, .f32⟩
  | .local _ .vmem, ⟨13, _⟩ => ⟨S1x1x512x768, .f32⟩
  | .local _ .vmem, ⟨14, _⟩ => ⟨S1x1x512x768, .f32⟩
  | .local _ .vmem, ⟨15, _⟩ => ⟨S1x1x512x768, .f32⟩
  | .local _ .vmem, ⟨16, _⟩ => ⟨S1x1x512x768, .f32⟩
  | .local _ .vmem, ⟨17, _⟩ => ⟨S1x1x512x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdScInRefIdeal.lean ====
abbrev S1 : Shape := ⟨1, ![1]⟩
abbrev S2x1024x768 : Shape := ⟨3, ![2, 1024, 768]⟩
abbrev S2x512x768 : Shape := ⟨3, ![2, 512, 768]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x768, .f32⟩
  | .hbm, ⟨2, _⟩ => ⟨S2x512x768, .f32⟩
  | .hbm, ⟨3, _⟩ => ⟨S2x512x768, .f32⟩
  | .hbm, ⟨4, _⟩ => ⟨S2x1024x768, .f32⟩
  | .hbm, ⟨5, _⟩ => ⟨S2x1024x768, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x768, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S_, .f32⟩
  | .hbm, ⟨19, _⟩ => ⟨S2x1024x768, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S_, .f32⟩
  | .hbm, ⟨34, _⟩ => ⟨S2x1024x768, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1024x768, .f32⟩
  | .hbm, ⟨43, _⟩ => ⟨S2x1024x768, .f32⟩
  | .hbm, ⟨44, _⟩ => ⟨S2x1024x768, .f32⟩
  | .hbm, ⟨45, _⟩ => ⟨S_, .f32⟩
  | .hbm, ⟨46, _⟩ => ⟨S2x1024x768, .f32⟩
  | .hbm, ⟨47, _⟩ => ⟨S2x1024x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdScOut.lean ====
abbrev S1 : Shape := ⟨1, ![1]⟩
abbrev S2x256x1024 : Shape := ⟨3, ![2, 256, 1024]⟩
abbrev S2x128x1024 : Shape := ⟨3, ![2, 128, 1024]⟩
abbrev S2x2x128x1024 : Shape := ⟨4, ![2, 2, 128, 1024]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 16
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x1x128x1024, .f32⟩
  | .local _ .vmem, ⟨17, _⟩ => ⟨S1x1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdScOutIdeal.lean ====
abbrev S1 : Shape := ⟨1, ![1]⟩
abbrev S2x256x1024 : Shape := ⟨3, ![2, 256, 1024]⟩
abbrev S2x128x1024 : Shape := ⟨3, ![2, 128, 1024]⟩
abbrev S2x2x128x1024 : Shape := ⟨4, ![2, 2, 128, 1024]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 16
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x1x128x1024, .f32⟩
  | .local _ .vmem, ⟨17, _⟩ => ⟨S1x1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdScOutRefIdeal.lean ====
abbrev S1 : Shape := ⟨1, ![1]⟩
abbrev S2x256x1024 : Shape := ⟨3, ![2, 256, 1024]⟩
abbrev S2x128x1024 : Shape := ⟨3, ![2, 128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x1024, .f32⟩
  | .hbm, ⟨2, _⟩ => ⟨S2x128x1024, .f32⟩
  | .hbm, ⟨3, _⟩ => ⟨S2x128x1024, .f32⟩
  | .hbm, ⟨4, _⟩ => ⟨S2x256x1024, .f32⟩
  | .hbm, ⟨5, _⟩ => ⟨S2x256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x128x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S_, .f32⟩
  | .hbm, ⟨42, _⟩ => ⟨S2x256x1024, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S2x256x1024, .f32⟩
  | .hbm, ⟨47, _⟩ => ⟨S2x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdLruIn.lean ====
abbrev S1 : Shape := ⟨1, ![1]⟩
abbrev S2x1024x640 : Shape := ⟨3, ![2, 1024, 640]⟩
abbrev S2x512x640 : Shape := ⟨3, ![2, 512, 640]⟩
abbrev S2x2x512x640 : Shape := ⟨4, ![2, 2, 512, 640]⟩
abbrev S1x1x512x640 : Shape := ⟨4, ![1, 1, 512, 640]⟩
abbrev S1x512x640 : Shape := ⟨3, ![1, 512, 640]⟩
abbrev S512x640 : Shape := ⟨2, ![512, 640]⟩

abbrev nBuf : Space → Nat
  | .hbm => 16
  | .vmem => 18
  | .smem => 1
  | _ => 0

abbrev bufTy : (tb : Table) → Fin (tcTables nBuf tb) → BufTy
  | .hbm, ⟨0, _⟩ => ⟨S2x1024x640, .f32⟩
  | .hbm, ⟨1, _⟩ => ⟨S2x512x640, .f32⟩
  | .hbm, ⟨2, _⟩ => ⟨S2x512x640, .f32⟩
  | .hbm, ⟨3, _⟩ => ⟨S2x1024x640, .f32⟩
  | .hbm, ⟨4, _⟩ => ⟨S2x1024x640, .f32⟩
  | .hbm, ⟨5, _⟩ => ⟨S2x2x512x640, .f32⟩
  | .hbm, ⟨6, _⟩ => ⟨S2x2x512x640, .f32⟩
  | .hbm, ⟨7, _⟩ => ⟨S2x2x512x640, .f32⟩
  | .hbm, ⟨8, _⟩ => ⟨S2x2x512x640, .f32⟩
  | .hbm, ⟨9, _⟩ => ⟨S2x2x512x640, .f32⟩
  | .hbm, ⟨10, _⟩ => ⟨S2x2x512x640, .f32⟩
  | .hbm, ⟨11, _⟩ => ⟨S2x2x512x640, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S2x1024x640, .f32⟩
  | .local _ .vmem, ⟨0, _⟩ => ⟨S1x1x512x640, .f32⟩
  | .local _ .vmem, ⟨1, _⟩ => ⟨S1x1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x1x512x640, .f32⟩
  | .local _ .vmem, ⟨7, _⟩ => ⟨S1x1x512x640, .f32⟩
  | .local _ .vmem, ⟨8, _⟩ => ⟨S1x1x512x640, .f32⟩
  | .local _ .vmem, ⟨9, _⟩ => ⟨S1x1x512x640, .f32⟩
  | .local _ .vmem, ⟨10, _⟩ => ⟨S1x1x512x640, .f32⟩
  | .local _ .vmem, ⟨11, _⟩ => ⟨S1x1x512x640, .f32⟩
  | .local _ .vmem, ⟨12, _⟩ => ⟨S1x1x512x640, .f32⟩
  | .local _ .vmem, ⟨13, _⟩ => ⟨S1x1x512x640, .f32⟩
  | .local _ .vmem, ⟨14, _⟩ => ⟨S1x1x512x640, .f32⟩
  | .local _ .vmem, ⟨15, _⟩ => ⟨S1x1x512x640, .f32⟩
  | .local _ .vmem, ⟨16, _⟩ => ⟨S1x1x512x640, .f32⟩
  | .local _ .vmem, ⟨17, _⟩ => ⟨S1x1x512x640, .f32⟩
  | .local _ .smem, ⟨0, _⟩ => ⟨S1, .i32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdLruInIdeal.lean ====
abbrev S1 : Shape := ⟨1, ![1]⟩
abbrev S2x1024x640 : Shape := ⟨3, ![2, 1024, 640]⟩
abbrev S2x512x640 : Shape := ⟨3, ![2, 512, 640]⟩
abbrev S2x2x512x640 : Shape := ⟨4, ![2, 2, 512, 640]⟩
abbrev S1x1x512x640 : Shape := ⟨4, ![1, 1, 512, 640]⟩
abbrev S1x512x640 : Shape := ⟨3, ![1, 512, 640]⟩
abbrev S512x640 : Shape := ⟨2, ![512, 640]⟩

abbrev nBuf : Space → Nat
  | .hbm => 16
  | .vmem => 18
  | .smem => 1
  | _ => 0

abbrev bufTy : (tb : Table) → Fin (tcTables nBuf tb) → BufTy
  | .hbm, ⟨0, _⟩ => ⟨S2x1024x640, .f32⟩
  | .hbm, ⟨1, _⟩ => ⟨S2x512x640, .f32⟩
  | .hbm, ⟨2, _⟩ => ⟨S2x512x640, .f32⟩
  | .hbm, ⟨3, _⟩ => ⟨S2x1024x640, .f32⟩
  | .hbm, ⟨4, _⟩ => ⟨S2x1024x640, .f32⟩
  | .hbm, ⟨5, _⟩ => ⟨S2x2x512x640, .f32⟩
  | .hbm, ⟨6, _⟩ => ⟨S2x2x512x640, .f32⟩
  | .hbm, ⟨7, _⟩ => ⟨S2x2x512x640, .f32⟩
  | .hbm, ⟨8, _⟩ => ⟨S2x2x512x640, .f32⟩
  | .hbm, ⟨9, _⟩ => ⟨S2x2x512x640, .f32⟩
  | .hbm, ⟨10, _⟩ => ⟨S2x2x512x640, .f32⟩
  | .hbm, ⟨11, _⟩ => ⟨S2x2x512x640, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S2x1024x640, .f32⟩
  | .local _ .vmem, ⟨0, _⟩ => ⟨S1x1x512x640, .f32⟩
  | .local _ .vmem, ⟨1, _⟩ => ⟨S1x1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x1x512x640, .f32⟩
  | .local _ .vmem, ⟨7, _⟩ => ⟨S1x1x512x640, .f32⟩
  | .local _ .vmem, ⟨8, _⟩ => ⟨S1x1x512x640, .f32⟩
  | .local _ .vmem, ⟨9, _⟩ => ⟨S1x1x512x640, .f32⟩
  | .local _ .vmem, ⟨10, _⟩ => ⟨S1x1x512x640, .f32⟩
  | .local _ .vmem, ⟨11, _⟩ => ⟨S1x1x512x640, .f32⟩
  | .local _ .vmem, ⟨12, _⟩ => ⟨S1x1x512x640, .f32⟩
  | .local _ .vmem, ⟨13, _⟩ => ⟨S1x1x512x640, .f32⟩
  | .local _ .vmem, ⟨14, _⟩ => ⟨S1x1x512x640, .f32⟩
  | .local _ .vmem, ⟨15, _⟩ => ⟨S1x1x512x640, .f32⟩
  | .local _ .vmem, ⟨16, _⟩ => ⟨S1x1x512x640, .f32⟩
  | .local _ .vmem, ⟨17, _⟩ => ⟨S1x1x512x640, .f32⟩
  | .local _ .smem, ⟨0, _⟩ => ⟨S1, .i32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdLruInRefIdeal.lean ====
abbrev S1 : Shape := ⟨1, ![1]⟩
abbrev S2x1024x640 : Shape := ⟨3, ![2, 1024, 640]⟩
abbrev S2x512x640 : Shape := ⟨3, ![2, 512, 640]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x640, .f32⟩
  | .hbm, ⟨2, _⟩ => ⟨S2x512x640, .f32⟩
  | .hbm, ⟨3, _⟩ => ⟨S2x512x640, .f32⟩
  | .hbm, ⟨4, _⟩ => ⟨S2x1024x640, .f32⟩
  | .hbm, ⟨5, _⟩ => ⟨S2x1024x640, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x640, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S_, .f32⟩
  | .hbm, ⟨19, _⟩ => ⟨S2x1024x640, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S_, .f32⟩
  | .hbm, ⟨34, _⟩ => ⟨S2x1024x640, .f32⟩
  | .hbm, ⟨35, _⟩ => ⟨S2x1024x640, .f32⟩
  | .hbm, ⟨36, _⟩ => ⟨S2x1024x640, .f32⟩
  | .hbm, ⟨37, _⟩ => ⟨S_, .f32⟩
  | .hbm, ⟨38, _⟩ => ⟨S2x1024x640, .f32⟩
  | .hbm, ⟨39, _⟩ => ⟨S2x1024x640, .f32⟩
  | .hbm, ⟨40, _⟩ => ⟨S2x1024x640, .f32⟩
  | .hbm, ⟨41, _⟩ => ⟨S_, .f32⟩
  | .hbm, ⟨42, _⟩ => ⟨S2x1024x640, .f32⟩
  | .hbm, ⟨43, _⟩ => ⟨S2x1024x640, .f32⟩
  | .hbm, ⟨44, _⟩ => ⟨S2x1024x640, .f32⟩
  | .hbm, ⟨45, _⟩ => ⟨S_, .f32⟩
  | .hbm, ⟨46, _⟩ => ⟨S2x1024x640, .f32⟩
  | .hbm, ⟨47, _⟩ => ⟨S2x1024x640, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdLruOut.lean ====
abbrev S1 : Shape := ⟨1, ![1]⟩
abbrev S2x320x1024 : Shape := ⟨3, ![2, 320, 1024]⟩
abbrev S2x160x1024 : Shape := ⟨3, ![2, 160, 1024]⟩
abbrev S2x2x160x1024 : Shape := ⟨4, ![2, 2, 160, 1024]⟩
abbrev S1x1x160x1024 : Shape := ⟨4, ![1, 1, 160, 1024]⟩
abbrev S1x160x1024 : Shape := ⟨3, ![1, 160, 1024]⟩
abbrev S160x1024 : Shape := ⟨2, ![160, 1024]⟩

abbrev nBuf : Space → Nat
  | .hbm => 16
  | .vmem => 18
  | .smem => 1
  | _ => 0

abbrev bufTy : (tb : Table) → Fin (tcTables nBuf tb) → BufTy
  | .hbm, ⟨0, _⟩ => ⟨S2x320x1024, .f32⟩
  | .hbm, ⟨1, _⟩ => ⟨S2x160x1024, .f32⟩
  | .hbm, ⟨2, _⟩ => ⟨S2x160x1024, .f32⟩
  | .hbm, ⟨3, _⟩ => ⟨S2x320x1024, .f32⟩
  | .hbm, ⟨4, _⟩ => ⟨S2x320x1024, .f32⟩
  | .hbm, ⟨5, _⟩ => ⟨S2x2x160x1024, .f32⟩
  | .hbm, ⟨6, _⟩ => ⟨S2x2x160x1024, .f32⟩
  | .hbm, ⟨7, _⟩ => ⟨S2x2x160x1024, .f32⟩
  | .hbm, ⟨8, _⟩ => ⟨S2x2x160x1024, .f32⟩
  | .hbm, ⟨9, _⟩ => ⟨S2x2x160x1024, .f32⟩
  | .hbm, ⟨10, _⟩ => ⟨S2x2x160x1024, .f32⟩
  | .hbm, ⟨11, _⟩ => ⟨S2x2x160x1024, .f32⟩
  | .hbm, ⟨12, _⟩ => ⟨S2x320x1024, .f32⟩
  | .hbm, ⟨13, _⟩ => ⟨S2x320x1024, .f32⟩
  | .hbm, ⟨14, _⟩ => ⟨S2x320x1024, .f32⟩
  | .hbm, ⟨15, _⟩ => ⟨S2x320x1024, .f32⟩
  | .local _ .vmem, ⟨0, _⟩ => ⟨S1x1x160x1024, .f32⟩
  | .local _ .vmem, ⟨1, _⟩ => ⟨S1x1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x1x160x1024, .f32⟩
  | .local _ .vmem, ⟨7, _⟩ => ⟨S1x1x160x1024, .f32⟩
  | .local _ .vmem, ⟨8, _⟩ => ⟨S1x1x160x1024, .f32⟩
  | .local _ .vmem, ⟨9, _⟩ => ⟨S1x1x160x1024, .f32⟩
  | .local _ .vmem, ⟨10, _⟩ => ⟨S1x1x160x1024, .f32⟩
  | .local _ .vmem, ⟨11, _⟩ => ⟨S1x1x160x1024, .f32⟩
  | .local _ .vmem, ⟨12, _⟩ => ⟨S1x1x160x1024, .f32⟩
  | .local _ .vmem, ⟨13, _⟩ => ⟨S1x1x160x1024, .f32⟩
  | .local _ .vmem, ⟨14, _⟩ => ⟨S1x1x160x1024, .f32⟩
  | .local _ .vmem, ⟨15, _⟩ => ⟨S1x1x160x1024, .f32⟩
  | .local _ .vmem, ⟨16, _⟩ => ⟨S1x1x160x1024, .f32⟩
  | .local _ .vmem, ⟨17, _⟩ => ⟨S1x1x160x1024, .f32⟩
  | .local _ .smem, ⟨0, _⟩ => ⟨S1, .i32⟩
  | _, _ => ⟨S2x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdLruOutIdeal.lean ====
abbrev S1 : Shape := ⟨1, ![1]⟩
abbrev S2x320x1024 : Shape := ⟨3, ![2, 320, 1024]⟩
abbrev S2x160x1024 : Shape := ⟨3, ![2, 160, 1024]⟩
abbrev S2x2x160x1024 : Shape := ⟨4, ![2, 2, 160, 1024]⟩
abbrev S1x1x160x1024 : Shape := ⟨4, ![1, 1, 160, 1024]⟩
abbrev S1x160x1024 : Shape := ⟨3, ![1, 160, 1024]⟩
abbrev S160x1024 : Shape := ⟨2, ![160, 1024]⟩

abbrev nBuf : Space → Nat
  | .hbm => 16
  | .vmem => 18
  | .smem => 1
  | _ => 0

abbrev bufTy : (tb : Table) → Fin (tcTables nBuf tb) → BufTy
  | .hbm, ⟨0, _⟩ => ⟨S2x320x1024, .f32⟩
  | .hbm, ⟨1, _⟩ => ⟨S2x160x1024, .f32⟩
  | .hbm, ⟨2, _⟩ => ⟨S2x160x1024, .f32⟩
  | .hbm, ⟨3, _⟩ => ⟨S2x320x1024, .f32⟩
  | .hbm, ⟨4, _⟩ => ⟨S2x320x1024, .f32⟩
  | .hbm, ⟨5, _⟩ => ⟨S2x2x160x1024, .f32⟩
  | .hbm, ⟨6, _⟩ => ⟨S2x2x160x1024, .f32⟩
  | .hbm, ⟨7, _⟩ => ⟨S2x2x160x1024, .f32⟩
  | .hbm, ⟨8, _⟩ => ⟨S2x2x160x1024, .f32⟩
  | .hbm, ⟨9, _⟩ => ⟨S2x2x160x1024, .f32⟩
  | .hbm, ⟨10, _⟩ => ⟨S2x2x160x1024, .f32⟩
  | .hbm, ⟨11, _⟩ => ⟨S2x2x160x1024, .f32⟩
  | .hbm, ⟨12, _⟩ => ⟨S2x320x1024, .f32⟩
  | .hbm, ⟨13, _⟩ => ⟨S2x320x1024, .f32⟩
  | .hbm, ⟨14, _⟩ => ⟨S2x320x1024, .f32⟩
  | .hbm, ⟨15, _⟩ => ⟨S2x320x1024, .f32⟩
  | .local _ .vmem, ⟨0, _⟩ => ⟨S1x1x160x1024, .f32⟩
  | .local _ .vmem, ⟨1, _⟩ => ⟨S1x1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x1x160x1024, .f32⟩
  | .local _ .vmem, ⟨7, _⟩ => ⟨S1x1x160x1024, .f32⟩
  | .local _ .vmem, ⟨8, _⟩ => ⟨S1x1x160x1024, .f32⟩
  | .local _ .vmem, ⟨9, _⟩ => ⟨S1x1x160x1024, .f32⟩
  | .local _ .vmem, ⟨10, _⟩ => ⟨S1x1x160x1024, .f32⟩
  | .local _ .vmem, ⟨11, _⟩ => ⟨S1x1x160x1024, .f32⟩
  | .local _ .vmem, ⟨12, _⟩ => ⟨S1x1x160x1024, .f32⟩
  | .local _ .vmem, ⟨13, _⟩ => ⟨S1x1x160x1024, .f32⟩
  | .local _ .vmem, ⟨14, _⟩ => ⟨S1x1x160x1024, .f32⟩
  | .local _ .vmem, ⟨15, _⟩ => ⟨S1x1x160x1024, .f32⟩
  | .local _ .vmem, ⟨16, _⟩ => ⟨S1x1x160x1024, .f32⟩
  | .local _ .vmem, ⟨17, _⟩ => ⟨S1x1x160x1024, .f32⟩
  | .local _ .smem, ⟨0, _⟩ => ⟨S1, .i32⟩
  | _, _ => ⟨S2x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdLruOutRefIdeal.lean ====
abbrev S1 : Shape := ⟨1, ![1]⟩
abbrev S2x320x1024 : Shape := ⟨3, ![2, 320, 1024]⟩
abbrev S2x160x1024 : Shape := ⟨3, ![2, 160, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x320x1024, .f32⟩
  | .hbm, ⟨2, _⟩ => ⟨S2x160x1024, .f32⟩
  | .hbm, ⟨3, _⟩ => ⟨S2x160x1024, .f32⟩
  | .hbm, ⟨4, _⟩ => ⟨S2x320x1024, .f32⟩
  | .hbm, ⟨5, _⟩ => ⟨S2x320x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x160x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x160x1024, .f32⟩
  | .hbm, ⟨14, _⟩ => ⟨S2x320x1024, .f32⟩
  | .hbm, ⟨15, _⟩ => ⟨S_, .f32⟩
  | .hbm, ⟨16, _⟩ => ⟨S2x320x1024, .f32⟩
  | .hbm, ⟨17, _⟩ => ⟨S2x320x1024, .f32⟩
  | .hbm, ⟨18, _⟩ => ⟨S_, .f32⟩
  | .hbm, ⟨19, _⟩ => ⟨S2x320x1024, .f32⟩
  | .hbm, ⟨20, _⟩ => ⟨S2x320x1024, .f32⟩
  | .hbm, ⟨21, _⟩ => ⟨S2x320x1024, .f32⟩
  | .hbm, ⟨22, _⟩ => ⟨S_, .f32⟩
  | .hbm, ⟨23, _⟩ => ⟨S2x320x1024, .f32⟩
  | .hbm, ⟨24, _⟩ => ⟨S2x320x1024, .f32⟩
  | .hbm, ⟨25, _⟩ => ⟨S2x320x1024, .f32⟩
  | .hbm, ⟨26, _⟩ => ⟨S_, .f32⟩
  | .hbm, ⟨27, _⟩ => ⟨S2x320x1024, .f32⟩
  | .hbm, ⟨28, _⟩ => ⟨S2x320x1024, .f32⟩
  | .hbm, ⟨29, _⟩ => ⟨S2x320x1024, .f32⟩
  | .hbm, ⟨30, _⟩ => ⟨S_, .f32⟩
  | .hbm, ⟨31, _⟩ => ⟨S2x320x1024, .f32⟩
  | .hbm, ⟨32, _⟩ => ⟨S2x320x1024, .f32⟩
  | .hbm, ⟨33, _⟩ => ⟨S_, .f32⟩
  | .hbm, ⟨34, _⟩ => ⟨S2x320x1024, .f32⟩
  | .hbm, ⟨35, _⟩ => ⟨S2x320x1024, .f32⟩
  | .hbm, ⟨36, _⟩ => ⟨S2x320x1024, .f32⟩
  | .hbm, ⟨37, _⟩ => ⟨S_, .f32⟩
  | .hbm, ⟨38, _⟩ => ⟨S2x320x1024, .f32⟩
  | .hbm, ⟨39, _⟩ => ⟨S2x320x1024, .f32⟩
  | .hbm, ⟨40, _⟩ => ⟨S2x320x1024, .f32⟩
  | .hbm, ⟨41, _⟩ => ⟨S_, .f32⟩
  | .hbm, ⟨42, _⟩ => ⟨S2x320x1024, .f32⟩
  | .hbm, ⟨43, _⟩ => ⟨S2x320x1024, .f32⟩
  | .hbm, ⟨44, _⟩ => ⟨S2x320x1024, .f32⟩
  | .hbm, ⟨45, _⟩ => ⟨S_, .f32⟩
  | .hbm, ⟨46, _⟩ => ⟨S2x320x1024, .f32⟩
  | .hbm, ⟨47, _⟩ => ⟨S2x320x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdUp.lean ====
abbrev S1 : Shape := ⟨1, ![1]⟩
abbrev S4x1024x1408 : Shape := ⟨3, ![4, 1024, 1408]⟩
abbrev S4x512x1408 : Shape := ⟨3, ![4, 512, 1408]⟩
abbrev S4x2x512x1408 : Shape := ⟨4, ![4, 2, 512, 1408]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 16
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S4x2x512x1408, .f32⟩
  | .hbm, ⟨6, _⟩ => ⟨S4x2x512x1408, .f32⟩
  | .hbm, ⟨7, _⟩ => ⟨S4x2x512x1408, .f32⟩
  | .hbm, ⟨8, _⟩ => ⟨S4x2x512x1408, .f32⟩
  | .hbm, ⟨9, _⟩ => ⟨S4x2x512x1408, .f32⟩
  | .hbm, ⟨10, _⟩ => ⟨S4x2x512x1408, .f32⟩
  | .hbm, ⟨11, _⟩ => ⟨S4x2x512x1408, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S4x1024x1408, .f32⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x1x256x1408, .f32⟩
  | .local _ .vmem, ⟨7, _⟩ => ⟨S1x1x256x1408, .f32⟩
  | .local _ .vmem, ⟨8, _⟩ => ⟨S1x1x256x1408, .f32⟩
  | .local _ .vmem, ⟨9, _⟩ => ⟨S1x1x256x1408, .f32⟩
  | .local _ .vmem, ⟨10, _⟩ => ⟨S1x1x256x1408, .f32⟩
  | .local _ .vmem, ⟨11, _⟩ => ⟨S1x1x256x1408, .f32⟩
  | .local _ .vmem, ⟨12, _⟩ => ⟨S1x1x256x1408, .f32⟩
  | .local _ .vmem, ⟨13, _⟩ => ⟨S1x1x256x1408, .f32⟩
  | .local _ .vmem, ⟨14, _⟩ => ⟨S1x1x256x1408, .f32⟩
  | .local _ .vmem, ⟨15, _⟩ => ⟨S1x1x256x1408, .f32⟩
  | .local _ .vmem, ⟨16, _⟩ => ⟨S1x1x256x1408, .f32⟩
  | .local _ .vmem, ⟨17, _⟩ => ⟨S1x1x256x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdUpIdeal.lean ====
abbrev S1 : Shape := ⟨1, ![1]⟩
abbrev S4x1024x1408 : Shape := ⟨3, ![4, 1024, 1408]⟩
abbrev S4x512x1408 : Shape := ⟨3, ![4, 512, 1408]⟩
abbrev S4x2x512x1408 : Shape := ⟨4, ![4, 2, 512, 1408]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 16
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S4x2x512x1408, .f32⟩
  | .hbm, ⟨6, _⟩ => ⟨S4x2x512x1408, .f32⟩
  | .hbm, ⟨7, _⟩ => ⟨S4x2x512x1408, .f32⟩
  | .hbm, ⟨8, _⟩ => ⟨S4x2x512x1408, .f32⟩
  | .hbm, ⟨9, _⟩ => ⟨S4x2x512x1408, .f32⟩
  | .hbm, ⟨10, _⟩ => ⟨S4x2x512x1408, .f32⟩
  | .hbm, ⟨11, _⟩ => ⟨S4x2x512x1408, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S4x1024x1408, .f32⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x1x256x1408, .f32⟩
  | .local _ .vmem, ⟨7, _⟩ => ⟨S1x1x256x1408, .f32⟩
  | .local _ .vmem, ⟨8, _⟩ => ⟨S1x1x256x1408, .f32⟩
  | .local _ .vmem, ⟨9, _⟩ => ⟨S1x1x256x1408, .f32⟩
  | .local _ .vmem, ⟨10, _⟩ => ⟨S1x1x256x1408, .f32⟩
  | .local _ .vmem, ⟨11, _⟩ => ⟨S1x1x256x1408, .f32⟩
  | .local _ .vmem, ⟨12, _⟩ => ⟨S1x1x256x1408, .f32⟩
  | .local _ .vmem, ⟨13, _⟩ => ⟨S1x1x256x1408, .f32⟩
  | .local _ .vmem, ⟨14, _⟩ => ⟨S1x1x256x1408, .f32⟩
  | .local _ .vmem, ⟨15, _⟩ => ⟨S1x1x256x1408, .f32⟩
  | .local _ .vmem, ⟨16, _⟩ => ⟨S1x1x256x1408, .f32⟩
  | .local _ .vmem, ⟨17, _⟩ => ⟨S1x1x256x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdUpRefIdeal.lean ====
abbrev S1 : Shape := ⟨1, ![1]⟩
abbrev S4x1024x1408 : Shape := ⟨3, ![4, 1024, 1408]⟩
abbrev S4x512x1408 : Shape := ⟨3, ![4, 512, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x1408, .f32⟩
  | .hbm, ⟨2, _⟩ => ⟨S4x512x1408, .f32⟩
  | .hbm, ⟨3, _⟩ => ⟨S4x512x1408, .f32⟩
  | .hbm, ⟨4, _⟩ => ⟨S4x1024x1408, .f32⟩
  | .hbm, ⟨5, _⟩ => ⟨S4x1024x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x512x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S_, .f32⟩
  | .hbm, ⟨19, _⟩ => ⟨S4x1024x1408, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S_, .f32⟩
  | .hbm, ⟨34, _⟩ => ⟨S4x1024x1408, .f32⟩
  | .hbm, ⟨35, _⟩ => ⟨S4x1024x1408, .f32⟩
  | .hbm, ⟨36, _⟩ => ⟨S4x1024x1408, .f32⟩
  | .hbm, ⟨37, _⟩ => ⟨S_, .f32⟩
  | .hbm, ⟨38, _⟩ => ⟨S4x1024x1408, .f32⟩
  | .hbm, ⟨39, _⟩ => ⟨S4x1024x1408, .f32⟩
  | .hbm, ⟨40, _⟩ => ⟨S4x1024x1408, .f32⟩
  | .hbm, ⟨41, _⟩ => ⟨S_, .f32⟩
  | .hbm, ⟨42, _⟩ => ⟨S4x1024x1408, .f32⟩
  | .hbm, ⟨43, _⟩ => ⟨S4x1024x1408, .f32⟩
  | .hbm, ⟨44, _⟩ => ⟨S4x1024x1408, .f32⟩
  | .hbm, ⟨45, _⟩ => ⟨S_, .f32⟩
  | .hbm, ⟨46, _⟩ => ⟨S4x1024x1408, .f32⟩
  | .hbm, ⟨47, _⟩ => ⟨S4x1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdDown.lean ====
abbrev S1 : Shape := ⟨1, ![1]⟩
abbrev S4x704x1024 : Shape := ⟨3, ![4, 704, 1024]⟩
abbrev S4x352x1024 : Shape := ⟨3, ![4, 352, 1024]⟩
abbrev S4x2x352x1024 : Shape := ⟨4, ![4, 2, 352, 1024]⟩
abbrev S1x1x352x1024 : Shape := ⟨4, ![1, 1, 352, 1024]⟩
abbrev S1x352x1024 : Shape := ⟨3, ![1, 352, 1024]⟩
abbrev S352x1024 : Shape := ⟨2, ![352, 1024]⟩

abbrev nBuf : Space → Nat
  | .hbm => 16
  | .vmem => 18
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .local _ .vmem, ⟨0, _⟩ => ⟨S1x1x352x1024, .f32⟩
  | .local _ .vmem, ⟨1, _⟩ => ⟨S1x1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x1x352x1024, .f32⟩
  | .local _ .vmem, ⟨7, _⟩ => ⟨S1x1x352x1024, .f32⟩
  | .local _ .vmem, ⟨8, _⟩ => ⟨S1x1x352x1024, .f32⟩
  | .local _ .vmem, ⟨9, _⟩ => ⟨S1x1x352x1024, .f32⟩
  | .local _ .vmem, ⟨10, _⟩ => ⟨S1x1x352x1024, .f32⟩
  | .local _ .vmem, ⟨11, _⟩ => ⟨S1x1x352x1024, .f32⟩
  | .local _ .vmem, ⟨12, _⟩ => ⟨S1x1x352x1024, .f32⟩
  | .local _ .vmem, ⟨13, _⟩ => ⟨S1x1x352x1024, .f32⟩
  | .local _ .vmem, ⟨14, _⟩ => ⟨S1x1x352x1024, .f32⟩
  | .local _ .vmem, ⟨15, _⟩ => ⟨S1x1x352x1024, .f32⟩
  | .local _ .vmem, ⟨16, _⟩ => ⟨S1x1x352x1024, .f32⟩
  | .local _ .vmem, ⟨17, _⟩ => ⟨S1x1x352x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdDownIdeal.lean ====
abbrev S1 : Shape := ⟨1, ![1]⟩
abbrev S4x704x1024 : Shape := ⟨3, ![4, 704, 1024]⟩
abbrev S4x352x1024 : Shape := ⟨3, ![4, 352, 1024]⟩
abbrev S4x2x352x1024 : Shape := ⟨4, ![4, 2, 352, 1024]⟩
abbrev S1x1x352x1024 : Shape := ⟨4, ![1, 1, 352, 1024]⟩
abbrev S1x352x1024 : Shape := ⟨3, ![1, 352, 1024]⟩
abbrev S352x1024 : Shape := ⟨2, ![352, 1024]⟩

abbrev nBuf : Space → Nat
  | .hbm => 16
  | .vmem => 18
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .local _ .vmem, ⟨0, _⟩ => ⟨S1x1x352x1024, .f32⟩
  | .local _ .vmem, ⟨1, _⟩ => ⟨S1x1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x1x352x1024, .f32⟩
  | .local _ .vmem, ⟨7, _⟩ => ⟨S1x1x352x1024, .f32⟩
  | .local _ .vmem, ⟨8, _⟩ => ⟨S1x1x352x1024, .f32⟩
  | .local _ .vmem, ⟨9, _⟩ => ⟨S1x1x352x1024, .f32⟩
  | .local _ .vmem, ⟨10, _⟩ => ⟨S1x1x352x1024, .f32⟩
  | .local _ .vmem, ⟨11, _⟩ => ⟨S1x1x352x1024, .f32⟩
  | .local _ .vmem, ⟨12, _⟩ => ⟨S1x1x352x1024, .f32⟩
  | .local _ .vmem, ⟨13, _⟩ => ⟨S1x1x352x1024, .f32⟩
  | .local _ .vmem, ⟨14, _⟩ => ⟨S1x1x352x1024, .f32⟩
  | .local _ .vmem, ⟨15, _⟩ => ⟨S1x1x352x1024, .f32⟩
  | .local _ .vmem, ⟨16, _⟩ => ⟨S1x1x352x1024, .f32⟩
  | .local _ .vmem, ⟨17, _⟩ => ⟨S1x1x352x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdDownRefIdeal.lean ====
abbrev S1 : Shape := ⟨1, ![1]⟩
abbrev S4x704x1024 : Shape := ⟨3, ![4, 704, 1024]⟩
abbrev S4x352x1024 : Shape := ⟨3, ![4, 352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x704x1024, .f32⟩
  | .hbm, ⟨2, _⟩ => ⟨S4x352x1024, .f32⟩
  | .hbm, ⟨3, _⟩ => ⟨S4x352x1024, .f32⟩
  | .hbm, ⟨4, _⟩ => ⟨S4x704x1024, .f32⟩
  | .hbm, ⟨5, _⟩ => ⟨S4x704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x352x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | .hbm, ⟨40, _⟩ => ⟨S4x704x1024, .f32⟩
  | .hbm, ⟨41, _⟩ => ⟨S_, .f32⟩
  | .hbm, ⟨42, _⟩ => ⟨S4x704x1024, .f32⟩
  | .hbm, ⟨43, _⟩ => ⟨S4x704x1024, .f32⟩
  | .hbm, ⟨44, _⟩ => ⟨S4x704x1024, .f32⟩
  | .hbm, ⟨45, _⟩ => ⟨S_, .f32⟩
  | .hbm, ⟨46, _⟩ => ⟨S4x704x1024, .f32⟩
  | .hbm, ⟨47, _⟩ => ⟨S4x704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdGate.lean ====
abbrev S1 : Shape := ⟨1, ![1]⟩
abbrev S1x2560x64 : Shape := ⟨3, ![1, 2560, 64]⟩
abbrev S1x1280x64 : Shape := ⟨3, ![1, 1280, 64]⟩
abbrev S1x2x1280x64 : Shape := ⟨4, ![1, 2, 1280, 64]⟩
abbrev S1x1x1280x64 : Shape := ⟨4, ![1, 1, 1280, 64]⟩
abbrev S1280x64 : Shape := ⟨2, ![1280, 64]⟩

abbrev nBuf : Space → Nat
  | .hbm => 16
  | .vmem => 16
  | .smem => 1
  | _ => 0

abbrev bufTy : (tb : Table) → Fin (tcTables nBuf tb) → BufTy
  | .hbm, ⟨0, _⟩ => ⟨S1x2560x64, .f32⟩
  | .hbm, ⟨1, _⟩ => ⟨S1x1280x64, .f32⟩
  | .hbm, ⟨2, _⟩ => ⟨S1x1280x64, .f32⟩
  | .hbm, ⟨3, _⟩ => ⟨S1x2560x64, .f32⟩
  | .hbm, ⟨4, _⟩ => ⟨S1x2560x64, .f32⟩
  | .hbm, ⟨5, _⟩ => ⟨S1x2x1280x64, .f32⟩
  | .hbm, ⟨6, _⟩ => ⟨S1x2x1280x64, .f32⟩
  | .hbm, ⟨7, _⟩ => ⟨S1x2x1280x64, .f32⟩
  | .hbm, ⟨8, _⟩ => ⟨S1x2x1280x64, .f32⟩
  | .hbm, ⟨9, _⟩ => ⟨S1x2x1280x64, .f32⟩
  | .hbm, ⟨10, _⟩ => ⟨S1x2x1280x64, .f32⟩
  | .hbm, ⟨11, _⟩ => ⟨S1x2x1280x64, .f32⟩
  | .hbm, ⟨12, _⟩ => ⟨S1x2560x64, .f32⟩
  | .hbm, ⟨13, _⟩ => ⟨S1x2560x64, .f32⟩
  | .hbm, ⟨14, _⟩ => ⟨S1x2560x64, .f32⟩
  | .hbm, ⟨15, _⟩ => ⟨S1x2560x64, .f32⟩
  | .local _ .vmem, ⟨0, _⟩ => ⟨S1x1x1280x64, .f32⟩
  | .local _ .vmem, ⟨1, _⟩ => ⟨S1x1x1280x64, .f32⟩
  | .local _ .vmem, ⟨2, _⟩ => ⟨S1x1280x64, .f32⟩
  | .local _ .vmem, ⟨3, _⟩ => ⟨S1x1280x64, .f32⟩
  | .local _ .vmem, ⟨4, _⟩ => ⟨S1x1x1280x64, .f32⟩
  | .local _ .vmem, ⟨5, _⟩ => ⟨S1x1x1280x64, .f32⟩
  | .local _ .vmem, ⟨6, _⟩ => ⟨S1x1x1280x64, .f32⟩
  | .local _ .vmem, ⟨7, _⟩ => ⟨S1x1x1280x64, .f32⟩
  | .local _ .vmem, ⟨8, _⟩ => ⟨S1x1x1280x64, .f32⟩
  | .local _ .vmem, ⟨9, _⟩ => ⟨S1x1x1280x64, .f32⟩
  | .local _ .vmem, ⟨10, _⟩ => ⟨S1x1x1280x64, .f32⟩
  | .local _ .vmem, ⟨11, _⟩ => ⟨S1x1x1280x64, .f32⟩
  | .local _ .vmem, ⟨12, _⟩ => ⟨S1x1x1280x64, .f32⟩
  | .local _ .vmem, ⟨13, _⟩ => ⟨S1x1x1280x64, .f32⟩
  | .local _ .vmem, ⟨14, _⟩ => ⟨S1x1x1280x64, .f32⟩
  | .local _ .vmem, ⟨15, _⟩ => ⟨S1x1x1280x64, .f32⟩
  | .local _ .smem, ⟨0, _⟩ => ⟨S1, .i32⟩
  | _, _ => ⟨S1x2560x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1280x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1280x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x1280x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x1280x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1280x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1280x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1280x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1280x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1280x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdGateIdeal.lean ====
abbrev S1 : Shape := ⟨1, ![1]⟩
abbrev S1x2560x64 : Shape := ⟨3, ![1, 2560, 64]⟩
abbrev S1x1280x64 : Shape := ⟨3, ![1, 1280, 64]⟩
abbrev S1x2x1280x64 : Shape := ⟨4, ![1, 2, 1280, 64]⟩
abbrev S1x1x1280x64 : Shape := ⟨4, ![1, 1, 1280, 64]⟩
abbrev S1280x64 : Shape := ⟨2, ![1280, 64]⟩

abbrev nBuf : Space → Nat
  | .hbm => 16
  | .vmem => 16
  | .smem => 1
  | _ => 0

abbrev bufTy : (tb : Table) → Fin (tcTables nBuf tb) → BufTy
  | .hbm, ⟨0, _⟩ => ⟨S1x2560x64, .f32⟩
  | .hbm, ⟨1, _⟩ => ⟨S1x1280x64, .f32⟩
  | .hbm, ⟨2, _⟩ => ⟨S1x1280x64, .f32⟩
  | .hbm, ⟨3, _⟩ => ⟨S1x2560x64, .f32⟩
  | .hbm, ⟨4, _⟩ => ⟨S1x2560x64, .f32⟩
  | .hbm, ⟨5, _⟩ => ⟨S1x2x1280x64, .f32⟩
  | .hbm, ⟨6, _⟩ => ⟨S1x2x1280x64, .f32⟩
  | .hbm, ⟨7, _⟩ => ⟨S1x2x1280x64, .f32⟩
  | .hbm, ⟨8, _⟩ => ⟨S1x2x1280x64, .f32⟩
  | .hbm, ⟨9, _⟩ => ⟨S1x2x1280x64, .f32⟩
  | .hbm, ⟨10, _⟩ => ⟨S1x2x1280x64, .f32⟩
  | .hbm, ⟨11, _⟩ => ⟨S1x2x1280x64, .f32⟩
  | .hbm, ⟨12, _⟩ => ⟨S1x2560x64, .f32⟩
  | .hbm, ⟨13, _⟩ => ⟨S1x2560x64, .f32⟩
  | .hbm, ⟨14, _⟩ => ⟨S1x2560x64, .f32⟩
  | .hbm, ⟨15, _⟩ => ⟨S1x2560x64, .f32⟩
  | .local _ .vmem, ⟨0, _⟩ => ⟨S1x1x1280x64, .f32⟩
  | .local _ .vmem, ⟨1, _⟩ => ⟨S1x1x1280x64, .f32⟩
  | .local _ .vmem, ⟨2, _⟩ => ⟨S1x1280x64, .f32⟩
  | .local _ .vmem, ⟨3, _⟩ => ⟨S1x1280x64, .f32⟩
  | .local _ .vmem, ⟨4, _⟩ => ⟨S1x1x1280x64, .f32⟩
  | .local _ .vmem, ⟨5, _⟩ => ⟨S1x1x1280x64, .f32⟩
  | .local _ .vmem, ⟨6, _⟩ => ⟨S1x1x1280x64, .f32⟩
  | .local _ .vmem, ⟨7, _⟩ => ⟨S1x1x1280x64, .f32⟩
  | .local _ .vmem, ⟨8, _⟩ => ⟨S1x1x1280x64, .f32⟩
  | .local _ .vmem, ⟨9, _⟩ => ⟨S1x1x1280x64, .f32⟩
  | .local _ .vmem, ⟨10, _⟩ => ⟨S1x1x1280x64, .f32⟩
  | .local _ .vmem, ⟨11, _⟩ => ⟨S1x1x1280x64, .f32⟩
  | .local _ .vmem, ⟨12, _⟩ => ⟨S1x1x1280x64, .f32⟩
  | .local _ .vmem, ⟨13, _⟩ => ⟨S1x1x1280x64, .f32⟩
  | .local _ .vmem, ⟨14, _⟩ => ⟨S1x1x1280x64, .f32⟩
  | .local _ .vmem, ⟨15, _⟩ => ⟨S1x1x1280x64, .f32⟩
  | .local _ .smem, ⟨0, _⟩ => ⟨S1, .i32⟩
  | _, _ => ⟨S1x2560x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1280x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1280x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x1280x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x1280x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1280x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1280x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1280x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1280x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1280x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdGateRefIdeal.lean ====
abbrev S1 : Shape := ⟨1, ![1]⟩
abbrev S1x2560x64 : Shape := ⟨3, ![1, 2560, 64]⟩
abbrev S1x1280x64 : Shape := ⟨3, ![1, 1280, 64]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2560x64, .f32⟩
  | .hbm, ⟨2, _⟩ => ⟨S1x1280x64, .f32⟩
  | .hbm, ⟨3, _⟩ => ⟨S1x1280x64, .f32⟩
  | .hbm, ⟨4, _⟩ => ⟨S1x2560x64, .f32⟩
  | .hbm, ⟨5, _⟩ => ⟨S1x2560x64, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x1280x64, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x1280x64, .f32⟩
  | .hbm, ⟨14, _⟩ => ⟨S1x2560x64, .f32⟩
  | .hbm, ⟨15, _⟩ => ⟨S_, .f32⟩
  | .hbm, ⟨16, _⟩ => ⟨S1x2560x64, .f32⟩
  | .hbm, ⟨17, _⟩ => ⟨S1x2560x64, .f32⟩
  | .hbm, ⟨18, _⟩ => ⟨S_, .f32⟩
  | .hbm, ⟨19, _⟩ => ⟨S1x2560x64, .f32⟩
  | .hbm, ⟨20, _⟩ => ⟨S1x2560x64, .f32⟩
  | .hbm, ⟨21, _⟩ => ⟨S1x2560x64, .f32⟩
  | .hbm, ⟨22, _⟩ => ⟨S_, .f32⟩
  | .hbm, ⟨23, _⟩ => ⟨S1x2560x64, .f32⟩
  | .hbm, ⟨24, _⟩ => ⟨S1x2560x64, .f32⟩
  | .hbm, ⟨25, _⟩ => ⟨S1x2560x64, .f32⟩
  | .hbm, ⟨26, _⟩ => ⟨S_, .f32⟩
  | .hbm, ⟨27, _⟩ => ⟨S1x2560x64, .f32⟩
  | .hbm, ⟨28, _⟩ => ⟨S1x2560x64, .f32⟩
  | .hbm, ⟨29, _⟩ => ⟨S1x2560x64, .f32⟩
  | .hbm, ⟨30, _⟩ => ⟨S_, .f32⟩
  | .hbm, ⟨31, _⟩ => ⟨S1x2560x64, .f32⟩
  | .hbm, ⟨32, _⟩ => ⟨S1x2560x64, .f32⟩
  | .hbm, ⟨33, _⟩ => ⟨S_, .f32⟩
  | .hbm, ⟨34, _⟩ => ⟨S1x2560x64, .f32⟩
  | .hbm, ⟨35, _⟩ => ⟨S1x2560x64, .f32⟩
  | .hbm, ⟨36, _⟩ => ⟨S1x2560x64, .f32⟩
  | .hbm, ⟨37, _⟩ => ⟨S_, .f32⟩
  | .hbm, ⟨38, _⟩ => ⟨S1x2560x64, .f32⟩
  | .hbm, ⟨39, _⟩ => ⟨S1x2560x64, .f32⟩
  | .hbm, ⟨40, _⟩ => ⟨S1x2560x64, .f32⟩
  | .hbm, ⟨41, _⟩ => ⟨S_, .f32⟩
  | .hbm, ⟨42, _⟩ => ⟨S1x2560x64, .f32⟩
  | .hbm, ⟨43, _⟩ => ⟨S1x2560x64, .f32⟩
  | .hbm, ⟨44, _⟩ => ⟨S1x2560x64, .f32⟩
  | .hbm, ⟨45, _⟩ => ⟨S_, .f32⟩
  | .hbm, ⟨46, _⟩ => ⟨S1x2560x64, .f32⟩
  | .hbm, ⟨47, _⟩ => ⟨S1x2560x64, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== ScFwd.lean ====
abbrev S8192x3072 : Shape := ⟨2, ![8192, 3072]⟩
abbrev S3x1024 : Shape := ⟨2, ![3, 1024]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S8x1024 : Shape := ⟨2, ![8, 1024]⟩
abbrev S264x1024 : Shape := ⟨2, ![264, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScFwdRefIdeal.lean ====
abbrev S8192x3072 : Shape := ⟨2, ![8192, 3072]⟩
abbrev S3x1024 : Shape := ⟨2, ![3, 1024]⟩
abbrev S1024 : Shape := ⟨1, ![1024]⟩
abbrev S4x2048x3072 : Shape := ⟨3, ![4, 2048, 3072]⟩
abbrev S4x2048x1024 : Shape := ⟨3, ![4, 2048, 1024]⟩
abbrev S_ : Shape := ⟨0, ![]⟩
abbrev S4x2050x1024 : Shape := ⟨3, ![4, 2050, 1024]⟩
abbrev S1x1024 : Shape := ⟨2, ![1, 1024]⟩
abbrev S1x1x1024 : Shape := ⟨3, ![1, 1, 1024]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1024, .f32⟩
  | .hbm, ⟨3, _⟩ => ⟨S8192x3072, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .i32⟩
  | .hbm, ⟨10, _⟩ => ⟨S_, .f32⟩
  | .hbm, ⟨11, _⟩ => ⟨S4x2050x1024, .f32⟩
  | .hbm, ⟨12, _⟩ => ⟨S4x2048x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== UpdPack.lean ====
abbrev S1 : Shape := ⟨1, ![1]⟩
abbrev S1x448x128 : Shape := ⟨3, ![1, 448, 128]⟩
abbrev S1x224x128 : Shape := ⟨3, ![1, 224, 128]⟩
abbrev S1x2x224x128 : Shape := ⟨4, ![1, 2, 224, 128]⟩
abbrev S1x1x224x128 : Shape := ⟨4, ![1, 1, 224, 128]⟩
abbrev S224x128 : Shape := ⟨2, ![224, 128]⟩

abbrev nBuf : Space → Nat
  | .hbm => 16
  | .vmem => 16
  | .smem => 1
  | _ => 0

abbrev bufTy : (tb : Table) → Fin (tcTables nBuf tb) → BufTy
  | .hbm, ⟨0, _⟩ => ⟨S1x448x128, .f32⟩
  | .hbm, ⟨1, _⟩ => ⟨S1x224x128, .f32⟩
  | .hbm, ⟨2, _⟩ => ⟨S1x224x128, .f32⟩
  | .hbm, ⟨3, _⟩ => ⟨S1x448x128, .f32⟩
  | .hbm, ⟨4, _⟩ => ⟨S1x448x128, .f32⟩
  | .hbm, ⟨5, _⟩ => ⟨S1x2x224x128, .f32⟩
  | .hbm, ⟨6, _⟩ => ⟨S1x2x224x128, .f32⟩
  | .hbm, ⟨7, _⟩ => ⟨S1x2x224x128, .f32⟩
  | .hbm, ⟨8, _⟩ => ⟨S1x2x224x128, .f32⟩
  | .hbm, ⟨9, _⟩ => ⟨S1x2x224x128, .f32⟩
  | .hbm, ⟨10, _⟩ => ⟨S1x2x224x128, .f32⟩
  | .hbm, ⟨11, _⟩ => ⟨S1x2x224x128, .f32⟩
  | .hbm, ⟨12, _⟩ => ⟨S1x448x128, .f32⟩
  | .hbm, ⟨13, _⟩ => ⟨S1x448x128, .f32⟩
  | .hbm, ⟨14, _⟩ => ⟨S1x448x128, .f32⟩
  | .hbm, ⟨15, _⟩ => ⟨S1x448x128, .f32⟩
  | .local _ .vmem, ⟨0, _⟩ => ⟨S1x1x224x128, .f32⟩
  | .local _ .vmem, ⟨1, _⟩ => ⟨S1x1x224x128, .f32⟩
  | .local _ .vmem, ⟨2, _⟩ => ⟨S1x224x128, .f32⟩
  | .local _ .vmem, ⟨3, _⟩ => ⟨S1x224x128, .f32⟩
  | .local _ .vmem, ⟨4, _⟩ => ⟨S1x1x224x128, .f32⟩
  | .local _ .vmem, ⟨5, _⟩ => ⟨S1x1x224x128, .f32⟩
  | .local _ .vmem, ⟨6, _⟩ => ⟨S1x1x224x128, .f32⟩
  | .local _ .vmem, ⟨7, _⟩ => ⟨S1x1x224x128, .f32⟩
  | .local _ .vmem, ⟨8, _⟩ => ⟨S1x1x224x128, .f32⟩
  | .local _ .vmem, ⟨9, _⟩ => ⟨S1x1x224x128, .f32⟩
  | .local _ .vmem, ⟨10, _⟩ => ⟨S1x1x224x128, .f32⟩
  | .local _ .vmem, ⟨11, _⟩ => ⟨S1x1x224x128, .f32⟩
  | .local _ .vmem, ⟨12, _⟩ => ⟨S1x1x224x128, .f32⟩
  | .local _ .vmem, ⟨13, _⟩ => ⟨S1x1x224x128, .f32⟩
  | .local _ .vmem, ⟨14, _⟩ => ⟨S1x1x224x128, .f32⟩
  | .local _ .vmem, ⟨15, _⟩ => ⟨S1x1x224x128, .f32⟩
  | .local _ .smem, ⟨0, _⟩ => ⟨S1, .i32⟩
  | _, _ => ⟨S1x448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x224x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdPackRefIdeal.lean ====
abbrev S1 : Shape := ⟨1, ![1]⟩
abbrev S1x448x128 : Shape := ⟨3, ![1, 448, 128]⟩
abbrev S1x224x128 : Shape := ⟨3, ![1, 224, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x448x128, .f32⟩
  | .hbm, ⟨2, _⟩ => ⟨S1x224x128, .f32⟩
  | .hbm, ⟨3, _⟩ => ⟨S1x224x128, .f32⟩
  | .hbm, ⟨4, _⟩ => ⟨S1x448x128, .f32⟩
  | .hbm, ⟨5, _⟩ => ⟨S1x448x128, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x224x128, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x224x128, .f32⟩
  | .hbm, ⟨14, _⟩ => ⟨S1x448x128, .f32⟩
  | .hbm, ⟨15, _⟩ => ⟨S_, .f32⟩
  | .hbm, ⟨16, _⟩ => ⟨S1x448x128, .f32⟩
  | .hbm, ⟨17, _⟩ => ⟨S1x448x128, .f32⟩
  | .hbm, ⟨18, _⟩ => ⟨S_, .f32⟩
  | .hbm, ⟨19, _⟩ => ⟨S1x448x128, .f32⟩
  | .hbm, ⟨20, _⟩ => ⟨S1x448x128, .f32⟩
  | .hbm, ⟨21, _⟩ => ⟨S1x448x128, .f32⟩
  | .hbm, ⟨22, _⟩ => ⟨S_, .f32⟩
  | .hbm, ⟨23, _⟩ => ⟨S1x448x128, .f32⟩
  | .hbm, ⟨24, _⟩ => ⟨S1x448x128, .f32⟩
  | .hbm, ⟨25, _⟩ => ⟨S1x448x128, .f32⟩
  | .hbm, ⟨26, _⟩ => ⟨S_, .f32⟩
  | .hbm, ⟨27, _⟩ => ⟨S1x448x128, .f32⟩
  | .hbm, ⟨28, _⟩ => ⟨S1x448x128, .f32⟩
  | .hbm, ⟨29, _⟩ => ⟨S1x448x128, .f32⟩
  | .hbm, ⟨30, _⟩ => ⟨S_, .f32⟩
  | .hbm, ⟨31, _⟩ => ⟨S1x448x128, .f32⟩
  | .hbm, ⟨32, _⟩ => ⟨S1x448x128, .f32⟩
  | .hbm, ⟨33, _⟩ => ⟨S_, .f32⟩
  | .hbm, ⟨34, _⟩ => ⟨S1x448x128, .f32⟩
  | .hbm, ⟨35, _⟩ => ⟨S1x448x128, .f32⟩
  | .hbm, ⟨36, _⟩ => ⟨S1x448x128, .f32⟩
  | .hbm, ⟨37, _⟩ => ⟨S_, .f32⟩
  | .hbm, ⟨38, _⟩ => ⟨S1x448x128, .f32⟩
  | .hbm, ⟨39, _⟩ => ⟨S1x448x128, .f32⟩
  | .hbm, ⟨40, _⟩ => ⟨S1x448x128, .f32⟩
  | .hbm, ⟨41, _⟩ => ⟨S_, .f32⟩
  | .hbm, ⟨42, _⟩ => ⟨S1x448x128, .f32⟩
  | .hbm, ⟨43, _⟩ => ⟨S1x448x128, .f32⟩
  | .hbm, ⟨44, _⟩ => ⟨S1x448x128, .f32⟩
  | .hbm, ⟨45, _⟩ => ⟨S_, .f32⟩
  | .hbm, ⟨46, _⟩ => ⟨S1x448x128, .f32⟩
  | .hbm, ⟨47, _⟩ => ⟨S1x448x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UpdSmall.lean ====
abbrev S1 : Shape := ⟨1, ![1]⟩
abbrev S1x224x128 : Shape := ⟨3, ![1, 224, 128]⟩
abbrev S2x3x256 : Shape := ⟨3, ![2, 3, 256]⟩
abbrev S2x1024 : Shape := ⟨2, ![2, 1024]⟩
abbrev S2x640 : Shape := ⟨2, ![2, 640]⟩
abbrev S2x4x320 : Shape := ⟨3, ![2, 4, 320]⟩
abbrev S2x320 : Shape := ⟨2, ![2, 320]⟩
abbrev S2x10x64 : Shape := ⟨3, ![2, 10, 64]⟩
abbrev S4x3x1408 : Shape := ⟨3, ![4, 3, 1408]⟩
abbrev S4x5632 : Shape := ⟨2, ![4, 5632]⟩
abbrev S4x2x256 : Shape := ⟨3, ![4, 2, 256]⟩
abbrev S1536 : Shape := ⟨1, ![1536]⟩
abbrev S2048 : Shape := ⟨1, ![2048]⟩
abbrev S1280 : Shape := ⟨1, ![1280]⟩
abbrev S2560 : Shape := ⟨1, ![2560]⟩
abbrev S640 : Shape := ⟨1, ![640]⟩
abbrev S16896 : Shape := ⟨1, ![16896]⟩
abbrev S22528 : Shape := ⟨1, ![22528]⟩
abbrev S53504 : Shape := ⟨1, ![53504]⟩
abbrev S_ : Shape := ⟨0, ![]⟩
abbrev S57344 : Shape := ⟨1, ![57344]⟩
abbrev S448x128 : Shape := ⟨2, ![448, 128]⟩
abbrev S1x448x128 : Shape := ⟨3, ![1, 448, 128]⟩
abbrev S1x2x224x128 : Shape := ⟨4, ![1, 2, 224, 128]⟩
abbrev S1x1x224x128 : Shape := ⟨4, ![1, 1, 224, 128]⟩
abbrev S224x128 : Shape := ⟨2, ![224, 128]⟩

abbrev nBuf : Space → Nat
  | .hbm => 193
  | .vmem => 16
  | .smem => 1
  | _ => 0

abbrev hbmTy0_0 (i : Nat) : BufTy := match i % 128 with
  | 0 => ⟨S1x224x128, .f32⟩
  | 1 => ⟨S1x224x128, .f32⟩
  | 2 => ⟨S2x3x256, .f32⟩
  | 3 => ⟨S2x1024, .f32⟩
  | 4 => ⟨S2x640, .f32⟩
  | 5 => ⟨S2x4x320, .f32⟩
  | 6 => ⟨S2x320, .f32⟩
  | 7 => ⟨S2x10x64, .f32⟩
  | 8 => ⟨S2x320, .f32⟩
  | 9 => ⟨S4x3x1408, .f32⟩
  | 10 => ⟨S4x5632, .f32⟩
  | 11 => ⟨S4x2x256, .f32⟩
  | 12 => ⟨S4x2x256, .f32⟩
  | 13 => ⟨S2x3x256, .f32⟩
  | 14 => ⟨S2x1024, .f32⟩
  | 15 => ⟨S2x640, .f32⟩
  | 16 => ⟨S2x4x320, .f32⟩
  | 17 => ⟨S2x320, .f32⟩
  | 18 => ⟨S2x10x64, .f32⟩
  | 19 => ⟨S2x320, .f32⟩
  | 20 => ⟨S4x3x1408, .f32⟩
  | 21 => ⟨S4x5632, .f32⟩
  | 22 => ⟨S4x2x256, .f32⟩
  | 23 => ⟨S4x2x256, .f32⟩
  | 24 => ⟨S2x3x256, .f32⟩
  | 25 => ⟨S2x1024, .f32⟩
  | 26 => ⟨S2x640, .f32⟩
  | 27 => ⟨S2x4x320, .f32⟩
  | 28 => ⟨S2x320, .f32⟩
  | 29 => ⟨S2x10x64, .f32⟩
  | 30 => ⟨S2x320, .f32⟩
  | 31 => ⟨S4x3x1408, .f32⟩
  | 32 => ⟨S4x5632, .f32⟩
  | 33 => ⟨S4x2x256, .f32⟩
  | 34 => ⟨S4x2x256, .f32⟩
  | 35 => ⟨S1536, .f32⟩
  | 36 => ⟨S2048, .f32⟩
  | 37 => ⟨S1280, .f32⟩
  | 38 => ⟨S2560, .f32⟩
  | 39 => ⟨S640, .f32⟩
  | 40 => ⟨S1280, .f32⟩
  | 41 => ⟨S640, .f32⟩
  | 42 => ⟨S16896, .f32⟩
  | 43 => ⟨S22528, .f32⟩
  | 44 => ⟨S2048, .f32⟩
  | 45 => ⟨S2048, .f32⟩
  | 46 => ⟨S53504, .f32⟩
  | 47 => ⟨S_, .i32⟩
  | 48 => ⟨S_, .f32⟩
  | 49 => ⟨S57344, .f32⟩
  | 50 => ⟨S448x128, .f32⟩
  | 51 => ⟨S1x448x128, .f32⟩
  | 52 => ⟨S1536, .f32⟩
  | 53 => ⟨S2048, .f32⟩
  | 54 => ⟨S1280, .f32⟩
  | 55 => ⟨S2560, .f32⟩
  | 56 => ⟨S640, .f32⟩
  | 57 => ⟨S1280, .f32⟩
  | 58 => ⟨S640, .f32⟩
  | 59 => ⟨S16896, .f32⟩
  | 60 => ⟨S22528, .f32⟩
  | 61 => ⟨S2048, .f32⟩
  | 62 => ⟨S2048, .f32⟩
  | 63 => ⟨S53504, .f32⟩
  | 64 => ⟨S_, .i32⟩
  | 65 => ⟨S_, .f32⟩
  | 66 => ⟨S57344, .f32⟩
  | 67 => ⟨S448x128, .f32⟩
  | 68 => ⟨S1x448x128, .f32⟩
  | 69 => ⟨S1536, .f32⟩
  | 70 => ⟨S2048, .f32⟩
  | 71 => ⟨S1280, .f32⟩
  | 72 => ⟨S2560, .f32⟩
  | 73 => ⟨S640, .f32⟩
  | 74 => ⟨S1280, .f32⟩
  | 75 => ⟨S640, .f32⟩
  | 76 => ⟨S16896, .f32⟩
  | 77 => ⟨S22528, .f32⟩
  | 78 => ⟨S2048, .f32⟩
  | 79 => ⟨S2048, .f32⟩
  | 80 => ⟨S53504, .f32⟩
  | 81 => ⟨S_, .i32⟩
  | 82 => ⟨S_, .f32⟩
  | 83 => ⟨S57344, .f32⟩
  | 84 => ⟨S448x128, .f32⟩
  | 85 => ⟨S1x448x128, .f32⟩
  | 86 => ⟨S1x2x224x128, .f32⟩
  | 87 => ⟨S1x2x224x128, .f32⟩
  | 88 => ⟨S1x2x224x128, .f32⟩
  | 89 => ⟨S1x2x224x128, .f32⟩
  | 90 => ⟨S1x2x224x128, .f32⟩
  | 91 => ⟨S1x2x224x128, .f32⟩
  | 92 => ⟨S1x2x224x128, .f32⟩
  | 93 => ⟨S1x448x128, .f32⟩
  | 94 => ⟨S1x448x128, .f32⟩
  | 95 => ⟨S1x448x128, .f32⟩
  | 96 => ⟨S1x448x128, .f32⟩
  | 97 => ⟨S448x128, .f32⟩
  | 98 => ⟨S57344, .f32⟩
  | 99 => ⟨S1536, .f32⟩
  | 100 => ⟨S2x3x256, .f32⟩
  | 101 => ⟨S2048, .f32⟩
  | 102 => ⟨S2x1024, .f32⟩
  | 103 => ⟨S1280, .f32⟩
  | 104 => ⟨S2x640, .f32⟩
  | 105 => ⟨S2560, .f32⟩
  | 106 => ⟨S2x4x320, .f32⟩
  | 107 => ⟨S640, .f32⟩
  | 108 => ⟨S2x320, .f32⟩
  | 109 => ⟨S1280, .f32⟩
  | 110 => ⟨S2x10x64, .f32⟩
  | 111 => ⟨S640, .f32⟩
  | 112 => ⟨S2x320, .f32⟩
  | 113 => ⟨S16896, .f32⟩
  | 114 => ⟨S4x3x1408, .f32⟩
  | 115 => ⟨S22528, .f32⟩
  | 116 => ⟨S4x5632, .f32⟩
  | 117 => ⟨S2048, .f32⟩
  | 118 => ⟨S4x2x256, .f32⟩
  | 119 => ⟨S2048, .f32⟩
  | 120 => ⟨S4x2x256, .f32⟩
  | 121 => ⟨S448x128, .f32⟩
  | 122 => ⟨S57344, .f32⟩
  | 123 => ⟨S1536, .f32⟩
  | 124 => ⟨S2x3x256, .f32⟩
  | 125 => ⟨S2048, .f32⟩
  | 126 => ⟨S2x1024, .f32⟩
  | 127 => ⟨S1280, .f32⟩
  | _ => ⟨S1x224x128, .f32⟩

abbrev hbmTy0_1 (i : Nat) : BufTy := match i % 128 with
  | 0 => ⟨S2x640, .f32⟩
  | 1 => ⟨S2560, .f32⟩
  | 2 => ⟨S2x4x320, .f32⟩
  | 3 => ⟨S640, .f32⟩
  | 4 => ⟨S2x320, .f32⟩
  | 5 => ⟨S1280, .f32⟩
  | 6 => ⟨S2x10x64, .f32⟩
  | 7 => ⟨S640, .f32⟩
  | 8 => ⟨S2x320, .f32⟩
  | 9 => ⟨S16896, .f32⟩
  | 10 => ⟨S4x3x1408, .f32⟩
  | 11 => ⟨S22528, .f32⟩
  | 12 => ⟨S4x5632, .f32⟩
  | 13 => ⟨S2048, .f32⟩
  | 14 => ⟨S4x2x256, .f32⟩
  | 15 => ⟨S2048, .f32⟩
  | 16 => ⟨S4x2x256, .f32⟩
  | 17 => ⟨S448x128, .f32⟩
  | 18 => ⟨S57344, .f32⟩
  | 19 => ⟨S1536, .f32⟩
  | 20 => ⟨S2x3x256, .f32⟩
  | 21 => ⟨S2048, .f32⟩
  | 22 => ⟨S2x1024, .f32⟩
  | 23 => ⟨S1280, .f32⟩
  | 24 => ⟨S2x640, .f32⟩
  | 25 => ⟨S2560, .f32⟩
  | 26 => ⟨S2x4x320, .f32⟩
  | 27 => ⟨S640, .f32⟩
  | 28 => ⟨S2x320, .f32⟩
  | 29 => ⟨S1280, .f32⟩
  | 30 => ⟨S2x10x64, .f32⟩
  | 31 => ⟨S640, .f32⟩
  | 32 => ⟨S2x320, .f32⟩
  | 33 => ⟨S16896, .f32⟩
  | 34 => ⟨S4x3x1408, .f32⟩
  | 35 => ⟨S22528, .f32⟩
  | 36 => ⟨S4x5632, .f32⟩
  | 37 => ⟨S2048, .f32⟩
  | 38 => ⟨S4x2x256, .f32⟩
  | 39 => ⟨S2048, .f32⟩
  | 40 => ⟨S4x2x256, .f32⟩
  | 41 => ⟨S448x128, .f32⟩
  | 42 => ⟨S57344, .f32⟩
  | 43 => ⟨S1536, .f32⟩
  | 44 => ⟨S2x3x256, .f32⟩
  | 45 => ⟨S2048, .f32⟩
  | 46 => ⟨S2x1024, .f32⟩
  | 47 => ⟨S1280, .f32⟩
  | 48 => ⟨S2x640, .f32⟩
  | 49 => ⟨S2560, .f32⟩
  | 50 => ⟨S2x4x320, .f32⟩
  | 51 => ⟨S640, .f32⟩
  | 52 => ⟨S2x320, .f32⟩
  | 53 => ⟨S1280, .f32⟩
  | 54 => ⟨S2x10x64, .f32⟩
  | 55 => ⟨S640, .f32⟩
  | 56 => ⟨S2x320, .f32⟩
  | 57 => ⟨S16896, .f32⟩
  | 58 => ⟨S4x3x1408, .f32⟩
  | 59 => ⟨S22528, .f32⟩
  | 60 => ⟨S4x5632, .f32⟩
  | 61 => ⟨S2048, .f32⟩
  | 62 => ⟨S4x2x256, .f32⟩
  | 63 => ⟨S2048, .f32⟩
  | 64 => ⟨S4x2x256, .f32⟩
  | _ => ⟨S1x224x128, .f32⟩

abbrev hbmTy (i : Nat) : BufTy := match i / 128 with
  | 0 => hbmTy0_0 i
  | 1 => hbmTy0_1 i
  | _ => ⟨S1x224x128, .f32⟩

abbrev bufTy : (tb : Table) → Fin (tcTables nBuf tb) → BufTy
  | .hbm, ⟨i, _⟩ => hbmTy i
  | .local _ .vmem, ⟨0, _⟩ => ⟨S1x1x224x128, .f32⟩
  | .local _ .vmem, ⟨1, _⟩ => ⟨S1x1x224x128, .f32⟩
  | .local _ .vmem, ⟨2, _⟩ => ⟨S1x224x128, .f32⟩
  | .local _ .vmem, ⟨3, _⟩ => ⟨S1x224x128, .f32⟩
  | .local _ .vmem, ⟨4, _⟩ => ⟨S1x1x224x128, .f32⟩
  | .local _ .vmem, ⟨5, _⟩ => ⟨S1x1x224x128, .f32⟩
  | .local _ .vmem, ⟨6, _⟩ => ⟨S1x1x224x128, .f32⟩
  | .local _ .vmem, ⟨7, _⟩ => ⟨S1x1x224x128, .f32⟩
  | .local _ .vmem, ⟨8, _⟩ => ⟨S1x1x224x128, .f32⟩
  | .local _ .vmem, ⟨9, _⟩ => ⟨S1x1x224x128, .f32⟩
  | .local _ .vmem, ⟨10, _⟩ => ⟨S1x1x224x128, .f32⟩
  | .local _ .vmem, ⟨11, _⟩ => ⟨S1x1x224x128, .f32⟩
  | .local _ .vmem, ⟨12, _⟩ => ⟨S1x1x224x128, .f32⟩
  | .local _ .vmem, ⟨13, _⟩ => ⟨S1x1x224x128, .f32⟩
  | .local _ .vmem, ⟨14, _⟩ => ⟨S1x1x224x128, .f32⟩
  | .local _ .vmem, ⟨15, _⟩ => ⟨S1x1x224x128, .f32⟩
  | .local _ .smem, ⟨0, _⟩ => ⟨S1, .i32⟩
  | _, _ => ⟨S1x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_arg19 : Ref sig .tc := ⟨.hbm, 18, rfl⟩
abbrev main_arg20 : Ref sig .tc := ⟨.hbm, 19, rfl⟩
abbrev main_arg21 : Ref sig .tc := ⟨.hbm, 20, rfl⟩
abbrev main_arg22 : Ref sig .tc := ⟨.hbm, 21, rfl⟩
abbrev main_arg23 : Ref sig .tc := ⟨.hbm, 22, rfl⟩
abbrev main_arg24 : Ref sig .tc := ⟨.hbm, 23, rfl⟩
abbrev main_arg25 : Ref sig .tc := ⟨.hbm, 24, rfl⟩
abbrev main_arg26 : Ref sig .tc := ⟨.hbm, 25, rfl⟩
abbrev main_arg27 : Ref sig .tc := ⟨.hbm, 26, rfl⟩
abbrev main_arg28 : Ref sig .tc := ⟨.hbm, 27, rfl⟩
abbrev main_arg29 : Ref sig .tc := ⟨.hbm, 28, rfl⟩
abbrev main_arg30 : Ref sig .tc := ⟨.hbm, 29, rfl⟩
abbrev main_arg31 : Ref sig .tc := ⟨.hbm, 30, rfl⟩
abbrev main_arg32 : Ref sig .tc := ⟨.hbm, 31, rfl⟩
abbrev main_arg33 : Ref sig .tc := ⟨.hbm, 32, rfl⟩
abbrev main_arg34 : Ref sig .tc := ⟨.hbm, 33, rfl⟩
abbrev main_arg35 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c : Ref sig .tc := ⟨.hbm, 47, rfl⟩
abbrev main_call0_v0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_0 : Ref sig .tc := ⟨.hbm, 64, rfl⟩
abbrev main_call1_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_1 : Ref sig .tc := ⟨.hbm, 81, rfl⟩
abbrev main_call2_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48_0 : Ref sig .tc := ⟨.hbm, 89, rfl⟩
abbrev main_v48_1 : Ref sig .tc := ⟨.hbm, 90, rfl⟩
abbrev main_v48_2 : Ref sig .tc := ⟨.hbm, 91, rfl⟩
abbrev main_v48_3 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x1x224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x224x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UpdSmallRefIdeal.lean ====
abbrev S1 : Shape := ⟨1, ![1]⟩
abbrev S1x224x128 : Shape := ⟨3, ![1, 224, 128]⟩
abbrev S2x3x256 : Shape := ⟨3, ![2, 3, 256]⟩
abbrev S2x1024 : Shape := ⟨2, ![2, 1024]⟩
abbrev S2x640 : Shape := ⟨2, ![2, 640]⟩
abbrev S2x4x320 : Shape := ⟨3, ![2, 4, 320]⟩
abbrev S2x320 : Shape := ⟨2, ![2, 320]⟩
abbrev S2x10x64 : Shape := ⟨3, ![2, 10, 64]⟩
abbrev S4x3x1408 : Shape := ⟨3, ![4, 3, 1408]⟩
abbrev S4x5632 : Shape := ⟨2, ![4, 5632]⟩
abbrev S4x2x256 : Shape := ⟨3, ![4, 2, 256]⟩
abbrev S_ : Shape := ⟨0, ![]⟩
abbrev S1x448x128 : Shape := ⟨3, ![1, 448, 128]⟩
abbrev S57344 : Shape := ⟨1, ![57344]⟩
abbrev S1536 : Shape := ⟨1, ![1536]⟩
abbrev S2048 : Shape := ⟨1, ![2048]⟩
abbrev S1280 : Shape := ⟨1, ![1280]⟩
abbrev S2560 : Shape := ⟨1, ![2560]⟩
abbrev S640 : Shape := ⟨1, ![640]⟩
abbrev S16896 : Shape := ⟨1, ![16896]⟩
abbrev S22528 : Shape := ⟨1, ![22528]⟩

abbrev nBuf : Space → Nat
  | .hbm => 431
  | .vmem => 0
  | .smem => 0
  | _ => 0

abbrev hbmTy0_0 (i : Nat) : BufTy := match i % 128 with
  | 0 => ⟨S1, .i32⟩
  | 1 => ⟨S1x224x128, .f32⟩
  | 2 => ⟨S1x224x128, .f32⟩
  | 3 => ⟨S2x3x256, .f32⟩
  | 4 => ⟨S2x1024, .f32⟩
  | 5 => ⟨S2x640, .f32⟩
  | 6 => ⟨S2x4x320, .f32⟩
  | 7 => ⟨S2x320, .f32⟩
  | 8 => ⟨S2x10x64, .f32⟩
  | 9 => ⟨S2x320, .f32⟩
  | 10 => ⟨S4x3x1408, .f32⟩
  | 11 => ⟨S4x5632, .f32⟩
  | 12 => ⟨S4x2x256, .f32⟩
  | 13 => ⟨S4x2x256, .f32⟩
  | 14 => ⟨S2x3x256, .f32⟩
  | 15 => ⟨S2x1024, .f32⟩
  | 16 => ⟨S2x640, .f32⟩
  | 17 => ⟨S2x4x320, .f32⟩
  | 18 => ⟨S2x320, .f32⟩
  | 19 => ⟨S2x10x64, .f32⟩
  | 20 => ⟨S2x320, .f32⟩
  | 21 => ⟨S4x3x1408, .f32⟩
  | 22 => ⟨S4x5632, .f32⟩
  | 23 => ⟨S4x2x256, .f32⟩
  | 24 => ⟨S4x2x256, .f32⟩
  | 25 => ⟨S2x3x256, .f32⟩
  | 26 => ⟨S2x1024, .f32⟩
  | 27 => ⟨S2x640, .f32⟩
  | 28 => ⟨S2x4x320, .f32⟩
  | 29 => ⟨S2x320, .f32⟩
  | 30 => ⟨S2x10x64, .f32⟩
  | 31 => ⟨S2x320, .f32⟩
  | 32 => ⟨S4x3x1408, .f32⟩
  | 33 => ⟨S4x5632, .f32⟩
  | 34 => ⟨S4x2x256, .f32⟩
  | 35 => ⟨S4x2x256, .f32⟩
  | 36 => ⟨S_, .i32⟩
  | 37 => ⟨S_, .i32⟩
  | 38 => ⟨S_, .i1⟩
  | 39 => ⟨S1x224x128, .f32⟩
  | 40 => ⟨S_, .i32⟩
  | 41 => ⟨S_, .i32⟩
  | 42 => ⟨S_, .i1⟩
  | 43 => ⟨S1x224x128, .f32⟩
  | 44 => ⟨S1x448x128, .f32⟩
  | 45 => ⟨S57344, .f32⟩
  | 46 => ⟨S1536, .f32⟩
  | 47 => ⟨S2x3x256, .f32⟩
  | 48 => ⟨S_, .f32⟩
  | 49 => ⟨S2x3x256, .f32⟩
  | 50 => ⟨S2x3x256, .f32⟩
  | 51 => ⟨S_, .f32⟩
  | 52 => ⟨S2x3x256, .f32⟩
  | 53 => ⟨S2x3x256, .f32⟩
  | 54 => ⟨S2x3x256, .f32⟩
  | 55 => ⟨S_, .f32⟩
  | 56 => ⟨S2x3x256, .f32⟩
  | 57 => ⟨S2x3x256, .f32⟩
  | 58 => ⟨S2x3x256, .f32⟩
  | 59 => ⟨S_, .f32⟩
  | 60 => ⟨S2x3x256, .f32⟩
  | 61 => ⟨S2x3x256, .f32⟩
  | 62 => ⟨S2x3x256, .f32⟩
  | 63 => ⟨S_, .f32⟩
  | 64 => ⟨S2x3x256, .f32⟩
  | 65 => ⟨S2x3x256, .f32⟩
  | 66 => ⟨S_, .f32⟩
  | 67 => ⟨S2x3x256, .f32⟩
  | 68 => ⟨S2x3x256, .f32⟩
  | 69 => ⟨S2x3x256, .f32⟩
  | 70 => ⟨S_, .f32⟩
  | 71 => ⟨S2x3x256, .f32⟩
  | 72 => ⟨S2x3x256, .f32⟩
  | 73 => ⟨S2x3x256, .f32⟩
  | 74 => ⟨S_, .f32⟩
  | 75 => ⟨S2x3x256, .f32⟩
  | 76 => ⟨S2x3x256, .f32⟩
  | 77 => ⟨S2x3x256, .f32⟩
  | 78 => ⟨S_, .f32⟩
  | 79 => ⟨S2x3x256, .f32⟩
  | 80 => ⟨S2x3x256, .f32⟩
  | 81 => ⟨S2048, .f32⟩
  | 82 => ⟨S2x1024, .f32⟩
  | 83 => ⟨S_, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S2x1024, .f32⟩
  | 94 => ⟨S_, .f32⟩
  | 95 => ⟨S2x1024, .f32⟩
  | 96 => ⟨S2x1024, .f32⟩
  | 97 => ⟨S2x1024, .f32⟩
  | 98 => ⟨S_, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S2x1024, .f32⟩
  | 105 => ⟨S_, .f32⟩
  | 106 => ⟨S2x1024, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S1280, .f32⟩
  | 117 => ⟨S2x640, .f32⟩
  | 118 => ⟨S_, .f32⟩
  | 119 => ⟨S2x640, .f32⟩
  | 120 => ⟨S2x640, .f32⟩
  | 121 => ⟨S_, .f32⟩
  | 122 => ⟨S2x640, .f32⟩
  | 123 => ⟨S2x640, .f32⟩
  | 124 => ⟨S2x640, .f32⟩
  | 125 => ⟨S_, .f32⟩
  | 126 => ⟨S2x640, .f32⟩
  | 127 => ⟨S2x640, .f32⟩
  | _ => ⟨S1, .i32⟩

abbrev hbmTy0_1 (i : Nat) : BufTy := match i % 128 with
  | 0 => ⟨S2x640, .f32⟩
  | 1 => ⟨S_, .f32⟩
  | 2 => ⟨S2x640, .f32⟩
  | 3 => ⟨S2x640, .f32⟩
  | 4 => ⟨S2x640, .f32⟩
  | 5 => ⟨S_, .f32⟩
  | 6 => ⟨S2x640, .f32⟩
  | 7 => ⟨S2x640, .f32⟩
  | 8 => ⟨S_, .f32⟩
  | 9 => ⟨S2x640, .f32⟩
  | 10 => ⟨S2x640, .f32⟩
  | 11 => ⟨S2x640, .f32⟩
  | 12 => ⟨S_, .f32⟩
  | 13 => ⟨S2x640, .f32⟩
  | 14 => ⟨S2x640, .f32⟩
  | 15 => ⟨S2x640, .f32⟩
  | 16 => ⟨S_, .f32⟩
  | 17 => ⟨S2x640, .f32⟩
  | 18 => ⟨S2x640, .f32⟩
  | 19 => ⟨S2x640, .f32⟩
  | 20 => ⟨S_, .f32⟩
  | 21 => ⟨S2x640, .f32⟩
  | 22 => ⟨S2x640, .f32⟩
  | 23 => ⟨S2560, .f32⟩
  | 24 => ⟨S2x4x320, .f32⟩
  | 25 => ⟨S_, .f32⟩
  | 26 => ⟨S2x4x320, .f32⟩
  | 27 => ⟨S2x4x320, .f32⟩
  | 28 => ⟨S_, .f32⟩
  | 29 => ⟨S2x4x320, .f32⟩
  | 30 => ⟨S2x4x320, .f32⟩
  | 31 => ⟨S2x4x320, .f32⟩
  | 32 => ⟨S_, .f32⟩
  | 33 => ⟨S2x4x320, .f32⟩
  | 34 => ⟨S2x4x320, .f32⟩
  | 35 => ⟨S2x4x320, .f32⟩
  | 36 => ⟨S_, .f32⟩
  | 37 => ⟨S2x4x320, .f32⟩
  | 38 => ⟨S2x4x320, .f32⟩
  | 39 => ⟨S2x4x320, .f32⟩
  | 40 => ⟨S_, .f32⟩
  | 41 => ⟨S2x4x320, .f32⟩
  | 42 => ⟨S2x4x320, .f32⟩
  | 43 => ⟨S_, .f32⟩
  | 44 => ⟨S2x4x320, .f32⟩
  | 45 => ⟨S2x4x320, .f32⟩
  | 46 => ⟨S2x4x320, .f32⟩
  | 47 => ⟨S_, .f32⟩
  | 48 => ⟨S2x4x320, .f32⟩
  | 49 => ⟨S2x4x320, .f32⟩
  | 50 => ⟨S2x4x320, .f32⟩
  | 51 => ⟨S_, .f32⟩
  | 52 => ⟨S2x4x320, .f32⟩
  | 53 => ⟨S2x4x320, .f32⟩
  | 54 => ⟨S2x4x320, .f32⟩
  | 55 => ⟨S_, .f32⟩
  | 56 => ⟨S2x4x320, .f32⟩
  | 57 => ⟨S2x4x320, .f32⟩
  | 58 => ⟨S640, .f32⟩
  | 59 => ⟨S2x320, .f32⟩
  | 60 => ⟨S_, .f32⟩
  | 61 => ⟨S2x320, .f32⟩
  | 62 => ⟨S2x320, .f32⟩
  | 63 => ⟨S_, .f32⟩
  | 64 => ⟨S2x320, .f32⟩
  | 65 => ⟨S2x320, .f32⟩
  | 66 => ⟨S2x320, .f32⟩
  | 67 => ⟨S_, .f32⟩
  | 68 => ⟨S2x320, .f32⟩
  | 69 => ⟨S2x320, .f32⟩
  | 70 => ⟨S2x320, .f32⟩
  | 71 => ⟨S_, .f32⟩
  | 72 => ⟨S2x320, .f32⟩
  | 73 => ⟨S2x320, .f32⟩
  | 74 => ⟨S2x320, .f32⟩
  | 75 => ⟨S_, .f32⟩
  | 76 => ⟨S2x320, .f32⟩
  | 77 => ⟨S2x320, .f32⟩
  | 78 => ⟨S_, .f32⟩
  | 79 => ⟨S2x320, .f32⟩
  | 80 => ⟨S2x320, .f32⟩
  | 81 => ⟨S2x320, .f32⟩
  | 82 => ⟨S_, .f32⟩
  | 83 => ⟨S2x320, .f32⟩
  | 84 => ⟨S2x320, .f32⟩
  | 85 => ⟨S2x320, .f32⟩
  | 86 => ⟨S_, .f32⟩
  | 87 => ⟨S2x320, .f32⟩
  | 88 => ⟨S2x320, .f32⟩
  | 89 => ⟨S2x320, .f32⟩
  | 90 => ⟨S_, .f32⟩
  | 91 => ⟨S2x320, .f32⟩
  | 92 => ⟨S2x320, .f32⟩
  | 93 => ⟨S1280, .f32⟩
  | 94 => ⟨S2x10x64, .f32⟩
  | 95 => ⟨S_, .f32⟩
  | 96 => ⟨S2x10x64, .f32⟩
  | 97 => ⟨S2x10x64, .f32⟩
  | 98 => ⟨S_, .f32⟩
  | 99 => ⟨S2x10x64, .f32⟩
  | 100 => ⟨S2x10x64, .f32⟩
  | 101 => ⟨S2x10x64, .f32⟩
  | 102 => ⟨S_, .f32⟩
  | 103 => ⟨S2x10x64, .f32⟩
  | 104 => ⟨S2x10x64, .f32⟩
  | 105 => ⟨S2x10x64, .f32⟩
  | 106 => ⟨S_, .f32⟩
  | 107 => ⟨S2x10x64, .f32⟩
  | 108 => ⟨S2x10x64, .f32⟩
  | 109 => ⟨S2x10x64, .f32⟩
  | 110 => ⟨S_, .f32⟩
  | 111 => ⟨S2x10x64, .f32⟩
  | 112 => ⟨S2x10x64, .f32⟩
  | 113 => ⟨S_, .f32⟩
  | 114 => ⟨S2x10x64, .f32⟩
  | 115 => ⟨S2x10x64, .f32⟩
  | 116 => ⟨S2x10x64, .f32⟩
  | 117 => ⟨S_, .f32⟩
  | 118 => ⟨S2x10x64, .f32⟩
  | 119 => ⟨S2x10x64, .f32⟩
  | 120 => ⟨S2x10x64, .f32⟩
  | 121 => ⟨S_, .f32⟩
  | 122 => ⟨S2x10x64, .f32⟩
  | 123 => ⟨S2x10x64, .f32⟩
  | 124 => ⟨S2x10x64, .f32⟩
  | 125 => ⟨S_, .f32⟩
  | 126 => ⟨S2x10x64, .f32⟩
  | 127 => ⟨S2x10x64, .f32⟩
  | _ => ⟨S1, .i32⟩

abbrev hbmTy0_2 (i : Nat) : BufTy := match i % 128 with
  | 0 => ⟨S640, .f32⟩
  | 1 => ⟨S2x320, .f32⟩
  | 2 => ⟨S_, .f32⟩
  | 3 => ⟨S2x320, .f32⟩
  | 4 => ⟨S2x320, .f32⟩
  | 5 => ⟨S_, .f32⟩
  | 6 => ⟨S2x320, .f32⟩
  | 7 => ⟨S2x320, .f32⟩
  | 8 => ⟨S2x320, .f32⟩
  | 9 => ⟨S_, .f32⟩
  | 10 => ⟨S2x320, .f32⟩
  | 11 => ⟨S2x320, .f32⟩
  | 12 => ⟨S2x320, .f32⟩
  | 13 => ⟨S_, .f32⟩
  | 14 => ⟨S2x320, .f32⟩
  | 15 => ⟨S2x320, .f32⟩
  | 16 => ⟨S2x320, .f32⟩
  | 17 => ⟨S_, .f32⟩
  | 18 => ⟨S2x320, .f32⟩
  | 19 => ⟨S2x320, .f32⟩
  | 20 => ⟨S_, .f32⟩
  | 21 => ⟨S2x320, .f32⟩
  | 22 => ⟨S2x320, .f32⟩
  | 23 => ⟨S2x320, .f32⟩
  | 24 => ⟨S_, .f32⟩
  | 25 => ⟨S2x320, .f32⟩
  | 26 => ⟨S2x320, .f32⟩
  | 27 => ⟨S2x320, .f32⟩
  | 28 => ⟨S_, .f32⟩
  | 29 => ⟨S2x320, .f32⟩
  | 30 => ⟨S2x320, .f32⟩
  | 31 => ⟨S2x320, .f32⟩
  | 32 => ⟨S_, .f32⟩
  | 33 => ⟨S2x320, .f32⟩
  | 34 => ⟨S2x320, .f32⟩
  | 35 => ⟨S16896, .f32⟩
  | 36 => ⟨S4x3x1408, .f32⟩
  | 37 => ⟨S_, .f32⟩
  | 38 => ⟨S4x3x1408, .f32⟩
  | 39 => ⟨S4x3x1408, .f32⟩
  | 40 => ⟨S_, .f32⟩
  | 41 => ⟨S4x3x1408, .f32⟩
  | 42 => ⟨S4x3x1408, .f32⟩
  | 43 => ⟨S4x3x1408, .f32⟩
  | 44 => ⟨S_, .f32⟩
  | 45 => ⟨S4x3x1408, .f32⟩
  | 46 => ⟨S4x3x1408, .f32⟩
  | 47 => ⟨S4x3x1408, .f32⟩
  | 48 => ⟨S_, .f32⟩
  | 49 => ⟨S4x3x1408, .f32⟩
  | 50 => ⟨S4x3x1408, .f32⟩
  | 51 => ⟨S4x3x1408, .f32⟩
  | 52 => ⟨S_, .f32⟩
  | 53 => ⟨S4x3x1408, .f32⟩
  | 54 => ⟨S4x3x1408, .f32⟩
  | 55 => ⟨S_, .f32⟩
  | 56 => ⟨S4x3x1408, .f32⟩
  | 57 => ⟨S4x3x1408, .f32⟩
  | 58 => ⟨S4x3x1408, .f32⟩
  | 59 => ⟨S_, .f32⟩
  | 60 => ⟨S4x3x1408, .f32⟩
  | 61 => ⟨S4x3x1408, .f32⟩
  | 62 => ⟨S4x3x1408, .f32⟩
  | 63 => ⟨S_, .f32⟩
  | 64 => ⟨S4x3x1408, .f32⟩
  | 65 => ⟨S4x3x1408, .f32⟩
  | 66 => ⟨S4x3x1408, .f32⟩
  | 67 => ⟨S_, .f32⟩
  | 68 => ⟨S4x3x1408, .f32⟩
  | 69 => ⟨S4x3x1408, .f32⟩
  | 70 => ⟨S22528, .f32⟩
  | 71 => ⟨S4x5632, .f32⟩
  | 72 => ⟨S_, .f32⟩
  | 73 => ⟨S4x5632, .f32⟩
  | 74 => ⟨S4x5632, .f32⟩
  | 75 => ⟨S_, .f32⟩
  | 76 => ⟨S4x5632, .f32⟩
  | 77 => ⟨S4x5632, .f32⟩
  | 78 => ⟨S4x5632, .f32⟩
  | 79 => ⟨S_, .f32⟩
  | 80 => ⟨S4x5632, .f32⟩
  | 81 => ⟨S4x5632, .f32⟩
  | 82 => ⟨S4x5632, .f32⟩
  | 83 => ⟨S_, .f32⟩
  | 84 => ⟨S4x5632, .f32⟩
  | 85 => ⟨S4x5632, .f32⟩
  | 86 => ⟨S4x5632, .f32⟩
  | 87 => ⟨S_, .f32⟩
  | 88 => ⟨S4x5632, .f32⟩
  | 89 => ⟨S4x5632, .f32⟩
  | 90 => ⟨S_, .f32⟩
  | 91 => ⟨S4x5632, .f32⟩
  | 92 => ⟨S4x5632, .f32⟩
  | 93 => ⟨S4x5632, .f32⟩
  | 94 => ⟨S_, .f32⟩
  | 95 => ⟨S4x5632, .f32⟩
  | 96 => ⟨S4x5632, .f32⟩
  | 97 => ⟨S4x5632, .f32⟩
  | 98 => ⟨S_, .f32⟩
  | 99 => ⟨S4x5632, .f32⟩
  | 100 => ⟨S4x5632, .f32⟩
  | 101 => ⟨S4x5632, .f32⟩
  | 102 => ⟨S_, .f32⟩
  | 103 => ⟨S4x5632, .f32⟩
  | 104 => ⟨S4x5632, .f32⟩
  | 105 => ⟨S2048, .f32⟩
  | 106 => ⟨S4x2x256, .f32⟩
  | 107 => ⟨S_, .f32⟩
  | 108 => ⟨S4x2x256, .f32⟩
  | 109 => ⟨S4x2x256, .f32⟩
  | 110 => ⟨S_, .f32⟩
  | 111 => ⟨S4x2x256, .f32⟩
  | 112 => ⟨S4x2x256, .f32⟩
  | 113 => ⟨S4x2x256, .f32⟩
  | 114 => ⟨S_, .f32⟩
  | 115 => ⟨S4x2x256, .f32⟩
  | 116 => ⟨S4x2x256, .f32⟩
  | 117 => ⟨S4x2x256, .f32⟩
  | 118 => ⟨S_, .f32⟩
  | 119 => ⟨S4x2x256, .f32⟩
  | 120 => ⟨S4x2x256, .f32⟩
  | 121 => ⟨S4x2x256, .f32⟩
  | 122 => ⟨S_, .f32⟩
  | 123 => ⟨S4x2x256, .f32⟩
  | 124 => ⟨S4x2x256, .f32⟩
  | 125 => ⟨S_, .f32⟩
  | 126 => ⟨S4x2x256, .f32⟩
  | 127 => ⟨S4x2x256, .f32⟩
  | _ => ⟨S1, .i32⟩

abbrev hbmTy0_3 (i : Nat) : BufTy := match i % 128 with
  | 0 => ⟨S4x2x256, .f32⟩
  | 1 => ⟨S_, .f32⟩
  | 2 => ⟨S4x2x256, .f32⟩
  | 3 => ⟨S4x2x256, .f32⟩
  | 4 => ⟨S4x2x256, .f32⟩
  | 5 => ⟨S_, .f32⟩
  | 6 => ⟨S4x2x256, .f32⟩
  | 7 => ⟨S4x2x256, .f32⟩
  | 8 => ⟨S4x2x256, .f32⟩
  | 9 => ⟨S_, .f32⟩
  | 10 => ⟨S4x2x256, .f32⟩
  | 11 => ⟨S4x2x256, .f32⟩
  | 12 => ⟨S2048, .f32⟩
  | 13 => ⟨S4x2x256, .f32⟩
  | 14 => ⟨S_, .f32⟩
  | 15 => ⟨S4x2x256, .f32⟩
  | 16 => ⟨S4x2x256, .f32⟩
  | 17 => ⟨S_, .f32⟩
  | 18 => ⟨S4x2x256, .f32⟩
  | 19 => ⟨S4x2x256, .f32⟩
  | 20 => ⟨S4x2x256, .f32⟩
  | 21 => ⟨S_, .f32⟩
  | 22 => ⟨S4x2x256, .f32⟩
  | 23 => ⟨S4x2x256, .f32⟩
  | 24 => ⟨S4x2x256, .f32⟩
  | 25 => ⟨S_, .f32⟩
  | 26 => ⟨S4x2x256, .f32⟩
  | 27 => ⟨S4x2x256, .f32⟩
  | 28 => ⟨S4x2x256, .f32⟩
  | 29 => ⟨S_, .f32⟩
  | 30 => ⟨S4x2x256, .f32⟩
  | 31 => ⟨S4x2x256, .f32⟩
  | 32 => ⟨S_, .f32⟩
  | 33 => ⟨S4x2x256, .f32⟩
  | 34 => ⟨S4x2x256, .f32⟩
  | 35 => ⟨S4x2x256, .f32⟩
  | 36 => ⟨S_, .f32⟩
  | 37 => ⟨S4x2x256, .f32⟩
  | 38 => ⟨S4x2x256, .f32⟩
  | 39 => ⟨S4x2x256, .f32⟩
  | 40 => ⟨S_, .f32⟩
  | 41 => ⟨S4x2x256, .f32⟩
  | 42 => ⟨S4x2x256, .f32⟩
  | 43 => ⟨S4x2x256, .f32⟩
  | 44 => ⟨S_, .f32⟩
  | 45 => ⟨S4x2x256, .f32⟩
  | 46 => ⟨S4x2x256, .f32⟩
  | _ => ⟨S1, .i32⟩

abbrev hbmTy (i : Nat) : BufTy := match i / 128 with
  | 0 => hbmTy0_0 i
  | 1 => hbmTy0_1 i
  | 2 => hbmTy0_2 i
  | 3 => hbmTy0_3 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c_0 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_3 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_4 : Ref sig .tc := ⟨.hbm, 63, rfl⟩
abbrev main_v21 : Ref sig .tc := ⟨.hbm, 64, rfl⟩
abbrev main_v22 : Ref sig .tc := ⟨.hbm, 65, rfl⟩
abbrev main_cst_5 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_6 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_7 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_8 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_9 : Ref sig .tc := ⟨.hbm, 83, rfl⟩
abbrev main_v36 : Ref sig .tc := ⟨.hbm, 84, rfl⟩
abbrev main_v37 : Ref sig .tc := ⟨.hbm, 85, rfl⟩
abbrev main_cst_10 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_11 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_12 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_13 : Ref sig .tc := ⟨.hbm, 98, rfl⟩
abbrev main_v47 : Ref sig .tc := ⟨.hbm, 99, rfl⟩
abbrev main_v48 : Ref sig .tc := ⟨.hbm, 100, rfl⟩
abbrev main_cst_14 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_15 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_16 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_cst_17 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_18 : Ref sig .tc := ⟨.hbm, 118, rfl⟩
abbrev main_v62 : Ref sig .tc := ⟨.hbm, 119, rfl⟩
abbrev main_v63 : Ref sig .tc := ⟨.hbm, 120, rfl⟩
abbrev main_cst_19 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_20 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_21 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_22 : Ref sig .tc := ⟨.hbm, 133, rfl⟩
abbrev main_v73 : Ref sig .tc := ⟨.hbm, 134, rfl⟩
abbrev main_v74 : Ref sig .tc := ⟨.hbm, 135, rfl⟩
abbrev main_cst_23 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_24 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_25 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_27 : Ref sig .tc := ⟨.hbm, 153, rfl⟩
abbrev main_v88 : Ref sig .tc := ⟨.hbm, 154, rfl⟩
abbrev main_v89 : Ref sig .tc := ⟨.hbm, 155, rfl⟩
abbrev main_cst_28 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_cst_29 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_30 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_31 : Ref sig .tc := ⟨.hbm, 168, rfl⟩
abbrev main_v99 : Ref sig .tc := ⟨.hbm, 169, rfl⟩
abbrev main_v100 : Ref sig .tc := ⟨.hbm, 170, rfl⟩
abbrev main_cst_32 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_33 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_34 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_cst_35 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_36 : Ref sig .tc := ⟨.hbm, 188, rfl⟩
abbrev main_v114 : Ref sig .tc := ⟨.hbm, 189, rfl⟩
abbrev main_v115 : Ref sig .tc := ⟨.hbm, 190, rfl⟩
abbrev main_cst_37 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_cst_38 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_39 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_40 : Ref sig .tc := ⟨.hbm, 203, rfl⟩
abbrev main_v125 : Ref sig .tc := ⟨.hbm, 204, rfl⟩
abbrev main_v126 : Ref sig .tc := ⟨.hbm, 205, rfl⟩
abbrev main_cst_41 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_cst_42 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_cst_43 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_44 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_cst_45 : Ref sig .tc := ⟨.hbm, 223, rfl⟩
abbrev main_v140 : Ref sig .tc := ⟨.hbm, 224, rfl⟩
abbrev main_v141 : Ref sig .tc := ⟨.hbm, 225, rfl⟩
abbrev main_cst_46 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_cst_47 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_48 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_49 : Ref sig .tc := ⟨.hbm, 238, rfl⟩
abbrev main_v151 : Ref sig .tc := ⟨.hbm, 239, rfl⟩
abbrev main_v152 : Ref sig .tc := ⟨.hbm, 240, rfl⟩
abbrev main_cst_50 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_cst_51 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_cst_52 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_53 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_cst_54 : Ref sig .tc := ⟨.hbm, 258, rfl⟩
abbrev main_v166 : Ref sig .tc := ⟨.hbm, 259, rfl⟩
abbrev main_v167 : Ref sig .tc := ⟨.hbm, 260, rfl⟩
abbrev main_cst_55 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_cst_56 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_cst_57 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_cst_58 : Ref sig .tc := ⟨.hbm, 273, rfl⟩
abbrev main_v177 : Ref sig .tc := ⟨.hbm, 274, rfl⟩
abbrev main_v178 : Ref sig .tc := ⟨.hbm, 275, rfl⟩
abbrev main_cst_59 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_cst_60 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_cst_61 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_cst_62 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_63 : Ref sig .tc := ⟨.hbm, 293, rfl⟩
abbrev main_v192 : Ref sig .tc := ⟨.hbm, 294, rfl⟩
abbrev main_v193 : Ref sig .tc := ⟨.hbm, 295, rfl⟩
abbrev main_cst_64 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_cst_65 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_cst_66 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_cst_67 : Ref sig .tc := ⟨.hbm, 308, rfl⟩
abbrev main_v203 : Ref sig .tc := ⟨.hbm, 309, rfl⟩
abbrev main_v204 : Ref sig .tc := ⟨.hbm, 310, rfl⟩
abbrev main_cst_68 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_cst_69 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_cst_70 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_cst_71 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_cst_72 : Ref sig .tc := ⟨.hbm, 328, rfl⟩
abbrev main_v218 : Ref sig .tc := ⟨.hbm, 329, rfl⟩
abbrev main_v219 : Ref sig .tc := ⟨.hbm, 330, rfl⟩
abbrev main_cst_73 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_cst_74 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_cst_75 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_cst_76 : Ref sig .tc := ⟨.hbm, 343, rfl⟩
abbrev main_v229 : Ref sig .tc := ⟨.hbm, 344, rfl⟩
abbrev main_v230 : Ref sig .tc := ⟨.hbm, 345, rfl⟩
abbrev main_cst_77 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_cst_78 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_cst_79 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_cst_80 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_cst_81 : Ref sig .tc := ⟨.hbm, 363, rfl⟩
abbrev main_v244 : Ref sig .tc := ⟨.hbm, 364, rfl⟩
abbrev main_v245 : Ref sig .tc := ⟨.hbm, 365, rfl⟩
abbrev main_cst_82 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_cst_83 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_cst_84 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_cst_85 : Ref sig .tc := ⟨.hbm, 378, rfl⟩
abbrev main_v255 : Ref sig .tc := ⟨.hbm, 379, rfl⟩
abbrev main_v256 : Ref sig .tc := ⟨.hbm, 380, rfl⟩
abbrev main_cst_86 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_cst_87 : Ref sig .tc := ⟨.hbm, 385, rfl⟩
abbrev main_v260 : Ref sig .tc := ⟨.hbm, 386, rfl⟩
abbrev main_v261 : Ref sig .tc := ⟨.hbm, 387, rfl⟩
abbrev main_v262 : Ref sig .tc := ⟨.hbm, 388, rfl⟩
abbrev main_cst_88 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_cst_89 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_cst_90 : Ref sig .tc := ⟨.hbm, 398, rfl⟩
abbrev main_v270 : Ref sig .tc := ⟨.hbm, 399, rfl⟩
abbrev main_v271 : Ref sig .tc := ⟨.hbm, 400, rfl⟩
abbrev main_cst_91 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_cst_92 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_cst_93 : Ref sig .tc := ⟨.hbm, 409, rfl⟩
abbrev main_v278 : Ref sig .tc := ⟨.hbm, 410, rfl⟩
abbrev main_v279 : Ref sig .tc := ⟨.hbm, 411, rfl⟩
abbrev main_v280 : Ref sig .tc := ⟨.hbm, 412, rfl⟩
abbrev main_cst_94 : Ref sig .tc := ⟨.hbm, 413, rfl⟩
abbrev main_v281 : Ref sig .tc := ⟨.hbm, 414, rfl⟩
abbrev main_v282 : Ref sig .tc := ⟨.hbm, 415, rfl⟩
abbrev main_cst_95 : Ref sig .tc := ⟨.hbm, 416, rfl⟩
abbrev main_v283 : Ref sig .tc := ⟨.hbm, 417, rfl⟩
abbrev main_v284 : Ref sig .tc := ⟨.hbm, 418, rfl⟩
abbrev main_v285 : Ref sig .tc := ⟨.hbm, 419, rfl⟩
abbrev main_cst_96 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_cst_97 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_cst_98 : Ref sig .tc := ⟨.hbm, 428, rfl⟩
abbrev main_v292 : Ref sig .tc := ⟨.hbm, 429, rfl⟩
abbrev main_v293 : Ref sig .tc := ⟨.hbm, 430, rfl⟩

abbrev nD : Nat := 1
abbrev τ : Topo := Topo.v7x

variable {F : FTy → Type} [FloatOps F]
-- ==== LnLoss.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_cst : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnLossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8192x1024, .bf16⟩
  | .hbm, ⟨111, _⟩ => ⟨S1x1024, .f32⟩
  | .hbm, ⟨112, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_cst_8 : Ref sig .tc := ⟨.hbm, 29, rfl⟩
abbrev main_v16 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_v26 : Ref sig .tc := ⟨.hbm, 43, rfl⟩
abbrev main_cst_12 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_cst_19 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_cst_22 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_cst_25 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 21
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | _ => false

abbrev sig : RefSig :=
  ofTc nBuf bufTy 1 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v4_s0 : Ref sig .tc := ⟨.hbm, 13, rfl⟩
abbrev main_v4_s1 : Ref sig .tc := ⟨.hbm, 14, rfl⟩
abbrev main_v4_s2 : Ref sig .tc := ⟨.hbm, 15, rfl⟩
abbrev main_v4_s3 : Ref sig .tc := ⟨.hbm, 16, rfl⟩
abbrev main_v4_s4 : Ref sig .tc := ⟨.hbm, 17, rfl⟩
abbrev main_v4_s5 : Ref sig .tc := ⟨.hbm, 18, rfl⟩
abbrev main_v4_s6 : Ref sig .tc := ⟨.hbm, 19, rfl⟩
abbrev main_v4_s7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev ar0_recv : DmaSem sig := 14
abbrev ar0_send : DmaSem sig := 15
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩

abbrev nBuf : Space → Nat
  | .hbm => 15
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Proof.ScPay.lean ====
/- The values one grid point of the short-convolution gradient computes, entry by entry, over the extended reals: the
   product of the second gate and the values shifted down by one and two rows, the convolution's output, the product of the
   incoming gradient and the first gate shifted up by one and two rows, and the sums over a tile's rows. -/
module

public import proofs.«01_k».proof.Proof.Gen.ScBwdIdeal.Skeleton
public import Idealize.ShloMosaic.Lib.Pipeline.Value
public import Idealize.ShloMosaic.Lib.Pipeline.ValueKit.Tiles
public import Idealize.ShloMosaic.Lib.Pipeline.ReadBack
public import Idealize.ShloMosaic.Lib.ValueIdx
public import Idealize.ShloMosaic.Lib.ValueLayout
public import Idealize.ShloMosaic.Lib.KernelVsHost
public import Idealize.ShloMosaic.Lib.IdealHost
public import Idealize.ShloMosaic.Lib.Tactic

@[expose] public section

set_option maxRecDepth 16384

noncomputable section

open Idealize.ShloMosaic Idealize.ShloMosaic.TcCoe Idealize.SL.Sem Idealize.ShloMosaic.ValueIdx

/-! ## The mathematics, row by row -/

/-- What the gradient is taken of and at: the two gates, the values, the incoming gradient, the filter's three rows and
    its bias, as functions of the row (of all the sequences end to end, 2048 rows each) and the channel. -/
structure ScSrc where
  gb : ℕ → Fin 1024 → EReal
  gc : ℕ → Fin 1024 → EReal
  v : ℕ → Fin 1024 → EReal
  dq : ℕ → Fin 1024 → EReal
  w : Fin 3 → Fin 1024 → EReal
  b : Fin 1024 → EReal

namespace ScSrc

/-- `k` rows back within the sequence; zero before its first row. -/
def back (f : ℕ → Fin 1024 → EReal) (k r : ℕ) (j : Fin 1024) : EReal := if k ≤ r % 2048 then f (r - k) j else 0

/-- `k` rows ahead within the sequence; zero after its last row. -/
def ahead (f : ℕ → Fin 1024 → EReal) (k r : ℕ) (j : Fin 1024) : EReal := if r % 2048 + k < 2048 then f (r + k) j else 0

variable (S : ScSrc)

/-- The convolution's input: the second gate times the values. -/
def p (r : ℕ) (j : Fin 1024) : EReal := S.gc r j * S.v r j
/-- The convolution's output. -/
def u (r : ℕ) (j : Fin 1024) : EReal :=
  S.b j + S.w 0 j * back S.p 2 r j + S.w 1 j * back S.p 1 r j + S.w 2 j * S.p r j
/-- The gradient of the convolution's output. -/
def du (r : ℕ) (j : Fin 1024) : EReal := S.dq r j * S.gb r j
/-- The gradient of the convolution's input. -/
def dp (r : ℕ) (j : Fin 1024) : EReal :=
  S.w 2 j * S.du r j + S.w 1 j * ahead S.du 1 r j + S.w 0 j * ahead S.du 2 r j

/-- The three gradients stacked: of the first gate, of the second gate, of the values. -/
def dh (k : Fin 3) (r : ℕ) (j : Fin 1024) : EReal :=
  match k with
  | 0 => S.dq r j * S.u r j
  | 1 => S.dp r j * S.v r j
  | 2 => S.dp r j * S.gc r j

/-- The summand of the filter's gradient. -/
def dw (k : Fin 3) (r : ℕ) (j : Fin 1024) : EReal :=
  match k with
  | 0 => S.du r j * back S.p 2 r j
  | 1 => S.du r j * back S.p 1 r j
  | 2 => S.du r j * S.p r j

end ScSrc

namespace Cert.ScBwdIdeal.Value

open Cert.ScBwdIdeal Cert.ScBwdIdeal.Gen

/-! ## The kernel's values at an index -/

/-- The weight of the rows before a tile: zero at a tile that starts a sequence, one elsewhere. -/
def keep (t : ℕ) : EReal := if (31 - t) % 8 = 0 then 0 else 1

/-- The weight as the kernel computes it from the grid coordinate. -/
theorem keep_eq : ∀ t : Fin 32,
    (Scalar.select (Scalar.cmpi .eq (Scalar.remsi (Scalar.muli (Scalar.subi 31#32 (BitVec.ofNat 32 t.val)) 256#32) 2048#32) 0#32)
      (Scalar.ofBits .f32 0x00000000#32) (Scalar.ofBits .f32 0x3F800000#32) : Ideal .f32) = keep t.val := by
  intro t
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  rw [h0, h1]
  have hd : ∀ t : Fin 32, Scalar.cmpi .eq (Scalar.remsi (Scalar.muli (Scalar.subi 31#32 (BitVec.ofNat 32 t.val)) 256#32) 2048#32) 0#32
      = if (31 - t.val) % 8 = 0 then 1#1 else 0#1 := by decide +kernel
  rw [hd]
  unfold keep
  split <;> rfl

/-- In the 16 rows before the tile: the two gates' product there, weighted. -/
theorem pay11_head (i : grid0.Coords) (x1 x2 : Vec Ideal S256x1024 .bf16) (x3 x4 : Vec Ideal S16x1024 .bf16)
    (a : Fin 272) (a' : Fin 16) (j : Fin 1024) (h : a'.val = a.val) :
    k0_pay11 (F := Ideal) i x1 x2 x3 x4 (ix2 a j) = x3 (ix2 a' j) * x4 (ix2 a' j) * keep (i 0).val := by
  unfold k0_pay11
  refine (concatenate_pair_apply_left (t := S272x1024) (s₁ := S16x1024) (s₂ := S256x1024) (0 : Fin 2) _ _ _ _ rfl (ix2 a' j) (by
    intro b
    match b with
    | ⟨0, _⟩ => exact h
    | ⟨1, _⟩ => rfl)).trans ?_
  exact congrArg (x3 (ix2 a' j) * x4 (ix2 a' j) * ·) (keep_eq (i 0))

/-- In the tile's own rows: the product there. -/
theorem pay11_tile (i : grid0.Coords) (x1 x2 : Vec Ideal S256x1024 .bf16) (x3 x4 : Vec Ideal S16x1024 .bf16)
    (a : Fin 272) (a' : Fin 256) (j : Fin 1024) (h : a'.val + 16 = a.val) :
    k0_pay11 (F := Ideal) i x1 x2 x3 x4 (ix2 a j) = x1 (ix2 a' j) * x2 (ix2 a' j) := by
  unfold k0_pay11
  exact concatenate_pair_apply_right (t := S272x1024) (s₁ := S16x1024) (s₂ := S256x1024) (0 : Fin 2) _ _ _ _ rfl rfl (ix2 a' j) (by
    intro b hb
    match b with
    | ⟨0, _⟩ => exact absurd rfl hb
    | ⟨1, _⟩ => rfl) h

/-- Rotated by two and cut: two rows up in the extended tile. -/
theorem pay12_apply (i : grid0.Coords) (x1 x2 : Vec Ideal S256x1024 .bf16) (x3 x4 : Vec Ideal S16x1024 .bf16)
    (a : Fin 256) (j : Fin 1024) :
    k0_pay12 (F := Ideal) i x1 x2 x3 x4 (ix2 a j) = k0_pay11 i x1 x2 x3 x4 (ix2 ⟨a.val + 14, by omega⟩ j) := by
  unfold k0_pay12
  refine (slice2_axis0_apply 16 _ _ a j (⟨16 + a.val, by omega⟩ : Fin 272) rfl).trans ?_
  refine dynamicRotate_apply (s := S272x1024) (0 : Fin 2) _ _ _ _ _ ?_
  intro b
  match b with
  | ⟨0, _⟩ => show a.val + 14 = (16 + a.val + 272 - 2) % 272; omega
  | ⟨1, _⟩ => rfl

/-- Rotated by one and cut: one row up in the extended tile. -/
theorem pay14_apply (i : grid0.Coords) (x1 x2 : Vec Ideal S256x1024 .bf16) (x3 x4 : Vec Ideal S16x1024 .bf16)
    (a : Fin 256) (j : Fin 1024) :
    k0_pay14 (k0_pay13 (F := Ideal) i x1 x2 x3 x4) (ix2 a j) = k0_pay11 i x1 x2 x3 x4 (ix2 ⟨a.val + 15, by omega⟩ j) := by
  unfold k0_pay14 k0_pay13
  refine (slice2_axis0_apply 16 _ _ a j (⟨16 + a.val, by omega⟩ : Fin 272) rfl).trans ?_
  refine dynamicRotate_apply (s := S272x1024) (0 : Fin 2) _ _ _ _ _ ?_
  intro b
  match b with
  | ⟨0, _⟩ => show a.val + 15 = (16 + a.val + 272 - 1) % 272; omega
  | ⟨1, _⟩ => rfl

/-- The convolution's output at an index. -/
theorem pay15_apply (y20 y30 : FVec Ideal S256x1024 .f32) (y31 : FVec Ideal S272x1024 .f32) (b w0 w1 w2 : Vec Ideal S1x1024 .f32)
    (a : Fin 256) (j : Fin 1024) :
    k0_pay15 (F := Ideal) y20 y30 y31 b w0 w1 w2 (ix2 a j)
      = b (ix2 0 j) + w0 (ix2 0 j) * y30 (ix2 a j) + w1 (ix2 0 j) * k0_pay14 y31 (ix2 a j) + w2 (ix2 0 j) * y20 (ix2 a j) := by
  unfold k0_pay15
  rw [shapeCast_self]
  have e : ∀ (x : Vec Ideal S1x1024 .f32), broadcastTo S256x1024 x broadcasts_S1x1024_S256x1024 (ix2 a j) = x (ix2 0 j) :=
    fun x => broadcastTo_1b_ab_apply x _ a j
  show broadcastTo S256x1024 b _ _ + broadcastTo S256x1024 w0 _ _ * _ + broadcastTo S256x1024 w1 _ _ * _
    + broadcastTo S256x1024 w2 _ _ * _ = _
  rw [e, e, e, e]

/-- The tile's rows followed by the eight carried rows, `k` rows ahead. -/
def aheadIn (y : FVec Ideal S256x1024 .f32) (car : Vec Ideal S8x1024 .f32) (k : ℕ) (a : Fin 256) (j : Fin 1024) : EReal :=
  if h : a.val + k < 256 then y (ix2 ⟨a.val + k, h⟩ j)
  else if h' : a.val + k - 256 < 8 then car (ix2 ⟨a.val + k - 256, h'⟩ j) else 0

/-- The extended tile's rows rotated back by `k` and cut. -/
theorem ahead_apply (y : FVec Ideal S256x1024 .f32) (car : Vec Ideal S8x1024 .f32) (k : ℕ) (hk : 1 ≤ k) (hk8 : k ≤ 8) (sb : BitVec 32)
    (hsb : sb.toNat = 264 - k) (a : Fin 256) (j : Fin 1024) :
    extractStridedSlice S256x1024 ![0, 0] (dynamicRotate 0 sb none
      (concatenate S264x1024 0 [⟨S256x1024, y⟩, ⟨S8x1024, car⟩] concatenates_S256x1024_S8x1024_S264x1024_d0) rotates_S264x1024_d0)
      slices_S264x1024_o0_0_S256x1024 (ix2 a j) = aheadIn y car k a j := by
  have ha := a.isLt
  refine (slice2_axis0_apply 0 _ _ a j (⟨a.val, by omega⟩ : Fin 264) (Nat.zero_add _).symm).trans ?_
  refine (dynamicRotate_apply (0 : Fin 2) _ _ _ _ (ix2 (⟨a.val + k, by omega⟩ : Fin 264) j) (by
    intro b
    match b with
    | ⟨0, _⟩ => show a.val + k = (a.val + 264 - sb.toNat % 264) % 264; rw [hsb]; omega
    | ⟨1, _⟩ => rfl)).trans ?_
  unfold aheadIn
  split
  · rename_i h
    exact concatenate_pair_apply_left (t := S264x1024) (s₁ := S256x1024) (s₂ := S8x1024) (0 : Fin 2) _ _ _ _ rfl (ix2 ⟨a.val + k, h⟩ j) (by
      intro b
      match b with
      | ⟨0, _⟩ => rfl
      | ⟨1, _⟩ => rfl)
  · rename_i h
    rw [dif_pos (by omega)]
    exact concatenate_pair_apply_right (t := S264x1024) (s₁ := S256x1024) (s₂ := S8x1024) (0 : Fin 2) _ _ _ _ rfl rfl
      (ix2 ⟨a.val + k - 256, by omega⟩ j) (by
      intro b hb
      match b with
      | ⟨0, _⟩ => exact absurd rfl hb
      | ⟨1, _⟩ => rfl) (by show a.val + k - 256 + 256 = a.val + k; omega)

/-- The gradient of the convolution's input at an index. -/
theorem pay24_apply (y : FVec Ideal S256x1024 .f32) (car : Vec Ideal S8x1024 .f32) (w2 w1 w0 : Vec Ideal S1x1024 .f32)
    (a : Fin 256) (j : Fin 1024) :
    k0_pay24 (F := Ideal) y car w2 w1 w0 (ix2 a j)
      = w2 (ix2 0 j) * y (ix2 a j) + w1 (ix2 0 j) * aheadIn y car 1 a j + w0 (ix2 0 j) * aheadIn y car 2 a j := by
  unfold k0_pay24
  have e : ∀ (x : Vec Ideal S1x1024 .f32), broadcastTo S256x1024 x broadcasts_S1x1024_S256x1024 (ix2 a j) = x (ix2 0 j) :=
    fun x => broadcastTo_1b_ab_apply x _ a j
  rw [← ahead_apply y car 1 (by omega) (by omega) 263#32 rfl a j, ← ahead_apply y car 2 (by omega) (by omega) 262#32 rfl a j]
  show broadcastTo S256x1024 w2 _ _ * _ + broadcastTo S256x1024 w1 _ _ * _ + broadcastTo S256x1024 w0 _ _ * _ = _
  rw [e, e, e]

/-- A sum over the tile's rows, added to one row. -/
theorem rowSum_apply (acc : Vec Ideal S1x1024 .f32) (y : FVec Ideal S256x1024 .f32) (j : Fin 1024) :
    k0_pay22 (F := Ideal) acc y (ix2 0 j) = acc (ix2 0 j) + ∑ a : Fin 256, y (ix2 a j) := by
  unfold k0_pay22
  show acc (ix2 0 j) + shapeCast S1x1024 _ _ _ = _
  rw [shapeCast_a_1a_apply]
  refine congrArg (acc (ix2 0 j) + ·) ((Ideal.multiReduction_add_single y _ _ _ _ (ix1 j)).trans
    (Finset.sum_congr rfl fun a _ => congrArg y ?_))
  funext b
  match b with
  | ⟨0, _⟩ => rfl
  | ⟨1, _⟩ => rfl

theorem pay18_eq (y0 : FVec Ideal S256x1024 .f32) (x5 : Vec Ideal S256x1024 .bf16) (acc : Vec Ideal S1x1024 .f32) :
    k0_pay18 (F := Ideal) y0 x5 acc = k0_pay22 acc (k0_pay17 y0 x5) := by
  unfold k0_pay18 k0_pay22; rw [shapeCast_self]

theorem pay19_eq (y0 y30 : FVec Ideal S256x1024 .f32) (x5 : Vec Ideal S256x1024 .bf16) (acc : Vec Ideal S1x1024 .f32) :
    k0_pay19 (F := Ideal) y0 y30 x5 acc = k0_pay22 acc (mulf (k0_pay17 y0 x5) y30) := by
  unfold k0_pay19 k0_pay22; rw [shapeCast_self]

theorem pay23_eq (y20 y50 : FVec Ideal S256x1024 .f32) (acc : Vec Ideal S1x1024 .f32) :
    k0_pay23 (F := Ideal) y20 y50 acc = k0_pay22 acc (mulf y50 y20) := by
  unfold k0_pay23 k0_pay22; rw [shapeCast_self]

theorem pay20_eq (acc : Vec Ideal S1x1024 .f32) : k0_pay20 (F := Ideal) acc = acc := by
  unfold k0_pay20; rw [shapeCast_self]

theorem pay25_apply (y : FVec Ideal S256x1024 .f32) (a : Fin 8) (j : Fin 1024) :
    k0_pay25 (F := Ideal) y (ix2 a j) = y (ix2 ⟨a.val, by omega⟩ j) := by
  unfold k0_pay25
  rw [shapeCast_self]
  exact slice2_axis0_apply 0 _ _ a j (⟨a.val, by omega⟩ : Fin 256) (Nat.zero_add _).symm

/-! ## What one grid point stores, from its blocks and what it finds -/

/-- Row `k` of the filter. -/
abbrev row0 (x6 : Vec Ideal S3x1024 .f32) : Vec Ideal S1x1024 .f32 := View.ld x6 (Rect.unit ![0, 0] ![1, 1024] inb_S3x1024_S1x1024_0_0)
abbrev row1 (x6 : Vec Ideal S3x1024 .f32) : Vec Ideal S1x1024 .f32 := View.ld x6 (Rect.unit ![1, 0] ![1, 1024] inb_S3x1024_S1x1024_1_0)
abbrev row2 (x6 : Vec Ideal S3x1024 .f32) : Vec Ideal S1x1024 .f32 := View.ld x6 (Rect.unit ![2, 0] ![1, 1024] inb_S3x1024_S1x1024_2_0)

theorem row_apply (o : ℕ) (inb) (x6 : Vec Ideal S3x1024 .f32) (k : Fin 3) (hk : k.val = o) (j : Fin 1024) :
    View.ld x6 (Rect.unit (s := S3x1024) ![o, 0] ![1, 1024] inb) (ix2 0 j) = x6 (ix2 k j) :=
  View.ld_unit_apply_of x6 _ _ inb _ (ix2 k j) fun a => by
    match a with
    | ⟨0, _⟩ => show k.val = o + 0; omega
    | ⟨1, _⟩ => exact (Nat.zero_add _).symm

/-- The gradient of the convolution's output in the tile. -/
abbrev duT (x0 x5 : Vec Ideal S256x1024 .bf16) : FVec Ideal S256x1024 .f32 := k0_pay17 (k0_pay7 x0) x5

/-- The gradient of the convolution's input in the tile, the eight rows after it being `car`. -/
abbrev dpT (x0 x5 : Vec Ideal S256x1024 .bf16) (x6 : Vec Ideal S3x1024 .f32) (car : Vec Ideal S8x1024 .f32) : FVec Ideal S256x1024 .f32 :=
  k0_pay24 (duT x0 x5) car (row2 x6) (row1 x6) (row0 x6)

/-- The stacked gradients' block. -/
def stepH (i : grid0.Coords) (x0 x1 x2 : Vec Ideal S256x1024 .bf16) (x3 x4 : Vec Ideal S16x1024 .bf16) (x5 : Vec Ideal S256x1024 .bf16)
    (x6 : Vec Ideal S3x1024 .f32) (x7 : Vec Ideal S1x1024 .f32) (car : Vec Ideal S8x1024 .f32) : Vec Ideal S3x256x1024 .bf16 :=
  View.canon (Val := Elt Ideal)
    [⟨Rect.unit ![2, 0, 0] ![1, 256, 1024] inb_S3x256x1024_S1x256x1024_2_0_0, k0_pay3 (k0_pay8 x1) (dpT x0 x5 x6 car)⟩,
     ⟨Rect.unit ![1, 0, 0] ![1, 256, 1024] inb_S3x256x1024_S1x256x1024_1_0_0, k0_pay2 (k0_pay9 x2) (dpT x0 x5 x6 car)⟩,
     ⟨Rect.unit ![0, 0, 0] ![1, 256, 1024] inb_S3x256x1024_S1x256x1024_0_0_0,
        k0_pay1 (k0_pay26 (k0_pay15 (k0_pay10 x1 x2) (k0_pay12 i x1 x2 x3 x4) (k0_pay13 i x1 x2 x3 x4) x7 (row0 x6) (row1 x6) (row2 x6))
          (k0_pay16 x5))⟩]

/-- The filter's gradient, over what it held. -/
def stepW (i : grid0.Coords) (x0 x1 x2 : Vec Ideal S256x1024 .bf16) (x3 x4 : Vec Ideal S16x1024 .bf16) (x5 : Vec Ideal S256x1024 .bf16)
    (acc : Vec Ideal S3x1024 .f32) : Vec Ideal S3x1024 .f32 :=
  View.canon (Val := Elt Ideal)
    [⟨Rect.unit ![2, 0] ![1, 1024] inb_S3x1024_S1x1024_2_0, k0_pay22 (row2 acc) (mulf (duT x0 x5) (k0_pay10 x1 x2))⟩,
     ⟨Rect.unit ![1, 0] ![1, 1024] inb_S3x1024_S1x1024_1_0, k0_pay22 (row1 acc) (k0_pay21 (k0_pay7 x0) (k0_pay13 i x1 x2 x3 x4) x5)⟩,
     ⟨Rect.unit ![0, 0] ![1, 1024] inb_S3x1024_S1x1024_0_0, k0_pay22 (row0 acc) (mulf (duT x0 x5) (k0_pay12 i x1 x2 x3 x4))⟩]

/-- The bias's gradient, over what it held. -/
def stepB (x0 x5 : Vec Ideal S256x1024 .bf16) (acc : Vec Ideal S1x1024 .f32) : Vec Ideal S1x1024 .f32 := k0_pay22 acc (duT x0 x5)

/-- A store of one plane of a stack of three, read in that plane. -/
theorem canon_plane (k : Fin 3) (inb) (wt : Vec Ideal S1x256x1024 .bf16) (L : List (View.Piece (Elt Ideal) S3x256x1024 .bf16))
    (a : Fin 256) (j : Fin 1024) :
    View.canon (Val := Elt Ideal) (⟨Rect.unit (s := S3x256x1024) ![k.val, 0, 0] ![1, 256, 1024] inb, wt⟩ :: L) (ix3 k a j) = wt (ix3 0 a j) := by
  have e := View.canon_cons_emb (Val := Elt Ideal) (Rect.unit (s := S3x256x1024) ![k.val, 0, 0] ![1, 256, 1024] inb) wt L (ix3 0 a j)
  rw [show (ix3 k a j : S3x256x1024.Idx) = (Rect.unit (s := S3x256x1024) ![k.val, 0, 0] ![1, 256, 1024] inb).emb (ix3 0 a j) from ?_]
  · exact e
  · funext b
    apply Fin.ext
    match b with
    | ⟨0, _⟩ => show k.val = k.val + 1 * 0; omega
    | ⟨1, _⟩ => show a.val = 0 + 1 * a.val; omega
    | ⟨2, _⟩ => show j.val = 0 + 1 * j.val; omega

/-- … and in another plane. -/
theorem canon_plane_ne (o : ℕ) (inb) (wt : Vec Ideal S1x256x1024 .bf16) (L : List (View.Piece (Elt Ideal) S3x256x1024 .bf16))
    (k : Fin 3) (hk : k.val ≠ o) (a : Fin 256) (j : Fin 1024) :
    View.canon (Val := Elt Ideal) (⟨Rect.unit (s := S3x256x1024) ![o, 0, 0] ![1, 256, 1024] inb, wt⟩ :: L) (ix3 k a j)
      = View.canon (Val := Elt Ideal) L (ix3 k a j) := by
  refine View.canon_cons_of_not_mem _ _ fun hm => hk ?_
  replace hm : (ix3 k a j : S3x256x1024.Idx) ∈ (Rect.unit (s := S3x256x1024) ![o, 0, 0] ![1, 256, 1024] inb).set := hm
  rw [Rect.mem_set_unit] at hm
  have h := hm (0 : Fin 3)
  have h1 : o ≤ k.val := h.1
  have h2 : k.val < o + 1 := h.2
  omega

/-- A store of one row of three, read in that row. -/
theorem canon_row3 (k : Fin 3) (inb) (wt : Vec Ideal S1x1024 .f32) (L : List (View.Piece (Elt Ideal) S3x1024 .f32)) (j : Fin 1024) :
    View.canon (Val := Elt Ideal) (⟨Rect.unit (s := S3x1024) ![k.val, 0] ![1, 1024] inb, wt⟩ :: L) (ix2 k j) = wt (ix2 0 j) := by
  have e := View.canon_cons_emb (Val := Elt Ideal) (Rect.unit (s := S3x1024) ![k.val, 0] ![1, 1024] inb) wt L (ix2 0 j)
  rw [show (ix2 k j : S3x1024.Idx) = (Rect.unit (s := S3x1024) ![k.val, 0] ![1, 1024] inb).emb (ix2 0 j) from ?_]
  · exact e
  · funext b
    apply Fin.ext
    match b with
    | ⟨0, _⟩ => show k.val = k.val + 1 * 0; omega
    | ⟨1, _⟩ => show j.val = 0 + 1 * j.val; omega

/-- … and in another row. -/
theorem canon_row3_ne (o : ℕ) (inb) (wt : Vec Ideal S1x1024 .f32) (L : List (View.Piece (Elt Ideal) S3x1024 .f32))
    (k : Fin 3) (hk : k.val ≠ o) (j : Fin 1024) :
    View.canon (Val := Elt Ideal) (⟨Rect.unit (s := S3x1024) ![o, 0] ![1, 1024] inb, wt⟩ :: L) (ix2 k j) = View.canon (Val := Elt Ideal) L (ix2 k j) := by
  refine View.canon_cons_of_not_mem _ _ fun hm => hk ?_
  replace hm : (ix2 k j : S3x1024.Idx) ∈ (Rect.unit (s := S3x1024) ![o, 0] ![1, 1024] inb).set := hm
  rw [Rect.mem_set_unit] at hm
  have h := hm (0 : Fin 2)
  have h1 : o ≤ k.val := h.1
  have h2 : k.val < o + 1 := h.2
  omega

/-! ## One grid point on the rows of a tile -/

/-- The blocks of grid point `t` are the rows of tile `31 - t`, and the head blocks the 16 rows before it (where it is
    not a sequence's first tile). -/
structure Tile (S : ScSrc) (t : ℕ) (i : grid0.Coords) (x0 x1 x2 : Vec Ideal S256x1024 .bf16) (x3 x4 : Vec Ideal S16x1024 .bf16)
    (x5 : Vec Ideal S256x1024 .bf16) (x6 : Vec Ideal S3x1024 .f32) (x7 : Vec Ideal S1x1024 .f32) : Prop where
  lt : t < 32
  hi : (i 0).val = t
  h0 : ∀ (a : Fin 256) (j : Fin 1024), x0 (ix2 a j) = S.gb ((31 - t) * 256 + a.val) j
  h1 : ∀ (a : Fin 256) (j : Fin 1024), x1 (ix2 a j) = S.gc ((31 - t) * 256 + a.val) j
  h2 : ∀ (a : Fin 256) (j : Fin 1024), x2 (ix2 a j) = S.v ((31 - t) * 256 + a.val) j
  h3 : ∀ (a : Fin 16) (j : Fin 1024), 0 < 31 - t → x3 (ix2 a j) = S.gc ((31 - t) * 256 + a.val - 16) j
  h4 : ∀ (a : Fin 16) (j : Fin 1024), 0 < 31 - t → x4 (ix2 a j) = S.v ((31 - t) * 256 + a.val - 16) j
  h5 : ∀ (a : Fin 256) (j : Fin 1024), x5 (ix2 a j) = S.dq ((31 - t) * 256 + a.val) j
  h6 : ∀ (k : Fin 3) (j : Fin 1024), x6 (ix2 k j) = S.w k j
  h7 : ∀ (j : Fin 1024), x7 (ix2 0 j) = S.b j

/-- The carried rows are the first eight rows of the next tile of the sequence, zero at a sequence's last tile. -/
def Carry (S : ScSrc) (t : ℕ) (car : Vec Ideal S8x1024 .f32) : Prop :=
  ∀ (a : Fin 8) (j : Fin 1024), car (ix2 a j) = if t % 8 = 0 then 0 else S.du ((32 - t) * 256 + a.val) j

section OnTile
variable {S : ScSrc} {t : ℕ} {i : grid0.Coords} {x0 x1 x2 : Vec Ideal S256x1024 .bf16} {x3 x4 : Vec Ideal S16x1024 .bf16}
  {x5 : Vec Ideal S256x1024 .bf16} {x6 : Vec Ideal S3x1024 .f32} {x7 : Vec Ideal S1x1024 .f32}
  (T : Tile S t i x0 x1 x2 x3 x4 x5 x6 x7)
include T

theorem Tile.pay11 (k : ℕ) (hk : k ≤ 16) (a : Fin 256) (j : Fin 1024) (b : Fin 272) (hb : b.val = a.val + 16 - k) :
    k0_pay11 (F := Ideal) i x1 x2 x3 x4 (ix2 b j) = ScSrc.back S.p k ((31 - t) * 256 + a.val) j := by
  have ha := a.isLt
  have ht := T.lt
  by_cases h : k ≤ a.val
  · rw [pay11_tile i x1 x2 x3 x4 b (⟨a.val - k, by omega⟩ : Fin 256) j (by show a.val - k + 16 = b.val; omega), T.h1, T.h2]
    unfold ScSrc.back ScSrc.p
    rw [if_pos (by omega), show (31 - t) * 256 + a.val - k = (31 - t) * 256 + (a.val - k) by omega]
  · rw [pay11_head i x1 x2 x3 x4 b (⟨a.val + 16 - k, by omega⟩ : Fin 16) j (by show a.val + 16 - k = b.val; omega), T.hi]
    unfold keep ScSrc.back
    by_cases hs : (31 - t) % 8 = 0
    · rw [if_pos hs, if_neg (by omega), mul_zero]
    · rw [if_neg hs, if_pos (by omega), mul_one, T.h3 _ _ (by omega), T.h4 _ _ (by omega)]
      unfold ScSrc.p
      rw [show (31 - t) * 256 + (a.val + 16 - k) - 16 = (31 - t) * 256 + a.val - k by omega]

theorem Tile.pay12 (a : Fin 256) (j : Fin 1024) :
    k0_pay12 (F := Ideal) i x1 x2 x3 x4 (ix2 a j) = ScSrc.back S.p 2 ((31 - t) * 256 + a.val) j := by
  rw [pay12_apply]; exact T.pay11 2 (by omega) a j _ rfl

theorem Tile.pay14 (a : Fin 256) (j : Fin 1024) :
    k0_pay14 (k0_pay13 (F := Ideal) i x1 x2 x3 x4) (ix2 a j) = ScSrc.back S.p 1 ((31 - t) * 256 + a.val) j := by
  rw [pay14_apply]; exact T.pay11 1 (by omega) a j _ rfl

theorem Tile.pay10 (a : Fin 256) (j : Fin 1024) : k0_pay10 (F := Ideal) x1 x2 (ix2 a j) = S.p ((31 - t) * 256 + a.val) j := by
  show x1 (ix2 a j) * x2 (ix2 a j) = _
  rw [T.h1, T.h2]; rfl

theorem Tile.du (a : Fin 256) (j : Fin 1024) : duT x0 x5 (ix2 a j) = S.du ((31 - t) * 256 + a.val) j := by
  show x5 (ix2 a j) * x0 (ix2 a j) = _
  rw [T.h5, T.h0]; rfl

theorem Tile.w0 (j : Fin 1024) : row0 x6 (ix2 0 j) = S.w 0 j := (row_apply 0 _ x6 0 rfl j).trans (T.h6 0 j)
theorem Tile.w1 (j : Fin 1024) : row1 x6 (ix2 0 j) = S.w 1 j := (row_apply 1 _ x6 1 rfl j).trans (T.h6 1 j)
theorem Tile.w2 (j : Fin 1024) : row2 x6 (ix2 0 j) = S.w 2 j := (row_apply 2 _ x6 2 rfl j).trans (T.h6 2 j)

theorem Tile.ahead {car : Vec Ideal S8x1024 .f32} (hc : Carry S t car) (k : ℕ) (hk : k ≤ 8) (a : Fin 256) (j : Fin 1024) :
    aheadIn (duT x0 x5) car k a j = ScSrc.ahead S.du k ((31 - t) * 256 + a.val) j := by
  have ha := a.isLt
  have ht := T.lt
  unfold aheadIn ScSrc.ahead
  by_cases h : a.val + k < 256
  · rw [dif_pos h, T.du, if_pos (by omega), show (31 - t) * 256 + (a.val + k) = (31 - t) * 256 + a.val + k by omega]
  · rw [dif_neg h, dif_pos (by omega), hc]
    by_cases h8 : t % 8 = 0
    · rw [if_pos h8, if_neg (by omega)]
    · rw [if_neg h8, if_pos (by omega), show (32 - t) * 256 + (a.val + k - 256) = (31 - t) * 256 + a.val + k by omega]

/-- The gradient of the convolution's input in the tile's rows. -/
theorem Tile.dp {car : Vec Ideal S8x1024 .f32} (hc : Carry S t car) (a : Fin 256) (j : Fin 1024) :
    dpT x0 x5 x6 car (ix2 a j) = S.dp ((31 - t) * 256 + a.val) j := by
  refine (pay24_apply _ car _ _ _ a j).trans ?_
  rw [T.w0, T.w1, T.w2, T.du, T.ahead hc 1 (by omega), T.ahead hc 2 (by omega)]; rfl

/-- The stacked gradients' block holds the three gradients of the tile's rows. -/
theorem Tile.stepH {car : Vec Ideal S8x1024 .f32} (hc : Carry S t car) (k : Fin 3) (a : Fin 256) (j : Fin 1024) :
    stepH i x0 x1 x2 x3 x4 x5 x6 x7 car (ix3 k a j) = S.dh k ((31 - t) * 256 + a.val) j := by
  unfold Value.stepH
  match k with
  | 0 =>
    rw [canon_plane_ne 2 _ _ _ 0 (by decide), canon_plane_ne 1 _ _ _ 0 (by decide)]
    refine (canon_plane 0 _ _ _ a j).trans ?_
    unfold k0_pay1
    refine (shapeCast_ab_1ab_apply _ _ 0 a j).trans ?_
    refine (congrArg (x5 (ix2 a j) * ·) (pay15_apply _ _ _ _ _ _ _ a j)).trans ?_
    show x5 (ix2 a j) * (_ + _ + _ + _) = _
    rw [T.w0, T.w1, T.w2, T.h7, T.pay12, T.pay14, T.pay10, T.h5]
    rfl
  | 1 =>
    rw [canon_plane_ne 2 _ _ _ 1 (by decide)]
    refine (canon_plane 1 _ _ _ a j).trans ?_
    unfold k0_pay2
    refine (shapeCast_ab_1ab_apply _ _ 0 a j).trans ?_
    show dpT x0 x5 x6 car (ix2 a j) * x2 (ix2 a j) = _
    rw [T.dp hc, T.h2]; rfl
  | 2 =>
    refine (canon_plane 2 _ _ _ a j).trans ?_
    unfold k0_pay3
    refine (shapeCast_ab_1ab_apply _ _ 0 a j).trans ?_
    show dpT x0 x5 x6 car (ix2 a j) * x1 (ix2 a j) = _
    rw [T.dp hc, T.h1]; rfl

/-- The filter's gradient gains the sum of its summand over the tile's rows. -/
theorem Tile.stepW (acc : Vec Ideal S3x1024 .f32) (k : Fin 3) (j : Fin 1024) :
    stepW i x0 x1 x2 x3 x4 x5 acc (ix2 k j) = acc (ix2 k j) + ∑ a : Fin 256, S.dw k ((31 - t) * 256 + a.val) j := by
  unfold Value.stepW
  match k with
  | 0 =>
    rw [canon_row3_ne 2 _ _ _ 0 (by decide), canon_row3_ne 1 _ _ _ 0 (by decide)]
    refine (canon_row3 0 _ _ _ j).trans ?_
    refine (rowSum_apply _ _ j).trans ?_
    refine congrArg₂ (· + ·) (row_apply 0 _ acc 0 rfl j) (Finset.sum_congr rfl fun a _ => ?_)
    show duT x0 x5 (ix2 a j) * k0_pay12 i x1 x2 x3 x4 (ix2 a j) = _
    rw [T.du, T.pay12]; rfl
  | 1 =>
    rw [canon_row3_ne 2 _ _ _ 1 (by decide)]
    refine (canon_row3 1 _ _ _ j).trans ?_
    refine (rowSum_apply _ _ j).trans ?_
    refine congrArg₂ (· + ·) (row_apply 1 _ acc 1 rfl j) (Finset.sum_congr rfl fun a _ => ?_)
    show duT x0 x5 (ix2 a j) * k0_pay14 (k0_pay13 i x1 x2 x3 x4) (ix2 a j) = _
    rw [T.du, T.pay14]; rfl
  | 2 =>
    refine (canon_row3 2 _ _ _ j).trans ?_
    refine (rowSum_apply _ _ j).trans ?_
    refine congrArg₂ (· + ·) (row_apply 2 _ acc 2 rfl j) (Finset.sum_congr rfl fun a _ => ?_)
    show duT x0 x5 (ix2 a j) * k0_pay10 x1 x2 (ix2 a j) = _
    rw [T.du, T.pay10]; rfl

/-- The bias's gradient gains the sum over the tile's rows. -/
theorem Tile.stepB (acc : Vec Ideal S1x1024 .f32) (j : Fin 1024) :
    stepB x0 x5 acc (ix2 0 j) = acc (ix2 0 j) + ∑ a : Fin 256, S.du ((31 - t) * 256 + a.val) j := by
  unfold Value.stepB
  rw [rowSum_apply]
  exact congrArg (acc (ix2 0 j) + ·) (Finset.sum_congr rfl fun a _ => T.du a j)

/-- The carry left behind is the next point's. -/
theorem Tile.carry : ∀ (a : Fin 8) (j : Fin 1024), k0_pay25 (F := Ideal) (duT x0 x5) (ix2 a j) = S.du ((31 - t) * 256 + a.val) j :=
  fun a j => (pay25_apply _ a j).trans (T.du ⟨a.val, by omega⟩ j)

end OnTile

end Cert.ScBwdIdeal.Value
-- ==== Proof.ScFrame.lean ====
/- The frame certificate of the short-convolution gradient's idealization: the module the generator writes for it, with a
   larger budget at the three lemmas that open `outsAt0` at a case (the kernel has eleven windows, and the default budget
   is used up before the conditionals are chosen). What the outputs and the carried scratch hold per case (`out0_κ_W`,
   `sout0_κ_0`) and point by point (`outsAt0`), the proof data (`dats`), the body's obligation, the run (`run_main`) and
   `frame`. -/
module

public import proofs.«01_k».proof.Proof.Gen.ScBwdIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.ScBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (3 stores of `S1x256x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (y : S3x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).1 S1x256x1024.size (by sl_kernel_rfl) y

/-- What case A leaves in output 8's staging buffer: its pieces read back over junk. -/
def out0_A_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) : Vec F S3x256x1024 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Case A's pieces for output 9 are of SEVERAL sizes (4 stores of `S1x1024`, `S3x1024`): cut into blocks of `![1, 1024]` they tile its block (checked by the kernel's evaluation: Lib/Ring.lean `Piece.tiledBy`), so they cover it. -/
theorem cover0_A_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (y : S3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1 ![1, 1024] (by sl_kernel_rfl) y

/-- What case A leaves in output 9's staging buffer: its pieces read back over junk. -/
def out0_A_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) : Vec F S3x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Case A's pieces for output 10 tile its block (2 stores of `S1x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S1x1024.size (by sl_kernel_rfl) y

/-- What case A leaves in output 10's staging buffer: its pieces read back over junk. -/
def out0_A_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) : Vec F S1x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case A's pieces for scratch `arg12`, which the kernel carries between points, cover it: 2 pieces of `S8x1024` tiling it (Lib/Ring.lean `Piece.tiledL`). -/
theorem scover0_A_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1 S8x1024.size (by sl_kernel_rfl) y

/-- What case A leaves in scratch `arg12`: its pieces read back over junk. -/
def sout0_A_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) : Vec F S8x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1)

/-- Case B's pieces for output 8 tile its block (3 stores of `S1x256x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) (y : S3x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).1 S1x256x1024.size (by sl_kernel_rfl) y

/-- What case B leaves in output 8's staging buffer: its pieces read back over junk. -/
def out0_B_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) : Vec F S3x256x1024 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).1)

/-- Case B's pieces for output 9 tile its block (3 stores of `S1x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) (y : S3x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.1 S1x1024.size (by sl_kernel_rfl) y

/-- What case B leaves in output 9's staging buffer: its pieces read back over junk. -/
def out0_B_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) : Vec F S3x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.1)

/-- Case B's pieces for output 10 tile its block (1 store of `S1x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.1 S1x1024.size (by sl_kernel_rfl) y

/-- What case B leaves in output 10's staging buffer: its pieces read back over junk. -/
def out0_B_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) : Vec F S1x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.1)

/-- Case B's pieces for scratch `arg12`, which the kernel carries between points, cover it: 1 piece of `S8x1024` tiling it (Lib/Ring.lean `Piece.tiledL`). -/
theorem scover0_B_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.2.1 S8x1024.size (by sl_kernel_rfl) y

/-- What case B leaves in scratch `arg12`: its pieces read back over junk. -/
def sout0_B_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (xs0 : Vec F S8x1024 .f32) : Vec F S8x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 xs0).2.2.2.1)

/-- Case C's pieces for output 8 tile its block (3 stores of `S1x256x1024`, checked by the kernel's evaluation: Lib/Ring.lean `Piece.tiledL`, linear in the pieces, through a loop's `@[irreducible]` trip theorem too), so they cover it. -/
theorem cover0_C_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (y : S3x256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).1 S1x256x1024.size (by sl_kernel_rfl) y

/-- What case C leaves in output 8's staging buffer: its pieces read back over junk. -/
def out0_C_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) : Vec F S3x256x1024 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).1)

/-- Case C's pieces for output 9 tile its block (3 stores of `S1x1024`, checked by the kernel's evaluation: Lib/Ring.lean `Piece.tiledL`, linear in the pieces, through a loop's `@[irreducible]` trip theorem too), so they cover it. -/
theorem cover0_C_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (y : S3x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.1 S1x1024.size (by sl_kernel_rfl) y

/-- What case C leaves in output 9's staging buffer: its pieces read back over junk. -/
def out0_C_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) : Vec F S3x1024 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.1)

/-- Case C's pieces for output 10 tile its block (1 store of `S1x1024`, checked by the kernel's evaluation: Lib/Ring.lean `Piece.tiledL`, linear in the pieces, through a loop's `@[irreducible]` trip theorem too), so they cover it. -/
theorem cover0_C_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.1 S1x1024.size (by sl_kernel_rfl) y

/-- What case C leaves in output 10's staging buffer: its pieces read back over junk. -/
def out0_C_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) : Vec F S1x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.1)

/-- Case C's pieces for scratch `arg12`, which the kernel carries between points, cover it: 2 pieces of `S8x1024` tiling it (Lib/Ring.lean `Piece.tiledL`). -/
theorem scover0_C_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) (y : S8x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.2.1 S8x1024.size (by sl_kernel_rfl) y

/-- What case C leaves in scratch `arg12`: its pieces read back over junk. -/
def sout0_C_0 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S3x256x1024 .bf16) (harg9 : arg9.IsWhole) (arg10 : Memref sig .tc .vmem S3x1024 .f32) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S3x1024 .f32) (x7 : Vec F S1x1024 .f32) (xo9 : Vec F S3x1024 .f32) (xo10 : Vec F S1x1024 .f32) : Vec F S8x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3x256x1024 .bf16 × Vec F S3x1024 .f32 × Vec F S1x1024 .f32 × Vec F S8x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      if h1 : (n + 1) % 8 = 0 then
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 32 := lt_of_lt_of_eq hn (show cfg0.N = 32 from N_0); omega)
    else
      if h1 : (n + 1) % 8 = 0 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2)

set_option maxHeartbeats 2000000 in
/-- `outsAt0` at a point of case A: that case's contents. -/
theorem outsAt0_A (c : Dev nD) (t : Fin cfg0.N) (h0 : t.val % 32 = 0) (h1 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans rfl)

set_option maxHeartbeats 2000000 in
/-- `outsAt0` at a point of case B: that case's contents, over what the point before left. -/
theorem outsAt0_B (c : Dev nD) (t : Fin cfg0.N) (h0 : ¬t.val % 32 = 0) (h1 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
/-- `outsAt0` at a point of case C: that case's contents, over what the point before left. -/
theorem outsAt0_C (c : Dev nD) (t : Fin cfg0.N) (h0 : ¬t.val % 32 = 0) (h1 : t.val % 8 = 0) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 32 = 0) (h1 : ¬t.val % 8 = 0) (d) :
    (dats m 0 c).before 9 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (h1 : ¬t.val % 8 = 0) (d) :
    (dats m 0 c).before 10 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 9's current staging buffer holds what the body left at the point before: the point is
    not the first, the buffer was not written back between (`flush0_9`), the window is live and uncut (Lib/Pipeline/Frame.lean
    `Dat.before_out_kept`). -/
theorem before0_9_C (c : Dev nD) (t : Fin cfg0.N) (h0 : ¬t.val % 32 = 0) (h1 : t.val % 8 = 0) (d) :
    (dats m 0 c).before 9 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 32 = 0) (h1 : t.val % 8 = 0) (d) :
    (dats m 0 c).before 10 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold out0_A_8 out0_A_9 out0_A_10 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_9_C m c t h0 h1, before0_10_C m c t h0 h1]
        unfold out0_C_8 out0_C_9 out0_C_10 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexists _; iexact HS0
        iintro ⟨H0, H1, H2, H3, H4, H5, H6, H7, ⟨%e8, H8⟩, ⟨%e9, H9⟩, ⟨%e10, H10⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_9_B m c t h0 h1, before0_10_B m c t h0 h1]
        unfold out0_B_8 out0_B_9 out0_B_10 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ScBwdIdeal`'s statement (Defs.lean) at any `F` — Proof.lean cites it at `Bits`:
    `theorem Cert.Proof.claim : Cert.Claim := ⟨Cert.ScBwdIdeal.Gen.facts, fun m ρ _ => Cert.ScBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ScBwdIdeal.Gen

end
-- ==== Proof.ScCases.lean ====
/- What each case of the short-convolution gradient's grid point leaves in each output's buffer and in the carried rows, as
   one function of its blocks and of what it found. -/
module

public import proofs.«01_k».proof.Proof.ScPay
public import proofs.«01_k».proof.Proof.ScFrame

@[expose] public section

set_option maxRecDepth 16384
set_option maxHeartbeats 1000000

noncomputable section

open Idealize.ShloMosaic Idealize.ShloMosaic.TcCoe Idealize.SL.Sem Idealize.ShloMosaic.ValueIdx

namespace Cert.ScBwdIdeal.Value

open Cert.ScBwdIdeal Cert.ScBwdIdeal.Gen

theorem hz : (![0, 0] : Fin 2 → Nat) = fun _ => 0 := funext fun a => by fin_cases a <;> rfl

/-- The zeros the three resets store. -/
abbrev zero3 : Vec Ideal S3x1024 .f32 := k0_pay4 (F := Ideal)
abbrev zero1 : Vec Ideal S1x1024 .f32 := k0_pay5 (F := Ideal)
abbrev zero8 : Vec Ideal S8x1024 .f32 := k0_pay6 (F := Ideal)

/-- Three rows stored over a fill of the whole: the fill is gone. -/
theorem canon_drop (w0 w1 w2 : Vec Ideal S1x1024 .f32) (z : Vec Ideal S3x1024 .f32) :
    View.canon (Val := Elt Ideal) (s := S3x1024) (e := .f32)
      [⟨Rect.unit ![2, 0] ![1, 1024] inb_S3x1024_S1x1024_2_0, w2⟩, ⟨Rect.unit ![1, 0] ![1, 1024] inb_S3x1024_S1x1024_1_0, w1⟩,
       ⟨Rect.unit ![0, 0] ![1, 1024] inb_S3x1024_S1x1024_0_0, w0⟩, ⟨Rect.unit ![0, 0] ![3, 1024] inb_S3x1024_S3x1024_0_0, z⟩]
    = View.canon [⟨Rect.unit ![2, 0] ![1, 1024] inb_S3x1024_S1x1024_2_0, w2⟩, ⟨Rect.unit ![1, 0] ![1, 1024] inb_S3x1024_S1x1024_1_0, w1⟩,
       ⟨Rect.unit ![0, 0] ![1, 1024] inb_S3x1024_S1x1024_0_0, w0⟩] := by
  funext y
  obtain ⟨k, j, rfl⟩ : ∃ (k : Fin 3) (j : Fin 1024), y = ix2 k j := ⟨y 0, y 1, eq_ix2 y⟩
  match k with
  | 0 =>
    rw [canon_row3_ne 2 _ _ _ 0 (by decide), canon_row3_ne 1 _ _ _ 0 (by decide), canon_row3_ne 2 _ _ _ 0 (by decide),
      canon_row3_ne 1 _ _ _ 0 (by decide)]
    exact (canon_row3 0 _ _ _ j).trans (canon_row3 0 _ _ _ j).symm
  | 1 =>
    rw [canon_row3_ne 2 _ _ _ 1 (by decide), canon_row3_ne 2 _ _ _ 1 (by decide)]
    exact (canon_row3 1 _ _ _ j).trans (canon_row3 1 _ _ _ j).symm
  | 2 => exact (canon_row3 2 _ _ _ j).trans (canon_row3 2 _ _ _ j).symm

/-- At the grid's first point, the stacked gradients' block. -/
theorem out0_A_8_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32)  :
    out0_A_8 (F := Ideal) c i a1 h1 a2 h2 a3 h3 a4 h4 a5 h5 a6 h6 a7 h7 a8 h8 a9 h9 a10 h10 a11 h11 a12 h12 hc0 hc1 x0 x1 x2 x3 x4 x5 x6 x7 = stepH i x0 x1 x2 x3 x4 x5 x6 x7 zero8 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  simp only [View.readCov_unit_zero (S := S8x1024) _ hz]
  rfl

/-- At the grid's first point, the filter's gradient. -/
theorem out0_A_9_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32)  :
    out0_A_9 (F := Ideal) c i a1 h1 a2 h2 a3 h3 a4 h4 a5 h5 a6 h6 a7 h7 a8 h8 a9 h9 a10 h10 a11 h11 a12 h12 hc0 hc1 x0 x1 x2 x3 x4 x5 x6 x7 = stepW i x0 x1 x2 x3 x4 x5 zero3 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  simp only [pay19_eq, pay20_eq, pay23_eq]
  simp (discharger := decide) only [View.readCov_skip]
  rw [View.readCov_fill (s := S3x1024) _ _ _ _ _ (by decide), View.readCov_fill (s := S3x1024) _ _ _ _ _ (by decide), View.readCov_fill (s := S3x1024) _ _ _ _ _ (by decide)]
  exact canon_drop _ _ _ _

/-- At the grid's first point, the bias's gradient. -/
theorem out0_A_10_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32)  :
    out0_A_10 (F := Ideal) c i a1 h1 a2 h2 a3 h3 a4 h4 a5 h5 a6 h6 a7 h7 a8 h8 a9 h9 a10 h10 a11 h11 a12 h12 hc0 hc1 x0 x1 x2 x3 x4 x5 x6 x7 = stepB x0 x5 zero1 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  rw [View.canon_cons_unit_zero (S := S1x1024) hz, View.readCov_unit_zero (S := S1x1024) _ hz, pay18_eq]
  rfl

/-- At the grid's first point, the carried rows. -/
theorem sout0_A_0_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32)  :
    sout0_A_0 (F := Ideal) c i a1 h1 a2 h2 a3 h3 a4 h4 a5 h5 a6 h6 a7 h7 a8 h8 a9 h9 a10 h10 a11 h11 a12 h12 hc0 hc1 x0 x1 x2 x3 x4 x5 x6 x7 = k0_pay25 (duT x0 x5) := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  first | rw [View.canon_cons_unit_zero (S := S8x1024) hz] | rw [View.canon_unit_zero (S := S8x1024) hz]

/-- At a point inside a sequence, the stacked gradients' block. -/
theorem out0_B_8_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : ¬cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) (xs0 : Vec Ideal S8x1024 .f32) :
    out0_B_8 (F := Ideal) c i a1 h1 a2 h2 a3 h3 a4 h4 a5 h5 a6 h6 a7 h7 a8 h8 a9 h9 a10 h10 a11 h11 a12 h12 hc0 hc1 x0 x1 x2 x3 x4 x5 x6 x7 xo9 xo10 xs0 = stepH i x0 x1 x2 x3 x4 x5 x6 x7 xs0 := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1 x0 x1 x2 x3 x4 x5 x6 x7 xo9 xo10 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  rfl

/-- At a point inside a sequence, the filter's gradient. -/
theorem out0_B_9_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : ¬cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) (xs0 : Vec Ideal S8x1024 .f32) :
    out0_B_9 (F := Ideal) c i a1 h1 a2 h2 a3 h3 a4 h4 a5 h5 a6 h6 a7 h7 a8 h8 a9 h9 a10 h10 a11 h11 a12 h12 hc0 hc1 x0 x1 x2 x3 x4 x5 x6 x7 xo9 xo10 xs0 = stepW i x0 x1 x2 x3 x4 x5 xo9 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 x0 x1 x2 x3 x4 x5 x6 x7 xo9 xo10 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  simp only [pay19_eq, pay20_eq, pay23_eq]
  rfl

/-- At a point inside a sequence, the bias's gradient. -/
theorem out0_B_10_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : ¬cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) (xs0 : Vec Ideal S8x1024 .f32) :
    out0_B_10 (F := Ideal) c i a1 h1 a2 h2 a3 h3 a4 h4 a5 h5 a6 h6 a7 h7 a8 h8 a9 h9 a10 h10 a11 h11 a12 h12 hc0 hc1 x0 x1 x2 x3 x4 x5 x6 x7 xo9 xo10 xs0 = stepB x0 x5 xo10 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 x0 x1 x2 x3 x4 x5 x6 x7 xo9 xo10 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  rw [View.canon_unit_zero (S := S1x1024) hz, pay18_eq]
  rfl

/-- At a point inside a sequence, the carried rows. -/
theorem sout0_B_0_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : ¬cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) (xs0 : Vec Ideal S8x1024 .f32) :
    sout0_B_0 (F := Ideal) c i a1 h1 a2 h2 a3 h3 a4 h4 a5 h5 a6 h6 a7 h7 a8 h8 a9 h9 a10 h10 a11 h11 a12 h12 hc0 hc1 x0 x1 x2 x3 x4 x5 x6 x7 xo9 xo10 xs0 = k0_pay25 (duT x0 x5) := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 x0 x1 x2 x3 x4 x5 x6 x7 xo9 xo10 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  first | rw [View.canon_cons_unit_zero (S := S8x1024) hz] | rw [View.canon_unit_zero (S := S8x1024) hz]

/-- At the first point of a later sequence, the stacked gradients' block. -/
theorem out0_C_8_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) :
    out0_C_8 (F := Ideal) c i a1 h1 a2 h2 a3 h3 a4 h4 a5 h5 a6 h6 a7 h7 a8 h8 a9 h9 a10 h10 a11 h11 a12 h12 hc0 hc1 x0 x1 x2 x3 x4 x5 x6 x7 xo9 xo10 = stepH i x0 x1 x2 x3 x4 x5 x6 x7 zero8 := by
  unfold out0_C_8
  rw [View.read_writes_eq_canon _ _ _ (cover0_C_8 c i a1 h1 a2 h2 a3 h3 a4 h4 a5 h5 a6 h6 a7 h7 a8 h8 a9 h9 a10 h10 a11 h11 a12 h12 hc0 hc1 x0 x1 x2 x3 x4 x5 x6 x7 xo9 xo10)]
  unfold kernelRun0_C
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  simp only [View.readCov_unit_zero (S := S8x1024) _ hz]
  rfl

/-- At the first point of a later sequence, the filter's gradient. -/
theorem out0_C_9_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) :
    out0_C_9 (F := Ideal) c i a1 h1 a2 h2 a3 h3 a4 h4 a5 h5 a6 h6 a7 h7 a8 h8 a9 h9 a10 h10 a11 h11 a12 h12 hc0 hc1 x0 x1 x2 x3 x4 x5 x6 x7 xo9 xo10 = stepW i x0 x1 x2 x3 x4 x5 xo9 := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 x0 x1 x2 x3 x4 x5 x6 x7 xo9 xo10)]
  unfold kernelRun0_C
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  simp only [pay19_eq, pay20_eq, pay23_eq]
  rfl

/-- At the first point of a later sequence, the bias's gradient. -/
theorem out0_C_10_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) :
    out0_C_10 (F := Ideal) c i a1 h1 a2 h2 a3 h3 a4 h4 a5 h5 a6 h6 a7 h7 a8 h8 a9 h9 a10 h10 a11 h11 a12 h12 hc0 hc1 x0 x1 x2 x3 x4 x5 x6 x7 xo9 xo10 = stepB x0 x5 xo10 := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1 x0 x1 x2 x3 x4 x5 x6 x7 xo9 xo10)]
  unfold kernelRun0_C
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  rw [View.canon_unit_zero (S := S1x1024) hz, pay18_eq]
  rfl

/-- At the first point of a later sequence, the carried rows. -/
theorem sout0_C_0_eq (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S256x1024 .bf16) (h6 : a6.IsWhole) (a7 : Memref sig .tc .vmem S3x1024 .f32) (h7 : a7.IsWhole) (a8 : Memref sig .tc .vmem S1x1024 .f32) (h8 : a8.IsWhole) (a9 : Memref sig .tc .vmem S3x256x1024 .bf16) (h9 : a9.IsWhole) (a10 : Memref sig .tc .vmem S3x1024 .f32) (h10 : a10.IsWhole) (a11 : Memref sig .tc .vmem S1x1024 .f32) (h11 : a11.IsWhole) (a12 : Memref sig .tc .vmem S8x1024 .f32) (h12 : a12.IsWhole) (hc0 : ¬cond0_0 i) (hc1 : cond0_1 i)
    (x0 x1 x2 : Vec Ideal S256x1024 .bf16) (x3 x4 : Vec Ideal S16x1024 .bf16) (x5 : Vec Ideal S256x1024 .bf16) (x6 : Vec Ideal S3x1024 .f32) (x7 : Vec Ideal S1x1024 .f32) (xo9 : Vec Ideal S3x1024 .f32) (xo10 : Vec Ideal S1x1024 .f32) :
    sout0_C_0 (F := Ideal) c i a1 h1 a2 h2 a3 h3 a4 h4 a5 h5 a6 h6 a7 h7 a8 h8 a9 h9 a10 h10 a11 h11 a12 h12 hc0 hc1 x0 x1 x2 x3 x4 x5 x6 x7 xo9 xo10 = k0_pay25 (duT x0 x5) := by
  unfold sout0_C_0
  rw [View.read_writes_eq_canon _ _ _ (scover0_C_0 c i a1 h1 a2 h2 a3 h3 a4 h4 a5 h5 a6 h6 a7 h7 a8 h8 a9 h9 a10 h10 a11 h11 a12 h12 hc0 hc1 x0 x1 x2 x3 x4 x5 x6 x7 xo9 xo10)]
  unfold kernelRun0_C
  dsimp only
  sl_unfold_words
  simp only [View.readAt_eq_ld, h1.read_unread, h2.read_unread, h3.read_unread, h4.read_unread, h5.read_unread, h6.read_unread, h7.read_unread, h8.read_unread, h10.read_unread, h11.read_unread, h12.read_unread, View.ld_unit_zero (S := S256x1024) hz, View.ld_unit_zero (S := S16x1024) hz, View.ld_unit_zero (S := S8x1024) hz, View.ld_unit_zero (S := S1x1024) hz]
  first | rw [View.canon_cons_unit_zero (S := S8x1024) hz] | rw [View.canon_unit_zero (S := S8x1024) hz]

end Cert.ScBwdIdeal.Value
-- ==== Proof.ScRun.lean ====
/- The run of the short-convolution gradient, read: what each of its three result arrays ends holding, as a function of the
   argument arrays. -/
module

public import proofs.«01_k».proof.Proof.ScCases

@[expose] public section

set_option maxRecDepth 16384

noncomputable section

open Idealize.ShloMosaic Idealize.ShloMosaic.TcCoe Idealize.SL.Sem Idealize.ShloMosaic.ValueIdx

/-- A row number of the step's 8192 tokens. -/
def scRow (r : ℕ) : Fin 8192 := ⟨r % 8192, Nat.mod_lt _ (by decide)⟩

/-- The rows of the four argument arrays: the first gate, the second gate and the values are the three thirds of the projection. -/
def scSrc (A0 : Vec Ideal ⟨2, ![8192, 3072]⟩ .bf16) (A1 : Vec Ideal ⟨2, ![8192, 1024]⟩ .bf16) (A2 : Vec Ideal ⟨2, ![3, 1024]⟩ .f32)
    (A3 : Vec Ideal ⟨1, ![1024]⟩ .f32) : ScSrc where
  gb r j := A0 (ix2 (scRow r) ⟨j.val, by omega⟩)
  gc r j := A0 (ix2 (scRow r) ⟨1024 + j.val, by omega⟩)
  v r j := A0 (ix2 (scRow r) ⟨2048 + j.val, by omega⟩)
  dq r j := A1 (ix2 (scRow r) j)
  w k j := A2 (ix2 k j)
  b j := A3 (ix1 j)

/-- A sum over tiles of rows is the sum over the rows. -/
theorem sum_tiles (A B : ℕ) (f : ℕ → EReal) :
    ∑ s : Fin A, ∑ a : Fin B, f (s.val * B + a.val) = ∑ r : Fin (A * B), f r.val := by
  rw [← Fintype.sum_prod_type', ← Equiv.sum_comp finProdFinEquiv]
  refine Finset.sum_congr rfl fun p _ => congrArg f ?_
  rw [finProdFinEquiv_apply_val]; ring

/-- The same with the tiles taken last to first. -/
theorem sum_tiles_rev (A B : ℕ) (f : ℕ → EReal) :
    ∑ s ∈ Finset.range (A + 1), ∑ a : Fin B, f ((A - s) * B + a.val) = ∑ r : Fin ((A + 1) * B), f r.val := by
  rw [← sum_tiles, ← Finset.sum_range_reflect, Finset.sum_range]
  refine Finset.sum_congr rfl fun s _ => Finset.sum_congr rfl fun a _ => congrArg f ?_
  have hs := s.isLt
  congr 2; omega

namespace Cert.ScBwdIdeal.Value

open Cert.ScBwdIdeal Cert.ScBwdIdeal.Gen

variable (m : (ℓ : Loc nD τ sig) → Buf (Elt Ideal) ℓ) (ρ : Dev nD → PrngReg)

/-- The rows of a device's arguments. -/
abbrev srcOf (c : Dev nD) : ScSrc :=
  scSrc (m ((c.tc : Thread nD τ).loc main_arg0)) (m ((c.tc : Thread nD τ).loc main_arg1)) (m ((c.tc : Thread nD τ).loc main_arg2))
    (m ((c.tc : Thread nD τ).loc main_arg3))

theorem ix0 : ∀ t : Fin grid0.N, win0_0.index t 0 = 31 - t.val ∧ win0_0.index t 1 = 0 := by decide +kernel
theorem ix1' : ∀ t : Fin grid0.N, win0_1.index t 0 = 31 - t.val ∧ win0_1.index t 1 = 1 := by decide +kernel
theorem ix2' : ∀ t : Fin grid0.N, win0_2.index t 0 = 31 - t.val ∧ win0_2.index t 1 = 2 := by decide +kernel
theorem ix3' : ∀ t : Fin grid0.N, win0_3.index t 0 = (31 - t.val) * 16 - 1 ∧ win0_3.index t 1 = 1 := by decide +kernel
theorem ix4' : ∀ t : Fin grid0.N, win0_4.index t 0 = (31 - t.val) * 16 - 1 ∧ win0_4.index t 1 = 2 := by decide +kernel
theorem ix5' : ∀ t : Fin grid0.N, win0_5.index t 0 = 31 - t.val ∧ win0_5.index t 1 = 0 := by decide +kernel
theorem ix6' : ∀ t : Fin grid0.N, win0_6.index t 0 = 0 ∧ win0_6.index t 1 = 0 := by decide +kernel
theorem ix7' : ∀ t : Fin grid0.N, win0_7.index t 0 = 0 ∧ win0_7.index t 1 = 0 := by decide +kernel
theorem ix8' : ∀ t : Fin grid0.N, win0_8.index t 0 = 0 ∧ win0_8.index t 1 = 31 - t.val ∧ win0_8.index t 2 = 0 := by decide +kernel
theorem crd : ∀ t : Fin grid0.N, (grid0.coords t 0).val = t.val := by decide +kernel

theorem ltN (t : Fin cfg0.N) : t.val < 32 := by have := t.isLt; have h : cfg0.N = 32 := N_0; omega

/-- The blocks at a point are the tile's rows of the arguments. -/
theorem tile (c : Dev nD) (t : Fin cfg0.N) :
    Tile (srcOf m c) t.val (grid0.coords t) (iblk m c 0 t) (iblk m c 1 t) (iblk m c 2 t) (iblk m c 3 t) (iblk m c 4 t) (iblk m c 5 t)
      (iblk m c 6 t) (iblk m c 7 t) where
  lt := ltN t
  hi := crd t
  h0 a j := by
    unfold iblk
    rw [View.read_apply]
    show m ((c.tc : Thread nD τ).loc main_arg0) _ = m ((c.tc : Thread nD τ).loc main_arg0) _
    congr 1; funext b; apply Fin.ext
    have ht := ltN t; have hj := a.isLt
    match b with
    | ⟨0, _⟩ => show win0_0.index t 0 * 256 + 1 * a.val = ((31 - t.val) * 256 + a.val) % 8192; rw [(ix0 t).1]; omega
    | ⟨1, _⟩ => show win0_0.index t 1 * 1024 + 1 * j.val = j.val; rw [(ix0 t).2]; omega
  h1 a j := by
    unfold iblk
    rw [View.read_apply]
    show m ((c.tc : Thread nD τ).loc main_arg0) _ = m ((c.tc : Thread nD τ).loc main_arg0) _
    congr 1; funext b; apply Fin.ext
    have ht := ltN t; have hj := a.isLt
    match b with
    | ⟨0, _⟩ => show win0_1.index t 0 * 256 + 1 * a.val = ((31 - t.val) * 256 + a.val) % 8192; rw [(ix1' t).1]; omega
    | ⟨1, _⟩ => show win0_1.index t 1 * 1024 + 1 * j.val = 1024 + j.val; rw [(ix1' t).2]; omega
  h2 a j := by
    unfold iblk
    rw [View.read_apply]
    show m ((c.tc : Thread nD τ).loc main_arg0) _ = m ((c.tc : Thread nD τ).loc main_arg0) _
    congr 1; funext b; apply Fin.ext
    have ht := ltN t; have hj := a.isLt
    match b with
    | ⟨0, _⟩ => show win0_2.index t 0 * 256 + 1 * a.val = ((31 - t.val) * 256 + a.val) % 8192; rw [(ix2' t).1]; omega
    | ⟨1, _⟩ => show win0_2.index t 1 * 1024 + 1 * j.val = 2048 + j.val; rw [(ix2' t).2]; omega
  h3 a j hp := by
    unfold iblk
    rw [View.read_apply]
    show m ((c.tc : Thread nD τ).loc main_arg0) _ = m ((c.tc : Thread nD τ).loc main_arg0) _
    congr 1; funext b; apply Fin.ext
    have ht := ltN t; have hj := a.isLt
    match b with
    | ⟨0, _⟩ => show win0_3.index t 0 * 16 + 1 * a.val = ((31 - t.val) * 256 + a.val - 16) % 8192; rw [(ix3' t).1]; omega
    | ⟨1, _⟩ => show win0_3.index t 1 * 1024 + 1 * j.val = 1024 + j.val; rw [(ix3' t).2]; omega
  h4 a j hp := by
    unfold iblk
    rw [View.read_apply]
    show m ((c.tc : Thread nD τ).loc main_arg0) _ = m ((c.tc : Thread nD τ).loc main_arg0) _
    congr 1; funext b; apply Fin.ext
    have ht := ltN t; have hj := a.isLt
    match b with
    | ⟨0, _⟩ => show win0_4.index t 0 * 16 + 1 * a.val = ((31 - t.val) * 256 + a.val - 16) % 8192; rw [(ix4' t).1]; omega
    | ⟨1, _⟩ => show win0_4.index t 1 * 1024 + 1 * j.val = 2048 + j.val; rw [(ix4' t).2]; omega
  h5 a j := by
    unfold iblk
    rw [View.read_apply]
    show m ((c.tc : Thread nD τ).loc main_arg1) _ = m ((c.tc : Thread nD τ).loc main_arg1) _
    congr 1; funext b; apply Fin.ext
    have ht := ltN t; have hj := a.isLt
    match b with
    | ⟨0, _⟩ => show win0_5.index t 0 * 256 + 1 * a.val = ((31 - t.val) * 256 + a.val) % 8192; rw [(ix5' t).1]; omega
    | ⟨1, _⟩ => show win0_5.index t 1 * 1024 + 1 * j.val = j.val; rw [(ix5' t).2]; omega
  h6 k j := by
    unfold iblk
    rw [View.read_apply]
    show m ((c.tc : Thread nD τ).loc main_arg2) _ = m ((c.tc : Thread nD τ).loc main_arg2) _
    congr 1; funext b; apply Fin.ext
    match b with
    | ⟨0, _⟩ => show win0_6.index t 0 * 3 + 1 * k.val = k.val; rw [(ix6' t).1]; omega
    | ⟨1, _⟩ => show win0_6.index t 1 * 1024 + 1 * j.val = j.val; rw [(ix6' t).2]; omega
  h7 j := by
    unfold iblk
    rw [View.read_apply]
    show (StableHlo.after hostOps0 (fun b => m (c, b)) (Proc.tc.devRef main_v0) : S1x1024.Idx → EReal) _ = m ((c.tc : Thread nD τ).loc main_arg3) _
    have e : (StableHlo.after hostOps0 (fun b => m (c, b)) (Proc.tc.devRef main_v0) : S1x1024.Idx → EReal)
        = broadcastInDim S1x1024 ![1] bcast_S1024_S1x1024_1 (m ((c.tc : Thread nD τ).loc main_arg3)) := by after_results
    rw [e]
    unfold broadcastInDim
    show m ((c.tc : Thread nD τ).loc main_arg3) _ = m ((c.tc : Thread nD τ).loc main_arg3) _
    congr 1; funext b; apply Fin.ext
    match b with
    | ⟨0, _⟩ => show win0_7.index t 1 * 1024 + 1 * j.val = j.val; rw [(ix7' t).2]; omega

/-- What the outputs' buffers and the carried rows hold after a point. -/
structure After (S : ScSrc) (n : ℕ) (o : Vec Ideal S3x256x1024 .bf16 × Vec Ideal S3x1024 .f32 × Vec Ideal S1x1024 .f32 × Vec Ideal S8x1024 .f32) :
    Prop where
  dh : ∀ (k : Fin 3) (a : Fin 256) (j : Fin 1024), o.1 (ix3 k a j) = S.dh k ((31 - n) * 256 + a.val) j
  dw : ∀ (k : Fin 3) (j : Fin 1024), o.2.1 (ix2 k j) = ∑ s ∈ Finset.range (n + 1), ∑ a : Fin 256, S.dw k ((31 - s) * 256 + a.val) j
  db : ∀ (j : Fin 1024), o.2.2.1 (ix2 0 j) = ∑ s ∈ Finset.range (n + 1), ∑ a : Fin 256, S.du ((31 - s) * 256 + a.val) j
  car : ∀ (a : Fin 8) (j : Fin 1024), o.2.2.2 (ix2 a j) = S.du ((31 - n) * 256 + a.val) j

theorem zero3_apply (i : S3x1024.Idx) : zero3 i = 0 := Ideal.ofBits_zero_f32
theorem zero1_apply (i : S1x1024.Idx) : zero1 i = 0 := Ideal.ofBits_zero_f32
theorem zero8_apply (i : S8x1024.Idx) : zero8 i = 0 := Ideal.ofBits_zero_f32

theorem carry_zero (S : ScSrc) (t : ℕ) (h : t % 8 = 0) : Carry S t zero8 := fun a j => by rw [if_pos h]; exact zero8_apply _

/-- By induction on the point. -/
theorem outs (c : Dev nD) : ∀ (n : ℕ) (h : n < cfg0.N), After (srcOf m c) n (outsAt0 m c n h)
  | 0, h => by
    have T := tile m c ⟨0, h⟩
    have e := outsAt0_A m c ⟨0, h⟩ rfl rfl
    dsimp only at e
    rw [e]
    refine ⟨fun k a j => ?_, fun k j => ?_, fun j => ?_, fun a j => ?_⟩
    · dsimp only; rw [out0_A_8_eq]; exact T.stepH (carry_zero _ 0 rfl) k a j
    · dsimp only; rw [out0_A_9_eq, T.stepW, zero3_apply, zero_add, Finset.sum_range_one]
    · dsimp only; rw [out0_A_10_eq, T.stepB, zero1_apply, zero_add, Finset.sum_range_one]
    · dsimp only; rw [sout0_A_0_eq]; exact T.carry a j
  | n + 1, h => by
    have ih := outs c n (Nat.lt_of_succ_lt h)
    have hN : cfg0.N = 32 := N_0
    have T := tile m c ⟨n + 1, h⟩
    have h0 : ¬(⟨n + 1, h⟩ : Fin cfg0.N).val % 32 = 0 := by dsimp only; omega
    by_cases h1 : (n + 1) % 8 = 0
    · have e := outsAt0_C m c ⟨n + 1, h⟩ h0 h1
      dsimp only at e
      rw [e]
      refine ⟨fun k a j => ?_, fun k j => ?_, fun j => ?_, fun a j => ?_⟩
      · dsimp only; rw [out0_C_8_eq]; exact T.stepH (carry_zero _ _ h1) k a j
      · dsimp only; rw [out0_C_9_eq, T.stepW, Finset.sum_range_succ]; exact congrArg (· + _) (ih.dw k j)
      · dsimp only; rw [out0_C_10_eq, T.stepB, Finset.sum_range_succ]; exact congrArg (· + _) (ih.db j)
      · dsimp only; rw [sout0_C_0_eq]; exact T.carry a j
    · have e := outsAt0_B m c ⟨n + 1, h⟩ h0 h1
      dsimp only at e
      rw [e]
      refine ⟨fun k a j => ?_, fun k j => ?_, fun j => ?_, fun a j => ?_⟩
      · dsimp only; rw [out0_B_8_eq]
        exact T.stepH (fun a j => by
          rw [if_neg h1]
          refine (ih.car a j).trans ?_
          have : 31 - n = 32 - (n + 1) := by omega
          rw [this]) k a j
      · dsimp only; rw [out0_B_9_eq, T.stepW, Finset.sum_range_succ]; exact congrArg (· + _) (ih.dw k j)
      · dsimp only; rw [out0_B_10_eq, T.stepB, Finset.sum_range_succ]; exact congrArg (· + _) (ih.db j)
      · dsimp only; rw [sout0_B_0_eq]; exact T.carry a j

end Cert.ScBwdIdeal.Value

/-- The stacked gradients, as one array. -/
def scDh (S : ScSrc) : Vec Ideal ⟨3, ![3, 8192, 1024]⟩ .bf16 := fun y => S.dh (y 0) (y 1).val (y 2)
/-- The filter's gradient: the sum over every row. -/
def scDw (S : ScSrc) : Vec Ideal ⟨2, ![3, 1024]⟩ .f32 := fun y => ∑ r : Fin 8192, S.dw (y 0) r.val (y 1)
/-- The bias's gradient: the sum over every row. -/
def scDb (S : ScSrc) : Vec Ideal ⟨2, ![1, 1024]⟩ .f32 := fun y => ∑ r : Fin 8192, S.du r.val (y 1)

namespace Cert.ScBwdIdeal.Value

open Cert.ScBwdIdeal Cert.ScBwdIdeal.Gen

variable (m : (ℓ : Loc nD τ sig) → Buf (Elt Ideal) ℓ) (ρ : Dev nD → PrngReg)

/-- The point whose block holds a row. -/
def pt8 (r : ℕ) : Fin cfg0.N := ⟨31 - r / 256, by have h : cfg0.N = 32 := N_0; omega⟩

theorem flushed8 (c : Dev nD) (t : Fin cfg0.N) :
    (dats m 0 c).flushed 8 t = ((cfg0.win 8).blk t).view.read (Elt Ideal) (scDh (srcOf m c)) := by
  show (cfg0.win 8).cut (grid0.coords t) ((dats m 0 c).after 8 t) = _
  rw [after0_8]
  have ht := ltN t
  funext y
  rw [View.read_apply]
  show (outsAt0 m c t.val t.isLt).1 y = (srcOf m c).dh _ _ _
  obtain ⟨k, a, j, rfl⟩ : ∃ (k : Fin 3) (a : Fin 256) (j : Fin 1024), y = ix3 k a j := ⟨y 0, y 1, y 2, eq_ix3 y⟩
  rw [(outs m c t.val t.isLt).dh k a j]
  have e0 : k = (⟨win0_8.index t 0 * 3 + 1 * k.val, by rw [(ix8' t).1]; omega⟩ : Fin 3) := Fin.ext (by
    show k.val = win0_8.index t 0 * 3 + 1 * k.val; rw [(ix8' t).1]; omega)
  have e1 : (31 - t.val) * 256 + a.val = win0_8.index t 1 * 256 + 1 * a.val := by rw [(ix8' t).2.1]; omega
  have e2 : j = (⟨win0_8.index t 2 * 1024 + 1 * j.val, by rw [(ix8' t).2.2]; omega⟩ : Fin 1024) := Fin.ext (by
    show j.val = win0_8.index t 2 * 1024 + 1 * j.val; rw [(ix8' t).2.2]; omega)
  exact congr (congr (congrArg (srcOf m c).dh e0) e1) e2

theorem cover8 (i : S3x8192x1024.Idx) : i ∈ ((View.whole main_v1_0).slice (win0_8.rect (pt8 (i 1).val))).set := by
  have h0 : (i 0 : Nat) < 3 := (i 0).isLt
  have h1 : (i 1 : Nat) < 8192 := (i 1).isLt
  have h2 : (i 2 : Nat) < 1024 := (i 2).isLt
  rw [View.set_slice_whole, Rect.mem_set_unit]
  have hp : (pt8 (i 1).val).val = 31 - (i 1).val / 256 := rfl
  generalize pt8 (i 1).val = p at hp
  intro a
  match a with
  | ⟨0, _⟩ =>
    show win0_8.index p 0 * 3 ≤ (i 0 : Nat) ∧ (i 0 : Nat) < win0_8.index p 0 * 3 + 3
    rw [(ix8' p).1]; omega
  | ⟨1, _⟩ =>
    show win0_8.index p 1 * 256 ≤ (i 1 : Nat) ∧ (i 1 : Nat) < win0_8.index p 1 * 256 + 256
    rw [(ix8' p).2.1, hp]; omega
  | ⟨2, _⟩ =>
    show win0_8.index p 2 * 1024 ≤ (i 2 : Nat) ∧ (i 2 : Nat) < win0_8.index p 2 * 1024 + 1024
    rw [(ix8' p).2.2]; omega

theorem final8 (c : Dev nD) : (dats m 0 c).arrAt 8 cfg0.N = scDh (srcOf m c) :=
  (dats m 0 c).arrAt_eq_of_cover 8 (scDh (srcOf m c)) (fun t _ => flushed8 m c t)
    fun i => ⟨pt8 (i 1).val, flush0_8 _, cover8 i⟩

theorem ix9' : ∀ t : Fin grid0.N, win0_9.index t 0 = 0 ∧ win0_9.index t 1 = 0 := by decide +kernel
theorem ix10' : ∀ t : Fin grid0.N, win0_10.index t 0 = 0 ∧ win0_10.index t 1 = 0 := by decide +kernel

/-- The last point. -/
def ptLast : Fin cfg0.N := ⟨31, by have h : cfg0.N = 32 := N_0; omega⟩

theorem cover9 (i : S3x1024.Idx) : i ∈ ((View.whole main_v1_1).slice (win0_9.rect ptLast)).set := by
  have h0 : (i 0 : Nat) < 3 := (i 0).isLt
  have h1 : (i 1 : Nat) < 1024 := (i 1).isLt
  rw [View.set_slice_whole, Rect.mem_set_unit]
  generalize ptLast = p
  intro a
  match a with
  | ⟨0, _⟩ =>
    show win0_9.index p 0 * 3 ≤ (i 0 : Nat) ∧ (i 0 : Nat) < win0_9.index p 0 * 3 + 3
    rw [(ix9' p).1]; omega
  | ⟨1, _⟩ =>
    show win0_9.index p 1 * 1024 ≤ (i 1 : Nat) ∧ (i 1 : Nat) < win0_9.index p 1 * 1024 + 1024
    rw [(ix9' p).2]; omega

theorem final9 (c : Dev nD) : (dats m 0 c).arrAt 9 cfg0.N = scDw (srcOf m c) :=
  (dats m 0 c).arrAt_eq_of_cover 9 (scDw (srcOf m c)) (fun t hf => by
      have ht := ltN t
      have h31 : t.val = 31 := by have := (flush0_9 t).mp hf; omega
      show (cfg0.win 9).cut (grid0.coords t) ((dats m 0 c).after 9 t) = _
      rw [after0_9]
      funext y
      rw [View.read_apply]
      show (outsAt0 m c t.val t.isLt).2.1 y = ∑ r : Fin 8192, (srcOf m c).dw _ r.val _
      obtain ⟨k, j, rfl⟩ : ∃ (k : Fin 3) (j : Fin 1024), y = ix2 k j := ⟨y 0, y 1, eq_ix2 y⟩
      rw [(outs m c t.val t.isLt).dw k j, h31]
      refine (sum_tiles_rev 31 256 (fun r => (srcOf m c).dw k r j)).trans (Finset.sum_congr rfl fun r _ => ?_)
      congr 1
      · apply Fin.ext; show k.val = win0_9.index t 0 * 3 + 1 * k.val; rw [(ix9' t).1]; omega
      · apply Fin.ext; show j.val = win0_9.index t 1 * 1024 + 1 * j.val; rw [(ix9' t).2]; omega)
    fun i => ⟨ptLast, (flush0_9 _).mpr rfl, cover9 i⟩

theorem cover10 (i : S1x1024.Idx) : i ∈ ((View.whole main_v1_2).slice (win0_10.rect ptLast)).set := by
  have h0 : (i 0 : Nat) < 1 := (i 0).isLt
  have h1 : (i 1 : Nat) < 1024 := (i 1).isLt
  rw [View.set_slice_whole, Rect.mem_set_unit]
  generalize ptLast = p
  intro a
  match a with
  | ⟨0, _⟩ =>
    show win0_10.index p 0 * 1 ≤ (i 0 : Nat) ∧ (i 0 : Nat) < win0_10.index p 0 * 1 + 1
    rw [(ix10' p).1]; omega
  | ⟨1, _⟩ =>
    show win0_10.index p 1 * 1024 ≤ (i 1 : Nat) ∧ (i 1 : Nat) < win0_10.index p 1 * 1024 + 1024
    rw [(ix10' p).2]; omega

theorem final10 (c : Dev nD) : (dats m 0 c).arrAt 10 cfg0.N = scDb (srcOf m c) :=
  (dats m 0 c).arrAt_eq_of_cover 10 (scDb (srcOf m c)) (fun t hf => by
      have ht := ltN t
      have h31 : t.val = 31 := by have := (flush0_10 t).mp hf; omega
      show (cfg0.win 10).cut (grid0.coords t) ((dats m 0 c).after 10 t) = _
      rw [after0_10]
      funext y
      rw [View.read_apply]
      show (outsAt0 m c t.val t.isLt).2.2.1 y = ∑ r : Fin 8192, (srcOf m c).du r.val _
      obtain ⟨k, j, rfl⟩ : ∃ (k : Fin 1) (j : Fin 1024), y = ix2 k j := ⟨y 0, y 1, eq_ix2 y⟩
      obtain rfl : k = 0 := Subsingleton.elim _ _
      rw [(outs m c t.val t.isLt).db j, h31]
      refine (sum_tiles_rev 31 256 (fun r => (srcOf m c).du r j)).trans (Finset.sum_congr rfl fun r _ => ?_)
      congr 1
      apply Fin.ext; show j.val = win0_10.index t 1 * 1024 + 1 * j.val; rw [(ix10' t).2]; omega)
    fun i => ⟨ptLast, (flush0_10 _).mpr rfl, cover10 i⟩

/-- The run, read: the three results as functions of the arguments' rows, the arguments unchanged. -/
theorem run : θ_run defs (onTc (τ := τ) (main (F := Ideal))) ⟨m, fun _ => 0, ρ⟩ fun r => ∀ c : Dev nD,
      r.2.mem ((c.tc : Thread nD τ).loc main_v1_0) = scDh (srcOf m c)
      ∧ r.2.mem ((c.tc : Thread nD τ).loc main_v1_1) = scDw (srcOf m c)
      ∧ r.2.mem ((c.tc : Thread nD τ).loc main_v1_2) = scDb (srcOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 8).trans (final8 m c), ((h.1 c).1 9).trans (final9 m c),
      ((h.1 c).1 10).trans (final10 m c), h.2 c⟩)
    (θ_run_and (run_main m ρ) (unchanged m ρ))

end Cert.ScBwdIdeal.Value
-- ==== Proof.ScRef.lean ====
/- The reference of the short-convolution gradient, read at an index: the same functions of the arguments' rows. -/
module

public import proofs.«01_k».proof.Proof.ScRun
public import proofs.«01_k».proof.Proof.Gen.ScRefIdeal.Run
public import proofs.«01_k».proof.Proof.Gen.ScRefIdeal.Read
public import Idealize.ShloMosaic.Lib.IdealHost

@[expose] public section

set_option maxRecDepth 16384

noncomputable section

open Idealize.ShloMosaic Idealize.ShloMosaic.TcCoe Idealize.SL.Sem Idealize.ShloMosaic.ValueIdx

namespace Cert.ScRefIdeal.Value

open Cert.ScRefIdeal Cert.ScRefIdeal.Gen Cert.ScRefIdeal.Read

/-- A host sum over the first two of three axes. -/
theorem reduce01 {n0 n1 n2 : ℕ} (h : (⟨3, ![n0, n1, n2]⟩ : Shape).ReducesTo [0, 1] ⟨1, ![n2]⟩)
    (x : FVec Ideal ⟨3, ![n0, n1, n2]⟩ .f32) {u : Shape} (init : u.Idx → Ideal .f32) (hu : 0 < u.numel)
    (h0 : init (Shape.Idx.first hu) = 0) (j : Fin n2) :
    Host.reduceAdd x init h hu (ix1 j) = ∑ s : Fin n0, ∑ t : Fin n1, x (ix3 s t j) := by
  show init (Shape.Idx.first hu) + ∑ i ∈ Finset.univ.filter (fun i => h.drop i = ix1 j), x i = _
  rw [h0, zero_add]
  rw [← Fintype.sum_prod_type']
  refine (Finset.sum_bij' (fun k _ => ix3 k.1 k.2 j) (fun i _ => (i 0, i 1)) (fun k _ => ?_) (fun _ _ => Finset.mem_univ _)
    (fun _ _ => rfl) (fun i hi => ?_) (fun _ _ => rfl)).symm
  · refine Finset.mem_filter.mpr ⟨Finset.mem_univ _, ?_⟩
    funext b; apply Fin.ext
    match b with
    | ⟨0, _⟩ => rfl
  · have e := (Finset.mem_filter.mp hi).2
    funext a; apply Fin.ext
    match a with
    | ⟨0, _⟩ => rfl
    | ⟨1, _⟩ => rfl
    | ⟨2, _⟩ => exact (congrArg Fin.val (congrFun e 0)).symm

variable (x0 : Vec Ideal S8192x3072 .bf16) (x1 : Vec Ideal S8192x1024 .bf16) (x2 : Vec Ideal S3x1024 .f32) (x3 : Vec Ideal S1024 .f32)

theorem v4_at (s : Fin 4) (t : Fin 2048) (j : Fin 1024) : val_main_v4 (F := Ideal) x0 (ix3 s t j) = (scSrc x0 x1 x2 x3).gb (s.val * 2048 + t.val) j := by
  rw [val_main_v4_apply, val_main_v1_apply, val_main_v0_apply]
  show x0 _ = x0 _
  congr 1; funext a; apply Fin.ext
  have h0 := s.isLt; have h1 := t.isLt; have h2 := j.isLt
  match a with
  | ⟨0, _⟩ => show ((s.val * 2048 + t.val) * 3072 + j.val) / 3072 = (s.val * 2048 + t.val) % 8192; omega
  | ⟨1, _⟩ => show ((s.val * 2048 + t.val) * 3072 + j.val) % 3072 = j.val; omega

theorem v5_at (s : Fin 4) (t : Fin 2048) (j : Fin 1024) : val_main_v5 (F := Ideal) x0 (ix3 s t j) = (scSrc x0 x1 x2 x3).gc (s.val * 2048 + t.val) j := by
  rw [val_main_v5_apply, val_main_v1_apply, val_main_v0_apply]
  show x0 _ = x0 _
  congr 1; funext a; apply Fin.ext
  have h0 := s.isLt; have h1 := t.isLt; have h2 := j.isLt
  match a with
  | ⟨0, _⟩ => show ((s.val * 2048 + t.val) * 3072 + (1024 + j.val)) / 3072 = (s.val * 2048 + t.val) % 8192; omega
  | ⟨1, _⟩ => show ((s.val * 2048 + t.val) * 3072 + (1024 + j.val)) % 3072 = 1024 + j.val; omega

theorem v6_at (s : Fin 4) (t : Fin 2048) (j : Fin 1024) : val_main_v6 (F := Ideal) x0 (ix3 s t j) = (scSrc x0 x1 x2 x3).v (s.val * 2048 + t.val) j := by
  rw [val_main_v6_apply, val_main_v1_apply, val_main_v0_apply]
  show x0 _ = x0 _
  congr 1; funext a; apply Fin.ext
  have h0 := s.isLt; have h1 := t.isLt; have h2 := j.isLt
  match a with
  | ⟨0, _⟩ => show ((s.val * 2048 + t.val) * 3072 + (2048 + j.val)) / 3072 = (s.val * 2048 + t.val) % 8192; omega
  | ⟨1, _⟩ => show ((s.val * 2048 + t.val) * 3072 + (2048 + j.val)) % 3072 = 2048 + j.val; omega

theorem v3_at (s : Fin 4) (t : Fin 2048) (j : Fin 1024) : val_main_v3 (F := Ideal) x1 (ix3 s t j) = (scSrc x0 x1 x2 x3).dq (s.val * 2048 + t.val) j := by
  rw [val_main_v3_apply, val_main_v2_apply]
  show x1 _ = x1 _
  congr 1; funext a; apply Fin.ext
  have h0 := s.isLt; have h1 := t.isLt; have h2 := j.isLt
  match a with
  | ⟨0, _⟩ => show ((s.val * 2048 + t.val) * 1024 + j.val) / 1024 = (s.val * 2048 + t.val) % 8192; omega
  | ⟨1, _⟩ => show ((s.val * 2048 + t.val) * 1024 + j.val) % 1024 = j.val; omega

theorem v7_at (s : Fin 4) (t : Fin 2048) (j : Fin 1024) : val_main_v7 (F := Ideal) x0 (ix3 s t j) = (scSrc x0 x1 x2 x3).p (s.val * 2048 + t.val) j := by
  rw [val_main_v7_apply, v5_at x0 x1 x2 x3, v6_at x0 x1 x2 x3]; rfl

/-- The gated values behind two rows of zeros, `k` rows back. -/
theorem v9_at (s : Fin 4) (t : Fin 2048) (j : Fin 1024) (k : ℕ) (hk : k ≤ 2) (q : Fin 2050) (hq : q.val + k = t.val + 2) :
    val_main_v9 (F := Ideal) x0 (ix3 s q j) = ScSrc.back (scSrc x0 x1 x2 x3).p k (s.val * 2048 + t.val) j := by
  have h0 := s.isLt; have h1 := t.isLt
  unfold val_main_v9 ScSrc.back
  have hm : (s.val * 2048 + t.val) % 2048 = t.val := by omega
  rw [hm]
  split
  · rename_i h
    refine (concatenate_pair_apply_right (t := S4x2050x1024) (s₁ := S4x2x1024) (s₂ := S4x2048x1024) (1 : Fin 3) _ _ _ _ rfl rfl
      (ix3 s (⟨t.val - k, by omega⟩ : Fin 2048) j) (by
      intro b hb
      match b with
      | ⟨0, _⟩ => rfl
      | ⟨1, _⟩ => exact absurd rfl hb
      | ⟨2, _⟩ => rfl) (by show t.val - k + 2 = q.val; omega)).trans ?_
    rw [v7_at x0 x1 x2 x3]
    congr 1; show s.val * 2048 + (t.val - k) = _; omega
  · rename_i h
    refine (concatenate_pair_apply_left (t := S4x2050x1024) (s₁ := S4x2x1024) (s₂ := S4x2048x1024) (1 : Fin 3) _ _ _ _ rfl
      (ix3 s (⟨q.val, by omega⟩ : Fin 2) j) (by
      intro b
      match b with
      | ⟨0, _⟩ => rfl
      | ⟨1, _⟩ => rfl
      | ⟨2, _⟩ => rfl)).trans ?_
    rw [val_main_v8_apply]
    exact Ideal.ofBits_zero_f32

theorem back0 (f : ℕ → Fin 1024 → EReal) (r : ℕ) (j : Fin 1024) : ScSrc.back f 0 r j = f r j := by
  unfold ScSrc.back; rw [if_pos (Nat.zero_le _), Nat.sub_zero]

theorem v11_at (s : Fin 4) (t : Fin 2048) (j : Fin 1024) :
    val_main_v11 (F := Ideal) x0 (ix3 s t j) = ScSrc.back (scSrc x0 x1 x2 x3).p 2 (s.val * 2048 + t.val) j := by
  rw [val_main_v11_apply]
  exact (congrArg (val_main_v9 (F := Ideal) x0) (eq_ix3 _)).trans (v9_at x0 x1 x2 x3 s t j 2 le_rfl (⟨t.val, by omega⟩ : Fin 2050) rfl)
theorem v20_at (s : Fin 4) (t : Fin 2048) (j : Fin 1024) :
    val_main_v20 (F := Ideal) x0 (ix3 s t j) = ScSrc.back (scSrc x0 x1 x2 x3).p 1 (s.val * 2048 + t.val) j := by
  rw [val_main_v20_apply]
  exact (congrArg (val_main_v9 (F := Ideal) x0) (eq_ix3 _)).trans (v9_at x0 x1 x2 x3 s t j 1 (by decide) (⟨1 + t.val, by omega⟩ : Fin 2050) (by show 1 + t.val + 1 = _; omega))
theorem v27_at (s : Fin 4) (t : Fin 2048) (j : Fin 1024) :
    val_main_v27 (F := Ideal) x0 (ix3 s t j) = (scSrc x0 x1 x2 x3).p (s.val * 2048 + t.val) j := by
  rw [val_main_v27_apply]
  exact ((congrArg (val_main_v9 (F := Ideal) x0) (eq_ix3 _)).trans (v9_at x0 x1 x2 x3 s t j 0 (by decide) (⟨2 + t.val, by omega⟩ : Fin 2050) (by show 2 + t.val + 0 = _; omega))).trans (back0 _ _ _)

theorem v15_at (s : Fin 4) (t : Fin 2048) (j : Fin 1024) : val_main_v15 (F := Ideal) x2 (ix3 s t j) = x2 (ix2 0 j) := by
  rw [val_main_v15_apply, val_main_v14_apply, val_main_v13_apply, val_main_v12_apply]
  congr 1; funext a; apply Fin.ext
  have h2 := j.isLt
  match a with
  | ⟨0, _⟩ => rfl
  | ⟨1, _⟩ => show j.val % 1024 = j.val; omega

theorem v24_at (s : Fin 4) (t : Fin 2048) (j : Fin 1024) : val_main_v24 (F := Ideal) x2 (ix3 s t j) = x2 (ix2 1 j) := by
  rw [val_main_v24_apply, val_main_v23_apply, val_main_v22_apply, val_main_v21_apply]
  congr 1; funext a; apply Fin.ext
  have h2 := j.isLt
  match a with
  | ⟨0, _⟩ => rfl
  | ⟨1, _⟩ => show j.val % 1024 = j.val; omega

theorem v31_at (s : Fin 4) (t : Fin 2048) (j : Fin 1024) : val_main_v31 (F := Ideal) x2 (ix3 s t j) = x2 (ix2 2 j) := by
  rw [val_main_v31_apply, val_main_v30_apply, val_main_v29_apply, val_main_v28_apply]
  congr 1; funext a; apply Fin.ext
  have h2 := j.isLt
  match a with
  | ⟨0, _⟩ => rfl
  | ⟨1, _⟩ => show j.val % 1024 = j.val; omega

theorem v63_at (s : Fin 4) (t : Fin 2048) (j : Fin 1024) : val_main_v63 (F := Ideal) x2 (ix3 s t j) = x2 (ix2 0 j) := by
  rw [val_main_v63_apply, val_main_v14_apply, val_main_v13_apply, val_main_v12_apply]
  congr 1; funext a; apply Fin.ext
  have h2 := j.isLt
  match a with
  | ⟨0, _⟩ => rfl
  | ⟨1, _⟩ => show j.val % 1024 = j.val; omega

theorem v49_at (s : Fin 4) (t : Fin 2048) (j : Fin 1024) : val_main_v49 (F := Ideal) x2 (ix3 s t j) = x2 (ix2 1 j) := by
  rw [val_main_v49_apply, val_main_v23_apply, val_main_v22_apply, val_main_v21_apply]
  congr 1; funext a; apply Fin.ext
  have h2 := j.isLt
  match a with
  | ⟨0, _⟩ => rfl
  | ⟨1, _⟩ => show j.val % 1024 = j.val; omega

theorem v40_at (s : Fin 4) (t : Fin 2048) (j : Fin 1024) : val_main_v40 (F := Ideal) x2 (ix3 s t j) = x2 (ix2 2 j) := by
  rw [val_main_v40_apply, val_main_v30_apply, val_main_v29_apply, val_main_v28_apply]
  congr 1; funext a; apply Fin.ext
  have h2 := j.isLt
  match a with
  | ⟨0, _⟩ => rfl
  | ⟨1, _⟩ => show j.val % 1024 = j.val; omega

theorem v18_at (s : Fin 4) (t : Fin 2048) (j : Fin 1024) : val_main_v18 (F := Ideal) x3 (ix3 s t j) = x3 (ix1 j) := by
  rw [val_main_v18_apply, val_main_v17_apply]
  congr 1; funext a; apply Fin.ext
  match a with
  | ⟨0, _⟩ => rfl

theorem v33_at (s : Fin 4) (t : Fin 2048) (j : Fin 1024) :
    val_main_v33 (F := Ideal) x0 x2 x3 (ix3 s t j) = (scSrc x0 x1 x2 x3).u (s.val * 2048 + t.val) j := by
  rw [val_main_v33_apply, val_main_v26_apply, val_main_v19_apply, val_main_v16_apply, val_main_v25_apply, val_main_v32_apply,
    v15_at, v24_at, v31_at, v18_at, v11_at x0 x1 x2 x3, v20_at x0 x1 x2 x3, v27_at x0 x1 x2 x3]
  show ScSrc.back (scSrc x0 x1 x2 x3).p 2 (s.val * 2048 + t.val) j * x2 (ix2 0 j) + x3 (ix1 j)
    + ScSrc.back (scSrc x0 x1 x2 x3).p 1 (s.val * 2048 + t.val) j * x2 (ix2 1 j)
    + (scSrc x0 x1 x2 x3).p (s.val * 2048 + t.val) j * x2 (ix2 2 j) = (scSrc x0 x1 x2 x3).u (s.val * 2048 + t.val) j
  rw [add_comm (_ * x2 (ix2 0 j)), mul_comm _ (x2 (ix2 0 j)), mul_comm _ (x2 (ix2 1 j)), mul_comm _ (x2 (ix2 2 j))]
  rfl

theorem v35_at (s : Fin 4) (t : Fin 2048) (j : Fin 1024) :
    val_main_v35 (F := Ideal) x0 x1 (ix3 s t j) = (scSrc x0 x1 x2 x3).du (s.val * 2048 + t.val) j := by
  rw [val_main_v35_apply, v4_at x0 x1 x2 x3, v3_at x0 x1 x2 x3]
  exact mul_comm _ _

theorem v36_at (s : Fin 4) (t : Fin 2048) (j : Fin 1024) :
    val_main_v36 (F := Ideal) x0 x1 x2 x3 (ix3 s t j) = (scSrc x0 x1 x2 x3).dh 0 (s.val * 2048 + t.val) j := by
  rw [val_main_v36_apply, v3_at x0 x1 x2 x3, v33_at x0 x1 x2 x3]; rfl

/-- A product with a filter row behind `lo` rows of zeros, read two rows on: `2 - lo` rows ahead. -/
theorem pad_at (lo hi : ℕ) (hlo : lo ≤ 2) (x : Vec Ideal S4x2048x1024 .f32) (z : Vec Ideal S_ .f32) (hz : ∀ i, z i = 0)
    (h : S4x2048x1024.Pads ![0, lo, 0] ![0, hi, 0] ![0, 0, 0] S4x2050x1024) (hu : 0 < S_.numel)
    (w : EReal) (f : ℕ → Fin 1024 → EReal) (s : Fin 4) (j : Fin 1024) (hx : ∀ t : Fin 2048, x (ix3 s t j) = f (s.val * 2048 + t.val) j * w)
    (t : Fin 2048) (q : Fin 2050) (hq : q.val = t.val + 2) :
    pad S4x2050x1024 ![0, lo, 0] ![0, hi, 0] ![0, 0, 0] x z h hu (ix3 s q j) = w * ScSrc.ahead f (2 - lo) (s.val * 2048 + t.val) j := by
  have h1 := t.isLt; have h0 := s.isLt
  have hm : (s.val * 2048 + t.val) % 2048 = t.val := by omega
  unfold ScSrc.ahead
  rw [hm]
  split
  · rename_i hl
    refine (pad_apply_of_inside (t := S4x2050x1024) (s := S4x2048x1024) _ _ _ _ _ _ _ _ (ix3 s (⟨t.val + (2 - lo), by omega⟩ : Fin 2048) j) (fun a => by
      match a with
      | ⟨0, _⟩ => show s.val = 0 + s.val * 1; omega
      | ⟨1, _⟩ => show q.val = lo + (t.val + (2 - lo)) * 1; omega
      | ⟨2, _⟩ => show j.val = 0 + j.val * 1; omega)).trans ?_
    rw [hx, mul_comm]
    congr 2
    show s.val * 2048 + (t.val + (2 - lo)) = _; omega
  · rename_i hl
    refine (pad_apply_of_not_inside (t := S4x2050x1024) (s := S4x2048x1024) _ _ _ _ _ _ _ _ (1 : Fin 3) (fun hh => hl ?_)).trans ?_
    · have h3 : (q.val - lo) / (0 + 1) < 2048 := hh.2.2
      omega
    · rw [hz, mul_zero]

theorem ahead0 (f : ℕ → Fin 1024 → EReal) (s : Fin 4) (t : Fin 2048) (j : Fin 1024) :
    ScSrc.ahead f 0 (s.val * 2048 + t.val) j = f (s.val * 2048 + t.val) j := by
  have h1 := t.isLt
  unfold ScSrc.ahead; rw [if_pos (by omega)]; rfl

theorem v72_at (s : Fin 4) (t : Fin 2048) (j : Fin 1024) :
    val_main_v72 (F := Ideal) x0 x1 x2 (ix3 s t j) = (scSrc x0 x1 x2 x3).dp (s.val * 2048 + t.val) j := by
  have h1 := t.isLt
  rw [val_main_v72_apply]
  have e : idx_main_v72 (ix3 s t j) = ix3 s (⟨2 + t.val, by omega⟩ : Fin 2050) j := eq_ix3 _
  rw [e, val_main_v70_apply, val_main_v56_apply]
  unfold val_main_v45 val_main_v55 val_main_v69
  rw [pad_at 2 0 le_rfl _ val_main_cst_4 (fun _ => Ideal.ofBits_zero_f32) _ _ (x2 (ix2 2 j)) (scSrc x0 x1 x2 x3).du s j (fun t' => by
      rw [val_main_v41_apply, v35_at x0 x1 x2 x3, v40_at]; rfl) t _ (by show 2 + t.val = _; omega),
    pad_at 1 1 (by decide) _ val_main_cst_8 (fun _ => Ideal.ofBits_zero_f32) _ _ (x2 (ix2 1 j)) (scSrc x0 x1 x2 x3).du s j (fun t' => by
      rw [val_main_v50_apply, v35_at x0 x1 x2 x3, v49_at]; rfl) t _ (by show 2 + t.val = _; omega),
    pad_at 0 2 (by decide) _ val_main_cst_14 (fun _ => Ideal.ofBits_zero_f32) _ _ (x2 (ix2 0 j)) (scSrc x0 x1 x2 x3).du s j (fun t' => by
      rw [val_main_v64_apply, v35_at x0 x1 x2 x3, v63_at]; rfl) t _ (by show 2 + t.val = _; omega), ahead0]
  rfl

theorem v74_at (s : Fin 4) (t : Fin 2048) (j : Fin 1024) :
    val_main_v74 (F := Ideal) x0 x1 x2 (ix3 s t j) = (scSrc x0 x1 x2 x3).dh 1 (s.val * 2048 + t.val) j := by
  rw [val_main_v74_apply, v72_at x0 x1 x2 x3, v6_at x0 x1 x2 x3]; rfl

theorem v73_at (s : Fin 4) (t : Fin 2048) (j : Fin 1024) :
    val_main_v73 (F := Ideal) x0 x1 x2 (ix3 s t j) = (scSrc x0 x1 x2 x3).dh 2 (s.val * 2048 + t.val) j := by
  rw [val_main_v73_apply, v72_at x0 x1 x2 x3, v5_at x0 x1 x2 x3]
  exact mul_comm _ _

/-- The three gradients stacked. -/
theorem v78_at (k : Fin 3) (s : Fin 4) (t : Fin 2048) (j : Fin 1024) :
    val_main_v78 (F := Ideal) x0 x1 x2 x3 (ix4 k s t j) = (scSrc x0 x1 x2 x3).dh k (s.val * 2048 + t.val) j := by
  unfold val_main_v78
  match k with
  | 0 =>
    refine (concatenate_apply_piece (t := S3x4x2048x1024) (0 : Fin 4) _ _ (ix4 0 s t j) 0 (by show 0 < 3; decide) S1x4x2048x1024 _ rfl rfl 0 rfl
      (ix4 0 s t j) (fun b hb => ?_) rfl).trans ?_
    · match b with
      | ⟨0, _⟩ => exact absurd rfl hb
      | ⟨1, _⟩ => rfl
      | ⟨2, _⟩ => rfl
      | ⟨3, _⟩ => rfl
    · exact (val_main_v75_apply _ _ _ _ _).trans ((congrArg _ (eq_ix3 _)).trans (v36_at x0 x1 x2 x3 s t j))
  | 1 =>
    refine (concatenate_apply_piece (t := S3x4x2048x1024) (0 : Fin 4) _ _ (ix4 1 s t j) 1 (by show 1 < 3; decide) S1x4x2048x1024 _ rfl rfl 1 rfl
      (ix4 0 s t j) (fun b hb => ?_) rfl).trans ?_
    · match b with
      | ⟨0, _⟩ => exact absurd rfl hb
      | ⟨1, _⟩ => rfl
      | ⟨2, _⟩ => rfl
      | ⟨3, _⟩ => rfl
    · exact (val_main_v76_apply _ _ _ _).trans ((congrArg _ (eq_ix3 _)).trans (v74_at x0 x1 x2 x3 s t j))
  | 2 =>
    refine (concatenate_apply_piece (t := S3x4x2048x1024) (0 : Fin 4) _ _ (ix4 2 s t j) 2 (by show 2 < 3; decide) S1x4x2048x1024 _ rfl rfl 2 rfl
      (ix4 0 s t j) (fun b hb => ?_) rfl).trans ?_
    · match b with
      | ⟨0, _⟩ => exact absurd rfl hb
      | ⟨1, _⟩ => rfl
      | ⟨2, _⟩ => rfl
      | ⟨3, _⟩ => rfl
    · exact (val_main_v77_apply _ _ _ _).trans ((congrArg _ (eq_ix3 _)).trans (v73_at x0 x1 x2 x3 s t j))

theorem v80_eq : val_main_v80 (F := Ideal) x0 x1 x2 x3 = scDh (scSrc x0 x1 x2 x3) := by
  funext y
  obtain ⟨k, r, j, rfl⟩ : ∃ (k : Fin 3) (r : Fin 8192) (j : Fin 1024), y = ix3 k r j := ⟨y 0, y 1, y 2, eq_ix3 y⟩
  have hk := k.isLt; have hr := r.isLt; have hj := j.isLt
  rw [val_main_v80_apply, val_main_v79_apply]
  have e : idx_main_v79 (ix3 k r j) = ix4 k (⟨r.val / 2048, by omega⟩ : Fin 4) (⟨r.val % 2048, Nat.mod_lt _ (by decide)⟩ : Fin 2048) j := by
    funext a; apply Fin.ext
    match a with
    | ⟨0, _⟩ => show ((k.val * 8192 + r.val) * 1024 + j.val) / 8388608 = k.val; omega
    | ⟨1, _⟩ => show ((k.val * 8192 + r.val) * 1024 + j.val) / 2097152 % 4 = r.val / 2048; omega
    | ⟨2, _⟩ => show ((k.val * 8192 + r.val) * 1024 + j.val) / 1024 % 2048 = r.val % 2048; omega
    | ⟨3, _⟩ => show ((k.val * 8192 + r.val) * 1024 + j.val) % 1024 = j.val; omega
  rw [e]
  refine (v78_at x0 x1 x2 x3 k _ _ j).trans ?_
  show (scSrc x0 x1 x2 x3).dh k (r.val / 2048 * 2048 + r.val % 2048) j = (scSrc x0 x1 x2 x3).dh k r.val j
  rw [Nat.div_add_mod']

/-- A sum over sequences and their rows is the sum over all the rows. -/
theorem sum_rows (f : ℕ → EReal) : ∑ s : Fin 4, ∑ t : Fin 2048, f (s.val * 2048 + t.val) = ∑ r : Fin 8192, f r.val := sum_tiles 4 2048 f

/-- A sum over the rows, cast to three axes and summed again over the two unit ones. -/
theorem again (x : FVec Ideal S1x1x1024 .f32) (z : S_.Idx → Ideal .f32) (hz : ∀ i, z i = 0) (j : Fin 1024) :
    Host.reduceAdd x z reducesTo_S1x1x1024_S1024_d0_1 h_S_ (ix1 j) = x (ix3 0 0 j) := by
  refine (reduce01 (n0 := 1) (n1 := 1) (n2 := 1024) reducesTo_S1x1x1024_S1024_d0_1 x z h_S_ (hz _) j).trans ?_
  rw [Fin.sum_univ_one, Fin.sum_univ_one]

theorem v42_at (j : Fin 1024) : val_main_v42 (F := Ideal) x0 x1 (ix1 j) = ∑ r : Fin 8192, (scSrc x0 x1 x2 x3).dw 2 r.val j := by
  unfold val_main_v42
  refine (again (val_main_v39 (F := Ideal) x0 x1) (val_main_cst_2 (F := Ideal)) (fun _ => Ideal.ofBits_zero_f32) j).trans ?_
  rw [val_main_v39_apply]
  have e : idx_main_v39 (ix3 0 0 j) = ix1 j := by
    funext a; apply Fin.ext
    have h2 := j.isLt
    match a with
    | ⟨0, _⟩ => show _ = j.val; simp [idx_main_v39]
  rw [e]
  unfold val_main_v38
  refine (reduce01 _ _ _ _ Ideal.ofBits_zero_f32 j).trans ?_
  refine Eq.trans (Finset.sum_congr rfl fun s _ => Finset.sum_congr rfl fun t _ => ?_) (sum_rows fun r => (scSrc x0 x1 x2 x3).dw 2 r j)
  rw [val_main_v37_apply, v27_at x0 x1 x2 x3, v35_at x0 x1 x2 x3]
  exact mul_comm _ _

theorem v51_at (j : Fin 1024) : val_main_v51 (F := Ideal) x0 x1 (ix1 j) = ∑ r : Fin 8192, (scSrc x0 x1 x2 x3).dw 1 r.val j := by
  unfold val_main_v51
  refine (again (val_main_v48 (F := Ideal) x0 x1) (val_main_cst_6 (F := Ideal)) (fun _ => Ideal.ofBits_zero_f32) j).trans ?_
  rw [val_main_v48_apply]
  have e : idx_main_v48 (ix3 0 0 j) = ix1 j := by
    funext a; apply Fin.ext
    have h2 := j.isLt
    match a with
    | ⟨0, _⟩ => show _ = j.val; simp [idx_main_v48]
  rw [e]
  unfold val_main_v47
  refine (reduce01 _ _ _ _ Ideal.ofBits_zero_f32 j).trans ?_
  refine Eq.trans (Finset.sum_congr rfl fun s _ => Finset.sum_congr rfl fun t _ => ?_) (sum_rows fun r => (scSrc x0 x1 x2 x3).dw 1 r j)
  rw [val_main_v46_apply, v20_at x0 x1 x2 x3, v35_at x0 x1 x2 x3]
  exact mul_comm _ _

theorem v65_at (j : Fin 1024) : val_main_v65 (F := Ideal) x0 x1 (ix1 j) = ∑ r : Fin 8192, (scSrc x0 x1 x2 x3).dw 0 r.val j := by
  unfold val_main_v65
  refine (again (val_main_v62 (F := Ideal) x0 x1) (val_main_cst_12 (F := Ideal)) (fun _ => Ideal.ofBits_zero_f32) j).trans ?_
  rw [val_main_v62_apply]
  have e : idx_main_v62 (ix3 0 0 j) = ix1 j := by
    funext a; apply Fin.ext
    have h2 := j.isLt
    match a with
    | ⟨0, _⟩ => show _ = j.val; simp [idx_main_v62]
  rw [e]
  unfold val_main_v61
  refine (reduce01 _ _ _ _ Ideal.ofBits_zero_f32 j).trans ?_
  refine Eq.trans (Finset.sum_congr rfl fun s _ => Finset.sum_congr rfl fun t _ => ?_) (sum_rows fun r => (scSrc x0 x1 x2 x3).dw 0 r j)
  rw [val_main_v60_apply, v11_at x0 x1 x2 x3, v35_at x0 x1 x2 x3]
  exact mul_comm _ _

theorem v59_at (j : Fin 1024) : val_main_v59 (F := Ideal) x0 x1 (ix1 j) = ∑ r : Fin 8192, (scSrc x0 x1 x2 x3).du r.val j := by
  unfold val_main_v59
  refine (again (val_main_v58 (F := Ideal) x0 x1) (val_main_cst_10 (F := Ideal)) (fun _ => Ideal.ofBits_zero_f32) j).trans ?_
  rw [val_main_v58_apply]
  have e : idx_main_v58 (ix3 0 0 j) = ix1 j := by
    funext a; apply Fin.ext
    have h2 := j.isLt
    match a with
    | ⟨0, _⟩ => show _ = j.val; simp [idx_main_v58]
  rw [e]
  unfold val_main_v57
  refine (reduce01 _ _ _ _ Ideal.ofBits_zero_f32 j).trans ?_
  refine Eq.trans (Finset.sum_congr rfl fun s _ => Finset.sum_congr rfl fun t _ => ?_) (sum_rows fun r => (scSrc x0 x1 x2 x3).du r j)
  exact v35_at x0 x1 x2 x3 s t j

/-- A row padded with rows of zeros before it, read at its row. -/
theorem padRow_at (lo hi : ℕ) (x : Vec Ideal S1x1024 .f32) (z : Vec Ideal S_ .f32)
    (h : S1x1024.Pads ![lo, 0] ![hi, 0] ![0, 0] S3x1024) (hu : 0 < S_.numel) (k : Fin 3) (hk : k.val = lo) (j : Fin 1024) :
    pad S3x1024 ![lo, 0] ![hi, 0] ![0, 0] x z h hu (ix2 k j) = x (ix2 0 j) :=
  pad_apply_of_inside (t := S3x1024) (s := S1x1024) _ _ _ _ _ _ _ _ (ix2 0 j) (fun a => by
    match a with
    | ⟨0, _⟩ => show k.val = lo + 0 * 1; omega
    | ⟨1, _⟩ => show j.val = 0 + j.val * 1; omega)

/-- … and zero elsewhere. -/
theorem padRow_ne (lo hi : ℕ) (x : Vec Ideal S1x1024 .f32) (z : Vec Ideal S_ .f32) (hz : ∀ i, z i = 0)
    (h : S1x1024.Pads ![lo, 0] ![hi, 0] ![0, 0] S3x1024) (hu : 0 < S_.numel) (k : Fin 3) (hk : k.val ≠ lo) (j : Fin 1024) :
    pad S3x1024 ![lo, 0] ![hi, 0] ![0, 0] x z h hu (ix2 k j) = 0 :=
  (pad_apply_of_not_inside (t := S3x1024) (s := S1x1024) _ _ _ _ _ _ _ _ (0 : Fin 2) (fun hh => by
    have h1 : lo ≤ k.val := hh.1
    have h3 : (k.val - lo) / (0 + 1) < 1 := hh.2.2
    omega)).trans (hz _)

theorem v68_eq : val_main_v68 (F := Ideal) x0 x1 = scDw (scSrc x0 x1 x2 x3) := by
  funext y
  obtain ⟨k, j, rfl⟩ : ∃ (k : Fin 3) (j : Fin 1024), y = ix2 k j := ⟨y 0, y 1, eq_ix2 y⟩
  rw [val_main_v68_apply, val_main_v54_apply]
  unfold val_main_v44 val_main_v53 val_main_v67
  have e43 : val_main_v43 (F := Ideal) x0 x1 (ix2 0 j) = ∑ r : Fin 8192, (scSrc x0 x1 x2 x3).dw 2 r.val j :=
    (val_main_v43_apply x0 x1 _).trans ((congrArg (val_main_v42 (F := Ideal) x0 x1) (eq_ix1 _)).trans (v42_at x0 x1 x2 x3 j))
  have e52 : val_main_v52 (F := Ideal) x0 x1 (ix2 0 j) = ∑ r : Fin 8192, (scSrc x0 x1 x2 x3).dw 1 r.val j :=
    (val_main_v52_apply x0 x1 _).trans ((congrArg (val_main_v51 (F := Ideal) x0 x1) (eq_ix1 _)).trans (v51_at x0 x1 x2 x3 j))
  have e66 : val_main_v66 (F := Ideal) x0 x1 (ix2 0 j) = ∑ r : Fin 8192, (scSrc x0 x1 x2 x3).dw 0 r.val j :=
    (val_main_v66_apply x0 x1 _).trans ((congrArg (val_main_v65 (F := Ideal) x0 x1) (eq_ix1 _)).trans (v65_at x0 x1 x2 x3 j))
  match k with
  | 0 =>
    rw [padRow_ne 2 0 _ val_main_cst_3 (fun _ => Ideal.ofBits_zero_f32) _ _ 0 (by decide) j, padRow_ne 1 1 _ val_main_cst_7 (fun _ => Ideal.ofBits_zero_f32) _ _ 0 (by decide) j, padRow_at 0 2 _ _ _ _ 0 rfl j, e66]
    show (0 : EReal) + 0 + _ = _
    rw [zero_add, zero_add]; rfl
  | 1 =>
    rw [padRow_ne 2 0 _ val_main_cst_3 (fun _ => Ideal.ofBits_zero_f32) _ _ 1 (by decide) j, padRow_at 1 1 _ _ _ _ 1 rfl j, padRow_ne 0 2 _ val_main_cst_13 (fun _ => Ideal.ofBits_zero_f32) _ _ 1 (by decide) j, e52]
    show (0 : EReal) + _ + 0 = _
    rw [zero_add, add_zero]; rfl
  | 2 =>
    rw [padRow_at 2 0 _ _ _ _ 2 rfl j, padRow_ne 1 1 _ val_main_cst_7 (fun _ => Ideal.ofBits_zero_f32) _ _ 2 (by decide) j, padRow_ne 0 2 _ val_main_cst_13 (fun _ => Ideal.ofBits_zero_f32) _ _ 2 (by decide) j, e43]
    show _ + (0 : EReal) + 0 = _
    rw [add_zero, add_zero]; rfl

theorem v81_eq : val_main_v81 (F := Ideal) x0 x1 = scDb (scSrc x0 x1 x2 x3) := by
  funext y
  obtain ⟨k, j, rfl⟩ : ∃ (k : Fin 1) (j : Fin 1024), y = ix2 k j := ⟨y 0, y 1, eq_ix2 y⟩
  rw [val_main_v81_apply]
  exact (congrArg (val_main_v59 (F := Ideal) x0 x1) (eq_ix1 _)).trans (v59_at x0 x1 x2 x3 j)

variable (m : (ℓ : Loc nD τ sig) → Buf (Elt Ideal) ℓ) (ρ : Dev nD → PrngReg)

/-- What the reference's three results end holding: the three gradients, and its arguments as they were. -/
theorem run_gradients : θ_run defs (onTc (τ := τ) (main (F := Ideal))) ⟨m, fun _ => 0, ρ⟩ fun r => ∀ c : Dev nD,
      r.2.mem ((c.tc : Thread nD τ).loc main_v80) = scDh (scSrc (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v68) = scDw (scSrc (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v81) = scDb (scSrc (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v80_eq m c).trans (v80_eq _ _ _ _)),
    (h c).2.1.trans ((val_main_v68_eq m c).trans (v68_eq _ _ _ _)), (h c).2.2.1.trans ((val_main_v81_eq _ _).trans (v81_eq _ _ _ _)), (h c).2.2.2⟩)
    (run m ρ)

end Cert.ScRefIdeal.Value
-- ==== Proof.Products.lean ====
/- Matrix products read at an index over the exact reals, and sums taken tile by tile. -/
module

public import Idealize.ShloMosaic.Lib.MatmulPlain
public import Idealize.ShloMosaic.Lib.IdealHost
public import Idealize.ShloMosaic.Lib.Pipeline.Value
public import Idealize.ShloMosaic.Lib.ValueIdx

@[expose] public section

noncomputable section

open Idealize.ShloMosaic Idealize.ShloMosaic.TcCoe Idealize.SL.Sem Idealize.ShloMosaic.ValueIdx
open scoped BigOperators

namespace Products

/-- The product that contracts the leading axis of both operands. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)), rfl, by show 0 < 2; decide, fun a => by fin_cases a <;> rfl⟩

/-- Contracting the leading axis of both operands, at a row and a column: the sum over the contracted rows. -/
theorem matmul_tn_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn K M N) prec lhs rhs acc (ix2 r c) = acc (ix2 r c) + ∑ k : Fin K, lhs (ix2 k r) * rhs (ix2 k c) := by
  rw [Ideal.matmul_apply, ← Equiv.sum_comp (contrEquiv1 (tn K M N) K rfl rfl).symm]
  refine congrArg (acc (ix2 r c) + ·) (Finset.sum_congr rfl fun k _ => ?_)
  have hk := contrEquiv1_symm_val (tn K M N) K rfl rfl k
  have el : (tn K M N).lhsIdx (ix2 r c) ((contrEquiv1 (tn K M N) K rfl rfl).symm k) = ix2 k r := by
    funext a; apply Fin.ext
    match a with
    | ⟨0, _⟩ => exact hk
    | ⟨1, _⟩ => rfl
  have er : (tn K M N).rhsIdx (ix2 r c) ((contrEquiv1 (tn K M N) K rfl rfl).symm k) = ix2 k c := by
    funext a; apply Fin.ext
    match a with
    | ⟨0, _⟩ => exact hk
    | ⟨1, _⟩ => rfl
  rw [el, er]

/-- A sum over tiles of rows is the sum over the rows. -/
theorem sum_tiles (A B : ℕ) (f : ℕ → EReal) :
    ∑ s ∈ Finset.range A, ∑ a : Fin B, f (s * B + a.val) = ∑ r : Fin (A * B), f r.val := by
  rw [Finset.sum_range, ← Fintype.sum_prod_type', ← Equiv.sum_comp finProdFinEquiv]
  refine Finset.sum_congr rfl fun p _ => congrArg f ?_
  rw [finProdFinEquiv_apply_val]; ring

/-- The all-zero constant is zero. -/
theorem zero_const {s : Shape} (i : s.Idx) : (constant (F := Ideal) s .f32 0x00000000#32) i = 0 := Ideal.ofBits_zero_f32

/-- A leading axis of one dropped, at a row and a column. -/
theorem dropUnit_apply {A B : ℕ} {e : EltTy} (x : Vec Ideal ⟨3, ![1, A, B]⟩ e)
    (h : (⟨3, ![1, A, B]⟩ : Shape).ShapeCasts ⟨2, ![A, B]⟩) (a : Fin A) (b : Fin B) :
    shapeCast ⟨2, ![A, B]⟩ x h (ix2 a b) = x (ix3 0 a b) :=
  shapeCast_apply x h (ix2 a b) (ix3 0 a b) (by
    rewrite [Shape.rowMajor_val_three, Shape.rowMajor_val_two]
    show (0 * A + a.val) * B + b.val = a.val * B + b.val
    rw [zero_mul, zero_add])

/-- An array read at natural-number coordinates. -/
def at2 {A B : ℕ} [NeZero A] [NeZero B] (x : (⟨2, ![A, B]⟩ : Shape).Idx → EReal) (r j : ℕ) : EReal :=
  x (ix2 (Fin.ofNat A r) (Fin.ofNat B j))

/-- Stacked parts read as one array with the parts' columns side by side. -/
def at3 {G A B : ℕ} [NeZero G] [NeZero A] [NeZero B] (x : (⟨3, ![G, A, B]⟩ : Shape).Idx → EReal) (r j : ℕ) : EReal :=
  x (ix3 (Fin.ofNat G (j / B)) (Fin.ofNat A r) (Fin.ofNat B (j % B)))

/-- A number of `ofNat` within range. -/
theorem ofNat_val {n : ℕ} [NeZero n] {a : ℕ} (h : a < n) : (Fin.ofNat n a).val = a := Nat.mod_eq_of_lt h

end Products

end
-- ==== Proof.FfnDownDwRun.lean ====
/- The weight gradient of the feed-forward down projection: the kernel leaves the sum over every row of the input times the gradient. -/
module

public import proofs.«01_k».proof.Proof.Products
public import proofs.«01_k».proof.Proof.Gen.FfnDownDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the feed-forward down projection: at an input column and an output column, the sum over the rows. -/
def FfnDownDwOf (x : Vec Ideal ⟨2, ![8192, 2816]⟩ .bf16) (y : Vec Ideal ⟨2, ![8192, 1024]⟩ .bf16) : Vec Ideal ⟨2, ![2816, 1024]⟩ .bf16 := fun i =>
  ∑ r : Fin 8192, Products.at2 (A := 8192) (B := 2816) x r.val (i 0).val * Products.at2 (A := 8192) (B := 1024) y r.val (i 1).val

namespace Cert.FfnDownDwIdeal.Value

open Cert.FfnDownDwIdeal Cert.FfnDownDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1408 .bf16) (harg3 : arg3.IsWhole) (arg4 : Memref sig .tc .vmem S1x2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (x0 : Vec Ideal S2048x1408 .bf16) (x1 : Vec Ideal S1x2048x1024 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1408x1024) hz2, View.ld_unit_zero (S := S2048x1408) hz2, View.ld_unit_zero (S := S1x2048x1024) hz3]
  rw [View.canon_cons_unit_zero (S := S1408x1024) hz2, View.readCov_unit_zero (S := S1408x1024) _ hz2]

/-- A middle step adds its product. -/
theorem sout0_B_0_eq (c : Dev nD) (i : grid0.Coords) (arg3 : Memref sig .tc .vmem S2048x1408 .bf16) (harg3 : arg3.IsWhole) (arg4 : Memref sig .tc .vmem S1x2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : ¬cond0_1 i) (x0 : Vec Ideal S2048x1408 .bf16) (x1 : Vec Ideal S1x2048x1024 .bf16) (xs0 : Vec Ideal S1408x1024 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1408x1024) hz2, View.ld_unit_zero (S := S2048x1408) hz2, View.ld_unit_zero (S := S1x2048x1024) hz3]
  rw [View.canon_unit_zero (S := S1408x1024) hz2]

/-- The last step adds its product and hands the accumulator out. -/
theorem out0_C_2_eq (c : Dev nD) (i : grid0.Coords) (arg3 : Memref sig .tc .vmem S2048x1408 .bf16) (harg3 : arg3.IsWhole) (arg4 : Memref sig .tc .vmem S1x2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (x0 : Vec Ideal S2048x1408 .bf16) (x1 : Vec Ideal S1x2048x1024 .bf16) (xs0 : Vec Ideal S1408x1024 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1408x1024) hz2, View.ld_unit_zero (S := S2048x1408) hz2, View.ld_unit_zero (S := S1x2048x1024) hz3]
  rw [View.canon_unit_zero (S := S1408x1024) hz2, View.readCov_unit_zero (S := S1408x1024) _ hz2]

/-- The reset is zero. -/
theorem pay1_at (i : S1408x1024.Idx) : k0_pay1 (F := Ideal) i = 0 := by
  unfold k0_pay1; rw [shapeCast_self]; exact Ideal.ofBits_zero_f32

/-- One step's accumulation at an index. -/
theorem pay2_at (acc : Vec Ideal S1408x1024 .f32) (a : Vec Ideal S2048x1408 .bf16) (b : Vec Ideal S1x2048x1024 .bf16) (p : Fin 1408) (q : Fin 1024) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1408) (N := 1024) none a (shapeCast S2048x1024 b shapeCasts_S1x2048x1024_S2048x1024) (constant S1408x1024 .f32 0x00000000#32) p q).trans ?_
  rw [zero_const, zero_add]
  exact Finset.sum_congr rfl fun k _ => congrArg (a (ix2 k p) * ·) (dropUnit_apply (A := 2048) (B := 1024) b _ k q)

variable (m : (ℓ : Loc nD τ sig) → Buf (Elt Ideal) ℓ) (ρ : Dev nD → PrngReg)

theorem ltN (t : Fin cfg0.N) : t.val < 8 := lt_of_lt_of_eq t.isLt N_0
theorem ix0 : ∀ t : Fin grid0.N, win0_0.index t 0 = t.val % 4 ∧ win0_0.index t 1 = t.val / 4 / 1 := by decide +kernel
theorem ix1' : ∀ t : Fin grid0.N, win0_1.index t 0 = t.val / 4 % 1 / 1 ∧ win0_1.index t 1 = t.val % 4 ∧ win0_1.index t 2 = t.val / 4 % 1 % 1 := by decide +kernel

/-- The first window's block: a tile of rows and input columns. -/
theorem blk0 (c : Dev nD) (t : Fin cfg0.N) (k : Fin 2048) (p : Fin 1408) :
    iblk m c 0 t (ix2 k p) = at2 (A := 8192) (B := 2816) (m ((c.tc : Thread nD τ).loc main_arg0)) (t.val % 4 * 2048 + k.val) (t.val / 4 / 1 * 1408 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1408 + 1 * p.val = (t.val / 4 / 1 * 1408 + p.val) % 2816; rw [(ix0 t).2]; omega

/-- The second window's block: the same tile of rows, and output columns. -/
theorem blk1 (c : Dev nD) (t : Fin cfg0.N) (k : Fin 2048) (q : Fin 1024) :
    iblk m c 1 t (ix3 0 k q) = at2 (A := 8192) (B := 1024) (m ((c.tc : Thread nD τ).loc main_arg1)) (t.val % 4 * 2048 + k.val) (t.val / 4 % 1 * 1024 + q.val) := by
  have ht := ltN t; have hk := k.isLt; have hq := q.isLt
  unfold iblk
  rw [View.read_apply]
  show (StableHlo.after hostOps0 (fun b => m (c, b)) (Proc.tc.devRef main_v0) : S1x8192x1024.Idx → EReal) _ = m ((c.tc : Thread nD τ).loc main_arg1) _
  have e : (StableHlo.after hostOps0 (fun b => m (c, b)) (Proc.tc.devRef main_v0) : S1x8192x1024.Idx → EReal)
      = broadcastInDim S1x8192x1024 ![1, 2] bcast_S8192x1024_S1x8192x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 2048 + 1 * k.val = (t.val % 4 * 2048 + k.val) % 8192; rw [(ix1' t).2.1]; omega
  | ⟨1, _⟩ => show win0_1.index t 2 * 1024 + 1 * q.val = (t.val / 4 % 1 * 1024 + q.val) % 1024; rw [(ix1' t).2.2]; omega

/-- What one tile of rows adds at an index. -/
abbrev term (c : Dev nD) (n : ℕ) (p : Fin 1408) (q : Fin 1024) (s : ℕ) : EReal :=
  ∑ k : Fin 2048, at2 (A := 8192) (B := 2816) (m ((c.tc : Thread nD τ).loc main_arg0)) (s * 2048 + k.val) (n / 4 / 1 * 1408 + p.val)
    * at2 (A := 8192) (B := 1024) (m ((c.tc : Thread nD τ).loc main_arg1)) (s * 2048 + k.val) (n / 4 % 1 * 1024 + q.val)

theorem step_at (c : Dev nD) (t : Fin cfg0.N) (acc : Vec Ideal S1408x1024 .f32) (p : Fin 1408) (q : Fin 1024) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1408) (q : Fin 1024) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1408) (q : Fin 1024) :
    (outsAt0 m c t.val t.isLt).1 (ix2 p q)
      = ∑ r : Fin 8192, at2 (A := 8192) (B := 2816) (m ((c.tc : Thread nD τ).loc main_arg0)) r.val (t.val / 4 / 1 * 1408 + p.val) * at2 (A := 8192) (B := 1024) (m ((c.tc : Thread nD τ).loc main_arg1)) r.val (t.val / 4 % 1 * 1024 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 2816) (m ((c.tc : Thread nD τ).loc main_arg0)) r (t.val / 4 / 1 * 1408 + p.val) * at2 (A := 8192) (B := 1024) (m ((c.tc : Thread nD τ).loc main_arg1)) r (t.val / 4 % 1 * 1024 + q.val))

/-- The array the run leaves. -/
theorem final (c : Dev nD) : G2 m c = FfnDownDwOf (m ((c.tc : Thread nD τ).loc main_arg0)) (m ((c.tc : Thread nD τ).loc main_arg1)) := by
  funext i
  have h0 : (i 0).val < 2816 := (i 0).isLt
  have h1 : (i 1).val < 1024 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 1 * 1408 + (i 0).val % 1408 = (i 0).val := by unfold pt2Of run2Of; omega
  have e1 : pt2Of i / 4 % 1 * 1024 + (i 1).val % 1024 = (i 1).val := by unfold pt2Of run2Of; omega
  exact congr (congrArg (fun a b : EReal => a * b) (congrArg (at2 (A := 8192) (B := 2816) (m ((c.tc : Thread nD τ).loc main_arg0)) r.val) e0)) (congrArg (at2 (A := 8192) (B := 1024) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = FfnDownDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.FfnDownDwIdeal.Value

end
-- ==== Proof.FfnDownDwRef.lean ====
/- The reference of the weight gradient of the feed-forward down projection: the same sum over the rows, and the two runs together. -/
module

public import proofs.«01_k».proof.Proof.Products
public import proofs.«01_k».proof.Proof.FfnDownDwRun
public import proofs.«01_k».proof.Proof.Gen.FfnDownDwRefIdeal.Run
public import proofs.«01_k».proof.Proof.Gen.FfnDownDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.FfnDownDwRefIdeal.Value

open Cert.FfnDownDwRefIdeal Cert.FfnDownDwRefIdeal.Gen Cert.FfnDownDwRefIdeal.Read Products

variable (x0 : Vec Ideal S8192x2816 .bf16) (x1 : Vec Ideal S8192x1024 .bf16)

/-- The gradient's argument at a row and a column. -/
theorem y_at (r : Fin 8192) (j : Fin 1024) : val_main_v3 (F := Ideal) x1 (ix2 r j) = at2 (A := 8192) (B := 1024) x1 r.val j.val := by
  have hr := r.isLt; have hj := j.isLt
  rw [val_main_v3_apply]
  show x1 _ = x1 _
  congr 1; funext b; apply Fin.ext
  match b with
  | ⟨0, _⟩ => show r.val = r.val % 8192; omega
  | ⟨1, _⟩ => show j.val = j.val % 1024; omega

/-- The layer's input at a row and a column. -/
theorem x_at (r : Fin 8192) (j : Fin 2816) : val_main_v0 (F := Ideal) x0 (ix2 r j) = at2 (A := 8192) (B := 2816) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 2816; omega

/-- The reference's weight gradient. -/
theorem v7_eq : val_main_v7 (F := Ideal) x0 x1 = FfnDownDwOf x0 x1 := by
  funext i
  rw [val_main_v7_apply, val_main_v5_apply, val_main_v4_apply]
  refine (show _ = ∑ k : Fin 8192, _ from rfl).trans (Finset.sum_congr rfl fun k _ => ?_)
  refine Eq.trans ?_ (mul_comm (at2 (A := 8192) (B := 1024) x1 k.val (i 1).val) _)
  exact congr (congrArg (fun a b : EReal => a * b) ((congrArg (val_main_v3 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v7) = FfnDownDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (v7_eq _ _)), (h c).2⟩)
    (run m ρ)

/-- The reference ends with its arguments as they were; it declares no semaphore. -/
theorem ends : Cert.quiescent_FfnDownDwRefIdeal := fun m ρ _ =>
  (θ_run _ _ _).mono (fun _ h => ⟨fun c => (h c).2, funext fun g => nomatch g.2⟩) (Cert.FfnDownDwRefIdeal.Value.run m ρ)

end Cert.FfnDownDwRefIdeal.Value

/-- The kernel's value and the reference's, over the ideal reals. -/
theorem FfnDownDw_value : Cert.algebraic_FfnDownDwIdeal_FfnDownDwRefIdeal :=
  fun m g m' g' _ h => ⟨fun c => FfnDownDwOf (m ((c.tc : Thread Cert.FfnDownDwIdeal.nD Cert.FfnDownDwIdeal.τ).loc Cert.FfnDownDwIdeal.main_arg0)) (m ((c.tc : Thread Cert.FfnDownDwIdeal.nD Cert.FfnDownDwIdeal.τ).loc Cert.FfnDownDwIdeal.main_arg1)),
    Cert.FfnDownDwIdeal.Value.run_value m g,
    (θ_run _ _ _).mono (fun r hr c => by
      have hc := hr c
      obtain ⟨a0, a1⟩ := h c
      refine ⟨hc.1.trans ?_, hc.2⟩ <;> rw [a0, a1] <;> rfl)
      (Cert.FfnDownDwRefIdeal.Value.run_value m' g')⟩

end
-- ==== Proof.FfnUpDwRun.lean ====
/- The weight gradient of the feed-forward up projection: the kernel leaves the sum over every row of the input times the gradient. -/
module

public import proofs.«01_k».proof.Proof.Products
public import proofs.«01_k».proof.Proof.Gen.FfnUpDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the feed-forward up projection: at an input column and an output column, the sum over the rows. -/
def FfnUpDwOf (x : Vec Ideal ⟨2, ![8192, 1024]⟩ .bf16) (y : Vec Ideal ⟨3, ![2, 8192, 2816]⟩ .bf16) : Vec Ideal ⟨2, ![1024, 5632]⟩ .bf16 := fun i =>
  ∑ r : Fin 8192, Products.at2 (A := 8192) (B := 1024) x r.val (i 0).val * Products.at3 (G := 2) (A := 8192) (B := 2816) y r.val (i 1).val

namespace Cert.FfnUpDwIdeal.Value

open Cert.FfnUpDwIdeal Cert.FfnUpDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1024x1408 .bf16) (harg5 : arg5.IsWhole) (arg6 : Memref sig .tc .vmem S1024x1408 .f32) (harg6 : arg6.IsWhole) (hc0 : cond0_0 i) (hc1 : ¬cond0_1 i) (x0 : Vec Ideal S2048x1024 .bf16) (x1 : Vec Ideal S1x2048x1408 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1024x1408) hz2, View.ld_unit_zero (S := S2048x1024) hz2, View.ld_unit_zero (S := S1x2048x1408) hz3]
  rw [View.canon_cons_unit_zero (S := S1024x1408) hz2, View.readCov_unit_zero (S := S1024x1408) _ hz2]

/-- A middle step adds its product. -/
theorem sout0_B_0_eq (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1024x1408 .bf16) (harg5 : arg5.IsWhole) (arg6 : Memref sig .tc .vmem S1024x1408 .f32) (harg6 : arg6.IsWhole) (hc0 : ¬cond0_0 i) (hc1 : ¬cond0_1 i) (x0 : Vec Ideal S2048x1024 .bf16) (x1 : Vec Ideal S1x2048x1408 .bf16) (xs0 : Vec Ideal S1024x1408 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1024x1408) hz2, View.ld_unit_zero (S := S2048x1024) hz2, View.ld_unit_zero (S := S1x2048x1408) hz3]
  rw [View.canon_unit_zero (S := S1024x1408) hz2]

/-- The last step adds its product and hands the accumulator out. -/
theorem out0_C_2_eq (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1024x1408 .bf16) (harg5 : arg5.IsWhole) (arg6 : Memref sig .tc .vmem S1024x1408 .f32) (harg6 : arg6.IsWhole) (hc0 : ¬cond0_0 i) (hc1 : cond0_1 i) (x0 : Vec Ideal S2048x1024 .bf16) (x1 : Vec Ideal S1x2048x1408 .bf16) (xs0 : Vec Ideal S1024x1408 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1408) hz2, View.ld_unit_zero (S := S2048x1024) hz2, View.ld_unit_zero (S := S1x2048x1408) hz3]
  rw [View.canon_unit_zero (S := S1024x1408) hz2, View.readCov_unit_zero (S := S1024x1408) _ hz2]

/-- The reset is zero. -/
theorem pay1_at (i : S1024x1408.Idx) : k0_pay1 (F := Ideal) i = 0 := by
  unfold k0_pay1; rw [shapeCast_self]; exact Ideal.ofBits_zero_f32

/-- One step's accumulation at an index. -/
theorem pay2_at (acc : Vec Ideal S1024x1408 .f32) (a : Vec Ideal S2048x1024 .bf16) (b : Vec Ideal S1x2048x1408 .bf16) (p : Fin 1024) (q : Fin 1408) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1024) (N := 1408) none a (shapeCast S2048x1408 b shapeCasts_S1x2048x1408_S2048x1408) (constant S1024x1408 .f32 0x00000000#32) p q).trans ?_
  rw [zero_const, zero_add]
  exact Finset.sum_congr rfl fun k _ => congrArg (a (ix2 k p) * ·) (dropUnit_apply (A := 2048) (B := 1408) b _ k q)

variable (m : (ℓ : Loc nD τ sig) → Buf (Elt Ideal) ℓ) (ρ : Dev nD → PrngReg)

theorem ltN (t : Fin cfg0.N) : t.val < 16 := lt_of_lt_of_eq t.isLt N_0
theorem ix0 : ∀ t : Fin grid0.N, win0_0.index t 0 = t.val % 4 ∧ win0_0.index t 1 = t.val / 4 / 4 := by decide +kernel
theorem ix1' : ∀ t : Fin grid0.N, win0_1.index t 0 = t.val / 4 % 4 / 2 ∧ win0_1.index t 1 = t.val % 4 ∧ win0_1.index t 2 = t.val / 4 % 4 % 2 := by decide +kernel

/-- The first window's block: a tile of rows and input columns. -/
theorem blk0 (c : Dev nD) (t : Fin cfg0.N) (k : Fin 2048) (p : Fin 1024) :
    iblk m c 0 t (ix2 k p) = at2 (A := 8192) (B := 1024) (m ((c.tc : Thread nD τ).loc main_arg0)) (t.val % 4 * 2048 + k.val) (t.val / 4 / 4 * 1024 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1024 + 1 * p.val = (t.val / 4 / 4 * 1024 + p.val) % 1024; rw [(ix0 t).2]; omega

/-- The second window's block: the same tile of rows, and output columns. -/
theorem blk1 (c : Dev nD) (t : Fin cfg0.N) (k : Fin 2048) (q : Fin 1408) :
    iblk m c 1 t (ix3 0 k q) = at3 (G := 2) (A := 8192) (B := 2816) (m ((c.tc : Thread nD τ).loc main_arg1)) (t.val % 4 * 2048 + k.val) (t.val / 4 % 4 * 1408 + q.val) := by
  have ht := ltN t; have hk := k.isLt; have hq := q.isLt
  unfold iblk
  rw [View.read_apply]
  show m ((c.tc : Thread nD τ).loc main_arg1) _ = m ((c.tc : Thread nD τ).loc main_arg1) _
  congr 1; funext b; apply Fin.ext
  match b with
  | ⟨0, _⟩ => show win0_1.index t 0 * 1 + 1 * 0 = (t.val / 4 % 4 * 1408 + q.val) / 2816 % 2; rw [(ix1' t).1]; omega
  | ⟨1, _⟩ => show win0_1.index t 1 * 2048 + 1 * k.val = (t.val % 4 * 2048 + k.val) % 8192; rw [(ix1' t).2.1]; omega
  | ⟨2, _⟩ => show win0_1.index t 2 * 1408 + 1 * q.val = (t.val / 4 % 4 * 1408 + q.val) % 2816 % 2816; rw [(ix1' t).2.2]; omega

/-- What one tile of rows adds at an index. -/
abbrev term (c : Dev nD) (n : ℕ) (p : Fin 1024) (q : Fin 1408) (s : ℕ) : EReal :=
  ∑ k : Fin 2048, at2 (A := 8192) (B := 1024) (m ((c.tc : Thread nD τ).loc main_arg0)) (s * 2048 + k.val) (n / 4 / 4 * 1024 + p.val)
    * at3 (G := 2) (A := 8192) (B := 2816) (m ((c.tc : Thread nD τ).loc main_arg1)) (s * 2048 + k.val) (n / 4 % 4 * 1408 + q.val)

theorem step_at (c : Dev nD) (t : Fin cfg0.N) (acc : Vec Ideal S1024x1408 .f32) (p : Fin 1024) (q : Fin 1408) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1024) (q : Fin 1408) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1024) (q : Fin 1408) :
    (outsAt0 m c t.val t.isLt).1 (ix2 p q)
      = ∑ r : Fin 8192, at2 (A := 8192) (B := 1024) (m ((c.tc : Thread nD τ).loc main_arg0)) r.val (t.val / 4 / 4 * 1024 + p.val) * at3 (G := 2) (A := 8192) (B := 2816) (m ((c.tc : Thread nD τ).loc main_arg1)) r.val (t.val / 4 % 4 * 1408 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 1024) (m ((c.tc : Thread nD τ).loc main_arg0)) r (t.val / 4 / 4 * 1024 + p.val) * at3 (G := 2) (A := 8192) (B := 2816) (m ((c.tc : Thread nD τ).loc main_arg1)) r (t.val / 4 % 4 * 1408 + q.val))

/-- The array the run leaves. -/
theorem final (c : Dev nD) : G2 m c = FfnUpDwOf (m ((c.tc : Thread nD τ).loc main_arg0)) (m ((c.tc : Thread nD τ).loc main_arg1)) := by
  funext i
  have h0 : (i 0).val < 1024 := (i 0).isLt
  have h1 : (i 1).val < 5632 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 4 * 1024 + (i 0).val % 1024 = (i 0).val := by unfold pt2Of run2Of; omega
  have e1 : pt2Of i / 4 % 4 * 1408 + (i 1).val % 1408 = (i 1).val := by unfold pt2Of run2Of; omega
  exact congr (congrArg (fun a b : EReal => a * b) (congrArg (at2 (A := 8192) (B := 1024) (m ((c.tc : Thread nD τ).loc main_arg0)) r.val) e0)) (congrArg (at3 (G := 2) (A := 8192) (B := 2816) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v0) = FfnUpDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.FfnUpDwIdeal.Value

end
-- ==== Proof.FfnUpDwRef.lean ====
/- The reference of the weight gradient of the feed-forward up projection: the same sum over the rows, and the two runs together. -/
module

public import proofs.«01_k».proof.Proof.Products
public import proofs.«01_k».proof.Proof.FfnUpDwRun
public import proofs.«01_k».proof.Proof.Gen.FfnUpDwRefIdeal.Run
public import proofs.«01_k».proof.Proof.Gen.FfnUpDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.FfnUpDwRefIdeal.Value

open Cert.FfnUpDwRefIdeal Cert.FfnUpDwRefIdeal.Gen Cert.FfnUpDwRefIdeal.Read Products

variable (x0 : Vec Ideal S8192x1024 .bf16) (x1 : Vec Ideal S2x8192x2816 .bf16)

/-- The parts side by side, at a row and a column. -/
theorem cat_at (r : Fin 8192) (j : Fin 5632) : val_main_v7 (F := Ideal) x1 (ix2 r j) = at3 (G := 2) (A := 8192) (B := 2816) x1 r.val j.val := by
  have hr := r.isLt; have hj := j.isLt
  unfold val_main_v7
  by_cases h0 : j.val < 2816
  · refine (concatenate_apply_piece (t := S8192x5632) (1 : Fin 2) _ _ (ix2 r j) 0 (by show 0 < 2; decide) S8192x2816 _ rfl rfl 0 rfl
      (ix2 r (⟨j.val - 0, by omega⟩ : Fin 2816)) (fun b hb => ?_) (by show 0 + (j.val - 0) = j.val; omega)).trans ?_
    · match b with
      | ⟨0, _⟩ => rfl
      | ⟨1, _⟩ => exact absurd rfl hb
    · rw [val_main_v4_apply, val_main_v3_apply]
      show x1 _ = x1 _
      congr 1; funext b; apply Fin.ext
      match b with
      | ⟨0, _⟩ => show 0 = j.val / 2816 % 2; omega
      | ⟨1, _⟩ => show (r.val * 2816 + (j.val - 0)) / 2816 % 8192 = r.val % 8192; omega
      | ⟨2, _⟩ => show (r.val * 2816 + (j.val - 0)) % 2816 = j.val % 2816 % 2816; omega
  refine (concatenate_apply_piece (t := S8192x5632) (1 : Fin 2) _ _ (ix2 r j) 1 (by show 1 < 2; decide) S8192x2816 _ rfl rfl 2816 rfl
      (ix2 r (⟨j.val - 2816, by omega⟩ : Fin 2816)) (fun b hb => ?_) (by show 2816 + (j.val - 2816) = j.val; omega)).trans ?_
  · match b with
    | ⟨0, _⟩ => rfl
    | ⟨1, _⟩ => exact absurd rfl hb
  · rw [val_main_v6_apply, val_main_v5_apply]
    show x1 _ = x1 _
    congr 1; funext b; apply Fin.ext
    match b with
    | ⟨0, _⟩ => show 1 + 0 = j.val / 2816 % 2; omega
    | ⟨1, _⟩ => show (r.val * 2816 + (j.val - 2816)) / 2816 % 8192 = r.val % 8192; omega
    | ⟨2, _⟩ => show (r.val * 2816 + (j.val - 2816)) % 2816 = j.val % 2816 % 2816; omega

/-- The gradient's argument at a row and a column. -/
theorem y_at (r : Fin 8192) (j : Fin 5632) : val_main_v8 (F := Ideal) x1 (ix2 r j) = at3 (G := 2) (A := 8192) (B := 2816) x1 r.val j.val := by
  rw [val_main_v8_apply]
  exact cat_at x1 r j

/-- The layer's input at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The reference's weight gradient. -/
theorem v12_eq : val_main_v12 (F := Ideal) x0 x1 = FfnUpDwOf x0 x1 := by
  funext i
  rw [val_main_v12_apply, val_main_v10_apply, val_main_v9_apply]
  refine (show _ = ∑ k : Fin 8192, _ from rfl).trans (Finset.sum_congr rfl fun k _ => ?_)
  refine Eq.trans ?_ (mul_comm (at3 (G := 2) (A := 8192) (B := 2816) x1 k.val (i 1).val) _)
  exact congr (congrArg (fun a b : EReal => a * b) ((congrArg (val_main_v8 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v12) = FfnUpDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v12_eq _ _).trans (v12_eq _ _)), (h c).2⟩)
    (run m ρ)

/-- The reference ends with its arguments as they were; it declares no semaphore. -/
theorem ends : Cert.quiescent_FfnUpDwRefIdeal := fun m ρ _ =>
  (θ_run _ _ _).mono (fun _ h => ⟨fun c => (h c).2, funext fun g => nomatch g.2⟩) (Cert.FfnUpDwRefIdeal.Value.run m ρ)

end Cert.FfnUpDwRefIdeal.Value

/-- The kernel's value and the reference's, over the ideal reals. -/
theorem FfnUpDw_value : Cert.algebraic_FfnUpDwIdeal_FfnUpDwRefIdeal :=
  fun m g m' g' _ h => ⟨fun c => FfnUpDwOf (m ((c.tc : Thread Cert.FfnUpDwIdeal.nD Cert.FfnUpDwIdeal.τ).loc Cert.FfnUpDwIdeal.main_arg0)) (m ((c.tc : Thread Cert.FfnUpDwIdeal.nD Cert.FfnUpDwIdeal.τ).loc Cert.FfnUpDwIdeal.main_arg1)),
    Cert.FfnUpDwIdeal.Value.run_value m g,
    (θ_run _ _ _).mono (fun r hr c => by
      have hc := hr c
      obtain ⟨a0, a1⟩ := h c
      refine ⟨hc.1.trans ?_, hc.2⟩ <;> rw [a0, a1] <;> rfl)
      (Cert.FfnUpDwRefIdeal.Value.run_value m' g')⟩

end
-- ==== Proof.ScOutDwRun.lean ====
/- The weight gradient of the short convolution's output projection: the kernel leaves the sum over every row of the input times the gradient. -/
module

public import proofs.«01_k».proof.Proof.Products
public import proofs.«01_k».proof.Proof.Gen.ScOutDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the short convolution's output projection: at an input column and an output column, the sum over the rows. -/
def ScOutDwOf (x : Vec Ideal ⟨2, ![8192, 1024]⟩ .bf16) (y : Vec Ideal ⟨2, ![8192, 1024]⟩ .bf16) : Vec Ideal ⟨2, ![1024, 1024]⟩ .bf16 := fun i =>
  ∑ r : Fin 8192, Products.at2 (A := 8192) (B := 1024) x r.val (i 0).val * Products.at2 (A := 8192) (B := 1024) y r.val (i 1).val

namespace Cert.ScOutDwIdeal.Value

open Cert.ScOutDwIdeal Cert.ScOutDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec Ideal S2048x1024 .bf16) (x1 : Vec Ideal S1x2048x1024 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_cons_unit_zero (S := S1024x1024) hz2, View.readCov_unit_zero (S := S1024x1024) _ hz2]

/-- A middle step adds its product. -/
theorem sout0_B_0_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 : Vec Ideal S2048x1024 .bf16) (x1 : Vec Ideal S1x2048x1024 .bf16) (xs0 : Vec Ideal S1024x1024 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_unit_zero (S := S1024x1024) hz2]

/-- The last step adds its product and hands the accumulator out. -/
theorem out0_C_2_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S2048x1024 .bf16) (x1 : Vec Ideal S1x2048x1024 .bf16) (xs0 : Vec Ideal S1024x1024 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_unit_zero (S := S1024x1024) hz2, View.readCov_unit_zero (S := S1024x1024) _ hz2]

/-- The reset is zero. -/
theorem pay1_at (i : S1024x1024.Idx) : k0_pay1 (F := Ideal) i = 0 := by
  unfold k0_pay1; rw [shapeCast_self]; exact Ideal.ofBits_zero_f32

/-- One step's accumulation at an index. -/
theorem pay2_at (acc : Vec Ideal S1024x1024 .f32) (a : Vec Ideal S2048x1024 .bf16) (b : Vec Ideal S1x2048x1024 .bf16) (p : Fin 1024) (q : Fin 1024) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1024) (N := 1024) none a (shapeCast S2048x1024 b shapeCasts_S1x2048x1024_S2048x1024) (constant S1024x1024 .f32 0x00000000#32) p q).trans ?_
  rw [zero_const, zero_add]
  exact Finset.sum_congr rfl fun k _ => congrArg (a (ix2 k p) * ·) (dropUnit_apply (A := 2048) (B := 1024) b _ k q)

variable (m : (ℓ : Loc nD τ sig) → Buf (Elt Ideal) ℓ) (ρ : Dev nD → PrngReg)

theorem ltN (t : Fin cfg0.N) : t.val < 4 := lt_of_lt_of_eq t.isLt N_0
theorem ix0 : ∀ t : Fin grid0.N, win0_0.index t 0 = t.val % 4 ∧ win0_0.index t 1 = t.val / 4 / 1 := by decide +kernel
theorem ix1' : ∀ t : Fin grid0.N, win0_1.index t 0 = t.val / 4 % 1 / 1 ∧ win0_1.index t 1 = t.val % 4 ∧ win0_1.index t 2 = t.val / 4 % 1 % 1 := by decide +kernel

/-- The first window's block: a tile of rows and input columns. -/
theorem blk0 (c : Dev nD) (t : Fin cfg0.N) (k : Fin 2048) (p : Fin 1024) :
    iblk m c 0 t (ix2 k p) = at2 (A := 8192) (B := 1024) (m ((c.tc : Thread nD τ).loc main_arg0)) (t.val % 4 * 2048 + k.val) (t.val / 4 / 1 * 1024 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1024 + 1 * p.val = (t.val / 4 / 1 * 1024 + p.val) % 1024; rw [(ix0 t).2]; omega

/-- The second window's block: the same tile of rows, and output columns. -/
theorem blk1 (c : Dev nD) (t : Fin cfg0.N) (k : Fin 2048) (q : Fin 1024) :
    iblk m c 1 t (ix3 0 k q) = at2 (A := 8192) (B := 1024) (m ((c.tc : Thread nD τ).loc main_arg1)) (t.val % 4 * 2048 + k.val) (t.val / 4 % 1 * 1024 + q.val) := by
  have ht := ltN t; have hk := k.isLt; have hq := q.isLt
  unfold iblk
  rw [View.read_apply]
  show (StableHlo.after hostOps0 (fun b => m (c, b)) (Proc.tc.devRef main_v0) : S1x8192x1024.Idx → EReal) _ = m ((c.tc : Thread nD τ).loc main_arg1) _
  have e : (StableHlo.after hostOps0 (fun b => m (c, b)) (Proc.tc.devRef main_v0) : S1x8192x1024.Idx → EReal)
      = broadcastInDim S1x8192x1024 ![1, 2] bcast_S8192x1024_S1x8192x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 2048 + 1 * k.val = (t.val % 4 * 2048 + k.val) % 8192; rw [(ix1' t).2.1]; omega
  | ⟨1, _⟩ => show win0_1.index t 2 * 1024 + 1 * q.val = (t.val / 4 % 1 * 1024 + q.val) % 1024; rw [(ix1' t).2.2]; omega

/-- What one tile of rows adds at an index. -/
abbrev term (c : Dev nD) (n : ℕ) (p : Fin 1024) (q : Fin 1024) (s : ℕ) : EReal :=
  ∑ k : Fin 2048, at2 (A := 8192) (B := 1024) (m ((c.tc : Thread nD τ).loc main_arg0)) (s * 2048 + k.val) (n / 4 / 1 * 1024 + p.val)
    * at2 (A := 8192) (B := 1024) (m ((c.tc : Thread nD τ).loc main_arg1)) (s * 2048 + k.val) (n / 4 % 1 * 1024 + q.val)

theorem step_at (c : Dev nD) (t : Fin cfg0.N) (acc : Vec Ideal S1024x1024 .f32) (p : Fin 1024) (q : Fin 1024) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1024) (q : Fin 1024) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1024) (q : Fin 1024) :
    (outsAt0 m c t.val t.isLt).1 (ix2 p q)
      = ∑ r : Fin 8192, at2 (A := 8192) (B := 1024) (m ((c.tc : Thread nD τ).loc main_arg0)) r.val (t.val / 4 / 1 * 1024 + p.val) * at2 (A := 8192) (B := 1024) (m ((c.tc : Thread nD τ).loc main_arg1)) r.val (t.val / 4 % 1 * 1024 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 1024) (m ((c.tc : Thread nD τ).loc main_arg0)) r (t.val / 4 / 1 * 1024 + p.val) * at2 (A := 8192) (B := 1024) (m ((c.tc : Thread nD τ).loc main_arg1)) r (t.val / 4 % 1 * 1024 + q.val))

/-- The array the run leaves. -/
theorem final (c : Dev nD) : G2 m c = ScOutDwOf (m ((c.tc : Thread nD τ).loc main_arg0)) (m ((c.tc : Thread nD τ).loc main_arg1)) := by
  funext i
  have h0 : (i 0).val < 1024 := (i 0).isLt
  have h1 : (i 1).val < 1024 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 1 * 1024 + (i 0).val % 1024 = (i 0).val := by unfold pt2Of run2Of; omega
  have e1 : pt2Of i / 4 % 1 * 1024 + (i 1).val % 1024 = (i 1).val := by unfold pt2Of run2Of; omega
  exact congr (congrArg (fun a b : EReal => a * b) (congrArg (at2 (A := 8192) (B := 1024) (m ((c.tc : Thread nD τ).loc main_arg0)) r.val) e0)) (congrArg (at2 (A := 8192) (B := 1024) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = ScOutDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.ScOutDwIdeal.Value

end
-- ==== Proof.ScOutDwRef.lean ====
/- The reference of the weight gradient of the short convolution's output projection: the same sum over the rows, and the two runs together. -/
module

public import proofs.«01_k».proof.Proof.Products
public import proofs.«01_k».proof.Proof.ScOutDwRun
public import proofs.«01_k».proof.Proof.Gen.ScOutDwRefIdeal.Run
public import proofs.«01_k».proof.Proof.Gen.ScOutDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScOutDwRefIdeal.Value

open Cert.ScOutDwRefIdeal Cert.ScOutDwRefIdeal.Gen Cert.ScOutDwRefIdeal.Read Products

variable (x0 : Vec Ideal S8192x1024 .bf16) (x1 : Vec Ideal S8192x1024 .bf16)

/-- The gradient's argument at a row and a column. -/
theorem y_at (r : Fin 8192) (j : Fin 1024) : val_main_v3 (F := Ideal) x1 (ix2 r j) = at2 (A := 8192) (B := 1024) x1 r.val j.val := by
  have hr := r.isLt; have hj := j.isLt
  rw [val_main_v3_apply]
  show x1 _ = x1 _
  congr 1; funext b; apply Fin.ext
  match b with
  | ⟨0, _⟩ => show r.val = r.val % 8192; omega
  | ⟨1, _⟩ => show j.val = j.val % 1024; omega

/-- The layer's input at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The reference's weight gradient. -/
theorem v7_eq : val_main_v7 (F := Ideal) x0 x1 = ScOutDwOf x0 x1 := by
  funext i
  rw [val_main_v7_apply, val_main_v5_apply, val_main_v4_apply]
  refine (show _ = ∑ k : Fin 8192, _ from rfl).trans (Finset.sum_congr rfl fun k _ => ?_)
  refine Eq.trans ?_ (mul_comm (at2 (A := 8192) (B := 1024) x1 k.val (i 1).val) _)
  exact congr (congrArg (fun a b : EReal => a * b) ((congrArg (val_main_v3 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v7) = ScOutDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (v7_eq _ _)), (h c).2⟩)
    (run m ρ)

/-- The reference ends with its arguments as they were; it declares no semaphore. -/
theorem ends : Cert.quiescent_ScOutDwRefIdeal := fun m ρ _ =>
  (θ_run _ _ _).mono (fun _ h => ⟨fun c => (h c).2, funext fun g => nomatch g.2⟩) (Cert.ScOutDwRefIdeal.Value.run m ρ)

end Cert.ScOutDwRefIdeal.Value

/-- The kernel's value and the reference's, over the ideal reals. -/
theorem ScOutDw_value : Cert.algebraic_ScOutDwIdeal_ScOutDwRefIdeal :=
  fun m g m' g' _ h => ⟨fun c => ScOutDwOf (m ((c.tc : Thread Cert.ScOutDwIdeal.nD Cert.ScOutDwIdeal.τ).loc Cert.ScOutDwIdeal.main_arg0)) (m ((c.tc : Thread Cert.ScOutDwIdeal.nD Cert.ScOutDwIdeal.τ).loc Cert.ScOutDwIdeal.main_arg1)),
    Cert.ScOutDwIdeal.Value.run_value m g,
    (θ_run _ _ _).mono (fun r hr c => by
      have hc := hr c
      obtain ⟨a0, a1⟩ := h c
      refine ⟨hc.1.trans ?_, hc.2⟩ <;> rw [a0, a1] <;> rfl)
      (Cert.ScOutDwRefIdeal.Value.run_value m' g')⟩

end
-- ==== Proof.ScInDwRun.lean ====
/- The weight gradient of the short convolution's input projection: the kernel leaves the sum over every row of the input times the gradient. -/
module

public import proofs.«01_k».proof.Proof.Products
public import proofs.«01_k».proof.Proof.Gen.ScInDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the short convolution's input projection: at an input column and an output column, the sum over the rows. -/
def ScInDwOf (x : Vec Ideal ⟨2, ![8192, 1024]⟩ .bf16) (y : Vec Ideal ⟨3, ![3, 8192, 1024]⟩ .bf16) : Vec Ideal ⟨2, ![1024, 3072]⟩ .bf16 := fun i =>
  ∑ r : Fin 8192, Products.at2 (A := 8192) (B := 1024) x r.val (i 0).val * Products.at3 (G := 3) (A := 8192) (B := 1024) y r.val (i 1).val

namespace Cert.ScInDwIdeal.Value

open Cert.ScInDwIdeal Cert.ScInDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec Ideal S2048x1024 .bf16) (x1 : Vec Ideal S1x2048x1024 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_cons_unit_zero (S := S1024x1024) hz2, View.readCov_unit_zero (S := S1024x1024) _ hz2]

/-- A middle step adds its product. -/
theorem sout0_B_0_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 : Vec Ideal S2048x1024 .bf16) (x1 : Vec Ideal S1x2048x1024 .bf16) (xs0 : Vec Ideal S1024x1024 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_unit_zero (S := S1024x1024) hz2]

/-- The last step adds its product and hands the accumulator out. -/
theorem out0_C_2_eq (c : Dev nD) (i : grid0.Coords) (arg3 : Memref sig .tc .vmem S2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S2048x1024 .bf16) (x1 : Vec Ideal S1x2048x1024 .bf16) (xs0 : Vec Ideal S1024x1024 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1024) hz2, View.ld_unit_zero (S := S2048x1024) hz2, View.ld_unit_zero (S := S1x2048x1024) hz3]
  rw [View.canon_unit_zero (S := S1024x1024) hz2, View.readCov_unit_zero (S := S1024x1024) _ hz2]

/-- The reset is zero. -/
theorem pay1_at (i : S1024x1024.Idx) : k0_pay1 (F := Ideal) i = 0 := by
  unfold k0_pay1; rw [shapeCast_self]; exact Ideal.ofBits_zero_f32

/-- One step's accumulation at an index. -/
theorem pay2_at (acc : Vec Ideal S1024x1024 .f32) (a : Vec Ideal S2048x1024 .bf16) (b : Vec Ideal S1x2048x1024 .bf16) (p : Fin 1024) (q : Fin 1024) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1024) (N := 1024) none a (shapeCast S2048x1024 b shapeCasts_S1x2048x1024_S2048x1024) (constant S1024x1024 .f32 0x00000000#32) p q).trans ?_
  rw [zero_const, zero_add]
  exact Finset.sum_congr rfl fun k _ => congrArg (a (ix2 k p) * ·) (dropUnit_apply (A := 2048) (B := 1024) b _ k q)

variable (m : (ℓ : Loc nD τ sig) → Buf (Elt Ideal) ℓ) (ρ : Dev nD → PrngReg)

theorem ltN (t : Fin cfg0.N) : t.val < 12 := lt_of_lt_of_eq t.isLt N_0
theorem ix0 : ∀ t : Fin grid0.N, win0_0.index t 0 = t.val % 4 ∧ win0_0.index t 1 = t.val / 4 / 3 := by decide +kernel
theorem ix1' : ∀ t : Fin grid0.N, win0_1.index t 0 = t.val / 4 % 3 / 1 ∧ win0_1.index t 1 = t.val % 4 ∧ win0_1.index t 2 = t.val / 4 % 3 % 1 := by decide +kernel

/-- The first window's block: a tile of rows and input columns. -/
theorem blk0 (c : Dev nD) (t : Fin cfg0.N) (k : Fin 2048) (p : Fin 1024) :
    iblk m c 0 t (ix2 k p) = at2 (A := 8192) (B := 1024) (m ((c.tc : Thread nD τ).loc main_arg0)) (t.val % 4 * 2048 + k.val) (t.val / 4 / 3 * 1024 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1024 + 1 * p.val = (t.val / 4 / 3 * 1024 + p.val) % 1024; rw [(ix0 t).2]; omega

/-- The second window's block: the same tile of rows, and output columns. -/
theorem blk1 (c : Dev nD) (t : Fin cfg0.N) (k : Fin 2048) (q : Fin 1024) :
    iblk m c 1 t (ix3 0 k q) = at3 (G := 3) (A := 8192) (B := 1024) (m ((c.tc : Thread nD τ).loc main_arg1)) (t.val % 4 * 2048 + k.val) (t.val / 4 % 3 * 1024 + q.val) := by
  have ht := ltN t; have hk := k.isLt; have hq := q.isLt
  unfold iblk
  rw [View.read_apply]
  show m ((c.tc : Thread nD τ).loc main_arg1) _ = m ((c.tc : Thread nD τ).loc main_arg1) _
  congr 1; funext b; apply Fin.ext
  match b with
  | ⟨0, _⟩ => show win0_1.index t 0 * 1 + 1 * 0 = (t.val / 4 % 3 * 1024 + q.val) / 1024 % 3; rw [(ix1' t).1]; omega
  | ⟨1, _⟩ => show win0_1.index t 1 * 2048 + 1 * k.val = (t.val % 4 * 2048 + k.val) % 8192; rw [(ix1' t).2.1]; omega
  | ⟨2, _⟩ => show win0_1.index t 2 * 1024 + 1 * q.val = (t.val / 4 % 3 * 1024 + q.val) % 1024 % 1024; rw [(ix1' t).2.2]; omega

/-- What one tile of rows adds at an index. -/
abbrev term (c : Dev nD) (n : ℕ) (p : Fin 1024) (q : Fin 1024) (s : ℕ) : EReal :=
  ∑ k : Fin 2048, at2 (A := 8192) (B := 1024) (m ((c.tc : Thread nD τ).loc main_arg0)) (s * 2048 + k.val) (n / 4 / 3 * 1024 + p.val)
    * at3 (G := 3) (A := 8192) (B := 1024) (m ((c.tc : Thread nD τ).loc main_arg1)) (s * 2048 + k.val) (n / 4 % 3 * 1024 + q.val)

theorem step_at (c : Dev nD) (t : Fin cfg0.N) (acc : Vec Ideal S1024x1024 .f32) (p : Fin 1024) (q : Fin 1024) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1024) (q : Fin 1024) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1024) (q : Fin 1024) :
    (outsAt0 m c t.val t.isLt).1 (ix2 p q)
      = ∑ r : Fin 8192, at2 (A := 8192) (B := 1024) (m ((c.tc : Thread nD τ).loc main_arg0)) r.val (t.val / 4 / 3 * 1024 + p.val) * at3 (G := 3) (A := 8192) (B := 1024) (m ((c.tc : Thread nD τ).loc main_arg1)) r.val (t.val / 4 % 3 * 1024 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 1024) (m ((c.tc : Thread nD τ).loc main_arg0)) r (t.val / 4 / 3 * 1024 + p.val) * at3 (G := 3) (A := 8192) (B := 1024) (m ((c.tc : Thread nD τ).loc main_arg1)) r (t.val / 4 % 3 * 1024 + q.val))

/-- The array the run leaves. -/
theorem final (c : Dev nD) : G2 m c = ScInDwOf (m ((c.tc : Thread nD τ).loc main_arg0)) (m ((c.tc : Thread nD τ).loc main_arg1)) := by
  funext i
  have h0 : (i 0).val < 1024 := (i 0).isLt
  have h1 : (i 1).val < 3072 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 3 * 1024 + (i 0).val % 1024 = (i 0).val := by unfold pt2Of run2Of; omega
  have e1 : pt2Of i / 4 % 3 * 1024 + (i 1).val % 1024 = (i 1).val := by unfold pt2Of run2Of; omega
  exact congr (congrArg (fun a b : EReal => a * b) (congrArg (at2 (A := 8192) (B := 1024) (m ((c.tc : Thread nD τ).loc main_arg0)) r.val) e0)) (congrArg (at3 (G := 3) (A := 8192) (B := 1024) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v0) = ScInDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.ScInDwIdeal.Value

end
-- ==== Proof.ScInDwRef.lean ====
/- The reference of the weight gradient of the short convolution's input projection: the same sum over the rows, and the two runs together. -/
module

public import proofs.«01_k».proof.Proof.Products
public import proofs.«01_k».proof.Proof.ScInDwRun
public import proofs.«01_k».proof.Proof.Gen.ScInDwRefIdeal.Run
public import proofs.«01_k».proof.Proof.Gen.ScInDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScInDwRefIdeal.Value

open Cert.ScInDwRefIdeal Cert.ScInDwRefIdeal.Gen Cert.ScInDwRefIdeal.Read Products

variable (x0 : Vec Ideal S8192x1024 .bf16) (x1 : Vec Ideal S3x8192x1024 .bf16)

/-- The parts side by side, at a row and a column. -/
theorem cat_at (r : Fin 8192) (j : Fin 3072) : val_main_v9 (F := Ideal) x1 (ix2 r j) = at3 (G := 3) (A := 8192) (B := 1024) x1 r.val j.val := by
  have hr := r.isLt; have hj := j.isLt
  unfold val_main_v9
  by_cases h0 : j.val < 1024
  · refine (concatenate_apply_piece (t := S8192x3072) (1 : Fin 2) _ _ (ix2 r j) 0 (by show 0 < 3; decide) S8192x1024 _ rfl rfl 0 rfl
      (ix2 r (⟨j.val - 0, by omega⟩ : Fin 1024)) (fun b hb => ?_) (by show 0 + (j.val - 0) = j.val; omega)).trans ?_
    · match b with
      | ⟨0, _⟩ => rfl
      | ⟨1, _⟩ => exact absurd rfl hb
    · rw [val_main_v4_apply, val_main_v3_apply]
      show x1 _ = x1 _
      congr 1; funext b; apply Fin.ext
      match b with
      | ⟨0, _⟩ => show 0 = j.val / 1024 % 3; omega
      | ⟨1, _⟩ => show (r.val * 1024 + (j.val - 0)) / 1024 % 8192 = r.val % 8192; omega
      | ⟨2, _⟩ => show (r.val * 1024 + (j.val - 0)) % 1024 = j.val % 1024 % 1024; omega
  by_cases h1 : j.val < 2048
  · refine (concatenate_apply_piece (t := S8192x3072) (1 : Fin 2) _ _ (ix2 r j) 1 (by show 1 < 3; decide) S8192x1024 _ rfl rfl 1024 rfl
      (ix2 r (⟨j.val - 1024, by omega⟩ : Fin 1024)) (fun b hb => ?_) (by show 1024 + (j.val - 1024) = j.val; omega)).trans ?_
    · match b with
      | ⟨0, _⟩ => rfl
      | ⟨1, _⟩ => exact absurd rfl hb
    · rw [val_main_v6_apply, val_main_v5_apply]
      show x1 _ = x1 _
      congr 1; funext b; apply Fin.ext
      match b with
      | ⟨0, _⟩ => show 1 + 0 = j.val / 1024 % 3; omega
      | ⟨1, _⟩ => show (r.val * 1024 + (j.val - 1024)) / 1024 % 8192 = r.val % 8192; omega
      | ⟨2, _⟩ => show (r.val * 1024 + (j.val - 1024)) % 1024 = j.val % 1024 % 1024; omega
  refine (concatenate_apply_piece (t := S8192x3072) (1 : Fin 2) _ _ (ix2 r j) 2 (by show 2 < 3; decide) S8192x1024 _ rfl rfl 2048 rfl
      (ix2 r (⟨j.val - 2048, by omega⟩ : Fin 1024)) (fun b hb => ?_) (by show 2048 + (j.val - 2048) = j.val; omega)).trans ?_
  · match b with
    | ⟨0, _⟩ => rfl
    | ⟨1, _⟩ => exact absurd rfl hb
  · rw [val_main_v8_apply, val_main_v7_apply]
    show x1 _ = x1 _
    congr 1; funext b; apply Fin.ext
    match b with
    | ⟨0, _⟩ => show 2 + 0 = j.val / 1024 % 3; omega
    | ⟨1, _⟩ => show (r.val * 1024 + (j.val - 2048)) / 1024 % 8192 = r.val % 8192; omega
    | ⟨2, _⟩ => show (r.val * 1024 + (j.val - 2048)) % 1024 = j.val % 1024 % 1024; omega

/-- The gradient's argument at a row and a column. -/
theorem y_at (r : Fin 8192) (j : Fin 3072) : val_main_v10 (F := Ideal) x1 (ix2 r j) = at3 (G := 3) (A := 8192) (B := 1024) x1 r.val j.val := by
  rw [val_main_v10_apply]
  exact cat_at x1 r j

/-- The layer's input at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The reference's weight gradient. -/
theorem v14_eq : val_main_v14 (F := Ideal) x0 x1 = ScInDwOf x0 x1 := by
  funext i
  rw [val_main_v14_apply, val_main_v12_apply, val_main_v11_apply]
  refine (show _ = ∑ k : Fin 8192, _ from rfl).trans (Finset.sum_congr rfl fun k _ => ?_)
  refine Eq.trans ?_ (mul_comm (at3 (G := 3) (A := 8192) (B := 1024) x1 k.val (i 1).val) _)
  exact congr (congrArg (fun a b : EReal => a * b) ((congrArg (val_main_v10 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v14) = ScInDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v14_eq _ _).trans (v14_eq _ _)), (h c).2⟩)
    (run m ρ)

/-- The reference ends with its arguments as they were; it declares no semaphore. -/
theorem ends : Cert.quiescent_ScInDwRefIdeal := fun m ρ _ =>
  (θ_run _ _ _).mono (fun _ h => ⟨fun c => (h c).2, funext fun g => nomatch g.2⟩) (Cert.ScInDwRefIdeal.Value.run m ρ)

end Cert.ScInDwRefIdeal.Value

/-- The kernel's value and the reference's, over the ideal reals. -/
theorem ScInDw_value : Cert.algebraic_ScInDwIdeal_ScInDwRefIdeal :=
  fun m g m' g' _ h => ⟨fun c => ScInDwOf (m ((c.tc : Thread Cert.ScInDwIdeal.nD Cert.ScInDwIdeal.τ).loc Cert.ScInDwIdeal.main_arg0)) (m ((c.tc : Thread Cert.ScInDwIdeal.nD Cert.ScInDwIdeal.τ).loc Cert.ScInDwIdeal.main_arg1)),
    Cert.ScInDwIdeal.Value.run_value m g,
    (θ_run _ _ _).mono (fun r hr c => by
      have hc := hr c
      obtain ⟨a0, a1⟩ := h c
      refine ⟨hc.1.trans ?_, hc.2⟩ <;> rw [a0, a1] <;> rfl)
      (Cert.ScInDwRefIdeal.Value.run_value m' g')⟩

end
-- ==== Proof.LruOutDwRun.lean ====
/- The weight gradient of the recurrence's output projection: the kernel leaves the sum over every row of the input times the gradient. -/
module

public import proofs.«01_k».proof.Proof.Products
public import proofs.«01_k».proof.Proof.Gen.LruOutDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the recurrence's output projection: at an input column and an output column, the sum over the rows. -/
def LruOutDwOf (x : Vec Ideal ⟨2, ![8192, 1280]⟩ .bf16) (y : Vec Ideal ⟨2, ![8192, 1024]⟩ .bf16) : Vec Ideal ⟨2, ![1280, 1024]⟩ .bf16 := fun i =>
  ∑ r : Fin 8192, Products.at2 (A := 8192) (B := 1280) x r.val (i 0).val * Products.at2 (A := 8192) (B := 1024) y r.val (i 1).val

namespace Cert.LruOutDwIdeal.Value

open Cert.LruOutDwIdeal Cert.LruOutDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1280 .bf16) (harg3 : arg3.IsWhole) (arg4 : Memref sig .tc .vmem S1x2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond0_0 i) (hc1 : ¬cond0_1 i) (x0 : Vec Ideal S2048x1280 .bf16) (x1 : Vec Ideal S1x2048x1024 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1280x1024) hz2, View.ld_unit_zero (S := S2048x1280) hz2, View.ld_unit_zero (S := S1x2048x1024) hz3]
  rw [View.canon_cons_unit_zero (S := S1280x1024) hz2, View.readCov_unit_zero (S := S1280x1024) _ hz2]

/-- A middle step adds its product. -/
theorem sout0_B_0_eq (c : Dev nD) (i : grid0.Coords) (arg3 : Memref sig .tc .vmem S2048x1280 .bf16) (harg3 : arg3.IsWhole) (arg4 : Memref sig .tc .vmem S1x2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond0_0 i) (hc1 : ¬cond0_1 i) (x0 : Vec Ideal S2048x1280 .bf16) (x1 : Vec Ideal S1x2048x1024 .bf16) (xs0 : Vec Ideal S1280x1024 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1280x1024) hz2, View.ld_unit_zero (S := S2048x1280) hz2, View.ld_unit_zero (S := S1x2048x1024) hz3]
  rw [View.canon_unit_zero (S := S1280x1024) hz2]

/-- The last step adds its product and hands the accumulator out. -/
theorem out0_C_2_eq (c : Dev nD) (i : grid0.Coords) (arg3 : Memref sig .tc .vmem S2048x1280 .bf16) (harg3 : arg3.IsWhole) (arg4 : Memref sig .tc .vmem S1x2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond0_0 i) (hc1 : cond0_1 i) (x0 : Vec Ideal S2048x1280 .bf16) (x1 : Vec Ideal S1x2048x1024 .bf16) (xs0 : Vec Ideal S1280x1024 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1280x1024) hz2, View.ld_unit_zero (S := S2048x1280) hz2, View.ld_unit_zero (S := S1x2048x1024) hz3]
  rw [View.canon_unit_zero (S := S1280x1024) hz2, View.readCov_unit_zero (S := S1280x1024) _ hz2]

/-- The reset is zero. -/
theorem pay1_at (i : S1280x1024.Idx) : k0_pay1 (F := Ideal) i = 0 := by
  unfold k0_pay1; rw [shapeCast_self]; exact Ideal.ofBits_zero_f32

/-- One step's accumulation at an index. -/
theorem pay2_at (acc : Vec Ideal S1280x1024 .f32) (a : Vec Ideal S2048x1280 .bf16) (b : Vec Ideal S1x2048x1024 .bf16) (p : Fin 1280) (q : Fin 1024) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1280) (N := 1024) none a (shapeCast S2048x1024 b shapeCasts_S1x2048x1024_S2048x1024) (constant S1280x1024 .f32 0x00000000#32) p q).trans ?_
  rw [zero_const, zero_add]
  exact Finset.sum_congr rfl fun k _ => congrArg (a (ix2 k p) * ·) (dropUnit_apply (A := 2048) (B := 1024) b _ k q)

variable (m : (ℓ : Loc nD τ sig) → Buf (Elt Ideal) ℓ) (ρ : Dev nD → PrngReg)

theorem ltN (t : Fin cfg0.N) : t.val < 4 := lt_of_lt_of_eq t.isLt N_0
theorem ix0 : ∀ t : Fin grid0.N, win0_0.index t 0 = t.val % 4 ∧ win0_0.index t 1 = t.val / 4 / 1 := by decide +kernel
theorem ix1' : ∀ t : Fin grid0.N, win0_1.index t 0 = t.val / 4 % 1 / 1 ∧ win0_1.index t 1 = t.val % 4 ∧ win0_1.index t 2 = t.val / 4 % 1 % 1 := by decide +kernel

/-- The first window's block: a tile of rows and input columns. -/
theorem blk0 (c : Dev nD) (t : Fin cfg0.N) (k : Fin 2048) (p : Fin 1280) :
    iblk m c 0 t (ix2 k p) = at2 (A := 8192) (B := 1280) (m ((c.tc : Thread nD τ).loc main_arg0)) (t.val % 4 * 2048 + k.val) (t.val / 4 / 1 * 1280 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1280 + 1 * p.val = (t.val / 4 / 1 * 1280 + p.val) % 1280; rw [(ix0 t).2]; omega

/-- The second window's block: the same tile of rows, and output columns. -/
theorem blk1 (c : Dev nD) (t : Fin cfg0.N) (k : Fin 2048) (q : Fin 1024) :
    iblk m c 1 t (ix3 0 k q) = at2 (A := 8192) (B := 1024) (m ((c.tc : Thread nD τ).loc main_arg1)) (t.val % 4 * 2048 + k.val) (t.val / 4 % 1 * 1024 + q.val) := by
  have ht := ltN t; have hk := k.isLt; have hq := q.isLt
  unfold iblk
  rw [View.read_apply]
  show (StableHlo.after hostOps0 (fun b => m (c, b)) (Proc.tc.devRef main_v0) : S1x8192x1024.Idx → EReal) _ = m ((c.tc : Thread nD τ).loc main_arg1) _
  have e : (StableHlo.after hostOps0 (fun b => m (c, b)) (Proc.tc.devRef main_v0) : S1x8192x1024.Idx → EReal)
      = broadcastInDim S1x8192x1024 ![1, 2] bcast_S8192x1024_S1x8192x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 2048 + 1 * k.val = (t.val % 4 * 2048 + k.val) % 8192; rw [(ix1' t).2.1]; omega
  | ⟨1, _⟩ => show win0_1.index t 2 * 1024 + 1 * q.val = (t.val / 4 % 1 * 1024 + q.val) % 1024; rw [(ix1' t).2.2]; omega

/-- What one tile of rows adds at an index. -/
abbrev term (c : Dev nD) (n : ℕ) (p : Fin 1280) (q : Fin 1024) (s : ℕ) : EReal :=
  ∑ k : Fin 2048, at2 (A := 8192) (B := 1280) (m ((c.tc : Thread nD τ).loc main_arg0)) (s * 2048 + k.val) (n / 4 / 1 * 1280 + p.val)
    * at2 (A := 8192) (B := 1024) (m ((c.tc : Thread nD τ).loc main_arg1)) (s * 2048 + k.val) (n / 4 % 1 * 1024 + q.val)

theorem step_at (c : Dev nD) (t : Fin cfg0.N) (acc : Vec Ideal S1280x1024 .f32) (p : Fin 1280) (q : Fin 1024) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1280) (q : Fin 1024) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1280) (q : Fin 1024) :
    (outsAt0 m c t.val t.isLt).1 (ix2 p q)
      = ∑ r : Fin 8192, at2 (A := 8192) (B := 1280) (m ((c.tc : Thread nD τ).loc main_arg0)) r.val (t.val / 4 / 1 * 1280 + p.val) * at2 (A := 8192) (B := 1024) (m ((c.tc : Thread nD τ).loc main_arg1)) r.val (t.val / 4 % 1 * 1024 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 1280) (m ((c.tc : Thread nD τ).loc main_arg0)) r (t.val / 4 / 1 * 1280 + p.val) * at2 (A := 8192) (B := 1024) (m ((c.tc : Thread nD τ).loc main_arg1)) r (t.val / 4 % 1 * 1024 + q.val))

/-- The array the run leaves. -/
theorem final (c : Dev nD) : G2 m c = LruOutDwOf (m ((c.tc : Thread nD τ).loc main_arg0)) (m ((c.tc : Thread nD τ).loc main_arg1)) := by
  funext i
  have h0 : (i 0).val < 1280 := (i 0).isLt
  have h1 : (i 1).val < 1024 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 1 * 1280 + (i 0).val % 1280 = (i 0).val := by unfold pt2Of run2Of; omega
  have e1 : pt2Of i / 4 % 1 * 1024 + (i 1).val % 1024 = (i 1).val := by unfold pt2Of run2Of; omega
  exact congr (congrArg (fun a b : EReal => a * b) (congrArg (at2 (A := 8192) (B := 1280) (m ((c.tc : Thread nD τ).loc main_arg0)) r.val) e0)) (congrArg (at2 (A := 8192) (B := 1024) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = LruOutDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.LruOutDwIdeal.Value

end
-- ==== Proof.LruOutDwRef.lean ====
/- The reference of the weight gradient of the recurrence's output projection: the same sum over the rows, and the two runs together. -/
module

public import proofs.«01_k».proof.Proof.Products
public import proofs.«01_k».proof.Proof.LruOutDwRun
public import proofs.«01_k».proof.Proof.Gen.LruOutDwRefIdeal.Run
public import proofs.«01_k».proof.Proof.Gen.LruOutDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruOutDwRefIdeal.Value

open Cert.LruOutDwRefIdeal Cert.LruOutDwRefIdeal.Gen Cert.LruOutDwRefIdeal.Read Products

variable (x0 : Vec Ideal S8192x1280 .bf16) (x1 : Vec Ideal S8192x1024 .bf16)

/-- The gradient's argument at a row and a column. -/
theorem y_at (r : Fin 8192) (j : Fin 1024) : val_main_v3 (F := Ideal) x1 (ix2 r j) = at2 (A := 8192) (B := 1024) x1 r.val j.val := by
  have hr := r.isLt; have hj := j.isLt
  rw [val_main_v3_apply]
  show x1 _ = x1 _
  congr 1; funext b; apply Fin.ext
  match b with
  | ⟨0, _⟩ => show r.val = r.val % 8192; omega
  | ⟨1, _⟩ => show j.val = j.val % 1024; omega

/-- The layer's input at a row and a column. -/
theorem x_at (r : Fin 8192) (j : Fin 1280) : val_main_v0 (F := Ideal) x0 (ix2 r j) = at2 (A := 8192) (B := 1280) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1280; omega

/-- The reference's weight gradient. -/
theorem v7_eq : val_main_v7 (F := Ideal) x0 x1 = LruOutDwOf x0 x1 := by
  funext i
  rw [val_main_v7_apply, val_main_v5_apply, val_main_v4_apply]
  refine (show _ = ∑ k : Fin 8192, _ from rfl).trans (Finset.sum_congr rfl fun k _ => ?_)
  refine Eq.trans ?_ (mul_comm (at2 (A := 8192) (B := 1024) x1 k.val (i 1).val) _)
  exact congr (congrArg (fun a b : EReal => a * b) ((congrArg (val_main_v3 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v7) = LruOutDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (v7_eq _ _)), (h c).2⟩)
    (run m ρ)

/-- The reference ends with its arguments as they were; it declares no semaphore. -/
theorem ends : Cert.quiescent_LruOutDwRefIdeal := fun m ρ _ =>
  (θ_run _ _ _).mono (fun _ h => ⟨fun c => (h c).2, funext fun g => nomatch g.2⟩) (Cert.LruOutDwRefIdeal.Value.run m ρ)

end Cert.LruOutDwRefIdeal.Value

/-- The kernel's value and the reference's, over the ideal reals. -/
theorem LruOutDw_value : Cert.algebraic_LruOutDwIdeal_LruOutDwRefIdeal :=
  fun m g m' g' _ h => ⟨fun c => LruOutDwOf (m ((c.tc : Thread Cert.LruOutDwIdeal.nD Cert.LruOutDwIdeal.τ).loc Cert.LruOutDwIdeal.main_arg0)) (m ((c.tc : Thread Cert.LruOutDwIdeal.nD Cert.LruOutDwIdeal.τ).loc Cert.LruOutDwIdeal.main_arg1)),
    Cert.LruOutDwIdeal.Value.run_value m g,
    (θ_run _ _ _).mono (fun r hr c => by
      have hc := hr c
      obtain ⟨a0, a1⟩ := h c
      refine ⟨hc.1.trans ?_, hc.2⟩ <;> rw [a0, a1] <;> rfl)
      (Cert.LruOutDwRefIdeal.Value.run_value m' g')⟩

end
-- ==== Proof.LruInDwRun.lean ====
/- The weight gradient of the recurrence's input projection: the kernel leaves the sum over every row of the input times the gradient. -/
module

public import proofs.«01_k».proof.Proof.Products
public import proofs.«01_k».proof.Proof.Gen.LruInDwIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The weight gradient of the recurrence's input projection: at an input column and an output column, the sum over the rows. -/
def LruInDwOf (x : Vec Ideal ⟨2, ![8192, 1024]⟩ .bf16) (y : Vec Ideal ⟨3, ![2, 8192, 1280]⟩ .bf16) : Vec Ideal ⟨2, ![1024, 2560]⟩ .bf16 := fun i =>
  ∑ r : Fin 8192, Products.at2 (A := 8192) (B := 1024) x r.val (i 0).val * Products.at3 (G := 2) (A := 8192) (B := 1280) y r.val (i 1).val

namespace Cert.LruInDwIdeal.Value

open Cert.LruInDwIdeal Cert.LruInDwIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of rows: the accumulator starts at zero. -/
theorem sout0_A_0_eq (c : Dev nD) (i : grid0.Coords) (arg3 : Memref sig .tc .vmem S2048x1024 .bf16) (harg3 : arg3.IsWhole) (arg4 : Memref sig .tc .vmem S1x2048x1280 .bf16) (harg4 : arg4.IsWhole) (arg5 : Memref sig .tc .vmem S1024x1280 .bf16) (harg5 : arg5.IsWhole) (arg6 : Memref sig .tc .vmem S1024x1280 .f32) (harg6 : arg6.IsWhole) (hc0 : cond0_0 i) (hc1 : ¬cond0_1 i) (x0 : Vec Ideal S2048x1024 .bf16) (x1 : Vec Ideal S1x2048x1280 .bf16) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1024x1280) hz2, View.ld_unit_zero (S := S2048x1024) hz2, View.ld_unit_zero (S := S1x2048x1280) hz3]
  rw [View.canon_cons_unit_zero (S := S1024x1280) hz2, View.readCov_unit_zero (S := S1024x1280) _ hz2]

/-- A middle step adds its product. -/
theorem sout0_B_0_eq (c : Dev nD) (i : grid0.Coords) (arg3 : Memref sig .tc .vmem S2048x1024 .bf16) (harg3 : arg3.IsWhole) (arg4 : Memref sig .tc .vmem S1x2048x1280 .bf16) (harg4 : arg4.IsWhole) (arg5 : Memref sig .tc .vmem S1024x1280 .bf16) (harg5 : arg5.IsWhole) (arg6 : Memref sig .tc .vmem S1024x1280 .f32) (harg6 : arg6.IsWhole) (hc0 : ¬cond0_0 i) (hc1 : ¬cond0_1 i) (x0 : Vec Ideal S2048x1024 .bf16) (x1 : Vec Ideal S1x2048x1280 .bf16) (xs0 : Vec Ideal S1024x1280 .f32) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1024x1280) hz2, View.ld_unit_zero (S := S2048x1024) hz2, View.ld_unit_zero (S := S1x2048x1280) hz3]
  rw [View.canon_unit_zero (S := S1024x1280) hz2]

/-- The last step adds its product and hands the accumulator out. -/
theorem out0_C_2_eq (c : Dev nD) (i : grid0.Coords) (arg3 : Memref sig .tc .vmem S2048x1024 .bf16) (harg3 : arg3.IsWhole) (arg4 : Memref sig .tc .vmem S1x2048x1280 .bf16) (harg4 : arg4.IsWhole) (arg5 : Memref sig .tc .vmem S1024x1280 .bf16) (harg5 : arg5.IsWhole) (arg6 : Memref sig .tc .vmem S1024x1280 .f32) (harg6 : arg6.IsWhole) (hc0 : ¬cond0_0 i) (hc1 : cond0_1 i) (x0 : Vec Ideal S2048x1024 .bf16) (x1 : Vec Ideal S1x2048x1280 .bf16) (xs0 : Vec Ideal S1024x1280 .f32) :
    out0_C_2 (F := Ideal) c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1280) hz2, View.ld_unit_zero (S := S2048x1024) hz2, View.ld_unit_zero (S := S1x2048x1280) hz3]
  rw [View.canon_unit_zero (S := S1024x1280) hz2, View.readCov_unit_zero (S := S1024x1280) _ hz2]

/-- The reset is zero. -/
theorem pay1_at (i : S1024x1280.Idx) : k0_pay1 (F := Ideal) i = 0 := by
  unfold k0_pay1; rw [shapeCast_self]; exact Ideal.ofBits_zero_f32

/-- One step's accumulation at an index. -/
theorem pay2_at (acc : Vec Ideal S1024x1280 .f32) (a : Vec Ideal S2048x1024 .bf16) (b : Vec Ideal S1x2048x1280 .bf16) (p : Fin 1024) (q : Fin 1280) :
    k0_pay2 (F := Ideal) acc a b (ix2 p q) = acc (ix2 p q) + ∑ k : Fin 2048, a (ix2 k p) * b (ix3 0 k q) := by
  unfold k0_pay2; rw [shapeCast_self]
  refine congrArg (acc (ix2 p q) + ·) ?_
  refine (matmul_tn_apply (K := 2048) (M := 1024) (N := 1280) none a (shapeCast S2048x1280 b shapeCasts_S1x2048x1280_S2048x1280) (constant S1024x1280 .f32 0x00000000#32) p q).trans ?_
  rw [zero_const, zero_add]
  exact Finset.sum_congr rfl fun k _ => congrArg (a (ix2 k p) * ·) (dropUnit_apply (A := 2048) (B := 1280) b _ k q)

variable (m : (ℓ : Loc nD τ sig) → Buf (Elt Ideal) ℓ) (ρ : Dev nD → PrngReg)

theorem ltN (t : Fin cfg0.N) : t.val < 8 := lt_of_lt_of_eq t.isLt N_0
theorem ix0 : ∀ t : Fin grid0.N, win0_0.index t 0 = t.val % 4 ∧ win0_0.index t 1 = t.val / 4 / 2 := by decide +kernel
theorem ix1' : ∀ t : Fin grid0.N, win0_1.index t 0 = t.val / 4 % 2 / 1 ∧ win0_1.index t 1 = t.val % 4 ∧ win0_1.index t 2 = t.val / 4 % 2 % 1 := by decide +kernel

/-- The first window's block: a tile of rows and input columns. -/
theorem blk0 (c : Dev nD) (t : Fin cfg0.N) (k : Fin 2048) (p : Fin 1024) :
    iblk m c 0 t (ix2 k p) = at2 (A := 8192) (B := 1024) (m ((c.tc : Thread nD τ).loc main_arg0)) (t.val % 4 * 2048 + k.val) (t.val / 4 / 2 * 1024 + p.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 2048 + 1 * k.val = (t.val % 4 * 2048 + k.val) % 8192; rw [(ix0 t).1]; omega
  | ⟨1, _⟩ => show win0_0.index t 1 * 1024 + 1 * p.val = (t.val / 4 / 2 * 1024 + p.val) % 1024; rw [(ix0 t).2]; omega

/-- The second window's block: the same tile of rows, and output columns. -/
theorem blk1 (c : Dev nD) (t : Fin cfg0.N) (k : Fin 2048) (q : Fin 1280) :
    iblk m c 1 t (ix3 0 k q) = at3 (G := 2) (A := 8192) (B := 1280) (m ((c.tc : Thread nD τ).loc main_arg1)) (t.val % 4 * 2048 + k.val) (t.val / 4 % 2 * 1280 + q.val) := by
  have ht := ltN t; have hk := k.isLt; have hq := q.isLt
  unfold iblk
  rw [View.read_apply]
  show m ((c.tc : Thread nD τ).loc main_arg1) _ = m ((c.tc : Thread nD τ).loc main_arg1) _
  congr 1; funext b; apply Fin.ext
  match b with
  | ⟨0, _⟩ => show win0_1.index t 0 * 1 + 1 * 0 = (t.val / 4 % 2 * 1280 + q.val) / 1280 % 2; rw [(ix1' t).1]; omega
  | ⟨1, _⟩ => show win0_1.index t 1 * 2048 + 1 * k.val = (t.val % 4 * 2048 + k.val) % 8192; rw [(ix1' t).2.1]; omega
  | ⟨2, _⟩ => show win0_1.index t 2 * 1280 + 1 * q.val = (t.val / 4 % 2 * 1280 + q.val) % 1280 % 1280; rw [(ix1' t).2.2]; omega

/-- What one tile of rows adds at an index. -/
abbrev term (c : Dev nD) (n : ℕ) (p : Fin 1024) (q : Fin 1280) (s : ℕ) : EReal :=
  ∑ k : Fin 2048, at2 (A := 8192) (B := 1024) (m ((c.tc : Thread nD τ).loc main_arg0)) (s * 2048 + k.val) (n / 4 / 2 * 1024 + p.val)
    * at3 (G := 2) (A := 8192) (B := 1280) (m ((c.tc : Thread nD τ).loc main_arg1)) (s * 2048 + k.val) (n / 4 % 2 * 1280 + q.val)

theorem step_at (c : Dev nD) (t : Fin cfg0.N) (acc : Vec Ideal S1024x1280 .f32) (p : Fin 1024) (q : Fin 1280) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t k p)) (blk1 m c t k q)

/-- Before the last step the accumulator is the sum over the tiles of rows seen. -/
theorem scr (c : Dev nD) (n : ℕ) (hn : n < cfg0.N) (h3 : n % 4 ≠ 3) (p : Fin 1024) (q : Fin 1280) :
    (outsAt0 m c n hn).2 (ix2 p q) = ∑ s ∈ Finset.range (n % 4 + 1), term m c n p q s := by
  induction n with
  | zero =>
    rw [outsAt0_A m c ⟨0, hn⟩ rfl h3]
    dsimp only
    rw [sout0_A_0_eq, step_at, pay1_at, zero_add]
    exact (Finset.sum_range_one _).symm
  | succ n ih =>
    by_cases h0 : (n + 1) % 4 = 0
    · rw [outsAt0_A m c ⟨n + 1, hn⟩ h0 h3]
      dsimp only
      rw [sout0_A_0_eq, step_at, pay1_at, zero_add]
      dsimp only
      rw [h0]
      exact (Finset.sum_range_one _).symm
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term
      rw [e2]
      exact (Finset.sum_range_succ _ (n % 4 + 1)).symm

/-- At the last step of a run of tiles, the output's block: the sum over every row. -/
theorem out_at (c : Dev nD) (t : Fin cfg0.N) (h3 : t.val % 4 = 3) (p : Fin 1024) (q : Fin 1280) :
    (outsAt0 m c t.val t.isLt).1 (ix2 p q)
      = ∑ r : Fin 8192, at2 (A := 8192) (B := 1024) (m ((c.tc : Thread nD τ).loc main_arg0)) r.val (t.val / 4 / 2 * 1024 + p.val) * at3 (G := 2) (A := 8192) (B := 1280) (m ((c.tc : Thread nD τ).loc main_arg1)) r.val (t.val / 4 % 2 * 1280 + q.val) := by
  have h0 : ¬t.val % 4 = 0 := by omega
  rw [outsAt0_C m c t h0 h3]
  dsimp only
  rw [out0_C_2_eq]
  show k0_pay2 (F := Ideal) _ (iblk m c 0 t) (iblk m c 1 t) (ix2 p q) = _
  rw [step_at, scr m c (t.val - 1) _ (by omega)]
  have e1 : (t.val - 1) % 4 + 1 = 3 := by omega
  have e2 : (t.val - 1) / 4 = t.val / 4 := by omega
  unfold term
  rw [e1, e2, h3]
  refine (Finset.sum_range_succ _ 3).symm.trans ?_
  exact sum_tiles 4 2048 (fun r => at2 (A := 8192) (B := 1024) (m ((c.tc : Thread nD τ).loc main_arg0)) r (t.val / 4 / 2 * 1024 + p.val) * at3 (G := 2) (A := 8192) (B := 1280) (m ((c.tc : Thread nD τ).loc main_arg1)) r (t.val / 4 % 2 * 1280 + q.val))

/-- The array the run leaves. -/
theorem final (c : Dev nD) : G2 m c = LruInDwOf (m ((c.tc : Thread nD τ).loc main_arg0)) (m ((c.tc : Thread nD τ).loc main_arg1)) := by
  funext i
  have h0 : (i 0).val < 1024 := (i 0).isLt
  have h1 : (i 1).val < 2560 := (i 1).isLt
  have hp : pt2Of i < cfg0.N := lt_of_lt_of_eq (by unfold pt2Of run2Of; omega) N_0.symm
  unfold G2
  rw [dif_pos hp, ← outsAt0_sweep m c _ hp]
  refine (congrArg (outsAt0 m c (pt2Of i) hp).1 (eq_ix2 (loc2Of i))).trans ?_
  have hm : pt2Of i % 4 = 3 := by unfold pt2Of; omega
  refine (out_at m c ⟨pt2Of i, hp⟩ hm _ _).trans (Finset.sum_congr rfl fun r _ => ?_)
  have e0 : pt2Of i / 4 / 2 * 1024 + (i 0).val % 1024 = (i 0).val := by unfold pt2Of run2Of; omega
  have e1 : pt2Of i / 4 % 2 * 1280 + (i 1).val % 1280 = (i 1).val := by unfold pt2Of run2Of; omega
  exact congr (congrArg (fun a b : EReal => a * b) (congrArg (at2 (A := 8192) (B := 1024) (m ((c.tc : Thread nD τ).loc main_arg0)) r.val) e0)) (congrArg (at3 (G := 2) (A := 8192) (B := 1280) (m ((c.tc : Thread nD τ).loc main_arg1)) r.val) e1)

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v0) = LruInDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run m ρ)

end Cert.LruInDwIdeal.Value

end
-- ==== Proof.LruInDwRef.lean ====
/- The reference of the weight gradient of the recurrence's input projection: the same sum over the rows, and the two runs together. -/
module

public import proofs.«01_k».proof.Proof.Products
public import proofs.«01_k».proof.Proof.LruInDwRun
public import proofs.«01_k».proof.Proof.Gen.LruInDwRefIdeal.Run
public import proofs.«01_k».proof.Proof.Gen.LruInDwRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruInDwRefIdeal.Value

open Cert.LruInDwRefIdeal Cert.LruInDwRefIdeal.Gen Cert.LruInDwRefIdeal.Read Products

variable (x0 : Vec Ideal S8192x1024 .bf16) (x1 : Vec Ideal S2x8192x1280 .bf16)

/-- The parts side by side, at a row and a column. -/
theorem cat_at (r : Fin 8192) (j : Fin 2560) : val_main_v7 (F := Ideal) x1 (ix2 r j) = at3 (G := 2) (A := 8192) (B := 1280) x1 r.val j.val := by
  have hr := r.isLt; have hj := j.isLt
  unfold val_main_v7
  by_cases h0 : j.val < 1280
  · refine (concatenate_apply_piece (t := S8192x2560) (1 : Fin 2) _ _ (ix2 r j) 0 (by show 0 < 2; decide) S8192x1280 _ rfl rfl 0 rfl
      (ix2 r (⟨j.val - 0, by omega⟩ : Fin 1280)) (fun b hb => ?_) (by show 0 + (j.val - 0) = j.val; omega)).trans ?_
    · match b with
      | ⟨0, _⟩ => rfl
      | ⟨1, _⟩ => exact absurd rfl hb
    · rw [val_main_v4_apply, val_main_v3_apply]
      show x1 _ = x1 _
      congr 1; funext b; apply Fin.ext
      match b with
      | ⟨0, _⟩ => show 0 = j.val / 1280 % 2; omega
      | ⟨1, _⟩ => show (r.val * 1280 + (j.val - 0)) / 1280 % 8192 = r.val % 8192; omega
      | ⟨2, _⟩ => show (r.val * 1280 + (j.val - 0)) % 1280 = j.val % 1280 % 1280; omega
  refine (concatenate_apply_piece (t := S8192x2560) (1 : Fin 2) _ _ (ix2 r j) 1 (by show 1 < 2; decide) S8192x1280 _ rfl rfl 1280 rfl
      (ix2 r (⟨j.val - 1280, by omega⟩ : Fin 1280)) (fun b hb => ?_) (by show 1280 + (j.val - 1280) = j.val; omega)).trans ?_
  · match b with
    | ⟨0, _⟩ => rfl
    | ⟨1, _⟩ => exact absurd rfl hb
  · rw [val_main_v6_apply, val_main_v5_apply]
    show x1 _ = x1 _
    congr 1; funext b; apply Fin.ext
    match b with
    | ⟨0, _⟩ => show 1 + 0 = j.val / 1280 % 2; omega
    | ⟨1, _⟩ => show (r.val * 1280 + (j.val - 1280)) / 1280 % 8192 = r.val % 8192; omega
    | ⟨2, _⟩ => show (r.val * 1280 + (j.val - 1280)) % 1280 = j.val % 1280 % 1280; omega

/-- The gradient's argument at a row and a column. -/
theorem y_at (r : Fin 8192) (j : Fin 2560) : val_main_v8 (F := Ideal) x1 (ix2 r j) = at3 (G := 2) (A := 8192) (B := 1280) x1 r.val j.val := by
  rw [val_main_v8_apply]
  exact cat_at x1 r j

/-- The layer's input at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The reference's weight gradient. -/
theorem v12_eq : val_main_v12 (F := Ideal) x0 x1 = LruInDwOf x0 x1 := by
  funext i
  rw [val_main_v12_apply, val_main_v10_apply, val_main_v9_apply]
  refine (show _ = ∑ k : Fin 8192, _ from rfl).trans (Finset.sum_congr rfl fun k _ => ?_)
  refine Eq.trans ?_ (mul_comm (at3 (G := 2) (A := 8192) (B := 1280) x1 k.val (i 1).val) _)
  exact congr (congrArg (fun a b : EReal => a * b) ((congrArg (val_main_v8 (F := Ideal) x1) (eq_ix2 _)).trans (y_at x1 k (i 1))))
    ((congrArg (val_main_v0 (F := Ideal) x0) (eq_ix2 _)).trans (x_at x0 k (i 0)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v12) = LruInDwOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v12_eq _ _).trans (v12_eq _ _)), (h c).2⟩)
    (run m ρ)

/-- The reference ends with its arguments as they were; it declares no semaphore. -/
theorem ends : Cert.quiescent_LruInDwRefIdeal := fun m ρ _ =>
  (θ_run _ _ _).mono (fun _ h => ⟨fun c => (h c).2, funext fun g => nomatch g.2⟩) (Cert.LruInDwRefIdeal.Value.run m ρ)

end Cert.LruInDwRefIdeal.Value

/-- The kernel's value and the reference's, over the ideal reals. -/
theorem LruInDw_value : Cert.algebraic_LruInDwIdeal_LruInDwRefIdeal :=
  fun m g m' g' _ h => ⟨fun c => LruInDwOf (m ((c.tc : Thread Cert.LruInDwIdeal.nD Cert.LruInDwIdeal.τ).loc Cert.LruInDwIdeal.main_arg0)) (m ((c.tc : Thread Cert.LruInDwIdeal.nD Cert.LruInDwIdeal.τ).loc Cert.LruInDwIdeal.main_arg1)),
    Cert.LruInDwIdeal.Value.run_value m g,
    (θ_run _ _ _).mono (fun r hr c => by
      have hc := hr c
      obtain ⟨a0, a1⟩ := h c
      refine ⟨hc.1.trans ?_, hc.2⟩ <;> rw [a0, a1] <;> rfl)
      (Cert.LruInDwRefIdeal.Value.run_value m' g')⟩

end
-- ==== Proof.FfnUpDxRun.lean ====
/- The input gradient of the feed-forward up projection: the kernel leaves the product over every output column, added to the scaled residual gradient. -/
module

public import proofs.«01_k».proof.Proof.Products
public import proofs.«01_k».proof.Proof.Gen.FfnUpDxIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The input gradient of the feed-forward up projection: at a row and an input column, the sum over the output columns, plus the scaled residual gradient. -/
def FfnUpDxOf (x : Vec Ideal ⟨3, ![2, 8192, 2816]⟩ .bf16) (w : Vec Ideal ⟨2, ![1024, 5632]⟩ .bf16) (d : Vec Ideal ⟨2, ![8192, 1024]⟩ .f32) : Vec Ideal ⟨2, ![8192, 1024]⟩ .f32 := fun i =>
  (Scalar.ofBits (F := Ideal) .f32 0x3FD744FD#32 : EReal) * Products.at2 (A := 8192) (B := 1024) d (i 0).val (i 1).val
    + ∑ k : Fin 5632, Products.at3 (G := 2) (A := 8192) (B := 2816) x (i 0).val k.val * Products.at2 (A := 1024) (B := 5632) w (i 1).val k.val

namespace Cert.FfnUpDxIdeal.Value

open Cert.FfnUpDxIdeal Cert.FfnUpDxIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of columns: the accumulator starts at the scaled residual gradient. -/
theorem sout0_A_0_eq (c : Dev nD) (i : grid0.Coords) (arg2 : Memref sig .tc .vmem S1x1024x1408 .bf16) (harg2 : arg2.IsWhole) (arg3 : Memref sig .tc .vmem S1x1024x1408 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 : Vec Ideal S1x1024x1408 .bf16) (x1 : Vec Ideal S1x1024x1408 .bf16) (x2 : Vec Ideal S1024x1024 .f32) :
    sout0_A_0 (F := Ideal) c i arg2 harg2 arg3 harg3 arg4 harg4 arg5 harg5 arg6 harg6 hc0 hc1 x0 x1 x2 = k0_pay2 (k0_pay1 (F := Ideal) x2) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread, harg5.read_unread, harg6.read_unread, View.ld_unit_zero (S := S1024x1024) hz2, View.ld_unit_zero (S := S1x1024x1408) hz3]
  rw [View.canon_cons_unit_zero (S := S1024x1024) hz2, View.readCov_unit_zero (S := S1024x1024) _ hz2]

/-- A middle step adds its product. -/
theorem sout0_B_0_eq (c : Dev nD) (i : grid0.Coords) (arg2 : Memref sig .tc .vmem S1x1024x1408 .bf16) (harg2 : arg2.IsWhole) (arg3 : Memref sig .tc .vmem S1x1024x1408 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 : Vec Ideal S1x1024x1408 .bf16) (x1 : Vec Ideal S1x1024x1408 .bf16) (x2 : Vec Ideal S1024x1024 .f32) (xs0 : Vec Ideal S1024x1024 .f32) :
    sout0_B_0 (F := Ideal) c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg5.read_unread, harg6.read_unread, View.ld_unit_zero (S := S1024x1024) hz2, View.ld_unit_zero (S := S1x1024x1408) hz3]
  rw [View.canon_unit_zero (S := S1024x1024) hz2]

/-- The last step adds its product and hands the accumulator out. -/
theorem out0_C_3_eq (c : Dev nD) (i : grid0.Coords) (arg2 : Memref sig .tc .vmem S1x1024x1408 .bf16) (harg2 : arg2.IsWhole) (arg3 : Memref sig .tc .vmem S1x1024x1408 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec Ideal S1x1024x1408 .bf16) (x1 : Vec Ideal S1x1024x1408 .bf16) (x2 : Vec Ideal S1024x1024 .f32) (xs0 : Vec Ideal S1024x1024 .f32) :
    out0_C_3 (F := Ideal) c i arg2 harg2 arg3 harg3 arg4 harg4 arg5 harg5 arg6 harg6 hc0 hc1 x0 x1 x2 xs0 = k0_pay2 xs0 x0 x1 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg5.read_unread, harg6.read_unread, View.ld_unit_zero (S := S1024x1024) hz2, View.ld_unit_zero (S := S1x1024x1408) hz3]
  rw [View.canon_unit_zero (S := S1024x1024) hz2, View.readCov_unit_zero (S := S1024x1024) _ hz2]

/-- The start is the scaled residual gradient. -/
theorem pay1_at (d : Vec Ideal S1024x1024 .f32) (i : S1024x1024.Idx) : k0_pay1 (F := Ideal) d i = (Scalar.ofBits (F := Ideal) .f32 0x3FD744FD#32 : EReal) * d i := by
  unfold k0_pay1; rw [shapeCast_self]; rfl

/-- One step's accumulation at an index. -/
theorem pay2_at (acc : Vec Ideal S1024x1024 .f32) (a : Vec Ideal S1x1024x1408 .bf16) (b : Vec Ideal S1x1024x1408 .bf16) (p q : Fin 1024) :
    k0_pay2 (F := Ideal) acc a b (ix2 p q) = acc (ix2 p q) + ∑ k : Fin 1408, a (ix3 0 p k) * b (ix3 0 q k) := by
  unfold k0_pay2; rw [shapeCast_self]
  refine congrArg (acc (ix2 p q) + ·) ?_
  refine (Ideal.matmul_transposedRhs_apply (M := 1024) (K := 1408) (N := 1024) none (shapeCast S1024x1408 a shapeCasts_S1x1024x1408_S1024x1408) (shapeCast S1024x1408 b shapeCasts_S1x1024x1408_S1024x1408) (constant S1024x1024 .f32 0x00000000#32) p q).trans ?_
  rw [zero_const, zero_add]
  exact Finset.sum_congr rfl fun k _ => congr (congrArg (fun u v : EReal => u * v) (dropUnit_apply (A := 1024) (B := 1408) a _ p k)) (dropUnit_apply (A := 1024) (B := 1408) b _ q k)

variable (m : (ℓ : Loc nD τ sig) → Buf (Elt Ideal) ℓ) (ρ : Dev nD → PrngReg)

theorem ltN (t : Fin cfg0.N) : t.val < 32 := lt_of_lt_of_eq t.isLt N_0
theorem ix0 : ∀ t : Fin grid0.N, win0_0.index t 0 = t.val % 4 / 2 ∧ win0_0.index t 1 = t.val / 4 ∧ win0_0.index t 2 = t.val % 4 % 2 := by decide +kernel
theorem ix1' : ∀ t : Fin grid0.N, win0_1.index t 0 = 0 ∧ win0_1.index t 1 = 0 ∧ win0_1.index t 2 = t.val % 4 := by decide +kernel
theorem ix2' : ∀ t : Fin grid0.N, win0_2.index t 0 = t.val / 4 ∧ win0_2.index t 1 = 0 := by decide +kernel

/-- The first window's block: a tile of rows and output columns. -/
theorem blk0 (c : Dev nD) (t : Fin cfg0.N) (p : Fin 1024) (k : Fin 1408) :
    iblk m c 0 t (ix3 0 p k) = at3 (G := 2) (A := 8192) (B := 2816) (m ((c.tc : Thread nD τ).loc main_arg0)) (t.val / 4 * 1024 + p.val) (t.val % 4 * 1408 + k.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 1 + 1 * 0 = (t.val % 4 * 1408 + k.val) / 2816 % 2; rw [(ix0 t).1]; omega
  | ⟨1, _⟩ => show win0_0.index t 1 * 1024 + 1 * p.val = (t.val / 4 * 1024 + p.val) % 8192; rw [(ix0 t).2.1]; omega
  | ⟨2, _⟩ => show win0_0.index t 2 * 1408 + 1 * k.val = (t.val % 4 * 1408 + k.val) % 2816 % 2816; rw [(ix0 t).2.2]; omega

/-- The second window's block: every input column's weight over the same output columns. -/
theorem blk1 (c : Dev nD) (t : Fin cfg0.N) (q : Fin 1024) (k : Fin 1408) :
    iblk m c 1 t (ix3 0 q k) = at2 (A := 1024) (B := 5632) (m ((c.tc : Thread nD τ).loc main_arg1)) q.val (t.val % 4 * 1408 + k.val) := by
  have ht := ltN t; have hk := k.isLt; have hq := q.isLt
  unfold iblk
  rw [View.read_apply]
  show (StableHlo.after hostOps0 (fun b => m (c, b)) (Proc.tc.devRef main_v0) : S1x1024x5632.Idx → EReal) _ = m ((c.tc : Thread nD τ).loc main_arg1) _
  have e : (StableHlo.after hostOps0 (fun b => m (c, b)) (Proc.tc.devRef main_v0) : S1x1024x5632.Idx → EReal)
      = broadcastInDim S1x1024x5632 ![1, 2] bcast_S1024x5632_S1x1024x5632_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * q.val = q.val % 1024; rw [(ix1' t).2.1]; omega
  | ⟨1, _⟩ => show win0_1.index t 2 * 1408 + 1 * k.val = (t.val % 4 * 1408 + k.val) % 5632; rw [(ix1' t).2.2]; omega

/-- The third window's block: the residual gradient's tile of rows. -/
theorem blk2 (c : Dev nD) (t : Fin cfg0.N) (p q : Fin 1024) :
    iblk m c 2 t (ix2 p q) = at2 (A := 8192) (B := 1024) (m ((c.tc : Thread nD τ).loc main_arg2)) (t.val / 4 * 1024 + p.val) q.val := by
  have ht := ltN t; have hp := p.isLt; have hq := q.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 1024 + 1 * p.val = (t.val / 4 * 1024 + p.val) % 8192; rw [(ix2' t).1]; omega
  | ⟨1, _⟩ => show win0_2.index t 1 * 1024 + 1 * q.val = q.val % 1024; rw [(ix2' t).2]; omega

/-- What one tile of columns adds at an index. -/
abbrev term (c : Dev nD) (n : ℕ) (p q : Fin 1024) (s : ℕ) : EReal :=
  ∑ k : Fin 1408, at3 (G := 2) (A := 8192) (B := 2816) (m ((c.tc : Thread nD τ).loc main_arg0)) (n / 4 * 1024 + p.val) (s * 1408 + k.val) * at2 (A := 1024) (B := 5632) (m ((c.tc : Thread nD τ).loc main_arg1)) q.val (s * 1408 + k.val)

/-- What a run of tiles starts from. -/
abbrev start (c : Dev nD) (n : ℕ) (p q : Fin 1024) : EReal := (Scalar.ofBits (F := Ideal) .f32 0x3FD744FD#32 : EReal) * at2 (A := 8192) (B := 1024) (m ((c.tc : Thread nD τ).loc main_arg2)) (n / 4 * 1024 + p.val) q.val

theorem step_at (c : Dev nD) (t : Fin cfg0.N) (acc : Vec Ideal S1024x1024 .f32) (p q : Fin 1024) :
    k0_pay2 (F := Ideal) acc (iblk m c 0 t) (iblk m c 1 t) (ix2 p q) = acc (ix2 p q) + term m c t.val p q (t.val % 4) := by
  rw [pay2_at]
  refine congrArg (acc (ix2 p q) + ·) (Finset.sum_congr rfl fun k _ => ?_)
  exact congr (congrArg (fun a b : EReal => a * b) (blk0 m c t p k)) (blk1 m c t q k)

theorem start_at (c : Dev nD) (t : Fin cfg0.N) (p q : Fin 1024) : k0_pay1 (F := Ideal) (iblk m c 2 t) (ix2 p q) = start m c t.val p q := by
  refine (pay1_at _ _).trans ?_
  exact congrArg ((Scalar.ofBits (F := Ideal) .f32 0x3FD744FD#32 : EReal) * ·) (blk2 m c t p q)

theorem first_at (c : Dev nD) (t : Fin cfg0.N) (h0 : t.val % 4 = 0) (h3 : ¬t.val % 4 = 3) (p q : Fin 1024) :
    (outsAt0 m c t.val t.isLt).2 (ix2 p q) = start m c t.val p q + ∑ s ∈ Finset.range (t.val % 4 + 1), term m c t.val p q s := by
  rw [outsAt0_A m c t h0 h3]
  dsimp only
  rw [sout0_A_0_eq, step_at, start_at, h0]
  exact congrArg (start m c t.val p q + ·) (Finset.sum_range_one _).symm

/-- Before the last step the accumulator is the start and the sum over the tiles of columns seen. -/
theorem scr (c : Dev nD) (n : ℕ) (hn : n < cfg0.N) (h3 : ¬n % 4 = 3) (p q : Fin 1024) :
    (outsAt0 m c n hn).2 (ix2 p q) = start m c n p q + ∑ s ∈ Finset.range (n % 4 + 1), term m c n p q s := by
  induction n with
  | zero => exact first_at m c ⟨0, hn⟩ rfl h3 p q
  | succ n ih =>
    by_cases h0 : (n + 1) % 4 = 0
    · exact first_at m c ⟨n + 1, hn⟩ h0 h3 p q
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 4)) e).trans ?_
      have e1 : (n + 1) % 4 = n % 4 + 1 := by omega
      have e2 : (n + 1) / 4 = n / 4 := by omega
      rw [e1]
      unfold term start
      rw [e2]
      refine (add_assoc _ _ _).trans (congrArg (fun z : EReal => (Scalar.ofBits (F := Ideal) .f32 0x3FD744FD#32 : EReal) * at2 (A := 8192) (B := 1024) (m ((c.tc : Thread nD τ).loc main_arg2)) (n / 4 * 1024 + p.val) q.val + z) ?_)
      exact (Finset.sum_range_succ _ (n % 4 + 1)).symm

/-- At the last step of a run of tiles, the output's block. -/
theorem out_at (c : Dev nD) (t : Fin cfg0.N) (h3 : t.val % 4 = 3) (p q : Fin 1024) :
    (outsAt0 m c t.val t.isLt).1 (ix2 p q)
      = start m c t.val p q + ∑ k : Fin 5632, at3 (G := 2) (A := 8192) (B := 2816) (m ((c.tc : Thread nD τ).loc main_arg0)) (t.val / 4 * 1024 + p.val) k.val * at2 (A := 1024) (B := 5632) (m ((c.tc : Thread nD τ).loc main_arg1)) q.val k.val := by
  have h0 : ¬t.val % 4 = 0 := by omega
  rw [outsAt0_C m c t h0 h3]
  dsimp only
  rw [out0_C_3_eq, step_at, scr m c (t.val - 1) _ (by omega)]
  have e1 : (t.val - 1) % 4 + 1 = 3 := by omega
  have e2 : (t.val - 1) / 4 = t.val / 4 := by omega
  unfold term start
  rw [e1, e2, h3]
  refine (add_assoc _ _ _).trans (congrArg (fun z : EReal => (Scalar.ofBits (F := Ideal) .f32 0x3FD744FD#32 : EReal) * at2 (A := 8192) (B := 1024) (m ((c.tc : Thread nD τ).loc main_arg2)) (t.val / 4 * 1024 + p.val) q.val + z) ?_)
  refine (Finset.sum_range_succ _ 3).symm.trans ?_
  exact sum_tiles 4 1408 (fun k => at3 (G := 2) (A := 8192) (B := 2816) (m ((c.tc : Thread nD τ).loc main_arg0)) (t.val / 4 * 1024 + p.val) k * at2 (A := 1024) (B := 5632) (m ((c.tc : Thread nD τ).loc main_arg1)) q.val k)

/-- The array the run leaves. -/
theorem final (c : Dev nD) : G3 m c = FfnUpDxOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  have hp : pt3Of i < cfg0.N := lt_of_lt_of_eq (by unfold pt3Of run3Of; omega) N_0.symm
  unfold G3
  rw [dif_pos hp, ← outsAt0_sweep m c _ hp]
  refine (congrArg (outsAt0 m c (pt3Of i) hp).1 (eq_ix2 (loc3Of i))).trans ?_
  have hm : pt3Of i % 4 = 3 := by unfold pt3Of; omega
  refine (out_at m c ⟨pt3Of i, hp⟩ hm _ _).trans ?_
  have e0 : pt3Of i / 4 * 1024 + (i 0).val % 1024 = (i 0).val := by unfold pt3Of run3Of; omega
  have e1 : (i 1).val % 1024 = (i 1).val := by omega
  exact congr (congrArg (fun a b : EReal => a + b) (congrArg ((Scalar.ofBits (F := Ideal) .f32 0x3FD744FD#32 : EReal) * ·) (congr (congrArg (at2 (A := 8192) (B := 1024) (m ((c.tc : Thread nD τ).loc main_arg2))) e0) e1)))
    (Finset.sum_congr rfl fun k _ => congr (congrArg (fun a b : EReal => a * b) (congrArg (fun r => at3 (G := 2) (A := 8192) (B := 2816) (m ((c.tc : Thread nD τ).loc main_arg0)) r k.val) e0)) (congrArg (fun r => at2 (A := 1024) (B := 5632) (m ((c.tc : Thread nD τ).loc main_arg1)) r k.val) e1))

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = FfnUpDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run m ρ)

end Cert.FfnUpDxIdeal.Value

end
-- ==== Proof.FfnUpDxRef.lean ====
/- The reference of the input gradient of the feed-forward up projection: the same sum, and the two runs together. -/
module

public import proofs.«01_k».proof.Proof.Products
public import proofs.«01_k».proof.Proof.FfnUpDxRun
public import proofs.«01_k».proof.Proof.Gen.FfnUpDxRefIdeal.Run
public import proofs.«01_k».proof.Proof.Gen.FfnUpDxRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.FfnUpDxRefIdeal.Value

open Cert.FfnUpDxRefIdeal Cert.FfnUpDxRefIdeal.Gen Cert.FfnUpDxRefIdeal.Read Products

variable (x0 : Vec Ideal S2x8192x2816 .bf16) (x1 : Vec Ideal S1024x5632 .bf16) (x2 : Vec Ideal S8192x1024 .f32)

/-- The parts side by side, at a row and a column. -/
theorem cat_at (r : Fin 8192) (j : Fin 5632) : val_main_v9 (F := Ideal) x0 (ix2 r j) = at3 (G := 2) (A := 8192) (B := 2816) x0 r.val j.val := by
  have hr := r.isLt; have hj := j.isLt
  unfold val_main_v9
  by_cases h0 : j.val < 2816
  · refine (concatenate_apply_piece (t := S8192x5632) (1 : Fin 2) _ _ (ix2 r j) 0 (by show 0 < 2; decide) S8192x2816 _ rfl rfl 0 rfl
      (ix2 r (⟨j.val - 0, by omega⟩ : Fin 2816)) (fun b hb => ?_) (by show 0 + (j.val - 0) = j.val; omega)).trans ?_
    · match b with
      | ⟨0, _⟩ => rfl
      | ⟨1, _⟩ => exact absurd rfl hb
    · rw [val_main_v6_apply, val_main_v5_apply]
      show x0 _ = x0 _
      congr 1; funext b; apply Fin.ext
      match b with
      | ⟨0, _⟩ => show 0 = j.val / 2816 % 2; omega
      | ⟨1, _⟩ => show (r.val * 2816 + (j.val - 0)) / 2816 % 8192 = r.val % 8192; omega
      | ⟨2, _⟩ => show (r.val * 2816 + (j.val - 0)) % 2816 = j.val % 2816 % 2816; omega
  refine (concatenate_apply_piece (t := S8192x5632) (1 : Fin 2) _ _ (ix2 r j) 1 (by show 1 < 2; decide) S8192x2816 _ rfl rfl 2816 rfl
      (ix2 r (⟨j.val - 2816, by omega⟩ : Fin 2816)) (fun b hb => ?_) (by show 2816 + (j.val - 2816) = j.val; omega)).trans ?_
  · match b with
    | ⟨0, _⟩ => rfl
    | ⟨1, _⟩ => exact absurd rfl hb
  · rw [val_main_v8_apply, val_main_v7_apply]
    show x0 _ = x0 _
    congr 1; funext b; apply Fin.ext
    match b with
    | ⟨0, _⟩ => show 1 + 0 = j.val / 2816 % 2; omega
    | ⟨1, _⟩ => show (r.val * 2816 + (j.val - 2816)) / 2816 % 8192 = r.val % 8192; omega
    | ⟨2, _⟩ => show (r.val * 2816 + (j.val - 2816)) % 2816 = j.val % 2816 % 2816; omega

/-- The output gradient at a row and a column. -/
theorem x_at (r : Fin 8192) (j : Fin 5632) : val_main_v10 (F := Ideal) x0 (ix2 r j) = at3 (G := 2) (A := 8192) (B := 2816) x0 r.val j.val := by
  rw [val_main_v10_apply]
  exact cat_at x0 r j

/-- The weight at a row and a column. -/
theorem w_at (r : Fin 1024) (j : Fin 5632) : val_main_v1 (F := Ideal) x1 (ix2 r j) = at2 (A := 1024) (B := 5632) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 5632; omega

/-- The same argument at an index, as it stands. -/
theorem d_at (i : (⟨2, ![8192, 1024]⟩ : Shape).Idx) : x2 i = at2 (A := 8192) (B := 1024) x2 (i 0).val (i 1).val := by
  show x2 _ = x2 _
  congr 1; funext b; apply Fin.ext
  match b with
  | ⟨0, _⟩ => exact (Nat.mod_eq_of_lt (i 0).isLt).symm
  | ⟨1, _⟩ => exact (Nat.mod_eq_of_lt (i 1).isLt).symm

/-- The reference's input gradient. -/
theorem v16_eq : val_main_v16 (F := Ideal) x0 x1 x2 = FfnUpDxOf x0 x1 x2 := by
  funext i
  rw [val_main_v16_apply, val_main_v13_apply, val_main_v15_apply, val_main_v14_apply]
  refine Eq.trans (add_comm _ _) ?_
  refine congr (congrArg (fun a b : EReal => a + b) (congrArg ((Scalar.ofBits (F := Ideal) .f32 0x3FD744FD#32 : EReal) * ·) (d_at x2 i))) (Finset.sum_congr rfl fun k _ => ?_)
  exact congr (congrArg (fun a b : EReal => a * b) ((congrArg (val_main_v10 (F := Ideal) x0) (eq_ix2 _)).trans (x_at x0 (i 0) k)))
    ((congrArg (val_main_v1 (F := Ideal) x1) (eq_ix2 _)).trans (w_at x1 (i 1) k))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v16) = FfnUpDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v16_eq _ _ _).trans (v16_eq _ _ _)), (h c).2⟩)
    (run m ρ)

/-- The reference ends with its arguments as they were; it declares no semaphore. -/
theorem ends : Cert.quiescent_FfnUpDxRefIdeal := fun m ρ _ =>
  (θ_run _ _ _).mono (fun _ h => ⟨fun c => (h c).2, funext fun g => nomatch g.2⟩) (Cert.FfnUpDxRefIdeal.Value.run m ρ)

end Cert.FfnUpDxRefIdeal.Value

/-- The kernel's value and the reference's, over the ideal reals. -/
theorem FfnUpDx_value : Cert.algebraic_FfnUpDxIdeal_FfnUpDxRefIdeal :=
  fun m g m' g' _ h => ⟨fun c => FfnUpDxOf (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)),
    Cert.FfnUpDxIdeal.Value.run_value m g,
    (θ_run _ _ _).mono (fun r hr c => by
      have hc := hr c
      obtain ⟨a0, a1, a2⟩ := h c
      refine ⟨hc.1.trans ?_, hc.2⟩ <;> rw [a0, a1, a2] <;> rfl)
      (Cert.FfnUpDxRefIdeal.Value.run_value m' g')⟩

end
-- ==== Proof.ScInDxRun.lean ====
/- The input gradient of the short convolution's input projection: the kernel leaves the product over every output column, added to the scaled residual gradient. -/
module

public import proofs.«01_k».proof.Proof.Products
public import proofs.«01_k».proof.Proof.Gen.ScInDxIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The input gradient of the short convolution's input projection: at a row and an input column, the sum over the output columns, plus the scaled residual gradient. -/
def ScInDxOf (x : Vec Ideal ⟨3, ![3, 8192, 1024]⟩ .bf16) (w : Vec Ideal ⟨2, ![1024, 3072]⟩ .bf16) (d : Vec Ideal ⟨2, ![8192, 1024]⟩ .f32) : Vec Ideal ⟨2, ![8192, 1024]⟩ .f32 := fun i =>
  (Scalar.ofBits (F := Ideal) .f32 0x3FD744FD#32 : EReal) * Products.at2 (A := 8192) (B := 1024) d (i 0).val (i 1).val
    + ∑ k : Fin 3072, Products.at3 (G := 3) (A := 8192) (B := 1024) x (i 0).val k.val * Products.at2 (A := 1024) (B := 3072) w (i 1).val k.val

namespace Cert.ScInDxIdeal.Value

open Cert.ScInDxIdeal Cert.ScInDxIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of columns: the accumulator starts at the scaled residual gradient. -/
theorem sout0_A_0_eq (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 : Vec Ideal S1x1024x1024 .bf16) (x1 : Vec Ideal S1x1024x1024 .bf16) (x2 : Vec Ideal S1024x1024 .f32) :
    sout0_A_0 (F := Ideal) c i arg2 harg2 arg3 harg3 arg4 harg4 arg5 harg5 arg6 harg6 hc0 hc1 x0 x1 x2 = k0_pay2 (k0_pay1 (F := Ideal) x2) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread, harg5.read_unread, harg6.read_unread, View.ld_unit_zero (S := S1024x1024) hz2, View.ld_unit_zero (S := S1x1024x1024) hz3]
  rw [View.canon_cons_unit_zero (S := S1024x1024) hz2, View.readCov_unit_zero (S := S1024x1024) _ hz2]

/-- A middle step adds its product. -/
theorem sout0_B_0_eq (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 : Vec Ideal S1x1024x1024 .bf16) (x1 : Vec Ideal S1x1024x1024 .bf16) (x2 : Vec Ideal S1024x1024 .f32) (xs0 : Vec Ideal S1024x1024 .f32) :
    sout0_B_0 (F := Ideal) c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg5.read_unread, harg6.read_unread, View.ld_unit_zero (S := S1024x1024) hz2, View.ld_unit_zero (S := S1x1024x1024) hz3]
  rw [View.canon_unit_zero (S := S1024x1024) hz2]

/-- The last step adds its product and hands the accumulator out. -/
theorem out0_C_3_eq (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec Ideal S1x1024x1024 .bf16) (x1 : Vec Ideal S1x1024x1024 .bf16) (x2 : Vec Ideal S1024x1024 .f32) (xs0 : Vec Ideal S1024x1024 .f32) :
    out0_C_3 (F := Ideal) c i arg2 harg2 arg3 harg3 arg4 harg4 arg5 harg5 arg6 harg6 hc0 hc1 x0 x1 x2 xs0 = k0_pay2 xs0 x0 x1 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg5.read_unread, harg6.read_unread, View.ld_unit_zero (S := S1024x1024) hz2, View.ld_unit_zero (S := S1x1024x1024) hz3]
  rw [View.canon_unit_zero (S := S1024x1024) hz2, View.readCov_unit_zero (S := S1024x1024) _ hz2]

/-- The start is the scaled residual gradient. -/
theorem pay1_at (d : Vec Ideal S1024x1024 .f32) (i : S1024x1024.Idx) : k0_pay1 (F := Ideal) d i = (Scalar.ofBits (F := Ideal) .f32 0x3FD744FD#32 : EReal) * d i := by
  unfold k0_pay1; rw [shapeCast_self]; rfl

/-- One step's accumulation at an index. -/
theorem pay2_at (acc : Vec Ideal S1024x1024 .f32) (a : Vec Ideal S1x1024x1024 .bf16) (b : Vec Ideal S1x1024x1024 .bf16) (p q : Fin 1024) :
    k0_pay2 (F := Ideal) acc a b (ix2 p q) = acc (ix2 p q) + ∑ k : Fin 1024, a (ix3 0 p k) * b (ix3 0 q k) := by
  unfold k0_pay2; rw [shapeCast_self]
  refine congrArg (acc (ix2 p q) + ·) ?_
  refine (Ideal.matmul_transposedRhs_apply (M := 1024) (K := 1024) (N := 1024) none (shapeCast S1024x1024 a shapeCasts_S1x1024x1024_S1024x1024) (shapeCast S1024x1024 b shapeCasts_S1x1024x1024_S1024x1024) (constant S1024x1024 .f32 0x00000000#32) p q).trans ?_
  rw [zero_const, zero_add]
  exact Finset.sum_congr rfl fun k _ => congr (congrArg (fun u v : EReal => u * v) (dropUnit_apply (A := 1024) (B := 1024) a _ p k)) (dropUnit_apply (A := 1024) (B := 1024) b _ q k)

variable (m : (ℓ : Loc nD τ sig) → Buf (Elt Ideal) ℓ) (ρ : Dev nD → PrngReg)

theorem ltN (t : Fin cfg0.N) : t.val < 24 := lt_of_lt_of_eq t.isLt N_0
theorem ix0 : ∀ t : Fin grid0.N, win0_0.index t 0 = t.val % 3 / 1 ∧ win0_0.index t 1 = t.val / 3 ∧ win0_0.index t 2 = t.val % 3 % 1 := by decide +kernel
theorem ix1' : ∀ t : Fin grid0.N, win0_1.index t 0 = 0 ∧ win0_1.index t 1 = 0 ∧ win0_1.index t 2 = t.val % 3 := by decide +kernel
theorem ix2' : ∀ t : Fin grid0.N, win0_2.index t 0 = t.val / 3 ∧ win0_2.index t 1 = 0 := by decide +kernel

/-- The first window's block: a tile of rows and output columns. -/
theorem blk0 (c : Dev nD) (t : Fin cfg0.N) (p : Fin 1024) (k : Fin 1024) :
    iblk m c 0 t (ix3 0 p k) = at3 (G := 3) (A := 8192) (B := 1024) (m ((c.tc : Thread nD τ).loc main_arg0)) (t.val / 3 * 1024 + p.val) (t.val % 3 * 1024 + k.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 1 + 1 * 0 = (t.val % 3 * 1024 + k.val) / 1024 % 3; rw [(ix0 t).1]; omega
  | ⟨1, _⟩ => show win0_0.index t 1 * 1024 + 1 * p.val = (t.val / 3 * 1024 + p.val) % 8192; rw [(ix0 t).2.1]; omega
  | ⟨2, _⟩ => show win0_0.index t 2 * 1024 + 1 * k.val = (t.val % 3 * 1024 + k.val) % 1024 % 1024; rw [(ix0 t).2.2]; omega

/-- The second window's block: every input column's weight over the same output columns. -/
theorem blk1 (c : Dev nD) (t : Fin cfg0.N) (q : Fin 1024) (k : Fin 1024) :
    iblk m c 1 t (ix3 0 q k) = at2 (A := 1024) (B := 3072) (m ((c.tc : Thread nD τ).loc main_arg1)) q.val (t.val % 3 * 1024 + k.val) := by
  have ht := ltN t; have hk := k.isLt; have hq := q.isLt
  unfold iblk
  rw [View.read_apply]
  show (StableHlo.after hostOps0 (fun b => m (c, b)) (Proc.tc.devRef main_v0) : S1x1024x3072.Idx → EReal) _ = m ((c.tc : Thread nD τ).loc main_arg1) _
  have e : (StableHlo.after hostOps0 (fun b => m (c, b)) (Proc.tc.devRef main_v0) : S1x1024x3072.Idx → EReal)
      = broadcastInDim S1x1024x3072 ![1, 2] bcast_S1024x3072_S1x1024x3072_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * q.val = q.val % 1024; rw [(ix1' t).2.1]; omega
  | ⟨1, _⟩ => show win0_1.index t 2 * 1024 + 1 * k.val = (t.val % 3 * 1024 + k.val) % 3072; rw [(ix1' t).2.2]; omega

/-- The third window's block: the residual gradient's tile of rows. -/
theorem blk2 (c : Dev nD) (t : Fin cfg0.N) (p q : Fin 1024) :
    iblk m c 2 t (ix2 p q) = at2 (A := 8192) (B := 1024) (m ((c.tc : Thread nD τ).loc main_arg2)) (t.val / 3 * 1024 + p.val) q.val := by
  have ht := ltN t; have hp := p.isLt; have hq := q.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 1024 + 1 * p.val = (t.val / 3 * 1024 + p.val) % 8192; rw [(ix2' t).1]; omega
  | ⟨1, _⟩ => show win0_2.index t 1 * 1024 + 1 * q.val = q.val % 1024; rw [(ix2' t).2]; omega

/-- What one tile of columns adds at an index. -/
abbrev term (c : Dev nD) (n : ℕ) (p q : Fin 1024) (s : ℕ) : EReal :=
  ∑ k : Fin 1024, at3 (G := 3) (A := 8192) (B := 1024) (m ((c.tc : Thread nD τ).loc main_arg0)) (n / 3 * 1024 + p.val) (s * 1024 + k.val) * at2 (A := 1024) (B := 3072) (m ((c.tc : Thread nD τ).loc main_arg1)) q.val (s * 1024 + k.val)

/-- What a run of tiles starts from. -/
abbrev start (c : Dev nD) (n : ℕ) (p q : Fin 1024) : EReal := (Scalar.ofBits (F := Ideal) .f32 0x3FD744FD#32 : EReal) * at2 (A := 8192) (B := 1024) (m ((c.tc : Thread nD τ).loc main_arg2)) (n / 3 * 1024 + p.val) q.val

theorem step_at (c : Dev nD) (t : Fin cfg0.N) (acc : Vec Ideal S1024x1024 .f32) (p q : Fin 1024) :
    k0_pay2 (F := Ideal) acc (iblk m c 0 t) (iblk m c 1 t) (ix2 p q) = acc (ix2 p q) + term m c t.val p q (t.val % 3) := by
  rw [pay2_at]
  refine congrArg (acc (ix2 p q) + ·) (Finset.sum_congr rfl fun k _ => ?_)
  exact congr (congrArg (fun a b : EReal => a * b) (blk0 m c t p k)) (blk1 m c t q k)

theorem start_at (c : Dev nD) (t : Fin cfg0.N) (p q : Fin 1024) : k0_pay1 (F := Ideal) (iblk m c 2 t) (ix2 p q) = start m c t.val p q := by
  refine (pay1_at _ _).trans ?_
  exact congrArg ((Scalar.ofBits (F := Ideal) .f32 0x3FD744FD#32 : EReal) * ·) (blk2 m c t p q)

theorem first_at (c : Dev nD) (t : Fin cfg0.N) (h0 : t.val % 3 = 0) (h3 : ¬t.val % 3 = 2) (p q : Fin 1024) :
    (outsAt0 m c t.val t.isLt).2 (ix2 p q) = start m c t.val p q + ∑ s ∈ Finset.range (t.val % 3 + 1), term m c t.val p q s := by
  rw [outsAt0_A m c t h0 h3]
  dsimp only
  rw [sout0_A_0_eq, step_at, start_at, h0]
  exact congrArg (start m c t.val p q + ·) (Finset.sum_range_one _).symm

/-- Before the last step the accumulator is the start and the sum over the tiles of columns seen. -/
theorem scr (c : Dev nD) (n : ℕ) (hn : n < cfg0.N) (h3 : ¬n % 3 = 2) (p q : Fin 1024) :
    (outsAt0 m c n hn).2 (ix2 p q) = start m c n p q + ∑ s ∈ Finset.range (n % 3 + 1), term m c n p q s := by
  induction n with
  | zero => exact first_at m c ⟨0, hn⟩ rfl h3 p q
  | succ n ih =>
    by_cases h0 : (n + 1) % 3 = 0
    · exact first_at m c ⟨n + 1, hn⟩ h0 h3 p q
    · rw [outsAt0_B m c ⟨n + 1, hn⟩ h0 h3]
      dsimp only
      rw [sout0_B_0_eq, step_at]
      have e := ih (Nat.lt_of_succ_lt hn) (by omega)
      refine (congrArg (· + term m c (n + 1) p q ((n + 1) % 3)) e).trans ?_
      have e1 : (n + 1) % 3 = n % 3 + 1 := by omega
      have e2 : (n + 1) / 3 = n / 3 := by omega
      rw [e1]
      unfold term start
      rw [e2]
      refine (add_assoc _ _ _).trans (congrArg (fun z : EReal => (Scalar.ofBits (F := Ideal) .f32 0x3FD744FD#32 : EReal) * at2 (A := 8192) (B := 1024) (m ((c.tc : Thread nD τ).loc main_arg2)) (n / 3 * 1024 + p.val) q.val + z) ?_)
      exact (Finset.sum_range_succ _ (n % 3 + 1)).symm

/-- At the last step of a run of tiles, the output's block. -/
theorem out_at (c : Dev nD) (t : Fin cfg0.N) (h3 : t.val % 3 = 2) (p q : Fin 1024) :
    (outsAt0 m c t.val t.isLt).1 (ix2 p q)
      = start m c t.val p q + ∑ k : Fin 3072, at3 (G := 3) (A := 8192) (B := 1024) (m ((c.tc : Thread nD τ).loc main_arg0)) (t.val / 3 * 1024 + p.val) k.val * at2 (A := 1024) (B := 3072) (m ((c.tc : Thread nD τ).loc main_arg1)) q.val k.val := by
  have h0 : ¬t.val % 3 = 0 := by omega
  rw [outsAt0_C m c t h0 h3]
  dsimp only
  rw [out0_C_3_eq, step_at, scr m c (t.val - 1) _ (by omega)]
  have e1 : (t.val - 1) % 3 + 1 = 2 := by omega
  have e2 : (t.val - 1) / 3 = t.val / 3 := by omega
  unfold term start
  rw [e1, e2, h3]
  refine (add_assoc _ _ _).trans (congrArg (fun z : EReal => (Scalar.ofBits (F := Ideal) .f32 0x3FD744FD#32 : EReal) * at2 (A := 8192) (B := 1024) (m ((c.tc : Thread nD τ).loc main_arg2)) (t.val / 3 * 1024 + p.val) q.val + z) ?_)
  refine (Finset.sum_range_succ _ 2).symm.trans ?_
  exact sum_tiles 3 1024 (fun k => at3 (G := 3) (A := 8192) (B := 1024) (m ((c.tc : Thread nD τ).loc main_arg0)) (t.val / 3 * 1024 + p.val) k * at2 (A := 1024) (B := 3072) (m ((c.tc : Thread nD τ).loc main_arg1)) q.val k)

/-- The array the run leaves. -/
theorem final (c : Dev nD) : G3 m c = ScInDxOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  have hp : pt3Of i < cfg0.N := lt_of_lt_of_eq (by unfold pt3Of run3Of; omega) N_0.symm
  unfold G3
  rw [dif_pos hp, ← outsAt0_sweep m c _ hp]
  refine (congrArg (outsAt0 m c (pt3Of i) hp).1 (eq_ix2 (loc3Of i))).trans ?_
  have hm : pt3Of i % 3 = 2 := by unfold pt3Of; omega
  refine (out_at m c ⟨pt3Of i, hp⟩ hm _ _).trans ?_
  have e0 : pt3Of i / 3 * 1024 + (i 0).val % 1024 = (i 0).val := by unfold pt3Of run3Of; omega
  have e1 : (i 1).val % 1024 = (i 1).val := by omega
  exact congr (congrArg (fun a b : EReal => a + b) (congrArg ((Scalar.ofBits (F := Ideal) .f32 0x3FD744FD#32 : EReal) * ·) (congr (congrArg (at2 (A := 8192) (B := 1024) (m ((c.tc : Thread nD τ).loc main_arg2))) e0) e1)))
    (Finset.sum_congr rfl fun k _ => congr (congrArg (fun a b : EReal => a * b) (congrArg (fun r => at3 (G := 3) (A := 8192) (B := 1024) (m ((c.tc : Thread nD τ).loc main_arg0)) r k.val) e0)) (congrArg (fun r => at2 (A := 1024) (B := 3072) (m ((c.tc : Thread nD τ).loc main_arg1)) r k.val) e1))

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = ScInDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run m ρ)

end Cert.ScInDxIdeal.Value

end
-- ==== Proof.ScInDxRef.lean ====
/- The reference of the input gradient of the short convolution's input projection: the same sum, and the two runs together. -/
module

public import proofs.«01_k».proof.Proof.Products
public import proofs.«01_k».proof.Proof.ScInDxRun
public import proofs.«01_k».proof.Proof.Gen.ScInDxRefIdeal.Run
public import proofs.«01_k».proof.Proof.Gen.ScInDxRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScInDxRefIdeal.Value

open Cert.ScInDxRefIdeal Cert.ScInDxRefIdeal.Gen Cert.ScInDxRefIdeal.Read Products

variable (x0 : Vec Ideal S3x8192x1024 .bf16) (x1 : Vec Ideal S1024x3072 .bf16) (x2 : Vec Ideal S8192x1024 .f32)

/-- The parts side by side, at a row and a column. -/
theorem cat_at (r : Fin 8192) (j : Fin 3072) : val_main_v11 (F := Ideal) x0 (ix2 r j) = at3 (G := 3) (A := 8192) (B := 1024) x0 r.val j.val := by
  have hr := r.isLt; have hj := j.isLt
  unfold val_main_v11
  by_cases h0 : j.val < 1024
  · refine (concatenate_apply_piece (t := S8192x3072) (1 : Fin 2) _ _ (ix2 r j) 0 (by show 0 < 3; decide) S8192x1024 _ rfl rfl 0 rfl
      (ix2 r (⟨j.val - 0, by omega⟩ : Fin 1024)) (fun b hb => ?_) (by show 0 + (j.val - 0) = j.val; omega)).trans ?_
    · match b with
      | ⟨0, _⟩ => rfl
      | ⟨1, _⟩ => exact absurd rfl hb
    · rw [val_main_v6_apply, val_main_v5_apply]
      show x0 _ = x0 _
      congr 1; funext b; apply Fin.ext
      match b with
      | ⟨0, _⟩ => show 0 = j.val / 1024 % 3; omega
      | ⟨1, _⟩ => show (r.val * 1024 + (j.val - 0)) / 1024 % 8192 = r.val % 8192; omega
      | ⟨2, _⟩ => show (r.val * 1024 + (j.val - 0)) % 1024 = j.val % 1024 % 1024; omega
  by_cases h1 : j.val < 2048
  · refine (concatenate_apply_piece (t := S8192x3072) (1 : Fin 2) _ _ (ix2 r j) 1 (by show 1 < 3; decide) S8192x1024 _ rfl rfl 1024 rfl
      (ix2 r (⟨j.val - 1024, by omega⟩ : Fin 1024)) (fun b hb => ?_) (by show 1024 + (j.val - 1024) = j.val; omega)).trans ?_
    · match b with
      | ⟨0, _⟩ => rfl
      | ⟨1, _⟩ => exact absurd rfl hb
    · rw [val_main_v8_apply, val_main_v7_apply]
      show x0 _ = x0 _
      congr 1; funext b; apply Fin.ext
      match b with
      | ⟨0, _⟩ => show 1 + 0 = j.val / 1024 % 3; omega
      | ⟨1, _⟩ => show (r.val * 1024 + (j.val - 1024)) / 1024 % 8192 = r.val % 8192; omega
      | ⟨2, _⟩ => show (r.val * 1024 + (j.val - 1024)) % 1024 = j.val % 1024 % 1024; omega
  refine (concatenate_apply_piece (t := S8192x3072) (1 : Fin 2) _ _ (ix2 r j) 2 (by show 2 < 3; decide) S8192x1024 _ rfl rfl 2048 rfl
      (ix2 r (⟨j.val - 2048, by omega⟩ : Fin 1024)) (fun b hb => ?_) (by show 2048 + (j.val - 2048) = j.val; omega)).trans ?_
  · match b with
    | ⟨0, _⟩ => rfl
    | ⟨1, _⟩ => exact absurd rfl hb
  · rw [val_main_v10_apply, val_main_v9_apply]
    show x0 _ = x0 _
    congr 1; funext b; apply Fin.ext
    match b with
    | ⟨0, _⟩ => show 2 + 0 = j.val / 1024 % 3; omega
    | ⟨1, _⟩ => show (r.val * 1024 + (j.val - 2048)) / 1024 % 8192 = r.val % 8192; omega
    | ⟨2, _⟩ => show (r.val * 1024 + (j.val - 2048)) % 1024 = j.val % 1024 % 1024; omega

/-- The output gradient at a row and a column. -/
theorem x_at (r : Fin 8192) (j : Fin 3072) : val_main_v12 (F := Ideal) x0 (ix2 r j) = at3 (G := 3) (A := 8192) (B := 1024) x0 r.val j.val := by
  rw [val_main_v12_apply]
  exact cat_at x0 r j

/-- The weight at a row and a column. -/
theorem w_at (r : Fin 1024) (j : Fin 3072) : val_main_v1 (F := Ideal) x1 (ix2 r j) = at2 (A := 1024) (B := 3072) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 3072; omega

/-- The same argument at an index, as it stands. -/
theorem d_at (i : (⟨2, ![8192, 1024]⟩ : Shape).Idx) : x2 i = at2 (A := 8192) (B := 1024) x2 (i 0).val (i 1).val := by
  show x2 _ = x2 _
  congr 1; funext b; apply Fin.ext
  match b with
  | ⟨0, _⟩ => exact (Nat.mod_eq_of_lt (i 0).isLt).symm
  | ⟨1, _⟩ => exact (Nat.mod_eq_of_lt (i 1).isLt).symm

/-- The reference's input gradient. -/
theorem v18_eq : val_main_v18 (F := Ideal) x0 x1 x2 = ScInDxOf x0 x1 x2 := by
  funext i
  rw [val_main_v18_apply, val_main_v15_apply, val_main_v17_apply, val_main_v16_apply]
  refine Eq.trans (add_comm _ _) ?_
  refine congr (congrArg (fun a b : EReal => a + b) (congrArg ((Scalar.ofBits (F := Ideal) .f32 0x3FD744FD#32 : EReal) * ·) (d_at x2 i))) (Finset.sum_congr rfl fun k _ => ?_)
  exact congr (congrArg (fun a b : EReal => a * b) ((congrArg (val_main_v12 (F := Ideal) x0) (eq_ix2 _)).trans (x_at x0 (i 0) k)))
    ((congrArg (val_main_v1 (F := Ideal) x1) (eq_ix2 _)).trans (w_at x1 (i 1) k))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v18) = ScInDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v18_eq _ _ _).trans (v18_eq _ _ _)), (h c).2⟩)
    (run m ρ)

/-- The reference ends with its arguments as they were; it declares no semaphore. -/
theorem ends : Cert.quiescent_ScInDxRefIdeal := fun m ρ _ =>
  (θ_run _ _ _).mono (fun _ h => ⟨fun c => (h c).2, funext fun g => nomatch g.2⟩) (Cert.ScInDxRefIdeal.Value.run m ρ)

end Cert.ScInDxRefIdeal.Value

/-- The kernel's value and the reference's, over the ideal reals. -/
theorem ScInDx_value : Cert.algebraic_ScInDxIdeal_ScInDxRefIdeal :=
  fun m g m' g' _ h => ⟨fun c => ScInDxOf (m ((c.tc : Thread Cert.ScInDxIdeal.nD Cert.ScInDxIdeal.τ).loc Cert.ScInDxIdeal.main_arg0)) (m ((c.tc : Thread Cert.ScInDxIdeal.nD Cert.ScInDxIdeal.τ).loc Cert.ScInDxIdeal.main_arg1)) (m ((c.tc : Thread Cert.ScInDxIdeal.nD Cert.ScInDxIdeal.τ).loc Cert.ScInDxIdeal.main_arg2)),
    Cert.ScInDxIdeal.Value.run_value m g,
    (θ_run _ _ _).mono (fun r hr c => by
      have hc := hr c
      obtain ⟨a0, a1, a2⟩ := h c
      refine ⟨hc.1.trans ?_, hc.2⟩ <;> rw [a0, a1, a2] <;> rfl)
      (Cert.ScInDxRefIdeal.Value.run_value m' g')⟩

end
-- ==== Proof.LruInDxRun.lean ====
/- The input gradient of the recurrence's input projection: the kernel leaves the product over every output column, added to the scaled residual gradient. -/
module

public import proofs.«01_k».proof.Proof.Products
public import proofs.«01_k».proof.Proof.Gen.LruInDxIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The input gradient of the recurrence's input projection: at a row and an input column, the sum over the output columns, plus the scaled residual gradient. -/
def LruInDxOf (x : Vec Ideal ⟨3, ![2, 8192, 1280]⟩ .bf16) (w : Vec Ideal ⟨2, ![1024, 2560]⟩ .bf16) (d : Vec Ideal ⟨2, ![8192, 1024]⟩ .f32) : Vec Ideal ⟨2, ![8192, 1024]⟩ .f32 := fun i =>
  (Scalar.ofBits (F := Ideal) .f32 0x3FD744FD#32 : EReal) * Products.at2 (A := 8192) (B := 1024) d (i 0).val (i 1).val
    + ∑ k : Fin 2560, Products.at3 (G := 2) (A := 8192) (B := 1280) x (i 0).val k.val * Products.at2 (A := 1024) (B := 2560) w (i 1).val k.val

namespace Cert.LruInDxIdeal.Value

open Cert.LruInDxIdeal Cert.LruInDxIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a tile of columns: the accumulator starts at the scaled residual gradient. -/
theorem sout0_A_0_eq (c : Dev nD) (i : grid0.Coords) (arg2 : Memref sig .tc .vmem S1x1024x1280 .bf16) (harg2 : arg2.IsWhole) (arg3 : Memref sig .tc .vmem S1x1024x1280 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 : Vec Ideal S1x1024x1280 .bf16) (x1 : Vec Ideal S1x1024x1280 .bf16) (x2 : Vec Ideal S1024x1024 .f32) :
    sout0_A_0 (F := Ideal) c i arg2 harg2 arg3 harg3 arg4 harg4 arg5 harg5 arg6 harg6 hc0 hc1 x0 x1 x2 = k0_pay2 (k0_pay1 (F := Ideal) x2) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread, harg5.read_unread, harg6.read_unread, View.ld_unit_zero (S := S1024x1024) hz2, View.ld_unit_zero (S := S1x1024x1280) hz3]
  rw [View.canon_cons_unit_zero (S := S1024x1024) hz2, View.readCov_unit_zero (S := S1024x1024) _ hz2]

/-- The last step adds its product and hands the accumulator out. -/
theorem out0_B_3_eq (c : Dev nD) (i : grid0.Coords) (arg2 : Memref sig .tc .vmem S1x1024x1280 .bf16) (harg2 : arg2.IsWhole) (arg3 : Memref sig .tc .vmem S1x1024x1280 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec Ideal S1x1024x1280 .bf16) (x1 : Vec Ideal S1x1024x1280 .bf16) (x2 : Vec Ideal S1024x1024 .f32) (xs0 : Vec Ideal S1024x1024 .f32) :
    out0_B_3 (F := Ideal) c i arg2 harg2 arg3 harg3 arg4 harg4 arg5 harg5 arg6 harg6 hc0 hc1 x0 x1 x2 xs0 = k0_pay2 xs0 x0 x1 := by
  unfold out0_B_3
  rw [View.read_writes_eq_canon _ _ _ (cover0_B_3 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg5.read_unread, harg6.read_unread, View.ld_unit_zero (S := S1024x1024) hz2, View.ld_unit_zero (S := S1x1024x1280) hz3]
  rw [View.canon_unit_zero (S := S1024x1024) hz2, View.readCov_unit_zero (S := S1024x1024) _ hz2]

/-- The start is the scaled residual gradient. -/
theorem pay1_at (d : Vec Ideal S1024x1024 .f32) (i : S1024x1024.Idx) : k0_pay1 (F := Ideal) d i = (Scalar.ofBits (F := Ideal) .f32 0x3FD744FD#32 : EReal) * d i := by
  unfold k0_pay1; rw [shapeCast_self]; rfl

/-- One step's accumulation at an index. -/
theorem pay2_at (acc : Vec Ideal S1024x1024 .f32) (a : Vec Ideal S1x1024x1280 .bf16) (b : Vec Ideal S1x1024x1280 .bf16) (p q : Fin 1024) :
    k0_pay2 (F := Ideal) acc a b (ix2 p q) = acc (ix2 p q) + ∑ k : Fin 1280, a (ix3 0 p k) * b (ix3 0 q k) := by
  unfold k0_pay2; rw [shapeCast_self]
  refine congrArg (acc (ix2 p q) + ·) ?_
  refine (Ideal.matmul_transposedRhs_apply (M := 1024) (K := 1280) (N := 1024) none (shapeCast S1024x1280 a shapeCasts_S1x1024x1280_S1024x1280) (shapeCast S1024x1280 b shapeCasts_S1x1024x1280_S1024x1280) (constant S1024x1024 .f32 0x00000000#32) p q).trans ?_
  rw [zero_const, zero_add]
  exact Finset.sum_congr rfl fun k _ => congr (congrArg (fun u v : EReal => u * v) (dropUnit_apply (A := 1024) (B := 1280) a _ p k)) (dropUnit_apply (A := 1024) (B := 1280) b _ q k)

variable (m : (ℓ : Loc nD τ sig) → Buf (Elt Ideal) ℓ) (ρ : Dev nD → PrngReg)

theorem ltN (t : Fin cfg0.N) : t.val < 16 := lt_of_lt_of_eq t.isLt N_0
theorem ix0 : ∀ t : Fin grid0.N, win0_0.index t 0 = t.val % 2 / 1 ∧ win0_0.index t 1 = t.val / 2 ∧ win0_0.index t 2 = t.val % 2 % 1 := by decide +kernel
theorem ix1' : ∀ t : Fin grid0.N, win0_1.index t 0 = 0 ∧ win0_1.index t 1 = 0 ∧ win0_1.index t 2 = t.val % 2 := by decide +kernel
theorem ix2' : ∀ t : Fin grid0.N, win0_2.index t 0 = t.val / 2 ∧ win0_2.index t 1 = 0 := by decide +kernel

/-- The first window's block: a tile of rows and output columns. -/
theorem blk0 (c : Dev nD) (t : Fin cfg0.N) (p : Fin 1024) (k : Fin 1280) :
    iblk m c 0 t (ix3 0 p k) = at3 (G := 2) (A := 8192) (B := 1280) (m ((c.tc : Thread nD τ).loc main_arg0)) (t.val / 2 * 1024 + p.val) (t.val % 2 * 1280 + k.val) := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 1 + 1 * 0 = (t.val % 2 * 1280 + k.val) / 1280 % 2; rw [(ix0 t).1]; omega
  | ⟨1, _⟩ => show win0_0.index t 1 * 1024 + 1 * p.val = (t.val / 2 * 1024 + p.val) % 8192; rw [(ix0 t).2.1]; omega
  | ⟨2, _⟩ => show win0_0.index t 2 * 1280 + 1 * k.val = (t.val % 2 * 1280 + k.val) % 1280 % 1280; rw [(ix0 t).2.2]; omega

/-- The second window's block: every input column's weight over the same output columns. -/
theorem blk1 (c : Dev nD) (t : Fin cfg0.N) (q : Fin 1024) (k : Fin 1280) :
    iblk m c 1 t (ix3 0 q k) = at2 (A := 1024) (B := 2560) (m ((c.tc : Thread nD τ).loc main_arg1)) q.val (t.val % 2 * 1280 + k.val) := by
  have ht := ltN t; have hk := k.isLt; have hq := q.isLt
  unfold iblk
  rw [View.read_apply]
  show (StableHlo.after hostOps0 (fun b => m (c, b)) (Proc.tc.devRef main_v0) : S1x1024x2560.Idx → EReal) _ = m ((c.tc : Thread nD τ).loc main_arg1) _
  have e : (StableHlo.after hostOps0 (fun b => m (c, b)) (Proc.tc.devRef main_v0) : S1x1024x2560.Idx → EReal)
      = broadcastInDim S1x1024x2560 ![1, 2] bcast_S1024x2560_S1x1024x2560_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * q.val = q.val % 1024; rw [(ix1' t).2.1]; omega
  | ⟨1, _⟩ => show win0_1.index t 2 * 1280 + 1 * k.val = (t.val % 2 * 1280 + k.val) % 2560; rw [(ix1' t).2.2]; omega

/-- The third window's block: the residual gradient's tile of rows. -/
theorem blk2 (c : Dev nD) (t : Fin cfg0.N) (p q : Fin 1024) :
    iblk m c 2 t (ix2 p q) = at2 (A := 8192) (B := 1024) (m ((c.tc : Thread nD τ).loc main_arg2)) (t.val / 2 * 1024 + p.val) q.val := by
  have ht := ltN t; have hp := p.isLt; have hq := q.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 1024 + 1 * p.val = (t.val / 2 * 1024 + p.val) % 8192; rw [(ix2' t).1]; omega
  | ⟨1, _⟩ => show win0_2.index t 1 * 1024 + 1 * q.val = q.val % 1024; rw [(ix2' t).2]; omega

/-- What one tile of columns adds at an index. -/
abbrev term (c : Dev nD) (n : ℕ) (p q : Fin 1024) (s : ℕ) : EReal :=
  ∑ k : Fin 1280, at3 (G := 2) (A := 8192) (B := 1280) (m ((c.tc : Thread nD τ).loc main_arg0)) (n / 2 * 1024 + p.val) (s * 1280 + k.val) * at2 (A := 1024) (B := 2560) (m ((c.tc : Thread nD τ).loc main_arg1)) q.val (s * 1280 + k.val)

/-- What a run of tiles starts from. -/
abbrev start (c : Dev nD) (n : ℕ) (p q : Fin 1024) : EReal := (Scalar.ofBits (F := Ideal) .f32 0x3FD744FD#32 : EReal) * at2 (A := 8192) (B := 1024) (m ((c.tc : Thread nD τ).loc main_arg2)) (n / 2 * 1024 + p.val) q.val

theorem step_at (c : Dev nD) (t : Fin cfg0.N) (acc : Vec Ideal S1024x1024 .f32) (p q : Fin 1024) :
    k0_pay2 (F := Ideal) acc (iblk m c 0 t) (iblk m c 1 t) (ix2 p q) = acc (ix2 p q) + term m c t.val p q (t.val % 2) := by
  rw [pay2_at]
  refine congrArg (acc (ix2 p q) + ·) (Finset.sum_congr rfl fun k _ => ?_)
  exact congr (congrArg (fun a b : EReal => a * b) (blk0 m c t p k)) (blk1 m c t q k)

theorem start_at (c : Dev nD) (t : Fin cfg0.N) (p q : Fin 1024) : k0_pay1 (F := Ideal) (iblk m c 2 t) (ix2 p q) = start m c t.val p q := by
  refine (pay1_at _ _).trans ?_
  exact congrArg ((Scalar.ofBits (F := Ideal) .f32 0x3FD744FD#32 : EReal) * ·) (blk2 m c t p q)

theorem first_at (c : Dev nD) (t : Fin cfg0.N) (h0 : t.val % 2 = 0) (h3 : ¬t.val % 2 = 1) (p q : Fin 1024) :
    (outsAt0 m c t.val t.isLt).2 (ix2 p q) = start m c t.val p q + ∑ s ∈ Finset.range (t.val % 2 + 1), term m c t.val p q s := by
  rw [outsAt0_A m c t h0 h3]
  dsimp only
  rw [sout0_A_0_eq, step_at, start_at, h0]
  exact congrArg (start m c t.val p q + ·) (Finset.sum_range_one _).symm

/-- Before the last step the accumulator is the start and the sum over the tiles of columns seen. -/
theorem scr (c : Dev nD) (n : ℕ) (hn : n < cfg0.N) (h3 : ¬n % 2 = 1) (p q : Fin 1024) :
    (outsAt0 m c n hn).2 (ix2 p q) = start m c n p q + ∑ s ∈ Finset.range (n % 2 + 1), term m c n p q s := by
  induction n with
  | zero => exact first_at m c ⟨0, hn⟩ rfl h3 p q
  | succ n ih =>
    by_cases h0 : (n + 1) % 2 = 0
    · exact first_at m c ⟨n + 1, hn⟩ h0 h3 p q
    · exact absurd h3 (by omega)

/-- At the last step of a run of tiles, the output's block. -/
theorem out_at (c : Dev nD) (t : Fin cfg0.N) (h3 : t.val % 2 = 1) (p q : Fin 1024) :
    (outsAt0 m c t.val t.isLt).1 (ix2 p q)
      = start m c t.val p q + ∑ k : Fin 2560, at3 (G := 2) (A := 8192) (B := 1280) (m ((c.tc : Thread nD τ).loc main_arg0)) (t.val / 2 * 1024 + p.val) k.val * at2 (A := 1024) (B := 2560) (m ((c.tc : Thread nD τ).loc main_arg1)) q.val k.val := by
  have h0 : ¬t.val % 2 = 0 := by omega
  rw [outsAt0_B m c t h0 h3]
  dsimp only
  rw [out0_B_3_eq, step_at, scr m c (t.val - 1) _ (by omega)]
  have e1 : (t.val - 1) % 2 + 1 = 1 := by omega
  have e2 : (t.val - 1) / 2 = t.val / 2 := by omega
  unfold term start
  rw [e1, e2, h3]
  refine (add_assoc _ _ _).trans (congrArg (fun z : EReal => (Scalar.ofBits (F := Ideal) .f32 0x3FD744FD#32 : EReal) * at2 (A := 8192) (B := 1024) (m ((c.tc : Thread nD τ).loc main_arg2)) (t.val / 2 * 1024 + p.val) q.val + z) ?_)
  refine (Finset.sum_range_succ _ 1).symm.trans ?_
  exact sum_tiles 2 1280 (fun k => at3 (G := 2) (A := 8192) (B := 1280) (m ((c.tc : Thread nD τ).loc main_arg0)) (t.val / 2 * 1024 + p.val) k * at2 (A := 1024) (B := 2560) (m ((c.tc : Thread nD τ).loc main_arg1)) q.val k)

/-- The array the run leaves. -/
theorem final (c : Dev nD) : G3 m c = LruInDxOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  have hp : pt3Of i < cfg0.N := lt_of_lt_of_eq (by unfold pt3Of run3Of; omega) N_0.symm
  unfold G3
  rw [dif_pos hp, ← outsAt0_sweep m c _ hp]
  refine (congrArg (outsAt0 m c (pt3Of i) hp).1 (eq_ix2 (loc3Of i))).trans ?_
  have hm : pt3Of i % 2 = 1 := by unfold pt3Of; omega
  refine (out_at m c ⟨pt3Of i, hp⟩ hm _ _).trans ?_
  have e0 : pt3Of i / 2 * 1024 + (i 0).val % 1024 = (i 0).val := by unfold pt3Of run3Of; omega
  have e1 : (i 1).val % 1024 = (i 1).val := by omega
  exact congr (congrArg (fun a b : EReal => a + b) (congrArg ((Scalar.ofBits (F := Ideal) .f32 0x3FD744FD#32 : EReal) * ·) (congr (congrArg (at2 (A := 8192) (B := 1024) (m ((c.tc : Thread nD τ).loc main_arg2))) e0) e1)))
    (Finset.sum_congr rfl fun k _ => congr (congrArg (fun a b : EReal => a * b) (congrArg (fun r => at3 (G := 2) (A := 8192) (B := 1280) (m ((c.tc : Thread nD τ).loc main_arg0)) r k.val) e0)) (congrArg (fun r => at2 (A := 1024) (B := 2560) (m ((c.tc : Thread nD τ).loc main_arg1)) r k.val) e1))

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = LruInDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run m ρ)

end Cert.LruInDxIdeal.Value

end
-- ==== Proof.LruInDxRef.lean ====
/- The reference of the input gradient of the recurrence's input projection: the same sum, and the two runs together. -/
module

public import proofs.«01_k».proof.Proof.Products
public import proofs.«01_k».proof.Proof.LruInDxRun
public import proofs.«01_k».proof.Proof.Gen.LruInDxRefIdeal.Run
public import proofs.«01_k».proof.Proof.Gen.LruInDxRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruInDxRefIdeal.Value

open Cert.LruInDxRefIdeal Cert.LruInDxRefIdeal.Gen Cert.LruInDxRefIdeal.Read Products

variable (x0 : Vec Ideal S2x8192x1280 .bf16) (x1 : Vec Ideal S1024x2560 .bf16) (x2 : Vec Ideal S8192x1024 .f32)

/-- The parts side by side, at a row and a column. -/
theorem cat_at (r : Fin 8192) (j : Fin 2560) : val_main_v9 (F := Ideal) x0 (ix2 r j) = at3 (G := 2) (A := 8192) (B := 1280) x0 r.val j.val := by
  have hr := r.isLt; have hj := j.isLt
  unfold val_main_v9
  by_cases h0 : j.val < 1280
  · refine (concatenate_apply_piece (t := S8192x2560) (1 : Fin 2) _ _ (ix2 r j) 0 (by show 0 < 2; decide) S8192x1280 _ rfl rfl 0 rfl
      (ix2 r (⟨j.val - 0, by omega⟩ : Fin 1280)) (fun b hb => ?_) (by show 0 + (j.val - 0) = j.val; omega)).trans ?_
    · match b with
      | ⟨0, _⟩ => rfl
      | ⟨1, _⟩ => exact absurd rfl hb
    · rw [val_main_v6_apply, val_main_v5_apply]
      show x0 _ = x0 _
      congr 1; funext b; apply Fin.ext
      match b with
      | ⟨0, _⟩ => show 0 = j.val / 1280 % 2; omega
      | ⟨1, _⟩ => show (r.val * 1280 + (j.val - 0)) / 1280 % 8192 = r.val % 8192; omega
      | ⟨2, _⟩ => show (r.val * 1280 + (j.val - 0)) % 1280 = j.val % 1280 % 1280; omega
  refine (concatenate_apply_piece (t := S8192x2560) (1 : Fin 2) _ _ (ix2 r j) 1 (by show 1 < 2; decide) S8192x1280 _ rfl rfl 1280 rfl
      (ix2 r (⟨j.val - 1280, by omega⟩ : Fin 1280)) (fun b hb => ?_) (by show 1280 + (j.val - 1280) = j.val; omega)).trans ?_
  · match b with
    | ⟨0, _⟩ => rfl
    | ⟨1, _⟩ => exact absurd rfl hb
  · rw [val_main_v8_apply, val_main_v7_apply]
    show x0 _ = x0 _
    congr 1; funext b; apply Fin.ext
    match b with
    | ⟨0, _⟩ => show 1 + 0 = j.val / 1280 % 2; omega
    | ⟨1, _⟩ => show (r.val * 1280 + (j.val - 1280)) / 1280 % 8192 = r.val % 8192; omega
    | ⟨2, _⟩ => show (r.val * 1280 + (j.val - 1280)) % 1280 = j.val % 1280 % 1280; omega

/-- The output gradient at a row and a column. -/
theorem x_at (r : Fin 8192) (j : Fin 2560) : val_main_v10 (F := Ideal) x0 (ix2 r j) = at3 (G := 2) (A := 8192) (B := 1280) x0 r.val j.val := by
  rw [val_main_v10_apply]
  exact cat_at x0 r j

/-- The weight at a row and a column. -/
theorem w_at (r : Fin 1024) (j : Fin 2560) : val_main_v1 (F := Ideal) x1 (ix2 r j) = at2 (A := 1024) (B := 2560) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 2560; omega

/-- The same argument at an index, as it stands. -/
theorem d_at (i : (⟨2, ![8192, 1024]⟩ : Shape).Idx) : x2 i = at2 (A := 8192) (B := 1024) x2 (i 0).val (i 1).val := by
  show x2 _ = x2 _
  congr 1; funext b; apply Fin.ext
  match b with
  | ⟨0, _⟩ => exact (Nat.mod_eq_of_lt (i 0).isLt).symm
  | ⟨1, _⟩ => exact (Nat.mod_eq_of_lt (i 1).isLt).symm

/-- The reference's input gradient. -/
theorem v16_eq : val_main_v16 (F := Ideal) x0 x1 x2 = LruInDxOf x0 x1 x2 := by
  funext i
  rw [val_main_v16_apply, val_main_v13_apply, val_main_v15_apply, val_main_v14_apply]
  refine Eq.trans (add_comm _ _) ?_
  refine congr (congrArg (fun a b : EReal => a + b) (congrArg ((Scalar.ofBits (F := Ideal) .f32 0x3FD744FD#32 : EReal) * ·) (d_at x2 i))) (Finset.sum_congr rfl fun k _ => ?_)
  exact congr (congrArg (fun a b : EReal => a * b) ((congrArg (val_main_v10 (F := Ideal) x0) (eq_ix2 _)).trans (x_at x0 (i 0) k)))
    ((congrArg (val_main_v1 (F := Ideal) x1) (eq_ix2 _)).trans (w_at x1 (i 1) k))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v16) = LruInDxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v16_eq _ _ _).trans (v16_eq _ _ _)), (h c).2⟩)
    (run m ρ)

/-- The reference ends with its arguments as they were; it declares no semaphore. -/
theorem ends : Cert.quiescent_LruInDxRefIdeal := fun m ρ _ =>
  (θ_run _ _ _).mono (fun _ h => ⟨fun c => (h c).2, funext fun g => nomatch g.2⟩) (Cert.LruInDxRefIdeal.Value.run m ρ)

end Cert.LruInDxRefIdeal.Value

/-- The kernel's value and the reference's, over the ideal reals. -/
theorem LruInDx_value : Cert.algebraic_LruInDxIdeal_LruInDxRefIdeal :=
  fun m g m' g' _ h => ⟨fun c => LruInDxOf (m ((c.tc : Thread Cert.LruInDxIdeal.nD Cert.LruInDxIdeal.τ).loc Cert.LruInDxIdeal.main_arg0)) (m ((c.tc : Thread Cert.LruInDxIdeal.nD Cert.LruInDxIdeal.τ).loc Cert.LruInDxIdeal.main_arg1)) (m ((c.tc : Thread Cert.LruInDxIdeal.nD Cert.LruInDxIdeal.τ).loc Cert.LruInDxIdeal.main_arg2)),
    Cert.LruInDxIdeal.Value.run_value m g,
    (θ_run _ _ _).mono (fun r hr c => by
      have hc := hr c
      obtain ⟨a0, a1, a2⟩ := h c
      refine ⟨hc.1.trans ?_, hc.2⟩ <;> rw [a0, a1, a2] <;> rfl)
      (Cert.LruInDxRefIdeal.Value.run_value m' g')⟩

end
-- ==== Proof.ScOutDxRun.lean ====
/- The input gradient of the short convolution's output projection: the kernel leaves the product. -/
module

public import proofs.«01_k».proof.Proof.Products
public import proofs.«01_k».proof.Proof.Gen.ScOutDxIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The input gradient of the short convolution's output projection, at a row and a column. -/
def ScOutDxOfAt (x : Vec Ideal ⟨2, ![8192, 1024]⟩ .bf16) (w : Vec Ideal ⟨2, ![1024, 1024]⟩ .bf16) (r q : ℕ) : EReal :=
  (∑ k : Fin 1024, Products.at2 (A := 8192) (B := 1024) x r k.val * Products.at2 (A := 1024) (B := 1024) w q k.val)

/-- The input gradient of the short convolution's output projection, as an array. -/
def ScOutDxOf (x : Vec Ideal ⟨2, ![8192, 1024]⟩ .bf16) (w : Vec Ideal ⟨2, ![1024, 1024]⟩ .bf16) : Vec Ideal ⟨2, ![8192, 1024]⟩ .bf16 := fun i =>
  ScOutDxOfAt x w (i 0).val (i 1).val

namespace Cert.ScOutDxIdeal.Value

open Cert.ScOutDxIdeal Cert.ScOutDxIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at an index. -/
theorem pay1_at (x0 : Vec Ideal S512x1024 .bf16) (x1 : Vec Ideal S1x1024x1024 .bf16) (p : Fin 512) (q : Fin 1024) :
    k0_pay1 (F := Ideal) x0 x1 (ix2 p q) = ∑ k : Fin 1024, x0 (ix2 p k) * x1 (ix3 0 q k) := by
  unfold k0_pay1
  show @Eq EReal (FloatOps.matmul (F := Ideal) (φ₁ := .bf16) (φ₂ := .bf16) (DotDims.transposedRhs 512 1024 1024) none x0 (shapeCast S1024x1024 x1 shapeCasts_S1x1024x1024_S1024x1024) (constant S512x1024 .f32 0x00000000#32) (ix2 p q)) (∑ k : Fin 1024, x0 (ix2 p k) * x1 (ix3 0 q k))
  refine (Ideal.matmul_transposedRhs_apply (φ₁ := .bf16) (φ₂ := .bf16) (M := 512) (K := 1024) (N := 1024) none x0 (shapeCast S1024x1024 x1 shapeCasts_S1x1024x1024_S1024x1024) (constant S512x1024 .f32 0x00000000#32) p q).trans ?_
  rw [zero_const, zero_add]
  exact Finset.sum_congr rfl fun k _ => congrArg (x0 (ix2 p k) * ·) (dropUnit_apply (A := 1024) (B := 1024) x1 _ q k)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel

/-- The first window's block: a tile of rows. -/
theorem blk0 (c : Dev nD) (t : Fin cfg0.N) (p : Fin 512) (k : Fin 1024) :
    iblk m c 0 t (ix2 p k) = at2 (A := 8192) (B := 1024) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The second window's block: the whole weight. -/
theorem blk1 (c : Dev nD) (t : Fin cfg0.N) (k : Fin 1024) (q : Fin 1024) :
    iblk m c 1 t (ix3 0 k q) = at2 (A := 1024) (B := 1024) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1024x1024.Idx → EReal) _ = m ((c.tc : Thread nD τ).loc main_arg1) _
  have e : (StableHlo.after hostOps0 (fun b => m (c, b)) (Proc.tc.devRef main_v0) : S1x1024x1024.Idx → EReal)
      = broadcastInDim S1x1024x1024 ![1, 2] bcast_S1024x1024_S1x1024x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * k.val = k.val % 1024; rw [(ixw1 t).2.1]; omega
  | ⟨1, _⟩ => show win0_1.index t 2 * 1024 + 1 * q.val = q.val % 1024; rw [(ixw1 t).2.2]; omega

/-- What a point hands out, at a row and a column of its block. -/
theorem out_at (c : Dev nD) (t : Fin cfg0.N) (p : Fin 512) (q : Fin 1024) :
    out0_2 (iblk m c 0 t) (iblk m c 1 t) (ix2 p q) = ScOutDxOfAt (m ((c.tc : Thread nD τ).loc main_arg0)) (m ((c.tc : Thread nD τ).loc main_arg1)) (t.val * 512 + p.val) q.val := by
  unfold out0_2
  rw [View.canon_unit_zero (S := S512x1024) hz2]
  simp only [View.ld_unit_zero (S := S512x1024) hz2, View.ld_unit_zero (S := S1x1024x1024) hz3]
  rw [pay1_at]
  exact Finset.sum_congr rfl fun k _ => congr (congrArg (fun a b : EReal => a * b) (blk0 m c t p k)) (blk1 m c t q k)

/-- The array the run leaves in window 2. -/
theorem final2 (c : Dev nD) : (dats m 0 c).arrAt 2 cfg0.N = ScOutDxOf (m ((c.tc : Thread nD τ).loc main_arg0)) (m ((c.tc : Thread nD τ).loc main_arg1)) := by
  funext i
  have h0 : (i 0).val < 8192 := (i 0).isLt
  have h1 : (i 1).val < 1024 := (i 1).isLt
  have hp : (i 0).val / 512 < cfg0.N := lt_of_lt_of_eq (by omega) N_0.symm
  have hb := congrFun (blocks2 m c ⟨(i 0).val / 512, hp⟩ (flush0_2 _)) (ix2 (⟨(i 0).val % 512, by omega⟩ : Fin 512) (⟨(i 1).val, h1⟩ : Fin 1024))
  rw [View.read_apply, flushed2] at hb
  have e : ((cfg0.win 2).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_2.index ⟨(i 0).val / 512, hp⟩ 0 * 512 + 1 * ((i 0).val % 512) = (i 0).val; rw [(ixw2 _).1]; show (i 0).val / 512 * 512 + 1 * ((i 0).val % 512) = (i 0).val; omega
    | ⟨1, _⟩ => show win0_2.index ⟨(i 0).val / 512, hp⟩ 1 * 1024 + 1 * (i 1).val = (i 1).val; rw [(ixw2 _).2]; omega
  refine (congrArg ((dats m 0 c).arrAt 2 cfg0.N) e.symm).trans (hb.trans ?_)
  have e0 : (i 0).val / 512 * 512 + (i 0).val % 512 = (i 0).val := by omega
  refine (show _ = out0_2 (iblk m c 0 ⟨(i 0).val / 512, hp⟩) (iblk m c 1 ⟨(i 0).val / 512, hp⟩) (ix2 (⟨(i 0).val % 512, by omega⟩ : Fin 512) (⟨(i 1).val, h1⟩ : Fin 1024)) from rfl).trans ?_
  refine (out_at m c _ _ _).trans ?_
  show ScOutDxOfAt (m ((c.tc : Thread nD τ).loc main_arg0)) (m ((c.tc : Thread nD τ).loc main_arg1)) ((i 0).val / 512 * 512 + (i 0).val % 512) (i 1).val = ScOutDxOfAt (m ((c.tc : Thread nD τ).loc main_arg0)) (m ((c.tc : Thread nD τ).loc main_arg1)) (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = ScOutDxOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (run_blocks m ρ)

end Cert.ScOutDxIdeal.Value

end
-- ==== Proof.ScOutDxRef.lean ====
/- The reference of the input gradient of the short convolution's output projection: the same sum, and the two runs together. -/
module

public import proofs.«01_k».proof.Proof.Products
public import proofs.«01_k».proof.Proof.ScOutDxRun
public import proofs.«01_k».proof.Proof.Gen.ScOutDxRefIdeal.Run
public import proofs.«01_k».proof.Proof.Gen.ScOutDxRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScOutDxRefIdeal.Value

open Cert.ScOutDxRefIdeal Cert.ScOutDxRefIdeal.Gen Cert.ScOutDxRefIdeal.Read Products

variable (x0 : Vec Ideal S8192x1024 .bf16) (x1 : Vec Ideal S1024x1024 .bf16)

/-- The row operand at a row and a column. -/
theorem x_at (r : Fin 8192) (j : Fin 1024) : val_main_v3 (F := Ideal) x0 (ix2 r j) = at2 (A := 8192) (B := 1024) x0 r.val j.val := by
  have hr := r.isLt; have hj := j.isLt
  rw [val_main_v3_apply]
  show x0 _ = x0 _
  congr 1; funext b; apply Fin.ext
  match b with
  | ⟨0, _⟩ => show r.val = r.val % 8192; omega
  | ⟨1, _⟩ => show j.val = j.val % 1024; omega

/-- The weight at a row and a column. -/
theorem w_at (r : Fin 1024) (j : Fin 1024) : val_main_v1 (F := Ideal) x1 (ix2 r j) = at2 (A := 1024) (B := 1024) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 1024; omega

/-- The reference's product. -/
theorem v7_eq : val_main_v7 (F := Ideal) x0 x1 = ScOutDxOf x0 x1 := by
  funext i
  rw [val_main_v7_apply]
  rw [val_main_v6_apply]
  refine (show _ = (∑ k : Fin 1024, val_main_v3 (F := Ideal) x0 (lidx_main_v6 i k) * val_main_v1 (F := Ideal) x1 (ridx_main_v6 i k) : EReal) from rfl).trans ?_
  show _ = ScOutDxOfAt x0 x1 (i 0).val (i 1).val
  unfold ScOutDxOfAt
  refine Finset.sum_congr rfl fun k _ => ?_
  exact congr (congrArg (fun a b : EReal => a * b) ((congrArg (val_main_v3 (F := Ideal) x0) (eq_ix2 _)).trans (x_at x0 (i 0) k)))
      ((congrArg (val_main_v1 (F := Ideal) x1) (eq_ix2 _)).trans (w_at x1 (i 1) k))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v7) = ScOutDxOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (v7_eq _ _)), (h c).2⟩)
    (run m ρ)

/-- The reference ends with its arguments as they were; it declares no semaphore. -/
theorem ends : Cert.quiescent_ScOutDxRefIdeal := fun m ρ _ =>
  (θ_run _ _ _).mono (fun _ h => ⟨fun c => (h c).2, funext fun g => nomatch g.2⟩) (Cert.ScOutDxRefIdeal.Value.run m ρ)

end Cert.ScOutDxRefIdeal.Value

/-- The kernel's value and the reference's, over the ideal reals. -/
theorem ScOutDx_value : Cert.algebraic_ScOutDxIdeal_ScOutDxRefIdeal :=
  fun m g m' g' _ h => ⟨fun c => ScOutDxOf (m ((c.tc : Thread Cert.ScOutDxIdeal.nD Cert.ScOutDxIdeal.τ).loc Cert.ScOutDxIdeal.main_arg0)) (m ((c.tc : Thread Cert.ScOutDxIdeal.nD Cert.ScOutDxIdeal.τ).loc Cert.ScOutDxIdeal.main_arg1)),
    Cert.ScOutDxIdeal.Value.run_value m g,
    (θ_run _ _ _).mono (fun r hr c => by
      have hc := hr c
      obtain ⟨a0, a1⟩ := h c
      exact ⟨hc.1.trans (by rw [a0, a1] <;> rfl), hc.2⟩)
      (Cert.ScOutDxRefIdeal.Value.run_value m' g')⟩

end
-- ==== Proof.LruOutDxRun.lean ====
/- The input gradient of the recurrence's output projection: the kernel leaves the product. -/
module

public import proofs.«01_k».proof.Proof.Products
public import proofs.«01_k».proof.Proof.Gen.LruOutDxIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The input gradient of the recurrence's output projection, at a row and a column. -/
def LruOutDxOfAt (x : Vec Ideal ⟨2, ![8192, 1024]⟩ .bf16) (w : Vec Ideal ⟨2, ![1280, 1024]⟩ .bf16) (r q : ℕ) : EReal :=
  (∑ k : Fin 1024, Products.at2 (A := 8192) (B := 1024) x r k.val * Products.at2 (A := 1280) (B := 1024) w q k.val)

/-- The input gradient of the recurrence's output projection, as an array. -/
def LruOutDxOf (x : Vec Ideal ⟨2, ![8192, 1024]⟩ .bf16) (w : Vec Ideal ⟨2, ![1280, 1024]⟩ .bf16) : Vec Ideal ⟨2, ![8192, 1280]⟩ .bf16 := fun i =>
  LruOutDxOfAt x w (i 0).val (i 1).val

namespace Cert.LruOutDxIdeal.Value

open Cert.LruOutDxIdeal Cert.LruOutDxIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at an index. -/
theorem pay1_at (x0 : Vec Ideal S512x1024 .bf16) (x1 : Vec Ideal S1x1280x1024 .bf16) (p : Fin 512) (q : Fin 1280) :
    k0_pay1 (F := Ideal) x0 x1 (ix2 p q) = ∑ k : Fin 1024, x0 (ix2 p k) * x1 (ix3 0 q k) := by
  unfold k0_pay1
  show @Eq EReal (FloatOps.matmul (F := Ideal) (φ₁ := .bf16) (φ₂ := .bf16) (DotDims.transposedRhs 512 1024 1280) none x0 (shapeCast S1280x1024 x1 shapeCasts_S1x1280x1024_S1280x1024) (constant S512x1280 .f32 0x00000000#32) (ix2 p q)) (∑ k : Fin 1024, x0 (ix2 p k) * x1 (ix3 0 q k))
  refine (Ideal.matmul_transposedRhs_apply (φ₁ := .bf16) (φ₂ := .bf16) (M := 512) (K := 1024) (N := 1280) none x0 (shapeCast S1280x1024 x1 shapeCasts_S1x1280x1024_S1280x1024) (constant S512x1280 .f32 0x00000000#32) p q).trans ?_
  rw [zero_const, zero_add]
  exact Finset.sum_congr rfl fun k _ => congrArg (x0 (ix2 p k) * ·) (dropUnit_apply (A := 1280) (B := 1024) x1 _ q k)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel

/-- The first window's block: a tile of rows. -/
theorem blk0 (c : Dev nD) (t : Fin cfg0.N) (p : Fin 512) (k : Fin 1024) :
    iblk m c 0 t (ix2 p k) = at2 (A := 8192) (B := 1024) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The second window's block: the whole weight. -/
theorem blk1 (c : Dev nD) (t : Fin cfg0.N) (k : Fin 1280) (q : Fin 1024) :
    iblk m c 1 t (ix3 0 k q) = at2 (A := 1280) (B := 1024) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1280x1024.Idx → EReal) _ = m ((c.tc : Thread nD τ).loc main_arg1) _
  have e : (StableHlo.after hostOps0 (fun b => m (c, b)) (Proc.tc.devRef main_v0) : S1x1280x1024.Idx → EReal)
      = broadcastInDim S1x1280x1024 ![1, 2] bcast_S1280x1024_S1x1280x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1280 + 1 * k.val = k.val % 1280; rw [(ixw1 t).2.1]; omega
  | ⟨1, _⟩ => show win0_1.index t 2 * 1024 + 1 * q.val = q.val % 1024; rw [(ixw1 t).2.2]; omega

/-- What a point hands out, at a row and a column of its block. -/
theorem out_at (c : Dev nD) (t : Fin cfg0.N) (p : Fin 512) (q : Fin 1280) :
    out0_2 (iblk m c 0 t) (iblk m c 1 t) (ix2 p q) = LruOutDxOfAt (m ((c.tc : Thread nD τ).loc main_arg0)) (m ((c.tc : Thread nD τ).loc main_arg1)) (t.val * 512 + p.val) q.val := by
  unfold out0_2
  rw [View.canon_unit_zero (S := S512x1280) hz2]
  simp only [View.ld_unit_zero (S := S512x1024) hz2, View.ld_unit_zero (S := S1x1280x1024) hz3]
  rw [pay1_at]
  exact Finset.sum_congr rfl fun k _ => congr (congrArg (fun a b : EReal => a * b) (blk0 m c t p k)) (blk1 m c t q k)

/-- The array the run leaves in window 2. -/
theorem final2 (c : Dev nD) : (dats m 0 c).arrAt 2 cfg0.N = LruOutDxOf (m ((c.tc : Thread nD τ).loc main_arg0)) (m ((c.tc : Thread nD τ).loc main_arg1)) := by
  funext i
  have h0 : (i 0).val < 8192 := (i 0).isLt
  have h1 : (i 1).val < 1280 := (i 1).isLt
  have hp : (i 0).val / 512 < cfg0.N := lt_of_lt_of_eq (by omega) N_0.symm
  have hb := congrFun (blocks2 m c ⟨(i 0).val / 512, hp⟩ (flush0_2 _)) (ix2 (⟨(i 0).val % 512, by omega⟩ : Fin 512) (⟨(i 1).val, h1⟩ : Fin 1280))
  rw [View.read_apply, flushed2] at hb
  have e : ((cfg0.win 2).blk ⟨(i 0).val / 512, hp⟩).view.emb (ix2 (⟨(i 0).val % 512, by omega⟩ : Fin 512) (⟨(i 1).val, h1⟩ : Fin 1280)) = i := by
    funext b; apply Fin.ext
    match b with
    | ⟨0, _⟩ => show win0_2.index ⟨(i 0).val / 512, hp⟩ 0 * 512 + 1 * ((i 0).val % 512) = (i 0).val; rw [(ixw2 _).1]; show (i 0).val / 512 * 512 + 1 * ((i 0).val % 512) = (i 0).val; omega
    | ⟨1, _⟩ => show win0_2.index ⟨(i 0).val / 512, hp⟩ 1 * 1280 + 1 * (i 1).val = (i 1).val; rw [(ixw2 _).2]; omega
  refine (congrArg ((dats m 0 c).arrAt 2 cfg0.N) e.symm).trans (hb.trans ?_)
  have e0 : (i 0).val / 512 * 512 + (i 0).val % 512 = (i 0).val := by omega
  refine (show _ = out0_2 (iblk m c 0 ⟨(i 0).val / 512, hp⟩) (iblk m c 1 ⟨(i 0).val / 512, hp⟩) (ix2 (⟨(i 0).val % 512, by omega⟩ : Fin 512) (⟨(i 1).val, h1⟩ : Fin 1280)) from rfl).trans ?_
  refine (out_at m c _ _ _).trans ?_
  show LruOutDxOfAt (m ((c.tc : Thread nD τ).loc main_arg0)) (m ((c.tc : Thread nD τ).loc main_arg1)) ((i 0).val / 512 * 512 + (i 0).val % 512) (i 1).val = LruOutDxOfAt (m ((c.tc : Thread nD τ).loc main_arg0)) (m ((c.tc : Thread nD τ).loc main_arg1)) (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = LruOutDxOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (run_blocks m ρ)

end Cert.LruOutDxIdeal.Value

end
-- ==== Proof.LruOutDxRef.lean ====
/- The reference of the input gradient of the recurrence's output projection: the same sum, and the two runs together. -/
module

public import proofs.«01_k».proof.Proof.Products
public import proofs.«01_k».proof.Proof.LruOutDxRun
public import proofs.«01_k».proof.Proof.Gen.LruOutDxRefIdeal.Run
public import proofs.«01_k».proof.Proof.Gen.LruOutDxRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruOutDxRefIdeal.Value

open Cert.LruOutDxRefIdeal Cert.LruOutDxRefIdeal.Gen Cert.LruOutDxRefIdeal.Read Products

variable (x0 : Vec Ideal S8192x1024 .bf16) (x1 : Vec Ideal S1280x1024 .bf16)

/-- The row operand at a row and a column. -/
theorem x_at (r : Fin 8192) (j : Fin 1024) : val_main_v3 (F := Ideal) x0 (ix2 r j) = at2 (A := 8192) (B := 1024) x0 r.val j.val := by
  have hr := r.isLt; have hj := j.isLt
  rw [val_main_v3_apply]
  show x0 _ = x0 _
  congr 1; funext b; apply Fin.ext
  match b with
  | ⟨0, _⟩ => show r.val = r.val % 8192; omega
  | ⟨1, _⟩ => show j.val = j.val % 1024; omega

/-- The weight at a row and a column. -/
theorem w_at (r : Fin 1280) (j : Fin 1024) : val_main_v1 (F := Ideal) x1 (ix2 r j) = at2 (A := 1280) (B := 1024) x1 r.val j.val := by
  have hr := r.isLt; have hj := j.isLt
  rw [val_main_v1_apply]
  show x1 _ = x1 _
  congr 1; funext b; apply Fin.ext
  match b with
  | ⟨0, _⟩ => show r.val = r.val % 1280; omega
  | ⟨1, _⟩ => show j.val = j.val % 1024; omega

/-- The reference's product. -/
theorem v7_eq : val_main_v7 (F := Ideal) x0 x1 = LruOutDxOf x0 x1 := by
  funext i
  rw [val_main_v7_apply]
  rw [val_main_v6_apply]
  refine (show _ = (∑ k : Fin 1024, val_main_v3 (F := Ideal) x0 (lidx_main_v6 i k) * val_main_v1 (F := Ideal) x1 (ridx_main_v6 i k) : EReal) from rfl).trans ?_
  show _ = LruOutDxOfAt x0 x1 (i 0).val (i 1).val
  unfold LruOutDxOfAt
  refine Finset.sum_congr rfl fun k _ => ?_
  exact congr (congrArg (fun a b : EReal => a * b) ((congrArg (val_main_v3 (F := Ideal) x0) (eq_ix2 _)).trans (x_at x0 (i 0) k)))
      ((congrArg (val_main_v1 (F := Ideal) x1) (eq_ix2 _)).trans (w_at x1 (i 1) k))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v7) = LruOutDxOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (v7_eq _ _)), (h c).2⟩)
    (run m ρ)

/-- The reference ends with its arguments as they were; it declares no semaphore. -/
theorem ends : Cert.quiescent_LruOutDxRefIdeal := fun m ρ _ =>
  (θ_run _ _ _).mono (fun _ h => ⟨fun c => (h c).2, funext fun g => nomatch g.2⟩) (Cert.LruOutDxRefIdeal.Value.run m ρ)

end Cert.LruOutDxRefIdeal.Value

/-- The kernel's value and the reference's, over the ideal reals. -/
theorem LruOutDx_value : Cert.algebraic_LruOutDxIdeal_LruOutDxRefIdeal :=
  fun m g m' g' _ h => ⟨fun c => LruOutDxOf (m ((c.tc : Thread Cert.LruOutDxIdeal.nD Cert.LruOutDxIdeal.τ).loc Cert.LruOutDxIdeal.main_arg0)) (m ((c.tc : Thread Cert.LruOutDxIdeal.nD Cert.LruOutDxIdeal.τ).loc Cert.LruOutDxIdeal.main_arg1)),
    Cert.LruOutDxIdeal.Value.run_value m g,
    (θ_run _ _ _).mono (fun r hr c => by
      have hc := hr c
      obtain ⟨a0, a1⟩ := h c
      exact ⟨hc.1.trans (by rw [a0, a1] <;> rfl), hc.2⟩)
      (Cert.LruOutDxRefIdeal.Value.run_value m' g')⟩

end
-- ==== Proof.ScInRun.lean ====
/- The short convolution's input projection: the kernel leaves the product. -/
module

public import proofs.«01_k».proof.Proof.Products
public import proofs.«01_k».proof.Proof.Gen.ScInIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The short convolution's input projection, at a row and a column. -/
def ScInOfAt (x : Vec Ideal ⟨2, ![8192, 1024]⟩ .bf16) (w : Vec Ideal ⟨2, ![1024, 3072]⟩ .bf16) (r q : ℕ) : EReal :=
  (∑ k : Fin 1024, Products.at2 (A := 8192) (B := 1024) x r k.val * Products.at2 (A := 1024) (B := 3072) w k.val q)

/-- The short convolution's input projection, as an array. -/
def ScInOf (x : Vec Ideal ⟨2, ![8192, 1024]⟩ .bf16) (w : Vec Ideal ⟨2, ![1024, 3072]⟩ .bf16) : Vec Ideal ⟨2, ![8192, 3072]⟩ .bf16 := fun i =>
  ScInOfAt x w (i 0).val (i 1).val

namespace Cert.ScInIdeal.Value

open Cert.ScInIdeal Cert.ScInIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at an index. -/
theorem pay1_at (x0 : Vec Ideal S512x1024 .bf16) (x1 : Vec Ideal S1x1024x3072 .bf16) (p : Fin 512) (q : Fin 3072) :
    k0_pay1 (F := Ideal) x0 x1 (ix2 p q) = ∑ k : Fin 1024, x0 (ix2 p k) * x1 (ix3 0 k q) := by
  unfold k0_pay1
  show @Eq EReal (FloatOps.matmul (F := Ideal) (φ₁ := .bf16) (φ₂ := .bf16) (DotDims.plain 512 1024 3072) none x0 (shapeCast S1024x3072 x1 shapeCasts_S1x1024x3072_S1024x3072) (constant S512x3072 .f32 0x00000000#32) (ix2 p q)) (∑ k : Fin 1024, x0 (ix2 p k) * x1 (ix3 0 k q))
  refine (Ideal.matmul_plain_apply (φ₁ := .bf16) (φ₂ := .bf16) (M := 512) (K := 1024) (N := 3072) none x0 (shapeCast S1024x3072 x1 shapeCasts_S1x1024x3072_S1024x3072) (constant S512x3072 .f32 0x00000000#32) p q).trans ?_
  rw [zero_const, zero_add]
  exact Finset.sum_congr rfl fun k _ => congrArg (x0 (ix2 p k) * ·) (dropUnit_apply (A := 1024) (B := 3072) x1 _ k q)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel

/-- The first window's block: a tile of rows. -/
theorem blk0 (c : Dev nD) (t : Fin cfg0.N) (p : Fin 512) (k : Fin 1024) :
    iblk m c 0 t (ix2 p k) = at2 (A := 8192) (B := 1024) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The second window's block: the whole weight. -/
theorem blk1 (c : Dev nD) (t : Fin cfg0.N) (k : Fin 1024) (q : Fin 3072) :
    iblk m c 1 t (ix3 0 k q) = at2 (A := 1024) (B := 3072) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1024x3072.Idx → EReal) _ = m ((c.tc : Thread nD τ).loc main_arg1) _
  have e : (StableHlo.after hostOps0 (fun b => m (c, b)) (Proc.tc.devRef main_v0) : S1x1024x3072.Idx → EReal)
      = broadcastInDim S1x1024x3072 ![1, 2] bcast_S1024x3072_S1x1024x3072_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * k.val = k.val % 1024; rw [(ixw1 t).2.1]; omega
  | ⟨1, _⟩ => show win0_1.index t 2 * 3072 + 1 * q.val = q.val % 3072; rw [(ixw1 t).2.2]; omega

/-- What a point hands out, at a row and a column of its block. -/
theorem out_at (c : Dev nD) (t : Fin cfg0.N) (p : Fin 512) (q : Fin 3072) :
    out0_2 (iblk m c 0 t) (iblk m c 1 t) (ix2 p q) = ScInOfAt (m ((c.tc : Thread nD τ).loc main_arg0)) (m ((c.tc : Thread nD τ).loc main_arg1)) (t.val * 512 + p.val) q.val := by
  unfold out0_2
  rw [View.canon_unit_zero (S := S512x3072) hz2]
  simp only [View.ld_unit_zero (S := S512x1024) hz2, View.ld_unit_zero (S := S1x1024x3072) hz3]
  rw [pay1_at]
  exact Finset.sum_congr rfl fun k _ => congr (congrArg (fun a b : EReal => a * b) (blk0 m c t p k)) (blk1 m c t k q)

/-- The array the run leaves in window 2. -/
theorem final2 (c : Dev nD) : (dats m 0 c).arrAt 2 cfg0.N = ScInOf (m ((c.tc : Thread nD τ).loc main_arg0)) (m ((c.tc : Thread nD τ).loc main_arg1)) := by
  funext i
  have h0 : (i 0).val < 8192 := (i 0).isLt
  have h1 : (i 1).val < 3072 := (i 1).isLt
  have hp : (i 0).val / 512 < cfg0.N := lt_of_lt_of_eq (by omega) N_0.symm
  have hb := congrFun (blocks2 m c ⟨(i 0).val / 512, hp⟩ (flush0_2 _)) (ix2 (⟨(i 0).val % 512, by omega⟩ : Fin 512) (⟨(i 1).val, h1⟩ : Fin 3072))
  rw [View.read_apply, flushed2] at hb
  have e : ((cfg0.win 2).blk ⟨(i 0).val / 512, hp⟩).view.emb (ix2 (⟨(i 0).val % 512, by omega⟩ : Fin 512) (⟨(i 1).val, h1⟩ : Fin 3072)) = i := by
    funext b; apply Fin.ext
    match b with
    | ⟨0, _⟩ => show win0_2.index ⟨(i 0).val / 512, hp⟩ 0 * 512 + 1 * ((i 0).val % 512) = (i 0).val; rw [(ixw2 _).1]; show (i 0).val / 512 * 512 + 1 * ((i 0).val % 512) = (i 0).val; omega
    | ⟨1, _⟩ => show win0_2.index ⟨(i 0).val / 512, hp⟩ 1 * 3072 + 1 * (i 1).val = (i 1).val; rw [(ixw2 _).2]; omega
  refine (congrArg ((dats m 0 c).arrAt 2 cfg0.N) e.symm).trans (hb.trans ?_)
  have e0 : (i 0).val / 512 * 512 + (i 0).val % 512 = (i 0).val := by omega
  refine (show _ = out0_2 (iblk m c 0 ⟨(i 0).val / 512, hp⟩) (iblk m c 1 ⟨(i 0).val / 512, hp⟩) (ix2 (⟨(i 0).val % 512, by omega⟩ : Fin 512) (⟨(i 1).val, h1⟩ : Fin 3072)) from rfl).trans ?_
  refine (out_at m c _ _ _).trans ?_
  show ScInOfAt (m ((c.tc : Thread nD τ).loc main_arg0)) (m ((c.tc : Thread nD τ).loc main_arg1)) ((i 0).val / 512 * 512 + (i 0).val % 512) (i 1).val = ScInOfAt (m ((c.tc : Thread nD τ).loc main_arg0)) (m ((c.tc : Thread nD τ).loc main_arg1)) (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v1) = ScInOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (run_blocks m ρ)

end Cert.ScInIdeal.Value

end
-- ==== Proof.ScInRef.lean ====
/- The reference of the short convolution's input projection: the same sum, and the two runs together. -/
module

public import proofs.«01_k».proof.Proof.Products
public import proofs.«01_k».proof.Proof.ScInRun
public import proofs.«01_k».proof.Proof.Gen.ScInRefIdeal.Run
public import proofs.«01_k».proof.Proof.Gen.ScInRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScInRefIdeal.Value

open Cert.ScInRefIdeal Cert.ScInRefIdeal.Gen Cert.ScInRefIdeal.Read Products

variable (x0 : Vec Ideal S8192x1024 .bf16) (x1 : Vec Ideal S1024x3072 .bf16)

/-- The row operand at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The weight at a row and a column. -/
theorem w_at (r : Fin 1024) (j : Fin 3072) : val_main_v1 (F := Ideal) x1 (ix2 r j) = at2 (A := 1024) (B := 3072) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 3072; omega

/-- The reference's product. -/
theorem v3_eq : val_main_v3 (F := Ideal) x0 x1 = ScInOf x0 x1 := by
  funext i
  rw [val_main_v3_apply]
  rw [val_main_v2_apply]
  refine (show _ = (∑ k : Fin 1024, val_main_v0 (F := Ideal) x0 (lidx_main_v2 i k) * val_main_v1 (F := Ideal) x1 (ridx_main_v2 i k) : EReal) from rfl).trans ?_
  show _ = ScInOfAt x0 x1 (i 0).val (i 1).val
  unfold ScInOfAt
  refine Finset.sum_congr rfl fun k _ => ?_
  exact congr (congrArg (fun a b : EReal => a * b) ((congrArg (val_main_v0 (F := Ideal) x0) (eq_ix2 _)).trans (x_at x0 (i 0) k)))
      ((congrArg (val_main_v1 (F := Ideal) x1) (eq_ix2 _)).trans (w_at x1 k (i 1)))

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v3) = ScInOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v3_eq _ _).trans (v3_eq _ _)), (h c).2⟩)
    (run m ρ)

/-- The reference ends with its arguments as they were; it declares no semaphore. -/
theorem ends : Cert.quiescent_ScInRefIdeal := fun m ρ _ =>
  (θ_run _ _ _).mono (fun _ h => ⟨fun c => (h c).2, funext fun g => nomatch g.2⟩) (Cert.ScInRefIdeal.Value.run m ρ)

end Cert.ScInRefIdeal.Value

/-- The kernel's value and the reference's, over the ideal reals. -/
theorem ScIn_value : Cert.algebraic_ScInIdeal_ScInRefIdeal :=
  fun m g m' g' _ h => ⟨fun c => ScInOf (m ((c.tc : Thread Cert.ScInIdeal.nD Cert.ScInIdeal.τ).loc Cert.ScInIdeal.main_arg0)) (m ((c.tc : Thread Cert.ScInIdeal.nD Cert.ScInIdeal.τ).loc Cert.ScInIdeal.main_arg1)),
    Cert.ScInIdeal.Value.run_value m g,
    (θ_run _ _ _).mono (fun r hr c => by
      have hc := hr c
      obtain ⟨a0, a1⟩ := h c
      exact ⟨hc.1.trans (by rw [a0, a1] <;> rfl), hc.2⟩)
      (Cert.ScInRefIdeal.Value.run_value m' g')⟩

end
-- ==== Proof.LruInRun.lean ====
/- The recurrence's input projection: the kernel leaves the product plus the bias. -/
module

public import proofs.«01_k».proof.Proof.Products
public import proofs.«01_k».proof.Proof.Gen.LruInIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The recurrence's input projection, at a row and a column. -/
def LruInOfAt (x : Vec Ideal ⟨2, ![8192, 1024]⟩ .bf16) (w : Vec Ideal ⟨2, ![1024, 2560]⟩ .bf16) (b : Vec Ideal ⟨1, ![2560]⟩ .f32) (r q : ℕ) : EReal :=
  (∑ k : Fin 1024, Products.at2 (A := 8192) (B := 1024) x r k.val * Products.at2 (A := 1024) (B := 2560) w k.val q) + b (ix1 (Fin.ofNat 2560 q))

/-- The recurrence's input projection, as an array. -/
def LruInOf (x : Vec Ideal ⟨2, ![8192, 1024]⟩ .bf16) (w : Vec Ideal ⟨2, ![1024, 2560]⟩ .bf16) (b : Vec Ideal ⟨1, ![2560]⟩ .f32) : Vec Ideal ⟨2, ![8192, 2560]⟩ .bf16 := fun i =>
  LruInOfAt x w b (i 0).val (i 1).val

namespace Cert.LruInIdeal.Value

open Cert.LruInIdeal Cert.LruInIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at an index. -/
theorem pay1_at (x0 : Vec Ideal S512x1024 .bf16) (x1 : Vec Ideal S1x1024x2560 .bf16) (x2 : Vec Ideal S1x2560 .f32) (p : Fin 512) (q : Fin 2560) :
    k0_pay1 (F := Ideal) x0 x1 x2 (ix2 p q) = (∑ k : Fin 1024, x0 (ix2 p k) * x1 (ix3 0 k q)) + x2 (ix2 0 q) := by
  have hbias : broadcastTo S512x2560 (shapeCast S1x2560 x2 shapeCasts_S1x2560_S1x2560) broadcasts_S1x2560_S512x2560 (ix2 p q) = x2 (ix2 0 q) := by
    rw [shapeCast_self]
    exact broadcastTo_apply _ _ _ (ix2 0 q) (fun b => match b with
      | ⟨0, _⟩ => rfl
      | ⟨1, _⟩ => rfl)
  unfold k0_pay1
  refine congr (congrArg (fun u v : EReal => u + v) ?_) hbias
  show @Eq EReal (FloatOps.matmul (F := Ideal) (φ₁ := .bf16) (φ₂ := .bf16) (DotDims.plain 512 1024 2560) none x0 (shapeCast S1024x2560 x1 shapeCasts_S1x1024x2560_S1024x2560) (constant S512x2560 .f32 0x00000000#32) (ix2 p q)) (∑ k : Fin 1024, x0 (ix2 p k) * x1 (ix3 0 k q))
  refine (Ideal.matmul_plain_apply (φ₁ := .bf16) (φ₂ := .bf16) (M := 512) (K := 1024) (N := 2560) none x0 (shapeCast S1024x2560 x1 shapeCasts_S1x1024x2560_S1024x2560) (constant S512x2560 .f32 0x00000000#32) p q).trans ?_
  rw [zero_const, zero_add]
  exact Finset.sum_congr rfl fun k _ => congrArg (x0 (ix2 p k) * ·) (dropUnit_apply (A := 1024) (B := 2560) x1 _ k q)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = 0 ∧ win0_2.index t 1 = 0 := by decide +kernel
theorem ixw3 : ∀ t : Fin grid0.N, win0_3.index t 0 = t.val ∧ win0_3.index t 1 = 0 := by decide +kernel

/-- The first window's block: a tile of rows. -/
theorem blk0 (c : Dev nD) (t : Fin cfg0.N) (p : Fin 512) (k : Fin 1024) :
    iblk m c 0 t (ix2 p k) = at2 (A := 8192) (B := 1024) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The second window's block: the whole weight. -/
theorem blk1 (c : Dev nD) (t : Fin cfg0.N) (k : Fin 1024) (q : Fin 2560) :
    iblk m c 1 t (ix3 0 k q) = at2 (A := 1024) (B := 2560) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1024x2560.Idx → EReal) _ = m ((c.tc : Thread nD τ).loc main_arg1) _
  have e : (StableHlo.after hostOps0 (fun b => m (c, b)) (Proc.tc.devRef main_v0) : S1x1024x2560.Idx → EReal)
      = broadcastInDim S1x1024x2560 ![1, 2] bcast_S1024x2560_S1x1024x2560_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * k.val = k.val % 1024; rw [(ixw1 t).2.1]; omega
  | ⟨1, _⟩ => show win0_1.index t 2 * 2560 + 1 * q.val = q.val % 2560; rw [(ixw1 t).2.2]; omega

/-- The third window's block: the whole bias. -/
theorem blk2 (c : Dev nD) (t : Fin cfg0.N) (q : Fin 2560) :
    iblk m c 2 t (ix2 0 q) = (m ((c.tc : Thread nD τ).loc main_arg2) : S2560.Idx → EReal) (ix1 q) := by
  have ht := ltN t; have hq := q.isLt
  unfold iblk
  rw [View.read_apply]
  show (StableHlo.after hostOps0 (fun b => m (c, b)) (Proc.tc.devRef main_v1) : S1x2560.Idx → EReal) _ = m ((c.tc : Thread nD τ).loc main_arg2) _
  have e : (StableHlo.after hostOps0 (fun b => m (c, b)) (Proc.tc.devRef main_v1) : S1x2560.Idx → EReal)
      = broadcastInDim S1x2560 ![1] bcast_S2560_S1x2560_1 (m ((c.tc : Thread nD τ).loc main_arg2)) := by after_results
  rw [e]
  unfold broadcastInDim
  show m ((c.tc : Thread nD τ).loc main_arg2) _ = m ((c.tc : Thread nD τ).loc main_arg2) _
  congr 1; funext b; apply Fin.ext
  match b with
  | ⟨0, _⟩ => show win0_2.index t 1 * 2560 + 1 * q.val = q.val; rw [(ixw2 t).2]; omega

/-- What a point hands out, at a row and a column of its block. -/
theorem out_at (c : Dev nD) (t : Fin cfg0.N) (p : Fin 512) (q : Fin 2560) :
    out0_3 (iblk m c 0 t) (iblk m c 1 t) (iblk m c 2 t) (ix2 p q) = LruInOfAt (m ((c.tc : Thread nD τ).loc main_arg0)) (m ((c.tc : Thread nD τ).loc main_arg1)) (m ((c.tc : Thread nD τ).loc main_arg2)) (t.val * 512 + p.val) q.val := by
  unfold out0_3
  rw [View.canon_unit_zero (S := S512x2560) hz2]
  simp only [View.ld_unit_zero (S := S512x1024) hz2, View.ld_unit_zero (S := S1x1024x2560) hz3, View.ld_unit_zero (S := S1x2560) hz2]
  rw [pay1_at]
  exact congr (congrArg (fun a b : EReal => a + b) (Finset.sum_congr rfl fun k _ => congr (congrArg (fun a b : EReal => a * b) (blk0 m c t p k)) (blk1 m c t k q))) ((blk2 m c t q).trans (congrArg (fun z : Fin 2560 => (m ((c.tc : Thread nD τ).loc main_arg2) : S2560.Idx → EReal) (ix1 z)) (Fin.ext (Nat.mod_eq_of_lt q.isLt).symm)))

/-- The array the run leaves in window 3. -/
theorem final3 (c : Dev nD) : (dats m 0 c).arrAt 3 cfg0.N = LruInOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 2560 := (i 1).isLt
  have hp : (i 0).val / 512 < cfg0.N := lt_of_lt_of_eq (by omega) N_0.symm
  have hb := congrFun (blocks3 m c ⟨(i 0).val / 512, hp⟩ (flush0_3 _)) (ix2 (⟨(i 0).val % 512, by omega⟩ : Fin 512) (⟨(i 1).val, h1⟩ : Fin 2560))
  rw [View.read_apply, flushed3] at hb
  have e : ((cfg0.win 3).blk ⟨(i 0).val / 512, hp⟩).view.emb (ix2 (⟨(i 0).val % 512, by omega⟩ : Fin 512) (⟨(i 1).val, h1⟩ : Fin 2560)) = i := by
    funext b; apply Fin.ext
    match b with
    | ⟨0, _⟩ => show win0_3.index ⟨(i 0).val / 512, hp⟩ 0 * 512 + 1 * ((i 0).val % 512) = (i 0).val; rw [(ixw3 _).1]; show (i 0).val / 512 * 512 + 1 * ((i 0).val % 512) = (i 0).val; omega
    | ⟨1, _⟩ => show win0_3.index ⟨(i 0).val / 512, hp⟩ 1 * 2560 + 1 * (i 1).val = (i 1).val; rw [(ixw3 _).2]; omega
  refine (congrArg ((dats m 0 c).arrAt 3 cfg0.N) e.symm).trans (hb.trans ?_)
  have e0 : (i 0).val / 512 * 512 + (i 0).val % 512 = (i 0).val := by omega
  refine (show _ = out0_3 (iblk m c 0 ⟨(i 0).val / 512, hp⟩) (iblk m c 1 ⟨(i 0).val / 512, hp⟩) (iblk m c 2 ⟨(i 0).val / 512, hp⟩) (ix2 (⟨(i 0).val % 512, by omega⟩ : Fin 512) (⟨(i 1).val, h1⟩ : Fin 2560)) from rfl).trans ?_
  refine (out_at m c _ _ _).trans ?_
  show LruInOfAt (m ((c.tc : Thread nD τ).loc main_arg0)) (m ((c.tc : Thread nD τ).loc main_arg1)) (m ((c.tc : Thread nD τ).loc main_arg2)) ((i 0).val / 512 * 512 + (i 0).val % 512) (i 1).val = LruInOfAt (m ((c.tc : Thread nD τ).loc main_arg0)) (m ((c.tc : Thread nD τ).loc main_arg1)) (m ((c.tc : Thread nD τ).loc main_arg2)) (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v2) = LruInOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final3 m c), (h c).2⟩) (run_blocks m ρ)

end Cert.LruInIdeal.Value

end
-- ==== Proof.LruInRef.lean ====
/- The reference of the recurrence's input projection: the same sum, and the two runs together. -/
module

public import proofs.«01_k».proof.Proof.Products
public import proofs.«01_k».proof.Proof.LruInRun
public import proofs.«01_k».proof.Proof.Gen.LruInRefIdeal.Run
public import proofs.«01_k».proof.Proof.Gen.LruInRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruInRefIdeal.Value

open Cert.LruInRefIdeal Cert.LruInRefIdeal.Gen Cert.LruInRefIdeal.Read Products

variable (x0 : Vec Ideal S8192x1024 .bf16) (x1 : Vec Ideal S1024x2560 .bf16) (x2 : Vec Ideal S2560 .f32)

/-- The row operand at a row and a column. -/
theorem x_at (r : Fin 8192) (j : Fin 1024) : val_main_v0 (F := Ideal) x0 (ix2 r j) = at2 (A := 8192) (B := 1024) x0 r.val j.val := by
  have hr := r.isLt; have hj := j.isLt
  rw [val_main_v0_apply]
  show x0 _ = x0 _
  congr 1; funext b; apply Fin.ext
  match b with
  | ⟨0, _⟩ => show r.val = r.val % 8192; omega
  | ⟨1, _⟩ => show j.val = j.val % 1024; omega

/-- The weight at a row and a column. -/
theorem w_at (r : Fin 1024) (j : Fin 2560) : val_main_v1 (F := Ideal) x1 (ix2 r j) = at2 (A := 1024) (B := 2560) x1 r.val j.val := by
  have hr := r.isLt; have hj := j.isLt
  rw [val_main_v1_apply]
  show x1 _ = x1 _
  congr 1; funext b; apply Fin.ext
  match b with
  | ⟨0, _⟩ => show r.val = r.val % 1024; omega
  | ⟨1, _⟩ => show j.val = j.val % 2560; omega

/-- The reference's product. -/
theorem v6_eq : val_main_v6 (F := Ideal) x0 x1 x2 = LruInOf x0 x1 x2 := by
  funext i
  rw [val_main_v6_apply]
  rw [val_main_v5_apply]
  refine (show _ = (val_main_v2 (F := Ideal) x0 x1 i : EReal) + (val_main_v4 (F := Ideal) x2 i : EReal) from rfl).trans ?_
  refine congr (congrArg (fun a b : EReal => a + b) ?_) ?_
  · rw [val_main_v2_apply]
    exact Finset.sum_congr rfl fun k _ => congr (congrArg (fun a b : EReal => a * b) ((congrArg (val_main_v0 (F := Ideal) x0) (eq_ix2 _)).trans (x_at x0 (i 0) k)))
      ((congrArg (val_main_v1 (F := Ideal) x1) (eq_ix2 _)).trans (w_at x1 k (i 1)))
  · rw [val_main_v4_apply, val_main_v3_apply]
    show x2 _ = x2 _
    congr 1; funext b; apply Fin.ext
    match b with
    | ⟨0, _⟩ => exact (Nat.mod_eq_of_lt (i 1).isLt).symm

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = LruInOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v6_eq _ _ _).trans (v6_eq _ _ _)), (h c).2⟩)
    (run m ρ)

/-- The reference ends with its arguments as they were; it declares no semaphore. -/
theorem ends : Cert.quiescent_LruInRefIdeal := fun m ρ _ =>
  (θ_run _ _ _).mono (fun _ h => ⟨fun c => (h c).2, funext fun g => nomatch g.2⟩) (Cert.LruInRefIdeal.Value.run m ρ)

end Cert.LruInRefIdeal.Value

/-- The kernel's value and the reference's, over the ideal reals. -/
theorem LruIn_value : Cert.algebraic_LruInIdeal_LruInRefIdeal :=
  fun m g m' g' _ h => ⟨fun c => LruInOf (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)),
    Cert.LruInIdeal.Value.run_value m g,
    (θ_run _ _ _).mono (fun r hr c => by
      have hc := hr c
      obtain ⟨a0, a1, a2⟩ := h c
      exact ⟨hc.1.trans (by rw [a0, a1, a2] <;> rfl), hc.2⟩)
      (Cert.LruInRefIdeal.Value.run_value m' g')⟩

end
-- ==== Proof.RowNorm.lean ====
/- Normalising a row over the exact reals: the mean, the variance, and the scaled and shifted row; and the vector operations
   that compute them on a tile of rows. -/
module

public import proofs.«01_k».proof.Proof.Products
public import Idealize.ShloMosaic.Lib.ValueLayout
public import Idealize.ShloMosaic.Lib.ValueLayoutCasts

@[expose] public section

set_option maxRecDepth 16384

noncomputable section

open Idealize.ShloMosaic Idealize.ShloMosaic.TcCoe Idealize.SL.Sem Idealize.ShloMosaic.ValueIdx
open scoped BigOperators

namespace RowNorm

/-- The factor of the residual branch, as the programs write it. -/
def scale : EReal := FloatOps.ofBits (F := Ideal) .f32 0x3FD744FD#32

/-- A row's mean: its sum over its width. -/
def mean (z : Fin 1024 → EReal) : EReal := Ideal.div (∑ q : Fin 1024, z q) (FloatOps.ofBits (F := Ideal) .f32 0x44800000#32)

/-- A row less its mean. -/
def dev (z : Fin 1024 → EReal) (q : Fin 1024) : EReal := z q - mean z

/-- The reciprocal of a row's standard deviation. -/
def inv (z : Fin 1024 → EReal) : EReal :=
  Ideal.rsqrt (mean (fun q => dev z q * dev z q) + FloatOps.ofBits (F := Ideal) .f32 0x3727C5AC#32)

/-- The normalised row, scaled and shifted. -/
def ln (z : Fin 1024 → EReal) (g b : EReal) (q : Fin 1024) : EReal := dev z q * inv z * g + b

/-- The mean of a tile's row, broadcast along the row. -/
theorem mean_apply (y : FVec Ideal ⟨2, ![512, 1024]⟩ .f32) (hr) (hf) (ha) (hc) (p : Fin 512) (u : Fin 1) :
    divf (shapeCast ⟨2, ![512, 1]⟩ (multiReduction (F := Ideal) .add [1] ⟨1, ![512]⟩ y 0x00000000#32 hr hf ha) hc)
      (broadcast ⟨2, ![512, 1]⟩ (Scalar.ofBits (F := Ideal) .f32 0x44800000#32)) (ix2 p u) = mean fun q => y (ix2 p q) := by
  show Ideal.div (shapeCast ⟨2, ![512, 1]⟩ _ _ (ix2 p u)) (FloatOps.ofBits (F := Ideal) .f32 0x44800000#32) = _
  rw [shapeCast_a_a1_apply]
  refine congrArg (fun z : EReal => Ideal.div z (FloatOps.ofBits (F := Ideal) .f32 0x44800000#32)) ?_
  refine (Ideal.multiReduction_add_single y _ _ _ _ (ix1 p)).trans (Finset.sum_congr rfl fun a _ => congrArg y ?_)
  funext b
  match b with
  | ⟨0, _⟩ => rfl
  | ⟨1, _⟩ => rfl

/-- A column broadcast along the rows reads the column. -/
theorem col_apply (v : FVec Ideal ⟨2, ![512, 1]⟩ .f32) (h) (p : Fin 512) (q : Fin 1024) :
    broadcastTo ⟨2, ![512, 1024]⟩ v h (ix2 p q) = v (ix2 p 0) :=
  broadcastTo_apply v h (ix2 p q) (ix2 p 0) fun b => match b with
    | ⟨0, _⟩ => rfl
    | ⟨1, _⟩ => rfl

/-- A row of one, cast to its own shape and broadcast down the rows, reads the row. -/
theorem row_apply (v : FVec Ideal ⟨2, ![1, 1024]⟩ .f32) (hs) (h) (p : Fin 512) (q : Fin 1024) :
    broadcastTo ⟨2, ![512, 1024]⟩ (shapeCast ⟨2, ![1, 1024]⟩ v hs) h (ix2 p q) = v (ix2 0 q) := by
  rw [shapeCast_self]
  exact broadcastTo_1b_ab_apply v h p q

/-- A tile less its rows' means. -/
theorem dev_apply (y : FVec Ideal ⟨2, ![512, 1024]⟩ .f32) (hr) (hf) (ha) (hc) (hb) (p : Fin 512) (q : Fin 1024) :
    subf y (broadcastTo ⟨2, ![512, 1024]⟩
      (divf (shapeCast ⟨2, ![512, 1]⟩ (multiReduction (F := Ideal) .add [1] ⟨1, ![512]⟩ y 0x00000000#32 hr hf ha) hc)
        (broadcast ⟨2, ![512, 1]⟩ (Scalar.ofBits (F := Ideal) .f32 0x44800000#32))) hb) (ix2 p q)
      = dev (fun q => y (ix2 p q)) q :=
  congrArg (fun z : EReal => y (ix2 p q) - z) ((col_apply _ hb p q).trans (mean_apply y hr hf ha hc p 0))

end RowNorm

end
-- ==== Proof.FfnDownLnRun.lean ====
/- The feed-forward layer's second product with the residual branch and the normalisation after it: the kernel leaves the sum, the normalised rows, and the normalised rows again. -/
module

public import proofs.«01_k».proof.Proof.RowNorm
public import proofs.«01_k».proof.Proof.Gen.FfnDownLnIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The feed-forward layer's second product plus the scaled residual, at a row and a column. -/
def FfnDownLnZOfAt (x : Vec Ideal ⟨2, ![8192, 2816]⟩ .bf16) (w : Vec Ideal ⟨2, ![2816, 1024]⟩ .bf16) (d : Vec Ideal ⟨2, ![8192, 1024]⟩ .f32) (r q : ℕ) : EReal :=
  RowNorm.scale * Products.at2 (A := 8192) (B := 1024) d r q + ∑ k : Fin 2816, Products.at2 (A := 8192) (B := 2816) x r k.val * Products.at2 (A := 2816) (B := 1024) w k.val q

/-- The feed-forward layer's second product plus the scaled residual, as an array. -/
def FfnDownLnZOf (x : Vec Ideal ⟨2, ![8192, 2816]⟩ .bf16) (w : Vec Ideal ⟨2, ![2816, 1024]⟩ .bf16) (d : Vec Ideal ⟨2, ![8192, 1024]⟩ .f32) : Vec Ideal ⟨2, ![8192, 1024]⟩ .f32 := fun i =>
  FfnDownLnZOfAt x w d (i 0).val (i 1).val

/-- The normalised rows, at a row and a column. -/
def FfnDownLnOfAt (x : Vec Ideal ⟨2, ![8192, 2816]⟩ .bf16) (w : Vec Ideal ⟨2, ![2816, 1024]⟩ .bf16) (d : Vec Ideal ⟨2, ![8192, 1024]⟩ .f32) (g b : Vec Ideal ⟨1, ![1024]⟩ .f32) (r q : ℕ) : EReal :=
  RowNorm.ln (fun k => FfnDownLnZOfAt x w d r k.val) (g (ix1 (Fin.ofNat 1024 q))) (b (ix1 (Fin.ofNat 1024 q))) (Fin.ofNat 1024 q)

/-- The normalised rows, as an array. -/
def FfnDownLnOf (x : Vec Ideal ⟨2, ![8192, 2816]⟩ .bf16) (w : Vec Ideal ⟨2, ![2816, 1024]⟩ .bf16) (d : Vec Ideal ⟨2, ![8192, 1024]⟩ .f32) (g b : Vec Ideal ⟨1, ![1024]⟩ .f32) : Vec Ideal ⟨2, ![8192, 1024]⟩ .f32 := fun i =>
  FfnDownLnOfAt x w d g b (i 0).val (i 1).val

/-- The normalised rows in the narrow type, as an array: over the exact reals the same numbers. -/
def FfnDownLnNarrowOf (x : Vec Ideal ⟨2, ![8192, 2816]⟩ .bf16) (w : Vec Ideal ⟨2, ![2816, 1024]⟩ .bf16) (d : Vec Ideal ⟨2, ![8192, 1024]⟩ .f32) (g b : Vec Ideal ⟨1, ![1024]⟩ .f32) : Vec Ideal ⟨2, ![8192, 1024]⟩ .bf16 := fun i =>
  FfnDownLnOfAt x w d g b (i 0).val (i 1).val

namespace Cert.FfnDownLnIdeal.Value

open Cert.FfnDownLnIdeal Cert.FfnDownLnIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's sum at an index. -/
theorem pay1_at (x0 : Vec Ideal S512x2816 .bf16) (x1 : Vec Ideal S1x2816x1024 .bf16) (x2 : Vec Ideal S512x1024 .f32) (p : Fin 512) (q : Fin 1024) :
    k0_pay1 (F := Ideal) x0 x1 x2 (ix2 p q) = RowNorm.scale * x2 (ix2 p q) + ∑ k : Fin 2816, x0 (ix2 p k) * x1 (ix3 0 k q) := by
  unfold k0_pay1
  refine congrArg (fun z : EReal => RowNorm.scale * x2 (ix2 p q) + z) ?_
  show @Eq EReal (FloatOps.matmul (F := Ideal) (φ₁ := .bf16) (φ₂ := .bf16) (DotDims.plain 512 2816 1024) none x0 (shapeCast S2816x1024 x1 shapeCasts_S1x2816x1024_S2816x1024) (constant S512x1024 .f32 0x00000000#32) (ix2 p q)) (∑ k : Fin 2816, x0 (ix2 p k) * x1 (ix3 0 k q))
  refine (Ideal.matmul_plain_apply (φ₁ := .bf16) (φ₂ := .bf16) (M := 512) (K := 2816) (N := 1024) none x0 (shapeCast S2816x1024 x1 shapeCasts_S1x2816x1024_S2816x1024) (constant S512x1024 .f32 0x00000000#32) p q).trans ?_
  rw [zero_const, zero_add]
  exact Finset.sum_congr rfl fun k _ => congrArg (x0 (ix2 p k) * ·) (dropUnit_apply (A := 2816) (B := 1024) x1 _ k q)

/-- The body's normalised rows at an index, from its sum. -/
theorem pay2_at (x0 : Vec Ideal S512x2816 .bf16) (x1 : Vec Ideal S1x2816x1024 .bf16) (x2 : Vec Ideal S512x1024 .f32) (x3 x4 : Vec Ideal S1x1024 .f32) (p : Fin 512) (q : Fin 1024) :
    k0_pay2 (F := Ideal) x0 x1 x2 x3 x4 (ix2 p q) = RowNorm.ln (fun q => k0_pay1 (F := Ideal) x0 x1 x2 (ix2 p q)) (x3 (ix2 0 q)) (x4 (ix2 0 q)) q := by
  unfold k0_pay2
  generalize k0_pay1 (F := Ideal) x0 x1 x2 = y
  refine congr (congrArg (fun a b : EReal => a + b) (congr (congrArg (fun a b : EReal => a * b) (congr (congrArg (fun a b : EReal => a * b)
    (RowNorm.dev_apply y _ _ _ _ _ p q)) ?_)) (RowNorm.row_apply x3 _ _ p q))) (RowNorm.row_apply x4 _ _ p q)
  refine (RowNorm.col_apply _ _ p q).trans ?_
  refine congrArg (fun z : EReal => Ideal.rsqrt (z + FloatOps.ofBits (F := Ideal) .f32 0x3727C5AC#32)) ?_
  refine (RowNorm.mean_apply _ _ _ _ _ p 0).trans (congrArg RowNorm.mean (funext fun q => ?_))
  exact congr (congrArg (fun a b : EReal => a * b) (RowNorm.dev_apply y _ _ _ _ _ p q)) (RowNorm.dev_apply y _ _ _ _ _ p q)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel
theorem ixw3 : ∀ t : Fin grid0.N, win0_3.index t 0 = 0 ∧ win0_3.index t 1 = 0 := by decide +kernel
theorem ixw4 : ∀ t : Fin grid0.N, win0_4.index t 0 = 0 ∧ win0_4.index t 1 = 0 := by decide +kernel
theorem ixw5 : ∀ t : Fin grid0.N, win0_5.index t 0 = t.val ∧ win0_5.index t 1 = 0 := by decide +kernel
theorem ixw6 : ∀ t : Fin grid0.N, win0_6.index t 0 = t.val ∧ win0_6.index t 1 = 0 := by decide +kernel
theorem ixw7 : ∀ t : Fin grid0.N, win0_7.index t 0 = t.val ∧ win0_7.index t 1 = 0 := by decide +kernel

/-- The first window's block: a tile of rows. -/
theorem blk0 (c : Dev nD) (t : Fin cfg0.N) (p : Fin 512) (k : Fin 2816) :
    iblk m c 0 t (ix2 p k) = at2 (A := 8192) (B := 2816) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 2816 + 1 * k.val = k.val % 2816; rw [(ixw0 t).2]; omega

/-- The second window's block: the whole weight. -/
theorem blk1 (c : Dev nD) (t : Fin cfg0.N) (k : Fin 2816) (q : Fin 1024) :
    iblk m c 1 t (ix3 0 k q) = at2 (A := 2816) (B := 1024) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x2816x1024.Idx → EReal) _ = m ((c.tc : Thread nD τ).loc main_arg1) _
  have e : (StableHlo.after hostOps0 (fun b => m (c, b)) (Proc.tc.devRef main_v0) : S1x2816x1024.Idx → EReal)
      = broadcastInDim S1x2816x1024 ![1, 2] bcast_S2816x1024_S1x2816x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 2816 + 1 * k.val = k.val % 2816; rw [(ixw1 t).2.1]; omega
  | ⟨1, _⟩ => show win0_1.index t 2 * 1024 + 1 * q.val = q.val % 1024; rw [(ixw1 t).2.2]; omega

/-- The third window's block: a tile of the residual's rows. -/
theorem blk2 (c : Dev nD) (t : Fin cfg0.N) (p : Fin 512) (k : Fin 1024) :
    iblk m c 2 t (ix2 p k) = at2 (A := 8192) (B := 1024) (m ((c.tc : Thread nD τ).loc main_arg2)) (t.val * 512 + p.val) k.val := by
  have ht := ltN t; have hk := k.isLt; have hp := p.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 512 + 1 * p.val = (t.val * 512 + p.val) % 8192; rw [(ixw2 t).1]; omega
  | ⟨1, _⟩ => show win0_2.index t 1 * 1024 + 1 * k.val = k.val % 1024; rw [(ixw2 t).2]; omega

/-- The fourth window's block: the whole scale. -/
theorem blk3 (c : Dev nD) (t : Fin cfg0.N) (q : Fin 1024) :
    iblk m c 3 t (ix2 0 q) = (m ((c.tc : Thread nD τ).loc main_arg3) : S1024.Idx → EReal) (ix1 q) := by
  have ht := ltN t; have hq := q.isLt
  unfold iblk
  rw [View.read_apply]
  show (StableHlo.after hostOps0 (fun b => m (c, b)) (Proc.tc.devRef main_v1) : S1x1024.Idx → EReal) _ = m ((c.tc : Thread nD τ).loc main_arg3) _
  have e : (StableHlo.after hostOps0 (fun b => m (c, b)) (Proc.tc.devRef main_v1) : S1x1024.Idx → EReal)
      = broadcastInDim S1x1024 ![1] bcast_S1024_S1x1024_1 (m ((c.tc : Thread nD τ).loc main_arg3)) := by after_results
  rw [e]
  unfold broadcastInDim
  show m ((c.tc : Thread nD τ).loc main_arg3) _ = m ((c.tc : Thread nD τ).loc main_arg3) _
  congr 1; funext b; apply Fin.ext
  match b with
  | ⟨0, _⟩ => show win0_3.index t 1 * 1024 + 1 * q.val = q.val; rw [(ixw3 t).2]; omega

/-- The fifth window's block: the whole shift. -/
theorem blk4 (c : Dev nD) (t : Fin cfg0.N) (q : Fin 1024) :
    iblk m c 4 t (ix2 0 q) = (m ((c.tc : Thread nD τ).loc main_arg4) : S1024.Idx → EReal) (ix1 q) := by
  have ht := ltN t; have hq := q.isLt
  unfold iblk
  rw [View.read_apply]
  show (StableHlo.after hostOps0 (fun b => m (c, b)) (Proc.tc.devRef main_v2) : S1x1024.Idx → EReal) _ = m ((c.tc : Thread nD τ).loc main_arg4) _
  have e : (StableHlo.after hostOps0 (fun b => m (c, b)) (Proc.tc.devRef main_v2) : S1x1024.Idx → EReal)
      = broadcastInDim S1x1024 ![1] bcast_S1024_S1x1024_1 (m ((c.tc : Thread nD τ).loc main_arg4)) := by after_results
  rw [e]
  unfold broadcastInDim
  show m ((c.tc : Thread nD τ).loc main_arg4) _ = m ((c.tc : Thread nD τ).loc main_arg4) _
  congr 1; funext b; apply Fin.ext
  match b with
  | ⟨0, _⟩ => show win0_4.index t 1 * 1024 + 1 * q.val = q.val; rw [(ixw4 t).2]; omega

/-- The sum of the run's arguments, at a row and a column. -/
abbrev zAllAt (c : Dev nD) := FfnDownLnZOfAt (m ((c.tc : Thread nD τ).loc main_arg0)) (m ((c.tc : Thread nD τ).loc main_arg1)) (m ((c.tc : Thread nD τ).loc main_arg2))
/-- The sum of the run's arguments. -/
abbrev zAll (c : Dev nD) := FfnDownLnZOf (m ((c.tc : Thread nD τ).loc main_arg0)) (m ((c.tc : Thread nD τ).loc main_arg1)) (m ((c.tc : Thread nD τ).loc main_arg2))
/-- The normalised rows of the run's arguments, at a row and a column. -/
abbrev nAllAt (c : Dev nD) := FfnDownLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments. -/
abbrev nAll (c : Dev nD) := FfnDownLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments, in the narrow type. -/
abbrev nNarrow (c : Dev nD) := FfnDownLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The sum a point computes, at a row and a column of its block. -/
theorem z_at (c : Dev nD) (t : Fin cfg0.N) (p : Fin 512) (q : Fin 1024) :
    k0_pay1 (F := Ideal) (iblk m c 0 t) (iblk m c 1 t) (iblk m c 2 t) (ix2 p q) = zAllAt m c (t.val * 512 + p.val) q.val := by
  rw [pay1_at]
  exact congr (congrArg (fun a b : EReal => a + b) (congrArg (fun z : EReal => RowNorm.scale * z) (blk2 m c t p q)))
    (Finset.sum_congr rfl fun k _ => congr (congrArg (fun a b : EReal => a * b) (blk0 m c t p k)) (blk1 m c t k q))

/-- The normalised rows a point computes, at a row and a column of its block. -/
theorem n_at (c : Dev nD) (t : Fin cfg0.N) (p : Fin 512) (q : Fin 1024) :
    k0_pay2 (F := Ideal) (iblk m c 0 t) (iblk m c 1 t) (iblk m c 2 t) (iblk m c 3 t) (iblk m c 4 t) (ix2 p q) = nAllAt m c (t.val * 512 + p.val) q.val := by
  rw [pay2_at]
  have eq : Fin.ofNat 1024 q.val = q := Fin.ext (Nat.mod_eq_of_lt q.isLt)
  show _ = FfnDownLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ _
  unfold FfnDownLnOfAt
  rw [eq]
  exact congr (congr (congr (congrArg RowNorm.ln (funext fun k => z_at m c t p k)) (blk3 m c t q)) (blk4 m c t q)) rfl

theorem out5_at (c : Dev nD) (t : Fin cfg0.N) (p : Fin 512) (q : Fin 1024) :
    out0_5 (iblk m c 0 t) (iblk m c 1 t) (iblk m c 2 t) (iblk m c 3 t) (iblk m c 4 t) (ix2 p q) = zAllAt m c (t.val * 512 + p.val) q.val := by
  unfold out0_5
  rw [View.canon_unit_zero (S := S512x1024) hz2]
  simp only [View.ld_unit_zero (S := S512x2816) hz2, View.ld_unit_zero (S := S1x2816x1024) hz3, View.ld_unit_zero (S := S512x1024) hz2, View.ld_unit_zero (S := S1x1024) hz2]
  exact z_at m c t p q

theorem out6_at (c : Dev nD) (t : Fin cfg0.N) (p : Fin 512) (q : Fin 1024) :
    out0_6 (iblk m c 0 t) (iblk m c 1 t) (iblk m c 2 t) (iblk m c 3 t) (iblk m c 4 t) (ix2 p q) = nAllAt m c (t.val * 512 + p.val) q.val := by
  unfold out0_6
  rw [View.canon_unit_zero (S := S512x1024) hz2]
  simp only [View.ld_unit_zero (S := S512x2816) hz2, View.ld_unit_zero (S := S1x2816x1024) hz3, View.ld_unit_zero (S := S512x1024) hz2, View.ld_unit_zero (S := S1x1024) hz2]
  exact n_at m c t p q

theorem out7_at (c : Dev nD) (t : Fin cfg0.N) (p : Fin 512) (q : Fin 1024) :
    out0_7 (iblk m c 0 t) (iblk m c 1 t) (iblk m c 2 t) (iblk m c 3 t) (iblk m c 4 t) (ix2 p q) = nAllAt m c (t.val * 512 + p.val) q.val := by
  unfold out0_7
  rw [View.canon_unit_zero (S := S512x1024) hz2]
  simp only [View.ld_unit_zero (S := S512x2816) hz2, View.ld_unit_zero (S := S1x2816x1024) hz3, View.ld_unit_zero (S := S512x1024) hz2, View.ld_unit_zero (S := S1x1024) hz2]
  exact n_at m c t p q

/-- The array the run leaves in window 5. -/
theorem final5 (c : Dev nD) : (dats m 0 c).arrAt 5 cfg0.N = zAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks5 m c ⟨(i 0).val / 512, hp⟩ (flush0_5 _)) (ix2 (⟨(i 0).val % 512, by omega⟩ : Fin 512) (⟨(i 1).val, h1⟩ : Fin 1024))
  rw [View.read_apply, flushed5] at hb
  have e : ((cfg0.win 5).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_5.index ⟨(i 0).val / 512, hp⟩ 0 * 512 + 1 * ((i 0).val % 512) = (i 0).val; rw [(ixw5 _).1]; show (i 0).val / 512 * 512 + 1 * ((i 0).val % 512) = (i 0).val; omega
    | ⟨1, _⟩ => show win0_5.index ⟨(i 0).val / 512, hp⟩ 1 * 1024 + 1 * (i 1).val = (i 1).val; rw [(ixw5 _).2]; omega
  refine (congrArg ((dats m 0 c).arrAt 5 cfg0.N) e.symm).trans (hb.trans ?_)
  have e0 : (i 0).val / 512 * 512 + (i 0).val % 512 = (i 0).val := by omega
  refine (show _ = out0_5 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out5_at m c _ _ _).trans ?_
  show zAllAt m c ((i 0).val / 512 * 512 + (i 0).val % 512) (i 1).val = zAllAt m c (i 0).val (i 1).val
  rw [e0]

/-- The array the run leaves in window 6. -/
theorem final6 (c : Dev nD) : (dats m 0 c).arrAt 6 cfg0.N = nAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks6 m c ⟨(i 0).val / 512, hp⟩ (flush0_6 _)) (ix2 (⟨(i 0).val % 512, by omega⟩ : Fin 512) (⟨(i 1).val, h1⟩ : Fin 1024))
  rw [View.read_apply, flushed6] at hb
  have e : ((cfg0.win 6).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_6.index ⟨(i 0).val / 512, hp⟩ 0 * 512 + 1 * ((i 0).val % 512) = (i 0).val; rw [(ixw6 _).1]; show (i 0).val / 512 * 512 + 1 * ((i 0).val % 512) = (i 0).val; omega
    | ⟨1, _⟩ => show win0_6.index ⟨(i 0).val / 512, hp⟩ 1 * 1024 + 1 * (i 1).val = (i 1).val; rw [(ixw6 _).2]; omega
  refine (congrArg ((dats m 0 c).arrAt 6 cfg0.N) e.symm).trans (hb.trans ?_)
  have e0 : (i 0).val / 512 * 512 + (i 0).val % 512 = (i 0).val := by omega
  refine (show _ = out0_6 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out6_at m c _ _ _).trans ?_
  show nAllAt m c ((i 0).val / 512 * 512 + (i 0).val % 512) (i 1).val = nAllAt m c (i 0).val (i 1).val
  rw [e0]

/-- The array the run leaves in window 7. -/
theorem final7 (c : Dev nD) : (dats m 0 c).arrAt 7 cfg0.N = nNarrow m c := by
  funext i
  have h0 : (i 0).val < 8192 := (i 0).isLt
  have h1 : (i 1).val < 1024 := (i 1).isLt
  have hp : (i 0).val / 512 < cfg0.N := lt_of_lt_of_eq (by omega) N_0.symm
  have hb := congrFun (blocks7 m c ⟨(i 0).val / 512, hp⟩ (flush0_7 _)) (ix2 (⟨(i 0).val % 512, by omega⟩ : Fin 512) (⟨(i 1).val, h1⟩ : Fin 1024))
  rw [View.read_apply, flushed7] at hb
  have e : ((cfg0.win 7).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_7.index ⟨(i 0).val / 512, hp⟩ 0 * 512 + 1 * ((i 0).val % 512) = (i 0).val; rw [(ixw7 _).1]; show (i 0).val / 512 * 512 + 1 * ((i 0).val % 512) = (i 0).val; omega
    | ⟨1, _⟩ => show win0_7.index ⟨(i 0).val / 512, hp⟩ 1 * 1024 + 1 * (i 1).val = (i 1).val; rw [(ixw7 _).2]; omega
  refine (congrArg ((dats m 0 c).arrAt 7 cfg0.N) e.symm).trans (hb.trans ?_)
  have e0 : (i 0).val / 512 * 512 + (i 0).val % 512 = (i 0).val := by omega
  refine (show _ = out0_7 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out7_at m c _ _ _).trans ?_
  show nAllAt m c ((i 0).val / 512 * 512 + (i 0).val % 512) (i 1).val = nAllAt m c (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v3_0) = FfnDownLnZOf (m ((c.tc : Thread nD τ).loc main_arg0)) (m ((c.tc : Thread nD τ).loc main_arg1)) (m ((c.tc : Thread nD τ).loc main_arg2))
      ∧ r.2.mem ((c.tc : Thread nD τ).loc main_v3_1) = FfnDownLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_2) = FfnDownLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c), (h c).2.2.2⟩) (run_blocks m ρ)

end Cert.FfnDownLnIdeal.Value

end
-- ==== Proof.FfnDownLnRef.lean ====
/- The reference of the feed-forward layer's second product with the residual branch and the normalisation: the same sum, mean, variance and rows, and the two runs together. -/
module

public import proofs.«01_k».proof.Proof.RowNorm
public import proofs.«01_k».proof.Proof.FfnDownLnRun
public import proofs.«01_k».proof.Proof.Gen.FfnDownLnRefIdeal.Run
public import proofs.«01_k».proof.Proof.Gen.FfnDownLnRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.FfnDownLnRefIdeal.Value

open Cert.FfnDownLnRefIdeal Cert.FfnDownLnRefIdeal.Gen Cert.FfnDownLnRefIdeal.Read Products

variable (x0 : Vec Ideal S8192x2816 .bf16) (x1 : Vec Ideal S2816x1024 .bf16) (x2 : Vec Ideal S8192x1024 .f32) (x3 x4 : Vec Ideal S1024 .f32)

/-- The row operand at a row and a column. -/
theorem x_at (r : Fin 8192) (j : Fin 2816) : val_main_v2 (F := Ideal) x0 (ix2 r j) = at2 (A := 8192) (B := 2816) x0 r.val j.val := by
  have hr := r.isLt; have hj := j.isLt
  rw [val_main_v2_apply]
  show x0 _ = x0 _
  congr 1; funext b; apply Fin.ext
  match b with
  | ⟨0, _⟩ => show r.val = r.val % 8192; omega
  | ⟨1, _⟩ => show j.val = j.val % 2816; omega

/-- The weight at a row and a column. -/
theorem w_at (r : Fin 2816) (j : Fin 1024) : val_main_v3 (F := Ideal) x1 (ix2 r j) = at2 (A := 2816) (B := 1024) x1 r.val j.val := by
  have hr := r.isLt; have hj := j.isLt
  rw [val_main_v3_apply]
  show x1 _ = x1 _
  congr 1; funext b; apply Fin.ext
  match b with
  | ⟨0, _⟩ => show r.val = r.val % 2816; omega
  | ⟨1, _⟩ => show j.val = j.val % 1024; omega

/-- The reference's sum. -/
theorem v5_eq : val_main_v5 (F := Ideal) x0 x1 x2 = FfnDownLnZOf x0 x1 x2 := by
  funext i
  rw [val_main_v5_apply]
  refine congr (congrArg (fun a b : EReal => a + b) ?_) ?_
  · rw [val_main_v1_apply, val_main_v0_apply, val_main_cst_apply]
    refine congrArg (fun z : EReal => RowNorm.scale * z) ?_
    show x2 _ = x2 _
    congr 1; funext b; apply Fin.ext
    match b with
    | ⟨0, _⟩ => exact (Nat.mod_eq_of_lt (i 0).isLt).symm
    | ⟨1, _⟩ => exact (Nat.mod_eq_of_lt (i 1).isLt).symm
  · rw [val_main_v4_apply]
    exact Finset.sum_congr rfl fun k _ => congr (congrArg (fun a b : EReal => a * b) ((congrArg (val_main_v2 (F := Ideal) x0) (eq_ix2 _)).trans (x_at x0 (i 0) k)))
      ((congrArg (val_main_v3 (F := Ideal) x1) (eq_ix2 _)).trans (w_at x1 k (i 1)))

/-- The row of the reference's sum that holds an index. -/
def zrow (r : Fin 8192) (k : Fin 1024) : EReal := val_main_v5 (F := Ideal) x0 x1 x2 (ix2 r k)

/-- The reference's mean. -/
theorem mean_at (i : S8192x1.Idx) : val_main_v9 (F := Ideal) x0 x1 x2 i = RowNorm.mean (zrow x0 x1 x2 (i 0)) := by
  rw [val_main_v9_apply, val_main_v8_apply, val_main_cst_1_apply, val_main_v7_apply, val_main_v6_apply]
  refine congrArg (fun z : EReal => Ideal.div z (FloatOps.ofBits (F := Ideal) .f32 0x44800000#32)) ?_
  rw [show val_main_cst_0 (F := Ideal) (Shape.Idx.first h_S_) = (0 : EReal) from zero_const _, zero_add]
  exact Finset.sum_congr rfl fun k _ => congrArg (val_main_v5 (F := Ideal) x0 x1 x2) (eq_ix2 _)

/-- The reference's rows less their means. -/
theorem dev_at (i : S8192x1024.Idx) : val_main_v11 (F := Ideal) x0 x1 x2 i = RowNorm.dev (zrow x0 x1 x2 (i 0)) (i 1) := by
  rw [val_main_v11_apply, val_main_v10_apply, mean_at]
  exact congrArg (fun z : EReal => z - RowNorm.mean (zrow x0 x1 x2 (i 0))) (congrArg (val_main_v5 (F := Ideal) x0 x1 x2) (eq_ix2 i))

/-- The reference's rows less their means, computed again. -/
theorem dev_at' (i : S8192x1024.Idx) : val_main_v18 (F := Ideal) x0 x1 x2 i = RowNorm.dev (zrow x0 x1 x2 (i 0)) (i 1) := by
  rw [val_main_v18_apply, val_main_v17_apply, mean_at]
  exact congrArg (fun z : EReal => z - RowNorm.mean (zrow x0 x1 x2 (i 0))) (congrArg (val_main_v5 (F := Ideal) x0 x1 x2) (eq_ix2 i))

/-- The reference's reciprocal standard deviation. -/
theorem inv_at (i : S8192x1.Idx) : val_main_v21 (F := Ideal) x0 x1 x2 i = RowNorm.inv (zrow x0 x1 x2 (i 0)) := by
  rw [val_main_v21_apply, val_main_v20_apply, val_main_v19_apply, val_main_cst_4_apply, val_main_v16_apply, val_main_v15_apply,
    val_main_cst_3_apply, val_main_v14_apply, val_main_v13_apply]
  refine congrArg (fun z : EReal => Ideal.rsqrt (Ideal.div z (FloatOps.ofBits (F := Ideal) .f32 0x44800000#32) + FloatOps.ofBits (F := Ideal) .f32 0x3727C5AC#32)) ?_
  rw [show val_main_cst_2 (F := Ideal) (Shape.Idx.first h_S_) = (0 : EReal) from zero_const _, zero_add]
  refine Finset.sum_congr rfl fun k _ => ?_
  rw [val_main_v12_apply, dev_at]
  rfl

/-- The reference's normalised rows. -/
theorem v29_eq : val_main_v29 (F := Ideal) x0 x1 x2 x3 x4 = FfnDownLnOf x0 x1 x2 x3 x4 := by
  funext i
  have e1 : Fin.ofNat 1024 (i 1).val = i 1 := Fin.ext (Nat.mod_eq_of_lt (i 1).isLt)
  have hz : zrow x0 x1 x2 (i 0) = fun k => FfnDownLnZOfAt x0 x1 x2 (i 0).val k.val := by
    funext k
    exact congrFun (v5_eq x0 x1 x2) (ix2 (i 0) k)
  rw [val_main_v29_apply, val_main_v26_apply, val_main_v23_apply, val_main_v22_apply, inv_at, dev_at', val_main_v25_apply, val_main_v24_apply,
    val_main_v28_apply, val_main_v27_apply]
  show RowNorm.ln (zrow x0 x1 x2 (i 0)) (x3 _) (x4 _) (i 1) = FfnDownLnOfAt x0 x1 x2 x3 x4 (i 0).val (i 1).val
  unfold FfnDownLnOfAt
  rw [e1, ← hz]
  exact congr (congr (congrArg (RowNorm.ln (zrow x0 x1 x2 (i 0))) (congrArg x3 (eq_ix1 _))) (congrArg x4 (eq_ix1 _))) rfl

/-- The reference's normalised rows in the narrow type. -/
theorem v30_eq : val_main_v30 (F := Ideal) x0 x1 x2 x3 x4 = FfnDownLnNarrowOf x0 x1 x2 x3 x4 := by
  funext i
  rw [val_main_v30_apply]
  exact congrFun (v29_eq x0 x1 x2 x3 x4) i

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v5) = FfnDownLnZOf (m ((c.tc : Thread nD τ).loc main_arg0)) (m ((c.tc : Thread nD τ).loc main_arg1)) (m ((c.tc : Thread nD τ).loc main_arg2))
      ∧ r.2.mem ((c.tc : Thread nD τ).loc main_v29) = FfnDownLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = FfnDownLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v5_eq _ _ _).trans (v5_eq _ _ _)), (h c).2.1.trans ((val_main_v29_eq _ _ _ _ _).trans (v29_eq _ _ _ _ _)), (h c).2.2.1.trans ((val_main_v30_eq _ _ _ _ _).trans (v30_eq _ _ _ _ _)), (h c).2.2.2⟩)
    (run m ρ)

/-- The reference ends with its arguments as they were; it declares no semaphore. -/
theorem ends : Cert.quiescent_FfnDownLnRefIdeal := fun m ρ _ =>
  (θ_run _ _ _).mono (fun _ h => ⟨fun c => (h c).2.2.2, funext fun g => nomatch g.2⟩) (Cert.FfnDownLnRefIdeal.Value.run m ρ)

end Cert.FfnDownLnRefIdeal.Value

/-- The kernel's value and the reference's, over the ideal reals. -/
theorem FfnDownLn_value : Cert.algebraic_FfnDownLnIdeal_FfnDownLnRefIdeal :=
  fun m g m' g' _ h => ⟨fun c => FfnDownLnZOf (m ((c.tc : Thread Cert.FfnDownLnIdeal.nD Cert.FfnDownLnIdeal.τ).loc Cert.FfnDownLnIdeal.main_arg0)) (m ((c.tc : Thread Cert.FfnDownLnIdeal.nD Cert.FfnDownLnIdeal.τ).loc Cert.FfnDownLnIdeal.main_arg1)) (m ((c.tc : Thread Cert.FfnDownLnIdeal.nD Cert.FfnDownLnIdeal.τ).loc Cert.FfnDownLnIdeal.main_arg2)), fun c => FfnDownLnOf (m ((c.tc : Thread Cert.FfnDownLnIdeal.nD Cert.FfnDownLnIdeal.τ).loc Cert.FfnDownLnIdeal.main_arg0)) (m ((c.tc : Thread Cert.FfnDownLnIdeal.nD Cert.FfnDownLnIdeal.τ).loc Cert.FfnDownLnIdeal.main_arg1)) (m ((c.tc : Thread Cert.FfnDownLnIdeal.nD Cert.FfnDownLnIdeal.τ).loc Cert.FfnDownLnIdeal.main_arg2)) (m ((c.tc : Thread Cert.FfnDownLnIdeal.nD Cert.FfnDownLnIdeal.τ).loc Cert.FfnDownLnIdeal.main_arg3)) (m ((c.tc : Thread Cert.FfnDownLnIdeal.nD Cert.FfnDownLnIdeal.τ).loc Cert.FfnDownLnIdeal.main_arg4)), fun c => FfnDownLnNarrowOf (m ((c.tc : Thread Cert.FfnDownLnIdeal.nD Cert.FfnDownLnIdeal.τ).loc Cert.FfnDownLnIdeal.main_arg0)) (m ((c.tc : Thread Cert.FfnDownLnIdeal.nD Cert.FfnDownLnIdeal.τ).loc Cert.FfnDownLnIdeal.main_arg1)) (m ((c.tc : Thread Cert.FfnDownLnIdeal.nD Cert.FfnDownLnIdeal.τ).loc Cert.FfnDownLnIdeal.main_arg2)) (m ((c.tc : Thread Cert.FfnDownLnIdeal.nD Cert.FfnDownLnIdeal.τ).loc Cert.FfnDownLnIdeal.main_arg3)) (m ((c.tc : Thread Cert.FfnDownLnIdeal.nD Cert.FfnDownLnIdeal.τ).loc Cert.FfnDownLnIdeal.main_arg4)),
    Cert.FfnDownLnIdeal.Value.run_value m g,
    (θ_run _ _ _).mono (fun r hr c => by
      have hc := hr c
      obtain ⟨a0, a1, a2, a3, a4⟩ := h c
      exact ⟨hc.1.trans (by rw [a0, a1, a2] <;> rfl), hc.2.1.trans (by rw [a0, a1, a2, a3, a4] <;> rfl), hc.2.2.1.trans (by rw [a0, a1, a2, a3, a4] <;> rfl), hc.2.2.2⟩)
      (Cert.FfnDownLnRefIdeal.Value.run_value m' g')⟩

end
-- ==== Proof.ScOutLnRun.lean ====
/- The short convolution's output projection with the residual branch and the normalisation after it: the kernel leaves the sum, the normalised rows, and the normalised rows again. -/
module

public import proofs.«01_k».proof.Proof.RowNorm
public import proofs.«01_k».proof.Proof.Gen.ScOutLnIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The short convolution's output projection plus the scaled residual, at a row and a column. -/
def ScOutLnZOfAt (x : Vec Ideal ⟨2, ![8192, 1024]⟩ .bf16) (w : Vec Ideal ⟨2, ![1024, 1024]⟩ .bf16) (d : Vec Ideal ⟨2, ![8192, 1024]⟩ .f32) (r q : ℕ) : EReal :=
  RowNorm.scale * Products.at2 (A := 8192) (B := 1024) d r q + ∑ k : Fin 1024, Products.at2 (A := 8192) (B := 1024) x r k.val * Products.at2 (A := 1024) (B := 1024) w k.val q

/-- The short convolution's output projection plus the scaled residual, as an array. -/
def ScOutLnZOf (x : Vec Ideal ⟨2, ![8192, 1024]⟩ .bf16) (w : Vec Ideal ⟨2, ![1024, 1024]⟩ .bf16) (d : Vec Ideal ⟨2, ![8192, 1024]⟩ .f32) : Vec Ideal ⟨2, ![8192, 1024]⟩ .f32 := fun i =>
  ScOutLnZOfAt x w d (i 0).val (i 1).val

/-- The normalised rows, at a row and a column. -/
def ScOutLnOfAt (x : Vec Ideal ⟨2, ![8192, 1024]⟩ .bf16) (w : Vec Ideal ⟨2, ![1024, 1024]⟩ .bf16) (d : Vec Ideal ⟨2, ![8192, 1024]⟩ .f32) (g b : Vec Ideal ⟨1, ![1024]⟩ .f32) (r q : ℕ) : EReal :=
  RowNorm.ln (fun k => ScOutLnZOfAt x w d r k.val) (g (ix1 (Fin.ofNat 1024 q))) (b (ix1 (Fin.ofNat 1024 q))) (Fin.ofNat 1024 q)

/-- The normalised rows, as an array. -/
def ScOutLnOf (x : Vec Ideal ⟨2, ![8192, 1024]⟩ .bf16) (w : Vec Ideal ⟨2, ![1024, 1024]⟩ .bf16) (d : Vec Ideal ⟨2, ![8192, 1024]⟩ .f32) (g b : Vec Ideal ⟨1, ![1024]⟩ .f32) : Vec Ideal ⟨2, ![8192, 1024]⟩ .f32 := fun i =>
  ScOutLnOfAt x w d g b (i 0).val (i 1).val

/-- The normalised rows in the narrow type, as an array: over the exact reals the same numbers. -/
def ScOutLnNarrowOf (x : Vec Ideal ⟨2, ![8192, 1024]⟩ .bf16) (w : Vec Ideal ⟨2, ![1024, 1024]⟩ .bf16) (d : Vec Ideal ⟨2, ![8192, 1024]⟩ .f32) (g b : Vec Ideal ⟨1, ![1024]⟩ .f32) : Vec Ideal ⟨2, ![8192, 1024]⟩ .bf16 := fun i =>
  ScOutLnOfAt x w d g b (i 0).val (i 1).val

namespace Cert.ScOutLnIdeal.Value

open Cert.ScOutLnIdeal Cert.ScOutLnIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's sum at an index. -/
theorem pay1_at (x0 : Vec Ideal S512x1024 .bf16) (x1 : Vec Ideal S1x1024x1024 .bf16) (x2 : Vec Ideal S512x1024 .f32) (p : Fin 512) (q : Fin 1024) :
    k0_pay1 (F := Ideal) x0 x1 x2 (ix2 p q) = RowNorm.scale * x2 (ix2 p q) + ∑ k : Fin 1024, x0 (ix2 p k) * x1 (ix3 0 k q) := by
  unfold k0_pay1
  refine congrArg (fun z : EReal => RowNorm.scale * x2 (ix2 p q) + z) ?_
  show @Eq EReal (FloatOps.matmul (F := Ideal) (φ₁ := .bf16) (φ₂ := .bf16) (DotDims.plain 512 1024 1024) none x0 (shapeCast S1024x1024 x1 shapeCasts_S1x1024x1024_S1024x1024) (constant S512x1024 .f32 0x00000000#32) (ix2 p q)) (∑ k : Fin 1024, x0 (ix2 p k) * x1 (ix3 0 k q))
  refine (Ideal.matmul_plain_apply (φ₁ := .bf16) (φ₂ := .bf16) (M := 512) (K := 1024) (N := 1024) none x0 (shapeCast S1024x1024 x1 shapeCasts_S1x1024x1024_S1024x1024) (constant S512x1024 .f32 0x00000000#32) p q).trans ?_
  rw [zero_const, zero_add]
  exact Finset.sum_congr rfl fun k _ => congrArg (x0 (ix2 p k) * ·) (dropUnit_apply (A := 1024) (B := 1024) x1 _ k q)

/-- The body's normalised rows at an index, from its sum. -/
theorem pay2_at (x0 : Vec Ideal S512x1024 .bf16) (x1 : Vec Ideal S1x1024x1024 .bf16) (x2 : Vec Ideal S512x1024 .f32) (x3 x4 : Vec Ideal S1x1024 .f32) (p : Fin 512) (q : Fin 1024) :
    k0_pay2 (F := Ideal) x0 x1 x2 x3 x4 (ix2 p q) = RowNorm.ln (fun q => k0_pay1 (F := Ideal) x0 x1 x2 (ix2 p q)) (x3 (ix2 0 q)) (x4 (ix2 0 q)) q := by
  unfold k0_pay2
  generalize k0_pay1 (F := Ideal) x0 x1 x2 = y
  refine congr (congrArg (fun a b : EReal => a + b) (congr (congrArg (fun a b : EReal => a * b) (congr (congrArg (fun a b : EReal => a * b)
    (RowNorm.dev_apply y _ _ _ _ _ p q)) ?_)) (RowNorm.row_apply x3 _ _ p q))) (RowNorm.row_apply x4 _ _ p q)
  refine (RowNorm.col_apply _ _ p q).trans ?_
  refine congrArg (fun z : EReal => Ideal.rsqrt (z + FloatOps.ofBits (F := Ideal) .f32 0x3727C5AC#32)) ?_
  refine (RowNorm.mean_apply _ _ _ _ _ p 0).trans (congrArg RowNorm.mean (funext fun q => ?_))
  exact congr (congrArg (fun a b : EReal => a * b) (RowNorm.dev_apply y _ _ _ _ _ p q)) (RowNorm.dev_apply y _ _ _ _ _ p q)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel
theorem ixw3 : ∀ t : Fin grid0.N, win0_3.index t 0 = 0 ∧ win0_3.index t 1 = 0 := by decide +kernel
theorem ixw4 : ∀ t : Fin grid0.N, win0_4.index t 0 = 0 ∧ win0_4.index t 1 = 0 := by decide +kernel
theorem ixw5 : ∀ t : Fin grid0.N, win0_5.index t 0 = t.val ∧ win0_5.index t 1 = 0 := by decide +kernel
theorem ixw6 : ∀ t : Fin grid0.N, win0_6.index t 0 = t.val ∧ win0_6.index t 1 = 0 := by decide +kernel
theorem ixw7 : ∀ t : Fin grid0.N, win0_7.index t 0 = t.val ∧ win0_7.index t 1 = 0 := by decide +kernel

/-- The first window's block: a tile of rows. -/
theorem blk0 (c : Dev nD) (t : Fin cfg0.N) (p : Fin 512) (k : Fin 1024) :
    iblk m c 0 t (ix2 p k) = at2 (A := 8192) (B := 1024) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The second window's block: the whole weight. -/
theorem blk1 (c : Dev nD) (t : Fin cfg0.N) (k : Fin 1024) (q : Fin 1024) :
    iblk m c 1 t (ix3 0 k q) = at2 (A := 1024) (B := 1024) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1024x1024.Idx → EReal) _ = m ((c.tc : Thread nD τ).loc main_arg1) _
  have e : (StableHlo.after hostOps0 (fun b => m (c, b)) (Proc.tc.devRef main_v0) : S1x1024x1024.Idx → EReal)
      = broadcastInDim S1x1024x1024 ![1, 2] bcast_S1024x1024_S1x1024x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * k.val = k.val % 1024; rw [(ixw1 t).2.1]; omega
  | ⟨1, _⟩ => show win0_1.index t 2 * 1024 + 1 * q.val = q.val % 1024; rw [(ixw1 t).2.2]; omega

/-- The third window's block: a tile of the residual's rows. -/
theorem blk2 (c : Dev nD) (t : Fin cfg0.N) (p : Fin 512) (k : Fin 1024) :
    iblk m c 2 t (ix2 p k) = at2 (A := 8192) (B := 1024) (m ((c.tc : Thread nD τ).loc main_arg2)) (t.val * 512 + p.val) k.val := by
  have ht := ltN t; have hk := k.isLt; have hp := p.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 512 + 1 * p.val = (t.val * 512 + p.val) % 8192; rw [(ixw2 t).1]; omega
  | ⟨1, _⟩ => show win0_2.index t 1 * 1024 + 1 * k.val = k.val % 1024; rw [(ixw2 t).2]; omega

/-- The fourth window's block: the whole scale. -/
theorem blk3 (c : Dev nD) (t : Fin cfg0.N) (q : Fin 1024) :
    iblk m c 3 t (ix2 0 q) = (m ((c.tc : Thread nD τ).loc main_arg3) : S1024.Idx → EReal) (ix1 q) := by
  have ht := ltN t; have hq := q.isLt
  unfold iblk
  rw [View.read_apply]
  show (StableHlo.after hostOps0 (fun b => m (c, b)) (Proc.tc.devRef main_v1) : S1x1024.Idx → EReal) _ = m ((c.tc : Thread nD τ).loc main_arg3) _
  have e : (StableHlo.after hostOps0 (fun b => m (c, b)) (Proc.tc.devRef main_v1) : S1x1024.Idx → EReal)
      = broadcastInDim S1x1024 ![1] bcast_S1024_S1x1024_1 (m ((c.tc : Thread nD τ).loc main_arg3)) := by after_results
  rw [e]
  unfold broadcastInDim
  show m ((c.tc : Thread nD τ).loc main_arg3) _ = m ((c.tc : Thread nD τ).loc main_arg3) _
  congr 1; funext b; apply Fin.ext
  match b with
  | ⟨0, _⟩ => show win0_3.index t 1 * 1024 + 1 * q.val = q.val; rw [(ixw3 t).2]; omega

/-- The fifth window's block: the whole shift. -/
theorem blk4 (c : Dev nD) (t : Fin cfg0.N) (q : Fin 1024) :
    iblk m c 4 t (ix2 0 q) = (m ((c.tc : Thread nD τ).loc main_arg4) : S1024.Idx → EReal) (ix1 q) := by
  have ht := ltN t; have hq := q.isLt
  unfold iblk
  rw [View.read_apply]
  show (StableHlo.after hostOps0 (fun b => m (c, b)) (Proc.tc.devRef main_v2) : S1x1024.Idx → EReal) _ = m ((c.tc : Thread nD τ).loc main_arg4) _
  have e : (StableHlo.after hostOps0 (fun b => m (c, b)) (Proc.tc.devRef main_v2) : S1x1024.Idx → EReal)
      = broadcastInDim S1x1024 ![1] bcast_S1024_S1x1024_1 (m ((c.tc : Thread nD τ).loc main_arg4)) := by after_results
  rw [e]
  unfold broadcastInDim
  show m ((c.tc : Thread nD τ).loc main_arg4) _ = m ((c.tc : Thread nD τ).loc main_arg4) _
  congr 1; funext b; apply Fin.ext
  match b with
  | ⟨0, _⟩ => show win0_4.index t 1 * 1024 + 1 * q.val = q.val; rw [(ixw4 t).2]; omega

/-- The sum of the run's arguments, at a row and a column. -/
abbrev zAllAt (c : Dev nD) := ScOutLnZOfAt (m ((c.tc : Thread nD τ).loc main_arg0)) (m ((c.tc : Thread nD τ).loc main_arg1)) (m ((c.tc : Thread nD τ).loc main_arg2))
/-- The sum of the run's arguments. -/
abbrev zAll (c : Dev nD) := ScOutLnZOf (m ((c.tc : Thread nD τ).loc main_arg0)) (m ((c.tc : Thread nD τ).loc main_arg1)) (m ((c.tc : Thread nD τ).loc main_arg2))
/-- The normalised rows of the run's arguments, at a row and a column. -/
abbrev nAllAt (c : Dev nD) := ScOutLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments. -/
abbrev nAll (c : Dev nD) := ScOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments, in the narrow type. -/
abbrev nNarrow (c : Dev nD) := ScOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The sum a point computes, at a row and a column of its block. -/
theorem z_at (c : Dev nD) (t : Fin cfg0.N) (p : Fin 512) (q : Fin 1024) :
    k0_pay1 (F := Ideal) (iblk m c 0 t) (iblk m c 1 t) (iblk m c 2 t) (ix2 p q) = zAllAt m c (t.val * 512 + p.val) q.val := by
  rw [pay1_at]
  exact congr (congrArg (fun a b : EReal => a + b) (congrArg (fun z : EReal => RowNorm.scale * z) (blk2 m c t p q)))
    (Finset.sum_congr rfl fun k _ => congr (congrArg (fun a b : EReal => a * b) (blk0 m c t p k)) (blk1 m c t k q))

/-- The normalised rows a point computes, at a row and a column of its block. -/
theorem n_at (c : Dev nD) (t : Fin cfg0.N) (p : Fin 512) (q : Fin 1024) :
    k0_pay2 (F := Ideal) (iblk m c 0 t) (iblk m c 1 t) (iblk m c 2 t) (iblk m c 3 t) (iblk m c 4 t) (ix2 p q) = nAllAt m c (t.val * 512 + p.val) q.val := by
  rw [pay2_at]
  have eq : Fin.ofNat 1024 q.val = q := Fin.ext (Nat.mod_eq_of_lt q.isLt)
  show _ = ScOutLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ _
  unfold ScOutLnOfAt
  rw [eq]
  exact congr (congr (congr (congrArg RowNorm.ln (funext fun k => z_at m c t p k)) (blk3 m c t q)) (blk4 m c t q)) rfl

theorem out5_at (c : Dev nD) (t : Fin cfg0.N) (p : Fin 512) (q : Fin 1024) :
    out0_5 (iblk m c 0 t) (iblk m c 1 t) (iblk m c 2 t) (iblk m c 3 t) (iblk m c 4 t) (ix2 p q) = zAllAt m c (t.val * 512 + p.val) q.val := by
  unfold out0_5
  rw [View.canon_unit_zero (S := S512x1024) hz2]
  simp only [View.ld_unit_zero (S := S512x1024) hz2, View.ld_unit_zero (S := S1x1024x1024) hz3, View.ld_unit_zero (S := S1x1024) hz2]
  exact z_at m c t p q

theorem out6_at (c : Dev nD) (t : Fin cfg0.N) (p : Fin 512) (q : Fin 1024) :
    out0_6 (iblk m c 0 t) (iblk m c 1 t) (iblk m c 2 t) (iblk m c 3 t) (iblk m c 4 t) (ix2 p q) = nAllAt m c (t.val * 512 + p.val) q.val := by
  unfold out0_6
  rw [View.canon_unit_zero (S := S512x1024) hz2]
  simp only [View.ld_unit_zero (S := S512x1024) hz2, View.ld_unit_zero (S := S1x1024x1024) hz3, View.ld_unit_zero (S := S1x1024) hz2]
  exact n_at m c t p q

theorem out7_at (c : Dev nD) (t : Fin cfg0.N) (p : Fin 512) (q : Fin 1024) :
    out0_7 (iblk m c 0 t) (iblk m c 1 t) (iblk m c 2 t) (iblk m c 3 t) (iblk m c 4 t) (ix2 p q) = nAllAt m c (t.val * 512 + p.val) q.val := by
  unfold out0_7
  rw [View.canon_unit_zero (S := S512x1024) hz2]
  simp only [View.ld_unit_zero (S := S512x1024) hz2, View.ld_unit_zero (S := S1x1024x1024) hz3, View.ld_unit_zero (S := S1x1024) hz2]
  exact n_at m c t p q

/-- The array the run leaves in window 5. -/
theorem final5 (c : Dev nD) : (dats m 0 c).arrAt 5 cfg0.N = zAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks5 m c ⟨(i 0).val / 512, hp⟩ (flush0_5 _)) (ix2 (⟨(i 0).val % 512, by omega⟩ : Fin 512) (⟨(i 1).val, h1⟩ : Fin 1024))
  rw [View.read_apply, flushed5] at hb
  have e : ((cfg0.win 5).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_5.index ⟨(i 0).val / 512, hp⟩ 0 * 512 + 1 * ((i 0).val % 512) = (i 0).val; rw [(ixw5 _).1]; show (i 0).val / 512 * 512 + 1 * ((i 0).val % 512) = (i 0).val; omega
    | ⟨1, _⟩ => show win0_5.index ⟨(i 0).val / 512, hp⟩ 1 * 1024 + 1 * (i 1).val = (i 1).val; rw [(ixw5 _).2]; omega
  refine (congrArg ((dats m 0 c).arrAt 5 cfg0.N) e.symm).trans (hb.trans ?_)
  have e0 : (i 0).val / 512 * 512 + (i 0).val % 512 = (i 0).val := by omega
  refine (show _ = out0_5 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out5_at m c _ _ _).trans ?_
  show zAllAt m c ((i 0).val / 512 * 512 + (i 0).val % 512) (i 1).val = zAllAt m c (i 0).val (i 1).val
  rw [e0]

/-- The array the run leaves in window 6. -/
theorem final6 (c : Dev nD) : (dats m 0 c).arrAt 6 cfg0.N = nAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks6 m c ⟨(i 0).val / 512, hp⟩ (flush0_6 _)) (ix2 (⟨(i 0).val % 512, by omega⟩ : Fin 512) (⟨(i 1).val, h1⟩ : Fin 1024))
  rw [View.read_apply, flushed6] at hb
  have e : ((cfg0.win 6).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_6.index ⟨(i 0).val / 512, hp⟩ 0 * 512 + 1 * ((i 0).val % 512) = (i 0).val; rw [(ixw6 _).1]; show (i 0).val / 512 * 512 + 1 * ((i 0).val % 512) = (i 0).val; omega
    | ⟨1, _⟩ => show win0_6.index ⟨(i 0).val / 512, hp⟩ 1 * 1024 + 1 * (i 1).val = (i 1).val; rw [(ixw6 _).2]; omega
  refine (congrArg ((dats m 0 c).arrAt 6 cfg0.N) e.symm).trans (hb.trans ?_)
  have e0 : (i 0).val / 512 * 512 + (i 0).val % 512 = (i 0).val := by omega
  refine (show _ = out0_6 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out6_at m c _ _ _).trans ?_
  show nAllAt m c ((i 0).val / 512 * 512 + (i 0).val % 512) (i 1).val = nAllAt m c (i 0).val (i 1).val
  rw [e0]

/-- The array the run leaves in window 7. -/
theorem final7 (c : Dev nD) : (dats m 0 c).arrAt 7 cfg0.N = nNarrow m c := by
  funext i
  have h0 : (i 0).val < 8192 := (i 0).isLt
  have h1 : (i 1).val < 1024 := (i 1).isLt
  have hp : (i 0).val / 512 < cfg0.N := lt_of_lt_of_eq (by omega) N_0.symm
  have hb := congrFun (blocks7 m c ⟨(i 0).val / 512, hp⟩ (flush0_7 _)) (ix2 (⟨(i 0).val % 512, by omega⟩ : Fin 512) (⟨(i 1).val, h1⟩ : Fin 1024))
  rw [View.read_apply, flushed7] at hb
  have e : ((cfg0.win 7).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_7.index ⟨(i 0).val / 512, hp⟩ 0 * 512 + 1 * ((i 0).val % 512) = (i 0).val; rw [(ixw7 _).1]; show (i 0).val / 512 * 512 + 1 * ((i 0).val % 512) = (i 0).val; omega
    | ⟨1, _⟩ => show win0_7.index ⟨(i 0).val / 512, hp⟩ 1 * 1024 + 1 * (i 1).val = (i 1).val; rw [(ixw7 _).2]; omega
  refine (congrArg ((dats m 0 c).arrAt 7 cfg0.N) e.symm).trans (hb.trans ?_)
  have e0 : (i 0).val / 512 * 512 + (i 0).val % 512 = (i 0).val := by omega
  refine (show _ = out0_7 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out7_at m c _ _ _).trans ?_
  show nAllAt m c ((i 0).val / 512 * 512 + (i 0).val % 512) (i 1).val = nAllAt m c (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v3_0) = ScOutLnZOf (m ((c.tc : Thread nD τ).loc main_arg0)) (m ((c.tc : Thread nD τ).loc main_arg1)) (m ((c.tc : Thread nD τ).loc main_arg2))
      ∧ r.2.mem ((c.tc : Thread nD τ).loc main_v3_1) = ScOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_2) = ScOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c), (h c).2.2.2⟩) (run_blocks m ρ)

end Cert.ScOutLnIdeal.Value

end
-- ==== Proof.ScOutLnRef.lean ====
/- The reference of the short convolution's output projection with the residual branch and the normalisation: the same sum, mean, variance and rows, and the two runs together. -/
module

public import proofs.«01_k».proof.Proof.RowNorm
public import proofs.«01_k».proof.Proof.ScOutLnRun
public import proofs.«01_k».proof.Proof.Gen.ScOutLnRefIdeal.Run
public import proofs.«01_k».proof.Proof.Gen.ScOutLnRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.ScOutLnRefIdeal.Value

open Cert.ScOutLnRefIdeal Cert.ScOutLnRefIdeal.Gen Cert.ScOutLnRefIdeal.Read Products

variable (x0 : Vec Ideal S8192x1024 .bf16) (x1 : Vec Ideal S1024x1024 .bf16) (x2 : Vec Ideal S8192x1024 .f32) (x3 x4 : Vec Ideal S1024 .f32)

/-- The row operand at a row and a column. -/
theorem x_at (r : Fin 8192) (j : Fin 1024) : val_main_v2 (F := Ideal) x0 (ix2 r j) = at2 (A := 8192) (B := 1024) x0 r.val j.val := by
  have hr := r.isLt; have hj := j.isLt
  rw [val_main_v2_apply]
  show x0 _ = x0 _
  congr 1; funext b; apply Fin.ext
  match b with
  | ⟨0, _⟩ => show r.val = r.val % 8192; omega
  | ⟨1, _⟩ => show j.val = j.val % 1024; omega

/-- The weight at a row and a column. -/
theorem w_at (r : Fin 1024) (j : Fin 1024) : val_main_v3 (F := Ideal) x1 (ix2 r j) = at2 (A := 1024) (B := 1024) x1 r.val j.val := by
  have hr := r.isLt; have hj := j.isLt
  rw [val_main_v3_apply]
  show x1 _ = x1 _
  congr 1; funext b; apply Fin.ext
  match b with
  | ⟨0, _⟩ => show r.val = r.val % 1024; omega
  | ⟨1, _⟩ => show j.val = j.val % 1024; omega

/-- The reference's sum. -/
theorem v5_eq : val_main_v5 (F := Ideal) x0 x1 x2 = ScOutLnZOf x0 x1 x2 := by
  funext i
  rw [val_main_v5_apply]
  refine congr (congrArg (fun a b : EReal => a + b) ?_) ?_
  · rw [val_main_v1_apply, val_main_v0_apply, val_main_cst_apply]
    refine congrArg (fun z : EReal => RowNorm.scale * z) ?_
    show x2 _ = x2 _
    congr 1; funext b; apply Fin.ext
    match b with
    | ⟨0, _⟩ => exact (Nat.mod_eq_of_lt (i 0).isLt).symm
    | ⟨1, _⟩ => exact (Nat.mod_eq_of_lt (i 1).isLt).symm
  · rw [val_main_v4_apply]
    exact Finset.sum_congr rfl fun k _ => congr (congrArg (fun a b : EReal => a * b) ((congrArg (val_main_v2 (F := Ideal) x0) (eq_ix2 _)).trans (x_at x0 (i 0) k)))
      ((congrArg (val_main_v3 (F := Ideal) x1) (eq_ix2 _)).trans (w_at x1 k (i 1)))

/-- The row of the reference's sum that holds an index. -/
def zrow (r : Fin 8192) (k : Fin 1024) : EReal := val_main_v5 (F := Ideal) x0 x1 x2 (ix2 r k)

/-- The reference's mean. -/
theorem mean_at (i : S8192x1.Idx) : val_main_v9 (F := Ideal) x0 x1 x2 i = RowNorm.mean (zrow x0 x1 x2 (i 0)) := by
  rw [val_main_v9_apply, val_main_v8_apply, val_main_cst_1_apply, val_main_v7_apply, val_main_v6_apply]
  refine congrArg (fun z : EReal => Ideal.div z (FloatOps.ofBits (F := Ideal) .f32 0x44800000#32)) ?_
  rw [show val_main_cst_0 (F := Ideal) (Shape.Idx.first h_S_) = (0 : EReal) from zero_const _, zero_add]
  exact Finset.sum_congr rfl fun k _ => congrArg (val_main_v5 (F := Ideal) x0 x1 x2) (eq_ix2 _)

/-- The reference's rows less their means. -/
theorem dev_at (i : S8192x1024.Idx) : val_main_v11 (F := Ideal) x0 x1 x2 i = RowNorm.dev (zrow x0 x1 x2 (i 0)) (i 1) := by
  rw [val_main_v11_apply, val_main_v10_apply, mean_at]
  exact congrArg (fun z : EReal => z - RowNorm.mean (zrow x0 x1 x2 (i 0))) (congrArg (val_main_v5 (F := Ideal) x0 x1 x2) (eq_ix2 i))

/-- The reference's rows less their means, computed again. -/
theorem dev_at' (i : S8192x1024.Idx) : val_main_v18 (F := Ideal) x0 x1 x2 i = RowNorm.dev (zrow x0 x1 x2 (i 0)) (i 1) := by
  rw [val_main_v18_apply, val_main_v17_apply, mean_at]
  exact congrArg (fun z : EReal => z - RowNorm.mean (zrow x0 x1 x2 (i 0))) (congrArg (val_main_v5 (F := Ideal) x0 x1 x2) (eq_ix2 i))

/-- The reference's reciprocal standard deviation. -/
theorem inv_at (i : S8192x1.Idx) : val_main_v21 (F := Ideal) x0 x1 x2 i = RowNorm.inv (zrow x0 x1 x2 (i 0)) := by
  rw [val_main_v21_apply, val_main_v20_apply, val_main_v19_apply, val_main_cst_4_apply, val_main_v16_apply, val_main_v15_apply,
    val_main_cst_3_apply, val_main_v14_apply, val_main_v13_apply]
  refine congrArg (fun z : EReal => Ideal.rsqrt (Ideal.div z (FloatOps.ofBits (F := Ideal) .f32 0x44800000#32) + FloatOps.ofBits (F := Ideal) .f32 0x3727C5AC#32)) ?_
  rw [show val_main_cst_2 (F := Ideal) (Shape.Idx.first h_S_) = (0 : EReal) from zero_const _, zero_add]
  refine Finset.sum_congr rfl fun k _ => ?_
  rw [val_main_v12_apply, dev_at]
  rfl

/-- The reference's normalised rows. -/
theorem v29_eq : val_main_v29 (F := Ideal) x0 x1 x2 x3 x4 = ScOutLnOf x0 x1 x2 x3 x4 := by
  funext i
  have e1 : Fin.ofNat 1024 (i 1).val = i 1 := Fin.ext (Nat.mod_eq_of_lt (i 1).isLt)
  have hz : zrow x0 x1 x2 (i 0) = fun k => ScOutLnZOfAt x0 x1 x2 (i 0).val k.val := by
    funext k
    exact congrFun (v5_eq x0 x1 x2) (ix2 (i 0) k)
  rw [val_main_v29_apply, val_main_v26_apply, val_main_v23_apply, val_main_v22_apply, inv_at, dev_at', val_main_v25_apply, val_main_v24_apply,
    val_main_v28_apply, val_main_v27_apply]
  show RowNorm.ln (zrow x0 x1 x2 (i 0)) (x3 _) (x4 _) (i 1) = ScOutLnOfAt x0 x1 x2 x3 x4 (i 0).val (i 1).val
  unfold ScOutLnOfAt
  rw [e1, ← hz]
  exact congr (congr (congrArg (RowNorm.ln (zrow x0 x1 x2 (i 0))) (congrArg x3 (eq_ix1 _))) (congrArg x4 (eq_ix1 _))) rfl

/-- The reference's normalised rows in the narrow type. -/
theorem v30_eq : val_main_v30 (F := Ideal) x0 x1 x2 x3 x4 = ScOutLnNarrowOf x0 x1 x2 x3 x4 := by
  funext i
  rw [val_main_v30_apply]
  exact congrFun (v29_eq x0 x1 x2 x3 x4) i

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v5) = ScOutLnZOf (m ((c.tc : Thread nD τ).loc main_arg0)) (m ((c.tc : Thread nD τ).loc main_arg1)) (m ((c.tc : Thread nD τ).loc main_arg2))
      ∧ r.2.mem ((c.tc : Thread nD τ).loc main_v29) = ScOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = ScOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v5_eq _ _ _).trans (v5_eq _ _ _)), (h c).2.1.trans ((val_main_v29_eq _ _ _ _ _).trans (v29_eq _ _ _ _ _)), (h c).2.2.1.trans ((val_main_v30_eq _ _ _ _ _).trans (v30_eq _ _ _ _ _)), (h c).2.2.2⟩)
    (run m ρ)

/-- The reference ends with its arguments as they were; it declares no semaphore. -/
theorem ends : Cert.quiescent_ScOutLnRefIdeal := fun m ρ _ =>
  (θ_run _ _ _).mono (fun _ h => ⟨fun c => (h c).2.2.2, funext fun g => nomatch g.2⟩) (Cert.ScOutLnRefIdeal.Value.run m ρ)

end Cert.ScOutLnRefIdeal.Value

/-- The kernel's value and the reference's, over the ideal reals. -/
theorem ScOutLn_value : Cert.algebraic_ScOutLnIdeal_ScOutLnRefIdeal :=
  fun m g m' g' _ h => ⟨fun c => ScOutLnZOf (m ((c.tc : Thread Cert.ScOutLnIdeal.nD Cert.ScOutLnIdeal.τ).loc Cert.ScOutLnIdeal.main_arg0)) (m ((c.tc : Thread Cert.ScOutLnIdeal.nD Cert.ScOutLnIdeal.τ).loc Cert.ScOutLnIdeal.main_arg1)) (m ((c.tc : Thread Cert.ScOutLnIdeal.nD Cert.ScOutLnIdeal.τ).loc Cert.ScOutLnIdeal.main_arg2)), fun c => ScOutLnOf (m ((c.tc : Thread Cert.ScOutLnIdeal.nD Cert.ScOutLnIdeal.τ).loc Cert.ScOutLnIdeal.main_arg0)) (m ((c.tc : Thread Cert.ScOutLnIdeal.nD Cert.ScOutLnIdeal.τ).loc Cert.ScOutLnIdeal.main_arg1)) (m ((c.tc : Thread Cert.ScOutLnIdeal.nD Cert.ScOutLnIdeal.τ).loc Cert.ScOutLnIdeal.main_arg2)) (m ((c.tc : Thread Cert.ScOutLnIdeal.nD Cert.ScOutLnIdeal.τ).loc Cert.ScOutLnIdeal.main_arg3)) (m ((c.tc : Thread Cert.ScOutLnIdeal.nD Cert.ScOutLnIdeal.τ).loc Cert.ScOutLnIdeal.main_arg4)), fun c => ScOutLnNarrowOf (m ((c.tc : Thread Cert.ScOutLnIdeal.nD Cert.ScOutLnIdeal.τ).loc Cert.ScOutLnIdeal.main_arg0)) (m ((c.tc : Thread Cert.ScOutLnIdeal.nD Cert.ScOutLnIdeal.τ).loc Cert.ScOutLnIdeal.main_arg1)) (m ((c.tc : Thread Cert.ScOutLnIdeal.nD Cert.ScOutLnIdeal.τ).loc Cert.ScOutLnIdeal.main_arg2)) (m ((c.tc : Thread Cert.ScOutLnIdeal.nD Cert.ScOutLnIdeal.τ).loc Cert.ScOutLnIdeal.main_arg3)) (m ((c.tc : Thread Cert.ScOutLnIdeal.nD Cert.ScOutLnIdeal.τ).loc Cert.ScOutLnIdeal.main_arg4)),
    Cert.ScOutLnIdeal.Value.run_value m g,
    (θ_run _ _ _).mono (fun r hr c => by
      have hc := hr c
      obtain ⟨a0, a1, a2, a3, a4⟩ := h c
      exact ⟨hc.1.trans (by rw [a0, a1, a2] <;> rfl), hc.2.1.trans (by rw [a0, a1, a2, a3, a4] <;> rfl), hc.2.2.1.trans (by rw [a0, a1, a2, a3, a4] <;> rfl), hc.2.2.2⟩)
      (Cert.ScOutLnRefIdeal.Value.run_value m' g')⟩

end
-- ==== Proof.LruOutLnRun.lean ====
/- The recurrence's output projection with the residual branch and the normalisation after it: the kernel leaves the sum, the normalised rows, and the normalised rows again. -/
module

public import proofs.«01_k».proof.Proof.RowNorm
public import proofs.«01_k».proof.Proof.Gen.LruOutLnIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The recurrence's output projection plus the scaled residual, at a row and a column. -/
def LruOutLnZOfAt (x : Vec Ideal ⟨2, ![8192, 1280]⟩ .bf16) (w : Vec Ideal ⟨2, ![1280, 1024]⟩ .bf16) (d : Vec Ideal ⟨2, ![8192, 1024]⟩ .f32) (r q : ℕ) : EReal :=
  RowNorm.scale * Products.at2 (A := 8192) (B := 1024) d r q + ∑ k : Fin 1280, Products.at2 (A := 8192) (B := 1280) x r k.val * Products.at2 (A := 1280) (B := 1024) w k.val q

/-- The recurrence's output projection plus the scaled residual, as an array. -/
def LruOutLnZOf (x : Vec Ideal ⟨2, ![8192, 1280]⟩ .bf16) (w : Vec Ideal ⟨2, ![1280, 1024]⟩ .bf16) (d : Vec Ideal ⟨2, ![8192, 1024]⟩ .f32) : Vec Ideal ⟨2, ![8192, 1024]⟩ .f32 := fun i =>
  LruOutLnZOfAt x w d (i 0).val (i 1).val

/-- The normalised rows, at a row and a column. -/
def LruOutLnOfAt (x : Vec Ideal ⟨2, ![8192, 1280]⟩ .bf16) (w : Vec Ideal ⟨2, ![1280, 1024]⟩ .bf16) (d : Vec Ideal ⟨2, ![8192, 1024]⟩ .f32) (g b : Vec Ideal ⟨1, ![1024]⟩ .f32) (r q : ℕ) : EReal :=
  RowNorm.ln (fun k => LruOutLnZOfAt x w d r k.val) (g (ix1 (Fin.ofNat 1024 q))) (b (ix1 (Fin.ofNat 1024 q))) (Fin.ofNat 1024 q)

/-- The normalised rows, as an array. -/
def LruOutLnOf (x : Vec Ideal ⟨2, ![8192, 1280]⟩ .bf16) (w : Vec Ideal ⟨2, ![1280, 1024]⟩ .bf16) (d : Vec Ideal ⟨2, ![8192, 1024]⟩ .f32) (g b : Vec Ideal ⟨1, ![1024]⟩ .f32) : Vec Ideal ⟨2, ![8192, 1024]⟩ .f32 := fun i =>
  LruOutLnOfAt x w d g b (i 0).val (i 1).val

/-- The normalised rows in the narrow type, as an array: over the exact reals the same numbers. -/
def LruOutLnNarrowOf (x : Vec Ideal ⟨2, ![8192, 1280]⟩ .bf16) (w : Vec Ideal ⟨2, ![1280, 1024]⟩ .bf16) (d : Vec Ideal ⟨2, ![8192, 1024]⟩ .f32) (g b : Vec Ideal ⟨1, ![1024]⟩ .f32) : Vec Ideal ⟨2, ![8192, 1024]⟩ .bf16 := fun i =>
  LruOutLnOfAt x w d g b (i 0).val (i 1).val

namespace Cert.LruOutLnIdeal.Value

open Cert.LruOutLnIdeal Cert.LruOutLnIdeal.Gen Products

theorem hz2 : (![0, 0] : Fin 2 → Nat) = fun _ => 0 := funext fun a => by fin_cases a <;> rfl
theorem hz3 : (![0, 0, 0] : Fin 3 → Nat) = fun _ => 0 := funext fun a => by fin_cases a <;> rfl

/-- The body's sum at an index. -/
theorem pay1_at (x0 : Vec Ideal S512x1280 .bf16) (x1 : Vec Ideal S1x1280x1024 .bf16) (x2 : Vec Ideal S512x1024 .f32) (p : Fin 512) (q : Fin 1024) :
    k0_pay1 (F := Ideal) x0 x1 x2 (ix2 p q) = RowNorm.scale * x2 (ix2 p q) + ∑ k : Fin 1280, x0 (ix2 p k) * x1 (ix3 0 k q) := by
  unfold k0_pay1
  refine congrArg (fun z : EReal => RowNorm.scale * x2 (ix2 p q) + z) ?_
  show @Eq EReal (FloatOps.matmul (F := Ideal) (φ₁ := .bf16) (φ₂ := .bf16) (DotDims.plain 512 1280 1024) none x0 (shapeCast S1280x1024 x1 shapeCasts_S1x1280x1024_S1280x1024) (constant S512x1024 .f32 0x00000000#32) (ix2 p q)) (∑ k : Fin 1280, x0 (ix2 p k) * x1 (ix3 0 k q))
  refine (Ideal.matmul_plain_apply (φ₁ := .bf16) (φ₂ := .bf16) (M := 512) (K := 1280) (N := 1024) none x0 (shapeCast S1280x1024 x1 shapeCasts_S1x1280x1024_S1280x1024) (constant S512x1024 .f32 0x00000000#32) p q).trans ?_
  rw [zero_const, zero_add]
  exact Finset.sum_congr rfl fun k _ => congrArg (x0 (ix2 p k) * ·) (dropUnit_apply (A := 1280) (B := 1024) x1 _ k q)

/-- The body's normalised rows at an index, from its sum. -/
theorem pay2_at (x0 : Vec Ideal S512x1280 .bf16) (x1 : Vec Ideal S1x1280x1024 .bf16) (x2 : Vec Ideal S512x1024 .f32) (x3 x4 : Vec Ideal S1x1024 .f32) (p : Fin 512) (q : Fin 1024) :
    k0_pay2 (F := Ideal) x0 x1 x2 x3 x4 (ix2 p q) = RowNorm.ln (fun q => k0_pay1 (F := Ideal) x0 x1 x2 (ix2 p q)) (x3 (ix2 0 q)) (x4 (ix2 0 q)) q := by
  unfold k0_pay2
  generalize k0_pay1 (F := Ideal) x0 x1 x2 = y
  refine congr (congrArg (fun a b : EReal => a + b) (congr (congrArg (fun a b : EReal => a * b) (congr (congrArg (fun a b : EReal => a * b)
    (RowNorm.dev_apply y _ _ _ _ _ p q)) ?_)) (RowNorm.row_apply x3 _ _ p q))) (RowNorm.row_apply x4 _ _ p q)
  refine (RowNorm.col_apply _ _ p q).trans ?_
  refine congrArg (fun z : EReal => Ideal.rsqrt (z + FloatOps.ofBits (F := Ideal) .f32 0x3727C5AC#32)) ?_
  refine (RowNorm.mean_apply _ _ _ _ _ p 0).trans (congrArg RowNorm.mean (funext fun q => ?_))
  exact congr (congrArg (fun a b : EReal => a * b) (RowNorm.dev_apply y _ _ _ _ _ p q)) (RowNorm.dev_apply y _ _ _ _ _ p q)

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = 0 ∧ win0_1.index t 1 = 0 ∧ win0_1.index t 2 = 0 := by decide +kernel
theorem ixw2 : ∀ t : Fin grid0.N, win0_2.index t 0 = t.val ∧ win0_2.index t 1 = 0 := by decide +kernel
theorem ixw3 : ∀ t : Fin grid0.N, win0_3.index t 0 = 0 ∧ win0_3.index t 1 = 0 := by decide +kernel
theorem ixw4 : ∀ t : Fin grid0.N, win0_4.index t 0 = 0 ∧ win0_4.index t 1 = 0 := by decide +kernel
theorem ixw5 : ∀ t : Fin grid0.N, win0_5.index t 0 = t.val ∧ win0_5.index t 1 = 0 := by decide +kernel
theorem ixw6 : ∀ t : Fin grid0.N, win0_6.index t 0 = t.val ∧ win0_6.index t 1 = 0 := by decide +kernel
theorem ixw7 : ∀ t : Fin grid0.N, win0_7.index t 0 = t.val ∧ win0_7.index t 1 = 0 := by decide +kernel

/-- The first window's block: a tile of rows. -/
theorem blk0 (c : Dev nD) (t : Fin cfg0.N) (p : Fin 512) (k : Fin 1280) :
    iblk m c 0 t (ix2 p k) = at2 (A := 8192) (B := 1280) (m ((c.tc : Thread nD τ).loc main_arg0)) (t.val * 512 + p.val) k.val := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1280 + 1 * k.val = k.val % 1280; rw [(ixw0 t).2]; omega

/-- The second window's block: the whole weight. -/
theorem blk1 (c : Dev nD) (t : Fin cfg0.N) (k : Fin 1280) (q : Fin 1024) :
    iblk m c 1 t (ix3 0 k q) = at2 (A := 1280) (B := 1024) (m ((c.tc : Thread nD τ).loc main_arg1)) k.val q.val := by
  have ht := ltN t; have hk := k.isLt; have hq := q.isLt
  unfold iblk
  rw [View.read_apply]
  show (StableHlo.after hostOps0 (fun b => m (c, b)) (Proc.tc.devRef main_v0) : S1x1280x1024.Idx → EReal) _ = m ((c.tc : Thread nD τ).loc main_arg1) _
  have e : (StableHlo.after hostOps0 (fun b => m (c, b)) (Proc.tc.devRef main_v0) : S1x1280x1024.Idx → EReal)
      = broadcastInDim S1x1280x1024 ![1, 2] bcast_S1280x1024_S1x1280x1024_1_2 (m ((c.tc : Thread nD τ).loc main_arg1)) := by after_results
  rw [e]
  unfold broadcastInDim
  show m ((c.tc : Thread nD τ).loc main_arg1) _ = m ((c.tc : Thread nD τ).loc main_arg1) _
  congr 1; funext b; apply Fin.ext
  match b with
  | ⟨0, _⟩ => show win0_1.index t 1 * 1280 + 1 * k.val = k.val % 1280; rw [(ixw1 t).2.1]; omega
  | ⟨1, _⟩ => show win0_1.index t 2 * 1024 + 1 * q.val = q.val % 1024; rw [(ixw1 t).2.2]; omega

/-- The third window's block: a tile of the residual's rows. -/
theorem blk2 (c : Dev nD) (t : Fin cfg0.N) (p : Fin 512) (k : Fin 1024) :
    iblk m c 2 t (ix2 p k) = at2 (A := 8192) (B := 1024) (m ((c.tc : Thread nD τ).loc main_arg2)) (t.val * 512 + p.val) k.val := by
  have ht := ltN t; have hk := k.isLt; have hp := p.isLt
  unfold iblk
  rw [View.read_apply]
  show m ((c.tc : Thread nD τ).loc main_arg2) _ = m ((c.tc : Thread nD τ).loc main_arg2) _
  congr 1; funext b; apply Fin.ext
  match b with
  | ⟨0, _⟩ => show win0_2.index t 0 * 512 + 1 * p.val = (t.val * 512 + p.val) % 8192; rw [(ixw2 t).1]; omega
  | ⟨1, _⟩ => show win0_2.index t 1 * 1024 + 1 * k.val = k.val % 1024; rw [(ixw2 t).2]; omega

/-- The fourth window's block: the whole scale. -/
theorem blk3 (c : Dev nD) (t : Fin cfg0.N) (q : Fin 1024) :
    iblk m c 3 t (ix2 0 q) = (m ((c.tc : Thread nD τ).loc main_arg3) : S1024.Idx → EReal) (ix1 q) := by
  have ht := ltN t; have hq := q.isLt
  unfold iblk
  rw [View.read_apply]
  show (StableHlo.after hostOps0 (fun b => m (c, b)) (Proc.tc.devRef main_v1) : S1x1024.Idx → EReal) _ = m ((c.tc : Thread nD τ).loc main_arg3) _
  have e : (StableHlo.after hostOps0 (fun b => m (c, b)) (Proc.tc.devRef main_v1) : S1x1024.Idx → EReal)
      = broadcastInDim S1x1024 ![1] bcast_S1024_S1x1024_1 (m ((c.tc : Thread nD τ).loc main_arg3)) := by after_results
  rw [e]
  unfold broadcastInDim
  show m ((c.tc : Thread nD τ).loc main_arg3) _ = m ((c.tc : Thread nD τ).loc main_arg3) _
  congr 1; funext b; apply Fin.ext
  match b with
  | ⟨0, _⟩ => show win0_3.index t 1 * 1024 + 1 * q.val = q.val; rw [(ixw3 t).2]; omega

/-- The fifth window's block: the whole shift. -/
theorem blk4 (c : Dev nD) (t : Fin cfg0.N) (q : Fin 1024) :
    iblk m c 4 t (ix2 0 q) = (m ((c.tc : Thread nD τ).loc main_arg4) : S1024.Idx → EReal) (ix1 q) := by
  have ht := ltN t; have hq := q.isLt
  unfold iblk
  rw [View.read_apply]
  show (StableHlo.after hostOps0 (fun b => m (c, b)) (Proc.tc.devRef main_v2) : S1x1024.Idx → EReal) _ = m ((c.tc : Thread nD τ).loc main_arg4) _
  have e : (StableHlo.after hostOps0 (fun b => m (c, b)) (Proc.tc.devRef main_v2) : S1x1024.Idx → EReal)
      = broadcastInDim S1x1024 ![1] bcast_S1024_S1x1024_1 (m ((c.tc : Thread nD τ).loc main_arg4)) := by after_results
  rw [e]
  unfold broadcastInDim
  show m ((c.tc : Thread nD τ).loc main_arg4) _ = m ((c.tc : Thread nD τ).loc main_arg4) _
  congr 1; funext b; apply Fin.ext
  match b with
  | ⟨0, _⟩ => show win0_4.index t 1 * 1024 + 1 * q.val = q.val; rw [(ixw4 t).2]; omega

/-- The sum of the run's arguments, at a row and a column. -/
abbrev zAllAt (c : Dev nD) := LruOutLnZOfAt (m ((c.tc : Thread nD τ).loc main_arg0)) (m ((c.tc : Thread nD τ).loc main_arg1)) (m ((c.tc : Thread nD τ).loc main_arg2))
/-- The sum of the run's arguments. -/
abbrev zAll (c : Dev nD) := LruOutLnZOf (m ((c.tc : Thread nD τ).loc main_arg0)) (m ((c.tc : Thread nD τ).loc main_arg1)) (m ((c.tc : Thread nD τ).loc main_arg2))
/-- The normalised rows of the run's arguments, at a row and a column. -/
abbrev nAllAt (c : Dev nD) := LruOutLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments. -/
abbrev nAll (c : Dev nD) := LruOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The normalised rows of the run's arguments, in the narrow type. -/
abbrev nNarrow (c : Dev nD) := LruOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The sum a point computes, at a row and a column of its block. -/
theorem z_at (c : Dev nD) (t : Fin cfg0.N) (p : Fin 512) (q : Fin 1024) :
    k0_pay1 (F := Ideal) (iblk m c 0 t) (iblk m c 1 t) (iblk m c 2 t) (ix2 p q) = zAllAt m c (t.val * 512 + p.val) q.val := by
  rw [pay1_at]
  exact congr (congrArg (fun a b : EReal => a + b) (congrArg (fun z : EReal => RowNorm.scale * z) (blk2 m c t p q)))
    (Finset.sum_congr rfl fun k _ => congr (congrArg (fun a b : EReal => a * b) (blk0 m c t p k)) (blk1 m c t k q))

/-- The normalised rows a point computes, at a row and a column of its block. -/
theorem n_at (c : Dev nD) (t : Fin cfg0.N) (p : Fin 512) (q : Fin 1024) :
    k0_pay2 (F := Ideal) (iblk m c 0 t) (iblk m c 1 t) (iblk m c 2 t) (iblk m c 3 t) (iblk m c 4 t) (ix2 p q) = nAllAt m c (t.val * 512 + p.val) q.val := by
  rw [pay2_at]
  have eq : Fin.ofNat 1024 q.val = q := Fin.ext (Nat.mod_eq_of_lt q.isLt)
  show _ = LruOutLnOfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ _
  unfold LruOutLnOfAt
  rw [eq]
  exact congr (congr (congr (congrArg RowNorm.ln (funext fun k => z_at m c t p k)) (blk3 m c t q)) (blk4 m c t q)) rfl

theorem out5_at (c : Dev nD) (t : Fin cfg0.N) (p : Fin 512) (q : Fin 1024) :
    out0_5 (iblk m c 0 t) (iblk m c 1 t) (iblk m c 2 t) (iblk m c 3 t) (iblk m c 4 t) (ix2 p q) = zAllAt m c (t.val * 512 + p.val) q.val := by
  unfold out0_5
  rw [View.canon_unit_zero (S := S512x1024) hz2]
  simp only [View.ld_unit_zero (S := S512x1280) hz2, View.ld_unit_zero (S := S1x1280x1024) hz3, View.ld_unit_zero (S := S512x1024) hz2, View.ld_unit_zero (S := S1x1024) hz2]
  exact z_at m c t p q

theorem out6_at (c : Dev nD) (t : Fin cfg0.N) (p : Fin 512) (q : Fin 1024) :
    out0_6 (iblk m c 0 t) (iblk m c 1 t) (iblk m c 2 t) (iblk m c 3 t) (iblk m c 4 t) (ix2 p q) = nAllAt m c (t.val * 512 + p.val) q.val := by
  unfold out0_6
  rw [View.canon_unit_zero (S := S512x1024) hz2]
  simp only [View.ld_unit_zero (S := S512x1280) hz2, View.ld_unit_zero (S := S1x1280x1024) hz3, View.ld_unit_zero (S := S512x1024) hz2, View.ld_unit_zero (S := S1x1024) hz2]
  exact n_at m c t p q

theorem out7_at (c : Dev nD) (t : Fin cfg0.N) (p : Fin 512) (q : Fin 1024) :
    out0_7 (iblk m c 0 t) (iblk m c 1 t) (iblk m c 2 t) (iblk m c 3 t) (iblk m c 4 t) (ix2 p q) = nAllAt m c (t.val * 512 + p.val) q.val := by
  unfold out0_7
  rw [View.canon_unit_zero (S := S512x1024) hz2]
  simp only [View.ld_unit_zero (S := S512x1280) hz2, View.ld_unit_zero (S := S1x1280x1024) hz3, View.ld_unit_zero (S := S512x1024) hz2, View.ld_unit_zero (S := S1x1024) hz2]
  exact n_at m c t p q

/-- The array the run leaves in window 5. -/
theorem final5 (c : Dev nD) : (dats m 0 c).arrAt 5 cfg0.N = zAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks5 m c ⟨(i 0).val / 512, hp⟩ (flush0_5 _)) (ix2 (⟨(i 0).val % 512, by omega⟩ : Fin 512) (⟨(i 1).val, h1⟩ : Fin 1024))
  rw [View.read_apply, flushed5] at hb
  have e : ((cfg0.win 5).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_5.index ⟨(i 0).val / 512, hp⟩ 0 * 512 + 1 * ((i 0).val % 512) = (i 0).val; rw [(ixw5 _).1]; show (i 0).val / 512 * 512 + 1 * ((i 0).val % 512) = (i 0).val; omega
    | ⟨1, _⟩ => show win0_5.index ⟨(i 0).val / 512, hp⟩ 1 * 1024 + 1 * (i 1).val = (i 1).val; rw [(ixw5 _).2]; omega
  refine (congrArg ((dats m 0 c).arrAt 5 cfg0.N) e.symm).trans (hb.trans ?_)
  have e0 : (i 0).val / 512 * 512 + (i 0).val % 512 = (i 0).val := by omega
  refine (show _ = out0_5 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out5_at m c _ _ _).trans ?_
  show zAllAt m c ((i 0).val / 512 * 512 + (i 0).val % 512) (i 1).val = zAllAt m c (i 0).val (i 1).val
  rw [e0]

/-- The array the run leaves in window 6. -/
theorem final6 (c : Dev nD) : (dats m 0 c).arrAt 6 cfg0.N = nAll m c := by
  funext i
  have h0 : (i 0).val < 8192 := (i 0).isLt
  have h1 : (i 1).val < 1024 := (i 1).isLt
  have hp : (i 0).val / 512 < cfg0.N := lt_of_lt_of_eq (by omega) N_0.symm
  have hb := congrFun (blocks6 m c ⟨(i 0).val / 512, hp⟩ (flush0_6 _)) (ix2 (⟨(i 0).val % 512, by omega⟩ : Fin 512) (⟨(i 1).val, h1⟩ : Fin 1024))
  rw [View.read_apply, flushed6] at hb
  have e : ((cfg0.win 6).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_6.index ⟨(i 0).val / 512, hp⟩ 0 * 512 + 1 * ((i 0).val % 512) = (i 0).val; rw [(ixw6 _).1]; show (i 0).val / 512 * 512 + 1 * ((i 0).val % 512) = (i 0).val; omega
    | ⟨1, _⟩ => show win0_6.index ⟨(i 0).val / 512, hp⟩ 1 * 1024 + 1 * (i 1).val = (i 1).val; rw [(ixw6 _).2]; omega
  refine (congrArg ((dats m 0 c).arrAt 6 cfg0.N) e.symm).trans (hb.trans ?_)
  have e0 : (i 0).val / 512 * 512 + (i 0).val % 512 = (i 0).val := by omega
  refine (show _ = out0_6 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out6_at m c _ _ _).trans ?_
  show nAllAt m c ((i 0).val / 512 * 512 + (i 0).val % 512) (i 1).val = nAllAt m c (i 0).val (i 1).val
  rw [e0]

/-- The array the run leaves in window 7. -/
theorem final7 (c : Dev nD) : (dats m 0 c).arrAt 7 cfg0.N = nNarrow m c := by
  funext i
  have h0 : (i 0).val < 8192 := (i 0).isLt
  have h1 : (i 1).val < 1024 := (i 1).isLt
  have hp : (i 0).val / 512 < cfg0.N := lt_of_lt_of_eq (by omega) N_0.symm
  have hb := congrFun (blocks7 m c ⟨(i 0).val / 512, hp⟩ (flush0_7 _)) (ix2 (⟨(i 0).val % 512, by omega⟩ : Fin 512) (⟨(i 1).val, h1⟩ : Fin 1024))
  rw [View.read_apply, flushed7] at hb
  have e : ((cfg0.win 7).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_7.index ⟨(i 0).val / 512, hp⟩ 0 * 512 + 1 * ((i 0).val % 512) = (i 0).val; rw [(ixw7 _).1]; show (i 0).val / 512 * 512 + 1 * ((i 0).val % 512) = (i 0).val; omega
    | ⟨1, _⟩ => show win0_7.index ⟨(i 0).val / 512, hp⟩ 1 * 1024 + 1 * (i 1).val = (i 1).val; rw [(ixw7 _).2]; omega
  refine (congrArg ((dats m 0 c).arrAt 7 cfg0.N) e.symm).trans (hb.trans ?_)
  have e0 : (i 0).val / 512 * 512 + (i 0).val % 512 = (i 0).val := by omega
  refine (show _ = out0_7 (iblk m c 0 ⟨(i 0).val / 512, hp⟩) (iblk m c 1 ⟨(i 0).val / 512, hp⟩) (iblk m c 2 ⟨(i 0).val / 512, hp⟩) (iblk m c 3 ⟨(i 0).val / 512, hp⟩) (iblk m c 4 ⟨(i 0).val / 512, hp⟩) (ix2 (⟨(i 0).val % 512, by omega⟩ : Fin 512) (⟨(i 1).val, h1⟩ : Fin 1024)) from rfl).trans ?_
  refine (out7_at m c _ _ _).trans ?_
  show nAllAt m c ((i 0).val / 512 * 512 + (i 0).val % 512) (i 1).val = nAllAt m c (i 0).val (i 1).val
  rw [e0]

/-- What the kernel leaves, as a function of its arguments, and its arguments as they were. -/
theorem run_value : θ_run defs (onTc (τ := τ) (main (F := Ideal))) ⟨m, fun _ => 0, ρ⟩ fun r => ∀ c : Dev nD,
      r.2.mem ((c.tc : Thread nD τ).loc main_v3_0) = LruOutLnZOf (m ((c.tc : Thread nD τ).loc main_arg0)) (m ((c.tc : Thread nD τ).loc main_arg1)) (m ((c.tc : Thread nD τ).loc main_arg2))
      ∧ r.2.mem ((c.tc : Thread nD τ).loc main_v3_1) = LruOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_2) = LruOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c), (h c).2.2.2⟩) (run_blocks m ρ)

end Cert.LruOutLnIdeal.Value

end
-- ==== Proof.LruOutLnRef.lean ====
/- The reference of the recurrence's output projection with the residual branch and the normalisation: the same sum, mean, variance and rows, and the two runs together. -/
module

public import proofs.«01_k».proof.Proof.RowNorm
public import proofs.«01_k».proof.Proof.LruOutLnRun
public import proofs.«01_k».proof.Proof.Gen.LruOutLnRefIdeal.Run
public import proofs.«01_k».proof.Proof.Gen.LruOutLnRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LruOutLnRefIdeal.Value

open Cert.LruOutLnRefIdeal Cert.LruOutLnRefIdeal.Gen Cert.LruOutLnRefIdeal.Read Products

variable (x0 : Vec Ideal S8192x1280 .bf16) (x1 : Vec Ideal S1280x1024 .bf16) (x2 : Vec Ideal S8192x1024 .f32) (x3 x4 : Vec Ideal S1024 .f32)

/-- The row operand at a row and a column. -/
theorem x_at (r : Fin 8192) (j : Fin 1280) : val_main_v2 (F := Ideal) x0 (ix2 r j) = at2 (A := 8192) (B := 1280) x0 r.val j.val := by
  have hr := r.isLt; have hj := j.isLt
  rw [val_main_v2_apply]
  show x0 _ = x0 _
  congr 1; funext b; apply Fin.ext
  match b with
  | ⟨0, _⟩ => show r.val = r.val % 8192; omega
  | ⟨1, _⟩ => show j.val = j.val % 1280; omega

/-- The weight at a row and a column. -/
theorem w_at (r : Fin 1280) (j : Fin 1024) : val_main_v3 (F := Ideal) x1 (ix2 r j) = at2 (A := 1280) (B := 1024) x1 r.val j.val := by
  have hr := r.isLt; have hj := j.isLt
  rw [val_main_v3_apply]
  show x1 _ = x1 _
  congr 1; funext b; apply Fin.ext
  match b with
  | ⟨0, _⟩ => show r.val = r.val % 1280; omega
  | ⟨1, _⟩ => show j.val = j.val % 1024; omega

/-- The reference's sum. -/
theorem v5_eq : val_main_v5 (F := Ideal) x0 x1 x2 = LruOutLnZOf x0 x1 x2 := by
  funext i
  rw [val_main_v5_apply]
  refine congr (congrArg (fun a b : EReal => a + b) ?_) ?_
  · rw [val_main_v1_apply, val_main_v0_apply, val_main_cst_apply]
    refine congrArg (fun z : EReal => RowNorm.scale * z) ?_
    show x2 _ = x2 _
    congr 1; funext b; apply Fin.ext
    match b with
    | ⟨0, _⟩ => exact (Nat.mod_eq_of_lt (i 0).isLt).symm
    | ⟨1, _⟩ => exact (Nat.mod_eq_of_lt (i 1).isLt).symm
  · rw [val_main_v4_apply]
    exact Finset.sum_congr rfl fun k _ => congr (congrArg (fun a b : EReal => a * b) ((congrArg (val_main_v2 (F := Ideal) x0) (eq_ix2 _)).trans (x_at x0 (i 0) k)))
      ((congrArg (val_main_v3 (F := Ideal) x1) (eq_ix2 _)).trans (w_at x1 k (i 1)))

/-- The row of the reference's sum that holds an index. -/
def zrow (r : Fin 8192) (k : Fin 1024) : EReal := val_main_v5 (F := Ideal) x0 x1 x2 (ix2 r k)

/-- The reference's mean. -/
theorem mean_at (i : S8192x1.Idx) : val_main_v9 (F := Ideal) x0 x1 x2 i = RowNorm.mean (zrow x0 x1 x2 (i 0)) := by
  rw [val_main_v9_apply, val_main_v8_apply, val_main_cst_1_apply, val_main_v7_apply, val_main_v6_apply]
  refine congrArg (fun z : EReal => Ideal.div z (FloatOps.ofBits (F := Ideal) .f32 0x44800000#32)) ?_
  rw [show val_main_cst_0 (F := Ideal) (Shape.Idx.first h_S_) = (0 : EReal) from zero_const _, zero_add]
  exact Finset.sum_congr rfl fun k _ => congrArg (val_main_v5 (F := Ideal) x0 x1 x2) (eq_ix2 _)

/-- The reference's rows less their means. -/
theorem dev_at (i : S8192x1024.Idx) : val_main_v11 (F := Ideal) x0 x1 x2 i = RowNorm.dev (zrow x0 x1 x2 (i 0)) (i 1) := by
  rw [val_main_v11_apply, val_main_v10_apply, mean_at]
  exact congrArg (fun z : EReal => z - RowNorm.mean (zrow x0 x1 x2 (i 0))) (congrArg (val_main_v5 (F := Ideal) x0 x1 x2) (eq_ix2 i))

/-- The reference's rows less their means, computed again. -/
theorem dev_at' (i : S8192x1024.Idx) : val_main_v18 (F := Ideal) x0 x1 x2 i = RowNorm.dev (zrow x0 x1 x2 (i 0)) (i 1) := by
  rw [val_main_v18_apply, val_main_v17_apply, mean_at]
  exact congrArg (fun z : EReal => z - RowNorm.mean (zrow x0 x1 x2 (i 0))) (congrArg (val_main_v5 (F := Ideal) x0 x1 x2) (eq_ix2 i))

/-- The reference's reciprocal standard deviation. -/
theorem inv_at (i : S8192x1.Idx) : val_main_v21 (F := Ideal) x0 x1 x2 i = RowNorm.inv (zrow x0 x1 x2 (i 0)) := by
  rw [val_main_v21_apply, val_main_v20_apply, val_main_v19_apply, val_main_cst_4_apply, val_main_v16_apply, val_main_v15_apply,
    val_main_cst_3_apply, val_main_v14_apply, val_main_v13_apply]
  refine congrArg (fun z : EReal => Ideal.rsqrt (Ideal.div z (FloatOps.ofBits (F := Ideal) .f32 0x44800000#32) + FloatOps.ofBits (F := Ideal) .f32 0x3727C5AC#32)) ?_
  rw [show val_main_cst_2 (F := Ideal) (Shape.Idx.first h_S_) = (0 : EReal) from zero_const _, zero_add]
  refine Finset.sum_congr rfl fun k _ => ?_
  rw [val_main_v12_apply, dev_at]
  rfl

/-- The reference's normalised rows. -/
theorem v29_eq : val_main_v29 (F := Ideal) x0 x1 x2 x3 x4 = LruOutLnOf x0 x1 x2 x3 x4 := by
  funext i
  have e1 : Fin.ofNat 1024 (i 1).val = i 1 := Fin.ext (Nat.mod_eq_of_lt (i 1).isLt)
  have hz : zrow x0 x1 x2 (i 0) = fun k => LruOutLnZOfAt x0 x1 x2 (i 0).val k.val := by
    funext k
    exact congrFun (v5_eq x0 x1 x2) (ix2 (i 0) k)
  rw [val_main_v29_apply, val_main_v26_apply, val_main_v23_apply, val_main_v22_apply, inv_at, dev_at', val_main_v25_apply, val_main_v24_apply,
    val_main_v28_apply, val_main_v27_apply]
  show RowNorm.ln (zrow x0 x1 x2 (i 0)) (x3 _) (x4 _) (i 1) = LruOutLnOfAt x0 x1 x2 x3 x4 (i 0).val (i 1).val
  unfold LruOutLnOfAt
  rw [e1, ← hz]
  exact congr (congr (congrArg (RowNorm.ln (zrow x0 x1 x2 (i 0))) (congrArg x3 (eq_ix1 _))) (congrArg x4 (eq_ix1 _))) rfl

/-- The reference's normalised rows in the narrow type. -/
theorem v30_eq : val_main_v30 (F := Ideal) x0 x1 x2 x3 x4 = LruOutLnNarrowOf x0 x1 x2 x3 x4 := by
  funext i
  rw [val_main_v30_apply]
  exact congrFun (v29_eq x0 x1 x2 x3 x4) i

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v5) = LruOutLnZOf (m ((c.tc : Thread nD τ).loc main_arg0)) (m ((c.tc : Thread nD τ).loc main_arg1)) (m ((c.tc : Thread nD τ).loc main_arg2))
      ∧ r.2.mem ((c.tc : Thread nD τ).loc main_v29) = LruOutLnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = LruOutLnNarrowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v5_eq _ _ _).trans (v5_eq _ _ _)), (h c).2.1.trans ((val_main_v29_eq _ _ _ _ _).trans (v29_eq _ _ _ _ _)), (h c).2.2.1.trans ((val_main_v30_eq _ _ _ _ _).trans (v30_eq _ _ _ _ _)), (h c).2.2.2⟩)
    (run m ρ)

/-- The reference ends with its arguments as they were; it declares no semaphore. -/
theorem ends : Cert.quiescent_LruOutLnRefIdeal := fun m ρ _ =>
  (θ_run _ _ _).mono (fun _ h => ⟨fun c => (h c).2.2.2, funext fun g => nomatch g.2⟩) (Cert.LruOutLnRefIdeal.Value.run m ρ)

end Cert.LruOutLnRefIdeal.Value

/-- The kernel's value and the reference's, over the ideal reals. -/
theorem LruOutLn_value : Cert.algebraic_LruOutLnIdeal_LruOutLnRefIdeal :=
  fun m g m' g' _ h => ⟨fun c => LruOutLnZOf (m ((c.tc : Thread Cert.LruOutLnIdeal.nD Cert.LruOutLnIdeal.τ).loc Cert.LruOutLnIdeal.main_arg0)) (m ((c.tc : Thread Cert.LruOutLnIdeal.nD Cert.LruOutLnIdeal.τ).loc Cert.LruOutLnIdeal.main_arg1)) (m ((c.tc : Thread Cert.LruOutLnIdeal.nD Cert.LruOutLnIdeal.τ).loc Cert.LruOutLnIdeal.main_arg2)), fun c => LruOutLnOf (m ((c.tc : Thread Cert.LruOutLnIdeal.nD Cert.LruOutLnIdeal.τ).loc Cert.LruOutLnIdeal.main_arg0)) (m ((c.tc : Thread Cert.LruOutLnIdeal.nD Cert.LruOutLnIdeal.τ).loc Cert.LruOutLnIdeal.main_arg1)) (m ((c.tc : Thread Cert.LruOutLnIdeal.nD Cert.LruOutLnIdeal.τ).loc Cert.LruOutLnIdeal.main_arg2)) (m ((c.tc : Thread Cert.LruOutLnIdeal.nD Cert.LruOutLnIdeal.τ).loc Cert.LruOutLnIdeal.main_arg3)) (m ((c.tc : Thread Cert.LruOutLnIdeal.nD Cert.LruOutLnIdeal.τ).loc Cert.LruOutLnIdeal.main_arg4)), fun c => LruOutLnNarrowOf (m ((c.tc : Thread Cert.LruOutLnIdeal.nD Cert.LruOutLnIdeal.τ).loc Cert.LruOutLnIdeal.main_arg0)) (m ((c.tc : Thread Cert.LruOutLnIdeal.nD Cert.LruOutLnIdeal.τ).loc Cert.LruOutLnIdeal.main_arg1)) (m ((c.tc : Thread Cert.LruOutLnIdeal.nD Cert.LruOutLnIdeal.τ).loc Cert.LruOutLnIdeal.main_arg2)) (m ((c.tc : Thread Cert.LruOutLnIdeal.nD Cert.LruOutLnIdeal.τ).loc Cert.LruOutLnIdeal.main_arg3)) (m ((c.tc : Thread Cert.LruOutLnIdeal.nD Cert.LruOutLnIdeal.τ).loc Cert.LruOutLnIdeal.main_arg4)),
    Cert.LruOutLnIdeal.Value.run_value m g,
    (θ_run _ _ _).mono (fun r hr c => by
      have hc := hr c
      obtain ⟨a0, a1, a2, a3, a4⟩ := h c
      exact ⟨hc.1.trans (by rw [a0, a1, a2] <;> rfl), hc.2.1.trans (by rw [a0, a1, a2, a3, a4] <;> rfl), hc.2.2.1.trans (by rw [a0, a1, a2, a3, a4] <;> rfl), hc.2.2.2⟩)
      (Cert.LruOutLnRefIdeal.Value.run_value m' g')⟩

end
-- ==== Proof.RowNormGrad.lean ====
/- The gradient of a row's normalisation over the exact reals: the closed form a kernel computes and the one the chain rule
   gives are the same number where the output's gradient times the scale is finite. -/
module

public import proofs.«01_k».proof.Proof.RowNorm

@[expose] public section

set_option maxRecDepth 16384

noncomputable section

open Idealize.ShloMosaic Idealize.ShloMosaic.TcCoe Idealize.SL.Sem Idealize.ShloMosaic.ValueIdx
open scoped BigOperators

namespace RowNorm

/-- The gradient at a place of the row, in closed form, from the output's gradient `d`, the row `z` and the scale `g`. -/
def grad (d z g : Fin 1024 → EReal) (q : Fin 1024) : EReal :=
  inv z * (d q * g q - mean (fun k => d k * g k) - dev z q * inv z * mean (fun k => d k * g k * (dev z k * inv z)))

/-- The gradient that reaches the row through its variance. -/
def viaVar (d z g : Fin 1024 → EReal) : EReal :=
  Ideal.div ((∑ k, dev z k * (d k * g k)) * (FloatOps.ofBits (F := Ideal) .f32 0xBF000000#32
    * Ideal.div (inv z) (mean (fun q => dev z q * dev z q) + FloatOps.ofBits (F := Ideal) .f32 0x3727C5AC#32)))
    (FloatOps.ofBits (F := Ideal) .f32 0x44800000#32)

/-- The gradient at a place of the row by the chain rule: directly, through the variance, and through the mean. -/
def chain (d z g : Fin 1024 → EReal) (q : Fin 1024) : EReal :=
  d q * g q * inv z + viaVar d z g * (FloatOps.ofBits (F := Ideal) .f32 0x40000000#32 * dev z q)
    + Ideal.div ((∑ k, -(d k * g k * inv z)) + ∑ k, -(viaVar d z g * (FloatOps.ofBits (F := Ideal) .f32 0x40000000#32 * dev z k)))
      (FloatOps.ofBits (F := Ideal) .f32 0x44800000#32)

/-- The sum of reals is a real. -/
theorem coe_sum (f : Fin 1024 → ℝ) : (∑ k, ((f k : ℝ) : EReal)) = ((∑ k, f k : ℝ) : EReal) := by
  induction (Finset.univ : Finset (Fin 1024)) using Finset.induction_on with
  | empty => simp
  | insert a s ha ih => rw [Finset.sum_insert ha, Finset.sum_insert ha, ih, EReal.coe_add]

theorem n_eq : FloatOps.ofBits (F := Ideal) .f32 0x44800000#32 = ((1024 : ℝ) : EReal) := by
  simp [Ideal.ofBits, Ideal.ieee]; norm_num; rw [← EReal.coe_mul]; norm_num
theorem two_eq : FloatOps.ofBits (F := Ideal) .f32 0x40000000#32 = ((2 : ℝ) : EReal) := by
  simp [Ideal.ofBits, Ideal.ieee]; norm_num; rw [← EReal.coe_mul]; norm_num
theorem half_eq : FloatOps.ofBits (F := Ideal) .f32 0xBF000000#32 = ((-(1 / 2) : ℝ) : EReal) := by
  simp [Ideal.ofBits, Ideal.ieee]; norm_num; rw [← EReal.coe_mul]; norm_num
theorem eps_eq : ∃ e : ℝ, 0 < e ∧ FloatOps.ofBits (F := Ideal) .f32 0x3727C5AC#32 = ((e : ℝ) : EReal) := by
  refine ⟨_, ?_, by simp [Ideal.ofBits, Ideal.ieee]; rfl⟩
  norm_num

section Reals

variable (z : Fin 1024 → ℝ)

/-- A row's mean over the reals. -/
def meanR (z : Fin 1024 → ℝ) : ℝ := (∑ q, z q) * (1 / 1024)

theorem mean_coe (f : Fin 1024 → ℝ) : mean (fun q => ((f q : ℝ) : EReal)) = ((meanR f : ℝ) : EReal) := by
  unfold mean meanR
  rw [coe_sum, n_eq, Ideal.div_coe (by norm_num), EReal.coe_mul]

theorem dev_coe (q : Fin 1024) : dev (fun q => ((z q : ℝ) : EReal)) q = ((z q - meanR z : ℝ) : EReal) := by
  unfold dev
  rw [mean_coe, EReal.coe_sub]

/-- The mean square of a row less its mean is not negative. -/
theorem var_nonneg : 0 ≤ meanR fun q => (z q - meanR z) * (z q - meanR z) :=
  mul_nonneg (Finset.sum_nonneg fun q _ => mul_self_nonneg _) (by norm_num)

/-- A row less its mean sums to zero. -/
theorem sum_dev : ∑ q, (z q - meanR z) = 0 := by
  rw [Finset.sum_sub_distrib, Finset.sum_const, Finset.card_univ, Fintype.card_fin, nsmul_eq_mul]
  unfold meanR
  push_cast
  ring

/-- The identity over the reals. -/
theorem chain_real (c t : Fin 1024 → ℝ) (R V : ℝ) (hV : V ≠ 0) (hR : R * R * V = 1) (hc : ∑ q, c q = 0) (q : Fin 1024) :
    t q * R + (∑ k, c k * t k) * (-(1 / 2) * (R * (1 / V))) * (1 / 1024) * (2 * c q)
      + ((∑ k, -(t k * R)) + ∑ k, -((∑ k, c k * t k) * (-(1 / 2) * (R * (1 / V))) * (1 / 1024) * (2 * c k))) * (1 / 1024)
      = R * (t q - meanR t - c q * R * meanR fun k => t k * (c k * R)) := by
  have e1 : ∑ k, -(t k * R) = -((∑ k, t k) * R) := by rw [Finset.sum_neg_distrib, Finset.sum_mul]
  have e2 : ∑ k, -((∑ k, c k * t k) * (-(1 / 2) * (R * (1 / V))) * (1 / 1024) * (2 * c k)) = 0 := by
    rw [Finset.sum_neg_distrib, ← Finset.mul_sum, ← Finset.mul_sum, hc]; ring
  have e3 : ∑ k, t k * (c k * R) = (∑ k, c k * t k) * R := by
    rw [Finset.sum_mul]; exact Finset.sum_congr rfl fun k _ => by ring
  have e4 : 1 / V = R * R := by field_simp; linarith
  unfold meanR
  rw [e1, e2, e3, e4]
  ring

/-- Of a finite row the chain rule's number is the closed form's. -/
theorem chain_coe (d g : Fin 1024 → EReal) (t : Fin 1024 → ℝ) (ht : ∀ k, d k * g k = ((t k : ℝ) : EReal)) (q : Fin 1024) :
    chain d (fun k => ((z k : ℝ) : EReal)) g q = grad d (fun k => ((z k : ℝ) : EReal)) g q := by
  obtain ⟨e, he, hE⟩ := eps_eq
  have hV : 0 < (meanR fun q => (z q - meanR z) * (z q - meanR z)) + e := add_pos_of_nonneg_of_pos (var_nonneg z) he
  have hm : mean (fun q => dev (fun q => ((z q : ℝ) : EReal)) q * dev (fun q => ((z q : ℝ) : EReal)) q)
      + FloatOps.ofBits (F := Ideal) .f32 0x3727C5AC#32 = (((meanR fun q => (z q - meanR z) * (z q - meanR z)) + e : ℝ) : EReal) := by
    rw [hE, EReal.coe_add, ← mean_coe]
    simp only [dev_coe, EReal.coe_mul]
  have hi : inv (fun q => ((z q : ℝ) : EReal)) = (((Real.sqrt ((meanR fun q => (z q - meanR z) * (z q - meanR z)) + e))⁻¹ : ℝ) : EReal) := by
    unfold inv
    rw [hm, Ideal.rsqrt_coe, if_neg (not_lt.2 hV.le), if_neg hV.ne']
  have key := chain_real (fun q => z q - meanR z) t (Real.sqrt ((meanR fun q => (z q - meanR z) * (z q - meanR z)) + e))⁻¹
    ((meanR fun q => (z q - meanR z) * (z q - meanR z)) + e) hV.ne'
    (by rw [← mul_inv, Real.mul_self_sqrt hV.le, inv_mul_cancel₀ hV.ne']) (sum_dev z) q
  unfold chain viaVar grad
  rw [hm, hi, n_eq, two_eq, half_eq]
  generalize (Real.sqrt ((meanR fun q => (z q - meanR z) * (z q - meanR z)) + e))⁻¹ = R at key ⊢
  generalize (meanR fun q => (z q - meanR z) * (z q - meanR z)) + e = V at key hV ⊢
  simp only [ht, dev_coe, Ideal.div_coe hV.ne', Ideal.div_coe (show (1024 : ℝ) ≠ 0 by norm_num), ← EReal.coe_mul, ← EReal.coe_neg, coe_sum, mean_coe,
    ← EReal.coe_add, ← EReal.coe_sub]
  exact congrArg (fun x : ℝ => (x : EReal)) key

end Reals

/-- The mean of a row that has an infinity is an infinity. -/
theorem mean_inf (z : Fin 1024 → EReal) (k : Fin 1024) (hk : z k = ⊤ ∨ z k = ⊥) : mean z = ⊤ ∨ mean z = ⊥ := by
  have hS : (∑ q, z q) = ⊤ ∨ (∑ q, z q) = ⊥ := by
    rw [← Finset.add_sum_erase Finset.univ z (Finset.mem_univ k)]
    rcases hk with h | h
    · rw [h]
      by_cases hb : (∑ q ∈ Finset.univ.erase k, z q) = ⊥
      · exact Or.inr (by rw [hb, EReal.add_bot])
      · exact Or.inl (EReal.top_add_of_ne_bot hb)
    · exact Or.inr (by rw [h, EReal.bot_add])
  unfold mean
  rw [n_eq, Ideal.div_coe (by norm_num)]
  rcases hS with h | h
  · exact Or.inl (by rw [h]; exact EReal.top_mul_coe_of_pos (by norm_num))
  · exact Or.inr (by rw [h]; exact EReal.bot_mul_coe_of_pos (by norm_num))

/-- The variance of a row that has an infinity is infinite. -/
theorem var_inf (z : Fin 1024 → EReal) (k : Fin 1024) (hk : z k = ⊤ ∨ z k = ⊥) :
    mean (fun q => dev z q * dev z q) + FloatOps.ofBits (F := Ideal) .f32 0x3727C5AC#32 = ⊤ := by
  have hd : ∀ q, dev z q * dev z q = ⊤ := by
    intro q
    unfold dev
    rcases mean_inf z k hk with h | h <;> rw [h, sub_eq_add_neg]
    · rw [EReal.neg_top, EReal.add_bot, EReal.bot_mul_bot]
    · rw [EReal.neg_bot]
      by_cases hb : z q = ⊥
      · rw [hb, EReal.bot_add, EReal.bot_mul_bot]
      · rw [EReal.add_top_of_ne_bot hb, EReal.top_mul_top]
  have hS : (∑ _q : Fin 1024, (⊤ : EReal)) = ⊤ := by
    rw [← Finset.add_sum_erase Finset.univ (fun _ : Fin 1024 => (⊤ : EReal)) (Finset.mem_univ 0)]
    refine EReal.top_add_of_ne_bot (ne_of_gt (lt_of_lt_of_le EReal.bot_lt_zero (Finset.sum_nonneg fun _ _ => le_top)))
  obtain ⟨e, _, hE⟩ := eps_eq
  simp only [hd]
  unfold mean
  rw [hS, n_eq, Ideal.div_coe (by norm_num), EReal.top_mul_coe_of_pos (by norm_num), hE]
  exact EReal.top_add_coe e

/-- Where the output's gradient times the scale has no infinity the chain rule's number is the closed form's: of a row with an
    infinity both are zero. -/
theorem chain_eq (d z g : Fin 1024 → EReal) (h : ∀ k, d k * g k ≠ ⊤ ∧ d k * g k ≠ ⊥) (q : Fin 1024) : chain d z g q = grad d z g q := by
  by_cases hz : ∃ k, z k = ⊤ ∨ z k = ⊥
  · obtain ⟨k, hk⟩ := hz
    have hv := var_inf z k hk
    have hi : inv z = 0 := by unfold inv; rw [hv]; rfl
    have h0 : Ideal.div (0 : EReal) ⊤ = 0 := by unfold Ideal.div; simp
    have h1 : Ideal.div (0 : EReal) ((1024 : ℝ) : EReal) = 0 := by rw [Ideal.div_coe (by norm_num), zero_mul]
    unfold chain viaVar grad
    rw [hv, hi, h0, n_eq]
    simp only [mul_zero, zero_mul, h1, neg_zero, Finset.sum_const_zero, add_zero]
  · have e : z = fun k => (((z k).toReal : ℝ) : EReal) :=
      funext fun k => (EReal.coe_toReal (fun hk => hz ⟨k, Or.inl hk⟩) (fun hk => hz ⟨k, Or.inr hk⟩)).symm
    rw [e]
    exact chain_coe _ d g (fun k => (d k * g k).toReal) (fun k => (EReal.coe_toReal (h k).1 (h k).2).symm) q

end RowNorm

end
-- ==== Proof.LnBwdRun.lean ====
/- The gradient of the normalisation: the kernel leaves the rows' gradient, twice, and the gradients of the scale and of the
   shift summed over every row. -/
module

public import proofs.«01_k».proof.Proof.RowNormGrad
public import proofs.«01_k».proof.Proof.Gen.LnBwdIdeal.Value

@[expose] public section

set_option maxRecDepth 16384
set_option maxHeartbeats 1000000

noncomputable section

open Idealize.ShloMosaic Idealize.ShloMosaic.TcCoe Idealize.SL.Sem Idealize.ShloMosaic.ValueIdx
open scoped BigOperators

/-- A row of an array. -/
def LnBwdRow (x : Vec Ideal ⟨2, ![8192, 1024]⟩ .f32) (r : ℕ) (k : Fin 1024) : EReal := Products.at2 (A := 8192) (B := 1024) x r k.val

/-- The rows' gradient at a row and a column. -/
def LnBwdDzOfAt (dx z : Vec Ideal ⟨2, ![8192, 1024]⟩ .f32) (g : Vec Ideal ⟨1, ![1024]⟩ .f32) (r q : ℕ) : EReal :=
  RowNorm.grad (LnBwdRow dx r) (LnBwdRow z r) (fun k => g (ix1 k)) (Fin.ofNat 1024 q)

/-- The rows' gradient, as an array. -/
def LnBwdDzOf (dx z : Vec Ideal ⟨2, ![8192, 1024]⟩ .f32) (g : Vec Ideal ⟨1, ![1024]⟩ .f32) : Vec Ideal ⟨2, ![8192, 1024]⟩ .f32 := fun i =>
  LnBwdDzOfAt dx z g (i 0).val (i 1).val

/-- The rows' gradient in the narrow type, as an array: over the exact reals the same numbers. -/
def LnBwdDzNarrowOf (dx z : Vec Ideal ⟨2, ![8192, 1024]⟩ .f32) (g : Vec Ideal ⟨1, ![1024]⟩ .f32) : Vec Ideal ⟨2, ![8192, 1024]⟩ .bf16 := fun i =>
  LnBwdDzOfAt dx z g (i 0).val (i 1).val

/-- A row's part of the scale's gradient at a column. -/
def LnBwdDgTerm (dx z : Vec Ideal ⟨2, ![8192, 1024]⟩ .f32) (r : ℕ) (q : Fin 1024) : EReal :=
  LnBwdRow dx r q * (RowNorm.dev (LnBwdRow z r) q * RowNorm.inv (LnBwdRow z r))

/-- The scale's gradient: the sum over the rows of the output's gradient times the normalised row. -/
def LnBwdDgOf (dx z : Vec Ideal ⟨2, ![8192, 1024]⟩ .f32) : Vec Ideal ⟨2, ![1, 1024]⟩ .f32 := fun i =>
  ∑ r : Fin 8192, LnBwdDgTerm dx z r.val (i 1)

/-- The shift's gradient: the sum over the rows of the output's gradient. -/
def LnBwdDbOf (dx : Vec Ideal ⟨2, ![8192, 1024]⟩ .f32) : Vec Ideal ⟨2, ![1, 1024]⟩ .f32 := fun i =>
  ∑ r : Fin 8192, LnBwdRow dx r.val (i 1)

namespace Cert.LnBwdIdeal.Value

open Cert.LnBwdIdeal Cert.LnBwdIdeal.Gen Products

theorem hz2 : (![0, 0] : Fin 2 → Nat) = fun _ => 0 := funext fun a => by fin_cases a <;> rfl

section Bodies

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole)

/-- The first point leaves the rows' gradient. -/
theorem out0_A_3_eq (hc0 : cond0_0 i) (x0 x1 : Vec Ideal S512x1024 .f32) (x2 : Vec Ideal S1x1024 .f32) :
    out0_A_3 (F := Ideal) c i arg1 harg1 arg2 harg2 arg3 harg3 arg4 harg4 arg5 harg5 arg6 harg6 arg7 harg7 hc0 x0 x1 x2 = k0_pay1 (F := Ideal) x0 (k0_pay6 x1) (k0_pay7 x1) x2 := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S512x1024) hz2]

/-- The first point leaves it in the narrow type too. -/
theorem out0_A_4_eq (hc0 : cond0_0 i) (x0 x1 : Vec Ideal S512x1024 .f32) (x2 : Vec Ideal S1x1024 .f32) :
    out0_A_4 (F := Ideal) c i arg1 harg1 arg2 harg2 arg3 harg3 arg4 harg4 arg5 harg5 arg6 harg6 arg7 harg7 hc0 x0 x1 x2 = k0_pay2 (F := Ideal) x0 (k0_pay6 x1) (k0_pay7 x1) x2 := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S512x1024) hz2]

/-- The first point starts the scale's gradient from zero. -/
theorem out0_A_5_eq (hc0 : cond0_0 i) (x0 x1 : Vec Ideal S512x1024 .f32) (x2 : Vec Ideal S1x1024 .f32) :
    out0_A_5 (F := Ideal) c i arg1 harg1 arg2 harg2 arg3 harg3 arg4 harg4 arg5 harg5 arg6 harg6 arg7 harg7 hc0 x0 x1 x2 = k0_pay8 x1 x0 (k0_pay3 (F := Ideal)) := by
  unfold out0_A_5
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_cons_unit_zero (S := S1x1024) hz2, View.readCov_unit_zero (S := S1x1024) _ hz2]

/-- The first point starts the shift's gradient from zero. -/
theorem out0_A_6_eq (hc0 : cond0_0 i) (x0 x1 : Vec Ideal S512x1024 .f32) (x2 : Vec Ideal S1x1024 .f32) :
    out0_A_6 (F := Ideal) c i arg1 harg1 arg2 harg2 arg3 harg3 arg4 harg4 arg5 harg5 arg6 harg6 arg7 harg7 hc0 x0 x1 x2 = k0_pay9 x0 (k0_pay4 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_cons_unit_zero (S := S1x1024) hz2, View.readCov_unit_zero (S := S1x1024) _ hz2]

/-- A later point leaves the rows' gradient. -/
theorem out0_B_3_eq (hc0 : ¬cond0_0 i) (x0 x1 : Vec Ideal S512x1024 .f32) (x2 : Vec Ideal S1x1024 .f32) (xo5 xo6 : Vec Ideal S1x1024 .f32) :
    out0_B_3 (F := Ideal) c i arg1 harg1 arg2 harg2 arg3 harg3 arg4 harg4 arg5 harg5 arg6 harg6 arg7 harg7 hc0 x0 x1 x2 xo5 xo6 = k0_pay1 (F := Ideal) x0 (k0_pay6 x1) (k0_pay7 x1) x2 := by
  unfold out0_B_3
  rw [View.read_writes_eq_canon _ _ _ (cover0_B_3 c i arg1 harg1 arg2 harg2 arg3 harg3 arg4 harg4 arg5 harg5 arg6 harg6 arg7 harg7 hc0 x0 x1 x2 xo5 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S512x1024) hz2]

/-- A later point leaves it in the narrow type too. -/
theorem out0_B_4_eq (hc0 : ¬cond0_0 i) (x0 x1 : Vec Ideal S512x1024 .f32) (x2 : Vec Ideal S1x1024 .f32) (xo5 xo6 : Vec Ideal S1x1024 .f32) :
    out0_B_4 (F := Ideal) c i arg1 harg1 arg2 harg2 arg3 harg3 arg4 harg4 arg5 harg5 arg6 harg6 arg7 harg7 hc0 x0 x1 x2 xo5 xo6 = k0_pay2 (F := Ideal) x0 (k0_pay6 x1) (k0_pay7 x1) x2 := by
  unfold out0_B_4
  rw [View.read_writes_eq_canon _ _ _ (cover0_B_4 c i arg1 harg1 arg2 harg2 arg3 harg3 arg4 harg4 arg5 harg5 arg6 harg6 arg7 harg7 hc0 x0 x1 x2 xo5 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S512x1024) hz2]

/-- A later point adds to the scale's gradient. -/
theorem out0_B_5_eq (hc0 : ¬cond0_0 i) (x0 x1 : Vec Ideal S512x1024 .f32) (x2 : Vec Ideal S1x1024 .f32) (xo5 xo6 : Vec Ideal S1x1024 .f32) :
    out0_B_5 (F := Ideal) c i arg1 harg1 arg2 harg2 arg3 harg3 arg4 harg4 arg5 harg5 arg6 harg6 arg7 harg7 hc0 x0 x1 x2 xo5 xo6 = k0_pay8 x1 x0 xo5 := by
  unfold out0_B_5
  rw [View.read_writes_eq_canon _ _ _ (cover0_B_5 c i arg1 harg1 arg2 harg2 arg3 harg3 arg4 harg4 arg5 harg5 arg6 harg6 arg7 harg7 hc0 x0 x1 x2 xo5 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S1x1024) hz2]

/-- A later point adds to the shift's gradient. -/
theorem out0_B_6_eq (hc0 : ¬cond0_0 i) (x0 x1 : Vec Ideal S512x1024 .f32) (x2 : Vec Ideal S1x1024 .f32) (xo5 xo6 : Vec Ideal S1x1024 .f32) :
    out0_B_6 (F := Ideal) c i arg1 harg1 arg2 harg2 arg3 harg3 arg4 harg4 arg5 harg5 arg6 harg6 arg7 harg7 hc0 x0 x1 x2 xo5 xo6 = k0_pay9 x0 xo6 := by
  unfold out0_B_6
  rw [View.read_writes_eq_canon _ _ _ (cover0_B_6 c i arg1 harg1 arg2 harg2 arg3 harg3 arg4 harg4 arg5 harg5 arg6 harg6 arg7 harg7 hc0 x0 x1 x2 xo5 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  rw [View.canon_unit_zero (S := S1x1024) hz2]

end Bodies

section Payloads

variable (x d : Vec Ideal S512x1024 .f32) (g : Vec Ideal S1x1024 .f32)

/-- The tile less its rows' means. -/
theorem pay5_at (p : Fin 512) (q : Fin 1024) : k0_pay5 (F := Ideal) x (ix2 p q) = RowNorm.dev (fun k => x (ix2 p k)) q :=
  RowNorm.dev_apply x _ _ _ _ _ p q

/-- The rows' reciprocal standard deviations. -/
theorem pay6_at (p : Fin 512) (u : Fin 1) : k0_pay6 (F := Ideal) x (ix2 p u) = RowNorm.inv (fun k => x (ix2 p k)) := by
  unfold k0_pay6
  refine congrArg (fun z : EReal => Ideal.rsqrt (z + FloatOps.ofBits (F := Ideal) .f32 0x3727C5AC#32)) ?_
  refine (RowNorm.mean_apply _ _ _ _ _ p u).trans (congrArg RowNorm.mean (funext fun q => ?_))
  exact congr (congrArg (fun a b : EReal => a * b) (pay5_at x p q)) (pay5_at x p q)

/-- The normalised tile. -/
theorem pay7_at (p : Fin 512) (q : Fin 1024) : k0_pay7 (F := Ideal) x (ix2 p q) = RowNorm.dev (fun k => x (ix2 p k)) q * RowNorm.inv (fun k => x (ix2 p k)) := by
  unfold k0_pay7
  exact congr (congrArg (fun a b : EReal => a * b) (pay5_at x p q)) ((RowNorm.col_apply _ _ p q).trans (pay6_at x p 0))

/-- The rows' gradient of the tile. -/
theorem pay1_at (p : Fin 512) (q : Fin 1024) : k0_pay1 (F := Ideal) d (k0_pay6 x) (k0_pay7 x) g (ix2 p q)
    = RowNorm.grad (fun k => d (ix2 p k)) (fun k => x (ix2 p k)) (fun k => g (ix2 0 k)) q := by
  unfold k0_pay1 RowNorm.grad
  have e (q : Fin 1024) : mulf (F := Ideal) (s := S512x1024) (φ := .f32) d (broadcastTo S512x1024 (shapeCast S1x1024 g shapeCasts_S1x1024_S1x1024) broadcasts_S1x1024_S512x1024) (ix2 p q)
      = d (ix2 p q) * g (ix2 0 q) := congrArg (fun z : EReal => d (ix2 p q) * z) (RowNorm.row_apply g _ _ p q)
  refine congr (congrArg (fun a b : EReal => a * b) ((RowNorm.col_apply _ _ p q).trans (pay6_at x p 0))) ?_
  refine congr (congrArg (fun a b : EReal => a - b) (congr (congrArg (fun a b : EReal => a - b) (e q)) ?_)) (congr (congrArg (fun a b : EReal => a * b) (pay7_at x p q)) ?_)
  · refine (RowNorm.col_apply _ _ p q).trans ((RowNorm.mean_apply _ _ _ _ _ p 0).trans (congrArg RowNorm.mean (funext fun k => e k)))
  · refine (RowNorm.col_apply _ _ p q).trans ((RowNorm.mean_apply _ _ _ _ _ p 0).trans (congrArg RowNorm.mean (funext fun k => ?_)))
    exact congr (congrArg (fun a b : EReal => a * b) (e k)) (pay7_at x p k)

/-- A tile summed down its columns. -/
theorem colsum_at (y : FVec Ideal S512x1024 .f32) (hr) (hf) (ha) (hc) (q : Fin 1024) :
    shapeCast S1x1024 (multiReduction (F := Ideal) .add [0] S1024 y 0x00000000#32 hr hf ha) hc (ix2 0 q) = ∑ p : Fin 512, y (ix2 p q) := by
  refine (shapeCast_a_1a_apply _ _ 0 q).trans ?_
  refine (Ideal.multiReduction_add_single y _ _ _ _ (ix1 q)).trans (Finset.sum_congr rfl fun a _ => congrArg y ?_)
  funext b
  match b with
  | ⟨0, _⟩ => rfl
  | ⟨1, _⟩ => rfl

/-- One step of the scale's gradient. -/
theorem pay8_at (q : Fin 1024) : k0_pay8 (F := Ideal) x d g (ix2 0 q)
    = g (ix2 0 q) + ∑ p : Fin 512, d (ix2 p q) * (RowNorm.dev (fun k => x (ix2 p k)) q * RowNorm.inv (fun k => x (ix2 p k))) := by
  unfold k0_pay8
  rw [shapeCast_self]
  refine congrArg (fun z : EReal => g (ix2 0 q) + z) ((colsum_at _ _ _ _ _ q).trans (Finset.sum_congr rfl fun p _ => ?_))
  exact congrArg (fun z : EReal => d (ix2 p q) * z) (pay7_at x p q)

/-- One step of the shift's gradient. -/
theorem pay9_at (q : Fin 1024) : k0_pay9 (F := Ideal) d g (ix2 0 q) = g (ix2 0 q) + ∑ p : Fin 512, d (ix2 p q) := by
  unfold k0_pay9
  rw [shapeCast_self]
  exact congrArg (fun z : EReal => g (ix2 0 q) + z) (colsum_at _ _ _ _ _ q)

/-- The scale's gradient starts at zero. -/
theorem pay3_at (i : S1x1024.Idx) : k0_pay3 (F := Ideal) i = 0 := Ideal.ofBits_zero_f32
/-- The shift's gradient starts at zero. -/
theorem pay4_at (i : S1x1024.Idx) : k0_pay4 (F := Ideal) i = 0 := Ideal.ofBits_zero_f32

end Payloads

variable (m : (ℓ : Loc nD τ sig) → Buf (Elt Ideal) ℓ) (ρ : Dev nD → PrngReg)

theorem ltN (t : Fin cfg0.N) : t.val < 16 := lt_of_lt_of_eq t.isLt N_0
theorem ixw0 : ∀ t : Fin grid0.N, win0_0.index t 0 = t.val ∧ win0_0.index t 1 = 0 := by decide +kernel
theorem ixw1 : ∀ t : Fin grid0.N, win0_1.index t 0 = t.val ∧ win0_1.index t 1 = 0 := by decide +kernel
theorem ixw2 : ∀ t : Fin grid0.N, win0_2.index t 0 = 0 ∧ win0_2.index t 1 = 0 := by decide +kernel
theorem ixw3 : ∀ t : Fin grid0.N, win0_3.index t 0 = t.val ∧ win0_3.index t 1 = 0 := by decide +kernel
theorem ixw4 : ∀ t : Fin grid0.N, win0_4.index t 0 = t.val ∧ win0_4.index t 1 = 0 := by decide +kernel
theorem ixw5 : ∀ t : Fin grid0.N, win0_5.index t 0 = 0 ∧ win0_5.index t 1 = 0 := by decide +kernel
theorem ixw6 : ∀ t : Fin grid0.N, win0_6.index t 0 = 0 ∧ win0_6.index t 1 = 0 := by decide +kernel

/-- The output gradient's block: a tile of rows. -/
theorem blk0 (c : Dev nD) (t : Fin cfg0.N) (p : Fin 512) (k : Fin 1024) :
    iblk m c 0 t (ix2 p k) = LnBwdRow (m ((c.tc : Thread nD τ).loc main_arg0)) (t.val * 512 + p.val) k := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The input's block: a tile of rows. -/
theorem blk1 (c : Dev nD) (t : Fin cfg0.N) (p : Fin 512) (k : Fin 1024) :
    iblk m c 1 t (ix2 p k) = LnBwdRow (m ((c.tc : Thread nD τ).loc main_arg1)) (t.val * 512 + p.val) k := by
  have ht := ltN t; have hk := k.isLt; have hp := p.isLt
  unfold iblk
  rw [View.read_apply]
  show m ((c.tc : Thread nD τ).loc main_arg1) _ = m ((c.tc : Thread nD τ).loc main_arg1) _
  congr 1; funext b; apply Fin.ext
  match b with
  | ⟨0, _⟩ => show win0_1.index t 0 * 512 + 1 * p.val = (t.val * 512 + p.val) % 8192; rw [(ixw1 t).1]; omega
  | ⟨1, _⟩ => show win0_1.index t 1 * 1024 + 1 * k.val = k.val % 1024; rw [(ixw1 t).2]; omega

/-- The scale's block: the whole scale. -/
theorem blk2 (c : Dev nD) (t : Fin cfg0.N) (q : Fin 1024) :
    iblk m c 2 t (ix2 0 q) = (m ((c.tc : Thread nD τ).loc main_arg2) : S1024.Idx → EReal) (ix1 q) := by
  have ht := ltN t; have hq := q.isLt
  unfold iblk
  rw [View.read_apply]
  show (StableHlo.after hostOps0 (fun b => m (c, b)) (Proc.tc.devRef main_v0) : S1x1024.Idx → EReal) _ = m ((c.tc : Thread nD τ).loc main_arg2) _
  have e : (StableHlo.after hostOps0 (fun b => m (c, b)) (Proc.tc.devRef main_v0) : S1x1024.Idx → EReal)
      = broadcastInDim S1x1024 ![1] bcast_S1024_S1x1024_1 (m ((c.tc : Thread nD τ).loc main_arg2)) := by after_results
  rw [e]
  unfold broadcastInDim
  show m ((c.tc : Thread nD τ).loc main_arg2) _ = m ((c.tc : Thread nD τ).loc main_arg2) _
  congr 1; funext b; apply Fin.ext
  match b with
  | ⟨0, _⟩ => show win0_2.index t 1 * 1024 + 1 * q.val = q.val; rw [(ixw2 t).2]; omega

/-- The rows' gradient a point computes, at a row and a column of its block. -/
theorem dz_at (c : Dev nD) (t : Fin cfg0.N) (p : Fin 512) (q : Fin 1024) :
    k0_pay1 (F := Ideal) (iblk m c 0 t) (k0_pay6 (iblk m c 1 t)) (k0_pay7 (iblk m c 1 t)) (iblk m c 2 t) (ix2 p q)
      = LnBwdDzOfAt (m ((c.tc : Thread nD τ).loc main_arg0)) (m ((c.tc : Thread nD τ).loc main_arg1)) (m ((c.tc : Thread nD τ).loc main_arg2)) (t.val * 512 + p.val) q.val := by
  rw [pay1_at]
  have eq : Fin.ofNat 1024 q.val = q := Fin.ext (Nat.mod_eq_of_lt q.isLt)
  unfold LnBwdDzOfAt
  rw [eq]
  exact congr (congr (congr (congrArg RowNorm.grad (funext fun k => blk0 m c t p k)) (funext fun k => blk1 m c t p k)) (funext fun k => blk2 m c t k)) rfl

/-- One step of the scale's gradient at a point. -/
theorem step5 (c : Dev nD) (t : Fin cfg0.N) (a : Vec Ideal S1x1024 .f32) (q : Fin 1024) :
    k0_pay8 (F := Ideal) (iblk m c 1 t) (iblk m c 0 t) a (ix2 0 q) = a (ix2 0 q) + ∑ p : Fin 512, LnBwdDgTerm (m ((c.tc : Thread nD τ).loc main_arg0)) (m ((c.tc : Thread nD τ).loc main_arg1)) (t.val * 512 + p.val) q := by
  rw [pay8_at]
  refine congrArg (a (ix2 0 q) + ·) (Finset.sum_congr rfl fun p _ => ?_)
  unfold LnBwdDgTerm
  have e : (fun k => iblk m c 1 t (ix2 p k)) = LnBwdRow (m ((c.tc : Thread nD τ).loc main_arg1)) (t.val * 512 + p.val) := funext fun k => blk1 m c t p k
  exact congr (congrArg (fun a b : EReal => a * b) (blk0 m c t p q)) (congrArg (fun z => RowNorm.dev z q * RowNorm.inv z) e)

/-- One step of the shift's gradient at a point. -/
theorem step6 (c : Dev nD) (t : Fin cfg0.N) (a : Vec Ideal S1x1024 .f32) (q : Fin 1024) :
    k0_pay9 (F := Ideal) (iblk m c 0 t) a (ix2 0 q) = a (ix2 0 q) + ∑ p : Fin 512, LnBwdRow (m ((c.tc : Thread nD τ).loc main_arg0)) (t.val * 512 + p.val) q := by
  rw [pay9_at]
  exact congrArg (a (ix2 0 q) + ·) (Finset.sum_congr rfl fun p _ => blk0 m c t p q)

/-- What a point leaves in window 3, at a row and a column of its block. -/
theorem out3_at (c : Dev nD) (t : Fin cfg0.N) (p : Fin 512) (q : Fin 1024) :
    (outsAt0 m c t.val t.isLt).1 (ix2 p q) = LnBwdDzOfAt (m ((c.tc : Thread nD τ).loc main_arg0)) (m ((c.tc : Thread nD τ).loc main_arg1)) (m ((c.tc : Thread nD τ).loc main_arg2)) (t.val * 512 + p.val) q.val := by
  by_cases h0 : t.val % 16 = 0
  · rw [outsAt0_A m c t h0]
    dsimp only
    rw [out0_A_3_eq]
    exact dz_at m c t p q
  · rw [outsAt0_B m c t h0]
    dsimp only
    rw [out0_B_3_eq]
    exact dz_at m c t p q

/-- What a point leaves in window 4, at a row and a column of its block. -/
theorem out4_at (c : Dev nD) (t : Fin cfg0.N) (p : Fin 512) (q : Fin 1024) :
    (outsAt0 m c t.val t.isLt).2.1 (ix2 p q) = LnBwdDzOfAt (m ((c.tc : Thread nD τ).loc main_arg0)) (m ((c.tc : Thread nD τ).loc main_arg1)) (m ((c.tc : Thread nD τ).loc main_arg2)) (t.val * 512 + p.val) q.val := by
  by_cases h0 : t.val % 16 = 0
  · rw [outsAt0_A m c t h0]
    dsimp only
    rw [out0_A_4_eq]
    exact dz_at m c t p q
  · rw [outsAt0_B m c t h0]
    dsimp only
    rw [out0_B_4_eq]
    exact dz_at m c t p q

/-- The array the run leaves in window 3. -/
theorem final3 (c : Dev nD) : (dats m 0 c).arrAt 3 cfg0.N = LnBwdDzOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  have hp : (i 0).val / 512 < cfg0.N := lt_of_lt_of_eq (by omega) N_0.symm
  have hb := congrFun (blocks3 m c ⟨(i 0).val / 512, hp⟩ (flush0_3 _)) (ix2 (⟨(i 0).val % 512, by omega⟩ : Fin 512) (⟨(i 1).val, h1⟩ : Fin 1024))
  rw [View.read_apply, flushed3] at hb
  have e : ((cfg0.win 3).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_3.index ⟨(i 0).val / 512, hp⟩ 0 * 512 + 1 * ((i 0).val % 512) = (i 0).val; rw [(ixw3 _).1]; show (i 0).val / 512 * 512 + 1 * ((i 0).val % 512) = (i 0).val; omega
    | ⟨1, _⟩ => show win0_3.index ⟨(i 0).val / 512, hp⟩ 1 * 1024 + 1 * (i 1).val = (i 1).val; rw [(ixw3 _).2]; omega
  refine (congrArg ((dats m 0 c).arrAt 3 cfg0.N) e.symm).trans (hb.trans ?_)
  have e0 : (i 0).val / 512 * 512 + (i 0).val % 512 = (i 0).val := by omega
  refine (show _ = ((outsAt0 m c ((i 0).val / 512) hp).1) (ix2 (⟨(i 0).val % 512, by omega⟩ : Fin 512) (⟨(i 1).val, h1⟩ : Fin 1024)) from rfl).trans ?_
  refine (out3_at m c ⟨(i 0).val / 512, hp⟩ _ _).trans ?_
  show LnBwdDzOfAt (m ((c.tc : Thread nD τ).loc main_arg0)) (m ((c.tc : Thread nD τ).loc main_arg1)) (m ((c.tc : Thread nD τ).loc main_arg2)) ((i 0).val / 512 * 512 + (i 0).val % 512) (i 1).val = LnBwdDzOfAt (m ((c.tc : Thread nD τ).loc main_arg0)) (m ((c.tc : Thread nD τ).loc main_arg1)) (m ((c.tc : Thread nD τ).loc main_arg2)) (i 0).val (i 1).val
  rw [e0]

/-- The array the run leaves in window 4. -/
theorem final4 (c : Dev nD) : (dats m 0 c).arrAt 4 cfg0.N = LnBwdDzNarrowOf (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  have hp : (i 0).val / 512 < cfg0.N := lt_of_lt_of_eq (by omega) N_0.symm
  have hb := congrFun (blocks4 m c ⟨(i 0).val / 512, hp⟩ (flush0_4 _)) (ix2 (⟨(i 0).val % 512, by omega⟩ : Fin 512) (⟨(i 1).val, h1⟩ : Fin 1024))
  rw [View.read_apply, flushed4] at hb
  have e : ((cfg0.win 4).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_4.index ⟨(i 0).val / 512, hp⟩ 0 * 512 + 1 * ((i 0).val % 512) = (i 0).val; rw [(ixw4 _).1]; show (i 0).val / 512 * 512 + 1 * ((i 0).val % 512) = (i 0).val; omega
    | ⟨1, _⟩ => show win0_4.index ⟨(i 0).val / 512, hp⟩ 1 * 1024 + 1 * (i 1).val = (i 1).val; rw [(ixw4 _).2]; omega
  refine (congrArg ((dats m 0 c).arrAt 4 cfg0.N) e.symm).trans (hb.trans ?_)
  have e0 : (i 0).val / 512 * 512 + (i 0).val % 512 = (i 0).val := by omega
  refine (show _ = ((outsAt0 m c ((i 0).val / 512) hp).2.1) (ix2 (⟨(i 0).val % 512, by omega⟩ : Fin 512) (⟨(i 1).val, h1⟩ : Fin 1024)) from rfl).trans ?_
  refine (out4_at m c ⟨(i 0).val / 512, hp⟩ _ _).trans ?_
  show LnBwdDzOfAt (m ((c.tc : Thread nD τ).loc main_arg0)) (m ((c.tc : Thread nD τ).loc main_arg1)) (m ((c.tc : Thread nD τ).loc main_arg2)) ((i 0).val / 512 * 512 + (i 0).val % 512) (i 1).val = LnBwdDzOfAt (m ((c.tc : Thread nD τ).loc main_arg0)) (m ((c.tc : Thread nD τ).loc main_arg1)) (m ((c.tc : Thread nD τ).loc main_arg2)) (i 0).val (i 1).val
  rw [e0]

/-- One point's part of the scale's gradient. -/
abbrev term5 (c : Dev nD) (q : Fin 1024) (s : ℕ) : EReal := ∑ p : Fin 512, LnBwdDgTerm (m ((c.tc : Thread nD τ).loc main_arg0)) (m ((c.tc : Thread nD τ).loc main_arg1)) (s * 512 + p.val) q

/-- After each point the scale's gradient holds the sum over the tiles of rows seen. -/
theorem acc5 (c : Dev nD) (n : ℕ) (hn : n < cfg0.N) (q : Fin 1024) :
    (outsAt0 m c n hn).2.2.1 (ix2 0 q) = ∑ s ∈ Finset.range (n + 1), term5 m c q s := by
  induction n with
  | zero =>
    rw [outsAt0_A m c ⟨0, hn⟩ rfl]
    dsimp only
    rw [out0_A_5_eq, step5, pay3_at, zero_add]
    exact (Finset.sum_range_one (fun s => term5 m c q s)).symm
  | succ n ih =>
    have hN : n + 1 < 16 := lt_of_lt_of_eq hn N_0
    rw [outsAt0_B m c ⟨n + 1, hn⟩ (by show ¬(n + 1) % 16 = 0; omega)]
    dsimp only
    rw [out0_B_5_eq, step5]
    refine (congrArg (· + term5 m c q (n + 1)) (ih (Nat.lt_of_succ_lt hn))).trans ?_
    exact (Finset.sum_range_succ _ (n + 1)).symm

/-- The block is written back at the last point alone. -/
theorem flush5_last : ∀ t : Fin grid0.N, (cfg0.win 5).flush t = true ↔ t.val = 15 := by decide +kernel

/-- The array the run leaves in window 5. -/
theorem final5 (c : Dev nD) : (dats m 0 c).arrAt 5 cfg0.N = LnBwdDgOf (m ((c.tc : Thread nD τ).loc main_arg0)) (m ((c.tc : Thread nD τ).loc main_arg1)) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 5).flush t = true → (cfg0.win 5).flush t' = true → t ≠ t' →
      Disjoint ((cfg0.win 5).blk t).view.set ((cfg0.win 5).blk t').view.set :=
    fun t t' h h' hne => absurd (Fin.ext (((flush5_last t).1 h).trans ((flush5_last t').1 h').symm)) hne
  have hb := congrFun ((dats m 0 c).read_blk_arrAt_eq_flushed 5 hd cfg0.N ⟨n, hp⟩ hp ((flush5_last _).2 hn)) (ix2 (0 : Fin 1) (⟨(i 1).val, h1⟩ : Fin 1024))
  rw [View.read_apply, flushed5] at hb
  have e : ((cfg0.win 5).blk ⟨n, hp⟩).view.emb (ix2 (0 : Fin 1) (⟨(i 1).val, h1⟩ : Fin 1024)) = i := by
    funext b; apply Fin.ext
    match b with
    | ⟨0, _⟩ => show win0_5.index ⟨n, hp⟩ 0 * 1 + 1 * 0 = (i 0).val; rw [(ixw5 _).1]; omega
    | ⟨1, _⟩ => show win0_5.index ⟨n, hp⟩ 1 * 1024 + 1 * (i 1).val = (i 1).val; rw [(ixw5 _).2]; omega
  refine (congrArg ((dats m 0 c).arrAt 5 cfg0.N) e.symm).trans (hb.trans ?_)
  refine (show _ = ((outsAt0 m c n hp).2.2.1) (ix2 (0 : Fin 1) (⟨(i 1).val, h1⟩ : Fin 1024)) from rfl).trans ?_
  refine (acc5 m c n hp _).trans ?_
  rw [hn]
  exact sum_tiles 16 512 (fun r => LnBwdDgTerm (m ((c.tc : Thread nD τ).loc main_arg0)) (m ((c.tc : Thread nD τ).loc main_arg1)) r (i 1))

/-- One point's part of the shift's gradient. -/
abbrev term6 (c : Dev nD) (q : Fin 1024) (s : ℕ) : EReal := ∑ p : Fin 512, LnBwdRow (m ((c.tc : Thread nD τ).loc main_arg0)) (s * 512 + p.val) q

/-- After each point the shift's gradient holds the sum over the tiles of rows seen. -/
theorem acc6 (c : Dev nD) (n : ℕ) (hn : n < cfg0.N) (q : Fin 1024) :
    (outsAt0 m c n hn).2.2.2 (ix2 0 q) = ∑ s ∈ Finset.range (n + 1), term6 m c q s := by
  induction n with
  | zero =>
    rw [outsAt0_A m c ⟨0, hn⟩ rfl]
    dsimp only
    rw [out0_A_6_eq, step6, pay4_at, zero_add]
    exact (Finset.sum_range_one (fun s => term6 m c q s)).symm
  | succ n ih =>
    have hN : n + 1 < 16 := lt_of_lt_of_eq hn N_0
    rw [outsAt0_B m c ⟨n + 1, hn⟩ (by show ¬(n + 1) % 16 = 0; omega)]
    dsimp only
    rw [out0_B_6_eq, step6]
    refine (congrArg (· + term6 m c q (n + 1)) (ih (Nat.lt_of_succ_lt hn))).trans ?_
    exact (Finset.sum_range_succ _ (n + 1)).symm

/-- The block is written back at the last point alone. -/
theorem flush6_last : ∀ t : Fin grid0.N, (cfg0.win 6).flush t = true ↔ t.val = 15 := by decide +kernel

/-- The array the run leaves in window 6. -/
theorem final6 (c : Dev nD) : (dats m 0 c).arrAt 6 cfg0.N = LnBwdDbOf (m ((c.tc : Thread nD τ).loc main_arg0)) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 6).flush t = true → (cfg0.win 6).flush t' = true → t ≠ t' →
      Disjoint ((cfg0.win 6).blk t).view.set ((cfg0.win 6).blk t').view.set :=
    fun t t' h h' hne => absurd (Fin.ext (((flush6_last t).1 h).trans ((flush6_last t').1 h').symm)) hne
  have hb := congrFun ((dats m 0 c).read_blk_arrAt_eq_flushed 6 hd cfg0.N ⟨n, hp⟩ hp ((flush6_last _).2 hn)) (ix2 (0 : Fin 1) (⟨(i 1).val, h1⟩ : Fin 1024))
  rw [View.read_apply, flushed6] at hb
  have e : ((cfg0.win 6).blk ⟨n, hp⟩).view.emb (ix2 (0 : Fin 1) (⟨(i 1).val, h1⟩ : Fin 1024)) = i := by
    funext b; apply Fin.ext
    match b with
    | ⟨0, _⟩ => show win0_6.index ⟨n, hp⟩ 0 * 1 + 1 * 0 = (i 0).val; rw [(ixw6 _).1]; omega
    | ⟨1, _⟩ => show win0_6.index ⟨n, hp⟩ 1 * 1024 + 1 * (i 1).val = (i 1).val; rw [(ixw6 _).2]; omega
  refine (congrArg ((dats m 0 c).arrAt 6 cfg0.N) e.symm).trans (hb.trans ?_)
  refine (show _ = ((outsAt0 m c n hp).2.2.2) (ix2 (0 : Fin 1) (⟨(i 1).val, h1⟩ : Fin 1024)) from rfl).trans ?_
  refine (acc6 m c n hp _).trans ?_
  rw [hn]
  exact sum_tiles 16 512 (fun r => LnBwdRow (m ((c.tc : Thread nD τ).loc main_arg0)) r (i 1))

/-- What the run ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v1_0) = LnBwdDzOf (m ((c.tc : Thread nD τ).loc main_arg0)) (m ((c.tc : Thread nD τ).loc main_arg1)) (m ((c.tc : Thread nD τ).loc main_arg2))
      ∧ r.2.mem ((c.tc : Thread nD τ).loc main_v1_1) = LnBwdDzNarrowOf (m ((c.tc : Thread nD τ).loc main_arg0)) (m ((c.tc : Thread nD τ).loc main_arg1)) (m ((c.tc : Thread nD τ).loc main_arg2))
      ∧ r.2.mem ((c.tc : Thread nD τ).loc main_v1_2) = LnBwdDgOf (m ((c.tc : Thread nD τ).loc main_arg0)) (m ((c.tc : Thread nD τ).loc main_arg1))
      ∧ r.2.mem ((c.tc : Thread nD τ).loc main_v1_3) = LnBwdDbOf (m ((c.tc : Thread nD τ).loc main_arg0))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun r h c => ⟨(h c).1.trans (final3 m c), (h c).2.1.trans (final4 m c), (h c).2.2.1.trans (final5 m c), (h c).2.2.2.1.trans (final6 m c), (h c).2.2.2.2⟩)
    (run_blocks m ρ)

end Cert.LnBwdIdeal.Value

end
-- ==== Proof.LnBwdRef.lean ====
/- The reference of the normalisation's backward step: the same gradient where the output's gradient times the scale is finite, the same two sums, and the two runs together. -/
module

public import proofs.«01_k».proof.Proof.RowNormGrad
public import proofs.«01_k».proof.Proof.LnBwdRun
public import proofs.«01_k».proof.Proof.Gen.LnBwdRefIdeal.Run
public import proofs.«01_k».proof.Proof.Gen.LnBwdRefIdeal.Read
public import proofs.«01_k».proof.Proof.Gen.Pre_finite
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LnBwdRefIdeal.Value

open Cert.LnBwdRefIdeal Cert.LnBwdRefIdeal.Gen Cert.LnBwdRefIdeal.Read Products

variable (x0 x1 : Vec Ideal S8192x1024 .f32) (x2 : Vec Ideal S1024 .f32)

/-- A row of an array of rows. -/
def row (x : Vec Ideal S8192x1024 .f32) (r : Fin 8192) (k : Fin 1024) : EReal := x (ix2 r k)

/-- The scale, as a row. -/
def scl (k : Fin 1024) : EReal := x2 (ix1 k)

/-- A row read through the row's number. -/
theorem row_eq (x : Vec Ideal S8192x1024 .f32) (r : Fin 8192) : row x r = LnBwdRow x r.val := by
  funext k
  have hr := r.isLt; have hk := k.isLt
  show x _ = x _
  congr 1; funext b; apply Fin.ext
  match b with
  | ⟨0, _⟩ => show r.val = r.val % 8192; omega
  | ⟨1, _⟩ => show k.val = k.val % 1024; omega

/-- The reference's mean. -/
theorem mean_at (i : S8192x1.Idx) : val_main_v4 (F := Ideal) x1 i = RowNorm.mean (row x1 (i 0)) := by
  rw [val_main_v4_apply, val_main_v3_apply, val_main_cst_1_apply, val_main_v2_apply, val_main_v1_apply]
  refine congrArg (fun z : EReal => Ideal.div z (FloatOps.ofBits (F := Ideal) .f32 0x44800000#32)) ?_
  rw [show val_main_cst_0 (F := Ideal) (Shape.Idx.first h_S_) = (0 : EReal) from zero_const _, zero_add]
  exact Finset.sum_congr rfl fun k _ => congrArg x1 (eq_ix2 _)

/-- The reference's rows less their means. -/
theorem dev_at (i : S8192x1024.Idx) : val_main_v6 (F := Ideal) x1 i = RowNorm.dev (row x1 (i 0)) (i 1) := by
  rw [val_main_v6_apply, val_main_v5_apply, mean_at]
  exact congrArg (fun z : EReal => z - RowNorm.mean (row x1 (i 0))) (congrArg x1 (eq_ix2 i))

/-- The reference's rows less their means, computed again. -/
theorem dev_at' (i : S8192x1024.Idx) : val_main_v15 (F := Ideal) x1 i = RowNorm.dev (row x1 (i 0)) (i 1) := by
  rw [val_main_v15_apply, val_main_v14_apply, mean_at]
  exact congrArg (fun z : EReal => z - RowNorm.mean (row x1 (i 0))) (congrArg x1 (eq_ix2 i))

/-- The reference's variance with the small number added. -/
theorem var_at (i : S8192x1.Idx) : val_main_v17 (F := Ideal) x1 i
    = RowNorm.mean (fun q => RowNorm.dev (row x1 (i 0)) q * RowNorm.dev (row x1 (i 0)) q) + FloatOps.ofBits (F := Ideal) .f32 0x3727C5AC#32 := by
  rw [val_main_v17_apply, val_main_v16_apply, val_main_cst_5_apply, val_main_v13_apply, val_main_v12_apply,
    val_main_cst_4_apply, val_main_v11_apply, val_main_v10_apply]
  refine congrArg (fun z : EReal => Ideal.div z (FloatOps.ofBits (F := Ideal) .f32 0x44800000#32) + FloatOps.ofBits (F := Ideal) .f32 0x3727C5AC#32) ?_
  rw [show val_main_cst_3 (F := Ideal) (Shape.Idx.first h_S_) = (0 : EReal) from zero_const _, zero_add]
  refine Finset.sum_congr rfl fun k _ => ?_
  rw [val_main_v7_apply, dev_at]
  rfl

/-- The reference's reciprocal standard deviation. -/
theorem inv_at (i : S8192x1.Idx) : val_main_v18 (F := Ideal) x1 i = RowNorm.inv (row x1 (i 0)) := by
  rw [val_main_v18_apply, var_at]
  rfl

/-- The output's gradient. -/
theorem d_at (i : S8192x1024.Idx) : val_main_v30 (F := Ideal) x0 i = row x0 (i 0) (i 1) := by
  have h0 : (i 0).val < 8192 := (i 0).isLt
  have h1 : (i 1).val < 1024 := (i 1).isLt
  rw [val_main_v30_apply]
  show x0 _ = x0 _
  congr 1; funext b; apply Fin.ext
  match b with
  | ⟨0, _⟩ => show ((i 0).val * 1024 + (i 1).val) / 1024 = (i 0).val; omega
  | ⟨1, _⟩ => show ((i 0).val * 1024 + (i 1).val) % 1024 = (i 1).val; omega

/-- The output's gradient times the scale. -/
theorem t_at (i : S8192x1024.Idx) : val_main_v38 (F := Ideal) x0 x2 i = row x0 (i 0) (i 1) * scl x2 (i 1) := by
  rw [val_main_v38_apply, d_at, val_main_v37_apply, val_main_v24_apply]
  exact congrArg (fun z : EReal => row x0 (i 0) (i 1) * z) (congrArg x2 (eq_ix1 _))

/-- What reaches the row directly. -/
theorem direct_at (i : S8192x1024.Idx) : val_main_v44 (F := Ideal) x0 x1 x2 i = row x0 (i 0) (i 1) * scl x2 (i 1) * RowNorm.inv (row x1 (i 0)) := by
  rw [val_main_v44_apply, t_at, val_main_v43_apply, inv_at]
  rfl

/-- What reaches the row through its variance, at the row's column. -/
theorem var_part (i : S8192x1.Idx) : val_main_v50 (F := Ideal) x0 x1 x2 i = RowNorm.viaVar (row x0 (i 0)) (row x1 (i 0)) (scl x2) := by
  rw [val_main_v50_apply, val_main_v49_apply, val_main_cst_13_apply, val_main_v45_apply, val_main_v42_apply, val_main_v41_apply, val_main_v21_apply,
    val_main_v20_apply, val_main_cst_6_apply, val_main_v19_apply, var_at, inv_at]
  rw [show val_main_cst_11 (F := Ideal) (Shape.Idx.first h_S_) = (0 : EReal) from zero_const _, zero_add]
  refine congrArg (fun z : EReal => Ideal.div (z * _) (FloatOps.ofBits (F := Ideal) .f32 0x44800000#32)) ?_
  refine Finset.sum_congr rfl fun k _ => ?_
  rw [val_main_v40_apply, dev_at', t_at]
  have e : (idx_main_v41 (idx_main_v42 i) k) = ix2 (i 0) k := by
    have h1 : (i 1).val < 1 := (i 1).isLt
    funext b; apply Fin.ext
    match b with
    | ⟨0, _⟩ => show (i 0).val * 1 + (i 1).val = (i 0).val; omega
    | ⟨1, _⟩ => rfl
  rw [e]
  rfl

/-- What reaches the row through its variance. -/
theorem var_at_row (i : S8192x1024.Idx) : val_main_v53 (F := Ideal) x0 x1 x2 i
    = RowNorm.viaVar (row x0 (i 0)) (row x1 (i 0)) (scl x2) * (FloatOps.ofBits (F := Ideal) .f32 0x40000000#32 * RowNorm.dev (row x1 (i 0)) (i 1)) := by
  rw [val_main_v53_apply, val_main_v9_apply, val_main_v8_apply, val_main_cst_2_apply, dev_at, val_main_v52_apply, val_main_v51_apply]
  rw [show val_main_cst_14 (F := Ideal) (Shape.Idx.first h_S_) = (0 : EReal) from zero_const _, zero_add, Fin.sum_univ_one, var_part]
  rfl

/-- The reference's gradient by the chain rule. -/
theorem chain_at (i : S8192x1024.Idx) : val_main_v63 (F := Ideal) x0 x1 x2 i = RowNorm.chain (row x0 (i 0)) (row x1 (i 0)) (scl x2) (i 1) := by
  have e47 (k : Fin 1024) : val_main_v46 (F := Ideal) x0 x1 x2 (ix2 (i 0) k) = -(row x0 (i 0) k * scl x2 k * RowNorm.inv (row x1 (i 0))) := by
    rw [val_main_v46_apply, direct_at]; rfl
  have e55 (k : Fin 1024) : val_main_v54 (F := Ideal) x0 x1 x2 (ix2 (i 0) k)
      = -(RowNorm.viaVar (row x0 (i 0)) (row x1 (i 0)) (scl x2) * (FloatOps.ofBits (F := Ideal) .f32 0x40000000#32 * RowNorm.dev (row x1 (i 0)) k)) := by
    rw [val_main_v54_apply, var_at_row]; rfl
  rw [val_main_v63_apply, val_main_v57_apply, direct_at, var_at_row, val_main_v62_apply, val_main_v61_apply]
  rw [show val_main_cst_17 (F := Ideal) (Shape.Idx.first h_S_) = (0 : EReal) from zero_const _, zero_add, Fin.sum_univ_one, val_main_v60_apply,
    val_main_v59_apply, val_main_cst_16_apply, val_main_v58_apply, val_main_v48_apply, val_main_v56_apply, val_main_v47_apply, val_main_v55_apply]
  rw [show val_main_cst_12 (F := Ideal) (Shape.Idx.first h_S_) = (0 : EReal) from zero_const _, zero_add,
    show val_main_cst_15 (F := Ideal) (Shape.Idx.first h_S_) = (0 : EReal) from zero_const _, zero_add]
  unfold RowNorm.chain
  have e (k : Fin 1024) : idx_main_v47 (idx_main_v48 (idx_main_v61 (idx_main_v62 i) 0)) k = ix2 (i 0) k := by
    funext b; apply Fin.ext
    match b with
    | ⟨0, _⟩ => show (i 0).val * 1 + 0 = (i 0).val; omega
    | ⟨1, _⟩ => rfl
  refine congr (congrArg (fun a b : EReal => a + b) rfl) (congrArg (fun z : EReal => Ideal.div z (FloatOps.ofBits (F := Ideal) .f32 0x44800000#32)) ?_)
  refine congr (congrArg (fun a b : EReal => a + b) ?_) ?_
  · exact Finset.sum_congr rfl fun k _ => (congrArg (val_main_v46 (F := Ideal) x0 x1 x2) (e k)).trans (e47 k)
  · exact Finset.sum_congr rfl fun k _ => (congrArg (val_main_v54 (F := Ideal) x0 x1 x2) (e k)).trans (e55 k)

/-- An entry whose magnitude is below infinity is neither infinity. -/
theorem not_inf (x : EReal) (h : Ideal.cmp .olt (max x (-x)) (FloatOps.ofBits (F := Ideal) .f32 0x7F800000#32) = 1#1) : x ≠ ⊤ ∧ x ≠ ⊥ := by
  have e : FloatOps.ofBits (F := Ideal) .f32 0x7F800000#32 = (⊤ : EReal) := by simp [Ideal.ofBits, Ideal.ieee]
  rw [e] at h
  constructor
  · rintro rfl; simp [Ideal.cmp] at h
  · rintro rfl; simp [Ideal.cmp] at h

/-- The reference's gradient, where the output's gradient times the scale is finite, is the closed form. -/
theorem v63_eq (h : ∀ (r : Fin 8192) (k : Fin 1024), row x0 r k * scl x2 k ≠ ⊤ ∧ row x0 r k * scl x2 k ≠ ⊥) :
    val_main_v63 (F := Ideal) x0 x1 x2 = LnBwdDzOf x0 x1 x2 := by
  funext i
  have e1 : Fin.ofNat 1024 (i 1).val = i 1 := Fin.ext (Nat.mod_eq_of_lt (i 1).isLt)
  refine (chain_at x0 x1 x2 i).trans ((RowNorm.chain_eq _ _ _ (h (i 0)) (i 1)).trans ?_)
  show _ = RowNorm.grad (LnBwdRow x0 (i 0).val) (LnBwdRow x1 (i 0).val) (fun k => x2 (ix1 k)) (Fin.ofNat 1024 (i 1).val)
  rw [e1]
  exact congr (congrFun (congr (congrArg RowNorm.grad (row_eq x0 (i 0))) (row_eq x1 (i 0))) (scl x2)) rfl

/-- The reference's gradient, where the output's gradient times the scale is finite, in the narrow type. -/
theorem v64_eq (h : ∀ (r : Fin 8192) (k : Fin 1024), row x0 r k * scl x2 k ≠ ⊤ ∧ row x0 r k * scl x2 k ≠ ⊥) :
    val_main_v64 (F := Ideal) x0 x1 x2 = LnBwdDzNarrowOf x0 x1 x2 := by
  funext i
  rw [val_main_v64_apply]
  exact congrFun (v63_eq x0 x1 x2 h) i

/-- A row's part of the reference's gradient of the scale. -/
theorem dg_at (r : Fin 8192) (q : Fin 1024) : val_main_v34 (F := Ideal) x0 x1 (ix2 r q) = LnBwdDgTerm x0 x1 r.val q := by
  rw [val_main_v34_apply, d_at, val_main_v23_apply, dev_at', val_main_v22_apply, inv_at]
  refine (mul_comm (RowNorm.dev (row x1 r) q * RowNorm.inv (row x1 r)) (row x0 r q)).trans ?_
  rw [row_eq, row_eq]
  rfl

/-- The reference's gradient of the scale. -/
theorem v65_eq : val_main_v65 (F := Ideal) x0 x1 = LnBwdDgOf x0 x1 := by
  funext i
  have h1 : (i 1).val < 1024 := (i 1).isLt
  rw [val_main_v65_apply, val_main_v39_apply,
    show val_main_cst_10 (F := Ideal) (Shape.Idx.first h_S_) = (0 : EReal) from zero_const _, zero_add, Fin.sum_univ_one, val_main_v36_apply,
    val_main_v35_apply, show val_main_cst_9 (F := Ideal) (Shape.Idx.first h_S_) = (0 : EReal) from zero_const _, zero_add]
  refine Finset.sum_congr rfl fun r _ => ?_
  have e : idx_main_v35 (idx_main_v36 (idx_main_v39 (idx_main_v65 i) 0)) r = ix2 r (i 1) := by
    funext b; apply Fin.ext
    match b with
    | ⟨0, _⟩ => rfl
    | ⟨1, _⟩ => show 0 * 1024 + (i 1).val = (i 1).val; omega
  exact (congrArg (val_main_v34 (F := Ideal) x0 x1) e).trans (dg_at x0 x1 r (i 1))

/-- The reference's gradient of the shift. -/
theorem v66_eq : val_main_v66 (F := Ideal) x0 = LnBwdDbOf x0 := by
  funext i
  have h1 : (i 1).val < 1024 := (i 1).isLt
  rw [val_main_v66_apply, val_main_v33_apply,
    show val_main_cst_8 (F := Ideal) (Shape.Idx.first h_S_) = (0 : EReal) from zero_const _, zero_add, Fin.sum_univ_one, val_main_v32_apply,
    val_main_v31_apply, show val_main_cst_7 (F := Ideal) (Shape.Idx.first h_S_) = (0 : EReal) from zero_const _, zero_add]
  refine Finset.sum_congr rfl fun r _ => ?_
  have e : idx_main_v31 (idx_main_v32 (idx_main_v33 (idx_main_v66 i) 0)) r = ix2 r (i 1) := by
    funext b; apply Fin.ext
    match b with
    | ⟨0, _⟩ => rfl
    | ⟨1, _⟩ => show 0 * 1024 + (i 1).val = (i 1).val; omega
  rw [e]
  exact congrFun (row_eq x0 r) (i 1)

variable (m : (ℓ : Loc nD τ sig) → Buf (Elt Ideal) ℓ) (ρ : Dev nD → PrngReg)

/-- The reference ends with its arguments as they were; it declares no semaphore. -/
theorem ends : Cert.quiescent_LnBwdRefIdeal := fun m ρ _ =>
  (θ_run _ _ _).mono (fun _ h => ⟨fun c => (h c).2.2.2.2, funext fun g => nomatch g.2⟩) (Cert.LnBwdRefIdeal.Value.run m ρ)

/-- The reference ends with its arguments as they were, under the precondition too. -/
theorem ends_finite : Cert.quiescent_LnBwdRefIdeal_pre_finite := fun m ρ _ =>
  (θ_run _ _ _).mono (fun _ h => ⟨fun c => (h c).2.2.2.2, funext fun g => nomatch g.2⟩) (Cert.LnBwdRefIdeal.Value.run m ρ)

/-- What the reference ends holding where the output's gradient times the scale is finite, as a function of its arguments, and its arguments as they were. -/
theorem run_value (hf : ∀ (c : Dev nD) (r : Fin 8192) (k : Fin 1024), row (m ((c.tc : Thread nD τ).loc main_arg0)) r k * scl (m ((c.tc : Thread nD τ).loc main_arg2)) k ≠ ⊤ ∧ row (m ((c.tc : Thread nD τ).loc main_arg0)) r k * scl (m ((c.tc : Thread nD τ).loc main_arg2)) k ≠ ⊥) :
    θ_run defs (onTc (τ := τ) (main (F := Ideal))) ⟨m, fun _ => 0, ρ⟩ fun r => ∀ c : Dev nD,
      r.2.mem ((c.tc : Thread nD τ).loc main_v63) = LnBwdDzOf (m ((c.tc : Thread nD τ).loc main_arg0)) (m ((c.tc : Thread nD τ).loc main_arg1)) (m ((c.tc : Thread nD τ).loc main_arg2))
      ∧ r.2.mem ((c.tc : Thread nD τ).loc main_v64) = LnBwdDzNarrowOf (m ((c.tc : Thread nD τ).loc main_arg0)) (m ((c.tc : Thread nD τ).loc main_arg1)) (m ((c.tc : Thread nD τ).loc main_arg2))
      ∧ r.2.mem ((c.tc : Thread nD τ).loc main_v65) = LnBwdDgOf (m ((c.tc : Thread nD τ).loc main_arg0)) (m ((c.tc : Thread nD τ).loc main_arg1))
      ∧ r.2.mem ((c.tc : Thread nD τ).loc main_v66) = LnBwdDbOf (m ((c.tc : Thread nD τ).loc main_arg0))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c => ⟨(h c).1.trans ((val_main_v63_eq m c).trans (v63_eq _ _ _ (hf c))),
    (h c).2.1.trans ((val_main_v64_eq m c).trans (v64_eq _ _ _ (hf c))),
    (h c).2.2.1.trans ((val_main_v65_eq _ _).trans (v65_eq _ _)), (h c).2.2.2.1.trans ((val_main_v66_eq _).trans (v66_eq _)), (h c).2.2.2.2⟩)
    (run m ρ)

end Cert.LnBwdRefIdeal.Value

/-- The kernel ends with its arguments as they were, under the precondition too. -/
theorem LnBwd_ends_finite : Cert.quiescent_LnBwdIdeal_pre_finite := fun m ρ _ => Cert.LnBwdIdeal.Gen.frame m ρ

/-- Where the output's gradient times the scale is finite the kernel's value and the reference's agree, over the ideal reals. -/
theorem LnBwd_value : Cert.algebraic_LnBwdIdeal_LnBwdRefIdeal_pre_finite :=
  fun m g m' g' hp h => ⟨fun c => LnBwdDzOf (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)), fun c => LnBwdDzNarrowOf (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)), fun c => LnBwdDgOf (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)), fun c => LnBwdDbOf (m ((c.tc : Thread Cert.LnBwdIdeal.nD Cert.LnBwdIdeal.τ).loc Cert.LnBwdIdeal.main_arg0)),
    Cert.LnBwdIdeal.Value.run_value m g,
    (θ_run _ _ _).mono (fun r hr c => by
      have hc := hr c
      obtain ⟨a0, a1, a2⟩ := h c
      exact ⟨hc.1.trans (by rw [a0, a1, a2] <;> rfl), hc.2.1.trans (by rw [a0, a1, a2] <;> rfl), hc.2.2.1.trans (by rw [a0, a1] <;> rfl),
        hc.2.2.2.1.trans (by rw [a0] <;> rfl), hc.2.2.2.2⟩)
      (Cert.LnBwdRefIdeal.Value.run_value m' g'
        (fun c r k => by
          obtain ⟨a0, _, a2⟩ := h c
          rw [a0, a2]
          exact Cert.LnBwdRefIdeal.Value.not_inf _ ((congrArg (fun z : EReal => Ideal.cmp .olt (max z (-z)) (FloatOps.ofBits (F := Ideal) .f32 0x7F800000#32))
            (congrArg (fun z : EReal => Cert.LnBwdRefIdeal.Value.row (m ((c.tc : Thread Cert.LnBwdIdeal.nD Cert.LnBwdIdeal.τ).loc Cert.LnBwdIdeal.main_arg0)) r k * z) (congrArg (m ((c.tc : Thread Cert.LnBwdIdeal.nD Cert.LnBwdIdeal.τ).loc Cert.LnBwdIdeal.main_arg2)) (eq_ix1 _)).symm)).trans (congrFun (hp c) (ix2 r k)))))⟩

end
-- ==== Proof.LnLossRun.lean ====
/- The gradient of the loss and of the normalisation before it: the kernel takes the output less its target, leaves the rows'
   gradient twice, the gradients of the scale and of the shift summed over every row, and the loss. -/
module

public import proofs.«01_k».proof.Proof.LnBwdRun
public import proofs.«01_k».proof.Proof.Gen.LnLossIdeal.Frame
public import Idealize.ShloMosaic.Lib.Pipeline.Value

@[expose] public section

set_option maxRecDepth 16384
set_option maxHeartbeats 1000000

noncomputable section

open Idealize.ShloMosaic Idealize.ShloMosaic.TcCoe Idealize.SL.Sem Idealize.ShloMosaic.ValueIdx
open scoped BigOperators

/-- The loss's gradient at the output: the output less its target, over the width. -/
def LnLossDy (y t : Vec Ideal ⟨2, ![8192, 1024]⟩ .f32) : Vec Ideal ⟨2, ![8192, 1024]⟩ .f32 := fun i =>
  (y i - t i) * FloatOps.ofBits (F := Ideal) .f32 0x3A800000#32

/-- The loss's part at a row and a column: half the square of the output less its target, over the width. -/
def LnLossSq (y t : Vec Ideal ⟨2, ![8192, 1024]⟩ .f32) (r : ℕ) (q : Fin 1024) : EReal :=
  (LnBwdRow y r q - LnBwdRow t r q) * (LnBwdRow y r q - LnBwdRow t r q) * FloatOps.ofBits (F := Ideal) .f32 0x3A000000#32

/-- The loss's parts, summed over the rows. -/
def LnLossPartsOf (y t : Vec Ideal ⟨2, ![8192, 1024]⟩ .f32) : Vec Ideal ⟨2, ![1, 1024]⟩ .f32 := fun i =>
  ∑ r : Fin 8192, LnLossSq y t r.val (i 1)

/-- The loss: the sum of its parts over the rows and the columns. -/
def LnLossOf (y t : Vec Ideal ⟨2, ![8192, 1024]⟩ .f32) : Vec Ideal ⟨0, ![]⟩ .f32 := fun _ =>
  ∑ q : Fin 1024, ∑ r : Fin 8192, LnLossSq y t r.val q

namespace Cert.LnLossIdeal.Value

open Cert.LnLossIdeal Cert.LnLossIdeal.Gen Products

theorem hz2 : (![0, 0] : Fin 2 → Nat) = fun _ => 0 := funext fun a => by fin_cases a <;> rfl

/-- A square is not negative. -/
theorem sq_nonneg' (x : EReal) : 0 ≤ x * x := by
  rcases le_total 0 x with h | h
  · exact mul_nonneg h h
  · have e : x * x = (-x) * (-x) := (neg_mul_neg x x).symm
    have h' : 0 ≤ -x := by
      have h'' := EReal.neg_le_neg_iff.2 h
      rwa [neg_zero] at h''
    rw [e]
    exact mul_nonneg h' h'

/-- A sum of numbers not negative times a number is the sum of them times it. -/
theorem sum_mul_of_nonneg {ι : Type} (s : Finset ι) (f : ι → EReal) (c : EReal) (h : ∀ i, 0 ≤ f i) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

section Bodies

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)

/-- The first point leaves the rows' gradient. -/
theorem out0_A_4_eq (hc0 : cond0_0 i) (x0 x1 : Vec Ideal S512x1024 .f32) (x2 : Vec Ideal S1x1024 .f32) (x3 : Vec Ideal S512x1024 .f32) :
    out0_A_4 (F := Ideal) c i arg1 harg1 arg2 harg2 arg3 harg3 arg4 harg4 arg5 harg5 arg6 harg6 arg7 harg7 arg8 harg8 arg9 harg9 hc0 x0 x1 x2 x3 = k0_pay3 (F := Ideal) (k0_pay9 (F := Ideal) x0 x3) (k0_pay12 x1) (k0_pay13 x1) x2 := by
  unfold out0_A_4
  rw [View.read_writes_eq_canon _ _ _ (cover0_A_4 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S512x1024) hz2]

/-- The first point leaves it in the narrow type too. -/
theorem out0_A_5_eq (hc0 : cond0_0 i) (x0 x1 : Vec Ideal S512x1024 .f32) (x2 : Vec Ideal S1x1024 .f32) (x3 : Vec Ideal S512x1024 .f32) :
    out0_A_5 (F := Ideal) c i arg1 harg1 arg2 harg2 arg3 harg3 arg4 harg4 arg5 harg5 arg6 harg6 arg7 harg7 arg8 harg8 arg9 harg9 hc0 x0 x1 x2 x3 = k0_pay4 (F := Ideal) (k0_pay9 (F := Ideal) x0 x3) (k0_pay12 x1) (k0_pay13 x1) x2 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S512x1024) hz2]

/-- The first point starts the scale's gradient from zero. -/
theorem out0_A_6_eq (hc0 : cond0_0 i) (x0 x1 : Vec Ideal S512x1024 .f32) (x2 : Vec Ideal S1x1024 .f32) (x3 : Vec Ideal S512x1024 .f32) :
    out0_A_6 (F := Ideal) c i arg1 harg1 arg2 harg2 arg3 harg3 arg4 harg4 arg5 harg5 arg6 harg6 arg7 harg7 arg8 harg8 arg9 harg9 hc0 x0 x1 x2 x3 = k0_pay1 (F := Ideal) (k0_pay9 (F := Ideal) x0 x3) (k0_pay13 x1) (k0_pay5 (F := Ideal)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_cons_unit_zero (S := S1x1024) hz2, View.readCov_unit_zero (S := S1x1024) _ hz2]

/-- The first point starts the shift's gradient from zero. -/
theorem out0_A_7_eq (hc0 : cond0_0 i) (x0 x1 : Vec Ideal S512x1024 .f32) (x2 : Vec Ideal S1x1024 .f32) (x3 : Vec Ideal S512x1024 .f32) :
    out0_A_7 (F := Ideal) c i arg1 harg1 arg2 harg2 arg3 harg3 arg4 harg4 arg5 harg5 arg6 harg6 arg7 harg7 arg8 harg8 arg9 harg9 hc0 x0 x1 x2 x3 = k0_pay2 (F := Ideal) (k0_pay9 (F := Ideal) x0 x3) (k0_pay6 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_cons_unit_zero (S := S1x1024) hz2, View.readCov_unit_zero (S := S1x1024) _ hz2]

/-- The first point starts the loss's parts from zero. -/
theorem out0_A_8_eq (hc0 : cond0_0 i) (x0 x1 : Vec Ideal S512x1024 .f32) (x2 : Vec Ideal S1x1024 .f32) (x3 : Vec Ideal S512x1024 .f32) :
    out0_A_8 (F := Ideal) c i arg1 harg1 arg2 harg2 arg3 harg3 arg4 harg4 arg5 harg5 arg6 harg6 arg7 harg7 arg8 harg8 arg9 harg9 hc0 x0 x1 x2 x3 = k0_pay10 (F := Ideal) x0 x3 (k0_pay7 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_cons_unit_zero (S := S1x1024) hz2, View.readCov_unit_zero (S := S1x1024) _ hz2]

/-- A later point leaves the rows' gradient. -/
theorem out0_B_4_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_4 (F := Ideal) c i arg1 harg1 arg2 harg2 arg3 harg3 arg4 harg4 arg5 harg5 arg6 harg6 arg7 harg7 arg8 harg8 arg9 harg9 hc0 x0 x1 x2 x3 xo6 xo7 xo8 = k0_pay3 (F := Ideal) (k0_pay9 (F := Ideal) x0 x3) (k0_pay12 x1) (k0_pay13 x1) x2 := by
  unfold out0_B_4
  rw [View.read_writes_eq_canon _ _ _ (cover0_B_4 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S512x1024) hz2]

/-- A later point leaves it in the narrow type too. -/
theorem out0_B_5_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_5 (F := Ideal) c i arg1 harg1 arg2 harg2 arg3 harg3 arg4 harg4 arg5 harg5 arg6 harg6 arg7 harg7 arg8 harg8 arg9 harg9 hc0 x0 x1 x2 x3 xo6 xo7 xo8 = k0_pay4 (F := Ideal) (k0_pay9 (F := Ideal) x0 x3) (k0_pay12 x1) (k0_pay13 x1) x2 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S512x1024) hz2]

/-- A later point adds to the scale's gradient. -/
theorem out0_B_6_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_6 (F := Ideal) c i arg1 harg1 arg2 harg2 arg3 harg3 arg4 harg4 arg5 harg5 arg6 harg6 arg7 harg7 arg8 harg8 arg9 harg9 hc0 x0 x1 x2 x3 xo6 xo7 xo8 = k0_pay1 (F := Ideal) (k0_pay9 (F := Ideal) x0 x3) (k0_pay13 x1) xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S1x1024) hz2]

/-- A later point adds to the shift's gradient. -/
theorem out0_B_7_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_7 (F := Ideal) c i arg1 harg1 arg2 harg2 arg3 harg3 arg4 harg4 arg5 harg5 arg6 harg6 arg7 harg7 arg8 harg8 arg9 harg9 hc0 x0 x1 x2 x3 xo6 xo7 xo8 = k0_pay2 (F := Ideal) (k0_pay9 (F := Ideal) x0 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S1x1024) hz2]

/-- A later point adds to the loss's parts. -/
theorem out0_B_8_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_8 (F := Ideal) c i arg1 harg1 arg2 harg2 arg3 harg3 arg4 harg4 arg5 harg5 arg6 harg6 arg7 harg7 arg8 harg8 arg9 harg9 hc0 x0 x1 x2 x3 xo6 xo7 xo8 = k0_pay10 (F := Ideal) x0 x3 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S1x1024) hz2]

end Bodies

section Payloads

variable (x d : Vec Ideal S512x1024 .f32) (g : Vec Ideal S1x1024 .f32)

/-- The tile less its rows' means. -/
theorem pay11_at (p : Fin 512) (q : Fin 1024) : k0_pay11 (F := Ideal) x (ix2 p q) = RowNorm.dev (fun k => x (ix2 p k)) q :=
  RowNorm.dev_apply x _ _ _ _ _ p q

/-- The rows' reciprocal standard deviations. -/
theorem pay12_at (p : Fin 512) (u : Fin 1) : k0_pay12 (F := Ideal) x (ix2 p u) = RowNorm.inv (fun k => x (ix2 p k)) := by
  unfold k0_pay12
  refine congrArg (fun z : EReal => Ideal.rsqrt (z + FloatOps.ofBits (F := Ideal) .f32 0x3727C5AC#32)) ?_
  refine (RowNorm.mean_apply _ _ _ _ _ p u).trans (congrArg RowNorm.mean (funext fun q => ?_))
  exact congr (congrArg (fun a b : EReal => a * b) (pay11_at x p q)) (pay11_at x p q)

/-- The normalised tile. -/
theorem pay13_at (p : Fin 512) (q : Fin 1024) : k0_pay13 (F := Ideal) x (ix2 p q) = RowNorm.dev (fun k => x (ix2 p k)) q * RowNorm.inv (fun k => x (ix2 p k)) := by
  unfold k0_pay13
  exact congr (congrArg (fun a b : EReal => a * b) (pay11_at x p q)) ((RowNorm.col_apply _ _ p q).trans (pay12_at x p 0))

/-- The rows' gradient of the tile. -/
theorem pay3_at (p : Fin 512) (q : Fin 1024) : k0_pay3 (F := Ideal) d (k0_pay12 x) (k0_pay13 x) g (ix2 p q)
    = RowNorm.grad (fun k => d (ix2 p k)) (fun k => x (ix2 p k)) (fun k => g (ix2 0 k)) q := by
  unfold k0_pay3 RowNorm.grad
  have e (q : Fin 1024) : mulf (F := Ideal) (s := S512x1024) (φ := .f32) d (broadcastTo S512x1024 (shapeCast S1x1024 g shapeCasts_S1x1024_S1x1024) broadcasts_S1x1024_S512x1024) (ix2 p q)
      = d (ix2 p q) * g (ix2 0 q) := congrArg (fun z : EReal => d (ix2 p q) * z) (RowNorm.row_apply g _ _ p q)
  refine congr (congrArg (fun a b : EReal => a * b) ((RowNorm.col_apply _ _ p q).trans (pay12_at x p 0))) ?_
  refine congr (congrArg (fun a b : EReal => a - b) (congr (congrArg (fun a b : EReal => a - b) (e q)) ?_)) (congr (congrArg (fun a b : EReal => a * b) (pay13_at x p q)) ?_)
  · refine (RowNorm.col_apply _ _ p q).trans ((RowNorm.mean_apply _ _ _ _ _ p 0).trans (congrArg RowNorm.mean (funext fun k => e k)))
  · refine (RowNorm.col_apply _ _ p q).trans ((RowNorm.mean_apply _ _ _ _ _ p 0).trans (congrArg RowNorm.mean (funext fun k => ?_)))
    exact congr (congrArg (fun a b : EReal => a * b) (e k)) (pay13_at x p k)

/-- A tile summed down its columns. -/
theorem colsum_at (y : FVec Ideal S512x1024 .f32) (hr) (hf) (ha) (hc) (q : Fin 1024) :
    shapeCast S1x1024 (multiReduction (F := Ideal) .add [0] S1024 y 0x00000000#32 hr hf ha) hc (ix2 0 q) = ∑ p : Fin 512, y (ix2 p q) := by
  refine (shapeCast_a_1a_apply _ _ 0 q).trans ?_
  refine (Ideal.multiReduction_add_single y _ _ _ _ (ix1 q)).trans (Finset.sum_congr rfl fun a _ => congrArg y ?_)
  funext b
  match b with
  | ⟨0, _⟩ => rfl
  | ⟨1, _⟩ => rfl

/-- One step of the scale's gradient. -/
theorem pay1_at (q : Fin 1024) : k0_pay1 (F := Ideal) d (k0_pay13 x) g (ix2 0 q)
    = g (ix2 0 q) + ∑ p : Fin 512, d (ix2 p q) * (RowNorm.dev (fun k => x (ix2 p k)) q * RowNorm.inv (fun k => x (ix2 p k))) := by
  unfold k0_pay1
  rw [shapeCast_self]
  refine congrArg (fun z : EReal => g (ix2 0 q) + z) ((colsum_at _ _ _ _ _ q).trans (Finset.sum_congr rfl fun p _ => ?_))
  exact congrArg (fun z : EReal => d (ix2 p q) * z) (pay13_at x p q)

/-- One step of the shift's gradient. -/
theorem pay2_at (q : Fin 1024) : k0_pay2 (F := Ideal) d g (ix2 0 q) = g (ix2 0 q) + ∑ p : Fin 512, d (ix2 p q) := by
  unfold k0_pay2
  rw [shapeCast_self]
  exact congrArg (fun z : EReal => g (ix2 0 q) + z) (colsum_at _ _ _ _ _ q)

/-- The scale's gradient starts at zero. -/
theorem pay5_at (i : S1x1024.Idx) : k0_pay5 (F := Ideal) i = 0 := Ideal.ofBits_zero_f32
/-- The shift's gradient starts at zero. -/
theorem pay6_at (i : S1x1024.Idx) : k0_pay6 (F := Ideal) i = 0 := Ideal.ofBits_zero_f32

variable (y t : Vec Ideal S512x1024 .f32)

/-- The tile's error over the width. -/
theorem pay9_at (p : Fin 512) (q : Fin 1024) : k0_pay9 (F := Ideal) y t (ix2 p q) = (y (ix2 p q) - t (ix2 p q)) * FloatOps.ofBits (F := Ideal) .f32 0x3A800000#32 := rfl

/-- One step of the loss's parts. -/
theorem pay10_at (q : Fin 1024) : k0_pay10 (F := Ideal) y t g (ix2 0 q)
    = g (ix2 0 q) + ∑ p : Fin 512, (y (ix2 p q) - t (ix2 p q)) * (y (ix2 p q) - t (ix2 p q)) * FloatOps.ofBits (F := Ideal) .f32 0x3A000000#32 := by
  unfold k0_pay10
  rw [shapeCast_self]
  refine congrArg (fun z : EReal => g (ix2 0 q) + z) ?_
  refine (congrArg (fun z : EReal => z * FloatOps.ofBits (F := Ideal) .f32 0x3A000000#32) (colsum_at _ _ _ _ _ q)).trans ?_
  exact sum_mul_of_nonneg _ _ _ fun p => sq_nonneg' _

/-- The loss's parts start at zero. -/
theorem pay7_at (i : S1x1024.Idx) : k0_pay7 (F := Ideal) i = 0 := Ideal.ofBits_zero_f32

end Payloads

variable (m : (ℓ : Loc nD τ sig) → Buf (Elt Ideal) ℓ) (ρ : Dev nD → PrngReg)

theorem ltN (t : Fin cfg0.N) : t.val < 16 := lt_of_lt_of_eq t.isLt N_0

theorem ixw0 : ∀ t : Fin grid0.N, win0_0.index t 0 = t.val ∧ win0_0.index t 1 = 0 := by decide +kernel

theorem ixw1 : ∀ t : Fin grid0.N, win0_1.index t 0 = t.val ∧ win0_1.index t 1 = 0 := by decide +kernel

theorem ixw2 : ∀ t : Fin grid0.N, win0_2.index t 0 = 0 ∧ win0_2.index t 1 = 0 := by decide +kernel

theorem ixw3 : ∀ t : Fin grid0.N, win0_3.index t 0 = t.val ∧ win0_3.index t 1 = 0 := by decide +kernel

theorem ixw4 : ∀ t : Fin grid0.N, win0_4.index t 0 = t.val ∧ win0_4.index t 1 = 0 := by decide +kernel

theorem ixw5 : ∀ t : Fin grid0.N, win0_5.index t 0 = t.val ∧ win0_5.index t 1 = 0 := by decide +kernel

theorem ixw6 : ∀ t : Fin grid0.N, win0_6.index t 0 = 0 ∧ win0_6.index t 1 = 0 := by decide +kernel

theorem ixw7 : ∀ t : Fin grid0.N, win0_7.index t 0 = 0 ∧ win0_7.index t 1 = 0 := by decide +kernel

theorem ixw8 : ∀ t : Fin grid0.N, win0_8.index t 0 = 0 ∧ win0_8.index t 1 = 0 := by decide +kernel

/-- The output's block: a tile of rows. -/
theorem blk0 (c : Dev nD) (t : Fin cfg0.N) (p : Fin 512) (k : Fin 1024) :
    iblk m c 0 t (ix2 p k) = LnBwdRow (m ((c.tc : Thread nD τ).loc main_arg0)) (t.val * 512 + p.val) k := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The input's block: a tile of rows. -/
theorem blk1 (c : Dev nD) (t : Fin cfg0.N) (p : Fin 512) (k : Fin 1024) :
    iblk m c 1 t (ix2 p k) = LnBwdRow (m ((c.tc : Thread nD τ).loc main_arg1)) (t.val * 512 + p.val) k := by
  have ht := ltN t; have hk := k.isLt; have hp := p.isLt
  unfold iblk
  rw [View.read_apply]
  show m ((c.tc : Thread nD τ).loc main_arg1) _ = m ((c.tc : Thread nD τ).loc main_arg1) _
  congr 1; funext b; apply Fin.ext
  match b with
  | ⟨0, _⟩ => show win0_1.index t 0 * 512 + 1 * p.val = (t.val * 512 + p.val) % 8192; rw [(ixw1 t).1]; omega
  | ⟨1, _⟩ => show win0_1.index t 1 * 1024 + 1 * k.val = k.val % 1024; rw [(ixw1 t).2]; omega

/-- The target's block: a tile of rows. -/
theorem blk3 (c : Dev nD) (t : Fin cfg0.N) (p : Fin 512) (k : Fin 1024) :
    iblk m c 3 t (ix2 p k) = LnBwdRow (m ((c.tc : Thread nD τ).loc main_arg3)) (t.val * 512 + p.val) k := by
  have ht := ltN t; have hk := k.isLt; have hp := p.isLt
  unfold iblk
  rw [View.read_apply]
  show m ((c.tc : Thread nD τ).loc main_arg3) _ = m ((c.tc : Thread nD τ).loc main_arg3) _
  congr 1; funext b; apply Fin.ext
  match b with
  | ⟨0, _⟩ => show win0_3.index t 0 * 512 + 1 * p.val = (t.val * 512 + p.val) % 8192; rw [(ixw3 t).1]; omega
  | ⟨1, _⟩ => show win0_3.index t 1 * 1024 + 1 * k.val = k.val % 1024; rw [(ixw3 t).2]; omega

/-- The scale's block: the whole scale. -/
theorem blk2 (c : Dev nD) (t : Fin cfg0.N) (q : Fin 1024) :
    iblk m c 2 t (ix2 0 q) = (m ((c.tc : Thread nD τ).loc main_arg2) : S1024.Idx → EReal) (ix1 q) := by
  have ht := ltN t; have hq := q.isLt
  unfold iblk
  rw [View.read_apply]
  show (StableHlo.after hostOps0 (fun b => m (c, b)) (Proc.tc.devRef main_v0) : S1x1024.Idx → EReal) _ = m ((c.tc : Thread nD τ).loc main_arg2) _
  have e : (StableHlo.after hostOps0 (fun b => m (c, b)) (Proc.tc.devRef main_v0) : S1x1024.Idx → EReal)
      = broadcastInDim S1x1024 ![1] bcast_S1024_S1x1024_1 (m ((c.tc : Thread nD τ).loc main_arg2)) := by after_results
  rw [e]
  unfold broadcastInDim
  show m ((c.tc : Thread nD τ).loc main_arg2) _ = m ((c.tc : Thread nD τ).loc main_arg2) _
  congr 1; funext b; apply Fin.ext
  match b with
  | ⟨0, _⟩ => show win0_2.index t 1 * 1024 + 1 * q.val = q.val; rw [(ixw2 t).2]; omega

/-- The loss's gradient in the block. -/
theorem blkD (c : Dev nD) (t : Fin cfg0.N) (p : Fin 512) (k : Fin 1024) :
    k0_pay9 (F := Ideal) (iblk m c 0 t) (iblk m c 3 t) (ix2 p k) = LnBwdRow (LnLossDy (m ((c.tc : Thread nD τ).loc main_arg0)) (m ((c.tc : Thread nD τ).loc main_arg3))) (t.val * 512 + p.val) k := by
  rw [pay9_at]
  exact congrArg (fun z : EReal => z * FloatOps.ofBits (F := Ideal) .f32 0x3A800000#32) (congr (congrArg (fun a b : EReal => a - b) (blk0 m c t p k)) (blk3 m c t p k))

/-- The rows' gradient a point computes, at a row and a column of its block. -/
theorem dz_at (c : Dev nD) (t : Fin cfg0.N) (p : Fin 512) (q : Fin 1024) :
    k0_pay3 (F := Ideal) (k0_pay9 (F := Ideal) (iblk m c 0 t) (iblk m c 3 t)) (k0_pay12 (iblk m c 1 t)) (k0_pay13 (iblk m c 1 t)) (iblk m c 2 t) (ix2 p q)
      = LnBwdDzOfAt (LnLossDy (m ((c.tc : Thread nD τ).loc main_arg0)) (m ((c.tc : Thread nD τ).loc main_arg3))) (m ((c.tc : Thread nD τ).loc main_arg1)) (m ((c.tc : Thread nD τ).loc main_arg2)) (t.val * 512 + p.val) q.val := by
  rw [pay3_at]
  have eq : Fin.ofNat 1024 q.val = q := Fin.ext (Nat.mod_eq_of_lt q.isLt)
  unfold LnBwdDzOfAt
  rw [eq]
  exact congr (congr (congr (congrArg RowNorm.grad (funext fun k => blkD m c t p k)) (funext fun k => blk1 m c t p k)) (funext fun k => blk2 m c t k)) rfl

/-- One step of the scale's gradient at a point. -/
theorem step6 (c : Dev nD) (t : Fin cfg0.N) (a : Vec Ideal S1x1024 .f32) (q : Fin 1024) :
    k0_pay1 (F := Ideal) (k0_pay9 (F := Ideal) (iblk m c 0 t) (iblk m c 3 t)) (k0_pay13 (iblk m c 1 t)) a (ix2 0 q) = a (ix2 0 q) + ∑ p : Fin 512, LnBwdDgTerm (LnLossDy (m ((c.tc : Thread nD τ).loc main_arg0)) (m ((c.tc : Thread nD τ).loc main_arg3))) (m ((c.tc : Thread nD τ).loc main_arg1)) (t.val * 512 + p.val) q := by
  rw [pay1_at]
  refine congrArg (a (ix2 0 q) + ·) (Finset.sum_congr rfl fun p _ => ?_)
  unfold LnBwdDgTerm
  have e : (fun k => iblk m c 1 t (ix2 p k)) = LnBwdRow (m ((c.tc : Thread nD τ).loc main_arg1)) (t.val * 512 + p.val) := funext fun k => blk1 m c t p k
  exact congr (congrArg (fun a b : EReal => a * b) (blkD m c t p q)) (congrArg (fun z => RowNorm.dev z q * RowNorm.inv z) e)

/-- One step of the shift's gradient at a point. -/
theorem step7 (c : Dev nD) (t : Fin cfg0.N) (a : Vec Ideal S1x1024 .f32) (q : Fin 1024) :
    k0_pay2 (F := Ideal) (k0_pay9 (F := Ideal) (iblk m c 0 t) (iblk m c 3 t)) a (ix2 0 q) = a (ix2 0 q) + ∑ p : Fin 512, LnBwdRow (LnLossDy (m ((c.tc : Thread nD τ).loc main_arg0)) (m ((c.tc : Thread nD τ).loc main_arg3))) (t.val * 512 + p.val) q := by
  rw [pay2_at]
  exact congrArg (a (ix2 0 q) + ·) (Finset.sum_congr rfl fun p _ => blkD m c t p q)

/-- One step of the loss's parts at a point. -/
theorem step8 (c : Dev nD) (t : Fin cfg0.N) (a : Vec Ideal S1x1024 .f32) (q : Fin 1024) :
    k0_pay10 (F := Ideal) (iblk m c 0 t) (iblk m c 3 t) a (ix2 0 q) = a (ix2 0 q) + ∑ p : Fin 512, LnLossSq (m ((c.tc : Thread nD τ).loc main_arg0)) (m ((c.tc : Thread nD τ).loc main_arg3)) (t.val * 512 + p.val) q := by
  rw [pay10_at]
  refine congrArg (a (ix2 0 q) + ·) (Finset.sum_congr rfl fun p _ => ?_)
  unfold LnLossSq
  exact congrArg₂ (fun a b : EReal => (a - b) * (a - b) * FloatOps.ofBits (F := Ideal) .f32 0x3A000000#32) (blk0 m c t p q) (blk3 m c t p q)

/-- What a point leaves in window 4, at a row and a column of its block. -/
theorem out4_at (c : Dev nD) (t : Fin cfg0.N) (p : Fin 512) (q : Fin 1024) :
    (outsAt0 m c t.val t.isLt).1 (ix2 p q) = LnBwdDzOfAt (LnLossDy (m ((c.tc : Thread nD τ).loc main_arg0)) (m ((c.tc : Thread nD τ).loc main_arg3))) (m ((c.tc : Thread nD τ).loc main_arg1)) (m ((c.tc : Thread nD τ).loc main_arg2)) (t.val * 512 + p.val) q.val := by
  by_cases h0 : t.val % 16 = 0
  · rw [outsAt0_A m c t h0]
    dsimp only
    rw [out0_A_4_eq]
    exact dz_at m c t p q
  · rw [outsAt0_B m c t h0]
    dsimp only
    rw [out0_B_4_eq]
    exact dz_at m c t p q

/-- What a point leaves in window 5, at a row and a column of its block. -/
theorem out5_at (c : Dev nD) (t : Fin cfg0.N) (p : Fin 512) (q : Fin 1024) :
    (outsAt0 m c t.val t.isLt).2.1 (ix2 p q) = LnBwdDzOfAt (LnLossDy (m ((c.tc : Thread nD τ).loc main_arg0)) (m ((c.tc : Thread nD τ).loc main_arg3))) (m ((c.tc : Thread nD τ).loc main_arg1)) (m ((c.tc : Thread nD τ).loc main_arg2)) (t.val * 512 + p.val) q.val := by
  by_cases h0 : t.val % 16 = 0
  · rw [outsAt0_A m c t h0]
    dsimp only
    rw [out0_A_5_eq]
    exact dz_at m c t p q
  · rw [outsAt0_B m c t h0]
    dsimp only
    rw [out0_B_5_eq]
    exact dz_at m c t p q

/-- What a point writes back of window 4. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- What a point writes back of window 5. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- What a point writes back of window 6. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- What a point writes back of window 7. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- What a point writes back of window 8. -/
theorem flushed8 (c : Dev nD) (t : Fin cfg0.N) :
    (dats m 0 c).flushed 8 t = (cfg0.win 8).cut (grid0.coords t) ((outsAt0 m c t.val t.isLt).2.2.2.2) := by
  show (cfg0.win 8).cut (grid0.coords t) ((dats m 0 c).after 8 t) = _
  rw [after0_8]

/-- Two points' blocks of window 4 are two blocks. -/
theorem idx_inj4 : ∀ t t' : Fin cfg0.N, win0_4.index t = win0_4.index t' → t = t' :=
  (by decide +kernel : ∀ t t' : Fin grid0.N, win0_4.index t = win0_4.index t' → t = t')

/-- Two points' blocks of window 4 share no place. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- The array the run leaves in window 4. -/
theorem final4 (c : Dev nD) : (dats m 0 c).arrAt 4 cfg0.N = LnBwdDzOf (LnLossDy (m ((c.tc : Thread nD τ).loc main_arg0)) (m ((c.tc : Thread nD τ).loc main_arg3))) (m ((c.tc : Thread nD τ).loc main_arg1)) (m ((c.tc : Thread nD τ).loc main_arg2)) := by
  funext i
  have h0 : (i 0).val < 8192 := (i 0).isLt
  have h1 : (i 1).val < 1024 := (i 1).isLt
  have hp : (i 0).val / 512 < cfg0.N := lt_of_lt_of_eq (by omega) N_0.symm
  have hb := congrFun ((dats m 0 c).read_blk_arrAt_eq_flushed 4 disjoint4 cfg0.N ⟨(i 0).val / 512, hp⟩ hp (flush0_4 _)) (ix2 (⟨(i 0).val % 512, by omega⟩ : Fin 512) (⟨(i 1).val, h1⟩ : Fin 1024))
  rw [View.read_apply, flushed4] at hb
  have e : ((cfg0.win 4).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_4.index ⟨(i 0).val / 512, hp⟩ 0 * 512 + 1 * ((i 0).val % 512) = (i 0).val; rw [(ixw4 _).1]; show (i 0).val / 512 * 512 + 1 * ((i 0).val % 512) = (i 0).val; omega
    | ⟨1, _⟩ => show win0_4.index ⟨(i 0).val / 512, hp⟩ 1 * 1024 + 1 * (i 1).val = (i 1).val; rw [(ixw4 _).2]; omega
  refine (congrArg ((dats m 0 c).arrAt 4 cfg0.N) e.symm).trans (hb.trans ?_)
  have e0 : (i 0).val / 512 * 512 + (i 0).val % 512 = (i 0).val := by omega
  refine (show _ = ((outsAt0 m c ((i 0).val / 512) hp).1) (ix2 (⟨(i 0).val % 512, by omega⟩ : Fin 512) (⟨(i 1).val, h1⟩ : Fin 1024)) from rfl).trans ?_
  refine (out4_at m c ⟨(i 0).val / 512, hp⟩ _ _).trans ?_
  show LnBwdDzOfAt (LnLossDy (m ((c.tc : Thread nD τ).loc main_arg0)) (m ((c.tc : Thread nD τ).loc main_arg3))) (m ((c.tc : Thread nD τ).loc main_arg1)) (m ((c.tc : Thread nD τ).loc main_arg2)) ((i 0).val / 512 * 512 + (i 0).val % 512) (i 1).val = LnBwdDzOfAt (LnLossDy (m ((c.tc : Thread nD τ).loc main_arg0)) (m ((c.tc : Thread nD τ).loc main_arg3))) (m ((c.tc : Thread nD τ).loc main_arg1)) (m ((c.tc : Thread nD τ).loc main_arg2)) (i 0).val (i 1).val
  rw [e0]

/-- Two points' blocks of window 5 are two blocks. -/
theorem idx_inj5 : ∀ t t' : Fin cfg0.N, win0_5.index t = win0_5.index t' → t = t' :=
  (by decide +kernel : ∀ t t' : Fin grid0.N, win0_5.index t = win0_5.index t' → t = t')

/-- Two points' blocks of window 5 share no place. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- The array the run leaves in window 5. -/
theorem final5 (c : Dev nD) : (dats m 0 c).arrAt 5 cfg0.N = LnBwdDzNarrowOf (LnLossDy (m ((c.tc : Thread nD τ).loc main_arg0)) (m ((c.tc : Thread nD τ).loc main_arg3))) (m ((c.tc : Thread nD τ).loc main_arg1)) (m ((c.tc : Thread nD τ).loc main_arg2)) := by
  funext i
  have h0 : (i 0).val < 8192 := (i 0).isLt
  have h1 : (i 1).val < 1024 := (i 1).isLt
  have hp : (i 0).val / 512 < cfg0.N := lt_of_lt_of_eq (by omega) N_0.symm
  have hb := congrFun ((dats m 0 c).read_blk_arrAt_eq_flushed 5 disjoint5 cfg0.N ⟨(i 0).val / 512, hp⟩ hp (flush0_5 _)) (ix2 (⟨(i 0).val % 512, by omega⟩ : Fin 512) (⟨(i 1).val, h1⟩ : Fin 1024))
  rw [View.read_apply, flushed5] at hb
  have e : ((cfg0.win 5).blk ⟨(i 0).val / 512, hp⟩).view.emb (ix2 (⟨(i 0).val % 512, by omega⟩ : Fin 512) (⟨(i 1).val, h1⟩ : Fin 1024)) = i := by
    funext b; apply Fin.ext
    match b with
    | ⟨0, _⟩ => show win0_5.index ⟨(i 0).val / 512, hp⟩ 0 * 512 + 1 * ((i 0).val % 512) = (i 0).val; rw [(ixw5 _).1]; show (i 0).val / 512 * 512 + 1 * ((i 0).val % 512) = (i 0).val; omega
    | ⟨1, _⟩ => show win0_5.index ⟨(i 0).val / 512, hp⟩ 1 * 1024 + 1 * (i 1).val = (i 1).val; rw [(ixw5 _).2]; omega
  refine (congrArg ((dats m 0 c).arrAt 5 cfg0.N) e.symm).trans (hb.trans ?_)
  have e0 : (i 0).val / 512 * 512 + (i 0).val % 512 = (i 0).val := by omega
  refine (show _ = ((outsAt0 m c ((i 0).val / 512) hp).2.1) (ix2 (⟨(i 0).val % 512, by omega⟩ : Fin 512) (⟨(i 1).val, h1⟩ : Fin 1024)) from rfl).trans ?_
  refine (out5_at m c ⟨(i 0).val / 512, hp⟩ _ _).trans ?_
  show LnBwdDzOfAt (LnLossDy (m ((c.tc : Thread nD τ).loc main_arg0)) (m ((c.tc : Thread nD τ).loc main_arg3))) (m ((c.tc : Thread nD τ).loc main_arg1)) (m ((c.tc : Thread nD τ).loc main_arg2)) ((i 0).val / 512 * 512 + (i 0).val % 512) (i 1).val = LnBwdDzOfAt (LnLossDy (m ((c.tc : Thread nD τ).loc main_arg0)) (m ((c.tc : Thread nD τ).loc main_arg3))) (m ((c.tc : Thread nD τ).loc main_arg1)) (m ((c.tc : Thread nD τ).loc main_arg2)) (i 0).val (i 1).val
  rw [e0]

/-- One point's part of the scale's gradient. -/
abbrev term6 (c : Dev nD) (q : Fin 1024) (s : ℕ) : EReal := ∑ p : Fin 512, LnBwdDgTerm (LnLossDy (m ((c.tc : Thread nD τ).loc main_arg0)) (m ((c.tc : Thread nD τ).loc main_arg3))) (m ((c.tc : Thread nD τ).loc main_arg1)) (s * 512 + p.val) q

/-- After each point the scale's gradient holds the sum over the tiles of rows seen. -/
theorem acc6 (c : Dev nD) (n : ℕ) (hn : n < cfg0.N) (q : Fin 1024) :
    (outsAt0 m c n hn).2.2.1 (ix2 0 q) = ∑ s ∈ Finset.range (n + 1), term6 m c q s := by
  induction n with
  | zero =>
    rw [outsAt0_A m c ⟨0, hn⟩ rfl]
    dsimp only
    rw [out0_A_6_eq, step6, pay5_at, zero_add]
    exact (Finset.sum_range_one (fun s => term6 m c q s)).symm
  | succ n ih =>
    have hN : n + 1 < 16 := lt_of_lt_of_eq hn N_0
    rw [outsAt0_B m c ⟨n + 1, hn⟩ (by show ¬(n + 1) % 16 = 0; omega)]
    dsimp only
    rw [out0_B_6_eq, step6]
    refine (congrArg (· + term6 m c q (n + 1)) (ih (Nat.lt_of_succ_lt hn))).trans ?_
    exact (Finset.sum_range_succ _ (n + 1)).symm

/-- The block is written back at the last point alone. -/
theorem flush6_last : ∀ t : Fin grid0.N, (cfg0.win 6).flush t = true ↔ t.val = 15 := by decide +kernel

/-- The array the run leaves in window 6. -/
theorem final6 (c : Dev nD) : (dats m 0 c).arrAt 6 cfg0.N = LnBwdDgOf (LnLossDy (m ((c.tc : Thread nD τ).loc main_arg0)) (m ((c.tc : Thread nD τ).loc main_arg3))) (m ((c.tc : Thread nD τ).loc main_arg1)) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 6).flush t = true → (cfg0.win 6).flush t' = true → t ≠ t' →
      Disjoint ((cfg0.win 6).blk t).view.set ((cfg0.win 6).blk t').view.set :=
    fun t t' h h' hne => absurd (Fin.ext (((flush6_last t).1 h).trans ((flush6_last t').1 h').symm)) hne
  have hb := congrFun ((dats m 0 c).read_blk_arrAt_eq_flushed 6 hd cfg0.N ⟨n, hp⟩ hp ((flush6_last _).2 hn)) (ix2 (0 : Fin 1) (⟨(i 1).val, h1⟩ : Fin 1024))
  rw [View.read_apply, flushed6] at hb
  have e : ((cfg0.win 6).blk ⟨n, hp⟩).view.emb (ix2 (0 : Fin 1) (⟨(i 1).val, h1⟩ : Fin 1024)) = i := by
    funext b; apply Fin.ext
    match b with
    | ⟨0, _⟩ => show win0_6.index ⟨n, hp⟩ 0 * 1 + 1 * 0 = (i 0).val; rw [(ixw6 _).1]; omega
    | ⟨1, _⟩ => show win0_6.index ⟨n, hp⟩ 1 * 1024 + 1 * (i 1).val = (i 1).val; rw [(ixw6 _).2]; omega
  refine (congrArg ((dats m 0 c).arrAt 6 cfg0.N) e.symm).trans (hb.trans ?_)
  refine (show _ = ((outsAt0 m c n hp).2.2.1) (ix2 (0 : Fin 1) (⟨(i 1).val, h1⟩ : Fin 1024)) from rfl).trans ?_
  refine (acc6 m c n hp _).trans ?_
  rw [hn]
  exact sum_tiles 16 512 (fun r => LnBwdDgTerm (LnLossDy (m ((c.tc : Thread nD τ).loc main_arg0)) (m ((c.tc : Thread nD τ).loc main_arg3))) (m ((c.tc : Thread nD τ).loc main_arg1)) r (i 1))

/-- One point's part of the shift's gradient. -/
abbrev term7 (c : Dev nD) (q : Fin 1024) (s : ℕ) : EReal := ∑ p : Fin 512, LnBwdRow (LnLossDy (m ((c.tc : Thread nD τ).loc main_arg0)) (m ((c.tc : Thread nD τ).loc main_arg3))) (s * 512 + p.val) q

/-- After each point the shift's gradient holds the sum over the tiles of rows seen. -/
theorem acc7 (c : Dev nD) (n : ℕ) (hn : n < cfg0.N) (q : Fin 1024) :
    (outsAt0 m c n hn).2.2.2.1 (ix2 0 q) = ∑ s ∈ Finset.range (n + 1), term7 m c q s := by
  induction n with
  | zero =>
    rw [outsAt0_A m c ⟨0, hn⟩ rfl]
    dsimp only
    rw [out0_A_7_eq, step7, pay6_at, zero_add]
    exact (Finset.sum_range_one (fun s => term7 m c q s)).symm
  | succ n ih =>
    have hN : n + 1 < 16 := lt_of_lt_of_eq hn N_0
    rw [outsAt0_B m c ⟨n + 1, hn⟩ (by show ¬(n + 1) % 16 = 0; omega)]
    dsimp only
    rw [out0_B_7_eq, step7]
    refine (congrArg (· + term7 m c q (n + 1)) (ih (Nat.lt_of_succ_lt hn))).trans ?_
    exact (Finset.sum_range_succ _ (n + 1)).symm

/-- The block is written back at the last point alone. -/
theorem flush7_last : ∀ t : Fin grid0.N, (cfg0.win 7).flush t = true ↔ t.val = 15 := by decide +kernel

/-- The array the run leaves in window 7. -/
theorem final7 (c : Dev nD) : (dats m 0 c).arrAt 7 cfg0.N = LnBwdDbOf (LnLossDy (m ((c.tc : Thread nD τ).loc main_arg0)) (m ((c.tc : Thread nD τ).loc main_arg3))) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 7).flush t = true → (cfg0.win 7).flush t' = true → t ≠ t' →
      Disjoint ((cfg0.win 7).blk t).view.set ((cfg0.win 7).blk t').view.set :=
    fun t t' h h' hne => absurd (Fin.ext (((flush7_last t).1 h).trans ((flush7_last t').1 h').symm)) hne
  have hb := congrFun ((dats m 0 c).read_blk_arrAt_eq_flushed 7 hd cfg0.N ⟨n, hp⟩ hp ((flush7_last _).2 hn)) (ix2 (0 : Fin 1) (⟨(i 1).val, h1⟩ : Fin 1024))
  rw [View.read_apply, flushed7] at hb
  have e : ((cfg0.win 7).blk ⟨n, hp⟩).view.emb (ix2 (0 : Fin 1) (⟨(i 1).val, h1⟩ : Fin 1024)) = i := by
    funext b; apply Fin.ext
    match b with
    | ⟨0, _⟩ => show win0_7.index ⟨n, hp⟩ 0 * 1 + 1 * 0 = (i 0).val; rw [(ixw7 _).1]; omega
    | ⟨1, _⟩ => show win0_7.index ⟨n, hp⟩ 1 * 1024 + 1 * (i 1).val = (i 1).val; rw [(ixw7 _).2]; omega
  refine (congrArg ((dats m 0 c).arrAt 7 cfg0.N) e.symm).trans (hb.trans ?_)
  refine (show _ = ((outsAt0 m c n hp).2.2.2.1) (ix2 (0 : Fin 1) (⟨(i 1).val, h1⟩ : Fin 1024)) from rfl).trans ?_
  refine (acc7 m c n hp _).trans ?_
  rw [hn]
  exact sum_tiles 16 512 (fun r => LnBwdRow (LnLossDy (m ((c.tc : Thread nD τ).loc main_arg0)) (m ((c.tc : Thread nD τ).loc main_arg3))) r (i 1))

/-- One point's part of the loss's parts. -/
abbrev term8 (c : Dev nD) (q : Fin 1024) (s : ℕ) : EReal := ∑ p : Fin 512, LnLossSq (m ((c.tc : Thread nD τ).loc main_arg0)) (m ((c.tc : Thread nD τ).loc main_arg3)) (s * 512 + p.val) q

/-- After each point the loss's parts hold the sum over the tiles of rows seen. -/
theorem acc8 (c : Dev nD) (n : ℕ) (hn : n < cfg0.N) (q : Fin 1024) :
    (outsAt0 m c n hn).2.2.2.2 (ix2 0 q) = ∑ s ∈ Finset.range (n + 1), term8 m c q s := by
  induction n with
  | zero =>
    rw [outsAt0_A m c ⟨0, hn⟩ rfl]
    dsimp only
    rw [out0_A_8_eq, step8, pay7_at, zero_add]
    exact (Finset.sum_range_one (fun s => term8 m c q s)).symm
  | succ n ih =>
    have hN : n + 1 < 16 := lt_of_lt_of_eq hn N_0
    rw [outsAt0_B m c ⟨n + 1, hn⟩ (by show ¬(n + 1) % 16 = 0; omega)]
    dsimp only
    rw [out0_B_8_eq, step8]
    refine (congrArg (· + term8 m c q (n + 1)) (ih (Nat.lt_of_succ_lt hn))).trans ?_
    exact (Finset.sum_range_succ _ (n + 1)).symm

/-- The block is written back at the last point alone. -/
theorem flush8_last : ∀ t : Fin grid0.N, (cfg0.win 8).flush t = true ↔ t.val = 15 := by decide +kernel

/-- The array the run leaves in window 8. -/
theorem final8 (c : Dev nD) : (dats m 0 c).arrAt 8 cfg0.N = LnLossPartsOf (m ((c.tc : Thread nD τ).loc main_arg0)) (m ((c.tc : Thread nD τ).loc main_arg3)) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 8).flush t = true → (cfg0.win 8).flush t' = true → t ≠ t' →
      Disjoint ((cfg0.win 8).blk t).view.set ((cfg0.win 8).blk t').view.set :=
    fun t t' h h' hne => absurd (Fin.ext (((flush8_last t).1 h).trans ((flush8_last t').1 h').symm)) hne
  have hb := congrFun ((dats m 0 c).read_blk_arrAt_eq_flushed 8 hd cfg0.N ⟨n, hp⟩ hp ((flush8_last _).2 hn)) (ix2 (0 : Fin 1) (⟨(i 1).val, h1⟩ : Fin 1024))
  rw [View.read_apply, flushed8] at hb
  have e : ((cfg0.win 8).blk ⟨n, hp⟩).view.emb (ix2 (0 : Fin 1) (⟨(i 1).val, h1⟩ : Fin 1024)) = i := by
    funext b; apply Fin.ext
    match b with
    | ⟨0, _⟩ => show win0_8.index ⟨n, hp⟩ 0 * 1 + 1 * 0 = (i 0).val; rw [(ixw8 _).1]; omega
    | ⟨1, _⟩ => show win0_8.index ⟨n, hp⟩ 1 * 1024 + 1 * (i 1).val = (i 1).val; rw [(ixw8 _).2]; omega
  refine (congrArg ((dats m 0 c).arrAt 8 cfg0.N) e.symm).trans (hb.trans ?_)
  refine (show _ = ((outsAt0 m c n hp).2.2.2.2) (ix2 (0 : Fin 1) (⟨(i 1).val, h1⟩ : Fin 1024)) from rfl).trans ?_
  refine (acc8 m c n hp _).trans ?_
  rw [hn]
  exact sum_tiles 16 512 (fun r => LnLossSq (m ((c.tc : Thread nD τ).loc main_arg0)) (m ((c.tc : Thread nD τ).loc main_arg3)) r (i 1))

/-- The line after the body sums the loss's parts. -/
theorem summed (W : Valuation τ sig (Elt Ideal)) : @Eq (FVec Ideal S_ .f32) (StableHlo.after hostOps1 W (Proc.tc.devRef main_v2))
    (Host.reduceAdd (F := Ideal) (W (Proc.tc.devRef main_v1_4)) (constant S_ .f32 0x00000000#32) reducesTo_S1x1024_S_d0_1 h_S_) := by
  after_results

/-- The sum of a row of one over both its axes. -/
theorem sum_row (x : FVec Ideal S1x1024 .f32) (i : S_.Idx) :
    Host.reduceAdd x (constant S_ .f32 0x00000000#32) reducesTo_S1x1024_S_d0_1 h_S_ i = ∑ q : Fin 1024, x (ix2 0 q) := by
  show FloatOps.ofBits (F := Ideal) .f32 0x00000000#32 + ∑ k ∈ Finset.univ.filter (fun k => reducesTo_S1x1024_S_d0_1.drop k = i), x k = _
  rw [show FloatOps.ofBits (F := Ideal) .f32 0x00000000#32 = (0 : EReal) from Ideal.ofBits_zero_f32, zero_add]
  refine (Finset.sum_bij' (fun q _ => ix2 0 q) (fun k _ => k 1) (fun q _ => ?_) (fun _ _ => Finset.mem_univ _)
    (fun _ _ => rfl) (fun k hk => ?_) (fun _ _ => rfl)).symm
  · exact Finset.mem_filter.mpr ⟨Finset.mem_univ _, funext fun a => a.elim0⟩
  · have h0 : (k 0).val < 1 := (k 0).isLt
    funext a; apply Fin.ext
    match a with
    | ⟨0, _⟩ => show 0 = (k 0).val; omega
    | ⟨1, _⟩ => rfl

/-- The loss after its parts are summed. -/
theorem tail (c : Dev nD) : Pipeline.afterTail₀ cfgs (dats m) 0 (V0 m) [hostOps1] c main_v2 = LnLossOf (m ((c.tc : Thread nD τ).loc main_arg0)) (m ((c.tc : Thread nD τ).loc main_arg3)) := by
  have e : @Eq (FVec Ideal S_ .f32) (Pipeline.afterTail₀ cfgs (dats m) 0 (V0 m) [hostOps1] c main_v2)
      (Host.reduceAdd (F := Ideal) ((dats m 0 c).arrAt 8 cfg0.N) (constant S_ .f32 0x00000000#32) reducesTo_S1x1024_S_d0_1 h_S_) := by
    unfold Pipeline.afterTail₀
    refine (summed (Pipeline.withArrays (cfgs (0 : Fin 1)).spec c (V0 m c) (fun w => (dats m 0 c).arrAt w cfg0.N))).trans ?_
    exact congrArg (fun a : FVec Ideal S1x1024 .f32 => Host.reduceAdd (F := Ideal) a (constant S_ .f32 0x00000000#32) reducesTo_S1x1024_S_d0_1 h_S_) (Pipeline.withArrays_arr (cfgs (0 : Fin 1)).spec launch0.win.arr_inj c (V0 m c) (fun w => (dats m 0 c).arrAt w cfg0.N) 8)
  refine e.trans ?_
  funext i
  refine (sum_row _ i).trans (Finset.sum_congr rfl fun q _ => ?_)
  exact congrFun (final8 m c) (ix2 0 q)

/-- What the run ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v1_0) = LnBwdDzOf (LnLossDy (m ((c.tc : Thread nD τ).loc main_arg0)) (m ((c.tc : Thread nD τ).loc main_arg3))) (m ((c.tc : Thread nD τ).loc main_arg1)) (m ((c.tc : Thread nD τ).loc main_arg2))
      ∧ r.2.mem ((c.tc : Thread nD τ).loc main_v1_1) = LnBwdDzNarrowOf (LnLossDy (m ((c.tc : Thread nD τ).loc main_arg0)) (m ((c.tc : Thread nD τ).loc main_arg3))) (m ((c.tc : Thread nD τ).loc main_arg1)) (m ((c.tc : Thread nD τ).loc main_arg2))
      ∧ r.2.mem ((c.tc : Thread nD τ).loc main_v1_2) = LnBwdDgOf (LnLossDy (m ((c.tc : Thread nD τ).loc main_arg0)) (m ((c.tc : Thread nD τ).loc main_arg3))) (m ((c.tc : Thread nD τ).loc main_arg1))
      ∧ r.2.mem ((c.tc : Thread nD τ).loc main_v1_3) = LnBwdDbOf (LnLossDy (m ((c.tc : Thread nD τ).loc main_arg0)) (m ((c.tc : Thread nD τ).loc main_arg3)))
      ∧ r.2.mem ((c.tc : Thread nD τ).loc main_v2) = LnLossOf (m ((c.tc : Thread nD τ).loc main_arg0)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  (θ_run defs _ _).mono (fun r h c => ⟨((h.1 c).1 4).trans (final4 m c), ((h.1 c).1 5).trans (final5 m c), ((h.1 c).1 6).trans (final6 m c), ((h.1 c).1 7).trans (final7 m c),
    ((h.1 c).2 main_v2 (by decide : main_v2 ∈ Pipeline.restRefs sig spec0)).trans (tail m c), h.2 c⟩)
    (θ_run_and (run_main m ρ) (unchanged m ρ))

end Cert.LnLossIdeal.Value

end
-- ==== Proof.LnLossRef.lean ====
/- The reference of the loss and of the gradient of the normalisation before it: the same gradient where the output less its target, times the
   scale, is finite, the same two sums, the same loss, and the two runs together. -/
module

public import proofs.«01_k».proof.Proof.RowNormGrad
public import proofs.«01_k».proof.Proof.LnLossRun
public import proofs.«01_k».proof.Proof.Gen.LnLossRefIdeal.Run
public import proofs.«01_k».proof.Proof.Gen.LnLossRefIdeal.Read
public import proofs.«01_k».proof.Proof.Gen.Pre_finite_error
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LnLossRefIdeal.Value

open Cert.LnLossRefIdeal Cert.LnLossRefIdeal.Gen Cert.LnLossRefIdeal.Read Products

variable (x0 x1 : Vec Ideal S8192x1024 .f32) (x2 : Vec Ideal S1024 .f32) (x3 : Vec Ideal S8192x1024 .f32)

/-- A row of an array of rows. -/
def row (x : Vec Ideal S8192x1024 .f32) (r : Fin 8192) (k : Fin 1024) : EReal := x (ix2 r k)

/-- The scale, as a row. -/
def scl (k : Fin 1024) : EReal := x2 (ix1 k)

/-- A row read through the row's number. -/
theorem row_eq (x : Vec Ideal S8192x1024 .f32) (r : Fin 8192) : row x r = LnBwdRow x r.val := by
  funext k
  have hr := r.isLt; have hk := k.isLt
  show x _ = x _
  congr 1; funext b; apply Fin.ext
  match b with
  | ⟨0, _⟩ => show r.val = r.val % 8192; omega
  | ⟨1, _⟩ => show k.val = k.val % 1024; omega

/-- The reference's mean. -/
theorem mean_at (i : S8192x1.Idx) : val_main_v19 (F := Ideal) x1 i = RowNorm.mean (row x1 (i 0)) := by
  rw [val_main_v19_apply, val_main_v18_apply, val_main_cst_9_apply, val_main_v17_apply, val_main_v16_apply]
  refine congrArg (fun z : EReal => Ideal.div z (FloatOps.ofBits (F := Ideal) .f32 0x44800000#32)) ?_
  rw [show val_main_cst_8 (F := Ideal) (Shape.Idx.first h_S_) = (0 : EReal) from zero_const _, zero_add]
  exact Finset.sum_congr rfl fun k _ => congrArg x1 (eq_ix2 _)

/-- The reference's rows less their means. -/
theorem dev_at (i : S8192x1024.Idx) : val_main_v21 (F := Ideal) x1 i = RowNorm.dev (row x1 (i 0)) (i 1) := by
  rw [val_main_v21_apply, val_main_v20_apply, mean_at]
  exact congrArg (fun z : EReal => z - RowNorm.mean (row x1 (i 0))) (congrArg x1 (eq_ix2 i))

/-- The reference's rows less their means, computed again. -/
theorem dev_at' (i : S8192x1024.Idx) : val_main_v30 (F := Ideal) x1 i = RowNorm.dev (row x1 (i 0)) (i 1) := by
  rw [val_main_v30_apply, val_main_v29_apply, mean_at]
  exact congrArg (fun z : EReal => z - RowNorm.mean (row x1 (i 0))) (congrArg x1 (eq_ix2 i))

/-- The reference's variance with the small number added. -/
theorem var_at (i : S8192x1.Idx) : val_main_v32 (F := Ideal) x1 i
    = RowNorm.mean (fun q => RowNorm.dev (row x1 (i 0)) q * RowNorm.dev (row x1 (i 0)) q) + FloatOps.ofBits (F := Ideal) .f32 0x3727C5AC#32 := by
  rw [val_main_v32_apply, val_main_v31_apply, val_main_cst_13_apply, val_main_v28_apply, val_main_v27_apply,
    val_main_cst_12_apply, val_main_v26_apply, val_main_v25_apply]
  refine congrArg (fun z : EReal => Ideal.div z (FloatOps.ofBits (F := Ideal) .f32 0x44800000#32) + FloatOps.ofBits (F := Ideal) .f32 0x3727C5AC#32) ?_
  rw [show val_main_cst_11 (F := Ideal) (Shape.Idx.first h_S_) = (0 : EReal) from zero_const _, zero_add]
  refine Finset.sum_congr rfl fun k _ => ?_
  rw [val_main_v22_apply, dev_at]
  rfl

/-- The reference's reciprocal standard deviation. -/
theorem inv_at (i : S8192x1.Idx) : val_main_v33 (F := Ideal) x1 i = RowNorm.inv (row x1 (i 0)) := by
  rw [val_main_v33_apply, var_at]
  rfl

theorem half_eq : FloatOps.ofBits (F := Ideal) .f32 0x3F000000#32 = ((1 / 2 : ℝ) : EReal) := by
  simp [Ideal.ofBits, Ideal.ieee]; norm_num; rw [← EReal.coe_mul]; norm_num
theorem one_eq : FloatOps.ofBits (F := Ideal) .f32 0x3F800000#32 = ((1 : ℝ) : EReal) := by
  simp [Ideal.ofBits, Ideal.ieee]; norm_num; try rw [← EReal.coe_mul]; norm_num
theorem width_eq : FloatOps.ofBits (F := Ideal) .f32 0x3A800000#32 = ((1 / 1024 : ℝ) : EReal) := by
  simp [Ideal.ofBits, Ideal.ieee]; norm_num; rw [← EReal.coe_mul]; norm_num
theorem twice_eq : FloatOps.ofBits (F := Ideal) .f32 0x3A000000#32 = ((1 / 2048 : ℝ) : EReal) := by
  simp [Ideal.ofBits, Ideal.ieee]; norm_num; rw [← EReal.coe_mul]; norm_num

/-- The loss's gradient at the output. -/
theorem dy_at (i : S8192x1024.Idx) : val_main_v14 (F := Ideal) x0 x3 i = LnLossDy x0 x3 i := by
  rw [val_main_v14_apply, val_main_v13_apply, val_main_v12_apply, val_main_v10_apply, val_main_v9_apply, val_main_cst_4_apply, val_main_cst_5_apply,
    val_main_v11_apply, val_main_cst_6_apply, val_main_v3_apply, val_main_v2_apply, val_main_cst_apply, val_main_v0_apply]
  show Ideal.div (FloatOps.ofBits (F := Ideal) .f32 0x3F000000#32 * FloatOps.ofBits (F := Ideal) .f32 0x3F800000#32) (FloatOps.ofBits (F := Ideal) .f32 0x44800000#32)
    * (FloatOps.ofBits (F := Ideal) .f32 0x40000000#32 * (x0 i - x3 i)) = (x0 i - x3 i) * FloatOps.ofBits (F := Ideal) .f32 0x3A800000#32
  rw [half_eq, one_eq, width_eq, RowNorm.n_eq, RowNorm.two_eq, Ideal.div_coe (by norm_num), ← EReal.coe_mul, ← EReal.coe_mul, ← mul_assoc, ← EReal.coe_mul,
    mul_comm]
  exact congrArg (fun z : ℝ => (x0 i - x3 i) * (z : EReal)) (by norm_num)

/-- The loss's gradient at the output, as rows. -/
theorem d_at (i : S8192x1024.Idx) : val_main_v45 (F := Ideal) x0 x3 i = row (LnLossDy x0 x3) (i 0) (i 1) := by
  have h0 : (i 0).val < 8192 := (i 0).isLt
  have h1 : (i 1).val < 1024 := (i 1).isLt
  rw [val_main_v45_apply, dy_at]
  show LnLossDy x0 x3 _ = LnLossDy x0 x3 _
  congr 1; funext b; apply Fin.ext
  match b with
  | ⟨0, _⟩ => show ((i 0).val * 1024 + (i 1).val) / 1024 = (i 0).val; omega
  | ⟨1, _⟩ => show ((i 0).val * 1024 + (i 1).val) % 1024 = (i 1).val; omega

/-- A row's squares over the width. -/
theorem sq_at (r : Fin 8192) : val_main_v6 (F := Ideal) x0 x3 (ix1 r)
    = (∑ k : Fin 1024, (LnBwdRow x0 r.val k - LnBwdRow x3 r.val k) * (LnBwdRow x0 r.val k - LnBwdRow x3 r.val k)) * ((1 / 1024 : ℝ) : EReal) := by
  rw [val_main_v6_apply, val_main_v4_apply, val_main_v5_apply, val_main_cst_1_apply,
    show val_main_cst_0 (F := Ideal) (Shape.Idx.first h_S_) = (0 : EReal) from zero_const _, zero_add]
  show Ideal.div _ (FloatOps.ofBits (F := Ideal) .f32 0x44800000#32) = _
  rw [RowNorm.n_eq, Ideal.div_coe (by norm_num)]
  refine congrArg (fun z : EReal => z * ((1 / 1024 : ℝ) : EReal)) (Finset.sum_congr rfl fun k _ => ?_)
  rw [val_main_v1_apply, val_main_v0_apply]
  have e : idx_main_v4 (ix1 r) k = ix2 r k := eq_ix2 _
  rw [e]
  exact congrArg₂ (fun a b : EReal => (a - b) * (a - b)) (congrFun (row_eq x0 r) k) (congrFun (row_eq x3 r) k)

/-- The reference's loss is the sum of the parts. -/
theorem v8_eq : val_main_v8 (F := Ideal) x0 x3 = LnLossOf x0 x3 := by
  funext i
  rw [val_main_v8_apply, val_main_cst_3_apply, val_main_v7_apply,
    show val_main_cst_2 (F := Ideal) (Shape.Idx.first h_S_) = (0 : EReal) from zero_const _, zero_add]
  have e : (∑ j : S8192.Idx, val_main_v6 (F := Ideal) x0 x3 j) = ∑ r : Fin 8192, val_main_v6 (F := Ideal) x0 x3 (ix1 r) :=
    (Fintype.sum_equiv ⟨fun a => ix1 a, fun j => j 0, fun _ => rfl, fun j => (eq_ix1 j).symm⟩ (fun a : Fin 8192 => val_main_v6 (F := Ideal) x0 x3 (ix1 a))
      (fun j : S8192.Idx => val_main_v6 (F := Ideal) x0 x3 j) fun _ => rfl).symm
  rw [e]
  show FloatOps.ofBits (F := Ideal) .f32 0x3F000000#32 * (∑ r : Fin 8192, val_main_v6 (F := Ideal) x0 x3 (ix1 r)) = ∑ q : Fin 1024, ∑ r : Fin 8192, LnLossSq x0 x3 r.val q
  have hs (r : Fin 8192) (k : Fin 1024) := Cert.LnLossIdeal.Value.sq_nonneg' (LnBwdRow x0 r.val k - LnBwdRow x3 r.val k)
  rw [mul_comm, half_eq, Finset.sum_congr rfl fun r _ => sq_at x0 x3 r,
    Cert.LnLossIdeal.Value.sum_mul_of_nonneg _ _ _ fun r => mul_nonneg (Finset.sum_nonneg fun k _ => hs r k) (EReal.coe_nonneg.2 (by norm_num)),
    Finset.sum_comm (s := (Finset.univ : Finset (Fin 1024)))]
  refine Finset.sum_congr rfl fun r _ => ?_
  rw [mul_assoc, ← EReal.coe_mul, Cert.LnLossIdeal.Value.sum_mul_of_nonneg _ _ _ fun k => hs r k]
  refine Finset.sum_congr rfl fun k _ => ?_
  unfold LnLossSq
  rw [twice_eq]
  exact congrArg (fun z : ℝ => (LnBwdRow x0 r.val k - LnBwdRow x3 r.val k) * (LnBwdRow x0 r.val k - LnBwdRow x3 r.val k) * (z : EReal)) (by norm_num)

/-- The loss's gradient times the scale. -/
theorem t_at (i : S8192x1024.Idx) : val_main_v53 (F := Ideal) x0 x2 x3 i = row (LnLossDy x0 x3) (i 0) (i 1) * scl x2 (i 1) := by
  rw [val_main_v53_apply, d_at, val_main_v52_apply, val_main_v39_apply]
  exact congrArg (fun z : EReal => row (LnLossDy x0 x3) (i 0) (i 1) * z) (congrArg x2 (eq_ix1 _))

/-- What reaches the row directly. -/
theorem direct_at (i : S8192x1024.Idx) : val_main_v59 (F := Ideal) x0 x1 x2 x3 i = row (LnLossDy x0 x3) (i 0) (i 1) * scl x2 (i 1) * RowNorm.inv (row x1 (i 0)) := by
  rw [val_main_v59_apply, t_at, val_main_v58_apply, inv_at]
  rfl

/-- What reaches the row through its variance, at the row's column. -/
theorem var_part (i : S8192x1.Idx) : val_main_v65 (F := Ideal) x0 x1 x2 x3 i = RowNorm.viaVar (row (LnLossDy x0 x3) (i 0)) (row x1 (i 0)) (scl x2) := by
  rw [val_main_v65_apply, val_main_v64_apply, val_main_cst_21_apply, val_main_v60_apply, val_main_v57_apply, val_main_v56_apply, val_main_v36_apply,
    val_main_v35_apply, val_main_cst_14_apply, val_main_v34_apply, var_at, inv_at]
  rw [show val_main_cst_19 (F := Ideal) (Shape.Idx.first h_S_) = (0 : EReal) from zero_const _, zero_add]
  refine congrArg (fun z : EReal => Ideal.div (z * _) (FloatOps.ofBits (F := Ideal) .f32 0x44800000#32)) ?_
  refine Finset.sum_congr rfl fun k _ => ?_
  rw [val_main_v55_apply, dev_at', t_at]
  have e : (idx_main_v56 (idx_main_v57 i) k) = ix2 (i 0) k := by
    have h1 : (i 1).val < 1 := (i 1).isLt
    funext b; apply Fin.ext
    match b with
    | ⟨0, _⟩ => show (i 0).val * 1 + (i 1).val = (i 0).val; omega
    | ⟨1, _⟩ => rfl
  rw [e]
  rfl

/-- What reaches the row through its variance. -/
theorem var_at_row (i : S8192x1024.Idx) : val_main_v68 (F := Ideal) x0 x1 x2 x3 i
    = RowNorm.viaVar (row (LnLossDy x0 x3) (i 0)) (row x1 (i 0)) (scl x2) * (FloatOps.ofBits (F := Ideal) .f32 0x40000000#32 * RowNorm.dev (row x1 (i 0)) (i 1)) := by
  rw [val_main_v68_apply, val_main_v24_apply, val_main_v23_apply, val_main_cst_10_apply, dev_at, val_main_v67_apply, val_main_v66_apply]
  rw [show val_main_cst_22 (F := Ideal) (Shape.Idx.first h_S_) = (0 : EReal) from zero_const _, zero_add, Fin.sum_univ_one, var_part]
  rfl

/-- The reference's gradient by the chain rule. -/
theorem chain_at (i : S8192x1024.Idx) : val_main_v78 (F := Ideal) x0 x1 x2 x3 i = RowNorm.chain (row (LnLossDy x0 x3) (i 0)) (row x1 (i 0)) (scl x2) (i 1) := by
  have e47 (k : Fin 1024) : val_main_v61 (F := Ideal) x0 x1 x2 x3 (ix2 (i 0) k) = -(row (LnLossDy x0 x3) (i 0) k * scl x2 k * RowNorm.inv (row x1 (i 0))) := by
    rw [val_main_v61_apply, direct_at]; rfl
  have e55 (k : Fin 1024) : val_main_v69 (F := Ideal) x0 x1 x2 x3 (ix2 (i 0) k)
      = -(RowNorm.viaVar (row (LnLossDy x0 x3) (i 0)) (row x1 (i 0)) (scl x2) * (FloatOps.ofBits (F := Ideal) .f32 0x40000000#32 * RowNorm.dev (row x1 (i 0)) k)) := by
    rw [val_main_v69_apply, var_at_row]; rfl
  rw [val_main_v78_apply, val_main_v72_apply, direct_at, var_at_row, val_main_v77_apply, val_main_v76_apply]
  rw [show val_main_cst_25 (F := Ideal) (Shape.Idx.first h_S_) = (0 : EReal) from zero_const _, zero_add, Fin.sum_univ_one, val_main_v75_apply,
    val_main_v74_apply, val_main_cst_24_apply, val_main_v73_apply, val_main_v63_apply, val_main_v71_apply, val_main_v62_apply, val_main_v70_apply]
  rw [show val_main_cst_20 (F := Ideal) (Shape.Idx.first h_S_) = (0 : EReal) from zero_const _, zero_add,
    show val_main_cst_23 (F := Ideal) (Shape.Idx.first h_S_) = (0 : EReal) from zero_const _, zero_add]
  unfold RowNorm.chain
  have e (k : Fin 1024) : idx_main_v62 (idx_main_v63 (idx_main_v76 (idx_main_v77 i) 0)) k = ix2 (i 0) k := by
    funext b; apply Fin.ext
    match b with
    | ⟨0, _⟩ => show (i 0).val * 1 + 0 = (i 0).val; omega
    | ⟨1, _⟩ => rfl
  refine congr (congrArg (fun a b : EReal => a + b) rfl) (congrArg (fun z : EReal => Ideal.div z (FloatOps.ofBits (F := Ideal) .f32 0x44800000#32)) ?_)
  refine congr (congrArg (fun a b : EReal => a + b) ?_) ?_
  · exact Finset.sum_congr rfl fun k _ => (congrArg (val_main_v61 (F := Ideal) x0 x1 x2 x3) (e k)).trans (e47 k)
  · exact Finset.sum_congr rfl fun k _ => (congrArg (val_main_v69 (F := Ideal) x0 x1 x2 x3) (e k)).trans (e55 k)

/-- An entry whose magnitude is below infinity is neither infinity. -/
theorem not_inf (x : EReal) (h : Ideal.cmp .olt (max x (-x)) (FloatOps.ofBits (F := Ideal) .f32 0x7F800000#32) = 1#1) : x ≠ ⊤ ∧ x ≠ ⊥ := by
  have e : FloatOps.ofBits (F := Ideal) .f32 0x7F800000#32 = (⊤ : EReal) := by simp [Ideal.ofBits, Ideal.ieee]
  rw [e] at h
  constructor
  · rintro rfl; simp [Ideal.cmp] at h
  · rintro rfl; simp [Ideal.cmp] at h

/-- Where the error times the scale is finite the loss's gradient times the scale is. -/
theorem finite_scaled (a b g : EReal) (h : (a - b) * g ≠ ⊤ ∧ (a - b) * g ≠ ⊥) :
    (a - b) * FloatOps.ofBits (F := Ideal) .f32 0x3A800000#32 * g ≠ ⊤ ∧ (a - b) * FloatOps.ofBits (F := Ideal) .f32 0x3A800000#32 * g ≠ ⊥ := by
  have e : (a - b) * FloatOps.ofBits (F := Ideal) .f32 0x3A800000#32 * g = (a - b) * g * FloatOps.ofBits (F := Ideal) .f32 0x3A800000#32 := mul_right_comm _ _ _
  rw [e, width_eq]
  generalize (a - b) * g = x at h ⊢
  lift x to ℝ using h
  rw [← EReal.coe_mul]
  exact ⟨EReal.coe_ne_top _, EReal.coe_ne_bot _⟩

/-- The reference's gradient, where the loss's gradient times the scale is finite, is the closed form. -/
theorem v78_eq (h : ∀ (r : Fin 8192) (k : Fin 1024), row (LnLossDy x0 x3) r k * scl x2 k ≠ ⊤ ∧ row (LnLossDy x0 x3) r k * scl x2 k ≠ ⊥) :
    val_main_v78 (F := Ideal) x0 x1 x2 x3 = LnBwdDzOf (LnLossDy x0 x3) x1 x2 := by
  funext i
  have e1 : Fin.ofNat 1024 (i 1).val = i 1 := Fin.ext (Nat.mod_eq_of_lt (i 1).isLt)
  refine (chain_at x0 x1 x2 x3 i).trans ((RowNorm.chain_eq _ _ _ (h (i 0)) (i 1)).trans ?_)
  show _ = RowNorm.grad (LnBwdRow (LnLossDy x0 x3) (i 0).val) (LnBwdRow x1 (i 0).val) (fun k => x2 (ix1 k)) (Fin.ofNat 1024 (i 1).val)
  rw [e1]
  exact congr (congrFun (congr (congrArg RowNorm.grad (row_eq (LnLossDy x0 x3) (i 0))) (row_eq x1 (i 0))) (scl x2)) rfl

/-- The reference's gradient, where the loss's gradient times the scale is finite, in the narrow type. -/
theorem v79_eq (h : ∀ (r : Fin 8192) (k : Fin 1024), row (LnLossDy x0 x3) r k * scl x2 k ≠ ⊤ ∧ row (LnLossDy x0 x3) r k * scl x2 k ≠ ⊥) :
    val_main_v79 (F := Ideal) x0 x1 x2 x3 = LnBwdDzNarrowOf (LnLossDy x0 x3) x1 x2 := by
  funext i
  rw [val_main_v79_apply]
  exact congrFun (v78_eq x0 x1 x2 x3 h) i

/-- A row's part of the reference's gradient of the scale. -/
theorem dg_at (r : Fin 8192) (q : Fin 1024) : val_main_v49 (F := Ideal) x0 x1 x3 (ix2 r q) = LnBwdDgTerm (LnLossDy x0 x3) x1 r.val q := by
  rw [val_main_v49_apply, d_at, val_main_v38_apply, dev_at', val_main_v37_apply, inv_at]
  refine (mul_comm (RowNorm.dev (row x1 r) q * RowNorm.inv (row x1 r)) (row (LnLossDy x0 x3) r q)).trans ?_
  rw [row_eq, row_eq]
  rfl

/-- The reference's gradient of the scale. -/
theorem v80_eq : val_main_v80 (F := Ideal) x0 x1 x3 = LnBwdDgOf (LnLossDy x0 x3) x1 := by
  funext i
  have h1 : (i 1).val < 1024 := (i 1).isLt
  rw [val_main_v80_apply, val_main_v54_apply,
    show val_main_cst_18 (F := Ideal) (Shape.Idx.first h_S_) = (0 : EReal) from zero_const _, zero_add, Fin.sum_univ_one, val_main_v51_apply,
    val_main_v50_apply, show val_main_cst_17 (F := Ideal) (Shape.Idx.first h_S_) = (0 : EReal) from zero_const _, zero_add]
  refine Finset.sum_congr rfl fun r _ => ?_
  have e : idx_main_v50 (idx_main_v51 (idx_main_v54 (idx_main_v80 i) 0)) r = ix2 r (i 1) := by
    funext b; apply Fin.ext
    match b with
    | ⟨0, _⟩ => rfl
    | ⟨1, _⟩ => show 0 * 1024 + (i 1).val = (i 1).val; omega
  exact (congrArg (val_main_v49 (F := Ideal) x0 x1 x3) e).trans (dg_at x0 x1 x3 r (i 1))

/-- The reference's gradient of the shift. -/
theorem v81_eq : val_main_v81 (F := Ideal) x0 x3 = LnBwdDbOf (LnLossDy x0 x3) := by
  funext i
  have h1 : (i 1).val < 1024 := (i 1).isLt
  rw [val_main_v81_apply, val_main_v48_apply,
    show val_main_cst_16 (F := Ideal) (Shape.Idx.first h_S_) = (0 : EReal) from zero_const _, zero_add, Fin.sum_univ_one, val_main_v47_apply,
    val_main_v46_apply, show val_main_cst_15 (F := Ideal) (Shape.Idx.first h_S_) = (0 : EReal) from zero_const _, zero_add]
  refine Finset.sum_congr rfl fun r _ => ?_
  have e : idx_main_v46 (idx_main_v47 (idx_main_v48 (idx_main_v81 i) 0)) r = ix2 r (i 1) := by
    funext b; apply Fin.ext
    match b with
    | ⟨0, _⟩ => rfl
    | ⟨1, _⟩ => show 0 * 1024 + (i 1).val = (i 1).val; omega
  rw [e]
  exact (dy_at x0 x3 _).trans (congrFun (row_eq (LnLossDy x0 x3) r) (i 1))

variable (m : (ℓ : Loc nD τ sig) → Buf (Elt Ideal) ℓ) (ρ : Dev nD → PrngReg)

/-- The reference ends with its arguments as they were; it declares no semaphore. -/
theorem ends : Cert.quiescent_LnLossRefIdeal := fun m ρ _ =>
  (θ_run _ _ _).mono (fun _ h => ⟨fun c => (h c).2.2.2.2.2, funext fun g => nomatch g.2⟩) (Cert.LnLossRefIdeal.Value.run m ρ)

/-- The reference ends with its arguments as they were, under the precondition too. -/
theorem ends_finite_error : Cert.quiescent_LnLossRefIdeal_pre_finite_error := fun m ρ _ =>
  (θ_run _ _ _).mono (fun _ h => ⟨fun c => (h c).2.2.2.2.2, funext fun g => nomatch g.2⟩) (Cert.LnLossRefIdeal.Value.run m ρ)

/-- What the reference ends holding where the loss's gradient times the scale is finite, as a function of its arguments, and its arguments as they were. -/
theorem run_value (hf : ∀ (c : Dev nD) (r : Fin 8192) (k : Fin 1024), row (LnLossDy (m ((c.tc : Thread nD τ).loc main_arg0)) (m ((c.tc : Thread nD τ).loc main_arg3))) r k * scl (m ((c.tc : Thread nD τ).loc main_arg2)) k ≠ ⊤ ∧ row (LnLossDy (m ((c.tc : Thread nD τ).loc main_arg0)) (m ((c.tc : Thread nD τ).loc main_arg3))) r k * scl (m ((c.tc : Thread nD τ).loc main_arg2)) k ≠ ⊥) :
    θ_run defs (onTc (τ := τ) (main (F := Ideal))) ⟨m, fun _ => 0, ρ⟩ fun r => ∀ c : Dev nD,
      r.2.mem ((c.tc : Thread nD τ).loc main_v78) = LnBwdDzOf (LnLossDy (m ((c.tc : Thread nD τ).loc main_arg0)) (m ((c.tc : Thread nD τ).loc main_arg3))) (m ((c.tc : Thread nD τ).loc main_arg1)) (m ((c.tc : Thread nD τ).loc main_arg2))
      ∧ r.2.mem ((c.tc : Thread nD τ).loc main_v79) = LnBwdDzNarrowOf (LnLossDy (m ((c.tc : Thread nD τ).loc main_arg0)) (m ((c.tc : Thread nD τ).loc main_arg3))) (m ((c.tc : Thread nD τ).loc main_arg1)) (m ((c.tc : Thread nD τ).loc main_arg2))
      ∧ r.2.mem ((c.tc : Thread nD τ).loc main_v80) = LnBwdDgOf (LnLossDy (m ((c.tc : Thread nD τ).loc main_arg0)) (m ((c.tc : Thread nD τ).loc main_arg3))) (m ((c.tc : Thread nD τ).loc main_arg1))
      ∧ r.2.mem ((c.tc : Thread nD τ).loc main_v81) = LnBwdDbOf (LnLossDy (m ((c.tc : Thread nD τ).loc main_arg0)) (m ((c.tc : Thread nD τ).loc main_arg3)))
      ∧ r.2.mem ((c.tc : Thread nD τ).loc main_v8) = LnLossOf (m ((c.tc : Thread nD τ).loc main_arg0)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  (θ_run defs _ _).mono (fun _ h c => ⟨(h c).1.trans ((val_main_v78_eq m c).trans (v78_eq _ _ _ _ (hf c))),
    (h c).2.1.trans ((val_main_v79_eq m c).trans (v79_eq _ _ _ _ (hf c))),
    (h c).2.2.1.trans ((val_main_v80_eq _ _ _).trans (v80_eq _ _ _)), (h c).2.2.2.1.trans ((val_main_v81_eq _ _).trans (v81_eq _ _)),
    (h c).2.2.2.2.1.trans ((val_main_v8_eq _ _).trans (v8_eq _ _)), (h c).2.2.2.2.2⟩)
    (run m ρ)

end Cert.LnLossRefIdeal.Value

/-- The kernel ends with its arguments as they were, under the precondition too. -/
theorem LnLoss_ends_finite_error : Cert.quiescent_LnLossIdeal_pre_finite_error := fun m ρ _ => Cert.LnLossIdeal.Gen.frame m ρ

/-- Where the error times the scale is finite the kernel's value and the reference's agree, over the ideal reals. -/
theorem LnLoss_value : Cert.algebraic_LnLossIdeal_LnLossRefIdeal_pre_finite_error :=
  fun m g m' g' hp h => ⟨fun c => LnBwdDzOf (LnLossDy (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg3))) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)), fun c => LnBwdDzNarrowOf (LnLossDy (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg3))) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)), fun c => LnBwdDgOf (LnLossDy (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg3))) (m ((c.tc : Thread Cert.LnLossIdeal.nD Cert.LnLossIdeal.τ).loc Cert.LnLossIdeal.main_arg1)), fun c => LnBwdDbOf (LnLossDy (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg3))), fun c => LnLossOf (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg3)),
    Cert.LnLossIdeal.Value.run_value m g,
    (θ_run _ _ _).mono (fun r hr c => by
      have hc := hr c
      obtain ⟨a0, a1, a2, a3⟩ := h c
      exact ⟨hc.1.trans (by rw [a0, a1, a2, a3] <;> rfl), hc.2.1.trans (by rw [a0, a1, a2, a3] <;> rfl), hc.2.2.1.trans (by rw [a0, a1, a3] <;> rfl),
        hc.2.2.2.1.trans (by rw [a0, a3] <;> rfl), hc.2.2.2.2.1.trans (by rw [a0, a3] <;> rfl), hc.2.2.2.2.2⟩)
      (Cert.LnLossRefIdeal.Value.run_value m' g'
        (fun c r k => by
          obtain ⟨a0, _, a2, a3⟩ := h c
          rw [a0, a2, a3]
          exact Cert.LnLossRefIdeal.Value.finite_scaled _ _ _ (Cert.LnLossRefIdeal.Value.not_inf _ ((congrArg (fun z : EReal => Ideal.cmp .olt (max z (-z)) (FloatOps.ofBits (F := Ideal) .f32 0x7F800000#32))
            (congrArg (fun z : EReal => (Cert.LnLossRefIdeal.Value.row (m ((c.tc : Thread Cert.LnLossIdeal.nD Cert.LnLossIdeal.τ).loc Cert.LnLossIdeal.main_arg0)) r k - Cert.LnLossRefIdeal.Value.row (m ((c.tc : Thread Cert.LnLossIdeal.nD Cert.LnLossIdeal.τ).loc Cert.LnLossIdeal.main_arg3)) r k) * z) (congrArg (m ((c.tc : Thread Cert.LnLossIdeal.nD Cert.LnLossIdeal.τ).loc Cert.LnLossIdeal.main_arg2)) (eq_ix1 _)).symm)).trans (congrFun (hp c) (ix2 r k))))))⟩

end
-- ==== Proof.LossIdealBody.lean ====
/- The layer norm's gradient with the loss, on each of eight devices: what the kernel's body leaves point by point, while the
   device still owes the sum over the devices its part. -/
module

public import proofs.«01_k».proof.Proof.Gen.LossIdeal
public import proofs.«01_k».proof.Proof.Gen.LossIdeal.Launch
public import proofs.«01_k».proof.Proof.Gen.LossIdeal.Skeleton
public import proofs.«01_k».proof.Proof.Gen.LossIdeal.Points
public import Idealize.ShloMosaic.Lib.Pipeline.FrameBody
public import Idealize.ShloMosaic.Lib.Pipeline.FrameSuffix
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.LossIdeal.Body

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's component beside the all-reduce's. -/
abbrev UU : Type := UR sig nD τ × Sites.UC

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region start no new buffer of their own. -/
theorem hostOps0_fresh : (hostOps0 : List (HloOp τ sig (Elt F))).Forall fun op => op.fresh = ∅ := by
  simp only [List.Forall]; repeat' constructor
/-- The lines after the region start no new buffer of their own. -/
theorem hostOps1_fresh : (hostOps1 : List (HloOp τ sig (Elt F))).Forall fun op => op.fresh = ∅ := by
  simp only [List.Forall]; repeat' constructor

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) ℕ ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) ℕ ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) ℕ ℕ UU ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) ℕ ℕ UU ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 4, through which its contents are stated (`View.read_writes_of_cover`: the
    choice does not matter). -/
abbrev VO0_4 : View sig .tc .vmem S512x1024 .f32 := (Memref.whole cc0_stg4_0 : Memref sig .tc .vmem S512x1024 .f32).view
/-- One staging buffer of output window 5, through which its contents are stated (`View.read_writes_of_cover`: the
    choice does not matter). -/
abbrev VO0_5 : View sig .tc .vmem S512x1024 .bf16 := (Memref.whole cc0_stg5_0 : Memref sig .tc .vmem S512x1024 .bf16).view
/-- One staging buffer of output window 6, through which its contents are stated (`View.read_writes_of_cover`: the
    choice does not matter). -/
abbrev VO0_6 : View sig .tc .vmem S1x1024 .f32 := (Memref.whole cc0_stg6_0 : Memref sig .tc .vmem S1x1024 .f32).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- One staging buffer of output window 8, through which its contents are stated (`View.read_writes_of_cover`: the
    choice does not matter). -/
abbrev VO0_8 : View sig .tc .vmem S1x1024 .f32 := (Memref.whole cc0_stg8_0 : Memref sig .tc .vmem S1x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S512x1024 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x1024 .f32 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S512x1024 .f32 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S512x1024 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S512x1024 .bf16 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x1024 .f32 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x1024 .f32 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S1x1024 .f32 := win0_8.stage (cfg0.slots t 8)
/-- Window 8's staging buffer is a whole buffer. -/
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) :
    Σ' (L4 : List (View.Piece (Elt F) S512x1024 .f32)), Σ' (L5 : List (View.Piece (Elt F) S512x1024 .bf16)), Σ' (L6 : List (View.Piece (Elt F) S1x1024 .f32)), Σ' (L7 : List (View.Piece (Elt F) S1x1024 .f32)), { L8 : List (View.Piece (Elt F) S1x1024 .f32) //
      ∀ (E : Set ℕ) (K : PUnit → sProp (MT nD τ sig ℕ (Elt F) ℕ UU ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_ln_bwd_loss i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_ln_bwd_loss_eq_skeleton]; unfold cc0_ln_bwd_loss_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact H8

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (6, 7, 8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) :
    Σ' (L4 : List (View.Piece (Elt F) S512x1024 .f32)), Σ' (L5 : List (View.Piece (Elt F) S512x1024 .bf16)), Σ' (L6 : List (View.Piece (Elt F) S1x1024 .f32)), Σ' (L7 : List (View.Piece (Elt F) S1x1024 .f32)), { L8 : List (View.Piece (Elt F) S1x1024 .f32) //
      ∀ (E : Set ℕ) (K : PUnit → sProp (MT nD τ sig ℕ (Elt F) ℕ UU ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_ln_bwd_loss i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_ln_bwd_loss_eq_skeleton]; unfold cc0_ln_bwd_loss_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact H8

/-- Case A's pieces for output 4 tile its block (1 store of `S512x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) (y : S512x1024.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S512x1024.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) : Vec F S512x1024 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (1 store of `S512x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) (y : S512x1024.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S512x1024.size (by sl_kernel_rfl) y

/-- What case A leaves in output 5's staging buffer: its pieces read back over junk. -/
def out0_A_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) : Vec F S512x1024 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (2 stores of `S1x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1x1024.size (by sl_kernel_rfl) y

/-- What case A leaves in output 6's staging buffer: its pieces read back over junk. -/
def out0_A_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) : Vec F S1x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for output 7 tile its block (2 stores of `S1x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S1x1024.size (by sl_kernel_rfl) y

/-- What case A leaves in output 7's staging buffer: its pieces read back over junk. -/
def out0_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) : Vec F S1x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3).2.2.2.1)

/-- Case A's pieces for output 8 tile its block (2 stores of `S1x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.2.1 S1x1024.size (by sl_kernel_rfl) y

/-- What case A leaves in output 8's staging buffer: its pieces read back over junk. -/
def out0_A_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x1024 .f32) (x2 : Vec F S1x1024 .f32) (x3 : Vec F S512x1024 .f32) : Vec F S1x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3).2.2.2.2.1)

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 hc0 x0 x1 x2 x3 xo6 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo6 xo7 xo8).1 S512x1024.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) : Vec F S512x1024 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xo6 xo7 xo8).1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 hc0 x0 x1 x2 x3 xo6 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo6 xo7 xo8).2.1 S512x1024.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) : Vec F S512x1024 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xo6 xo7 xo8).2.1)

/-- Case B's pieces for output 6 tile its block (1 store of `S1x1024`, checked by the kernel's evaluation: Lib/Ring.lean `Piece.tiledL`, linear in the pieces, through a loop's `@[irreducible]` trip theorem too), so they cover it. -/
theorem cover0_B_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 hc0 x0 x1 x2 x3 xo6 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo6 xo7 xo8).2.2.1 S1x1024.size (by sl_kernel_rfl) y

/-- What case B leaves in output 6's staging buffer: its pieces read back over junk. -/
def out0_B_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) : Vec F S1x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xo6 xo7 xo8).2.2.1)

/-- Case B's pieces for output 7 tile its block (1 store of `S1x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 hc0 x0 x1 x2 x3 xo6 xo7 xo8).2.2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo6 xo7 xo8).2.2.2.1 S1x1024.size (by sl_kernel_rfl) y

/-- What case B leaves in output 7's staging buffer: its pieces read back over junk. -/
def out0_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) : Vec F S1x1024 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 xo6 xo7 xo8).2.2.2.1)

/-- Case B's pieces for output 8 tile its block (1 store of `S1x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 hc0 x0 x1 x2 x3 xo6 xo7 xo8).2.2.2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo6 xo7 xo8).2.2.2.2.1 S1x1024.size (by sl_kernel_rfl) y

/-- What case B leaves in output 8's staging buffer: its pieces read back over junk. -/
def out0_B_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x1024 .f32) (x2 : Vec F S1x1024 .f32) (x3 : Vec F S512x1024 .f32) (xo6 : Vec F S1x1024 .f32) (xo7 : Vec F S1x1024 .f32) (xo8 : Vec F S1x1024 .f32) : Vec F S1x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 xo6 xo7 xo8).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .bf16 × Vec F S1x1024 .f32 × Vec F S1x1024 .f32 × Vec F S1x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the scoped rest and
    the generator register; the all-reduce's dues owed throughout; full shares. -/
def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2
  Φ _ := iprop(Pipeline.scopedRest (Ix := ℕ) (Name := ℕ) (U := UU) (Lvl := ℕ) (Val := Elt F) spec0 c ∗ ∃ r, prngReg c r)
  q _ := fullShare
  owed _ := Sites.O0 (F := F) c

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after the body at a point. -/
theorem after0_1 (c : Dev nD) (t : Fin cfg0.N) : (dats m 0 c).after 1 t = iblk m c 1 t := by dsimp only [dats]
/-- What window 2 holds after the body at a point. -/
theorem after0_2 (c : Dev nD) (t : Fin cfg0.N) : (dats m 0 c).after 2 t = iblk m c 2 t := by dsimp only [dats]
/-- What window 3 holds after the body at a point. -/
theorem after0_3 (c : Dev nD) (t : Fin cfg0.N) : (dats m 0 c).after 3 t = iblk m c 3 t := by dsimp only [dats]
/-- What window 4 holds after the body at a point. -/
theorem after0_4 (c : Dev nD) (t : Fin cfg0.N) : (dats m 0 c).after 4 t = (outsAt0 m c t.val t.isLt).1 := by dsimp only [dats]
/-- What window 5 holds after the body at a point. -/
theorem after0_5 (c : Dev nD) (t : Fin cfg0.N) : (dats m 0 c).after 5 t = (outsAt0 m c t.val t.isLt).2.1 := by dsimp only [dats]
/-- What window 6 holds after the body at a point. -/
theorem after0_6 (c : Dev nD) (t : Fin cfg0.N) : (dats m 0 c).after 6 t = (outsAt0 m c t.val t.isLt).2.2.1 := by dsimp only [dats]
/-- What window 7 holds after the body at a point. -/
theorem after0_7 (c : Dev nD) (t : Fin cfg0.N) : (dats m 0 c).after 7 t = (outsAt0 m c t.val t.isLt).2.2.2.1 := by dsimp only [dats]
/-- What window 8 holds after the body at a point. -/
theorem after0_8 (c : Dev nD) (t : Fin cfg0.N) : (dats m 0 c).after 8 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before the body at a point. -/
theorem before0_1 (c : Dev nD) (t : Fin cfg0.N) (d) : (dats m 0 c).before 1 t d = iblk m c 1 t :=
  before0_1_of m (dats m 0 c) (A_eq m c 1) (after0_1 m c) t d
/-- What window 2 holds before the body at a point. -/
theorem before0_2 (c : Dev nD) (t : Fin cfg0.N) (d) : (dats m 0 c).before 2 t d = iblk m c 2 t :=
  before0_2_of m (dats m 0 c) (A_eq m c 2) (after0_2 m c) t d
/-- What window 3 holds before the body at a point. -/
theorem before0_3 (c : Dev nD) (t : Fin cfg0.N) (d) : (dats m 0 c).before 3 t d = iblk m c 3 t :=
  before0_3_of m (dats m 0 c) (A_eq m c 3) (after0_3 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig ℕ (Elt F) ℕ UU ℕ) :=
  iprop((dats m 0 c).Φ t.castSucc ∗ (dats m 0 c).owesAt 0 t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig ℕ (Elt F) ℕ UU ℕ) :=
  iprop((dats m 0 c).Φ t.succ ∗ (dats m 0 c).owesAt 0 t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant passes through unread; what the core owes does not change. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt 0 t.succ = (dats m 0 c).owesAt 0 t.castSucc from rfl,
    after0_0, after0_1, after0_2, after0_3, after0_4, after0_5, after0_6, after0_7, after0_8]
  have hN : t.val < 16 := lt_of_lt_of_eq t.isLt (show cfg0.N = 16 from N_0)
  by_cases h0 : t.val % 16 = 0
  · rw [outsAt0_A m c t h0]
    unfold out0_A_4 out0_A_5 out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    iintro ⟨H0, H1, H2, H3, ⟨%e4, H4⟩, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _)
  · rw [outsAt0_B m c t h0]
    simp only [before0_6_B m c t h0, before0_7_B m c t h0, before0_8_B m c t h0]
    unfold out0_B_4 out0_B_5 out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) _ _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexact H8
    iintro ⟨H0, H1, H2, H3, ⟨%e4, H4⟩, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none 0 Set.univ := fun t => by
  rw [bigSep_W0, bigSep_W0, defs₀_row]
  exact triple_restated (sound_body m c t) rfl .rfl fun _ => .rfl

end Cert.LossIdeal.Body

end
-- ==== Proof.LossIdealRun.lean ====
/- The layer norm's gradient with the loss, on each of eight devices, and the sum of the devices' losses: the run. -/
module

public import proofs.«01_k».proof.Proof.LossIdealBody
public import Idealize.ShloMosaic.Lib.StableHlo.CollectiveRules
public import Idealize.ShloMosaic.Lib.Pipeline.Regions
public import Idealize.ShloMosaic.Lib.Pipeline.RegionArrays
public import Idealize.ShloMosaic.Lib.Pipeline.CollectiveSegs

@[expose] public section

set_option maxRecDepth 16384

noncomputable section

namespace Cert.LossIdeal.Body

open Cert.LossIdeal Cert.LossIdeal.Gen
open Cert.LossIdeal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's component of the ghost state. -/
abbrev EP : Emb (UR sig nD τ) (MT nD τ sig ℕ (Elt F) ℕ UU ℕ) := embL
/-- The all-reduce's component of the ghost state. -/
abbrev EC : Emb Sites.UC (MT nD τ sig ℕ (Elt F) ℕ UU ℕ) := embR

variable (m : (ℓ : Loc nD τ sig) → Buf (Elt F) ℓ) (ρ : Dev nD → PrngReg)

/-- The one pipeline's side conditions. -/
abbrev adm : (p : Fin 1) → (pcfgs (F := F) p).Adm := fun p => (cfgs p).toPCfg_adm

/-- No loop has a measure. -/
abbrev 𝒱₀ : Variants := Variants.none

/-- The buffers as the region finds them, on each device. -/
abbrev Ve (c : Dev nD) : Valuation τ sig (Elt F) := StableHlo.after hostOps0 (fun b => m (c, b))

/-- The proof data, at the pipeline's family. -/
abbrev pdats : (p : Fin 1) → (c : Dev nD) → Pipeline.Dat τ (Elt F) ℕ ℕ UU ℕ (Pipeline.pin (pcfgs (F := F)) adm p) c :=
  fun p c => match p with | ⟨0, _⟩ => dats m 0 c

/-- The buffers as the region leaves them. -/
abbrev Vx (c : Dev nD) : Valuation τ sig (Elt F) :=
  Pipeline.withArrays spec0 c (Ve m c) (fun w => (dats m 0 c).arrAt w cfg0.N)

/-- The buffers as the all-reduce finds them: each device's sum of its parts is the operand. -/
abbrev V₁ (c : Dev nD) : Valuation τ sig (Elt F) := StableHlo.after hostOps1 (Vx m c)

/-- The buffers at the end. -/
abbrev V₂ (c : Dev nD) : Valuation τ sig (Elt F) := (ar0 (F := F)).after₀ (V₁ m) c

/-- The all-reduce's invariants, which any number of holders may keep. -/
abbrev invs : sProp (MT nD τ sig ℕ (Elt F) ℕ UU ℕ) := iprop(∃ κ, (AllReduce.Dat.once (ar0 (F := F)) (V₁ m)).cellInvs (Sites.E0 EC) κ)

/-- The operations before the region. -/
def seg0 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv (Pipeline.ucRefs τ sig) hostOps0
    (fun op h => Pipeline.sub_ucRefs op (List.forall_iff_forall_mem.mp hostOps0_sub op h)) (List.forall_iff_forall_mem.mp hostOps0_fresh)
    (fun c b => m (c, b)) (Sites.Es EC (V₁ m) 0)

/-- What the region carries and does not touch: the other buffers, and the all-reduce's launch state. -/
abbrev RR (c : Dev nD) : sProp (MT nD τ sig ℕ (Elt F) ℕ UU ℕ) :=
  iprop(StableHlo.held (c : Thread nD τ) (Pipeline.ucRefs τ sig \ Pipeline.arrRefs spec0) (Ve m c) ∗ Sites.rides0 EC (V₁ m) c)

/-- The region, the device owing the all-reduce its dues throughout. -/
def reg0 : Pipeline.RegionSeg (pcfgs (F := F)) adm (pdats m) 0 defs₀ 𝒱₀ L lv 0 :=
  Pipeline.RegionSeg.ofHeld (pcfgs (F := F)) adm (pdats m) 0 defs₀ 𝒱₀ L lv 0 (Sites.O0 (F := F))
    (fun c => iprop(∃ r, prngReg c r)) (fun c => iprop(∃ r, prngReg c r)) launch0.toP rfl
    (fun c => (body_obligation m c).loose) (fun _ _ => rfl) (fun _ => rfl)
    (fun c => (dats m 0 c).share_full fun _ => rfl)
    (fun c => .rfl) (fun c => .rfl) (fun _ => 0)
    ⟨fun c w s => Sites.mem_L _ _ (by decide), fun c w s => le_refl _, fun c g i hg => ⟨(Sites.O0_pos hg).1, (Sites.O0_pos hg).2⟩⟩
    (RR m) (Ve m) (Vx m)
    (fun c w => A_eq m c w)
    (fun c w => (Pipeline.withArrays_arr spec0 launch0.win.arr_inj c (Ve m c) (fun w => (dats m 0 c).arrAt w cfg0.N) w).symm)

/-- The operations between the region and the all-reduce. -/
def seg1 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv (Pipeline.ucRefs τ sig) hostOps1
    (fun op h => Pipeline.sub_ucRefs op (List.forall_iff_forall_mem.mp hostOps1_sub op h)) (List.forall_iff_forall_mem.mp hostOps1_fresh)
    (Vx m) (fun c => iprop(Sites.Es EC (V₁ m) 0 c ∗ invs m))

/-- The all-reduce. -/
abbrev segC : Pipeline.HostSeg (Ix := ℕ) (Name := ℕ) (U := UU) (Lvl := ℕ) (pcfgs (F := F)) defs₀ 𝒱₀ L lv :=
  Sites.seg0 EC 𝒱₀ (V₁ m) (Sites.Rest0 (V₁ m) (fun _ => invs m))

/-- The program as its segments. -/
def segs : List (Pipeline.Seg (pcfgs (F := F)) adm (pdats m) 0 defs₀ 𝒱₀ L lv) :=
  [.host (seg0 m), .region (reg0 m), .host (seg1 m), .host (segC m)]

/-- The program is its segments, one after another. -/
theorem main_eq (c : Dev nD) : main (F := F) c = Pipeline.Seg.run (segs m) :=
  main_segs adm (pdats m) 0 𝒱₀ L lv (seg0 m) (seg1 m) (segC m) (reg0 m) rfl rfl rfl c

/-- The last state: every buffer at its final contents, and the all-reduce's cells past their one execution. -/
abbrev Tₙ (c : Dev nD) : sProp (MT nD τ sig ℕ (Elt F) ℕ UU ℕ) :=
  iprop(StableHlo.held (c : Thread nD τ) (Pipeline.ucRefs τ sig) (V₂ m c) ∗ (invs m ∗ Sites.Ghost0 EC c))

/-- The region's arrays are among the buffers that outlive it. -/
theorem arrs_sub : Pipeline.arrRefs (τ := τ) spec0 ⊆ Pipeline.ucRefs τ sig :=
  Pipeline.arrRefs_sub_ucRefs spec0 (by decide)

/-- From the operations before the region into it. -/
theorem link0 (c : Dev nD) : (seg0 m).post c ⊢ (reg0 m).pre c := by
  dsimp only [seg0, Pipeline.HostSeg.ofOps, reg0, Pipeline.RegionSeg.ofHeld]
  rw [Sites.Es_0, StableHlo.held_sub_split (c : Thread nD τ) arrs_sub]
  iintro ⟨⟨Ha, Hu⟩, ⟨HO, Hp, Hr⟩⟩
  isplitl [Ha]; · iexact Ha
  isplitl [Hp]; · iexact Hp
  isplitl [Hu Hr]
  · isplitl [Hu]; · iexact Hu
    iexact Hr
  iexact HO

/-- Off the windows' arrays the region leaves the buffers as it found them. -/
theorem Vx_off (c : Dev nD) (b : DevRef τ sig) (hb : b ∈ Pipeline.ucRefs τ sig \ Pipeline.arrRefs spec0) : Ve m c b = Vx m c b := by
  obtain ⟨h1, h2⟩ := Finset.mem_sdiff.mp hb
  obtain ⟨r, -, rfl⟩ := Finset.mem_map.mp (Finset.mem_filter.mp h1).1
  refine (Pipeline.withArrays_of_ne spec0 c (Ve m c) (fun w => (dats m 0 c).arrAt w cfg0.N) r fun w hw => h2 ?_).symm
  exact Finset.mem_map.mpr ⟨r, Finset.mem_image.mpr ⟨w, Finset.mem_univ _, hw⟩, rfl⟩

/-- From the region into the operations after it. -/
theorem link1 (c : Dev nD) : (reg0 m).post c ⊢ (seg1 m).pre c := by
  dsimp only [seg1, Pipeline.HostSeg.ofOps, reg0, Pipeline.RegionSeg.ofHeld]
  rw [Sites.Es_0, StableHlo.held_sub_split (c : Thread nD τ) arrs_sub (Vx m c),
    ← StableHlo.held_congr (c : Thread nD τ) (Vx_off m c)]
  iintro ⟨Ha, Hp, ⟨Hu, Hr⟩, HO⟩
  ihave #Hi := (show Sites.rides0 EC (V₁ m) c ⊢ invs m from by
    unfold Sites.rides0 AllReduce.Dat.rides; iintro ⟨Hi, -⟩; iexact Hi) $$ Hr
  isplitl [Ha Hu]
  · isplitl [Ha]; · iexact Ha
    iexact Hu
  isplitl [HO Hp Hr]
  · isplitl [HO]; · iexact HO
    isplitl [Hp]; · iexact Hp
    iexact Hr
  iexact Hi

/-- From those into the all-reduce. -/
theorem link2 (c : Dev nD) : (seg1 m).post c ⊢ (segC m).pre c :=
  Sites.pre0 EC 𝒱₀ (V₁ m) (fun _ => invs m) c

/-- From the all-reduce to the end. -/
theorem link3 (c : Dev nD) : (segC m).post c ⊢ iprop(Tₙ m c ∗ ∃ W, owes (c : Thread nD τ) (0 : CellTallies nD τ sig ℕ) W) := by
  refine (Sites.post0 EC 𝒱₀ (V₁ m) (fun _ => invs m) c).trans ?_
  iintro ⟨Hu, HE, Hg, Hi⟩
  ihave HO := (Sites.hE_last EC (V₁ m) c) $$ HE
  isplitr [HO]
  · isplitl [Hu]; · iexact Hu
    isplitl [Hi]; · iexact Hi
    iexact Hg
  iexact HO

/-- What the launch starts from: the pipeline's cells and the all-reduce's. -/
def u₀ : UU :=
  (initOf (Pipeline.cells (Pipeline.pin (pcfgs (F := F)) adm) cellOf_inj) (Pipeline.launchToks (Pipeline.pin (pcfgs (F := F)) adm) cellOf_inj),
    Sites.uC (U := UU) (V₁ m))

/-- The launch deals every device its buffers and the all-reduce's launch state. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (fun c => (seg0 m).pre c) : sProp (MT nD τ sig ℕ (Elt F) ℕ UU ℕ)) := by
  have h2 (c : Dev nD) : iprop(unscopedBufs c (fun b => m ((c : Thread nD τ).loc b)) ∗ Sites.Es EC (V₁ m) 0 c)
      ⊢ ((seg0 m).pre c : sProp (MT nD τ sig ℕ (Elt F) ℕ UU ℕ)) := by
    dsimp only [seg0, Pipeline.HostSeg.ofOps]
    rw [← Pipeline.unscopedBufs_held]
  iintro ⟨H, HL⟩
  ihave H' := (show _ ⊢ iprop((bigSep Finset.univ fun c : Dev nD => unscopedBufs c (fun b => m ((c : Thread nD τ).loc b)))
        ∗ bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V₁ m) c))
      from by rw [← bigSep_sep']) $$ H
  icases H' with ⟨Hb, Hs⟩
  imod (Sites.hE0 EC (V₁ m) ρ) $$ [Hs HL] with HE
  · isplitl [Hs]; · iexact Hs
    iexact HL
  imodintro
  iapply (show iprop((bigSep Finset.univ fun c : Dev nD => unscopedBufs c (fun b => m ((c : Thread nD τ).loc b)))
        ∗ bigSep Finset.univ (Sites.Es EC (V₁ m) 0))
      ⊢ bigSep Finset.univ (fun c => (seg0 m).pre c) from by rw [← bigSep_sep']; exact bigSep_mono fun c _ => h2 c)
  isplitl [Hb]; · iexact Hb
  iexact HE

/-- The buffers the claims name. -/
def named : Finset (DevRef τ sig) :=
  {Proc.devRef .tc main_arg0, Proc.devRef .tc main_arg1, Proc.devRef .tc main_arg2, Proc.devRef .tc main_arg3, Proc.devRef .tc main_v4}

/-- The named buffers are among those that outlive the region. -/
theorem named_sub : named ⊆ Pipeline.ucRefs τ sig := by
  intro b hb
  simp only [named, Finset.mem_insert, Finset.mem_singleton] at hb
  rcases hb with rfl | rfl | rfl | rfl | rfl <;> exact Pipeline.devRef_mem_ucRefs rfl

/-- The named buffers, held one by one. -/
theorem held_named (c : Dev nD) (W : Valuation τ sig (Elt F)) :
    (StableHlo.held (c : Thread nD τ) named W : sProp (MT nD τ sig ℕ (Elt F) ℕ UU ℕ))
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_v4) ↦{fullShare} W main_v4)) := by
  unfold StableHlo.held
  rw [bigSep_eq_bigSepL_of_eq [Proc.devRef .tc main_arg0, Proc.devRef .tc main_arg1, Proc.devRef .tc main_arg2, Proc.devRef .tc main_arg3, Proc.devRef .tc main_v4] (by decide) (by decide)]
  rfl

set_option backward.isDefEq.respectTransparency.types false in
/-- The run: from any memory with zero counters every weakly fair execution on the eight devices ends, with every named
    buffer at its final contents and every counter at zero. -/
theorem run_main : θ_run defs (onTc (τ := τ) (main (F := F))) ⟨m, fun _ => 0, ρ⟩
    (fun r => (∀ c : Dev nD, r.2.mem ((c : Thread nD τ).loc main_arg0) = V₂ m c main_arg0
      ∧ r.2.mem ((c : Thread nD τ).loc main_arg1) = V₂ m c main_arg1
      ∧ r.2.mem ((c : Thread nD τ).loc main_arg2) = V₂ m c main_arg2
      ∧ r.2.mem ((c : Thread nD τ).loc main_arg3) = V₂ m c main_arg3
      ∧ r.2.mem ((c : Thread nD τ).loc main_v4) = V₂ m c main_v4) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := fun c => (seg0 m).pre c) (Tₙ := Tₙ m)
    (hch := ⟨fun c => .rfl, link0 m, link1 m, link2 m, link3 m⟩)
    (hinit := init m ρ)
    (QY := fun c s => (s.mem ((c : Thread nD τ).loc main_arg0) = V₂ m c main_arg0
      ∧ s.mem ((c : Thread nD τ).loc main_arg1) = V₂ m c main_arg1
      ∧ s.mem ((c : Thread nD τ).loc main_arg2) = V₂ m c main_arg2
      ∧ s.mem ((c : Thread nD τ).loc main_arg3) = V₂ m c main_arg3
      ∧ s.mem ((c : Thread nD τ).loc main_v4) = V₂ m c main_v4)
      ∧ (s.sem ((ar0 (F := F)).barrierCell c) = 0 ∧ s.sem ((ar0 (F := F)).recvCell c) = 0 ∧ s.sem ((ar0 (F := F)).sendCell c) = 0))
    (hfin := fun c s' => by
      unfold Tₙ
      rw [StableHlo.held_sub_split (c : Thread nD τ) named_sub (V₂ m c), held_named c (V₂ m c)]
      iintro ⟨⟨⟨⟨H0, H1, H2, H3, H4⟩, -⟩, Hi, Hg⟩, HSI⟩
      icombine HSI H0 gives %h0
      icombine HSI H1 gives %h1
      icombine HSI H2 gives %h2
      icombine HSI H3 gives %h3
      icombine HSI H4 gives %h4
      imod ((AllReduce.Dat.once (ar0 (F := F)) (V₁ m)).ghostAfter_read (Sites.E0 EC) c (k := 0) le_rfl s') $$ [Hi Hg HSI] with ⟨%hz, HSI⟩
      · isplitl [Hi Hg]
        · isplitl [Hi] <;> iassumption
        iexact HSI
      imodintro
      isplitr
      · ipureintro
        exact ⟨⟨Buf.eq_of_forall_mem_univ h0, Buf.eq_of_forall_mem_univ h1, Buf.eq_of_forall_mem_univ h2,
          Buf.eq_of_forall_mem_univ h3, Buf.eq_of_forall_mem_univ h4⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The all-reduce writes neither an argument nor anything but its result and its receive buffers. -/
theorem off_fold (b : Ref sig .tc) (h0 : b ≠ main_v4) (h1 : ∀ j, b ≠ ar0_stage j) : Proc.devRef .tc b ∉ (ar0 (F := F)).foldBufs := fun h => by
  rcases Finset.mem_insert.mp h with h | h
  · exact StableHlo.devRef_ne_of_ne h0 h
  · obtain ⟨j, hj⟩ := (ar0 (F := F)).mem_stageRefs.mp h
    exact StableHlo.devRef_ne_of_ne (h1 j) hj

/-- `main_arg0` ends as launched. -/
theorem V₂_main_arg0 (c : Dev nD) : V₂ m c main_arg0 = m ((c : Thread nD τ).loc main_arg0) := by
  refine ((ar0 (F := F)).after₀_of_notMem (V₁ m) c (off_fold main_arg0 (by decide) (by decide))).trans ?_
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact (Pipeline.withArrays_arr spec0 launch0.win.arr_inj c (Ve m c) (fun w => (dats m 0 c).arrAt w cfg0.N) 0).trans (((dats m 0 c).arrAt_in 0 rfl _).trans ((A_eq m c 0).trans (V_main_arg0 m c)))

/-- `main_arg1` ends as launched. -/
theorem V₂_main_arg1 (c : Dev nD) : V₂ m c main_arg1 = m ((c : Thread nD τ).loc main_arg1) := by
  refine ((ar0 (F := F)).after₀_of_notMem (V₁ m) c (off_fold main_arg1 (by decide) (by decide))).trans ?_
  refine (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact (Pipeline.withArrays_arr spec0 launch0.win.arr_inj c (Ve m c) (fun w => (dats m 0 c).arrAt w cfg0.N) 1).trans (((dats m 0 c).arrAt_in 1 rfl _).trans ((A_eq m c 1).trans (V_main_arg1 m c)))

/-- `main_arg2` ends as launched. -/
theorem V₂_main_arg2 (c : Dev nD) : V₂ m c main_arg2 = m ((c : Thread nD τ).loc main_arg2) := by
  refine ((ar0 (F := F)).after₀_of_notMem (V₁ m) c (off_fold main_arg2 (by decide) (by decide))).trans ?_
  refine (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact (Pipeline.withArrays_of_ne _ c (Ve m c) _ main_arg2 (by exact (by decide : ∀ w, Pipeline.arrRef spec0 w ≠ main_arg2))).trans (V_main_arg2 m c)

/-- `main_arg3` ends as launched. -/
theorem V₂_main_arg3 (c : Dev nD) : V₂ m c main_arg3 = m ((c : Thread nD τ).loc main_arg3) := by
  refine ((ar0 (F := F)).after₀_of_notMem (V₁ m) c (off_fold main_arg3 (by decide) (by decide))).trans ?_
  refine (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact (Pipeline.withArrays_arr spec0 launch0.win.arr_inj c (Ve m c) (fun w => (dats m 0 c).arrAt w cfg0.N) 3).trans (((dats m 0 c).arrAt_in 3 rfl _).trans ((A_eq m c 3).trans (V_main_arg3 m c)))

/-- Every run ends with the arguments as launched and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1.trans (V₂_main_arg0 m c), (h.1 c).2.1.trans (V₂_main_arg1 m c),
    (h.1 c).2.2.1.trans (V₂_main_arg2 m c), (h.1 c).2.2.2.1.trans (V₂_main_arg3 m c)⟩, h.2⟩) (run_main m ρ)

end Cert.LossIdeal.Body

end
-- ==== Proof.LossVal.lean ====
/- The sum over the devices of their losses: what each device's kernel leaves of its rows' loss, its sum, the sum of the eight,
   and the same number by the whole arrays. -/
module

public import proofs.«01_k».proof.Proof.Products
public import proofs.«01_k».proof.Proof.RowNorm
public import proofs.«01_k».proof.Proof.LossIdealRun
public import proofs.«01_k».proof.Proof.LossRun
public import proofs.«01_k».proof.Proof.Gen.LossRefIdeal.Run
public import proofs.«01_k».proof.Proof.Gen.LossRefIdeal.Read
public import Idealize.ShloMosaic.Lib.Pipeline.Value
public import Idealize.ShloMosaic.Lib.Layout
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx
open scoped BigOperators

namespace Cert.LossIdeal.Body

open Cert.LossIdeal Cert.LossIdeal.Gen Products

/-- A row of one device's array, by its number. -/
def LossRow (x : Vec Ideal ⟨2, ![8192, 1024]⟩ .f32) (r : ℕ) (k : Fin 1024) : EReal := Products.at2 (A := 8192) (B := 1024) x r k.val

/-- The loss's part at a row and a column: half the square of the output less its target, over the width. -/
def LossSq (y t : Vec Ideal ⟨2, ![8192, 1024]⟩ .f32) (r : ℕ) (q : Fin 1024) : EReal :=
  (LossRow y r q - LossRow t r q) * (LossRow y r q - LossRow t r q) * FloatOps.ofBits (F := Ideal) .f32 0x3A000000#32

/-- The loss's parts on one device, summed over its rows. -/
def LossPartsOf (y t : Vec Ideal ⟨2, ![8192, 1024]⟩ .f32) : Vec Ideal ⟨2, ![1, 1024]⟩ .f32 := fun i =>
  ∑ r : Fin 8192, LossSq y t r.val (i 1)

/-- A row of the whole array, by its number. -/
def WholeRow (x : Vec Ideal ⟨2, ![65536, 1024]⟩ .f32) (r : ℕ) (k : Fin 1024) : EReal := Products.at2 (A := 65536) (B := 1024) x r k.val

/-- The loss's part at a row of the whole array and a column. -/
def WholeSq (y t : Vec Ideal ⟨2, ![65536, 1024]⟩ .f32) (r : ℕ) (q : Fin 1024) : EReal :=
  (WholeRow y r q - WholeRow t r q) * (WholeRow y r q - WholeRow t r q) * FloatOps.ofBits (F := Ideal) .f32 0x3A000000#32

/-- The loss: the sum of its parts over every row and column. -/
def WholeLoss (y t : Vec Ideal ⟨2, ![65536, 1024]⟩ .f32) : Vec Ideal ⟨0, ![]⟩ .f32 := fun _ =>
  ∑ r : Fin 65536, ∑ q : Fin 1024, WholeSq y t r.val q

/-- One device's loss. -/
def LossOf (y t : Vec Ideal ⟨2, ![8192, 1024]⟩ .f32) : EReal := ∑ q : Fin 1024, ∑ r : Fin 8192, LossSq y t r.val q

/-- The corner of a two-dimensional block. -/
theorem hz2 : (![0, 0] : Fin 2 → Nat) = fun _ => 0 := funext fun a => by fin_cases a <;> rfl

/-- A square is not negative. -/
theorem sq_nonneg' (x : EReal) : 0 ≤ x * x := by
  rcases le_total 0 x with h | h
  · exact mul_nonneg h h
  · have e : x * x = (-x) * (-x) := (neg_mul_neg x x).symm
    have h' : 0 ≤ -x := by
      have h'' := EReal.neg_le_neg_iff.2 h
      rwa [neg_zero] at h''
    rw [e]
    exact mul_nonneg h' h'

/-- A sum of numbers not negative times a number is the sum of them times it. -/
theorem sum_mul_of_nonneg {ι : Type} (s : Finset ι) (f : ι → EReal) (c : EReal) (h : ∀ i, 0 ≤ f i) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

section Bodies

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)

/-- The first point starts the loss's parts from zero. -/
theorem out0_A_8_eq (hc0 : cond0_0 i) (x0 x1 : Vec Ideal S512x1024 .f32) (x2 : Vec Ideal S1x1024 .f32) (x3 : Vec Ideal S512x1024 .f32) :
    out0_A_8 (F := Ideal) c i arg1 harg1 arg2 harg2 arg3 harg3 arg4 harg4 arg5 harg5 arg6 harg6 arg7 harg7 arg8 harg8 arg9 harg9 hc0 x0 x1 x2 x3 = k0_pay6 (F := Ideal) x0 x3 (k0_pay3 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_cons_unit_zero (S := S1x1024) hz2, View.readCov_unit_zero (S := S1x1024) _ hz2]

/-- A later point adds to the loss's parts. -/
theorem out0_B_8_eq (hc0 : ¬cond0_0 i) (x0 x1 : Vec Ideal S512x1024 .f32) (x2 : Vec Ideal S1x1024 .f32) (x3 : Vec Ideal S512x1024 .f32) (xo6 xo7 xo8 : Vec Ideal S1x1024 .f32) :
    out0_B_8 (F := Ideal) c i arg1 harg1 arg2 harg2 arg3 harg3 arg4 harg4 arg5 harg5 arg6 harg6 arg7 harg7 arg8 harg8 arg9 harg9 hc0 x0 x1 x2 x3 xo6 xo7 xo8 = k0_pay6 (F := Ideal) x0 x3 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 xo6 xo7 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2]
  rw [View.canon_unit_zero (S := S1x1024) hz2]

end Bodies

section Payloads

variable (g : Vec Ideal S1x1024 .f32) (y t : Vec Ideal S512x1024 .f32)

/-- A tile summed down its columns. -/
theorem colsum_at (y : FVec Ideal S512x1024 .f32) (hr) (hf) (ha) (hc) (q : Fin 1024) :
    shapeCast S1x1024 (multiReduction (F := Ideal) .add [0] S1024 y 0x00000000#32 hr hf ha) hc (ix2 0 q) = ∑ p : Fin 512, y (ix2 p q) := by
  refine (shapeCast_a_1a_apply _ _ 0 q).trans ?_
  refine (Ideal.multiReduction_add_single y _ _ _ _ (ix1 q)).trans (Finset.sum_congr rfl fun a _ => congrArg y ?_)
  funext b
  match b with
  | ⟨0, _⟩ => rfl
  | ⟨1, _⟩ => rfl

/-- One step of the loss's parts. -/
theorem pay6_at (q : Fin 1024) : k0_pay6 (F := Ideal) y t g (ix2 0 q)
    = g (ix2 0 q) + ∑ p : Fin 512, (y (ix2 p q) - t (ix2 p q)) * (y (ix2 p q) - t (ix2 p q)) * FloatOps.ofBits (F := Ideal) .f32 0x3A000000#32 := by
  unfold k0_pay6 k0_pay4
  simp only [shapeCast_self]
  refine congrArg (fun z : EReal => g (ix2 0 q) + z) ?_
  refine (congrArg (fun z : EReal => z * FloatOps.ofBits (F := Ideal) .f32 0x3A000000#32) (colsum_at _ _ _ _ _ q)).trans ?_
  exact sum_mul_of_nonneg _ _ _ fun p => sq_nonneg' _

/-- The loss's parts start at zero. -/
theorem pay3_at (i : S1x1024.Idx) : k0_pay3 (F := Ideal) i = 0 := Ideal.ofBits_zero_f32

end Payloads

variable (m : (ℓ : Loc nD τ sig) → Buf (Elt Ideal) ℓ) (ρ : Dev nD → PrngReg)

/-- The grid has sixteen points. -/
theorem ltN (t : Fin cfg0.N) : t.val < 16 := lt_of_lt_of_eq t.isLt N_0

/-- The output's block at a point: that point's rows. -/
theorem ixw0 : ∀ t : Fin grid0.N, win0_0.index t 0 = t.val ∧ win0_0.index t 1 = 0 := by decide +kernel

/-- The target's block at a point: that point's rows. -/
theorem ixw3 : ∀ t : Fin grid0.N, win0_3.index t 0 = t.val ∧ win0_3.index t 1 = 0 := by decide +kernel

/-- The loss's parts have one block. -/
theorem ixw8 : ∀ t : Fin grid0.N, win0_8.index t 0 = 0 ∧ win0_8.index t 1 = 0 := by decide +kernel

/-- The output's block: a tile of rows. -/
theorem blk0 (c : Dev nD) (t : Fin cfg0.N) (p : Fin 512) (k : Fin 1024) :
    iblk m c 0 t (ix2 p k) = LossRow (m ((c.tc : Thread nD τ).loc main_arg0)) (t.val * 512 + p.val) k := by
  have ht := ltN t; have hk := k.isLt; have hp := p.isLt
  unfold iblk
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * p.val = (t.val * 512 + p.val) % 8192; rw [(ixw0 t).1]; omega
  | ⟨1, _⟩ => show win0_0.index t 1 * 1024 + 1 * k.val = k.val % 1024; rw [(ixw0 t).2]; omega

/-- The target's block: a tile of rows. -/
theorem blk3 (c : Dev nD) (t : Fin cfg0.N) (p : Fin 512) (k : Fin 1024) :
    iblk m c 3 t (ix2 p k) = LossRow (m ((c.tc : Thread nD τ).loc main_arg3)) (t.val * 512 + p.val) k := by
  have ht := ltN t; have hk := k.isLt; have hp := p.isLt
  unfold iblk
  rw [View.read_apply]
  show m ((c.tc : Thread nD τ).loc main_arg3) _ = m ((c.tc : Thread nD τ).loc main_arg3) _
  congr 1; funext b; apply Fin.ext
  match b with
  | ⟨0, _⟩ => show win0_3.index t 0 * 512 + 1 * p.val = (t.val * 512 + p.val) % 8192; rw [(ixw3 t).1]; omega
  | ⟨1, _⟩ => show win0_3.index t 1 * 1024 + 1 * k.val = k.val % 1024; rw [(ixw3 t).2]; omega

/-- One step of the loss's parts at a point. -/
theorem step8 (c : Dev nD) (t : Fin cfg0.N) (a : Vec Ideal S1x1024 .f32) (q : Fin 1024) :
    k0_pay6 (F := Ideal) (iblk m c 0 t) (iblk m c 3 t) a (ix2 0 q) = a (ix2 0 q) + ∑ p : Fin 512, LossSq (m ((c.tc : Thread nD τ).loc main_arg0)) (m ((c.tc : Thread nD τ).loc main_arg3)) (t.val * 512 + p.val) q := by
  rw [pay6_at]
  refine congrArg (a (ix2 0 q) + ·) (Finset.sum_congr rfl fun p _ => ?_)
  unfold LossSq
  exact congrArg₂ (fun a b : EReal => (a - b) * (a - b) * FloatOps.ofBits (F := Ideal) .f32 0x3A000000#32) (blk0 m c t p q) (blk3 m c t p q)

/-- What a point writes back of window 8. -/
theorem flushed8 (c : Dev nD) (t : Fin cfg0.N) :
    (dats m 0 c).flushed 8 t = (cfg0.win 8).cut (grid0.coords t) ((outsAt0 m c t.val t.isLt).2.2.2.2) := by
  show (cfg0.win 8).cut (grid0.coords t) ((dats m 0 c).after 8 t) = _
  rw [after0_8]

/-- One point's part of the loss's parts. -/
abbrev term8 (c : Dev nD) (q : Fin 1024) (s : ℕ) : EReal := ∑ p : Fin 512, LossSq (m ((c.tc : Thread nD τ).loc main_arg0)) (m ((c.tc : Thread nD τ).loc main_arg3)) (s * 512 + p.val) q

/-- After each point the loss's parts hold the sum over the tiles of rows seen. -/
theorem acc8 (c : Dev nD) (n : ℕ) (hn : n < cfg0.N) (q : Fin 1024) :
    (outsAt0 m c n hn).2.2.2.2 (ix2 0 q) = ∑ s ∈ Finset.range (n + 1), term8 m c q s := by
  induction n with
  | zero =>
    rw [outsAt0_A m c ⟨0, hn⟩ rfl]
    dsimp only
    rw [out0_A_8_eq, step8, pay3_at, zero_add]
    exact (Finset.sum_range_one (fun s => term8 m c q s)).symm
  | succ n ih =>
    have hN : n + 1 < 16 := lt_of_lt_of_eq hn N_0
    rw [outsAt0_B m c ⟨n + 1, hn⟩ (by show ¬(n + 1) % 16 = 0; omega)]
    dsimp only
    rw [out0_B_8_eq, step8]
    refine (congrArg (· + term8 m c q (n + 1)) (ih (Nat.lt_of_succ_lt hn))).trans ?_
    exact (Finset.sum_range_succ _ (n + 1)).symm

/-- The block is written back at the last point alone. -/
theorem flush8_last : ∀ t : Fin grid0.N, (cfg0.win 8).flush t = true ↔ t.val = 15 := by decide +kernel

/-- The array the run leaves in window 8. -/
theorem final8 (c : Dev nD) : (dats m 0 c).arrAt 8 cfg0.N = LossPartsOf (m ((c.tc : Thread nD τ).loc main_arg0)) (m ((c.tc : Thread nD τ).loc main_arg3)) := by
  funext i
  have h0 : (i 0).val < 1 := (i 0).isLt
  have h1 : (i 1).val < 1024 := (i 1).isLt
  obtain ⟨n, hn⟩ : ∃ n, n = 15 := ⟨15, rfl⟩
  have hp : n < cfg0.N := lt_of_lt_of_eq (by omega) N_0.symm
  have hd : ∀ t t' : Fin cfg0.N, (cfg0.win 8).flush t = true → (cfg0.win 8).flush t' = true → t ≠ t' →
      Disjoint ((cfg0.win 8).blk t).view.set ((cfg0.win 8).blk t').view.set :=
    fun t t' h h' hne => absurd (Fin.ext (((flush8_last t).1 h).trans ((flush8_last t').1 h').symm)) hne
  have hb := congrFun ((dats m 0 c).read_blk_arrAt_eq_flushed 8 hd cfg0.N ⟨n, hp⟩ hp ((flush8_last _).2 hn)) (ix2 (0 : Fin 1) (⟨(i 1).val, h1⟩ : Fin 1024))
  rw [View.read_apply, flushed8] at hb
  have e : ((cfg0.win 8).blk ⟨n, hp⟩).view.emb (ix2 (0 : Fin 1) (⟨(i 1).val, h1⟩ : Fin 1024)) = i := by
    funext b; apply Fin.ext
    match b with
    | ⟨0, _⟩ => show win0_8.index ⟨n, hp⟩ 0 * 1 + 1 * 0 = (i 0).val; rw [(ixw8 _).1]; omega
    | ⟨1, _⟩ => show win0_8.index ⟨n, hp⟩ 1 * 1024 + 1 * (i 1).val = (i 1).val; rw [(ixw8 _).2]; omega
  refine (congrArg ((dats m 0 c).arrAt 8 cfg0.N) e.symm).trans (hb.trans ?_)
  refine (show _ = ((outsAt0 m c n hp).2.2.2.2) (ix2 (0 : Fin 1) (⟨(i 1).val, h1⟩ : Fin 1024)) from rfl).trans ?_
  refine (acc8 m c n hp _).trans ?_
  rw [hn]
  exact sum_tiles 16 512 (fun r => LossSq (m ((c.tc : Thread nD τ).loc main_arg0)) (m ((c.tc : Thread nD τ).loc main_arg3)) r (i 1))

/-- The line after the body sums the loss's parts. -/
theorem summed (W : Valuation τ sig (Elt Ideal)) : @Eq (FVec Ideal S_ .f32) (StableHlo.after hostOps1 W (Proc.tc.devRef main_v3))
    (Host.reduceAdd (F := Ideal) (W (Proc.tc.devRef main_v2_4)) (constant S_ .f32 0x00000000#32) reducesTo_S1x1024_S_d0_1 h_S_) := by
  after_results

/-- The sum of a row of one over both its axes. -/
theorem sum_row (x : FVec Ideal S1x1024 .f32) (i : S_.Idx) :
    Host.reduceAdd x (constant S_ .f32 0x00000000#32) reducesTo_S1x1024_S_d0_1 h_S_ i = ∑ q : Fin 1024, x (ix2 0 q) := by
  show FloatOps.ofBits (F := Ideal) .f32 0x00000000#32 + ∑ k ∈ Finset.univ.filter (fun k => reducesTo_S1x1024_S_d0_1.drop k = i), x k = _
  rw [show FloatOps.ofBits (F := Ideal) .f32 0x00000000#32 = (0 : EReal) from Ideal.ofBits_zero_f32, zero_add]
  refine (Finset.sum_bij' (fun q _ => ix2 0 q) (fun k _ => k 1) (fun q _ => ?_) (fun _ _ => Finset.mem_univ _)
    (fun _ _ => rfl) (fun k hk => ?_) (fun _ _ => rfl)).symm
  · exact Finset.mem_filter.mpr ⟨Finset.mem_univ _, funext fun a => a.elim0⟩
  · have h0 : (k 0).val < 1 := (k 0).isLt
    funext a; apply Fin.ext
    match a with
    | ⟨0, _⟩ => show 0 = (k 0).val; omega
    | ⟨1, _⟩ => rfl

/-- The device's sum, where the all-reduce finds it. -/
theorem operand_at (c : Dev nD) (i : S_.Idx) : (V₁ m c (Proc.tc.devRef main_v3) : FVec Ideal S_ .f32) i
    = LossOf (m ((c.tc : Thread nD τ).loc main_arg0)) (m ((c.tc : Thread nD τ).loc main_arg3)) := by
  refine (congrFun (summed (Vx m c)) i).trans ?_
  refine (congrArg (fun a : FVec Ideal S1x1024 .f32 => Host.reduceAdd (F := Ideal) a (constant S_ .f32 0x00000000#32) reducesTo_S1x1024_S_d0_1 h_S_ i)
    (Pipeline.withArrays_arr spec0 launch0.win.arr_inj c (Ve m c) (fun w => (dats m 0 c).arrAt w cfg0.N) 8)).trans ?_
  refine (sum_row _ i).trans (Finset.sum_congr rfl fun q _ => ?_)
  exact congrFun (final8 m c) (ix2 0 q)

/-- Eight numbers added one after another are their sum. -/
theorem fold8 (g : Fin 8 → EReal) : ((List.finRange 8).drop 1).foldl (fun a j => a + g j) (g 0) = ∑ j : Fin 8, g j := by
  rw [Fin.sum_univ_eight]; rfl

/-- A number's buffer read as a number. -/
abbrev num (v : FVec Ideal S_ .f32) (i : S_.Idx) : EReal := v i

/-- The group's fold, read at its one place: additions one after another. -/
theorem foldGroup_at (v : Fin 8 → FVec Ideal S_ .f32) (i : S_.Idx) :
    num ((ar0 (F := Ideal)).toResult ((ar0 (F := Ideal)).foldGroup v)) i = ((List.finRange 8).drop 1).foldl (fun a j => a + num (v j) i) (num (v 0) i) := rfl

/-- The all-reduce's result, whatever the devices held before it: their operands' sum. -/
theorem fold_at (W : Dev nD → Valuation τ sig (Elt Ideal)) (c : Dev nD) (i : S_.Idx) :
    num ((ar0 (F := Ideal)).after₀ W c (Proc.tc.devRef main_v4)) i
      = ∑ j : Fin 8, num (W j (Proc.tc.devRef main_v3)) i := by
  have hp : ∀ j : Fin 8, (ar0 (F := Ideal)).peer c j = j := by
    intro j; fin_cases c <;> fin_cases j <;> rfl
  refine (congrFun ((ar0 (F := Ideal)).after₀_result W c) i).trans ?_
  have hq : (fun j : Fin 8 => W ((ar0 (F := Ideal)).peer c j) (Proc.tc.devRef main_v3)) = fun j : Fin 8 => W j (Proc.tc.devRef main_v3) :=
    funext fun j => congrArg (fun d : Dev nD => W d (Proc.tc.devRef main_v3)) (hp j)
  have e1 := congrArg (fun v : Fin 8 → FVec Ideal S_ .f32 => num ((ar0 (F := Ideal)).toResult ((ar0 (F := Ideal)).foldGroup v)) i) hq
  exact e1.trans ((foldGroup_at _ i).trans (fold8 fun j => num (W j (Proc.tc.devRef main_v3)) i))

/-- Every device ends with the sum of the eight devices' losses. -/
theorem result_at (c : Dev nD) (i : S_.Idx) : num (V₂ m c (Proc.tc.devRef main_v4)) i
    = ∑ d : Fin 8, LossOf (m (((show Dev nD from d).tc : Thread nD τ).loc main_arg0)) (m (((show Dev nD from d).tc : Thread nD τ).loc main_arg3)) :=
  (fold_at (V₁ m) c i).trans (Finset.sum_congr rfl fun j _ => operand_at m j i)

/-- A row of a device's block is a row of the whole array. -/
theorem row_block (x : Vec Ideal ⟨2, ![65536, 1024]⟩ .f32) (c : Fin 8) (r : Fin 8192) (k : Fin 1024) :
    LossRow (Layout.block ⟨2, ![8192, 1024]⟩ ⟨2, ![65536, 1024]⟩ 0 8 c x) r.val k = WholeRow x (c.val * 8192 + r.val) k := by
  have hc := c.isLt; have hr := r.isLt; have hk := k.isLt
  show x _ = x _
  congr 1; funext b; apply Fin.ext
  match b with
  | ⟨0, _⟩ => show c.val * 8192 + r.val % 8192 = (c.val * 8192 + r.val) % 65536; omega
  | ⟨1, _⟩ => show k.val % 1024 = k.val % 1024; rfl

/-- The eight devices' losses add to the loss of the whole. -/
theorem sum_blocks (y t : Vec Ideal ⟨2, ![65536, 1024]⟩ .f32) :
    ∑ d : Fin 8, LossOf (Layout.block ⟨2, ![8192, 1024]⟩ ⟨2, ![65536, 1024]⟩ 0 8 d y) (Layout.block ⟨2, ![8192, 1024]⟩ ⟨2, ![65536, 1024]⟩ 0 8 d t)
      = ∑ r : Fin 65536, ∑ q : Fin 1024, WholeSq y t r.val q := by
  refine Eq.trans ?_ (sum_tiles 8 8192 fun r => ∑ q : Fin 1024, WholeSq y t r q)
  rw [Finset.sum_range]
  refine Finset.sum_congr rfl fun d _ => ?_
  unfold LossOf
  rw [Finset.sum_comm]
  refine Finset.sum_congr rfl fun r _ => Finset.sum_congr rfl fun q _ => ?_
  unfold LossSq WholeSq
  rw [row_block, row_block]

end Cert.LossIdeal.Body

namespace Cert.LossRefIdeal.Value

open Cert.LossRefIdeal Cert.LossRefIdeal.Gen Cert.LossRefIdeal.Read Products
open Cert.LossIdeal.Body (WholeRow WholeSq WholeLoss sq_nonneg' sum_mul_of_nonneg)

variable (x0 x3 : Vec Ideal S65536x1024 .f32)

/-- The bit pattern of one half. -/
theorem half_eq : FloatOps.ofBits (F := Ideal) .f32 0x3F000000#32 = ((1 / 2 : ℝ) : EReal) := by
  simp [Ideal.ofBits, Ideal.ieee]; norm_num; rw [← EReal.coe_mul]; norm_num
/-- The bit pattern of the width. -/
theorem width_eq : FloatOps.ofBits (F := Ideal) .f32 0x44800000#32 = ((1024 : ℝ) : EReal) := by
  simp [Ideal.ofBits, Ideal.ieee]; norm_num; rw [← EReal.coe_mul]; norm_num
/-- The bit pattern of one over twice the width. -/
theorem twice_eq : FloatOps.ofBits (F := Ideal) .f32 0x3A000000#32 = ((1 / 2048 : ℝ) : EReal) := by
  simp [Ideal.ofBits, Ideal.ieee]; norm_num; rw [← EReal.coe_mul]; norm_num

/-- A row of the array read through the row's number. -/
theorem row_at (x : Vec Ideal S65536x1024 .f32) (r : Fin 65536) (k : Fin 1024) : x (ix2 r k) = WholeRow x r.val k := by
  have hr := r.isLt; have hk := k.isLt
  show x _ = x _
  congr 1; funext b; apply Fin.ext
  match b with
  | ⟨0, _⟩ => show r.val = r.val % 65536; omega
  | ⟨1, _⟩ => show k.val = k.val % 1024; omega

/-- A row's squares over the width. -/
theorem sq_at (r : Fin 65536) : val_main_v4 (F := Ideal) x0 x3 (ix1 r)
    = (∑ k : Fin 1024, (WholeRow x0 r.val k - WholeRow x3 r.val k) * (WholeRow x0 r.val k - WholeRow x3 r.val k)) * ((1 / 1024 : ℝ) : EReal) := by
  rw [val_main_v4_apply, val_main_v2_apply, val_main_v3_apply, val_main_cst_0_apply,
    show val_main_cst (F := Ideal) (Shape.Idx.first h_S_) = (0 : EReal) from zero_const _, zero_add]
  show Ideal.div _ (FloatOps.ofBits (F := Ideal) .f32 0x44800000#32) = _
  rw [width_eq, Ideal.div_coe (by norm_num)]
  refine congrArg (fun z : EReal => z * ((1 / 1024 : ℝ) : EReal)) (Finset.sum_congr rfl fun k _ => ?_)
  rw [val_main_v1_apply, val_main_v0_apply]
  have e : idx_main_v2 (ix1 r) k = ix2 r k := eq_ix2 _
  rw [e]
  exact congrArg₂ (fun a b : EReal => (a - b) * (a - b)) (row_at x0 r k) (row_at x3 r k)

/-- The reference's loss is the sum of the parts. -/
theorem v6_eq : val_main_v6 (F := Ideal) x0 x3 = WholeLoss x0 x3 := by
  funext i
  rw [val_main_v6_apply, val_main_cst_2_apply, val_main_v5_apply,
    show val_main_cst_1 (F := Ideal) (Shape.Idx.first h_S_) = (0 : EReal) from zero_const _, zero_add]
  have e : (∑ j : S65536.Idx, val_main_v4 (F := Ideal) x0 x3 j) = ∑ r : Fin 65536, val_main_v4 (F := Ideal) x0 x3 (ix1 r) :=
    (Fintype.sum_equiv ⟨fun a => ix1 a, fun j => j 0, fun _ => rfl, fun j => (eq_ix1 j).symm⟩ (fun a : Fin 65536 => val_main_v4 (F := Ideal) x0 x3 (ix1 a))
      (fun j : S65536.Idx => val_main_v4 (F := Ideal) x0 x3 j) fun _ => rfl).symm
  rw [e]
  show FloatOps.ofBits (F := Ideal) .f32 0x3F000000#32 * (∑ r : Fin 65536, val_main_v4 (F := Ideal) x0 x3 (ix1 r)) = ∑ r : Fin 65536, ∑ q : Fin 1024, WholeSq x0 x3 r.val q
  have hs (r : Fin 65536) (k : Fin 1024) := sq_nonneg' (WholeRow x0 r.val k - WholeRow x3 r.val k)
  rw [mul_comm, half_eq, Finset.sum_congr rfl fun r _ => sq_at x0 x3 r,
    sum_mul_of_nonneg _ _ _ fun r => mul_nonneg (Finset.sum_nonneg fun k _ => hs r k) (EReal.coe_nonneg.2 (by norm_num))]
  refine Finset.sum_congr rfl fun r _ => ?_
  rw [mul_assoc, ← EReal.coe_mul, sum_mul_of_nonneg _ _ _ fun k => hs r k]
  refine Finset.sum_congr rfl fun k _ => ?_
  unfold WholeSq
  rw [twice_eq]
  exact congrArg (fun z : ℝ => (WholeRow x0 r.val k - WholeRow x3 r.val k) * (WholeRow x0 r.val k - WholeRow x3 r.val k) * (z : EReal)) (by norm_num)

end Cert.LossRefIdeal.Value

open Cert.LossIdeal.Body in
/-- The sum of the devices' losses is the whole arrays' loss: the kernel's value and the reference's agree, over the ideal reals. -/
theorem Loss_value : Cert.algebraic_LossIdeal_LossRefIdeal := fun m g m' g' _ h =>
  ⟨WholeLoss (m' (((0 : Dev Cert.LossRefIdeal.nD).tc : Thread Cert.LossRefIdeal.nD Cert.LossRefIdeal.τ).loc Cert.LossRefIdeal.main_arg0)) (m' (((0 : Dev Cert.LossRefIdeal.nD).tc : Thread Cert.LossRefIdeal.nD Cert.LossRefIdeal.τ).loc Cert.LossRefIdeal.main_arg3)),
    (θ_run _ _ _).mono (fun r hr c => ⟨(hr.1 c).2.2.2.2.trans (funext fun i => (result_at m c i).trans
        ((Finset.sum_congr rfl fun d _ => congrArg₂ LossOf (h d).1 (h d).2.2.2).trans (sum_blocks _ _))),
      (hr.1 c).1.trans (V₂_main_arg0 m c), (hr.1 c).2.1.trans (V₂_main_arg1 m c),
      (hr.1 c).2.2.1.trans (V₂_main_arg2 m c), (hr.1 c).2.2.2.1.trans (V₂_main_arg3 m c)⟩) (run_main m g),
    (θ_run _ _ _).mono (fun r hr => ⟨(hr 0).1.trans ((Cert.LossRefIdeal.Read.val_main_v6_eq _ _).trans (Cert.LossRefIdeal.Value.v6_eq _ _)), (hr 0).2⟩)
      (Cert.LossRefIdeal.Value.run m' g')⟩

/-- The kernel ends with its arguments as they were. -/
theorem Loss_ends : Cert.quiescent_Loss := fun m ρ _ => Cert.Loss.Body.kept m ρ

/-- The idealized kernel ends with its arguments as they were. -/
theorem LossIdeal_ends : Cert.quiescent_LossIdeal := fun m ρ _ => Cert.LossIdeal.Body.kept m ρ

/-- The reference ends with its arguments as they were. -/
theorem LossRef_ends : Cert.quiescent_LossRefIdeal := fun m ρ _ =>
  (θ_run _ _ _).mono (fun _ h => ⟨fun c => (h c).2, funext fun g => nomatch g.2⟩) (Cert.LossRefIdeal.Value.run m ρ)

end
-- ==== Proof.FfnUpTile.lean ====
/- The values one grid point of the feed-forward up projection computes, entry by entry, over the extended reals: the product
   of the input tile and the weight, the causal convolution over the tile's rows after the eight carried ones, and the gated
   activation. -/
module

public import proofs.«01_k».proof.Proof.Products
public import proofs.«01_k».proof.Proof.Gen.FfnUpIdeal.Value
public import Idealize.ShloMosaic.Lib.ValueLayout
public import Idealize.ShloMosaic.Lib.KernelVsHost
public import Idealize.ShloMosaic.Lib.Pipeline.ReadBack
public import Idealize.ShloMosaic.Lib.Tactic.RunNames

@[expose] public section

set_option maxRecDepth 16384

noncomputable section

open Idealize.ShloMosaic Idealize.ShloMosaic.TcCoe Idealize.SL.Sem Idealize.ShloMosaic.ValueIdx Products
open scoped BigOperators

/-- The sigmoid as the kernel writes it: half of one plus the hyperbolic tangent of half the argument. -/
def upSigmoid (v : EReal) : EReal :=
  Ideal.ofBits .f32 0x3F000000#32 + Ideal.ofBits .f32 0x3F000000#32 * Ideal.tanh (Ideal.ofBits .f32 0x3F000000#32 * v)

/-- The causal convolution at a tile's row `r` and a column `c`, of rows `e` that begin with the eight rows before the tile. -/
def upPre (e : ℕ → ℕ → EReal) (t : ℕ → ℕ → EReal) (b : ℕ → EReal) (r c : ℕ) : EReal :=
  b c + t 0 c * e (r + 6) c + t 1 c * e (r + 7) c + t 2 c * e (r + 8) c

/-- What one grid point works on: the two halves' rows (eight carried, then the tile's), filters and biases. -/
structure UpTile where
  eg : ℕ → ℕ → EReal
  ev : ℕ → ℕ → EReal
  tg : ℕ → ℕ → EReal
  tv : ℕ → ℕ → EReal
  bg : ℕ → EReal
  bv : ℕ → EReal

/-- The tile's products, both halves. -/
def UpTile.h (T : UpTile) (u r c : ℕ) : EReal := if u = 0 then T.eg (r + 8) c else T.ev (r + 8) c

/-- The tile's convolutions, both halves. -/
def UpTile.pre (T : UpTile) (u r c : ℕ) : EReal := if u = 0 then upPre T.eg T.tg T.bg r c else upPre T.ev T.tv T.bv r c

/-- The tile's activation. -/
def UpTile.act (T : UpTile) (r c : ℕ) : EReal :=
  upPre T.eg T.tg T.bg r c * upSigmoid (upPre T.eg T.tg T.bg r c) * upPre T.ev T.tv T.bv r c

/-- An array of two axes from its entries. -/
def arr2 {A B : ℕ} (f : ℕ → ℕ → EReal) : (⟨2, ![A, B]⟩ : Shape).Idx → EReal := fun y => f (y 0).val (y 1).val
/-- An array of three axes from its entries. -/
def arr3 {G A B : ℕ} (f : ℕ → ℕ → ℕ → EReal) : (⟨3, ![G, A, B]⟩ : Shape).Idx → EReal := fun y => f (y 0).val (y 1).val (y 2).val

/-- A block stored in an array of two axes is a block of the array of entries `f` when its entries are. -/
theorem piece2 {A B a b r c : ℕ} {e : EltTy} (f : ℕ → ℕ → EReal)
    (inb : ∀ d, (![r, c] : Fin 2 → ℕ) d + (![a, b] : Fin 2 → ℕ) d ≤ (⟨2, ![A, B]⟩ : Shape).size d)
    (w : (⟨2, ![a, b]⟩ : Shape).Idx → EReal) (h : ∀ (p : Fin a) (q : Fin b), w (ix2 p q) = f (r + p.val) (c + q.val))
    (x : (⟨2, ![a, b]⟩ : Shape).Idx) : w x = arr2 f ((Rect.unit (s := ⟨2, ![A, B]⟩) ![r, c] ![a, b] inb).emb x) := by
  have e : x = ix2 (x 0) (x 1) := by funext d; match d with | ⟨0, _⟩ => rfl | ⟨1, _⟩ => rfl
  rw [e]
  refine (h (x 0) (x 1)).trans ?_
  show f _ _ = f (r + 1 * (x 0).val) (c + 1 * (x 1).val)
  rw [Nat.one_mul, Nat.one_mul]

/-- The same for a block of one layer of an array of three axes. -/
theorem piece3 {G A B a b u r c : ℕ} (f : ℕ → ℕ → ℕ → EReal)
    (inb : ∀ d, (![u, r, c] : Fin 3 → ℕ) d + (![1, a, b] : Fin 3 → ℕ) d ≤ (⟨3, ![G, A, B]⟩ : Shape).size d)
    (w : (⟨3, ![1, a, b]⟩ : Shape).Idx → EReal) (h : ∀ (p : Fin a) (q : Fin b), w (ix3 0 p q) = f u (r + p.val) (c + q.val))
    (x : (⟨3, ![1, a, b]⟩ : Shape).Idx) : w x = arr3 f ((Rect.unit (s := ⟨3, ![G, A, B]⟩) ![u, r, c] ![1, a, b] inb).emb x) := by
  have e0 : (x 0 : Fin 1) = (0 : Fin 1) := Fin.ext (Nat.lt_one_iff.mp (x 0 : Fin 1).isLt)
  have e : x = ix3 0 (x 1) (x 2) := by
    funext d; match d with | ⟨0, _⟩ => exact e0 | ⟨1, _⟩ => rfl | ⟨2, _⟩ => rfl
  rw [e]
  refine (h (x 1) (x 2)).trans ?_
  show f _ _ _ = f (u + 1 * 0) (r + 1 * (x 1).val) (c + 1 * (x 2).val)
  rw [Nat.mul_zero, Nat.add_zero, Nat.one_mul, Nat.one_mul]

namespace Cert.FfnUpIdeal.Value

open Cert.FfnUpIdeal Cert.FfnUpIdeal.Gen

/-! ## One chunk's values -/

/-- The chunk's own rows, cut from the rows read. -/
def curV (e : Vec Ideal S136x128 .f32) : FVec Ideal S128x128 .f32 :=
  extractStridedSlice S128x128 ![8, 0] e slices_S136x128_o8_0_S128x128

/-- The convolution of a chunk of 128 rows and 128 columns, as the kernel writes it. -/
def preV (w0 w1 w2 b : Vec Ideal S1x128 .f32) (e : Vec Ideal S136x128 .f32) : FVec Ideal S128x128 .f32 :=
  addf (addf (addf (broadcastTo S128x128 (shapeCast S1x128 b shapeCasts_S1x128_S1x128) broadcasts_S1x128_S128x128)
      (mulf (broadcastTo S128x128 w0 broadcasts_S1x128_S128x128)
        (extractStridedSlice S128x128 ![8, 0] (dynamicRotate 0 2#32 none e rotates_S136x128_d0) slices_S136x128_o8_0_S128x128)))
      (mulf (broadcastTo S128x128 w1 broadcasts_S1x128_S128x128)
        (extractStridedSlice S128x128 ![8, 0] (dynamicRotate 0 1#32 none e rotates_S136x128_d0) slices_S136x128_o8_0_S128x128)))
    (mulf (broadcastTo S128x128 w2 broadcasts_S1x128_S128x128) (curV e))

/-- The activation of a chunk from the two halves' convolutions, as the kernel writes it. -/
def actV (pg pv : FVec Ideal S128x128 .f32) : FVec Ideal S128x128 .bf16 :=
  truncf .bf16 (mulf (mulf pg (addf (broadcast S128x128 (Scalar.ofBits .f32 0x3F000000#32))
    (mulf (broadcast S128x128 (Scalar.ofBits .f32 0x3F000000#32)) (tanh (mulf (broadcast S128x128 (Scalar.ofBits .f32 0x3F000000#32)) pg))))) pv)
    bitsLt_bf16_f32

/-- A chunk as it is stored in one half of a pair. -/
def layV (x : FVec Ideal S128x128 .f32) : FVec Ideal S1x128x128 .bf16 :=
  shapeCast S1x128x128 (truncf .bf16 x bitsLt_bf16_f32) shapeCasts_S128x128_S1x128x128

/-- The chunk's own rows at an index. -/
theorem curV_at (e : Vec Ideal S136x128 .f32) (p q : Fin 128) : curV e (ix2 p q) = e (ix2 ⟨p.val + 8, by omega⟩ q) :=
  slice2_axis0_apply 8 _ _ p q (⟨p.val + 8, by omega⟩ : Fin 136) (Nat.add_comm _ _)

/-- The rows rotated by `k` and cut: `k` rows before. -/
theorem rot_at (e : Vec Ideal S136x128 .f32) (sb : BitVec 32) (k : ℕ) (hk : sb.toNat = k) (hk8 : k ≤ 8) (p q : Fin 128) :
    extractStridedSlice S128x128 ![8, 0] (dynamicRotate 0 sb none e rotates_S136x128_d0) slices_S136x128_o8_0_S128x128 (ix2 p q)
      = e (ix2 ⟨p.val + (8 - k), by omega⟩ q) := by
  refine (slice2_axis0_apply 8 _ _ p q (⟨8 + p.val, by omega⟩ : Fin 136) rfl).trans ?_
  refine dynamicRotate_apply (s := S136x128) (0 : Fin 2) _ _ _ _ _ ?_
  intro b
  match b with
  | ⟨0, _⟩ => show p.val + (8 - k) = (8 + p.val + 136 - sb.toNat % 136) % 136; rw [hk]; omega
  | ⟨1, _⟩ => rfl

/-- The convolution of a chunk at an index. -/
theorem preV_at (w0 w1 w2 b : Vec Ideal S1x128 .f32) (e : Vec Ideal S136x128 .f32) (p q : Fin 128) :
    preV w0 w1 w2 b e (ix2 p q)
      = b (ix2 0 q) + w0 (ix2 0 q) * e (ix2 ⟨p.val + 6, by omega⟩ q) + w1 (ix2 0 q) * e (ix2 ⟨p.val + 7, by omega⟩ q)
        + w2 (ix2 0 q) * e (ix2 ⟨p.val + 8, by omega⟩ q) := by
  have hb : ∀ (x : Vec Ideal S1x128 .f32), broadcastTo S128x128 x broadcasts_S1x128_S128x128 (ix2 p q) = x (ix2 0 q) :=
    fun x => broadcastTo_1b_ab_apply x _ p q
  unfold preV
  rw [shapeCast_self]
  show broadcastTo S128x128 b _ _ + broadcastTo S128x128 w0 _ _ * _ + broadcastTo S128x128 w1 _ _ * _
    + broadcastTo S128x128 w2 _ _ * _ = _
  rw [hb, hb, hb, hb, curV_at, rot_at e 2#32 2 rfl (by omega), rot_at e 1#32 1 rfl (by omega)]

/-- The activation of a chunk at an index. -/
theorem actV_at (pg pv : FVec Ideal S128x128 .f32) (p q : Fin 128) :
    actV pg pv (ix2 p q) = pg (ix2 p q) * upSigmoid (pg (ix2 p q)) * pv (ix2 p q) := rfl

/-- A stored chunk at an index. -/
theorem layV_at (x : FVec Ideal S128x128 .f32) (p q : Fin 128) : layV x (ix3 0 p q) = x (ix2 p q) :=
  shapeCast_ab_1ab_apply (a := 128) (b := 128) _ _ 0 p q

/-! ## One chunk's values, as blocks of the tile's -/

/-- The convolution of a chunk whose rows, filter and bias are those of the tile at `(r, c)`. -/
theorem preV_eq {e : ℕ → ℕ → EReal} {t : ℕ → ℕ → EReal} {b : ℕ → EReal} {r c : ℕ} {w0 w1 w2 bb : Vec Ideal S1x128 .f32} {x : Vec Ideal S136x128 .f32}
    (h0 : ∀ q : Fin 128, w0 (ix2 0 q) = t 0 (c + q.val)) (h1 : ∀ q : Fin 128, w1 (ix2 0 q) = t 1 (c + q.val))
    (h2 : ∀ q : Fin 128, w2 (ix2 0 q) = t 2 (c + q.val)) (hb : ∀ q : Fin 128, bb (ix2 0 q) = b (c + q.val))
    (hx : ∀ (p : Fin 136) (q : Fin 128), x (ix2 p q) = e (r + p.val) (c + q.val)) (p q : Fin 128) :
    preV w0 w1 w2 bb x (ix2 p q) = upPre e t b (r + p.val) (c + q.val) := by
  rw [preV_at, h0, h1, h2, hb, hx, hx, hx]
  rfl

/-- A stored block of the first result's first half. -/
theorem cur_piece0 (T : UpTile) {r c : ℕ} {x : Vec Ideal S136x128 .f32}
    (hx : ∀ (p : Fin 136) (q : Fin 128), x (ix2 p q) = T.eg (r + p.val) (c + q.val))
    (inb : ∀ d, (![0, r, c] : Fin 3 → ℕ) d + (![1, 128, 128] : Fin 3 → ℕ) d ≤ S2x512x1408.size d) (y : S1x128x128.Idx) :
    layV (curV x) y = arr3 T.h ((Rect.unit (s := S2x512x1408) ![0, r, c] ![1, 128, 128] inb).emb y) :=
  piece3 T.h inb _ (fun p q => (layV_at _ p q).trans ((curV_at x p q).trans (hx _ q))) y

/-- A stored block of the first result's second half. -/
theorem cur_piece1 (T : UpTile) {r c : ℕ} {x : Vec Ideal S136x128 .f32}
    (hx : ∀ (p : Fin 136) (q : Fin 128), x (ix2 p q) = T.ev (r + p.val) (c + q.val))
    (inb : ∀ d, (![1, r, c] : Fin 3 → ℕ) d + (![1, 128, 128] : Fin 3 → ℕ) d ≤ S2x512x1408.size d) (y : S1x128x128.Idx) :
    layV (curV x) y = arr3 T.h ((Rect.unit (s := S2x512x1408) ![1, r, c] ![1, 128, 128] inb).emb y) :=
  piece3 T.h inb _ (fun p q => (layV_at _ p q).trans ((curV_at x p q).trans (hx _ q))) y

/-- A stored block of the second result's first half. -/
theorem pre_piece0 (T : UpTile) {r c : ℕ} {w0 w1 w2 bb : Vec Ideal S1x128 .f32} {x : Vec Ideal S136x128 .f32}
    (h0 : ∀ q : Fin 128, w0 (ix2 0 q) = T.tg 0 (c + q.val)) (h1 : ∀ q : Fin 128, w1 (ix2 0 q) = T.tg 1 (c + q.val))
    (h2 : ∀ q : Fin 128, w2 (ix2 0 q) = T.tg 2 (c + q.val)) (hb : ∀ q : Fin 128, bb (ix2 0 q) = T.bg (c + q.val))
    (hx : ∀ (p : Fin 136) (q : Fin 128), x (ix2 p q) = T.eg (r + p.val) (c + q.val))
    (inb : ∀ d, (![0, r, c] : Fin 3 → ℕ) d + (![1, 128, 128] : Fin 3 → ℕ) d ≤ S2x512x1408.size d) (y : S1x128x128.Idx) :
    layV (preV w0 w1 w2 bb x) y = arr3 T.pre ((Rect.unit (s := S2x512x1408) ![0, r, c] ![1, 128, 128] inb).emb y) :=
  piece3 T.pre inb _ (fun p q => (layV_at _ p q).trans (preV_eq h0 h1 h2 hb hx p q)) y

/-- A stored block of the second result's second half. -/
theorem pre_piece1 (T : UpTile) {r c : ℕ} {w0 w1 w2 bb : Vec Ideal S1x128 .f32} {x : Vec Ideal S136x128 .f32}
    (h0 : ∀ q : Fin 128, w0 (ix2 0 q) = T.tv 0 (c + q.val)) (h1 : ∀ q : Fin 128, w1 (ix2 0 q) = T.tv 1 (c + q.val))
    (h2 : ∀ q : Fin 128, w2 (ix2 0 q) = T.tv 2 (c + q.val)) (hb : ∀ q : Fin 128, bb (ix2 0 q) = T.bv (c + q.val))
    (hx : ∀ (p : Fin 136) (q : Fin 128), x (ix2 p q) = T.ev (r + p.val) (c + q.val))
    (inb : ∀ d, (![1, r, c] : Fin 3 → ℕ) d + (![1, 128, 128] : Fin 3 → ℕ) d ≤ S2x512x1408.size d) (y : S1x128x128.Idx) :
    layV (preV w0 w1 w2 bb x) y = arr3 T.pre ((Rect.unit (s := S2x512x1408) ![1, r, c] ![1, 128, 128] inb).emb y) :=
  piece3 T.pre inb _ (fun p q => (layV_at _ p q).trans (preV_eq h0 h1 h2 hb hx p q)) y

/-- A stored block of the activation. -/
theorem act_piece (T : UpTile) {r c : ℕ} {w0 w1 w2 bb v0 v1 v2 vb : Vec Ideal S1x128 .f32} {x z : Vec Ideal S136x128 .f32}
    (h0 : ∀ q : Fin 128, w0 (ix2 0 q) = T.tg 0 (c + q.val)) (h1 : ∀ q : Fin 128, w1 (ix2 0 q) = T.tg 1 (c + q.val))
    (h2 : ∀ q : Fin 128, w2 (ix2 0 q) = T.tg 2 (c + q.val)) (hb : ∀ q : Fin 128, bb (ix2 0 q) = T.bg (c + q.val))
    (hx : ∀ (p : Fin 136) (q : Fin 128), x (ix2 p q) = T.eg (r + p.val) (c + q.val))
    (k0 : ∀ q : Fin 128, v0 (ix2 0 q) = T.tv 0 (c + q.val)) (k1 : ∀ q : Fin 128, v1 (ix2 0 q) = T.tv 1 (c + q.val))
    (k2 : ∀ q : Fin 128, v2 (ix2 0 q) = T.tv 2 (c + q.val)) (kb : ∀ q : Fin 128, vb (ix2 0 q) = T.bv (c + q.val))
    (hz : ∀ (p : Fin 136) (q : Fin 128), z (ix2 p q) = T.ev (r + p.val) (c + q.val))
    (inb : ∀ d, (![r, c] : Fin 2 → ℕ) d + (![128, 128] : Fin 2 → ℕ) d ≤ S512x1408.size d) (y : S128x128.Idx) :
    actV (preV w0 w1 w2 bb x) (preV v0 v1 v2 vb z) y
      = arr2 T.act ((Rect.unit (s := S512x1408) ![r, c] ![128, 128] inb).emb y) :=
  piece2 (e := .bf16) T.act inb _ (fun p q => by
    rw [actV_at, preV_eq h0 h1 h2 hb hx p q, preV_eq k0 k1 k2 kb hz p q]; rfl) y

/-! ## Loads -/

/-- A filter's row, as loaded at a column. -/
theorem tap_ld (arg : Memref sig .tc .vmem S3x1408 .f32) (h : arg.IsWhole) (x : Vec Ideal S3x1408 .f32) (k c : ℕ)
    (inb : ∀ d, (![k, c] : Fin 2 → ℕ) d + S1x128.size d ≤ S3x1408.size d) (q : Fin 128) :
    View.readAt (Elt Ideal) arg.view (Rect.unit (s := S3x1408) ![k, c] S1x128.size inb).toLoadRect (h.unread x) (ix2 0 q)
      = at2 (A := 3) (B := 1408) x k (c + q.val) := by
  rw [View.readAt_eq_ld, h.read_unread]
  have i0 : k + 1 ≤ 3 := inb 0
  have i1 : c + 128 ≤ 1408 := inb 1
  have hq := q.isLt
  refine congrArg x ?_
  funext b; apply Fin.ext
  match b with
  | ⟨0, _⟩ => show k + 1 * 0 = (Fin.ofNat 3 k).val; rw [ofNat_val (by omega)]; omega
  | ⟨1, _⟩ => show c + 1 * q.val = (Fin.ofNat 1408 (c + q.val)).val; rw [ofNat_val (by omega)]; omega

/-- A bias, as loaded at a column. -/
theorem bias_ld (arg : Memref sig .tc .vmem S1x1408 .f32) (h : arg.IsWhole) (x : Vec Ideal S1x1408 .f32) (c : ℕ)
    (inb : ∀ d, (![0, c] : Fin 2 → ℕ) d + S1x128.size d ≤ S1x1408.size d) (q : Fin 128) :
    View.readAt (Elt Ideal) arg.view (Rect.unit (s := S1x1408) ![0, c] S1x128.size inb).toLoadRect (h.unread x) (ix2 0 q)
      = at2 (A := 1) (B := 1408) x 0 (c + q.val) := by
  rw [View.readAt_eq_ld, h.read_unread]
  have i1 : c + 128 ≤ 1408 := inb 1
  have hq := q.isLt
  refine congrArg x ?_
  funext b; apply Fin.ext
  match b with
  | ⟨0, _⟩ => rfl
  | ⟨1, _⟩ => show c + 1 * q.val = (Fin.ofNat 1408 (c + q.val)).val; rw [ofNat_val (by omega)]; omega

/-- The rows one half works on at a grid point: the eight before the tile, then the tile's product. -/
def upRows (x : Vec Ideal S512x1024 .bf16) (w : Vec Ideal S1x1024x1408 .bf16) (P : ℕ → ℕ → EReal) (a q : ℕ) : EReal :=
  if a < 8 then P a q else ∑ k : Fin 1024, at2 (A := 512) (B := 1024) x (a - 8) k.val * w (ix3 0 k (Fin.ofNat 1408 q))

/-- A block of the product, as loaded and multiplied. -/
theorem mm256_at (a2 : Memref sig .tc .vmem S512x1024 .bf16) (h2 : a2.IsWhole) (x : Vec Ideal S512x1024 .bf16)
    (a3 : Memref sig .tc .vmem S1x1024x1408 .bf16) (h3 : a3.IsWhole) (w : Vec Ideal S1x1024x1408 .bf16) (P : ℕ → ℕ → EReal) (c : ℕ)
    (inb2 : ∀ d, (![0, 0] : Fin 2 → ℕ) d + S512x1024.size d ≤ S512x1024.size d)
    (inb3 : ∀ d, (![0, 0, c] : Fin 3 → ℕ) d + S1x1024x256.size d ≤ S1x1024x1408.size d) (p : Fin 512) (q : Fin 256) :
    k0_pay5 (F := Ideal) (View.readAt (Elt Ideal) a2.view (Rect.unit (s := S512x1024) ![0, 0] S512x1024.size inb2).toLoadRect (h2.unread x))
      (View.readAt (Elt Ideal) a3.view (Rect.unit (s := S1x1024x1408) ![0, 0, c] S1x1024x256.size inb3).toLoadRect (h3.unread w)) (ix2 p q)
      = upRows x w P (8 + p.val) (c + q.val) := by
  have i1 : c + 256 ≤ 1408 := inb3 2
  have hq := q.isLt
  unfold k0_pay5
  rw [shapeCast_self, View.readAt_eq_ld, View.readAt_eq_ld, h2.read_unread, h3.read_unread,
    View.ld_unit_zero (S := S512x1024) (funext fun a => by fin_cases a <;> rfl)]
  refine (Ideal.matmul_plain_apply (φ₁ := .bf16) (φ₂ := .bf16) (M := 512) (K := 1024) (N := 256) none x _ (constant S512x256 .f32 0x00000000#32) p q).trans ?_
  rw [zero_const, zero_add]
  show _ = if 8 + p.val < 8 then _ else _
  rw [if_neg (by omega)]
  refine Finset.sum_congr rfl fun k _ => congr (congrArg _ ?_) ?_
  · refine congrArg x ?_
    funext b; apply Fin.ext
    match b with
    | ⟨0, _⟩ => show p.val = (Fin.ofNat 512 (8 + p.val - 8)).val; rw [ofNat_val (by omega)]; omega
    | ⟨1, _⟩ => show k.val = (Fin.ofNat 1024 k.val).val; rw [ofNat_val k.isLt]
  · refine (dropUnit_apply (A := 1024) (B := 256) _ _ k q).trans ?_
    refine congrArg w ?_
    funext b; apply Fin.ext
    match b with
    | ⟨0, _⟩ => rfl
    | ⟨1, _⟩ => show 0 + 1 * k.val = k.val; omega
    | ⟨2, _⟩ => show c + 1 * q.val = (Fin.ofNat 1408 (c + q.val)).val; rw [ofNat_val (by omega)]; omega

/-- The narrower last block of the product, as loaded and multiplied. -/
theorem mm128_at (a2 : Memref sig .tc .vmem S512x1024 .bf16) (h2 : a2.IsWhole) (x : Vec Ideal S512x1024 .bf16)
    (a3 : Memref sig .tc .vmem S1x1024x1408 .bf16) (h3 : a3.IsWhole) (w : Vec Ideal S1x1024x1408 .bf16) (P : ℕ → ℕ → EReal) (c : ℕ)
    (inb2 : ∀ d, (![0, 0] : Fin 2 → ℕ) d + S512x1024.size d ≤ S512x1024.size d)
    (inb3 : ∀ d, (![0, 0, c] : Fin 3 → ℕ) d + S1x1024x128.size d ≤ S1x1024x1408.size d) (p : Fin 512) (q : Fin 128) :
    k0_pay360 (F := Ideal) (View.readAt (Elt Ideal) a2.view (Rect.unit (s := S512x1024) ![0, 0] S512x1024.size inb2).toLoadRect (h2.unread x))
      (View.readAt (Elt Ideal) a3.view (Rect.unit (s := S1x1024x1408) ![0, 0, c] S1x1024x128.size inb3).toLoadRect (h3.unread w)) (ix2 p q)
      = upRows x w P (8 + p.val) (c + q.val) := by
  have i1 : c + 128 ≤ 1408 := inb3 2
  have hq := q.isLt
  unfold k0_pay360
  rw [shapeCast_self, View.readAt_eq_ld, View.readAt_eq_ld, h2.read_unread, h3.read_unread,
    View.ld_unit_zero (S := S512x1024) (funext fun a => by fin_cases a <;> rfl)]
  refine (Ideal.matmul_plain_apply (φ₁ := .bf16) (φ₂ := .bf16) (M := 512) (K := 1024) (N := 128) none x _ (constant S512x128 .f32 0x00000000#32) p q).trans ?_
  rw [zero_const, zero_add]
  show _ = if 8 + p.val < 8 then _ else _
  rw [if_neg (by omega)]
  refine Finset.sum_congr rfl fun k _ => congr (congrArg _ ?_) ?_
  · refine congrArg x ?_
    funext b; apply Fin.ext
    match b with
    | ⟨0, _⟩ => show p.val = (Fin.ofNat 512 (8 + p.val - 8)).val; rw [ofNat_val (by omega)]; omega
    | ⟨1, _⟩ => show k.val = (Fin.ofNat 1024 k.val).val; rw [ofNat_val k.isLt]
  · refine (dropUnit_apply (A := 1024) (B := 128) _ _ k q).trans ?_
    refine congrArg w ?_
    funext b; apply Fin.ext
    match b with
    | ⟨0, _⟩ => rfl
    | ⟨1, _⟩ => show 0 + 1 * k.val = k.val; omega
    | ⟨2, _⟩ => show c + 1 * q.val = (Fin.ofNat 1408 (c + q.val)).val; rw [ofNat_val (by omega)]; omega

/-! ## The scratch rows -/

section Scratch

variable {sig' : RefSig} {κ : Kind} {sp : Space} (v : View sig' κ sp S520x1408 .f32)

/-- The writes `L` over `f` hold the rows `e` from row `lo`: the carried rows in full, the others in the columns below `hi`. -/
def Has (f : v.ty.Contents (Elt Ideal)) (L : List (View.Piece (Elt Ideal) S520x1408 .f32)) (e : ℕ → ℕ → EReal) (lo hi : ℕ) : Prop :=
  ∀ (a : Fin 520) (q : Fin 1408), lo ≤ a.val → (8 ≤ a.val → q.val < hi) → v.read (Elt Ideal) (v.writes (Elt Ideal) f L) (ix2 a q) = e a.val q.val

/-- Nothing written, nothing asked. -/
theorem has_nil (f : v.ty.Contents (Elt Ideal)) (e : ℕ → ℕ → EReal) : Has v f [] e 8 0 := fun a q h h' => absurd (h' h) (Nat.not_lt_zero _)

/-- Nothing written, the carried rows found. -/
theorem has_found (f : v.ty.Contents (Elt Ideal)) (e : ℕ → ℕ → EReal)
    (h : ∀ (a : Fin 520) (q : Fin 1408), a.val < 8 → v.read (Elt Ideal) f (ix2 a q) = e a.val q.val) : Has v f [] e 0 0 :=
  fun a q _ h' => by
    rw [View.writes_nil]
    exact h a q (by by_contra hn; exact absurd (h' (by omega)) (Nat.not_lt_zero _))

/-- The carried rows written. -/
theorem has_head (f : v.ty.Contents (Elt Ideal)) {L : List (View.Piece (Elt Ideal) S520x1408 .f32)} {e : ℕ → ℕ → EReal}
    (inb : ∀ d, (![0, 0] : Fin 2 → ℕ) d + S8x1408.size d ≤ S520x1408.size d) (w : S8x1408.Idx → Elt Ideal .f32)
    (hw : ∀ (a : Fin 8) (q : Fin 1408), w (ix2 a q) = e a.val q.val) :
    Has v f (⟨Rect.unit ![0, 0] S8x1408.size inb, w⟩ :: L) e 0 0 := fun a q _ h' => by
  have ha : a.val < 8 := by by_contra hn; exact absurd (h' (by omega)) (Nat.not_lt_zero _)
  have he : (ix2 a q : S520x1408.Idx) = (Rect.unit (s := S520x1408) ![0, 0] S8x1408.size inb).emb (ix2 (⟨a.val, ha⟩ : Fin 8) q) := by
    funext b; apply Fin.ext
    match b with
    | ⟨0, _⟩ => show a.val = 0 + 1 * a.val; omega
    | ⟨1, _⟩ => show q.val = 0 + 1 * q.val; omega
  rw [he, View.read_writes_cons_emb]
  exact hw _ q

/-- A block of the product written. -/
theorem has_mm (f : v.ty.Contents (Elt Ideal)) {L : List (View.Piece (Elt Ideal) S520x1408 .f32)} {e : ℕ → ℕ → EReal} {lo hi : ℕ} (n hi' : ℕ)
    (H : Has v f L e lo hi) (hh : hi' = hi + n) (sz : Fin 2 → ℕ) (hsz : sz = ![512, n])
    (inb : ∀ d, (![8, hi] : Fin 2 → ℕ) d + sz d ≤ S520x1408.size d) (w : (⟨2, sz⟩ : Shape).Idx → Elt Ideal .f32)
    (hw : ∀ (p : Fin 512) (q : Fin n), w (hsz ▸ (ix2 p q : (⟨2, ![512, n]⟩ : Shape).Idx)) = e (8 + p.val) (hi + q.val)) :
    Has v f (⟨Rect.unit ![8, hi] sz inb, w⟩ :: L) e lo hi' := fun a q h h' => by
  subst hsz
  by_cases hin : 8 ≤ a.val ∧ hi ≤ q.val
  · have hq := h' hin.1
    have he : (ix2 a q : S520x1408.Idx) = (Rect.unit (s := S520x1408) ![8, hi] ![512, n] inb).emb
        (ix2 (⟨a.val - 8, by omega⟩ : Fin 512) (⟨q.val - hi, by omega⟩ : Fin n)) := by
      funext b; apply Fin.ext
      match b with
      | ⟨0, _⟩ => show a.val = 8 + 1 * (a.val - 8); omega
      | ⟨1, _⟩ => show q.val = hi + 1 * (q.val - hi); omega
    rw [he, View.read_writes_cons_emb]
    refine (hw _ _).trans ?_
    show e (8 + (a.val - 8)) (hi + (q.val - hi)) = _
    rw [show 8 + (a.val - 8) = a.val by omega, show hi + (q.val - hi) = q.val by omega]
  · have hn : (ix2 a q : S520x1408.Idx) ∉ (Rect.unit (s := S520x1408) ![8, hi] ![512, n] inb).set := fun hm => by
      obtain ⟨x, hx⟩ := (Rect.unit (s := S520x1408) ![8, hi] ![512, n] inb).exists_idx_of_mem hm
      have h0 : 8 + 1 * (x 0).val = a.val := congrArg (fun y : S520x1408.Idx => (y 0).val) hx
      have h1 : hi + 1 * (x 1).val = q.val := congrArg (fun y : S520x1408.Idx => (y 1).val) hx
      exact hin ⟨by omega, by omega⟩
    rw [View.writes_cons, View.read_slice_write_of_not_mem _ _ _ _ (by rwa [Rect.map_emb_univ])]
    exact H a q h fun h8 => by
      by_contra hc; exact hin ⟨h8, by omega⟩

variable {v}

/-- A chunk's rows, loaded. -/
theorem Has.load {f : v.ty.Contents (Elt Ideal)} {L : List (View.Piece (Elt Ideal) S520x1408 .f32)} {e : ℕ → ℕ → EReal} {lo hi : ℕ}
    (H : Has v f L e lo hi) {r c : ℕ} (hr : lo ≤ r) (hc : c + 128 ≤ hi)
    (inb : ∀ d, (![r, c] : Fin 2 → ℕ) d + S136x128.size d ≤ S520x1408.size d) (p : Fin 136) (q : Fin 128) :
    v.readAt (Elt Ideal) (Rect.unit (s := S520x1408) ![r, c] S136x128.size inb).toLoadRect (v.writes (Elt Ideal) f L) (ix2 p q)
      = e (r + p.val) (c + q.val) := by
  have i0 : r + 136 ≤ 520 := inb 0
  have i1 : c + 128 ≤ 1408 := inb 1
  have hp := p.isLt
  have hq := q.isLt
  have he : (Rect.unit (s := S520x1408) ![r, c] S136x128.size inb).toLoadRect.idx (ix2 p q)
      = ix2 (⟨r + p.val, by omega⟩ : Fin 520) (⟨c + q.val, by omega⟩ : Fin 1408) := by
    funext b; apply Fin.ext
    match b with
    | ⟨0, _⟩ => show r + 1 * p.val = r + p.val; omega
    | ⟨1, _⟩ => show c + 1 * q.val = c + q.val; omega
  rw [View.readAt_apply]
  refine (congrArg _ he).trans (H _ _ ?_ ?_)
  · show lo ≤ r + p.val; omega
  · intro _; show c + q.val < hi; omega

/-- The last eight rows, loaded. -/
theorem Has.last {f : v.ty.Contents (Elt Ideal)} {L : List (View.Piece (Elt Ideal) S520x1408 .f32)} {e : ℕ → ℕ → EReal} {lo : ℕ}
    (H : Has v f L e lo 1408) (hr : lo ≤ 8)
    (inb : ∀ d, (![512, 0] : Fin 2 → ℕ) d + S8x1408.size d ≤ S520x1408.size d) (p : Fin 8) (q : Fin 1408) :
    v.readAt (Elt Ideal) (Rect.unit (s := S520x1408) ![512, 0] S8x1408.size inb).toLoadRect (v.writes (Elt Ideal) f L) (ix2 p q)
      = e (512 + p.val) q.val := by
  have hp := p.isLt
  have he : (Rect.unit (s := S520x1408) ![512, 0] S8x1408.size inb).toLoadRect.idx (ix2 p q)
      = ix2 (⟨512 + p.val, by omega⟩ : Fin 520) q := by
    funext b; apply Fin.ext
    match b with
    | ⟨0, _⟩ => show 512 + 1 * p.val = 512 + p.val; omega
    | ⟨1, _⟩ => show 0 + 1 * q.val = q.val; omega
  rw [View.readAt_apply]
  refine (congrArg _ he).trans (H _ _ ?_ ?_)
  · show lo ≤ 512 + p.val; omega
  · intro _; exact q.isLt

end Scratch

end Cert.FfnUpIdeal.Value
end
-- ==== Proof.FfnUpCaseA.lean ====
/- The feed-forward up projection at a grid point that begins a sequence: what the body stores, block by block. -/
module

public import proofs.«01_k».proof.Proof.FfnUpTile

@[expose] public section

set_option maxRecDepth 16384
set_option maxHeartbeats 2000000

noncomputable section

open Idealize.ShloMosaic Idealize.ShloMosaic.TcCoe Idealize.SL.Sem Idealize.ShloMosaic.Tactic Idealize.ShloMosaic.ValueIdx Products

namespace Cert.FfnUpIdeal.Value

open Cert.FfnUpIdeal Cert.FfnUpIdeal.Gen

/-- The rows carried into a sequence's first tile are zero. -/
theorem zero_at0 {x0 : Vec Ideal S512x1024 .bf16} {w : Vec Ideal S1x1024x1408 .bf16} (a : Fin 8) (q : Fin 1408) :
    k0_pay3 (F := Ideal) (ix2 a q) = upRows x0 w (fun _ _ => 0) a.val q.val := by
  unfold k0_pay3 upRows
  rw [shapeCast_self, if_pos a.isLt]
  exact Ideal.ofBits_zero_f32

/-- The rows carried into a sequence's first tile are zero. -/
theorem zero_at1 {x0 : Vec Ideal S512x1024 .bf16} {w : Vec Ideal S1x1024x1408 .bf16} (a : Fin 8) (q : Fin 1408) :
    k0_pay4 (F := Ideal) (ix2 a q) = upRows x0 w (fun _ _ => 0) a.val q.val := by
  unfold k0_pay4 upRows
  rw [shapeCast_self, if_pos a.isLt]
  exact Ideal.ofBits_zero_f32

/-- The first half's scratch rows after 2 blocks of the product. -/
theorem hasg_A_0 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) :
    Has v f (kernelRun0_A.sl.HS0_3 (F := Ideal) c arg2 harg2 arg3 harg3 x0 x1) (upRows x0 x1 (fun _ _ => 0)) 0 512 := by
  unfold kernelRun0_A.sl.HS0_3
  refine has_mm v f 256 512 (has_mm v f 256 256 (has_head v f _ _ (zero_at0)) rfl _ rfl _ _ ?_) rfl _ rfl _ _ ?_
  · exact mm256_at arg2 harg2 x0 arg3 harg3 x1 (fun _ _ => 0) 0 _ _
  · exact mm256_at arg2 harg2 x0 arg3 harg3 x1 (fun _ _ => 0) 256 _ _

/-- The first half's scratch rows after 3 blocks of the product. -/
theorem hasg_A_1 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) :
    Has v f (kernelRun0_A.sl.HS0_4 (F := Ideal) c arg2 harg2 arg3 harg3 x0 x1) (upRows x0 x1 (fun _ _ => 0)) 0 768 := by
  unfold kernelRun0_A.sl.HS0_4
  exact has_mm v f 256 768 (hasg_A_0 c arg2 harg2 arg3 harg3 x0 x1 v f) rfl _ rfl _ _
    (mm256_at arg2 harg2 x0 arg3 harg3 x1 (fun _ _ => 0) 512 _ _)

/-- The first half's scratch rows after 4 blocks of the product. -/
theorem hasg_A_2 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) :
    Has v f (kernelRun0_A.sl.HS0_5 (F := Ideal) c arg2 harg2 arg3 harg3 x0 x1) (upRows x0 x1 (fun _ _ => 0)) 0 1024 := by
  unfold kernelRun0_A.sl.HS0_5
  exact has_mm v f 256 1024 (hasg_A_1 c arg2 harg2 arg3 harg3 x0 x1 v f) rfl _ rfl _ _
    (mm256_at arg2 harg2 x0 arg3 harg3 x1 (fun _ _ => 0) 768 _ _)

/-- The first half's scratch rows after 5 blocks of the product. -/
theorem hasg_A_3 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) :
    Has v f (kernelRun0_A.sl.HS0_6 (F := Ideal) c arg2 harg2 arg3 harg3 x0 x1) (upRows x0 x1 (fun _ _ => 0)) 0 1280 := by
  unfold kernelRun0_A.sl.HS0_6
  exact has_mm v f 256 1280 (hasg_A_2 c arg2 harg2 arg3 harg3 x0 x1 v f) rfl _ rfl _ _
    (mm256_at arg2 harg2 x0 arg3 harg3 x1 (fun _ _ => 0) 1024 _ _)

/-- The first half's scratch rows after 6 blocks of the product. -/
theorem hasg_A_4 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) :
    Has v f (kernelRun0_A.sl.HS0_7 (F := Ideal) c arg2 harg2 arg3 harg3 x0 x1) (upRows x0 x1 (fun _ _ => 0)) 0 1408 := by
  unfold kernelRun0_A.sl.HS0_7
  exact has_mm v f 128 1408 (hasg_A_3 c arg2 harg2 arg3 harg3 x0 x1 v f) rfl _ rfl _ _
    (mm128_at arg2 harg2 x0 arg3 harg3 x1 (fun _ _ => 0) 1280 _ _)

/-- The second half's scratch rows after 2 blocks of the product. -/
theorem hasv_A_0 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) :
    Has v f (kernelRun0_A.sl.HS1_3 (F := Ideal) c arg2 harg2 arg4 harg4 x0 x2) (upRows x0 x2 (fun _ _ => 0)) 0 512 := by
  unfold kernelRun0_A.sl.HS1_3
  refine has_mm v f 256 512 (has_mm v f 256 256 (has_head v f _ _ (zero_at1)) rfl _ rfl _ _ ?_) rfl _ rfl _ _ ?_
  · exact mm256_at arg2 harg2 x0 arg4 harg4 x2 (fun _ _ => 0) 0 _ _
  · exact mm256_at arg2 harg2 x0 arg4 harg4 x2 (fun _ _ => 0) 256 _ _

/-- The second half's scratch rows after 3 blocks of the product. -/
theorem hasv_A_1 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) :
    Has v f (kernelRun0_A.sl.HS1_4 (F := Ideal) c arg2 harg2 arg4 harg4 x0 x2) (upRows x0 x2 (fun _ _ => 0)) 0 768 := by
  unfold kernelRun0_A.sl.HS1_4
  exact has_mm v f 256 768 (hasv_A_0 c arg2 harg2 arg4 harg4 x0 x2 v f) rfl _ rfl _ _
    (mm256_at arg2 harg2 x0 arg4 harg4 x2 (fun _ _ => 0) 512 _ _)

/-- The second half's scratch rows after 4 blocks of the product. -/
theorem hasv_A_2 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) :
    Has v f (kernelRun0_A.sl.HS1_5 (F := Ideal) c arg2 harg2 arg4 harg4 x0 x2) (upRows x0 x2 (fun _ _ => 0)) 0 1024 := by
  unfold kernelRun0_A.sl.HS1_5
  exact has_mm v f 256 1024 (hasv_A_1 c arg2 harg2 arg4 harg4 x0 x2 v f) rfl _ rfl _ _
    (mm256_at arg2 harg2 x0 arg4 harg4 x2 (fun _ _ => 0) 768 _ _)

/-- The second half's scratch rows after 5 blocks of the product. -/
theorem hasv_A_3 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) :
    Has v f (kernelRun0_A.sl.HS1_6 (F := Ideal) c arg2 harg2 arg4 harg4 x0 x2) (upRows x0 x2 (fun _ _ => 0)) 0 1280 := by
  unfold kernelRun0_A.sl.HS1_6
  exact has_mm v f 256 1280 (hasv_A_2 c arg2 harg2 arg4 harg4 x0 x2 v f) rfl _ rfl _ _
    (mm256_at arg2 harg2 x0 arg4 harg4 x2 (fun _ _ => 0) 1024 _ _)

/-- The second half's scratch rows after 6 blocks of the product. -/
theorem hasv_A_4 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) :
    Has v f (kernelRun0_A.sl.HS1_7 (F := Ideal) c arg2 harg2 arg4 harg4 x0 x2) (upRows x0 x2 (fun _ _ => 0)) 0 1408 := by
  unfold kernelRun0_A.sl.HS1_7
  exact has_mm v f 128 1408 (hasv_A_3 c arg2 harg2 arg4 harg4 x0 x2 v f) rfl _ rfl _ _
    (mm128_at arg2 harg2 x0 arg4 harg4 x2 (fun _ _ => 0) 1280 _ _)

/-- What the grid point works on. -/
def tileA (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) : UpTile :=
  ⟨upRows x0 x1 (fun _ _ => 0), upRows x0 x2 (fun _ _ => 0), at2 (A := 3) (B := 1408) x3, at2 (A := 3) (B := 1408) x4,
    at2 (A := 1) (B := 1408) x5 0, at2 (A := 1) (B := 1408) x6 0⟩

/-- The blocks stored in result 0 are blocks of the tile's product. -/
theorem pieces7_A (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) :
    View.PiecesOf (arr3 ((tileA x0 x1 x2 x3 x4 x5 x6).h)) (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 := by
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_384_1280 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_384_1280 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_256_1280 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_256_1280 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_128_1280 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_128_1280 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_0_1280 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_0_1280 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_384_1152 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_384_1152 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_256_1152 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_256_1152 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_128_1152 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_128_1152 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_0_1152 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_0_1152 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_384_1024 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_384_1024 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_256_1024 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_256_1024 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_128_1024 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_128_1024 y
  · intro y; sl_unfold_run_values
    exact cur_piece1 (tileA x0 x1 x2 x3 x4 x5 x6) (Has.load (hasv_A_4 c arg2 harg2 arg4 harg4 x0 x2 arg13.view _) (by omega) (by omega) _) inb_S2x512x1408_S1x128x128_1_0_1024 y
  · intro y; sl_unfold_run_values
    exact cur_piece0 (tileA x0 x1 x2 x3 x4 x5 x6) (Has.load (hasg_A_4 c arg2 harg2 arg3 harg3 x0 x1 arg12.view _) (by omega) (by omega) _) inb_S2x512x1408_S1x128x128_0_0_1024 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_384_896 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_384_896 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_256_896 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_256_896 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_128_896 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_128_896 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_0_896 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_0_896 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_384_768 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_384_768 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_256_768 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_256_768 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_128_768 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_128_768 y
  · intro y; sl_unfold_run_values
    exact cur_piece1 (tileA x0 x1 x2 x3 x4 x5 x6) (Has.load (hasv_A_3 c arg2 harg2 arg4 harg4 x0 x2 arg13.view _) (by omega) (by omega) _) inb_S2x512x1408_S1x128x128_1_0_768 y
  · intro y; sl_unfold_run_values
    exact cur_piece0 (tileA x0 x1 x2 x3 x4 x5 x6) (Has.load (hasg_A_3 c arg2 harg2 arg3 harg3 x0 x1 arg12.view _) (by omega) (by omega) _) inb_S2x512x1408_S1x128x128_0_0_768 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_384_640 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_384_640 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_256_640 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_256_640 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_128_640 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_128_640 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_0_640 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_0_640 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_384_512 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_384_512 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_256_512 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_256_512 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_128_512 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_128_512 y
  · intro y; sl_unfold_run_values
    exact cur_piece1 (tileA x0 x1 x2 x3 x4 x5 x6) (Has.load (hasv_A_2 c arg2 harg2 arg4 harg4 x0 x2 arg13.view _) (by omega) (by omega) _) inb_S2x512x1408_S1x128x128_1_0_512 y
  · intro y; sl_unfold_run_values
    exact cur_piece0 (tileA x0 x1 x2 x3 x4 x5 x6) (Has.load (hasg_A_2 c arg2 harg2 arg3 harg3 x0 x1 arg12.view _) (by omega) (by omega) _) inb_S2x512x1408_S1x128x128_0_0_512 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_384_384 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_384_384 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_256_384 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_256_384 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_128_384 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_128_384 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_0_384 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_0_384 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_384_256 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_384_256 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_256_256 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_256_256 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_128_256 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_128_256 y
  · intro y; sl_unfold_run_values
    exact cur_piece1 (tileA x0 x1 x2 x3 x4 x5 x6) (Has.load (hasv_A_1 c arg2 harg2 arg4 harg4 x0 x2 arg13.view _) (by omega) (by omega) _) inb_S2x512x1408_S1x128x128_1_0_256 y
  · intro y; sl_unfold_run_values
    exact cur_piece0 (tileA x0 x1 x2 x3 x4 x5 x6) (Has.load (hasg_A_1 c arg2 harg2 arg3 harg3 x0 x1 arg12.view _) (by omega) (by omega) _) inb_S2x512x1408_S1x128x128_0_0_256 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_384_128 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_384_128 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_256_128 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_256_128 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_128_128 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_128_128 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_0_128 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_0_128 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_384_0 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_384_0 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_256_0 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_256_0 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_128_0 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_128_0 y
  · intro y; sl_unfold_run_values
    exact cur_piece1 (tileA x0 x1 x2 x3 x4 x5 x6) (Has.load (hasv_A_0 c arg2 harg2 arg4 harg4 x0 x2 arg13.view _) (by omega) (by omega) _) inb_S2x512x1408_S1x128x128_1_0_0 y
  · intro y; sl_unfold_run_values
    exact cur_piece0 (tileA x0 x1 x2 x3 x4 x5 x6) (Has.load (hasg_A_0 c arg2 harg2 arg3 harg3 x0 x1 arg12.view _) (by omega) (by omega) _) inb_S2x512x1408_S1x128x128_0_0_0 y

/-- The blocks stored in result 1 are blocks of the tile's convolution. -/
theorem pieces8_A (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) :
    View.PiecesOf (arr3 ((tileA x0 x1 x2 x3 x4 x5 x6).pre)) (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 := by
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact pre_piece1 (tileA x0 x1 x2 x3 x4 x5 x6) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S2x512x1408_S1x128x128_1_384_1280 y
  · intro y; sl_unfold_run_values
    exact pre_piece0 (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) inb_S2x512x1408_S1x128x128_0_384_1280 y
  · intro y; sl_unfold_run_values
    exact pre_piece1 (tileA x0 x1 x2 x3 x4 x5 x6) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S2x512x1408_S1x128x128_1_256_1280 y
  · intro y; sl_unfold_run_values
    exact pre_piece0 (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) inb_S2x512x1408_S1x128x128_0_256_1280 y
  · intro y; sl_unfold_run_values
    exact pre_piece1 (tileA x0 x1 x2 x3 x4 x5 x6) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S2x512x1408_S1x128x128_1_128_1280 y
  · intro y; sl_unfold_run_values
    exact pre_piece0 (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) inb_S2x512x1408_S1x128x128_0_128_1280 y
  · intro y; sl_unfold_run_values
    exact pre_piece1 (tileA x0 x1 x2 x3 x4 x5 x6) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S2x512x1408_S1x128x128_1_0_1280 y
  · intro y; sl_unfold_run_values
    exact pre_piece0 (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) inb_S2x512x1408_S1x128x128_0_0_1280 y
  · intro y; sl_unfold_run_values
    exact pre_piece1 (tileA x0 x1 x2 x3 x4 x5 x6) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S2x512x1408_S1x128x128_1_384_1152 y
  · intro y; sl_unfold_run_values
    exact pre_piece0 (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) inb_S2x512x1408_S1x128x128_0_384_1152 y
  · intro y; sl_unfold_run_values
    exact pre_piece1 (tileA x0 x1 x2 x3 x4 x5 x6) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S2x512x1408_S1x128x128_1_256_1152 y
  · intro y; sl_unfold_run_values
    exact pre_piece0 (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) inb_S2x512x1408_S1x128x128_0_256_1152 y
  · intro y; sl_unfold_run_values
    exact pre_piece1 (tileA x0 x1 x2 x3 x4 x5 x6) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S2x512x1408_S1x128x128_1_128_1152 y
  · intro y; sl_unfold_run_values
    exact pre_piece0 (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) inb_S2x512x1408_S1x128x128_0_128_1152 y
  · intro y; sl_unfold_run_values
    exact pre_piece1 (tileA x0 x1 x2 x3 x4 x5 x6) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S2x512x1408_S1x128x128_1_0_1152 y
  · intro y; sl_unfold_run_values
    exact pre_piece0 (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) inb_S2x512x1408_S1x128x128_0_0_1152 y
  · intro y; sl_unfold_run_values
    exact pre_piece1 (tileA x0 x1 x2 x3 x4 x5 x6) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S2x512x1408_S1x128x128_1_384_1024 y
  · intro y; sl_unfold_run_values
    exact pre_piece0 (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) inb_S2x512x1408_S1x128x128_0_384_1024 y
  · intro y; sl_unfold_run_values
    exact pre_piece1 (tileA x0 x1 x2 x3 x4 x5 x6) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S2x512x1408_S1x128x128_1_256_1024 y
  · intro y; sl_unfold_run_values
    exact pre_piece0 (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) inb_S2x512x1408_S1x128x128_0_256_1024 y
  · intro y; sl_unfold_run_values
    exact pre_piece1 (tileA x0 x1 x2 x3 x4 x5 x6) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S2x512x1408_S1x128x128_1_128_1024 y
  · intro y; sl_unfold_run_values
    exact pre_piece0 (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) inb_S2x512x1408_S1x128x128_0_128_1024 y
  · intro y; sl_unfold_run_values
    exact pre_piece1 (tileA x0 x1 x2 x3 x4 x5 x6) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S2x512x1408_S1x128x128_1_0_1024 y
  · intro y; sl_unfold_run_values
    exact pre_piece0 (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) inb_S2x512x1408_S1x128x128_0_0_1024 y
  · intro y; sl_unfold_run_values
    exact pre_piece1 (tileA x0 x1 x2 x3 x4 x5 x6) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S2x512x1408_S1x128x128_1_384_896 y
  · intro y; sl_unfold_run_values
    exact pre_piece0 (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) inb_S2x512x1408_S1x128x128_0_384_896 y
  · intro y; sl_unfold_run_values
    exact pre_piece1 (tileA x0 x1 x2 x3 x4 x5 x6) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S2x512x1408_S1x128x128_1_256_896 y
  · intro y; sl_unfold_run_values
    exact pre_piece0 (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) inb_S2x512x1408_S1x128x128_0_256_896 y
  · intro y; sl_unfold_run_values
    exact pre_piece1 (tileA x0 x1 x2 x3 x4 x5 x6) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S2x512x1408_S1x128x128_1_128_896 y
  · intro y; sl_unfold_run_values
    exact pre_piece0 (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) inb_S2x512x1408_S1x128x128_0_128_896 y
  · intro y; sl_unfold_run_values
    exact pre_piece1 (tileA x0 x1 x2 x3 x4 x5 x6) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S2x512x1408_S1x128x128_1_0_896 y
  · intro y; sl_unfold_run_values
    exact pre_piece0 (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) inb_S2x512x1408_S1x128x128_0_0_896 y
  · intro y; sl_unfold_run_values
    exact pre_piece1 (tileA x0 x1 x2 x3 x4 x5 x6) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S2x512x1408_S1x128x128_1_384_768 y
  · intro y; sl_unfold_run_values
    exact pre_piece0 (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) inb_S2x512x1408_S1x128x128_0_384_768 y
  · intro y; sl_unfold_run_values
    exact pre_piece1 (tileA x0 x1 x2 x3 x4 x5 x6) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S2x512x1408_S1x128x128_1_256_768 y
  · intro y; sl_unfold_run_values
    exact pre_piece0 (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) inb_S2x512x1408_S1x128x128_0_256_768 y
  · intro y; sl_unfold_run_values
    exact pre_piece1 (tileA x0 x1 x2 x3 x4 x5 x6) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S2x512x1408_S1x128x128_1_128_768 y
  · intro y; sl_unfold_run_values
    exact pre_piece0 (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) inb_S2x512x1408_S1x128x128_0_128_768 y
  · intro y; sl_unfold_run_values
    exact pre_piece1 (tileA x0 x1 x2 x3 x4 x5 x6) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S2x512x1408_S1x128x128_1_0_768 y
  · intro y; sl_unfold_run_values
    exact pre_piece0 (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) inb_S2x512x1408_S1x128x128_0_0_768 y
  · intro y; sl_unfold_run_values
    exact pre_piece1 (tileA x0 x1 x2 x3 x4 x5 x6) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S2x512x1408_S1x128x128_1_384_640 y
  · intro y; sl_unfold_run_values
    exact pre_piece0 (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) inb_S2x512x1408_S1x128x128_0_384_640 y
  · intro y; sl_unfold_run_values
    exact pre_piece1 (tileA x0 x1 x2 x3 x4 x5 x6) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S2x512x1408_S1x128x128_1_256_640 y
  · intro y; sl_unfold_run_values
    exact pre_piece0 (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) inb_S2x512x1408_S1x128x128_0_256_640 y
  · intro y; sl_unfold_run_values
    exact pre_piece1 (tileA x0 x1 x2 x3 x4 x5 x6) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S2x512x1408_S1x128x128_1_128_640 y
  · intro y; sl_unfold_run_values
    exact pre_piece0 (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) inb_S2x512x1408_S1x128x128_0_128_640 y
  · intro y; sl_unfold_run_values
    exact pre_piece1 (tileA x0 x1 x2 x3 x4 x5 x6) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S2x512x1408_S1x128x128_1_0_640 y
  · intro y; sl_unfold_run_values
    exact pre_piece0 (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) inb_S2x512x1408_S1x128x128_0_0_640 y
  · intro y; sl_unfold_run_values
    exact pre_piece1 (tileA x0 x1 x2 x3 x4 x5 x6) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S2x512x1408_S1x128x128_1_384_512 y
  · intro y; sl_unfold_run_values
    exact pre_piece0 (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) inb_S2x512x1408_S1x128x128_0_384_512 y
  · intro y; sl_unfold_run_values
    exact pre_piece1 (tileA x0 x1 x2 x3 x4 x5 x6) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S2x512x1408_S1x128x128_1_256_512 y
  · intro y; sl_unfold_run_values
    exact pre_piece0 (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) inb_S2x512x1408_S1x128x128_0_256_512 y
  · intro y; sl_unfold_run_values
    exact pre_piece1 (tileA x0 x1 x2 x3 x4 x5 x6) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S2x512x1408_S1x128x128_1_128_512 y
  · intro y; sl_unfold_run_values
    exact pre_piece0 (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) inb_S2x512x1408_S1x128x128_0_128_512 y
  · intro y; sl_unfold_run_values
    exact pre_piece1 (tileA x0 x1 x2 x3 x4 x5 x6) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S2x512x1408_S1x128x128_1_0_512 y
  · intro y; sl_unfold_run_values
    exact pre_piece0 (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) inb_S2x512x1408_S1x128x128_0_0_512 y
  · intro y; sl_unfold_run_values
    exact pre_piece1 (tileA x0 x1 x2 x3 x4 x5 x6) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S2x512x1408_S1x128x128_1_384_384 y
  · intro y; sl_unfold_run_values
    exact pre_piece0 (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) inb_S2x512x1408_S1x128x128_0_384_384 y
  · intro y; sl_unfold_run_values
    exact pre_piece1 (tileA x0 x1 x2 x3 x4 x5 x6) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S2x512x1408_S1x128x128_1_256_384 y
  · intro y; sl_unfold_run_values
    exact pre_piece0 (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) inb_S2x512x1408_S1x128x128_0_256_384 y
  · intro y; sl_unfold_run_values
    exact pre_piece1 (tileA x0 x1 x2 x3 x4 x5 x6) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S2x512x1408_S1x128x128_1_128_384 y
  · intro y; sl_unfold_run_values
    exact pre_piece0 (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) inb_S2x512x1408_S1x128x128_0_128_384 y
  · intro y; sl_unfold_run_values
    exact pre_piece1 (tileA x0 x1 x2 x3 x4 x5 x6) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S2x512x1408_S1x128x128_1_0_384 y
  · intro y; sl_unfold_run_values
    exact pre_piece0 (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) inb_S2x512x1408_S1x128x128_0_0_384 y
  · intro y; sl_unfold_run_values
    exact pre_piece1 (tileA x0 x1 x2 x3 x4 x5 x6) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S2x512x1408_S1x128x128_1_384_256 y
  · intro y; sl_unfold_run_values
    exact pre_piece0 (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) inb_S2x512x1408_S1x128x128_0_384_256 y
  · intro y; sl_unfold_run_values
    exact pre_piece1 (tileA x0 x1 x2 x3 x4 x5 x6) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S2x512x1408_S1x128x128_1_256_256 y
  · intro y; sl_unfold_run_values
    exact pre_piece0 (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) inb_S2x512x1408_S1x128x128_0_256_256 y
  · intro y; sl_unfold_run_values
    exact pre_piece1 (tileA x0 x1 x2 x3 x4 x5 x6) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S2x512x1408_S1x128x128_1_128_256 y
  · intro y; sl_unfold_run_values
    exact pre_piece0 (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) inb_S2x512x1408_S1x128x128_0_128_256 y
  · intro y; sl_unfold_run_values
    exact pre_piece1 (tileA x0 x1 x2 x3 x4 x5 x6) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S2x512x1408_S1x128x128_1_0_256 y
  · intro y; sl_unfold_run_values
    exact pre_piece0 (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) inb_S2x512x1408_S1x128x128_0_0_256 y
  · intro y; sl_unfold_run_values
    exact pre_piece1 (tileA x0 x1 x2 x3 x4 x5 x6) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S2x512x1408_S1x128x128_1_384_128 y
  · intro y; sl_unfold_run_values
    exact pre_piece0 (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) inb_S2x512x1408_S1x128x128_0_384_128 y
  · intro y; sl_unfold_run_values
    exact pre_piece1 (tileA x0 x1 x2 x3 x4 x5 x6) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S2x512x1408_S1x128x128_1_256_128 y
  · intro y; sl_unfold_run_values
    exact pre_piece0 (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) inb_S2x512x1408_S1x128x128_0_256_128 y
  · intro y; sl_unfold_run_values
    exact pre_piece1 (tileA x0 x1 x2 x3 x4 x5 x6) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S2x512x1408_S1x128x128_1_128_128 y
  · intro y; sl_unfold_run_values
    exact pre_piece0 (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) inb_S2x512x1408_S1x128x128_0_128_128 y
  · intro y; sl_unfold_run_values
    exact pre_piece1 (tileA x0 x1 x2 x3 x4 x5 x6) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S2x512x1408_S1x128x128_1_0_128 y
  · intro y; sl_unfold_run_values
    exact pre_piece0 (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) inb_S2x512x1408_S1x128x128_0_0_128 y
  · intro y; sl_unfold_run_values
    exact pre_piece1 (tileA x0 x1 x2 x3 x4 x5 x6) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S2x512x1408_S1x128x128_1_384_0 y
  · intro y; sl_unfold_run_values
    exact pre_piece0 (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) inb_S2x512x1408_S1x128x128_0_384_0 y
  · intro y; sl_unfold_run_values
    exact pre_piece1 (tileA x0 x1 x2 x3 x4 x5 x6) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S2x512x1408_S1x128x128_1_256_0 y
  · intro y; sl_unfold_run_values
    exact pre_piece0 (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) inb_S2x512x1408_S1x128x128_0_256_0 y
  · intro y; sl_unfold_run_values
    exact pre_piece1 (tileA x0 x1 x2 x3 x4 x5 x6) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S2x512x1408_S1x128x128_1_128_0 y
  · intro y; sl_unfold_run_values
    exact pre_piece0 (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) inb_S2x512x1408_S1x128x128_0_128_0 y
  · intro y; sl_unfold_run_values
    exact pre_piece1 (tileA x0 x1 x2 x3 x4 x5 x6) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S2x512x1408_S1x128x128_1_0_0 y
  · intro y; sl_unfold_run_values
    exact pre_piece0 (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) inb_S2x512x1408_S1x128x128_0_0_0 y

/-- The blocks stored in result 2 are blocks of the tile's activation. -/
theorem pieces9_A (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) :
    View.PiecesOf (arr2 ((tileA x0 x1 x2 x3 x4 x5 x6).act)) (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 := by
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact act_piece (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S512x1408_S128x128_384_1280 y
  · intro y; sl_unfold_run_values
    exact act_piece (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S512x1408_S128x128_256_1280 y
  · intro y; sl_unfold_run_values
    exact act_piece (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S512x1408_S128x128_128_1280 y
  · intro y; sl_unfold_run_values
    exact act_piece (tileA x0 x1 x2 x3 x4 x5 x6) (tap_ld arg5 harg5 x3 0 1280 _) (tap_ld arg5 harg5 x3 1 1280 _) (tap_ld arg5 harg5 x3 2 1280 _) (bias_ld arg7 harg7 x5 1280 _) (Has.load (hasg_A_4 c arg2 harg2 arg3 harg3 x0 x1 arg12.view _) (by omega) (by omega) _) (tap_ld arg6 harg6 x4 0 1280 _) (tap_ld arg6 harg6 x4 1 1280 _) (tap_ld arg6 harg6 x4 2 1280 _) (bias_ld arg8 harg8 x6 1280 _) (Has.load (hasv_A_4 c arg2 harg2 arg4 harg4 x0 x2 arg13.view _) (by omega) (by omega) _) inb_S512x1408_S128x128_0_1280 y
  · intro y; sl_unfold_run_values
    exact act_piece (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S512x1408_S128x128_384_1152 y
  · intro y; sl_unfold_run_values
    exact act_piece (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S512x1408_S128x128_256_1152 y
  · intro y; sl_unfold_run_values
    exact act_piece (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S512x1408_S128x128_128_1152 y
  · intro y; sl_unfold_run_values
    exact act_piece (tileA x0 x1 x2 x3 x4 x5 x6) (tap_ld arg5 harg5 x3 0 1152 _) (tap_ld arg5 harg5 x3 1 1152 _) (tap_ld arg5 harg5 x3 2 1152 _) (bias_ld arg7 harg7 x5 1152 _) (Has.load (hasg_A_4 c arg2 harg2 arg3 harg3 x0 x1 arg12.view _) (by omega) (by omega) _) (tap_ld arg6 harg6 x4 0 1152 _) (tap_ld arg6 harg6 x4 1 1152 _) (tap_ld arg6 harg6 x4 2 1152 _) (bias_ld arg8 harg8 x6 1152 _) (Has.load (hasv_A_4 c arg2 harg2 arg4 harg4 x0 x2 arg13.view _) (by omega) (by omega) _) inb_S512x1408_S128x128_0_1152 y
  · intro y; sl_unfold_run_values
    exact act_piece (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S512x1408_S128x128_384_1024 y
  · intro y; sl_unfold_run_values
    exact act_piece (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S512x1408_S128x128_256_1024 y
  · intro y; sl_unfold_run_values
    exact act_piece (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S512x1408_S128x128_128_1024 y
  · intro y; sl_unfold_run_values
    exact act_piece (tileA x0 x1 x2 x3 x4 x5 x6) (tap_ld arg5 harg5 x3 0 1024 _) (tap_ld arg5 harg5 x3 1 1024 _) (tap_ld arg5 harg5 x3 2 1024 _) (bias_ld arg7 harg7 x5 1024 _) (Has.load (hasg_A_4 c arg2 harg2 arg3 harg3 x0 x1 arg12.view _) (by omega) (by omega) _) (tap_ld arg6 harg6 x4 0 1024 _) (tap_ld arg6 harg6 x4 1 1024 _) (tap_ld arg6 harg6 x4 2 1024 _) (bias_ld arg8 harg8 x6 1024 _) (Has.load (hasv_A_4 c arg2 harg2 arg4 harg4 x0 x2 arg13.view _) (by omega) (by omega) _) inb_S512x1408_S128x128_0_1024 y
  · intro y; sl_unfold_run_values
    exact act_piece (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S512x1408_S128x128_384_896 y
  · intro y; sl_unfold_run_values
    exact act_piece (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S512x1408_S128x128_256_896 y
  · intro y; sl_unfold_run_values
    exact act_piece (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S512x1408_S128x128_128_896 y
  · intro y; sl_unfold_run_values
    exact act_piece (tileA x0 x1 x2 x3 x4 x5 x6) (tap_ld arg5 harg5 x3 0 896 _) (tap_ld arg5 harg5 x3 1 896 _) (tap_ld arg5 harg5 x3 2 896 _) (bias_ld arg7 harg7 x5 896 _) (Has.load (hasg_A_3 c arg2 harg2 arg3 harg3 x0 x1 arg12.view _) (by omega) (by omega) _) (tap_ld arg6 harg6 x4 0 896 _) (tap_ld arg6 harg6 x4 1 896 _) (tap_ld arg6 harg6 x4 2 896 _) (bias_ld arg8 harg8 x6 896 _) (Has.load (hasv_A_3 c arg2 harg2 arg4 harg4 x0 x2 arg13.view _) (by omega) (by omega) _) inb_S512x1408_S128x128_0_896 y
  · intro y; sl_unfold_run_values
    exact act_piece (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S512x1408_S128x128_384_768 y
  · intro y; sl_unfold_run_values
    exact act_piece (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S512x1408_S128x128_256_768 y
  · intro y; sl_unfold_run_values
    exact act_piece (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S512x1408_S128x128_128_768 y
  · intro y; sl_unfold_run_values
    exact act_piece (tileA x0 x1 x2 x3 x4 x5 x6) (tap_ld arg5 harg5 x3 0 768 _) (tap_ld arg5 harg5 x3 1 768 _) (tap_ld arg5 harg5 x3 2 768 _) (bias_ld arg7 harg7 x5 768 _) (Has.load (hasg_A_3 c arg2 harg2 arg3 harg3 x0 x1 arg12.view _) (by omega) (by omega) _) (tap_ld arg6 harg6 x4 0 768 _) (tap_ld arg6 harg6 x4 1 768 _) (tap_ld arg6 harg6 x4 2 768 _) (bias_ld arg8 harg8 x6 768 _) (Has.load (hasv_A_3 c arg2 harg2 arg4 harg4 x0 x2 arg13.view _) (by omega) (by omega) _) inb_S512x1408_S128x128_0_768 y
  · intro y; sl_unfold_run_values
    exact act_piece (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S512x1408_S128x128_384_640 y
  · intro y; sl_unfold_run_values
    exact act_piece (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S512x1408_S128x128_256_640 y
  · intro y; sl_unfold_run_values
    exact act_piece (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S512x1408_S128x128_128_640 y
  · intro y; sl_unfold_run_values
    exact act_piece (tileA x0 x1 x2 x3 x4 x5 x6) (tap_ld arg5 harg5 x3 0 640 _) (tap_ld arg5 harg5 x3 1 640 _) (tap_ld arg5 harg5 x3 2 640 _) (bias_ld arg7 harg7 x5 640 _) (Has.load (hasg_A_2 c arg2 harg2 arg3 harg3 x0 x1 arg12.view _) (by omega) (by omega) _) (tap_ld arg6 harg6 x4 0 640 _) (tap_ld arg6 harg6 x4 1 640 _) (tap_ld arg6 harg6 x4 2 640 _) (bias_ld arg8 harg8 x6 640 _) (Has.load (hasv_A_2 c arg2 harg2 arg4 harg4 x0 x2 arg13.view _) (by omega) (by omega) _) inb_S512x1408_S128x128_0_640 y
  · intro y; sl_unfold_run_values
    exact act_piece (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S512x1408_S128x128_384_512 y
  · intro y; sl_unfold_run_values
    exact act_piece (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S512x1408_S128x128_256_512 y
  · intro y; sl_unfold_run_values
    exact act_piece (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S512x1408_S128x128_128_512 y
  · intro y; sl_unfold_run_values
    exact act_piece (tileA x0 x1 x2 x3 x4 x5 x6) (tap_ld arg5 harg5 x3 0 512 _) (tap_ld arg5 harg5 x3 1 512 _) (tap_ld arg5 harg5 x3 2 512 _) (bias_ld arg7 harg7 x5 512 _) (Has.load (hasg_A_2 c arg2 harg2 arg3 harg3 x0 x1 arg12.view _) (by omega) (by omega) _) (tap_ld arg6 harg6 x4 0 512 _) (tap_ld arg6 harg6 x4 1 512 _) (tap_ld arg6 harg6 x4 2 512 _) (bias_ld arg8 harg8 x6 512 _) (Has.load (hasv_A_2 c arg2 harg2 arg4 harg4 x0 x2 arg13.view _) (by omega) (by omega) _) inb_S512x1408_S128x128_0_512 y
  · intro y; sl_unfold_run_values
    exact act_piece (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S512x1408_S128x128_384_384 y
  · intro y; sl_unfold_run_values
    exact act_piece (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S512x1408_S128x128_256_384 y
  · intro y; sl_unfold_run_values
    exact act_piece (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S512x1408_S128x128_128_384 y
  · intro y; sl_unfold_run_values
    exact act_piece (tileA x0 x1 x2 x3 x4 x5 x6) (tap_ld arg5 harg5 x3 0 384 _) (tap_ld arg5 harg5 x3 1 384 _) (tap_ld arg5 harg5 x3 2 384 _) (bias_ld arg7 harg7 x5 384 _) (Has.load (hasg_A_1 c arg2 harg2 arg3 harg3 x0 x1 arg12.view _) (by omega) (by omega) _) (tap_ld arg6 harg6 x4 0 384 _) (tap_ld arg6 harg6 x4 1 384 _) (tap_ld arg6 harg6 x4 2 384 _) (bias_ld arg8 harg8 x6 384 _) (Has.load (hasv_A_1 c arg2 harg2 arg4 harg4 x0 x2 arg13.view _) (by omega) (by omega) _) inb_S512x1408_S128x128_0_384 y
  · intro y; sl_unfold_run_values
    exact act_piece (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S512x1408_S128x128_384_256 y
  · intro y; sl_unfold_run_values
    exact act_piece (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S512x1408_S128x128_256_256 y
  · intro y; sl_unfold_run_values
    exact act_piece (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S512x1408_S128x128_128_256 y
  · intro y; sl_unfold_run_values
    exact act_piece (tileA x0 x1 x2 x3 x4 x5 x6) (tap_ld arg5 harg5 x3 0 256 _) (tap_ld arg5 harg5 x3 1 256 _) (tap_ld arg5 harg5 x3 2 256 _) (bias_ld arg7 harg7 x5 256 _) (Has.load (hasg_A_1 c arg2 harg2 arg3 harg3 x0 x1 arg12.view _) (by omega) (by omega) _) (tap_ld arg6 harg6 x4 0 256 _) (tap_ld arg6 harg6 x4 1 256 _) (tap_ld arg6 harg6 x4 2 256 _) (bias_ld arg8 harg8 x6 256 _) (Has.load (hasv_A_1 c arg2 harg2 arg4 harg4 x0 x2 arg13.view _) (by omega) (by omega) _) inb_S512x1408_S128x128_0_256 y
  · intro y; sl_unfold_run_values
    exact act_piece (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S512x1408_S128x128_384_128 y
  · intro y; sl_unfold_run_values
    exact act_piece (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S512x1408_S128x128_256_128 y
  · intro y; sl_unfold_run_values
    exact act_piece (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S512x1408_S128x128_128_128 y
  · intro y; sl_unfold_run_values
    exact act_piece (tileA x0 x1 x2 x3 x4 x5 x6) (tap_ld arg5 harg5 x3 0 128 _) (tap_ld arg5 harg5 x3 1 128 _) (tap_ld arg5 harg5 x3 2 128 _) (bias_ld arg7 harg7 x5 128 _) (Has.load (hasg_A_0 c arg2 harg2 arg3 harg3 x0 x1 arg12.view _) (by omega) (by omega) _) (tap_ld arg6 harg6 x4 0 128 _) (tap_ld arg6 harg6 x4 1 128 _) (tap_ld arg6 harg6 x4 2 128 _) (bias_ld arg8 harg8 x6 128 _) (Has.load (hasv_A_0 c arg2 harg2 arg4 harg4 x0 x2 arg13.view _) (by omega) (by omega) _) inb_S512x1408_S128x128_0_128 y
  · intro y; sl_unfold_run_values
    exact act_piece (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S512x1408_S128x128_384_0 y
  · intro y; sl_unfold_run_values
    exact act_piece (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S512x1408_S128x128_256_0 y
  · intro y; sl_unfold_run_values
    exact act_piece (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S512x1408_S128x128_128_0 y
  · intro y; sl_unfold_run_values
    exact act_piece (tileA x0 x1 x2 x3 x4 x5 x6) (tap_ld arg5 harg5 x3 0 0 _) (tap_ld arg5 harg5 x3 1 0 _) (tap_ld arg5 harg5 x3 2 0 _) (bias_ld arg7 harg7 x5 0 _) (Has.load (hasg_A_0 c arg2 harg2 arg3 harg3 x0 x1 arg12.view _) (by omega) (by omega) _) (tap_ld arg6 harg6 x4 0 0 _) (tap_ld arg6 harg6 x4 1 0 _) (tap_ld arg6 harg6 x4 2 0 _) (bias_ld arg8 harg8 x6 0 _) (Has.load (hasv_A_0 c arg2 harg2 arg4 harg4 x0 x2 arg13.view _) (by omega) (by omega) _) inb_S512x1408_S128x128_0_0 y

end Cert.FfnUpIdeal.Value
end
-- ==== Proof.FfnUpCaseB.lean ====
/- The feed-forward up projection at a grid point inside a sequence: what the body stores, block by block. -/
module

public import proofs.«01_k».proof.Proof.FfnUpTile

@[expose] public section

set_option maxRecDepth 16384
set_option maxHeartbeats 2000000

noncomputable section

open Idealize.ShloMosaic Idealize.ShloMosaic.TcCoe Idealize.SL.Sem Idealize.ShloMosaic.Tactic Idealize.ShloMosaic.ValueIdx Products

namespace Cert.FfnUpIdeal.Value

open Cert.FfnUpIdeal Cert.FfnUpIdeal.Gen

/-- The first half's scratch rows after 2 blocks of the product. -/
theorem hasg_B_0 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) (P : ℕ → ℕ → EReal) (lo : ℕ) (H : Has v f [] (upRows x0 x1 P) lo 0) :
    Has v f (kernelRun0_B.sl.HS0_2 (F := Ideal) c arg2 harg2 arg3 harg3 x0 x1) (upRows x0 x1 P) lo 512 := by
  unfold kernelRun0_B.sl.HS0_2
  refine has_mm v f 256 512 (has_mm v f 256 256 H rfl _ rfl _ _ ?_) rfl _ rfl _ _ ?_
  · exact mm256_at arg2 harg2 x0 arg3 harg3 x1 P 0 _ _
  · exact mm256_at arg2 harg2 x0 arg3 harg3 x1 P 256 _ _

/-- The first half's scratch rows after 3 blocks of the product. -/
theorem hasg_B_1 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) (P : ℕ → ℕ → EReal) (lo : ℕ) (H : Has v f [] (upRows x0 x1 P) lo 0) :
    Has v f (kernelRun0_B.sl.HS0_3 (F := Ideal) c arg2 harg2 arg3 harg3 x0 x1) (upRows x0 x1 P) lo 768 := by
  unfold kernelRun0_B.sl.HS0_3
  exact has_mm v f 256 768 (hasg_B_0 c arg2 harg2 arg3 harg3 x0 x1 v f P lo H) rfl _ rfl _ _
    (mm256_at arg2 harg2 x0 arg3 harg3 x1 P 512 _ _)

/-- The first half's scratch rows after 4 blocks of the product. -/
theorem hasg_B_2 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) (P : ℕ → ℕ → EReal) (lo : ℕ) (H : Has v f [] (upRows x0 x1 P) lo 0) :
    Has v f (kernelRun0_B.sl.HS0_4 (F := Ideal) c arg2 harg2 arg3 harg3 x0 x1) (upRows x0 x1 P) lo 1024 := by
  unfold kernelRun0_B.sl.HS0_4
  exact has_mm v f 256 1024 (hasg_B_1 c arg2 harg2 arg3 harg3 x0 x1 v f P lo H) rfl _ rfl _ _
    (mm256_at arg2 harg2 x0 arg3 harg3 x1 P 768 _ _)

/-- The first half's scratch rows after 5 blocks of the product. -/
theorem hasg_B_3 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) (P : ℕ → ℕ → EReal) (lo : ℕ) (H : Has v f [] (upRows x0 x1 P) lo 0) :
    Has v f (kernelRun0_B.sl.HS0_5 (F := Ideal) c arg2 harg2 arg3 harg3 x0 x1) (upRows x0 x1 P) lo 1280 := by
  unfold kernelRun0_B.sl.HS0_5
  exact has_mm v f 256 1280 (hasg_B_2 c arg2 harg2 arg3 harg3 x0 x1 v f P lo H) rfl _ rfl _ _
    (mm256_at arg2 harg2 x0 arg3 harg3 x1 P 1024 _ _)

/-- The first half's scratch rows after 6 blocks of the product. -/
theorem hasg_B_4 (c : Dev nD) (arg2 : Memref sig .tc .vmem S512x1024 .bf16) (harg2 : arg2.IsWhole) (arg3 : Memref sig .tc .vmem S1x1024x1408 .bf16) (harg3 : arg3.IsWhole) (x0 : Vec Ideal S512x1024 .bf16) (x1 : Vec Ideal S1x1024x1408 .bf16)
    (v : View sig .tc .vmem S520x1408 .f32) (f : v.ty.Contents (Elt Ideal)) (P : ℕ → ℕ → EReal) (lo : ℕ) (H : Has v f [] (upRows x0 x1 P) lo 0) :
    Has v f (kernelRun0_B.sl.HS0_6 (F := Ideal) c arg2 harg2 arg3 harg3 x0 x1) (upRows x0 x1 P) lo 1408 := by
  unfold kernelRun0_B.sl.HS0_6
  exact has_mm v f 128 1408 (hasg_B_3 c arg2 harg2 arg3 harg3 x0 x1 v f P lo H) rfl _ rfl _ _
    (mm128_at arg2 harg2 x0 arg3 harg3 x1 P 1280 _ _)

/-- The second half's scratch rows after 2 blocks of the product. -/
theorem hasv_B_0 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) (P : ℕ → ℕ → EReal) (lo : ℕ) (H : Has v f [] (upRows x0 x2 P) lo 0) :
    Has v f (kernelRun0_B.sl.HS1_2 (F := Ideal) c arg2 harg2 arg4 harg4 x0 x2) (upRows x0 x2 P) lo 512 := by
  unfold kernelRun0_B.sl.HS1_2
  refine has_mm v f 256 512 (has_mm v f 256 256 H rfl _ rfl _ _ ?_) rfl _ rfl _ _ ?_
  · exact mm256_at arg2 harg2 x0 arg4 harg4 x2 P 0 _ _
  · exact mm256_at arg2 harg2 x0 arg4 harg4 x2 P 256 _ _

/-- The second half's scratch rows after 3 blocks of the product. -/
theorem hasv_B_1 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) (P : ℕ → ℕ → EReal) (lo : ℕ) (H : Has v f [] (upRows x0 x2 P) lo 0) :
    Has v f (kernelRun0_B.sl.HS1_3 (F := Ideal) c arg2 harg2 arg4 harg4 x0 x2) (upRows x0 x2 P) lo 768 := by
  unfold kernelRun0_B.sl.HS1_3
  exact has_mm v f 256 768 (hasv_B_0 c arg2 harg2 arg4 harg4 x0 x2 v f P lo H) rfl _ rfl _ _
    (mm256_at arg2 harg2 x0 arg4 harg4 x2 P 512 _ _)

/-- The second half's scratch rows after 4 blocks of the product. -/
theorem hasv_B_2 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) (P : ℕ → ℕ → EReal) (lo : ℕ) (H : Has v f [] (upRows x0 x2 P) lo 0) :
    Has v f (kernelRun0_B.sl.HS1_4 (F := Ideal) c arg2 harg2 arg4 harg4 x0 x2) (upRows x0 x2 P) lo 1024 := by
  unfold kernelRun0_B.sl.HS1_4
  exact has_mm v f 256 1024 (hasv_B_1 c arg2 harg2 arg4 harg4 x0 x2 v f P lo H) rfl _ rfl _ _
    (mm256_at arg2 harg2 x0 arg4 harg4 x2 P 768 _ _)

/-- The second half's scratch rows after 5 blocks of the product. -/
theorem hasv_B_3 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) (P : ℕ → ℕ → EReal) (lo : ℕ) (H : Has v f [] (upRows x0 x2 P) lo 0) :
    Has v f (kernelRun0_B.sl.HS1_5 (F := Ideal) c arg2 harg2 arg4 harg4 x0 x2) (upRows x0 x2 P) lo 1280 := by
  unfold kernelRun0_B.sl.HS1_5
  exact has_mm v f 256 1280 (hasv_B_2 c arg2 harg2 arg4 harg4 x0 x2 v f P lo H) rfl _ rfl _ _
    (mm256_at arg2 harg2 x0 arg4 harg4 x2 P 1024 _ _)

/-- The second half's scratch rows after 6 blocks of the product. -/
theorem hasv_B_4 (c : Dev nD) (arg2 : Memref sig .tc .vmem S512x1024 .bf16) (harg2 : arg2.IsWhole) (arg4 : Memref sig .tc .vmem S1x1024x1408 .bf16) (harg4 : arg4.IsWhole) (x0 : Vec Ideal S512x1024 .bf16) (x2 : Vec Ideal S1x1024x1408 .bf16)
    (v : View sig .tc .vmem S520x1408 .f32) (f : v.ty.Contents (Elt Ideal)) (P : ℕ → ℕ → EReal) (lo : ℕ) (H : Has v f [] (upRows x0 x2 P) lo 0) :
    Has v f (kernelRun0_B.sl.HS1_6 (F := Ideal) c arg2 harg2 arg4 harg4 x0 x2) (upRows x0 x2 P) lo 1408 := by
  unfold kernelRun0_B.sl.HS1_6
  exact has_mm v f 128 1408 (hasv_B_3 c arg2 harg2 arg4 harg4 x0 x2 v f P lo H) rfl _ rfl _ _
    (mm128_at arg2 harg2 x0 arg4 harg4 x2 P 1280 _ _)

/-- What the grid point works on. -/
def tileB (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) (xs0 xs1 : Vec Ideal S520x1408 .f32) : UpTile :=
  ⟨upRows x0 x1 (at2 (A := 520) (B := 1408) xs0), upRows x0 x2 (at2 (A := 520) (B := 1408) xs1), at2 (A := 3) (B := 1408) x3, at2 (A := 3) (B := 1408) x4,
    at2 (A := 1) (B := 1408) x5 0, at2 (A := 1) (B := 1408) x6 0⟩

/-- The rows the point before left, before anything is stored. -/
theorem found0 (arg : Memref sig .tc .vmem S520x1408 .f32) (harg : arg.IsWhole) (x0 : Vec Ideal S512x1024 .bf16)
    (w : Vec Ideal S1x1024x1408 .bf16) (xs : Vec Ideal S520x1408 .f32) :
    Has arg.view (harg.unread xs) [] (upRows x0 w (at2 (A := 520) (B := 1408) xs)) 0 0 :=
  has_found _ _ _ fun a q ha => by
    rw [harg.read_unread]
    unfold upRows
    rw [if_pos ha]
    refine congrArg xs ?_
    funext b; apply Fin.ext
    match b with
    | ⟨0, _⟩ => exact (ofNat_val a.isLt).symm
    | ⟨1, _⟩ => exact (ofNat_val q.isLt).symm

/-- The blocks stored in result 0 are blocks of the tile's product. -/
theorem pieces7_B (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : ¬cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) (xs0 xs1 : Vec Ideal S520x1408 .f32) :
    View.PiecesOf (arr3 ((tileB x0 x1 x2 x3 x4 x5 x6 xs0 xs1).h)) (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).1 := by
  unfold kernelRun0_B
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_384_1280 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_384_1280 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_256_1280 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_256_1280 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_128_1280 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_128_1280 y
  · intro y; sl_unfold_run_values
    exact cur_piece1 (tileB x0 x1 x2 x3 x4 x5 x6 xs0 xs1) (Has.load (hasv_B_4 c arg2 harg2 arg4 harg4 x0 x2 arg13.view _ _ 0 (found0 arg13 harg13 x0 x2 xs1)) (by omega) (by omega) _) inb_S2x512x1408_S1x128x128_1_0_1280 y
  · intro y; sl_unfold_run_values
    exact cur_piece0 (tileB x0 x1 x2 x3 x4 x5 x6 xs0 xs1) (Has.load (hasg_B_4 c arg2 harg2 arg3 harg3 x0 x1 arg12.view _ _ 0 (found0 arg12 harg12 x0 x1 xs0)) (by omega) (by omega) _) inb_S2x512x1408_S1x128x128_0_0_1280 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_384_1152 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_384_1152 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_256_1152 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_256_1152 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_128_1152 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_128_1152 y
  · intro y; sl_unfold_run_values
    exact cur_piece1 (tileB x0 x1 x2 x3 x4 x5 x6 xs0 xs1) (Has.load (hasv_B_4 c arg2 harg2 arg4 harg4 x0 x2 arg13.view _ _ 0 (found0 arg13 harg13 x0 x2 xs1)) (by omega) (by omega) _) inb_S2x512x1408_S1x128x128_1_0_1152 y
  · intro y; sl_unfold_run_values
    exact cur_piece0 (tileB x0 x1 x2 x3 x4 x5 x6 xs0 xs1) (Has.load (hasg_B_4 c arg2 harg2 arg3 harg3 x0 x1 arg12.view _ _ 0 (found0 arg12 harg12 x0 x1 xs0)) (by omega) (by omega) _) inb_S2x512x1408_S1x128x128_0_0_1152 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_384_1024 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_384_1024 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_256_1024 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_256_1024 y
  · intro y; sl_unfold_run_values
    exact cur_piece1 (tileB x0 x1 x2 x3 x4 x5 x6 xs0 xs1) (Has.load (hasv_B_4 c arg2 harg2 arg4 harg4 x0 x2 arg13.view _ _ 8 (has_nil _ _ _)) (by omega) (by omega) _) inb_S2x512x1408_S1x128x128_1_128_1024 y
  · intro y; sl_unfold_run_values
    exact cur_piece0 (tileB x0 x1 x2 x3 x4 x5 x6 xs0 xs1) (Has.load (hasg_B_4 c arg2 harg2 arg3 harg3 x0 x1 arg12.view _ _ 8 (has_nil _ _ _)) (by omega) (by omega) _) inb_S2x512x1408_S1x128x128_0_128_1024 y
  · intro y; sl_unfold_run_values
    exact cur_piece1 (tileB x0 x1 x2 x3 x4 x5 x6 xs0 xs1) (Has.load (hasv_B_4 c arg2 harg2 arg4 harg4 x0 x2 arg13.view _ _ 0 (found0 arg13 harg13 x0 x2 xs1)) (by omega) (by omega) _) inb_S2x512x1408_S1x128x128_1_0_1024 y
  · intro y; sl_unfold_run_values
    exact cur_piece0 (tileB x0 x1 x2 x3 x4 x5 x6 xs0 xs1) (Has.load (hasg_B_4 c arg2 harg2 arg3 harg3 x0 x1 arg12.view _ _ 0 (found0 arg12 harg12 x0 x1 xs0)) (by omega) (by omega) _) inb_S2x512x1408_S1x128x128_0_0_1024 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_384_896 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_384_896 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_256_896 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_256_896 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_128_896 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_128_896 y
  · intro y; sl_unfold_run_values
    exact cur_piece1 (tileB x0 x1 x2 x3 x4 x5 x6 xs0 xs1) (Has.load (hasv_B_3 c arg2 harg2 arg4 harg4 x0 x2 arg13.view _ _ 0 (found0 arg13 harg13 x0 x2 xs1)) (by omega) (by omega) _) inb_S2x512x1408_S1x128x128_1_0_896 y
  · intro y; sl_unfold_run_values
    exact cur_piece0 (tileB x0 x1 x2 x3 x4 x5 x6 xs0 xs1) (Has.load (hasg_B_3 c arg2 harg2 arg3 harg3 x0 x1 arg12.view _ _ 0 (found0 arg12 harg12 x0 x1 xs0)) (by omega) (by omega) _) inb_S2x512x1408_S1x128x128_0_0_896 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_384_768 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_384_768 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_256_768 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_256_768 y
  · intro y; sl_unfold_run_values
    exact cur_piece1 (tileB x0 x1 x2 x3 x4 x5 x6 xs0 xs1) (Has.load (hasv_B_3 c arg2 harg2 arg4 harg4 x0 x2 arg13.view _ _ 8 (has_nil _ _ _)) (by omega) (by omega) _) inb_S2x512x1408_S1x128x128_1_128_768 y
  · intro y; sl_unfold_run_values
    exact cur_piece0 (tileB x0 x1 x2 x3 x4 x5 x6 xs0 xs1) (Has.load (hasg_B_3 c arg2 harg2 arg3 harg3 x0 x1 arg12.view _ _ 8 (has_nil _ _ _)) (by omega) (by omega) _) inb_S2x512x1408_S1x128x128_0_128_768 y
  · intro y; sl_unfold_run_values
    exact cur_piece1 (tileB x0 x1 x2 x3 x4 x5 x6 xs0 xs1) (Has.load (hasv_B_3 c arg2 harg2 arg4 harg4 x0 x2 arg13.view _ _ 0 (found0 arg13 harg13 x0 x2 xs1)) (by omega) (by omega) _) inb_S2x512x1408_S1x128x128_1_0_768 y
  · intro y; sl_unfold_run_values
    exact cur_piece0 (tileB x0 x1 x2 x3 x4 x5 x6 xs0 xs1) (Has.load (hasg_B_3 c arg2 harg2 arg3 harg3 x0 x1 arg12.view _ _ 0 (found0 arg12 harg12 x0 x1 xs0)) (by omega) (by omega) _) inb_S2x512x1408_S1x128x128_0_0_768 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_384_640 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_384_640 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_256_640 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_256_640 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_128_640 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_128_640 y
  · intro y; sl_unfold_run_values
    exact cur_piece1 (tileB x0 x1 x2 x3 x4 x5 x6 xs0 xs1) (Has.load (hasv_B_2 c arg2 harg2 arg4 harg4 x0 x2 arg13.view _ _ 0 (found0 arg13 harg13 x0 x2 xs1)) (by omega) (by omega) _) inb_S2x512x1408_S1x128x128_1_0_640 y
  · intro y; sl_unfold_run_values
    exact cur_piece0 (tileB x0 x1 x2 x3 x4 x5 x6 xs0 xs1) (Has.load (hasg_B_2 c arg2 harg2 arg3 harg3 x0 x1 arg12.view _ _ 0 (found0 arg12 harg12 x0 x1 xs0)) (by omega) (by omega) _) inb_S2x512x1408_S1x128x128_0_0_640 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_384_512 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_384_512 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_256_512 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_256_512 y
  · intro y; sl_unfold_run_values
    exact cur_piece1 (tileB x0 x1 x2 x3 x4 x5 x6 xs0 xs1) (Has.load (hasv_B_2 c arg2 harg2 arg4 harg4 x0 x2 arg13.view _ _ 8 (has_nil _ _ _)) (by omega) (by omega) _) inb_S2x512x1408_S1x128x128_1_128_512 y
  · intro y; sl_unfold_run_values
    exact cur_piece0 (tileB x0 x1 x2 x3 x4 x5 x6 xs0 xs1) (Has.load (hasg_B_2 c arg2 harg2 arg3 harg3 x0 x1 arg12.view _ _ 8 (has_nil _ _ _)) (by omega) (by omega) _) inb_S2x512x1408_S1x128x128_0_128_512 y
  · intro y; sl_unfold_run_values
    exact cur_piece1 (tileB x0 x1 x2 x3 x4 x5 x6 xs0 xs1) (Has.load (hasv_B_2 c arg2 harg2 arg4 harg4 x0 x2 arg13.view _ _ 0 (found0 arg13 harg13 x0 x2 xs1)) (by omega) (by omega) _) inb_S2x512x1408_S1x128x128_1_0_512 y
  · intro y; sl_unfold_run_values
    exact cur_piece0 (tileB x0 x1 x2 x3 x4 x5 x6 xs0 xs1) (Has.load (hasg_B_2 c arg2 harg2 arg3 harg3 x0 x1 arg12.view _ _ 0 (found0 arg12 harg12 x0 x1 xs0)) (by omega) (by omega) _) inb_S2x512x1408_S1x128x128_0_0_512 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_384_384 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_384_384 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_256_384 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_256_384 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_128_384 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_128_384 y
  · intro y; sl_unfold_run_values
    exact cur_piece1 (tileB x0 x1 x2 x3 x4 x5 x6 xs0 xs1) (Has.load (hasv_B_1 c arg2 harg2 arg4 harg4 x0 x2 arg13.view _ _ 0 (found0 arg13 harg13 x0 x2 xs1)) (by omega) (by omega) _) inb_S2x512x1408_S1x128x128_1_0_384 y
  · intro y; sl_unfold_run_values
    exact cur_piece0 (tileB x0 x1 x2 x3 x4 x5 x6 xs0 xs1) (Has.load (hasg_B_1 c arg2 harg2 arg3 harg3 x0 x1 arg12.view _ _ 0 (found0 arg12 harg12 x0 x1 xs0)) (by omega) (by omega) _) inb_S2x512x1408_S1x128x128_0_0_384 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_384_256 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_384_256 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_256_256 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_256_256 y
  · intro y; sl_unfold_run_values
    exact cur_piece1 (tileB x0 x1 x2 x3 x4 x5 x6 xs0 xs1) (Has.load (hasv_B_1 c arg2 harg2 arg4 harg4 x0 x2 arg13.view _ _ 8 (has_nil _ _ _)) (by omega) (by omega) _) inb_S2x512x1408_S1x128x128_1_128_256 y
  · intro y; sl_unfold_run_values
    exact cur_piece0 (tileB x0 x1 x2 x3 x4 x5 x6 xs0 xs1) (Has.load (hasg_B_1 c arg2 harg2 arg3 harg3 x0 x1 arg12.view _ _ 8 (has_nil _ _ _)) (by omega) (by omega) _) inb_S2x512x1408_S1x128x128_0_128_256 y
  · intro y; sl_unfold_run_values
    exact cur_piece1 (tileB x0 x1 x2 x3 x4 x5 x6 xs0 xs1) (Has.load (hasv_B_1 c arg2 harg2 arg4 harg4 x0 x2 arg13.view _ _ 0 (found0 arg13 harg13 x0 x2 xs1)) (by omega) (by omega) _) inb_S2x512x1408_S1x128x128_1_0_256 y
  · intro y; sl_unfold_run_values
    exact cur_piece0 (tileB x0 x1 x2 x3 x4 x5 x6 xs0 xs1) (Has.load (hasg_B_1 c arg2 harg2 arg3 harg3 x0 x1 arg12.view _ _ 0 (found0 arg12 harg12 x0 x1 xs0)) (by omega) (by omega) _) inb_S2x512x1408_S1x128x128_0_0_256 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_384_128 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_384_128 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_256_128 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_256_128 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_128_128 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_128_128 y
  · intro y; sl_unfold_run_values
    exact cur_piece1 (tileB x0 x1 x2 x3 x4 x5 x6 xs0 xs1) (Has.load (hasv_B_0 c arg2 harg2 arg4 harg4 x0 x2 arg13.view _ _ 0 (found0 arg13 harg13 x0 x2 xs1)) (by omega) (by omega) _) inb_S2x512x1408_S1x128x128_1_0_128 y
  · intro y; sl_unfold_run_values
    exact cur_piece0 (tileB x0 x1 x2 x3 x4 x5 x6 xs0 xs1) (Has.load (hasg_B_0 c arg2 harg2 arg3 harg3 x0 x1 arg12.view _ _ 0 (found0 arg12 harg12 x0 x1 xs0)) (by omega) (by omega) _) inb_S2x512x1408_S1x128x128_0_0_128 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_384_0 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_384_0 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_256_0 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_256_0 y
  · intro y; sl_unfold_run_values
    exact cur_piece1 (tileB x0 x1 x2 x3 x4 x5 x6 xs0 xs1) (Has.load (hasv_B_0 c arg2 harg2 arg4 harg4 x0 x2 arg13.view _ _ 8 (has_nil _ _ _)) (by omega) (by omega) _) inb_S2x512x1408_S1x128x128_1_128_0 y
  · intro y; sl_unfold_run_values
    exact cur_piece0 (tileB x0 x1 x2 x3 x4 x5 x6 xs0 xs1) (Has.load (hasg_B_0 c arg2 harg2 arg3 harg3 x0 x1 arg12.view _ _ 8 (has_nil _ _ _)) (by omega) (by omega) _) inb_S2x512x1408_S1x128x128_0_128_0 y
  · intro y; sl_unfold_run_values
    exact cur_piece1 (tileB x0 x1 x2 x3 x4 x5 x6 xs0 xs1) (Has.load (hasv_B_0 c arg2 harg2 arg4 harg4 x0 x2 arg13.view _ _ 0 (found0 arg13 harg13 x0 x2 xs1)) (by omega) (by omega) _) inb_S2x512x1408_S1x128x128_1_0_0 y
  · intro y; sl_unfold_run_values
    exact cur_piece0 (tileB x0 x1 x2 x3 x4 x5 x6 xs0 xs1) (Has.load (hasg_B_0 c arg2 harg2 arg3 harg3 x0 x1 arg12.view _ _ 0 (found0 arg12 harg12 x0 x1 xs0)) (by omega) (by omega) _) inb_S2x512x1408_S1x128x128_0_0_0 y

/-- The blocks stored in result 1 are blocks of the tile's convolution. -/
theorem pieces8_B (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : ¬cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) (xs0 xs1 : Vec Ideal S520x1408 .f32) :
    View.PiecesOf (arr3 ((tileB x0 x1 x2 x3 x4 x5 x6 xs0 xs1).pre)) (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1 := by
  unfold kernelRun0_B
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact pre_piece1 (tileB x0 x1 x2 x3 x4 x5 x6 xs0 xs1) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S2x512x1408_S1x128x128_1_384_1280 y
  · intro y; sl_unfold_run_values
    exact pre_piece0 (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) inb_S2x512x1408_S1x128x128_0_384_1280 y
  · intro y; sl_unfold_run_values
    exact pre_piece1 (tileB x0 x1 x2 x3 x4 x5 x6 xs0 xs1) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S2x512x1408_S1x128x128_1_256_1280 y
  · intro y; sl_unfold_run_values
    exact pre_piece0 (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) inb_S2x512x1408_S1x128x128_0_256_1280 y
  · intro y; sl_unfold_run_values
    exact pre_piece1 (tileB x0 x1 x2 x3 x4 x5 x6 xs0 xs1) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S2x512x1408_S1x128x128_1_128_1280 y
  · intro y; sl_unfold_run_values
    exact pre_piece0 (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) inb_S2x512x1408_S1x128x128_0_128_1280 y
  · intro y; sl_unfold_run_values
    exact pre_piece1 (tileB x0 x1 x2 x3 x4 x5 x6 xs0 xs1) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 0 (found0 arg13 harg13 x0 x2 xs1)) (by omega) (by omega) _) inb_S2x512x1408_S1x128x128_1_0_1280 y
  · intro y; sl_unfold_run_values
    exact pre_piece0 (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 0 (found0 arg12 harg12 x0 x1 xs0)) (by omega) (by omega) _) inb_S2x512x1408_S1x128x128_0_0_1280 y
  · intro y; sl_unfold_run_values
    exact pre_piece1 (tileB x0 x1 x2 x3 x4 x5 x6 xs0 xs1) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S2x512x1408_S1x128x128_1_384_1152 y
  · intro y; sl_unfold_run_values
    exact pre_piece0 (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) inb_S2x512x1408_S1x128x128_0_384_1152 y
  · intro y; sl_unfold_run_values
    exact pre_piece1 (tileB x0 x1 x2 x3 x4 x5 x6 xs0 xs1) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S2x512x1408_S1x128x128_1_256_1152 y
  · intro y; sl_unfold_run_values
    exact pre_piece0 (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) inb_S2x512x1408_S1x128x128_0_256_1152 y
  · intro y; sl_unfold_run_values
    exact pre_piece1 (tileB x0 x1 x2 x3 x4 x5 x6 xs0 xs1) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S2x512x1408_S1x128x128_1_128_1152 y
  · intro y; sl_unfold_run_values
    exact pre_piece0 (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) inb_S2x512x1408_S1x128x128_0_128_1152 y
  · intro y; sl_unfold_run_values
    exact pre_piece1 (tileB x0 x1 x2 x3 x4 x5 x6 xs0 xs1) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 0 (found0 arg13 harg13 x0 x2 xs1)) (by omega) (by omega) _) inb_S2x512x1408_S1x128x128_1_0_1152 y
  · intro y; sl_unfold_run_values
    exact pre_piece0 (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 0 (found0 arg12 harg12 x0 x1 xs0)) (by omega) (by omega) _) inb_S2x512x1408_S1x128x128_0_0_1152 y
  · intro y; sl_unfold_run_values
    exact pre_piece1 (tileB x0 x1 x2 x3 x4 x5 x6 xs0 xs1) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S2x512x1408_S1x128x128_1_384_1024 y
  · intro y; sl_unfold_run_values
    exact pre_piece0 (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) inb_S2x512x1408_S1x128x128_0_384_1024 y
  · intro y; sl_unfold_run_values
    exact pre_piece1 (tileB x0 x1 x2 x3 x4 x5 x6 xs0 xs1) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S2x512x1408_S1x128x128_1_256_1024 y
  · intro y; sl_unfold_run_values
    exact pre_piece0 (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) inb_S2x512x1408_S1x128x128_0_256_1024 y
  · intro y; sl_unfold_run_values
    exact pre_piece1 (tileB x0 x1 x2 x3 x4 x5 x6 xs0 xs1) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S2x512x1408_S1x128x128_1_128_1024 y
  · intro y; sl_unfold_run_values
    exact pre_piece0 (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) inb_S2x512x1408_S1x128x128_0_128_1024 y
  · intro y; sl_unfold_run_values
    exact pre_piece1 (tileB x0 x1 x2 x3 x4 x5 x6 xs0 xs1) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 0 (found0 arg13 harg13 x0 x2 xs1)) (by omega) (by omega) _) inb_S2x512x1408_S1x128x128_1_0_1024 y
  · intro y; sl_unfold_run_values
    exact pre_piece0 (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 0 (found0 arg12 harg12 x0 x1 xs0)) (by omega) (by omega) _) inb_S2x512x1408_S1x128x128_0_0_1024 y
  · intro y; sl_unfold_run_values
    exact pre_piece1 (tileB x0 x1 x2 x3 x4 x5 x6 xs0 xs1) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S2x512x1408_S1x128x128_1_384_896 y
  · intro y; sl_unfold_run_values
    exact pre_piece0 (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) inb_S2x512x1408_S1x128x128_0_384_896 y
  · intro y; sl_unfold_run_values
    exact pre_piece1 (tileB x0 x1 x2 x3 x4 x5 x6 xs0 xs1) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S2x512x1408_S1x128x128_1_256_896 y
  · intro y; sl_unfold_run_values
    exact pre_piece0 (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) inb_S2x512x1408_S1x128x128_0_256_896 y
  · intro y; sl_unfold_run_values
    exact pre_piece1 (tileB x0 x1 x2 x3 x4 x5 x6 xs0 xs1) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S2x512x1408_S1x128x128_1_128_896 y
  · intro y; sl_unfold_run_values
    exact pre_piece0 (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) inb_S2x512x1408_S1x128x128_0_128_896 y
  · intro y; sl_unfold_run_values
    exact pre_piece1 (tileB x0 x1 x2 x3 x4 x5 x6 xs0 xs1) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 0 (found0 arg13 harg13 x0 x2 xs1)) (by omega) (by omega) _) inb_S2x512x1408_S1x128x128_1_0_896 y
  · intro y; sl_unfold_run_values
    exact pre_piece0 (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 0 (found0 arg12 harg12 x0 x1 xs0)) (by omega) (by omega) _) inb_S2x512x1408_S1x128x128_0_0_896 y
  · intro y; sl_unfold_run_values
    exact pre_piece1 (tileB x0 x1 x2 x3 x4 x5 x6 xs0 xs1) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S2x512x1408_S1x128x128_1_384_768 y
  · intro y; sl_unfold_run_values
    exact pre_piece0 (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) inb_S2x512x1408_S1x128x128_0_384_768 y
  · intro y; sl_unfold_run_values
    exact pre_piece1 (tileB x0 x1 x2 x3 x4 x5 x6 xs0 xs1) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S2x512x1408_S1x128x128_1_256_768 y
  · intro y; sl_unfold_run_values
    exact pre_piece0 (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) inb_S2x512x1408_S1x128x128_0_256_768 y
  · intro y; sl_unfold_run_values
    exact pre_piece1 (tileB x0 x1 x2 x3 x4 x5 x6 xs0 xs1) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S2x512x1408_S1x128x128_1_128_768 y
  · intro y; sl_unfold_run_values
    exact pre_piece0 (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) inb_S2x512x1408_S1x128x128_0_128_768 y
  · intro y; sl_unfold_run_values
    exact pre_piece1 (tileB x0 x1 x2 x3 x4 x5 x6 xs0 xs1) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 0 (found0 arg13 harg13 x0 x2 xs1)) (by omega) (by omega) _) inb_S2x512x1408_S1x128x128_1_0_768 y
  · intro y; sl_unfold_run_values
    exact pre_piece0 (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 0 (found0 arg12 harg12 x0 x1 xs0)) (by omega) (by omega) _) inb_S2x512x1408_S1x128x128_0_0_768 y
  · intro y; sl_unfold_run_values
    exact pre_piece1 (tileB x0 x1 x2 x3 x4 x5 x6 xs0 xs1) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S2x512x1408_S1x128x128_1_384_640 y
  · intro y; sl_unfold_run_values
    exact pre_piece0 (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) inb_S2x512x1408_S1x128x128_0_384_640 y
  · intro y; sl_unfold_run_values
    exact pre_piece1 (tileB x0 x1 x2 x3 x4 x5 x6 xs0 xs1) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S2x512x1408_S1x128x128_1_256_640 y
  · intro y; sl_unfold_run_values
    exact pre_piece0 (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) inb_S2x512x1408_S1x128x128_0_256_640 y
  · intro y; sl_unfold_run_values
    exact pre_piece1 (tileB x0 x1 x2 x3 x4 x5 x6 xs0 xs1) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S2x512x1408_S1x128x128_1_128_640 y
  · intro y; sl_unfold_run_values
    exact pre_piece0 (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) inb_S2x512x1408_S1x128x128_0_128_640 y
  · intro y; sl_unfold_run_values
    exact pre_piece1 (tileB x0 x1 x2 x3 x4 x5 x6 xs0 xs1) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 0 (found0 arg13 harg13 x0 x2 xs1)) (by omega) (by omega) _) inb_S2x512x1408_S1x128x128_1_0_640 y
  · intro y; sl_unfold_run_values
    exact pre_piece0 (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 0 (found0 arg12 harg12 x0 x1 xs0)) (by omega) (by omega) _) inb_S2x512x1408_S1x128x128_0_0_640 y
  · intro y; sl_unfold_run_values
    exact pre_piece1 (tileB x0 x1 x2 x3 x4 x5 x6 xs0 xs1) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S2x512x1408_S1x128x128_1_384_512 y
  · intro y; sl_unfold_run_values
    exact pre_piece0 (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) inb_S2x512x1408_S1x128x128_0_384_512 y
  · intro y; sl_unfold_run_values
    exact pre_piece1 (tileB x0 x1 x2 x3 x4 x5 x6 xs0 xs1) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S2x512x1408_S1x128x128_1_256_512 y
  · intro y; sl_unfold_run_values
    exact pre_piece0 (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) inb_S2x512x1408_S1x128x128_0_256_512 y
  · intro y; sl_unfold_run_values
    exact pre_piece1 (tileB x0 x1 x2 x3 x4 x5 x6 xs0 xs1) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S2x512x1408_S1x128x128_1_128_512 y
  · intro y; sl_unfold_run_values
    exact pre_piece0 (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) inb_S2x512x1408_S1x128x128_0_128_512 y
  · intro y; sl_unfold_run_values
    exact pre_piece1 (tileB x0 x1 x2 x3 x4 x5 x6 xs0 xs1) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 0 (found0 arg13 harg13 x0 x2 xs1)) (by omega) (by omega) _) inb_S2x512x1408_S1x128x128_1_0_512 y
  · intro y; sl_unfold_run_values
    exact pre_piece0 (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 0 (found0 arg12 harg12 x0 x1 xs0)) (by omega) (by omega) _) inb_S2x512x1408_S1x128x128_0_0_512 y
  · intro y; sl_unfold_run_values
    exact pre_piece1 (tileB x0 x1 x2 x3 x4 x5 x6 xs0 xs1) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S2x512x1408_S1x128x128_1_384_384 y
  · intro y; sl_unfold_run_values
    exact pre_piece0 (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) inb_S2x512x1408_S1x128x128_0_384_384 y
  · intro y; sl_unfold_run_values
    exact pre_piece1 (tileB x0 x1 x2 x3 x4 x5 x6 xs0 xs1) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S2x512x1408_S1x128x128_1_256_384 y
  · intro y; sl_unfold_run_values
    exact pre_piece0 (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) inb_S2x512x1408_S1x128x128_0_256_384 y
  · intro y; sl_unfold_run_values
    exact pre_piece1 (tileB x0 x1 x2 x3 x4 x5 x6 xs0 xs1) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S2x512x1408_S1x128x128_1_128_384 y
  · intro y; sl_unfold_run_values
    exact pre_piece0 (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) inb_S2x512x1408_S1x128x128_0_128_384 y
  · intro y; sl_unfold_run_values
    exact pre_piece1 (tileB x0 x1 x2 x3 x4 x5 x6 xs0 xs1) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 0 (found0 arg13 harg13 x0 x2 xs1)) (by omega) (by omega) _) inb_S2x512x1408_S1x128x128_1_0_384 y
  · intro y; sl_unfold_run_values
    exact pre_piece0 (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 0 (found0 arg12 harg12 x0 x1 xs0)) (by omega) (by omega) _) inb_S2x512x1408_S1x128x128_0_0_384 y
  · intro y; sl_unfold_run_values
    exact pre_piece1 (tileB x0 x1 x2 x3 x4 x5 x6 xs0 xs1) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S2x512x1408_S1x128x128_1_384_256 y
  · intro y; sl_unfold_run_values
    exact pre_piece0 (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) inb_S2x512x1408_S1x128x128_0_384_256 y
  · intro y; sl_unfold_run_values
    exact pre_piece1 (tileB x0 x1 x2 x3 x4 x5 x6 xs0 xs1) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S2x512x1408_S1x128x128_1_256_256 y
  · intro y; sl_unfold_run_values
    exact pre_piece0 (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) inb_S2x512x1408_S1x128x128_0_256_256 y
  · intro y; sl_unfold_run_values
    exact pre_piece1 (tileB x0 x1 x2 x3 x4 x5 x6 xs0 xs1) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S2x512x1408_S1x128x128_1_128_256 y
  · intro y; sl_unfold_run_values
    exact pre_piece0 (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) inb_S2x512x1408_S1x128x128_0_128_256 y
  · intro y; sl_unfold_run_values
    exact pre_piece1 (tileB x0 x1 x2 x3 x4 x5 x6 xs0 xs1) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 0 (found0 arg13 harg13 x0 x2 xs1)) (by omega) (by omega) _) inb_S2x512x1408_S1x128x128_1_0_256 y
  · intro y; sl_unfold_run_values
    exact pre_piece0 (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 0 (found0 arg12 harg12 x0 x1 xs0)) (by omega) (by omega) _) inb_S2x512x1408_S1x128x128_0_0_256 y
  · intro y; sl_unfold_run_values
    exact pre_piece1 (tileB x0 x1 x2 x3 x4 x5 x6 xs0 xs1) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S2x512x1408_S1x128x128_1_384_128 y
  · intro y; sl_unfold_run_values
    exact pre_piece0 (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) inb_S2x512x1408_S1x128x128_0_384_128 y
  · intro y; sl_unfold_run_values
    exact pre_piece1 (tileB x0 x1 x2 x3 x4 x5 x6 xs0 xs1) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S2x512x1408_S1x128x128_1_256_128 y
  · intro y; sl_unfold_run_values
    exact pre_piece0 (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) inb_S2x512x1408_S1x128x128_0_256_128 y
  · intro y; sl_unfold_run_values
    exact pre_piece1 (tileB x0 x1 x2 x3 x4 x5 x6 xs0 xs1) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S2x512x1408_S1x128x128_1_128_128 y
  · intro y; sl_unfold_run_values
    exact pre_piece0 (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) inb_S2x512x1408_S1x128x128_0_128_128 y
  · intro y; sl_unfold_run_values
    exact pre_piece1 (tileB x0 x1 x2 x3 x4 x5 x6 xs0 xs1) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 0 (found0 arg13 harg13 x0 x2 xs1)) (by omega) (by omega) _) inb_S2x512x1408_S1x128x128_1_0_128 y
  · intro y; sl_unfold_run_values
    exact pre_piece0 (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 0 (found0 arg12 harg12 x0 x1 xs0)) (by omega) (by omega) _) inb_S2x512x1408_S1x128x128_0_0_128 y
  · intro y; sl_unfold_run_values
    exact pre_piece1 (tileB x0 x1 x2 x3 x4 x5 x6 xs0 xs1) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S2x512x1408_S1x128x128_1_384_0 y
  · intro y; sl_unfold_run_values
    exact pre_piece0 (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) inb_S2x512x1408_S1x128x128_0_384_0 y
  · intro y; sl_unfold_run_values
    exact pre_piece1 (tileB x0 x1 x2 x3 x4 x5 x6 xs0 xs1) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S2x512x1408_S1x128x128_1_256_0 y
  · intro y; sl_unfold_run_values
    exact pre_piece0 (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) inb_S2x512x1408_S1x128x128_0_256_0 y
  · intro y; sl_unfold_run_values
    exact pre_piece1 (tileB x0 x1 x2 x3 x4 x5 x6 xs0 xs1) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S2x512x1408_S1x128x128_1_128_0 y
  · intro y; sl_unfold_run_values
    exact pre_piece0 (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) inb_S2x512x1408_S1x128x128_0_128_0 y
  · intro y; sl_unfold_run_values
    exact pre_piece1 (tileB x0 x1 x2 x3 x4 x5 x6 xs0 xs1) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 0 (found0 arg13 harg13 x0 x2 xs1)) (by omega) (by omega) _) inb_S2x512x1408_S1x128x128_1_0_0 y
  · intro y; sl_unfold_run_values
    exact pre_piece0 (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 0 (found0 arg12 harg12 x0 x1 xs0)) (by omega) (by omega) _) inb_S2x512x1408_S1x128x128_0_0_0 y

/-- The blocks stored in result 2 are blocks of the tile's activation. -/
theorem pieces9_B (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : ¬cond0_0 i)
    (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) (xs0 xs1 : Vec Ideal S520x1408 .f32) :
    View.PiecesOf (arr2 ((tileB x0 x1 x2 x3 x4 x5 x6 xs0 xs1).act)) (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1 := by
  unfold kernelRun0_B
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro y; sl_unfold_run_values
    exact act_piece (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S512x1408_S128x128_384_1280 y
  · intro y; sl_unfold_run_values
    exact act_piece (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S512x1408_S128x128_256_1280 y
  · intro y; sl_unfold_run_values
    exact act_piece (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 8 (has_nil _ _ _)) (by omega) (by omega) _) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 8 (has_nil _ _ _)) (by omega) (by omega) _) inb_S512x1408_S128x128_128_1280 y
  · intro y; sl_unfold_run_values
    exact act_piece (tileB x0 x1 x2 x3 x4 x5 x6 xs0 xs1) (tap_ld arg5 harg5 x3 0 1280 _) (tap_ld arg5 harg5 x3 1 1280 _) (tap_ld arg5 harg5 x3 2 1280 _) (bias_ld arg7 harg7 x5 1280 _) (Has.load (hasg_B_4 c arg2 harg2 arg3 harg3 x0 x1 arg12.view _ _ 0 (found0 arg12 harg12 x0 x1 xs0)) (by omega) (by omega) _) (tap_ld arg6 harg6 x4 0 1280 _) (tap_ld arg6 harg6 x4 1 1280 _) (tap_ld arg6 harg6 x4 2 1280 _) (bias_ld arg8 harg8 x6 1280 _) (Has.load (hasv_B_4 c arg2 harg2 arg4 harg4 x0 x2 arg13.view _ _ 0 (found0 arg13 harg13 x0 x2 xs1)) (by omega) (by omega) _) inb_S512x1408_S128x128_0_1280 y
  · intro y; sl_unfold_run_values
    exact act_piece (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S512x1408_S128x128_384_1152 y
  · intro y; sl_unfold_run_values
    exact act_piece (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S512x1408_S128x128_256_1152 y
  · intro y; sl_unfold_run_values
    exact act_piece (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 8 (has_nil _ _ _)) (by omega) (by omega) _) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 8 (has_nil _ _ _)) (by omega) (by omega) _) inb_S512x1408_S128x128_128_1152 y
  · intro y; sl_unfold_run_values
    exact act_piece (tileB x0 x1 x2 x3 x4 x5 x6 xs0 xs1) (tap_ld arg5 harg5 x3 0 1152 _) (tap_ld arg5 harg5 x3 1 1152 _) (tap_ld arg5 harg5 x3 2 1152 _) (bias_ld arg7 harg7 x5 1152 _) (Has.load (hasg_B_4 c arg2 harg2 arg3 harg3 x0 x1 arg12.view _ _ 0 (found0 arg12 harg12 x0 x1 xs0)) (by omega) (by omega) _) (tap_ld arg6 harg6 x4 0 1152 _) (tap_ld arg6 harg6 x4 1 1152 _) (tap_ld arg6 harg6 x4 2 1152 _) (bias_ld arg8 harg8 x6 1152 _) (Has.load (hasv_B_4 c arg2 harg2 arg4 harg4 x0 x2 arg13.view _ _ 0 (found0 arg13 harg13 x0 x2 xs1)) (by omega) (by omega) _) inb_S512x1408_S128x128_0_1152 y
  · intro y; sl_unfold_run_values
    exact act_piece (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S512x1408_S128x128_384_1024 y
  · intro y; sl_unfold_run_values
    exact act_piece (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S512x1408_S128x128_256_1024 y
  · intro y; sl_unfold_run_values
    exact act_piece (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 8 (has_nil _ _ _)) (by omega) (by omega) _) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 8 (has_nil _ _ _)) (by omega) (by omega) _) inb_S512x1408_S128x128_128_1024 y
  · intro y; sl_unfold_run_values
    exact act_piece (tileB x0 x1 x2 x3 x4 x5 x6 xs0 xs1) (tap_ld arg5 harg5 x3 0 1024 _) (tap_ld arg5 harg5 x3 1 1024 _) (tap_ld arg5 harg5 x3 2 1024 _) (bias_ld arg7 harg7 x5 1024 _) (Has.load (hasg_B_4 c arg2 harg2 arg3 harg3 x0 x1 arg12.view _ _ 0 (found0 arg12 harg12 x0 x1 xs0)) (by omega) (by omega) _) (tap_ld arg6 harg6 x4 0 1024 _) (tap_ld arg6 harg6 x4 1 1024 _) (tap_ld arg6 harg6 x4 2 1024 _) (bias_ld arg8 harg8 x6 1024 _) (Has.load (hasv_B_4 c arg2 harg2 arg4 harg4 x0 x2 arg13.view _ _ 0 (found0 arg13 harg13 x0 x2 xs1)) (by omega) (by omega) _) inb_S512x1408_S128x128_0_1024 y
  · intro y; sl_unfold_run_values
    exact act_piece (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S512x1408_S128x128_384_896 y
  · intro y; sl_unfold_run_values
    exact act_piece (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S512x1408_S128x128_256_896 y
  · intro y; sl_unfold_run_values
    exact act_piece (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 8 (has_nil _ _ _)) (by omega) (by omega) _) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 8 (has_nil _ _ _)) (by omega) (by omega) _) inb_S512x1408_S128x128_128_896 y
  · intro y; sl_unfold_run_values
    exact act_piece (tileB x0 x1 x2 x3 x4 x5 x6 xs0 xs1) (tap_ld arg5 harg5 x3 0 896 _) (tap_ld arg5 harg5 x3 1 896 _) (tap_ld arg5 harg5 x3 2 896 _) (bias_ld arg7 harg7 x5 896 _) (Has.load (hasg_B_3 c arg2 harg2 arg3 harg3 x0 x1 arg12.view _ _ 0 (found0 arg12 harg12 x0 x1 xs0)) (by omega) (by omega) _) (tap_ld arg6 harg6 x4 0 896 _) (tap_ld arg6 harg6 x4 1 896 _) (tap_ld arg6 harg6 x4 2 896 _) (bias_ld arg8 harg8 x6 896 _) (Has.load (hasv_B_3 c arg2 harg2 arg4 harg4 x0 x2 arg13.view _ _ 0 (found0 arg13 harg13 x0 x2 xs1)) (by omega) (by omega) _) inb_S512x1408_S128x128_0_896 y
  · intro y; sl_unfold_run_values
    exact act_piece (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S512x1408_S128x128_384_768 y
  · intro y; sl_unfold_run_values
    exact act_piece (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S512x1408_S128x128_256_768 y
  · intro y; sl_unfold_run_values
    exact act_piece (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 8 (has_nil _ _ _)) (by omega) (by omega) _) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 8 (has_nil _ _ _)) (by omega) (by omega) _) inb_S512x1408_S128x128_128_768 y
  · intro y; sl_unfold_run_values
    exact act_piece (tileB x0 x1 x2 x3 x4 x5 x6 xs0 xs1) (tap_ld arg5 harg5 x3 0 768 _) (tap_ld arg5 harg5 x3 1 768 _) (tap_ld arg5 harg5 x3 2 768 _) (bias_ld arg7 harg7 x5 768 _) (Has.load (hasg_B_3 c arg2 harg2 arg3 harg3 x0 x1 arg12.view _ _ 0 (found0 arg12 harg12 x0 x1 xs0)) (by omega) (by omega) _) (tap_ld arg6 harg6 x4 0 768 _) (tap_ld arg6 harg6 x4 1 768 _) (tap_ld arg6 harg6 x4 2 768 _) (bias_ld arg8 harg8 x6 768 _) (Has.load (hasv_B_3 c arg2 harg2 arg4 harg4 x0 x2 arg13.view _ _ 0 (found0 arg13 harg13 x0 x2 xs1)) (by omega) (by omega) _) inb_S512x1408_S128x128_0_768 y
  · intro y; sl_unfold_run_values
    exact act_piece (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S512x1408_S128x128_384_640 y
  · intro y; sl_unfold_run_values
    exact act_piece (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S512x1408_S128x128_256_640 y
  · intro y; sl_unfold_run_values
    exact act_piece (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 8 (has_nil _ _ _)) (by omega) (by omega) _) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 8 (has_nil _ _ _)) (by omega) (by omega) _) inb_S512x1408_S128x128_128_640 y
  · intro y; sl_unfold_run_values
    exact act_piece (tileB x0 x1 x2 x3 x4 x5 x6 xs0 xs1) (tap_ld arg5 harg5 x3 0 640 _) (tap_ld arg5 harg5 x3 1 640 _) (tap_ld arg5 harg5 x3 2 640 _) (bias_ld arg7 harg7 x5 640 _) (Has.load (hasg_B_2 c arg2 harg2 arg3 harg3 x0 x1 arg12.view _ _ 0 (found0 arg12 harg12 x0 x1 xs0)) (by omega) (by omega) _) (tap_ld arg6 harg6 x4 0 640 _) (tap_ld arg6 harg6 x4 1 640 _) (tap_ld arg6 harg6 x4 2 640 _) (bias_ld arg8 harg8 x6 640 _) (Has.load (hasv_B_2 c arg2 harg2 arg4 harg4 x0 x2 arg13.view _ _ 0 (found0 arg13 harg13 x0 x2 xs1)) (by omega) (by omega) _) inb_S512x1408_S128x128_0_640 y
  · intro y; sl_unfold_run_values
    exact act_piece (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S512x1408_S128x128_384_512 y
  · intro y; sl_unfold_run_values
    exact act_piece (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S512x1408_S128x128_256_512 y
  · intro y; sl_unfold_run_values
    exact act_piece (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 8 (has_nil _ _ _)) (by omega) (by omega) _) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 8 (has_nil _ _ _)) (by omega) (by omega) _) inb_S512x1408_S128x128_128_512 y
  · intro y; sl_unfold_run_values
    exact act_piece (tileB x0 x1 x2 x3 x4 x5 x6 xs0 xs1) (tap_ld arg5 harg5 x3 0 512 _) (tap_ld arg5 harg5 x3 1 512 _) (tap_ld arg5 harg5 x3 2 512 _) (bias_ld arg7 harg7 x5 512 _) (Has.load (hasg_B_2 c arg2 harg2 arg3 harg3 x0 x1 arg12.view _ _ 0 (found0 arg12 harg12 x0 x1 xs0)) (by omega) (by omega) _) (tap_ld arg6 harg6 x4 0 512 _) (tap_ld arg6 harg6 x4 1 512 _) (tap_ld arg6 harg6 x4 2 512 _) (bias_ld arg8 harg8 x6 512 _) (Has.load (hasv_B_2 c arg2 harg2 arg4 harg4 x0 x2 arg13.view _ _ 0 (found0 arg13 harg13 x0 x2 xs1)) (by omega) (by omega) _) inb_S512x1408_S128x128_0_512 y
  · intro y; sl_unfold_run_values
    exact act_piece (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S512x1408_S128x128_384_384 y
  · intro y; sl_unfold_run_values
    exact act_piece (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S512x1408_S128x128_256_384 y
  · intro y; sl_unfold_run_values
    exact act_piece (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 8 (has_nil _ _ _)) (by omega) (by omega) _) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 8 (has_nil _ _ _)) (by omega) (by omega) _) inb_S512x1408_S128x128_128_384 y
  · intro y; sl_unfold_run_values
    exact act_piece (tileB x0 x1 x2 x3 x4 x5 x6 xs0 xs1) (tap_ld arg5 harg5 x3 0 384 _) (tap_ld arg5 harg5 x3 1 384 _) (tap_ld arg5 harg5 x3 2 384 _) (bias_ld arg7 harg7 x5 384 _) (Has.load (hasg_B_1 c arg2 harg2 arg3 harg3 x0 x1 arg12.view _ _ 0 (found0 arg12 harg12 x0 x1 xs0)) (by omega) (by omega) _) (tap_ld arg6 harg6 x4 0 384 _) (tap_ld arg6 harg6 x4 1 384 _) (tap_ld arg6 harg6 x4 2 384 _) (bias_ld arg8 harg8 x6 384 _) (Has.load (hasv_B_1 c arg2 harg2 arg4 harg4 x0 x2 arg13.view _ _ 0 (found0 arg13 harg13 x0 x2 xs1)) (by omega) (by omega) _) inb_S512x1408_S128x128_0_384 y
  · intro y; sl_unfold_run_values
    exact act_piece (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S512x1408_S128x128_384_256 y
  · intro y; sl_unfold_run_values
    exact act_piece (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S512x1408_S128x128_256_256 y
  · intro y; sl_unfold_run_values
    exact act_piece (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 8 (has_nil _ _ _)) (by omega) (by omega) _) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 8 (has_nil _ _ _)) (by omega) (by omega) _) inb_S512x1408_S128x128_128_256 y
  · intro y; sl_unfold_run_values
    exact act_piece (tileB x0 x1 x2 x3 x4 x5 x6 xs0 xs1) (tap_ld arg5 harg5 x3 0 256 _) (tap_ld arg5 harg5 x3 1 256 _) (tap_ld arg5 harg5 x3 2 256 _) (bias_ld arg7 harg7 x5 256 _) (Has.load (hasg_B_1 c arg2 harg2 arg3 harg3 x0 x1 arg12.view _ _ 0 (found0 arg12 harg12 x0 x1 xs0)) (by omega) (by omega) _) (tap_ld arg6 harg6 x4 0 256 _) (tap_ld arg6 harg6 x4 1 256 _) (tap_ld arg6 harg6 x4 2 256 _) (bias_ld arg8 harg8 x6 256 _) (Has.load (hasv_B_1 c arg2 harg2 arg4 harg4 x0 x2 arg13.view _ _ 0 (found0 arg13 harg13 x0 x2 xs1)) (by omega) (by omega) _) inb_S512x1408_S128x128_0_256 y
  · intro y; sl_unfold_run_values
    exact act_piece (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S512x1408_S128x128_384_128 y
  · intro y; sl_unfold_run_values
    exact act_piece (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S512x1408_S128x128_256_128 y
  · intro y; sl_unfold_run_values
    exact act_piece (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 8 (has_nil _ _ _)) (by omega) (by omega) _) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 8 (has_nil _ _ _)) (by omega) (by omega) _) inb_S512x1408_S128x128_128_128 y
  · intro y; sl_unfold_run_values
    exact act_piece (tileB x0 x1 x2 x3 x4 x5 x6 xs0 xs1) (tap_ld arg5 harg5 x3 0 128 _) (tap_ld arg5 harg5 x3 1 128 _) (tap_ld arg5 harg5 x3 2 128 _) (bias_ld arg7 harg7 x5 128 _) (Has.load (hasg_B_0 c arg2 harg2 arg3 harg3 x0 x1 arg12.view _ _ 0 (found0 arg12 harg12 x0 x1 xs0)) (by omega) (by omega) _) (tap_ld arg6 harg6 x4 0 128 _) (tap_ld arg6 harg6 x4 1 128 _) (tap_ld arg6 harg6 x4 2 128 _) (bias_ld arg8 harg8 x6 128 _) (Has.load (hasv_B_0 c arg2 harg2 arg4 harg4 x0 x2 arg13.view _ _ 0 (found0 arg13 harg13 x0 x2 xs1)) (by omega) (by omega) _) inb_S512x1408_S128x128_0_128 y
  · intro y; sl_unfold_run_values
    exact act_piece (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S512x1408_S128x128_384_0 y
  · intro y; sl_unfold_run_values
    exact act_piece (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S512x1408_S128x128_256_0 y
  · intro y; sl_unfold_run_values
    exact act_piece (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 8 (has_nil _ _ _)) (by omega) (by omega) _) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 8 (has_nil _ _ _)) (by omega) (by omega) _) inb_S512x1408_S128x128_128_0 y
  · intro y; sl_unfold_run_values
    exact act_piece (tileB x0 x1 x2 x3 x4 x5 x6 xs0 xs1) (tap_ld arg5 harg5 x3 0 0 _) (tap_ld arg5 harg5 x3 1 0 _) (tap_ld arg5 harg5 x3 2 0 _) (bias_ld arg7 harg7 x5 0 _) (Has.load (hasg_B_0 c arg2 harg2 arg3 harg3 x0 x1 arg12.view _ _ 0 (found0 arg12 harg12 x0 x1 xs0)) (by omega) (by omega) _) (tap_ld arg6 harg6 x4 0 0 _) (tap_ld arg6 harg6 x4 1 0 _) (tap_ld arg6 harg6 x4 2 0 _) (bias_ld arg8 harg8 x6 0 _) (Has.load (hasv_B_0 c arg2 harg2 arg4 harg4 x0 x2 arg13.view _ _ 0 (found0 arg13 harg13 x0 x2 xs1)) (by omega) (by omega) _) inb_S512x1408_S128x128_0_0 y

end Cert.FfnUpIdeal.Value
end
-- ==== Proof.FfnUpOuts.lean ====
/- The feed-forward up projection: what the body leaves at a grid point, as functions of the point's inputs. -/
module

public import proofs.«01_k».proof.Proof.FfnUpCaseA
public import proofs.«01_k».proof.Proof.FfnUpCaseB

@[expose] public section

set_option maxRecDepth 16384
set_option maxHeartbeats 2000000

noncomputable section

open Idealize.ShloMosaic Idealize.ShloMosaic.TcCoe Idealize.SL.Sem Idealize.ShloMosaic.Tactic Idealize.ShloMosaic.ValueIdx Products

namespace Cert.FfnUpIdeal.Value

open Cert.FfnUpIdeal Cert.FfnUpIdeal.Gen

/-- Writes whose first is the carried rows, read at a carried row. -/
theorem carry_read {sig' : RefSig} {κ : Kind} {sp : Space} (v : View sig' κ sp S520x1408 .f32) (f : v.ty.Contents (Elt Ideal))
    {L : List (View.Piece (Elt Ideal) S520x1408 .f32)} {e : ℕ → ℕ → EReal}
    (inb : ∀ d, (![0, 0] : Fin 2 → ℕ) d + S8x1408.size d ≤ S520x1408.size d) (w : S8x1408.Idx → Elt Ideal .f32)
    (hw : ∀ (a : Fin 8) (q : Fin 1408), w (ix2 a q) = e (512 + a.val) q.val) (a : Fin 520) (q : Fin 1408) (ha : a.val < 8) :
    v.read (Elt Ideal) (v.writes (Elt Ideal) f (⟨Rect.unit ![0, 0] S8x1408.size inb, w⟩ :: L)) (ix2 a q) = e (512 + a.val) q.val :=
  has_head v f (e := fun a q => e (512 + a) q) inb w hw a q (Nat.zero_le _) fun h => absurd h (by omega)

section CaseA

variable (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : cond0_0 i)
  (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32)

/-- What the point leaves in result 0. -/
theorem out7_A : out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = arr3 (tileA x0 x1 x2 x3 x4 x5 x6).h := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  exact View.canon_apply_of_pieces _ _ (pieces7_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).mem y (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)

/-- What the point leaves in result 1. -/
theorem out8_A : out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = arr3 (tileA x0 x1 x2 x3 x4 x5 x6).pre := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  exact View.canon_apply_of_pieces _ _ (pieces8_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).mem y (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)

/-- What the point leaves in result 2. -/
theorem out9_A : out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = arr2 (tileA x0 x1 x2 x3 x4 x5 x6).act := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  exact View.canon_apply_of_pieces _ _ (pieces9_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).mem y (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)

/-- The rows the point carries to the next, in scratch 0. -/
theorem carry0_A (a : Fin 520) (q : Fin 1408) (ha : a.val < 8) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a q) = (tileA x0 x1 x2 x3 x4 x5 x6).eg (512 + a.val) q.val := by
  unfold sout0_A_0
  refine carry_read _ _ (e := (tileA x0 x1 x2 x3 x4 x5 x6).eg) _ _ (fun a q => ?_) a q ha
  sl_unfold_run_values
  unfold k0_pay1
  rw [shapeCast_self]
  exact Has.last (hasg_A_4 c arg2 harg2 arg3 harg3 x0 x1 arg12.view _) (by omega) _ a q

/-- The rows the point carries to the next, in scratch 1. -/
theorem carry1_A (a : Fin 520) (q : Fin 1408) (ha : a.val < 8) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a q) = (tileA x0 x1 x2 x3 x4 x5 x6).ev (512 + a.val) q.val := by
  unfold sout0_A_1
  refine carry_read _ _ (e := (tileA x0 x1 x2 x3 x4 x5 x6).ev) _ _ (fun a q => ?_) a q ha
  sl_unfold_run_values
  unfold k0_pay2
  rw [shapeCast_self]
  exact Has.last (hasv_A_4 c arg2 harg2 arg4 harg4 x0 x2 arg13.view _) (by omega) _ a q

end CaseA

section CaseB

variable (c : Dev nD) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S520x1408 .f32) (harg12 : arg12.IsWhole) (arg13 : Memref sig .tc .vmem S520x1408 .f32) (harg13 : arg13.IsWhole) (hc0 : ¬cond0_0 i)
  (x0 : Vec Ideal S512x1024 .bf16) (x1 : Vec Ideal S1x1024x1408 .bf16) (x2 : Vec Ideal S1x1024x1408 .bf16) (x3 : Vec Ideal S3x1408 .f32) (x4 : Vec Ideal S3x1408 .f32) (x5 : Vec Ideal S1x1408 .f32) (x6 : Vec Ideal S1x1408 .f32) (xs0 xs1 : Vec Ideal S520x1408 .f32)

/-- What the point leaves in result 0. -/
theorem out7_B : out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = arr3 (tileB x0 x1 x2 x3 x4 x5 x6 xs0 xs1).h := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  funext y
  exact View.canon_apply_of_pieces _ _ (pieces7_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).mem y (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 y)

/-- What the point leaves in result 1. -/
theorem out8_B : out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = arr3 (tileB x0 x1 x2 x3 x4 x5 x6 xs0 xs1).pre := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  funext y
  exact View.canon_apply_of_pieces _ _ (pieces8_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).mem y (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 y)

/-- What the point leaves in result 2. -/
theorem out9_B : out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = arr2 (tileB x0 x1 x2 x3 x4 x5 x6 xs0 xs1).act := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  funext y
  exact View.canon_apply_of_pieces _ _ (pieces9_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).mem y (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 y)

/-- The rows the point carries to the next, in scratch 0. -/
theorem carry0_B (a : Fin 520) (q : Fin 1408) (ha : a.val < 8) :
    sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a q) = (tileB x0 x1 x2 x3 x4 x5 x6 xs0 xs1).eg (512 + a.val) q.val := by
  unfold sout0_B_0
  refine carry_read _ _ (e := (tileB x0 x1 x2 x3 x4 x5 x6 xs0 xs1).eg) _ _ (fun a q => ?_) a q ha
  sl_unfold_run_values
  unfold k0_pay1
  rw [shapeCast_self]
  exact Has.last (hasg_B_4 c arg2 harg2 arg3 harg3 x0 x1 arg12.view _ _ 8 (has_nil _ _ _)) (by omega) _ a q

/-- The rows the point carries to the next, in scratch 1. -/
theorem carry1_B (a : Fin 520) (q : Fin 1408) (ha : a.val < 8) :
    sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a q) = (tileB x0 x1 x2 x3 x4 x5 x6 xs0 xs1).ev (512 + a.val) q.val := by
  unfold sout0_B_1
  refine carry_read _ _ (e := (tileB x0 x1 x2 x3 x4 x5 x6 xs0 xs1).ev) _ _ (fun a q => ?_) a q ha
  sl_unfold_run_values
  unfold k0_pay2
  rw [shapeCast_self]
  exact Has.last (hasv_B_4 c arg2 harg2 arg4 harg4 x0 x2 arg13.view _ _ 8 (has_nil _ _ _)) (by omega) _ a q

end CaseB

end Cert.FfnUpIdeal.Value
end
-- ==== Proof.FfnUpRun.lean ====
/- The feed-forward up projection: what the run leaves, as functions of the arguments. -/
module

public import proofs.«01_k».proof.Proof.FfnUpOuts

@[expose] public section

set_option maxRecDepth 16384

noncomputable section

open Idealize.ShloMosaic Idealize.ShloMosaic.TcCoe Idealize.SL.Sem Idealize.ShloMosaic.ValueIdx Products
open scoped BigOperators

/-- The arguments of the up projection: the rows, the weight, the filter and the bias. -/
structure UpSrc where
  x : Vec Ideal ⟨2, ![8192, 1024]⟩ .bf16
  w : Vec Ideal ⟨2, ![1024, 5632]⟩ .bf16
  cw : Vec Ideal ⟨2, ![3, 5632]⟩ .f32
  cb : Vec Ideal ⟨1, ![5632]⟩ .f32

namespace UpSrc

variable (S : UpSrc)

/-- The product, at a half, a row and a column of the half. -/
def h (u r c : ℕ) : EReal := ∑ k : Fin 1024, at2 (A := 8192) (B := 1024) S.x r k.val * at2 (A := 1024) (B := 5632) S.w k.val (u * 2816 + c)
/-- The product `k` rows before, zero before the sequence's first row. -/
def hb (k u r c : ℕ) : EReal := if r % 2048 < k then 0 else S.h u (r - k) c
/-- The filter at a half's column. -/
def t (u k c : ℕ) : EReal := at2 (A := 3) (B := 5632) S.cw k (u * 2816 + c)
/-- The bias at a half's column. -/
def b (u c : ℕ) : EReal := S.cb (ix1 (Fin.ofNat 5632 (u * 2816 + c)))
/-- The causal convolution of the product's rows. -/
def pre (u r c : ℕ) : EReal := S.b u c + S.t u 0 c * S.hb 2 u r c + S.t u 1 c * S.hb 1 u r c + S.t u 2 c * S.h u r c
/-- The activation: the first half times its sigmoid, times the second half. -/
def act (r c : ℕ) : EReal := S.pre 0 r c * upSigmoid (S.pre 0 r c) * S.pre 1 r c

/-- The rows a point works on: the eight before its tile (zero where a sequence begins), then the tile's. -/
def rows (u n a q : ℕ) : EReal := if a < 8 ∧ n % 4 = 0 then 0 else S.h u (n % 16 * 512 + a - 8) (n / 16 * 1408 + q)

/-- The convolution of a point's rows is that of the product's rows. -/
theorem pre_rows (u n r q : ℕ) (hr : r < 512) (e : ℕ → ℕ → EReal) (t : ℕ → ℕ → EReal) (b : ℕ → EReal)
    (he : ∀ a, a < 520 → e a q = S.rows u n a q) (ht : ∀ k, k < 3 → t k q = S.t u k (n / 16 * 1408 + q)) (hb : b q = S.b u (n / 16 * 1408 + q)) :
    upPre e t b r q = S.pre u (n % 16 * 512 + r) (n / 16 * 1408 + q) := by
  unfold upPre pre
  have e2 : e (r + 6) q = S.hb 2 u (n % 16 * 512 + r) (n / 16 * 1408 + q) := by
    rw [he _ (by omega)]
    unfold rows UpSrc.hb
    refine if_congr ?_ rfl (congrArg (fun z => S.h u z _) ?_)
    · constructor <;> intro h <;> omega
    · omega
  have e1 : e (r + 7) q = S.hb 1 u (n % 16 * 512 + r) (n / 16 * 1408 + q) := by
    rw [he _ (by omega)]
    unfold rows UpSrc.hb
    refine if_congr ?_ rfl (congrArg (fun z => S.h u z _) ?_)
    · constructor <;> intro h <;> omega
    · omega
  have e0 : e (r + 8) q = S.h u (n % 16 * 512 + r) (n / 16 * 1408 + q) := by
    rw [he _ (by omega)]
    unfold rows
    rw [if_neg (by omega)]
    exact congrArg (fun z => S.h u z _) (by omega)
  rw [e0, e1, e2, hb, ht 0 (by omega), ht 1 (by omega), ht 2 (by omega)]

/-- A point's tile is that of the arguments. -/
structure IsTile (n : ℕ) (T : UpTile) : Prop where
  eg : ∀ a q, a < 520 → q < 1408 → T.eg a q = S.rows 0 n a q
  ev : ∀ a q, a < 520 → q < 1408 → T.ev a q = S.rows 1 n a q
  tg : ∀ k q, k < 3 → q < 1408 → T.tg k q = S.t 0 k (n / 16 * 1408 + q)
  tv : ∀ k q, k < 3 → q < 1408 → T.tv k q = S.t 1 k (n / 16 * 1408 + q)
  bg : ∀ q, q < 1408 → T.bg q = S.b 0 (n / 16 * 1408 + q)
  bv : ∀ q, q < 1408 → T.bv q = S.b 1 (n / 16 * 1408 + q)

variable {S} {n : ℕ} {T : UpTile}

theorem IsTile.preg (H : S.IsTile n T) {r q : ℕ} (hr : r < 512) (hq : q < 1408) :
    upPre T.eg T.tg T.bg r q = S.pre 0 (n % 16 * 512 + r) (n / 16 * 1408 + q) :=
  S.pre_rows 0 n r q hr _ _ _ (fun a ha => H.eg a q ha hq) (fun k hk => H.tg k q hk hq) (H.bg q hq)

theorem IsTile.prev (H : S.IsTile n T) {r q : ℕ} (hr : r < 512) (hq : q < 1408) :
    upPre T.ev T.tv T.bv r q = S.pre 1 (n % 16 * 512 + r) (n / 16 * 1408 + q) :=
  S.pre_rows 1 n r q hr _ _ _ (fun a ha => H.ev a q ha hq) (fun k hk => H.tv k q hk hq) (H.bv q hq)

theorem rows_own (u a q : ℕ) (ha : 8 ≤ a) : S.rows u n a q = S.h u (n % 16 * 512 + (a - 8)) (n / 16 * 1408 + q) := by
  unfold rows
  rw [if_neg (by omega)]
  exact congrArg (fun z => S.h u z _) (by omega)

/-- The tile's products are the arguments'. -/
theorem IsTile.h_eq (H : S.IsTile n T) :
    (arr3 T.h : (⟨3, ![2, 512, 1408]⟩ : Shape).Idx → EReal) = arr3 fun u r q => S.h u (n % 16 * 512 + r) (n / 16 * 1408 + q) := by
  funext y
  have h0 : (y 0).val < 2 := (y 0).isLt
  have h1 : (y 1).val < 512 := (y 1).isLt
  have h2 : (y 2).val < 1408 := (y 2).isLt
  show T.h (y 0).val (y 1).val (y 2).val = S.h (y 0).val _ _
  unfold UpTile.h
  by_cases hu : (y 0).val = 0
  · rw [if_pos hu, hu, H.eg _ _ (by omega) h2, rows_own _ _ _ (by omega), Nat.add_sub_cancel]
  · rw [if_neg hu, show (y 0).val = 1 by omega, H.ev _ _ (by omega) h2, rows_own _ _ _ (by omega), Nat.add_sub_cancel]

/-- The tile's convolutions are the arguments'. -/
theorem IsTile.pre_eq (H : S.IsTile n T) :
    (arr3 T.pre : (⟨3, ![2, 512, 1408]⟩ : Shape).Idx → EReal) = arr3 fun u r q => S.pre u (n % 16 * 512 + r) (n / 16 * 1408 + q) := by
  funext y
  have h0 : (y 0).val < 2 := (y 0).isLt
  have h1 : (y 1).val < 512 := (y 1).isLt
  have h2 : (y 2).val < 1408 := (y 2).isLt
  show T.pre (y 0).val (y 1).val (y 2).val = S.pre (y 0).val _ _
  unfold UpTile.pre
  by_cases hu : (y 0).val = 0
  · rw [if_pos hu, hu, H.preg h1 h2]
  · rw [if_neg hu, show (y 0).val = 1 by omega, H.prev h1 h2]

/-- The tile's activation is the arguments'. -/
theorem IsTile.act_eq (H : S.IsTile n T) :
    (arr2 T.act : (⟨2, ![512, 1408]⟩ : Shape).Idx → EReal) = arr2 fun r q => S.act (n % 16 * 512 + r) (n / 16 * 1408 + q) := by
  funext y
  have h1 : (y 0).val < 512 := (y 0).isLt
  have h2 : (y 1).val < 1408 := (y 1).isLt
  show T.act (y 0).val (y 1).val = S.act _ _
  unfold UpTile.act act
  rw [H.preg h1 h2, H.prev h1 h2]

end UpSrc

namespace Cert.FfnUpIdeal.Value

open Cert.FfnUpIdeal Cert.FfnUpIdeal.Gen

variable (m : (ℓ : Loc nD τ sig) → Buf (Elt Ideal) ℓ) (ρ : Dev nD → PrngReg)

/-- The arguments at a device. -/
def srcOf (c : Dev nD) : UpSrc :=
  ⟨m ((c.tc : Thread nD τ).loc main_arg0), m ((c.tc : Thread nD τ).loc main_arg1), m ((c.tc : Thread nD τ).loc main_arg2), m ((c.tc : Thread nD τ).loc main_arg3)⟩

theorem ltN (t : Fin cfg0.N) : t.val < 32 := lt_of_lt_of_eq t.isLt N_0
theorem ixw0 : ∀ t : Fin grid0.N, win0_0.index t 0 = t.val % 16 ∧ win0_0.index t 1 = 0 := by decide +kernel
theorem ixw1 : ∀ t : Fin grid0.N, win0_1.index t 0 = 0 ∧ win0_1.index t 1 = 0 ∧ win0_1.index t 2 = t.val / 16 := by decide +kernel
theorem ixw2 : ∀ t : Fin grid0.N, win0_2.index t 0 = 0 ∧ win0_2.index t 1 = 0 ∧ win0_2.index t 2 = t.val / 16 + 2 := by decide +kernel
theorem ixw3 : ∀ t : Fin grid0.N, win0_3.index t 0 = 0 ∧ win0_3.index t 1 = t.val / 16 := by decide +kernel
theorem ixw4 : ∀ t : Fin grid0.N, win0_4.index t 0 = 0 ∧ win0_4.index t 1 = t.val / 16 + 2 := by decide +kernel
theorem ixw5 : ∀ t : Fin grid0.N, win0_5.index t 0 = 0 ∧ win0_5.index t 1 = t.val / 16 := by decide +kernel
theorem ixw6 : ∀ t : Fin grid0.N, win0_6.index t 0 = 0 ∧ win0_6.index t 1 = t.val / 16 + 2 := by decide +kernel
theorem ixw7 : ∀ t : Fin grid0.N, win0_7.index t 0 = 0 ∧ win0_7.index t 1 = t.val % 16 ∧ win0_7.index t 2 = t.val / 16 := by decide +kernel
theorem ixw8 : ∀ t : Fin grid0.N, win0_8.index t 0 = 0 ∧ win0_8.index t 1 = t.val % 16 ∧ win0_8.index t 2 = t.val / 16 := by decide +kernel
theorem ixw9 : ∀ t : Fin grid0.N, win0_9.index t 0 = t.val % 16 ∧ win0_9.index t 1 = t.val / 16 := by decide +kernel

/-- The first window's block: a tile of rows. -/
theorem blk0 (c : Dev nD) (t : Fin cfg0.N) (p : ℕ) (hp : p < 512) (k : Fin 1024) :
    at2 (A := 512) (B := 1024) (iblk m c 0 t) p k.val = at2 (A := 8192) (B := 1024) (srcOf m c).x (t.val % 16 * 512 + p) k.val := by
  have ht := ltN t; have hk := k.isLt
  unfold iblk at2
  rw [View.read_apply]
  show m ((c.tc : Thread nD τ).loc main_arg0) _ = m ((c.tc : Thread nD τ).loc main_arg0) _
  congr 1; funext b; apply Fin.ext
  match b with
  | ⟨0, _⟩ => show win0_0.index t 0 * 512 + 1 * (p % 512) = (t.val % 16 * 512 + p) % 8192; rw [(ixw0 t).1]; omega
  | ⟨1, _⟩ => show win0_0.index t 1 * 1024 + 1 * (k.val % 1024) = k.val % 1024; rw [(ixw0 t).2]; omega

/-- The weight as the kernel takes it, at an index. -/
theorem V0 (c : Dev nD) : (StableHlo.after hostOps0 (fun b => m (c, b)) (Proc.tc.devRef main_v0) : S1x1024x5632.Idx → EReal)
      = broadcastInDim S1x1024x5632 ![1, 2] bcast_S1024x5632_S1x1024x5632_1_2 (m ((c.tc : Thread nD τ).loc main_arg1)) := by after_results

/-- The bias as the kernel takes it, at an index. -/
theorem V1 (c : Dev nD) : (StableHlo.after hostOps0 (fun b => m (c, b)) (Proc.tc.devRef main_v1) : S1x5632.Idx → EReal)
      = broadcastInDim S1x5632 ![1] bcast_S5632_S1x5632_1 (m ((c.tc : Thread nD τ).loc main_arg3)) := by after_results

/-- The second window's block: the first half's columns of the weight. -/
theorem blk1 (c : Dev nD) (t : Fin cfg0.N) (k : Fin 1024) (q : ℕ) (hq : q < 1408) :
    iblk m c 1 t (ix3 0 k (Fin.ofNat 1408 q)) = at2 (A := 1024) (B := 5632) (srcOf m c).w k.val (0 * 2816 + (t.val / 16 * 1408 + q)) := by
  have ht := ltN t; have hk := k.isLt
  unfold iblk at2
  rw [View.read_apply]
  show (StableHlo.after hostOps0 (fun b => m (c, b)) (Proc.tc.devRef main_v0) : S1x1024x5632.Idx → EReal) _ = m ((c.tc : Thread nD τ).loc main_arg1) _
  rw [V0]
  unfold broadcastInDim
  show m ((c.tc : Thread nD τ).loc main_arg1) _ = m ((c.tc : Thread nD τ).loc main_arg1) _
  congr 1; funext b; apply Fin.ext
  match b with
  | ⟨0, _⟩ => show win0_1.index t 1 * 1024 + 1 * k.val = k.val % 1024; rw [(ixw1 t).2.1]; omega
  | ⟨1, _⟩ => show win0_1.index t 2 * 1408 + 1 * (q % 1408) = (0 * 2816 + (t.val / 16 * 1408 + q)) % 5632; rw [(ixw1 t).2.2]; omega

/-- The third window's block: the second half's columns of the weight. -/
theorem blk2 (c : Dev nD) (t : Fin cfg0.N) (k : Fin 1024) (q : ℕ) (hq : q < 1408) :
    iblk m c 2 t (ix3 0 k (Fin.ofNat 1408 q)) = at2 (A := 1024) (B := 5632) (srcOf m c).w k.val (1 * 2816 + (t.val / 16 * 1408 + q)) := by
  have ht := ltN t; have hk := k.isLt
  unfold iblk at2
  rw [View.read_apply]
  show (StableHlo.after hostOps0 (fun b => m (c, b)) (Proc.tc.devRef main_v0) : S1x1024x5632.Idx → EReal) _ = m ((c.tc : Thread nD τ).loc main_arg1) _
  rw [V0]
  unfold broadcastInDim
  show m ((c.tc : Thread nD τ).loc main_arg1) _ = m ((c.tc : Thread nD τ).loc main_arg1) _
  congr 1; funext b; apply Fin.ext
  match b with
  | ⟨0, _⟩ => show win0_2.index t 1 * 1024 + 1 * k.val = k.val % 1024; rw [(ixw2 t).2.1]; omega
  | ⟨1, _⟩ => show win0_2.index t 2 * 1408 + 1 * (q % 1408) = (1 * 2816 + (t.val / 16 * 1408 + q)) % 5632; rw [(ixw2 t).2.2]; omega

/-- The fourth window's block: the first half's filter. -/
theorem blk3 (c : Dev nD) (t : Fin cfg0.N) (k q : ℕ) (hk : k < 3) (hq : q < 1408) :
    at2 (A := 3) (B := 1408) (iblk m c 3 t) k q = (srcOf m c).t 0 k (t.val / 16 * 1408 + q) := by
  have ht := ltN t
  unfold iblk at2
  rw [View.read_apply]
  show m ((c.tc : Thread nD τ).loc main_arg2) _ = m ((c.tc : Thread nD τ).loc main_arg2) _
  congr 1; funext b; apply Fin.ext
  match b with
  | ⟨0, _⟩ => show win0_3.index t 0 * 3 + 1 * (k % 3) = k % 3; rw [(ixw3 t).1]; omega
  | ⟨1, _⟩ => show win0_3.index t 1 * 1408 + 1 * (q % 1408) = (0 * 2816 + (t.val / 16 * 1408 + q)) % 5632; rw [(ixw3 t).2]; omega

/-- The fifth window's block: the second half's filter. -/
theorem blk4 (c : Dev nD) (t : Fin cfg0.N) (k q : ℕ) (hk : k < 3) (hq : q < 1408) :
    at2 (A := 3) (B := 1408) (iblk m c 4 t) k q = (srcOf m c).t 1 k (t.val / 16 * 1408 + q) := by
  have ht := ltN t
  unfold iblk at2
  rw [View.read_apply]
  show m ((c.tc : Thread nD τ).loc main_arg2) _ = m ((c.tc : Thread nD τ).loc main_arg2) _
  congr 1; funext b; apply Fin.ext
  match b with
  | ⟨0, _⟩ => show win0_4.index t 0 * 3 + 1 * (k % 3) = k % 3; rw [(ixw4 t).1]; omega
  | ⟨1, _⟩ => show win0_4.index t 1 * 1408 + 1 * (q % 1408) = (1 * 2816 + (t.val / 16 * 1408 + q)) % 5632; rw [(ixw4 t).2]; omega

/-- The sixth window's block: the first half's bias. -/
theorem blk5 (c : Dev nD) (t : Fin cfg0.N) (q : ℕ) (hq : q < 1408) :
    at2 (A := 1) (B := 1408) (iblk m c 5 t) 0 q = (srcOf m c).b 0 (t.val / 16 * 1408 + q) := by
  have ht := ltN t
  unfold iblk at2
  rw [View.read_apply]
  show (StableHlo.after hostOps0 (fun b => m (c, b)) (Proc.tc.devRef main_v1) : S1x5632.Idx → EReal) _ = m ((c.tc : Thread nD τ).loc main_arg3) _
  rw [V1]
  unfold broadcastInDim
  show m ((c.tc : Thread nD τ).loc main_arg3) _ = m ((c.tc : Thread nD τ).loc main_arg3) _
  congr 1; funext b; apply Fin.ext
  match b with
  | ⟨0, _⟩ => show win0_5.index t 1 * 1408 + 1 * (q % 1408) = (0 * 2816 + (t.val / 16 * 1408 + q)) % 5632; rw [(ixw5 t).2]; omega

/-- The seventh window's block: the second half's bias. -/
theorem blk6 (c : Dev nD) (t : Fin cfg0.N) (q : ℕ) (hq : q < 1408) :
    at2 (A := 1) (B := 1408) (iblk m c 6 t) 0 q = (srcOf m c).b 1 (t.val / 16 * 1408 + q) := by
  have ht := ltN t
  unfold iblk at2
  rw [View.read_apply]
  show (StableHlo.after hostOps0 (fun b => m (c, b)) (Proc.tc.devRef main_v1) : S1x5632.Idx → EReal) _ = m ((c.tc : Thread nD τ).loc main_arg3) _
  rw [V1]
  unfold broadcastInDim
  show m ((c.tc : Thread nD τ).loc main_arg3) _ = m ((c.tc : Thread nD τ).loc main_arg3) _
  congr 1; funext b; apply Fin.ext
  match b with
  | ⟨0, _⟩ => show win0_6.index t 1 * 1408 + 1 * (q % 1408) = (1 * 2816 + (t.val / 16 * 1408 + q)) % 5632; rw [(ixw6 t).2]; omega

/-- A point's rows of one half, given its carried rows. -/
theorem rows_of (c : Dev nD) (t : Fin cfg0.N) (u : ℕ) (w : Vec Ideal S1x1024x1408 .bf16) (P : ℕ → ℕ → EReal)
    (hw : ∀ (k : Fin 1024) (q : ℕ), q < 1408 → w (ix3 0 k (Fin.ofNat 1408 q)) = at2 (A := 1024) (B := 5632) (srcOf m c).w k.val (u * 2816 + (t.val / 16 * 1408 + q)))
    (hP : ∀ a q, a < 8 → q < 1408 → P a q = (srcOf m c).rows u t.val a q) (a q : ℕ) (ha : a < 520) (hq : q < 1408) :
    upRows (iblk m c 0 t) w P a q = (srcOf m c).rows u t.val a q := by
  unfold upRows
  split
  · rename_i h; exact hP a q h hq
  · rename_i h
    rw [UpSrc.rows_own _ _ _ (by omega)]
    unfold UpSrc.h
    exact Finset.sum_congr rfl fun k _ => congr (congrArg (fun a b : EReal => a * b) (blk0 m c t (a - 8) (by omega) k)) (hw k q hq)

/-- The tile of a point that begins a sequence. -/
theorem tile_A (c : Dev nD) (t : Fin cfg0.N) (h0 : t.val % 4 = 0) :
    (srcOf m c).IsTile t.val (tileA (iblk m c 0 t) (iblk m c 1 t) (iblk m c 2 t) (iblk m c 3 t) (iblk m c 4 t) (iblk m c 5 t) (iblk m c 6 t)) where
  eg a q ha hq := rows_of m c t 0 _ (fun _ _ => 0) (blk1 m c t) (fun a q ha _ => by unfold UpSrc.rows; rw [if_pos ⟨ha, h0⟩]) a q ha hq
  ev a q ha hq := rows_of m c t 1 _ (fun _ _ => 0) (blk2 m c t) (fun a q ha _ => by unfold UpSrc.rows; rw [if_pos ⟨ha, h0⟩]) a q ha hq
  tg k q hk hq := blk3 m c t k q hk hq
  tv k q hk hq := blk4 m c t k q hk hq
  bg q hq := blk5 m c t q hq
  bv q hq := blk6 m c t q hq

/-- The tile of any other point, given what the point before left in the scratch. -/
theorem tile_B (c : Dev nD) (t : Fin cfg0.N) (h0 : ¬t.val % 4 = 0) (xs0 xs1 : Vec Ideal S520x1408 .f32)
    (hx0 : ∀ (a : Fin 520) (q : Fin 1408), a.val < 8 → xs0 (ix2 a q) = (srcOf m c).rows 0 (t.val - 1) (512 + a.val) q.val)
    (hx1 : ∀ (a : Fin 520) (q : Fin 1408), a.val < 8 → xs1 (ix2 a q) = (srcOf m c).rows 1 (t.val - 1) (512 + a.val) q.val) :
    (srcOf m c).IsTile t.val (tileB (iblk m c 0 t) (iblk m c 1 t) (iblk m c 2 t) (iblk m c 3 t) (iblk m c 4 t) (iblk m c 5 t) (iblk m c 6 t) xs0 xs1) where
  eg a q ha hq := rows_of m c t 0 _ _ (blk1 m c t) (fun a q ha hq => by
    refine (hx0 (Fin.ofNat 520 a) (Fin.ofNat 1408 q) (by rw [ofNat_val (by omega)]; exact ha)).trans ?_
    rw [ofNat_val (by omega), ofNat_val hq]
    unfold UpSrc.rows
    rw [if_neg (by omega), if_neg (by omega)]
    exact congr (congrArg ((srcOf m c).h 0) (by omega)) (by omega)) a q ha hq
  ev a q ha hq := rows_of m c t 1 _ _ (blk2 m c t) (fun a q ha hq => by
    refine (hx1 (Fin.ofNat 520 a) (Fin.ofNat 1408 q) (by rw [ofNat_val (by omega)]; exact ha)).trans ?_
    rw [ofNat_val (by omega), ofNat_val hq]
    unfold UpSrc.rows
    rw [if_neg (by omega), if_neg (by omega)]
    exact congr (congrArg ((srcOf m c).h 1) (by omega)) (by omega)) a q ha hq
  tg k q hk hq := blk3 m c t k q hk hq
  tv k q hk hq := blk4 m c t k q hk hq
  bg q hq := blk5 m c t q hq
  bv q hq := blk6 m c t q hq

/-- What the results and the scratch hold after a point. -/
structure After (S : UpSrc) (n : ℕ) (o : Vec Ideal S2x512x1408 .bf16 × Vec Ideal S2x512x1408 .bf16 × Vec Ideal S512x1408 .bf16 × Vec Ideal S520x1408 .f32 × Vec Ideal S520x1408 .f32) : Prop where
  h : o.1 = arr3 fun u r q => S.h u (n % 16 * 512 + r) (n / 16 * 1408 + q)
  pre : o.2.1 = arr3 fun u r q => S.pre u (n % 16 * 512 + r) (n / 16 * 1408 + q)
  act : o.2.2.1 = arr2 fun r q => S.act (n % 16 * 512 + r) (n / 16 * 1408 + q)
  car0 : ∀ (a : Fin 520) (q : Fin 1408), a.val < 8 → o.2.2.2.1 (ix2 a q) = S.rows 0 n (512 + a.val) q.val
  car1 : ∀ (a : Fin 520) (q : Fin 1408), a.val < 8 → o.2.2.2.2 (ix2 a q) = S.rows 1 n (512 + a.val) q.val

/-- After a point that begins a sequence. -/
theorem after_A (c : Dev nD) (t : Fin cfg0.N) (h0 : t.val % 4 = 0) : After (srcOf m c) t.val (outsAt0 m c t.val t.isLt) := by
  have T := tile_A m c t h0
  rw [outsAt0_A m c t h0]
  refine ⟨?_, ?_, ?_, fun a q ha => ?_, fun a q ha => ?_⟩ <;> dsimp only
  · rw [out7_A]; exact T.h_eq
  · rw [out8_A]; exact T.pre_eq
  · rw [out9_A]; exact T.act_eq
  · rw [carry0_A (ha := ha)]; exact T.eg _ _ (by omega) q.isLt
  · rw [carry1_A (ha := ha)]; exact T.ev _ _ (by omega) q.isLt

/-- After any other point. -/
theorem after_B (c : Dev nD) (t : Fin cfg0.N) (h0 : ¬t.val % 4 = 0)
    (ih : After (srcOf m c) (t.val - 1) (outsAt0 m c (t.val - 1) (Nat.lt_of_le_of_lt (Nat.sub_le _ _) t.isLt))) :
    After (srcOf m c) t.val (outsAt0 m c t.val t.isLt) := by
  have T := tile_B m c t h0 _ _ ih.car0 ih.car1
  rw [outsAt0_B m c t h0]
  refine ⟨?_, ?_, ?_, fun a q ha => ?_, fun a q ha => ?_⟩ <;> dsimp only
  · rw [out7_B]; exact T.h_eq
  · rw [out8_B]; exact T.pre_eq
  · rw [out9_B]; exact T.act_eq
  · rw [carry0_B (ha := ha)]; exact T.eg _ _ (by omega) q.isLt
  · rw [carry1_B (ha := ha)]; exact T.ev _ _ (by omega) q.isLt

/-- After every point. -/
theorem outs (c : Dev nD) : ∀ (n : ℕ) (h : n < cfg0.N), After (srcOf m c) n (outsAt0 m c n h)
  | 0, h => after_A m c ⟨0, h⟩ rfl
  | n + 1, h => by
    by_cases h0 : (n + 1) % 4 = 0
    · exact after_A m c ⟨n + 1, h⟩ h0
    · exact after_B m c ⟨n + 1, h⟩ h0 (outs c n (Nat.lt_of_succ_lt h))

/-- The point whose block holds a row and a column. -/
def pt (r q : ℕ) (hr : r < 8192) (hq : q < 2816) : Fin cfg0.N := ⟨q / 1408 * 16 + r / 512, by have h : cfg0.N = 32 := N_0; omega⟩

/-- The product's result. -/
theorem last7 (c : Dev nD) : (dats m 0 c).arrAt 7 cfg0.N = (arr3 (srcOf m c).h : S2x8192x2816.Idx → EReal) :=
  (dats m 0 c).arrAt_eq_of_cover 7 (arr3 (srcOf m c).h : S2x8192x2816.Idx → EReal) (fun t _ => by
      have ht := ltN t
      show (cfg0.win 7).cut (grid0.coords t) ((dats m 0 c).after 7 t) = _
      rw [after0_7]
      funext y
      rw [View.read_apply]
      show (outsAt0 m c t.val t.isLt).1 y = _
      rw [(outs m c t.val t.isLt).h]
      show (srcOf m c).h (y 0).val _ _ = (srcOf m c).h (win0_7.index t 0 * 2 + 1 * (y 0).val) (win0_7.index t 1 * 512 + 1 * (y 1).val) (win0_7.index t 2 * 1408 + 1 * (y 2).val)
      rw [(ixw7 t).1, (ixw7 t).2.1, (ixw7 t).2.2]
      exact congr (congr (congrArg (srcOf m c).h (by omega)) (by omega)) (by omega))
    fun i => ⟨pt (i 1).val (i 2).val (i 1).isLt (i 2).isLt, flush0_7 _, by
      have h0 : (i 0 : Nat) < 2 := (i 0).isLt
      have h1 : (i 1 : Nat) < 8192 := (i 1).isLt
      have h2 : (i 2 : Nat) < 2816 := (i 2).isLt
      show i ∈ ((View.whole main_v2_0).slice (win0_7.rect (pt (i 1).val (i 2).val (i 1).isLt (i 2).isLt))).set
      rw [View.set_slice_whole, Rect.mem_set_unit]
      have hp : (pt (i 1).val (i 2).val (i 1).isLt (i 2).isLt).val = (i 2).val / 1408 * 16 + (i 1).val / 512 := rfl
      generalize pt (i 1).val (i 2).val (i 1).isLt (i 2).isLt = p at hp
      intro a
      match a with
      | ⟨0, _⟩ =>
        show win0_7.index p 0 * 2 ≤ (i 0 : Nat) ∧ (i 0 : Nat) < win0_7.index p 0 * 2 + 2
        rw [(ixw7 p).1]; omega
      | ⟨1, _⟩ =>
        show win0_7.index p 1 * 512 ≤ (i 1 : Nat) ∧ (i 1 : Nat) < win0_7.index p 1 * 512 + 512
        rw [(ixw7 p).2.1, hp]; omega
      | ⟨2, _⟩ =>
        show win0_7.index p 2 * 1408 ≤ (i 2 : Nat) ∧ (i 2 : Nat) < win0_7.index p 2 * 1408 + 1408
        rw [(ixw7 p).2.2, hp]; omega⟩

/-- The convolution's result. -/
theorem last8 (c : Dev nD) : (dats m 0 c).arrAt 8 cfg0.N = (arr3 (srcOf m c).pre : S2x8192x2816.Idx → EReal) :=
  (dats m 0 c).arrAt_eq_of_cover 8 (arr3 (srcOf m c).pre : S2x8192x2816.Idx → EReal) (fun t _ => by
      have ht := ltN t
      show (cfg0.win 8).cut (grid0.coords t) ((dats m 0 c).after 8 t) = _
      rw [after0_8]
      funext y
      rw [View.read_apply]
      show (outsAt0 m c t.val t.isLt).2.1 y = _
      rw [(outs m c t.val t.isLt).pre]
      show (srcOf m c).pre (y 0).val _ _ = (srcOf m c).pre (win0_8.index t 0 * 2 + 1 * (y 0).val) (win0_8.index t 1 * 512 + 1 * (y 1).val) (win0_8.index t 2 * 1408 + 1 * (y 2).val)
      rw [(ixw8 t).1, (ixw8 t).2.1, (ixw8 t).2.2]
      exact congr (congr (congrArg (srcOf m c).pre (by omega)) (by omega)) (by omega))
    fun i => ⟨pt (i 1).val (i 2).val (i 1).isLt (i 2).isLt, flush0_8 _, by
      have h0 : (i 0 : Nat) < 2 := (i 0).isLt
      have h1 : (i 1 : Nat) < 8192 := (i 1).isLt
      have h2 : (i 2 : Nat) < 2816 := (i 2).isLt
      show i ∈ ((View.whole main_v2_1).slice (win0_8.rect (pt (i 1).val (i 2).val (i 1).isLt (i 2).isLt))).set
      rw [View.set_slice_whole, Rect.mem_set_unit]
      have hp : (pt (i 1).val (i 2).val (i 1).isLt (i 2).isLt).val = (i 2).val / 1408 * 16 + (i 1).val / 512 := rfl
      generalize pt (i 1).val (i 2).val (i 1).isLt (i 2).isLt = p at hp
      intro a
      match a with
      | ⟨0, _⟩ =>
        show win0_8.index p 0 * 2 ≤ (i 0 : Nat) ∧ (i 0 : Nat) < win0_8.index p 0 * 2 + 2
        rw [(ixw8 p).1]; omega
      | ⟨1, _⟩ =>
        show win0_8.index p 1 * 512 ≤ (i 1 : Nat) ∧ (i 1 : Nat) < win0_8.index p 1 * 512 + 512
        rw [(ixw8 p).2.1, hp]; omega
      | ⟨2, _⟩ =>
        show win0_8.index p 2 * 1408 ≤ (i 2 : Nat) ∧ (i 2 : Nat) < win0_8.index p 2 * 1408 + 1408
        rw [(ixw8 p).2.2, hp]; omega⟩

/-- The activation's result. -/
theorem last9 (c : Dev nD) : (dats m 0 c).arrAt 9 cfg0.N = (arr2 (srcOf m c).act : S8192x2816.Idx → EReal) :=
  (dats m 0 c).arrAt_eq_of_cover 9 (arr2 (srcOf m c).act : S8192x2816.Idx → EReal) (fun t _ => by
      have ht := ltN t
      show (cfg0.win 9).cut (grid0.coords t) ((dats m 0 c).after 9 t) = _
      rw [after0_9]
      funext y
      rw [View.read_apply]
      show (outsAt0 m c t.val t.isLt).2.2.1 y = _
      rw [(outs m c t.val t.isLt).act]
      show (srcOf m c).act _ _ = (srcOf m c).act (win0_9.index t 0 * 512 + 1 * (y 0).val) (win0_9.index t 1 * 1408 + 1 * (y 1).val)
      rw [(ixw9 t).1, (ixw9 t).2]
      exact congr (congrArg (srcOf m c).act (by omega)) (by omega))
    fun i => ⟨pt (i 0).val (i 1).val (i 0).isLt (i 1).isLt, flush0_9 _, by
      have h1 : (i 0 : Nat) < 8192 := (i 0).isLt
      have h2 : (i 1 : Nat) < 2816 := (i 1).isLt
      show i ∈ ((View.whole main_v2_2).slice (win0_9.rect (pt (i 0).val (i 1).val (i 0).isLt (i 1).isLt))).set
      rw [View.set_slice_whole, Rect.mem_set_unit]
      have hp : (pt (i 0).val (i 1).val (i 0).isLt (i 1).isLt).val = (i 1).val / 1408 * 16 + (i 0).val / 512 := rfl
      generalize pt (i 0).val (i 1).val (i 0).isLt (i 1).isLt = p at hp
      intro a
      match a with
      | ⟨0, _⟩ =>
        show win0_9.index p 0 * 512 ≤ (i 0 : Nat) ∧ (i 0 : Nat) < win0_9.index p 0 * 512 + 512
        rw [(ixw9 p).1, hp]; omega
      | ⟨1, _⟩ =>
        show win0_9.index p 1 * 1408 ≤ (i 1 : Nat) ∧ (i 1 : Nat) < win0_9.index p 1 * 1408 + 1408
        rw [(ixw9 p).2, hp]; omega⟩

/-- The run, read: the three results as functions of the arguments, the arguments unchanged. -/
theorem run_value : θ_run defs (onTc (τ := τ) (main (F := Ideal))) ⟨m, fun _ => 0, ρ⟩ fun r => ∀ c : Dev nD,
      r.2.mem ((c.tc : Thread nD τ).loc main_v2_0) = (arr3 (srcOf m c).h : S2x8192x2816.Idx → EReal)
      ∧ r.2.mem ((c.tc : Thread nD τ).loc main_v2_1) = (arr3 (srcOf m c).pre : S2x8192x2816.Idx → EReal)
      ∧ r.2.mem ((c.tc : Thread nD τ).loc main_v2_2) = (arr2 (srcOf m c).act : S8192x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 7).trans (last7 m c), ((h.1 c).1 8).trans (last8 m c),
      ((h.1 c).1 9).trans (last9 m c), h.2 c⟩)
    (θ_run_and (run_main m ρ) (unchanged m ρ))

end Cert.FfnUpIdeal.Value
end
-- ==== Proof.FfnUpRef.lean ====
/- The reference of the feed-forward up projection, read at an index: the same functions of the arguments. -/
module

public import proofs.«01_k».proof.Proof.FfnUpRun
public import proofs.«01_k».proof.Proof.Gen.FfnUpRefIdeal.Run
public import proofs.«01_k».proof.Proof.Gen.FfnUpRefIdeal.Read
public import Idealize.ShloMosaic.Lib.IdealHost
public import proofs.«01_k».proof.Defs

@[expose] public section

set_option maxRecDepth 16384

noncomputable section

open Idealize.ShloMosaic Idealize.ShloMosaic.TcCoe Idealize.SL.Sem Idealize.ShloMosaic.ValueIdx Products
open scoped BigOperators

/-- The pattern of one half. -/
theorem half_f32 : Ideal.ofBits .f32 0x3F000000#32 = ((1 / 2 : ℝ) : EReal) := by
  simp [Ideal.ofBits, Ideal.ieee, -EReal.coe_mul]; norm_num

/-- The sigmoid by the hyperbolic tangent is the logistic function, at the infinities too. -/
theorem upSigmoid_eq (v : EReal) : upSigmoid v = Ideal.logistic v := by
  unfold upSigmoid
  rw [half_f32]
  induction v using EReal.rec with
  | bot =>
    rw [EReal.coe_mul_bot_of_pos (by norm_num), Ideal.tanh_bot, Ideal.logistic_bot, ← EReal.coe_one, ← EReal.coe_neg, ← EReal.coe_mul, ← EReal.coe_add,
      ← EReal.coe_zero]
    congr 1; norm_num
  | top =>
    rw [EReal.coe_mul_top_of_pos (by norm_num), Ideal.tanh_top, Ideal.logistic_top, mul_one, ← EReal.coe_add, ← EReal.coe_one]
    congr 1; norm_num
  | coe r =>
    rw [← EReal.coe_mul, Ideal.tanh_coe, ← EReal.coe_mul, ← EReal.coe_add, Ideal.logistic_coe]
    congr 1
    have hp : Real.exp (1 / 2 * r) * Real.exp (-(1 / 2 * r)) = 1 := by rw [← Real.exp_add]; simp
    have hn : Real.exp (-r) = Real.exp (-(1 / 2 * r)) * Real.exp (-(1 / 2 * r)) := by rw [← Real.exp_add]; congr 1; ring
    have h1 := Real.exp_pos (1 / 2 * r)
    have h2 := Real.exp_pos (-(1 / 2 * r))
    rw [Real.tanh_eq_sinh_div_cosh, Real.sinh_eq, Real.cosh_eq, hn]
    generalize Real.exp (1 / 2 * r) = a at *
    generalize Real.exp (-(1 / 2 * r)) = b at *
    have h3 : 1 + b * b ≠ 0 := by positivity
    have h4 : (a + b) / 2 ≠ 0 := by positivity
    have h5 : a + b ≠ 0 := by positivity
    field_simp
    linear_combination (2 * b) * hp

namespace Cert.FfnUpRefIdeal.Value

open Cert.FfnUpRefIdeal Cert.FfnUpRefIdeal.Gen Cert.FfnUpRefIdeal.Read

variable (x0 : Vec Ideal S8192x1024 .bf16) (x1 : Vec Ideal S1024x5632 .bf16) (x2 : Vec Ideal S3x5632 .f32) (x3 : Vec Ideal S5632 .f32)

/-- The product at a row and a half's column. -/
theorem v2_at (r : Fin 8192) (j : Fin 5632) (u c : ℕ) (hj : j.val = u * 2816 + c) :
    val_main_v2 (F := Ideal) x0 x1 (ix2 r j) = (UpSrc.mk x0 x1 x2 x3).h u r.val c := by
  have hr := r.isLt; have hjl := j.isLt
  rw [val_main_v2_apply]
  unfold UpSrc.h
  refine Finset.sum_congr rfl fun k _ => congr (congrArg (fun a b : EReal => a * b) ?_) ?_
  · rw [val_main_v0_apply]
    show x0 _ = x0 _
    have hk := k.isLt
    congr 1; funext b; apply Fin.ext
    match b with
    | ⟨0, _⟩ => show r.val = r.val % 8192; omega
    | ⟨1, _⟩ => show k.val = k.val % 1024; omega
  · rw [val_main_v1_apply]
    show x1 _ = x1 _
    have hk := k.isLt
    congr 1; funext b; apply Fin.ext
    match b with
    | ⟨0, _⟩ => show k.val = k.val % 1024; omega
    | ⟨1, _⟩ => show j.val = (u * 2816 + c) % 5632; omega

/-- The product by sequences. -/
theorem v3_at (s : Fin 4) (t : Fin 2048) (j : Fin 5632) (u c : ℕ) (hj : j.val = u * 2816 + c) :
    val_main_v3 (F := Ideal) x0 x1 (ix3 s t j) = (UpSrc.mk x0 x1 x2 x3).h u (s.val * 2048 + t.val) c := by
  have h0 := s.isLt; have h1 := t.isLt; have h2 := j.isLt
  rw [val_main_v3_apply]
  refine (congrArg (val_main_v2 (F := Ideal) x0 x1) ?_).trans (v2_at x0 x1 x2 x3 (⟨s.val * 2048 + t.val, by omega⟩ : Fin 8192) j u c hj)
  funext b; apply Fin.ext
  match b with
  | ⟨0, _⟩ => show ((s.val * 2048 + t.val) * 5632 + j.val) / 5632 = s.val * 2048 + t.val; omega
  | ⟨1, _⟩ => show ((s.val * 2048 + t.val) * 5632 + j.val) % 5632 = j.val; omega

/-- The product behind two rows of zeros, `k` rows before. -/
theorem v4_at (s : Fin 4) (t : Fin 2048) (j : Fin 5632) (u c : ℕ) (hj : j.val = u * 2816 + c) (k : ℕ) (hk : k ≤ 2) (q : Fin 2050) (hq : q.val + k = t.val + 2) :
    val_main_v4 (F := Ideal) x0 x1 (ix3 s q j) = (UpSrc.mk x0 x1 x2 x3).hb k u (s.val * 2048 + t.val) c := by
  have h0 := s.isLt; have h1 := t.isLt; have h2 := j.isLt
  unfold val_main_v4 UpSrc.hb
  have hm : (s.val * 2048 + t.val) % 2048 = t.val := by omega
  rw [hm]
  split
  · rename_i h
    refine (pad_apply_of_not_inside _ _ _ _ _ _ _ _ (1 : Fin 3) (fun hc => ?_)).trans ?_
    · have hc1 : 2 ≤ q.val := hc.1
      omega
    · rw [val_main_call0_v0_apply, val_main_c_apply]
      show (((0#32 : BitVec 32).toInt : ℝ) : EReal) = 0
      simp
  · rename_i h
    refine (pad_apply_of_inside _ _ _ _ _ _ _ _ (ix3 s (⟨t.val - k, by omega⟩ : Fin 2048) j) (fun a => ?_)).trans ?_
    · match a with
      | ⟨0, _⟩ => show s.val = 0 + s.val * (0 + 1); omega
      | ⟨1, _⟩ => show q.val = 2 + (t.val - k) * (0 + 1); omega
      | ⟨2, _⟩ => show j.val = 0 + j.val * (0 + 1); omega
    · refine (v3_at x0 x1 x2 x3 s (⟨t.val - k, by omega⟩ : Fin 2048) j u c hj).trans ?_
      exact congrArg (fun z => (UpSrc.mk x0 x1 x2 x3).h u z c) (by show s.val * 2048 + (t.val - k) = _; omega)

theorem v5_at (s : Fin 4) (t : Fin 2048) (j : Fin 5632) (u c : ℕ) (hj : j.val = u * 2816 + c) :
    val_main_v5 (F := Ideal) x0 x1 (ix3 s t j) = (UpSrc.mk x0 x1 x2 x3).hb 2 u (s.val * 2048 + t.val) c := by
  rw [val_main_v5_apply]
  exact (congrArg (val_main_v4 (F := Ideal) x0 x1) (eq_ix3 _)).trans (v4_at x0 x1 x2 x3 s t j u c hj 2 le_rfl (⟨t.val, by omega⟩ : Fin 2050) rfl)
theorem v14_at (s : Fin 4) (t : Fin 2048) (j : Fin 5632) (u c : ℕ) (hj : j.val = u * 2816 + c) :
    val_main_v14 (F := Ideal) x0 x1 (ix3 s t j) = (UpSrc.mk x0 x1 x2 x3).hb 1 u (s.val * 2048 + t.val) c := by
  rw [val_main_v14_apply]
  exact (congrArg (val_main_v4 (F := Ideal) x0 x1) (eq_ix3 _)).trans (v4_at x0 x1 x2 x3 s t j u c hj 1 (by decide) (⟨1 + t.val, by omega⟩ : Fin 2050) (by show 1 + t.val + 1 = _; omega))
theorem v21_at (s : Fin 4) (t : Fin 2048) (j : Fin 5632) (u c : ℕ) (hj : j.val = u * 2816 + c) :
    val_main_v21 (F := Ideal) x0 x1 (ix3 s t j) = (UpSrc.mk x0 x1 x2 x3).h u (s.val * 2048 + t.val) c := by
  rw [val_main_v21_apply]
  refine ((congrArg (val_main_v4 (F := Ideal) x0 x1) (eq_ix3 _)).trans (v4_at x0 x1 x2 x3 s t j u c hj 0 (by decide) (⟨2 + t.val, by omega⟩ : Fin 2050) (by show 2 + t.val + 0 = _; omega))).trans ?_
  unfold UpSrc.hb
  rw [if_neg (Nat.not_lt_zero _), Nat.sub_zero]

/-- The filter's first row, over every row of the product. -/
theorem v9_at (s : Fin 4) (t : Fin 2048) (j : Fin 5632) (u c : ℕ) (hj : j.val = u * 2816 + c) :
    val_main_v9 (F := Ideal) x2 (ix3 s t j) = (UpSrc.mk x0 x1 x2 x3).t u 0 c := by
  rw [val_main_v9_apply, val_main_v8_apply, val_main_v7_apply, val_main_v6_apply]
  show x2 _ = x2 _
  have h2 := j.isLt
  congr 1; funext a; apply Fin.ext
  match a with
  | ⟨0, _⟩ => rfl
  | ⟨1, _⟩ => show j.val % 5632 = (u * 2816 + c) % 5632; omega
/-- The filter's second row. -/
theorem v18_at (s : Fin 4) (t : Fin 2048) (j : Fin 5632) (u c : ℕ) (hj : j.val = u * 2816 + c) :
    val_main_v18 (F := Ideal) x2 (ix3 s t j) = (UpSrc.mk x0 x1 x2 x3).t u 1 c := by
  rw [val_main_v18_apply, val_main_v17_apply, val_main_v16_apply, val_main_v15_apply]
  show x2 _ = x2 _
  have h2 := j.isLt
  congr 1; funext a; apply Fin.ext
  match a with
  | ⟨0, _⟩ => rfl
  | ⟨1, _⟩ => show j.val % 5632 = (u * 2816 + c) % 5632; omega
/-- The filter's third row. -/
theorem v25_at (s : Fin 4) (t : Fin 2048) (j : Fin 5632) (u c : ℕ) (hj : j.val = u * 2816 + c) :
    val_main_v25 (F := Ideal) x2 (ix3 s t j) = (UpSrc.mk x0 x1 x2 x3).t u 2 c := by
  rw [val_main_v25_apply, val_main_v24_apply, val_main_v23_apply, val_main_v22_apply]
  show x2 _ = x2 _
  have h2 := j.isLt
  congr 1; funext a; apply Fin.ext
  match a with
  | ⟨0, _⟩ => rfl
  | ⟨1, _⟩ => show j.val % 5632 = (u * 2816 + c) % 5632; omega
/-- The bias. -/
theorem v12_at (s : Fin 4) (t : Fin 2048) (j : Fin 5632) (u c : ℕ) (hj : j.val = u * 2816 + c) :
    val_main_v12 (F := Ideal) x3 (ix3 s t j) = (UpSrc.mk x0 x1 x2 x3).b u c := by
  rw [val_main_v12_apply, val_main_v11_apply]
  show x3 _ = x3 _
  have h2 := j.isLt
  congr 1; funext a; apply Fin.ext
  match a with
  | ⟨0, _⟩ => show j.val = (u * 2816 + c) % 5632; omega

/-- The convolution. -/
theorem v27_at (s : Fin 4) (t : Fin 2048) (j : Fin 5632) (u c : ℕ) (hj : j.val = u * 2816 + c) :
    val_main_v27 (F := Ideal) x0 x1 x2 x3 (ix3 s t j) = (UpSrc.mk x0 x1 x2 x3).pre u (s.val * 2048 + t.val) c := by
  rw [val_main_v27_apply, val_main_v20_apply, val_main_v13_apply, val_main_v10_apply, val_main_v19_apply, val_main_v26_apply,
    v5_at x0 x1 x2 x3 s t j u c hj, v14_at x0 x1 x2 x3 s t j u c hj, v21_at x0 x1 x2 x3 s t j u c hj,
    v9_at x0 x1 x2 x3 s t j u c hj, v18_at x0 x1 x2 x3 s t j u c hj, v25_at x0 x1 x2 x3 s t j u c hj, v12_at x0 x1 x2 x3 s t j u c hj]
  generalize UpSrc.mk x0 x1 x2 x3 = S
  show S.hb 2 u _ c * S.t u 0 c + S.b u c + S.hb 1 u _ c * S.t u 1 c + S.h u _ c * S.t u 2 c = S.pre u _ c
  unfold UpSrc.pre
  rw [mul_comm (S.hb 2 u _ c), mul_comm (S.hb 1 u _ c), mul_comm (S.h u _ c), add_comm (_ * _) (S.b u c)]

/-- The activation. -/
theorem v31_at (s : Fin 4) (t : Fin 2048) (c : Fin 2816) :
    val_main_v31 (F := Ideal) x0 x1 x2 x3 (ix3 s t c) = (UpSrc.mk x0 x1 x2 x3).act (s.val * 2048 + t.val) c.val := by
  have hc := c.isLt
  have e0 : val_main_v28 (F := Ideal) x0 x1 x2 x3 (ix3 s t c) = (UpSrc.mk x0 x1 x2 x3).pre 0 (s.val * 2048 + t.val) c.val := by
    rw [val_main_v28_apply]
    exact (congrArg (val_main_v27 (F := Ideal) x0 x1 x2 x3) (eq_ix3 _)).trans (v27_at x0 x1 x2 x3 s t (⟨c.val, by omega⟩ : Fin 5632) 0 c.val (by show c.val = 0 * 2816 + c.val; omega))
  have e1 : val_main_v29 (F := Ideal) x0 x1 x2 x3 (ix3 s t c) = (UpSrc.mk x0 x1 x2 x3).pre 1 (s.val * 2048 + t.val) c.val := by
    rw [val_main_v29_apply]
    exact (congrArg (val_main_v27 (F := Ideal) x0 x1 x2 x3) (eq_ix3 _)).trans (v27_at x0 x1 x2 x3 s t (⟨2816 + c.val, by omega⟩ : Fin 5632) 1 c.val (by show 2816 + c.val = 1 * 2816 + c.val; omega))
  rw [val_main_v31_apply, val_main_v30_apply, val_main_call1_v5_apply, val_main_call1_v4_apply, val_main_call1_v3_apply, val_main_call1_v2_apply,
    val_main_call1_v1_apply, val_main_call1_v0_apply, val_main_call1_cst_apply, val_main_call1_cst_0_apply, e0, e1]
  unfold UpSrc.act
  rw [upSigmoid_eq]
  generalize (UpSrc.mk x0 x1 x2 x3).pre 0 (s.val * 2048 + t.val) c.val = v
  generalize (UpSrc.mk x0 x1 x2 x3).pre 1 (s.val * 2048 + t.val) c.val = w
  show v * Ideal.div (Ideal.ofBits .f32 0x3F800000#32) (Ideal.ofBits .f32 0x3F800000#32 + Ideal.exp (-v)) * w = v * Ideal.logistic v * w
  rw [Ideal.ofBits_one_f32]
  rfl

/-- An array's rows by sequences. -/
theorem seq_ix (r : Fin 8192) (j : Fin 5632) : idx_main_v32 (ix2 r j) = ix3 (⟨r.val / 2048, by omega⟩ : Fin 4) (⟨r.val % 2048, by omega⟩ : Fin 2048) j := by
  have hr := r.isLt; have hj := j.isLt
  funext b; apply Fin.ext
  match b with
  | ⟨0, _⟩ => show (r.val * 5632 + j.val) / 11534336 = r.val / 2048; omega
  | ⟨1, _⟩ => show (r.val * 5632 + j.val) / 5632 % 2048 = r.val % 2048; omega
  | ⟨2, _⟩ => show (r.val * 5632 + j.val) % 5632 = j.val; omega

/-- The product by rows. -/
theorem v32_at (r : Fin 8192) (j : Fin 5632) (u c : ℕ) (hj : j.val = u * 2816 + c) :
    val_main_v32 (F := Ideal) x0 x1 (ix2 r j) = (UpSrc.mk x0 x1 x2 x3).h u r.val c := by
  rw [val_main_v32_apply, seq_ix]
  refine (v3_at x0 x1 x2 x3 _ _ j u c hj).trans ?_
  exact congrArg (fun z => (UpSrc.mk x0 x1 x2 x3).h u z c) (by show r.val / 2048 * 2048 + r.val % 2048 = r.val; omega)

/-- The convolution by rows. -/
theorem v39_at (r : Fin 8192) (j : Fin 5632) (u c : ℕ) (hj : j.val = u * 2816 + c) :
    val_main_v39 (F := Ideal) x0 x1 x2 x3 (ix2 r j) = (UpSrc.mk x0 x1 x2 x3).pre u r.val c := by
  rw [val_main_v39_apply]
  refine (congrArg (val_main_v27 (F := Ideal) x0 x1 x2 x3) (seq_ix r j)).trans ?_
  refine (v27_at x0 x1 x2 x3 _ _ j u c hj).trans ?_
  exact congrArg (fun z => (UpSrc.mk x0 x1 x2 x3).pre u z c) (by show r.val / 2048 * 2048 + r.val % 2048 = r.val; omega)

/-- The first of two layers joined. -/
theorem joined0 (a b : S1x8192x2816.Idx → EReal) (r : Fin 8192) (c : Fin 2816) :
    concatenate S2x8192x2816 0 [⟨S1x8192x2816, a⟩, ⟨S1x8192x2816, b⟩] concatenates_S1x8192x2816_S1x8192x2816_S2x8192x2816_d0 (ix3 0 r c) = a (ix3 0 r c) :=
  concatenate_pair_apply_left (t := S2x8192x2816) (s₁ := S1x8192x2816) (s₂ := S1x8192x2816) (0 : Fin 3) _ _ _ _ rfl (ix3 0 r c) (by
    intro d
    match d with
    | ⟨0, _⟩ => rfl
    | ⟨1, _⟩ => rfl
    | ⟨2, _⟩ => rfl)

/-- The second of two layers joined. -/
theorem joined1 (a b : S1x8192x2816.Idx → EReal) (r : Fin 8192) (c : Fin 2816) :
    concatenate S2x8192x2816 0 [⟨S1x8192x2816, a⟩, ⟨S1x8192x2816, b⟩] concatenates_S1x8192x2816_S1x8192x2816_S2x8192x2816_d0 (ix3 1 r c) = b (ix3 0 r c) :=
  concatenate_pair_apply_right (t := S2x8192x2816) (s₁ := S1x8192x2816) (s₂ := S1x8192x2816) (0 : Fin 3) _ _ _ _ rfl rfl (ix3 0 r c) (by
    intro d hd
    match d with
    | ⟨0, _⟩ => exact absurd rfl hd
    | ⟨1, _⟩ => rfl
    | ⟨2, _⟩ => rfl) rfl

/-- The reference's product, in two halves. -/
theorem v38_eq : val_main_v38 (F := Ideal) x0 x1 = (arr3 (UpSrc.mk x0 x1 x2 x3).h : S2x8192x2816.Idx → EReal) := by
  funext i
  obtain ⟨u, r, c, rfl⟩ : ∃ (u : Fin 2) (r : Fin 8192) (c : Fin 2816), i = ix3 u r c := ⟨i 0, i 1, i 2, eq_ix3 i⟩
  have hc := c.isLt
  rw [val_main_v38_apply]
  show val_main_v37 (F := Ideal) x0 x1 (ix3 u r c) = (UpSrc.mk x0 x1 x2 x3).h u.val r.val c.val
  unfold val_main_v37
  match u with
  | ⟨0, _⟩ =>
    refine (joined0 _ _ r c).trans ?_
    rw [val_main_v35_apply, val_main_v33_apply]
    exact (congrArg (val_main_v32 (F := Ideal) x0 x1) (eq_ix2 _)).trans (v32_at x0 x1 x2 x3 r (⟨c.val, by omega⟩ : Fin 5632) 0 c.val (by show c.val = 0 * 2816 + c.val; omega))
  | ⟨1, _⟩ =>
    refine (joined1 _ _ r c).trans ?_
    rw [val_main_v36_apply, val_main_v34_apply]
    exact (congrArg (val_main_v32 (F := Ideal) x0 x1) (eq_ix2 _)).trans (v32_at x0 x1 x2 x3 r (⟨2816 + c.val, by omega⟩ : Fin 5632) 1 c.val (by show 2816 + c.val = 1 * 2816 + c.val; omega))

/-- The reference's convolution, in two halves. -/
theorem v45_eq : val_main_v45 (F := Ideal) x0 x1 x2 x3 = (arr3 (UpSrc.mk x0 x1 x2 x3).pre : S2x8192x2816.Idx → EReal) := by
  funext i
  obtain ⟨u, r, c, rfl⟩ : ∃ (u : Fin 2) (r : Fin 8192) (c : Fin 2816), i = ix3 u r c := ⟨i 0, i 1, i 2, eq_ix3 i⟩
  have hc := c.isLt
  rw [val_main_v45_apply]
  show val_main_v44 (F := Ideal) x0 x1 x2 x3 (ix3 u r c) = (UpSrc.mk x0 x1 x2 x3).pre u.val r.val c.val
  unfold val_main_v44
  match u with
  | ⟨0, _⟩ =>
    refine (joined0 _ _ r c).trans ?_
    rw [val_main_v42_apply, val_main_v40_apply]
    exact (congrArg (val_main_v39 (F := Ideal) x0 x1 x2 x3) (eq_ix2 _)).trans (v39_at x0 x1 x2 x3 r (⟨c.val, by omega⟩ : Fin 5632) 0 c.val (by show c.val = 0 * 2816 + c.val; omega))
  | ⟨1, _⟩ =>
    refine (joined1 _ _ r c).trans ?_
    rw [val_main_v43_apply, val_main_v41_apply]
    exact (congrArg (val_main_v39 (F := Ideal) x0 x1 x2 x3) (eq_ix2 _)).trans (v39_at x0 x1 x2 x3 r (⟨2816 + c.val, by omega⟩ : Fin 5632) 1 c.val (by show 2816 + c.val = 1 * 2816 + c.val; omega))

/-- The reference's activation. -/
theorem v47_eq : val_main_v47 (F := Ideal) x0 x1 x2 x3 = (arr2 (UpSrc.mk x0 x1 x2 x3).act : S8192x2816.Idx → EReal) := by
  funext i
  obtain ⟨r, c, rfl⟩ : ∃ (r : Fin 8192) (c : Fin 2816), i = ix2 r c := ⟨i 0, i 1, eq_ix2 i⟩
  have hr := r.isLt; have hc := c.isLt
  rw [val_main_v47_apply, val_main_v46_apply]
  have e : idx_main_v46 (ix2 r c) = ix3 (⟨r.val / 2048, by omega⟩ : Fin 4) (⟨r.val % 2048, by omega⟩ : Fin 2048) c := by
    funext b; apply Fin.ext
    match b with
    | ⟨0, _⟩ => show (r.val * 2816 + c.val) / 5767168 = r.val / 2048; omega
    | ⟨1, _⟩ => show (r.val * 2816 + c.val) / 2816 % 2048 = r.val % 2048; omega
    | ⟨2, _⟩ => show (r.val * 2816 + c.val) % 2816 = c.val; omega
  show val_main_v31 (F := Ideal) x0 x1 x2 x3 _ = (UpSrc.mk x0 x1 x2 x3).act r.val c.val
  refine (congrArg (val_main_v31 (F := Ideal) x0 x1 x2 x3) e).trans ((v31_at x0 x1 x2 x3 _ _ c).trans ?_)
  exact congrArg (fun z => (UpSrc.mk x0 x1 x2 x3).act z c.val) (by show r.val / 2048 * 2048 + r.val % 2048 = r.val; omega)

variable (m : (ℓ : Loc nD τ sig) → Buf (Elt Ideal) ℓ) (ρ : Dev nD → PrngReg)

/-- The arguments at a device. -/
def srcOf (c : Dev nD) : UpSrc :=
  ⟨m ((c.tc : Thread nD τ).loc main_arg0), m ((c.tc : Thread nD τ).loc main_arg1), m ((c.tc : Thread nD τ).loc main_arg2), m ((c.tc : Thread nD τ).loc main_arg3)⟩

/-- What the reference ends holding, as functions of its arguments, and its arguments as they were. -/
theorem run_value : θ_run defs (onTc (τ := τ) (main (F := Ideal))) ⟨m, fun _ => 0, ρ⟩ fun r => ∀ c : Dev nD,
      r.2.mem ((c.tc : Thread nD τ).loc main_v38) = (arr3 (srcOf m c).h : S2x8192x2816.Idx → EReal)
      ∧ r.2.mem ((c.tc : Thread nD τ).loc main_v45) = (arr3 (srcOf m c).pre : S2x8192x2816.Idx → EReal)
      ∧ r.2.mem ((c.tc : Thread nD τ).loc main_v47) = (arr2 (srcOf m c).act : S8192x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v38_eq _ _).trans (v38_eq _ _ _ _)),
    (h c).2.1.trans ((val_main_v45_eq m c).trans (v45_eq _ _ _ _)),
    (h c).2.2.1.trans ((val_main_v47_eq m c).trans (v47_eq _ _ _ _)), (h c).2.2.2⟩)
    (run m ρ)

/-- The reference ends with its arguments as they were; it declares no semaphore. -/
theorem ends : Cert.quiescent_FfnUpRefIdeal := fun m ρ _ =>
  (θ_run _ _ _).mono (fun _ h => ⟨fun c => (h c).2.2.2, funext fun g => nomatch g.2⟩) (Cert.FfnUpRefIdeal.Value.run m ρ)

end Cert.FfnUpRefIdeal.Value

/-- The kernel's values and the reference's, over the ideal reals. -/
theorem FfnUp_value : Cert.algebraic_FfnUpIdeal_FfnUpRefIdeal :=
  fun m g m' g' _ h => ⟨fun c => (arr3 (Cert.FfnUpIdeal.Value.srcOf m c).h : (⟨3, ![2, 8192, 2816]⟩ : Shape).Idx → EReal),
    fun c => (arr3 (Cert.FfnUpIdeal.Value.srcOf m c).pre : (⟨3, ![2, 8192, 2816]⟩ : Shape).Idx → EReal),
    fun c => (arr2 (Cert.FfnUpIdeal.Value.srcOf m c).act : (⟨2, ![8192, 2816]⟩ : Shape).Idx → EReal),
    Cert.FfnUpIdeal.Value.run_value m g,
    (θ_run _ _ _).mono (fun r hr c => by
      have hc := hr c
      have e : Cert.FfnUpRefIdeal.Value.srcOf m' c = Cert.FfnUpIdeal.Value.srcOf m c := by
        obtain ⟨a0, a1, a2, a3⟩ := h c
        unfold Cert.FfnUpRefIdeal.Value.srcOf
        rw [a0, a1, a2, a3] <;> rfl
      rw [e] at hc
      exact hc)
      (Cert.FfnUpRefIdeal.Value.run_value m' g')⟩

end
-- ==== Proof.AdamStep.lean ====
/- One step of AdamW at one weight, and the halves of a summed gradient put together. -/
module

public import proofs.«01_k».proof.Proof.Products
public import Idealize.ShloMosaic.Lib.WholeRead
public import Idealize.ShloMosaic.Lib.Pipeline.Value

@[expose] public section

set_option maxRecDepth 16384

noncomputable section

namespace AdamStep

open Idealize.ShloMosaic Idealize.ShloMosaic.ValueIdx

/-- The gradient in half `b`: the core's own half where the core is `b`, its sibling's otherwise. -/
def grad (core : BitVec 32) (b : ℕ) (mine sib : EReal) : EReal :=
  Scalar.select (Scalar.cmpi .eq (BitVec.ofNat 32 b) core) mine sib

/-- The first moment after the step. -/
def mom1 (g m : Ideal .f32) : Ideal .f32 :=
  FloatOps.addf (FloatOps.mulf (FloatOps.ofBits .f32 0x3F666666#32) m) (FloatOps.mulf (FloatOps.ofBits .f32 0x3DCCCCCD#32) g)

/-- The second moment after the step. -/
def mom2 (g v : Ideal .f32) : Ideal .f32 :=
  FloatOps.addf (FloatOps.mulf (FloatOps.ofBits .f32 0x3F7FBE77#32) v) (FloatOps.mulf (FloatOps.ofBits .f32 0x3A83126F#32) (FloatOps.mulf g g))

/-- What is added to the weight. -/
def delta (g w m v : Ideal .f32) : Ideal .f32 :=
  FloatOps.mulf (FloatOps.ofBits .f32 0xBA83126F#32)
    (FloatOps.addf
      (FloatOps.divf (FloatOps.divf (mom1 g m) (FloatOps.ofBits .f32 0x3F26BD02#32))
        (FloatOps.addf (FloatOps.sqrt (FloatOps.divf (mom2 g v) (FloatOps.ofBits .f32 0x3C231ACC#32))) (FloatOps.ofBits .f32 0x322BCC77#32)))
      (FloatOps.mulf (FloatOps.ofBits .f32 0x3C23D70A#32) w))

/-- A stack of matrices at a layer, a row and a column. -/
def at3 {A B C : ℕ} [NeZero A] [NeZero B] [NeZero C] (x : (⟨3, ![A, B, C]⟩ : Shape).Idx → EReal) (l r q : ℕ) : EReal :=
  x (ix3 (Fin.ofNat A l) (Fin.ofNat B r) (Fin.ofNat C q))

/-- The gradient at a layer, a row and a column: row `r` lies in half `r / H`. -/
def gradAt {L H C : ℕ} [NeZero L] [NeZero H] [NeZero C] (core : BitVec 32) (mine sib : (⟨3, ![L, H, C]⟩ : Shape).Idx → EReal) (l r q : ℕ) : EReal :=
  grad core (r / H) (at3 mine l (r % H) q) (at3 sib l (r % H) q)

/-- Two unit axes put in front of a matrix. -/
theorem addUnits_apply {A B : ℕ} {e : EltTy} (x : Vec Ideal ⟨2, ![A, B]⟩ e)
    (h : (⟨2, ![A, B]⟩ : Shape).ShapeCasts ⟨4, ![1, 1, A, B]⟩) (a : Fin A) (b : Fin B) :
    shapeCast ⟨4, ![1, 1, A, B]⟩ x h (ix4 0 0 a b) = x (ix2 a b) :=
  shapeCast_apply x h (ix4 0 0 a b) (ix2 a b) (by
    rewrite [Shape.rowMajor_val_four, Shape.rowMajor_val_two]
    show (a : ℕ) * B + b = (((0 : ℕ) * 1 + 0) * A + a) * B + b
    simp)

/-- Two unit axes dropped in front of a matrix. -/
theorem dropUnits_apply {A B : ℕ} {e : EltTy} (x : Vec Ideal ⟨4, ![1, 1, A, B]⟩ e)
    (h : (⟨4, ![1, 1, A, B]⟩ : Shape).ShapeCasts ⟨2, ![A, B]⟩) (a : Fin A) (b : Fin B) :
    shapeCast ⟨2, ![A, B]⟩ x h (ix2 a b) = x (ix4 0 0 a b) :=
  shapeCast_apply x h (ix2 a b) (ix4 0 0 a b) (by
    rewrite [Shape.rowMajor_val_four, Shape.rowMajor_val_two]
    show (((0 : ℕ) * 1 + 0) * A + a) * B + b = (a : ℕ) * B + b
    simp)

/-- The rows cut in two halves. -/
theorem halves_apply {L R H C : ℕ} {e : EltTy} (x : Vec Ideal ⟨3, ![L, R, C]⟩ e) (hR : R = 2 * H)
    (h : (⟨3, ![L, R, C]⟩ : Shape).ShapeCasts ⟨4, ![L, 2, H, C]⟩) (l : Fin L) (b : Fin 2) (r : Fin H) (q : Fin C) (k : Fin R)
    (hk : k.val = b.val * H + r.val) :
    shapeCast ⟨4, ![L, 2, H, C]⟩ x h (ix4 l b r q) = x (ix3 l k q) :=
  shapeCast_apply x h (ix4 l b r q) (ix3 l k q) (by
    rewrite [Shape.rowMajor_val_four, Shape.rowMajor_val_three]
    show ((l : ℕ) * R + k) * C + q = (((l : ℕ) * 2 + b) * H + r) * C + q
    rw [hk, hR]; ring)

/-- The two halves of the rows joined. -/
theorem joined_apply {L R H C : ℕ} {e : EltTy} (x : Vec Ideal ⟨4, ![L, 2, H, C]⟩ e) (hR : R = 2 * H)
    (h : (⟨4, ![L, 2, H, C]⟩ : Shape).ShapeCasts ⟨3, ![L, R, C]⟩) (l : Fin L) (b : Fin 2) (r : Fin H) (q : Fin C) (k : Fin R)
    (hk : k.val = b.val * H + r.val) :
    shapeCast ⟨3, ![L, R, C]⟩ x h (ix3 l k q) = x (ix4 l b r q) :=
  shapeCast_apply x h (ix3 l k q) (ix4 l b r q) (by
    rewrite [Shape.rowMajor_val_four, Shape.rowMajor_val_three]
    show (((l : ℕ) * 2 + b) * H + r) * C + q = ((l : ℕ) * R + k) * C + q
    rw [hk, hR]; ring)

/-- A load of a whole buffer held at the contents that read `X` reads `X`. -/
theorem readAt_zero {sig : RefSig} {κ : Kind} {sp : Space} {S : Shape} {e : EltTy} {M : Memref sig κ sp S e} {off : Fin S.rank → Nat} (ho : off = fun _ => 0)
    (inb : ∀ a, off a + S.size a ≤ S.size a) (h : M.IsWhole) (X : S.Idx → Elt Ideal e) :
    View.readAt (Elt Ideal) M.view (Rect.unit off S.size inb).toLoadRect (h.unread X) = X :=
  funext fun x => (h.readAt_unread X _ x).trans (congrFun (View.ld_unit_zero (Val := Elt Ideal) ho inb X) x)

/-- Comparing two words for equality either way round. -/
theorem cmp_comm (a b : BitVec 32) : Scalar.cmpi .eq a b = Scalar.cmpi .eq b a := by
  have h : (a == b) = (b == a) := Bool.beq_comm
  show BitVec.ofBool (a == b) = BitVec.ofBool (b == a)
  rw [h]

/-- One array's element or the other's. -/
theorem pick_apply {T : Shape} (p : Vec Ideal T .i1) (x y : Vec Ideal T .f32) (j : T.Idx) : select p x y j = Scalar.select (p j) (x j) (y j) := rfl

end AdamStep

end
-- ==== Proof.UpdScInRun.lean ====
/- The short convolution's input weight: the kernel's gradient, step and moments, at every weight. -/
module

public import proofs.«01_k».proof.Proof.AdamStep
public import proofs.«01_k».proof.Proof.Gen.UpdScInIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdScInIdeal.Value

open Cert.UpdScInIdeal Cert.UpdScInIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x512x768 .f32) (w mm vv : Vec Ideal S1x1x512x768 .f32) (p : Fin 512) (q : Fin 768)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 512) (B := 768) (e := .f32) g1 _ p q
  · exact dropUnit_apply (A := 512) (B := 768) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 512) (B := 768) (e := .f32) mm shapeCasts_S1x1x512x768_S512x768 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 512) (B := 768) (e := .f32) vv shapeCasts_S1x1x512x768_S512x768 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 512) (B := 768) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 512) (B := 768) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 512) (B := 768) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 512) (B := 768) (e := .f32) _ _ p q).trans ?_
  unfold delta
  rw [← pay5_at, ← pay6_at, ← dropUnits_apply (A := 512) (B := 768) (e := .f32) w shapeCasts_S1x1x512x768_S512x768 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x1x512x768 .f32) (harg7 : arg7.IsWhole) (arg8 : Memref sig .tc .vmem S1x1x512x768 .f32) (harg8 : arg8.IsWhole) (arg9 : Memref sig .tc .vmem S1x1x512x768 .f32) (harg9 : arg9.IsWhole) (arg10 : Memref sig .tc .vmem S1x1x512x768 .f32) (harg10 : arg10.IsWhole) (arg11 : Memref sig .tc .vmem S1x1x512x768 .f32) (harg11 : arg11.IsWhole) (arg12 : Memref sig .tc .vmem S1x1x512x768 .f32) (harg12 : arg12.IsWhole)
  (x0 : Vec Ideal S1x1x512x768 .f32) (x1 : Vec Ideal S1x512x768 .f32) (x2 : Vec Ideal S1x512x768 .f32) (x3 : Vec Ideal S1x1x512x768 .f32) (x4 : Vec Ideal S1x1x512x768 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x512x768) hz4]
  have hc := core_eq m c
  unfold kernelRun0_A.sl.r at hc
  sl_unfold_run_values
  simp only [readAt_zero (S := S1x512x768) hz3, readAt_zero (S := S1x1x512x768) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x512x768) hz4]
  have hc := core_eq m c
  unfold kernelRun0_A.sl.r at hc
  sl_unfold_run_values
  simp only [readAt_zero (S := S1x512x768) hz3, readAt_zero (S := S1x1x512x768) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x512x768) hz4]
  have hc := core_eq m c
  unfold kernelRun0_A.sl.r at hc
  sl_unfold_run_values
  simp only [readAt_zero (S := S1x512x768) hz3, readAt_zero (S := S1x1x512x768) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x512x768) hz4]
  have hc := core_eq m c
  unfold kernelRun0_A.sl.r at hc
  sl_unfold_run_values
  simp only [readAt_zero (S := S1x512x768) hz3, readAt_zero (S := S1x1x512x768) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 4 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 512) (q : Fin 768) :
    iblk m (okm m) c 1 t (ix3 0 p q) = at3 (A := 2) (B := 512) (C := 768) (m ((c.tc : Thread nD τ).loc main_arg2)) (t.val / 2) (t.val % 1 * 512 + p.val) q.val := by
  have ht := ltN t; have hp := p.isLt; have hq := q.isLt
  unfold iblk
  refine (View.read_apply _ _).trans ?_
  show (V m c main_arg2 : S2x512x768.Idx → EReal) _ = (m ((c.tc : Thread nD τ).loc main_arg2) : S2x512x768.Idx → EReal) _
  rw [V_main_arg2]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 512 + 1 * p.val = (t.val % 1 * 512 + p.val) % 512; rw [(ixG t).2.1]; omega
  | ⟨2, _⟩ => show cc0_transform_1 (grid0.coords t) 2 * 768 + 1 * q.val = q.val % 768; rw [(ixG t).2.2]; omega

/-- The sibling's half of the summed gradient, a tile of it. -/
theorem blk2 (c : Dev nD) (t : Fin grid0.N) (p : Fin 512) (q : Fin 768) :
    iblk m (okm m) c 2 t (ix3 0 p q) = at3 (A := 2) (B := 512) (C := 768) (m ((c.tc : Thread nD τ).loc main_arg3)) (t.val / 2) (t.val % 1 * 512 + p.val) q.val := by
  have ht := ltN t; have hp := p.isLt; have hq := q.isLt
  unfold iblk
  refine (View.read_apply _ _).trans ?_
  show (V m c main_arg3 : S2x512x768.Idx → EReal) _ = (m ((c.tc : Thread nD τ).loc main_arg3) : S2x512x768.Idx → EReal) _
  rw [V_main_arg3]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 512 + 1 * p.val = (t.val % 1 * 512 + p.val) % 512; rw [(ixG t).2.1]; omega
  | ⟨2, _⟩ => show cc0_transform_1 (grid0.coords t) 2 * 768 + 1 * q.val = q.val % 768; rw [(ixG t).2.2]; omega

/-- The weight, a tile of it. -/
theorem blk0 (c : Dev nD) (t : Fin grid0.N) (p : Fin 512) (q : Fin 768) :
    iblk m (okm m) c 0 t (ix4 0 0 p q) = at3 (A := 2) (B := 1024) (C := 768) (m ((c.tc : Thread nD τ).loc main_arg1)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v0) : S2x2x512x768.Idx → EReal)
      = shapeCast S2x2x512x768 (m ((c.tc : Thread nD τ).loc main_arg1) : S2x1024x768.Idx → EReal) shapeCasts_S2x1024x768_S2x2x512x768 := by
    after_results
    rfl
  have hi : ((((cfgM m (okm m)).win 0).blk t).view.emb (ix4 0 0 p q) : S2x2x512x768.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 768 + 1 * q.val = q.val; rw [(ixH t).2.2.2]; omega
  unfold iblk
  refine (View.read_apply _ _).trans ?_
  refine (show _ = (StableHlo.after hostOps0 (fun b => m (c, b)) (Proc.tc.devRef main_v0) : S2x2x512x768.Idx → EReal) ((((cfgM m (okm m)).win 0).blk t).view.emb (ix4 0 0 p q)) from rfl).trans ?_
  refine (congrArg (StableHlo.after hostOps0 (fun b => m (c, b)) (Proc.tc.devRef main_v0) : S2x2x512x768.Idx → EReal) hi).trans ?_
  refine (congrFun e _).trans ?_
  refine (halves_apply (L := 2) (R := 1024) (H := 512) (C := 768) (e := .f32) (m ((c.tc : Thread nD τ).loc main_arg1) : S2x1024x768.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 768; omega

/-- The first moment, a tile of it. -/
theorem blk3 (c : Dev nD) (t : Fin grid0.N) (p : Fin 512) (q : Fin 768) :
    iblk m (okm m) c 3 t (ix4 0 0 p q) = at3 (A := 2) (B := 1024) (C := 768) (m ((c.tc : Thread nD τ).loc main_arg4)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v1) : S2x2x512x768.Idx → EReal)
      = shapeCast S2x2x512x768 (m ((c.tc : Thread nD τ).loc main_arg4) : S2x1024x768.Idx → EReal) shapeCasts_S2x1024x768_S2x2x512x768 := by
    after_results
    rfl
  have hi : ((((cfgM m (okm m)).win 3).blk t).view.emb (ix4 0 0 p q) : S2x2x512x768.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 768 + 1 * q.val = q.val; rw [(ixH t).2.2.2]; omega
  unfold iblk
  refine (View.read_apply _ _).trans ?_
  refine (show _ = (StableHlo.after hostOps0 (fun b => m (c, b)) (Proc.tc.devRef main_v1) : S2x2x512x768.Idx → EReal) ((((cfgM m (okm m)).win 3).blk t).view.emb (ix4 0 0 p q)) from rfl).trans ?_
  refine (congrArg (StableHlo.after hostOps0 (fun b => m (c, b)) (Proc.tc.devRef main_v1) : S2x2x512x768.Idx → EReal) hi).trans ?_
  refine (congrFun e _).trans ?_
  refine (halves_apply (L := 2) (R := 1024) (H := 512) (C := 768) (e := .f32) (m ((c.tc : Thread nD τ).loc main_arg4) : S2x1024x768.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 768; omega

/-- The second moment, a tile of it. -/
theorem blk4 (c : Dev nD) (t : Fin grid0.N) (p : Fin 512) (q : Fin 768) :
    iblk m (okm m) c 4 t (ix4 0 0 p q) = at3 (A := 2) (B := 1024) (C := 768) (m ((c.tc : Thread nD τ).loc main_arg5)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v2) : S2x2x512x768.Idx → EReal)
      = shapeCast S2x2x512x768 (m ((c.tc : Thread nD τ).loc main_arg5) : S2x1024x768.Idx → EReal) shapeCasts_S2x1024x768_S2x2x512x768 := by
    after_results
    rfl
  have hi : ((((cfgM m (okm m)).win 4).blk t).view.emb (ix4 0 0 p q) : S2x2x512x768.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 768 + 1 * q.val = q.val; rw [(ixH t).2.2.2]; omega
  unfold iblk
  refine (View.read_apply _ _).trans ?_
  refine (show _ = (StableHlo.after hostOps0 (fun b => m (c, b)) (Proc.tc.devRef main_v2) : S2x2x512x768.Idx → EReal) ((((cfgM m (okm m)).win 4).blk t).view.emb (ix4 0 0 p q)) from rfl).trans ?_
  refine (congrArg (StableHlo.after hostOps0 (fun b => m (c, b)) (Proc.tc.devRef main_v2) : S2x2x512x768.Idx → EReal) hi).trans ?_
  refine (congrFun e _).trans ?_
  refine (halves_apply (L := 2) (R := 1024) (H := 512) (C := 768) (e := .f32) (m ((c.tc : Thread nD τ).loc main_arg5) : S2x1024x768.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 768; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x512x768.Idx) :
    ((dats m (okm m) 0 c).arrAt 5 (cfgM m (okm m)).N : S2x2x512x768.Idx → EReal) ((((cfgM m (okm m)).win 5).blk t).view.emb y) = ((dats m (okm m) 0 c).after 5 t : S1x1x512x768.Idx → EReal) y :=
  (dats m (okm m) 0 c).arrAt_emb_eq_flushed 5 (disjoint5 m) t (flush0_5 _ t) y

/-- Where an index of the array of output the gradient sits in its block. -/
theorem emb5 (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((((cfgM m (okm m)).win 5).blk t).view.emb (ix4 0 0 p q : S1x1x512x768.Idx) : S2x2x512x768.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 768 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((dats m (okm m) 0 c).arrAt 5 (cfgM m (okm m)).N : S2x2x512x768.Idx → EReal) (ix4 l b r q) = grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val) := by
  refine (congrArg ((dats m (okm m) 0 c).arrAt 5 (cfgM m (okm m)).N : S2x2x512x768.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 2) (b : Fin 2) (r : Fin 512) (q : Fin 768) :
    ((dats m (okm m) 0 c).arrAt 5 (cfgM m (okm m)).N : S2x2x512x768.Idx → EReal) (ix4 l b r q) = grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile5 m c ⟨l.val * 2 + b.val * 1 + r.val / 512, ht⟩ (⟨r.val % 512, by omega⟩ : Fin 512) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x512x768.Idx) :
    ((dats m (okm m) 0 c).arrAt 6 (cfgM m (okm m)).N : S2x2x512x768.Idx → EReal) ((((cfgM m (okm m)).win 6).blk t).view.emb y) = ((dats m (okm m) 0 c).after 6 t : S1x1x512x768.Idx → EReal) y :=
  (dats m (okm m) 0 c).arrAt_emb_eq_flushed 6 (disjoint6 m) t (flush0_6 _ t) y

/-- Where an index of the array of output the step sits in its block. -/
theorem emb6 (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((((cfgM m (okm m)).win 6).blk t).view.emb (ix4 0 0 p q : S1x1x512x768.Idx) : S2x2x512x768.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 768 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((dats m (okm m) 0 c).arrAt 6 (cfgM m (okm m)).N : S2x2x512x768.Idx → EReal) (ix4 l b r q) = delta (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg1)) l.val (b.val * 512 + r.val) q.val) (at3 (A := 2) (B := 1024) (C := 768) (m ((c.tc : Thread nD τ).loc main_arg4)) l.val (b.val * 512 + r.val) q.val) (at3 (A := 2) (B := 1024) (C := 768) (m ((c.tc : Thread nD τ).loc main_arg5)) l.val (b.val * 512 + r.val) q.val) := by
  refine (congrArg ((dats m (okm m) 0 c).arrAt 6 (cfgM m (okm m)).N : S2x2x512x768.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 2) (b : Fin 2) (r : Fin 512) (q : Fin 768) :
    ((dats m (okm m) 0 c).arrAt 6 (cfgM m (okm m)).N : S2x2x512x768.Idx → EReal) (ix4 l b r q) = delta (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg1)) l.val (b.val * 512 + r.val) q.val) (at3 (A := 2) (B := 1024) (C := 768) (m ((c.tc : Thread nD τ).loc main_arg4)) l.val (b.val * 512 + r.val) q.val) (at3 (A := 2) (B := 1024) (C := 768) (m ((c.tc : Thread nD τ).loc main_arg5)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile6 m c ⟨l.val * 2 + b.val * 1 + r.val / 512, ht⟩ (⟨r.val % 512, by omega⟩ : Fin 512) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x512x768.Idx) :
    ((dats m (okm m) 0 c).arrAt 7 (cfgM m (okm m)).N : S2x2x512x768.Idx → EReal) ((((cfgM m (okm m)).win 7).blk t).view.emb y) = ((dats m (okm m) 0 c).after 7 t : S1x1x512x768.Idx → EReal) y :=
  (dats m (okm m) 0 c).arrAt_emb_eq_flushed 7 (disjoint7 m) t (flush0_7 _ t) y

/-- Where an index of the array of output the first moment sits in its block. -/
theorem emb7 (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((((cfgM m (okm m)).win 7).blk t).view.emb (ix4 0 0 p q : S1x1x512x768.Idx) : S2x2x512x768.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 768 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((dats m (okm m) 0 c).arrAt 7 (cfgM m (okm m)).N : S2x2x512x768.Idx → EReal) (ix4 l b r q) = mom1 (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg4)) l.val (b.val * 512 + r.val) q.val) := by
  refine (congrArg ((dats m (okm m) 0 c).arrAt 7 (cfgM m (okm m)).N : S2x2x512x768.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 2) (b : Fin 2) (r : Fin 512) (q : Fin 768) :
    ((dats m (okm m) 0 c).arrAt 7 (cfgM m (okm m)).N : S2x2x512x768.Idx → EReal) (ix4 l b r q) = mom1 (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg4)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile7 m c ⟨l.val * 2 + b.val * 1 + r.val / 512, ht⟩ (⟨r.val % 512, by omega⟩ : Fin 512) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x512x768.Idx) :
    ((dats m (okm m) 0 c).arrAt 8 (cfgM m (okm m)).N : S2x2x512x768.Idx → EReal) ((((cfgM m (okm m)).win 8).blk t).view.emb y) = ((dats m (okm m) 0 c).after 8 t : S1x1x512x768.Idx → EReal) y :=
  (dats m (okm m) 0 c).arrAt_emb_eq_flushed 8 (disjoint8 m) t (flush0_8 _ t) y

/-- Where an index of the array of output the second moment sits in its block. -/
theorem emb8 (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((((cfgM m (okm m)).win 8).blk t).view.emb (ix4 0 0 p q : S1x1x512x768.Idx) : S2x2x512x768.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 768 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 512) (q : Fin 768) (l : Fin 2) (b : Fin 2) (r : Fin 512) (h0 : t.val / 2 = l.val) (h1 : t.val / 1 % 2 = b.val) (h2 : t.val % 1 * 512 + p.val = r.val) :
    ((dats m (okm m) 0 c).arrAt 8 (cfgM m (okm m)).N : S2x2x512x768.Idx → EReal) (ix4 l b r q) = mom2 (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg5)) l.val (b.val * 512 + r.val) q.val) := by
  refine (congrArg ((dats m (okm m) 0 c).arrAt 8 (cfgM m (okm m)).N : S2x2x512x768.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 2) (b : Fin 2) (r : Fin 512) (q : Fin 768) :
    ((dats m (okm m) 0 c).arrAt 8 (cfgM m (okm m)).N : S2x2x512x768.Idx → EReal) (ix4 l b r q) = mom2 (grad (coreOf m) b.val (at3 (A := 2) (B := 512) (C := 768) (m ((c.tc : Thread nD τ).loc main_arg2)) l.val r.val q.val) (at3 (A := 2) (B := 512) (C := 768) (m ((c.tc : Thread nD τ).loc main_arg3)) l.val r.val q.val)) (at3 (A := 2) (B := 1024) (C := 768) (m ((c.tc : Thread nD τ).loc main_arg5)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile8 m c ⟨l.val * 2 + b.val * 1 + r.val / 512, ht⟩ (⟨r.val % 512, by omega⟩ : Fin 512) q l b r e0 e1 e2

/-- The gradient, as an array. -/
def gOf (core : BitVec 32) (g1 g2 : Vec Ideal S2x512x768 .f32) : Vec Ideal S2x1024x768 .f32 := fun i =>
  gradAt core g1 g2 (i 0).val (i 1).val (i 2).val

/-- The step, as an array. -/
def dOf (core : BitVec 32) (w : Vec Ideal S2x1024x768 .f32) (g1 g2 : Vec Ideal S2x512x768 .f32) (x y : Vec Ideal S2x1024x768 .f32) : Vec Ideal S2x1024x768 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S2x512x768 .f32) (x : Vec Ideal S2x1024x768 .f32) : Vec Ideal S2x1024x768 .f32 := fun i =>
  mom1 (gradAt core g1 g2 (i 0).val (i 1).val (i 2).val) (at3 x (i 0).val (i 1).val (i 2).val)

/-- The second moment, as an array. -/
def vOf (core : BitVec 32) (g1 g2 : Vec Ideal S2x512x768 .f32) (y : Vec Ideal S2x1024x768 .f32) : Vec Ideal S2x1024x768 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S2x1024x768.Idx → EReal)
    = shapeCast S2x1024x768 (W (Proc.tc.devRef main_v3_0) : S2x2x512x768.Idx → EReal) shapeCasts_S2x2x512x768_S2x1024x768 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S2x1024x768.Idx → EReal)
      = shapeCast S2x1024x768 ((dats m (okm m) 0 c).arrAt 5 (cfgM m (okm m)).N : S2x2x512x768.Idx → EReal) shapeCasts_S2x2x512x768_S2x1024x768 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S2x2x512x768.Idx → EReal => shapeCast S2x1024x768 a shapeCasts_S2x2x512x768_S2x1024x768) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 2 := (i 0).isLt
  have h1 : (i 1).val < 1024 := (i 1).isLt
  have h2 : (i 2).val < 768 := (i 2).isLt
  refine (congrArg (shapeCast S2x1024x768 ((dats m (okm m) 0 c).arrAt 5 (cfgM m (okm m)).N : S2x2x512x768.Idx → EReal) shapeCasts_S2x2x512x768_S2x1024x768) (eq_ix3 i)).trans ?_
  refine (joined_apply (L := 2) (R := 1024) (H := 512) (C := 768) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final5 m c _ _ _ _).trans ?_
  have eh : (i 1).val / 512 * 512 + (i 1).val % 512 = (i 1).val := by omega
  dsimp only
  rfl

/-- The line after the body joins the halves of output the step. -/
theorem joined_6 (W : Valuation τ sig (Elt Ideal)) : (StableHlo.after hostOps1 W (Proc.tc.devRef main_v5) : S2x1024x768.Idx → EReal)
    = shapeCast S2x1024x768 (W (Proc.tc.devRef main_v3_1) : S2x2x512x768.Idx → EReal) shapeCasts_S2x2x512x768_S2x1024x768 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S2x1024x768.Idx → EReal)
      = shapeCast S2x1024x768 ((dats m (okm m) 0 c).arrAt 6 (cfgM m (okm m)).N : S2x2x512x768.Idx → EReal) shapeCasts_S2x2x512x768_S2x1024x768 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S2x2x512x768.Idx → EReal => shapeCast S2x1024x768 a shapeCasts_S2x2x512x768_S2x1024x768) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 2 := (i 0).isLt
  have h1 : (i 1).val < 1024 := (i 1).isLt
  have h2 : (i 2).val < 768 := (i 2).isLt
  refine (congrArg (shapeCast S2x1024x768 ((dats m (okm m) 0 c).arrAt 6 (cfgM m (okm m)).N : S2x2x512x768.Idx → EReal) shapeCasts_S2x2x512x768_S2x1024x768) (eq_ix3 i)).trans ?_
  refine (joined_apply (L := 2) (R := 1024) (H := 512) (C := 768) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final6 m c _ _ _ _).trans ?_
  have eh : (i 1).val / 512 * 512 + (i 1).val % 512 = (i 1).val := by omega
  dsimp only
  rw [eh]
  rfl

/-- The line after the body joins the halves of output the first moment. -/
theorem joined_7 (W : Valuation τ sig (Elt Ideal)) : (StableHlo.after hostOps1 W (Proc.tc.devRef main_v6) : S2x1024x768.Idx → EReal)
    = shapeCast S2x1024x768 (W (Proc.tc.devRef main_v3_2) : S2x2x512x768.Idx → EReal) shapeCasts_S2x2x512x768_S2x1024x768 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S2x1024x768.Idx → EReal)
      = shapeCast S2x1024x768 ((dats m (okm m) 0 c).arrAt 7 (cfgM m (okm m)).N : S2x2x512x768.Idx → EReal) shapeCasts_S2x2x512x768_S2x1024x768 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S2x2x512x768.Idx → EReal => shapeCast S2x1024x768 a shapeCasts_S2x2x512x768_S2x1024x768) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 2 := (i 0).isLt
  have h1 : (i 1).val < 1024 := (i 1).isLt
  have h2 : (i 2).val < 768 := (i 2).isLt
  refine (congrArg (shapeCast S2x1024x768 ((dats m (okm m) 0 c).arrAt 7 (cfgM m (okm m)).N : S2x2x512x768.Idx → EReal) shapeCasts_S2x2x512x768_S2x1024x768) (eq_ix3 i)).trans ?_
  refine (joined_apply (L := 2) (R := 1024) (H := 512) (C := 768) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final7 m c _ _ _ _).trans ?_
  have eh : (i 1).val / 512 * 512 + (i 1).val % 512 = (i 1).val := by omega
  dsimp only
  rw [eh]
  rfl

/-- The line after the body joins the halves of output the second moment. -/
theorem joined_8 (W : Valuation τ sig (Elt Ideal)) : (StableHlo.after hostOps1 W (Proc.tc.devRef main_v7) : S2x1024x768.Idx → EReal)
    = shapeCast S2x1024x768 (W (Proc.tc.devRef main_v3_3) : S2x2x512x768.Idx → EReal) shapeCasts_S2x2x512x768_S2x1024x768 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S2x1024x768.Idx → EReal)
      = shapeCast S2x1024x768 ((dats m (okm m) 0 c).arrAt 8 (cfgM m (okm m)).N : S2x2x512x768.Idx → EReal) shapeCasts_S2x2x512x768_S2x1024x768 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S2x2x512x768.Idx → EReal => shapeCast S2x1024x768 a shapeCasts_S2x2x512x768_S2x1024x768) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 2 := (i 0).isLt
  have h1 : (i 1).val < 1024 := (i 1).isLt
  have h2 : (i 2).val < 768 := (i 2).isLt
  refine (congrArg (shapeCast S2x1024x768 ((dats m (okm m) 0 c).arrAt 8 (cfgM m (okm m)).N : S2x2x512x768.Idx → EReal) shapeCasts_S2x2x512x768_S2x1024x768) (eq_ix3 i)).trans ?_
  refine (joined_apply (L := 2) (R := 1024) (H := 512) (C := 768) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final8 m c _ _ _ _).trans ?_
  have eh : (i 1).val / 512 * 512 + (i 1).val % 512 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdScInIdeal.Value

end
-- ==== Proof.UpdScInRef.lean ====
/- The short convolution's input weight: the reference's step, and the two runs together. -/
module

public import proofs.«01_k».proof.Proof.UpdScInRun
public import proofs.«01_k».proof.Proof.Gen.UpdScInRefIdeal.Run
public import proofs.«01_k».proof.Proof.Gen.UpdScInRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdScInRefIdeal.Value

open Cert.UpdScInRefIdeal Cert.UpdScInRefIdeal.Gen Cert.UpdScInRefIdeal.Read AdamStep
open Cert.UpdScInIdeal.Value (gOf dOf mOf vOf)

variable (x0 : Vec Ideal S1 .i32) (x1 : Vec Ideal S2x1024x768 .f32) (x2 x3 : Vec Ideal S2x512x768 .f32) (x4 x5 : Vec Ideal S2x1024x768 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S2x512x768.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S2x512x768 (val_main_v1 (F := Ideal) x0) j (fun a => a.elim0) (fun a => a.elim0)]
  rfl

/-- The lower half of the rows. -/
theorem lower_at (j : S2x512x768.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S2x512x768 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 2 := (i 0).isLt
  have h1 : (i 1).val < 1024 := (i 1).isLt
  have h2 : (i 2).val < 768 := (i 2).isLt
  unfold val_main_v6
  by_cases hc : (i 1).val < 512
  · refine (concatenate_pair_apply_left (1 : Fin 3) (val_main_v2 (F := Ideal) x0 x2 x3) (val_main_v5 (F := Ideal) x0 x2 x3) concatenates_S2x512x768_S2x512x768_S2x1024x768_d1 i rfl
      (ix3 (Fin.ofNat 2 (i 0).val) (Fin.ofNat 512 ((i 1).val % 512)) (Fin.ofNat 768 (i 2).val)) (fun b => ?_)).trans ?_
    · match b with
      | ⟨0, _⟩ => show (i 0).val % 2 = (i 0).val; exact Nat.mod_eq_of_lt h0
      | ⟨1, _⟩ => show (i 1).val % 512 % 512 = (i 1).val; rewrite [Nat.mod_mod]; exact Nat.mod_eq_of_lt hc
      | ⟨2, _⟩ => show (i 2).val % 768 = (i 2).val; exact Nat.mod_eq_of_lt h2
    · refine (upper_at x0 x2 x3 _).trans ?_
      unfold gOf gradAt
      rw [show (i 1).val / 512 = 0 from Nat.div_eq_of_lt hc]
      rfl
  · refine (concatenate_pair_apply_right (1 : Fin 3) (val_main_v2 (F := Ideal) x0 x2 x3) (val_main_v5 (F := Ideal) x0 x2 x3) concatenates_S2x512x768_S2x512x768_S2x1024x768_d1 i rfl rfl
      (ix3 (Fin.ofNat 2 (i 0).val) (Fin.ofNat 512 ((i 1).val % 512)) (Fin.ofNat 768 (i 2).val)) (fun b hb => ?_) ?_).trans ?_
    · match b with
      | ⟨0, _⟩ => show (i 0).val % 2 = (i 0).val; exact Nat.mod_eq_of_lt h0
      | ⟨1, _⟩ => exact absurd rfl hb
      | ⟨2, _⟩ => show (i 2).val % 768 = (i 2).val; exact Nat.mod_eq_of_lt h2
    · show (i 1).val % 512 % 512 + 512 = (i 1).val; omega
    · refine (lower_at x0 x2 x3 _).trans ?_
      unfold gOf gradAt
      rw [show (i 1).val / 512 = 1 by omega]
      rfl

/-- A weight at its own index. -/
theorem at_self (x : Vec Ideal S2x1024x768 .f32) (i : S2x1024x768.Idx) : x i = at3 (A := 2) (B := 1024) (C := 768) x (i 0).val (i 1).val (i 2).val := by
  have h0 : (i 0).val < 2 := (i 0).isLt
  have h1 : (i 1).val < 1024 := (i 1).isLt
  have h2 : (i 2).val < 768 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S2x1024x768.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S2x1024x768.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S2x1024x768.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdScInRefIdeal := fun m ρ _ =>
  (θ_run _ _ _).mono (fun _ h => ⟨fun c => (h c).2.2.2.2, funext fun g => nomatch g.2⟩) (run_value m ρ)

end Cert.UpdScInRefIdeal.Value

open Cert.UpdScInIdeal.Value (gOf dOf mOf vOf coreOf) in
/-- The kernel's values and the reference's, over the ideal reals. -/
theorem UpdScIn_value : Cert.algebraic_UpdScInIdeal_UpdScInRefIdeal :=
  fun m g m' g' _ h => ⟨fun c => gOf (coreOf m) (m ((c.tc : Thread Cert.UpdScInIdeal.nD Cert.UpdScInIdeal.τ).loc Cert.UpdScInIdeal.main_arg2)) (m ((c.tc : Thread Cert.UpdScInIdeal.nD Cert.UpdScInIdeal.τ).loc Cert.UpdScInIdeal.main_arg3)),
    fun c => dOf (coreOf m) (m ((c.tc : Thread Cert.UpdScInIdeal.nD Cert.UpdScInIdeal.τ).loc Cert.UpdScInIdeal.main_arg1)) (m ((c.tc : Thread Cert.UpdScInIdeal.nD Cert.UpdScInIdeal.τ).loc Cert.UpdScInIdeal.main_arg2)) (m ((c.tc : Thread Cert.UpdScInIdeal.nD Cert.UpdScInIdeal.τ).loc Cert.UpdScInIdeal.main_arg3)) (m ((c.tc : Thread Cert.UpdScInIdeal.nD Cert.UpdScInIdeal.τ).loc Cert.UpdScInIdeal.main_arg4)) (m ((c.tc : Thread Cert.UpdScInIdeal.nD Cert.UpdScInIdeal.τ).loc Cert.UpdScInIdeal.main_arg5)),
    fun c => mOf (coreOf m) (m ((c.tc : Thread Cert.UpdScInIdeal.nD Cert.UpdScInIdeal.τ).loc Cert.UpdScInIdeal.main_arg2)) (m ((c.tc : Thread Cert.UpdScInIdeal.nD Cert.UpdScInIdeal.τ).loc Cert.UpdScInIdeal.main_arg3)) (m ((c.tc : Thread Cert.UpdScInIdeal.nD Cert.UpdScInIdeal.τ).loc Cert.UpdScInIdeal.main_arg4)),
    fun c => vOf (coreOf m) (m ((c.tc : Thread Cert.UpdScInIdeal.nD Cert.UpdScInIdeal.τ).loc Cert.UpdScInIdeal.main_arg2)) (m ((c.tc : Thread Cert.UpdScInIdeal.nD Cert.UpdScInIdeal.τ).loc Cert.UpdScInIdeal.main_arg3)) (m ((c.tc : Thread Cert.UpdScInIdeal.nD Cert.UpdScInIdeal.τ).loc Cert.UpdScInIdeal.main_arg5)),
    Cert.UpdScInIdeal.Value.run_value m g,
    (θ_run _ _ _).mono (fun r hr c => by
      have hc := hr c
      obtain ⟨a0, a1, a2, a3, a4, a5⟩ := h c
      have e0 : (m' ((c.tc : Thread Cert.UpdScInRefIdeal.nD Cert.UpdScInRefIdeal.τ).loc Cert.UpdScInRefIdeal.main_arg0) : Cert.UpdScInRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdScInRefIdeal.Value.run_value m' g')⟩

end
-- ==== Proof.UpdScOutRun.lean ====
/- The short convolution's output weight: the kernel's gradient, step and moments, at every weight. -/
module

public import proofs.«01_k».proof.Proof.AdamStep
public import proofs.«01_k».proof.Proof.Gen.UpdScOutIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdScOutIdeal.Value

open Cert.UpdScOutIdeal Cert.UpdScOutIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x128x1024 .f32) (w mm vv : Vec Ideal S1x1x128x1024 .f32) (p : Fin 128) (q : Fin 1024)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 128) (B := 1024) (e := .f32) g1 _ p q
  · exact dropUnit_apply (A := 128) (B := 1024) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 128) (B := 1024) (e := .f32) mm shapeCasts_S1x1x128x1024_S128x1024 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 128) (B := 1024) (e := .f32) vv shapeCasts_S1x1x128x1024_S128x1024 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 128) (B := 1024) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 128) (B := 1024) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 128) (B := 1024) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 128) (B := 1024) (e := .f32) _ _ p q).trans ?_
  unfold delta
  rw [← pay5_at, ← pay6_at, ← dropUnits_apply (A := 128) (B := 1024) (e := .f32) w shapeCasts_S1x1x128x1024_S128x1024 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128x1024 .f32) (harg9 : arg9.IsWhole) (arg10 : Memref sig .tc .vmem S1x1x128x1024 .f32) (harg10 : arg10.IsWhole) (arg11 : Memref sig .tc .vmem S1x1x128x1024 .f32) (harg11 : arg11.IsWhole) (arg12 : Memref sig .tc .vmem S1x1x128x1024 .f32) (harg12 : arg12.IsWhole)
  (x0 : Vec Ideal S1x1x128x1024 .f32) (x1 : Vec Ideal S1x128x1024 .f32) (x2 : Vec Ideal S1x128x1024 .f32) (x3 : Vec Ideal S1x1x128x1024 .f32) (x4 : Vec Ideal S1x1x128x1024 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x128x1024) hz4]
  have hc := core_eq m c
  unfold kernelRun0_A.sl.r at hc
  sl_unfold_run_values
  simp only [readAt_zero (S := S1x128x1024) hz3, readAt_zero (S := S1x1x128x1024) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x128x1024) hz4]
  have hc := core_eq m c
  unfold kernelRun0_A.sl.r at hc
  sl_unfold_run_values
  simp only [readAt_zero (S := S1x128x1024) hz3, readAt_zero (S := S1x1x128x1024) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x128x1024) hz4]
  have hc := core_eq m c
  unfold kernelRun0_A.sl.r at hc
  sl_unfold_run_values
  simp only [readAt_zero (S := S1x128x1024) hz3, readAt_zero (S := S1x1x128x1024) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x128x1024) hz4]
  have hc := core_eq m c
  unfold kernelRun0_A.sl.r at hc
  sl_unfold_run_values
  simp only [readAt_zero (S := S1x128x1024) hz3, readAt_zero (S := S1x1x128x1024) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 4 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 128) (q : Fin 1024) :
    iblk m (okm m) c 1 t (ix3 0 p q) = at3 (A := 2) (B := 128) (C := 1024) (m ((c.tc : Thread nD τ).loc main_arg2)) (t.val / 2) (t.val % 1 * 128 + p.val) q.val := by
  have ht := ltN t; have hp := p.isLt; have hq := q.isLt
  unfold iblk
  refine (View.read_apply _ _).trans ?_
  show (V m c main_arg2 : S2x128x1024.Idx → EReal) _ = (m ((c.tc : Thread nD τ).loc main_arg2) : S2x128x1024.Idx → EReal) _
  rw [V_main_arg2]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 128 + 1 * p.val = (t.val % 1 * 128 + p.val) % 128; rw [(ixG t).2.1]; omega
  | ⟨2, _⟩ => show cc0_transform_1 (grid0.coords t) 2 * 1024 + 1 * q.val = q.val % 1024; rw [(ixG t).2.2]; omega

/-- The sibling's half of the summed gradient, a tile of it. -/
theorem blk2 (c : Dev nD) (t : Fin grid0.N) (p : Fin 128) (q : Fin 1024) :
    iblk m (okm m) c 2 t (ix3 0 p q) = at3 (A := 2) (B := 128) (C := 1024) (m ((c.tc : Thread nD τ).loc main_arg3)) (t.val / 2) (t.val % 1 * 128 + p.val) q.val := by
  have ht := ltN t; have hp := p.isLt; have hq := q.isLt
  unfold iblk
  refine (View.read_apply _ _).trans ?_
  show (V m c main_arg3 : S2x128x1024.Idx → EReal) _ = (m ((c.tc : Thread nD τ).loc main_arg3) : S2x128x1024.Idx → EReal) _
  rw [V_main_arg3]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 128 + 1 * p.val = (t.val % 1 * 128 + p.val) % 128; rw [(ixG t).2.1]; omega
  | ⟨2, _⟩ => show cc0_transform_1 (grid0.coords t) 2 * 1024 + 1 * q.val = q.val % 1024; rw [(ixG t).2.2]; omega

/-- The weight, a tile of it. -/
theorem blk0 (c : Dev nD) (t : Fin grid0.N) (p : Fin 128) (q : Fin 1024) :
    iblk m (okm m) c 0 t (ix4 0 0 p q) = at3 (A := 2) (B := 256) (C := 1024) (m ((c.tc : Thread nD τ).loc main_arg1)) (t.val / 2) (t.val / 1 % 2 * 128 + (t.val % 1 * 128 + p.val)) q.val := by
  have ht := ltN t; have hp := p.isLt; have hq := q.isLt
  have e : (StableHlo.after hostOps0 (fun b => m (c, b)) (Proc.tc.devRef main_v0) : S2x2x128x1024.Idx → EReal)
      = shapeCast S2x2x128x1024 (m ((c.tc : Thread nD τ).loc main_arg1) : S2x256x1024.Idx → EReal) shapeCasts_S2x256x1024_S2x2x128x1024 := by
    after_results
    rfl
  have hi : ((((cfgM m (okm m)).win 0).blk t).view.emb (ix4 0 0 p q) : S2x2x128x1024.Idx) = ix4 (⟨t.val / 2, by omega⟩ : Fin 2) (⟨t.val / 1 % 2, by omega⟩ : Fin 2) (⟨t.val % 1 * 128 + p.val, by omega⟩ : Fin 128) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 128 + 1 * p.val = t.val % 1 * 128 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v0) : S2x2x128x1024.Idx → EReal) ((((cfgM m (okm m)).win 0).blk t).view.emb (ix4 0 0 p q)) from rfl).trans ?_
  refine (congrArg (StableHlo.after hostOps0 (fun b => m (c, b)) (Proc.tc.devRef main_v0) : S2x2x128x1024.Idx → EReal) hi).trans ?_
  refine (congrFun e _).trans ?_
  refine (halves_apply (L := 2) (R := 256) (H := 128) (C := 1024) (e := .f32) (m ((c.tc : Thread nD τ).loc main_arg1) : S2x256x1024.Idx → EReal) (by norm_num) _ _ _ _ _ (⟨t.val / 1 % 2 * 128 + (t.val % 1 * 128 + p.val), by omega⟩ : Fin 256) (by rfl)).trans ?_
  unfold AdamStep.at3
  congr 1; funext b; apply Fin.ext
  match b with
  | ⟨0, _⟩ => show t.val / 2 = (t.val / 2) % 2; omega
  | ⟨1, _⟩ => show t.val / 1 % 2 * 128 + (t.val % 1 * 128 + p.val) = (t.val / 1 % 2 * 128 + (t.val % 1 * 128 + p.val)) % 256; omega
  | ⟨2, _⟩ => show q.val = q.val % 1024; omega

/-- The first moment, a tile of it. -/
theorem blk3 (c : Dev nD) (t : Fin grid0.N) (p : Fin 128) (q : Fin 1024) :
    iblk m (okm m) c 3 t (ix4 0 0 p q) = at3 (A := 2) (B := 256) (C := 1024) (m ((c.tc : Thread nD τ).loc main_arg4)) (t.val / 2) (t.val / 1 % 2 * 128 + (t.val % 1 * 128 + p.val)) q.val := by
  have ht := ltN t; have hp := p.isLt; have hq := q.isLt
  have e : (StableHlo.after hostOps0 (fun b => m (c, b)) (Proc.tc.devRef main_v1) : S2x2x128x1024.Idx → EReal)
      = shapeCast S2x2x128x1024 (m ((c.tc : Thread nD τ).loc main_arg4) : S2x256x1024.Idx → EReal) shapeCasts_S2x256x1024_S2x2x128x1024 := by
    after_results
    rfl
  have hi : ((((cfgM m (okm m)).win 3).blk t).view.emb (ix4 0 0 p q) : S2x2x128x1024.Idx) = ix4 (⟨t.val / 2, by omega⟩ : Fin 2) (⟨t.val / 1 % 2, by omega⟩ : Fin 2) (⟨t.val % 1 * 128 + p.val, by omega⟩ : Fin 128) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 128 + 1 * p.val = t.val % 1 * 128 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v1) : S2x2x128x1024.Idx → EReal) ((((cfgM m (okm m)).win 3).blk t).view.emb (ix4 0 0 p q)) from rfl).trans ?_
  refine (congrArg (StableHlo.after hostOps0 (fun b => m (c, b)) (Proc.tc.devRef main_v1) : S2x2x128x1024.Idx → EReal) hi).trans ?_
  refine (congrFun e _).trans ?_
  refine (halves_apply (L := 2) (R := 256) (H := 128) (C := 1024) (e := .f32) (m ((c.tc : Thread nD τ).loc main_arg4) : S2x256x1024.Idx → EReal) (by norm_num) _ _ _ _ _ (⟨t.val / 1 % 2 * 128 + (t.val % 1 * 128 + p.val), by omega⟩ : Fin 256) (by rfl)).trans ?_
  unfold AdamStep.at3
  congr 1; funext b; apply Fin.ext
  match b with
  | ⟨0, _⟩ => show t.val / 2 = (t.val / 2) % 2; omega
  | ⟨1, _⟩ => show t.val / 1 % 2 * 128 + (t.val % 1 * 128 + p.val) = (t.val / 1 % 2 * 128 + (t.val % 1 * 128 + p.val)) % 256; omega
  | ⟨2, _⟩ => show q.val = q.val % 1024; omega

/-- The second moment, a tile of it. -/
theorem blk4 (c : Dev nD) (t : Fin grid0.N) (p : Fin 128) (q : Fin 1024) :
    iblk m (okm m) c 4 t (ix4 0 0 p q) = at3 (A := 2) (B := 256) (C := 1024) (m ((c.tc : Thread nD τ).loc main_arg5)) (t.val / 2) (t.val / 1 % 2 * 128 + (t.val % 1 * 128 + p.val)) q.val := by
  have ht := ltN t; have hp := p.isLt; have hq := q.isLt
  have e : (StableHlo.after hostOps0 (fun b => m (c, b)) (Proc.tc.devRef main_v2) : S2x2x128x1024.Idx → EReal)
      = shapeCast S2x2x128x1024 (m ((c.tc : Thread nD τ).loc main_arg5) : S2x256x1024.Idx → EReal) shapeCasts_S2x256x1024_S2x2x128x1024 := by
    after_results
    rfl
  have hi : ((((cfgM m (okm m)).win 4).blk t).view.emb (ix4 0 0 p q) : S2x2x128x1024.Idx) = ix4 (⟨t.val / 2, by omega⟩ : Fin 2) (⟨t.val / 1 % 2, by omega⟩ : Fin 2) (⟨t.val % 1 * 128 + p.val, by omega⟩ : Fin 128) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 128 + 1 * p.val = t.val % 1 * 128 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v2) : S2x2x128x1024.Idx → EReal) ((((cfgM m (okm m)).win 4).blk t).view.emb (ix4 0 0 p q)) from rfl).trans ?_
  refine (congrArg (StableHlo.after hostOps0 (fun b => m (c, b)) (Proc.tc.devRef main_v2) : S2x2x128x1024.Idx → EReal) hi).trans ?_
  refine (congrFun e _).trans ?_
  refine (halves_apply (L := 2) (R := 256) (H := 128) (C := 1024) (e := .f32) (m ((c.tc : Thread nD τ).loc main_arg5) : S2x256x1024.Idx → EReal) (by norm_num) _ _ _ _ _ (⟨t.val / 1 % 2 * 128 + (t.val % 1 * 128 + p.val), by omega⟩ : Fin 256) (by rfl)).trans ?_
  unfold AdamStep.at3
  congr 1; funext b; apply Fin.ext
  match b with
  | ⟨0, _⟩ => show t.val / 2 = (t.val / 2) % 2; omega
  | ⟨1, _⟩ => show t.val / 1 % 2 * 128 + (t.val % 1 * 128 + p.val) = (t.val / 1 % 2 * 128 + (t.val % 1 * 128 + p.val)) % 256; omega
  | ⟨2, _⟩ => show q.val = q.val % 1024; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x128x1024.Idx) :
    ((dats m (okm m) 0 c).arrAt 5 (cfgM m (okm m)).N : S2x2x128x1024.Idx → EReal) ((((cfgM m (okm m)).win 5).blk t).view.emb y) = ((dats m (okm m) 0 c).after 5 t : S1x1x128x1024.Idx → EReal) y :=
  (dats m (okm m) 0 c).arrAt_emb_eq_flushed 5 (disjoint5 m) t (flush0_5 _ t) y

/-- Where an index of the array of output the gradient sits in its block. -/
theorem emb5 (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((((cfgM m (okm m)).win 5).blk t).view.emb (ix4 0 0 p q : S1x1x128x1024.Idx) : S2x2x128x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 128 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((dats m (okm m) 0 c).arrAt 5 (cfgM m (okm m)).N : S2x2x128x1024.Idx → EReal) (ix4 l b r q) = grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val) := by
  refine (congrArg ((dats m (okm m) 0 c).arrAt 5 (cfgM m (okm m)).N : S2x2x128x1024.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 2) (b : Fin 2) (r : Fin 128) (q : Fin 1024) :
    ((dats m (okm m) 0 c).arrAt 5 (cfgM m (okm m)).N : S2x2x128x1024.Idx → EReal) (ix4 l b r q) = grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val) := by
  have hl := l.isLt; have hb2 := b.isLt; have hr := r.isLt
  have ht : l.val * 2 + b.val * 1 + r.val / 128 < grid0.N := lt_of_lt_of_eq (by omega) N_0.symm
  have e0 : (l.val * 2 + b.val * 1 + r.val / 128) / 2 = l.val := by omega
  have e1 : (l.val * 2 + b.val * 1 + r.val / 128) / 1 % 2 = b.val := by omega
  have e2 : (l.val * 2 + b.val * 1 + r.val / 128) % 1 * 128 + r.val % 128 = r.val := by omega
  exact tile5 m c ⟨l.val * 2 + b.val * 1 + r.val / 128, ht⟩ (⟨r.val % 128, by omega⟩ : Fin 128) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x128x1024.Idx) :
    ((dats m (okm m) 0 c).arrAt 6 (cfgM m (okm m)).N : S2x2x128x1024.Idx → EReal) ((((cfgM m (okm m)).win 6).blk t).view.emb y) = ((dats m (okm m) 0 c).after 6 t : S1x1x128x1024.Idx → EReal) y :=
  (dats m (okm m) 0 c).arrAt_emb_eq_flushed 6 (disjoint6 m) t (flush0_6 _ t) y

/-- Where an index of the array of output the step sits in its block. -/
theorem emb6 (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((((cfgM m (okm m)).win 6).blk t).view.emb (ix4 0 0 p q : S1x1x128x1024.Idx) : S2x2x128x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 128 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((dats m (okm m) 0 c).arrAt 6 (cfgM m (okm m)).N : S2x2x128x1024.Idx → EReal) (ix4 l b r q) = delta (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg1)) l.val (b.val * 128 + r.val) q.val) (at3 (A := 2) (B := 256) (C := 1024) (m ((c.tc : Thread nD τ).loc main_arg4)) l.val (b.val * 128 + r.val) q.val) (at3 (A := 2) (B := 256) (C := 1024) (m ((c.tc : Thread nD τ).loc main_arg5)) l.val (b.val * 128 + r.val) q.val) := by
  refine (congrArg ((dats m (okm m) 0 c).arrAt 6 (cfgM m (okm m)).N : S2x2x128x1024.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 2) (b : Fin 2) (r : Fin 128) (q : Fin 1024) :
    ((dats m (okm m) 0 c).arrAt 6 (cfgM m (okm m)).N : S2x2x128x1024.Idx → EReal) (ix4 l b r q) = delta (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg1)) l.val (b.val * 128 + r.val) q.val) (at3 (A := 2) (B := 256) (C := 1024) (m ((c.tc : Thread nD τ).loc main_arg4)) l.val (b.val * 128 + r.val) q.val) (at3 (A := 2) (B := 256) (C := 1024) (m ((c.tc : Thread nD τ).loc main_arg5)) l.val (b.val * 128 + r.val) q.val) := by
  have hl := l.isLt; have hb2 := b.isLt; have hr := r.isLt
  have ht : l.val * 2 + b.val * 1 + r.val / 128 < grid0.N := lt_of_lt_of_eq (by omega) N_0.symm
  have e0 : (l.val * 2 + b.val * 1 + r.val / 128) / 2 = l.val := by omega
  have e1 : (l.val * 2 + b.val * 1 + r.val / 128) / 1 % 2 = b.val := by omega
  have e2 : (l.val * 2 + b.val * 1 + r.val / 128) % 1 * 128 + r.val % 128 = r.val := by omega
  exact tile6 m c ⟨l.val * 2 + b.val * 1 + r.val / 128, ht⟩ (⟨r.val % 128, by omega⟩ : Fin 128) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x128x1024.Idx) :
    ((dats m (okm m) 0 c).arrAt 7 (cfgM m (okm m)).N : S2x2x128x1024.Idx → EReal) ((((cfgM m (okm m)).win 7).blk t).view.emb y) = ((dats m (okm m) 0 c).after 7 t : S1x1x128x1024.Idx → EReal) y :=
  (dats m (okm m) 0 c).arrAt_emb_eq_flushed 7 (disjoint7 m) t (flush0_7 _ t) y

/-- Where an index of the array of output the first moment sits in its block. -/
theorem emb7 (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((((cfgM m (okm m)).win 7).blk t).view.emb (ix4 0 0 p q : S1x1x128x1024.Idx) : S2x2x128x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 128 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((dats m (okm m) 0 c).arrAt 7 (cfgM m (okm m)).N : S2x2x128x1024.Idx → EReal) (ix4 l b r q) = mom1 (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg4)) l.val (b.val * 128 + r.val) q.val) := by
  refine (congrArg ((dats m (okm m) 0 c).arrAt 7 (cfgM m (okm m)).N : S2x2x128x1024.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 2) (b : Fin 2) (r : Fin 128) (q : Fin 1024) :
    ((dats m (okm m) 0 c).arrAt 7 (cfgM m (okm m)).N : S2x2x128x1024.Idx → EReal) (ix4 l b r q) = mom1 (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg4)) l.val (b.val * 128 + r.val) q.val) := by
  have hl := l.isLt; have hb2 := b.isLt; have hr := r.isLt
  have ht : l.val * 2 + b.val * 1 + r.val / 128 < grid0.N := lt_of_lt_of_eq (by omega) N_0.symm
  have e0 : (l.val * 2 + b.val * 1 + r.val / 128) / 2 = l.val := by omega
  have e1 : (l.val * 2 + b.val * 1 + r.val / 128) / 1 % 2 = b.val := by omega
  have e2 : (l.val * 2 + b.val * 1 + r.val / 128) % 1 * 128 + r.val % 128 = r.val := by omega
  exact tile7 m c ⟨l.val * 2 + b.val * 1 + r.val / 128, ht⟩ (⟨r.val % 128, by omega⟩ : Fin 128) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x128x1024.Idx) :
    ((dats m (okm m) 0 c).arrAt 8 (cfgM m (okm m)).N : S2x2x128x1024.Idx → EReal) ((((cfgM m (okm m)).win 8).blk t).view.emb y) = ((dats m (okm m) 0 c).after 8 t : S1x1x128x1024.Idx → EReal) y :=
  (dats m (okm m) 0 c).arrAt_emb_eq_flushed 8 (disjoint8 m) t (flush0_8 _ t) y

/-- Where an index of the array of output the second moment sits in its block. -/
theorem emb8 (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((((cfgM m (okm m)).win 8).blk t).view.emb (ix4 0 0 p q : S1x1x128x1024.Idx) : S2x2x128x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 128 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 128) (q : Fin 1024) (l : Fin 2) (b : Fin 2) (r : Fin 128) (h0 : t.val / 2 = l.val) (h1 : t.val / 1 % 2 = b.val) (h2 : t.val % 1 * 128 + p.val = r.val) :
    ((dats m (okm m) 0 c).arrAt 8 (cfgM m (okm m)).N : S2x2x128x1024.Idx → EReal) (ix4 l b r q) = mom2 (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg5)) l.val (b.val * 128 + r.val) q.val) := by
  refine (congrArg ((dats m (okm m) 0 c).arrAt 8 (cfgM m (okm m)).N : S2x2x128x1024.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 2) (b : Fin 2) (r : Fin 128) (q : Fin 1024) :
    ((dats m (okm m) 0 c).arrAt 8 (cfgM m (okm m)).N : S2x2x128x1024.Idx → EReal) (ix4 l b r q) = mom2 (grad (coreOf m) b.val (at3 (A := 2) (B := 128) (C := 1024) (m ((c.tc : Thread nD τ).loc main_arg2)) l.val r.val q.val) (at3 (A := 2) (B := 128) (C := 1024) (m ((c.tc : Thread nD τ).loc main_arg3)) l.val r.val q.val)) (at3 (A := 2) (B := 256) (C := 1024) (m ((c.tc : Thread nD τ).loc main_arg5)) l.val (b.val * 128 + r.val) q.val) := by
  have hl := l.isLt; have hb2 := b.isLt; have hr := r.isLt
  have ht : l.val * 2 + b.val * 1 + r.val / 128 < grid0.N := lt_of_lt_of_eq (by omega) N_0.symm
  have e0 : (l.val * 2 + b.val * 1 + r.val / 128) / 2 = l.val := by omega
  have e1 : (l.val * 2 + b.val * 1 + r.val / 128) / 1 % 2 = b.val := by omega
  have e2 : (l.val * 2 + b.val * 1 + r.val / 128) % 1 * 128 + r.val % 128 = r.val := by omega
  exact tile8 m c ⟨l.val * 2 + b.val * 1 + r.val / 128, ht⟩ (⟨r.val % 128, by omega⟩ : Fin 128) q l b r e0 e1 e2

/-- The gradient, as an array. -/
def gOf (core : BitVec 32) (g1 g2 : Vec Ideal S2x128x1024 .f32) : Vec Ideal S2x256x1024 .f32 := fun i =>
  gradAt core g1 g2 (i 0).val (i 1).val (i 2).val

/-- The step, as an array. -/
def dOf (core : BitVec 32) (w : Vec Ideal S2x256x1024 .f32) (g1 g2 : Vec Ideal S2x128x1024 .f32) (x y : Vec Ideal S2x256x1024 .f32) : Vec Ideal S2x256x1024 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S2x128x1024 .f32) (x : Vec Ideal S2x256x1024 .f32) : Vec Ideal S2x256x1024 .f32 := fun i =>
  mom1 (gradAt core g1 g2 (i 0).val (i 1).val (i 2).val) (at3 x (i 0).val (i 1).val (i 2).val)

/-- The second moment, as an array. -/
def vOf (core : BitVec 32) (g1 g2 : Vec Ideal S2x128x1024 .f32) (y : Vec Ideal S2x256x1024 .f32) : Vec Ideal S2x256x1024 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S2x256x1024.Idx → EReal)
    = shapeCast S2x256x1024 (W (Proc.tc.devRef main_v3_0) : S2x2x128x1024.Idx → EReal) shapeCasts_S2x2x128x1024_S2x256x1024 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S2x256x1024.Idx → EReal)
      = shapeCast S2x256x1024 ((dats m (okm m) 0 c).arrAt 5 (cfgM m (okm m)).N : S2x2x128x1024.Idx → EReal) shapeCasts_S2x2x128x1024_S2x256x1024 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S2x2x128x1024.Idx → EReal => shapeCast S2x256x1024 a shapeCasts_S2x2x128x1024_S2x256x1024) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 2 := (i 0).isLt
  have h1 : (i 1).val < 256 := (i 1).isLt
  have h2 : (i 2).val < 1024 := (i 2).isLt
  refine (congrArg (shapeCast S2x256x1024 ((dats m (okm m) 0 c).arrAt 5 (cfgM m (okm m)).N : S2x2x128x1024.Idx → EReal) shapeCasts_S2x2x128x1024_S2x256x1024) (eq_ix3 i)).trans ?_
  refine (joined_apply (L := 2) (R := 256) (H := 128) (C := 1024) (e := .f32) _ (by norm_num) _ (i 0) (⟨(i 1).val / 128, by omega⟩ : Fin 2) (⟨(i 1).val % 128, by omega⟩ : Fin 128) (i 2) (i 1) (by show (i 1).val = (i 1).val / 128 * 128 + (i 1).val % 128; omega)).trans ?_
  refine (final5 m c _ _ _ _).trans ?_
  have eh : (i 1).val / 128 * 128 + (i 1).val % 128 = (i 1).val := by omega
  dsimp only
  rfl

/-- The line after the body joins the halves of output the step. -/
theorem joined_6 (W : Valuation τ sig (Elt Ideal)) : (StableHlo.after hostOps1 W (Proc.tc.devRef main_v5) : S2x256x1024.Idx → EReal)
    = shapeCast S2x256x1024 (W (Proc.tc.devRef main_v3_1) : S2x2x128x1024.Idx → EReal) shapeCasts_S2x2x128x1024_S2x256x1024 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S2x256x1024.Idx → EReal)
      = shapeCast S2x256x1024 ((dats m (okm m) 0 c).arrAt 6 (cfgM m (okm m)).N : S2x2x128x1024.Idx → EReal) shapeCasts_S2x2x128x1024_S2x256x1024 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S2x2x128x1024.Idx → EReal => shapeCast S2x256x1024 a shapeCasts_S2x2x128x1024_S2x256x1024) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 2 := (i 0).isLt
  have h1 : (i 1).val < 256 := (i 1).isLt
  have h2 : (i 2).val < 1024 := (i 2).isLt
  refine (congrArg (shapeCast S2x256x1024 ((dats m (okm m) 0 c).arrAt 6 (cfgM m (okm m)).N : S2x2x128x1024.Idx → EReal) shapeCasts_S2x2x128x1024_S2x256x1024) (eq_ix3 i)).trans ?_
  refine (joined_apply (L := 2) (R := 256) (H := 128) (C := 1024) (e := .f32) _ (by norm_num) _ (i 0) (⟨(i 1).val / 128, by omega⟩ : Fin 2) (⟨(i 1).val % 128, by omega⟩ : Fin 128) (i 2) (i 1) (by show (i 1).val = (i 1).val / 128 * 128 + (i 1).val % 128; omega)).trans ?_
  refine (final6 m c _ _ _ _).trans ?_
  have eh : (i 1).val / 128 * 128 + (i 1).val % 128 = (i 1).val := by omega
  dsimp only
  rw [eh]
  rfl

/-- The line after the body joins the halves of output the first moment. -/
theorem joined_7 (W : Valuation τ sig (Elt Ideal)) : (StableHlo.after hostOps1 W (Proc.tc.devRef main_v6) : S2x256x1024.Idx → EReal)
    = shapeCast S2x256x1024 (W (Proc.tc.devRef main_v3_2) : S2x2x128x1024.Idx → EReal) shapeCasts_S2x2x128x1024_S2x256x1024 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S2x256x1024.Idx → EReal)
      = shapeCast S2x256x1024 ((dats m (okm m) 0 c).arrAt 7 (cfgM m (okm m)).N : S2x2x128x1024.Idx → EReal) shapeCasts_S2x2x128x1024_S2x256x1024 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S2x2x128x1024.Idx → EReal => shapeCast S2x256x1024 a shapeCasts_S2x2x128x1024_S2x256x1024) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 2 := (i 0).isLt
  have h1 : (i 1).val < 256 := (i 1).isLt
  have h2 : (i 2).val < 1024 := (i 2).isLt
  refine (congrArg (shapeCast S2x256x1024 ((dats m (okm m) 0 c).arrAt 7 (cfgM m (okm m)).N : S2x2x128x1024.Idx → EReal) shapeCasts_S2x2x128x1024_S2x256x1024) (eq_ix3 i)).trans ?_
  refine (joined_apply (L := 2) (R := 256) (H := 128) (C := 1024) (e := .f32) _ (by norm_num) _ (i 0) (⟨(i 1).val / 128, by omega⟩ : Fin 2) (⟨(i 1).val % 128, by omega⟩ : Fin 128) (i 2) (i 1) (by show (i 1).val = (i 1).val / 128 * 128 + (i 1).val % 128; omega)).trans ?_
  refine (final7 m c _ _ _ _).trans ?_
  have eh : (i 1).val / 128 * 128 + (i 1).val % 128 = (i 1).val := by omega
  dsimp only
  rw [eh]
  rfl

/-- The line after the body joins the halves of output the second moment. -/
theorem joined_8 (W : Valuation τ sig (Elt Ideal)) : (StableHlo.after hostOps1 W (Proc.tc.devRef main_v7) : S2x256x1024.Idx → EReal)
    = shapeCast S2x256x1024 (W (Proc.tc.devRef main_v3_3) : S2x2x128x1024.Idx → EReal) shapeCasts_S2x2x128x1024_S2x256x1024 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S2x256x1024.Idx → EReal)
      = shapeCast S2x256x1024 ((dats m (okm m) 0 c).arrAt 8 (cfgM m (okm m)).N : S2x2x128x1024.Idx → EReal) shapeCasts_S2x2x128x1024_S2x256x1024 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S2x2x128x1024.Idx → EReal => shapeCast S2x256x1024 a shapeCasts_S2x2x128x1024_S2x256x1024) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 2 := (i 0).isLt
  have h1 : (i 1).val < 256 := (i 1).isLt
  have h2 : (i 2).val < 1024 := (i 2).isLt
  refine (congrArg (shapeCast S2x256x1024 ((dats m (okm m) 0 c).arrAt 8 (cfgM m (okm m)).N : S2x2x128x1024.Idx → EReal) shapeCasts_S2x2x128x1024_S2x256x1024) (eq_ix3 i)).trans ?_
  refine (joined_apply (L := 2) (R := 256) (H := 128) (C := 1024) (e := .f32) _ (by norm_num) _ (i 0) (⟨(i 1).val / 128, by omega⟩ : Fin 2) (⟨(i 1).val % 128, by omega⟩ : Fin 128) (i 2) (i 1) (by show (i 1).val = (i 1).val / 128 * 128 + (i 1).val % 128; omega)).trans ?_
  refine (final8 m c _ _ _ _).trans ?_
  have eh : (i 1).val / 128 * 128 + (i 1).val % 128 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdScOutIdeal.Value

end
-- ==== Proof.UpdScOutRef.lean ====
/- The short convolution's output weight: the reference's step, and the two runs together. -/
module

public import proofs.«01_k».proof.Proof.UpdScOutRun
public import proofs.«01_k».proof.Proof.Gen.UpdScOutRefIdeal.Run
public import proofs.«01_k».proof.Proof.Gen.UpdScOutRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdScOutRefIdeal.Value

open Cert.UpdScOutRefIdeal Cert.UpdScOutRefIdeal.Gen Cert.UpdScOutRefIdeal.Read AdamStep
open Cert.UpdScOutIdeal.Value (gOf dOf mOf vOf)

variable (x0 : Vec Ideal S1 .i32) (x1 : Vec Ideal S2x256x1024 .f32) (x2 x3 : Vec Ideal S2x128x1024 .f32) (x4 x5 : Vec Ideal S2x256x1024 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S2x128x1024.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S2x128x1024 (val_main_v1 (F := Ideal) x0) j (fun a => a.elim0) (fun a => a.elim0)]
  rfl

/-- The lower half of the rows. -/
theorem lower_at (j : S2x128x1024.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S2x128x1024 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 2 := (i 0).isLt
  have h1 : (i 1).val < 256 := (i 1).isLt
  have h2 : (i 2).val < 1024 := (i 2).isLt
  unfold val_main_v6
  by_cases hc : (i 1).val < 128
  · refine (concatenate_pair_apply_left (1 : Fin 3) (val_main_v2 (F := Ideal) x0 x2 x3) (val_main_v5 (F := Ideal) x0 x2 x3) concatenates_S2x128x1024_S2x128x1024_S2x256x1024_d1 i rfl
      (ix3 (Fin.ofNat 2 (i 0).val) (Fin.ofNat 128 ((i 1).val % 128)) (Fin.ofNat 1024 (i 2).val)) (fun b => ?_)).trans ?_
    · match b with
      | ⟨0, _⟩ => show (i 0).val % 2 = (i 0).val; exact Nat.mod_eq_of_lt h0
      | ⟨1, _⟩ => show (i 1).val % 128 % 128 = (i 1).val; rewrite [Nat.mod_mod]; exact Nat.mod_eq_of_lt hc
      | ⟨2, _⟩ => show (i 2).val % 1024 = (i 2).val; exact Nat.mod_eq_of_lt h2
    · refine (upper_at x0 x2 x3 _).trans ?_
      unfold gOf gradAt
      rw [show (i 1).val / 128 = 0 from Nat.div_eq_of_lt hc]
      rfl
  · refine (concatenate_pair_apply_right (1 : Fin 3) (val_main_v2 (F := Ideal) x0 x2 x3) (val_main_v5 (F := Ideal) x0 x2 x3) concatenates_S2x128x1024_S2x128x1024_S2x256x1024_d1 i rfl rfl
      (ix3 (Fin.ofNat 2 (i 0).val) (Fin.ofNat 128 ((i 1).val % 128)) (Fin.ofNat 1024 (i 2).val)) (fun b hb => ?_) ?_).trans ?_
    · match b with
      | ⟨0, _⟩ => show (i 0).val % 2 = (i 0).val; exact Nat.mod_eq_of_lt h0
      | ⟨1, _⟩ => exact absurd rfl hb
      | ⟨2, _⟩ => show (i 2).val % 1024 = (i 2).val; exact Nat.mod_eq_of_lt h2
    · show (i 1).val % 128 % 128 + 128 = (i 1).val; omega
    · refine (lower_at x0 x2 x3 _).trans ?_
      unfold gOf gradAt
      rw [show (i 1).val / 128 = 1 by omega]
      rfl

/-- A weight at its own index. -/
theorem at_self (x : Vec Ideal S2x256x1024 .f32) (i : S2x256x1024.Idx) : x i = at3 (A := 2) (B := 256) (C := 1024) x (i 0).val (i 1).val (i 2).val := by
  have h0 : (i 0).val < 2 := (i 0).isLt
  have h1 : (i 1).val < 256 := (i 1).isLt
  have h2 : (i 2).val < 1024 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S2x256x1024.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S2x256x1024.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S2x256x1024.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdScOutRefIdeal := fun m ρ _ =>
  (θ_run _ _ _).mono (fun _ h => ⟨fun c => (h c).2.2.2.2, funext fun g => nomatch g.2⟩) (run_value m ρ)

end Cert.UpdScOutRefIdeal.Value

open Cert.UpdScOutIdeal.Value (gOf dOf mOf vOf coreOf) in
/-- The kernel's values and the reference's, over the ideal reals. -/
theorem UpdScOut_value : Cert.algebraic_UpdScOutIdeal_UpdScOutRefIdeal :=
  fun m g m' g' _ h => ⟨fun c => gOf (coreOf m) (m ((c.tc : Thread Cert.UpdScOutIdeal.nD Cert.UpdScOutIdeal.τ).loc Cert.UpdScOutIdeal.main_arg2)) (m ((c.tc : Thread Cert.UpdScOutIdeal.nD Cert.UpdScOutIdeal.τ).loc Cert.UpdScOutIdeal.main_arg3)),
    fun c => dOf (coreOf m) (m ((c.tc : Thread Cert.UpdScOutIdeal.nD Cert.UpdScOutIdeal.τ).loc Cert.UpdScOutIdeal.main_arg1)) (m ((c.tc : Thread Cert.UpdScOutIdeal.nD Cert.UpdScOutIdeal.τ).loc Cert.UpdScOutIdeal.main_arg2)) (m ((c.tc : Thread Cert.UpdScOutIdeal.nD Cert.UpdScOutIdeal.τ).loc Cert.UpdScOutIdeal.main_arg3)) (m ((c.tc : Thread Cert.UpdScOutIdeal.nD Cert.UpdScOutIdeal.τ).loc Cert.UpdScOutIdeal.main_arg4)) (m ((c.tc : Thread Cert.UpdScOutIdeal.nD Cert.UpdScOutIdeal.τ).loc Cert.UpdScOutIdeal.main_arg5)),
    fun c => mOf (coreOf m) (m ((c.tc : Thread Cert.UpdScOutIdeal.nD Cert.UpdScOutIdeal.τ).loc Cert.UpdScOutIdeal.main_arg2)) (m ((c.tc : Thread Cert.UpdScOutIdeal.nD Cert.UpdScOutIdeal.τ).loc Cert.UpdScOutIdeal.main_arg3)) (m ((c.tc : Thread Cert.UpdScOutIdeal.nD Cert.UpdScOutIdeal.τ).loc Cert.UpdScOutIdeal.main_arg4)),
    fun c => vOf (coreOf m) (m ((c.tc : Thread Cert.UpdScOutIdeal.nD Cert.UpdScOutIdeal.τ).loc Cert.UpdScOutIdeal.main_arg2)) (m ((c.tc : Thread Cert.UpdScOutIdeal.nD Cert.UpdScOutIdeal.τ).loc Cert.UpdScOutIdeal.main_arg3)) (m ((c.tc : Thread Cert.UpdScOutIdeal.nD Cert.UpdScOutIdeal.τ).loc Cert.UpdScOutIdeal.main_arg5)),
    Cert.UpdScOutIdeal.Value.run_value m g,
    (θ_run _ _ _).mono (fun r hr c => by
      have hc := hr c
      obtain ⟨a0, a1, a2, a3, a4, a5⟩ := h c
      have e0 : (m' ((c.tc : Thread Cert.UpdScOutRefIdeal.nD Cert.UpdScOutRefIdeal.τ).loc Cert.UpdScOutRefIdeal.main_arg0) : Cert.UpdScOutRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdScOutRefIdeal.Value.run_value m' g')⟩

end
-- ==== Proof.UpdLruInRun.lean ====
/- The recurrent unit's input weight: the kernel's gradient, step and moments, at every weight. -/
module

public import proofs.«01_k».proof.Proof.AdamStep
public import proofs.«01_k».proof.Proof.Gen.UpdLruInIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdLruInIdeal.Value

open Cert.UpdLruInIdeal Cert.UpdLruInIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x512x640 .f32) (w mm vv : Vec Ideal S1x1x512x640 .f32) (p : Fin 512) (q : Fin 640)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 512) (B := 640) (e := .f32) g1 _ p q
  · exact dropUnit_apply (A := 512) (B := 640) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 512) (B := 640) (e := .f32) mm shapeCasts_S1x1x512x640_S512x640 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 512) (B := 640) (e := .f32) vv shapeCasts_S1x1x512x640_S512x640 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 512) (B := 640) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 512) (B := 640) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 512) (B := 640) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 512) (B := 640) (e := .f32) _ _ p q).trans ?_
  unfold delta
  rw [← pay5_at, ← pay6_at, ← dropUnits_apply (A := 512) (B := 640) (e := .f32) w shapeCasts_S1x1x512x640_S512x640 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x512x640 .f32) (harg4 : arg4.IsWhole) (arg5 : Memref sig .tc .vmem S1x512x640 .f32) (harg5 : arg5.IsWhole) (arg6 : Memref sig .tc .vmem S1x512x640 .f32) (harg6 : arg6.IsWhole) (arg7 : Memref sig .tc .vmem S1x1x512x640 .f32) (harg7 : arg7.IsWhole) (arg8 : Memref sig .tc .vmem S1x1x512x640 .f32) (harg8 : arg8.IsWhole) (arg9 : Memref sig .tc .vmem S1x1x512x640 .f32) (harg9 : arg9.IsWhole) (arg10 : Memref sig .tc .vmem S1x1x512x640 .f32) (harg10 : arg10.IsWhole) (arg11 : Memref sig .tc .vmem S1x1x512x640 .f32) (harg11 : arg11.IsWhole) (arg12 : Memref sig .tc .vmem S1x1x512x640 .f32) (harg12 : arg12.IsWhole)
  (x0 : Vec Ideal S1x1x512x640 .f32) (x1 : Vec Ideal S1x512x640 .f32) (x2 : Vec Ideal S1x512x640 .f32) (x3 : Vec Ideal S1x1x512x640 .f32) (x4 : Vec Ideal S1x1x512x640 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x512x640) hz4]
  have hc := core_eq m c
  unfold kernelRun0_A.sl.r at hc
  sl_unfold_run_values
  simp only [readAt_zero (S := S1x512x640) hz3, readAt_zero (S := S1x1x512x640) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x512x640) hz4]
  have hc := core_eq m c
  unfold kernelRun0_A.sl.r at hc
  sl_unfold_run_values
  simp only [readAt_zero (S := S1x512x640) hz3, readAt_zero (S := S1x1x512x640) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x512x640) hz4]
  have hc := core_eq m c
  unfold kernelRun0_A.sl.r at hc
  sl_unfold_run_values
  simp only [readAt_zero (S := S1x512x640) hz3, readAt_zero (S := S1x1x512x640) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x512x640) hz4]
  have hc := core_eq m c
  unfold kernelRun0_A.sl.r at hc
  sl_unfold_run_values
  simp only [readAt_zero (S := S1x512x640) hz3, readAt_zero (S := S1x1x512x640) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 4 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 512) (q : Fin 640) :
    iblk m (okm m) c 1 t (ix3 0 p q) = at3 (A := 2) (B := 512) (C := 640) (m ((c.tc : Thread nD τ).loc main_arg2)) (t.val / 2) (t.val % 1 * 512 + p.val) q.val := by
  have ht := ltN t; have hp := p.isLt; have hq := q.isLt
  unfold iblk
  refine (View.read_apply _ _).trans ?_
  show (V m c main_arg2 : S2x512x640.Idx → EReal) _ = (m ((c.tc : Thread nD τ).loc main_arg2) : S2x512x640.Idx → EReal) _
  rw [V_main_arg2]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 512 + 1 * p.val = (t.val % 1 * 512 + p.val) % 512; rw [(ixG t).2.1]; omega
  | ⟨2, _⟩ => show cc0_transform_1 (grid0.coords t) 2 * 640 + 1 * q.val = q.val % 640; rw [(ixG t).2.2]; omega

/-- The sibling's half of the summed gradient, a tile of it. -/
theorem blk2 (c : Dev nD) (t : Fin grid0.N) (p : Fin 512) (q : Fin 640) :
    iblk m (okm m) c 2 t (ix3 0 p q) = at3 (A := 2) (B := 512) (C := 640) (m ((c.tc : Thread nD τ).loc main_arg3)) (t.val / 2) (t.val % 1 * 512 + p.val) q.val := by
  have ht := ltN t; have hp := p.isLt; have hq := q.isLt
  unfold iblk
  refine (View.read_apply _ _).trans ?_
  show (V m c main_arg3 : S2x512x640.Idx → EReal) _ = (m ((c.tc : Thread nD τ).loc main_arg3) : S2x512x640.Idx → EReal) _
  rw [V_main_arg3]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 512 + 1 * p.val = (t.val % 1 * 512 + p.val) % 512; rw [(ixG t).2.1]; omega
  | ⟨2, _⟩ => show cc0_transform_1 (grid0.coords t) 2 * 640 + 1 * q.val = q.val % 640; rw [(ixG t).2.2]; omega

/-- The weight, a tile of it. -/
theorem blk0 (c : Dev nD) (t : Fin grid0.N) (p : Fin 512) (q : Fin 640) :
    iblk m (okm m) c 0 t (ix4 0 0 p q) = at3 (A := 2) (B := 1024) (C := 640) (m ((c.tc : Thread nD τ).loc main_arg1)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v0) : S2x2x512x640.Idx → EReal)
      = shapeCast S2x2x512x640 (m ((c.tc : Thread nD τ).loc main_arg1) : S2x1024x640.Idx → EReal) shapeCasts_S2x1024x640_S2x2x512x640 := by
    after_results
    rfl
  have hi : ((((cfgM m (okm m)).win 0).blk t).view.emb (ix4 0 0 p q) : S2x2x512x640.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 640 + 1 * q.val = q.val; rw [(ixH t).2.2.2]; omega
  unfold iblk
  refine (View.read_apply _ _).trans ?_
  refine (show _ = (StableHlo.after hostOps0 (fun b => m (c, b)) (Proc.tc.devRef main_v0) : S2x2x512x640.Idx → EReal) ((((cfgM m (okm m)).win 0).blk t).view.emb (ix4 0 0 p q)) from rfl).trans ?_
  refine (congrArg (StableHlo.after hostOps0 (fun b => m (c, b)) (Proc.tc.devRef main_v0) : S2x2x512x640.Idx → EReal) hi).trans ?_
  refine (congrFun e _).trans ?_
  refine (halves_apply (L := 2) (R := 1024) (H := 512) (C := 640) (e := .f32) (m ((c.tc : Thread nD τ).loc main_arg1) : S2x1024x640.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 640; omega

/-- The first moment, a tile of it. -/
theorem blk3 (c : Dev nD) (t : Fin grid0.N) (p : Fin 512) (q : Fin 640) :
    iblk m (okm m) c 3 t (ix4 0 0 p q) = at3 (A := 2) (B := 1024) (C := 640) (m ((c.tc : Thread nD τ).loc main_arg4)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v1) : S2x2x512x640.Idx → EReal)
      = shapeCast S2x2x512x640 (m ((c.tc : Thread nD τ).loc main_arg4) : S2x1024x640.Idx → EReal) shapeCasts_S2x1024x640_S2x2x512x640 := by
    after_results
    rfl
  have hi : ((((cfgM m (okm m)).win 3).blk t).view.emb (ix4 0 0 p q) : S2x2x512x640.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 640 + 1 * q.val = q.val; rw [(ixH t).2.2.2]; omega
  unfold iblk
  refine (View.read_apply _ _).trans ?_
  refine (show _ = (StableHlo.after hostOps0 (fun b => m (c, b)) (Proc.tc.devRef main_v1) : S2x2x512x640.Idx → EReal) ((((cfgM m (okm m)).win 3).blk t).view.emb (ix4 0 0 p q)) from rfl).trans ?_
  refine (congrArg (StableHlo.after hostOps0 (fun b => m (c, b)) (Proc.tc.devRef main_v1) : S2x2x512x640.Idx → EReal) hi).trans ?_
  refine (congrFun e _).trans ?_
  refine (halves_apply (L := 2) (R := 1024) (H := 512) (C := 640) (e := .f32) (m ((c.tc : Thread nD τ).loc main_arg4) : S2x1024x640.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 640; omega

/-- The second moment, a tile of it. -/
theorem blk4 (c : Dev nD) (t : Fin grid0.N) (p : Fin 512) (q : Fin 640) :
    iblk m (okm m) c 4 t (ix4 0 0 p q) = at3 (A := 2) (B := 1024) (C := 640) (m ((c.tc : Thread nD τ).loc main_arg5)) (t.val / 2) (t.val / 1 % 2 * 512 + (t.val % 1 * 512 + p.val)) q.val := by
  have ht := ltN t; have hp := p.isLt; have hq := q.isLt
  have e : (StableHlo.after hostOps0 (fun b => m (c, b)) (Proc.tc.devRef main_v2) : S2x2x512x640.Idx → EReal)
      = shapeCast S2x2x512x640 (m ((c.tc : Thread nD τ).loc main_arg5) : S2x1024x640.Idx → EReal) shapeCasts_S2x1024x640_S2x2x512x640 := by
    after_results
    rfl
  have hi : ((((cfgM m (okm m)).win 4).blk t).view.emb (ix4 0 0 p q) : S2x2x512x640.Idx) = ix4 (⟨t.val / 2, by omega⟩ : Fin 2) (⟨t.val / 1 % 2, by omega⟩ : Fin 2) (⟨t.val % 1 * 512 + p.val, by omega⟩ : Fin 512) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 512 + 1 * p.val = t.val % 1 * 512 + p.val; rw [(ixH t).2.2.1]; omega
    | ⟨3, _⟩ => show cc0_transform_0 (grid0.coords t) 3 * 640 + 1 * q.val = q.val; rw [(ixH t).2.2.2]; omega
  unfold iblk
  refine (View.read_apply _ _).trans ?_
  refine (show _ = (StableHlo.after hostOps0 (fun b => m (c, b)) (Proc.tc.devRef main_v2) : S2x2x512x640.Idx → EReal) ((((cfgM m (okm m)).win 4).blk t).view.emb (ix4 0 0 p q)) from rfl).trans ?_
  refine (congrArg (StableHlo.after hostOps0 (fun b => m (c, b)) (Proc.tc.devRef main_v2) : S2x2x512x640.Idx → EReal) hi).trans ?_
  refine (congrFun e _).trans ?_
  refine (halves_apply (L := 2) (R := 1024) (H := 512) (C := 640) (e := .f32) (m ((c.tc : Thread nD τ).loc main_arg5) : S2x1024x640.Idx → EReal) (by norm_num) _ _ _ _ _ (⟨t.val / 1 % 2 * 512 + (t.val % 1 * 512 + p.val), by omega⟩ : Fin 1024) (by rfl)).trans ?_
  unfold AdamStep.at3
  congr 1; funext b; apply Fin.ext
  match b with
  | ⟨0, _⟩ => show t.val / 2 = (t.val / 2) % 2; omega
  | ⟨1, _⟩ => show t.val / 1 % 2 * 512 + (t.val % 1 * 512 + p.val) = (t.val / 1 % 2 * 512 + (t.val % 1 * 512 + p.val)) % 1024; omega
  | ⟨2, _⟩ => show q.val = q.val % 640; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x512x640.Idx) :
    ((dats m (okm m) 0 c).arrAt 5 (cfgM m (okm m)).N : S2x2x512x640.Idx → EReal) ((((cfgM m (okm m)).win 5).blk t).view.emb y) = ((dats m (okm m) 0 c).after 5 t : S1x1x512x640.Idx → EReal) y :=
  (dats m (okm m) 0 c).arrAt_emb_eq_flushed 5 (disjoint5 m) t (flush0_5 _ t) y

/-- Where an index of the array of output the gradient sits in its block. -/
theorem emb5 (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((((cfgM m (okm m)).win 5).blk t).view.emb (ix4 0 0 p q : S1x1x512x640.Idx) : S2x2x512x640.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 640 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((dats m (okm m) 0 c).arrAt 5 (cfgM m (okm m)).N : S2x2x512x640.Idx → EReal) (ix4 l b r q) = grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val) := by
  refine (congrArg ((dats m (okm m) 0 c).arrAt 5 (cfgM m (okm m)).N : S2x2x512x640.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 2) (b : Fin 2) (r : Fin 512) (q : Fin 640) :
    ((dats m (okm m) 0 c).arrAt 5 (cfgM m (okm m)).N : S2x2x512x640.Idx → EReal) (ix4 l b r q) = grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile5 m c ⟨l.val * 2 + b.val * 1 + r.val / 512, ht⟩ (⟨r.val % 512, by omega⟩ : Fin 512) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x512x640.Idx) :
    ((dats m (okm m) 0 c).arrAt 6 (cfgM m (okm m)).N : S2x2x512x640.Idx → EReal) ((((cfgM m (okm m)).win 6).blk t).view.emb y) = ((dats m (okm m) 0 c).after 6 t : S1x1x512x640.Idx → EReal) y :=
  (dats m (okm m) 0 c).arrAt_emb_eq_flushed 6 (disjoint6 m) t (flush0_6 _ t) y

/-- Where an index of the array of output the step sits in its block. -/
theorem emb6 (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((((cfgM m (okm m)).win 6).blk t).view.emb (ix4 0 0 p q : S1x1x512x640.Idx) : S2x2x512x640.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 640 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((dats m (okm m) 0 c).arrAt 6 (cfgM m (okm m)).N : S2x2x512x640.Idx → EReal) (ix4 l b r q) = delta (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg1)) l.val (b.val * 512 + r.val) q.val) (at3 (A := 2) (B := 1024) (C := 640) (m ((c.tc : Thread nD τ).loc main_arg4)) l.val (b.val * 512 + r.val) q.val) (at3 (A := 2) (B := 1024) (C := 640) (m ((c.tc : Thread nD τ).loc main_arg5)) l.val (b.val * 512 + r.val) q.val) := by
  refine (congrArg ((dats m (okm m) 0 c).arrAt 6 (cfgM m (okm m)).N : S2x2x512x640.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 2) (b : Fin 2) (r : Fin 512) (q : Fin 640) :
    ((dats m (okm m) 0 c).arrAt 6 (cfgM m (okm m)).N : S2x2x512x640.Idx → EReal) (ix4 l b r q) = delta (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg1)) l.val (b.val * 512 + r.val) q.val) (at3 (A := 2) (B := 1024) (C := 640) (m ((c.tc : Thread nD τ).loc main_arg4)) l.val (b.val * 512 + r.val) q.val) (at3 (A := 2) (B := 1024) (C := 640) (m ((c.tc : Thread nD τ).loc main_arg5)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile6 m c ⟨l.val * 2 + b.val * 1 + r.val / 512, ht⟩ (⟨r.val % 512, by omega⟩ : Fin 512) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x512x640.Idx) :
    ((dats m (okm m) 0 c).arrAt 7 (cfgM m (okm m)).N : S2x2x512x640.Idx → EReal) ((((cfgM m (okm m)).win 7).blk t).view.emb y) = ((dats m (okm m) 0 c).after 7 t : S1x1x512x640.Idx → EReal) y :=
  (dats m (okm m) 0 c).arrAt_emb_eq_flushed 7 (disjoint7 m) t (flush0_7 _ t) y

/-- Where an index of the array of output the first moment sits in its block. -/
theorem emb7 (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((((cfgM m (okm m)).win 7).blk t).view.emb (ix4 0 0 p q : S1x1x512x640.Idx) : S2x2x512x640.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 640 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((dats m (okm m) 0 c).arrAt 7 (cfgM m (okm m)).N : S2x2x512x640.Idx → EReal) (ix4 l b r q) = mom1 (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg4)) l.val (b.val * 512 + r.val) q.val) := by
  refine (congrArg ((dats m (okm m) 0 c).arrAt 7 (cfgM m (okm m)).N : S2x2x512x640.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 2) (b : Fin 2) (r : Fin 512) (q : Fin 640) :
    ((dats m (okm m) 0 c).arrAt 7 (cfgM m (okm m)).N : S2x2x512x640.Idx → EReal) (ix4 l b r q) = mom1 (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg4)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile7 m c ⟨l.val * 2 + b.val * 1 + r.val / 512, ht⟩ (⟨r.val % 512, by omega⟩ : Fin 512) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x512x640.Idx) :
    ((dats m (okm m) 0 c).arrAt 8 (cfgM m (okm m)).N : S2x2x512x640.Idx → EReal) ((((cfgM m (okm m)).win 8).blk t).view.emb y) = ((dats m (okm m) 0 c).after 8 t : S1x1x512x640.Idx → EReal) y :=
  (dats m (okm m) 0 c).arrAt_emb_eq_flushed 8 (disjoint8 m) t (flush0_8 _ t) y

/-- Where an index of the array of output the second moment sits in its block. -/
theorem emb8 (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((((cfgM m (okm m)).win 8).blk t).view.emb (ix4 0 0 p q : S1x1x512x640.Idx) : S2x2x512x640.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 512 + 1 * p.val = r.val; rewrite [(ixH t).2.2.1, Nat.one_mul]; exact h2
  | ⟨3, _⟩ => show cc0_transform_0 (grid0.coords t) 3 * 640 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 512) (q : Fin 640) (l : Fin 2) (b : Fin 2) (r : Fin 512) (h0 : t.val / 2 = l.val) (h1 : t.val / 1 % 2 = b.val) (h2 : t.val % 1 * 512 + p.val = r.val) :
    ((dats m (okm m) 0 c).arrAt 8 (cfgM m (okm m)).N : S2x2x512x640.Idx → EReal) (ix4 l b r q) = mom2 (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg5)) l.val (b.val * 512 + r.val) q.val) := by
  refine (congrArg ((dats m (okm m) 0 c).arrAt 8 (cfgM m (okm m)).N : S2x2x512x640.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 2) (b : Fin 2) (r : Fin 512) (q : Fin 640) :
    ((dats m (okm m) 0 c).arrAt 8 (cfgM m (okm m)).N : S2x2x512x640.Idx → EReal) (ix4 l b r q) = mom2 (grad (coreOf m) b.val (at3 (A := 2) (B := 512) (C := 640) (m ((c.tc : Thread nD τ).loc main_arg2)) l.val r.val q.val) (at3 (A := 2) (B := 512) (C := 640) (m ((c.tc : Thread nD τ).loc main_arg3)) l.val r.val q.val)) (at3 (A := 2) (B := 1024) (C := 640) (m ((c.tc : Thread nD τ).loc main_arg5)) l.val (b.val * 512 + r.val) q.val) := by
  have hl := l.isLt; have hb2 := b.isLt; have hr := r.isLt
  have ht : l.val * 2 + b.val * 1 + r.val / 512 < grid0.N := lt_of_lt_of_eq (by omega) N_0.symm
  have e0 : (l.val * 2 + b.val * 1 + r.val / 512) / 2 = l.val := by omega
  have e1 : (l.val * 2 + b.val * 1 + r.val / 512) / 1 % 2 = b.val := by omega
  have e2 : (l.val * 2 + b.val * 1 + r.val / 512) % 1 * 512 + r.val % 512 = r.val := by omega
  exact tile8 m c ⟨l.val * 2 + b.val * 1 + r.val / 512, ht⟩ (⟨r.val % 512, by omega⟩ : Fin 512) q l b r e0 e1 e2

/-- The gradient, as an array. -/
def gOf (core : BitVec 32) (g1 g2 : Vec Ideal S2x512x640 .f32) : Vec Ideal S2x1024x640 .f32 := fun i =>
  gradAt core g1 g2 (i 0).val (i 1).val (i 2).val

/-- The step, as an array. -/
def dOf (core : BitVec 32) (w : Vec Ideal S2x1024x640 .f32) (g1 g2 : Vec Ideal S2x512x640 .f32) (x y : Vec Ideal S2x1024x640 .f32) : Vec Ideal S2x1024x640 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S2x512x640 .f32) (x : Vec Ideal S2x1024x640 .f32) : Vec Ideal S2x1024x640 .f32 := fun i =>
  mom1 (gradAt core g1 g2 (i 0).val (i 1).val (i 2).val) (at3 x (i 0).val (i 1).val (i 2).val)

/-- The second moment, as an array. -/
def vOf (core : BitVec 32) (g1 g2 : Vec Ideal S2x512x640 .f32) (y : Vec Ideal S2x1024x640 .f32) : Vec Ideal S2x1024x640 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S2x1024x640.Idx → EReal)
    = shapeCast S2x1024x640 (W (Proc.tc.devRef main_v3_0) : S2x2x512x640.Idx → EReal) shapeCasts_S2x2x512x640_S2x1024x640 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S2x1024x640.Idx → EReal)
      = shapeCast S2x1024x640 ((dats m (okm m) 0 c).arrAt 5 (cfgM m (okm m)).N : S2x2x512x640.Idx → EReal) shapeCasts_S2x2x512x640_S2x1024x640 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S2x2x512x640.Idx → EReal => shapeCast S2x1024x640 a shapeCasts_S2x2x512x640_S2x1024x640) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 2 := (i 0).isLt
  have h1 : (i 1).val < 1024 := (i 1).isLt
  have h2 : (i 2).val < 640 := (i 2).isLt
  refine (congrArg (shapeCast S2x1024x640 ((dats m (okm m) 0 c).arrAt 5 (cfgM m (okm m)).N : S2x2x512x640.Idx → EReal) shapeCasts_S2x2x512x640_S2x1024x640) (eq_ix3 i)).trans ?_
  refine (joined_apply (L := 2) (R := 1024) (H := 512) (C := 640) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final5 m c _ _ _ _).trans ?_
  have eh : (i 1).val / 512 * 512 + (i 1).val % 512 = (i 1).val := by omega
  dsimp only
  rfl

/-- The line after the body joins the halves of output the step. -/
theorem joined_6 (W : Valuation τ sig (Elt Ideal)) : (StableHlo.after hostOps1 W (Proc.tc.devRef main_v5) : S2x1024x640.Idx → EReal)
    = shapeCast S2x1024x640 (W (Proc.tc.devRef main_v3_1) : S2x2x512x640.Idx → EReal) shapeCasts_S2x2x512x640_S2x1024x640 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S2x1024x640.Idx → EReal)
      = shapeCast S2x1024x640 ((dats m (okm m) 0 c).arrAt 6 (cfgM m (okm m)).N : S2x2x512x640.Idx → EReal) shapeCasts_S2x2x512x640_S2x1024x640 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S2x2x512x640.Idx → EReal => shapeCast S2x1024x640 a shapeCasts_S2x2x512x640_S2x1024x640) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 2 := (i 0).isLt
  have h1 : (i 1).val < 1024 := (i 1).isLt
  have h2 : (i 2).val < 640 := (i 2).isLt
  refine (congrArg (shapeCast S2x1024x640 ((dats m (okm m) 0 c).arrAt 6 (cfgM m (okm m)).N : S2x2x512x640.Idx → EReal) shapeCasts_S2x2x512x640_S2x1024x640) (eq_ix3 i)).trans ?_
  refine (joined_apply (L := 2) (R := 1024) (H := 512) (C := 640) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final6 m c _ _ _ _).trans ?_
  have eh : (i 1).val / 512 * 512 + (i 1).val % 512 = (i 1).val := by omega
  dsimp only
  rw [eh]
  rfl

/-- The line after the body joins the halves of output the first moment. -/
theorem joined_7 (W : Valuation τ sig (Elt Ideal)) : (StableHlo.after hostOps1 W (Proc.tc.devRef main_v6) : S2x1024x640.Idx → EReal)
    = shapeCast S2x1024x640 (W (Proc.tc.devRef main_v3_2) : S2x2x512x640.Idx → EReal) shapeCasts_S2x2x512x640_S2x1024x640 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S2x1024x640.Idx → EReal)
      = shapeCast S2x1024x640 ((dats m (okm m) 0 c).arrAt 7 (cfgM m (okm m)).N : S2x2x512x640.Idx → EReal) shapeCasts_S2x2x512x640_S2x1024x640 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S2x2x512x640.Idx → EReal => shapeCast S2x1024x640 a shapeCasts_S2x2x512x640_S2x1024x640) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 2 := (i 0).isLt
  have h1 : (i 1).val < 1024 := (i 1).isLt
  have h2 : (i 2).val < 640 := (i 2).isLt
  refine (congrArg (shapeCast S2x1024x640 ((dats m (okm m) 0 c).arrAt 7 (cfgM m (okm m)).N : S2x2x512x640.Idx → EReal) shapeCasts_S2x2x512x640_S2x1024x640) (eq_ix3 i)).trans ?_
  refine (joined_apply (L := 2) (R := 1024) (H := 512) (C := 640) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final7 m c _ _ _ _).trans ?_
  have eh : (i 1).val / 512 * 512 + (i 1).val % 512 = (i 1).val := by omega
  dsimp only
  rw [eh]
  rfl

/-- The line after the body joins the halves of output the second moment. -/
theorem joined_8 (W : Valuation τ sig (Elt Ideal)) : (StableHlo.after hostOps1 W (Proc.tc.devRef main_v7) : S2x1024x640.Idx → EReal)
    = shapeCast S2x1024x640 (W (Proc.tc.devRef main_v3_3) : S2x2x512x640.Idx → EReal) shapeCasts_S2x2x512x640_S2x1024x640 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S2x1024x640.Idx → EReal)
      = shapeCast S2x1024x640 ((dats m (okm m) 0 c).arrAt 8 (cfgM m (okm m)).N : S2x2x512x640.Idx → EReal) shapeCasts_S2x2x512x640_S2x1024x640 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S2x2x512x640.Idx → EReal => shapeCast S2x1024x640 a shapeCasts_S2x2x512x640_S2x1024x640) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 2 := (i 0).isLt
  have h1 : (i 1).val < 1024 := (i 1).isLt
  have h2 : (i 2).val < 640 := (i 2).isLt
  refine (congrArg (shapeCast S2x1024x640 ((dats m (okm m) 0 c).arrAt 8 (cfgM m (okm m)).N : S2x2x512x640.Idx → EReal) shapeCasts_S2x2x512x640_S2x1024x640) (eq_ix3 i)).trans ?_
  refine (joined_apply (L := 2) (R := 1024) (H := 512) (C := 640) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final8 m c _ _ _ _).trans ?_
  have eh : (i 1).val / 512 * 512 + (i 1).val % 512 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdLruInIdeal.Value

end
-- ==== Proof.UpdLruInRef.lean ====
/- The recurrent unit's input weight: the reference's step, and the two runs together. -/
module

public import proofs.«01_k».proof.Proof.UpdLruInRun
public import proofs.«01_k».proof.Proof.Gen.UpdLruInRefIdeal.Run
public import proofs.«01_k».proof.Proof.Gen.UpdLruInRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdLruInRefIdeal.Value

open Cert.UpdLruInRefIdeal Cert.UpdLruInRefIdeal.Gen Cert.UpdLruInRefIdeal.Read AdamStep
open Cert.UpdLruInIdeal.Value (gOf dOf mOf vOf)

variable (x0 : Vec Ideal S1 .i32) (x1 : Vec Ideal S2x1024x640 .f32) (x2 x3 : Vec Ideal S2x512x640 .f32) (x4 x5 : Vec Ideal S2x1024x640 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S2x512x640.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S2x512x640 (val_main_v1 (F := Ideal) x0) j (fun a => a.elim0) (fun a => a.elim0)]
  rfl

/-- The lower half of the rows. -/
theorem lower_at (j : S2x512x640.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S2x512x640 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 2 := (i 0).isLt
  have h1 : (i 1).val < 1024 := (i 1).isLt
  have h2 : (i 2).val < 640 := (i 2).isLt
  unfold val_main_v6
  by_cases hc : (i 1).val < 512
  · refine (concatenate_pair_apply_left (1 : Fin 3) (val_main_v2 (F := Ideal) x0 x2 x3) (val_main_v5 (F := Ideal) x0 x2 x3) concatenates_S2x512x640_S2x512x640_S2x1024x640_d1 i rfl
      (ix3 (Fin.ofNat 2 (i 0).val) (Fin.ofNat 512 ((i 1).val % 512)) (Fin.ofNat 640 (i 2).val)) (fun b => ?_)).trans ?_
    · match b with
      | ⟨0, _⟩ => show (i 0).val % 2 = (i 0).val; exact Nat.mod_eq_of_lt h0
      | ⟨1, _⟩ => show (i 1).val % 512 % 512 = (i 1).val; rewrite [Nat.mod_mod]; exact Nat.mod_eq_of_lt hc
      | ⟨2, _⟩ => show (i 2).val % 640 = (i 2).val; exact Nat.mod_eq_of_lt h2
    · refine (upper_at x0 x2 x3 _).trans ?_
      unfold gOf gradAt
      rw [show (i 1).val / 512 = 0 from Nat.div_eq_of_lt hc]
      rfl
  · refine (concatenate_pair_apply_right (1 : Fin 3) (val_main_v2 (F := Ideal) x0 x2 x3) (val_main_v5 (F := Ideal) x0 x2 x3) concatenates_S2x512x640_S2x512x640_S2x1024x640_d1 i rfl rfl
      (ix3 (Fin.ofNat 2 (i 0).val) (Fin.ofNat 512 ((i 1).val % 512)) (Fin.ofNat 640 (i 2).val)) (fun b hb => ?_) ?_).trans ?_
    · match b with
      | ⟨0, _⟩ => show (i 0).val % 2 = (i 0).val; exact Nat.mod_eq_of_lt h0
      | ⟨1, _⟩ => exact absurd rfl hb
      | ⟨2, _⟩ => show (i 2).val % 640 = (i 2).val; exact Nat.mod_eq_of_lt h2
    · show (i 1).val % 512 % 512 + 512 = (i 1).val; omega
    · refine (lower_at x0 x2 x3 _).trans ?_
      unfold gOf gradAt
      rw [show (i 1).val / 512 = 1 by omega]
      rfl

/-- A weight at its own index. -/
theorem at_self (x : Vec Ideal S2x1024x640 .f32) (i : S2x1024x640.Idx) : x i = at3 (A := 2) (B := 1024) (C := 640) x (i 0).val (i 1).val (i 2).val := by
  have h0 : (i 0).val < 2 := (i 0).isLt
  have h1 : (i 1).val < 1024 := (i 1).isLt
  have h2 : (i 2).val < 640 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S2x1024x640.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S2x1024x640.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S2x1024x640.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdLruInRefIdeal := fun m ρ _ =>
  (θ_run _ _ _).mono (fun _ h => ⟨fun c => (h c).2.2.2.2, funext fun g => nomatch g.2⟩) (run_value m ρ)

end Cert.UpdLruInRefIdeal.Value

open Cert.UpdLruInIdeal.Value (gOf dOf mOf vOf coreOf) in
/-- The kernel's values and the reference's, over the ideal reals. -/
theorem UpdLruIn_value : Cert.algebraic_UpdLruInIdeal_UpdLruInRefIdeal :=
  fun m g m' g' _ h => ⟨fun c => gOf (coreOf m) (m ((c.tc : Thread Cert.UpdLruInIdeal.nD Cert.UpdLruInIdeal.τ).loc Cert.UpdLruInIdeal.main_arg2)) (m ((c.tc : Thread Cert.UpdLruInIdeal.nD Cert.UpdLruInIdeal.τ).loc Cert.UpdLruInIdeal.main_arg3)),
    fun c => dOf (coreOf m) (m ((c.tc : Thread Cert.UpdLruInIdeal.nD Cert.UpdLruInIdeal.τ).loc Cert.UpdLruInIdeal.main_arg1)) (m ((c.tc : Thread Cert.UpdLruInIdeal.nD Cert.UpdLruInIdeal.τ).loc Cert.UpdLruInIdeal.main_arg2)) (m ((c.tc : Thread Cert.UpdLruInIdeal.nD Cert.UpdLruInIdeal.τ).loc Cert.UpdLruInIdeal.main_arg3)) (m ((c.tc : Thread Cert.UpdLruInIdeal.nD Cert.UpdLruInIdeal.τ).loc Cert.UpdLruInIdeal.main_arg4)) (m ((c.tc : Thread Cert.UpdLruInIdeal.nD Cert.UpdLruInIdeal.τ).loc Cert.UpdLruInIdeal.main_arg5)),
    fun c => mOf (coreOf m) (m ((c.tc : Thread Cert.UpdLruInIdeal.nD Cert.UpdLruInIdeal.τ).loc Cert.UpdLruInIdeal.main_arg2)) (m ((c.tc : Thread Cert.UpdLruInIdeal.nD Cert.UpdLruInIdeal.τ).loc Cert.UpdLruInIdeal.main_arg3)) (m ((c.tc : Thread Cert.UpdLruInIdeal.nD Cert.UpdLruInIdeal.τ).loc Cert.UpdLruInIdeal.main_arg4)),
    fun c => vOf (coreOf m) (m ((c.tc : Thread Cert.UpdLruInIdeal.nD Cert.UpdLruInIdeal.τ).loc Cert.UpdLruInIdeal.main_arg2)) (m ((c.tc : Thread Cert.UpdLruInIdeal.nD Cert.UpdLruInIdeal.τ).loc Cert.UpdLruInIdeal.main_arg3)) (m ((c.tc : Thread Cert.UpdLruInIdeal.nD Cert.UpdLruInIdeal.τ).loc Cert.UpdLruInIdeal.main_arg5)),
    Cert.UpdLruInIdeal.Value.run_value m g,
    (θ_run _ _ _).mono (fun r hr c => by
      have hc := hr c
      obtain ⟨a0, a1, a2, a3, a4, a5⟩ := h c
      have e0 : (m' ((c.tc : Thread Cert.UpdLruInRefIdeal.nD Cert.UpdLruInRefIdeal.τ).loc Cert.UpdLruInRefIdeal.main_arg0) : Cert.UpdLruInRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdLruInRefIdeal.Value.run_value m' g')⟩

end
-- ==== Proof.UpdLruOutRun.lean ====
/- The recurrent unit's output weight: the kernel's gradient, step and moments, at every weight. -/
module

public import proofs.«01_k».proof.Proof.AdamStep
public import proofs.«01_k».proof.Proof.Gen.UpdLruOutIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdLruOutIdeal.Value

open Cert.UpdLruOutIdeal Cert.UpdLruOutIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x160x1024 .f32) (w mm vv : Vec Ideal S1x1x160x1024 .f32) (p : Fin 160) (q : Fin 1024)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 160) (B := 1024) (e := .f32) g1 _ p q
  · exact dropUnit_apply (A := 160) (B := 1024) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 160) (B := 1024) (e := .f32) mm shapeCasts_S1x1x160x1024_S160x1024 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 160) (B := 1024) (e := .f32) vv shapeCasts_S1x1x160x1024_S160x1024 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 160) (B := 1024) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 160) (B := 1024) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 160) (B := 1024) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 160) (B := 1024) (e := .f32) _ _ p q).trans ?_
  unfold delta
  rw [← pay5_at, ← pay6_at, ← dropUnits_apply (A := 160) (B := 1024) (e := .f32) w shapeCasts_S1x1x160x1024_S160x1024 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x160x1024 .f32) (harg4 : arg4.IsWhole) (arg5 : Memref sig .tc .vmem S1x160x1024 .f32) (harg5 : arg5.IsWhole) (arg6 : Memref sig .tc .vmem S1x160x1024 .f32) (harg6 : arg6.IsWhole) (arg7 : Memref sig .tc .vmem S1x1x160x1024 .f32) (harg7 : arg7.IsWhole) (arg8 : Memref sig .tc .vmem S1x1x160x1024 .f32) (harg8 : arg8.IsWhole) (arg9 : Memref sig .tc .vmem S1x1x160x1024 .f32) (harg9 : arg9.IsWhole) (arg10 : Memref sig .tc .vmem S1x1x160x1024 .f32) (harg10 : arg10.IsWhole) (arg11 : Memref sig .tc .vmem S1x1x160x1024 .f32) (harg11 : arg11.IsWhole) (arg12 : Memref sig .tc .vmem S1x1x160x1024 .f32) (harg12 : arg12.IsWhole)
  (x0 : Vec Ideal S1x1x160x1024 .f32) (x1 : Vec Ideal S1x160x1024 .f32) (x2 : Vec Ideal S1x160x1024 .f32) (x3 : Vec Ideal S1x1x160x1024 .f32) (x4 : Vec Ideal S1x1x160x1024 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x160x1024) hz4]
  have hc := core_eq m c
  unfold kernelRun0_A.sl.r at hc
  sl_unfold_run_values
  simp only [readAt_zero (S := S1x160x1024) hz3, readAt_zero (S := S1x1x160x1024) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x160x1024) hz4]
  have hc := core_eq m c
  unfold kernelRun0_A.sl.r at hc
  sl_unfold_run_values
  simp only [readAt_zero (S := S1x160x1024) hz3, readAt_zero (S := S1x1x160x1024) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x160x1024) hz4]
  have hc := core_eq m c
  unfold kernelRun0_A.sl.r at hc
  sl_unfold_run_values
  simp only [readAt_zero (S := S1x160x1024) hz3, readAt_zero (S := S1x1x160x1024) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x160x1024) hz4]
  have hc := core_eq m c
  unfold kernelRun0_A.sl.r at hc
  sl_unfold_run_values
  simp only [readAt_zero (S := S1x160x1024) hz3, readAt_zero (S := S1x1x160x1024) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 4 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 160) (q : Fin 1024) :
    iblk m (okm m) c 1 t (ix3 0 p q) = at3 (A := 2) (B := 160) (C := 1024) (m ((c.tc : Thread nD τ).loc main_arg2)) (t.val / 2) (t.val % 1 * 160 + p.val) q.val := by
  have ht := ltN t; have hp := p.isLt; have hq := q.isLt
  unfold iblk
  refine (View.read_apply _ _).trans ?_
  show (V m c main_arg2 : S2x160x1024.Idx → EReal) _ = (m ((c.tc : Thread nD τ).loc main_arg2) : S2x160x1024.Idx → EReal) _
  rw [V_main_arg2]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 160 + 1 * p.val = (t.val % 1 * 160 + p.val) % 160; rw [(ixG t).2.1]; omega
  | ⟨2, _⟩ => show cc0_transform_1 (grid0.coords t) 2 * 1024 + 1 * q.val = q.val % 1024; rw [(ixG t).2.2]; omega

/-- The sibling's half of the summed gradient, a tile of it. -/
theorem blk2 (c : Dev nD) (t : Fin grid0.N) (p : Fin 160) (q : Fin 1024) :
    iblk m (okm m) c 2 t (ix3 0 p q) = at3 (A := 2) (B := 160) (C := 1024) (m ((c.tc : Thread nD τ).loc main_arg3)) (t.val / 2) (t.val % 1 * 160 + p.val) q.val := by
  have ht := ltN t; have hp := p.isLt; have hq := q.isLt
  unfold iblk
  refine (View.read_apply _ _).trans ?_
  show (V m c main_arg3 : S2x160x1024.Idx → EReal) _ = (m ((c.tc : Thread nD τ).loc main_arg3) : S2x160x1024.Idx → EReal) _
  rw [V_main_arg3]
  congr 1; funext b; apply Fin.ext
  match b with
  | ⟨0, _⟩ => show cc0_transform_1 (grid0.coords t) 0 * 1 + 1 * 0 = (t.val / 2) % 2; rw [(ixG t).1]; omega
  | ⟨1, _⟩ => show cc0_transform_1 (grid0.coords t) 1 * 160 + 1 * p.val = (t.val % 1 * 160 + p.val) % 160; rw [(ixG t).2.1]; omega
  | ⟨2, _⟩ => show cc0_transform_1 (grid0.coords t) 2 * 1024 + 1 * q.val = q.val % 1024; rw [(ixG t).2.2]; omega

/-- The weight, a tile of it. -/
theorem blk0 (c : Dev nD) (t : Fin grid0.N) (p : Fin 160) (q : Fin 1024) :
    iblk m (okm m) c 0 t (ix4 0 0 p q) = at3 (A := 2) (B := 320) (C := 1024) (m ((c.tc : Thread nD τ).loc main_arg1)) (t.val / 2) (t.val / 1 % 2 * 160 + (t.val % 1 * 160 + p.val)) q.val := by
  have ht := ltN t; have hp := p.isLt; have hq := q.isLt
  have e : (StableHlo.after hostOps0 (fun b => m (c, b)) (Proc.tc.devRef main_v0) : S2x2x160x1024.Idx → EReal)
      = shapeCast S2x2x160x1024 (m ((c.tc : Thread nD τ).loc main_arg1) : S2x320x1024.Idx → EReal) shapeCasts_S2x320x1024_S2x2x160x1024 := by
    after_results
    rfl
  have hi : ((((cfgM m (okm m)).win 0).blk t).view.emb (ix4 0 0 p q) : S2x2x160x1024.Idx) = ix4 (⟨t.val / 2, by omega⟩ : Fin 2) (⟨t.val / 1 % 2, by omega⟩ : Fin 2) (⟨t.val % 1 * 160 + p.val, by omega⟩ : Fin 160) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 160 + 1 * p.val = t.val % 1 * 160 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v0) : S2x2x160x1024.Idx → EReal) ((((cfgM m (okm m)).win 0).blk t).view.emb (ix4 0 0 p q)) from rfl).trans ?_
  refine (congrArg (StableHlo.after hostOps0 (fun b => m (c, b)) (Proc.tc.devRef main_v0) : S2x2x160x1024.Idx → EReal) hi).trans ?_
  refine (congrFun e _).trans ?_
  refine (halves_apply (L := 2) (R := 320) (H := 160) (C := 1024) (e := .f32) (m ((c.tc : Thread nD τ).loc main_arg1) : S2x320x1024.Idx → EReal) (by norm_num) _ _ _ _ _ (⟨t.val / 1 % 2 * 160 + (t.val % 1 * 160 + p.val), by omega⟩ : Fin 320) (by rfl)).trans ?_
  unfold AdamStep.at3
  congr 1; funext b; apply Fin.ext
  match b with
  | ⟨0, _⟩ => show t.val / 2 = (t.val / 2) % 2; omega
  | ⟨1, _⟩ => show t.val / 1 % 2 * 160 + (t.val % 1 * 160 + p.val) = (t.val / 1 % 2 * 160 + (t.val % 1 * 160 + p.val)) % 320; omega
  | ⟨2, _⟩ => show q.val = q.val % 1024; omega

/-- The first moment, a tile of it. -/
theorem blk3 (c : Dev nD) (t : Fin grid0.N) (p : Fin 160) (q : Fin 1024) :
    iblk m (okm m) c 3 t (ix4 0 0 p q) = at3 (A := 2) (B := 320) (C := 1024) (m ((c.tc : Thread nD τ).loc main_arg4)) (t.val / 2) (t.val / 1 % 2 * 160 + (t.val % 1 * 160 + p.val)) q.val := by
  have ht := ltN t; have hp := p.isLt; have hq := q.isLt
  have e : (StableHlo.after hostOps0 (fun b => m (c, b)) (Proc.tc.devRef main_v1) : S2x2x160x1024.Idx → EReal)
      = shapeCast S2x2x160x1024 (m ((c.tc : Thread nD τ).loc main_arg4) : S2x320x1024.Idx → EReal) shapeCasts_S2x320x1024_S2x2x160x1024 := by
    after_results
    rfl
  have hi : ((((cfgM m (okm m)).win 3).blk t).view.emb (ix4 0 0 p q) : S2x2x160x1024.Idx) = ix4 (⟨t.val / 2, by omega⟩ : Fin 2) (⟨t.val / 1 % 2, by omega⟩ : Fin 2) (⟨t.val % 1 * 160 + p.val, by omega⟩ : Fin 160) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 160 + 1 * p.val = t.val % 1 * 160 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v1) : S2x2x160x1024.Idx → EReal) ((((cfgM m (okm m)).win 3).blk t).view.emb (ix4 0 0 p q)) from rfl).trans ?_
  refine (congrArg (StableHlo.after hostOps0 (fun b => m (c, b)) (Proc.tc.devRef main_v1) : S2x2x160x1024.Idx → EReal) hi).trans ?_
  refine (congrFun e _).trans ?_
  refine (halves_apply (L := 2) (R := 320) (H := 160) (C := 1024) (e := .f32) (m ((c.tc : Thread nD τ).loc main_arg4) : S2x320x1024.Idx → EReal) (by norm_num) _ _ _ _ _ (⟨t.val / 1 % 2 * 160 + (t.val % 1 * 160 + p.val), by omega⟩ : Fin 320) (by rfl)).trans ?_
  unfold AdamStep.at3
  congr 1; funext b; apply Fin.ext
  match b with
  | ⟨0, _⟩ => show t.val / 2 = (t.val / 2) % 2; omega
  | ⟨1, _⟩ => show t.val / 1 % 2 * 160 + (t.val % 1 * 160 + p.val) = (t.val / 1 % 2 * 160 + (t.val % 1 * 160 + p.val)) % 320; omega
  | ⟨2, _⟩ => show q.val = q.val % 1024; omega

/-- The second moment, a tile of it. -/
theorem blk4 (c : Dev nD) (t : Fin grid0.N) (p : Fin 160) (q : Fin 1024) :
    iblk m (okm m) c 4 t (ix4 0 0 p q) = at3 (A := 2) (B := 320) (C := 1024) (m ((c.tc : Thread nD τ).loc main_arg5)) (t.val / 2) (t.val / 1 % 2 * 160 + (t.val % 1 * 160 + p.val)) q.val := by
  have ht := ltN t; have hp := p.isLt; have hq := q.isLt
  have e : (StableHlo.after hostOps0 (fun b => m (c, b)) (Proc.tc.devRef main_v2) : S2x2x160x1024.Idx → EReal)
      = shapeCast S2x2x160x1024 (m ((c.tc : Thread nD τ).loc main_arg5) : S2x320x1024.Idx → EReal) shapeCasts_S2x320x1024_S2x2x160x1024 := by
    after_results
    rfl
  have hi : ((((cfgM m (okm m)).win 4).blk t).view.emb (ix4 0 0 p q) : S2x2x160x1024.Idx) = ix4 (⟨t.val / 2, by omega⟩ : Fin 2) (⟨t.val / 1 % 2, by omega⟩ : Fin 2) (⟨t.val % 1 * 160 + p.val, by omega⟩ : Fin 160) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 160 + 1 * p.val = t.val % 1 * 160 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v2) : S2x2x160x1024.Idx → EReal) ((((cfgM m (okm m)).win 4).blk t).view.emb (ix4 0 0 p q)) from rfl).trans ?_
  refine (congrArg (StableHlo.after hostOps0 (fun b => m (c, b)) (Proc.tc.devRef main_v2) : S2x2x160x1024.Idx → EReal) hi).trans ?_
  refine (congrFun e _).trans ?_
  refine (halves_apply (L := 2) (R := 320) (H := 160) (C := 1024) (e := .f32) (m ((c.tc : Thread nD τ).loc main_arg5) : S2x320x1024.Idx → EReal) (by norm_num) _ _ _ _ _ (⟨t.val / 1 % 2 * 160 + (t.val % 1 * 160 + p.val), by omega⟩ : Fin 320) (by rfl)).trans ?_
  unfold AdamStep.at3
  congr 1; funext b; apply Fin.ext
  match b with
  | ⟨0, _⟩ => show t.val / 2 = (t.val / 2) % 2; omega
  | ⟨1, _⟩ => show t.val / 1 % 2 * 160 + (t.val % 1 * 160 + p.val) = (t.val / 1 % 2 * 160 + (t.val % 1 * 160 + p.val)) % 320; omega
  | ⟨2, _⟩ => show q.val = q.val % 1024; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x160x1024.Idx) :
    ((dats m (okm m) 0 c).arrAt 5 (cfgM m (okm m)).N : S2x2x160x1024.Idx → EReal) ((((cfgM m (okm m)).win 5).blk t).view.emb y) = ((dats m (okm m) 0 c).after 5 t : S1x1x160x1024.Idx → EReal) y :=
  (dats m (okm m) 0 c).arrAt_emb_eq_flushed 5 (disjoint5 m) t (flush0_5 _ t) y

/-- Where an index of the array of output the gradient sits in its block. -/
theorem emb5 (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((((cfgM m (okm m)).win 5).blk t).view.emb (ix4 0 0 p q : S1x1x160x1024.Idx) : S2x2x160x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 160 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((dats m (okm m) 0 c).arrAt 5 (cfgM m (okm m)).N : S2x2x160x1024.Idx → EReal) (ix4 l b r q) = grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val) := by
  refine (congrArg ((dats m (okm m) 0 c).arrAt 5 (cfgM m (okm m)).N : S2x2x160x1024.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 2) (b : Fin 2) (r : Fin 160) (q : Fin 1024) :
    ((dats m (okm m) 0 c).arrAt 5 (cfgM m (okm m)).N : S2x2x160x1024.Idx → EReal) (ix4 l b r q) = grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val) := by
  have hl := l.isLt; have hb2 := b.isLt; have hr := r.isLt
  have ht : l.val * 2 + b.val * 1 + r.val / 160 < grid0.N := lt_of_lt_of_eq (by omega) N_0.symm
  have e0 : (l.val * 2 + b.val * 1 + r.val / 160) / 2 = l.val := by omega
  have e1 : (l.val * 2 + b.val * 1 + r.val / 160) / 1 % 2 = b.val := by omega
  have e2 : (l.val * 2 + b.val * 1 + r.val / 160) % 1 * 160 + r.val % 160 = r.val := by omega
  exact tile5 m c ⟨l.val * 2 + b.val * 1 + r.val / 160, ht⟩ (⟨r.val % 160, by omega⟩ : Fin 160) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x160x1024.Idx) :
    ((dats m (okm m) 0 c).arrAt 6 (cfgM m (okm m)).N : S2x2x160x1024.Idx → EReal) ((((cfgM m (okm m)).win 6).blk t).view.emb y) = ((dats m (okm m) 0 c).after 6 t : S1x1x160x1024.Idx → EReal) y :=
  (dats m (okm m) 0 c).arrAt_emb_eq_flushed 6 (disjoint6 m) t (flush0_6 _ t) y

/-- Where an index of the array of output the step sits in its block. -/
theorem emb6 (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((((cfgM m (okm m)).win 6).blk t).view.emb (ix4 0 0 p q : S1x1x160x1024.Idx) : S2x2x160x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 160 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((dats m (okm m) 0 c).arrAt 6 (cfgM m (okm m)).N : S2x2x160x1024.Idx → EReal) (ix4 l b r q) = delta (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg1)) l.val (b.val * 160 + r.val) q.val) (at3 (A := 2) (B := 320) (C := 1024) (m ((c.tc : Thread nD τ).loc main_arg4)) l.val (b.val * 160 + r.val) q.val) (at3 (A := 2) (B := 320) (C := 1024) (m ((c.tc : Thread nD τ).loc main_arg5)) l.val (b.val * 160 + r.val) q.val) := by
  refine (congrArg ((dats m (okm m) 0 c).arrAt 6 (cfgM m (okm m)).N : S2x2x160x1024.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 2) (b : Fin 2) (r : Fin 160) (q : Fin 1024) :
    ((dats m (okm m) 0 c).arrAt 6 (cfgM m (okm m)).N : S2x2x160x1024.Idx → EReal) (ix4 l b r q) = delta (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg1)) l.val (b.val * 160 + r.val) q.val) (at3 (A := 2) (B := 320) (C := 1024) (m ((c.tc : Thread nD τ).loc main_arg4)) l.val (b.val * 160 + r.val) q.val) (at3 (A := 2) (B := 320) (C := 1024) (m ((c.tc : Thread nD τ).loc main_arg5)) l.val (b.val * 160 + r.val) q.val) := by
  have hl := l.isLt; have hb2 := b.isLt; have hr := r.isLt
  have ht : l.val * 2 + b.val * 1 + r.val / 160 < grid0.N := lt_of_lt_of_eq (by omega) N_0.symm
  have e0 : (l.val * 2 + b.val * 1 + r.val / 160) / 2 = l.val := by omega
  have e1 : (l.val * 2 + b.val * 1 + r.val / 160) / 1 % 2 = b.val := by omega
  have e2 : (l.val * 2 + b.val * 1 + r.val / 160) % 1 * 160 + r.val % 160 = r.val := by omega
  exact tile6 m c ⟨l.val * 2 + b.val * 1 + r.val / 160, ht⟩ (⟨r.val % 160, by omega⟩ : Fin 160) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x160x1024.Idx) :
    ((dats m (okm m) 0 c).arrAt 7 (cfgM m (okm m)).N : S2x2x160x1024.Idx → EReal) ((((cfgM m (okm m)).win 7).blk t).view.emb y) = ((dats m (okm m) 0 c).after 7 t : S1x1x160x1024.Idx → EReal) y :=
  (dats m (okm m) 0 c).arrAt_emb_eq_flushed 7 (disjoint7 m) t (flush0_7 _ t) y

/-- Where an index of the array of output the first moment sits in its block. -/
theorem emb7 (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((((cfgM m (okm m)).win 7).blk t).view.emb (ix4 0 0 p q : S1x1x160x1024.Idx) : S2x2x160x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 160 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((dats m (okm m) 0 c).arrAt 7 (cfgM m (okm m)).N : S2x2x160x1024.Idx → EReal) (ix4 l b r q) = mom1 (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg4)) l.val (b.val * 160 + r.val) q.val) := by
  refine (congrArg ((dats m (okm m) 0 c).arrAt 7 (cfgM m (okm m)).N : S2x2x160x1024.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 2) (b : Fin 2) (r : Fin 160) (q : Fin 1024) :
    ((dats m (okm m) 0 c).arrAt 7 (cfgM m (okm m)).N : S2x2x160x1024.Idx → EReal) (ix4 l b r q) = mom1 (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg4)) l.val (b.val * 160 + r.val) q.val) := by
  have hl := l.isLt; have hb2 := b.isLt; have hr := r.isLt
  have ht : l.val * 2 + b.val * 1 + r.val / 160 < grid0.N := lt_of_lt_of_eq (by omega) N_0.symm
  have e0 : (l.val * 2 + b.val * 1 + r.val / 160) / 2 = l.val := by omega
  have e1 : (l.val * 2 + b.val * 1 + r.val / 160) / 1 % 2 = b.val := by omega
  have e2 : (l.val * 2 + b.val * 1 + r.val / 160) % 1 * 160 + r.val % 160 = r.val := by omega
  exact tile7 m c ⟨l.val * 2 + b.val * 1 + r.val / 160, ht⟩ (⟨r.val % 160, by omega⟩ : Fin 160) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x160x1024.Idx) :
    ((dats m (okm m) 0 c).arrAt 8 (cfgM m (okm m)).N : S2x2x160x1024.Idx → EReal) ((((cfgM m (okm m)).win 8).blk t).view.emb y) = ((dats m (okm m) 0 c).after 8 t : S1x1x160x1024.Idx → EReal) y :=
  (dats m (okm m) 0 c).arrAt_emb_eq_flushed 8 (disjoint8 m) t (flush0_8 _ t) y

/-- Where an index of the array of output the second moment sits in its block. -/
theorem emb8 (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((((cfgM m (okm m)).win 8).blk t).view.emb (ix4 0 0 p q : S1x1x160x1024.Idx) : S2x2x160x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 160 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 160) (q : Fin 1024) (l : Fin 2) (b : Fin 2) (r : Fin 160) (h0 : t.val / 2 = l.val) (h1 : t.val / 1 % 2 = b.val) (h2 : t.val % 1 * 160 + p.val = r.val) :
    ((dats m (okm m) 0 c).arrAt 8 (cfgM m (okm m)).N : S2x2x160x1024.Idx → EReal) (ix4 l b r q) = mom2 (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg5)) l.val (b.val * 160 + r.val) q.val) := by
  refine (congrArg ((dats m (okm m) 0 c).arrAt 8 (cfgM m (okm m)).N : S2x2x160x1024.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 2) (b : Fin 2) (r : Fin 160) (q : Fin 1024) :
    ((dats m (okm m) 0 c).arrAt 8 (cfgM m (okm m)).N : S2x2x160x1024.Idx → EReal) (ix4 l b r q) = mom2 (grad (coreOf m) b.val (at3 (A := 2) (B := 160) (C := 1024) (m ((c.tc : Thread nD τ).loc main_arg2)) l.val r.val q.val) (at3 (A := 2) (B := 160) (C := 1024) (m ((c.tc : Thread nD τ).loc main_arg3)) l.val r.val q.val)) (at3 (A := 2) (B := 320) (C := 1024) (m ((c.tc : Thread nD τ).loc main_arg5)) l.val (b.val * 160 + r.val) q.val) := by
  have hl := l.isLt; have hb2 := b.isLt; have hr := r.isLt
  have ht : l.val * 2 + b.val * 1 + r.val / 160 < grid0.N := lt_of_lt_of_eq (by omega) N_0.symm
  have e0 : (l.val * 2 + b.val * 1 + r.val / 160) / 2 = l.val := by omega
  have e1 : (l.val * 2 + b.val * 1 + r.val / 160) / 1 % 2 = b.val := by omega
  have e2 : (l.val * 2 + b.val * 1 + r.val / 160) % 1 * 160 + r.val % 160 = r.val := by omega
  exact tile8 m c ⟨l.val * 2 + b.val * 1 + r.val / 160, ht⟩ (⟨r.val % 160, by omega⟩ : Fin 160) q l b r e0 e1 e2

/-- The gradient, as an array. -/
def gOf (core : BitVec 32) (g1 g2 : Vec Ideal S2x160x1024 .f32) : Vec Ideal S2x320x1024 .f32 := fun i =>
  gradAt core g1 g2 (i 0).val (i 1).val (i 2).val

/-- The step, as an array. -/
def dOf (core : BitVec 32) (w : Vec Ideal S2x320x1024 .f32) (g1 g2 : Vec Ideal S2x160x1024 .f32) (x y : Vec Ideal S2x320x1024 .f32) : Vec Ideal S2x320x1024 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S2x160x1024 .f32) (x : Vec Ideal S2x320x1024 .f32) : Vec Ideal S2x320x1024 .f32 := fun i =>
  mom1 (gradAt core g1 g2 (i 0).val (i 1).val (i 2).val) (at3 x (i 0).val (i 1).val (i 2).val)

/-- The second moment, as an array. -/
def vOf (core : BitVec 32) (g1 g2 : Vec Ideal S2x160x1024 .f32) (y : Vec Ideal S2x320x1024 .f32) : Vec Ideal S2x320x1024 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S2x320x1024.Idx → EReal)
    = shapeCast S2x320x1024 (W (Proc.tc.devRef main_v3_0) : S2x2x160x1024.Idx → EReal) shapeCasts_S2x2x160x1024_S2x320x1024 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S2x320x1024.Idx → EReal)
      = shapeCast S2x320x1024 ((dats m (okm m) 0 c).arrAt 5 (cfgM m (okm m)).N : S2x2x160x1024.Idx → EReal) shapeCasts_S2x2x160x1024_S2x320x1024 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S2x2x160x1024.Idx → EReal => shapeCast S2x320x1024 a shapeCasts_S2x2x160x1024_S2x320x1024) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 2 := (i 0).isLt
  have h1 : (i 1).val < 320 := (i 1).isLt
  have h2 : (i 2).val < 1024 := (i 2).isLt
  refine (congrArg (shapeCast S2x320x1024 ((dats m (okm m) 0 c).arrAt 5 (cfgM m (okm m)).N : S2x2x160x1024.Idx → EReal) shapeCasts_S2x2x160x1024_S2x320x1024) (eq_ix3 i)).trans ?_
  refine (joined_apply (L := 2) (R := 320) (H := 160) (C := 1024) (e := .f32) _ (by norm_num) _ (i 0) (⟨(i 1).val / 160, by omega⟩ : Fin 2) (⟨(i 1).val % 160, by omega⟩ : Fin 160) (i 2) (i 1) (by show (i 1).val = (i 1).val / 160 * 160 + (i 1).val % 160; omega)).trans ?_
  refine (final5 m c _ _ _ _).trans ?_
  have eh : (i 1).val / 160 * 160 + (i 1).val % 160 = (i 1).val := by omega
  dsimp only
  rfl

/-- The line after the body joins the halves of output the step. -/
theorem joined_6 (W : Valuation τ sig (Elt Ideal)) : (StableHlo.after hostOps1 W (Proc.tc.devRef main_v5) : S2x320x1024.Idx → EReal)
    = shapeCast S2x320x1024 (W (Proc.tc.devRef main_v3_1) : S2x2x160x1024.Idx → EReal) shapeCasts_S2x2x160x1024_S2x320x1024 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S2x320x1024.Idx → EReal)
      = shapeCast S2x320x1024 ((dats m (okm m) 0 c).arrAt 6 (cfgM m (okm m)).N : S2x2x160x1024.Idx → EReal) shapeCasts_S2x2x160x1024_S2x320x1024 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S2x2x160x1024.Idx → EReal => shapeCast S2x320x1024 a shapeCasts_S2x2x160x1024_S2x320x1024) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 2 := (i 0).isLt
  have h1 : (i 1).val < 320 := (i 1).isLt
  have h2 : (i 2).val < 1024 := (i 2).isLt
  refine (congrArg (shapeCast S2x320x1024 ((dats m (okm m) 0 c).arrAt 6 (cfgM m (okm m)).N : S2x2x160x1024.Idx → EReal) shapeCasts_S2x2x160x1024_S2x320x1024) (eq_ix3 i)).trans ?_
  refine (joined_apply (L := 2) (R := 320) (H := 160) (C := 1024) (e := .f32) _ (by norm_num) _ (i 0) (⟨(i 1).val / 160, by omega⟩ : Fin 2) (⟨(i 1).val % 160, by omega⟩ : Fin 160) (i 2) (i 1) (by show (i 1).val = (i 1).val / 160 * 160 + (i 1).val % 160; omega)).trans ?_
  refine (final6 m c _ _ _ _).trans ?_
  have eh : (i 1).val / 160 * 160 + (i 1).val % 160 = (i 1).val := by omega
  dsimp only
  rw [eh]
  rfl

/-- The line after the body joins the halves of output the first moment. -/
theorem joined_7 (W : Valuation τ sig (Elt Ideal)) : (StableHlo.after hostOps1 W (Proc.tc.devRef main_v6) : S2x320x1024.Idx → EReal)
    = shapeCast S2x320x1024 (W (Proc.tc.devRef main_v3_2) : S2x2x160x1024.Idx → EReal) shapeCasts_S2x2x160x1024_S2x320x1024 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S2x320x1024.Idx → EReal)
      = shapeCast S2x320x1024 ((dats m (okm m) 0 c).arrAt 7 (cfgM m (okm m)).N : S2x2x160x1024.Idx → EReal) shapeCasts_S2x2x160x1024_S2x320x1024 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S2x2x160x1024.Idx → EReal => shapeCast S2x320x1024 a shapeCasts_S2x2x160x1024_S2x320x1024) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 2 := (i 0).isLt
  have h1 : (i 1).val < 320 := (i 1).isLt
  have h2 : (i 2).val < 1024 := (i 2).isLt
  refine (congrArg (shapeCast S2x320x1024 ((dats m (okm m) 0 c).arrAt 7 (cfgM m (okm m)).N : S2x2x160x1024.Idx → EReal) shapeCasts_S2x2x160x1024_S2x320x1024) (eq_ix3 i)).trans ?_
  refine (joined_apply (L := 2) (R := 320) (H := 160) (C := 1024) (e := .f32) _ (by norm_num) _ (i 0) (⟨(i 1).val / 160, by omega⟩ : Fin 2) (⟨(i 1).val % 160, by omega⟩ : Fin 160) (i 2) (i 1) (by show (i 1).val = (i 1).val / 160 * 160 + (i 1).val % 160; omega)).trans ?_
  refine (final7 m c _ _ _ _).trans ?_
  have eh : (i 1).val / 160 * 160 + (i 1).val % 160 = (i 1).val := by omega
  dsimp only
  rw [eh]
  rfl

/-- The line after the body joins the halves of output the second moment. -/
theorem joined_8 (W : Valuation τ sig (Elt Ideal)) : (StableHlo.after hostOps1 W (Proc.tc.devRef main_v7) : S2x320x1024.Idx → EReal)
    = shapeCast S2x320x1024 (W (Proc.tc.devRef main_v3_3) : S2x2x160x1024.Idx → EReal) shapeCasts_S2x2x160x1024_S2x320x1024 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S2x320x1024.Idx → EReal)
      = shapeCast S2x320x1024 ((dats m (okm m) 0 c).arrAt 8 (cfgM m (okm m)).N : S2x2x160x1024.Idx → EReal) shapeCasts_S2x2x160x1024_S2x320x1024 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S2x2x160x1024.Idx → EReal => shapeCast S2x320x1024 a shapeCasts_S2x2x160x1024_S2x320x1024) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 2 := (i 0).isLt
  have h1 : (i 1).val < 320 := (i 1).isLt
  have h2 : (i 2).val < 1024 := (i 2).isLt
  refine (congrArg (shapeCast S2x320x1024 ((dats m (okm m) 0 c).arrAt 8 (cfgM m (okm m)).N : S2x2x160x1024.Idx → EReal) shapeCasts_S2x2x160x1024_S2x320x1024) (eq_ix3 i)).trans ?_
  refine (joined_apply (L := 2) (R := 320) (H := 160) (C := 1024) (e := .f32) _ (by norm_num) _ (i 0) (⟨(i 1).val / 160, by omega⟩ : Fin 2) (⟨(i 1).val % 160, by omega⟩ : Fin 160) (i 2) (i 1) (by show (i 1).val = (i 1).val / 160 * 160 + (i 1).val % 160; omega)).trans ?_
  refine (final8 m c _ _ _ _).trans ?_
  have eh : (i 1).val / 160 * 160 + (i 1).val % 160 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdLruOutIdeal.Value

end
-- ==== Proof.UpdLruOutRef.lean ====
/- The recurrent unit's output weight: the reference's step, and the two runs together. -/
module

public import proofs.«01_k».proof.Proof.UpdLruOutRun
public import proofs.«01_k».proof.Proof.Gen.UpdLruOutRefIdeal.Run
public import proofs.«01_k».proof.Proof.Gen.UpdLruOutRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdLruOutRefIdeal.Value

open Cert.UpdLruOutRefIdeal Cert.UpdLruOutRefIdeal.Gen Cert.UpdLruOutRefIdeal.Read AdamStep
open Cert.UpdLruOutIdeal.Value (gOf dOf mOf vOf)

variable (x0 : Vec Ideal S1 .i32) (x1 : Vec Ideal S2x320x1024 .f32) (x2 x3 : Vec Ideal S2x160x1024 .f32) (x4 x5 : Vec Ideal S2x320x1024 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S2x160x1024.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S2x160x1024 (val_main_v1 (F := Ideal) x0) j (fun a => a.elim0) (fun a => a.elim0)]
  rfl

/-- The lower half of the rows. -/
theorem lower_at (j : S2x160x1024.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S2x160x1024 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 2 := (i 0).isLt
  have h1 : (i 1).val < 320 := (i 1).isLt
  have h2 : (i 2).val < 1024 := (i 2).isLt
  unfold val_main_v6
  by_cases hc : (i 1).val < 160
  · refine (concatenate_pair_apply_left (1 : Fin 3) (val_main_v2 (F := Ideal) x0 x2 x3) (val_main_v5 (F := Ideal) x0 x2 x3) concatenates_S2x160x1024_S2x160x1024_S2x320x1024_d1 i rfl
      (ix3 (Fin.ofNat 2 (i 0).val) (Fin.ofNat 160 ((i 1).val % 160)) (Fin.ofNat 1024 (i 2).val)) (fun b => ?_)).trans ?_
    · match b with
      | ⟨0, _⟩ => show (i 0).val % 2 = (i 0).val; exact Nat.mod_eq_of_lt h0
      | ⟨1, _⟩ => show (i 1).val % 160 % 160 = (i 1).val; rewrite [Nat.mod_mod]; exact Nat.mod_eq_of_lt hc
      | ⟨2, _⟩ => show (i 2).val % 1024 = (i 2).val; exact Nat.mod_eq_of_lt h2
    · refine (upper_at x0 x2 x3 _).trans ?_
      unfold gOf gradAt
      rw [show (i 1).val / 160 = 0 from Nat.div_eq_of_lt hc]
      rfl
  · refine (concatenate_pair_apply_right (1 : Fin 3) (val_main_v2 (F := Ideal) x0 x2 x3) (val_main_v5 (F := Ideal) x0 x2 x3) concatenates_S2x160x1024_S2x160x1024_S2x320x1024_d1 i rfl rfl
      (ix3 (Fin.ofNat 2 (i 0).val) (Fin.ofNat 160 ((i 1).val % 160)) (Fin.ofNat 1024 (i 2).val)) (fun b hb => ?_) ?_).trans ?_
    · match b with
      | ⟨0, _⟩ => show (i 0).val % 2 = (i 0).val; exact Nat.mod_eq_of_lt h0
      | ⟨1, _⟩ => exact absurd rfl hb
      | ⟨2, _⟩ => show (i 2).val % 1024 = (i 2).val; exact Nat.mod_eq_of_lt h2
    · show (i 1).val % 160 % 160 + 160 = (i 1).val; omega
    · refine (lower_at x0 x2 x3 _).trans ?_
      unfold gOf gradAt
      rw [show (i 1).val / 160 = 1 by omega]
      rfl

/-- A weight at its own index. -/
theorem at_self (x : Vec Ideal S2x320x1024 .f32) (i : S2x320x1024.Idx) : x i = at3 (A := 2) (B := 320) (C := 1024) x (i 0).val (i 1).val (i 2).val := by
  have h0 : (i 0).val < 2 := (i 0).isLt
  have h1 : (i 1).val < 320 := (i 1).isLt
  have h2 : (i 2).val < 1024 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S2x320x1024.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S2x320x1024.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S2x320x1024.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdLruOutRefIdeal := fun m ρ _ =>
  (θ_run _ _ _).mono (fun _ h => ⟨fun c => (h c).2.2.2.2, funext fun g => nomatch g.2⟩) (run_value m ρ)

end Cert.UpdLruOutRefIdeal.Value

open Cert.UpdLruOutIdeal.Value (gOf dOf mOf vOf coreOf) in
/-- The kernel's values and the reference's, over the ideal reals. -/
theorem UpdLruOut_value : Cert.algebraic_UpdLruOutIdeal_UpdLruOutRefIdeal :=
  fun m g m' g' _ h => ⟨fun c => gOf (coreOf m) (m ((c.tc : Thread Cert.UpdLruOutIdeal.nD Cert.UpdLruOutIdeal.τ).loc Cert.UpdLruOutIdeal.main_arg2)) (m ((c.tc : Thread Cert.UpdLruOutIdeal.nD Cert.UpdLruOutIdeal.τ).loc Cert.UpdLruOutIdeal.main_arg3)),
    fun c => dOf (coreOf m) (m ((c.tc : Thread Cert.UpdLruOutIdeal.nD Cert.UpdLruOutIdeal.τ).loc Cert.UpdLruOutIdeal.main_arg1)) (m ((c.tc : Thread Cert.UpdLruOutIdeal.nD Cert.UpdLruOutIdeal.τ).loc Cert.UpdLruOutIdeal.main_arg2)) (m ((c.tc : Thread Cert.UpdLruOutIdeal.nD Cert.UpdLruOutIdeal.τ).loc Cert.UpdLruOutIdeal.main_arg3)) (m ((c.tc : Thread Cert.UpdLruOutIdeal.nD Cert.UpdLruOutIdeal.τ).loc Cert.UpdLruOutIdeal.main_arg4)) (m ((c.tc : Thread Cert.UpdLruOutIdeal.nD Cert.UpdLruOutIdeal.τ).loc Cert.UpdLruOutIdeal.main_arg5)),
    fun c => mOf (coreOf m) (m ((c.tc : Thread Cert.UpdLruOutIdeal.nD Cert.UpdLruOutIdeal.τ).loc Cert.UpdLruOutIdeal.main_arg2)) (m ((c.tc : Thread Cert.UpdLruOutIdeal.nD Cert.UpdLruOutIdeal.τ).loc Cert.UpdLruOutIdeal.main_arg3)) (m ((c.tc : Thread Cert.UpdLruOutIdeal.nD Cert.UpdLruOutIdeal.τ).loc Cert.UpdLruOutIdeal.main_arg4)),
    fun c => vOf (coreOf m) (m ((c.tc : Thread Cert.UpdLruOutIdeal.nD Cert.UpdLruOutIdeal.τ).loc Cert.UpdLruOutIdeal.main_arg2)) (m ((c.tc : Thread Cert.UpdLruOutIdeal.nD Cert.UpdLruOutIdeal.τ).loc Cert.UpdLruOutIdeal.main_arg3)) (m ((c.tc : Thread Cert.UpdLruOutIdeal.nD Cert.UpdLruOutIdeal.τ).loc Cert.UpdLruOutIdeal.main_arg5)),
    Cert.UpdLruOutIdeal.Value.run_value m g,
    (θ_run _ _ _).mono (fun r hr c => by
      have hc := hr c
      obtain ⟨a0, a1, a2, a3, a4, a5⟩ := h c
      have e0 : (m' ((c.tc : Thread Cert.UpdLruOutRefIdeal.nD Cert.UpdLruOutRefIdeal.τ).loc Cert.UpdLruOutRefIdeal.main_arg0) : Cert.UpdLruOutRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdLruOutRefIdeal.Value.run_value m' g')⟩

end
-- ==== Proof.UpdUpRun.lean ====
/- The feed-forward block's first weight: the kernel's gradient, step and moments, at every weight. -/
module

public import proofs.«01_k».proof.Proof.AdamStep
public import proofs.«01_k».proof.Proof.Gen.UpdUpIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdUpIdeal.Value

open Cert.UpdUpIdeal Cert.UpdUpIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x256x1408 .f32) (w mm vv : Vec Ideal S1x1x256x1408 .f32) (p : Fin 256) (q : Fin 1408)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 256) (B := 1408) (e := .f32) g1 _ p q
  · exact dropUnit_apply (A := 256) (B := 1408) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 256) (B := 1408) (e := .f32) mm shapeCasts_S1x1x256x1408_S256x1408 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 256) (B := 1408) (e := .f32) vv shapeCasts_S1x1x256x1408_S256x1408 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 256) (B := 1408) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 256) (B := 1408) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 256) (B := 1408) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 256) (B := 1408) (e := .f32) _ _ p q).trans ?_
  unfold delta
  rw [← pay5_at, ← pay6_at, ← dropUnits_apply (A := 256) (B := 1408) (e := .f32) w shapeCasts_S1x1x256x1408_S256x1408 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x256x1408 .f32) (harg4 : arg4.IsWhole) (arg5 : Memref sig .tc .vmem S1x256x1408 .f32) (harg5 : arg5.IsWhole) (arg6 : Memref sig .tc .vmem S1x256x1408 .f32) (harg6 : arg6.IsWhole) (arg7 : Memref sig .tc .vmem S1x1x256x1408 .f32) (harg7 : arg7.IsWhole) (arg8 : Memref sig .tc .vmem S1x1x256x1408 .f32) (harg8 : arg8.IsWhole) (arg9 : Memref sig .tc .vmem S1x1x256x1408 .f32) (harg9 : arg9.IsWhole) (arg10 : Memref sig .tc .vmem S1x1x256x1408 .f32) (harg10 : arg10.IsWhole) (arg11 : Memref sig .tc .vmem S1x1x256x1408 .f32) (harg11 : arg11.IsWhole) (arg12 : Memref sig .tc .vmem S1x1x256x1408 .f32) (harg12 : arg12.IsWhole)
  (x0 : Vec Ideal S1x1x256x1408 .f32) (x1 : Vec Ideal S1x256x1408 .f32) (x2 : Vec Ideal S1x256x1408 .f32) (x3 : Vec Ideal S1x1x256x1408 .f32) (x4 : Vec Ideal S1x1x256x1408 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x256x1408) hz4]
  have hc := core_eq m c
  unfold kernelRun0_A.sl.r at hc
  sl_unfold_run_values
  simp only [readAt_zero (S := S1x256x1408) hz3, readAt_zero (S := S1x1x256x1408) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x256x1408) hz4]
  have hc := core_eq m c
  unfold kernelRun0_A.sl.r at hc
  sl_unfold_run_values
  simp only [readAt_zero (S := S1x256x1408) hz3, readAt_zero (S := S1x1x256x1408) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x256x1408) hz4]
  have hc := core_eq m c
  unfold kernelRun0_A.sl.r at hc
  sl_unfold_run_values
  simp only [readAt_zero (S := S1x256x1408) hz3, readAt_zero (S := S1x1x256x1408) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x256x1408) hz4]
  have hc := core_eq m c
  unfold kernelRun0_A.sl.r at hc
  sl_unfold_run_values
  simp only [readAt_zero (S := S1x256x1408) hz3, readAt_zero (S := S1x1x256x1408) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 16 := lt_of_lt_of_eq t.isLt N_0
theorem half_eq : ∀ t : Fin grid0.N, (grid0.coords t 1).val = t.val / 2 % 2 := by decide +kernel
theorem ixH : ∀ t : Fin grid0.N, cc0_transform_0 (grid0.coords t) 0 = t.val / 4 ∧ cc0_transform_0 (grid0.coords t) 1 = t.val / 2 % 2 ∧ cc0_transform_0 (grid0.coords t) 2 = t.val % 2 ∧ cc0_transform_0 (grid0.coords t) 3 = 0 := by decide +kernel
theorem ixG : ∀ t : Fin grid0.N, cc0_transform_1 (grid0.coords t) 0 = t.val / 4 ∧ cc0_transform_1 (grid0.coords t) 1 = t.val % 2 ∧ cc0_transform_1 (grid0.coords t) 2 = 0 := by decide +kernel

/-- The core's own half of the summed gradient, a tile of it. -/
theorem blk1 (c : Dev nD) (t : Fin grid0.N) (p : Fin 256) (q : Fin 1408) :
    iblk m (okm m) c 1 t (ix3 0 p q) = at3 (A := 4) (B := 512) (C := 1408) (m ((c.tc : Thread nD τ).loc main_arg2)) (t.val / 4) (t.val % 2 * 256 + p.val) q.val := by
  have ht := ltN t; have hp := p.isLt; have hq := q.isLt
  unfold iblk
  refine (View.read_apply _ _).trans ?_
  show (V m c main_arg2 : S4x512x1408.Idx → EReal) _ = (m ((c.tc : Thread nD τ).loc main_arg2) : S4x512x1408.Idx → EReal) _
  rw [V_main_arg2]
  congr 1; funext b; apply Fin.ext
  match b with
  | ⟨0, _⟩ => show cc0_transform_1 (grid0.coords t) 0 * 1 + 1 * 0 = (t.val / 4) % 4; rw [(ixG t).1]; omega
  | ⟨1, _⟩ => show cc0_transform_1 (grid0.coords t) 1 * 256 + 1 * p.val = (t.val % 2 * 256 + p.val) % 512; rw [(ixG t).2.1]; omega
  | ⟨2, _⟩ => show cc0_transform_1 (grid0.coords t) 2 * 1408 + 1 * q.val = q.val % 1408; rw [(ixG t).2.2]; omega

/-- The sibling's half of the summed gradient, a tile of it. -/
theorem blk2 (c : Dev nD) (t : Fin grid0.N) (p : Fin 256) (q : Fin 1408) :
    iblk m (okm m) c 2 t (ix3 0 p q) = at3 (A := 4) (B := 512) (C := 1408) (m ((c.tc : Thread nD τ).loc main_arg3)) (t.val / 4) (t.val % 2 * 256 + p.val) q.val := by
  have ht := ltN t; have hp := p.isLt; have hq := q.isLt
  unfold iblk
  refine (View.read_apply _ _).trans ?_
  show (V m c main_arg3 : S4x512x1408.Idx → EReal) _ = (m ((c.tc : Thread nD τ).loc main_arg3) : S4x512x1408.Idx → EReal) _
  rw [V_main_arg3]
  congr 1; funext b; apply Fin.ext
  match b with
  | ⟨0, _⟩ => show cc0_transform_1 (grid0.coords t) 0 * 1 + 1 * 0 = (t.val / 4) % 4; rw [(ixG t).1]; omega
  | ⟨1, _⟩ => show cc0_transform_1 (grid0.coords t) 1 * 256 + 1 * p.val = (t.val % 2 * 256 + p.val) % 512; rw [(ixG t).2.1]; omega
  | ⟨2, _⟩ => show cc0_transform_1 (grid0.coords t) 2 * 1408 + 1 * q.val = q.val % 1408; rw [(ixG t).2.2]; omega

/-- The weight, a tile of it. -/
theorem blk0 (c : Dev nD) (t : Fin grid0.N) (p : Fin 256) (q : Fin 1408) :
    iblk m (okm m) c 0 t (ix4 0 0 p q) = at3 (A := 4) (B := 1024) (C := 1408) (m ((c.tc : Thread nD τ).loc main_arg1)) (t.val / 4) (t.val / 2 % 2 * 512 + (t.val % 2 * 256 + p.val)) q.val := by
  have ht := ltN t; have hp := p.isLt; have hq := q.isLt
  have e : (StableHlo.after hostOps0 (fun b => m (c, b)) (Proc.tc.devRef main_v0) : S4x2x512x1408.Idx → EReal)
      = shapeCast S4x2x512x1408 (m ((c.tc : Thread nD τ).loc main_arg1) : S4x1024x1408.Idx → EReal) shapeCasts_S4x1024x1408_S4x2x512x1408 := by
    after_results
    rfl
  have hi : ((((cfgM m (okm m)).win 0).blk t).view.emb (ix4 0 0 p q) : S4x2x512x1408.Idx) = ix4 (⟨t.val / 4, by omega⟩ : Fin 4) (⟨t.val / 2 % 2, by omega⟩ : Fin 2) (⟨t.val % 2 * 256 + p.val, by omega⟩ : Fin 512) q := by
    funext b; apply Fin.ext
    match b with
    | ⟨0, _⟩ => show cc0_transform_0 (grid0.coords t) 0 * 1 + 1 * 0 = t.val / 4; rw [(ixH t).1]; omega
    | ⟨1, _⟩ => show cc0_transform_0 (grid0.coords t) 1 * 1 + 1 * 0 = t.val / 2 % 2; rw [(ixH t).2.1]; omega
    | ⟨2, _⟩ => show cc0_transform_0 (grid0.coords t) 2 * 256 + 1 * p.val = t.val % 2 * 256 + p.val; rw [(ixH t).2.2.1]; omega
    | ⟨3, _⟩ => show cc0_transform_0 (grid0.coords t) 3 * 1408 + 1 * q.val = q.val; rw [(ixH t).2.2.2]; omega
  unfold iblk
  refine (View.read_apply _ _).trans ?_
  refine (show _ = (StableHlo.after hostOps0 (fun b => m (c, b)) (Proc.tc.devRef main_v0) : S4x2x512x1408.Idx → EReal) ((((cfgM m (okm m)).win 0).blk t).view.emb (ix4 0 0 p q)) from rfl).trans ?_
  refine (congrArg (StableHlo.after hostOps0 (fun b => m (c, b)) (Proc.tc.devRef main_v0) : S4x2x512x1408.Idx → EReal) hi).trans ?_
  refine (congrFun e _).trans ?_
  refine (halves_apply (L := 4) (R := 1024) (H := 512) (C := 1408) (e := .f32) (m ((c.tc : Thread nD τ).loc main_arg1) : S4x1024x1408.Idx → EReal) (by norm_num) _ _ _ _ _ (⟨t.val / 2 % 2 * 512 + (t.val % 2 * 256 + p.val), by omega⟩ : Fin 1024) (by rfl)).trans ?_
  unfold AdamStep.at3
  congr 1; funext b; apply Fin.ext
  match b with
  | ⟨0, _⟩ => show t.val / 4 = (t.val / 4) % 4; omega
  | ⟨1, _⟩ => show t.val / 2 % 2 * 512 + (t.val % 2 * 256 + p.val) = (t.val / 2 % 2 * 512 + (t.val % 2 * 256 + p.val)) % 1024; omega
  | ⟨2, _⟩ => show q.val = q.val % 1408; omega

/-- The first moment, a tile of it. -/
theorem blk3 (c : Dev nD) (t : Fin grid0.N) (p : Fin 256) (q : Fin 1408) :
    iblk m (okm m) c 3 t (ix4 0 0 p q) = at3 (A := 4) (B := 1024) (C := 1408) (m ((c.tc : Thread nD τ).loc main_arg4)) (t.val / 4) (t.val / 2 % 2 * 512 + (t.val % 2 * 256 + p.val)) q.val := by
  have ht := ltN t; have hp := p.isLt; have hq := q.isLt
  have e : (StableHlo.after hostOps0 (fun b => m (c, b)) (Proc.tc.devRef main_v1) : S4x2x512x1408.Idx → EReal)
      = shapeCast S4x2x512x1408 (m ((c.tc : Thread nD τ).loc main_arg4) : S4x1024x1408.Idx → EReal) shapeCasts_S4x1024x1408_S4x2x512x1408 := by
    after_results
    rfl
  have hi : ((((cfgM m (okm m)).win 3).blk t).view.emb (ix4 0 0 p q) : S4x2x512x1408.Idx) = ix4 (⟨t.val / 4, by omega⟩ : Fin 4) (⟨t.val / 2 % 2, by omega⟩ : Fin 2) (⟨t.val % 2 * 256 + p.val, by omega⟩ : Fin 512) q := by
    funext b; apply Fin.ext
    match b with
    | ⟨0, _⟩ => show cc0_transform_0 (grid0.coords t) 0 * 1 + 1 * 0 = t.val / 4; rw [(ixH t).1]; omega
    | ⟨1, _⟩ => show cc0_transform_0 (grid0.coords t) 1 * 1 + 1 * 0 = t.val / 2 % 2; rw [(ixH t).2.1]; omega
    | ⟨2, _⟩ => show cc0_transform_0 (grid0.coords t) 2 * 256 + 1 * p.val = t.val % 2 * 256 + p.val; rw [(ixH t).2.2.1]; omega
    | ⟨3, _⟩ => show cc0_transform_0 (grid0.coords t) 3 * 1408 + 1 * q.val = q.val; rw [(ixH t).2.2.2]; omega
  unfold iblk
  refine (View.read_apply _ _).trans ?_
  refine (show _ = (StableHlo.after hostOps0 (fun b => m (c, b)) (Proc.tc.devRef main_v1) : S4x2x512x1408.Idx → EReal) ((((cfgM m (okm m)).win 3).blk t).view.emb (ix4 0 0 p q)) from rfl).trans ?_
  refine (congrArg (StableHlo.after hostOps0 (fun b => m (c, b)) (Proc.tc.devRef main_v1) : S4x2x512x1408.Idx → EReal) hi).trans ?_
  refine (congrFun e _).trans ?_
  refine (halves_apply (L := 4) (R := 1024) (H := 512) (C := 1408) (e := .f32) (m ((c.tc : Thread nD τ).loc main_arg4) : S4x1024x1408.Idx → EReal) (by norm_num) _ _ _ _ _ (⟨t.val / 2 % 2 * 512 + (t.val % 2 * 256 + p.val), by omega⟩ : Fin 1024) (by rfl)).trans ?_
  unfold AdamStep.at3
  congr 1; funext b; apply Fin.ext
  match b with
  | ⟨0, _⟩ => show t.val / 4 = (t.val / 4) % 4; omega
  | ⟨1, _⟩ => show t.val / 2 % 2 * 512 + (t.val % 2 * 256 + p.val) = (t.val / 2 % 2 * 512 + (t.val % 2 * 256 + p.val)) % 1024; omega
  | ⟨2, _⟩ => show q.val = q.val % 1408; omega

/-- The second moment, a tile of it. -/
theorem blk4 (c : Dev nD) (t : Fin grid0.N) (p : Fin 256) (q : Fin 1408) :
    iblk m (okm m) c 4 t (ix4 0 0 p q) = at3 (A := 4) (B := 1024) (C := 1408) (m ((c.tc : Thread nD τ).loc main_arg5)) (t.val / 4) (t.val / 2 % 2 * 512 + (t.val % 2 * 256 + p.val)) q.val := by
  have ht := ltN t; have hp := p.isLt; have hq := q.isLt
  have e : (StableHlo.after hostOps0 (fun b => m (c, b)) (Proc.tc.devRef main_v2) : S4x2x512x1408.Idx → EReal)
      = shapeCast S4x2x512x1408 (m ((c.tc : Thread nD τ).loc main_arg5) : S4x1024x1408.Idx → EReal) shapeCasts_S4x1024x1408_S4x2x512x1408 := by
    after_results
    rfl
  have hi : ((((cfgM m (okm m)).win 4).blk t).view.emb (ix4 0 0 p q) : S4x2x512x1408.Idx) = ix4 (⟨t.val / 4, by omega⟩ : Fin 4) (⟨t.val / 2 % 2, by omega⟩ : Fin 2) (⟨t.val % 2 * 256 + p.val, by omega⟩ : Fin 512) q := by
    funext b; apply Fin.ext
    match b with
    | ⟨0, _⟩ => show cc0_transform_0 (grid0.coords t) 0 * 1 + 1 * 0 = t.val / 4; rw [(ixH t).1]; omega
    | ⟨1, _⟩ => show cc0_transform_0 (grid0.coords t) 1 * 1 + 1 * 0 = t.val / 2 % 2; rw [(ixH t).2.1]; omega
    | ⟨2, _⟩ => show cc0_transform_0 (grid0.coords t) 2 * 256 + 1 * p.val = t.val % 2 * 256 + p.val; rw [(ixH t).2.2.1]; omega
    | ⟨3, _⟩ => show cc0_transform_0 (grid0.coords t) 3 * 1408 + 1 * q.val = q.val; rw [(ixH t).2.2.2]; omega
  unfold iblk
  refine (View.read_apply _ _).trans ?_
  refine (show _ = (StableHlo.after hostOps0 (fun b => m (c, b)) (Proc.tc.devRef main_v2) : S4x2x512x1408.Idx → EReal) ((((cfgM m (okm m)).win 4).blk t).view.emb (ix4 0 0 p q)) from rfl).trans ?_
  refine (congrArg (StableHlo.after hostOps0 (fun b => m (c, b)) (Proc.tc.devRef main_v2) : S4x2x512x1408.Idx → EReal) hi).trans ?_
  refine (congrFun e _).trans ?_
  refine (halves_apply (L := 4) (R := 1024) (H := 512) (C := 1408) (e := .f32) (m ((c.tc : Thread nD τ).loc main_arg5) : S4x1024x1408.Idx → EReal) (by norm_num) _ _ _ _ _ (⟨t.val / 2 % 2 * 512 + (t.val % 2 * 256 + p.val), by omega⟩ : Fin 1024) (by rfl)).trans ?_
  unfold AdamStep.at3
  congr 1; funext b; apply Fin.ext
  match b with
  | ⟨0, _⟩ => show t.val / 4 = (t.val / 4) % 4; omega
  | ⟨1, _⟩ => show t.val / 2 % 2 * 512 + (t.val % 2 * 256 + p.val) = (t.val / 2 % 2 * 512 + (t.val % 2 * 256 + p.val)) % 1024; omega
  | ⟨2, _⟩ => show q.val = q.val % 1408; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x256x1408.Idx) :
    ((dats m (okm m) 0 c).arrAt 5 (cfgM m (okm m)).N : S4x2x512x1408.Idx → EReal) ((((cfgM m (okm m)).win 5).blk t).view.emb y) = ((dats m (okm m) 0 c).after 5 t : S1x1x256x1408.Idx → EReal) y :=
  (dats m (okm m) 0 c).arrAt_emb_eq_flushed 5 (disjoint5 m) t (flush0_5 _ t) y

/-- Where an index of the array of output the gradient sits in its block. -/
theorem emb5 (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((((cfgM m (okm m)).win 5).blk t).view.emb (ix4 0 0 p q : S1x1x256x1408.Idx) : S4x2x512x1408.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 256 + 1 * p.val = r.val; rewrite [(ixH t).2.2.1, Nat.one_mul]; exact h2
  | ⟨3, _⟩ => show cc0_transform_0 (grid0.coords t) 3 * 1408 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((dats m (okm m) 0 c).arrAt 5 (cfgM m (okm m)).N : S4x2x512x1408.Idx → EReal) (ix4 l b r q) = grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val) := by
  refine (congrArg ((dats m (okm m) 0 c).arrAt 5 (cfgM m (okm m)).N : S4x2x512x1408.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 4) (b : Fin 2) (r : Fin 512) (q : Fin 1408) :
    ((dats m (okm m) 0 c).arrAt 5 (cfgM m (okm m)).N : S4x2x512x1408.Idx → EReal) (ix4 l b r q) = grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val) := by
  have hl := l.isLt; have hb2 := b.isLt; have hr := r.isLt
  have ht : l.val * 4 + b.val * 2 + r.val / 256 < grid0.N := lt_of_lt_of_eq (by omega) N_0.symm
  have e0 : (l.val * 4 + b.val * 2 + r.val / 256) / 4 = l.val := by omega
  have e1 : (l.val * 4 + b.val * 2 + r.val / 256) / 2 % 2 = b.val := by omega
  have e2 : (l.val * 4 + b.val * 2 + r.val / 256) % 2 * 256 + r.val % 256 = r.val := by omega
  exact tile5 m c ⟨l.val * 4 + b.val * 2 + r.val / 256, ht⟩ (⟨r.val % 256, by omega⟩ : Fin 256) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x256x1408.Idx) :
    ((dats m (okm m) 0 c).arrAt 6 (cfgM m (okm m)).N : S4x2x512x1408.Idx → EReal) ((((cfgM m (okm m)).win 6).blk t).view.emb y) = ((dats m (okm m) 0 c).after 6 t : S1x1x256x1408.Idx → EReal) y :=
  (dats m (okm m) 0 c).arrAt_emb_eq_flushed 6 (disjoint6 m) t (flush0_6 _ t) y

/-- Where an index of the array of output the step sits in its block. -/
theorem emb6 (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((((cfgM m (okm m)).win 6).blk t).view.emb (ix4 0 0 p q : S1x1x256x1408.Idx) : S4x2x512x1408.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 256 + 1 * p.val = r.val; rewrite [(ixH t).2.2.1, Nat.one_mul]; exact h2
  | ⟨3, _⟩ => show cc0_transform_0 (grid0.coords t) 3 * 1408 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((dats m (okm m) 0 c).arrAt 6 (cfgM m (okm m)).N : S4x2x512x1408.Idx → EReal) (ix4 l b r q) = delta (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg1)) l.val (b.val * 512 + r.val) q.val) (at3 (A := 4) (B := 1024) (C := 1408) (m ((c.tc : Thread nD τ).loc main_arg4)) l.val (b.val * 512 + r.val) q.val) (at3 (A := 4) (B := 1024) (C := 1408) (m ((c.tc : Thread nD τ).loc main_arg5)) l.val (b.val * 512 + r.val) q.val) := by
  refine (congrArg ((dats m (okm m) 0 c).arrAt 6 (cfgM m (okm m)).N : S4x2x512x1408.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 4) (b : Fin 2) (r : Fin 512) (q : Fin 1408) :
    ((dats m (okm m) 0 c).arrAt 6 (cfgM m (okm m)).N : S4x2x512x1408.Idx → EReal) (ix4 l b r q) = delta (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg1)) l.val (b.val * 512 + r.val) q.val) (at3 (A := 4) (B := 1024) (C := 1408) (m ((c.tc : Thread nD τ).loc main_arg4)) l.val (b.val * 512 + r.val) q.val) (at3 (A := 4) (B := 1024) (C := 1408) (m ((c.tc : Thread nD τ).loc main_arg5)) l.val (b.val * 512 + r.val) q.val) := by
  have hl := l.isLt; have hb2 := b.isLt; have hr := r.isLt
  have ht : l.val * 4 + b.val * 2 + r.val / 256 < grid0.N := lt_of_lt_of_eq (by omega) N_0.symm
  have e0 : (l.val * 4 + b.val * 2 + r.val / 256) / 4 = l.val := by omega
  have e1 : (l.val * 4 + b.val * 2 + r.val / 256) / 2 % 2 = b.val := by omega
  have e2 : (l.val * 4 + b.val * 2 + r.val / 256) % 2 * 256 + r.val % 256 = r.val := by omega
  exact tile6 m c ⟨l.val * 4 + b.val * 2 + r.val / 256, ht⟩ (⟨r.val % 256, by omega⟩ : Fin 256) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x256x1408.Idx) :
    ((dats m (okm m) 0 c).arrAt 7 (cfgM m (okm m)).N : S4x2x512x1408.Idx → EReal) ((((cfgM m (okm m)).win 7).blk t).view.emb y) = ((dats m (okm m) 0 c).after 7 t : S1x1x256x1408.Idx → EReal) y :=
  (dats m (okm m) 0 c).arrAt_emb_eq_flushed 7 (disjoint7 m) t (flush0_7 _ t) y

/-- Where an index of the array of output the first moment sits in its block. -/
theorem emb7 (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((((cfgM m (okm m)).win 7).blk t).view.emb (ix4 0 0 p q : S1x1x256x1408.Idx) : S4x2x512x1408.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 256 + 1 * p.val = r.val; rewrite [(ixH t).2.2.1, Nat.one_mul]; exact h2
  | ⟨3, _⟩ => show cc0_transform_0 (grid0.coords t) 3 * 1408 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((dats m (okm m) 0 c).arrAt 7 (cfgM m (okm m)).N : S4x2x512x1408.Idx → EReal) (ix4 l b r q) = mom1 (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg4)) l.val (b.val * 512 + r.val) q.val) := by
  refine (congrArg ((dats m (okm m) 0 c).arrAt 7 (cfgM m (okm m)).N : S4x2x512x1408.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 4) (b : Fin 2) (r : Fin 512) (q : Fin 1408) :
    ((dats m (okm m) 0 c).arrAt 7 (cfgM m (okm m)).N : S4x2x512x1408.Idx → EReal) (ix4 l b r q) = mom1 (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg4)) l.val (b.val * 512 + r.val) q.val) := by
  have hl := l.isLt; have hb2 := b.isLt; have hr := r.isLt
  have ht : l.val * 4 + b.val * 2 + r.val / 256 < grid0.N := lt_of_lt_of_eq (by omega) N_0.symm
  have e0 : (l.val * 4 + b.val * 2 + r.val / 256) / 4 = l.val := by omega
  have e1 : (l.val * 4 + b.val * 2 + r.val / 256) / 2 % 2 = b.val := by omega
  have e2 : (l.val * 4 + b.val * 2 + r.val / 256) % 2 * 256 + r.val % 256 = r.val := by omega
  exact tile7 m c ⟨l.val * 4 + b.val * 2 + r.val / 256, ht⟩ (⟨r.val % 256, by omega⟩ : Fin 256) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x256x1408.Idx) :
    ((dats m (okm m) 0 c).arrAt 8 (cfgM m (okm m)).N : S4x2x512x1408.Idx → EReal) ((((cfgM m (okm m)).win 8).blk t).view.emb y) = ((dats m (okm m) 0 c).after 8 t : S1x1x256x1408.Idx → EReal) y :=
  (dats m (okm m) 0 c).arrAt_emb_eq_flushed 8 (disjoint8 m) t (flush0_8 _ t) y

/-- Where an index of the array of output the second moment sits in its block. -/
theorem emb8 (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((((cfgM m (okm m)).win 8).blk t).view.emb (ix4 0 0 p q : S1x1x256x1408.Idx) : S4x2x512x1408.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 256 + 1 * p.val = r.val; rewrite [(ixH t).2.2.1, Nat.one_mul]; exact h2
  | ⟨3, _⟩ => show cc0_transform_0 (grid0.coords t) 3 * 1408 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 256) (q : Fin 1408) (l : Fin 4) (b : Fin 2) (r : Fin 512) (h0 : t.val / 4 = l.val) (h1 : t.val / 2 % 2 = b.val) (h2 : t.val % 2 * 256 + p.val = r.val) :
    ((dats m (okm m) 0 c).arrAt 8 (cfgM m (okm m)).N : S4x2x512x1408.Idx → EReal) (ix4 l b r q) = mom2 (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg5)) l.val (b.val * 512 + r.val) q.val) := by
  refine (congrArg ((dats m (okm m) 0 c).arrAt 8 (cfgM m (okm m)).N : S4x2x512x1408.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 4) (b : Fin 2) (r : Fin 512) (q : Fin 1408) :
    ((dats m (okm m) 0 c).arrAt 8 (cfgM m (okm m)).N : S4x2x512x1408.Idx → EReal) (ix4 l b r q) = mom2 (grad (coreOf m) b.val (at3 (A := 4) (B := 512) (C := 1408) (m ((c.tc : Thread nD τ).loc main_arg2)) l.val r.val q.val) (at3 (A := 4) (B := 512) (C := 1408) (m ((c.tc : Thread nD τ).loc main_arg3)) l.val r.val q.val)) (at3 (A := 4) (B := 1024) (C := 1408) (m ((c.tc : Thread nD τ).loc main_arg5)) l.val (b.val * 512 + r.val) q.val) := by
  have hl := l.isLt; have hb2 := b.isLt; have hr := r.isLt
  have ht : l.val * 4 + b.val * 2 + r.val / 256 < grid0.N := lt_of_lt_of_eq (by omega) N_0.symm
  have e0 : (l.val * 4 + b.val * 2 + r.val / 256) / 4 = l.val := by omega
  have e1 : (l.val * 4 + b.val * 2 + r.val / 256) / 2 % 2 = b.val := by omega
  have e2 : (l.val * 4 + b.val * 2 + r.val / 256) % 2 * 256 + r.val % 256 = r.val := by omega
  exact tile8 m c ⟨l.val * 4 + b.val * 2 + r.val / 256, ht⟩ (⟨r.val % 256, by omega⟩ : Fin 256) q l b r e0 e1 e2

/-- The gradient, as an array. -/
def gOf (core : BitVec 32) (g1 g2 : Vec Ideal S4x512x1408 .f32) : Vec Ideal S4x1024x1408 .f32 := fun i =>
  gradAt core g1 g2 (i 0).val (i 1).val (i 2).val

/-- The step, as an array. -/
def dOf (core : BitVec 32) (w : Vec Ideal S4x1024x1408 .f32) (g1 g2 : Vec Ideal S4x512x1408 .f32) (x y : Vec Ideal S4x1024x1408 .f32) : Vec Ideal S4x1024x1408 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S4x512x1408 .f32) (x : Vec Ideal S4x1024x1408 .f32) : Vec Ideal S4x1024x1408 .f32 := fun i =>
  mom1 (gradAt core g1 g2 (i 0).val (i 1).val (i 2).val) (at3 x (i 0).val (i 1).val (i 2).val)

/-- The second moment, as an array. -/
def vOf (core : BitVec 32) (g1 g2 : Vec Ideal S4x512x1408 .f32) (y : Vec Ideal S4x1024x1408 .f32) : Vec Ideal S4x1024x1408 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S4x1024x1408.Idx → EReal)
    = shapeCast S4x1024x1408 (W (Proc.tc.devRef main_v3_0) : S4x2x512x1408.Idx → EReal) shapeCasts_S4x2x512x1408_S4x1024x1408 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S4x1024x1408.Idx → EReal)
      = shapeCast S4x1024x1408 ((dats m (okm m) 0 c).arrAt 5 (cfgM m (okm m)).N : S4x2x512x1408.Idx → EReal) shapeCasts_S4x2x512x1408_S4x1024x1408 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S4x2x512x1408.Idx → EReal => shapeCast S4x1024x1408 a shapeCasts_S4x2x512x1408_S4x1024x1408) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 4 := (i 0).isLt
  have h1 : (i 1).val < 1024 := (i 1).isLt
  have h2 : (i 2).val < 1408 := (i 2).isLt
  refine (congrArg (shapeCast S4x1024x1408 ((dats m (okm m) 0 c).arrAt 5 (cfgM m (okm m)).N : S4x2x512x1408.Idx → EReal) shapeCasts_S4x2x512x1408_S4x1024x1408) (eq_ix3 i)).trans ?_
  refine (joined_apply (L := 4) (R := 1024) (H := 512) (C := 1408) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final5 m c _ _ _ _).trans ?_
  have eh : (i 1).val / 512 * 512 + (i 1).val % 512 = (i 1).val := by omega
  dsimp only
  rfl

/-- The line after the body joins the halves of output the step. -/
theorem joined_6 (W : Valuation τ sig (Elt Ideal)) : (StableHlo.after hostOps1 W (Proc.tc.devRef main_v5) : S4x1024x1408.Idx → EReal)
    = shapeCast S4x1024x1408 (W (Proc.tc.devRef main_v3_1) : S4x2x512x1408.Idx → EReal) shapeCasts_S4x2x512x1408_S4x1024x1408 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S4x1024x1408.Idx → EReal)
      = shapeCast S4x1024x1408 ((dats m (okm m) 0 c).arrAt 6 (cfgM m (okm m)).N : S4x2x512x1408.Idx → EReal) shapeCasts_S4x2x512x1408_S4x1024x1408 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S4x2x512x1408.Idx → EReal => shapeCast S4x1024x1408 a shapeCasts_S4x2x512x1408_S4x1024x1408) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 4 := (i 0).isLt
  have h1 : (i 1).val < 1024 := (i 1).isLt
  have h2 : (i 2).val < 1408 := (i 2).isLt
  refine (congrArg (shapeCast S4x1024x1408 ((dats m (okm m) 0 c).arrAt 6 (cfgM m (okm m)).N : S4x2x512x1408.Idx → EReal) shapeCasts_S4x2x512x1408_S4x1024x1408) (eq_ix3 i)).trans ?_
  refine (joined_apply (L := 4) (R := 1024) (H := 512) (C := 1408) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final6 m c _ _ _ _).trans ?_
  have eh : (i 1).val / 512 * 512 + (i 1).val % 512 = (i 1).val := by omega
  dsimp only
  rw [eh]
  rfl

/-- The line after the body joins the halves of output the first moment. -/
theorem joined_7 (W : Valuation τ sig (Elt Ideal)) : (StableHlo.after hostOps1 W (Proc.tc.devRef main_v6) : S4x1024x1408.Idx → EReal)
    = shapeCast S4x1024x1408 (W (Proc.tc.devRef main_v3_2) : S4x2x512x1408.Idx → EReal) shapeCasts_S4x2x512x1408_S4x1024x1408 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S4x1024x1408.Idx → EReal)
      = shapeCast S4x1024x1408 ((dats m (okm m) 0 c).arrAt 7 (cfgM m (okm m)).N : S4x2x512x1408.Idx → EReal) shapeCasts_S4x2x512x1408_S4x1024x1408 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S4x2x512x1408.Idx → EReal => shapeCast S4x1024x1408 a shapeCasts_S4x2x512x1408_S4x1024x1408) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 4 := (i 0).isLt
  have h1 : (i 1).val < 1024 := (i 1).isLt
  have h2 : (i 2).val < 1408 := (i 2).isLt
  refine (congrArg (shapeCast S4x1024x1408 ((dats m (okm m) 0 c).arrAt 7 (cfgM m (okm m)).N : S4x2x512x1408.Idx → EReal) shapeCasts_S4x2x512x1408_S4x1024x1408) (eq_ix3 i)).trans ?_
  refine (joined_apply (L := 4) (R := 1024) (H := 512) (C := 1408) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final7 m c _ _ _ _).trans ?_
  have eh : (i 1).val / 512 * 512 + (i 1).val % 512 = (i 1).val := by omega
  dsimp only
  rw [eh]
  rfl

/-- The line after the body joins the halves of output the second moment. -/
theorem joined_8 (W : Valuation τ sig (Elt Ideal)) : (StableHlo.after hostOps1 W (Proc.tc.devRef main_v7) : S4x1024x1408.Idx → EReal)
    = shapeCast S4x1024x1408 (W (Proc.tc.devRef main_v3_3) : S4x2x512x1408.Idx → EReal) shapeCasts_S4x2x512x1408_S4x1024x1408 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S4x1024x1408.Idx → EReal)
      = shapeCast S4x1024x1408 ((dats m (okm m) 0 c).arrAt 8 (cfgM m (okm m)).N : S4x2x512x1408.Idx → EReal) shapeCasts_S4x2x512x1408_S4x1024x1408 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S4x2x512x1408.Idx → EReal => shapeCast S4x1024x1408 a shapeCasts_S4x2x512x1408_S4x1024x1408) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 4 := (i 0).isLt
  have h1 : (i 1).val < 1024 := (i 1).isLt
  have h2 : (i 2).val < 1408 := (i 2).isLt
  refine (congrArg (shapeCast S4x1024x1408 ((dats m (okm m) 0 c).arrAt 8 (cfgM m (okm m)).N : S4x2x512x1408.Idx → EReal) shapeCasts_S4x2x512x1408_S4x1024x1408) (eq_ix3 i)).trans ?_
  refine (joined_apply (L := 4) (R := 1024) (H := 512) (C := 1408) (e := .f32) _ (by norm_num) _ (i 0) (⟨(i 1).val / 512, by omega⟩ : Fin 2) (⟨(i 1).val % 512, by omega⟩ : Fin 512) (i 2) (i 1) (by show (i 1).val = (i 1).val / 512 * 512 + (i 1).val % 512; omega)).trans ?_
  refine (final8 m c _ _ _ _).trans ?_
  have eh : (i 1).val / 512 * 512 + (i 1).val % 512 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdUpIdeal.Value

end
-- ==== Proof.UpdUpRef.lean ====
/- The feed-forward block's first weight: the reference's step, and the two runs together. -/
module

public import proofs.«01_k».proof.Proof.UpdUpRun
public import proofs.«01_k».proof.Proof.Gen.UpdUpRefIdeal.Run
public import proofs.«01_k».proof.Proof.Gen.UpdUpRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdUpRefIdeal.Value

open Cert.UpdUpRefIdeal Cert.UpdUpRefIdeal.Gen Cert.UpdUpRefIdeal.Read AdamStep
open Cert.UpdUpIdeal.Value (gOf dOf mOf vOf)

variable (x0 : Vec Ideal S1 .i32) (x1 : Vec Ideal S4x1024x1408 .f32) (x2 x3 : Vec Ideal S4x512x1408 .f32) (x4 x5 : Vec Ideal S4x1024x1408 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S4x512x1408.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S4x512x1408 (val_main_v1 (F := Ideal) x0) j (fun a => a.elim0) (fun a => a.elim0)]
  rfl

/-- The lower half of the rows. -/
theorem lower_at (j : S4x512x1408.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S4x512x1408 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 4 := (i 0).isLt
  have h1 : (i 1).val < 1024 := (i 1).isLt
  have h2 : (i 2).val < 1408 := (i 2).isLt
  unfold val_main_v6
  by_cases hc : (i 1).val < 512
  · refine (concatenate_pair_apply_left (1 : Fin 3) (val_main_v2 (F := Ideal) x0 x2 x3) (val_main_v5 (F := Ideal) x0 x2 x3) concatenates_S4x512x1408_S4x512x1408_S4x1024x1408_d1 i rfl
      (ix3 (Fin.ofNat 4 (i 0).val) (Fin.ofNat 512 ((i 1).val % 512)) (Fin.ofNat 1408 (i 2).val)) (fun b => ?_)).trans ?_
    · match b with
      | ⟨0, _⟩ => show (i 0).val % 4 = (i 0).val; exact Nat.mod_eq_of_lt h0
      | ⟨1, _⟩ => show (i 1).val % 512 % 512 = (i 1).val; rewrite [Nat.mod_mod]; exact Nat.mod_eq_of_lt hc
      | ⟨2, _⟩ => show (i 2).val % 1408 = (i 2).val; exact Nat.mod_eq_of_lt h2
    · refine (upper_at x0 x2 x3 _).trans ?_
      unfold gOf gradAt
      rw [show (i 1).val / 512 = 0 from Nat.div_eq_of_lt hc]
      rfl
  · refine (concatenate_pair_apply_right (1 : Fin 3) (val_main_v2 (F := Ideal) x0 x2 x3) (val_main_v5 (F := Ideal) x0 x2 x3) concatenates_S4x512x1408_S4x512x1408_S4x1024x1408_d1 i rfl rfl
      (ix3 (Fin.ofNat 4 (i 0).val) (Fin.ofNat 512 ((i 1).val % 512)) (Fin.ofNat 1408 (i 2).val)) (fun b hb => ?_) ?_).trans ?_
    · match b with
      | ⟨0, _⟩ => show (i 0).val % 4 = (i 0).val; exact Nat.mod_eq_of_lt h0
      | ⟨1, _⟩ => exact absurd rfl hb
      | ⟨2, _⟩ => show (i 2).val % 1408 = (i 2).val; exact Nat.mod_eq_of_lt h2
    · show (i 1).val % 512 % 512 + 512 = (i 1).val; omega
    · refine (lower_at x0 x2 x3 _).trans ?_
      unfold gOf gradAt
      rw [show (i 1).val / 512 = 1 by omega]
      rfl

/-- A weight at its own index. -/
theorem at_self (x : Vec Ideal S4x1024x1408 .f32) (i : S4x1024x1408.Idx) : x i = at3 (A := 4) (B := 1024) (C := 1408) x (i 0).val (i 1).val (i 2).val := by
  have h0 : (i 0).val < 4 := (i 0).isLt
  have h1 : (i 1).val < 1024 := (i 1).isLt
  have h2 : (i 2).val < 1408 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S4x1024x1408.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S4x1024x1408.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S4x1024x1408.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdUpRefIdeal := fun m ρ _ =>
  (θ_run _ _ _).mono (fun _ h => ⟨fun c => (h c).2.2.2.2, funext fun g => nomatch g.2⟩) (run_value m ρ)

end Cert.UpdUpRefIdeal.Value

open Cert.UpdUpIdeal.Value (gOf dOf mOf vOf coreOf) in
/-- The kernel's values and the reference's, over the ideal reals. -/
theorem UpdUp_value : Cert.algebraic_UpdUpIdeal_UpdUpRefIdeal :=
  fun m g m' g' _ h => ⟨fun c => gOf (coreOf m) (m ((c.tc : Thread Cert.UpdUpIdeal.nD Cert.UpdUpIdeal.τ).loc Cert.UpdUpIdeal.main_arg2)) (m ((c.tc : Thread Cert.UpdUpIdeal.nD Cert.UpdUpIdeal.τ).loc Cert.UpdUpIdeal.main_arg3)),
    fun c => dOf (coreOf m) (m ((c.tc : Thread Cert.UpdUpIdeal.nD Cert.UpdUpIdeal.τ).loc Cert.UpdUpIdeal.main_arg1)) (m ((c.tc : Thread Cert.UpdUpIdeal.nD Cert.UpdUpIdeal.τ).loc Cert.UpdUpIdeal.main_arg2)) (m ((c.tc : Thread Cert.UpdUpIdeal.nD Cert.UpdUpIdeal.τ).loc Cert.UpdUpIdeal.main_arg3)) (m ((c.tc : Thread Cert.UpdUpIdeal.nD Cert.UpdUpIdeal.τ).loc Cert.UpdUpIdeal.main_arg4)) (m ((c.tc : Thread Cert.UpdUpIdeal.nD Cert.UpdUpIdeal.τ).loc Cert.UpdUpIdeal.main_arg5)),
    fun c => mOf (coreOf m) (m ((c.tc : Thread Cert.UpdUpIdeal.nD Cert.UpdUpIdeal.τ).loc Cert.UpdUpIdeal.main_arg2)) (m ((c.tc : Thread Cert.UpdUpIdeal.nD Cert.UpdUpIdeal.τ).loc Cert.UpdUpIdeal.main_arg3)) (m ((c.tc : Thread Cert.UpdUpIdeal.nD Cert.UpdUpIdeal.τ).loc Cert.UpdUpIdeal.main_arg4)),
    fun c => vOf (coreOf m) (m ((c.tc : Thread Cert.UpdUpIdeal.nD Cert.UpdUpIdeal.τ).loc Cert.UpdUpIdeal.main_arg2)) (m ((c.tc : Thread Cert.UpdUpIdeal.nD Cert.UpdUpIdeal.τ).loc Cert.UpdUpIdeal.main_arg3)) (m ((c.tc : Thread Cert.UpdUpIdeal.nD Cert.UpdUpIdeal.τ).loc Cert.UpdUpIdeal.main_arg5)),
    Cert.UpdUpIdeal.Value.run_value m g,
    (θ_run _ _ _).mono (fun r hr c => by
      have hc := hr c
      obtain ⟨a0, a1, a2, a3, a4, a5⟩ := h c
      have e0 : (m' ((c.tc : Thread Cert.UpdUpRefIdeal.nD Cert.UpdUpRefIdeal.τ).loc Cert.UpdUpRefIdeal.main_arg0) : Cert.UpdUpRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdUpRefIdeal.Value.run_value m' g')⟩

end
-- ==== Proof.UpdDownRun.lean ====
/- The feed-forward block's second weight: the kernel's gradient, step and moments, at every weight. -/
module

public import proofs.«01_k».proof.Proof.AdamStep
public import proofs.«01_k».proof.Proof.Gen.UpdDownIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdDownIdeal.Value

open Cert.UpdDownIdeal Cert.UpdDownIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x352x1024 .f32) (w mm vv : Vec Ideal S1x1x352x1024 .f32) (p : Fin 352) (q : Fin 1024)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 352) (B := 1024) (e := .f32) g1 _ p q
  · exact dropUnit_apply (A := 352) (B := 1024) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 352) (B := 1024) (e := .f32) mm shapeCasts_S1x1x352x1024_S352x1024 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 352) (B := 1024) (e := .f32) vv shapeCasts_S1x1x352x1024_S352x1024 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 352) (B := 1024) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 352) (B := 1024) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 352) (B := 1024) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 352) (B := 1024) (e := .f32) _ _ p q).trans ?_
  unfold delta
  rw [← pay5_at, ← pay6_at, ← dropUnits_apply (A := 352) (B := 1024) (e := .f32) w shapeCasts_S1x1x352x1024_S352x1024 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x352x1024 .f32) (harg4 : arg4.IsWhole) (arg5 : Memref sig .tc .vmem S1x352x1024 .f32) (harg5 : arg5.IsWhole) (arg6 : Memref sig .tc .vmem S1x352x1024 .f32) (harg6 : arg6.IsWhole) (arg7 : Memref sig .tc .vmem S1x1x352x1024 .f32) (harg7 : arg7.IsWhole) (arg8 : Memref sig .tc .vmem S1x1x352x1024 .f32) (harg8 : arg8.IsWhole) (arg9 : Memref sig .tc .vmem S1x1x352x1024 .f32) (harg9 : arg9.IsWhole) (arg10 : Memref sig .tc .vmem S1x1x352x1024 .f32) (harg10 : arg10.IsWhole) (arg11 : Memref sig .tc .vmem S1x1x352x1024 .f32) (harg11 : arg11.IsWhole) (arg12 : Memref sig .tc .vmem S1x1x352x1024 .f32) (harg12 : arg12.IsWhole)
  (x0 : Vec Ideal S1x1x352x1024 .f32) (x1 : Vec Ideal S1x352x1024 .f32) (x2 : Vec Ideal S1x352x1024 .f32) (x3 : Vec Ideal S1x1x352x1024 .f32) (x4 : Vec Ideal S1x1x352x1024 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x352x1024) hz4]
  have hc := core_eq m c
  unfold kernelRun0_A.sl.r at hc
  sl_unfold_run_values
  simp only [readAt_zero (S := S1x352x1024) hz3, readAt_zero (S := S1x1x352x1024) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x352x1024) hz4]
  have hc := core_eq m c
  unfold kernelRun0_A.sl.r at hc
  sl_unfold_run_values
  simp only [readAt_zero (S := S1x352x1024) hz3, readAt_zero (S := S1x1x352x1024) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x352x1024) hz4]
  have hc := core_eq m c
  unfold kernelRun0_A.sl.r at hc
  sl_unfold_run_values
  simp only [readAt_zero (S := S1x352x1024) hz3, readAt_zero (S := S1x1x352x1024) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x352x1024) hz4]
  have hc := core_eq m c
  unfold kernelRun0_A.sl.r at hc
  sl_unfold_run_values
  simp only [readAt_zero (S := S1x352x1024) hz3, readAt_zero (S := S1x1x352x1024) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 8 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 352) (q : Fin 1024) :
    iblk m (okm m) c 1 t (ix3 0 p q) = at3 (A := 4) (B := 352) (C := 1024) (m ((c.tc : Thread nD τ).loc main_arg2)) (t.val / 2) (t.val % 1 * 352 + p.val) q.val := by
  have ht := ltN t; have hp := p.isLt; have hq := q.isLt
  unfold iblk
  refine (View.read_apply _ _).trans ?_
  show (V m c main_arg2 : S4x352x1024.Idx → EReal) _ = (m ((c.tc : Thread nD τ).loc main_arg2) : S4x352x1024.Idx → EReal) _
  rw [V_main_arg2]
  congr 1; funext b; apply Fin.ext
  match b with
  | ⟨0, _⟩ => show cc0_transform_1 (grid0.coords t) 0 * 1 + 1 * 0 = (t.val / 2) % 4; rw [(ixG t).1]; omega
  | ⟨1, _⟩ => show cc0_transform_1 (grid0.coords t) 1 * 352 + 1 * p.val = (t.val % 1 * 352 + p.val) % 352; rw [(ixG t).2.1]; omega
  | ⟨2, _⟩ => show cc0_transform_1 (grid0.coords t) 2 * 1024 + 1 * q.val = q.val % 1024; rw [(ixG t).2.2]; omega

/-- The sibling's half of the summed gradient, a tile of it. -/
theorem blk2 (c : Dev nD) (t : Fin grid0.N) (p : Fin 352) (q : Fin 1024) :
    iblk m (okm m) c 2 t (ix3 0 p q) = at3 (A := 4) (B := 352) (C := 1024) (m ((c.tc : Thread nD τ).loc main_arg3)) (t.val / 2) (t.val % 1 * 352 + p.val) q.val := by
  have ht := ltN t; have hp := p.isLt; have hq := q.isLt
  unfold iblk
  refine (View.read_apply _ _).trans ?_
  show (V m c main_arg3 : S4x352x1024.Idx → EReal) _ = (m ((c.tc : Thread nD τ).loc main_arg3) : S4x352x1024.Idx → EReal) _
  rw [V_main_arg3]
  congr 1; funext b; apply Fin.ext
  match b with
  | ⟨0, _⟩ => show cc0_transform_1 (grid0.coords t) 0 * 1 + 1 * 0 = (t.val / 2) % 4; rw [(ixG t).1]; omega
  | ⟨1, _⟩ => show cc0_transform_1 (grid0.coords t) 1 * 352 + 1 * p.val = (t.val % 1 * 352 + p.val) % 352; rw [(ixG t).2.1]; omega
  | ⟨2, _⟩ => show cc0_transform_1 (grid0.coords t) 2 * 1024 + 1 * q.val = q.val % 1024; rw [(ixG t).2.2]; omega

/-- The weight, a tile of it. -/
theorem blk0 (c : Dev nD) (t : Fin grid0.N) (p : Fin 352) (q : Fin 1024) :
    iblk m (okm m) c 0 t (ix4 0 0 p q) = at3 (A := 4) (B := 704) (C := 1024) (m ((c.tc : Thread nD τ).loc main_arg1)) (t.val / 2) (t.val / 1 % 2 * 352 + (t.val % 1 * 352 + p.val)) q.val := by
  have ht := ltN t; have hp := p.isLt; have hq := q.isLt
  have e : (StableHlo.after hostOps0 (fun b => m (c, b)) (Proc.tc.devRef main_v0) : S4x2x352x1024.Idx → EReal)
      = shapeCast S4x2x352x1024 (m ((c.tc : Thread nD τ).loc main_arg1) : S4x704x1024.Idx → EReal) shapeCasts_S4x704x1024_S4x2x352x1024 := by
    after_results
    rfl
  have hi : ((((cfgM m (okm m)).win 0).blk t).view.emb (ix4 0 0 p q) : S4x2x352x1024.Idx) = ix4 (⟨t.val / 2, by omega⟩ : Fin 4) (⟨t.val / 1 % 2, by omega⟩ : Fin 2) (⟨t.val % 1 * 352 + p.val, by omega⟩ : Fin 352) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 352 + 1 * p.val = t.val % 1 * 352 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v0) : S4x2x352x1024.Idx → EReal) ((((cfgM m (okm m)).win 0).blk t).view.emb (ix4 0 0 p q)) from rfl).trans ?_
  refine (congrArg (StableHlo.after hostOps0 (fun b => m (c, b)) (Proc.tc.devRef main_v0) : S4x2x352x1024.Idx → EReal) hi).trans ?_
  refine (congrFun e _).trans ?_
  refine (halves_apply (L := 4) (R := 704) (H := 352) (C := 1024) (e := .f32) (m ((c.tc : Thread nD τ).loc main_arg1) : S4x704x1024.Idx → EReal) (by norm_num) _ _ _ _ _ (⟨t.val / 1 % 2 * 352 + (t.val % 1 * 352 + p.val), by omega⟩ : Fin 704) (by rfl)).trans ?_
  unfold AdamStep.at3
  congr 1; funext b; apply Fin.ext
  match b with
  | ⟨0, _⟩ => show t.val / 2 = (t.val / 2) % 4; omega
  | ⟨1, _⟩ => show t.val / 1 % 2 * 352 + (t.val % 1 * 352 + p.val) = (t.val / 1 % 2 * 352 + (t.val % 1 * 352 + p.val)) % 704; omega
  | ⟨2, _⟩ => show q.val = q.val % 1024; omega

/-- The first moment, a tile of it. -/
theorem blk3 (c : Dev nD) (t : Fin grid0.N) (p : Fin 352) (q : Fin 1024) :
    iblk m (okm m) c 3 t (ix4 0 0 p q) = at3 (A := 4) (B := 704) (C := 1024) (m ((c.tc : Thread nD τ).loc main_arg4)) (t.val / 2) (t.val / 1 % 2 * 352 + (t.val % 1 * 352 + p.val)) q.val := by
  have ht := ltN t; have hp := p.isLt; have hq := q.isLt
  have e : (StableHlo.after hostOps0 (fun b => m (c, b)) (Proc.tc.devRef main_v1) : S4x2x352x1024.Idx → EReal)
      = shapeCast S4x2x352x1024 (m ((c.tc : Thread nD τ).loc main_arg4) : S4x704x1024.Idx → EReal) shapeCasts_S4x704x1024_S4x2x352x1024 := by
    after_results
    rfl
  have hi : ((((cfgM m (okm m)).win 3).blk t).view.emb (ix4 0 0 p q) : S4x2x352x1024.Idx) = ix4 (⟨t.val / 2, by omega⟩ : Fin 4) (⟨t.val / 1 % 2, by omega⟩ : Fin 2) (⟨t.val % 1 * 352 + p.val, by omega⟩ : Fin 352) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 352 + 1 * p.val = t.val % 1 * 352 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v1) : S4x2x352x1024.Idx → EReal) ((((cfgM m (okm m)).win 3).blk t).view.emb (ix4 0 0 p q)) from rfl).trans ?_
  refine (congrArg (StableHlo.after hostOps0 (fun b => m (c, b)) (Proc.tc.devRef main_v1) : S4x2x352x1024.Idx → EReal) hi).trans ?_
  refine (congrFun e _).trans ?_
  refine (halves_apply (L := 4) (R := 704) (H := 352) (C := 1024) (e := .f32) (m ((c.tc : Thread nD τ).loc main_arg4) : S4x704x1024.Idx → EReal) (by norm_num) _ _ _ _ _ (⟨t.val / 1 % 2 * 352 + (t.val % 1 * 352 + p.val), by omega⟩ : Fin 704) (by rfl)).trans ?_
  unfold AdamStep.at3
  congr 1; funext b; apply Fin.ext
  match b with
  | ⟨0, _⟩ => show t.val / 2 = (t.val / 2) % 4; omega
  | ⟨1, _⟩ => show t.val / 1 % 2 * 352 + (t.val % 1 * 352 + p.val) = (t.val / 1 % 2 * 352 + (t.val % 1 * 352 + p.val)) % 704; omega
  | ⟨2, _⟩ => show q.val = q.val % 1024; omega

/-- The second moment, a tile of it. -/
theorem blk4 (c : Dev nD) (t : Fin grid0.N) (p : Fin 352) (q : Fin 1024) :
    iblk m (okm m) c 4 t (ix4 0 0 p q) = at3 (A := 4) (B := 704) (C := 1024) (m ((c.tc : Thread nD τ).loc main_arg5)) (t.val / 2) (t.val / 1 % 2 * 352 + (t.val % 1 * 352 + p.val)) q.val := by
  have ht := ltN t; have hp := p.isLt; have hq := q.isLt
  have e : (StableHlo.after hostOps0 (fun b => m (c, b)) (Proc.tc.devRef main_v2) : S4x2x352x1024.Idx → EReal)
      = shapeCast S4x2x352x1024 (m ((c.tc : Thread nD τ).loc main_arg5) : S4x704x1024.Idx → EReal) shapeCasts_S4x704x1024_S4x2x352x1024 := by
    after_results
    rfl
  have hi : ((((cfgM m (okm m)).win 4).blk t).view.emb (ix4 0 0 p q) : S4x2x352x1024.Idx) = ix4 (⟨t.val / 2, by omega⟩ : Fin 4) (⟨t.val / 1 % 2, by omega⟩ : Fin 2) (⟨t.val % 1 * 352 + p.val, by omega⟩ : Fin 352) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 352 + 1 * p.val = t.val % 1 * 352 + p.val; rw [(ixH t).2.2.1]; omega
    | ⟨3, _⟩ => show cc0_transform_0 (grid0.coords t) 3 * 1024 + 1 * q.val = q.val; rw [(ixH t).2.2.2]; omega
  unfold iblk
  refine (View.read_apply _ _).trans ?_
  refine (show _ = (StableHlo.after hostOps0 (fun b => m (c, b)) (Proc.tc.devRef main_v2) : S4x2x352x1024.Idx → EReal) ((((cfgM m (okm m)).win 4).blk t).view.emb (ix4 0 0 p q)) from rfl).trans ?_
  refine (congrArg (StableHlo.after hostOps0 (fun b => m (c, b)) (Proc.tc.devRef main_v2) : S4x2x352x1024.Idx → EReal) hi).trans ?_
  refine (congrFun e _).trans ?_
  refine (halves_apply (L := 4) (R := 704) (H := 352) (C := 1024) (e := .f32) (m ((c.tc : Thread nD τ).loc main_arg5) : S4x704x1024.Idx → EReal) (by norm_num) _ _ _ _ _ (⟨t.val / 1 % 2 * 352 + (t.val % 1 * 352 + p.val), by omega⟩ : Fin 704) (by rfl)).trans ?_
  unfold AdamStep.at3
  congr 1; funext b; apply Fin.ext
  match b with
  | ⟨0, _⟩ => show t.val / 2 = (t.val / 2) % 4; omega
  | ⟨1, _⟩ => show t.val / 1 % 2 * 352 + (t.val % 1 * 352 + p.val) = (t.val / 1 % 2 * 352 + (t.val % 1 * 352 + p.val)) % 704; omega
  | ⟨2, _⟩ => show q.val = q.val % 1024; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x352x1024.Idx) :
    ((dats m (okm m) 0 c).arrAt 5 (cfgM m (okm m)).N : S4x2x352x1024.Idx → EReal) ((((cfgM m (okm m)).win 5).blk t).view.emb y) = ((dats m (okm m) 0 c).after 5 t : S1x1x352x1024.Idx → EReal) y :=
  (dats m (okm m) 0 c).arrAt_emb_eq_flushed 5 (disjoint5 m) t (flush0_5 _ t) y

/-- Where an index of the array of output the gradient sits in its block. -/
theorem emb5 (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((((cfgM m (okm m)).win 5).blk t).view.emb (ix4 0 0 p q : S1x1x352x1024.Idx) : S4x2x352x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 352 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((dats m (okm m) 0 c).arrAt 5 (cfgM m (okm m)).N : S4x2x352x1024.Idx → EReal) (ix4 l b r q) = grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val) := by
  refine (congrArg ((dats m (okm m) 0 c).arrAt 5 (cfgM m (okm m)).N : S4x2x352x1024.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 4) (b : Fin 2) (r : Fin 352) (q : Fin 1024) :
    ((dats m (okm m) 0 c).arrAt 5 (cfgM m (okm m)).N : S4x2x352x1024.Idx → EReal) (ix4 l b r q) = grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val) := by
  have hl := l.isLt; have hb2 := b.isLt; have hr := r.isLt
  have ht : l.val * 2 + b.val * 1 + r.val / 352 < grid0.N := lt_of_lt_of_eq (by omega) N_0.symm
  have e0 : (l.val * 2 + b.val * 1 + r.val / 352) / 2 = l.val := by omega
  have e1 : (l.val * 2 + b.val * 1 + r.val / 352) / 1 % 2 = b.val := by omega
  have e2 : (l.val * 2 + b.val * 1 + r.val / 352) % 1 * 352 + r.val % 352 = r.val := by omega
  exact tile5 m c ⟨l.val * 2 + b.val * 1 + r.val / 352, ht⟩ (⟨r.val % 352, by omega⟩ : Fin 352) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x352x1024.Idx) :
    ((dats m (okm m) 0 c).arrAt 6 (cfgM m (okm m)).N : S4x2x352x1024.Idx → EReal) ((((cfgM m (okm m)).win 6).blk t).view.emb y) = ((dats m (okm m) 0 c).after 6 t : S1x1x352x1024.Idx → EReal) y :=
  (dats m (okm m) 0 c).arrAt_emb_eq_flushed 6 (disjoint6 m) t (flush0_6 _ t) y

/-- Where an index of the array of output the step sits in its block. -/
theorem emb6 (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((((cfgM m (okm m)).win 6).blk t).view.emb (ix4 0 0 p q : S1x1x352x1024.Idx) : S4x2x352x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 352 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((dats m (okm m) 0 c).arrAt 6 (cfgM m (okm m)).N : S4x2x352x1024.Idx → EReal) (ix4 l b r q) = delta (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg1)) l.val (b.val * 352 + r.val) q.val) (at3 (A := 4) (B := 704) (C := 1024) (m ((c.tc : Thread nD τ).loc main_arg4)) l.val (b.val * 352 + r.val) q.val) (at3 (A := 4) (B := 704) (C := 1024) (m ((c.tc : Thread nD τ).loc main_arg5)) l.val (b.val * 352 + r.val) q.val) := by
  refine (congrArg ((dats m (okm m) 0 c).arrAt 6 (cfgM m (okm m)).N : S4x2x352x1024.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 4) (b : Fin 2) (r : Fin 352) (q : Fin 1024) :
    ((dats m (okm m) 0 c).arrAt 6 (cfgM m (okm m)).N : S4x2x352x1024.Idx → EReal) (ix4 l b r q) = delta (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg1)) l.val (b.val * 352 + r.val) q.val) (at3 (A := 4) (B := 704) (C := 1024) (m ((c.tc : Thread nD τ).loc main_arg4)) l.val (b.val * 352 + r.val) q.val) (at3 (A := 4) (B := 704) (C := 1024) (m ((c.tc : Thread nD τ).loc main_arg5)) l.val (b.val * 352 + r.val) q.val) := by
  have hl := l.isLt; have hb2 := b.isLt; have hr := r.isLt
  have ht : l.val * 2 + b.val * 1 + r.val / 352 < grid0.N := lt_of_lt_of_eq (by omega) N_0.symm
  have e0 : (l.val * 2 + b.val * 1 + r.val / 352) / 2 = l.val := by omega
  have e1 : (l.val * 2 + b.val * 1 + r.val / 352) / 1 % 2 = b.val := by omega
  have e2 : (l.val * 2 + b.val * 1 + r.val / 352) % 1 * 352 + r.val % 352 = r.val := by omega
  exact tile6 m c ⟨l.val * 2 + b.val * 1 + r.val / 352, ht⟩ (⟨r.val % 352, by omega⟩ : Fin 352) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x352x1024.Idx) :
    ((dats m (okm m) 0 c).arrAt 7 (cfgM m (okm m)).N : S4x2x352x1024.Idx → EReal) ((((cfgM m (okm m)).win 7).blk t).view.emb y) = ((dats m (okm m) 0 c).after 7 t : S1x1x352x1024.Idx → EReal) y :=
  (dats m (okm m) 0 c).arrAt_emb_eq_flushed 7 (disjoint7 m) t (flush0_7 _ t) y

/-- Where an index of the array of output the first moment sits in its block. -/
theorem emb7 (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((((cfgM m (okm m)).win 7).blk t).view.emb (ix4 0 0 p q : S1x1x352x1024.Idx) : S4x2x352x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 352 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((dats m (okm m) 0 c).arrAt 7 (cfgM m (okm m)).N : S4x2x352x1024.Idx → EReal) (ix4 l b r q) = mom1 (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg4)) l.val (b.val * 352 + r.val) q.val) := by
  refine (congrArg ((dats m (okm m) 0 c).arrAt 7 (cfgM m (okm m)).N : S4x2x352x1024.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 4) (b : Fin 2) (r : Fin 352) (q : Fin 1024) :
    ((dats m (okm m) 0 c).arrAt 7 (cfgM m (okm m)).N : S4x2x352x1024.Idx → EReal) (ix4 l b r q) = mom1 (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg4)) l.val (b.val * 352 + r.val) q.val) := by
  have hl := l.isLt; have hb2 := b.isLt; have hr := r.isLt
  have ht : l.val * 2 + b.val * 1 + r.val / 352 < grid0.N := lt_of_lt_of_eq (by omega) N_0.symm
  have e0 : (l.val * 2 + b.val * 1 + r.val / 352) / 2 = l.val := by omega
  have e1 : (l.val * 2 + b.val * 1 + r.val / 352) / 1 % 2 = b.val := by omega
  have e2 : (l.val * 2 + b.val * 1 + r.val / 352) % 1 * 352 + r.val % 352 = r.val := by omega
  exact tile7 m c ⟨l.val * 2 + b.val * 1 + r.val / 352, ht⟩ (⟨r.val % 352, by omega⟩ : Fin 352) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x352x1024.Idx) :
    ((dats m (okm m) 0 c).arrAt 8 (cfgM m (okm m)).N : S4x2x352x1024.Idx → EReal) ((((cfgM m (okm m)).win 8).blk t).view.emb y) = ((dats m (okm m) 0 c).after 8 t : S1x1x352x1024.Idx → EReal) y :=
  (dats m (okm m) 0 c).arrAt_emb_eq_flushed 8 (disjoint8 m) t (flush0_8 _ t) y

/-- Where an index of the array of output the second moment sits in its block. -/
theorem emb8 (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((((cfgM m (okm m)).win 8).blk t).view.emb (ix4 0 0 p q : S1x1x352x1024.Idx) : S4x2x352x1024.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 352 + 1 * p.val = r.val; rewrite [(ixH t).2.2.1, Nat.one_mul]; exact h2
  | ⟨3, _⟩ => show cc0_transform_0 (grid0.coords t) 3 * 1024 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 352) (q : Fin 1024) (l : Fin 4) (b : Fin 2) (r : Fin 352) (h0 : t.val / 2 = l.val) (h1 : t.val / 1 % 2 = b.val) (h2 : t.val % 1 * 352 + p.val = r.val) :
    ((dats m (okm m) 0 c).arrAt 8 (cfgM m (okm m)).N : S4x2x352x1024.Idx → EReal) (ix4 l b r q) = mom2 (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg5)) l.val (b.val * 352 + r.val) q.val) := by
  refine (congrArg ((dats m (okm m) 0 c).arrAt 8 (cfgM m (okm m)).N : S4x2x352x1024.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 4) (b : Fin 2) (r : Fin 352) (q : Fin 1024) :
    ((dats m (okm m) 0 c).arrAt 8 (cfgM m (okm m)).N : S4x2x352x1024.Idx → EReal) (ix4 l b r q) = mom2 (grad (coreOf m) b.val (at3 (A := 4) (B := 352) (C := 1024) (m ((c.tc : Thread nD τ).loc main_arg2)) l.val r.val q.val) (at3 (A := 4) (B := 352) (C := 1024) (m ((c.tc : Thread nD τ).loc main_arg3)) l.val r.val q.val)) (at3 (A := 4) (B := 704) (C := 1024) (m ((c.tc : Thread nD τ).loc main_arg5)) l.val (b.val * 352 + r.val) q.val) := by
  have hl := l.isLt; have hb2 := b.isLt; have hr := r.isLt
  have ht : l.val * 2 + b.val * 1 + r.val / 352 < grid0.N := lt_of_lt_of_eq (by omega) N_0.symm
  have e0 : (l.val * 2 + b.val * 1 + r.val / 352) / 2 = l.val := by omega
  have e1 : (l.val * 2 + b.val * 1 + r.val / 352) / 1 % 2 = b.val := by omega
  have e2 : (l.val * 2 + b.val * 1 + r.val / 352) % 1 * 352 + r.val % 352 = r.val := by omega
  exact tile8 m c ⟨l.val * 2 + b.val * 1 + r.val / 352, ht⟩ (⟨r.val % 352, by omega⟩ : Fin 352) q l b r e0 e1 e2

/-- The gradient, as an array. -/
def gOf (core : BitVec 32) (g1 g2 : Vec Ideal S4x352x1024 .f32) : Vec Ideal S4x704x1024 .f32 := fun i =>
  gradAt core g1 g2 (i 0).val (i 1).val (i 2).val

/-- The step, as an array. -/
def dOf (core : BitVec 32) (w : Vec Ideal S4x704x1024 .f32) (g1 g2 : Vec Ideal S4x352x1024 .f32) (x y : Vec Ideal S4x704x1024 .f32) : Vec Ideal S4x704x1024 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S4x352x1024 .f32) (x : Vec Ideal S4x704x1024 .f32) : Vec Ideal S4x704x1024 .f32 := fun i =>
  mom1 (gradAt core g1 g2 (i 0).val (i 1).val (i 2).val) (at3 x (i 0).val (i 1).val (i 2).val)

/-- The second moment, as an array. -/
def vOf (core : BitVec 32) (g1 g2 : Vec Ideal S4x352x1024 .f32) (y : Vec Ideal S4x704x1024 .f32) : Vec Ideal S4x704x1024 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S4x704x1024.Idx → EReal)
    = shapeCast S4x704x1024 (W (Proc.tc.devRef main_v3_0) : S4x2x352x1024.Idx → EReal) shapeCasts_S4x2x352x1024_S4x704x1024 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S4x704x1024.Idx → EReal)
      = shapeCast S4x704x1024 ((dats m (okm m) 0 c).arrAt 5 (cfgM m (okm m)).N : S4x2x352x1024.Idx → EReal) shapeCasts_S4x2x352x1024_S4x704x1024 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S4x2x352x1024.Idx → EReal => shapeCast S4x704x1024 a shapeCasts_S4x2x352x1024_S4x704x1024) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 4 := (i 0).isLt
  have h1 : (i 1).val < 704 := (i 1).isLt
  have h2 : (i 2).val < 1024 := (i 2).isLt
  refine (congrArg (shapeCast S4x704x1024 ((dats m (okm m) 0 c).arrAt 5 (cfgM m (okm m)).N : S4x2x352x1024.Idx → EReal) shapeCasts_S4x2x352x1024_S4x704x1024) (eq_ix3 i)).trans ?_
  refine (joined_apply (L := 4) (R := 704) (H := 352) (C := 1024) (e := .f32) _ (by norm_num) _ (i 0) (⟨(i 1).val / 352, by omega⟩ : Fin 2) (⟨(i 1).val % 352, by omega⟩ : Fin 352) (i 2) (i 1) (by show (i 1).val = (i 1).val / 352 * 352 + (i 1).val % 352; omega)).trans ?_
  refine (final5 m c _ _ _ _).trans ?_
  have eh : (i 1).val / 352 * 352 + (i 1).val % 352 = (i 1).val := by omega
  dsimp only
  rfl

/-- The line after the body joins the halves of output the step. -/
theorem joined_6 (W : Valuation τ sig (Elt Ideal)) : (StableHlo.after hostOps1 W (Proc.tc.devRef main_v5) : S4x704x1024.Idx → EReal)
    = shapeCast S4x704x1024 (W (Proc.tc.devRef main_v3_1) : S4x2x352x1024.Idx → EReal) shapeCasts_S4x2x352x1024_S4x704x1024 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S4x704x1024.Idx → EReal)
      = shapeCast S4x704x1024 ((dats m (okm m) 0 c).arrAt 6 (cfgM m (okm m)).N : S4x2x352x1024.Idx → EReal) shapeCasts_S4x2x352x1024_S4x704x1024 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S4x2x352x1024.Idx → EReal => shapeCast S4x704x1024 a shapeCasts_S4x2x352x1024_S4x704x1024) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 4 := (i 0).isLt
  have h1 : (i 1).val < 704 := (i 1).isLt
  have h2 : (i 2).val < 1024 := (i 2).isLt
  refine (congrArg (shapeCast S4x704x1024 ((dats m (okm m) 0 c).arrAt 6 (cfgM m (okm m)).N : S4x2x352x1024.Idx → EReal) shapeCasts_S4x2x352x1024_S4x704x1024) (eq_ix3 i)).trans ?_
  refine (joined_apply (L := 4) (R := 704) (H := 352) (C := 1024) (e := .f32) _ (by norm_num) _ (i 0) (⟨(i 1).val / 352, by omega⟩ : Fin 2) (⟨(i 1).val % 352, by omega⟩ : Fin 352) (i 2) (i 1) (by show (i 1).val = (i 1).val / 352 * 352 + (i 1).val % 352; omega)).trans ?_
  refine (final6 m c _ _ _ _).trans ?_
  have eh : (i 1).val / 352 * 352 + (i 1).val % 352 = (i 1).val := by omega
  dsimp only
  rw [eh]
  rfl

/-- The line after the body joins the halves of output the first moment. -/
theorem joined_7 (W : Valuation τ sig (Elt Ideal)) : (StableHlo.after hostOps1 W (Proc.tc.devRef main_v6) : S4x704x1024.Idx → EReal)
    = shapeCast S4x704x1024 (W (Proc.tc.devRef main_v3_2) : S4x2x352x1024.Idx → EReal) shapeCasts_S4x2x352x1024_S4x704x1024 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S4x704x1024.Idx → EReal)
      = shapeCast S4x704x1024 ((dats m (okm m) 0 c).arrAt 7 (cfgM m (okm m)).N : S4x2x352x1024.Idx → EReal) shapeCasts_S4x2x352x1024_S4x704x1024 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S4x2x352x1024.Idx → EReal => shapeCast S4x704x1024 a shapeCasts_S4x2x352x1024_S4x704x1024) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 4 := (i 0).isLt
  have h1 : (i 1).val < 704 := (i 1).isLt
  have h2 : (i 2).val < 1024 := (i 2).isLt
  refine (congrArg (shapeCast S4x704x1024 ((dats m (okm m) 0 c).arrAt 7 (cfgM m (okm m)).N : S4x2x352x1024.Idx → EReal) shapeCasts_S4x2x352x1024_S4x704x1024) (eq_ix3 i)).trans ?_
  refine (joined_apply (L := 4) (R := 704) (H := 352) (C := 1024) (e := .f32) _ (by norm_num) _ (i 0) (⟨(i 1).val / 352, by omega⟩ : Fin 2) (⟨(i 1).val % 352, by omega⟩ : Fin 352) (i 2) (i 1) (by show (i 1).val = (i 1).val / 352 * 352 + (i 1).val % 352; omega)).trans ?_
  refine (final7 m c _ _ _ _).trans ?_
  have eh : (i 1).val / 352 * 352 + (i 1).val % 352 = (i 1).val := by omega
  dsimp only
  rw [eh]
  rfl

/-- The line after the body joins the halves of output the second moment. -/
theorem joined_8 (W : Valuation τ sig (Elt Ideal)) : (StableHlo.after hostOps1 W (Proc.tc.devRef main_v7) : S4x704x1024.Idx → EReal)
    = shapeCast S4x704x1024 (W (Proc.tc.devRef main_v3_3) : S4x2x352x1024.Idx → EReal) shapeCasts_S4x2x352x1024_S4x704x1024 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S4x704x1024.Idx → EReal)
      = shapeCast S4x704x1024 ((dats m (okm m) 0 c).arrAt 8 (cfgM m (okm m)).N : S4x2x352x1024.Idx → EReal) shapeCasts_S4x2x352x1024_S4x704x1024 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S4x2x352x1024.Idx → EReal => shapeCast S4x704x1024 a shapeCasts_S4x2x352x1024_S4x704x1024) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 4 := (i 0).isLt
  have h1 : (i 1).val < 704 := (i 1).isLt
  have h2 : (i 2).val < 1024 := (i 2).isLt
  refine (congrArg (shapeCast S4x704x1024 ((dats m (okm m) 0 c).arrAt 8 (cfgM m (okm m)).N : S4x2x352x1024.Idx → EReal) shapeCasts_S4x2x352x1024_S4x704x1024) (eq_ix3 i)).trans ?_
  refine (joined_apply (L := 4) (R := 704) (H := 352) (C := 1024) (e := .f32) _ (by norm_num) _ (i 0) (⟨(i 1).val / 352, by omega⟩ : Fin 2) (⟨(i 1).val % 352, by omega⟩ : Fin 352) (i 2) (i 1) (by show (i 1).val = (i 1).val / 352 * 352 + (i 1).val % 352; omega)).trans ?_
  refine (final8 m c _ _ _ _).trans ?_
  have eh : (i 1).val / 352 * 352 + (i 1).val % 352 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdDownIdeal.Value

end
-- ==== Proof.UpdDownRef.lean ====
/- The feed-forward block's second weight: the reference's step, and the two runs together. -/
module

public import proofs.«01_k».proof.Proof.UpdDownRun
public import proofs.«01_k».proof.Proof.Gen.UpdDownRefIdeal.Run
public import proofs.«01_k».proof.Proof.Gen.UpdDownRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdDownRefIdeal.Value

open Cert.UpdDownRefIdeal Cert.UpdDownRefIdeal.Gen Cert.UpdDownRefIdeal.Read AdamStep
open Cert.UpdDownIdeal.Value (gOf dOf mOf vOf)

variable (x0 : Vec Ideal S1 .i32) (x1 : Vec Ideal S4x704x1024 .f32) (x2 x3 : Vec Ideal S4x352x1024 .f32) (x4 x5 : Vec Ideal S4x704x1024 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S4x352x1024.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S4x352x1024 (val_main_v1 (F := Ideal) x0) j (fun a => a.elim0) (fun a => a.elim0)]
  rfl

/-- The lower half of the rows. -/
theorem lower_at (j : S4x352x1024.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S4x352x1024 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 4 := (i 0).isLt
  have h1 : (i 1).val < 704 := (i 1).isLt
  have h2 : (i 2).val < 1024 := (i 2).isLt
  unfold val_main_v6
  by_cases hc : (i 1).val < 352
  · refine (concatenate_pair_apply_left (1 : Fin 3) (val_main_v2 (F := Ideal) x0 x2 x3) (val_main_v5 (F := Ideal) x0 x2 x3) concatenates_S4x352x1024_S4x352x1024_S4x704x1024_d1 i rfl
      (ix3 (Fin.ofNat 4 (i 0).val) (Fin.ofNat 352 ((i 1).val % 352)) (Fin.ofNat 1024 (i 2).val)) (fun b => ?_)).trans ?_
    · match b with
      | ⟨0, _⟩ => show (i 0).val % 4 = (i 0).val; exact Nat.mod_eq_of_lt h0
      | ⟨1, _⟩ => show (i 1).val % 352 % 352 = (i 1).val; rewrite [Nat.mod_mod]; exact Nat.mod_eq_of_lt hc
      | ⟨2, _⟩ => show (i 2).val % 1024 = (i 2).val; exact Nat.mod_eq_of_lt h2
    · refine (upper_at x0 x2 x3 _).trans ?_
      unfold gOf gradAt
      rw [show (i 1).val / 352 = 0 from Nat.div_eq_of_lt hc]
      rfl
  · refine (concatenate_pair_apply_right (1 : Fin 3) (val_main_v2 (F := Ideal) x0 x2 x3) (val_main_v5 (F := Ideal) x0 x2 x3) concatenates_S4x352x1024_S4x352x1024_S4x704x1024_d1 i rfl rfl
      (ix3 (Fin.ofNat 4 (i 0).val) (Fin.ofNat 352 ((i 1).val % 352)) (Fin.ofNat 1024 (i 2).val)) (fun b hb => ?_) ?_).trans ?_
    · match b with
      | ⟨0, _⟩ => show (i 0).val % 4 = (i 0).val; exact Nat.mod_eq_of_lt h0
      | ⟨1, _⟩ => exact absurd rfl hb
      | ⟨2, _⟩ => show (i 2).val % 1024 = (i 2).val; exact Nat.mod_eq_of_lt h2
    · show (i 1).val % 352 % 352 + 352 = (i 1).val; omega
    · refine (lower_at x0 x2 x3 _).trans ?_
      unfold gOf gradAt
      rw [show (i 1).val / 352 = 1 by omega]
      rfl

/-- A weight at its own index. -/
theorem at_self (x : Vec Ideal S4x704x1024 .f32) (i : S4x704x1024.Idx) : x i = at3 (A := 4) (B := 704) (C := 1024) x (i 0).val (i 1).val (i 2).val := by
  have h0 : (i 0).val < 4 := (i 0).isLt
  have h1 : (i 1).val < 704 := (i 1).isLt
  have h2 : (i 2).val < 1024 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S4x704x1024.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S4x704x1024.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S4x704x1024.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdDownRefIdeal := fun m ρ _ =>
  (θ_run _ _ _).mono (fun _ h => ⟨fun c => (h c).2.2.2.2, funext fun g => nomatch g.2⟩) (run_value m ρ)

end Cert.UpdDownRefIdeal.Value

open Cert.UpdDownIdeal.Value (gOf dOf mOf vOf coreOf) in
/-- The kernel's values and the reference's, over the ideal reals. -/
theorem UpdDown_value : Cert.algebraic_UpdDownIdeal_UpdDownRefIdeal :=
  fun m g m' g' _ h => ⟨fun c => gOf (coreOf m) (m ((c.tc : Thread Cert.UpdDownIdeal.nD Cert.UpdDownIdeal.τ).loc Cert.UpdDownIdeal.main_arg2)) (m ((c.tc : Thread Cert.UpdDownIdeal.nD Cert.UpdDownIdeal.τ).loc Cert.UpdDownIdeal.main_arg3)),
    fun c => dOf (coreOf m) (m ((c.tc : Thread Cert.UpdDownIdeal.nD Cert.UpdDownIdeal.τ).loc Cert.UpdDownIdeal.main_arg1)) (m ((c.tc : Thread Cert.UpdDownIdeal.nD Cert.UpdDownIdeal.τ).loc Cert.UpdDownIdeal.main_arg2)) (m ((c.tc : Thread Cert.UpdDownIdeal.nD Cert.UpdDownIdeal.τ).loc Cert.UpdDownIdeal.main_arg3)) (m ((c.tc : Thread Cert.UpdDownIdeal.nD Cert.UpdDownIdeal.τ).loc Cert.UpdDownIdeal.main_arg4)) (m ((c.tc : Thread Cert.UpdDownIdeal.nD Cert.UpdDownIdeal.τ).loc Cert.UpdDownIdeal.main_arg5)),
    fun c => mOf (coreOf m) (m ((c.tc : Thread Cert.UpdDownIdeal.nD Cert.UpdDownIdeal.τ).loc Cert.UpdDownIdeal.main_arg2)) (m ((c.tc : Thread Cert.UpdDownIdeal.nD Cert.UpdDownIdeal.τ).loc Cert.UpdDownIdeal.main_arg3)) (m ((c.tc : Thread Cert.UpdDownIdeal.nD Cert.UpdDownIdeal.τ).loc Cert.UpdDownIdeal.main_arg4)),
    fun c => vOf (coreOf m) (m ((c.tc : Thread Cert.UpdDownIdeal.nD Cert.UpdDownIdeal.τ).loc Cert.UpdDownIdeal.main_arg2)) (m ((c.tc : Thread Cert.UpdDownIdeal.nD Cert.UpdDownIdeal.τ).loc Cert.UpdDownIdeal.main_arg3)) (m ((c.tc : Thread Cert.UpdDownIdeal.nD Cert.UpdDownIdeal.τ).loc Cert.UpdDownIdeal.main_arg5)),
    Cert.UpdDownIdeal.Value.run_value m g,
    (θ_run _ _ _).mono (fun r hr c => by
      have hc := hr c
      obtain ⟨a0, a1, a2, a3, a4, a5⟩ := h c
      have e0 : (m' ((c.tc : Thread Cert.UpdDownRefIdeal.nD Cert.UpdDownRefIdeal.τ).loc Cert.UpdDownRefIdeal.main_arg0) : Cert.UpdDownRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdDownRefIdeal.Value.run_value m' g')⟩

end
-- ==== Proof.UpdGateRun.lean ====
/- The recurrent unit's gate weight: the kernel's gradient, step and moments, at every weight. -/
module

public import proofs.«01_k».proof.Proof.AdamStep
public import proofs.«01_k».proof.Proof.Gen.UpdGateIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdGateIdeal.Value

open Cert.UpdGateIdeal Cert.UpdGateIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x1280x64 .f32) (w mm vv : Vec Ideal S1x1x1280x64 .f32) (p : Fin 1280) (q : Fin 64)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 1280) (B := 64) (e := .f32) g1 _ p q
  · exact dropUnit_apply (A := 1280) (B := 64) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 1280) (B := 64) (e := .f32) mm shapeCasts_S1x1x1280x64_S1280x64 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 1280) (B := 64) (e := .f32) vv shapeCasts_S1x1x1280x64_S1280x64 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 1280) (B := 64) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 1280) (B := 64) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 1280) (B := 64) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 1280) (B := 64) (e := .f32) _ _ p q).trans ?_
  unfold delta
  rw [← pay5_at, ← pay6_at, ← dropUnits_apply (A := 1280) (B := 64) (e := .f32) w shapeCasts_S1x1x1280x64_S1280x64 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x1280x64 .f32) (harg4 : arg4.IsWhole) (arg5 : Memref sig .tc .vmem S1x1280x64 .f32) (harg5 : arg5.IsWhole) (arg6 : Memref sig .tc .vmem S1x1280x64 .f32) (harg6 : arg6.IsWhole) (arg7 : Memref sig .tc .vmem S1x1x1280x64 .f32) (harg7 : arg7.IsWhole) (arg8 : Memref sig .tc .vmem S1x1x1280x64 .f32) (harg8 : arg8.IsWhole) (arg9 : Memref sig .tc .vmem S1x1x1280x64 .f32) (harg9 : arg9.IsWhole) (arg10 : Memref sig .tc .vmem S1x1x1280x64 .f32) (harg10 : arg10.IsWhole) (arg11 : Memref sig .tc .vmem S1x1x1280x64 .f32) (harg11 : arg11.IsWhole) (arg12 : Memref sig .tc .vmem S1x1x1280x64 .f32) (harg12 : arg12.IsWhole)
  (x0 : Vec Ideal S1x1x1280x64 .f32) (x1 : Vec Ideal S1x1280x64 .f32) (x2 : Vec Ideal S1x1280x64 .f32) (x3 : Vec Ideal S1x1x1280x64 .f32) (x4 : Vec Ideal S1x1x1280x64 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x1280x64) hz4]
  have hc := core_eq m c
  unfold kernelRun0_A.sl.r at hc
  sl_unfold_run_values
  simp only [readAt_zero (S := S1x1280x64) hz3, readAt_zero (S := S1x1x1280x64) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x1280x64) hz4]
  have hc := core_eq m c
  unfold kernelRun0_A.sl.r at hc
  sl_unfold_run_values
  simp only [readAt_zero (S := S1x1280x64) hz3, readAt_zero (S := S1x1x1280x64) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x1280x64) hz4]
  have hc := core_eq m c
  unfold kernelRun0_A.sl.r at hc
  sl_unfold_run_values
  simp only [readAt_zero (S := S1x1280x64) hz3, readAt_zero (S := S1x1x1280x64) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x1280x64) hz4]
  have hc := core_eq m c
  unfold kernelRun0_A.sl.r at hc
  sl_unfold_run_values
  simp only [readAt_zero (S := S1x1280x64) hz3, readAt_zero (S := S1x1x1280x64) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 2 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 1280) (q : Fin 64) :
    iblk m (okm m) c 1 t (ix3 0 p q) = at3 (A := 1) (B := 1280) (C := 64) (m ((c.tc : Thread nD τ).loc main_arg2)) (t.val / 2) (t.val % 1 * 1280 + p.val) q.val := by
  have ht := ltN t; have hp := p.isLt; have hq := q.isLt
  unfold iblk
  refine (View.read_apply _ _).trans ?_
  show (V m c main_arg2 : S1x1280x64.Idx → EReal) _ = (m ((c.tc : Thread nD τ).loc main_arg2) : S1x1280x64.Idx → EReal) _
  rw [V_main_arg2]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 1280 + 1 * p.val = (t.val % 1 * 1280 + p.val) % 1280; rw [(ixG t).2.1]; omega
  | ⟨2, _⟩ => show cc0_transform_1 (grid0.coords t) 2 * 64 + 1 * q.val = q.val % 64; rw [(ixG t).2.2]; omega

/-- The sibling's half of the summed gradient, a tile of it. -/
theorem blk2 (c : Dev nD) (t : Fin grid0.N) (p : Fin 1280) (q : Fin 64) :
    iblk m (okm m) c 2 t (ix3 0 p q) = at3 (A := 1) (B := 1280) (C := 64) (m ((c.tc : Thread nD τ).loc main_arg3)) (t.val / 2) (t.val % 1 * 1280 + p.val) q.val := by
  have ht := ltN t; have hp := p.isLt; have hq := q.isLt
  unfold iblk
  refine (View.read_apply _ _).trans ?_
  show (V m c main_arg3 : S1x1280x64.Idx → EReal) _ = (m ((c.tc : Thread nD τ).loc main_arg3) : S1x1280x64.Idx → EReal) _
  rw [V_main_arg3]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 1280 + 1 * p.val = (t.val % 1 * 1280 + p.val) % 1280; rw [(ixG t).2.1]; omega
  | ⟨2, _⟩ => show cc0_transform_1 (grid0.coords t) 2 * 64 + 1 * q.val = q.val % 64; rw [(ixG t).2.2]; omega

/-- The weight, a tile of it. -/
theorem blk0 (c : Dev nD) (t : Fin grid0.N) (p : Fin 1280) (q : Fin 64) :
    iblk m (okm m) c 0 t (ix4 0 0 p q) = at3 (A := 1) (B := 2560) (C := 64) (m ((c.tc : Thread nD τ).loc main_arg1)) (t.val / 2) (t.val / 1 % 2 * 1280 + (t.val % 1 * 1280 + p.val)) q.val := by
  have ht := ltN t; have hp := p.isLt; have hq := q.isLt
  have e : (StableHlo.after hostOps0 (fun b => m (c, b)) (Proc.tc.devRef main_v0) : S1x2x1280x64.Idx → EReal)
      = shapeCast S1x2x1280x64 (m ((c.tc : Thread nD τ).loc main_arg1) : S1x2560x64.Idx → EReal) shapeCasts_S1x2560x64_S1x2x1280x64 := by
    after_results
    rfl
  have hi : ((((cfgM m (okm m)).win 0).blk t).view.emb (ix4 0 0 p q) : S1x2x1280x64.Idx) = ix4 (⟨t.val / 2, by omega⟩ : Fin 1) (⟨t.val / 1 % 2, by omega⟩ : Fin 2) (⟨t.val % 1 * 1280 + p.val, by omega⟩ : Fin 1280) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 1280 + 1 * p.val = t.val % 1 * 1280 + p.val; rw [(ixH t).2.2.1]; omega
    | ⟨3, _⟩ => show cc0_transform_0 (grid0.coords t) 3 * 64 + 1 * q.val = q.val; rw [(ixH t).2.2.2]; omega
  unfold iblk
  refine (View.read_apply _ _).trans ?_
  refine (show _ = (StableHlo.after hostOps0 (fun b => m (c, b)) (Proc.tc.devRef main_v0) : S1x2x1280x64.Idx → EReal) ((((cfgM m (okm m)).win 0).blk t).view.emb (ix4 0 0 p q)) from rfl).trans ?_
  refine (congrArg (StableHlo.after hostOps0 (fun b => m (c, b)) (Proc.tc.devRef main_v0) : S1x2x1280x64.Idx → EReal) hi).trans ?_
  refine (congrFun e _).trans ?_
  refine (halves_apply (L := 1) (R := 2560) (H := 1280) (C := 64) (e := .f32) (m ((c.tc : Thread nD τ).loc main_arg1) : S1x2560x64.Idx → EReal) (by norm_num) _ _ _ _ _ (⟨t.val / 1 % 2 * 1280 + (t.val % 1 * 1280 + p.val), by omega⟩ : Fin 2560) (by rfl)).trans ?_
  unfold AdamStep.at3
  congr 1; funext b; apply Fin.ext
  match b with
  | ⟨0, _⟩ => show t.val / 2 = (t.val / 2) % 1; omega
  | ⟨1, _⟩ => show t.val / 1 % 2 * 1280 + (t.val % 1 * 1280 + p.val) = (t.val / 1 % 2 * 1280 + (t.val % 1 * 1280 + p.val)) % 2560; omega
  | ⟨2, _⟩ => show q.val = q.val % 64; omega

/-- The first moment, a tile of it. -/
theorem blk3 (c : Dev nD) (t : Fin grid0.N) (p : Fin 1280) (q : Fin 64) :
    iblk m (okm m) c 3 t (ix4 0 0 p q) = at3 (A := 1) (B := 2560) (C := 64) (m ((c.tc : Thread nD τ).loc main_arg4)) (t.val / 2) (t.val / 1 % 2 * 1280 + (t.val % 1 * 1280 + p.val)) q.val := by
  have ht := ltN t; have hp := p.isLt; have hq := q.isLt
  have e : (StableHlo.after hostOps0 (fun b => m (c, b)) (Proc.tc.devRef main_v1) : S1x2x1280x64.Idx → EReal)
      = shapeCast S1x2x1280x64 (m ((c.tc : Thread nD τ).loc main_arg4) : S1x2560x64.Idx → EReal) shapeCasts_S1x2560x64_S1x2x1280x64 := by
    after_results
    rfl
  have hi : ((((cfgM m (okm m)).win 3).blk t).view.emb (ix4 0 0 p q) : S1x2x1280x64.Idx) = ix4 (⟨t.val / 2, by omega⟩ : Fin 1) (⟨t.val / 1 % 2, by omega⟩ : Fin 2) (⟨t.val % 1 * 1280 + p.val, by omega⟩ : Fin 1280) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 1280 + 1 * p.val = t.val % 1 * 1280 + p.val; rw [(ixH t).2.2.1]; omega
    | ⟨3, _⟩ => show cc0_transform_0 (grid0.coords t) 3 * 64 + 1 * q.val = q.val; rw [(ixH t).2.2.2]; omega
  unfold iblk
  refine (View.read_apply _ _).trans ?_
  refine (show _ = (StableHlo.after hostOps0 (fun b => m (c, b)) (Proc.tc.devRef main_v1) : S1x2x1280x64.Idx → EReal) ((((cfgM m (okm m)).win 3).blk t).view.emb (ix4 0 0 p q)) from rfl).trans ?_
  refine (congrArg (StableHlo.after hostOps0 (fun b => m (c, b)) (Proc.tc.devRef main_v1) : S1x2x1280x64.Idx → EReal) hi).trans ?_
  refine (congrFun e _).trans ?_
  refine (halves_apply (L := 1) (R := 2560) (H := 1280) (C := 64) (e := .f32) (m ((c.tc : Thread nD τ).loc main_arg4) : S1x2560x64.Idx → EReal) (by norm_num) _ _ _ _ _ (⟨t.val / 1 % 2 * 1280 + (t.val % 1 * 1280 + p.val), by omega⟩ : Fin 2560) (by rfl)).trans ?_
  unfold AdamStep.at3
  congr 1; funext b; apply Fin.ext
  match b with
  | ⟨0, _⟩ => show t.val / 2 = (t.val / 2) % 1; omega
  | ⟨1, _⟩ => show t.val / 1 % 2 * 1280 + (t.val % 1 * 1280 + p.val) = (t.val / 1 % 2 * 1280 + (t.val % 1 * 1280 + p.val)) % 2560; omega
  | ⟨2, _⟩ => show q.val = q.val % 64; omega

/-- The second moment, a tile of it. -/
theorem blk4 (c : Dev nD) (t : Fin grid0.N) (p : Fin 1280) (q : Fin 64) :
    iblk m (okm m) c 4 t (ix4 0 0 p q) = at3 (A := 1) (B := 2560) (C := 64) (m ((c.tc : Thread nD τ).loc main_arg5)) (t.val / 2) (t.val / 1 % 2 * 1280 + (t.val % 1 * 1280 + p.val)) q.val := by
  have ht := ltN t; have hp := p.isLt; have hq := q.isLt
  have e : (StableHlo.after hostOps0 (fun b => m (c, b)) (Proc.tc.devRef main_v2) : S1x2x1280x64.Idx → EReal)
      = shapeCast S1x2x1280x64 (m ((c.tc : Thread nD τ).loc main_arg5) : S1x2560x64.Idx → EReal) shapeCasts_S1x2560x64_S1x2x1280x64 := by
    after_results
    rfl
  have hi : ((((cfgM m (okm m)).win 4).blk t).view.emb (ix4 0 0 p q) : S1x2x1280x64.Idx) = ix4 (⟨t.val / 2, by omega⟩ : Fin 1) (⟨t.val / 1 % 2, by omega⟩ : Fin 2) (⟨t.val % 1 * 1280 + p.val, by omega⟩ : Fin 1280) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 1280 + 1 * p.val = t.val % 1 * 1280 + p.val; rw [(ixH t).2.2.1]; omega
    | ⟨3, _⟩ => show cc0_transform_0 (grid0.coords t) 3 * 64 + 1 * q.val = q.val; rw [(ixH t).2.2.2]; omega
  unfold iblk
  refine (View.read_apply _ _).trans ?_
  refine (show _ = (StableHlo.after hostOps0 (fun b => m (c, b)) (Proc.tc.devRef main_v2) : S1x2x1280x64.Idx → EReal) ((((cfgM m (okm m)).win 4).blk t).view.emb (ix4 0 0 p q)) from rfl).trans ?_
  refine (congrArg (StableHlo.after hostOps0 (fun b => m (c, b)) (Proc.tc.devRef main_v2) : S1x2x1280x64.Idx → EReal) hi).trans ?_
  refine (congrFun e _).trans ?_
  refine (halves_apply (L := 1) (R := 2560) (H := 1280) (C := 64) (e := .f32) (m ((c.tc : Thread nD τ).loc main_arg5) : S1x2560x64.Idx → EReal) (by norm_num) _ _ _ _ _ (⟨t.val / 1 % 2 * 1280 + (t.val % 1 * 1280 + p.val), by omega⟩ : Fin 2560) (by rfl)).trans ?_
  unfold AdamStep.at3
  congr 1; funext b; apply Fin.ext
  match b with
  | ⟨0, _⟩ => show t.val / 2 = (t.val / 2) % 1; omega
  | ⟨1, _⟩ => show t.val / 1 % 2 * 1280 + (t.val % 1 * 1280 + p.val) = (t.val / 1 % 2 * 1280 + (t.val % 1 * 1280 + p.val)) % 2560; omega
  | ⟨2, _⟩ => show q.val = q.val % 64; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x1280x64.Idx) :
    ((dats m (okm m) 0 c).arrAt 5 (cfgM m (okm m)).N : S1x2x1280x64.Idx → EReal) ((((cfgM m (okm m)).win 5).blk t).view.emb y) = ((dats m (okm m) 0 c).after 5 t : S1x1x1280x64.Idx → EReal) y :=
  (dats m (okm m) 0 c).arrAt_emb_eq_flushed 5 (disjoint5 m) t (flush0_5 _ t) y

/-- Where an index of the array of output the gradient sits in its block. -/
theorem emb5 (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((((cfgM m (okm m)).win 5).blk t).view.emb (ix4 0 0 p q : S1x1x1280x64.Idx) : S1x2x1280x64.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 1280 + 1 * p.val = r.val; rewrite [(ixH t).2.2.1, Nat.one_mul]; exact h2
  | ⟨3, _⟩ => show cc0_transform_0 (grid0.coords t) 3 * 64 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((dats m (okm m) 0 c).arrAt 5 (cfgM m (okm m)).N : S1x2x1280x64.Idx → EReal) (ix4 l b r q) = grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val) := by
  refine (congrArg ((dats m (okm m) 0 c).arrAt 5 (cfgM m (okm m)).N : S1x2x1280x64.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 1) (b : Fin 2) (r : Fin 1280) (q : Fin 64) :
    ((dats m (okm m) 0 c).arrAt 5 (cfgM m (okm m)).N : S1x2x1280x64.Idx → EReal) (ix4 l b r q) = grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val) := by
  have hl := l.isLt; have hb2 := b.isLt; have hr := r.isLt
  have ht : l.val * 2 + b.val * 1 + r.val / 1280 < grid0.N := lt_of_lt_of_eq (by omega) N_0.symm
  have e0 : (l.val * 2 + b.val * 1 + r.val / 1280) / 2 = l.val := by omega
  have e1 : (l.val * 2 + b.val * 1 + r.val / 1280) / 1 % 2 = b.val := by omega
  have e2 : (l.val * 2 + b.val * 1 + r.val / 1280) % 1 * 1280 + r.val % 1280 = r.val := by omega
  exact tile5 m c ⟨l.val * 2 + b.val * 1 + r.val / 1280, ht⟩ (⟨r.val % 1280, by omega⟩ : Fin 1280) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x1280x64.Idx) :
    ((dats m (okm m) 0 c).arrAt 6 (cfgM m (okm m)).N : S1x2x1280x64.Idx → EReal) ((((cfgM m (okm m)).win 6).blk t).view.emb y) = ((dats m (okm m) 0 c).after 6 t : S1x1x1280x64.Idx → EReal) y :=
  (dats m (okm m) 0 c).arrAt_emb_eq_flushed 6 (disjoint6 m) t (flush0_6 _ t) y

/-- Where an index of the array of output the step sits in its block. -/
theorem emb6 (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((((cfgM m (okm m)).win 6).blk t).view.emb (ix4 0 0 p q : S1x1x1280x64.Idx) : S1x2x1280x64.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 1280 + 1 * p.val = r.val; rewrite [(ixH t).2.2.1, Nat.one_mul]; exact h2
  | ⟨3, _⟩ => show cc0_transform_0 (grid0.coords t) 3 * 64 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((dats m (okm m) 0 c).arrAt 6 (cfgM m (okm m)).N : S1x2x1280x64.Idx → EReal) (ix4 l b r q) = delta (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg1)) l.val (b.val * 1280 + r.val) q.val) (at3 (A := 1) (B := 2560) (C := 64) (m ((c.tc : Thread nD τ).loc main_arg4)) l.val (b.val * 1280 + r.val) q.val) (at3 (A := 1) (B := 2560) (C := 64) (m ((c.tc : Thread nD τ).loc main_arg5)) l.val (b.val * 1280 + r.val) q.val) := by
  refine (congrArg ((dats m (okm m) 0 c).arrAt 6 (cfgM m (okm m)).N : S1x2x1280x64.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 1) (b : Fin 2) (r : Fin 1280) (q : Fin 64) :
    ((dats m (okm m) 0 c).arrAt 6 (cfgM m (okm m)).N : S1x2x1280x64.Idx → EReal) (ix4 l b r q) = delta (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg1)) l.val (b.val * 1280 + r.val) q.val) (at3 (A := 1) (B := 2560) (C := 64) (m ((c.tc : Thread nD τ).loc main_arg4)) l.val (b.val * 1280 + r.val) q.val) (at3 (A := 1) (B := 2560) (C := 64) (m ((c.tc : Thread nD τ).loc main_arg5)) l.val (b.val * 1280 + r.val) q.val) := by
  have hl := l.isLt; have hb2 := b.isLt; have hr := r.isLt
  have ht : l.val * 2 + b.val * 1 + r.val / 1280 < grid0.N := lt_of_lt_of_eq (by omega) N_0.symm
  have e0 : (l.val * 2 + b.val * 1 + r.val / 1280) / 2 = l.val := by omega
  have e1 : (l.val * 2 + b.val * 1 + r.val / 1280) / 1 % 2 = b.val := by omega
  have e2 : (l.val * 2 + b.val * 1 + r.val / 1280) % 1 * 1280 + r.val % 1280 = r.val := by omega
  exact tile6 m c ⟨l.val * 2 + b.val * 1 + r.val / 1280, ht⟩ (⟨r.val % 1280, by omega⟩ : Fin 1280) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x1280x64.Idx) :
    ((dats m (okm m) 0 c).arrAt 7 (cfgM m (okm m)).N : S1x2x1280x64.Idx → EReal) ((((cfgM m (okm m)).win 7).blk t).view.emb y) = ((dats m (okm m) 0 c).after 7 t : S1x1x1280x64.Idx → EReal) y :=
  (dats m (okm m) 0 c).arrAt_emb_eq_flushed 7 (disjoint7 m) t (flush0_7 _ t) y

/-- Where an index of the array of output the first moment sits in its block. -/
theorem emb7 (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((((cfgM m (okm m)).win 7).blk t).view.emb (ix4 0 0 p q : S1x1x1280x64.Idx) : S1x2x1280x64.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 1280 + 1 * p.val = r.val; rewrite [(ixH t).2.2.1, Nat.one_mul]; exact h2
  | ⟨3, _⟩ => show cc0_transform_0 (grid0.coords t) 3 * 64 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((dats m (okm m) 0 c).arrAt 7 (cfgM m (okm m)).N : S1x2x1280x64.Idx → EReal) (ix4 l b r q) = mom1 (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg4)) l.val (b.val * 1280 + r.val) q.val) := by
  refine (congrArg ((dats m (okm m) 0 c).arrAt 7 (cfgM m (okm m)).N : S1x2x1280x64.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 1) (b : Fin 2) (r : Fin 1280) (q : Fin 64) :
    ((dats m (okm m) 0 c).arrAt 7 (cfgM m (okm m)).N : S1x2x1280x64.Idx → EReal) (ix4 l b r q) = mom1 (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg4)) l.val (b.val * 1280 + r.val) q.val) := by
  have hl := l.isLt; have hb2 := b.isLt; have hr := r.isLt
  have ht : l.val * 2 + b.val * 1 + r.val / 1280 < grid0.N := lt_of_lt_of_eq (by omega) N_0.symm
  have e0 : (l.val * 2 + b.val * 1 + r.val / 1280) / 2 = l.val := by omega
  have e1 : (l.val * 2 + b.val * 1 + r.val / 1280) / 1 % 2 = b.val := by omega
  have e2 : (l.val * 2 + b.val * 1 + r.val / 1280) % 1 * 1280 + r.val % 1280 = r.val := by omega
  exact tile7 m c ⟨l.val * 2 + b.val * 1 + r.val / 1280, ht⟩ (⟨r.val % 1280, by omega⟩ : Fin 1280) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x1280x64.Idx) :
    ((dats m (okm m) 0 c).arrAt 8 (cfgM m (okm m)).N : S1x2x1280x64.Idx → EReal) ((((cfgM m (okm m)).win 8).blk t).view.emb y) = ((dats m (okm m) 0 c).after 8 t : S1x1x1280x64.Idx → EReal) y :=
  (dats m (okm m) 0 c).arrAt_emb_eq_flushed 8 (disjoint8 m) t (flush0_8 _ t) y

/-- Where an index of the array of output the second moment sits in its block. -/
theorem emb8 (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((((cfgM m (okm m)).win 8).blk t).view.emb (ix4 0 0 p q : S1x1x1280x64.Idx) : S1x2x1280x64.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 1280 + 1 * p.val = r.val; rewrite [(ixH t).2.2.1, Nat.one_mul]; exact h2
  | ⟨3, _⟩ => show cc0_transform_0 (grid0.coords t) 3 * 64 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 1280) (q : Fin 64) (l : Fin 1) (b : Fin 2) (r : Fin 1280) (h0 : t.val / 2 = l.val) (h1 : t.val / 1 % 2 = b.val) (h2 : t.val % 1 * 1280 + p.val = r.val) :
    ((dats m (okm m) 0 c).arrAt 8 (cfgM m (okm m)).N : S1x2x1280x64.Idx → EReal) (ix4 l b r q) = mom2 (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg5)) l.val (b.val * 1280 + r.val) q.val) := by
  refine (congrArg ((dats m (okm m) 0 c).arrAt 8 (cfgM m (okm m)).N : S1x2x1280x64.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 1) (b : Fin 2) (r : Fin 1280) (q : Fin 64) :
    ((dats m (okm m) 0 c).arrAt 8 (cfgM m (okm m)).N : S1x2x1280x64.Idx → EReal) (ix4 l b r q) = mom2 (grad (coreOf m) b.val (at3 (A := 1) (B := 1280) (C := 64) (m ((c.tc : Thread nD τ).loc main_arg2)) l.val r.val q.val) (at3 (A := 1) (B := 1280) (C := 64) (m ((c.tc : Thread nD τ).loc main_arg3)) l.val r.val q.val)) (at3 (A := 1) (B := 2560) (C := 64) (m ((c.tc : Thread nD τ).loc main_arg5)) l.val (b.val * 1280 + r.val) q.val) := by
  have hl := l.isLt; have hb2 := b.isLt; have hr := r.isLt
  have ht : l.val * 2 + b.val * 1 + r.val / 1280 < grid0.N := lt_of_lt_of_eq (by omega) N_0.symm
  have e0 : (l.val * 2 + b.val * 1 + r.val / 1280) / 2 = l.val := by omega
  have e1 : (l.val * 2 + b.val * 1 + r.val / 1280) / 1 % 2 = b.val := by omega
  have e2 : (l.val * 2 + b.val * 1 + r.val / 1280) % 1 * 1280 + r.val % 1280 = r.val := by omega
  exact tile8 m c ⟨l.val * 2 + b.val * 1 + r.val / 1280, ht⟩ (⟨r.val % 1280, by omega⟩ : Fin 1280) q l b r e0 e1 e2

/-- The gradient, as an array. -/
def gOf (core : BitVec 32) (g1 g2 : Vec Ideal S1x1280x64 .f32) : Vec Ideal S1x2560x64 .f32 := fun i =>
  gradAt core g1 g2 (i 0).val (i 1).val (i 2).val

/-- The step, as an array. -/
def dOf (core : BitVec 32) (w : Vec Ideal S1x2560x64 .f32) (g1 g2 : Vec Ideal S1x1280x64 .f32) (x y : Vec Ideal S1x2560x64 .f32) : Vec Ideal S1x2560x64 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S1x1280x64 .f32) (x : Vec Ideal S1x2560x64 .f32) : Vec Ideal S1x2560x64 .f32 := fun i =>
  mom1 (gradAt core g1 g2 (i 0).val (i 1).val (i 2).val) (at3 x (i 0).val (i 1).val (i 2).val)

/-- The second moment, as an array. -/
def vOf (core : BitVec 32) (g1 g2 : Vec Ideal S1x1280x64 .f32) (y : Vec Ideal S1x2560x64 .f32) : Vec Ideal S1x2560x64 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S1x2560x64.Idx → EReal)
    = shapeCast S1x2560x64 (W (Proc.tc.devRef main_v3_0) : S1x2x1280x64.Idx → EReal) shapeCasts_S1x2x1280x64_S1x2560x64 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S1x2560x64.Idx → EReal)
      = shapeCast S1x2560x64 ((dats m (okm m) 0 c).arrAt 5 (cfgM m (okm m)).N : S1x2x1280x64.Idx → EReal) shapeCasts_S1x2x1280x64_S1x2560x64 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S1x2x1280x64.Idx → EReal => shapeCast S1x2560x64 a shapeCasts_S1x2x1280x64_S1x2560x64) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 1 := (i 0).isLt
  have h1 : (i 1).val < 2560 := (i 1).isLt
  have h2 : (i 2).val < 64 := (i 2).isLt
  refine (congrArg (shapeCast S1x2560x64 ((dats m (okm m) 0 c).arrAt 5 (cfgM m (okm m)).N : S1x2x1280x64.Idx → EReal) shapeCasts_S1x2x1280x64_S1x2560x64) (eq_ix3 i)).trans ?_
  refine (joined_apply (L := 1) (R := 2560) (H := 1280) (C := 64) (e := .f32) _ (by norm_num) _ (i 0) (⟨(i 1).val / 1280, by omega⟩ : Fin 2) (⟨(i 1).val % 1280, by omega⟩ : Fin 1280) (i 2) (i 1) (by show (i 1).val = (i 1).val / 1280 * 1280 + (i 1).val % 1280; omega)).trans ?_
  refine (final5 m c _ _ _ _).trans ?_
  have eh : (i 1).val / 1280 * 1280 + (i 1).val % 1280 = (i 1).val := by omega
  dsimp only
  rfl

/-- The line after the body joins the halves of output the step. -/
theorem joined_6 (W : Valuation τ sig (Elt Ideal)) : (StableHlo.after hostOps1 W (Proc.tc.devRef main_v5) : S1x2560x64.Idx → EReal)
    = shapeCast S1x2560x64 (W (Proc.tc.devRef main_v3_1) : S1x2x1280x64.Idx → EReal) shapeCasts_S1x2x1280x64_S1x2560x64 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S1x2560x64.Idx → EReal)
      = shapeCast S1x2560x64 ((dats m (okm m) 0 c).arrAt 6 (cfgM m (okm m)).N : S1x2x1280x64.Idx → EReal) shapeCasts_S1x2x1280x64_S1x2560x64 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S1x2x1280x64.Idx → EReal => shapeCast S1x2560x64 a shapeCasts_S1x2x1280x64_S1x2560x64) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 1 := (i 0).isLt
  have h1 : (i 1).val < 2560 := (i 1).isLt
  have h2 : (i 2).val < 64 := (i 2).isLt
  refine (congrArg (shapeCast S1x2560x64 ((dats m (okm m) 0 c).arrAt 6 (cfgM m (okm m)).N : S1x2x1280x64.Idx → EReal) shapeCasts_S1x2x1280x64_S1x2560x64) (eq_ix3 i)).trans ?_
  refine (joined_apply (L := 1) (R := 2560) (H := 1280) (C := 64) (e := .f32) _ (by norm_num) _ (i 0) (⟨(i 1).val / 1280, by omega⟩ : Fin 2) (⟨(i 1).val % 1280, by omega⟩ : Fin 1280) (i 2) (i 1) (by show (i 1).val = (i 1).val / 1280 * 1280 + (i 1).val % 1280; omega)).trans ?_
  refine (final6 m c _ _ _ _).trans ?_
  have eh : (i 1).val / 1280 * 1280 + (i 1).val % 1280 = (i 1).val := by omega
  dsimp only
  rw [eh]
  rfl

/-- The line after the body joins the halves of output the first moment. -/
theorem joined_7 (W : Valuation τ sig (Elt Ideal)) : (StableHlo.after hostOps1 W (Proc.tc.devRef main_v6) : S1x2560x64.Idx → EReal)
    = shapeCast S1x2560x64 (W (Proc.tc.devRef main_v3_2) : S1x2x1280x64.Idx → EReal) shapeCasts_S1x2x1280x64_S1x2560x64 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S1x2560x64.Idx → EReal)
      = shapeCast S1x2560x64 ((dats m (okm m) 0 c).arrAt 7 (cfgM m (okm m)).N : S1x2x1280x64.Idx → EReal) shapeCasts_S1x2x1280x64_S1x2560x64 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S1x2x1280x64.Idx → EReal => shapeCast S1x2560x64 a shapeCasts_S1x2x1280x64_S1x2560x64) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 1 := (i 0).isLt
  have h1 : (i 1).val < 2560 := (i 1).isLt
  have h2 : (i 2).val < 64 := (i 2).isLt
  refine (congrArg (shapeCast S1x2560x64 ((dats m (okm m) 0 c).arrAt 7 (cfgM m (okm m)).N : S1x2x1280x64.Idx → EReal) shapeCasts_S1x2x1280x64_S1x2560x64) (eq_ix3 i)).trans ?_
  refine (joined_apply (L := 1) (R := 2560) (H := 1280) (C := 64) (e := .f32) _ (by norm_num) _ (i 0) (⟨(i 1).val / 1280, by omega⟩ : Fin 2) (⟨(i 1).val % 1280, by omega⟩ : Fin 1280) (i 2) (i 1) (by show (i 1).val = (i 1).val / 1280 * 1280 + (i 1).val % 1280; omega)).trans ?_
  refine (final7 m c _ _ _ _).trans ?_
  have eh : (i 1).val / 1280 * 1280 + (i 1).val % 1280 = (i 1).val := by omega
  dsimp only
  rw [eh]
  rfl

/-- The line after the body joins the halves of output the second moment. -/
theorem joined_8 (W : Valuation τ sig (Elt Ideal)) : (StableHlo.after hostOps1 W (Proc.tc.devRef main_v7) : S1x2560x64.Idx → EReal)
    = shapeCast S1x2560x64 (W (Proc.tc.devRef main_v3_3) : S1x2x1280x64.Idx → EReal) shapeCasts_S1x2x1280x64_S1x2560x64 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S1x2560x64.Idx → EReal)
      = shapeCast S1x2560x64 ((dats m (okm m) 0 c).arrAt 8 (cfgM m (okm m)).N : S1x2x1280x64.Idx → EReal) shapeCasts_S1x2x1280x64_S1x2560x64 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S1x2x1280x64.Idx → EReal => shapeCast S1x2560x64 a shapeCasts_S1x2x1280x64_S1x2560x64) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 1 := (i 0).isLt
  have h1 : (i 1).val < 2560 := (i 1).isLt
  have h2 : (i 2).val < 64 := (i 2).isLt
  refine (congrArg (shapeCast S1x2560x64 ((dats m (okm m) 0 c).arrAt 8 (cfgM m (okm m)).N : S1x2x1280x64.Idx → EReal) shapeCasts_S1x2x1280x64_S1x2560x64) (eq_ix3 i)).trans ?_
  refine (joined_apply (L := 1) (R := 2560) (H := 1280) (C := 64) (e := .f32) _ (by norm_num) _ (i 0) (⟨(i 1).val / 1280, by omega⟩ : Fin 2) (⟨(i 1).val % 1280, by omega⟩ : Fin 1280) (i 2) (i 1) (by show (i 1).val = (i 1).val / 1280 * 1280 + (i 1).val % 1280; omega)).trans ?_
  refine (final8 m c _ _ _ _).trans ?_
  have eh : (i 1).val / 1280 * 1280 + (i 1).val % 1280 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdGateIdeal.Value

end
-- ==== Proof.UpdGateRef.lean ====
/- The recurrent unit's gate weight: the reference's step, and the two runs together. -/
module

public import proofs.«01_k».proof.Proof.UpdGateRun
public import proofs.«01_k».proof.Proof.Gen.UpdGateRefIdeal.Run
public import proofs.«01_k».proof.Proof.Gen.UpdGateRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdGateRefIdeal.Value

open Cert.UpdGateRefIdeal Cert.UpdGateRefIdeal.Gen Cert.UpdGateRefIdeal.Read AdamStep
open Cert.UpdGateIdeal.Value (gOf dOf mOf vOf)

variable (x0 : Vec Ideal S1 .i32) (x1 : Vec Ideal S1x2560x64 .f32) (x2 x3 : Vec Ideal S1x1280x64 .f32) (x4 x5 : Vec Ideal S1x2560x64 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S1x1280x64.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S1x1280x64 (val_main_v1 (F := Ideal) x0) j (fun a => a.elim0) (fun a => a.elim0)]
  rfl

/-- The lower half of the rows. -/
theorem lower_at (j : S1x1280x64.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S1x1280x64 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 1 := (i 0).isLt
  have h1 : (i 1).val < 2560 := (i 1).isLt
  have h2 : (i 2).val < 64 := (i 2).isLt
  unfold val_main_v6
  by_cases hc : (i 1).val < 1280
  · refine (concatenate_pair_apply_left (1 : Fin 3) (val_main_v2 (F := Ideal) x0 x2 x3) (val_main_v5 (F := Ideal) x0 x2 x3) concatenates_S1x1280x64_S1x1280x64_S1x2560x64_d1 i rfl
      (ix3 (Fin.ofNat 1 (i 0).val) (Fin.ofNat 1280 ((i 1).val % 1280)) (Fin.ofNat 64 (i 2).val)) (fun b => ?_)).trans ?_
    · match b with
      | ⟨0, _⟩ => show (i 0).val % 1 = (i 0).val; exact Nat.mod_eq_of_lt h0
      | ⟨1, _⟩ => show (i 1).val % 1280 % 1280 = (i 1).val; rewrite [Nat.mod_mod]; exact Nat.mod_eq_of_lt hc
      | ⟨2, _⟩ => show (i 2).val % 64 = (i 2).val; exact Nat.mod_eq_of_lt h2
    · refine (upper_at x0 x2 x3 _).trans ?_
      unfold gOf gradAt
      rw [show (i 1).val / 1280 = 0 from Nat.div_eq_of_lt hc]
      rfl
  · refine (concatenate_pair_apply_right (1 : Fin 3) (val_main_v2 (F := Ideal) x0 x2 x3) (val_main_v5 (F := Ideal) x0 x2 x3) concatenates_S1x1280x64_S1x1280x64_S1x2560x64_d1 i rfl rfl
      (ix3 (Fin.ofNat 1 (i 0).val) (Fin.ofNat 1280 ((i 1).val % 1280)) (Fin.ofNat 64 (i 2).val)) (fun b hb => ?_) ?_).trans ?_
    · match b with
      | ⟨0, _⟩ => show (i 0).val % 1 = (i 0).val; exact Nat.mod_eq_of_lt h0
      | ⟨1, _⟩ => exact absurd rfl hb
      | ⟨2, _⟩ => show (i 2).val % 64 = (i 2).val; exact Nat.mod_eq_of_lt h2
    · show (i 1).val % 1280 % 1280 + 1280 = (i 1).val; omega
    · refine (lower_at x0 x2 x3 _).trans ?_
      unfold gOf gradAt
      rw [show (i 1).val / 1280 = 1 by omega]
      rfl

/-- A weight at its own index. -/
theorem at_self (x : Vec Ideal S1x2560x64 .f32) (i : S1x2560x64.Idx) : x i = at3 (A := 1) (B := 2560) (C := 64) x (i 0).val (i 1).val (i 2).val := by
  have h0 : (i 0).val < 1 := (i 0).isLt
  have h1 : (i 1).val < 2560 := (i 1).isLt
  have h2 : (i 2).val < 64 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S1x2560x64.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S1x2560x64.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S1x2560x64.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdGateRefIdeal := fun m ρ _ =>
  (θ_run _ _ _).mono (fun _ h => ⟨fun c => (h c).2.2.2.2, funext fun g => nomatch g.2⟩) (run_value m ρ)

end Cert.UpdGateRefIdeal.Value

open Cert.UpdGateIdeal.Value (gOf dOf mOf vOf coreOf) in
/-- The kernel's values and the reference's, over the ideal reals. -/
theorem UpdGate_value : Cert.algebraic_UpdGateIdeal_UpdGateRefIdeal :=
  fun m g m' g' _ h => ⟨fun c => gOf (coreOf m) (m ((c.tc : Thread Cert.UpdGateIdeal.nD Cert.UpdGateIdeal.τ).loc Cert.UpdGateIdeal.main_arg2)) (m ((c.tc : Thread Cert.UpdGateIdeal.nD Cert.UpdGateIdeal.τ).loc Cert.UpdGateIdeal.main_arg3)),
    fun c => dOf (coreOf m) (m ((c.tc : Thread Cert.UpdGateIdeal.nD Cert.UpdGateIdeal.τ).loc Cert.UpdGateIdeal.main_arg1)) (m ((c.tc : Thread Cert.UpdGateIdeal.nD Cert.UpdGateIdeal.τ).loc Cert.UpdGateIdeal.main_arg2)) (m ((c.tc : Thread Cert.UpdGateIdeal.nD Cert.UpdGateIdeal.τ).loc Cert.UpdGateIdeal.main_arg3)) (m ((c.tc : Thread Cert.UpdGateIdeal.nD Cert.UpdGateIdeal.τ).loc Cert.UpdGateIdeal.main_arg4)) (m ((c.tc : Thread Cert.UpdGateIdeal.nD Cert.UpdGateIdeal.τ).loc Cert.UpdGateIdeal.main_arg5)),
    fun c => mOf (coreOf m) (m ((c.tc : Thread Cert.UpdGateIdeal.nD Cert.UpdGateIdeal.τ).loc Cert.UpdGateIdeal.main_arg2)) (m ((c.tc : Thread Cert.UpdGateIdeal.nD Cert.UpdGateIdeal.τ).loc Cert.UpdGateIdeal.main_arg3)) (m ((c.tc : Thread Cert.UpdGateIdeal.nD Cert.UpdGateIdeal.τ).loc Cert.UpdGateIdeal.main_arg4)),
    fun c => vOf (coreOf m) (m ((c.tc : Thread Cert.UpdGateIdeal.nD Cert.UpdGateIdeal.τ).loc Cert.UpdGateIdeal.main_arg2)) (m ((c.tc : Thread Cert.UpdGateIdeal.nD Cert.UpdGateIdeal.τ).loc Cert.UpdGateIdeal.main_arg3)) (m ((c.tc : Thread Cert.UpdGateIdeal.nD Cert.UpdGateIdeal.τ).loc Cert.UpdGateIdeal.main_arg5)),
    Cert.UpdGateIdeal.Value.run_value m g,
    (θ_run _ _ _).mono (fun r hr c => by
      have hc := hr c
      obtain ⟨a0, a1, a2, a3, a4, a5⟩ := h c
      have e0 : (m' ((c.tc : Thread Cert.UpdGateRefIdeal.nD Cert.UpdGateRefIdeal.τ).loc Cert.UpdGateRefIdeal.main_arg0) : Cert.UpdGateRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdGateRefIdeal.Value.run_value m' g')⟩

end
-- ==== Proof.ScFwdRun.lean ====
/- The short convolution's forward pass: the values one grid point computes from its tile and the eight rows carried to it, and
   what the run leaves, as a function of the arguments. -/
module

public import proofs.«01_k».proof.Proof.Products
public import proofs.«01_k».proof.Proof.Gen.ScFwdIdeal.Value
public import Idealize.ShloMosaic.Lib.ValueLayout
public import Idealize.ShloMosaic.Lib.KernelVsHost
public import Idealize.ShloMosaic.Lib.Pipeline.ReadBack
public import Idealize.ShloMosaic.Lib.Pipeline.ValueKit.Tiles
public import Idealize.ShloMosaic.Lib.Tactic.RunNames
public import Idealize.ShloMosaic.Lib.Tactic

@[expose] public section

set_option maxRecDepth 16384
set_option maxHeartbeats 1000000

noncomputable section

open Idealize.ShloMosaic Idealize.ShloMosaic.TcCoe Idealize.SL.Sem Idealize.ShloMosaic.ValueIdx Products
open scoped BigOperators

/-- The arguments of the forward pass: the two gates and the values side by side, the filter and the bias. -/
structure ScFwdSrc where
  h : Vec Ideal ⟨2, ![8192, 3072]⟩ .bf16
  cw : Vec Ideal ⟨2, ![3, 1024]⟩ .f32
  cb : Vec Ideal ⟨1, ![1024]⟩ .f32

namespace ScFwdSrc

variable (S : ScFwdSrc)

/-- The convolution's input: the second gate times the values. -/
def p (r c : ℕ) : EReal := at2 (A := 8192) (B := 3072) S.h r (1024 + c) * at2 (A := 8192) (B := 3072) S.h r (2048 + c)
/-- The convolution's input `k` rows before, zero before the sequence's first row. -/
def pb (k r c : ℕ) : EReal := if r % 2048 < k then 0 else S.p (r - k) c
/-- The filter. -/
def t (k c : ℕ) : EReal := at2 (A := 3) (B := 1024) S.cw k c
/-- The bias. -/
def b (c : ℕ) : EReal := S.cb (ix1 (Fin.ofNat 1024 c))
/-- The causal convolution. -/
def u (r c : ℕ) : EReal := S.b c + S.t 0 c * S.pb 2 r c + S.t 1 c * S.pb 1 r c + S.t 2 c * S.p r c
/-- The result: the first gate times the convolution. -/
def out (r c : ℕ) : EReal := at2 (A := 8192) (B := 3072) S.h r c * S.u r c
/-- The result as an array. -/
def res : (⟨2, ![8192, 1024]⟩ : Shape).Idx → EReal := fun i => S.out (i 0).val (i 1).val

/-- The rows a point works on: the eight before its tile (zero where a sequence begins), then the tile's. -/
def rows (n a q : ℕ) : EReal := if a < 8 ∧ n % 8 = 0 then 0 else S.p (n * 256 + a - 8) q

/-- The rows of a point, moved by `k`. -/
theorem rows_pb (n r q k a : ℕ) (hr : r < 256) (hk : k ≤ 2) (ha : a + k = r + 8) : S.rows n a q = S.pb k (n * 256 + r) q := by
  unfold rows pb
  refine if_congr ?_ rfl (congrArg (fun z => S.p z q) ?_)
  · constructor <;> intro h <;> omega
  · omega

/-- A point's own rows. -/
theorem rows_own (n r q a : ℕ) (ha : a = r + 8) : S.rows n a q = S.p (n * 256 + r) q := by
  unfold rows
  rw [if_neg (by omega)]
  exact congrArg (fun z => S.p z q) (by omega)

end ScFwdSrc

namespace Cert.ScFwdIdeal.Value

open Cert.ScFwdIdeal Cert.ScFwdIdeal.Gen

/-! ## One point's values -/

/-- The eight carried rows, then the tile's products. -/
abbrev extV (z : Vec Ideal S8x1024 .f32) (x1 x2 : Vec Ideal S256x1024 .bf16) : FVec Ideal S264x1024 .f32 :=
  concatenate S264x1024 0 [⟨S8x1024, z⟩, ⟨S256x1024, k0_pay3 x1 x2⟩] concatenates_S8x1024_S256x1024_S264x1024_d0

/-- The first eight rows are the carried ones. -/
theorem extV_head (z : Vec Ideal S8x1024 .f32) (x1 x2 : Vec Ideal S256x1024 .bf16) (a : Fin 264) (a' : Fin 8) (j : Fin 1024) (h : a'.val = a.val) :
    extV z x1 x2 (ix2 a j) = z (ix2 a' j) :=
  concatenate_pair_apply_left (t := S264x1024) (s₁ := S8x1024) (s₂ := S256x1024) (0 : Fin 2) _ _ _ _ rfl (ix2 a' j) (by
    intro d
    match d with
    | ⟨0, _⟩ => exact h
    | ⟨1, _⟩ => rfl)

/-- The rest are the tile's products. -/
theorem extV_tile (z : Vec Ideal S8x1024 .f32) (x1 x2 : Vec Ideal S256x1024 .bf16) (a : Fin 264) (a' : Fin 256) (j : Fin 1024) (h : a'.val + 8 = a.val) :
    extV z x1 x2 (ix2 a j) = x1 (ix2 a' j) * x2 (ix2 a' j) :=
  concatenate_pair_apply_right (t := S264x1024) (s₁ := S8x1024) (s₂ := S256x1024) (0 : Fin 2) _ _ _ _ rfl rfl (ix2 a' j) (by
    intro d hd
    match d with
    | ⟨0, _⟩ => exact absurd rfl hd
    | ⟨1, _⟩ => rfl) h

/-- The rows rotated by `k` and cut: `k` rows before. -/
theorem rot_at (e : FVec Ideal S264x1024 .f32) (sb : BitVec 32) (k : ℕ) (hk : sb.toNat = k) (hk8 : k ≤ 8) (p : Fin 256) (q : Fin 1024) :
    extractStridedSlice S256x1024 ![8, 0] (dynamicRotate 0 sb none e rotates_S264x1024_d0) slices_S264x1024_o8_0_S256x1024 (ix2 p q)
      = e (ix2 ⟨p.val + (8 - k), by omega⟩ q) := by
  refine (slice2_axis0_apply 8 _ _ p q (⟨8 + p.val, by omega⟩ : Fin 264) rfl).trans ?_
  refine dynamicRotate_apply (s := S264x1024) (0 : Fin 2) _ _ _ _ _ ?_
  intro b
  match b with
  | ⟨0, _⟩ => show p.val + (8 - k) = (8 + p.val + 264 - sb.toNat % 264) % 264; rw [hk]; omega
  | ⟨1, _⟩ => rfl

/-- What is stored in the result, at an index. -/
theorem pay4_at (x0 x1 x2 : Vec Ideal S256x1024 .bf16) (z : Vec Ideal S8x1024 .f32) (b w0 w1 w2 : Vec Ideal S1x1024 .f32) (p : Fin 256) (q : Fin 1024) :
    k0_pay4 (F := Ideal) x1 x2 z b w0 w1 w2 x0 (ix2 p q)
      = x0 (ix2 p q) * (b (ix2 0 q) + w0 (ix2 0 q) * extV z x1 x2 (ix2 ⟨p.val + 6, by omega⟩ q)
        + w1 (ix2 0 q) * extV z x1 x2 (ix2 ⟨p.val + 7, by omega⟩ q) + w2 (ix2 0 q) * (x1 (ix2 p q) * x2 (ix2 p q))) := by
  have hb : ∀ (x : Vec Ideal S1x1024 .f32), broadcastTo S256x1024 x broadcasts_S1x1024_S256x1024 (ix2 p q) = x (ix2 0 q) :=
    fun x => broadcastTo_1b_ab_apply x _ p q
  unfold k0_pay4
  rw [shapeCast_self]
  show x0 (ix2 p q) * (broadcastTo S256x1024 b _ _ + broadcastTo S256x1024 w0 _ _ * _ + broadcastTo S256x1024 w1 _ _ * _
    + broadcastTo S256x1024 w2 _ _ * (x1 (ix2 p q) * x2 (ix2 p q))) = _
  rw [hb, hb, hb, hb, rot_at _ 2#32 2 rfl (by omega), rot_at _ 1#32 1 rfl (by omega)]

/-- What is carried to the next point, at an index: the tile's last eight products. -/
theorem pay1_at (x1 x2 : Vec Ideal S256x1024 .bf16) (a : Fin 8) (q : Fin 1024) :
    k0_pay1 (F := Ideal) (k0_pay3 x1 x2) (ix2 a q) = x1 (ix2 ⟨248 + a.val, by omega⟩ q) * x2 (ix2 ⟨248 + a.val, by omega⟩ q) := by
  unfold k0_pay1
  rw [shapeCast_self]
  exact slice2_axis0_apply 248 _ _ a q (⟨248 + a.val, by omega⟩ : Fin 256) rfl

/-- The carried rows where a sequence begins: zeros. -/
theorem pay2_at (a : Fin 8) (q : Fin 1024) : k0_pay2 (F := Ideal) (ix2 a q) = (0 : EReal) := by
  unfold k0_pay2
  rw [shapeCast_self]
  exact Ideal.ofBits_zero_f32

/-- A row of the filter. -/
abbrev row0 (x : Vec Ideal S3x1024 .f32) : Vec Ideal S1x1024 .f32 := View.ld x (Rect.unit ![0, 0] ![1, 1024] inb_S3x1024_S1x1024_0_0)
abbrev row1 (x : Vec Ideal S3x1024 .f32) : Vec Ideal S1x1024 .f32 := View.ld x (Rect.unit ![1, 0] ![1, 1024] inb_S3x1024_S1x1024_1_0)
abbrev row2 (x : Vec Ideal S3x1024 .f32) : Vec Ideal S1x1024 .f32 := View.ld x (Rect.unit ![2, 0] ![1, 1024] inb_S3x1024_S1x1024_2_0)

/-- A row of the filter at a column. -/
theorem row_apply (o : ℕ) (inb) (x : Vec Ideal S3x1024 .f32) (k : Fin 3) (hk : k.val = o) (j : Fin 1024) :
    View.ld x (Rect.unit (s := S3x1024) ![o, 0] ![1, 1024] inb) (ix2 0 j) = x (ix2 k j) :=
  View.ld_unit_apply_of x _ _ inb _ (ix2 k j) fun a => by
    match a with
    | ⟨0, _⟩ => show k.val = o + 0; omega
    | ⟨1, _⟩ => exact (Nat.zero_add _).symm

theorem hz : (![0, 0] : Fin 2 → Nat) = fun _ => 0 := funext fun a => by fin_cases a <;> rfl

section Cases

variable (c : Dev nD) (i : grid0.Coords) (a1 : Memref sig .tc .vmem S256x1024 .bf16) (h1 : a1.IsWhole) (a2 : Memref sig .tc .vmem S256x1024 .bf16) (h2 : a2.IsWhole)
  (a3 : Memref sig .tc .vmem S256x1024 .bf16) (h3 : a3.IsWhole) (a4 : Memref sig .tc .vmem S3x1024 .f32) (h4 : a4.IsWhole) (a5 : Memref sig .tc .vmem S1x1024 .f32) (h5 : a5.IsWhole)
  (a6 : Memref sig .tc .vmem S256x1024 .bf16) (h6 : a6.IsWhole) (a7 : Memref sig .tc .vmem S8x1024 .f32) (h7 : a7.IsWhole)
  (x0 x1 x2 : Vec Ideal S256x1024 .bf16) (x3 : Vec Ideal S3x1024 .f32) (x4 : Vec Ideal S1x1024 .f32) (xs0 : Vec Ideal S8x1024 .f32)

/-- At a point that begins a sequence, the result's block. -/
theorem out_A (hc0 : cond0_0 i) : out0_A_5 (F := Ideal) c i a1 h1 a2 h2 a3 h3 a4 h4 a5 h5 a6 h6 a7 h7 hc0 x0 x1 x2 x3 x4
    = k0_pay4 x1 x2 (k0_pay2 (F := Ideal)) x4 (row0 x3) (row1 x3) (row2 x3) x0 := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  sl_unfold_words
  simp only [View.readAt_eq_ld, h1.read_unread, h2.read_unread, h3.read_unread, h4.read_unread, h5.read_unread, h7.read_unread,
    View.ld_unit_zero (S := S256x1024) hz, View.ld_unit_zero (S := S8x1024) hz, View.ld_unit_zero (S := S1x1024) hz]
  rw [View.canon_unit_zero (S := S256x1024) hz, View.readCov_unit_zero (S := S8x1024) _ hz]

/-- At a point that begins a sequence, the carried rows. -/
theorem sout_A (hc0 : cond0_0 i) : sout0_A_0 (F := Ideal) c i a1 h1 a2 h2 a3 h3 a4 h4 a5 h5 a6 h6 a7 h7 hc0 x0 x1 x2 x3 x4 = k0_pay1 (k0_pay3 x1 x2) := by
  unfold sout0_A_0
  rw [View.read_writes_eq_canon _ _ _ (scover0_A_0 c i a1 h1 a2 h2 a3 h3 a4 h4 a5 h5 a6 h6 a7 h7 hc0 x0 x1 x2 x3 x4)]
  unfold kernelRun0_A
  dsimp only
  sl_unfold_words
  simp only [View.readAt_eq_ld, h1.read_unread, h2.read_unread, h3.read_unread, h4.read_unread, h5.read_unread, h7.read_unread,
    View.ld_unit_zero (S := S256x1024) hz, View.ld_unit_zero (S := S8x1024) hz, View.ld_unit_zero (S := S1x1024) hz]
  rw [View.canon_cons_unit_zero (S := S8x1024) hz]

/-- At any other point, the result's block. -/
theorem out_B (hc0 : ¬cond0_0 i) : out0_B_5 (F := Ideal) c i a1 h1 a2 h2 a3 h3 a4 h4 a5 h5 a6 h6 a7 h7 hc0 x0 x1 x2 x3 x4 xs0
    = k0_pay4 x1 x2 xs0 x4 (row0 x3) (row1 x3) (row2 x3) x0 := by
  unfold out0_B_5
  rw [View.read_writes_eq_canon _ _ _ (cover0_B_5 c i a1 h1 a2 h2 a3 h3 a4 h4 a5 h5 a6 h6 a7 h7 hc0 x0 x1 x2 x3 x4 xs0)]
  unfold kernelRun0_B
  dsimp only
  sl_unfold_words
  simp only [View.readAt_eq_ld, h1.read_unread, h2.read_unread, h3.read_unread, h4.read_unread, h5.read_unread, h7.read_unread,
    View.ld_unit_zero (S := S256x1024) hz, View.ld_unit_zero (S := S8x1024) hz, View.ld_unit_zero (S := S1x1024) hz]
  rw [View.canon_unit_zero (S := S256x1024) hz]

/-- At any other point, the carried rows. -/
theorem sout_B (hc0 : ¬cond0_0 i) : sout0_B_0 (F := Ideal) c i a1 h1 a2 h2 a3 h3 a4 h4 a5 h5 a6 h6 a7 h7 hc0 x0 x1 x2 x3 x4 xs0 = k0_pay1 (k0_pay3 x1 x2) := by
  unfold sout0_B_0
  rw [View.read_writes_eq_canon _ _ _ (scover0_B_0 c i a1 h1 a2 h2 a3 h3 a4 h4 a5 h5 a6 h6 a7 h7 hc0 x0 x1 x2 x3 x4 xs0)]
  unfold kernelRun0_B
  dsimp only
  sl_unfold_words
  simp only [View.readAt_eq_ld, h1.read_unread, h2.read_unread, h3.read_unread, h4.read_unread, h5.read_unread, h7.read_unread,
    View.ld_unit_zero (S := S256x1024) hz, View.ld_unit_zero (S := S8x1024) hz, View.ld_unit_zero (S := S1x1024) hz]
  rw [View.canon_unit_zero (S := S8x1024) hz]

end Cases

/-! ## The points' blocks, from the arguments -/

variable (m : (ℓ : Loc nD τ sig) → Buf (Elt Ideal) ℓ) (ρ : Dev nD → PrngReg)

/-- The arguments at a device. -/
def srcOf (c : Dev nD) : ScFwdSrc :=
  ⟨m ((c.tc : Thread nD τ).loc main_arg0), m ((c.tc : Thread nD τ).loc main_arg1), m ((c.tc : Thread nD τ).loc main_arg2)⟩

theorem ltN (t : Fin cfg0.N) : t.val < 32 := lt_of_lt_of_eq t.isLt N_0
theorem ixw0 : ∀ t : Fin grid0.N, win0_0.index t 0 = t.val ∧ win0_0.index t 1 = 0 := by decide +kernel
theorem ixw1 : ∀ t : Fin grid0.N, win0_1.index t 0 = t.val ∧ win0_1.index t 1 = 1 := by decide +kernel
theorem ixw2 : ∀ t : Fin grid0.N, win0_2.index t 0 = t.val ∧ win0_2.index t 1 = 2 := by decide +kernel
theorem ixw3 : ∀ t : Fin grid0.N, win0_3.index t 0 = 0 ∧ win0_3.index t 1 = 0 := by decide +kernel
theorem ixw4 : ∀ t : Fin grid0.N, win0_4.index t 0 = 0 ∧ win0_4.index t 1 = 0 := by decide +kernel
theorem ixw5 : ∀ t : Fin grid0.N, win0_5.index t 0 = t.val ∧ win0_5.index t 1 = 0 := by decide +kernel

/-- The first window's block: the first gate's rows. -/
theorem blk0 (c : Dev nD) (t : Fin cfg0.N) (p : Fin 256) (q : Fin 1024) :
    iblk m c 0 t (ix2 p q) = at2 (A := 8192) (B := 3072) (srcOf m c).h (t.val * 256 + p.val) q.val := by
  have ht := ltN t; have hp := p.isLt; have hq := q.isLt
  unfold iblk at2
  rw [View.read_apply]
  show m ((c.tc : Thread nD τ).loc main_arg0) _ = m ((c.tc : Thread nD τ).loc main_arg0) _
  congr 1; funext b; apply Fin.ext
  match b with
  | ⟨0, _⟩ => show win0_0.index t 0 * 256 + 1 * p.val = (t.val * 256 + p.val) % 8192; rw [(ixw0 t).1]; omega
  | ⟨1, _⟩ => show win0_0.index t 1 * 1024 + 1 * q.val = q.val % 3072; rw [(ixw0 t).2]; omega

/-- The second window's block: the second gate's rows. -/
theorem blk1 (c : Dev nD) (t : Fin cfg0.N) (p : Fin 256) (q : Fin 1024) :
    iblk m c 1 t (ix2 p q) = at2 (A := 8192) (B := 3072) (srcOf m c).h (t.val * 256 + p.val) (1024 + q.val) := by
  have ht := ltN t; have hp := p.isLt; have hq := q.isLt
  unfold iblk at2
  rw [View.read_apply]
  show m ((c.tc : Thread nD τ).loc main_arg0) _ = m ((c.tc : Thread nD τ).loc main_arg0) _
  congr 1; funext b; apply Fin.ext
  match b with
  | ⟨0, _⟩ => show win0_1.index t 0 * 256 + 1 * p.val = (t.val * 256 + p.val) % 8192; rw [(ixw1 t).1]; omega
  | ⟨1, _⟩ => show win0_1.index t 1 * 1024 + 1 * q.val = (1024 + q.val) % 3072; rw [(ixw1 t).2]; omega

/-- The third window's block: the values' rows. -/
theorem blk2 (c : Dev nD) (t : Fin cfg0.N) (p : Fin 256) (q : Fin 1024) :
    iblk m c 2 t (ix2 p q) = at2 (A := 8192) (B := 3072) (srcOf m c).h (t.val * 256 + p.val) (2048 + q.val) := by
  have ht := ltN t; have hp := p.isLt; have hq := q.isLt
  unfold iblk at2
  rw [View.read_apply]
  show m ((c.tc : Thread nD τ).loc main_arg0) _ = m ((c.tc : Thread nD τ).loc main_arg0) _
  congr 1; funext b; apply Fin.ext
  match b with
  | ⟨0, _⟩ => show win0_2.index t 0 * 256 + 1 * p.val = (t.val * 256 + p.val) % 8192; rw [(ixw2 t).1]; omega
  | ⟨1, _⟩ => show win0_2.index t 1 * 1024 + 1 * q.val = (2048 + q.val) % 3072; rw [(ixw2 t).2]; omega

/-- The fourth window's block: the filter. -/
theorem blk3 (c : Dev nD) (t : Fin cfg0.N) (k : Fin 3) (q : Fin 1024) : iblk m c 3 t (ix2 k q) = (srcOf m c).t k.val q.val := by
  have ht := ltN t; have hk := k.isLt; have hq := q.isLt
  unfold iblk ScFwdSrc.t at2
  rw [View.read_apply]
  show m ((c.tc : Thread nD τ).loc main_arg1) _ = m ((c.tc : Thread nD τ).loc main_arg1) _
  congr 1; funext b; apply Fin.ext
  match b with
  | ⟨0, _⟩ => show win0_3.index t 0 * 3 + 1 * k.val = k.val % 3; rw [(ixw3 t).1]; omega
  | ⟨1, _⟩ => show win0_3.index t 1 * 1024 + 1 * q.val = q.val % 1024; rw [(ixw3 t).2]; omega

/-- The bias as the kernel takes it. -/
theorem V0 (c : Dev nD) : (StableHlo.after hostOps0 (fun b => m (c, b)) (Proc.tc.devRef main_v0) : S1x1024.Idx → EReal)
      = broadcastInDim S1x1024 ![1] bcast_S1024_S1x1024_1 (m ((c.tc : Thread nD τ).loc main_arg2)) := by after_results

/-- The fifth window's block: the bias. -/
theorem blk4 (c : Dev nD) (t : Fin cfg0.N) (q : Fin 1024) : iblk m c 4 t (ix2 0 q) = (srcOf m c).b q.val := by
  have ht := ltN t; have hq := q.isLt
  unfold iblk ScFwdSrc.b
  rw [View.read_apply]
  show (StableHlo.after hostOps0 (fun b => m (c, b)) (Proc.tc.devRef main_v0) : S1x1024.Idx → EReal) _ = m ((c.tc : Thread nD τ).loc main_arg2) _
  rw [V0]
  unfold broadcastInDim
  show m ((c.tc : Thread nD τ).loc main_arg2) _ = m ((c.tc : Thread nD τ).loc main_arg2) _
  congr 1; funext b; apply Fin.ext
  match b with
  | ⟨0, _⟩ => show win0_4.index t 1 * 1024 + 1 * q.val = q.val % 1024; rw [(ixw4 t).2]; omega

/-- A point's blocks are those of the arguments. -/
structure IsTile (S : ScFwdSrc) (n : ℕ) (x0 x1 x2 : Vec Ideal S256x1024 .bf16) (x3 : Vec Ideal S3x1024 .f32) (x4 : Vec Ideal S1x1024 .f32) : Prop where
  h0 : ∀ (p : Fin 256) (q : Fin 1024), x0 (ix2 p q) = at2 (A := 8192) (B := 3072) S.h (n * 256 + p.val) q.val
  h1 : ∀ (p : Fin 256) (q : Fin 1024), x1 (ix2 p q) = at2 (A := 8192) (B := 3072) S.h (n * 256 + p.val) (1024 + q.val)
  h2 : ∀ (p : Fin 256) (q : Fin 1024), x2 (ix2 p q) = at2 (A := 8192) (B := 3072) S.h (n * 256 + p.val) (2048 + q.val)
  h3 : ∀ (k : Fin 3) (q : Fin 1024), x3 (ix2 k q) = S.t k.val q.val
  h4 : ∀ q : Fin 1024, x4 (ix2 0 q) = S.b q.val

section Tile

variable {S : ScFwdSrc} {n : ℕ} {x0 x1 x2 : Vec Ideal S256x1024 .bf16} {x3 : Vec Ideal S3x1024 .f32} {x4 : Vec Ideal S1x1024 .f32}

/-- The tile's products. -/
theorem IsTile.prod (H : IsTile S n x0 x1 x2 x3 x4) (p : Fin 256) (q : Fin 1024) : x1 (ix2 p q) * x2 (ix2 p q) = S.p (n * 256 + p.val) q.val := by
  rw [H.h1, H.h2]; rfl

/-- The rows a point works on, given its carried rows. -/
theorem IsTile.ext (H : IsTile S n x0 x1 x2 x3 x4) (z : Vec Ideal S8x1024 .f32) (hzr : ∀ (a : Fin 8) (q : Fin 1024), z (ix2 a q) = S.rows n a.val q.val)
    (a : Fin 264) (q : Fin 1024) : extV z x1 x2 (ix2 a q) = S.rows n a.val q.val := by
  have ha := a.isLt
  by_cases h : a.val < 8
  · exact (extV_head _ _ _ a ⟨a.val, h⟩ q rfl).trans (hzr _ _)
  · refine (extV_tile _ _ _ a ⟨a.val - 8, by omega⟩ q (by show a.val - 8 + 8 = _; omega)).trans ((H.prod _ q).trans ?_)
    exact (S.rows_own n (a.val - 8) q.val a.val (by omega)).symm

/-- The block a point stores, given its carried rows. -/
theorem IsTile.block (H : IsTile S n x0 x1 x2 x3 x4) (z : Vec Ideal S8x1024 .f32) (hzr : ∀ (a : Fin 8) (q : Fin 1024), z (ix2 a q) = S.rows n a.val q.val)
    (p : Fin 256) (q : Fin 1024) :
    k0_pay4 (F := Ideal) x1 x2 z x4 (row0 x3) (row1 x3) (row2 x3) x0 (ix2 p q) = S.out (n * 256 + p.val) q.val := by
  refine (pay4_at _ _ _ _ _ _ _ _ p q).trans ?_
  have w0 : row0 x3 (ix2 0 q) = S.t 0 q.val := (row_apply 0 _ x3 0 rfl q).trans (H.h3 0 q)
  have w1 : row1 x3 (ix2 0 q) = S.t 1 q.val := (row_apply 1 _ x3 1 rfl q).trans (H.h3 1 q)
  have w2 : row2 x3 (ix2 0 q) = S.t 2 q.val := (row_apply 2 _ x3 2 rfl q).trans (H.h3 2 q)
  rw [H.ext z hzr, H.ext z hzr, H.prod, H.h0, H.h4, w0, w1, w2,
    S.rows_pb n p.val q.val 2 _ p.isLt le_rfl rfl, S.rows_pb n p.val q.val 1 _ p.isLt (by decide) rfl]
  rfl

end Tile

/-- A point's blocks, of the arguments. -/
theorem tile (c : Dev nD) (t : Fin cfg0.N) : IsTile (srcOf m c) t.val (iblk m c 0 t) (iblk m c 1 t) (iblk m c 2 t) (iblk m c 3 t) (iblk m c 4 t) :=
  ⟨blk0 m c t, blk1 m c t, blk2 m c t, blk3 m c t, blk4 m c t⟩

/-- What the result's block and the carried rows hold after a point. -/
structure After (S : ScFwdSrc) (n : ℕ) (o : Vec Ideal S256x1024 .bf16 × Vec Ideal S8x1024 .f32) : Prop where
  res : ∀ (p : Fin 256) (q : Fin 1024), o.1 (ix2 p q) = S.out (n * 256 + p.val) q.val
  car : ∀ (a : Fin 8) (q : Fin 1024), o.2 (ix2 a q) = S.p (n * 256 + (248 + a.val)) q.val

/-- After a point that begins a sequence. -/
theorem after_A (c : Dev nD) (t : Fin cfg0.N) (h0 : t.val % 8 = 0) : After (srcOf m c) t.val (outsAt0 m c t.val t.isLt) := by
  rw [outsAt0_A m c t h0]
  refine ⟨fun p q => ?_, fun a q => ?_⟩ <;> dsimp only
  · rw [out_A]
    refine (tile m c t).block _ (fun a q => ?_) p q
    rw [pay2_at]
    unfold ScFwdSrc.rows
    rw [if_pos ⟨a.isLt, h0⟩]
  · rw [sout_A]
    exact (pay1_at _ _ a q).trans ((tile m c t).prod _ q)

/-- After any other point. -/
theorem after_B (c : Dev nD) (t : Fin cfg0.N) (h0 : ¬t.val % 8 = 0)
    (ih : After (srcOf m c) (t.val - 1) (outsAt0 m c (t.val - 1) (Nat.lt_of_le_of_lt (Nat.sub_le _ _) t.isLt))) :
    After (srcOf m c) t.val (outsAt0 m c t.val t.isLt) := by
  rw [outsAt0_B m c t h0]
  refine ⟨fun p q => ?_, fun a q => ?_⟩ <;> dsimp only
  · rw [out_B]
    refine (tile m c t).block _ (fun a q => ?_) p q
    rw [ih.car]
    unfold ScFwdSrc.rows
    rw [if_neg (fun h => h0 h.2)]
    exact congrArg (fun z => (srcOf m c).p z q.val) (by omega)
  · rw [sout_B]
    exact (pay1_at _ _ a q).trans ((tile m c t).prod _ q)

/-- After every point. -/
theorem outs (c : Dev nD) : ∀ (n : ℕ) (h : n < cfg0.N), After (srcOf m c) n (outsAt0 m c n h)
  | 0, h => after_A m c ⟨0, h⟩ rfl
  | n + 1, h => by
    by_cases h0 : (n + 1) % 8 = 0
    · exact after_A m c ⟨n + 1, h⟩ h0
    · exact after_B m c ⟨n + 1, h⟩ h0 (outs c n (Nat.lt_of_succ_lt h))

/-- The point whose block holds a row. -/
def pt (r : ℕ) (hr : r < 8192) : Fin cfg0.N := ⟨r / 256, by have h : cfg0.N = 32 := N_0; omega⟩

/-- The result. -/
theorem last5 (c : Dev nD) : (dats m 0 c).arrAt 5 cfg0.N = ((srcOf m c).res : S8192x1024.Idx → EReal) :=
  (dats m 0 c).arrAt_eq_of_cover 5 ((srcOf m c).res : S8192x1024.Idx → EReal) (fun t _ => by
      have ht := ltN t
      show (cfg0.win 5).cut (grid0.coords t) ((dats m 0 c).after 5 t) = _
      rw [after0_5]
      funext y
      rw [View.read_apply]
      have e : y = ix2 (y 0) (y 1) := by funext d; match d with | ⟨0, _⟩ => rfl | ⟨1, _⟩ => rfl
      show (outsAt0 m c t.val t.isLt).1 y = _
      refine (congrArg (outsAt0 m c t.val t.isLt).1 e).trans (((outs m c t.val t.isLt).res (y 0) (y 1)).trans ?_)
      show (srcOf m c).out _ _ = (srcOf m c).out (win0_5.index t 0 * 256 + 1 * (y 0).val) (win0_5.index t 1 * 1024 + 1 * (y 1).val)
      rw [(ixw5 t).1, (ixw5 t).2]
      exact congr (congrArg (srcOf m c).out (by omega)) (by omega))
    fun i => ⟨pt (i 0).val (i 0).isLt, flush0_5 _, by
      have h1 : (i 0 : Nat) < 8192 := (i 0).isLt
      have h2 : (i 1 : Nat) < 1024 := (i 1).isLt
      show i ∈ ((View.whole main_v1).slice (win0_5.rect (pt (i 0).val (i 0).isLt))).set
      rw [View.set_slice_whole, Rect.mem_set_unit]
      have hp : (pt (i 0).val (i 0).isLt).val = (i 0).val / 256 := rfl
      generalize pt (i 0).val (i 0).isLt = p at hp
      intro a
      match a with
      | ⟨0, _⟩ =>
        show win0_5.index p 0 * 256 ≤ (i 0 : Nat) ∧ (i 0 : Nat) < win0_5.index p 0 * 256 + 256
        rw [(ixw5 p).1, hp]; omega
      | ⟨1, _⟩ =>
        show win0_5.index p 1 * 1024 ≤ (i 1 : Nat) ∧ (i 1 : Nat) < win0_5.index p 1 * 1024 + 1024
        rw [(ixw5 p).2]; omega⟩

/-- The run, read: the result as a function of the arguments, the arguments unchanged. -/
theorem run_value : θ_run defs (onTc (τ := τ) (main (F := Ideal))) ⟨m, fun _ => 0, ρ⟩ fun r => ∀ c : Dev nD,
      r.2.mem ((c.tc : Thread nD τ).loc main_v1) = ((srcOf m c).res : S8192x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (last5 m c), (h c).2⟩) (run_blocks m ρ)

end Cert.ScFwdIdeal.Value
end
-- ==== Proof.ScFwdRef.lean ====
/- The reference of the short convolution's forward pass, read at an index: the same function of the arguments. -/
module

public import proofs.«01_k».proof.Proof.ScFwdRun
public import proofs.«01_k».proof.Proof.Gen.ScFwdRefIdeal.Run
public import proofs.«01_k».proof.Proof.Gen.ScFwdRefIdeal.Read
public import Idealize.ShloMosaic.Lib.IdealHost
public import proofs.«01_k».proof.Defs

@[expose] public section

set_option maxRecDepth 16384

noncomputable section

open Idealize.ShloMosaic Idealize.ShloMosaic.TcCoe Idealize.SL.Sem Idealize.ShloMosaic.ValueIdx Products
open scoped BigOperators

namespace Cert.ScFwdRefIdeal.Value

open Cert.ScFwdRefIdeal Cert.ScFwdRefIdeal.Gen Cert.ScFwdRefIdeal.Read

variable (x0 : Vec Ideal S8192x3072 .bf16) (x1 : Vec Ideal S3x1024 .f32) (x2 : Vec Ideal S1024 .f32)

/-- The argument by sequences. -/
theorem v1_at (s : Fin 4) (t : Fin 2048) (j : Fin 3072) :
    val_main_v1 (F := Ideal) x0 (ix3 s t j) = at2 (A := 8192) (B := 3072) (ScFwdSrc.mk x0 x1 x2).h (s.val * 2048 + t.val) j.val := by
  have h0 := s.isLt; have h1 := t.isLt; have h2 := j.isLt
  rw [val_main_v1_apply, val_main_v0_apply]
  show x0 _ = x0 _
  congr 1; funext b; apply Fin.ext
  match b with
  | ⟨0, _⟩ => show ((s.val * 2048 + t.val) * 3072 + j.val) / 3072 = (s.val * 2048 + t.val) % 8192; omega
  | ⟨1, _⟩ => show ((s.val * 2048 + t.val) * 3072 + j.val) % 3072 = j.val % 3072; omega

/-- The first gate. -/
theorem v2_at (s : Fin 4) (t : Fin 2048) (c : Fin 1024) :
    val_main_v2 (F := Ideal) x0 (ix3 s t c) = at2 (A := 8192) (B := 3072) (ScFwdSrc.mk x0 x1 x2).h (s.val * 2048 + t.val) c.val := by
  have h2 := c.isLt
  rw [val_main_v2_apply]
  exact (congrArg (val_main_v1 (F := Ideal) x0) (eq_ix3 _)).trans (v1_at x0 x1 x2 s t (⟨c.val, by omega⟩ : Fin 3072))

/-- The second gate. -/
theorem v3_at (s : Fin 4) (t : Fin 2048) (c : Fin 1024) :
    val_main_v3 (F := Ideal) x0 (ix3 s t c) = at2 (A := 8192) (B := 3072) (ScFwdSrc.mk x0 x1 x2).h (s.val * 2048 + t.val) (1024 + c.val) := by
  have h2 := c.isLt
  rw [val_main_v3_apply]
  exact (congrArg (val_main_v1 (F := Ideal) x0) (eq_ix3 _)).trans (v1_at x0 x1 x2 s t (⟨1024 + c.val, by omega⟩ : Fin 3072))

/-- The values. -/
theorem v4_at (s : Fin 4) (t : Fin 2048) (c : Fin 1024) :
    val_main_v4 (F := Ideal) x0 (ix3 s t c) = at2 (A := 8192) (B := 3072) (ScFwdSrc.mk x0 x1 x2).h (s.val * 2048 + t.val) (2048 + c.val) := by
  have h2 := c.isLt
  rw [val_main_v4_apply]
  exact (congrArg (val_main_v1 (F := Ideal) x0) (eq_ix3 _)).trans (v1_at x0 x1 x2 s t (⟨2048 + c.val, by omega⟩ : Fin 3072))

/-- The convolution's input. -/
theorem v5_at (s : Fin 4) (t : Fin 2048) (c : Fin 1024) :
    val_main_v5 (F := Ideal) x0 (ix3 s t c) = (ScFwdSrc.mk x0 x1 x2).p (s.val * 2048 + t.val) c.val := by
  rw [val_main_v5_apply, v3_at x0 x1 x2, v4_at x0 x1 x2]
  rfl

/-- The convolution's input behind two rows of zeros, `k` rows before. -/
theorem v6_at (s : Fin 4) (t : Fin 2048) (c : Fin 1024) (k : ℕ) (hk : k ≤ 2) (q : Fin 2050) (hq : q.val + k = t.val + 2) :
    val_main_v6 (F := Ideal) x0 (ix3 s q c) = (ScFwdSrc.mk x0 x1 x2).pb k (s.val * 2048 + t.val) c.val := by
  have h0 := s.isLt; have h1 := t.isLt; have h2 := c.isLt
  unfold val_main_v6 ScFwdSrc.pb
  have hm : (s.val * 2048 + t.val) % 2048 = t.val := by omega
  rw [hm]
  split
  · rename_i h
    refine (pad_apply_of_not_inside _ _ _ _ _ _ _ _ (1 : Fin 3) (fun hc => ?_)).trans ?_
    · have hc1 : 2 ≤ q.val := hc.1
      omega
    · rw [val_main_call0_v0_apply, val_main_c_apply]
      show (((0#32 : BitVec 32).toInt : ℝ) : EReal) = 0
      simp
  · rename_i h
    refine (pad_apply_of_inside _ _ _ _ _ _ _ _ (ix3 s (⟨t.val - k, by omega⟩ : Fin 2048) c) (fun a => ?_)).trans ?_
    · match a with
      | ⟨0, _⟩ => show s.val = 0 + s.val * (0 + 1); omega
      | ⟨1, _⟩ => show q.val = 2 + (t.val - k) * (0 + 1); omega
      | ⟨2, _⟩ => show c.val = 0 + c.val * (0 + 1); omega
    · refine (v5_at x0 x1 x2 s (⟨t.val - k, by omega⟩ : Fin 2048) c).trans ?_
      exact congrArg (fun z => (ScFwdSrc.mk x0 x1 x2).p z c.val) (by show s.val * 2048 + (t.val - k) = _; omega)

theorem v7_at (s : Fin 4) (t : Fin 2048) (c : Fin 1024) :
    val_main_v7 (F := Ideal) x0 (ix3 s t c) = (ScFwdSrc.mk x0 x1 x2).pb 2 (s.val * 2048 + t.val) c.val := by
  rw [val_main_v7_apply]
  exact (congrArg (val_main_v6 (F := Ideal) x0) (eq_ix3 _)).trans (v6_at x0 x1 x2 s t c 2 le_rfl (⟨t.val, by omega⟩ : Fin 2050) rfl)
theorem v16_at (s : Fin 4) (t : Fin 2048) (c : Fin 1024) :
    val_main_v16 (F := Ideal) x0 (ix3 s t c) = (ScFwdSrc.mk x0 x1 x2).pb 1 (s.val * 2048 + t.val) c.val := by
  rw [val_main_v16_apply]
  exact (congrArg (val_main_v6 (F := Ideal) x0) (eq_ix3 _)).trans (v6_at x0 x1 x2 s t c 1 (by decide) (⟨1 + t.val, by omega⟩ : Fin 2050) (by show 1 + t.val + 1 = _; omega))
theorem v23_at (s : Fin 4) (t : Fin 2048) (c : Fin 1024) :
    val_main_v23 (F := Ideal) x0 (ix3 s t c) = (ScFwdSrc.mk x0 x1 x2).p (s.val * 2048 + t.val) c.val := by
  rw [val_main_v23_apply]
  refine ((congrArg (val_main_v6 (F := Ideal) x0) (eq_ix3 _)).trans (v6_at x0 x1 x2 s t c 0 (by decide) (⟨2 + t.val, by omega⟩ : Fin 2050) (by show 2 + t.val + 0 = _; omega))).trans ?_
  unfold ScFwdSrc.pb
  rw [if_neg (Nat.not_lt_zero _), Nat.sub_zero]

/-- The filter's first row, over every row. -/
theorem v11_at (s : Fin 4) (t : Fin 2048) (c : Fin 1024) : val_main_v11 (F := Ideal) x1 (ix3 s t c) = (ScFwdSrc.mk x0 x1 x2).t 0 c.val := by
  rw [val_main_v11_apply, val_main_v10_apply, val_main_v9_apply, val_main_v8_apply]
  show x1 _ = x1 _
  have h2 := c.isLt
  congr 1; funext a; apply Fin.ext
  match a with
  | ⟨0, _⟩ => rfl
  | ⟨1, _⟩ => show c.val % 1024 = c.val % 1024; rfl
/-- The filter's second row. -/
theorem v20_at (s : Fin 4) (t : Fin 2048) (c : Fin 1024) : val_main_v20 (F := Ideal) x1 (ix3 s t c) = (ScFwdSrc.mk x0 x1 x2).t 1 c.val := by
  rw [val_main_v20_apply, val_main_v19_apply, val_main_v18_apply, val_main_v17_apply]
  show x1 _ = x1 _
  have h2 := c.isLt
  congr 1; funext a; apply Fin.ext
  match a with
  | ⟨0, _⟩ => rfl
  | ⟨1, _⟩ => show c.val % 1024 = c.val % 1024; rfl
/-- The filter's third row. -/
theorem v27_at (s : Fin 4) (t : Fin 2048) (c : Fin 1024) : val_main_v27 (F := Ideal) x1 (ix3 s t c) = (ScFwdSrc.mk x0 x1 x2).t 2 c.val := by
  rw [val_main_v27_apply, val_main_v26_apply, val_main_v25_apply, val_main_v24_apply]
  show x1 _ = x1 _
  have h2 := c.isLt
  congr 1; funext a; apply Fin.ext
  match a with
  | ⟨0, _⟩ => rfl
  | ⟨1, _⟩ => show c.val % 1024 = c.val % 1024; rfl
/-- The bias. -/
theorem v14_at (s : Fin 4) (t : Fin 2048) (c : Fin 1024) : val_main_v14 (F := Ideal) x2 (ix3 s t c) = (ScFwdSrc.mk x0 x1 x2).b c.val := by
  rw [val_main_v14_apply, val_main_v13_apply]
  show x2 _ = x2 _
  have h2 := c.isLt
  congr 1; funext a; apply Fin.ext
  match a with
  | ⟨0, _⟩ => show c.val = c.val % 1024; omega

/-- The first gate times the convolution. -/
theorem v30_at (s : Fin 4) (t : Fin 2048) (c : Fin 1024) :
    val_main_v30 (F := Ideal) x0 x1 x2 (ix3 s t c) = (ScFwdSrc.mk x0 x1 x2).out (s.val * 2048 + t.val) c.val := by
  rw [val_main_v30_apply, val_main_v29_apply, val_main_v22_apply, val_main_v15_apply, val_main_v12_apply, val_main_v21_apply, val_main_v28_apply,
    v2_at x0 x1 x2, v7_at x0 x1 x2, v16_at x0 x1 x2, v23_at x0 x1 x2, v11_at x0 x1 x2, v20_at x0 x1 x2, v27_at x0 x1 x2, v14_at x0 x1 x2]
  generalize ScFwdSrc.mk x0 x1 x2 = S
  show at2 S.h _ _ * (S.pb 2 _ _ * S.t 0 _ + S.b _ + S.pb 1 _ _ * S.t 1 _ + S.p _ _ * S.t 2 _) = at2 S.h _ _ * S.u _ _
  unfold ScFwdSrc.u
  rw [mul_comm (S.pb 2 _ _), mul_comm (S.pb 1 _ _), mul_comm (S.p _ _), add_comm (S.t 0 _ * _) (S.b _)]

/-- The reference's result. -/
theorem v32_eq : val_main_v32 (F := Ideal) x0 x1 x2 = ((ScFwdSrc.mk x0 x1 x2).res : S8192x1024.Idx → EReal) := by
  funext i
  obtain ⟨r, c, rfl⟩ : ∃ (r : Fin 8192) (c : Fin 1024), i = ix2 r c := ⟨i 0, i 1, eq_ix2 i⟩
  have hr := r.isLt; have hc := c.isLt
  rw [val_main_v32_apply, val_main_v31_apply]
  have e : idx_main_v31 (ix2 r c) = ix3 (⟨r.val / 2048, by omega⟩ : Fin 4) (⟨r.val % 2048, by omega⟩ : Fin 2048) c := by
    funext b; apply Fin.ext
    match b with
    | ⟨0, _⟩ => show (r.val * 1024 + c.val) / 2097152 = r.val / 2048; omega
    | ⟨1, _⟩ => show (r.val * 1024 + c.val) / 1024 % 2048 = r.val % 2048; omega
    | ⟨2, _⟩ => show (r.val * 1024 + c.val) % 1024 = c.val; omega
  show val_main_v30 (F := Ideal) x0 x1 x2 _ = (ScFwdSrc.mk x0 x1 x2).out r.val c.val
  refine (congrArg (val_main_v30 (F := Ideal) x0 x1 x2) e).trans ((v30_at x0 x1 x2 _ _ c).trans ?_)
  exact congrArg (fun z => (ScFwdSrc.mk x0 x1 x2).out z c.val) (by show r.val / 2048 * 2048 + r.val % 2048 = r.val; omega)

variable (m : (ℓ : Loc nD τ sig) → Buf (Elt Ideal) ℓ) (ρ : Dev nD → PrngReg)

/-- The arguments at a device. -/
def srcOf (c : Dev nD) : ScFwdSrc :=
  ⟨m ((c.tc : Thread nD τ).loc main_arg0), m ((c.tc : Thread nD τ).loc main_arg1), m ((c.tc : Thread nD τ).loc main_arg2)⟩

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v32) = ((srcOf m c).res : S8192x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v32_eq _ _ _).trans (v32_eq _ _ _)), (h c).2⟩) (run m ρ)

/-- The reference ends with its arguments as they were; it declares no semaphore. -/
theorem ends : Cert.quiescent_ScFwdRefIdeal := fun m ρ _ =>
  (θ_run _ _ _).mono (fun _ h => ⟨fun c => (h c).2, funext fun g => nomatch g.2⟩) (Cert.ScFwdRefIdeal.Value.run m ρ)

end Cert.ScFwdRefIdeal.Value

/-- The kernel's value and the reference's, over the ideal reals. -/
theorem ScFwd_value : Cert.algebraic_ScFwdIdeal_ScFwdRefIdeal :=
  fun m g m' g' _ h => ⟨fun c => ((Cert.ScFwdIdeal.Value.srcOf m c).res : (⟨2, ![8192, 1024]⟩ : Shape).Idx → EReal),
    Cert.ScFwdIdeal.Value.run_value m g,
    (θ_run _ _ _).mono (fun r hr c => by
      have hc := hr c
      have e : Cert.ScFwdRefIdeal.Value.srcOf m' c = Cert.ScFwdIdeal.Value.srcOf m c := by
        obtain ⟨a0, a1, a2⟩ := h c
        unfold Cert.ScFwdRefIdeal.Value.srcOf
        rw [a0, a1, a2] <;> rfl
      rw [e] at hc
      exact hc)
      (Cert.ScFwdRefIdeal.Value.run_value m' g')⟩

end
-- ==== Proof.UpdPackRun.lean ====
/- The small weights, packed in one array: the kernel's gradient, step and moments, at every weight. -/
module

public import proofs.«01_k».proof.Proof.AdamStep
public import proofs.«01_k».proof.Proof.Gen.UpdPackIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdPackIdeal.Value

open Cert.UpdPackIdeal Cert.UpdPackIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x224x128 .f32) (w mm vv : Vec Ideal S1x1x224x128 .f32) (p : Fin 224) (q : Fin 128)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 224) (B := 128) (e := .f32) g1 _ p q
  · exact dropUnit_apply (A := 224) (B := 128) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 224) (B := 128) (e := .f32) mm shapeCasts_S1x1x224x128_S224x128 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 224) (B := 128) (e := .f32) vv shapeCasts_S1x1x224x128_S224x128 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 224) (B := 128) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 224) (B := 128) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 224) (B := 128) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 224) (B := 128) (e := .f32) _ _ p q).trans ?_
  unfold delta
  rw [← pay5_at, ← pay6_at, ← dropUnits_apply (A := 224) (B := 128) (e := .f32) w shapeCasts_S1x1x224x128_S224x128 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x224x128 .f32) (harg4 : arg4.IsWhole) (arg5 : Memref sig .tc .vmem S1x224x128 .f32) (harg5 : arg5.IsWhole) (arg6 : Memref sig .tc .vmem S1x224x128 .f32) (harg6 : arg6.IsWhole) (arg7 : Memref sig .tc .vmem S1x1x224x128 .f32) (harg7 : arg7.IsWhole) (arg8 : Memref sig .tc .vmem S1x1x224x128 .f32) (harg8 : arg8.IsWhole) (arg9 : Memref sig .tc .vmem S1x1x224x128 .f32) (harg9 : arg9.IsWhole) (arg10 : Memref sig .tc .vmem S1x1x224x128 .f32) (harg10 : arg10.IsWhole) (arg11 : Memref sig .tc .vmem S1x1x224x128 .f32) (harg11 : arg11.IsWhole) (arg12 : Memref sig .tc .vmem S1x1x224x128 .f32) (harg12 : arg12.IsWhole)
  (x0 : Vec Ideal S1x1x224x128 .f32) (x1 : Vec Ideal S1x224x128 .f32) (x2 : Vec Ideal S1x224x128 .f32) (x3 : Vec Ideal S1x1x224x128 .f32) (x4 : Vec Ideal S1x1x224x128 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 2 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 224) (q : Fin 128) :
    iblk m (okm m) c 1 t (ix3 0 p q) = at3 (A := 1) (B := 224) (C := 128) (m ((c.tc : Thread nD τ).loc main_arg2)) (t.val / 2) (t.val % 1 * 224 + p.val) q.val := by
  have ht := ltN t; have hp := p.isLt; have hq := q.isLt
  unfold iblk
  refine (View.read_apply _ _).trans ?_
  show (V m c main_arg2 : S1x224x128.Idx → EReal) _ = (m ((c.tc : Thread nD τ).loc main_arg2) : S1x224x128.Idx → EReal) _
  rw [V_main_arg2]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 224 + 1 * p.val = (t.val % 1 * 224 + p.val) % 224; rw [(ixG t).2.1]; omega
  | ⟨2, _⟩ => show cc0_transform_1 (grid0.coords t) 2 * 128 + 1 * q.val = q.val % 128; rw [(ixG t).2.2]; omega

/-- The sibling's half of the summed gradient, a tile of it. -/
theorem blk2 (c : Dev nD) (t : Fin grid0.N) (p : Fin 224) (q : Fin 128) :
    iblk m (okm m) c 2 t (ix3 0 p q) = at3 (A := 1) (B := 224) (C := 128) (m ((c.tc : Thread nD τ).loc main_arg3)) (t.val / 2) (t.val % 1 * 224 + p.val) q.val := by
  have ht := ltN t; have hp := p.isLt; have hq := q.isLt
  unfold iblk
  refine (View.read_apply _ _).trans ?_
  show (V m c main_arg3 : S1x224x128.Idx → EReal) _ = (m ((c.tc : Thread nD τ).loc main_arg3) : S1x224x128.Idx → EReal) _
  rw [V_main_arg3]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 224 + 1 * p.val = (t.val % 1 * 224 + p.val) % 224; rw [(ixG t).2.1]; omega
  | ⟨2, _⟩ => show cc0_transform_1 (grid0.coords t) 2 * 128 + 1 * q.val = q.val % 128; rw [(ixG t).2.2]; omega

/-- The weight, a tile of it. -/
theorem blk0 (c : Dev nD) (t : Fin grid0.N) (p : Fin 224) (q : Fin 128) :
    iblk m (okm m) c 0 t (ix4 0 0 p q) = at3 (A := 1) (B := 448) (C := 128) (m ((c.tc : Thread nD τ).loc main_arg1)) (t.val / 2) (t.val / 1 % 2 * 224 + (t.val % 1 * 224 + p.val)) q.val := by
  have ht := ltN t; have hp := p.isLt; have hq := q.isLt
  have e : (StableHlo.after hostOps0 (fun b => m (c, b)) (Proc.tc.devRef main_v0) : S1x2x224x128.Idx → EReal)
      = shapeCast S1x2x224x128 (m ((c.tc : Thread nD τ).loc main_arg1) : S1x448x128.Idx → EReal) shapeCasts_S1x448x128_S1x2x224x128 := by
    after_results
    rfl
  have hi : ((((cfgM m (okm m)).win 0).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after hostOps0 (fun b => m (c, b)) (Proc.tc.devRef main_v0) : S1x2x224x128.Idx → EReal) ((((cfgM m (okm m)).win 0).blk t).view.emb (ix4 0 0 p q)) from rfl).trans ?_
  refine (congrArg (StableHlo.after hostOps0 (fun b => m (c, b)) (Proc.tc.devRef main_v0) : S1x2x224x128.Idx → EReal) hi).trans ?_
  refine (congrFun e _).trans ?_
  refine (halves_apply (L := 1) (R := 448) (H := 224) (C := 128) (e := .f32) (m ((c.tc : Thread nD τ).loc main_arg1) : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- The first moment, a tile of it. -/
theorem blk3 (c : Dev nD) (t : Fin grid0.N) (p : Fin 224) (q : Fin 128) :
    iblk m (okm m) c 3 t (ix4 0 0 p q) = at3 (A := 1) (B := 448) (C := 128) (m ((c.tc : Thread nD τ).loc main_arg4)) (t.val / 2) (t.val / 1 % 2 * 224 + (t.val % 1 * 224 + p.val)) q.val := by
  have ht := ltN t; have hp := p.isLt; have hq := q.isLt
  have e : (StableHlo.after hostOps0 (fun b => m (c, b)) (Proc.tc.devRef main_v1) : S1x2x224x128.Idx → EReal)
      = shapeCast S1x2x224x128 (m ((c.tc : Thread nD τ).loc main_arg4) : S1x448x128.Idx → EReal) shapeCasts_S1x448x128_S1x2x224x128 := by
    after_results
    rfl
  have hi : ((((cfgM m (okm m)).win 3).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after hostOps0 (fun b => m (c, b)) (Proc.tc.devRef main_v1) : S1x2x224x128.Idx → EReal) ((((cfgM m (okm m)).win 3).blk t).view.emb (ix4 0 0 p q)) from rfl).trans ?_
  refine (congrArg (StableHlo.after hostOps0 (fun b => m (c, b)) (Proc.tc.devRef main_v1) : S1x2x224x128.Idx → EReal) hi).trans ?_
  refine (congrFun e _).trans ?_
  refine (halves_apply (L := 1) (R := 448) (H := 224) (C := 128) (e := .f32) (m ((c.tc : Thread nD τ).loc main_arg4) : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- The second moment, a tile of it. -/
theorem blk4 (c : Dev nD) (t : Fin grid0.N) (p : Fin 224) (q : Fin 128) :
    iblk m (okm m) c 4 t (ix4 0 0 p q) = at3 (A := 1) (B := 448) (C := 128) (m ((c.tc : Thread nD τ).loc main_arg5)) (t.val / 2) (t.val / 1 % 2 * 224 + (t.val % 1 * 224 + p.val)) q.val := by
  have ht := ltN t; have hp := p.isLt; have hq := q.isLt
  have e : (StableHlo.after hostOps0 (fun b => m (c, b)) (Proc.tc.devRef main_v2) : S1x2x224x128.Idx → EReal)
      = shapeCast S1x2x224x128 (m ((c.tc : Thread nD τ).loc main_arg5) : S1x448x128.Idx → EReal) shapeCasts_S1x448x128_S1x2x224x128 := by
    after_results
    rfl
  have hi : ((((cfgM m (okm m)).win 4).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after hostOps0 (fun b => m (c, b)) (Proc.tc.devRef main_v2) : S1x2x224x128.Idx → EReal) ((((cfgM m (okm m)).win 4).blk t).view.emb (ix4 0 0 p q)) from rfl).trans ?_
  refine (congrArg (StableHlo.after hostOps0 (fun b => m (c, b)) (Proc.tc.devRef main_v2) : S1x2x224x128.Idx → EReal) hi).trans ?_
  refine (congrFun e _).trans ?_
  refine (halves_apply (L := 1) (R := 448) (H := 224) (C := 128) (e := .f32) (m ((c.tc : Thread nD τ).loc main_arg5) : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x224x128.Idx) :
    ((dats m (okm m) 0 c).arrAt 5 (cfgM m (okm m)).N : S1x2x224x128.Idx → EReal) ((((cfgM m (okm m)).win 5).blk t).view.emb y) = ((dats m (okm m) 0 c).after 5 t : S1x1x224x128.Idx → EReal) y :=
  (dats m (okm m) 0 c).arrAt_emb_eq_flushed 5 (disjoint5 m) t (flush0_5 _ t) y

/-- Where an index of the array of output the gradient sits in its block. -/
theorem emb5 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 5).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 5 (cfgM m (okm m)).N : S1x2x224x128.Idx → EReal) (ix4 l b r q) = grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val) := by
  refine (congrArg ((dats m (okm m) 0 c).arrAt 5 (cfgM m (okm m)).N : S1x2x224x128.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 1) (b : Fin 2) (r : Fin 224) (q : Fin 128) :
    ((dats m (okm m) 0 c).arrAt 5 (cfgM m (okm m)).N : S1x2x224x128.Idx → EReal) (ix4 l b r q) = grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile5 m c ⟨l.val * 2 + b.val * 1 + r.val / 224, ht⟩ (⟨r.val % 224, by omega⟩ : Fin 224) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x224x128.Idx) :
    ((dats m (okm m) 0 c).arrAt 6 (cfgM m (okm m)).N : S1x2x224x128.Idx → EReal) ((((cfgM m (okm m)).win 6).blk t).view.emb y) = ((dats m (okm m) 0 c).after 6 t : S1x1x224x128.Idx → EReal) y :=
  (dats m (okm m) 0 c).arrAt_emb_eq_flushed 6 (disjoint6 m) t (flush0_6 _ t) y

/-- Where an index of the array of output the step sits in its block. -/
theorem emb6 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 6).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 6 (cfgM m (okm m)).N : S1x2x224x128.Idx → EReal) (ix4 l b r q) = delta (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg1)) l.val (b.val * 224 + r.val) q.val) (at3 (A := 1) (B := 448) (C := 128) (m ((c.tc : Thread nD τ).loc main_arg4)) l.val (b.val * 224 + r.val) q.val) (at3 (A := 1) (B := 448) (C := 128) (m ((c.tc : Thread nD τ).loc main_arg5)) l.val (b.val * 224 + r.val) q.val) := by
  refine (congrArg ((dats m (okm m) 0 c).arrAt 6 (cfgM m (okm m)).N : S1x2x224x128.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 1) (b : Fin 2) (r : Fin 224) (q : Fin 128) :
    ((dats m (okm m) 0 c).arrAt 6 (cfgM m (okm m)).N : S1x2x224x128.Idx → EReal) (ix4 l b r q) = delta (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg1)) l.val (b.val * 224 + r.val) q.val) (at3 (A := 1) (B := 448) (C := 128) (m ((c.tc : Thread nD τ).loc main_arg4)) l.val (b.val * 224 + r.val) q.val) (at3 (A := 1) (B := 448) (C := 128) (m ((c.tc : Thread nD τ).loc main_arg5)) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile6 m c ⟨l.val * 2 + b.val * 1 + r.val / 224, ht⟩ (⟨r.val % 224, by omega⟩ : Fin 224) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x224x128.Idx) :
    ((dats m (okm m) 0 c).arrAt 7 (cfgM m (okm m)).N : S1x2x224x128.Idx → EReal) ((((cfgM m (okm m)).win 7).blk t).view.emb y) = ((dats m (okm m) 0 c).after 7 t : S1x1x224x128.Idx → EReal) y :=
  (dats m (okm m) 0 c).arrAt_emb_eq_flushed 7 (disjoint7 m) t (flush0_7 _ t) y

/-- Where an index of the array of output the first moment sits in its block. -/
theorem emb7 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 7).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 7 (cfgM m (okm m)).N : S1x2x224x128.Idx → EReal) (ix4 l b r q) = mom1 (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg4)) l.val (b.val * 224 + r.val) q.val) := by
  refine (congrArg ((dats m (okm m) 0 c).arrAt 7 (cfgM m (okm m)).N : S1x2x224x128.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 1) (b : Fin 2) (r : Fin 224) (q : Fin 128) :
    ((dats m (okm m) 0 c).arrAt 7 (cfgM m (okm m)).N : S1x2x224x128.Idx → EReal) (ix4 l b r q) = mom1 (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg4)) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile7 m c ⟨l.val * 2 + b.val * 1 + r.val / 224, ht⟩ (⟨r.val % 224, by omega⟩ : Fin 224) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x224x128.Idx) :
    ((dats m (okm m) 0 c).arrAt 8 (cfgM m (okm m)).N : S1x2x224x128.Idx → EReal) ((((cfgM m (okm m)).win 8).blk t).view.emb y) = ((dats m (okm m) 0 c).after 8 t : S1x1x224x128.Idx → EReal) y :=
  (dats m (okm m) 0 c).arrAt_emb_eq_flushed 8 (disjoint8 m) t (flush0_8 _ t) y

/-- Where an index of the array of output the second moment sits in its block. -/
theorem emb8 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 8).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 8 (cfgM m (okm m)).N : S1x2x224x128.Idx → EReal) (ix4 l b r q) = mom2 (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg5)) l.val (b.val * 224 + r.val) q.val) := by
  refine (congrArg ((dats m (okm m) 0 c).arrAt 8 (cfgM m (okm m)).N : S1x2x224x128.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 1) (b : Fin 2) (r : Fin 224) (q : Fin 128) :
    ((dats m (okm m) 0 c).arrAt 8 (cfgM m (okm m)).N : S1x2x224x128.Idx → EReal) (ix4 l b r q) = mom2 (grad (coreOf m) b.val (at3 (A := 1) (B := 224) (C := 128) (m ((c.tc : Thread nD τ).loc main_arg2)) l.val r.val q.val) (at3 (A := 1) (B := 224) (C := 128) (m ((c.tc : Thread nD τ).loc main_arg3)) l.val r.val q.val)) (at3 (A := 1) (B := 448) (C := 128) (m ((c.tc : Thread nD τ).loc main_arg5)) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile8 m c ⟨l.val * 2 + b.val * 1 + r.val / 224, ht⟩ (⟨r.val % 224, by omega⟩ : Fin 224) q l b r e0 e1 e2

/-- The gradient, as an array. -/
def gOf (core : BitVec 32) (g1 g2 : Vec Ideal S1x224x128 .f32) : Vec Ideal S1x448x128 .f32 := fun i =>
  gradAt core g1 g2 (i 0).val (i 1).val (i 2).val

/-- The step, as an array. -/
def dOf (core : BitVec 32) (w : Vec Ideal S1x448x128 .f32) (g1 g2 : Vec Ideal S1x224x128 .f32) (x y : Vec Ideal S1x448x128 .f32) : Vec Ideal S1x448x128 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S1x224x128 .f32) (x : Vec Ideal S1x448x128 .f32) : Vec Ideal S1x448x128 .f32 := fun i =>
  mom1 (gradAt core g1 g2 (i 0).val (i 1).val (i 2).val) (at3 x (i 0).val (i 1).val (i 2).val)

/-- The second moment, as an array. -/
def vOf (core : BitVec 32) (g1 g2 : Vec Ideal S1x224x128 .f32) (y : Vec Ideal S1x448x128 .f32) : Vec Ideal S1x448x128 .f32 := fun i =>
  mom2 (gradAt core g1 g2 (i 0).val (i 1).val (i 2).val) (at3 y (i 0).val (i 1).val (i 2).val)

/-- The line after the body joins the halves of output the gradient. -/
theorem joined_5 (W : Valuation τ sig (Elt Ideal)) : (StableHlo.after hostOps1 W (Proc.tc.devRef main_v4) : S1x448x128.Idx → EReal)
    = shapeCast S1x448x128 (W (Proc.tc.devRef main_v3_0) : S1x2x224x128.Idx → EReal) shapeCasts_S1x2x224x128_S1x448x128 := by
  after_results
  rfl

/-- Output the gradient after the halves are joined. -/
theorem tail5 (c : Dev nD) : Pipeline.afterTail pcfgs (fun _ => adm m (okm m)) (dats m (okm m)) 0 (V0 m) [hostOps1] c main_v4 = gOf (coreOf m) (m ((c.tc : Thread nD τ).loc main_arg2)) (m ((c.tc : Thread nD τ).loc main_arg3)) := by
  have e : (Pipeline.afterTail pcfgs (fun _ => adm m (okm m)) (dats m (okm m)) 0 (V0 m) [hostOps1] c main_v4 : S1x448x128.Idx → EReal)
      = shapeCast S1x448x128 ((dats m (okm m) 0 c).arrAt 5 (cfgM m (okm m)).N : S1x2x224x128.Idx → EReal) shapeCasts_S1x2x224x128_S1x448x128 := by
    unfold Pipeline.afterTail
    refine (joined_5 (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => shapeCast S1x448x128 a shapeCasts_S1x2x224x128_S1x448x128) (Pipeline.withArrays_arr (Pipeline.pin pcfgs (fun _ => adm m (okm m)) 0).spec (launch0 (F := Ideal)).win.arr_inj c (V0 m c) (fun w => (dats m (okm m) 0 c).arrAt w (cfgM m (okm m)).N) 5)
  refine e.trans ?_
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 5 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final5 m c _ _ _ _).trans ?_
  have eh : (i 1).val / 224 * 224 + (i 1).val % 224 = (i 1).val := by omega
  dsimp only
  rfl

/-- The line after the body joins the halves of output the step. -/
theorem joined_6 (W : Valuation τ sig (Elt Ideal)) : (StableHlo.after hostOps1 W (Proc.tc.devRef main_v5) : S1x448x128.Idx → EReal)
    = shapeCast S1x448x128 (W (Proc.tc.devRef main_v3_1) : S1x2x224x128.Idx → EReal) shapeCasts_S1x2x224x128_S1x448x128 := by
  after_results
  rfl

/-- Output the step after the halves are joined. -/
theorem tail6 (c : Dev nD) : Pipeline.afterTail pcfgs (fun _ => adm m (okm m)) (dats m (okm m)) 0 (V0 m) [hostOps1] c main_v5 = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (Pipeline.afterTail pcfgs (fun _ => adm m (okm m)) (dats m (okm m)) 0 (V0 m) [hostOps1] c main_v5 : S1x448x128.Idx → EReal)
      = shapeCast S1x448x128 ((dats m (okm m) 0 c).arrAt 6 (cfgM m (okm m)).N : S1x2x224x128.Idx → EReal) shapeCasts_S1x2x224x128_S1x448x128 := by
    unfold Pipeline.afterTail
    refine (joined_6 (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => shapeCast S1x448x128 a shapeCasts_S1x2x224x128_S1x448x128) (Pipeline.withArrays_arr (Pipeline.pin pcfgs (fun _ => adm m (okm m)) 0).spec (launch0 (F := Ideal)).win.arr_inj c (V0 m c) (fun w => (dats m (okm m) 0 c).arrAt w (cfgM m (okm m)).N) 6)
  refine e.trans ?_
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 6 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final6 m c _ _ _ _).trans ?_
  have eh : (i 1).val / 224 * 224 + (i 1).val % 224 = (i 1).val := by omega
  dsimp only
  rw [eh]
  rfl

/-- The line after the body joins the halves of output the first moment. -/
theorem joined_7 (W : Valuation τ sig (Elt Ideal)) : (StableHlo.after hostOps1 W (Proc.tc.devRef main_v6) : S1x448x128.Idx → EReal)
    = shapeCast S1x448x128 (W (Proc.tc.devRef main_v3_2) : S1x2x224x128.Idx → EReal) shapeCasts_S1x2x224x128_S1x448x128 := by
  after_results
  rfl

/-- Output the first moment after the halves are joined. -/
theorem tail7 (c : Dev nD) : Pipeline.afterTail pcfgs (fun _ => adm m (okm m)) (dats m (okm m)) 0 (V0 m) [hostOps1] c main_v6 = mOf (coreOf m) (m ((c.tc : Thread nD τ).loc main_arg2)) (m ((c.tc : Thread nD τ).loc main_arg3)) (m ((c.tc : Thread nD τ).loc main_arg4)) := by
  have e : (Pipeline.afterTail pcfgs (fun _ => adm m (okm m)) (dats m (okm m)) 0 (V0 m) [hostOps1] c main_v6 : S1x448x128.Idx → EReal)
      = shapeCast S1x448x128 ((dats m (okm m) 0 c).arrAt 7 (cfgM m (okm m)).N : S1x2x224x128.Idx → EReal) shapeCasts_S1x2x224x128_S1x448x128 := by
    unfold Pipeline.afterTail
    refine (joined_7 (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => shapeCast S1x448x128 a shapeCasts_S1x2x224x128_S1x448x128) (Pipeline.withArrays_arr (Pipeline.pin pcfgs (fun _ => adm m (okm m)) 0).spec (launch0 (F := Ideal)).win.arr_inj c (V0 m c) (fun w => (dats m (okm m) 0 c).arrAt w (cfgM m (okm m)).N) 7)
  refine e.trans ?_
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 7 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final7 m c _ _ _ _).trans ?_
  have eh : (i 1).val / 224 * 224 + (i 1).val % 224 = (i 1).val := by omega
  dsimp only
  rw [eh]
  rfl

/-- The line after the body joins the halves of output the second moment. -/
theorem joined_8 (W : Valuation τ sig (Elt Ideal)) : (StableHlo.after hostOps1 W (Proc.tc.devRef main_v7) : S1x448x128.Idx → EReal)
    = shapeCast S1x448x128 (W (Proc.tc.devRef main_v3_3) : S1x2x224x128.Idx → EReal) shapeCasts_S1x2x224x128_S1x448x128 := by
  after_results
  rfl

/-- Output the second moment after the halves are joined. -/
theorem tail8 (c : Dev nD) : Pipeline.afterTail pcfgs (fun _ => adm m (okm m)) (dats m (okm m)) 0 (V0 m) [hostOps1] c main_v7 = vOf (coreOf m) (m ((c.tc : Thread nD τ).loc main_arg2)) (m ((c.tc : Thread nD τ).loc main_arg3)) (m ((c.tc : Thread nD τ).loc main_arg5)) := by
  have e : (Pipeline.afterTail pcfgs (fun _ => adm m (okm m)) (dats m (okm m)) 0 (V0 m) [hostOps1] c main_v7 : S1x448x128.Idx → EReal)
      = shapeCast S1x448x128 ((dats m (okm m) 0 c).arrAt 8 (cfgM m (okm m)).N : S1x2x224x128.Idx → EReal) shapeCasts_S1x2x224x128_S1x448x128 := by
    unfold Pipeline.afterTail
    refine (joined_8 (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => shapeCast S1x448x128 a shapeCasts_S1x2x224x128_S1x448x128) (Pipeline.withArrays_arr (Pipeline.pin pcfgs (fun _ => adm m (okm m)) 0).spec (launch0 (F := Ideal)).win.arr_inj c (V0 m c) (fun w => (dats m (okm m) 0 c).arrAt w (cfgM m (okm m)).N) 8)
  refine e.trans ?_
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 8 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final8 m c _ _ _ _).trans ?_
  have eh : (i 1).val / 224 * 224 + (i 1).val % 224 = (i 1).val := by omega
  dsimp only
  rw [eh]
  rfl

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v4) = gOf (coreOf m) (m ((c.tc : Thread nD τ).loc main_arg2)) (m ((c.tc : Thread nD τ).loc main_arg3))
      ∧ r.2.mem ((c.tc : Thread nD τ).loc main_v5) = dOf (coreOf m) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = mOf (coreOf m) (m ((c.tc : Thread nD τ).loc main_arg2)) (m ((c.tc : Thread nD τ).loc main_arg3)) (m ((c.tc : Thread nD τ).loc main_arg4))
      ∧ r.2.mem ((c.tc : Thread nD τ).loc main_v7) = vOf (coreOf m) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v4 (by decide : main_v4 ∈ Pipeline.restRefs sig spec0)).trans (tail5 m c),
     ((h.1 c).2 main_v5 (by decide : main_v5 ∈ Pipeline.restRefs sig spec0)).trans (tail6 m c),
     ((h.1 c).2 main_v6 (by decide : main_v6 ∈ Pipeline.restRefs sig spec0)).trans (tail7 m c),
     ((h.1 c).2 main_v7 (by decide : main_v7 ∈ Pipeline.restRefs sig spec0)).trans (tail8 m c), h.2 c⟩) (θ_run_and (run_main m ρ (okm m)) (unchanged m ρ (okm m)))

end Cert.UpdPackIdeal.Value

end
-- ==== Proof.UpdPackRef.lean ====
/- The small weights, packed in one array: the reference's step, and the two runs together. -/
module

public import proofs.«01_k».proof.Proof.UpdPackRun
public import proofs.«01_k».proof.Proof.Gen.UpdPackRefIdeal.Run
public import proofs.«01_k».proof.Proof.Gen.UpdPackRefIdeal.Read
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdPackRefIdeal.Value

open Cert.UpdPackRefIdeal Cert.UpdPackRefIdeal.Gen Cert.UpdPackRefIdeal.Read AdamStep
open Cert.UpdPackIdeal.Value (gOf dOf mOf vOf)

variable (x0 : Vec Ideal S1 .i32) (x1 : Vec Ideal S1x448x128 .f32) (x2 x3 : Vec Ideal S1x224x128 .f32) (x4 x5 : Vec Ideal S1x448x128 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S1x224x128.Idx) : val_main_v2 (F := Ideal) x0 x2 x3 j = grad ((x0 : S1.Idx → BitVec 32) (ix1 0)) 0 (x2 j) (x3 j) := by
  rw [← core_at x0 (fun a => a.elim0)]
  unfold grad
  rw [cmp_comm]
  unfold val_main_v2
  rw [pick_apply, broadcastInDim_apply _ bcast_S_S1x224x128 (val_main_v1 (F := Ideal) x0) j (fun a => a.elim0) (fun a => a.elim0)]
  rfl

/-- The lower half of the rows. -/
theorem lower_at (j : S1x224x128.Idx) : val_main_v5 (F := Ideal) x0 x2 x3 j = grad ((x0 : S1.Idx → BitVec 32) (ix1 0)) 1 (x2 j) (x3 j) := by
  rw [← core_at x0 (fun a => a.elim0)]
  unfold grad
  rw [cmp_comm]
  unfold val_main_v5
  rw [pick_apply, broadcastInDim_apply _ bcast_S_S1x224x128 (val_main_v4 (F := Ideal) x0) j (fun a => a.elim0) (fun a => a.elim0)]
  rfl

/-- The gradient put together. -/
theorem g_eq : val_main_v6 (F := Ideal) x0 x2 x3 = gOf ((x0 : S1.Idx → BitVec 32) (ix1 0)) x2 x3 := by
  funext i
  have h0 : (i 0).val < 1 := (i 0).isLt
  have h1 : (i 1).val < 448 := (i 1).isLt
  have h2 : (i 2).val < 128 := (i 2).isLt
  unfold val_main_v6
  by_cases hc : (i 1).val < 224
  · refine (concatenate_pair_apply_left (1 : Fin 3) (val_main_v2 (F := Ideal) x0 x2 x3) (val_main_v5 (F := Ideal) x0 x2 x3) concatenates_S1x224x128_S1x224x128_S1x448x128_d1 i rfl
      (ix3 (Fin.ofNat 1 (i 0).val) (Fin.ofNat 224 ((i 1).val % 224)) (Fin.ofNat 128 (i 2).val)) (fun b => ?_)).trans ?_
    · match b with
      | ⟨0, _⟩ => show (i 0).val % 1 = (i 0).val; exact Nat.mod_eq_of_lt h0
      | ⟨1, _⟩ => show (i 1).val % 224 % 224 = (i 1).val; rewrite [Nat.mod_mod]; exact Nat.mod_eq_of_lt hc
      | ⟨2, _⟩ => show (i 2).val % 128 = (i 2).val; exact Nat.mod_eq_of_lt h2
    · refine (upper_at x0 x2 x3 _).trans ?_
      unfold gOf gradAt
      rw [show (i 1).val / 224 = 0 from Nat.div_eq_of_lt hc]
      rfl
  · refine (concatenate_pair_apply_right (1 : Fin 3) (val_main_v2 (F := Ideal) x0 x2 x3) (val_main_v5 (F := Ideal) x0 x2 x3) concatenates_S1x224x128_S1x224x128_S1x448x128_d1 i rfl rfl
      (ix3 (Fin.ofNat 1 (i 0).val) (Fin.ofNat 224 ((i 1).val % 224)) (Fin.ofNat 128 (i 2).val)) (fun b hb => ?_) ?_).trans ?_
    · match b with
      | ⟨0, _⟩ => show (i 0).val % 1 = (i 0).val; exact Nat.mod_eq_of_lt h0
      | ⟨1, _⟩ => exact absurd rfl hb
      | ⟨2, _⟩ => show (i 2).val % 128 = (i 2).val; exact Nat.mod_eq_of_lt h2
    · show (i 1).val % 224 % 224 + 224 = (i 1).val; omega
    · refine (lower_at x0 x2 x3 _).trans ?_
      unfold gOf gradAt
      rw [show (i 1).val / 224 = 1 by omega]
      rfl

/-- A weight at its own index. -/
theorem at_self (x : Vec Ideal S1x448x128 .f32) (i : S1x448x128.Idx) : x i = at3 (A := 1) (B := 448) (C := 128) x (i 0).val (i 1).val (i 2).val := by
  have h0 : (i 0).val < 1 := (i 0).isLt
  have h1 : (i 1).val < 448 := (i 1).isLt
  have h2 : (i 2).val < 128 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

/-- The first moment. -/
theorem m_at (i : S1x448x128.Idx) : val_main_v11 (F := Ideal) x0 x2 x3 x4 i = mom1 (val_main_v6 (F := Ideal) x0 x2 x3 i) (x4 i) := by
  rw [val_main_v11_apply, val_main_v8_apply, val_main_v10_apply, val_main_v7_apply, val_main_v9_apply]
  rfl

/-- The second moment. -/
theorem v_at (i : S1x448x128.Idx) : val_main_v17 (F := Ideal) x0 x2 x3 x5 i = mom2 (val_main_v6 (F := Ideal) x0 x2 x3 i) (x5 i) := by
  rw [val_main_v17_apply, val_main_v13_apply, val_main_v16_apply, val_main_v12_apply, val_main_v15_apply, val_main_v14_apply]
  rfl

/-- The step. -/
theorem d_at (i : S1x448x128.Idx) : val_main_v30 (F := Ideal) x0 x1 x2 x3 x4 x5 i = delta (val_main_v6 (F := Ideal) x0 x2 x3 i) (x1 i) (x4 i) (x5 i) := by
  rw [val_main_v30_apply, val_main_v28_apply, val_main_v25_apply, val_main_v19_apply, val_main_v24_apply, val_main_v22_apply, val_main_v21_apply, val_main_v27_apply,
    val_main_v29_apply, val_main_v26_apply, val_main_v23_apply, val_main_v20_apply, val_main_v18_apply, m_at, v_at]
  rfl

/-- The first moment, as an array. -/
theorem m_eq : val_main_v11 (F := Ideal) x0 x2 x3 x4 = mOf ((x0 : S1.Idx → BitVec 32) (ix1 0)) x2 x3 x4 := by
  funext i
  rw [m_at, g_eq, at_self x4]
  rfl

/-- The second moment, as an array. -/
theorem v_eq : val_main_v17 (F := Ideal) x0 x2 x3 x5 = vOf ((x0 : S1.Idx → BitVec 32) (ix1 0)) x2 x3 x5 := by
  funext i
  rw [v_at, g_eq, at_self x5]
  rfl

/-- The step, as an array. -/
theorem d_eq : val_main_v30 (F := Ideal) x0 x1 x2 x3 x4 x5 = dOf ((x0 : S1.Idx → BitVec 32) (ix1 0)) x1 x2 x3 x4 x5 := by
  funext i
  rw [d_at, g_eq, at_self x1, at_self x4, at_self x5]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v6) = gOf ((m ((c.tc : Thread nD τ).loc main_arg0) : S1.Idx → BitVec 32) (ix1 0)) (m ((c.tc : Thread nD τ).loc main_arg2)) (m ((c.tc : Thread nD τ).loc main_arg3))
      ∧ r.2.mem ((c.tc : Thread nD τ).loc main_v30) = dOf ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = mOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg4))
      ∧ r.2.mem ((c.tc : Thread nD τ).loc main_v17) = vOf ((m ((c.tc : Thread nD τ).loc main_arg0) : S1.Idx → BitVec 32) (ix1 0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v6_eq _ _ _).trans (g_eq _ _ _)),
      (h c).2.1.trans ((val_main_v30_eq _ _ _ _ _ _).trans (d_eq _ _ _ _ _ _)),
      (h c).2.2.1.trans ((val_main_v11_eq _ _ _ _).trans (m_eq _ _ _ _)),
      (h c).2.2.2.1.trans ((val_main_v17_eq _ _ _ _).trans (v_eq _ _ _ _)), (h c).2.2.2.2⟩)
    (run m ρ)

/-- The reference ends with its arguments as they were; it declares no semaphore. -/
theorem ends : Cert.quiescent_UpdPackRefIdeal := fun m ρ _ =>
  (θ_run _ _ _).mono (fun _ h => ⟨fun c => (h c).2.2.2.2, funext fun g => nomatch g.2⟩) (run_value m ρ)

end Cert.UpdPackRefIdeal.Value

open Cert.UpdPackIdeal.Value (gOf dOf mOf vOf coreOf) in
/-- The kernel's values and the reference's, over the ideal reals. -/
theorem UpdPack_value : Cert.algebraic_UpdPackIdeal_UpdPackRefIdeal :=
  fun m g m' g' _ h => ⟨fun c => gOf (coreOf m) (m ((c.tc : Thread Cert.UpdPackIdeal.nD Cert.UpdPackIdeal.τ).loc Cert.UpdPackIdeal.main_arg2)) (m ((c.tc : Thread Cert.UpdPackIdeal.nD Cert.UpdPackIdeal.τ).loc Cert.UpdPackIdeal.main_arg3)),
    fun c => dOf (coreOf m) (m ((c.tc : Thread Cert.UpdPackIdeal.nD Cert.UpdPackIdeal.τ).loc Cert.UpdPackIdeal.main_arg1)) (m ((c.tc : Thread Cert.UpdPackIdeal.nD Cert.UpdPackIdeal.τ).loc Cert.UpdPackIdeal.main_arg2)) (m ((c.tc : Thread Cert.UpdPackIdeal.nD Cert.UpdPackIdeal.τ).loc Cert.UpdPackIdeal.main_arg3)) (m ((c.tc : Thread Cert.UpdPackIdeal.nD Cert.UpdPackIdeal.τ).loc Cert.UpdPackIdeal.main_arg4)) (m ((c.tc : Thread Cert.UpdPackIdeal.nD Cert.UpdPackIdeal.τ).loc Cert.UpdPackIdeal.main_arg5)),
    fun c => mOf (coreOf m) (m ((c.tc : Thread Cert.UpdPackIdeal.nD Cert.UpdPackIdeal.τ).loc Cert.UpdPackIdeal.main_arg2)) (m ((c.tc : Thread Cert.UpdPackIdeal.nD Cert.UpdPackIdeal.τ).loc Cert.UpdPackIdeal.main_arg3)) (m ((c.tc : Thread Cert.UpdPackIdeal.nD Cert.UpdPackIdeal.τ).loc Cert.UpdPackIdeal.main_arg4)),
    fun c => vOf (coreOf m) (m ((c.tc : Thread Cert.UpdPackIdeal.nD Cert.UpdPackIdeal.τ).loc Cert.UpdPackIdeal.main_arg2)) (m ((c.tc : Thread Cert.UpdPackIdeal.nD Cert.UpdPackIdeal.τ).loc Cert.UpdPackIdeal.main_arg3)) (m ((c.tc : Thread Cert.UpdPackIdeal.nD Cert.UpdPackIdeal.τ).loc Cert.UpdPackIdeal.main_arg5)),
    Cert.UpdPackIdeal.Value.run_value m g,
    (θ_run _ _ _).mono (fun r hr c => by
      have hc := hr c
      obtain ⟨a0, a1, a2, a3, a4, a5⟩ := h c
      have e0 : (m' ((c.tc : Thread Cert.UpdPackRefIdeal.nD Cert.UpdPackRefIdeal.τ).loc Cert.UpdPackRefIdeal.main_arg0) : Cert.UpdPackRefIdeal.S1.Idx → BitVec 32) (ix1 0) = coreOf m := by
        rw [a0]
        have hc0 : c = 0 := Subsingleton.elim _ _
        rw [hc0]
        rfl
      refine ⟨hc.1.trans ?_, hc.2.1.trans ?_, hc.2.2.1.trans ?_, hc.2.2.2.1.trans ?_, hc.2.2.2.2⟩
      · rw [e0, a2, a3] <;> rfl
      · rw [e0, a1, a2, a3, a4, a5] <;> rfl
      · rw [e0, a2, a3, a4] <;> rfl
      · rw [e0, a2, a3, a5] <;> rfl)
      (Cert.UpdPackRefIdeal.Value.run_value m' g')⟩

end
-- ==== Proof.CastJoin.lean ====
/- Two reshapes, one after the other, as one. -/
module

public import Idealize.ShloMosaic.Lib.Pipeline.Value
import Idealize.ShloMosaic.Lib.Pointwise.Reshape

@[expose] public section

open Idealize.ShloMosaic

namespace AdamStep

/-- A reshape of a reshape is the reshape to the last shape. -/
theorem cast_join {s t u : Shape} {α : Type} (x : s.Idx → α) (h : s.ShapeCasts t) (h' : t.ShapeCasts u) (h'' : s.ShapeCasts u) :
    shapeCast u (shapeCast t x h) h' = shapeCast u x h'' :=
  shapeCast_comp x h h'

end AdamStep

end
-- ==== Proof.CatRead.lean ====
/- Arrays laid end to end, read at a place: the array that holds the place. -/
module

public import Idealize.ShloMosaic.Lib.Pipeline.Value
public import Idealize.ShloMosaic.Lib.Pointwise.SelectCore

@[expose] public section

open Idealize.ShloMosaic

namespace AdamStep

/-- A place past the first array is a place in the rest. -/
theorem cat_skip {t s : Shape} {α : Type} {a : Fin t.rank} {j : t.Idx} {x : s.Idx → α} {q : (s : Shape) × (s.Idx → α)}
    {xs : List ((s : Shape) × (s.Idx → α))}
    {hs : ∀ s' ∈ (⟨s, x⟩ :: q :: xs : List ((s : Shape) × (s.Idx → α))).map (·.1), s'.FitsOff t a} {c : Nat}
    {hc : c < (axisSizes t a (⟨s, x⟩ :: q :: xs)).sum} {z : α} (n : Nat) (hn : s.size (a.cast (hs s List.mem_cons_self).rank_eq.symm) = n) (h : n ≤ c)
    (H : ∀ hs' hc', concatenateAt t a j (q :: xs) hs' (c - n) hc' = z) :
    concatenateAt t a j (⟨s, x⟩ :: q :: xs) hs c hc = z := by
  subst hn
  rw [concatenateAt_cons, dif_neg (by omega)]
  exact H _ _

/-- A place in the first array. -/
theorem cat_take {t s : Shape} {α : Type} (a : Fin t.rank) (j : t.Idx) (x : s.Idx → α) (q : (s : Shape) × (s.Idx → α))
    (xs : List ((s : Shape) × (s.Idx → α)))
    (hs : ∀ s' ∈ (⟨s, x⟩ :: q :: xs : List ((s : Shape) × (s.Idx → α))).map (·.1), s'.FitsOff t a) (c : Nat)
    (hc : c < (axisSizes t a (⟨s, x⟩ :: q :: xs)).sum) (k : s.Idx) (h1 : ∀ b : Fin s.rank, b.val = a.val) (hk : ∀ b, (k b).val = c) :
    concatenateAt t a j (⟨s, x⟩ :: q :: xs) hs c hc = x k := by
  have hlt : c < s.size (a.cast (hs s List.mem_cons_self).rank_eq.symm) := by
    rw [← hk (a.cast (hs s List.mem_cons_self).rank_eq.symm)]
    exact (k _).isLt
  rw [concatenateAt_cons, dif_pos hlt]
  congr 1
  funext b
  apply Fin.ext
  simp only [Shape.Idx.norm_def, if_pos (h1 b)]
  exact (hk b).symm

/-- A place in the only array. -/
theorem cat_one {t s : Shape} {α : Type} (a : Fin t.rank) (j : t.Idx) (x : s.Idx → α)
    (hs : ∀ s' ∈ ([⟨s, x⟩] : List ((s : Shape) × (s.Idx → α))).map (·.1), s'.FitsOff t a) (c : Nat)
    (hc : c < (axisSizes t a [⟨s, x⟩]).sum) (k : s.Idx) (h1 : ∀ b : Fin s.rank, b.val = a.val) (hk : ∀ b, (k b).val = c) :
    concatenateAt t a j [⟨s, x⟩] hs c hc = x k := by
  rw [concatenateAt_singleton]
  congr 1
  funext b
  apply Fin.ext
  simp only [Shape.Idx.norm_def, if_pos (h1 b)]
  exact (hk b).symm

end AdamStep

end
-- ==== Proof.UpdSmallPack.lean ====
/- The small weights packed into one array, and each read back out of it. -/
module

public import proofs.«01_k».proof.Proof.AdamStep
public import proofs.«01_k».proof.Proof.CastJoin
public import proofs.«01_k».proof.Proof.Gen.UpdSmallIdeal.Frame
public import Idealize.ShloMosaic.Lib.Pipeline.Value
import proofs.«01_k».proof.Proof.CatRead
import Idealize.ShloMosaic.Lib.KernelVsHost
import Idealize.ShloMosaic.Lib.Pointwise.SelectCore

@[expose] public section

set_option maxRecDepth 16384
set_option maxHeartbeats 1000000

noncomputable section

open Idealize.ShloMosaic Idealize.ShloMosaic.TcCoe Idealize.SL.Sem Idealize.ShloMosaic.Tactic

namespace Cert.UpdSmallIdeal.Value

open Cert.UpdSmallIdeal Cert.UpdSmallIdeal.Gen AdamStep

/-- The weights end to end. -/
def joined (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : Vec Ideal S53504 .f32 :=
  concatenate S53504 0 [⟨S1536, (shapeCast S1536 x0 shapeCasts_S2x3x256_S1536)⟩, ⟨S2048, (shapeCast S2048 x1 shapeCasts_S2x1024_S2048)⟩, ⟨S1280, (shapeCast S1280 x2 shapeCasts_S2x640_S1280)⟩, ⟨S2560, (shapeCast S2560 x3 shapeCasts_S2x4x320_S2560)⟩, ⟨S640, (shapeCast S640 x4 shapeCasts_S2x320_S640)⟩, ⟨S1280, (shapeCast S1280 x5 shapeCasts_S2x10x64_S1280)⟩, ⟨S640, (shapeCast S640 x6 shapeCasts_S2x320_S640)⟩, ⟨S16896, (shapeCast S16896 x7 shapeCasts_S4x3x1408_S16896)⟩, ⟨S22528, (shapeCast S22528 x8 shapeCasts_S4x5632_S22528)⟩, ⟨S2048, (shapeCast S2048 x9 shapeCasts_S4x2x256_S2048)⟩, ⟨S2048, (shapeCast S2048 x10 shapeCasts_S4x2x256_S2048)⟩] concatenates_S1536_S2048_S1280_S2560_S640_S1280_S640_S16896_S22528_S2048_S2048_S53504_d0

/-- The weights packed: end to end, the rest filled, in lines of 128. -/
def pack (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : Vec Ideal S1x448x128 .f32 :=
  broadcastInDim S1x448x128 ![1, 2] bcast_S448x128_S1x448x128_1_2 (shapeCast S448x128 (pad S57344 ![0] ![3840] ![0] (joined x0 x1 x2 x3 x4 x5 x6 x7 x8 x9 x10) (sitofp (F := Ideal) .f32 (constantI S_ 32 0#32)) pads_S53504_S57344_038400 h_S_) shapeCasts_S57344_S448x128)

/-- The packed array end to end. -/
def flat (a : Vec Ideal S1x448x128 .f32) : Vec Ideal S57344 .f32 :=
  shapeCast S57344 (shapeCast S448x128 a shapeCasts_S1x448x128_S448x128) shapeCasts_S448x128_S57344

/-- The part of the packed array that is `sc_conv_w`. -/
def cut_sc_conv_w (a : Vec Ideal S1x448x128 .f32) : Vec Ideal S2x3x256 .f32 :=
  shapeCast S2x3x256 (extractStridedSlice S1536 ![0] (flat a) slices_S57344_S1536_0) shapeCasts_S1536_S2x3x256

/-- The part of the packed array that is `sc_conv_b`. -/
def cut_sc_conv_b (a : Vec Ideal S1x448x128 .f32) : Vec Ideal S2x1024 .f32 :=
  shapeCast S2x1024 (extractStridedSlice S2048 ![1536] (flat a) slices_S57344_S2048_1536) shapeCasts_S2048_S2x1024

/-- The part of the packed array that is `lru_b_in`. -/
def cut_lru_b_in (a : Vec Ideal S1x448x128 .f32) : Vec Ideal S2x640 .f32 :=
  shapeCast S2x640 (extractStridedSlice S1280 ![3584] (flat a) slices_S57344_S1280_3584) shapeCasts_S1280_S2x640

/-- The part of the packed array that is `lru_conv_w`. -/
def cut_lru_conv_w (a : Vec Ideal S1x448x128 .f32) : Vec Ideal S2x4x320 .f32 :=
  shapeCast S2x4x320 (extractStridedSlice S2560 ![4864] (flat a) slices_S57344_S2560_4864) shapeCasts_S2560_S2x4x320

/-- The part of the packed array that is `lru_conv_b`. -/
def cut_lru_conv_b (a : Vec Ideal S1x448x128 .f32) : Vec Ideal S2x320 .f32 :=
  shapeCast S2x320 (extractStridedSlice S640 ![7424] (flat a) slices_S57344_S640_7424) shapeCasts_S640_S2x320

/-- The part of the packed array that is `lru_b_gate`. -/
def cut_lru_b_gate (a : Vec Ideal S1x448x128 .f32) : Vec Ideal S2x10x64 .f32 :=
  shapeCast S2x10x64 (extractStridedSlice S1280 ![8064] (flat a) slices_S57344_S1280_8064) shapeCasts_S1280_S2x10x64

/-- The part of the packed array that is `lru_lambda`. -/
def cut_lru_lambda (a : Vec Ideal S1x448x128 .f32) : Vec Ideal S2x320 .f32 :=
  shapeCast S2x320 (extractStridedSlice S640 ![9344] (flat a) slices_S57344_S640_9344) shapeCasts_S640_S2x320

/-- The part of the packed array that is `ffn_conv_w`. -/
def cut_ffn_conv_w (a : Vec Ideal S1x448x128 .f32) : Vec Ideal S4x3x1408 .f32 :=
  shapeCast S4x3x1408 (extractStridedSlice S16896 ![9984] (flat a) slices_S57344_S16896_9984) shapeCasts_S16896_S4x3x1408

/-- The part of the packed array that is `ffn_conv_b`. -/
def cut_ffn_conv_b (a : Vec Ideal S1x448x128 .f32) : Vec Ideal S4x5632 .f32 :=
  shapeCast S4x5632 (extractStridedSlice S22528 ![26880] (flat a) slices_S57344_S22528_26880) shapeCasts_S22528_S4x5632

/-- The part of the packed array that is `ln_g`. -/
def cut_ln_g (a : Vec Ideal S1x448x128 .f32) : Vec Ideal S4x2x256 .f32 :=
  shapeCast S4x2x256 (extractStridedSlice S2048 ![49408] (flat a) slices_S57344_S2048_49408) shapeCasts_S2048_S4x2x256

/-- The part of the packed array that is `ln_b`. -/
def cut_ln_b (a : Vec Ideal S1x448x128 .f32) : Vec Ideal S4x2x256 .f32 :=
  shapeCast S4x2x256 (extractStridedSlice S2048 ![51456] (flat a) slices_S57344_S2048_51456) shapeCasts_S2048_S4x2x256

/-- A reshape and the reshape back. -/
theorem cast_back {s t : Shape} {α : Type} (x : s.Idx → α) (h : s.ShapeCasts t) (h' : t.ShapeCasts s) : shapeCast s (shapeCast t x h) h' = x :=
  (cast_join x h h' rfl).trans (funext fun j => shapeCast_apply x _ j j rfl)

/-- The packed weights, end to end again, are the filled line. -/
theorem flat_pack (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : flat (pack x0 x1 x2 x3 x4 x5 x6 x7 x8 x9 x10) = pad S57344 ![0] ![3840] ![0] (joined x0 x1 x2 x3 x4 x5 x6 x7 x8 x9 x10) (sitofp (F := Ideal) .f32 (constantI S_ 32 0#32)) pads_S53504_S57344_038400 h_S_ := by
  unfold flat pack
  generalize pad S57344 ![0] ![3840] ![0] (joined x0 x1 x2 x3 x4 x5 x6 x7 x8 x9 x10) (sitofp (F := Ideal) .f32 (constantI S_ 32 0#32)) pads_S53504_S57344_038400 h_S_ = z
  have h : shapeCast S448x128 (broadcastInDim S1x448x128 ![1, 2] bcast_S448x128_S1x448x128_1_2 (shapeCast S448x128 z shapeCasts_S57344_S448x128)) shapeCasts_S1x448x128_S448x128 = shapeCast S448x128 z shapeCasts_S57344_S448x128 := by
    generalize shapeCast S448x128 z shapeCasts_S57344_S448x128 = y
    funext i
    have e : (S1x448x128.rowMajor (fun b => match b with | ⟨0, _⟩ => ⟨0, Nat.zero_lt_one⟩ | ⟨1, _⟩ => i 0 | ⟨2, _⟩ => i 1 : S1x448x128.Idx)).val = (S448x128.rowMajor i).val := by
      rw [Shape.rowMajor_val_three, Shape.rowMajor_val_two]
      show (0 * 448 + (i 0).val) * 128 + (i 1).val = (i 0).val * 128 + (i 1).val
      omega
    refine (shapeCast_apply _ _ _ _ e).trans ?_
    show y _ = y i
    congr 1
    funext b
    match b with
    | ⟨0, _⟩ => rfl
    | ⟨1, _⟩ => rfl
  rw [h]
  exact cast_back _ _ _

/-- `sc_conv_w` read back out of the packed weights. -/
theorem cut_pack_sc_conv_w (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_sc_conv_w (pack x0 x1 x2 x3 x4 x5 x6 x7 x8 x9 x10) = x0 := by
  unfold cut_sc_conv_w
  rw [flat_pack]
  have h : extractStridedSlice S1536 ![0] (pad S57344 ![0] ![3840] ![0] (joined x0 x1 x2 x3 x4 x5 x6 x7 x8 x9 x10) (sitofp (F := Ideal) .f32 (constantI S_ 32 0#32)) pads_S53504_S57344_038400 h_S_) slices_S57344_S1536_0 = shapeCast S1536 x0 shapeCasts_S2x3x256_S1536 := by
    funext k
    have hk : (k 0).val < 1536 := (k 0).isLt
    refine (extractStridedSlice_apply _ _ _ _ (fun b => match b with | ⟨0, _⟩ => ⟨0 + (k 0).val, by show 0 + (k 0).val < 57344; omega⟩ : S57344.Idx) (fun b => by match b with | ⟨0, _⟩ => rfl)).trans ?_
    refine (pad_apply_of_inside _ _ _ _ _ _ _ _ (fun b => match b with | ⟨0, _⟩ => ⟨0 + (k 0).val, by show 0 + (k 0).val < 53504; omega⟩ : S53504.Idx) (fun b => by match b with | ⟨0, _⟩ => show 0 + (k 0).val = 0 + (0 + (k 0).val) * (0 + 1); omega)).trans ?_
    unfold joined
    refine (concatenate_apply _ _ _ _ _).trans ?_
    show concatenateAt _ _ _ _ _ (0 + (k 0).val) _ = _
    exact cat_take _ _ _ _ _ _ _ _ k (fun b => by match b with | ⟨0, _⟩ => rfl) (fun b => by match b with | ⟨0, _⟩ => show (k 0).val = _; omega)
  rw [h]
  exact cast_back _ _ _

/-- `sc_conv_b` read back out of the packed weights. -/
theorem cut_pack_sc_conv_b (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_sc_conv_b (pack x0 x1 x2 x3 x4 x5 x6 x7 x8 x9 x10) = x1 := by
  unfold cut_sc_conv_b
  rw [flat_pack]
  have h : extractStridedSlice S2048 ![1536] (pad S57344 ![0] ![3840] ![0] (joined x0 x1 x2 x3 x4 x5 x6 x7 x8 x9 x10) (sitofp (F := Ideal) .f32 (constantI S_ 32 0#32)) pads_S53504_S57344_038400 h_S_) slices_S57344_S2048_1536 = shapeCast S2048 x1 shapeCasts_S2x1024_S2048 := by
    funext k
    have hk : (k 0).val < 2048 := (k 0).isLt
    refine (extractStridedSlice_apply _ _ _ _ (fun b => match b with | ⟨0, _⟩ => ⟨1536 + (k 0).val, by show 1536 + (k 0).val < 57344; omega⟩ : S57344.Idx) (fun b => by match b with | ⟨0, _⟩ => rfl)).trans ?_
    refine (pad_apply_of_inside _ _ _ _ _ _ _ _ (fun b => match b with | ⟨0, _⟩ => ⟨1536 + (k 0).val, by show 1536 + (k 0).val < 53504; omega⟩ : S53504.Idx) (fun b => by match b with | ⟨0, _⟩ => show 1536 + (k 0).val = 0 + (1536 + (k 0).val) * (0 + 1); omega)).trans ?_
    unfold joined
    refine (concatenate_apply _ _ _ _ _).trans ?_
    show concatenateAt _ _ _ _ _ (1536 + (k 0).val) _ = _
    refine cat_skip 1536 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `lru_b_in` read back out of the packed weights. -/
theorem cut_pack_lru_b_in (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_lru_b_in (pack x0 x1 x2 x3 x4 x5 x6 x7 x8 x9 x10) = x2 := by
  unfold cut_lru_b_in
  rw [flat_pack]
  have h : extractStridedSlice S1280 ![3584] (pad S57344 ![0] ![3840] ![0] (joined x0 x1 x2 x3 x4 x5 x6 x7 x8 x9 x10) (sitofp (F := Ideal) .f32 (constantI S_ 32 0#32)) pads_S53504_S57344_038400 h_S_) slices_S57344_S1280_3584 = shapeCast S1280 x2 shapeCasts_S2x640_S1280 := by
    funext k
    have hk : (k 0).val < 1280 := (k 0).isLt
    refine (extractStridedSlice_apply _ _ _ _ (fun b => match b with | ⟨0, _⟩ => ⟨3584 + (k 0).val, by show 3584 + (k 0).val < 57344; omega⟩ : S57344.Idx) (fun b => by match b with | ⟨0, _⟩ => rfl)).trans ?_
    refine (pad_apply_of_inside _ _ _ _ _ _ _ _ (fun b => match b with | ⟨0, _⟩ => ⟨3584 + (k 0).val, by show 3584 + (k 0).val < 53504; omega⟩ : S53504.Idx) (fun b => by match b with | ⟨0, _⟩ => show 3584 + (k 0).val = 0 + (3584 + (k 0).val) * (0 + 1); omega)).trans ?_
    unfold joined
    refine (concatenate_apply _ _ _ _ _).trans ?_
    show concatenateAt _ _ _ _ _ (3584 + (k 0).val) _ = _
    refine cat_skip 1536 rfl (by omega) (fun _ _ => ?_)
    refine cat_skip 2048 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `lru_conv_w` read back out of the packed weights. -/
theorem cut_pack_lru_conv_w (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_lru_conv_w (pack x0 x1 x2 x3 x4 x5 x6 x7 x8 x9 x10) = x3 := by
  unfold cut_lru_conv_w
  rw [flat_pack]
  have h : extractStridedSlice S2560 ![4864] (pad S57344 ![0] ![3840] ![0] (joined x0 x1 x2 x3 x4 x5 x6 x7 x8 x9 x10) (sitofp (F := Ideal) .f32 (constantI S_ 32 0#32)) pads_S53504_S57344_038400 h_S_) slices_S57344_S2560_4864 = shapeCast S2560 x3 shapeCasts_S2x4x320_S2560 := by
    funext k
    have hk : (k 0).val < 2560 := (k 0).isLt
    refine (extractStridedSlice_apply _ _ _ _ (fun b => match b with | ⟨0, _⟩ => ⟨4864 + (k 0).val, by show 4864 + (k 0).val < 57344; omega⟩ : S57344.Idx) (fun b => by match b with | ⟨0, _⟩ => rfl)).trans ?_
    refine (pad_apply_of_inside _ _ _ _ _ _ _ _ (fun b => match b with | ⟨0, _⟩ => ⟨4864 + (k 0).val, by show 4864 + (k 0).val < 53504; omega⟩ : S53504.Idx) (fun b => by match b with | ⟨0, _⟩ => show 4864 + (k 0).val = 0 + (4864 + (k 0).val) * (0 + 1); omega)).trans ?_
    unfold joined
    refine (concatenate_apply _ _ _ _ _).trans ?_
    show concatenateAt _ _ _ _ _ (4864 + (k 0).val) _ = _
    refine cat_skip 1536 rfl (by omega) (fun _ _ => ?_)
    refine cat_skip 2048 rfl (by omega) (fun _ _ => ?_)
    refine cat_skip 1280 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `lru_conv_b` read back out of the packed weights. -/
theorem cut_pack_lru_conv_b (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_lru_conv_b (pack x0 x1 x2 x3 x4 x5 x6 x7 x8 x9 x10) = x4 := by
  unfold cut_lru_conv_b
  rw [flat_pack]
  have h : extractStridedSlice S640 ![7424] (pad S57344 ![0] ![3840] ![0] (joined x0 x1 x2 x3 x4 x5 x6 x7 x8 x9 x10) (sitofp (F := Ideal) .f32 (constantI S_ 32 0#32)) pads_S53504_S57344_038400 h_S_) slices_S57344_S640_7424 = shapeCast S640 x4 shapeCasts_S2x320_S640 := by
    funext k
    have hk : (k 0).val < 640 := (k 0).isLt
    refine (extractStridedSlice_apply _ _ _ _ (fun b => match b with | ⟨0, _⟩ => ⟨7424 + (k 0).val, by show 7424 + (k 0).val < 57344; omega⟩ : S57344.Idx) (fun b => by match b with | ⟨0, _⟩ => rfl)).trans ?_
    refine (pad_apply_of_inside _ _ _ _ _ _ _ _ (fun b => match b with | ⟨0, _⟩ => ⟨7424 + (k 0).val, by show 7424 + (k 0).val < 53504; omega⟩ : S53504.Idx) (fun b => by match b with | ⟨0, _⟩ => show 7424 + (k 0).val = 0 + (7424 + (k 0).val) * (0 + 1); omega)).trans ?_
    unfold joined
    refine (concatenate_apply _ _ _ _ _).trans ?_
    show concatenateAt _ _ _ _ _ (7424 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `lru_b_gate` read back out of the packed weights. -/
theorem cut_pack_lru_b_gate (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_lru_b_gate (pack x0 x1 x2 x3 x4 x5 x6 x7 x8 x9 x10) = x5 := by
  unfold cut_lru_b_gate
  rw [flat_pack]
  have h : extractStridedSlice S1280 ![8064] (pad S57344 ![0] ![3840] ![0] (joined x0 x1 x2 x3 x4 x5 x6 x7 x8 x9 x10) (sitofp (F := Ideal) .f32 (constantI S_ 32 0#32)) pads_S53504_S57344_038400 h_S_) slices_S57344_S1280_8064 = shapeCast S1280 x5 shapeCasts_S2x10x64_S1280 := by
    funext k
    have hk : (k 0).val < 1280 := (k 0).isLt
    refine (extractStridedSlice_apply _ _ _ _ (fun b => match b with | ⟨0, _⟩ => ⟨8064 + (k 0).val, by show 8064 + (k 0).val < 57344; omega⟩ : S57344.Idx) (fun b => by match b with | ⟨0, _⟩ => rfl)).trans ?_
    refine (pad_apply_of_inside _ _ _ _ _ _ _ _ (fun b => match b with | ⟨0, _⟩ => ⟨8064 + (k 0).val, by show 8064 + (k 0).val < 53504; omega⟩ : S53504.Idx) (fun b => by match b with | ⟨0, _⟩ => show 8064 + (k 0).val = 0 + (8064 + (k 0).val) * (0 + 1); omega)).trans ?_
    unfold joined
    refine (concatenate_apply _ _ _ _ _).trans ?_
    show concatenateAt _ _ _ _ _ (8064 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `lru_lambda` read back out of the packed weights. -/
theorem cut_pack_lru_lambda (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_lru_lambda (pack x0 x1 x2 x3 x4 x5 x6 x7 x8 x9 x10) = x6 := by
  unfold cut_lru_lambda
  rw [flat_pack]
  have h : extractStridedSlice S640 ![9344] (pad S57344 ![0] ![3840] ![0] (joined x0 x1 x2 x3 x4 x5 x6 x7 x8 x9 x10) (sitofp (F := Ideal) .f32 (constantI S_ 32 0#32)) pads_S53504_S57344_038400 h_S_) slices_S57344_S640_9344 = shapeCast S640 x6 shapeCasts_S2x320_S640 := by
    funext k
    have hk : (k 0).val < 640 := (k 0).isLt
    refine (extractStridedSlice_apply _ _ _ _ (fun b => match b with | ⟨0, _⟩ => ⟨9344 + (k 0).val, by show 9344 + (k 0).val < 57344; omega⟩ : S57344.Idx) (fun b => by match b with | ⟨0, _⟩ => rfl)).trans ?_
    refine (pad_apply_of_inside _ _ _ _ _ _ _ _ (fun b => match b with | ⟨0, _⟩ => ⟨9344 + (k 0).val, by show 9344 + (k 0).val < 53504; omega⟩ : S53504.Idx) (fun b => by match b with | ⟨0, _⟩ => show 9344 + (k 0).val = 0 + (9344 + (k 0).val) * (0 + 1); omega)).trans ?_
    unfold joined
    refine (concatenate_apply _ _ _ _ _).trans ?_
    show concatenateAt _ _ _ _ _ (9344 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    refine cat_skip 1280 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `ffn_conv_w` read back out of the packed weights. -/
theorem cut_pack_ffn_conv_w (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_ffn_conv_w (pack x0 x1 x2 x3 x4 x5 x6 x7 x8 x9 x10) = x7 := by
  unfold cut_ffn_conv_w
  rw [flat_pack]
  have h : extractStridedSlice S16896 ![9984] (pad S57344 ![0] ![3840] ![0] (joined x0 x1 x2 x3 x4 x5 x6 x7 x8 x9 x10) (sitofp (F := Ideal) .f32 (constantI S_ 32 0#32)) pads_S53504_S57344_038400 h_S_) slices_S57344_S16896_9984 = shapeCast S16896 x7 shapeCasts_S4x3x1408_S16896 := by
    funext k
    have hk : (k 0).val < 16896 := (k 0).isLt
    refine (extractStridedSlice_apply _ _ _ _ (fun b => match b with | ⟨0, _⟩ => ⟨9984 + (k 0).val, by show 9984 + (k 0).val < 57344; omega⟩ : S57344.Idx) (fun b => by match b with | ⟨0, _⟩ => rfl)).trans ?_
    refine (pad_apply_of_inside _ _ _ _ _ _ _ _ (fun b => match b with | ⟨0, _⟩ => ⟨9984 + (k 0).val, by show 9984 + (k 0).val < 53504; omega⟩ : S53504.Idx) (fun b => by match b with | ⟨0, _⟩ => show 9984 + (k 0).val = 0 + (9984 + (k 0).val) * (0 + 1); omega)).trans ?_
    unfold joined
    refine (concatenate_apply _ _ _ _ _).trans ?_
    show concatenateAt _ _ _ _ _ (9984 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    refine cat_skip 1280 rfl (by omega) (fun _ _ => ?_)
    refine cat_skip 640 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `ffn_conv_b` read back out of the packed weights. -/
theorem cut_pack_ffn_conv_b (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_ffn_conv_b (pack x0 x1 x2 x3 x4 x5 x6 x7 x8 x9 x10) = x8 := by
  unfold cut_ffn_conv_b
  rw [flat_pack]
  have h : extractStridedSlice S22528 ![26880] (pad S57344 ![0] ![3840] ![0] (joined x0 x1 x2 x3 x4 x5 x6 x7 x8 x9 x10) (sitofp (F := Ideal) .f32 (constantI S_ 32 0#32)) pads_S53504_S57344_038400 h_S_) slices_S57344_S22528_26880 = shapeCast S22528 x8 shapeCasts_S4x5632_S22528 := by
    funext k
    have hk : (k 0).val < 22528 := (k 0).isLt
    refine (extractStridedSlice_apply _ _ _ _ (fun b => match b with | ⟨0, _⟩ => ⟨26880 + (k 0).val, by show 26880 + (k 0).val < 57344; omega⟩ : S57344.Idx) (fun b => by match b with | ⟨0, _⟩ => rfl)).trans ?_
    refine (pad_apply_of_inside _ _ _ _ _ _ _ _ (fun b => match b with | ⟨0, _⟩ => ⟨26880 + (k 0).val, by show 26880 + (k 0).val < 53504; omega⟩ : S53504.Idx) (fun b => by match b with | ⟨0, _⟩ => show 26880 + (k 0).val = 0 + (26880 + (k 0).val) * (0 + 1); omega)).trans ?_
    unfold joined
    refine (concatenate_apply _ _ _ _ _).trans ?_
    show concatenateAt _ _ _ _ _ (26880 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    refine cat_skip 1280 rfl (by omega) (fun _ _ => ?_)
    refine cat_skip 640 rfl (by omega) (fun _ _ => ?_)
    refine cat_skip 16896 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `ln_g` read back out of the packed weights. -/
theorem cut_pack_ln_g (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_ln_g (pack x0 x1 x2 x3 x4 x5 x6 x7 x8 x9 x10) = x9 := by
  unfold cut_ln_g
  rw [flat_pack]
  have h : extractStridedSlice S2048 ![49408] (pad S57344 ![0] ![3840] ![0] (joined x0 x1 x2 x3 x4 x5 x6 x7 x8 x9 x10) (sitofp (F := Ideal) .f32 (constantI S_ 32 0#32)) pads_S53504_S57344_038400 h_S_) slices_S57344_S2048_49408 = shapeCast S2048 x9 shapeCasts_S4x2x256_S2048 := by
    funext k
    have hk : (k 0).val < 2048 := (k 0).isLt
    refine (extractStridedSlice_apply _ _ _ _ (fun b => match b with | ⟨0, _⟩ => ⟨49408 + (k 0).val, by show 49408 + (k 0).val < 57344; omega⟩ : S57344.Idx) (fun b => by match b with | ⟨0, _⟩ => rfl)).trans ?_
    refine (pad_apply_of_inside _ _ _ _ _ _ _ _ (fun b => match b with | ⟨0, _⟩ => ⟨49408 + (k 0).val, by show 49408 + (k 0).val < 53504; omega⟩ : S53504.Idx) (fun b => by match b with | ⟨0, _⟩ => show 49408 + (k 0).val = 0 + (49408 + (k 0).val) * (0 + 1); omega)).trans ?_
    unfold joined
    refine (concatenate_apply _ _ _ _ _).trans ?_
    show concatenateAt _ _ _ _ _ (49408 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    refine cat_skip 1280 rfl (by omega) (fun _ _ => ?_)
    refine cat_skip 640 rfl (by omega) (fun _ _ => ?_)
    refine cat_skip 16896 rfl (by omega) (fun _ _ => ?_)
    refine cat_skip 22528 rfl (by omega) (fun _ _ => ?_)
    exact cat_take _ _ _ _ _ _ _ _ k (fun b => by match b with | ⟨0, _⟩ => rfl) (fun b => by match b with | ⟨0, _⟩ => show (k 0).val = _; omega)
  rw [h]
  exact cast_back _ _ _

/-- `ln_b` read back out of the packed weights. -/
theorem cut_pack_ln_b (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32) : cut_ln_b (pack x0 x1 x2 x3 x4 x5 x6 x7 x8 x9 x10) = x10 := by
  unfold cut_ln_b
  rw [flat_pack]
  have h : extractStridedSlice S2048 ![51456] (pad S57344 ![0] ![3840] ![0] (joined x0 x1 x2 x3 x4 x5 x6 x7 x8 x9 x10) (sitofp (F := Ideal) .f32 (constantI S_ 32 0#32)) pads_S53504_S57344_038400 h_S_) slices_S57344_S2048_51456 = shapeCast S2048 x10 shapeCasts_S4x2x256_S2048 := by
    funext k
    have hk : (k 0).val < 2048 := (k 0).isLt
    refine (extractStridedSlice_apply _ _ _ _ (fun b => match b with | ⟨0, _⟩ => ⟨51456 + (k 0).val, by show 51456 + (k 0).val < 57344; omega⟩ : S57344.Idx) (fun b => by match b with | ⟨0, _⟩ => rfl)).trans ?_
    refine (pad_apply_of_inside _ _ _ _ _ _ _ _ (fun b => match b with | ⟨0, _⟩ => ⟨51456 + (k 0).val, by show 51456 + (k 0).val < 53504; omega⟩ : S53504.Idx) (fun b => by match b with | ⟨0, _⟩ => show 51456 + (k 0).val = 0 + (51456 + (k 0).val) * (0 + 1); omega)).trans ?_
    unfold joined
    refine (concatenate_apply _ _ _ _ _).trans ?_
    show concatenateAt _ _ _ _ _ (51456 + (k 0).val) _ = _
    refine cat_skip 1536 rfl (by omega) (fun _ _ => ?_)
    refine cat_skip 2048 rfl (by omega) (fun _ _ => ?_)
    refine cat_skip 1280 rfl (by omega) (fun _ _ => ?_)
    refine cat_skip 2560 rfl (by omega) (fun _ _ => ?_)
    refine cat_skip 640 rfl (by omega) (fun _ _ => ?_)
    refine cat_skip 1280 rfl (by omega) (fun _ _ => ?_)
    refine cat_skip 640 rfl (by omega) (fun _ _ => ?_)
    refine cat_skip 16896 rfl (by omega) (fun _ _ => ?_)
    refine cat_skip 22528 rfl (by omega) (fun _ _ => ?_)
    refine cat_skip 2048 rfl (by omega) (fun _ _ => ?_)
    exact cat_one _ _ _ _ _ _ k (fun b => by match b with | ⟨0, _⟩ => rfl) (fun b => by match b with | ⟨0, _⟩ => show (k 0).val = _; omega)
  rw [h]
  exact cast_back _ _ _

end Cert.UpdSmallIdeal.Value

end
-- ==== Proof.UpdSmallHost.lean ====
/- What the packing leaves: the three packed arrays, in halves of rows. -/
module

public import proofs.«01_k».proof.Proof.UpdSmallPack
public import proofs.«01_k».proof.Proof.Gen.UpdSmallIdeal.Frame
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.Tactic

namespace Cert.UpdSmallIdeal.Value

open Cert.UpdSmallIdeal Cert.UpdSmallIdeal.Gen AdamStep

variable (m : (ℓ : Loc nD τ sig) → Buf (Elt Ideal) ℓ)

/-- The weights, packed. -/
def packW (c : Dev nD) : Vec Ideal S1x448x128 .f32 :=
  pack (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The weights, packed, in halves of rows. -/
theorem host_packW (c : Dev nD) : (StableHlo.after (List.flatten [hostOps0, hostOps0_1, hostOps0_2, hostOps0_3, hostOps0_4, hostOps0_5, hostOps0_6]) (fun b => m (c, b)) (Proc.tc.devRef main_v45) : S1x2x224x128.Idx → EReal)
    = shapeCast S1x2x224x128 (packW m c) shapeCasts_S1x448x128_S1x2x224x128 := by
  simp only [List.flatten_cons, List.flatten_nil, List.append_nil, List.cons_append, List.nil_append]
  after_results
  rfl

/-- The first moments, packed. -/
def packM (c : Dev nD) : Vec Ideal S1x448x128 .f32 :=
  pack (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

/-- The first moments, packed, in halves of rows. -/
theorem host_packM (c : Dev nD) : (StableHlo.after (List.flatten [hostOps0, hostOps0_1, hostOps0_2, hostOps0_3, hostOps0_4, hostOps0_5, hostOps0_6]) (fun b => m (c, b)) (Proc.tc.devRef main_v46) : S1x2x224x128.Idx → EReal)
    = shapeCast S1x2x224x128 (packM m c) shapeCasts_S1x448x128_S1x2x224x128 := by
  simp only [List.flatten_cons, List.flatten_nil, List.append_nil, List.cons_append, List.nil_append]
  after_results
  rfl

/-- The second moments, packed. -/
def packV (c : Dev nD) : Vec Ideal S1x448x128 .f32 :=
  pack (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))

/-- The second moments, packed, in halves of rows. -/
theorem host_packV (c : Dev nD) : (StableHlo.after (List.flatten [hostOps0, hostOps0_1, hostOps0_2, hostOps0_3, hostOps0_4, hostOps0_5, hostOps0_6]) (fun b => m (c, b)) (Proc.tc.devRef main_v47) : S1x2x224x128.Idx → EReal)
    = shapeCast S1x2x224x128 (packV m c) shapeCasts_S1x448x128_S1x2x224x128 := by
  simp only [List.flatten_cons, List.flatten_nil, List.append_nil, List.cons_append, List.nil_append]
  after_results
  rfl

end Cert.UpdSmallIdeal.Value

end
-- ==== Proof.UpdSmallRun.lean ====
/- The small weights, packed in one array, and cut out of it after the step: the kernel's gradient, step and moments, at every weight. -/
module

public import proofs.«01_k».proof.Proof.AdamStep
public import proofs.«01_k».proof.Proof.UpdSmallHost
public import proofs.«01_k».proof.Proof.Gen.UpdSmallIdeal.Frame
public import Idealize.ShloMosaic.Lib.Pipeline.Value
public import Idealize.ShloMosaic.Lib.WholeRead
public import Idealize.ShloMosaic.Lib.Tactic.RunNames

@[expose] public section

set_option maxRecDepth 16384
set_option maxHeartbeats 1000000

noncomputable section

open Idealize.ShloMosaic Idealize.ShloMosaic.TcCoe Idealize.SL.Sem Idealize.ShloMosaic.ValueIdx Idealize.ShloMosaic.Tactic

namespace Cert.UpdSmallIdeal.Value

open Cert.UpdSmallIdeal Cert.UpdSmallIdeal.Gen AdamStep Products

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Tile

variable (i : grid0.Coords) (v0 : BitVec 32) (g1 g2 : Vec Ideal S1x224x128 .f32) (w mm vv : Vec Ideal S1x1x224x128 .f32) (p : Fin 224) (q : Fin 128)

/-- The gradient of the tile. -/
theorem pay4_at : k0_pay4 (F := Ideal) i v0 g1 g2 (ix2 p q) = grad v0 (i 1).val (g1 (ix3 0 p q)) (g2 (ix3 0 p q)) := by
  unfold k0_pay4 grad
  dsimp only
  generalize hc : Scalar.cmpi .eq (BitVec.ofNat 32 (i 1).val) v0 = cc
  unfold Scalar.select
  split
  · exact dropUnit_apply (A := 224) (B := 128) (e := .f32) g1 _ p q
  · exact dropUnit_apply (A := 224) (B := 128) (e := .f32) g2 _ p q

/-- The first moment of the tile. -/
theorem pay5_at : k0_pay5 (F := Ideal) i v0 g1 g2 mm (ix2 p q) = mom1 (grad v0 (i 1).val (g1 (ix3 0 p q)) (g2 (ix3 0 p q))) (mm (ix4 0 0 p q)) := by
  rw [← pay4_at, ← dropUnits_apply (A := 224) (B := 128) (e := .f32) mm shapeCasts_S1x1x224x128_S224x128 p q]
  rfl

/-- The second moment of the tile. -/
theorem pay6_at : k0_pay6 (F := Ideal) i v0 g1 g2 vv (ix2 p q) = mom2 (grad v0 (i 1).val (g1 (ix3 0 p q)) (g2 (ix3 0 p q))) (vv (ix4 0 0 p q)) := by
  rw [← pay4_at, ← dropUnits_apply (A := 224) (B := 128) (e := .f32) vv shapeCasts_S1x1x224x128_S224x128 p q]
  rfl

/-- The stored gradient. -/
theorem pay8_at : k0_pay8 (F := Ideal) i v0 g1 g2 (ix4 0 0 p q) = grad v0 (i 1).val (g1 (ix3 0 p q)) (g2 (ix3 0 p q)) :=
  (addUnits_apply (A := 224) (B := 128) (e := .f32) (k0_pay4 (F := Ideal) i v0 g1 g2) _ p q).trans (pay4_at i v0 g1 g2 p q)

/-- The stored first moment. -/
theorem pay2_at : k0_pay2 (F := Ideal) (k0_pay5 (F := Ideal) i v0 g1 g2 mm) (ix4 0 0 p q) = mom1 (grad v0 (i 1).val (g1 (ix3 0 p q)) (g2 (ix3 0 p q))) (mm (ix4 0 0 p q)) :=
  (addUnits_apply (A := 224) (B := 128) (e := .f32) (k0_pay5 (F := Ideal) i v0 g1 g2 mm) _ p q).trans (pay5_at i v0 g1 g2 mm p q)

/-- The stored second moment. -/
theorem pay3_at : k0_pay3 (F := Ideal) (k0_pay6 (F := Ideal) i v0 g1 g2 vv) (ix4 0 0 p q) = mom2 (grad v0 (i 1).val (g1 (ix3 0 p q)) (g2 (ix3 0 p q))) (vv (ix4 0 0 p q)) :=
  (addUnits_apply (A := 224) (B := 128) (e := .f32) (k0_pay6 (F := Ideal) i v0 g1 g2 vv) _ p q).trans (pay6_at i v0 g1 g2 vv p q)

/-- The stored step. -/
theorem pay1_at : k0_pay1 (F := Ideal) (k0_pay7 (F := Ideal) i v0 g1 g2 mm) (k0_pay9 (F := Ideal) i v0 g1 g2 vv) (Scalar.ofBits .f32 0x322BCC77#32) w (ix4 0 0 p q)
    = delta (grad v0 (i 1).val (g1 (ix3 0 p q)) (g2 (ix3 0 p q))) (w (ix4 0 0 p q)) (mm (ix4 0 0 p q)) (vv (ix4 0 0 p q)) := by
  unfold k0_pay1
  refine (addUnits_apply (A := 224) (B := 128) (e := .f32) _ _ p q).trans ?_
  unfold delta
  rw [← pay5_at, ← pay6_at, ← dropUnits_apply (A := 224) (B := 128) (e := .f32) w shapeCasts_S1x1x224x128_S224x128 p q]
  rfl

end Tile

variable (m : (ℓ : Loc nD τ sig) → Buf (Elt Ideal) ℓ) (ρ : Dev nD → PrngReg)

/-- The index maps read no table, so every table will do. -/
theorem okm : Ok m := trivial

/-- The number of the core the run is given. -/
def coreOf (m : (ℓ : Loc nD τ sig) → Buf (Elt Ideal) ℓ) : BitVec 32 := (m (((0 : Dev nD).tc : Thread nD τ).loc main_arg0) : S1.Idx → BitVec 32) (ix1 0)

/-- The word the body reads first is the core's number. -/
theorem core_eq (c : Dev nD) : kernelRun0_A.sl.r (F := Ideal) c (tbl m 0) = coreOf m := by
  unfold kernelRun0_A.sl.r coreOf
  show (V m 0 main_arg0 : S1.Idx → BitVec 32) _ = _
  rw [V_main_arg0]
  congr 1
  funext b; apply Fin.ext
  match b with
  | ⟨0, _⟩ => rfl

section Body

variable (c : Dev nD) (i : grid0.Coords) (arg4 : Memref sig .tc .vmem S1x1x224x128 .f32) (harg4 : arg4.IsWhole) (arg5 : Memref sig .tc .vmem S1x224x128 .f32) (harg5 : arg5.IsWhole) (arg6 : Memref sig .tc .vmem S1x224x128 .f32) (harg6 : arg6.IsWhole) (arg7 : Memref sig .tc .vmem S1x1x224x128 .f32) (harg7 : arg7.IsWhole) (arg8 : Memref sig .tc .vmem S1x1x224x128 .f32) (harg8 : arg8.IsWhole) (arg9 : Memref sig .tc .vmem S1x1x224x128 .f32) (harg9 : arg9.IsWhole) (arg10 : Memref sig .tc .vmem S1x1x224x128 .f32) (harg10 : arg10.IsWhole) (arg11 : Memref sig .tc .vmem S1x1x224x128 .f32) (harg11 : arg11.IsWhole) (arg12 : Memref sig .tc .vmem S1x1x224x128 .f32) (harg12 : arg12.IsWhole)
  (x0 : Vec Ideal S1x1x224x128 .f32) (x1 : Vec Ideal S1x224x128 .f32) (x2 : Vec Ideal S1x224x128 .f32) (x3 : Vec Ideal S1x1x224x128 .f32) (x4 : Vec Ideal S1x1x224x128 .f32)

/-- What the body leaves for the gradient. -/
theorem body5 : out0_A_5 (F := Ideal) c i arg4 harg4 arg5 harg5 arg6 harg6 arg7 harg7 arg8 harg8 arg9 harg9 arg10 harg10 arg11 harg11 arg12 harg12 x0 x1 x2 x3 x4 (tbl m 0) = k0_pay8 (F := Ideal) i (coreOf m) x1 x2 := by
  unfold out0_A_5
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the step. -/
theorem body6 : out0_A_6 (F := Ideal) c i arg4 harg4 arg5 harg5 arg6 harg6 arg7 harg7 arg8 harg8 arg9 harg9 arg10 harg10 arg11 harg11 arg12 harg12 x0 x1 x2 x3 x4 (tbl m 0) = k0_pay1 (F := Ideal) (k0_pay7 (F := Ideal) i (coreOf m) x1 x2 x3) (k0_pay9 (F := Ideal) i (coreOf m) x1 x2 x4) (Scalar.ofBits .f32 0x322BCC77#32) x0 := by
  unfold out0_A_6
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the first moment. -/
theorem body7 : out0_A_7 (F := Ideal) c i arg4 harg4 arg5 harg5 arg6 harg6 arg7 harg7 arg8 harg8 arg9 harg9 arg10 harg10 arg11 harg11 arg12 harg12 x0 x1 x2 x3 x4 (tbl m 0) = k0_pay2 (F := Ideal) (k0_pay5 (F := Ideal) i (coreOf m) x1 x2 x3) := by
  unfold out0_A_7
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

/-- What the body leaves for the second moment. -/
theorem body8 : out0_A_8 (F := Ideal) c i arg4 harg4 arg5 harg5 arg6 harg6 arg7 harg7 arg8 harg8 arg9 harg9 arg10 harg10 arg11 harg11 arg12 harg12 x0 x1 x2 x3 x4 (tbl m 0) = k0_pay3 (F := Ideal) (k0_pay6 (F := Ideal) i (coreOf m) x1 x2 x4) := by
  unfold out0_A_8
  rw [View.read_writes_junk_eq_canon]
  unfold kernelRun0_A
  dsimp only
  rw [View.canon_unit_zero (S := S1x1x224x128) hz4]
  have hc := core_eq m c
  unfold kernelRun0_A.sl.r at hc
  sl_unfold_run_values
  simp only [readAt_zero (S := S1x224x128) hz3, readAt_zero (S := S1x1x224x128) hz4, hc]

end Body

attribute [local irreducible] out0_A_5 out0_A_6 out0_A_7 out0_A_8 coreOf

/-- What a point hands out for the gradient. -/
theorem out5_eq (c : Dev nD) (t : Fin (cfgM m (okm m)).N) :
    (outsAt0 m (okm m) c t).1 = k0_pay8 (F := Ideal) (grid0.coords t) (coreOf m) (iblk m (okm m) c 1 t) (iblk m (okm m) c 2 t) := by
  unfold outsAt0
  exact body5 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the step. -/
theorem out6_eq (c : Dev nD) (t : Fin (cfgM m (okm m)).N) :
    (outsAt0 m (okm m) c t).2.1 = k0_pay1 (F := Ideal) (k0_pay7 (F := Ideal) (grid0.coords t) (coreOf m) (iblk m (okm m) c 1 t) (iblk m (okm m) c 2 t) (iblk m (okm m) c 3 t)) (k0_pay9 (F := Ideal) (grid0.coords t) (coreOf m) (iblk m (okm m) c 1 t) (iblk m (okm m) c 2 t) (iblk m (okm m) c 4 t)) (Scalar.ofBits .f32 0x322BCC77#32) (iblk m (okm m) c 0 t) := by
  unfold outsAt0
  exact body6 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the first moment. -/
theorem out7_eq (c : Dev nD) (t : Fin (cfgM m (okm m)).N) :
    (outsAt0 m (okm m) c t).2.2.1 = k0_pay2 (F := Ideal) (k0_pay5 (F := Ideal) (grid0.coords t) (coreOf m) (iblk m (okm m) c 1 t) (iblk m (okm m) c 2 t) (iblk m (okm m) c 3 t)) := by
  unfold outsAt0
  exact body7 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

/-- What a point hands out for the second moment. -/
theorem out8_eq (c : Dev nD) (t : Fin (cfgM m (okm m)).N) :
    (outsAt0 m (okm m) c t).2.2.2 = k0_pay3 (F := Ideal) (k0_pay6 (F := Ideal) (grid0.coords t) (coreOf m) (iblk m (okm m) c 1 t) (iblk m (okm m) c 2 t) (iblk m (okm m) c 4 t)) := by
  unfold outsAt0
  exact body8 m c (grid0.coords t) (ms0_0 m (okm m) t) (hs0_0 m (okm m) t) (ms0_1 m (okm m) t) (hs0_1 m (okm m) t) (ms0_2 m (okm m) t) (hs0_2 m (okm m) t) (ms0_3 m (okm m) t) (hs0_3 m (okm m) t) (ms0_4 m (okm m) t) (hs0_4 m (okm m) t) (ms0_5 m (okm m) t) (hs0_5 m (okm m) t) (ms0_6 m (okm m) t) (hs0_6 m (okm m) t) (ms0_7 m (okm m) t) (hs0_7 m (okm m) t) (ms0_8 m (okm m) t) (hs0_8 m (okm m) t) (iblk m (okm m) c 0 t) (iblk m (okm m) c 1 t) (iblk m (okm m) c 2 t) (iblk m (okm m) c 3 t) (iblk m (okm m) c 4 t)

theorem ltN (t : Fin grid0.N) : t.val < 2 := lt_of_lt_of_eq t.isLt N_0
theorem half_eq : ∀ t : Fin grid0.N, (grid0.coords t 1).val = t.val / 1 % 2 := by decide +kernel
theorem ixH : ∀ t : Fin grid0.N, cc0_transform_0 (grid0.coords t) 0 = t.val / 2 ∧ cc0_transform_0 (grid0.coords t) 1 = t.val / 1 % 2 ∧ cc0_transform_0 (grid0.coords t) 2 = t.val % 1 ∧ cc0_transform_0 (grid0.coords t) 3 = 0 := by decide +kernel
theorem ixG : ∀ t : Fin grid0.N, cc0_transform_1 (grid0.coords t) 0 = t.val / 2 ∧ cc0_transform_1 (grid0.coords t) 1 = t.val % 1 ∧ cc0_transform_1 (grid0.coords t) 2 = 0 := by decide +kernel

/-- The core's own half of the summed gradient, a tile of it. -/
theorem blk1 (c : Dev nD) (t : Fin grid0.N) (p : Fin 224) (q : Fin 128) :
    iblk m (okm m) c 1 t (ix3 0 p q) = at3 (A := 1) (B := 224) (C := 128) (m ((c.tc : Thread nD τ).loc main_arg1)) (t.val / 2) (t.val % 1 * 224 + p.val) q.val := by
  have ht := ltN t; have hp := p.isLt; have hq := q.isLt
  unfold iblk
  refine (View.read_apply _ _).trans ?_
  show (V m c main_arg1 : S1x224x128.Idx → EReal) _ = (m ((c.tc : Thread nD τ).loc main_arg1) : S1x224x128.Idx → EReal) _
  rw [V_main_arg1]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 224 + 1 * p.val = (t.val % 1 * 224 + p.val) % 224; rw [(ixG t).2.1]; omega
  | ⟨2, _⟩ => show cc0_transform_1 (grid0.coords t) 2 * 128 + 1 * q.val = q.val % 128; rw [(ixG t).2.2]; omega

/-- The sibling's half of the summed gradient, a tile of it. -/
theorem blk2 (c : Dev nD) (t : Fin grid0.N) (p : Fin 224) (q : Fin 128) :
    iblk m (okm m) c 2 t (ix3 0 p q) = at3 (A := 1) (B := 224) (C := 128) (m ((c.tc : Thread nD τ).loc main_arg2)) (t.val / 2) (t.val % 1 * 224 + p.val) q.val := by
  have ht := ltN t; have hp := p.isLt; have hq := q.isLt
  unfold iblk
  refine (View.read_apply _ _).trans ?_
  show (V m c main_arg2 : S1x224x128.Idx → EReal) _ = (m ((c.tc : Thread nD τ).loc main_arg2) : S1x224x128.Idx → EReal) _
  rw [V_main_arg2]
  congr 1; funext b; apply Fin.ext
  match b with
  | ⟨0, _⟩ => show cc0_transform_1 (grid0.coords t) 0 * 1 + 1 * 0 = (t.val / 2) % 1; rw [(ixG t).1]; omega
  | ⟨1, _⟩ => show cc0_transform_1 (grid0.coords t) 1 * 224 + 1 * p.val = (t.val % 1 * 224 + p.val) % 224; rw [(ixG t).2.1]; omega
  | ⟨2, _⟩ => show cc0_transform_1 (grid0.coords t) 2 * 128 + 1 * q.val = q.val % 128; rw [(ixG t).2.2]; omega

/-- The weight, a tile of it. -/
theorem blk0 (c : Dev nD) (t : Fin grid0.N) (p : Fin 224) (q : Fin 128) :
    iblk m (okm m) c 0 t (ix4 0 0 p q) = at3 (A := 1) (B := 448) (C := 128) (packW m c) (t.val / 2) (t.val / 1 % 2 * 224 + (t.val % 1 * 224 + p.val)) q.val := by
  have ht := ltN t; have hp := p.isLt; have hq := q.isLt
  have e := host_packW m c
  have hi : ((((cfgM m (okm m)).win 0).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after (List.flatten [hostOps0, hostOps0_1, hostOps0_2, hostOps0_3, hostOps0_4, hostOps0_5, hostOps0_6]) (fun b => m (c, b)) (Proc.tc.devRef main_v45) : S1x2x224x128.Idx → EReal) ((((cfgM m (okm m)).win 0).blk t).view.emb (ix4 0 0 p q)) from rfl).trans ?_
  refine (congrArg (StableHlo.after (List.flatten [hostOps0, hostOps0_1, hostOps0_2, hostOps0_3, hostOps0_4, hostOps0_5, hostOps0_6]) (fun b => m (c, b)) (Proc.tc.devRef main_v45) : S1x2x224x128.Idx → EReal) hi).trans ?_
  refine (congrFun e _).trans ?_
  refine (halves_apply (L := 1) (R := 448) (H := 224) (C := 128) (e := .f32) (packW m c : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- The first moment, a tile of it. -/
theorem blk3 (c : Dev nD) (t : Fin grid0.N) (p : Fin 224) (q : Fin 128) :
    iblk m (okm m) c 3 t (ix4 0 0 p q) = at3 (A := 1) (B := 448) (C := 128) (packM m c) (t.val / 2) (t.val / 1 % 2 * 224 + (t.val % 1 * 224 + p.val)) q.val := by
  have ht := ltN t; have hp := p.isLt; have hq := q.isLt
  have e := host_packM m c
  have hi : ((((cfgM m (okm m)).win 3).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after (List.flatten [hostOps0, hostOps0_1, hostOps0_2, hostOps0_3, hostOps0_4, hostOps0_5, hostOps0_6]) (fun b => m (c, b)) (Proc.tc.devRef main_v46) : S1x2x224x128.Idx → EReal) ((((cfgM m (okm m)).win 3).blk t).view.emb (ix4 0 0 p q)) from rfl).trans ?_
  refine (congrArg (StableHlo.after (List.flatten [hostOps0, hostOps0_1, hostOps0_2, hostOps0_3, hostOps0_4, hostOps0_5, hostOps0_6]) (fun b => m (c, b)) (Proc.tc.devRef main_v46) : S1x2x224x128.Idx → EReal) hi).trans ?_
  refine (congrFun e _).trans ?_
  refine (halves_apply (L := 1) (R := 448) (H := 224) (C := 128) (e := .f32) (packM m c : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- The second moment, a tile of it. -/
theorem blk4 (c : Dev nD) (t : Fin grid0.N) (p : Fin 224) (q : Fin 128) :
    iblk m (okm m) c 4 t (ix4 0 0 p q) = at3 (A := 1) (B := 448) (C := 128) (packV m c) (t.val / 2) (t.val / 1 % 2 * 224 + (t.val % 1 * 224 + p.val)) q.val := by
  have ht := ltN t; have hp := p.isLt; have hq := q.isLt
  have e := host_packV m c
  have hi : ((((cfgM m (okm m)).win 4).blk t).view.emb (ix4 0 0 p q) : S1x2x224x128.Idx) = ix4 (⟨t.val / 2, by omega⟩ : Fin 1) (⟨t.val / 1 % 2, by omega⟩ : Fin 2) (⟨t.val % 1 * 224 + p.val, by omega⟩ : Fin 224) q := by
    funext b; apply Fin.ext
    match b with
    | ⟨0, _⟩ => show cc0_transform_0 (grid0.coords t) 0 * 1 + 1 * 0 = t.val / 2; rw [(ixH t).1]; omega
    | ⟨1, _⟩ => show cc0_transform_0 (grid0.coords t) 1 * 1 + 1 * 0 = t.val / 1 % 2; rw [(ixH t).2.1]; omega
    | ⟨2, _⟩ => show cc0_transform_0 (grid0.coords t) 2 * 224 + 1 * p.val = t.val % 1 * 224 + p.val; rw [(ixH t).2.2.1]; omega
    | ⟨3, _⟩ => show cc0_transform_0 (grid0.coords t) 3 * 128 + 1 * q.val = q.val; rw [(ixH t).2.2.2]; omega
  unfold iblk
  refine (View.read_apply _ _).trans ?_
  refine (show _ = (StableHlo.after (List.flatten [hostOps0, hostOps0_1, hostOps0_2, hostOps0_3, hostOps0_4, hostOps0_5, hostOps0_6]) (fun b => m (c, b)) (Proc.tc.devRef main_v47) : S1x2x224x128.Idx → EReal) ((((cfgM m (okm m)).win 4).blk t).view.emb (ix4 0 0 p q)) from rfl).trans ?_
  refine (congrArg (StableHlo.after (List.flatten [hostOps0, hostOps0_1, hostOps0_2, hostOps0_3, hostOps0_4, hostOps0_5, hostOps0_6]) (fun b => m (c, b)) (Proc.tc.devRef main_v47) : S1x2x224x128.Idx → EReal) hi).trans ?_
  refine (congrFun e _).trans ?_
  refine (halves_apply (L := 1) (R := 448) (H := 224) (C := 128) (e := .f32) (packV m c : S1x448x128.Idx → EReal) (by norm_num) _ _ _ _ _ (⟨t.val / 1 % 2 * 224 + (t.val % 1 * 224 + p.val), by omega⟩ : Fin 448) (by rfl)).trans ?_
  unfold AdamStep.at3
  congr 1; funext b; apply Fin.ext
  match b with
  | ⟨0, _⟩ => show t.val / 2 = (t.val / 2) % 1; omega
  | ⟨1, _⟩ => show t.val / 1 % 2 * 224 + (t.val % 1 * 224 + p.val) = (t.val / 1 % 2 * 224 + (t.val % 1 * 224 + p.val)) % 448; omega
  | ⟨2, _⟩ => show q.val = q.val % 128; omega

/-- Distinct points write distinct blocks of output the gradient. -/
theorem idx_inj5 : ∀ t t' : Fin (cfgM m (okm m)).N, ((cfgM m (okm m)).win 5).index t = ((cfgM m (okm m)).win 5).index t' → t = t' :=
  (by decide +kernel : ∀ t t' : Fin grid0.N, cc0_transform_5 (grid0.coords t) = cc0_transform_5 (grid0.coords t') → t = t')

/-- So their blocks share no index. -/
theorem disjoint5 : ∀ t t' : Fin (cfgM m (okm m)).N, ((cfgM m (okm m)).win 5).flush t = true → ((cfgM m (okm m)).win 5).flush t' = true → t ≠ t' →
    Disjoint (((cfgM m (okm m)).win 5).blk t).view.set (((cfgM m (okm m)).win 5).blk t').view.set :=
  fun t t' _ _ hne => ((cfgM m (okm m)).win 5).disjoint_blk fun h => hne (idx_inj5 m t t' h)

/-- A block of the array of output the gradient is what its point hands out. -/
theorem block5 (c : Dev nD) (t : Fin (cfgM m (okm m)).N) (y : S1x1x224x128.Idx) :
    ((dats m (okm m) 0 c).arrAt 5 (cfgM m (okm m)).N : S1x2x224x128.Idx → EReal) ((((cfgM m (okm m)).win 5).blk t).view.emb y) = ((dats m (okm m) 0 c).after 5 t : S1x1x224x128.Idx → EReal) y :=
  (dats m (okm m) 0 c).arrAt_emb_eq_flushed 5 (disjoint5 m) t (flush0_5 _ t) y

/-- Where an index of the array of output the gradient sits in its block. -/
theorem emb5 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 5).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the gradient at a tile's element, from the tile's point. -/
theorem tile5 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 5 (cfgM m (okm m)).N : S1x2x224x128.Idx → EReal) (ix4 l b r q) = grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val) := by
  refine (congrArg ((dats m (okm m) 0 c).arrAt 5 (cfgM m (okm m)).N : S1x2x224x128.Idx → EReal) (emb5 m t p q l b r h0 h1 h2).symm).trans ?_
  refine (block5 m c t _).trans ?_
  refine (congrFun ((after0_5 m (okm m) c t).trans (out5_eq m c t)) _).trans ?_
  refine (pay8_at (grid0.coords t) (coreOf m) (iblk m (okm m) c 1 t) (iblk m (okm m) c 2 t)  p q).trans ?_
  rw [half_eq t]
  simp only [blk1, blk2]
  rw [h0, h1, h2]

/-- The array of output the gradient at half `b`, row `r` of it. -/
theorem final5 (c : Dev nD) (l : Fin 1) (b : Fin 2) (r : Fin 224) (q : Fin 128) :
    ((dats m (okm m) 0 c).arrAt 5 (cfgM m (okm m)).N : S1x2x224x128.Idx → EReal) (ix4 l b r q) = grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile5 m c ⟨l.val * 2 + b.val * 1 + r.val / 224, ht⟩ (⟨r.val % 224, by omega⟩ : Fin 224) q l b r e0 e1 e2
/-- Distinct points write distinct blocks of output the step. -/
theorem idx_inj6 : ∀ t t' : Fin (cfgM m (okm m)).N, ((cfgM m (okm m)).win 6).index t = ((cfgM m (okm m)).win 6).index t' → t = t' :=
  (by decide +kernel : ∀ t t' : Fin grid0.N, cc0_transform_6 (grid0.coords t) = cc0_transform_6 (grid0.coords t') → t = t')

/-- So their blocks share no index. -/
theorem disjoint6 : ∀ t t' : Fin (cfgM m (okm m)).N, ((cfgM m (okm m)).win 6).flush t = true → ((cfgM m (okm m)).win 6).flush t' = true → t ≠ t' →
    Disjoint (((cfgM m (okm m)).win 6).blk t).view.set (((cfgM m (okm m)).win 6).blk t').view.set :=
  fun t t' _ _ hne => ((cfgM m (okm m)).win 6).disjoint_blk fun h => hne (idx_inj6 m t t' h)

/-- A block of the array of output the step is what its point hands out. -/
theorem block6 (c : Dev nD) (t : Fin (cfgM m (okm m)).N) (y : S1x1x224x128.Idx) :
    ((dats m (okm m) 0 c).arrAt 6 (cfgM m (okm m)).N : S1x2x224x128.Idx → EReal) ((((cfgM m (okm m)).win 6).blk t).view.emb y) = ((dats m (okm m) 0 c).after 6 t : S1x1x224x128.Idx → EReal) y :=
  (dats m (okm m) 0 c).arrAt_emb_eq_flushed 6 (disjoint6 m) t (flush0_6 _ t) y

/-- Where an index of the array of output the step sits in its block. -/
theorem emb6 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 6).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the step at a tile's element, from the tile's point. -/
theorem tile6 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 6 (cfgM m (okm m)).N : S1x2x224x128.Idx → EReal) (ix4 l b r q) = delta (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packW m c) l.val (b.val * 224 + r.val) q.val) (at3 (A := 1) (B := 448) (C := 128) (packM m c) l.val (b.val * 224 + r.val) q.val) (at3 (A := 1) (B := 448) (C := 128) (packV m c) l.val (b.val * 224 + r.val) q.val) := by
  refine (congrArg ((dats m (okm m) 0 c).arrAt 6 (cfgM m (okm m)).N : S1x2x224x128.Idx → EReal) (emb6 m t p q l b r h0 h1 h2).symm).trans ?_
  refine (block6 m c t _).trans ?_
  refine (congrFun ((after0_6 m (okm m) c t).trans (out6_eq m c t)) _).trans ?_
  refine (pay1_at (grid0.coords t) (coreOf m) (iblk m (okm m) c 1 t) (iblk m (okm m) c 2 t) (iblk m (okm m) c 0 t) (iblk m (okm m) c 3 t) (iblk m (okm m) c 4 t) p q).trans ?_
  rw [half_eq t]
  simp only [blk0, blk1, blk2, blk3, blk4]
  rw [h0, h1, h2]

/-- The array of output the step at half `b`, row `r` of it. -/
theorem final6 (c : Dev nD) (l : Fin 1) (b : Fin 2) (r : Fin 224) (q : Fin 128) :
    ((dats m (okm m) 0 c).arrAt 6 (cfgM m (okm m)).N : S1x2x224x128.Idx → EReal) (ix4 l b r q) = delta (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packW m c) l.val (b.val * 224 + r.val) q.val) (at3 (A := 1) (B := 448) (C := 128) (packM m c) l.val (b.val * 224 + r.val) q.val) (at3 (A := 1) (B := 448) (C := 128) (packV m c) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile6 m c ⟨l.val * 2 + b.val * 1 + r.val / 224, ht⟩ (⟨r.val % 224, by omega⟩ : Fin 224) q l b r e0 e1 e2
/-- Distinct points write distinct blocks of output the first moment. -/
theorem idx_inj7 : ∀ t t' : Fin (cfgM m (okm m)).N, ((cfgM m (okm m)).win 7).index t = ((cfgM m (okm m)).win 7).index t' → t = t' :=
  (by decide +kernel : ∀ t t' : Fin grid0.N, cc0_transform_7 (grid0.coords t) = cc0_transform_7 (grid0.coords t') → t = t')

/-- So their blocks share no index. -/
theorem disjoint7 : ∀ t t' : Fin (cfgM m (okm m)).N, ((cfgM m (okm m)).win 7).flush t = true → ((cfgM m (okm m)).win 7).flush t' = true → t ≠ t' →
    Disjoint (((cfgM m (okm m)).win 7).blk t).view.set (((cfgM m (okm m)).win 7).blk t').view.set :=
  fun t t' _ _ hne => ((cfgM m (okm m)).win 7).disjoint_blk fun h => hne (idx_inj7 m t t' h)

/-- A block of the array of output the first moment is what its point hands out. -/
theorem block7 (c : Dev nD) (t : Fin (cfgM m (okm m)).N) (y : S1x1x224x128.Idx) :
    ((dats m (okm m) 0 c).arrAt 7 (cfgM m (okm m)).N : S1x2x224x128.Idx → EReal) ((((cfgM m (okm m)).win 7).blk t).view.emb y) = ((dats m (okm m) 0 c).after 7 t : S1x1x224x128.Idx → EReal) y :=
  (dats m (okm m) 0 c).arrAt_emb_eq_flushed 7 (disjoint7 m) t (flush0_7 _ t) y

/-- Where an index of the array of output the first moment sits in its block. -/
theorem emb7 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 7).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the first moment at a tile's element, from the tile's point. -/
theorem tile7 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 7 (cfgM m (okm m)).N : S1x2x224x128.Idx → EReal) (ix4 l b r q) = mom1 (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packM m c) l.val (b.val * 224 + r.val) q.val) := by
  refine (congrArg ((dats m (okm m) 0 c).arrAt 7 (cfgM m (okm m)).N : S1x2x224x128.Idx → EReal) (emb7 m t p q l b r h0 h1 h2).symm).trans ?_
  refine (block7 m c t _).trans ?_
  refine (congrFun ((after0_7 m (okm m) c t).trans (out7_eq m c t)) _).trans ?_
  refine (pay2_at (grid0.coords t) (coreOf m) (iblk m (okm m) c 1 t) (iblk m (okm m) c 2 t) (iblk m (okm m) c 3 t) p q).trans ?_
  rw [half_eq t]
  simp only [blk1, blk2, blk3]
  rw [h0, h1, h2]

/-- The array of output the first moment at half `b`, row `r` of it. -/
theorem final7 (c : Dev nD) (l : Fin 1) (b : Fin 2) (r : Fin 224) (q : Fin 128) :
    ((dats m (okm m) 0 c).arrAt 7 (cfgM m (okm m)).N : S1x2x224x128.Idx → EReal) (ix4 l b r q) = mom1 (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packM m c) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile7 m c ⟨l.val * 2 + b.val * 1 + r.val / 224, ht⟩ (⟨r.val % 224, by omega⟩ : Fin 224) q l b r e0 e1 e2
/-- Distinct points write distinct blocks of output the second moment. -/
theorem idx_inj8 : ∀ t t' : Fin (cfgM m (okm m)).N, ((cfgM m (okm m)).win 8).index t = ((cfgM m (okm m)).win 8).index t' → t = t' :=
  (by decide +kernel : ∀ t t' : Fin grid0.N, cc0_transform_8 (grid0.coords t) = cc0_transform_8 (grid0.coords t') → t = t')

/-- So their blocks share no index. -/
theorem disjoint8 : ∀ t t' : Fin (cfgM m (okm m)).N, ((cfgM m (okm m)).win 8).flush t = true → ((cfgM m (okm m)).win 8).flush t' = true → t ≠ t' →
    Disjoint (((cfgM m (okm m)).win 8).blk t).view.set (((cfgM m (okm m)).win 8).blk t').view.set :=
  fun t t' _ _ hne => ((cfgM m (okm m)).win 8).disjoint_blk fun h => hne (idx_inj8 m t t' h)

/-- A block of the array of output the second moment is what its point hands out. -/
theorem block8 (c : Dev nD) (t : Fin (cfgM m (okm m)).N) (y : S1x1x224x128.Idx) :
    ((dats m (okm m) 0 c).arrAt 8 (cfgM m (okm m)).N : S1x2x224x128.Idx → EReal) ((((cfgM m (okm m)).win 8).blk t).view.emb y) = ((dats m (okm m) 0 c).after 8 t : S1x1x224x128.Idx → EReal) y :=
  (dats m (okm m) 0 c).arrAt_emb_eq_flushed 8 (disjoint8 m) t (flush0_8 _ t) y

/-- Where an index of the array of output the second moment sits in its block. -/
theorem emb8 (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((((cfgM m (okm m)).win 8).blk t).view.emb (ix4 0 0 p q : S1x1x224x128.Idx) : S1x2x224x128.Idx) = ix4 l b r q := by
  funext a; apply Fin.ext
  match a with
  | ⟨0, _⟩ => show cc0_transform_0 (grid0.coords t) 0 * 1 + 1 * 0 = l.val; rw [(ixH t).1]; omega
  | ⟨1, _⟩ => show cc0_transform_0 (grid0.coords t) 1 * 1 + 1 * 0 = b.val; rw [(ixH t).2.1]; omega
  | ⟨2, _⟩ => show cc0_transform_0 (grid0.coords t) 2 * 224 + 1 * p.val = r.val; rewrite [(ixH t).2.2.1, Nat.one_mul]; exact h2
  | ⟨3, _⟩ => show cc0_transform_0 (grid0.coords t) 3 * 128 + 1 * q.val = q.val; rewrite [(ixH t).2.2.2, Nat.zero_mul, Nat.zero_add, Nat.one_mul]; rfl

/-- The array of output the second moment at a tile's element, from the tile's point. -/
theorem tile8 (c : Dev nD) (t : Fin grid0.N) (p : Fin 224) (q : Fin 128) (l : Fin 1) (b : Fin 2) (r : Fin 224) (h0 : t.val / 2 = l.val) (h1 : t.val / 1 % 2 = b.val) (h2 : t.val % 1 * 224 + p.val = r.val) :
    ((dats m (okm m) 0 c).arrAt 8 (cfgM m (okm m)).N : S1x2x224x128.Idx → EReal) (ix4 l b r q) = mom2 (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packV m c) l.val (b.val * 224 + r.val) q.val) := by
  refine (congrArg ((dats m (okm m) 0 c).arrAt 8 (cfgM m (okm m)).N : S1x2x224x128.Idx → EReal) (emb8 m t p q l b r h0 h1 h2).symm).trans ?_
  refine (block8 m c t _).trans ?_
  refine (congrFun ((after0_8 m (okm m) c t).trans (out8_eq m c t)) _).trans ?_
  refine (pay3_at (grid0.coords t) (coreOf m) (iblk m (okm m) c 1 t) (iblk m (okm m) c 2 t) (iblk m (okm m) c 4 t) p q).trans ?_
  rw [half_eq t]
  simp only [blk1, blk2, blk4]
  rw [h0, h1, h2]

/-- The array of output the second moment at half `b`, row `r` of it. -/
theorem final8 (c : Dev nD) (l : Fin 1) (b : Fin 2) (r : Fin 224) (q : Fin 128) :
    ((dats m (okm m) 0 c).arrAt 8 (cfgM m (okm m)).N : S1x2x224x128.Idx → EReal) (ix4 l b r q) = mom2 (grad (coreOf m) b.val (at3 (A := 1) (B := 224) (C := 128) (m ((c.tc : Thread nD τ).loc main_arg1)) l.val r.val q.val) (at3 (A := 1) (B := 224) (C := 128) (m ((c.tc : Thread nD τ).loc main_arg2)) l.val r.val q.val)) (at3 (A := 1) (B := 448) (C := 128) (packV m c) l.val (b.val * 224 + r.val) q.val) := by
  have hl := l.isLt; have hb2 := b.isLt; have hr := r.isLt
  have ht : l.val * 2 + b.val * 1 + r.val / 224 < grid0.N := lt_of_lt_of_eq (by omega) N_0.symm
  have e0 : (l.val * 2 + b.val * 1 + r.val / 224) / 2 = l.val := by omega
  have e1 : (l.val * 2 + b.val * 1 + r.val / 224) / 1 % 2 = b.val := by omega
  have e2 : (l.val * 2 + b.val * 1 + r.val / 224) % 1 * 224 + r.val % 224 = r.val := by omega
  exact tile8 m c ⟨l.val * 2 + b.val * 1 + r.val / 224, ht⟩ (⟨r.val % 224, by omega⟩ : Fin 224) q l b r e0 e1 e2

/-- The gradient, as an array. -/
def gOf (core : BitVec 32) (g1 g2 : Vec Ideal S1x224x128 .f32) : Vec Ideal S1x448x128 .f32 := fun i =>
  gradAt core g1 g2 (i 0).val (i 1).val (i 2).val

/-- The step, as an array. -/
def dOf (core : BitVec 32) (w : Vec Ideal S1x448x128 .f32) (g1 g2 : Vec Ideal S1x224x128 .f32) (x y : Vec Ideal S1x448x128 .f32) : Vec Ideal S1x448x128 .f32 := fun i =>
  delta (gradAt core g1 g2 (i 0).val (i 1).val (i 2).val) (at3 w (i 0).val (i 1).val (i 2).val) (at3 x (i 0).val (i 1).val (i 2).val) (at3 y (i 0).val (i 1).val (i 2).val)

/-- The first moment, as an array. -/
def mOf (core : BitVec 32) (g1 g2 : Vec Ideal S1x224x128 .f32) (x : Vec Ideal S1x448x128 .f32) : Vec Ideal S1x448x128 .f32 := fun i =>
  mom1 (gradAt core g1 g2 (i 0).val (i 1).val (i 2).val) (at3 x (i 0).val (i 1).val (i 2).val)

/-- The second moment, as an array. -/
def vOf (core : BitVec 32) (g1 g2 : Vec Ideal S1x224x128 .f32) (y : Vec Ideal S1x448x128 .f32) : Vec Ideal S1x448x128 .f32 := fun i =>
  mom2 (gradAt core g1 g2 (i 0).val (i 1).val (i 2).val) (at3 y (i 0).val (i 1).val (i 2).val)

/-- The halves of the gradient, joined. -/
theorem whole5 (c : Dev nD) : (shapeCast S1x448x128 ((dats m (okm m) 0 c).arrAt 5 (cfgM m (okm m)).N : S1x2x224x128.Idx → EReal) shapeCasts_S1x2x224x128_S1x448x128 : S1x448x128.Idx → EReal) = gOf (coreOf m) (m ((c.tc : Thread nD τ).loc main_arg1)) (m ((c.tc : Thread nD τ).loc main_arg2)) := by
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 5 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final5 m c _ _ _ _).trans ?_
  have eh : (i 1).val / 224 * 224 + (i 1).val % 224 = (i 1).val := by omega
  dsimp only
  rfl

/-- The halves of the step, joined. -/
theorem whole6 (c : Dev nD) : (shapeCast S1x448x128 ((dats m (okm m) 0 c).arrAt 6 (cfgM m (okm m)).N : S1x2x224x128.Idx → EReal) shapeCasts_S1x2x224x128_S1x448x128 : S1x448x128.Idx → EReal) = dOf (coreOf m) (packW m c) (m ((c.tc : Thread nD τ).loc main_arg1)) (m ((c.tc : Thread nD τ).loc main_arg2)) (packM m c) (packV m c) := by
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 6 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final6 m c _ _ _ _).trans ?_
  have eh : (i 1).val / 224 * 224 + (i 1).val % 224 = (i 1).val := by omega
  dsimp only
  rw [eh]
  rfl

/-- The halves of the first moment, joined. -/
theorem whole7 (c : Dev nD) : (shapeCast S1x448x128 ((dats m (okm m) 0 c).arrAt 7 (cfgM m (okm m)).N : S1x2x224x128.Idx → EReal) shapeCasts_S1x2x224x128_S1x448x128 : S1x448x128.Idx → EReal) = mOf (coreOf m) (m ((c.tc : Thread nD τ).loc main_arg1)) (m ((c.tc : Thread nD τ).loc main_arg2)) (packM m c) := by
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 7 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final7 m c _ _ _ _).trans ?_
  have eh : (i 1).val / 224 * 224 + (i 1).val % 224 = (i 1).val := by omega
  dsimp only
  rw [eh]
  rfl

/-- The halves of the second moment, joined. -/
theorem whole8 (c : Dev nD) : (shapeCast S1x448x128 ((dats m (okm m) 0 c).arrAt 8 (cfgM m (okm m)).N : S1x2x224x128.Idx → EReal) shapeCasts_S1x2x224x128_S1x448x128 : S1x448x128.Idx → EReal) = vOf (coreOf m) (m ((c.tc : Thread nD τ).loc main_arg1)) (m ((c.tc : Thread nD τ).loc main_arg2)) (packV m c) := by
  funext i
  have h0 : (i 0).val < 1 := (i 0).isLt
  have h1 : (i 1).val < 448 := (i 1).isLt
  have h2 : (i 2).val < 128 := (i 2).isLt
  refine (congrArg (shapeCast S1x448x128 ((dats m (okm m) 0 c).arrAt 8 (cfgM m (okm m)).N : S1x2x224x128.Idx → EReal) shapeCasts_S1x2x224x128_S1x448x128) (eq_ix3 i)).trans ?_
  refine (joined_apply (L := 1) (R := 448) (H := 224) (C := 128) (e := .f32) _ (by norm_num) _ (i 0) (⟨(i 1).val / 224, by omega⟩ : Fin 2) (⟨(i 1).val % 224, by omega⟩ : Fin 224) (i 2) (i 1) (by show (i 1).val = (i 1).val / 224 * 224 + (i 1).val % 224; omega)).trans ?_
  refine (final8 m c _ _ _ _).trans ?_
  have eh : (i 1).val / 224 * 224 + (i 1).val % 224 = (i 1).val := by omega
  dsimp only
  rw [eh]
  rfl

/-- After the body, the gradient of `sc_conv_w` is cut out of the joined array. -/
theorem after_g_sc_conv_w (W : Valuation τ sig (Elt Ideal)) : (StableHlo.after hostOps1 W (Proc.tc.devRef main_v56) : S2x3x256.Idx → EReal)
    = cut_sc_conv_w (shapeCast S1x448x128 (W (Proc.tc.devRef main_v48_0) : S1x2x224x128.Idx → EReal) shapeCasts_S1x2x224x128_S1x448x128) := by
  after_results
  rfl

/-- The gradient of `sc_conv_w` at the end. -/
theorem tail_g_sc_conv_w (c : Dev nD) : Pipeline.afterTail pcfgs (fun _ => adm m (okm m)) (dats m (okm m)) 0 (V0 m) [hostOps1] c main_v56 = cut_sc_conv_w (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v56 : S2x3x256.Idx → EReal)
      = cut_sc_conv_w (shapeCast S1x448x128 ((dats m (okm m) 0 c).arrAt 5 (cfgM m (okm m)).N : S1x2x224x128.Idx → EReal) shapeCasts_S1x2x224x128_S1x448x128) := by
    unfold Pipeline.afterTail
    refine (after_g_sc_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_sc_conv_w (whole5 m c))

/-- After the body, the gradient of `sc_conv_b` is cut out of the joined array. -/
theorem after_g_sc_conv_b (W : Valuation τ sig (Elt Ideal)) : (StableHlo.after hostOps1 W (Proc.tc.devRef main_v58) : S2x1024.Idx → EReal)
    = cut_sc_conv_b (shapeCast S1x448x128 (W (Proc.tc.devRef main_v48_0) : S1x2x224x128.Idx → EReal) shapeCasts_S1x2x224x128_S1x448x128) := by
  after_results
  rfl

/-- The gradient of `sc_conv_b` at the end. -/
theorem tail_g_sc_conv_b (c : Dev nD) : Pipeline.afterTail pcfgs (fun _ => adm m (okm m)) (dats m (okm m)) 0 (V0 m) [hostOps1] c main_v58 = cut_sc_conv_b (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v58 : S2x1024.Idx → EReal)
      = cut_sc_conv_b (shapeCast S1x448x128 ((dats m (okm m) 0 c).arrAt 5 (cfgM m (okm m)).N : S1x2x224x128.Idx → EReal) shapeCasts_S1x2x224x128_S1x448x128) := by
    unfold Pipeline.afterTail
    refine (after_g_sc_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_sc_conv_b (whole5 m c))

/-- After the body, the gradient of `lru_b_in` is cut out of the joined array. -/
theorem after_g_lru_b_in (W : Valuation τ sig (Elt Ideal)) : (StableHlo.after hostOps1 W (Proc.tc.devRef main_v60) : S2x640.Idx → EReal)
    = cut_lru_b_in (shapeCast S1x448x128 (W (Proc.tc.devRef main_v48_0) : S1x2x224x128.Idx → EReal) shapeCasts_S1x2x224x128_S1x448x128) := by
  after_results
  rfl

/-- The gradient of `lru_b_in` at the end. -/
theorem tail_g_lru_b_in (c : Dev nD) : Pipeline.afterTail pcfgs (fun _ => adm m (okm m)) (dats m (okm m)) 0 (V0 m) [hostOps1] c main_v60 = cut_lru_b_in (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v60 : S2x640.Idx → EReal)
      = cut_lru_b_in (shapeCast S1x448x128 ((dats m (okm m) 0 c).arrAt 5 (cfgM m (okm m)).N : S1x2x224x128.Idx → EReal) shapeCasts_S1x2x224x128_S1x448x128) := by
    unfold Pipeline.afterTail
    refine (after_g_lru_b_in (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_in (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_lru_b_in (whole5 m c))

/-- After the body, the gradient of `lru_conv_w` is cut out of the joined array. -/
theorem after_g_lru_conv_w (W : Valuation τ sig (Elt Ideal)) : (StableHlo.after hostOps1 W (Proc.tc.devRef main_v62) : S2x4x320.Idx → EReal)
    = cut_lru_conv_w (shapeCast S1x448x128 (W (Proc.tc.devRef main_v48_0) : S1x2x224x128.Idx → EReal) shapeCasts_S1x2x224x128_S1x448x128) := by
  after_results
  rfl

/-- The gradient of `lru_conv_w` at the end. -/
theorem tail_g_lru_conv_w (c : Dev nD) : Pipeline.afterTail pcfgs (fun _ => adm m (okm m)) (dats m (okm m)) 0 (V0 m) [hostOps1] c main_v62 = cut_lru_conv_w (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v62 : S2x4x320.Idx → EReal)
      = cut_lru_conv_w (shapeCast S1x448x128 ((dats m (okm m) 0 c).arrAt 5 (cfgM m (okm m)).N : S1x2x224x128.Idx → EReal) shapeCasts_S1x2x224x128_S1x448x128) := by
    unfold Pipeline.afterTail
    refine (after_g_lru_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_lru_conv_w (whole5 m c))

/-- After the body, the gradient of `lru_conv_b` is cut out of the joined array. -/
theorem after_g_lru_conv_b (W : Valuation τ sig (Elt Ideal)) : (StableHlo.after hostOps1 W (Proc.tc.devRef main_v64) : S2x320.Idx → EReal)
    = cut_lru_conv_b (shapeCast S1x448x128 (W (Proc.tc.devRef main_v48_0) : S1x2x224x128.Idx → EReal) shapeCasts_S1x2x224x128_S1x448x128) := by
  after_results
  rfl

/-- The gradient of `lru_conv_b` at the end. -/
theorem tail_g_lru_conv_b (c : Dev nD) : Pipeline.afterTail pcfgs (fun _ => adm m (okm m)) (dats m (okm m)) 0 (V0 m) [hostOps1] c main_v64 = cut_lru_conv_b (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v64 : S2x320.Idx → EReal)
      = cut_lru_conv_b (shapeCast S1x448x128 ((dats m (okm m) 0 c).arrAt 5 (cfgM m (okm m)).N : S1x2x224x128.Idx → EReal) shapeCasts_S1x2x224x128_S1x448x128) := by
    unfold Pipeline.afterTail
    refine (after_g_lru_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_lru_conv_b (whole5 m c))

/-- After the body, the gradient of `lru_b_gate` is cut out of the joined array. -/
theorem after_g_lru_b_gate (W : Valuation τ sig (Elt Ideal)) : (StableHlo.after hostOps1 W (Proc.tc.devRef main_v66) : S2x10x64.Idx → EReal)
    = cut_lru_b_gate (shapeCast S1x448x128 (W (Proc.tc.devRef main_v48_0) : S1x2x224x128.Idx → EReal) shapeCasts_S1x2x224x128_S1x448x128) := by
  after_results
  rfl

/-- The gradient of `lru_b_gate` at the end. -/
theorem tail_g_lru_b_gate (c : Dev nD) : Pipeline.afterTail pcfgs (fun _ => adm m (okm m)) (dats m (okm m)) 0 (V0 m) [hostOps1] c main_v66 = cut_lru_b_gate (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v66 : S2x10x64.Idx → EReal)
      = cut_lru_b_gate (shapeCast S1x448x128 ((dats m (okm m) 0 c).arrAt 5 (cfgM m (okm m)).N : S1x2x224x128.Idx → EReal) shapeCasts_S1x2x224x128_S1x448x128) := by
    unfold Pipeline.afterTail
    refine (after_g_lru_b_gate (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_gate (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_lru_b_gate (whole5 m c))

/-- After the body, the gradient of `lru_lambda` is cut out of the joined array. -/
theorem after_g_lru_lambda (W : Valuation τ sig (Elt Ideal)) : (StableHlo.after hostOps1 W (Proc.tc.devRef main_v68) : S2x320.Idx → EReal)
    = cut_lru_lambda (shapeCast S1x448x128 (W (Proc.tc.devRef main_v48_0) : S1x2x224x128.Idx → EReal) shapeCasts_S1x2x224x128_S1x448x128) := by
  after_results
  rfl

/-- The gradient of `lru_lambda` at the end. -/
theorem tail_g_lru_lambda (c : Dev nD) : Pipeline.afterTail pcfgs (fun _ => adm m (okm m)) (dats m (okm m)) 0 (V0 m) [hostOps1] c main_v68 = cut_lru_lambda (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v68 : S2x320.Idx → EReal)
      = cut_lru_lambda (shapeCast S1x448x128 ((dats m (okm m) 0 c).arrAt 5 (cfgM m (okm m)).N : S1x2x224x128.Idx → EReal) shapeCasts_S1x2x224x128_S1x448x128) := by
    unfold Pipeline.afterTail
    refine (after_g_lru_lambda (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_lambda (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_lru_lambda (whole5 m c))

/-- After the body, the gradient of `ffn_conv_w` is cut out of the joined array. -/
theorem after_g_ffn_conv_w (W : Valuation τ sig (Elt Ideal)) : (StableHlo.after hostOps1 W (Proc.tc.devRef main_v70) : S4x3x1408.Idx → EReal)
    = cut_ffn_conv_w (shapeCast S1x448x128 (W (Proc.tc.devRef main_v48_0) : S1x2x224x128.Idx → EReal) shapeCasts_S1x2x224x128_S1x448x128) := by
  after_results
  rfl

/-- The gradient of `ffn_conv_w` at the end. -/
theorem tail_g_ffn_conv_w (c : Dev nD) : Pipeline.afterTail pcfgs (fun _ => adm m (okm m)) (dats m (okm m)) 0 (V0 m) [hostOps1] c main_v70 = cut_ffn_conv_w (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v70 : S4x3x1408.Idx → EReal)
      = cut_ffn_conv_w (shapeCast S1x448x128 ((dats m (okm m) 0 c).arrAt 5 (cfgM m (okm m)).N : S1x2x224x128.Idx → EReal) shapeCasts_S1x2x224x128_S1x448x128) := by
    unfold Pipeline.afterTail
    refine (after_g_ffn_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_ffn_conv_w (whole5 m c))

/-- After the body, the gradient of `ffn_conv_b` is cut out of the joined array. -/
theorem after_g_ffn_conv_b (W : Valuation τ sig (Elt Ideal)) : (StableHlo.after hostOps1 W (Proc.tc.devRef main_v72) : S4x5632.Idx → EReal)
    = cut_ffn_conv_b (shapeCast S1x448x128 (W (Proc.tc.devRef main_v48_0) : S1x2x224x128.Idx → EReal) shapeCasts_S1x2x224x128_S1x448x128) := by
  after_results
  rfl

/-- The gradient of `ffn_conv_b` at the end. -/
theorem tail_g_ffn_conv_b (c : Dev nD) : Pipeline.afterTail pcfgs (fun _ => adm m (okm m)) (dats m (okm m)) 0 (V0 m) [hostOps1] c main_v72 = cut_ffn_conv_b (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v72 : S4x5632.Idx → EReal)
      = cut_ffn_conv_b (shapeCast S1x448x128 ((dats m (okm m) 0 c).arrAt 5 (cfgM m (okm m)).N : S1x2x224x128.Idx → EReal) shapeCasts_S1x2x224x128_S1x448x128) := by
    unfold Pipeline.afterTail
    refine (after_g_ffn_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_ffn_conv_b (whole5 m c))

/-- After the body, the gradient of `ln_g` is cut out of the joined array. -/
theorem after_g_ln_g (W : Valuation τ sig (Elt Ideal)) : (StableHlo.after hostOps1 W (Proc.tc.devRef main_v74) : S4x2x256.Idx → EReal)
    = cut_ln_g (shapeCast S1x448x128 (W (Proc.tc.devRef main_v48_0) : S1x2x224x128.Idx → EReal) shapeCasts_S1x2x224x128_S1x448x128) := by
  after_results
  rfl

/-- The gradient of `ln_g` at the end. -/
theorem tail_g_ln_g (c : Dev nD) : Pipeline.afterTail pcfgs (fun _ => adm m (okm m)) (dats m (okm m)) 0 (V0 m) [hostOps1] c main_v74 = cut_ln_g (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v74 : S4x2x256.Idx → EReal)
      = cut_ln_g (shapeCast S1x448x128 ((dats m (okm m) 0 c).arrAt 5 (cfgM m (okm m)).N : S1x2x224x128.Idx → EReal) shapeCasts_S1x2x224x128_S1x448x128) := by
    unfold Pipeline.afterTail
    refine (after_g_ln_g (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_g (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_ln_g (whole5 m c))

/-- After the body, the gradient of `ln_b` is cut out of the joined array. -/
theorem after_g_ln_b (W : Valuation τ sig (Elt Ideal)) : (StableHlo.after hostOps1 W (Proc.tc.devRef main_v76) : S4x2x256.Idx → EReal)
    = cut_ln_b (shapeCast S1x448x128 (W (Proc.tc.devRef main_v48_0) : S1x2x224x128.Idx → EReal) shapeCasts_S1x2x224x128_S1x448x128) := by
  after_results
  rfl

/-- The gradient of `ln_b` at the end. -/
theorem tail_g_ln_b (c : Dev nD) : Pipeline.afterTail pcfgs (fun _ => adm m (okm m)) (dats m (okm m)) 0 (V0 m) [hostOps1] c main_v76 = cut_ln_b (gOf (coreOf m) (m ((c.tc : Thread nD τ).loc main_arg1)) (m ((c.tc : Thread nD τ).loc main_arg2))) := by
  have e : (Pipeline.afterTail pcfgs (fun _ => adm m (okm m)) (dats m (okm m)) 0 (V0 m) [hostOps1] c main_v76 : S4x2x256.Idx → EReal)
      = cut_ln_b (shapeCast S1x448x128 ((dats m (okm m) 0 c).arrAt 5 (cfgM m (okm m)).N : S1x2x224x128.Idx → EReal) shapeCasts_S1x2x224x128_S1x448x128) := by
    unfold Pipeline.afterTail
    refine (after_g_ln_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 5)
  exact e.trans (congrArg cut_ln_b (whole5 m c))

/-- After the body, the step of `sc_conv_w` is cut out of the joined array. -/
theorem after_d_sc_conv_w (W : Valuation τ sig (Elt Ideal)) : (StableHlo.after hostOps1 W (Proc.tc.devRef main_v80) : S2x3x256.Idx → EReal)
    = cut_sc_conv_w (shapeCast S1x448x128 (W (Proc.tc.devRef main_v48_1) : S1x2x224x128.Idx → EReal) shapeCasts_S1x2x224x128_S1x448x128) := by
  after_results
  rfl

/-- The step of `sc_conv_w` at the end. -/
theorem tail_d_sc_conv_w (c : Dev nD) : Pipeline.afterTail pcfgs (fun _ => adm m (okm m)) (dats m (okm m)) 0 (V0 m) [hostOps1] c main_v80 = cut_sc_conv_w (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v80 : S2x3x256.Idx → EReal)
      = cut_sc_conv_w (shapeCast S1x448x128 ((dats m (okm m) 0 c).arrAt 6 (cfgM m (okm m)).N : S1x2x224x128.Idx → EReal) shapeCasts_S1x2x224x128_S1x448x128) := by
    unfold Pipeline.afterTail
    refine (after_d_sc_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_sc_conv_w (whole6 m c))

/-- After the body, the step of `sc_conv_b` is cut out of the joined array. -/
theorem after_d_sc_conv_b (W : Valuation τ sig (Elt Ideal)) : (StableHlo.after hostOps1 W (Proc.tc.devRef main_v82) : S2x1024.Idx → EReal)
    = cut_sc_conv_b (shapeCast S1x448x128 (W (Proc.tc.devRef main_v48_1) : S1x2x224x128.Idx → EReal) shapeCasts_S1x2x224x128_S1x448x128) := by
  after_results
  rfl

/-- The step of `sc_conv_b` at the end. -/
theorem tail_d_sc_conv_b (c : Dev nD) : Pipeline.afterTail pcfgs (fun _ => adm m (okm m)) (dats m (okm m)) 0 (V0 m) [hostOps1] c main_v82 = cut_sc_conv_b (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v82 : S2x1024.Idx → EReal)
      = cut_sc_conv_b (shapeCast S1x448x128 ((dats m (okm m) 0 c).arrAt 6 (cfgM m (okm m)).N : S1x2x224x128.Idx → EReal) shapeCasts_S1x2x224x128_S1x448x128) := by
    unfold Pipeline.afterTail
    refine (after_d_sc_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_sc_conv_b (whole6 m c))

/-- After the body, the step of `lru_b_in` is cut out of the joined array. -/
theorem after_d_lru_b_in (W : Valuation τ sig (Elt Ideal)) : (StableHlo.after hostOps1 W (Proc.tc.devRef main_v84) : S2x640.Idx → EReal)
    = cut_lru_b_in (shapeCast S1x448x128 (W (Proc.tc.devRef main_v48_1) : S1x2x224x128.Idx → EReal) shapeCasts_S1x2x224x128_S1x448x128) := by
  after_results
  rfl

/-- The step of `lru_b_in` at the end. -/
theorem tail_d_lru_b_in (c : Dev nD) : Pipeline.afterTail pcfgs (fun _ => adm m (okm m)) (dats m (okm m)) 0 (V0 m) [hostOps1] c main_v84 = cut_lru_b_in (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v84 : S2x640.Idx → EReal)
      = cut_lru_b_in (shapeCast S1x448x128 ((dats m (okm m) 0 c).arrAt 6 (cfgM m (okm m)).N : S1x2x224x128.Idx → EReal) shapeCasts_S1x2x224x128_S1x448x128) := by
    unfold Pipeline.afterTail
    refine (after_d_lru_b_in (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_in (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_lru_b_in (whole6 m c))

/-- After the body, the step of `lru_conv_w` is cut out of the joined array. -/
theorem after_d_lru_conv_w (W : Valuation τ sig (Elt Ideal)) : (StableHlo.after hostOps1 W (Proc.tc.devRef main_v86) : S2x4x320.Idx → EReal)
    = cut_lru_conv_w (shapeCast S1x448x128 (W (Proc.tc.devRef main_v48_1) : S1x2x224x128.Idx → EReal) shapeCasts_S1x2x224x128_S1x448x128) := by
  after_results
  rfl

/-- The step of `lru_conv_w` at the end. -/
theorem tail_d_lru_conv_w (c : Dev nD) : Pipeline.afterTail pcfgs (fun _ => adm m (okm m)) (dats m (okm m)) 0 (V0 m) [hostOps1] c main_v86 = cut_lru_conv_w (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v86 : S2x4x320.Idx → EReal)
      = cut_lru_conv_w (shapeCast S1x448x128 ((dats m (okm m) 0 c).arrAt 6 (cfgM m (okm m)).N : S1x2x224x128.Idx → EReal) shapeCasts_S1x2x224x128_S1x448x128) := by
    unfold Pipeline.afterTail
    refine (after_d_lru_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_lru_conv_w (whole6 m c))

/-- After the body, the step of `lru_conv_b` is cut out of the joined array. -/
theorem after_d_lru_conv_b (W : Valuation τ sig (Elt Ideal)) : (StableHlo.after hostOps1 W (Proc.tc.devRef main_v88) : S2x320.Idx → EReal)
    = cut_lru_conv_b (shapeCast S1x448x128 (W (Proc.tc.devRef main_v48_1) : S1x2x224x128.Idx → EReal) shapeCasts_S1x2x224x128_S1x448x128) := by
  after_results
  rfl

/-- The step of `lru_conv_b` at the end. -/
theorem tail_d_lru_conv_b (c : Dev nD) : Pipeline.afterTail pcfgs (fun _ => adm m (okm m)) (dats m (okm m)) 0 (V0 m) [hostOps1] c main_v88 = cut_lru_conv_b (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v88 : S2x320.Idx → EReal)
      = cut_lru_conv_b (shapeCast S1x448x128 ((dats m (okm m) 0 c).arrAt 6 (cfgM m (okm m)).N : S1x2x224x128.Idx → EReal) shapeCasts_S1x2x224x128_S1x448x128) := by
    unfold Pipeline.afterTail
    refine (after_d_lru_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_lru_conv_b (whole6 m c))

/-- After the body, the step of `lru_b_gate` is cut out of the joined array. -/
theorem after_d_lru_b_gate (W : Valuation τ sig (Elt Ideal)) : (StableHlo.after hostOps1 W (Proc.tc.devRef main_v90) : S2x10x64.Idx → EReal)
    = cut_lru_b_gate (shapeCast S1x448x128 (W (Proc.tc.devRef main_v48_1) : S1x2x224x128.Idx → EReal) shapeCasts_S1x2x224x128_S1x448x128) := by
  after_results
  rfl

/-- The step of `lru_b_gate` at the end. -/
theorem tail_d_lru_b_gate (c : Dev nD) : Pipeline.afterTail pcfgs (fun _ => adm m (okm m)) (dats m (okm m)) 0 (V0 m) [hostOps1] c main_v90 = cut_lru_b_gate (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v90 : S2x10x64.Idx → EReal)
      = cut_lru_b_gate (shapeCast S1x448x128 ((dats m (okm m) 0 c).arrAt 6 (cfgM m (okm m)).N : S1x2x224x128.Idx → EReal) shapeCasts_S1x2x224x128_S1x448x128) := by
    unfold Pipeline.afterTail
    refine (after_d_lru_b_gate (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_gate (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_lru_b_gate (whole6 m c))

/-- After the body, the step of `lru_lambda` is cut out of the joined array. -/
theorem after_d_lru_lambda (W : Valuation τ sig (Elt Ideal)) : (StableHlo.after hostOps1 W (Proc.tc.devRef main_v92) : S2x320.Idx → EReal)
    = cut_lru_lambda (shapeCast S1x448x128 (W (Proc.tc.devRef main_v48_1) : S1x2x224x128.Idx → EReal) shapeCasts_S1x2x224x128_S1x448x128) := by
  after_results
  rfl

/-- The step of `lru_lambda` at the end. -/
theorem tail_d_lru_lambda (c : Dev nD) : Pipeline.afterTail pcfgs (fun _ => adm m (okm m)) (dats m (okm m)) 0 (V0 m) [hostOps1] c main_v92 = cut_lru_lambda (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v92 : S2x320.Idx → EReal)
      = cut_lru_lambda (shapeCast S1x448x128 ((dats m (okm m) 0 c).arrAt 6 (cfgM m (okm m)).N : S1x2x224x128.Idx → EReal) shapeCasts_S1x2x224x128_S1x448x128) := by
    unfold Pipeline.afterTail
    refine (after_d_lru_lambda (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_lambda (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_lru_lambda (whole6 m c))

/-- After the body, the step of `ffn_conv_w` is cut out of the joined array. -/
theorem after_d_ffn_conv_w (W : Valuation τ sig (Elt Ideal)) : (StableHlo.after hostOps1 W (Proc.tc.devRef main_v94) : S4x3x1408.Idx → EReal)
    = cut_ffn_conv_w (shapeCast S1x448x128 (W (Proc.tc.devRef main_v48_1) : S1x2x224x128.Idx → EReal) shapeCasts_S1x2x224x128_S1x448x128) := by
  after_results
  rfl

/-- The step of `ffn_conv_w` at the end. -/
theorem tail_d_ffn_conv_w (c : Dev nD) : Pipeline.afterTail pcfgs (fun _ => adm m (okm m)) (dats m (okm m)) 0 (V0 m) [hostOps1] c main_v94 = cut_ffn_conv_w (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v94 : S4x3x1408.Idx → EReal)
      = cut_ffn_conv_w (shapeCast S1x448x128 ((dats m (okm m) 0 c).arrAt 6 (cfgM m (okm m)).N : S1x2x224x128.Idx → EReal) shapeCasts_S1x2x224x128_S1x448x128) := by
    unfold Pipeline.afterTail
    refine (after_d_ffn_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_ffn_conv_w (whole6 m c))

/-- After the body, the step of `ffn_conv_b` is cut out of the joined array. -/
theorem after_d_ffn_conv_b (W : Valuation τ sig (Elt Ideal)) : (StableHlo.after hostOps1 W (Proc.tc.devRef main_v96) : S4x5632.Idx → EReal)
    = cut_ffn_conv_b (shapeCast S1x448x128 (W (Proc.tc.devRef main_v48_1) : S1x2x224x128.Idx → EReal) shapeCasts_S1x2x224x128_S1x448x128) := by
  after_results
  rfl

/-- The step of `ffn_conv_b` at the end. -/
theorem tail_d_ffn_conv_b (c : Dev nD) : Pipeline.afterTail pcfgs (fun _ => adm m (okm m)) (dats m (okm m)) 0 (V0 m) [hostOps1] c main_v96 = cut_ffn_conv_b (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v96 : S4x5632.Idx → EReal)
      = cut_ffn_conv_b (shapeCast S1x448x128 ((dats m (okm m) 0 c).arrAt 6 (cfgM m (okm m)).N : S1x2x224x128.Idx → EReal) shapeCasts_S1x2x224x128_S1x448x128) := by
    unfold Pipeline.afterTail
    refine (after_d_ffn_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_ffn_conv_b (whole6 m c))

/-- After the body, the step of `ln_g` is cut out of the joined array. -/
theorem after_d_ln_g (W : Valuation τ sig (Elt Ideal)) : (StableHlo.after hostOps1 W (Proc.tc.devRef main_v98) : S4x2x256.Idx → EReal)
    = cut_ln_g (shapeCast S1x448x128 (W (Proc.tc.devRef main_v48_1) : S1x2x224x128.Idx → EReal) shapeCasts_S1x2x224x128_S1x448x128) := by
  after_results
  rfl

/-- The step of `ln_g` at the end. -/
theorem tail_d_ln_g (c : Dev nD) : Pipeline.afterTail pcfgs (fun _ => adm m (okm m)) (dats m (okm m)) 0 (V0 m) [hostOps1] c main_v98 = cut_ln_g (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v98 : S4x2x256.Idx → EReal)
      = cut_ln_g (shapeCast S1x448x128 ((dats m (okm m) 0 c).arrAt 6 (cfgM m (okm m)).N : S1x2x224x128.Idx → EReal) shapeCasts_S1x2x224x128_S1x448x128) := by
    unfold Pipeline.afterTail
    refine (after_d_ln_g (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_g (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_ln_g (whole6 m c))

/-- After the body, the step of `ln_b` is cut out of the joined array. -/
theorem after_d_ln_b (W : Valuation τ sig (Elt Ideal)) : (StableHlo.after hostOps1 W (Proc.tc.devRef main_v100) : S4x2x256.Idx → EReal)
    = cut_ln_b (shapeCast S1x448x128 (W (Proc.tc.devRef main_v48_1) : S1x2x224x128.Idx → EReal) shapeCasts_S1x2x224x128_S1x448x128) := by
  after_results
  rfl

/-- The step of `ln_b` at the end. -/
theorem tail_d_ln_b (c : Dev nD) : Pipeline.afterTail pcfgs (fun _ => adm m (okm m)) (dats m (okm m)) 0 (V0 m) [hostOps1] c main_v100 = cut_ln_b (dOf (coreOf m) (packW m c) (m ((c.tc : Thread nD τ).loc main_arg1)) (m ((c.tc : Thread nD τ).loc main_arg2)) (packM m c) (packV m c)) := by
  have e : (Pipeline.afterTail pcfgs (fun _ => adm m (okm m)) (dats m (okm m)) 0 (V0 m) [hostOps1] c main_v100 : S4x2x256.Idx → EReal)
      = cut_ln_b (shapeCast S1x448x128 ((dats m (okm m) 0 c).arrAt 6 (cfgM m (okm m)).N : S1x2x224x128.Idx → EReal) shapeCasts_S1x2x224x128_S1x448x128) := by
    unfold Pipeline.afterTail
    refine (after_d_ln_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 6)
  exact e.trans (congrArg cut_ln_b (whole6 m c))

/-- After the body, the first moment of `sc_conv_w` is cut out of the joined array. -/
theorem after_m_sc_conv_w (W : Valuation τ sig (Elt Ideal)) : (StableHlo.after hostOps1 W (Proc.tc.devRef main_v104) : S2x3x256.Idx → EReal)
    = cut_sc_conv_w (shapeCast S1x448x128 (W (Proc.tc.devRef main_v48_2) : S1x2x224x128.Idx → EReal) shapeCasts_S1x2x224x128_S1x448x128) := by
  after_results
  rfl

/-- The first moment of `sc_conv_w` at the end. -/
theorem tail_m_sc_conv_w (c : Dev nD) : Pipeline.afterTail pcfgs (fun _ => adm m (okm m)) (dats m (okm m)) 0 (V0 m) [hostOps1] c main_v104 = cut_sc_conv_w (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v104 : S2x3x256.Idx → EReal)
      = cut_sc_conv_w (shapeCast S1x448x128 ((dats m (okm m) 0 c).arrAt 7 (cfgM m (okm m)).N : S1x2x224x128.Idx → EReal) shapeCasts_S1x2x224x128_S1x448x128) := by
    unfold Pipeline.afterTail
    refine (after_m_sc_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_sc_conv_w (whole7 m c))

/-- After the body, the first moment of `sc_conv_b` is cut out of the joined array. -/
theorem after_m_sc_conv_b (W : Valuation τ sig (Elt Ideal)) : (StableHlo.after hostOps1 W (Proc.tc.devRef main_v106) : S2x1024.Idx → EReal)
    = cut_sc_conv_b (shapeCast S1x448x128 (W (Proc.tc.devRef main_v48_2) : S1x2x224x128.Idx → EReal) shapeCasts_S1x2x224x128_S1x448x128) := by
  after_results
  rfl

/-- The first moment of `sc_conv_b` at the end. -/
theorem tail_m_sc_conv_b (c : Dev nD) : Pipeline.afterTail pcfgs (fun _ => adm m (okm m)) (dats m (okm m)) 0 (V0 m) [hostOps1] c main_v106 = cut_sc_conv_b (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v106 : S2x1024.Idx → EReal)
      = cut_sc_conv_b (shapeCast S1x448x128 ((dats m (okm m) 0 c).arrAt 7 (cfgM m (okm m)).N : S1x2x224x128.Idx → EReal) shapeCasts_S1x2x224x128_S1x448x128) := by
    unfold Pipeline.afterTail
    refine (after_m_sc_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_sc_conv_b (whole7 m c))

/-- After the body, the first moment of `lru_b_in` is cut out of the joined array. -/
theorem after_m_lru_b_in (W : Valuation τ sig (Elt Ideal)) : (StableHlo.after hostOps1 W (Proc.tc.devRef main_v108) : S2x640.Idx → EReal)
    = cut_lru_b_in (shapeCast S1x448x128 (W (Proc.tc.devRef main_v48_2) : S1x2x224x128.Idx → EReal) shapeCasts_S1x2x224x128_S1x448x128) := by
  after_results
  rfl

/-- The first moment of `lru_b_in` at the end. -/
theorem tail_m_lru_b_in (c : Dev nD) : Pipeline.afterTail pcfgs (fun _ => adm m (okm m)) (dats m (okm m)) 0 (V0 m) [hostOps1] c main_v108 = cut_lru_b_in (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v108 : S2x640.Idx → EReal)
      = cut_lru_b_in (shapeCast S1x448x128 ((dats m (okm m) 0 c).arrAt 7 (cfgM m (okm m)).N : S1x2x224x128.Idx → EReal) shapeCasts_S1x2x224x128_S1x448x128) := by
    unfold Pipeline.afterTail
    refine (after_m_lru_b_in (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_in (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_lru_b_in (whole7 m c))

/-- After the body, the first moment of `lru_conv_w` is cut out of the joined array. -/
theorem after_m_lru_conv_w (W : Valuation τ sig (Elt Ideal)) : (StableHlo.after hostOps1 W (Proc.tc.devRef main_v110) : S2x4x320.Idx → EReal)
    = cut_lru_conv_w (shapeCast S1x448x128 (W (Proc.tc.devRef main_v48_2) : S1x2x224x128.Idx → EReal) shapeCasts_S1x2x224x128_S1x448x128) := by
  after_results
  rfl

/-- The first moment of `lru_conv_w` at the end. -/
theorem tail_m_lru_conv_w (c : Dev nD) : Pipeline.afterTail pcfgs (fun _ => adm m (okm m)) (dats m (okm m)) 0 (V0 m) [hostOps1] c main_v110 = cut_lru_conv_w (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v110 : S2x4x320.Idx → EReal)
      = cut_lru_conv_w (shapeCast S1x448x128 ((dats m (okm m) 0 c).arrAt 7 (cfgM m (okm m)).N : S1x2x224x128.Idx → EReal) shapeCasts_S1x2x224x128_S1x448x128) := by
    unfold Pipeline.afterTail
    refine (after_m_lru_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_lru_conv_w (whole7 m c))

/-- After the body, the first moment of `lru_conv_b` is cut out of the joined array. -/
theorem after_m_lru_conv_b (W : Valuation τ sig (Elt Ideal)) : (StableHlo.after hostOps1 W (Proc.tc.devRef main_v112) : S2x320.Idx → EReal)
    = cut_lru_conv_b (shapeCast S1x448x128 (W (Proc.tc.devRef main_v48_2) : S1x2x224x128.Idx → EReal) shapeCasts_S1x2x224x128_S1x448x128) := by
  after_results
  rfl

/-- The first moment of `lru_conv_b` at the end. -/
theorem tail_m_lru_conv_b (c : Dev nD) : Pipeline.afterTail pcfgs (fun _ => adm m (okm m)) (dats m (okm m)) 0 (V0 m) [hostOps1] c main_v112 = cut_lru_conv_b (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v112 : S2x320.Idx → EReal)
      = cut_lru_conv_b (shapeCast S1x448x128 ((dats m (okm m) 0 c).arrAt 7 (cfgM m (okm m)).N : S1x2x224x128.Idx → EReal) shapeCasts_S1x2x224x128_S1x448x128) := by
    unfold Pipeline.afterTail
    refine (after_m_lru_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_lru_conv_b (whole7 m c))

/-- After the body, the first moment of `lru_b_gate` is cut out of the joined array. -/
theorem after_m_lru_b_gate (W : Valuation τ sig (Elt Ideal)) : (StableHlo.after hostOps1 W (Proc.tc.devRef main_v114) : S2x10x64.Idx → EReal)
    = cut_lru_b_gate (shapeCast S1x448x128 (W (Proc.tc.devRef main_v48_2) : S1x2x224x128.Idx → EReal) shapeCasts_S1x2x224x128_S1x448x128) := by
  after_results
  rfl

/-- The first moment of `lru_b_gate` at the end. -/
theorem tail_m_lru_b_gate (c : Dev nD) : Pipeline.afterTail pcfgs (fun _ => adm m (okm m)) (dats m (okm m)) 0 (V0 m) [hostOps1] c main_v114 = cut_lru_b_gate (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v114 : S2x10x64.Idx → EReal)
      = cut_lru_b_gate (shapeCast S1x448x128 ((dats m (okm m) 0 c).arrAt 7 (cfgM m (okm m)).N : S1x2x224x128.Idx → EReal) shapeCasts_S1x2x224x128_S1x448x128) := by
    unfold Pipeline.afterTail
    refine (after_m_lru_b_gate (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_gate (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_lru_b_gate (whole7 m c))

/-- After the body, the first moment of `lru_lambda` is cut out of the joined array. -/
theorem after_m_lru_lambda (W : Valuation τ sig (Elt Ideal)) : (StableHlo.after hostOps1 W (Proc.tc.devRef main_v116) : S2x320.Idx → EReal)
    = cut_lru_lambda (shapeCast S1x448x128 (W (Proc.tc.devRef main_v48_2) : S1x2x224x128.Idx → EReal) shapeCasts_S1x2x224x128_S1x448x128) := by
  after_results
  rfl

/-- The first moment of `lru_lambda` at the end. -/
theorem tail_m_lru_lambda (c : Dev nD) : Pipeline.afterTail pcfgs (fun _ => adm m (okm m)) (dats m (okm m)) 0 (V0 m) [hostOps1] c main_v116 = cut_lru_lambda (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v116 : S2x320.Idx → EReal)
      = cut_lru_lambda (shapeCast S1x448x128 ((dats m (okm m) 0 c).arrAt 7 (cfgM m (okm m)).N : S1x2x224x128.Idx → EReal) shapeCasts_S1x2x224x128_S1x448x128) := by
    unfold Pipeline.afterTail
    refine (after_m_lru_lambda (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_lambda (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_lru_lambda (whole7 m c))

/-- After the body, the first moment of `ffn_conv_w` is cut out of the joined array. -/
theorem after_m_ffn_conv_w (W : Valuation τ sig (Elt Ideal)) : (StableHlo.after hostOps1 W (Proc.tc.devRef main_v118) : S4x3x1408.Idx → EReal)
    = cut_ffn_conv_w (shapeCast S1x448x128 (W (Proc.tc.devRef main_v48_2) : S1x2x224x128.Idx → EReal) shapeCasts_S1x2x224x128_S1x448x128) := by
  after_results
  rfl

/-- The first moment of `ffn_conv_w` at the end. -/
theorem tail_m_ffn_conv_w (c : Dev nD) : Pipeline.afterTail pcfgs (fun _ => adm m (okm m)) (dats m (okm m)) 0 (V0 m) [hostOps1] c main_v118 = cut_ffn_conv_w (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v118 : S4x3x1408.Idx → EReal)
      = cut_ffn_conv_w (shapeCast S1x448x128 ((dats m (okm m) 0 c).arrAt 7 (cfgM m (okm m)).N : S1x2x224x128.Idx → EReal) shapeCasts_S1x2x224x128_S1x448x128) := by
    unfold Pipeline.afterTail
    refine (after_m_ffn_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_ffn_conv_w (whole7 m c))

/-- After the body, the first moment of `ffn_conv_b` is cut out of the joined array. -/
theorem after_m_ffn_conv_b (W : Valuation τ sig (Elt Ideal)) : (StableHlo.after hostOps1 W (Proc.tc.devRef main_v120) : S4x5632.Idx → EReal)
    = cut_ffn_conv_b (shapeCast S1x448x128 (W (Proc.tc.devRef main_v48_2) : S1x2x224x128.Idx → EReal) shapeCasts_S1x2x224x128_S1x448x128) := by
  after_results
  rfl

/-- The first moment of `ffn_conv_b` at the end. -/
theorem tail_m_ffn_conv_b (c : Dev nD) : Pipeline.afterTail pcfgs (fun _ => adm m (okm m)) (dats m (okm m)) 0 (V0 m) [hostOps1] c main_v120 = cut_ffn_conv_b (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v120 : S4x5632.Idx → EReal)
      = cut_ffn_conv_b (shapeCast S1x448x128 ((dats m (okm m) 0 c).arrAt 7 (cfgM m (okm m)).N : S1x2x224x128.Idx → EReal) shapeCasts_S1x2x224x128_S1x448x128) := by
    unfold Pipeline.afterTail
    refine (after_m_ffn_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_ffn_conv_b (whole7 m c))

/-- After the body, the first moment of `ln_g` is cut out of the joined array. -/
theorem after_m_ln_g (W : Valuation τ sig (Elt Ideal)) : (StableHlo.after hostOps1 W (Proc.tc.devRef main_v122) : S4x2x256.Idx → EReal)
    = cut_ln_g (shapeCast S1x448x128 (W (Proc.tc.devRef main_v48_2) : S1x2x224x128.Idx → EReal) shapeCasts_S1x2x224x128_S1x448x128) := by
  after_results
  rfl

/-- The first moment of `ln_g` at the end. -/
theorem tail_m_ln_g (c : Dev nD) : Pipeline.afterTail pcfgs (fun _ => adm m (okm m)) (dats m (okm m)) 0 (V0 m) [hostOps1] c main_v122 = cut_ln_g (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v122 : S4x2x256.Idx → EReal)
      = cut_ln_g (shapeCast S1x448x128 ((dats m (okm m) 0 c).arrAt 7 (cfgM m (okm m)).N : S1x2x224x128.Idx → EReal) shapeCasts_S1x2x224x128_S1x448x128) := by
    unfold Pipeline.afterTail
    refine (after_m_ln_g (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_g (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_ln_g (whole7 m c))

/-- After the body, the first moment of `ln_b` is cut out of the joined array. -/
theorem after_m_ln_b (W : Valuation τ sig (Elt Ideal)) : (StableHlo.after hostOps1 W (Proc.tc.devRef main_v124) : S4x2x256.Idx → EReal)
    = cut_ln_b (shapeCast S1x448x128 (W (Proc.tc.devRef main_v48_2) : S1x2x224x128.Idx → EReal) shapeCasts_S1x2x224x128_S1x448x128) := by
  after_results
  rfl

/-- The first moment of `ln_b` at the end. -/
theorem tail_m_ln_b (c : Dev nD) : Pipeline.afterTail pcfgs (fun _ => adm m (okm m)) (dats m (okm m)) 0 (V0 m) [hostOps1] c main_v124 = cut_ln_b (mOf (coreOf m) (m ((c.tc : Thread nD τ).loc main_arg1)) (m ((c.tc : Thread nD τ).loc main_arg2)) (packM m c)) := by
  have e : (Pipeline.afterTail pcfgs (fun _ => adm m (okm m)) (dats m (okm m)) 0 (V0 m) [hostOps1] c main_v124 : S4x2x256.Idx → EReal)
      = cut_ln_b (shapeCast S1x448x128 ((dats m (okm m) 0 c).arrAt 7 (cfgM m (okm m)).N : S1x2x224x128.Idx → EReal) shapeCasts_S1x2x224x128_S1x448x128) := by
    unfold Pipeline.afterTail
    refine (after_m_ln_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 7)
  exact e.trans (congrArg cut_ln_b (whole7 m c))

/-- After the body, the second moment of `sc_conv_w` is cut out of the joined array. -/
theorem after_v_sc_conv_w (W : Valuation τ sig (Elt Ideal)) : (StableHlo.after hostOps1 W (Proc.tc.devRef main_v128) : S2x3x256.Idx → EReal)
    = cut_sc_conv_w (shapeCast S1x448x128 (W (Proc.tc.devRef main_v48_3) : S1x2x224x128.Idx → EReal) shapeCasts_S1x2x224x128_S1x448x128) := by
  after_results
  rfl

/-- The second moment of `sc_conv_w` at the end. -/
theorem tail_v_sc_conv_w (c : Dev nD) : Pipeline.afterTail pcfgs (fun _ => adm m (okm m)) (dats m (okm m)) 0 (V0 m) [hostOps1] c main_v128 = cut_sc_conv_w (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v128 : S2x3x256.Idx → EReal)
      = cut_sc_conv_w (shapeCast S1x448x128 ((dats m (okm m) 0 c).arrAt 8 (cfgM m (okm m)).N : S1x2x224x128.Idx → EReal) shapeCasts_S1x2x224x128_S1x448x128) := by
    unfold Pipeline.afterTail
    refine (after_v_sc_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_sc_conv_w (whole8 m c))

/-- After the body, the second moment of `sc_conv_b` is cut out of the joined array. -/
theorem after_v_sc_conv_b (W : Valuation τ sig (Elt Ideal)) : (StableHlo.after hostOps1 W (Proc.tc.devRef main_v130) : S2x1024.Idx → EReal)
    = cut_sc_conv_b (shapeCast S1x448x128 (W (Proc.tc.devRef main_v48_3) : S1x2x224x128.Idx → EReal) shapeCasts_S1x2x224x128_S1x448x128) := by
  after_results
  rfl

/-- The second moment of `sc_conv_b` at the end. -/
theorem tail_v_sc_conv_b (c : Dev nD) : Pipeline.afterTail pcfgs (fun _ => adm m (okm m)) (dats m (okm m)) 0 (V0 m) [hostOps1] c main_v130 = cut_sc_conv_b (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v130 : S2x1024.Idx → EReal)
      = cut_sc_conv_b (shapeCast S1x448x128 ((dats m (okm m) 0 c).arrAt 8 (cfgM m (okm m)).N : S1x2x224x128.Idx → EReal) shapeCasts_S1x2x224x128_S1x448x128) := by
    unfold Pipeline.afterTail
    refine (after_v_sc_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_sc_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_sc_conv_b (whole8 m c))

/-- After the body, the second moment of `lru_b_in` is cut out of the joined array. -/
theorem after_v_lru_b_in (W : Valuation τ sig (Elt Ideal)) : (StableHlo.after hostOps1 W (Proc.tc.devRef main_v132) : S2x640.Idx → EReal)
    = cut_lru_b_in (shapeCast S1x448x128 (W (Proc.tc.devRef main_v48_3) : S1x2x224x128.Idx → EReal) shapeCasts_S1x2x224x128_S1x448x128) := by
  after_results
  rfl

/-- The second moment of `lru_b_in` at the end. -/
theorem tail_v_lru_b_in (c : Dev nD) : Pipeline.afterTail pcfgs (fun _ => adm m (okm m)) (dats m (okm m)) 0 (V0 m) [hostOps1] c main_v132 = cut_lru_b_in (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v132 : S2x640.Idx → EReal)
      = cut_lru_b_in (shapeCast S1x448x128 ((dats m (okm m) 0 c).arrAt 8 (cfgM m (okm m)).N : S1x2x224x128.Idx → EReal) shapeCasts_S1x2x224x128_S1x448x128) := by
    unfold Pipeline.afterTail
    refine (after_v_lru_b_in (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_in (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_lru_b_in (whole8 m c))

/-- After the body, the second moment of `lru_conv_w` is cut out of the joined array. -/
theorem after_v_lru_conv_w (W : Valuation τ sig (Elt Ideal)) : (StableHlo.after hostOps1 W (Proc.tc.devRef main_v134) : S2x4x320.Idx → EReal)
    = cut_lru_conv_w (shapeCast S1x448x128 (W (Proc.tc.devRef main_v48_3) : S1x2x224x128.Idx → EReal) shapeCasts_S1x2x224x128_S1x448x128) := by
  after_results
  rfl

/-- The second moment of `lru_conv_w` at the end. -/
theorem tail_v_lru_conv_w (c : Dev nD) : Pipeline.afterTail pcfgs (fun _ => adm m (okm m)) (dats m (okm m)) 0 (V0 m) [hostOps1] c main_v134 = cut_lru_conv_w (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v134 : S2x4x320.Idx → EReal)
      = cut_lru_conv_w (shapeCast S1x448x128 ((dats m (okm m) 0 c).arrAt 8 (cfgM m (okm m)).N : S1x2x224x128.Idx → EReal) shapeCasts_S1x2x224x128_S1x448x128) := by
    unfold Pipeline.afterTail
    refine (after_v_lru_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_lru_conv_w (whole8 m c))

/-- After the body, the second moment of `lru_conv_b` is cut out of the joined array. -/
theorem after_v_lru_conv_b (W : Valuation τ sig (Elt Ideal)) : (StableHlo.after hostOps1 W (Proc.tc.devRef main_v136) : S2x320.Idx → EReal)
    = cut_lru_conv_b (shapeCast S1x448x128 (W (Proc.tc.devRef main_v48_3) : S1x2x224x128.Idx → EReal) shapeCasts_S1x2x224x128_S1x448x128) := by
  after_results
  rfl

/-- The second moment of `lru_conv_b` at the end. -/
theorem tail_v_lru_conv_b (c : Dev nD) : Pipeline.afterTail pcfgs (fun _ => adm m (okm m)) (dats m (okm m)) 0 (V0 m) [hostOps1] c main_v136 = cut_lru_conv_b (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v136 : S2x320.Idx → EReal)
      = cut_lru_conv_b (shapeCast S1x448x128 ((dats m (okm m) 0 c).arrAt 8 (cfgM m (okm m)).N : S1x2x224x128.Idx → EReal) shapeCasts_S1x2x224x128_S1x448x128) := by
    unfold Pipeline.afterTail
    refine (after_v_lru_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_lru_conv_b (whole8 m c))

/-- After the body, the second moment of `lru_b_gate` is cut out of the joined array. -/
theorem after_v_lru_b_gate (W : Valuation τ sig (Elt Ideal)) : (StableHlo.after hostOps1 W (Proc.tc.devRef main_v138) : S2x10x64.Idx → EReal)
    = cut_lru_b_gate (shapeCast S1x448x128 (W (Proc.tc.devRef main_v48_3) : S1x2x224x128.Idx → EReal) shapeCasts_S1x2x224x128_S1x448x128) := by
  after_results
  rfl

/-- The second moment of `lru_b_gate` at the end. -/
theorem tail_v_lru_b_gate (c : Dev nD) : Pipeline.afterTail pcfgs (fun _ => adm m (okm m)) (dats m (okm m)) 0 (V0 m) [hostOps1] c main_v138 = cut_lru_b_gate (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v138 : S2x10x64.Idx → EReal)
      = cut_lru_b_gate (shapeCast S1x448x128 ((dats m (okm m) 0 c).arrAt 8 (cfgM m (okm m)).N : S1x2x224x128.Idx → EReal) shapeCasts_S1x2x224x128_S1x448x128) := by
    unfold Pipeline.afterTail
    refine (after_v_lru_b_gate (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_b_gate (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_lru_b_gate (whole8 m c))

/-- After the body, the second moment of `lru_lambda` is cut out of the joined array. -/
theorem after_v_lru_lambda (W : Valuation τ sig (Elt Ideal)) : (StableHlo.after hostOps1 W (Proc.tc.devRef main_v140) : S2x320.Idx → EReal)
    = cut_lru_lambda (shapeCast S1x448x128 (W (Proc.tc.devRef main_v48_3) : S1x2x224x128.Idx → EReal) shapeCasts_S1x2x224x128_S1x448x128) := by
  after_results
  rfl

/-- The second moment of `lru_lambda` at the end. -/
theorem tail_v_lru_lambda (c : Dev nD) : Pipeline.afterTail pcfgs (fun _ => adm m (okm m)) (dats m (okm m)) 0 (V0 m) [hostOps1] c main_v140 = cut_lru_lambda (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v140 : S2x320.Idx → EReal)
      = cut_lru_lambda (shapeCast S1x448x128 ((dats m (okm m) 0 c).arrAt 8 (cfgM m (okm m)).N : S1x2x224x128.Idx → EReal) shapeCasts_S1x2x224x128_S1x448x128) := by
    unfold Pipeline.afterTail
    refine (after_v_lru_lambda (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_lru_lambda (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_lru_lambda (whole8 m c))

/-- After the body, the second moment of `ffn_conv_w` is cut out of the joined array. -/
theorem after_v_ffn_conv_w (W : Valuation τ sig (Elt Ideal)) : (StableHlo.after hostOps1 W (Proc.tc.devRef main_v142) : S4x3x1408.Idx → EReal)
    = cut_ffn_conv_w (shapeCast S1x448x128 (W (Proc.tc.devRef main_v48_3) : S1x2x224x128.Idx → EReal) shapeCasts_S1x2x224x128_S1x448x128) := by
  after_results
  rfl

/-- The second moment of `ffn_conv_w` at the end. -/
theorem tail_v_ffn_conv_w (c : Dev nD) : Pipeline.afterTail pcfgs (fun _ => adm m (okm m)) (dats m (okm m)) 0 (V0 m) [hostOps1] c main_v142 = cut_ffn_conv_w (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v142 : S4x3x1408.Idx → EReal)
      = cut_ffn_conv_w (shapeCast S1x448x128 ((dats m (okm m) 0 c).arrAt 8 (cfgM m (okm m)).N : S1x2x224x128.Idx → EReal) shapeCasts_S1x2x224x128_S1x448x128) := by
    unfold Pipeline.afterTail
    refine (after_v_ffn_conv_w (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_w (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_ffn_conv_w (whole8 m c))

/-- After the body, the second moment of `ffn_conv_b` is cut out of the joined array. -/
theorem after_v_ffn_conv_b (W : Valuation τ sig (Elt Ideal)) : (StableHlo.after hostOps1 W (Proc.tc.devRef main_v144) : S4x5632.Idx → EReal)
    = cut_ffn_conv_b (shapeCast S1x448x128 (W (Proc.tc.devRef main_v48_3) : S1x2x224x128.Idx → EReal) shapeCasts_S1x2x224x128_S1x448x128) := by
  after_results
  rfl

/-- The second moment of `ffn_conv_b` at the end. -/
theorem tail_v_ffn_conv_b (c : Dev nD) : Pipeline.afterTail pcfgs (fun _ => adm m (okm m)) (dats m (okm m)) 0 (V0 m) [hostOps1] c main_v144 = cut_ffn_conv_b (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v144 : S4x5632.Idx → EReal)
      = cut_ffn_conv_b (shapeCast S1x448x128 ((dats m (okm m) 0 c).arrAt 8 (cfgM m (okm m)).N : S1x2x224x128.Idx → EReal) shapeCasts_S1x2x224x128_S1x448x128) := by
    unfold Pipeline.afterTail
    refine (after_v_ffn_conv_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ffn_conv_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_ffn_conv_b (whole8 m c))

/-- After the body, the second moment of `ln_g` is cut out of the joined array. -/
theorem after_v_ln_g (W : Valuation τ sig (Elt Ideal)) : (StableHlo.after hostOps1 W (Proc.tc.devRef main_v146) : S4x2x256.Idx → EReal)
    = cut_ln_g (shapeCast S1x448x128 (W (Proc.tc.devRef main_v48_3) : S1x2x224x128.Idx → EReal) shapeCasts_S1x2x224x128_S1x448x128) := by
  after_results
  rfl

/-- The second moment of `ln_g` at the end. -/
theorem tail_v_ln_g (c : Dev nD) : Pipeline.afterTail pcfgs (fun _ => adm m (okm m)) (dats m (okm m)) 0 (V0 m) [hostOps1] c main_v146 = cut_ln_g (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v146 : S4x2x256.Idx → EReal)
      = cut_ln_g (shapeCast S1x448x128 ((dats m (okm m) 0 c).arrAt 8 (cfgM m (okm m)).N : S1x2x224x128.Idx → EReal) shapeCasts_S1x2x224x128_S1x448x128) := by
    unfold Pipeline.afterTail
    refine (after_v_ln_g (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_g (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_ln_g (whole8 m c))

/-- After the body, the second moment of `ln_b` is cut out of the joined array. -/
theorem after_v_ln_b (W : Valuation τ sig (Elt Ideal)) : (StableHlo.after hostOps1 W (Proc.tc.devRef main_v148) : S4x2x256.Idx → EReal)
    = cut_ln_b (shapeCast S1x448x128 (W (Proc.tc.devRef main_v48_3) : S1x2x224x128.Idx → EReal) shapeCasts_S1x2x224x128_S1x448x128) := by
  after_results
  rfl

/-- The second moment of `ln_b` at the end. -/
theorem tail_v_ln_b (c : Dev nD) : Pipeline.afterTail pcfgs (fun _ => adm m (okm m)) (dats m (okm m)) 0 (V0 m) [hostOps1] c main_v148 = cut_ln_b (vOf (coreOf m) (m ((c.tc : Thread nD τ).loc main_arg1)) (m ((c.tc : Thread nD τ).loc main_arg2)) (packV m c)) := by
  have e : (Pipeline.afterTail pcfgs (fun _ => adm m (okm m)) (dats m (okm m)) 0 (V0 m) [hostOps1] c main_v148 : S4x2x256.Idx → EReal)
      = cut_ln_b (shapeCast S1x448x128 ((dats m (okm m) 0 c).arrAt 8 (cfgM m (okm m)).N : S1x2x224x128.Idx → EReal) shapeCasts_S1x2x224x128_S1x448x128) := by
    unfold Pipeline.afterTail
    refine (after_v_ln_b (Pipeline.withArrays (Pipeline.pin pcfgs (fun _ => adm m (okm m)) 0).spec c (V0 m c) (fun w => (dats m (okm m) 0 c).arrAt w (cfgM m (okm m)).N))).trans ?_
    exact congrArg (fun a : S1x2x224x128.Idx → EReal => cut_ln_b (shapeCast S1x448x128 a shapeCasts_S1x2x224x128_S1x448x128)) (Pipeline.withArrays_arr (Pipeline.pin pcfgs (fun _ => adm m (okm m)) 0).spec (launch0 (F := Ideal)).win.arr_inj c (V0 m c) (fun w => (dats m (okm m) 0 c).arrAt w (cfgM m (okm m)).N) 8)
  exact e.trans (congrArg cut_ln_b (whole8 m c))

/-- What the run leaves, as functions of its arguments, and its arguments as they were. -/
theorem run_value : θ_run defs (onTc (τ := τ) (main (F := Ideal))) ⟨m, fun _ => 0, ρ⟩ fun r => ∀ c : Dev nD,
      r.2.mem ((c.tc : Thread nD τ).loc main_v56) = cut_sc_conv_w (gOf (coreOf m) (m ((c.tc : Thread nD τ).loc main_arg1)) (m ((c.tc : Thread nD τ).loc main_arg2)))
      ∧ r.2.mem ((c.tc : Thread nD τ).loc main_v58) = cut_sc_conv_b (gOf (coreOf m) (m ((c.tc : Thread nD τ).loc main_arg1)) (m ((c.tc : Thread nD τ).loc main_arg2)))
      ∧ r.2.mem ((c.tc : Thread nD τ).loc main_v60) = cut_lru_b_in (gOf (coreOf m) (m ((c.tc : Thread nD τ).loc main_arg1)) (m ((c.tc : Thread nD τ).loc main_arg2)))
      ∧ r.2.mem ((c.tc : Thread nD τ).loc main_v62) = cut_lru_conv_w (gOf (coreOf m) (m ((c.tc : Thread nD τ).loc main_arg1)) (m ((c.tc : Thread nD τ).loc main_arg2)))
      ∧ r.2.mem ((c.tc : Thread nD τ).loc main_v64) = cut_lru_conv_b (gOf (coreOf m) (m ((c.tc : Thread nD τ).loc main_arg1)) (m ((c.tc : Thread nD τ).loc main_arg2)))
      ∧ r.2.mem ((c.tc : Thread nD τ).loc main_v66) = cut_lru_b_gate (gOf (coreOf m) (m ((c.tc : Thread nD τ).loc main_arg1)) (m ((c.tc : Thread nD τ).loc main_arg2)))
      ∧ r.2.mem ((c.tc : Thread nD τ).loc main_v68) = cut_lru_lambda (gOf (coreOf m) (m ((c.tc : Thread nD τ).loc main_arg1)) (m ((c.tc : Thread nD τ).loc main_arg2)))
      ∧ r.2.mem ((c.tc : Thread nD τ).loc main_v70) = cut_ffn_conv_w (gOf (coreOf m) (m ((c.tc : Thread nD τ).loc main_arg1)) (m ((c.tc : Thread nD τ).loc main_arg2)))
      ∧ r.2.mem ((c.tc : Thread nD τ).loc main_v72) = cut_ffn_conv_b (gOf (coreOf m) (m ((c.tc : Thread nD τ).loc main_arg1)) (m ((c.tc : Thread nD τ).loc main_arg2)))
      ∧ r.2.mem ((c.tc : Thread nD τ).loc main_v74) = cut_ln_g (gOf (coreOf m) (m ((c.tc : Thread nD τ).loc main_arg1)) (m ((c.tc : Thread nD τ).loc main_arg2)))
      ∧ r.2.mem ((c.tc : Thread nD τ).loc main_v76) = cut_ln_b (gOf (coreOf m) (m ((c.tc : Thread nD τ).loc main_arg1)) (m ((c.tc : Thread nD τ).loc main_arg2)))
      ∧ r.2.mem ((c.tc : Thread nD τ).loc main_v80) = cut_sc_conv_w (dOf (coreOf m) (packW m c) (m ((c.tc : Thread nD τ).loc main_arg1)) (m ((c.tc : Thread nD τ).loc main_arg2)) (packM m c) (packV m c))
      ∧ r.2.mem ((c.tc : Thread nD τ).loc main_v82) = cut_sc_conv_b (dOf (coreOf m) (packW m c) (m ((c.tc : Thread nD τ).loc main_arg1)) (m ((c.tc : Thread nD τ).loc main_arg2)) (packM m c) (packV m c))
      ∧ r.2.mem ((c.tc : Thread nD τ).loc main_v84) = cut_lru_b_in (dOf (coreOf m) (packW m c) (m ((c.tc : Thread nD τ).loc main_arg1)) (m ((c.tc : Thread nD τ).loc main_arg2)) (packM m c) (packV m c))
      ∧ r.2.mem ((c.tc : Thread nD τ).loc main_v86) = cut_lru_conv_w (dOf (coreOf m) (packW m c) (m ((c.tc : Thread nD τ).loc main_arg1)) (m ((c.tc : Thread nD τ).loc main_arg2)) (packM m c) (packV m c))
      ∧ r.2.mem ((c.tc : Thread nD τ).loc main_v88) = cut_lru_conv_b (dOf (coreOf m) (packW m c) (m ((c.tc : Thread nD τ).loc main_arg1)) (m ((c.tc : Thread nD τ).loc main_arg2)) (packM m c) (packV m c))
      ∧ r.2.mem ((c.tc : Thread nD τ).loc main_v90) = cut_lru_b_gate (dOf (coreOf m) (packW m c) (m ((c.tc : Thread nD τ).loc main_arg1)) (m ((c.tc : Thread nD τ).loc main_arg2)) (packM m c) (packV m c))
      ∧ r.2.mem ((c.tc : Thread nD τ).loc main_v92) = cut_lru_lambda (dOf (coreOf m) (packW m c) (m ((c.tc : Thread nD τ).loc main_arg1)) (m ((c.tc : Thread nD τ).loc main_arg2)) (packM m c) (packV m c))
      ∧ r.2.mem ((c.tc : Thread nD τ).loc main_v94) = cut_ffn_conv_w (dOf (coreOf m) (packW m c) (m ((c.tc : Thread nD τ).loc main_arg1)) (m ((c.tc : Thread nD τ).loc main_arg2)) (packM m c) (packV m c))
      ∧ r.2.mem ((c.tc : Thread nD τ).loc main_v96) = cut_ffn_conv_b (dOf (coreOf m) (packW m c) (m ((c.tc : Thread nD τ).loc main_arg1)) (m ((c.tc : Thread nD τ).loc main_arg2)) (packM m c) (packV m c))
      ∧ r.2.mem ((c.tc : Thread nD τ).loc main_v98) = cut_ln_g (dOf (coreOf m) (packW m c) (m ((c.tc : Thread nD τ).loc main_arg1)) (m ((c.tc : Thread nD τ).loc main_arg2)) (packM m c) (packV m c))
      ∧ r.2.mem ((c.tc : Thread nD τ).loc main_v100) = cut_ln_b (dOf (coreOf m) (packW m c) (m ((c.tc : Thread nD τ).loc main_arg1)) (m ((c.tc : Thread nD τ).loc main_arg2)) (packM m c) (packV m c))
      ∧ r.2.mem ((c.tc : Thread nD τ).loc main_v104) = cut_sc_conv_w (mOf (coreOf m) (m ((c.tc : Thread nD τ).loc main_arg1)) (m ((c.tc : Thread nD τ).loc main_arg2)) (packM m c))
      ∧ r.2.mem ((c.tc : Thread nD τ).loc main_v106) = cut_sc_conv_b (mOf (coreOf m) (m ((c.tc : Thread nD τ).loc main_arg1)) (m ((c.tc : Thread nD τ).loc main_arg2)) (packM m c))
      ∧ r.2.mem ((c.tc : Thread nD τ).loc main_v108) = cut_lru_b_in (mOf (coreOf m) (m ((c.tc : Thread nD τ).loc main_arg1)) (m ((c.tc : Thread nD τ).loc main_arg2)) (packM m c))
      ∧ r.2.mem ((c.tc : Thread nD τ).loc main_v110) = cut_lru_conv_w (mOf (coreOf m) (m ((c.tc : Thread nD τ).loc main_arg1)) (m ((c.tc : Thread nD τ).loc main_arg2)) (packM m c))
      ∧ r.2.mem ((c.tc : Thread nD τ).loc main_v112) = cut_lru_conv_b (mOf (coreOf m) (m ((c.tc : Thread nD τ).loc main_arg1)) (m ((c.tc : Thread nD τ).loc main_arg2)) (packM m c))
      ∧ r.2.mem ((c.tc : Thread nD τ).loc main_v114) = cut_lru_b_gate (mOf (coreOf m) (m ((c.tc : Thread nD τ).loc main_arg1)) (m ((c.tc : Thread nD τ).loc main_arg2)) (packM m c))
      ∧ r.2.mem ((c.tc : Thread nD τ).loc main_v116) = cut_lru_lambda (mOf (coreOf m) (m ((c.tc : Thread nD τ).loc main_arg1)) (m ((c.tc : Thread nD τ).loc main_arg2)) (packM m c))
      ∧ r.2.mem ((c.tc : Thread nD τ).loc main_v118) = cut_ffn_conv_w (mOf (coreOf m) (m ((c.tc : Thread nD τ).loc main_arg1)) (m ((c.tc : Thread nD τ).loc main_arg2)) (packM m c))
      ∧ r.2.mem ((c.tc : Thread nD τ).loc main_v120) = cut_ffn_conv_b (mOf (coreOf m) (m ((c.tc : Thread nD τ).loc main_arg1)) (m ((c.tc : Thread nD τ).loc main_arg2)) (packM m c))
      ∧ r.2.mem ((c.tc : Thread nD τ).loc main_v122) = cut_ln_g (mOf (coreOf m) (m ((c.tc : Thread nD τ).loc main_arg1)) (m ((c.tc : Thread nD τ).loc main_arg2)) (packM m c))
      ∧ r.2.mem ((c.tc : Thread nD τ).loc main_v124) = cut_ln_b (mOf (coreOf m) (m ((c.tc : Thread nD τ).loc main_arg1)) (m ((c.tc : Thread nD τ).loc main_arg2)) (packM m c))
      ∧ r.2.mem ((c.tc : Thread nD τ).loc main_v128) = cut_sc_conv_w (vOf (coreOf m) (m ((c.tc : Thread nD τ).loc main_arg1)) (m ((c.tc : Thread nD τ).loc main_arg2)) (packV m c))
      ∧ r.2.mem ((c.tc : Thread nD τ).loc main_v130) = cut_sc_conv_b (vOf (coreOf m) (m ((c.tc : Thread nD τ).loc main_arg1)) (m ((c.tc : Thread nD τ).loc main_arg2)) (packV m c))
      ∧ r.2.mem ((c.tc : Thread nD τ).loc main_v132) = cut_lru_b_in (vOf (coreOf m) (m ((c.tc : Thread nD τ).loc main_arg1)) (m ((c.tc : Thread nD τ).loc main_arg2)) (packV m c))
      ∧ r.2.mem ((c.tc : Thread nD τ).loc main_v134) = cut_lru_conv_w (vOf (coreOf m) (m ((c.tc : Thread nD τ).loc main_arg1)) (m ((c.tc : Thread nD τ).loc main_arg2)) (packV m c))
      ∧ r.2.mem ((c.tc : Thread nD τ).loc main_v136) = cut_lru_conv_b (vOf (coreOf m) (m ((c.tc : Thread nD τ).loc main_arg1)) (m ((c.tc : Thread nD τ).loc main_arg2)) (packV m c))
      ∧ r.2.mem ((c.tc : Thread nD τ).loc main_v138) = cut_lru_b_gate (vOf (coreOf m) (m ((c.tc : Thread nD τ).loc main_arg1)) (m ((c.tc : Thread nD τ).loc main_arg2)) (packV m c))
      ∧ r.2.mem ((c.tc : Thread nD τ).loc main_v140) = cut_lru_lambda (vOf (coreOf m) (m ((c.tc : Thread nD τ).loc main_arg1)) (m ((c.tc : Thread nD τ).loc main_arg2)) (packV m c))
      ∧ r.2.mem ((c.tc : Thread nD τ).loc main_v142) = cut_ffn_conv_w (vOf (coreOf m) (m ((c.tc : Thread nD τ).loc main_arg1)) (m ((c.tc : Thread nD τ).loc main_arg2)) (packV m c))
      ∧ r.2.mem ((c.tc : Thread nD τ).loc main_v144) = cut_ffn_conv_b (vOf (coreOf m) (m ((c.tc : Thread nD τ).loc main_arg1)) (m ((c.tc : Thread nD τ).loc main_arg2)) (packV m c))
      ∧ r.2.mem ((c.tc : Thread nD τ).loc main_v146) = cut_ln_g (vOf (coreOf m) (m ((c.tc : Thread nD τ).loc main_arg1)) (m ((c.tc : Thread nD τ).loc main_arg2)) (packV m c))
      ∧ r.2.mem ((c.tc : Thread nD τ).loc main_v148) = cut_ln_b (vOf (coreOf m) (m ((c.tc : Thread nD τ).loc main_arg1)) (m ((c.tc : Thread nD τ).loc main_arg2)) (packV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c =>
    ⟨((h.1 c).2 main_v56 (by decide : main_v56 ∈ Pipeline.restRefs sig spec0)).trans (tail_g_sc_conv_w m c),
     ((h.1 c).2 main_v58 (by decide : main_v58 ∈ Pipeline.restRefs sig spec0)).trans (tail_g_sc_conv_b m c),
     ((h.1 c).2 main_v60 (by decide : main_v60 ∈ Pipeline.restRefs sig spec0)).trans (tail_g_lru_b_in m c),
     ((h.1 c).2 main_v62 (by decide : main_v62 ∈ Pipeline.restRefs sig spec0)).trans (tail_g_lru_conv_w m c),
     ((h.1 c).2 main_v64 (by decide : main_v64 ∈ Pipeline.restRefs sig spec0)).trans (tail_g_lru_conv_b m c),
     ((h.1 c).2 main_v66 (by decide : main_v66 ∈ Pipeline.restRefs sig spec0)).trans (tail_g_lru_b_gate m c),
     ((h.1 c).2 main_v68 (by decide : main_v68 ∈ Pipeline.restRefs sig spec0)).trans (tail_g_lru_lambda m c),
     ((h.1 c).2 main_v70 (by decide : main_v70 ∈ Pipeline.restRefs sig spec0)).trans (tail_g_ffn_conv_w m c),
     ((h.1 c).2 main_v72 (by decide : main_v72 ∈ Pipeline.restRefs sig spec0)).trans (tail_g_ffn_conv_b m c),
     ((h.1 c).2 main_v74 (by decide : main_v74 ∈ Pipeline.restRefs sig spec0)).trans (tail_g_ln_g m c),
     ((h.1 c).2 main_v76 (by decide : main_v76 ∈ Pipeline.restRefs sig spec0)).trans (tail_g_ln_b m c),
     ((h.1 c).2 main_v80 (by decide : main_v80 ∈ Pipeline.restRefs sig spec0)).trans (tail_d_sc_conv_w m c),
     ((h.1 c).2 main_v82 (by decide : main_v82 ∈ Pipeline.restRefs sig spec0)).trans (tail_d_sc_conv_b m c),
     ((h.1 c).2 main_v84 (by decide : main_v84 ∈ Pipeline.restRefs sig spec0)).trans (tail_d_lru_b_in m c),
     ((h.1 c).2 main_v86 (by decide : main_v86 ∈ Pipeline.restRefs sig spec0)).trans (tail_d_lru_conv_w m c),
     ((h.1 c).2 main_v88 (by decide : main_v88 ∈ Pipeline.restRefs sig spec0)).trans (tail_d_lru_conv_b m c),
     ((h.1 c).2 main_v90 (by decide : main_v90 ∈ Pipeline.restRefs sig spec0)).trans (tail_d_lru_b_gate m c),
     ((h.1 c).2 main_v92 (by decide : main_v92 ∈ Pipeline.restRefs sig spec0)).trans (tail_d_lru_lambda m c),
     ((h.1 c).2 main_v94 (by decide : main_v94 ∈ Pipeline.restRefs sig spec0)).trans (tail_d_ffn_conv_w m c),
     ((h.1 c).2 main_v96 (by decide : main_v96 ∈ Pipeline.restRefs sig spec0)).trans (tail_d_ffn_conv_b m c),
     ((h.1 c).2 main_v98 (by decide : main_v98 ∈ Pipeline.restRefs sig spec0)).trans (tail_d_ln_g m c),
     ((h.1 c).2 main_v100 (by decide : main_v100 ∈ Pipeline.restRefs sig spec0)).trans (tail_d_ln_b m c),
     ((h.1 c).2 main_v104 (by decide : main_v104 ∈ Pipeline.restRefs sig spec0)).trans (tail_m_sc_conv_w m c),
     ((h.1 c).2 main_v106 (by decide : main_v106 ∈ Pipeline.restRefs sig spec0)).trans (tail_m_sc_conv_b m c),
     ((h.1 c).2 main_v108 (by decide : main_v108 ∈ Pipeline.restRefs sig spec0)).trans (tail_m_lru_b_in m c),
     ((h.1 c).2 main_v110 (by decide : main_v110 ∈ Pipeline.restRefs sig spec0)).trans (tail_m_lru_conv_w m c),
     ((h.1 c).2 main_v112 (by decide : main_v112 ∈ Pipeline.restRefs sig spec0)).trans (tail_m_lru_conv_b m c),
     ((h.1 c).2 main_v114 (by decide : main_v114 ∈ Pipeline.restRefs sig spec0)).trans (tail_m_lru_b_gate m c),
     ((h.1 c).2 main_v116 (by decide : main_v116 ∈ Pipeline.restRefs sig spec0)).trans (tail_m_lru_lambda m c),
     ((h.1 c).2 main_v118 (by decide : main_v118 ∈ Pipeline.restRefs sig spec0)).trans (tail_m_ffn_conv_w m c),
     ((h.1 c).2 main_v120 (by decide : main_v120 ∈ Pipeline.restRefs sig spec0)).trans (tail_m_ffn_conv_b m c),
     ((h.1 c).2 main_v122 (by decide : main_v122 ∈ Pipeline.restRefs sig spec0)).trans (tail_m_ln_g m c),
     ((h.1 c).2 main_v124 (by decide : main_v124 ∈ Pipeline.restRefs sig spec0)).trans (tail_m_ln_b m c),
     ((h.1 c).2 main_v128 (by decide : main_v128 ∈ Pipeline.restRefs sig spec0)).trans (tail_v_sc_conv_w m c),
     ((h.1 c).2 main_v130 (by decide : main_v130 ∈ Pipeline.restRefs sig spec0)).trans (tail_v_sc_conv_b m c),
     ((h.1 c).2 main_v132 (by decide : main_v132 ∈ Pipeline.restRefs sig spec0)).trans (tail_v_lru_b_in m c),
     ((h.1 c).2 main_v134 (by decide : main_v134 ∈ Pipeline.restRefs sig spec0)).trans (tail_v_lru_conv_w m c),
     ((h.1 c).2 main_v136 (by decide : main_v136 ∈ Pipeline.restRefs sig spec0)).trans (tail_v_lru_conv_b m c),
     ((h.1 c).2 main_v138 (by decide : main_v138 ∈ Pipeline.restRefs sig spec0)).trans (tail_v_lru_b_gate m c),
     ((h.1 c).2 main_v140 (by decide : main_v140 ∈ Pipeline.restRefs sig spec0)).trans (tail_v_lru_lambda m c),
     ((h.1 c).2 main_v142 (by decide : main_v142 ∈ Pipeline.restRefs sig spec0)).trans (tail_v_ffn_conv_w m c),
     ((h.1 c).2 main_v144 (by decide : main_v144 ∈ Pipeline.restRefs sig spec0)).trans (tail_v_ffn_conv_b m c),
     ((h.1 c).2 main_v146 (by decide : main_v146 ∈ Pipeline.restRefs sig spec0)).trans (tail_v_ln_g m c),
     ((h.1 c).2 main_v148 (by decide : main_v148 ∈ Pipeline.restRefs sig spec0)).trans (tail_v_ln_b m c), h.2 c⟩) (θ_run_and (run_main m ρ (okm m)) (unchanged m ρ (okm m)))

end Cert.UpdSmallIdeal.Value

end
-- ==== Proof.UpdSmallEach.lean ====
/- The small weights' gradient, step and moments, each at its weight's own shape: what is cut out of the joined arrays. -/
module

public import proofs.«01_k».proof.Proof.UpdSmallRun

@[expose] public section

set_option maxRecDepth 16384
set_option maxHeartbeats 1000000

noncomputable section

open Idealize.ShloMosaic Idealize.ShloMosaic.TcCoe Idealize.SL.Sem Idealize.ShloMosaic.ValueIdx

namespace Cert.UpdSmallIdeal.Value

open Cert.UpdSmallIdeal Cert.UpdSmallIdeal.Gen AdamStep

/-- A packed weight at its own index. -/
theorem at_self (x : Vec Ideal S1x448x128 .f32) (i : S1x448x128.Idx) : x i = at3 (A := 1) (B := 448) (C := 128) x (i 0).val (i 1).val (i 2).val := by
  have h0 : (i 0).val < 1 := (i 0).isLt
  have h1 : (i 1).val < 448 := (i 1).isLt
  have h2 : (i 2).val < 128 := (i 2).isLt
  unfold at3
  refine congrArg x ?_
  funext b; apply Fin.ext
  match b with
  | ⟨0, _⟩ => exact (Nat.mod_eq_of_lt h0).symm
  | ⟨1, _⟩ => exact (Nat.mod_eq_of_lt h1).symm
  | ⟨2, _⟩ => exact (Nat.mod_eq_of_lt h2).symm

variable (k : BitVec 32) (g1 g2 : Vec Ideal S1x224x128 .f32)

/-- The first moment, element by element. -/
theorem mOf_eq (a : Vec Ideal S1x448x128 .f32) : mOf k g1 g2 a = fun i => mom1 (gOf k g1 g2 i) (a i) := by
  funext i
  rw [at_self a]
  rfl

/-- The second moment, element by element. -/
theorem vOf_eq (a : Vec Ideal S1x448x128 .f32) : vOf k g1 g2 a = fun i => mom2 (gOf k g1 g2 i) (a i) := by
  funext i
  rw [at_self a]
  rfl

/-- The step, element by element. -/
theorem dOf_eq (w a b : Vec Ideal S1x448x128 .f32) : dOf k w g1 g2 a b = fun i => delta (gOf k g1 g2 i) (w i) (a i) (b i) := by
  funext i
  rw [at_self w, at_self a, at_self b]
  rfl

/-- The gradient of `sc_conv_w`. -/
def g_sc_conv_w : Vec Ideal S2x3x256 .f32 := cut_sc_conv_w (gOf k g1 g2)
/-- The step of `sc_conv_w`. -/
def d_sc_conv_w (w a b : Vec Ideal S2x3x256 .f32) : Vec Ideal S2x3x256 .f32 := fun i => delta (g_sc_conv_w k g1 g2 i) (w i) (a i) (b i)
/-- The first moment of `sc_conv_w`. -/
def m_sc_conv_w (a : Vec Ideal S2x3x256 .f32) : Vec Ideal S2x3x256 .f32 := fun i => mom1 (g_sc_conv_w k g1 g2 i) (a i)
/-- The second moment of `sc_conv_w`. -/
def v_sc_conv_w (a : Vec Ideal S2x3x256 .f32) : Vec Ideal S2x3x256 .f32 := fun i => mom2 (g_sc_conv_w k g1 g2 i) (a i)

/-- The gradient of `sc_conv_b`. -/
def g_sc_conv_b : Vec Ideal S2x1024 .f32 := cut_sc_conv_b (gOf k g1 g2)
/-- The step of `sc_conv_b`. -/
def d_sc_conv_b (w a b : Vec Ideal S2x1024 .f32) : Vec Ideal S2x1024 .f32 := fun i => delta (g_sc_conv_b k g1 g2 i) (w i) (a i) (b i)
/-- The first moment of `sc_conv_b`. -/
def m_sc_conv_b (a : Vec Ideal S2x1024 .f32) : Vec Ideal S2x1024 .f32 := fun i => mom1 (g_sc_conv_b k g1 g2 i) (a i)
/-- The second moment of `sc_conv_b`. -/
def v_sc_conv_b (a : Vec Ideal S2x1024 .f32) : Vec Ideal S2x1024 .f32 := fun i => mom2 (g_sc_conv_b k g1 g2 i) (a i)

/-- The gradient of `lru_b_in`. -/
def g_lru_b_in : Vec Ideal S2x640 .f32 := cut_lru_b_in (gOf k g1 g2)
/-- The step of `lru_b_in`. -/
def d_lru_b_in (w a b : Vec Ideal S2x640 .f32) : Vec Ideal S2x640 .f32 := fun i => delta (g_lru_b_in k g1 g2 i) (w i) (a i) (b i)
/-- The first moment of `lru_b_in`. -/
def m_lru_b_in (a : Vec Ideal S2x640 .f32) : Vec Ideal S2x640 .f32 := fun i => mom1 (g_lru_b_in k g1 g2 i) (a i)
/-- The second moment of `lru_b_in`. -/
def v_lru_b_in (a : Vec Ideal S2x640 .f32) : Vec Ideal S2x640 .f32 := fun i => mom2 (g_lru_b_in k g1 g2 i) (a i)

/-- The gradient of `lru_conv_w`. -/
def g_lru_conv_w : Vec Ideal S2x4x320 .f32 := cut_lru_conv_w (gOf k g1 g2)
/-- The step of `lru_conv_w`. -/
def d_lru_conv_w (w a b : Vec Ideal S2x4x320 .f32) : Vec Ideal S2x4x320 .f32 := fun i => delta (g_lru_conv_w k g1 g2 i) (w i) (a i) (b i)
/-- The first moment of `lru_conv_w`. -/
def m_lru_conv_w (a : Vec Ideal S2x4x320 .f32) : Vec Ideal S2x4x320 .f32 := fun i => mom1 (g_lru_conv_w k g1 g2 i) (a i)
/-- The second moment of `lru_conv_w`. -/
def v_lru_conv_w (a : Vec Ideal S2x4x320 .f32) : Vec Ideal S2x4x320 .f32 := fun i => mom2 (g_lru_conv_w k g1 g2 i) (a i)

/-- The gradient of `lru_conv_b`. -/
def g_lru_conv_b : Vec Ideal S2x320 .f32 := cut_lru_conv_b (gOf k g1 g2)
/-- The step of `lru_conv_b`. -/
def d_lru_conv_b (w a b : Vec Ideal S2x320 .f32) : Vec Ideal S2x320 .f32 := fun i => delta (g_lru_conv_b k g1 g2 i) (w i) (a i) (b i)
/-- The first moment of `lru_conv_b`. -/
def m_lru_conv_b (a : Vec Ideal S2x320 .f32) : Vec Ideal S2x320 .f32 := fun i => mom1 (g_lru_conv_b k g1 g2 i) (a i)
/-- The second moment of `lru_conv_b`. -/
def v_lru_conv_b (a : Vec Ideal S2x320 .f32) : Vec Ideal S2x320 .f32 := fun i => mom2 (g_lru_conv_b k g1 g2 i) (a i)

/-- The gradient of `lru_b_gate`. -/
def g_lru_b_gate : Vec Ideal S2x10x64 .f32 := cut_lru_b_gate (gOf k g1 g2)
/-- The step of `lru_b_gate`. -/
def d_lru_b_gate (w a b : Vec Ideal S2x10x64 .f32) : Vec Ideal S2x10x64 .f32 := fun i => delta (g_lru_b_gate k g1 g2 i) (w i) (a i) (b i)
/-- The first moment of `lru_b_gate`. -/
def m_lru_b_gate (a : Vec Ideal S2x10x64 .f32) : Vec Ideal S2x10x64 .f32 := fun i => mom1 (g_lru_b_gate k g1 g2 i) (a i)
/-- The second moment of `lru_b_gate`. -/
def v_lru_b_gate (a : Vec Ideal S2x10x64 .f32) : Vec Ideal S2x10x64 .f32 := fun i => mom2 (g_lru_b_gate k g1 g2 i) (a i)

/-- The gradient of `lru_lambda`. -/
def g_lru_lambda : Vec Ideal S2x320 .f32 := cut_lru_lambda (gOf k g1 g2)
/-- The step of `lru_lambda`. -/
def d_lru_lambda (w a b : Vec Ideal S2x320 .f32) : Vec Ideal S2x320 .f32 := fun i => delta (g_lru_lambda k g1 g2 i) (w i) (a i) (b i)
/-- The first moment of `lru_lambda`. -/
def m_lru_lambda (a : Vec Ideal S2x320 .f32) : Vec Ideal S2x320 .f32 := fun i => mom1 (g_lru_lambda k g1 g2 i) (a i)
/-- The second moment of `lru_lambda`. -/
def v_lru_lambda (a : Vec Ideal S2x320 .f32) : Vec Ideal S2x320 .f32 := fun i => mom2 (g_lru_lambda k g1 g2 i) (a i)

/-- The gradient of `ffn_conv_w`. -/
def g_ffn_conv_w : Vec Ideal S4x3x1408 .f32 := cut_ffn_conv_w (gOf k g1 g2)
/-- The step of `ffn_conv_w`. -/
def d_ffn_conv_w (w a b : Vec Ideal S4x3x1408 .f32) : Vec Ideal S4x3x1408 .f32 := fun i => delta (g_ffn_conv_w k g1 g2 i) (w i) (a i) (b i)
/-- The first moment of `ffn_conv_w`. -/
def m_ffn_conv_w (a : Vec Ideal S4x3x1408 .f32) : Vec Ideal S4x3x1408 .f32 := fun i => mom1 (g_ffn_conv_w k g1 g2 i) (a i)
/-- The second moment of `ffn_conv_w`. -/
def v_ffn_conv_w (a : Vec Ideal S4x3x1408 .f32) : Vec Ideal S4x3x1408 .f32 := fun i => mom2 (g_ffn_conv_w k g1 g2 i) (a i)

/-- The gradient of `ffn_conv_b`. -/
def g_ffn_conv_b : Vec Ideal S4x5632 .f32 := cut_ffn_conv_b (gOf k g1 g2)
/-- The step of `ffn_conv_b`. -/
def d_ffn_conv_b (w a b : Vec Ideal S4x5632 .f32) : Vec Ideal S4x5632 .f32 := fun i => delta (g_ffn_conv_b k g1 g2 i) (w i) (a i) (b i)
/-- The first moment of `ffn_conv_b`. -/
def m_ffn_conv_b (a : Vec Ideal S4x5632 .f32) : Vec Ideal S4x5632 .f32 := fun i => mom1 (g_ffn_conv_b k g1 g2 i) (a i)
/-- The second moment of `ffn_conv_b`. -/
def v_ffn_conv_b (a : Vec Ideal S4x5632 .f32) : Vec Ideal S4x5632 .f32 := fun i => mom2 (g_ffn_conv_b k g1 g2 i) (a i)

/-- The gradient of `ln_g`. -/
def g_ln_g : Vec Ideal S4x2x256 .f32 := cut_ln_g (gOf k g1 g2)
/-- The step of `ln_g`. -/
def d_ln_g (w a b : Vec Ideal S4x2x256 .f32) : Vec Ideal S4x2x256 .f32 := fun i => delta (g_ln_g k g1 g2 i) (w i) (a i) (b i)
/-- The first moment of `ln_g`. -/
def m_ln_g (a : Vec Ideal S4x2x256 .f32) : Vec Ideal S4x2x256 .f32 := fun i => mom1 (g_ln_g k g1 g2 i) (a i)
/-- The second moment of `ln_g`. -/
def v_ln_g (a : Vec Ideal S4x2x256 .f32) : Vec Ideal S4x2x256 .f32 := fun i => mom2 (g_ln_g k g1 g2 i) (a i)

/-- The gradient of `ln_b`. -/
def g_ln_b : Vec Ideal S4x2x256 .f32 := cut_ln_b (gOf k g1 g2)
/-- The step of `ln_b`. -/
def d_ln_b (w a b : Vec Ideal S4x2x256 .f32) : Vec Ideal S4x2x256 .f32 := fun i => delta (g_ln_b k g1 g2 i) (w i) (a i) (b i)
/-- The first moment of `ln_b`. -/
def m_ln_b (a : Vec Ideal S4x2x256 .f32) : Vec Ideal S4x2x256 .f32 := fun i => mom1 (g_ln_b k g1 g2 i) (a i)
/-- The second moment of `ln_b`. -/
def v_ln_b (a : Vec Ideal S4x2x256 .f32) : Vec Ideal S4x2x256 .f32 := fun i => mom2 (g_ln_b k g1 g2 i) (a i)

variable (x0 : Vec Ideal S2x3x256 .f32) (x1 : Vec Ideal S2x1024 .f32) (x2 : Vec Ideal S2x640 .f32) (x3 : Vec Ideal S2x4x320 .f32) (x4 : Vec Ideal S2x320 .f32) (x5 : Vec Ideal S2x10x64 .f32) (x6 : Vec Ideal S2x320 .f32) (x7 : Vec Ideal S4x3x1408 .f32) (x8 : Vec Ideal S4x5632 .f32) (x9 : Vec Ideal S4x2x256 .f32) (x10 : Vec Ideal S4x2x256 .f32)
  (y0 : Vec Ideal S2x3x256 .f32) (y1 : Vec Ideal S2x1024 .f32) (y2 : Vec Ideal S2x640 .f32) (y3 : Vec Ideal S2x4x320 .f32) (y4 : Vec Ideal S2x320 .f32) (y5 : Vec Ideal S2x10x64 .f32) (y6 : Vec Ideal S2x320 .f32) (y7 : Vec Ideal S4x3x1408 .f32) (y8 : Vec Ideal S4x5632 .f32) (y9 : Vec Ideal S4x2x256 .f32) (y10 : Vec Ideal S4x2x256 .f32)
  (z0 : Vec Ideal S2x3x256 .f32) (z1 : Vec Ideal S2x1024 .f32) (z2 : Vec Ideal S2x640 .f32) (z3 : Vec Ideal S2x4x320 .f32) (z4 : Vec Ideal S2x320 .f32) (z5 : Vec Ideal S2x10x64 .f32) (z6 : Vec Ideal S2x320 .f32) (z7 : Vec Ideal S4x3x1408 .f32) (z8 : Vec Ideal S4x5632 .f32) (z9 : Vec Ideal S4x2x256 .f32) (z10 : Vec Ideal S4x2x256 .f32)

/-- The step of `sc_conv_w`, cut out of the packed step. -/
theorem cut_d_sc_conv_w : cut_sc_conv_w (dOf k (pack x0 x1 x2 x3 x4 x5 x6 x7 x8 x9 x10) g1 g2 (pack y0 y1 y2 y3 y4 y5 y6 y7 y8 y9 y10) (pack z0 z1 z2 z3 z4 z5 z6 z7 z8 z9 z10)) = d_sc_conv_w k g1 g2 x0 y0 z0 := by
  rw [dOf_eq]
  refine (show _ = (fun i => delta (cut_sc_conv_w (gOf k g1 g2) i) (cut_sc_conv_w (pack x0 x1 x2 x3 x4 x5 x6 x7 x8 x9 x10) i) (cut_sc_conv_w (pack y0 y1 y2 y3 y4 y5 y6 y7 y8 y9 y10) i) (cut_sc_conv_w (pack z0 z1 z2 z3 z4 z5 z6 z7 z8 z9 z10) i)) from rfl).trans ?_
  rw [cut_pack_sc_conv_w, cut_pack_sc_conv_w, cut_pack_sc_conv_w]
  rfl

/-- The first moment of `sc_conv_w`, cut out of the packed first moment. -/
theorem cut_m_sc_conv_w : cut_sc_conv_w (mOf k g1 g2 (pack y0 y1 y2 y3 y4 y5 y6 y7 y8 y9 y10)) = m_sc_conv_w k g1 g2 y0 := by
  rw [mOf_eq]
  refine (show _ = (fun i => mom1 (cut_sc_conv_w (gOf k g1 g2) i) (cut_sc_conv_w (pack y0 y1 y2 y3 y4 y5 y6 y7 y8 y9 y10) i)) from rfl).trans ?_
  rw [cut_pack_sc_conv_w]
  rfl

/-- The second moment of `sc_conv_w`, cut out of the packed second moment. -/
theorem cut_v_sc_conv_w : cut_sc_conv_w (vOf k g1 g2 (pack z0 z1 z2 z3 z4 z5 z6 z7 z8 z9 z10)) = v_sc_conv_w k g1 g2 z0 := by
  rw [vOf_eq]
  refine (show _ = (fun i => mom2 (cut_sc_conv_w (gOf k g1 g2) i) (cut_sc_conv_w (pack z0 z1 z2 z3 z4 z5 z6 z7 z8 z9 z10) i)) from rfl).trans ?_
  rw [cut_pack_sc_conv_w]
  rfl

/-- The step of `sc_conv_b`, cut out of the packed step. -/
theorem cut_d_sc_conv_b : cut_sc_conv_b (dOf k (pack x0 x1 x2 x3 x4 x5 x6 x7 x8 x9 x10) g1 g2 (pack y0 y1 y2 y3 y4 y5 y6 y7 y8 y9 y10) (pack z0 z1 z2 z3 z4 z5 z6 z7 z8 z9 z10)) = d_sc_conv_b k g1 g2 x1 y1 z1 := by
  rw [dOf_eq]
  refine (show _ = (fun i => delta (cut_sc_conv_b (gOf k g1 g2) i) (cut_sc_conv_b (pack x0 x1 x2 x3 x4 x5 x6 x7 x8 x9 x10) i) (cut_sc_conv_b (pack y0 y1 y2 y3 y4 y5 y6 y7 y8 y9 y10) i) (cut_sc_conv_b (pack z0 z1 z2 z3 z4 z5 z6 z7 z8 z9 z10) i)) from rfl).trans ?_
  rw [cut_pack_sc_conv_b, cut_pack_sc_conv_b, cut_pack_sc_conv_b]
  rfl

/-- The first moment of `sc_conv_b`, cut out of the packed first moment. -/
theorem cut_m_sc_conv_b : cut_sc_conv_b (mOf k g1 g2 (pack y0 y1 y2 y3 y4 y5 y6 y7 y8 y9 y10)) = m_sc_conv_b k g1 g2 y1 := by
  rw [mOf_eq]
  refine (show _ = (fun i => mom1 (cut_sc_conv_b (gOf k g1 g2) i) (cut_sc_conv_b (pack y0 y1 y2 y3 y4 y5 y6 y7 y8 y9 y10) i)) from rfl).trans ?_
  rw [cut_pack_sc_conv_b]
  rfl

/-- The second moment of `sc_conv_b`, cut out of the packed second moment. -/
theorem cut_v_sc_conv_b : cut_sc_conv_b (vOf k g1 g2 (pack z0 z1 z2 z3 z4 z5 z6 z7 z8 z9 z10)) = v_sc_conv_b k g1 g2 z1 := by
  rw [vOf_eq]
  refine (show _ = (fun i => mom2 (cut_sc_conv_b (gOf k g1 g2) i) (cut_sc_conv_b (pack z0 z1 z2 z3 z4 z5 z6 z7 z8 z9 z10) i)) from rfl).trans ?_
  rw [cut_pack_sc_conv_b]
  rfl

/-- The step of `lru_b_in`, cut out of the packed step. -/
theorem cut_d_lru_b_in : cut_lru_b_in (dOf k (pack x0 x1 x2 x3 x4 x5 x6 x7 x8 x9 x10) g1 g2 (pack y0 y1 y2 y3 y4 y5 y6 y7 y8 y9 y10) (pack z0 z1 z2 z3 z4 z5 z6 z7 z8 z9 z10)) = d_lru_b_in k g1 g2 x2 y2 z2 := by
  rw [dOf_eq]
  refine (show _ = (fun i => delta (cut_lru_b_in (gOf k g1 g2) i) (cut_lru_b_in (pack x0 x1 x2 x3 x4 x5 x6 x7 x8 x9 x10) i) (cut_lru_b_in (pack y0 y1 y2 y3 y4 y5 y6 y7 y8 y9 y10) i) (cut_lru_b_in (pack z0 z1 z2 z3 z4 z5 z6 z7 z8 z9 z10) i)) from rfl).trans ?_
  rw [cut_pack_lru_b_in, cut_pack_lru_b_in, cut_pack_lru_b_in]
  rfl

/-- The first moment of `lru_b_in`, cut out of the packed first moment. -/
theorem cut_m_lru_b_in : cut_lru_b_in (mOf k g1 g2 (pack y0 y1 y2 y3 y4 y5 y6 y7 y8 y9 y10)) = m_lru_b_in k g1 g2 y2 := by
  rw [mOf_eq]
  refine (show _ = (fun i => mom1 (cut_lru_b_in (gOf k g1 g2) i) (cut_lru_b_in (pack y0 y1 y2 y3 y4 y5 y6 y7 y8 y9 y10) i)) from rfl).trans ?_
  rw [cut_pack_lru_b_in]
  rfl

/-- The second moment of `lru_b_in`, cut out of the packed second moment. -/
theorem cut_v_lru_b_in : cut_lru_b_in (vOf k g1 g2 (pack z0 z1 z2 z3 z4 z5 z6 z7 z8 z9 z10)) = v_lru_b_in k g1 g2 z2 := by
  rw [vOf_eq]
  refine (show _ = (fun i => mom2 (cut_lru_b_in (gOf k g1 g2) i) (cut_lru_b_in (pack z0 z1 z2 z3 z4 z5 z6 z7 z8 z9 z10) i)) from rfl).trans ?_
  rw [cut_pack_lru_b_in]
  rfl

/-- The step of `lru_conv_w`, cut out of the packed step. -/
theorem cut_d_lru_conv_w : cut_lru_conv_w (dOf k (pack x0 x1 x2 x3 x4 x5 x6 x7 x8 x9 x10) g1 g2 (pack y0 y1 y2 y3 y4 y5 y6 y7 y8 y9 y10) (pack z0 z1 z2 z3 z4 z5 z6 z7 z8 z9 z10)) = d_lru_conv_w k g1 g2 x3 y3 z3 := by
  rw [dOf_eq]
  refine (show _ = (fun i => delta (cut_lru_conv_w (gOf k g1 g2) i) (cut_lru_conv_w (pack x0 x1 x2 x3 x4 x5 x6 x7 x8 x9 x10) i) (cut_lru_conv_w (pack y0 y1 y2 y3 y4 y5 y6 y7 y8 y9 y10) i) (cut_lru_conv_w (pack z0 z1 z2 z3 z4 z5 z6 z7 z8 z9 z10) i)) from rfl).trans ?_
  rw [cut_pack_lru_conv_w, cut_pack_lru_conv_w, cut_pack_lru_conv_w]
  rfl

/-- The first moment of `lru_conv_w`, cut out of the packed first moment. -/
theorem cut_m_lru_conv_w : cut_lru_conv_w (mOf k g1 g2 (pack y0 y1 y2 y3 y4 y5 y6 y7 y8 y9 y10)) = m_lru_conv_w k g1 g2 y3 := by
  rw [mOf_eq]
  refine (show _ = (fun i => mom1 (cut_lru_conv_w (gOf k g1 g2) i) (cut_lru_conv_w (pack y0 y1 y2 y3 y4 y5 y6 y7 y8 y9 y10) i)) from rfl).trans ?_
  rw [cut_pack_lru_conv_w]
  rfl

/-- The second moment of `lru_conv_w`, cut out of the packed second moment. -/
theorem cut_v_lru_conv_w : cut_lru_conv_w (vOf k g1 g2 (pack z0 z1 z2 z3 z4 z5 z6 z7 z8 z9 z10)) = v_lru_conv_w k g1 g2 z3 := by
  rw [vOf_eq]
  refine (show _ = (fun i => mom2 (cut_lru_conv_w (gOf k g1 g2) i) (cut_lru_conv_w (pack z0 z1 z2 z3 z4 z5 z6 z7 z8 z9 z10) i)) from rfl).trans ?_
  rw [cut_pack_lru_conv_w]
  rfl

/-- The step of `lru_conv_b`, cut out of the packed step. -/
theorem cut_d_lru_conv_b : cut_lru_conv_b (dOf k (pack x0 x1 x2 x3 x4 x5 x6 x7 x8 x9 x10) g1 g2 (pack y0 y1 y2 y3 y4 y5 y6 y7 y8 y9 y10) (pack z0 z1 z2 z3 z4 z5 z6 z7 z8 z9 z10)) = d_lru_conv_b k g1 g2 x4 y4 z4 := by
  rw [dOf_eq]
  refine (show _ = (fun i => delta (cut_lru_conv_b (gOf k g1 g2) i) (cut_lru_conv_b (pack x0 x1 x2 x3 x4 x5 x6 x7 x8 x9 x10) i) (cut_lru_conv_b (pack y0 y1 y2 y3 y4 y5 y6 y7 y8 y9 y10) i) (cut_lru_conv_b (pack z0 z1 z2 z3 z4 z5 z6 z7 z8 z9 z10) i)) from rfl).trans ?_
  rw [cut_pack_lru_conv_b, cut_pack_lru_conv_b, cut_pack_lru_conv_b]
  rfl

/-- The first moment of `lru_conv_b`, cut out of the packed first moment. -/
theorem cut_m_lru_conv_b : cut_lru_conv_b (mOf k g1 g2 (pack y0 y1 y2 y3 y4 y5 y6 y7 y8 y9 y10)) = m_lru_conv_b k g1 g2 y4 := by
  rw [mOf_eq]
  refine (show _ = (fun i => mom1 (cut_lru_conv_b (gOf k g1 g2) i) (cut_lru_conv_b (pack y0 y1 y2 y3 y4 y5 y6 y7 y8 y9 y10) i)) from rfl).trans ?_
  rw [cut_pack_lru_conv_b]
  rfl

/-- The second moment of `lru_conv_b`, cut out of the packed second moment. -/
theorem cut_v_lru_conv_b : cut_lru_conv_b (vOf k g1 g2 (pack z0 z1 z2 z3 z4 z5 z6 z7 z8 z9 z10)) = v_lru_conv_b k g1 g2 z4 := by
  rw [vOf_eq]
  refine (show _ = (fun i => mom2 (cut_lru_conv_b (gOf k g1 g2) i) (cut_lru_conv_b (pack z0 z1 z2 z3 z4 z5 z6 z7 z8 z9 z10) i)) from rfl).trans ?_
  rw [cut_pack_lru_conv_b]
  rfl

/-- The step of `lru_b_gate`, cut out of the packed step. -/
theorem cut_d_lru_b_gate : cut_lru_b_gate (dOf k (pack x0 x1 x2 x3 x4 x5 x6 x7 x8 x9 x10) g1 g2 (pack y0 y1 y2 y3 y4 y5 y6 y7 y8 y9 y10) (pack z0 z1 z2 z3 z4 z5 z6 z7 z8 z9 z10)) = d_lru_b_gate k g1 g2 x5 y5 z5 := by
  rw [dOf_eq]
  refine (show _ = (fun i => delta (cut_lru_b_gate (gOf k g1 g2) i) (cut_lru_b_gate (pack x0 x1 x2 x3 x4 x5 x6 x7 x8 x9 x10) i) (cut_lru_b_gate (pack y0 y1 y2 y3 y4 y5 y6 y7 y8 y9 y10) i) (cut_lru_b_gate (pack z0 z1 z2 z3 z4 z5 z6 z7 z8 z9 z10) i)) from rfl).trans ?_
  rw [cut_pack_lru_b_gate, cut_pack_lru_b_gate, cut_pack_lru_b_gate]
  rfl

/-- The first moment of `lru_b_gate`, cut out of the packed first moment. -/
theorem cut_m_lru_b_gate : cut_lru_b_gate (mOf k g1 g2 (pack y0 y1 y2 y3 y4 y5 y6 y7 y8 y9 y10)) = m_lru_b_gate k g1 g2 y5 := by
  rw [mOf_eq]
  refine (show _ = (fun i => mom1 (cut_lru_b_gate (gOf k g1 g2) i) (cut_lru_b_gate (pack y0 y1 y2 y3 y4 y5 y6 y7 y8 y9 y10) i)) from rfl).trans ?_
  rw [cut_pack_lru_b_gate]
  rfl

/-- The second moment of `lru_b_gate`, cut out of the packed second moment. -/
theorem cut_v_lru_b_gate : cut_lru_b_gate (vOf k g1 g2 (pack z0 z1 z2 z3 z4 z5 z6 z7 z8 z9 z10)) = v_lru_b_gate k g1 g2 z5 := by
  rw [vOf_eq]
  refine (show _ = (fun i => mom2 (cut_lru_b_gate (gOf k g1 g2) i) (cut_lru_b_gate (pack z0 z1 z2 z3 z4 z5 z6 z7 z8 z9 z10) i)) from rfl).trans ?_
  rw [cut_pack_lru_b_gate]
  rfl

/-- The step of `lru_lambda`, cut out of the packed step. -/
theorem cut_d_lru_lambda : cut_lru_lambda (dOf k (pack x0 x1 x2 x3 x4 x5 x6 x7 x8 x9 x10) g1 g2 (pack y0 y1 y2 y3 y4 y5 y6 y7 y8 y9 y10) (pack z0 z1 z2 z3 z4 z5 z6 z7 z8 z9 z10)) = d_lru_lambda k g1 g2 x6 y6 z6 := by
  rw [dOf_eq]
  refine (show _ = (fun i => delta (cut_lru_lambda (gOf k g1 g2) i) (cut_lru_lambda (pack x0 x1 x2 x3 x4 x5 x6 x7 x8 x9 x10) i) (cut_lru_lambda (pack y0 y1 y2 y3 y4 y5 y6 y7 y8 y9 y10) i) (cut_lru_lambda (pack z0 z1 z2 z3 z4 z5 z6 z7 z8 z9 z10) i)) from rfl).trans ?_
  rw [cut_pack_lru_lambda, cut_pack_lru_lambda, cut_pack_lru_lambda]
  rfl

/-- The first moment of `lru_lambda`, cut out of the packed first moment. -/
theorem cut_m_lru_lambda : cut_lru_lambda (mOf k g1 g2 (pack y0 y1 y2 y3 y4 y5 y6 y7 y8 y9 y10)) = m_lru_lambda k g1 g2 y6 := by
  rw [mOf_eq]
  refine (show _ = (fun i => mom1 (cut_lru_lambda (gOf k g1 g2) i) (cut_lru_lambda (pack y0 y1 y2 y3 y4 y5 y6 y7 y8 y9 y10) i)) from rfl).trans ?_
  rw [cut_pack_lru_lambda]
  rfl

/-- The second moment of `lru_lambda`, cut out of the packed second moment. -/
theorem cut_v_lru_lambda : cut_lru_lambda (vOf k g1 g2 (pack z0 z1 z2 z3 z4 z5 z6 z7 z8 z9 z10)) = v_lru_lambda k g1 g2 z6 := by
  rw [vOf_eq]
  refine (show _ = (fun i => mom2 (cut_lru_lambda (gOf k g1 g2) i) (cut_lru_lambda (pack z0 z1 z2 z3 z4 z5 z6 z7 z8 z9 z10) i)) from rfl).trans ?_
  rw [cut_pack_lru_lambda]
  rfl

/-- The step of `ffn_conv_w`, cut out of the packed step. -/
theorem cut_d_ffn_conv_w : cut_ffn_conv_w (dOf k (pack x0 x1 x2 x3 x4 x5 x6 x7 x8 x9 x10) g1 g2 (pack y0 y1 y2 y3 y4 y5 y6 y7 y8 y9 y10) (pack z0 z1 z2 z3 z4 z5 z6 z7 z8 z9 z10)) = d_ffn_conv_w k g1 g2 x7 y7 z7 := by
  rw [dOf_eq]
  refine (show _ = (fun i => delta (cut_ffn_conv_w (gOf k g1 g2) i) (cut_ffn_conv_w (pack x0 x1 x2 x3 x4 x5 x6 x7 x8 x9 x10) i) (cut_ffn_conv_w (pack y0 y1 y2 y3 y4 y5 y6 y7 y8 y9 y10) i) (cut_ffn_conv_w (pack z0 z1 z2 z3 z4 z5 z6 z7 z8 z9 z10) i)) from rfl).trans ?_
  rw [cut_pack_ffn_conv_w, cut_pack_ffn_conv_w, cut_pack_ffn_conv_w]
  rfl

/-- The first moment of `ffn_conv_w`, cut out of the packed first moment. -/
theorem cut_m_ffn_conv_w : cut_ffn_conv_w (mOf k g1 g2 (pack y0 y1 y2 y3 y4 y5 y6 y7 y8 y9 y10)) = m_ffn_conv_w k g1 g2 y7 := by
  rw [mOf_eq]
  refine (show _ = (fun i => mom1 (cut_ffn_conv_w (gOf k g1 g2) i) (cut_ffn_conv_w (pack y0 y1 y2 y3 y4 y5 y6 y7 y8 y9 y10) i)) from rfl).trans ?_
  rw [cut_pack_ffn_conv_w]
  rfl

/-- The second moment of `ffn_conv_w`, cut out of the packed second moment. -/
theorem cut_v_ffn_conv_w : cut_ffn_conv_w (vOf k g1 g2 (pack z0 z1 z2 z3 z4 z5 z6 z7 z8 z9 z10)) = v_ffn_conv_w k g1 g2 z7 := by
  rw [vOf_eq]
  refine (show _ = (fun i => mom2 (cut_ffn_conv_w (gOf k g1 g2) i) (cut_ffn_conv_w (pack z0 z1 z2 z3 z4 z5 z6 z7 z8 z9 z10) i)) from rfl).trans ?_
  rw [cut_pack_ffn_conv_w]
  rfl

/-- The step of `ffn_conv_b`, cut out of the packed step. -/
theorem cut_d_ffn_conv_b : cut_ffn_conv_b (dOf k (pack x0 x1 x2 x3 x4 x5 x6 x7 x8 x9 x10) g1 g2 (pack y0 y1 y2 y3 y4 y5 y6 y7 y8 y9 y10) (pack z0 z1 z2 z3 z4 z5 z6 z7 z8 z9 z10)) = d_ffn_conv_b k g1 g2 x8 y8 z8 := by
  rw [dOf_eq]
  refine (show _ = (fun i => delta (cut_ffn_conv_b (gOf k g1 g2) i) (cut_ffn_conv_b (pack x0 x1 x2 x3 x4 x5 x6 x7 x8 x9 x10) i) (cut_ffn_conv_b (pack y0 y1 y2 y3 y4 y5 y6 y7 y8 y9 y10) i) (cut_ffn_conv_b (pack z0 z1 z2 z3 z4 z5 z6 z7 z8 z9 z10) i)) from rfl).trans ?_
  rw [cut_pack_ffn_conv_b, cut_pack_ffn_conv_b, cut_pack_ffn_conv_b]
  rfl

/-- The first moment of `ffn_conv_b`, cut out of the packed first moment. -/
theorem cut_m_ffn_conv_b : cut_ffn_conv_b (mOf k g1 g2 (pack y0 y1 y2 y3 y4 y5 y6 y7 y8 y9 y10)) = m_ffn_conv_b k g1 g2 y8 := by
  rw [mOf_eq]
  refine (show _ = (fun i => mom1 (cut_ffn_conv_b (gOf k g1 g2) i) (cut_ffn_conv_b (pack y0 y1 y2 y3 y4 y5 y6 y7 y8 y9 y10) i)) from rfl).trans ?_
  rw [cut_pack_ffn_conv_b]
  rfl

/-- The second moment of `ffn_conv_b`, cut out of the packed second moment. -/
theorem cut_v_ffn_conv_b : cut_ffn_conv_b (vOf k g1 g2 (pack z0 z1 z2 z3 z4 z5 z6 z7 z8 z9 z10)) = v_ffn_conv_b k g1 g2 z8 := by
  rw [vOf_eq]
  refine (show _ = (fun i => mom2 (cut_ffn_conv_b (gOf k g1 g2) i) (cut_ffn_conv_b (pack z0 z1 z2 z3 z4 z5 z6 z7 z8 z9 z10) i)) from rfl).trans ?_
  rw [cut_pack_ffn_conv_b]
  rfl

/-- The step of `ln_g`, cut out of the packed step. -/
theorem cut_d_ln_g : cut_ln_g (dOf k (pack x0 x1 x2 x3 x4 x5 x6 x7 x8 x9 x10) g1 g2 (pack y0 y1 y2 y3 y4 y5 y6 y7 y8 y9 y10) (pack z0 z1 z2 z3 z4 z5 z6 z7 z8 z9 z10)) = d_ln_g k g1 g2 x9 y9 z9 := by
  rw [dOf_eq]
  refine (show _ = (fun i => delta (cut_ln_g (gOf k g1 g2) i) (cut_ln_g (pack x0 x1 x2 x3 x4 x5 x6 x7 x8 x9 x10) i) (cut_ln_g (pack y0 y1 y2 y3 y4 y5 y6 y7 y8 y9 y10) i) (cut_ln_g (pack z0 z1 z2 z3 z4 z5 z6 z7 z8 z9 z10) i)) from rfl).trans ?_
  rw [cut_pack_ln_g, cut_pack_ln_g, cut_pack_ln_g]
  rfl

/-- The first moment of `ln_g`, cut out of the packed first moment. -/
theorem cut_m_ln_g : cut_ln_g (mOf k g1 g2 (pack y0 y1 y2 y3 y4 y5 y6 y7 y8 y9 y10)) = m_ln_g k g1 g2 y9 := by
  rw [mOf_eq]
  refine (show _ = (fun i => mom1 (cut_ln_g (gOf k g1 g2) i) (cut_ln_g (pack y0 y1 y2 y3 y4 y5 y6 y7 y8 y9 y10) i)) from rfl).trans ?_
  rw [cut_pack_ln_g]
  rfl

/-- The second moment of `ln_g`, cut out of the packed second moment. -/
theorem cut_v_ln_g : cut_ln_g (vOf k g1 g2 (pack z0 z1 z2 z3 z4 z5 z6 z7 z8 z9 z10)) = v_ln_g k g1 g2 z9 := by
  rw [vOf_eq]
  refine (show _ = (fun i => mom2 (cut_ln_g (gOf k g1 g2) i) (cut_ln_g (pack z0 z1 z2 z3 z4 z5 z6 z7 z8 z9 z10) i)) from rfl).trans ?_
  rw [cut_pack_ln_g]
  rfl

/-- The step of `ln_b`, cut out of the packed step. -/
theorem cut_d_ln_b : cut_ln_b (dOf k (pack x0 x1 x2 x3 x4 x5 x6 x7 x8 x9 x10) g1 g2 (pack y0 y1 y2 y3 y4 y5 y6 y7 y8 y9 y10) (pack z0 z1 z2 z3 z4 z5 z6 z7 z8 z9 z10)) = d_ln_b k g1 g2 x10 y10 z10 := by
  rw [dOf_eq]
  refine (show _ = (fun i => delta (cut_ln_b (gOf k g1 g2) i) (cut_ln_b (pack x0 x1 x2 x3 x4 x5 x6 x7 x8 x9 x10) i) (cut_ln_b (pack y0 y1 y2 y3 y4 y5 y6 y7 y8 y9 y10) i) (cut_ln_b (pack z0 z1 z2 z3 z4 z5 z6 z7 z8 z9 z10) i)) from rfl).trans ?_
  rw [cut_pack_ln_b, cut_pack_ln_b, cut_pack_ln_b]
  rfl

/-- The first moment of `ln_b`, cut out of the packed first moment. -/
theorem cut_m_ln_b : cut_ln_b (mOf k g1 g2 (pack y0 y1 y2 y3 y4 y5 y6 y7 y8 y9 y10)) = m_ln_b k g1 g2 y10 := by
  rw [mOf_eq]
  refine (show _ = (fun i => mom1 (cut_ln_b (gOf k g1 g2) i) (cut_ln_b (pack y0 y1 y2 y3 y4 y5 y6 y7 y8 y9 y10) i)) from rfl).trans ?_
  rw [cut_pack_ln_b]
  rfl

/-- The second moment of `ln_b`, cut out of the packed second moment. -/
theorem cut_v_ln_b : cut_ln_b (vOf k g1 g2 (pack z0 z1 z2 z3 z4 z5 z6 z7 z8 z9 z10)) = v_ln_b k g1 g2 z10 := by
  rw [vOf_eq]
  refine (show _ = (fun i => mom2 (cut_ln_b (gOf k g1 g2) i) (cut_ln_b (pack z0 z1 z2 z3 z4 z5 z6 z7 z8 z9 z10) i)) from rfl).trans ?_
  rw [cut_pack_ln_b]
  rfl

variable (m : (ℓ : Loc nD τ sig) → Buf (Elt Ideal) ℓ) (ρ : Dev nD → PrngReg)

/-- What the run leaves, each weight's at its own shape, and its arguments as they were. -/
theorem run_each : θ_run defs (onTc (τ := τ) (main (F := Ideal))) ⟨m, fun _ => 0, ρ⟩ fun r => ∀ c : Dev nD,
      r.2.mem ((c.tc : Thread nD τ).loc main_v56) = g_sc_conv_w (coreOf m) (m ((c.tc : Thread nD τ).loc main_arg1)) (m ((c.tc : Thread nD τ).loc main_arg2))
      ∧ r.2.mem ((c.tc : Thread nD τ).loc main_v58) = g_sc_conv_b (coreOf m) (m ((c.tc : Thread nD τ).loc main_arg1)) (m ((c.tc : Thread nD τ).loc main_arg2))
      ∧ r.2.mem ((c.tc : Thread nD τ).loc main_v60) = g_lru_b_in (coreOf m) (m ((c.tc : Thread nD τ).loc main_arg1)) (m ((c.tc : Thread nD τ).loc main_arg2))
      ∧ r.2.mem ((c.tc : Thread nD τ).loc main_v62) = g_lru_conv_w (coreOf m) (m ((c.tc : Thread nD τ).loc main_arg1)) (m ((c.tc : Thread nD τ).loc main_arg2))
      ∧ r.2.mem ((c.tc : Thread nD τ).loc main_v64) = g_lru_conv_b (coreOf m) (m ((c.tc : Thread nD τ).loc main_arg1)) (m ((c.tc : Thread nD τ).loc main_arg2))
      ∧ r.2.mem ((c.tc : Thread nD τ).loc main_v66) = g_lru_b_gate (coreOf m) (m ((c.tc : Thread nD τ).loc main_arg1)) (m ((c.tc : Thread nD τ).loc main_arg2))
      ∧ r.2.mem ((c.tc : Thread nD τ).loc main_v68) = g_lru_lambda (coreOf m) (m ((c.tc : Thread nD τ).loc main_arg1)) (m ((c.tc : Thread nD τ).loc main_arg2))
      ∧ r.2.mem ((c.tc : Thread nD τ).loc main_v70) = g_ffn_conv_w (coreOf m) (m ((c.tc : Thread nD τ).loc main_arg1)) (m ((c.tc : Thread nD τ).loc main_arg2))
      ∧ r.2.mem ((c.tc : Thread nD τ).loc main_v72) = g_ffn_conv_b (coreOf m) (m ((c.tc : Thread nD τ).loc main_arg1)) (m ((c.tc : Thread nD τ).loc main_arg2))
      ∧ r.2.mem ((c.tc : Thread nD τ).loc main_v74) = g_ln_g (coreOf m) (m ((c.tc : Thread nD τ).loc main_arg1)) (m ((c.tc : Thread nD τ).loc main_arg2))
      ∧ r.2.mem ((c.tc : Thread nD τ).loc main_v76) = g_ln_b (coreOf m) (m ((c.tc : Thread nD τ).loc main_arg1)) (m ((c.tc : Thread nD τ).loc main_arg2))
      ∧ r.2.mem ((c.tc : Thread nD τ).loc main_v80) = d_sc_conv_w (coreOf m) (m ((c.tc : Thread nD τ).loc main_arg1)) (m ((c.tc : Thread nD τ).loc main_arg2)) (m ((c.tc : Thread nD τ).loc main_arg3)) (m ((c.tc : Thread nD τ).loc main_arg14)) (m ((c.tc : Thread nD τ).loc main_arg25))
      ∧ r.2.mem ((c.tc : Thread nD τ).loc main_v82) = d_sc_conv_b (coreOf m) (m ((c.tc : Thread nD τ).loc main_arg1)) (m ((c.tc : Thread nD τ).loc main_arg2)) (m ((c.tc : Thread nD τ).loc main_arg4)) (m ((c.tc : Thread nD τ).loc main_arg15)) (m ((c.tc : Thread nD τ).loc main_arg26))
      ∧ r.2.mem ((c.tc : Thread nD τ).loc main_v84) = d_lru_b_in (coreOf m) (m ((c.tc : Thread nD τ).loc main_arg1)) (m ((c.tc : Thread nD τ).loc main_arg2)) (m ((c.tc : Thread nD τ).loc main_arg5)) (m ((c.tc : Thread nD τ).loc main_arg16)) (m ((c.tc : Thread nD τ).loc main_arg27))
      ∧ r.2.mem ((c.tc : Thread nD τ).loc main_v86) = d_lru_conv_w (coreOf m) (m ((c.tc : Thread nD τ).loc main_arg1)) (m ((c.tc : Thread nD τ).loc main_arg2)) (m ((c.tc : Thread nD τ).loc main_arg6)) (m ((c.tc : Thread nD τ).loc main_arg17)) (m ((c.tc : Thread nD τ).loc main_arg28))
      ∧ r.2.mem ((c.tc : Thread nD τ).loc main_v88) = d_lru_conv_b (coreOf m) (m ((c.tc : Thread nD τ).loc main_arg1)) (m ((c.tc : Thread nD τ).loc main_arg2)) (m ((c.tc : Thread nD τ).loc main_arg7)) (m ((c.tc : Thread nD τ).loc main_arg18)) (m ((c.tc : Thread nD τ).loc main_arg29))
      ∧ r.2.mem ((c.tc : Thread nD τ).loc main_v90) = d_lru_b_gate (coreOf m) (m ((c.tc : Thread nD τ).loc main_arg1)) (m ((c.tc : Thread nD τ).loc main_arg2)) (m ((c.tc : Thread nD τ).loc main_arg8)) (m ((c.tc : Thread nD τ).loc main_arg19)) (m ((c.tc : Thread nD τ).loc main_arg30))
      ∧ r.2.mem ((c.tc : Thread nD τ).loc main_v92) = d_lru_lambda (coreOf m) (m ((c.tc : Thread nD τ).loc main_arg1)) (m ((c.tc : Thread nD τ).loc main_arg2)) (m ((c.tc : Thread nD τ).loc main_arg9)) (m ((c.tc : Thread nD τ).loc main_arg20)) (m ((c.tc : Thread nD τ).loc main_arg31))
      ∧ r.2.mem ((c.tc : Thread nD τ).loc main_v94) = d_ffn_conv_w (coreOf m) (m ((c.tc : Thread nD τ).loc main_arg1)) (m ((c.tc : Thread nD τ).loc main_arg2)) (m ((c.tc : Thread nD τ).loc main_arg10)) (m ((c.tc : Thread nD τ).loc main_arg21)) (m ((c.tc : Thread nD τ).loc main_arg32))
      ∧ r.2.mem ((c.tc : Thread nD τ).loc main_v96) = d_ffn_conv_b (coreOf m) (m ((c.tc : Thread nD τ).loc main_arg1)) (m ((c.tc : Thread nD τ).loc main_arg2)) (m ((c.tc : Thread nD τ).loc main_arg11)) (m ((c.tc : Thread nD τ).loc main_arg22)) (m ((c.tc : Thread nD τ).loc main_arg33))
      ∧ r.2.mem ((c.tc : Thread nD τ).loc main_v98) = d_ln_g (coreOf m) (m ((c.tc : Thread nD τ).loc main_arg1)) (m ((c.tc : Thread nD τ).loc main_arg2)) (m ((c.tc : Thread nD τ).loc main_arg12)) (m ((c.tc : Thread nD τ).loc main_arg23)) (m ((c.tc : Thread nD τ).loc main_arg34))
      ∧ r.2.mem ((c.tc : Thread nD τ).loc main_v100) = d_ln_b (coreOf m) (m ((c.tc : Thread nD τ).loc main_arg1)) (m ((c.tc : Thread nD τ).loc main_arg2)) (m ((c.tc : Thread nD τ).loc main_arg13)) (m ((c.tc : Thread nD τ).loc main_arg24)) (m ((c.tc : Thread nD τ).loc main_arg35))
      ∧ r.2.mem ((c.tc : Thread nD τ).loc main_v104) = m_sc_conv_w (coreOf m) (m ((c.tc : Thread nD τ).loc main_arg1)) (m ((c.tc : Thread nD τ).loc main_arg2)) (m ((c.tc : Thread nD τ).loc main_arg14))
      ∧ r.2.mem ((c.tc : Thread nD τ).loc main_v106) = m_sc_conv_b (coreOf m) (m ((c.tc : Thread nD τ).loc main_arg1)) (m ((c.tc : Thread nD τ).loc main_arg2)) (m ((c.tc : Thread nD τ).loc main_arg15))
      ∧ r.2.mem ((c.tc : Thread nD τ).loc main_v108) = m_lru_b_in (coreOf m) (m ((c.tc : Thread nD τ).loc main_arg1)) (m ((c.tc : Thread nD τ).loc main_arg2)) (m ((c.tc : Thread nD τ).loc main_arg16))
      ∧ r.2.mem ((c.tc : Thread nD τ).loc main_v110) = m_lru_conv_w (coreOf m) (m ((c.tc : Thread nD τ).loc main_arg1)) (m ((c.tc : Thread nD τ).loc main_arg2)) (m ((c.tc : Thread nD τ).loc main_arg17))
      ∧ r.2.mem ((c.tc : Thread nD τ).loc main_v112) = m_lru_conv_b (coreOf m) (m ((c.tc : Thread nD τ).loc main_arg1)) (m ((c.tc : Thread nD τ).loc main_arg2)) (m ((c.tc : Thread nD τ).loc main_arg18))
      ∧ r.2.mem ((c.tc : Thread nD τ).loc main_v114) = m_lru_b_gate (coreOf m) (m ((c.tc : Thread nD τ).loc main_arg1)) (m ((c.tc : Thread nD τ).loc main_arg2)) (m ((c.tc : Thread nD τ).loc main_arg19))
      ∧ r.2.mem ((c.tc : Thread nD τ).loc main_v116) = m_lru_lambda (coreOf m) (m ((c.tc : Thread nD τ).loc main_arg1)) (m ((c.tc : Thread nD τ).loc main_arg2)) (m ((c.tc : Thread nD τ).loc main_arg20))
      ∧ r.2.mem ((c.tc : Thread nD τ).loc main_v118) = m_ffn_conv_w (coreOf m) (m ((c.tc : Thread nD τ).loc main_arg1)) (m ((c.tc : Thread nD τ).loc main_arg2)) (m ((c.tc : Thread nD τ).loc main_arg21))
      ∧ r.2.mem ((c.tc : Thread nD τ).loc main_v120) = m_ffn_conv_b (coreOf m) (m ((c.tc : Thread nD τ).loc main_arg1)) (m ((c.tc : Thread nD τ).loc main_arg2)) (m ((c.tc : Thread nD τ).loc main_arg22))
      ∧ r.2.mem ((c.tc : Thread nD τ).loc main_v122) = m_ln_g (coreOf m) (m ((c.tc : Thread nD τ).loc main_arg1)) (m ((c.tc : Thread nD τ).loc main_arg2)) (m ((c.tc : Thread nD τ).loc main_arg23))
      ∧ r.2.mem ((c.tc : Thread nD τ).loc main_v124) = m_ln_b (coreOf m) (m ((c.tc : Thread nD τ).loc main_arg1)) (m ((c.tc : Thread nD τ).loc main_arg2)) (m ((c.tc : Thread nD τ).loc main_arg24))
      ∧ r.2.mem ((c.tc : Thread nD τ).loc main_v128) = v_sc_conv_w (coreOf m) (m ((c.tc : Thread nD τ).loc main_arg1)) (m ((c.tc : Thread nD τ).loc main_arg2)) (m ((c.tc : Thread nD τ).loc main_arg25))
      ∧ r.2.mem ((c.tc : Thread nD τ).loc main_v130) = v_sc_conv_b (coreOf m) (m ((c.tc : Thread nD τ).loc main_arg1)) (m ((c.tc : Thread nD τ).loc main_arg2)) (m ((c.tc : Thread nD τ).loc main_arg26))
      ∧ r.2.mem ((c.tc : Thread nD τ).loc main_v132) = v_lru_b_in (coreOf m) (m ((c.tc : Thread nD τ).loc main_arg1)) (m ((c.tc : Thread nD τ).loc main_arg2)) (m ((c.tc : Thread nD τ).loc main_arg27))
      ∧ r.2.mem ((c.tc : Thread nD τ).loc main_v134) = v_lru_conv_w (coreOf m) (m ((c.tc : Thread nD τ).loc main_arg1)) (m ((c.tc : Thread nD τ).loc main_arg2)) (m ((c.tc : Thread nD τ).loc main_arg28))
      ∧ r.2.mem ((c.tc : Thread nD τ).loc main_v136) = v_lru_conv_b (coreOf m) (m ((c.tc : Thread nD τ).loc main_arg1)) (m ((c.tc : Thread nD τ).loc main_arg2)) (m ((c.tc : Thread nD τ).loc main_arg29))
      ∧ r.2.mem ((c.tc : Thread nD τ).loc main_v138) = v_lru_b_gate (coreOf m) (m ((c.tc : Thread nD τ).loc main_arg1)) (m ((c.tc : Thread nD τ).loc main_arg2)) (m ((c.tc : Thread nD τ).loc main_arg30))
      ∧ r.2.mem ((c.tc : Thread nD τ).loc main_v140) = v_lru_lambda (coreOf m) (m ((c.tc : Thread nD τ).loc main_arg1)) (m ((c.tc : Thread nD τ).loc main_arg2)) (m ((c.tc : Thread nD τ).loc main_arg31))
      ∧ r.2.mem ((c.tc : Thread nD τ).loc main_v142) = v_ffn_conv_w (coreOf m) (m ((c.tc : Thread nD τ).loc main_arg1)) (m ((c.tc : Thread nD τ).loc main_arg2)) (m ((c.tc : Thread nD τ).loc main_arg32))
      ∧ r.2.mem ((c.tc : Thread nD τ).loc main_v144) = v_ffn_conv_b (coreOf m) (m ((c.tc : Thread nD τ).loc main_arg1)) (m ((c.tc : Thread nD τ).loc main_arg2)) (m ((c.tc : Thread nD τ).loc main_arg33))
      ∧ r.2.mem ((c.tc : Thread nD τ).loc main_v146) = v_ln_g (coreOf m) (m ((c.tc : Thread nD τ).loc main_arg1)) (m ((c.tc : Thread nD τ).loc main_arg2)) (m ((c.tc : Thread nD τ).loc main_arg34))
      ∧ r.2.mem ((c.tc : Thread nD τ).loc main_v148) = v_ln_b (coreOf m) (m ((c.tc : Thread nD τ).loc main_arg1)) (m ((c.tc : Thread nD τ).loc main_arg2)) (m ((c.tc : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, ha⟩ := h c
    exact ⟨h0,
      h1,
      h2,
      h3,
      h4,
      h5,
      h6,
      h7,
      h8,
      h9,
      h10,
      h11.trans (cut_d_sc_conv_w (coreOf m) _ _ _ _ _ _ _ _ _ _ _ _ _ _ _ _ _ _ _ _ _ _ _ _ _ _ _ _ _ _ _ _ _ _ _),
      h12.trans (cut_d_sc_conv_b (coreOf m) _ _ _ _ _ _ _ _ _ _ _ _ _ _ _ _ _ _ _ _ _ _ _ _ _ _ _ _ _ _ _ _ _ _ _),
      h13.trans (cut_d_lru_b_in (coreOf m) _ _ _ _ _ _ _ _ _ _ _ _ _ _ _ _ _ _ _ _ _ _ _ _ _ _ _ _ _ _ _ _ _ _ _),
      h14.trans (cut_d_lru_conv_w (coreOf m) _ _ _ _ _ _ _ _ _ _ _ _ _ _ _ _ _ _ _ _ _ _ _ _ _ _ _ _ _ _ _ _ _ _ _),
      h15.trans (cut_d_lru_conv_b (coreOf m) _ _ _ _ _ _ _ _ _ _ _ _ _ _ _ _ _ _ _ _ _ _ _ _ _ _ _ _ _ _ _ _ _ _ _),
      h16.trans (cut_d_lru_b_gate (coreOf m) _ _ _ _ _ _ _ _ _ _ _ _ _ _ _ _ _ _ _ _ _ _ _ _ _ _ _ _ _ _ _ _ _ _ _),
      h17.trans (cut_d_lru_lambda (coreOf m) _ _ _ _ _ _ _ _ _ _ _ _ _ _ _ _ _ _ _ _ _ _ _ _ _ _ _ _ _ _ _ _ _ _ _),
      h18.trans (cut_d_ffn_conv_w (coreOf m) _ _ _ _ _ _ _ _ _ _ _ _ _ _ _ _ _ _ _ _ _ _ _ _ _ _ _ _ _ _ _ _ _ _ _),
      h19.trans (cut_d_ffn_conv_b (coreOf m) _ _ _ _ _ _ _ _ _ _ _ _ _ _ _ _ _ _ _ _ _ _ _ _ _ _ _ _ _ _ _ _ _ _ _),
      h20.trans (cut_d_ln_g (coreOf m) _ _ _ _ _ _ _ _ _ _ _ _ _ _ _ _ _ _ _ _ _ _ _ _ _ _ _ _ _ _ _ _ _ _ _),
      h21.trans (cut_d_ln_b (coreOf m) _ _ _ _ _ _ _ _ _ _ _ _ _ _ _ _ _ _ _ _ _ _ _ _ _ _ _ _ _ _ _ _ _ _ _),
      h22.trans (cut_m_sc_conv_w (coreOf m) _ _ _ _ _ _ _ _ _ _ _ _ _),
      h23.trans (cut_m_sc_conv_b (coreOf m) _ _ _ _ _ _ _ _ _ _ _ _ _),
      h24.trans (cut_m_lru_b_in (coreOf m) _ _ _ _ _ _ _ _ _ _ _ _ _),
      h25.trans (cut_m_lru_conv_w (coreOf m) _ _ _ _ _ _ _ _ _ _ _ _ _),
      h26.trans (cut_m_lru_conv_b (coreOf m) _ _ _ _ _ _ _ _ _ _ _ _ _),
      h27.trans (cut_m_lru_b_gate (coreOf m) _ _ _ _ _ _ _ _ _ _ _ _ _),
      h28.trans (cut_m_lru_lambda (coreOf m) _ _ _ _ _ _ _ _ _ _ _ _ _),
      h29.trans (cut_m_ffn_conv_w (coreOf m) _ _ _ _ _ _ _ _ _ _ _ _ _),
      h30.trans (cut_m_ffn_conv_b (coreOf m) _ _ _ _ _ _ _ _ _ _ _ _ _),
      h31.trans (cut_m_ln_g (coreOf m) _ _ _ _ _ _ _ _ _ _ _ _ _),
      h32.trans (cut_m_ln_b (coreOf m) _ _ _ _ _ _ _ _ _ _ _ _ _),
      h33.trans (cut_v_sc_conv_w (coreOf m) _ _ _ _ _ _ _ _ _ _ _ _ _),
      h34.trans (cut_v_sc_conv_b (coreOf m) _ _ _ _ _ _ _ _ _ _ _ _ _),
      h35.trans (cut_v_lru_b_in (coreOf m) _ _ _ _ _ _ _ _ _ _ _ _ _),
      h36.trans (cut_v_lru_conv_w (coreOf m) _ _ _ _ _ _ _ _ _ _ _ _ _),
      h37.trans (cut_v_lru_conv_b (coreOf m) _ _ _ _ _ _ _ _ _ _ _ _ _),
      h38.trans (cut_v_lru_b_gate (coreOf m) _ _ _ _ _ _ _ _ _ _ _ _ _),
      h39.trans (cut_v_lru_lambda (coreOf m) _ _ _ _ _ _ _ _ _ _ _ _ _),
      h40.trans (cut_v_ffn_conv_w (coreOf m) _ _ _ _ _ _ _ _ _ _ _ _ _),
      h41.trans (cut_v_ffn_conv_b (coreOf m) _ _ _ _ _ _ _ _ _ _ _ _ _),
      h42.trans (cut_v_ln_g (coreOf m) _ _ _ _ _ _ _ _ _ _ _ _ _),
      h43.trans (cut_v_ln_b (coreOf m) _ _ _ _ _ _ _ _ _ _ _ _ _), ha⟩) (run_value m ρ)

end Cert.UpdSmallIdeal.Value

end
-- ==== Proof.UpdSmallRef.lean ====
/- The small weights' optimiser step: the reference's, and the two runs together. -/
module

public import proofs.«01_k».proof.Proof.UpdSmallEach
public import proofs.«01_k».proof.Proof.Gen.UpdSmallRefIdeal.Run
public import proofs.«01_k».proof.Proof.Gen.UpdSmallRefIdeal.Read
public import proofs.«01_k».proof.Proof.CastJoin
public import proofs.«01_k».proof.Defs

@[expose] public section

set_option maxRecDepth 16384
set_option maxHeartbeats 1000000

noncomputable section

open Idealize.ShloMosaic Idealize.ShloMosaic.TcCoe Idealize.SL.Sem Idealize.ShloMosaic.ValueIdx Idealize.ShloMosaic.StableHlo

namespace Cert.UpdSmallRefIdeal.Value

open Cert.UpdSmallRefIdeal Cert.UpdSmallRefIdeal.Gen Cert.UpdSmallRefIdeal.Read AdamStep
open Cert.UpdSmallIdeal.Value (gOf flat cut_sc_conv_w g_sc_conv_w d_sc_conv_w m_sc_conv_w v_sc_conv_w cut_sc_conv_b g_sc_conv_b d_sc_conv_b m_sc_conv_b v_sc_conv_b cut_lru_b_in g_lru_b_in d_lru_b_in m_lru_b_in v_lru_b_in cut_lru_conv_w g_lru_conv_w d_lru_conv_w m_lru_conv_w v_lru_conv_w cut_lru_conv_b g_lru_conv_b d_lru_conv_b m_lru_conv_b v_lru_conv_b cut_lru_b_gate g_lru_b_gate d_lru_b_gate m_lru_b_gate v_lru_b_gate cut_lru_lambda g_lru_lambda d_lru_lambda m_lru_lambda v_lru_lambda cut_ffn_conv_w g_ffn_conv_w d_ffn_conv_w m_ffn_conv_w v_ffn_conv_w cut_ffn_conv_b g_ffn_conv_b d_ffn_conv_b m_ffn_conv_b v_ffn_conv_b cut_ln_g g_ln_g d_ln_g m_ln_g v_ln_g cut_ln_b g_ln_b d_ln_b m_ln_b v_ln_b)

variable (x0 : Vec Ideal S1 .i32) (x1 x2 : Vec Ideal S1x224x128 .f32)

/-- The core's number, read of its one-element argument. -/
theorem core_at (i : S_.Idx) : val_main_v0 (F := Ideal) x0 i = (x0 : S1.Idx → BitVec 32) (ix1 0) := by
  unfold val_main_v0
  refine (show _ = (x0 : S1.Idx → BitVec 32) _ from rfl).trans ?_
  refine congrArg (x0 : S1.Idx → BitVec 32) ?_
  funext b; apply Fin.ext
  match b with
  | ⟨0, _⟩ => exact Nat.lt_one_iff.mp (Fin.isLt _)

/-- The upper half of the rows. -/
theorem upper_at (j : S1x224x128.Idx) : val_main_v2 (F := Ideal) x0 x1 x2 j = grad ((x0 : S1.Idx → BitVec 32) (ix1 0)) 0 (x1 j) (x2 j) := by
  rw [← core_at x0 (fun a => a.elim0)]
  unfold grad
  rw [cmp_comm]
  unfold val_main_v2
  rw [pick_apply, broadcastInDim_apply _ bcast_S_S1x224x128 (val_main_v1 (F := Ideal) x0) j (fun a => a.elim0) (fun a => a.elim0)]
  rfl

/-- The lower half of the rows. -/
theorem lower_at (j : S1x224x128.Idx) : val_main_v5 (F := Ideal) x0 x1 x2 j = grad ((x0 : S1.Idx → BitVec 32) (ix1 0)) 1 (x1 j) (x2 j) := by
  rw [← core_at x0 (fun a => a.elim0)]
  unfold grad
  rw [cmp_comm]
  unfold val_main_v5
  rw [pick_apply, broadcastInDim_apply _ bcast_S_S1x224x128 (val_main_v4 (F := Ideal) x0) j (fun a => a.elim0) (fun a => a.elim0)]
  rfl

/-- The gradient put together. -/
theorem g_eq : val_main_v6 (F := Ideal) x0 x1 x2 = gOf ((x0 : S1.Idx → BitVec 32) (ix1 0)) x1 x2 := by
  funext i
  have h0 : (i 0).val < 1 := (i 0).isLt
  have h1 : (i 1).val < 448 := (i 1).isLt
  have h2 : (i 2).val < 128 := (i 2).isLt
  unfold val_main_v6
  by_cases hc : (i 1).val < 224
  · refine (concatenate_pair_apply_left (1 : Fin 3) (val_main_v2 (F := Ideal) x0 x1 x2) (val_main_v5 (F := Ideal) x0 x1 x2) concatenates_S1x224x128_S1x224x128_S1x448x128_d1 i rfl
      (ix3 (Fin.ofNat 1 (i 0).val) (Fin.ofNat 224 ((i 1).val % 224)) (Fin.ofNat 128 (i 2).val)) (fun b => ?_)).trans ?_
    · match b with
      | ⟨0, _⟩ => show (i 0).val % 1 = (i 0).val; exact Nat.mod_eq_of_lt h0
      | ⟨1, _⟩ => show (i 1).val % 224 % 224 = (i 1).val; rewrite [Nat.mod_mod]; exact Nat.mod_eq_of_lt hc
      | ⟨2, _⟩ => show (i 2).val % 128 = (i 2).val; exact Nat.mod_eq_of_lt h2
    · refine (upper_at x0 x1 x2 _).trans ?_
      unfold gOf gradAt
      rw [show (i 1).val / 224 = 0 from Nat.div_eq_of_lt hc]
      rfl
  · refine (concatenate_pair_apply_right (1 : Fin 3) (val_main_v2 (F := Ideal) x0 x1 x2) (val_main_v5 (F := Ideal) x0 x1 x2) concatenates_S1x224x128_S1x224x128_S1x448x128_d1 i rfl rfl
      (ix3 (Fin.ofNat 1 (i 0).val) (Fin.ofNat 224 ((i 1).val % 224)) (Fin.ofNat 128 (i 2).val)) (fun b hb => ?_) ?_).trans ?_
    · match b with
      | ⟨0, _⟩ => show (i 0).val % 1 = (i 0).val; exact Nat.mod_eq_of_lt h0
      | ⟨1, _⟩ => exact absurd rfl hb
      | ⟨2, _⟩ => show (i 2).val % 128 = (i 2).val; exact Nat.mod_eq_of_lt h2
    · show (i 1).val % 224 % 224 + 224 = (i 1).val; omega
    · refine (lower_at x0 x1 x2 _).trans ?_
      unfold gOf gradAt
      rw [show (i 1).val / 224 = 1 by omega]
      rfl

/-- The gradient of `sc_conv_w`. -/
theorem gr_sc_conv_w : val_main_v9 (F := Ideal) x0 x1 x2 = g_sc_conv_w ((x0 : S1.Idx → BitVec 32) (ix1 0)) x1 x2 := by
  unfold val_main_v9 val_main_v8 val_main_v7
  rw [g_eq]
  unfold g_sc_conv_w cut_sc_conv_w flat
  rw [cast_join _ _ _ (by decide : S1x448x128.ShapeCasts S57344)] <;> rfl

/-- The first moment of `sc_conv_w`. -/
theorem mr_sc_conv_w (a : Vec Ideal S2x3x256 .f32) : val_main_v14 (F := Ideal) x0 x1 x2 a = m_sc_conv_w ((x0 : S1.Idx → BitVec 32) (ix1 0)) x1 x2 a := by
  funext i
  rw [val_main_v14_apply, val_main_v11_apply, val_main_v13_apply, val_main_v10_apply, val_main_v12_apply, gr_sc_conv_w]
  rfl

/-- The second moment of `sc_conv_w`. -/
theorem vr_sc_conv_w (a : Vec Ideal S2x3x256 .f32) : val_main_v20 (F := Ideal) x0 x1 x2 a = v_sc_conv_w ((x0 : S1.Idx → BitVec 32) (ix1 0)) x1 x2 a := by
  funext i
  rw [val_main_v20_apply, val_main_v16_apply, val_main_v19_apply, val_main_v15_apply, val_main_v18_apply, val_main_v17_apply, gr_sc_conv_w]
  rfl

/-- The step of `sc_conv_w`. -/
theorem dr_sc_conv_w (w a b : Vec Ideal S2x3x256 .f32) : val_main_v33 (F := Ideal) x0 x1 x2 w a b = d_sc_conv_w ((x0 : S1.Idx → BitVec 32) (ix1 0)) x1 x2 w a b := by
  funext i
  rw [val_main_v33_apply, val_main_v31_apply, val_main_v28_apply, val_main_v22_apply, val_main_v27_apply, val_main_v25_apply, val_main_v24_apply, val_main_v30_apply, val_main_v32_apply, val_main_v29_apply, val_main_v26_apply, val_main_v23_apply, val_main_v21_apply, mr_sc_conv_w, vr_sc_conv_w]
  rfl

/-- The gradient of `sc_conv_b`. -/
theorem gr_sc_conv_b : val_main_v35 (F := Ideal) x0 x1 x2 = g_sc_conv_b ((x0 : S1.Idx → BitVec 32) (ix1 0)) x1 x2 := by
  unfold val_main_v35 val_main_v34 val_main_v7
  rw [g_eq]
  unfold g_sc_conv_b cut_sc_conv_b flat
  rw [cast_join _ _ _ (by decide : S1x448x128.ShapeCasts S57344)] <;> rfl

/-- The first moment of `sc_conv_b`. -/
theorem mr_sc_conv_b (a : Vec Ideal S2x1024 .f32) : val_main_v40 (F := Ideal) x0 x1 x2 a = m_sc_conv_b ((x0 : S1.Idx → BitVec 32) (ix1 0)) x1 x2 a := by
  funext i
  rw [val_main_v40_apply, val_main_v37_apply, val_main_v39_apply, val_main_v36_apply, val_main_v38_apply, gr_sc_conv_b]
  rfl

/-- The second moment of `sc_conv_b`. -/
theorem vr_sc_conv_b (a : Vec Ideal S2x1024 .f32) : val_main_v46 (F := Ideal) x0 x1 x2 a = v_sc_conv_b ((x0 : S1.Idx → BitVec 32) (ix1 0)) x1 x2 a := by
  funext i
  rw [val_main_v46_apply, val_main_v42_apply, val_main_v45_apply, val_main_v41_apply, val_main_v44_apply, val_main_v43_apply, gr_sc_conv_b]
  rfl

/-- The step of `sc_conv_b`. -/
theorem dr_sc_conv_b (w a b : Vec Ideal S2x1024 .f32) : val_main_v59 (F := Ideal) x0 x1 x2 w a b = d_sc_conv_b ((x0 : S1.Idx → BitVec 32) (ix1 0)) x1 x2 w a b := by
  funext i
  rw [val_main_v59_apply, val_main_v57_apply, val_main_v54_apply, val_main_v48_apply, val_main_v53_apply, val_main_v51_apply, val_main_v50_apply, val_main_v56_apply, val_main_v58_apply, val_main_v55_apply, val_main_v52_apply, val_main_v49_apply, val_main_v47_apply, mr_sc_conv_b, vr_sc_conv_b]
  rfl

/-- The gradient of `lru_b_in`. -/
theorem gr_lru_b_in : val_main_v61 (F := Ideal) x0 x1 x2 = g_lru_b_in ((x0 : S1.Idx → BitVec 32) (ix1 0)) x1 x2 := by
  unfold val_main_v61 val_main_v60 val_main_v7
  rw [g_eq]
  unfold g_lru_b_in cut_lru_b_in flat
  rw [cast_join _ _ _ (by decide : S1x448x128.ShapeCasts S57344)] <;> rfl

/-- The first moment of `lru_b_in`. -/
theorem mr_lru_b_in (a : Vec Ideal S2x640 .f32) : val_main_v66 (F := Ideal) x0 x1 x2 a = m_lru_b_in ((x0 : S1.Idx → BitVec 32) (ix1 0)) x1 x2 a := by
  funext i
  rw [val_main_v66_apply, val_main_v63_apply, val_main_v65_apply, val_main_v62_apply, val_main_v64_apply, gr_lru_b_in]
  rfl

/-- The second moment of `lru_b_in`. -/
theorem vr_lru_b_in (a : Vec Ideal S2x640 .f32) : val_main_v72 (F := Ideal) x0 x1 x2 a = v_lru_b_in ((x0 : S1.Idx → BitVec 32) (ix1 0)) x1 x2 a := by
  funext i
  rw [val_main_v72_apply, val_main_v68_apply, val_main_v71_apply, val_main_v67_apply, val_main_v70_apply, val_main_v69_apply, gr_lru_b_in]
  rfl

/-- The step of `lru_b_in`. -/
theorem dr_lru_b_in (w a b : Vec Ideal S2x640 .f32) : val_main_v85 (F := Ideal) x0 x1 x2 w a b = d_lru_b_in ((x0 : S1.Idx → BitVec 32) (ix1 0)) x1 x2 w a b := by
  funext i
  rw [val_main_v85_apply, val_main_v83_apply, val_main_v80_apply, val_main_v74_apply, val_main_v79_apply, val_main_v77_apply, val_main_v76_apply, val_main_v82_apply, val_main_v84_apply, val_main_v81_apply, val_main_v78_apply, val_main_v75_apply, val_main_v73_apply, mr_lru_b_in, vr_lru_b_in]
  rfl

/-- The gradient of `lru_conv_w`. -/
theorem gr_lru_conv_w : val_main_v87 (F := Ideal) x0 x1 x2 = g_lru_conv_w ((x0 : S1.Idx → BitVec 32) (ix1 0)) x1 x2 := by
  unfold val_main_v87 val_main_v86 val_main_v7
  rw [g_eq]
  unfold g_lru_conv_w cut_lru_conv_w flat
  rw [cast_join _ _ _ (by decide : S1x448x128.ShapeCasts S57344)] <;> rfl

/-- The first moment of `lru_conv_w`. -/
theorem mr_lru_conv_w (a : Vec Ideal S2x4x320 .f32) : val_main_v92 (F := Ideal) x0 x1 x2 a = m_lru_conv_w ((x0 : S1.Idx → BitVec 32) (ix1 0)) x1 x2 a := by
  funext i
  rw [val_main_v92_apply, val_main_v89_apply, val_main_v91_apply, val_main_v88_apply, val_main_v90_apply, gr_lru_conv_w]
  rfl

/-- The second moment of `lru_conv_w`. -/
theorem vr_lru_conv_w (a : Vec Ideal S2x4x320 .f32) : val_main_v98 (F := Ideal) x0 x1 x2 a = v_lru_conv_w ((x0 : S1.Idx → BitVec 32) (ix1 0)) x1 x2 a := by
  funext i
  rw [val_main_v98_apply, val_main_v94_apply, val_main_v97_apply, val_main_v93_apply, val_main_v96_apply, val_main_v95_apply, gr_lru_conv_w]
  rfl

/-- The step of `lru_conv_w`. -/
theorem dr_lru_conv_w (w a b : Vec Ideal S2x4x320 .f32) : val_main_v111 (F := Ideal) x0 x1 x2 w a b = d_lru_conv_w ((x0 : S1.Idx → BitVec 32) (ix1 0)) x1 x2 w a b := by
  funext i
  rw [val_main_v111_apply, val_main_v109_apply, val_main_v106_apply, val_main_v100_apply, val_main_v105_apply, val_main_v103_apply, val_main_v102_apply, val_main_v108_apply, val_main_v110_apply, val_main_v107_apply, val_main_v104_apply, val_main_v101_apply, val_main_v99_apply, mr_lru_conv_w, vr_lru_conv_w]
  rfl

/-- The gradient of `lru_conv_b`. -/
theorem gr_lru_conv_b : val_main_v113 (F := Ideal) x0 x1 x2 = g_lru_conv_b ((x0 : S1.Idx → BitVec 32) (ix1 0)) x1 x2 := by
  unfold val_main_v113 val_main_v112 val_main_v7
  rw [g_eq]
  unfold g_lru_conv_b cut_lru_conv_b flat
  rw [cast_join _ _ _ (by decide : S1x448x128.ShapeCasts S57344)] <;> rfl

/-- The first moment of `lru_conv_b`. -/
theorem mr_lru_conv_b (a : Vec Ideal S2x320 .f32) : val_main_v118 (F := Ideal) x0 x1 x2 a = m_lru_conv_b ((x0 : S1.Idx → BitVec 32) (ix1 0)) x1 x2 a := by
  funext i
  rw [val_main_v118_apply, val_main_v115_apply, val_main_v117_apply, val_main_v114_apply, val_main_v116_apply, gr_lru_conv_b]
  rfl

/-- The second moment of `lru_conv_b`. -/
theorem vr_lru_conv_b (a : Vec Ideal S2x320 .f32) : val_main_v124 (F := Ideal) x0 x1 x2 a = v_lru_conv_b ((x0 : S1.Idx → BitVec 32) (ix1 0)) x1 x2 a := by
  funext i
  rw [val_main_v124_apply, val_main_v120_apply, val_main_v123_apply, val_main_v119_apply, val_main_v122_apply, val_main_v121_apply, gr_lru_conv_b]
  rfl

/-- The step of `lru_conv_b`. -/
theorem dr_lru_conv_b (w a b : Vec Ideal S2x320 .f32) : val_main_v137 (F := Ideal) x0 x1 x2 w a b = d_lru_conv_b ((x0 : S1.Idx → BitVec 32) (ix1 0)) x1 x2 w a b := by
  funext i
  rw [val_main_v137_apply, val_main_v135_apply, val_main_v132_apply, val_main_v126_apply, val_main_v131_apply, val_main_v129_apply, val_main_v128_apply, val_main_v134_apply, val_main_v136_apply, val_main_v133_apply, val_main_v130_apply, val_main_v127_apply, val_main_v125_apply, mr_lru_conv_b, vr_lru_conv_b]
  rfl

/-- The gradient of `lru_b_gate`. -/
theorem gr_lru_b_gate : val_main_v139 (F := Ideal) x0 x1 x2 = g_lru_b_gate ((x0 : S1.Idx → BitVec 32) (ix1 0)) x1 x2 := by
  unfold val_main_v139 val_main_v138 val_main_v7
  rw [g_eq]
  unfold g_lru_b_gate cut_lru_b_gate flat
  rw [cast_join _ _ _ (by decide : S1x448x128.ShapeCasts S57344)] <;> rfl

/-- The first moment of `lru_b_gate`. -/
theorem mr_lru_b_gate (a : Vec Ideal S2x10x64 .f32) : val_main_v144 (F := Ideal) x0 x1 x2 a = m_lru_b_gate ((x0 : S1.Idx → BitVec 32) (ix1 0)) x1 x2 a := by
  funext i
  rw [val_main_v144_apply, val_main_v141_apply, val_main_v143_apply, val_main_v140_apply, val_main_v142_apply, gr_lru_b_gate]
  rfl

/-- The second moment of `lru_b_gate`. -/
theorem vr_lru_b_gate (a : Vec Ideal S2x10x64 .f32) : val_main_v150 (F := Ideal) x0 x1 x2 a = v_lru_b_gate ((x0 : S1.Idx → BitVec 32) (ix1 0)) x1 x2 a := by
  funext i
  rw [val_main_v150_apply, val_main_v146_apply, val_main_v149_apply, val_main_v145_apply, val_main_v148_apply, val_main_v147_apply, gr_lru_b_gate]
  rfl

/-- The step of `lru_b_gate`. -/
theorem dr_lru_b_gate (w a b : Vec Ideal S2x10x64 .f32) : val_main_v163 (F := Ideal) x0 x1 x2 w a b = d_lru_b_gate ((x0 : S1.Idx → BitVec 32) (ix1 0)) x1 x2 w a b := by
  funext i
  rw [val_main_v163_apply, val_main_v161_apply, val_main_v158_apply, val_main_v152_apply, val_main_v157_apply, val_main_v155_apply, val_main_v154_apply, val_main_v160_apply, val_main_v162_apply, val_main_v159_apply, val_main_v156_apply, val_main_v153_apply, val_main_v151_apply, mr_lru_b_gate, vr_lru_b_gate]
  rfl

/-- The gradient of `lru_lambda`. -/
theorem gr_lru_lambda : val_main_v165 (F := Ideal) x0 x1 x2 = g_lru_lambda ((x0 : S1.Idx → BitVec 32) (ix1 0)) x1 x2 := by
  unfold val_main_v165 val_main_v164 val_main_v7
  rw [g_eq]
  unfold g_lru_lambda cut_lru_lambda flat
  rw [cast_join _ _ _ (by decide : S1x448x128.ShapeCasts S57344)] <;> rfl

/-- The first moment of `lru_lambda`. -/
theorem mr_lru_lambda (a : Vec Ideal S2x320 .f32) : val_main_v170 (F := Ideal) x0 x1 x2 a = m_lru_lambda ((x0 : S1.Idx → BitVec 32) (ix1 0)) x1 x2 a := by
  funext i
  rw [val_main_v170_apply, val_main_v167_apply, val_main_v169_apply, val_main_v166_apply, val_main_v168_apply, gr_lru_lambda]
  rfl

/-- The second moment of `lru_lambda`. -/
theorem vr_lru_lambda (a : Vec Ideal S2x320 .f32) : val_main_v176 (F := Ideal) x0 x1 x2 a = v_lru_lambda ((x0 : S1.Idx → BitVec 32) (ix1 0)) x1 x2 a := by
  funext i
  rw [val_main_v176_apply, val_main_v172_apply, val_main_v175_apply, val_main_v171_apply, val_main_v174_apply, val_main_v173_apply, gr_lru_lambda]
  rfl

/-- The step of `lru_lambda`. -/
theorem dr_lru_lambda (w a b : Vec Ideal S2x320 .f32) : val_main_v189 (F := Ideal) x0 x1 x2 w a b = d_lru_lambda ((x0 : S1.Idx → BitVec 32) (ix1 0)) x1 x2 w a b := by
  funext i
  rw [val_main_v189_apply, val_main_v187_apply, val_main_v184_apply, val_main_v178_apply, val_main_v183_apply, val_main_v181_apply, val_main_v180_apply, val_main_v186_apply, val_main_v188_apply, val_main_v185_apply, val_main_v182_apply, val_main_v179_apply, val_main_v177_apply, mr_lru_lambda, vr_lru_lambda]
  rfl

/-- The gradient of `ffn_conv_w`. -/
theorem gr_ffn_conv_w : val_main_v191 (F := Ideal) x0 x1 x2 = g_ffn_conv_w ((x0 : S1.Idx → BitVec 32) (ix1 0)) x1 x2 := by
  unfold val_main_v191 val_main_v190 val_main_v7
  rw [g_eq]
  unfold g_ffn_conv_w cut_ffn_conv_w flat
  rw [cast_join _ _ _ (by decide : S1x448x128.ShapeCasts S57344)] <;> rfl

/-- The first moment of `ffn_conv_w`. -/
theorem mr_ffn_conv_w (a : Vec Ideal S4x3x1408 .f32) : val_main_v196 (F := Ideal) x0 x1 x2 a = m_ffn_conv_w ((x0 : S1.Idx → BitVec 32) (ix1 0)) x1 x2 a := by
  funext i
  rw [val_main_v196_apply, val_main_v193_apply, val_main_v195_apply, val_main_v192_apply, val_main_v194_apply, gr_ffn_conv_w]
  rfl

/-- The second moment of `ffn_conv_w`. -/
theorem vr_ffn_conv_w (a : Vec Ideal S4x3x1408 .f32) : val_main_v202 (F := Ideal) x0 x1 x2 a = v_ffn_conv_w ((x0 : S1.Idx → BitVec 32) (ix1 0)) x1 x2 a := by
  funext i
  rw [val_main_v202_apply, val_main_v198_apply, val_main_v201_apply, val_main_v197_apply, val_main_v200_apply, val_main_v199_apply, gr_ffn_conv_w]
  rfl

/-- The step of `ffn_conv_w`. -/
theorem dr_ffn_conv_w (w a b : Vec Ideal S4x3x1408 .f32) : val_main_v215 (F := Ideal) x0 x1 x2 w a b = d_ffn_conv_w ((x0 : S1.Idx → BitVec 32) (ix1 0)) x1 x2 w a b := by
  funext i
  rw [val_main_v215_apply, val_main_v213_apply, val_main_v210_apply, val_main_v204_apply, val_main_v209_apply, val_main_v207_apply, val_main_v206_apply, val_main_v212_apply, val_main_v214_apply, val_main_v211_apply, val_main_v208_apply, val_main_v205_apply, val_main_v203_apply, mr_ffn_conv_w, vr_ffn_conv_w]
  rfl

/-- The gradient of `ffn_conv_b`. -/
theorem gr_ffn_conv_b : val_main_v217 (F := Ideal) x0 x1 x2 = g_ffn_conv_b ((x0 : S1.Idx → BitVec 32) (ix1 0)) x1 x2 := by
  unfold val_main_v217 val_main_v216 val_main_v7
  rw [g_eq]
  unfold g_ffn_conv_b cut_ffn_conv_b flat
  rw [cast_join _ _ _ (by decide : S1x448x128.ShapeCasts S57344)] <;> rfl

/-- The first moment of `ffn_conv_b`. -/
theorem mr_ffn_conv_b (a : Vec Ideal S4x5632 .f32) : val_main_v222 (F := Ideal) x0 x1 x2 a = m_ffn_conv_b ((x0 : S1.Idx → BitVec 32) (ix1 0)) x1 x2 a := by
  funext i
  rw [val_main_v222_apply, val_main_v219_apply, val_main_v221_apply, val_main_v218_apply, val_main_v220_apply, gr_ffn_conv_b]
  rfl

/-- The second moment of `ffn_conv_b`. -/
theorem vr_ffn_conv_b (a : Vec Ideal S4x5632 .f32) : val_main_v228 (F := Ideal) x0 x1 x2 a = v_ffn_conv_b ((x0 : S1.Idx → BitVec 32) (ix1 0)) x1 x2 a := by
  funext i
  rw [val_main_v228_apply, val_main_v224_apply, val_main_v227_apply, val_main_v223_apply, val_main_v226_apply, val_main_v225_apply, gr_ffn_conv_b]
  rfl

/-- The step of `ffn_conv_b`. -/
theorem dr_ffn_conv_b (w a b : Vec Ideal S4x5632 .f32) : val_main_v241 (F := Ideal) x0 x1 x2 w a b = d_ffn_conv_b ((x0 : S1.Idx → BitVec 32) (ix1 0)) x1 x2 w a b := by
  funext i
  rw [val_main_v241_apply, val_main_v239_apply, val_main_v236_apply, val_main_v230_apply, val_main_v235_apply, val_main_v233_apply, val_main_v232_apply, val_main_v238_apply, val_main_v240_apply, val_main_v237_apply, val_main_v234_apply, val_main_v231_apply, val_main_v229_apply, mr_ffn_conv_b, vr_ffn_conv_b]
  rfl

/-- The gradient of `ln_g`. -/
theorem gr_ln_g : val_main_v243 (F := Ideal) x0 x1 x2 = g_ln_g ((x0 : S1.Idx → BitVec 32) (ix1 0)) x1 x2 := by
  unfold val_main_v243 val_main_v242 val_main_v7
  rw [g_eq]
  unfold g_ln_g cut_ln_g flat
  rw [cast_join _ _ _ (by decide : S1x448x128.ShapeCasts S57344)] <;> rfl

/-- The first moment of `ln_g`. -/
theorem mr_ln_g (a : Vec Ideal S4x2x256 .f32) : val_main_v248 (F := Ideal) x0 x1 x2 a = m_ln_g ((x0 : S1.Idx → BitVec 32) (ix1 0)) x1 x2 a := by
  funext i
  rw [val_main_v248_apply, val_main_v245_apply, val_main_v247_apply, val_main_v244_apply, val_main_v246_apply, gr_ln_g]
  rfl

/-- The second moment of `ln_g`. -/
theorem vr_ln_g (a : Vec Ideal S4x2x256 .f32) : val_main_v254 (F := Ideal) x0 x1 x2 a = v_ln_g ((x0 : S1.Idx → BitVec 32) (ix1 0)) x1 x2 a := by
  funext i
  rw [val_main_v254_apply, val_main_v250_apply, val_main_v253_apply, val_main_v249_apply, val_main_v252_apply, val_main_v251_apply, gr_ln_g]
  rfl

/-- The step of `ln_g`. -/
theorem dr_ln_g (w a b : Vec Ideal S4x2x256 .f32) : val_main_v267 (F := Ideal) x0 x1 x2 w a b = d_ln_g ((x0 : S1.Idx → BitVec 32) (ix1 0)) x1 x2 w a b := by
  funext i
  rw [val_main_v267_apply, val_main_v265_apply, val_main_v262_apply, val_main_v256_apply, val_main_v261_apply, val_main_v259_apply, val_main_v258_apply, val_main_v264_apply, val_main_v266_apply, val_main_v263_apply, val_main_v260_apply, val_main_v257_apply, val_main_v255_apply, mr_ln_g, vr_ln_g]
  rfl

/-- The gradient of `ln_b`. -/
theorem gr_ln_b : val_main_v269 (F := Ideal) x0 x1 x2 = g_ln_b ((x0 : S1.Idx → BitVec 32) (ix1 0)) x1 x2 := by
  unfold val_main_v269 val_main_v268 val_main_v7
  rw [g_eq]
  unfold g_ln_b cut_ln_b flat
  rw [cast_join _ _ _ (by decide : S1x448x128.ShapeCasts S57344)] <;> rfl

/-- The first moment of `ln_b`. -/
theorem mr_ln_b (a : Vec Ideal S4x2x256 .f32) : val_main_v274 (F := Ideal) x0 x1 x2 a = m_ln_b ((x0 : S1.Idx → BitVec 32) (ix1 0)) x1 x2 a := by
  funext i
  rw [val_main_v274_apply, val_main_v271_apply, val_main_v273_apply, val_main_v270_apply, val_main_v272_apply, gr_ln_b]
  rfl

/-- The second moment of `ln_b`. -/
theorem vr_ln_b (a : Vec Ideal S4x2x256 .f32) : val_main_v280 (F := Ideal) x0 x1 x2 a = v_ln_b ((x0 : S1.Idx → BitVec 32) (ix1 0)) x1 x2 a := by
  funext i
  rw [val_main_v280_apply, val_main_v276_apply, val_main_v279_apply, val_main_v275_apply, val_main_v278_apply, val_main_v277_apply, gr_ln_b]
  rfl

/-- The step of `ln_b`. -/
theorem dr_ln_b (w a b : Vec Ideal S4x2x256 .f32) : val_main_v293 (F := Ideal) x0 x1 x2 w a b = d_ln_b ((x0 : S1.Idx → BitVec 32) (ix1 0)) x1 x2 w a b := by
  funext i
  rw [val_main_v293_apply, val_main_v291_apply, val_main_v288_apply, val_main_v282_apply, val_main_v287_apply, val_main_v285_apply, val_main_v284_apply, val_main_v290_apply, val_main_v292_apply, val_main_v289_apply, val_main_v286_apply, val_main_v283_apply, val_main_v281_apply, mr_ln_b, vr_ln_b]
  rfl

variable (m : (ℓ : Loc nD τ sig) → Buf (Elt Ideal) ℓ) (ρ : Dev nD → PrngReg)

/-- What the reference ends holding, as a function of its arguments, and its arguments as they were. -/
theorem run_value : θ_run defs (onTc (τ := τ) (main (F := Ideal))) ⟨m, fun _ => 0, ρ⟩ fun r => ∀ c : Dev nD,
      r.2.mem ((c.tc : Thread nD τ).loc main_v9) = g_sc_conv_w ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v35) = g_sc_conv_b ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v61) = g_lru_b_in ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v87) = g_lru_conv_w ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v113) = g_lru_conv_b ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v139) = g_lru_b_gate ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v165) = g_lru_lambda ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v191) = g_ffn_conv_w ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v217) = g_ffn_conv_b ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v243) = g_ln_g ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v269) = g_ln_b ((m ((c.tc : Thread nD τ).loc main_arg0) : S1.Idx → BitVec 32) (ix1 0)) (m ((c.tc : Thread nD τ).loc main_arg1)) (m ((c.tc : Thread nD τ).loc main_arg2))
      ∧ r.2.mem ((c.tc : Thread nD τ).loc main_v33) = d_sc_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg3)) (m ((c.tc : Thread nD τ).loc main_arg14)) (m ((c.tc : Thread nD τ).loc main_arg25))
      ∧ r.2.mem ((c.tc : Thread nD τ).loc main_v59) = d_sc_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg4)) (m ((c.tc : Thread nD τ).loc main_arg15)) (m ((c.tc : Thread nD τ).loc main_arg26))
      ∧ r.2.mem ((c.tc : Thread nD τ).loc main_v85) = d_lru_b_in ((m ((c.tc : Thread nD τ).loc main_arg0) : S1.Idx → BitVec 32) (ix1 0)) (m ((c.tc : Thread nD τ).loc main_arg1)) (m ((c.tc : Thread nD τ).loc main_arg2)) (m ((c.tc : Thread nD τ).loc main_arg5)) (m ((c.tc : Thread nD τ).loc main_arg16)) (m ((c.tc : Thread nD τ).loc main_arg27))
      ∧ r.2.mem ((c.tc : Thread nD τ).loc main_v111) = d_lru_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg6)) (m ((c.tc : Thread nD τ).loc main_arg17)) (m ((c.tc : Thread nD τ).loc main_arg28))
      ∧ r.2.mem ((c.tc : Thread nD τ).loc main_v137) = d_lru_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg7)) (m ((c.tc : Thread nD τ).loc main_arg18)) (m ((c.tc : Thread nD τ).loc main_arg29))
      ∧ r.2.mem ((c.tc : Thread nD τ).loc main_v163) = d_lru_b_gate ((m ((c.tc : Thread nD τ).loc main_arg0) : S1.Idx → BitVec 32) (ix1 0)) (m ((c.tc : Thread nD τ).loc main_arg1)) (m ((c.tc : Thread nD τ).loc main_arg2)) (m ((c.tc : Thread nD τ).loc main_arg8)) (m ((c.tc : Thread nD τ).loc main_arg19)) (m ((c.tc : Thread nD τ).loc main_arg30))
      ∧ r.2.mem ((c.tc : Thread nD τ).loc main_v189) = d_lru_lambda ((m ((c.tc : Thread nD τ).loc main_arg0) : S1.Idx → BitVec 32) (ix1 0)) (m ((c.tc : Thread nD τ).loc main_arg1)) (m ((c.tc : Thread nD τ).loc main_arg2)) (m ((c.tc : Thread nD τ).loc main_arg9)) (m ((c.tc : Thread nD τ).loc main_arg20)) (m ((c.tc : Thread nD τ).loc main_arg31))
      ∧ r.2.mem ((c.tc : Thread nD τ).loc main_v215) = d_ffn_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg10)) (m ((c.tc : Thread nD τ).loc main_arg21)) (m ((c.tc : Thread nD τ).loc main_arg32))
      ∧ r.2.mem ((c.tc : Thread nD τ).loc main_v241) = d_ffn_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg11)) (m ((c.tc : Thread nD τ).loc main_arg22)) (m ((c.tc : Thread nD τ).loc main_arg33))
      ∧ r.2.mem ((c.tc : Thread nD τ).loc main_v267) = d_ln_g ((m ((c.tc : Thread nD τ).loc main_arg0) : S1.Idx → BitVec 32) (ix1 0)) (m ((c.tc : Thread nD τ).loc main_arg1)) (m ((c.tc : Thread nD τ).loc main_arg2)) (m ((c.tc : Thread nD τ).loc main_arg12)) (m ((c.tc : Thread nD τ).loc main_arg23)) (m ((c.tc : Thread nD τ).loc main_arg34))
      ∧ r.2.mem ((c.tc : Thread nD τ).loc main_v293) = d_ln_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg13)) (m ((c.tc : Thread nD τ).loc main_arg24)) (m ((c.tc : Thread nD τ).loc main_arg35))
      ∧ r.2.mem ((c.tc : Thread nD τ).loc main_v14) = m_sc_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg14))
      ∧ r.2.mem ((c.tc : Thread nD τ).loc main_v40) = m_sc_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg15))
      ∧ r.2.mem ((c.tc : Thread nD τ).loc main_v66) = m_lru_b_in ((m ((c.tc : Thread nD τ).loc main_arg0) : S1.Idx → BitVec 32) (ix1 0)) (m ((c.tc : Thread nD τ).loc main_arg1)) (m ((c.tc : Thread nD τ).loc main_arg2)) (m ((c.tc : Thread nD τ).loc main_arg16))
      ∧ r.2.mem ((c.tc : Thread nD τ).loc main_v92) = m_lru_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg17))
      ∧ r.2.mem ((c.tc : Thread nD τ).loc main_v118) = m_lru_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg18))
      ∧ r.2.mem ((c.tc : Thread nD τ).loc main_v144) = m_lru_b_gate ((m ((c.tc : Thread nD τ).loc main_arg0) : S1.Idx → BitVec 32) (ix1 0)) (m ((c.tc : Thread nD τ).loc main_arg1)) (m ((c.tc : Thread nD τ).loc main_arg2)) (m ((c.tc : Thread nD τ).loc main_arg19))
      ∧ r.2.mem ((c.tc : Thread nD τ).loc main_v170) = m_lru_lambda ((m ((c.tc : Thread nD τ).loc main_arg0) : S1.Idx → BitVec 32) (ix1 0)) (m ((c.tc : Thread nD τ).loc main_arg1)) (m ((c.tc : Thread nD τ).loc main_arg2)) (m ((c.tc : Thread nD τ).loc main_arg20))
      ∧ r.2.mem ((c.tc : Thread nD τ).loc main_v196) = m_ffn_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg21))
      ∧ r.2.mem ((c.tc : Thread nD τ).loc main_v222) = m_ffn_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg22))
      ∧ r.2.mem ((c.tc : Thread nD τ).loc main_v248) = m_ln_g ((m ((c.tc : Thread nD τ).loc main_arg0) : S1.Idx → BitVec 32) (ix1 0)) (m ((c.tc : Thread nD τ).loc main_arg1)) (m ((c.tc : Thread nD τ).loc main_arg2)) (m ((c.tc : Thread nD τ).loc main_arg23))
      ∧ r.2.mem ((c.tc : Thread nD τ).loc main_v274) = m_ln_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg24))
      ∧ r.2.mem ((c.tc : Thread nD τ).loc main_v20) = v_sc_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg25))
      ∧ r.2.mem ((c.tc : Thread nD τ).loc main_v46) = v_sc_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg26))
      ∧ r.2.mem ((c.tc : Thread nD τ).loc main_v72) = v_lru_b_in ((m ((c.tc : Thread nD τ).loc main_arg0) : S1.Idx → BitVec 32) (ix1 0)) (m ((c.tc : Thread nD τ).loc main_arg1)) (m ((c.tc : Thread nD τ).loc main_arg2)) (m ((c.tc : Thread nD τ).loc main_arg27))
      ∧ r.2.mem ((c.tc : Thread nD τ).loc main_v98) = v_lru_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg28))
      ∧ r.2.mem ((c.tc : Thread nD τ).loc main_v124) = v_lru_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg29))
      ∧ r.2.mem ((c.tc : Thread nD τ).loc main_v150) = v_lru_b_gate ((m ((c.tc : Thread nD τ).loc main_arg0) : S1.Idx → BitVec 32) (ix1 0)) (m ((c.tc : Thread nD τ).loc main_arg1)) (m ((c.tc : Thread nD τ).loc main_arg2)) (m ((c.tc : Thread nD τ).loc main_arg30))
      ∧ r.2.mem ((c.tc : Thread nD τ).loc main_v176) = v_lru_lambda ((m ((c.tc : Thread nD τ).loc main_arg0) : S1.Idx → BitVec 32) (ix1 0)) (m ((c.tc : Thread nD τ).loc main_arg1)) (m ((c.tc : Thread nD τ).loc main_arg2)) (m ((c.tc : Thread nD τ).loc main_arg31))
      ∧ r.2.mem ((c.tc : Thread nD τ).loc main_v202) = v_ffn_conv_w ((m ((c.tc : Thread nD τ).loc main_arg0) : S1.Idx → BitVec 32) (ix1 0)) (m ((c.tc : Thread nD τ).loc main_arg1)) (m ((c.tc : Thread nD τ).loc main_arg2)) (m ((c.tc : Thread nD τ).loc main_arg32))
      ∧ r.2.mem ((c.tc : Thread nD τ).loc main_v228) = v_ffn_conv_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg33))
      ∧ r.2.mem ((c.tc : Thread nD τ).loc main_v254) = v_ln_g ((m ((c.tc : Thread nD τ).loc main_arg0) : S1.Idx → BitVec 32) (ix1 0)) (m ((c.tc : Thread nD τ).loc main_arg1)) (m ((c.tc : Thread nD τ).loc main_arg2)) (m ((c.tc : Thread nD τ).loc main_arg34))
      ∧ r.2.mem ((c.tc : Thread nD τ).loc main_v280) = v_ln_b ((m ((c.tc : Thread nD τ).loc main_arg0) : S1.Idx → BitVec 32) (ix1 0)) (m ((c.tc : Thread nD τ).loc main_arg1)) (m ((c.tc : Thread nD τ).loc main_arg2)) (m ((c.tc : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, ha⟩ := h c
    exact ⟨h0.trans ((val_main_v9_eq _).trans (gr_sc_conv_w _ _ _)),
      h1.trans ((val_main_v35_eq _).trans (gr_sc_conv_b _ _ _)),
      h2.trans ((val_main_v61_eq _).trans (gr_lru_b_in _ _ _)),
      h3.trans ((val_main_v87_eq _).trans (gr_lru_conv_w _ _ _)),
      h4.trans ((val_main_v113_eq _).trans (gr_lru_conv_b _ _ _)),
      h5.trans ((val_main_v139_eq _).trans (gr_lru_b_gate _ _ _)),
      h6.trans ((val_main_v165_eq _).trans (gr_lru_lambda _ _ _)),
      h7.trans ((val_main_v191_eq _).trans (gr_ffn_conv_w _ _ _)),
      h8.trans ((val_main_v217_eq _).trans (gr_ffn_conv_b _ _ _)),
      h9.trans ((val_main_v243_eq _).trans (gr_ln_g _ _ _)),
      h10.trans ((val_main_v269_eq _).trans (gr_ln_b _ _ _)),
      h11.trans ((val_main_v33_eq _).trans (dr_sc_conv_w _ _ _ _ _ _)),
      h12.trans ((val_main_v59_eq _).trans (dr_sc_conv_b _ _ _ _ _ _)),
      h13.trans ((val_main_v85_eq _).trans (dr_lru_b_in _ _ _ _ _ _)),
      h14.trans ((val_main_v111_eq _).trans (dr_lru_conv_w _ _ _ _ _ _)),
      h15.trans ((val_main_v137_eq _).trans (dr_lru_conv_b _ _ _ _ _ _)),
      h16.trans ((val_main_v163_eq _).trans (dr_lru_b_gate _ _ _ _ _ _)),
      h17.trans ((val_main_v189_eq _).trans (dr_lru_lambda _ _ _ _ _ _)),
      h18.trans ((val_main_v215_eq _).trans (dr_ffn_conv_w _ _ _ _ _ _)),
      h19.trans ((val_main_v241_eq _).trans (dr_ffn_conv_b _ _ _ _ _ _)),
      h20.trans ((val_main_v267_eq _).trans (dr_ln_g _ _ _ _ _ _)),
      h21.trans ((val_main_v293_eq _).trans (dr_ln_b _ _ _ _ _ _)),
      h22.trans ((val_main_v14_eq _).trans (mr_sc_conv_w _ _ _ _)),
      h23.trans ((val_main_v40_eq _).trans (mr_sc_conv_b _ _ _ _)),
      h24.trans ((val_main_v66_eq _).trans (mr_lru_b_in _ _ _ _)),
      h25.trans ((val_main_v92_eq _).trans (mr_lru_conv_w _ _ _ _)),
      h26.trans ((val_main_v118_eq _).trans (mr_lru_conv_b _ _ _ _)),
      h27.trans ((val_main_v144_eq _).trans (mr_lru_b_gate _ _ _ _)),
      h28.trans ((val_main_v170_eq _).trans (mr_lru_lambda _ _ _ _)),
      h29.trans ((val_main_v196_eq _).trans (mr_ffn_conv_w _ _ _ _)),
      h30.trans ((val_main_v222_eq _).trans (mr_ffn_conv_b _ _ _ _)),
      h31.trans ((val_main_v248_eq _).trans (mr_ln_g _ _ _ _)),
      h32.trans ((val_main_v274_eq _).trans (mr_ln_b _ _ _ _)),
      h33.trans ((val_main_v20_eq _).trans (vr_sc_conv_w _ _ _ _)),
      h34.trans ((val_main_v46_eq _).trans (vr_sc_conv_b _ _ _ _)),
      h35.trans ((val_main_v72_eq _).trans (vr_lru_b_in _ _ _ _)),
      h36.trans ((val_main_v98_eq _).trans (vr_lru_conv_w _ _ _ _)),
      h37.trans ((val_main_v124_eq _).trans (vr_lru_conv_b _ _ _ _)),
      h38.trans ((val_main_v150_eq _).trans (vr_lru_b_gate _ _ _ _)),
      h39.trans ((val_main_v176_eq _).trans (vr_lru_lambda _ _ _ _)),
      h40.trans ((val_main_v202_eq _).trans (vr_ffn_conv_w _ _ _ _)),
      h41.trans ((val_main_v228_eq _).trans (vr_ffn_conv_b _ _ _ _)),
      h42.trans ((val_main_v254_eq _).trans (vr_ln_g _ _ _ _)),
      h43.trans ((val_main_v280_eq _).trans (vr_ln_b _ _ _ _)), ha⟩)
    (run m ρ)

/-- The reference ends with its arguments as they were; it declares no semaphore. -/
theorem ends : Cert.quiescent_UpdSmallRefIdeal := fun m ρ _ =>
  (θ_run _ _ _).mono (fun _ h => ⟨fun c => (h c).2.2.2.2.2.2.2.2.2.2.2.2.2.2.2.2.2.2.2.2.2.2.2.2.2.2.2.2.2.2.2.2.2.2.2.2.2.2.2.2.2.2.2.2, funext fun g => nomatch g.2⟩) (run_value m ρ)

end Cert.UpdSmallRefIdeal.Value

open Cert.UpdSmallIdeal.Value (coreOf g_sc_conv_w d_sc_conv_w m_sc_conv_w v_sc_conv_w g_sc_conv_b d_sc_conv_b m_sc_conv_b v_sc_conv_b g_lru_b_in d_lru_b_in m_lru_b_in v_lru_b_in g_lru_conv_w d_lru_conv_w m_lru_conv_w v_lru_conv_w g_lru_conv_b d_lru_conv_b m_lru_conv_b v_lru_conv_b g_lru_b_gate d_lru_b_gate m_lru_b_gate v_lru_b_gate g_lru_lambda d_lru_lambda m_lru_lambda v_lru_lambda g_ffn_conv_w d_ffn_conv_w m_ffn_conv_w v_ffn_conv_w g_ffn_conv_b d_ffn_conv_b m_ffn_conv_b v_ffn_conv_b g_ln_g d_ln_g m_ln_g v_ln_g g_ln_b d_ln_b m_ln_b v_ln_b) in
/-- The kernel's values and the reference's, over the ideal reals. -/
theorem UpdSmall_value : Cert.algebraic_UpdSmallIdeal_UpdSmallRefIdeal :=
  fun m g m' g' _ h => ⟨fun c => g_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => g_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)),
    fun c => d_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg3)) (m ((c.tc : Thread Cert.UpdSmallIdeal.nD Cert.UpdSmallIdeal.τ).loc Cert.UpdSmallIdeal.main_arg14)) (m ((c.tc : Thread Cert.UpdSmallIdeal.nD Cert.UpdSmallIdeal.τ).loc Cert.UpdSmallIdeal.main_arg25)),
    fun c => d_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg4)) (m ((c.tc : Thread Cert.UpdSmallIdeal.nD Cert.UpdSmallIdeal.τ).loc Cert.UpdSmallIdeal.main_arg15)) (m ((c.tc : Thread Cert.UpdSmallIdeal.nD Cert.UpdSmallIdeal.τ).loc Cert.UpdSmallIdeal.main_arg26)),
    fun c => d_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg5)) (m ((c.tc : Thread Cert.UpdSmallIdeal.nD Cert.UpdSmallIdeal.τ).loc Cert.UpdSmallIdeal.main_arg16)) (m ((c.tc : Thread Cert.UpdSmallIdeal.nD Cert.UpdSmallIdeal.τ).loc Cert.UpdSmallIdeal.main_arg27)),
    fun c => d_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg6)) (m ((c.tc : Thread Cert.UpdSmallIdeal.nD Cert.UpdSmallIdeal.τ).loc Cert.UpdSmallIdeal.main_arg17)) (m ((c.tc : Thread Cert.UpdSmallIdeal.nD Cert.UpdSmallIdeal.τ).loc Cert.UpdSmallIdeal.main_arg28)),
    fun c => d_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg7)) (m ((c.tc : Thread Cert.UpdSmallIdeal.nD Cert.UpdSmallIdeal.τ).loc Cert.UpdSmallIdeal.main_arg18)) (m ((c.tc : Thread Cert.UpdSmallIdeal.nD Cert.UpdSmallIdeal.τ).loc Cert.UpdSmallIdeal.main_arg29)),
    fun c => d_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg8)) (m ((c.tc : Thread Cert.UpdSmallIdeal.nD Cert.UpdSmallIdeal.τ).loc Cert.UpdSmallIdeal.main_arg19)) (m ((c.tc : Thread Cert.UpdSmallIdeal.nD Cert.UpdSmallIdeal.τ).loc Cert.UpdSmallIdeal.main_arg30)),
    fun c => d_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg9)) (m ((c.tc : Thread Cert.UpdSmallIdeal.nD Cert.UpdSmallIdeal.τ).loc Cert.UpdSmallIdeal.main_arg20)) (m ((c.tc : Thread Cert.UpdSmallIdeal.nD Cert.UpdSmallIdeal.τ).loc Cert.UpdSmallIdeal.main_arg31)),
    fun c => d_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg10)) (m ((c.tc : Thread Cert.UpdSmallIdeal.nD Cert.UpdSmallIdeal.τ).loc Cert.UpdSmallIdeal.main_arg21)) (m ((c.tc : Thread Cert.UpdSmallIdeal.nD Cert.UpdSmallIdeal.τ).loc Cert.UpdSmallIdeal.main_arg32)),
    fun c => d_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg11)) (m ((c.tc : Thread Cert.UpdSmallIdeal.nD Cert.UpdSmallIdeal.τ).loc Cert.UpdSmallIdeal.main_arg22)) (m ((c.tc : Thread Cert.UpdSmallIdeal.nD Cert.UpdSmallIdeal.τ).loc Cert.UpdSmallIdeal.main_arg33)),
    fun c => d_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg12)) (m ((c.tc : Thread Cert.UpdSmallIdeal.nD Cert.UpdSmallIdeal.τ).loc Cert.UpdSmallIdeal.main_arg23)) (m ((c.tc : Thread Cert.UpdSmallIdeal.nD Cert.UpdSmallIdeal.τ).loc Cert.UpdSmallIdeal.main_arg34)),
    fun c => d_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg13)) (m ((c.tc : Thread Cert.UpdSmallIdeal.nD Cert.UpdSmallIdeal.τ).loc Cert.UpdSmallIdeal.main_arg24)) (m ((c.tc : Thread Cert.UpdSmallIdeal.nD Cert.UpdSmallIdeal.τ).loc Cert.UpdSmallIdeal.main_arg35)),
    fun c => m_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg14)),
    fun c => m_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg15)),
    fun c => m_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg16)),
    fun c => m_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg17)),
    fun c => m_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg18)),
    fun c => m_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg19)),
    fun c => m_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg20)),
    fun c => m_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg21)),
    fun c => m_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg22)),
    fun c => m_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg23)),
    fun c => m_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg24)),
    fun c => v_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg25)),
    fun c => v_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg26)),
    fun c => v_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg27)),
    fun c => v_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg28)),
    fun c => v_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg29)),
    fun c => v_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg30)),
    fun c => v_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg31)),
    fun c => v_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg32)),
    fun c => v_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg33)),
    fun c => v_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg34)),
    fun c => v_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg35)),
    Cert.UpdSmallIdeal.Value.run_each m g,
    (θ_run _ _ _).mono (fun r hr c => by
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, ha⟩ := hr c
      obtain ⟨a0, a1, a2, a3, a4, a5, a6, a7, a8, a9, a10, a11, a12, a13, a14, a15, a16, a17, a18, a19, a20, a21, a22, a23, a24, a25, a26, a27, a28, a29, a30, a31, a32, a33, a34, a35⟩ := h c
      have e0 : (m' ((c.tc : Thread Cert.UpdSmallRefIdeal.nD Cert.UpdSmallRefIdeal.τ).loc Cert.UpdSmallRefIdeal.main_arg0) : Cert.UpdSmallRefIdeal.S1.Idx → BitVec 32) (ix1 0) = coreOf m := by
        rw [a0]
        have hc0 : c = 0 := Subsingleton.elim _ _
        rw [hc0]
        rfl
      have e_g_sc_conv_w : g_sc_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_sc_conv_b : g_sc_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_lru_b_in : g_lru_b_in ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_lru_conv_w : g_lru_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_lru_conv_b : g_lru_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_lru_b_gate : g_lru_b_gate ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_lru_lambda : g_lru_lambda ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_ffn_conv_w : g_ffn_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_ffn_conv_b : g_ffn_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_ln_g : g_ln_g ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_g_ln_b : g_ln_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) = g_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) := by
        rw [e0, a1, a2] <;> rfl
      have e_d_sc_conv_w : d_sc_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg3)) (m' ((c.tc : Thread Cert.UpdSmallRefIdeal.nD Cert.UpdSmallRefIdeal.τ).loc Cert.UpdSmallRefIdeal.main_arg14)) (m' ((c.tc : Thread Cert.UpdSmallRefIdeal.nD Cert.UpdSmallRefIdeal.τ).loc Cert.UpdSmallRefIdeal.main_arg25)) = d_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg3)) (m ((c.tc : Thread Cert.UpdSmallIdeal.nD Cert.UpdSmallIdeal.τ).loc Cert.UpdSmallIdeal.main_arg14)) (m ((c.tc : Thread Cert.UpdSmallIdeal.nD Cert.UpdSmallIdeal.τ).loc Cert.UpdSmallIdeal.main_arg25)) := by
        rw [e0, a1, a2, a3, a14, a25] <;> rfl
      have e_d_sc_conv_b : d_sc_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg4)) (m' ((c.tc : Thread Cert.UpdSmallRefIdeal.nD Cert.UpdSmallRefIdeal.τ).loc Cert.UpdSmallRefIdeal.main_arg15)) (m' ((c.tc : Thread Cert.UpdSmallRefIdeal.nD Cert.UpdSmallRefIdeal.τ).loc Cert.UpdSmallRefIdeal.main_arg26)) = d_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg4)) (m ((c.tc : Thread Cert.UpdSmallIdeal.nD Cert.UpdSmallIdeal.τ).loc Cert.UpdSmallIdeal.main_arg15)) (m ((c.tc : Thread Cert.UpdSmallIdeal.nD Cert.UpdSmallIdeal.τ).loc Cert.UpdSmallIdeal.main_arg26)) := by
        rw [e0, a1, a2, a4, a15, a26] <;> rfl
      have e_d_lru_b_in : d_lru_b_in ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg5)) (m' ((c.tc : Thread Cert.UpdSmallRefIdeal.nD Cert.UpdSmallRefIdeal.τ).loc Cert.UpdSmallRefIdeal.main_arg16)) (m' ((c.tc : Thread Cert.UpdSmallRefIdeal.nD Cert.UpdSmallRefIdeal.τ).loc Cert.UpdSmallRefIdeal.main_arg27)) = d_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg5)) (m ((c.tc : Thread Cert.UpdSmallIdeal.nD Cert.UpdSmallIdeal.τ).loc Cert.UpdSmallIdeal.main_arg16)) (m ((c.tc : Thread Cert.UpdSmallIdeal.nD Cert.UpdSmallIdeal.τ).loc Cert.UpdSmallIdeal.main_arg27)) := by
        rw [e0, a1, a2, a5, a16, a27] <;> rfl
      have e_d_lru_conv_w : d_lru_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg6)) (m' ((c.tc : Thread Cert.UpdSmallRefIdeal.nD Cert.UpdSmallRefIdeal.τ).loc Cert.UpdSmallRefIdeal.main_arg17)) (m' ((c.tc : Thread Cert.UpdSmallRefIdeal.nD Cert.UpdSmallRefIdeal.τ).loc Cert.UpdSmallRefIdeal.main_arg28)) = d_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg6)) (m ((c.tc : Thread Cert.UpdSmallIdeal.nD Cert.UpdSmallIdeal.τ).loc Cert.UpdSmallIdeal.main_arg17)) (m ((c.tc : Thread Cert.UpdSmallIdeal.nD Cert.UpdSmallIdeal.τ).loc Cert.UpdSmallIdeal.main_arg28)) := by
        rw [e0, a1, a2, a6, a17, a28] <;> rfl
      have e_d_lru_conv_b : d_lru_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg7)) (m' ((c.tc : Thread Cert.UpdSmallRefIdeal.nD Cert.UpdSmallRefIdeal.τ).loc Cert.UpdSmallRefIdeal.main_arg18)) (m' ((c.tc : Thread Cert.UpdSmallRefIdeal.nD Cert.UpdSmallRefIdeal.τ).loc Cert.UpdSmallRefIdeal.main_arg29)) = d_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg7)) (m ((c.tc : Thread Cert.UpdSmallIdeal.nD Cert.UpdSmallIdeal.τ).loc Cert.UpdSmallIdeal.main_arg18)) (m ((c.tc : Thread Cert.UpdSmallIdeal.nD Cert.UpdSmallIdeal.τ).loc Cert.UpdSmallIdeal.main_arg29)) := by
        rw [e0, a1, a2, a7, a18, a29] <;> rfl
      have e_d_lru_b_gate : d_lru_b_gate ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg8)) (m' ((c.tc : Thread Cert.UpdSmallRefIdeal.nD Cert.UpdSmallRefIdeal.τ).loc Cert.UpdSmallRefIdeal.main_arg19)) (m' ((c.tc : Thread Cert.UpdSmallRefIdeal.nD Cert.UpdSmallRefIdeal.τ).loc Cert.UpdSmallRefIdeal.main_arg30)) = d_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg8)) (m ((c.tc : Thread Cert.UpdSmallIdeal.nD Cert.UpdSmallIdeal.τ).loc Cert.UpdSmallIdeal.main_arg19)) (m ((c.tc : Thread Cert.UpdSmallIdeal.nD Cert.UpdSmallIdeal.τ).loc Cert.UpdSmallIdeal.main_arg30)) := by
        rw [e0, a1, a2, a8, a19, a30] <;> rfl
      have e_d_lru_lambda : d_lru_lambda ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg9)) (m' ((c.tc : Thread Cert.UpdSmallRefIdeal.nD Cert.UpdSmallRefIdeal.τ).loc Cert.UpdSmallRefIdeal.main_arg20)) (m' ((c.tc : Thread Cert.UpdSmallRefIdeal.nD Cert.UpdSmallRefIdeal.τ).loc Cert.UpdSmallRefIdeal.main_arg31)) = d_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg9)) (m ((c.tc : Thread Cert.UpdSmallIdeal.nD Cert.UpdSmallIdeal.τ).loc Cert.UpdSmallIdeal.main_arg20)) (m ((c.tc : Thread Cert.UpdSmallIdeal.nD Cert.UpdSmallIdeal.τ).loc Cert.UpdSmallIdeal.main_arg31)) := by
        rw [e0, a1, a2, a9, a20, a31] <;> rfl
      have e_d_ffn_conv_w : d_ffn_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg10)) (m' ((c.tc : Thread Cert.UpdSmallRefIdeal.nD Cert.UpdSmallRefIdeal.τ).loc Cert.UpdSmallRefIdeal.main_arg21)) (m' ((c.tc : Thread Cert.UpdSmallRefIdeal.nD Cert.UpdSmallRefIdeal.τ).loc Cert.UpdSmallRefIdeal.main_arg32)) = d_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg10)) (m ((c.tc : Thread Cert.UpdSmallIdeal.nD Cert.UpdSmallIdeal.τ).loc Cert.UpdSmallIdeal.main_arg21)) (m ((c.tc : Thread Cert.UpdSmallIdeal.nD Cert.UpdSmallIdeal.τ).loc Cert.UpdSmallIdeal.main_arg32)) := by
        rw [e0, a1, a2, a10, a21, a32] <;> rfl
      have e_d_ffn_conv_b : d_ffn_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg11)) (m' ((c.tc : Thread Cert.UpdSmallRefIdeal.nD Cert.UpdSmallRefIdeal.τ).loc Cert.UpdSmallRefIdeal.main_arg22)) (m' ((c.tc : Thread Cert.UpdSmallRefIdeal.nD Cert.UpdSmallRefIdeal.τ).loc Cert.UpdSmallRefIdeal.main_arg33)) = d_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg11)) (m ((c.tc : Thread Cert.UpdSmallIdeal.nD Cert.UpdSmallIdeal.τ).loc Cert.UpdSmallIdeal.main_arg22)) (m ((c.tc : Thread Cert.UpdSmallIdeal.nD Cert.UpdSmallIdeal.τ).loc Cert.UpdSmallIdeal.main_arg33)) := by
        rw [e0, a1, a2, a11, a22, a33] <;> rfl
      have e_d_ln_g : d_ln_g ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg12)) (m' ((c.tc : Thread Cert.UpdSmallRefIdeal.nD Cert.UpdSmallRefIdeal.τ).loc Cert.UpdSmallRefIdeal.main_arg23)) (m' ((c.tc : Thread Cert.UpdSmallRefIdeal.nD Cert.UpdSmallRefIdeal.τ).loc Cert.UpdSmallRefIdeal.main_arg34)) = d_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg12)) (m ((c.tc : Thread Cert.UpdSmallIdeal.nD Cert.UpdSmallIdeal.τ).loc Cert.UpdSmallIdeal.main_arg23)) (m ((c.tc : Thread Cert.UpdSmallIdeal.nD Cert.UpdSmallIdeal.τ).loc Cert.UpdSmallIdeal.main_arg34)) := by
        rw [e0, a1, a2, a12, a23, a34] <;> rfl
      have e_d_ln_b : d_ln_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg13)) (m' ((c.tc : Thread Cert.UpdSmallRefIdeal.nD Cert.UpdSmallRefIdeal.τ).loc Cert.UpdSmallRefIdeal.main_arg24)) (m' ((c.tc : Thread Cert.UpdSmallRefIdeal.nD Cert.UpdSmallRefIdeal.τ).loc Cert.UpdSmallRefIdeal.main_arg35)) = d_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg13)) (m ((c.tc : Thread Cert.UpdSmallIdeal.nD Cert.UpdSmallIdeal.τ).loc Cert.UpdSmallIdeal.main_arg24)) (m ((c.tc : Thread Cert.UpdSmallIdeal.nD Cert.UpdSmallIdeal.τ).loc Cert.UpdSmallIdeal.main_arg35)) := by
        rw [e0, a1, a2, a13, a24, a35] <;> rfl
      have e_m_sc_conv_w : m_sc_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg14)) = m_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg14)) := by
        rw [e0, a1, a2, a14] <;> rfl
      have e_m_sc_conv_b : m_sc_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg15)) = m_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg15)) := by
        rw [e0, a1, a2, a15] <;> rfl
      have e_m_lru_b_in : m_lru_b_in ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg16)) = m_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg16)) := by
        rw [e0, a1, a2, a16] <;> rfl
      have e_m_lru_conv_w : m_lru_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg17)) = m_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg17)) := by
        rw [e0, a1, a2, a17] <;> rfl
      have e_m_lru_conv_b : m_lru_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg18)) = m_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg18)) := by
        rw [e0, a1, a2, a18] <;> rfl
      have e_m_lru_b_gate : m_lru_b_gate ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg19)) = m_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg19)) := by
        rw [e0, a1, a2, a19] <;> rfl
      have e_m_lru_lambda : m_lru_lambda ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg20)) = m_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg20)) := by
        rw [e0, a1, a2, a20] <;> rfl
      have e_m_ffn_conv_w : m_ffn_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg21)) = m_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg21)) := by
        rw [e0, a1, a2, a21] <;> rfl
      have e_m_ffn_conv_b : m_ffn_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg22)) = m_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg22)) := by
        rw [e0, a1, a2, a22] <;> rfl
      have e_m_ln_g : m_ln_g ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg23)) = m_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg23)) := by
        rw [e0, a1, a2, a23] <;> rfl
      have e_m_ln_b : m_ln_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg24)) = m_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg24)) := by
        rw [e0, a1, a2, a24] <;> rfl
      have e_v_sc_conv_w : v_sc_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg25)) = v_sc_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg25)) := by
        rw [e0, a1, a2, a25] <;> rfl
      have e_v_sc_conv_b : v_sc_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg26)) = v_sc_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg26)) := by
        rw [e0, a1, a2, a26] <;> rfl
      have e_v_lru_b_in : v_lru_b_in ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg27)) = v_lru_b_in (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg27)) := by
        rw [e0, a1, a2, a27] <;> rfl
      have e_v_lru_conv_w : v_lru_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg28)) = v_lru_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg28)) := by
        rw [e0, a1, a2, a28] <;> rfl
      have e_v_lru_conv_b : v_lru_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg29)) = v_lru_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg29)) := by
        rw [e0, a1, a2, a29] <;> rfl
      have e_v_lru_b_gate : v_lru_b_gate ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg30)) = v_lru_b_gate (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg30)) := by
        rw [e0, a1, a2, a30] <;> rfl
      have e_v_lru_lambda : v_lru_lambda ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg31)) = v_lru_lambda (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg31)) := by
        rw [e0, a1, a2, a31] <;> rfl
      have e_v_ffn_conv_w : v_ffn_conv_w ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg32)) = v_ffn_conv_w (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg32)) := by
        rw [e0, a1, a2, a32] <;> rfl
      have e_v_ffn_conv_b : v_ffn_conv_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg33)) = v_ffn_conv_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg33)) := by
        rw [e0, a1, a2, a33] <;> rfl
      have e_v_ln_g : v_ln_g ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg34)) = v_ln_g (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg34)) := by
        rw [e0, a1, a2, a34] <;> rfl
      have e_v_ln_b : v_ln_b ((m' ((c.tc : Thread Cert.UpdSmallRefIdeal.nD Cert.UpdSmallRefIdeal.τ).loc Cert.UpdSmallRefIdeal.main_arg0) : Cert.UpdSmallRefIdeal.S1.Idx → BitVec 32) (ix1 0)) (m' ((c.tc : Thread Cert.UpdSmallRefIdeal.nD Cert.UpdSmallRefIdeal.τ).loc Cert.UpdSmallRefIdeal.main_arg1)) (m' ((c.tc : Thread Cert.UpdSmallRefIdeal.nD Cert.UpdSmallRefIdeal.τ).loc Cert.UpdSmallRefIdeal.main_arg2)) (m' ((c.tc : Thread Cert.UpdSmallRefIdeal.nD Cert.UpdSmallRefIdeal.τ).loc Cert.UpdSmallRefIdeal.main_arg35)) = v_ln_b (coreOf m) (m ((c.tc : Thread Cert.UpdSmallIdeal.nD Cert.UpdSmallIdeal.τ).loc Cert.UpdSmallIdeal.main_arg1)) (m ((c.tc : Thread Cert.UpdSmallIdeal.nD Cert.UpdSmallIdeal.τ).loc Cert.UpdSmallIdeal.main_arg2)) (m ((c.tc : Thread Cert.UpdSmallIdeal.nD Cert.UpdSmallIdeal.τ).loc Cert.UpdSmallIdeal.main_arg35)) := by
        rw [e0, a1, a2, a35] <;> rfl
      exact ⟨h0.trans e_g_sc_conv_w,
        h1.trans e_g_sc_conv_b,
        h2.trans e_g_lru_b_in,
        h3.trans e_g_lru_conv_w,
        h4.trans e_g_lru_conv_b,
        h5.trans e_g_lru_b_gate,
        h6.trans e_g_lru_lambda,
        h7.trans e_g_ffn_conv_w,
        h8.trans e_g_ffn_conv_b,
        h9.trans e_g_ln_g,
        h10.trans e_g_ln_b,
        h11.trans e_d_sc_conv_w,
        h12.trans e_d_sc_conv_b,
        h13.trans e_d_lru_b_in,
        h14.trans e_d_lru_conv_w,
        h15.trans e_d_lru_conv_b,
        h16.trans e_d_lru_b_gate,
        h17.trans e_d_lru_lambda,
        h18.trans e_d_ffn_conv_w,
        h19.trans e_d_ffn_conv_b,
        h20.trans e_d_ln_g,
        h21.trans e_d_ln_b,
        h22.trans e_m_sc_conv_w,
        h23.trans e_m_sc_conv_b,
        h24.trans e_m_lru_b_in,
        h25.trans e_m_lru_conv_w,
        h26.trans e_m_lru_conv_b,
        h27.trans e_m_lru_b_gate,
        h28.trans e_m_lru_lambda,
        h29.trans e_m_ffn_conv_w,
        h30.trans e_m_ffn_conv_b,
        h31.trans e_m_ln_g,
        h32.trans e_m_ln_b,
        h33.trans e_v_sc_conv_w,
        h34.trans e_v_sc_conv_b,
        h35.trans e_v_lru_b_in,
        h36.trans e_v_lru_conv_w,
        h37.trans e_v_lru_conv_b,
        h38.trans e_v_lru_b_gate,
        h39.trans e_v_lru_lambda,
        h40.trans e_v_ffn_conv_w,
        h41.trans e_v_ffn_conv_b,
        h42.trans e_v_ln_g,
        h43.trans e_v_ln_b, ha⟩)
      (Cert.UpdSmallRefIdeal.Value.run_value m' g')⟩

end
-- ==== Proof.lean ====
module

public import proofs.«01_k».proof.Defs
public import proofs.«01_k».proof.Proof.Gen.ScBwd
public import proofs.«01_k».proof.Proof.Gen.ScBwd.Skeleton
public import proofs.«01_k».proof.Proof.Gen.ScBwd.Launch
public import proofs.«01_k».proof.Proof.Gen.ScBwd.Points
public import proofs.«01_k».proof.Proof.ScBits
public import proofs.«01_k».proof.Proof.Gen.ScBwdIdeal
public import proofs.«01_k».proof.Proof.Gen.ScBwdIdeal.Skeleton
public import proofs.«01_k».proof.Proof.Gen.ScBwdIdeal.Launch
public import proofs.«01_k».proof.Proof.Gen.ScBwdIdeal.Points
public import proofs.«01_k».proof.Proof.Gen.ScRefIdeal
public import proofs.«01_k».proof.Proof.Gen.ScRefIdeal.Run
public import proofs.«01_k».proof.Proof.ScRun
public import proofs.«01_k».proof.Proof.ScRef
public import proofs.«01_k».proof.Proof.Gen.FfnDownDw
public import proofs.«01_k».proof.Proof.Gen.FfnDownDw.Frame
public import proofs.«01_k».proof.Proof.FfnDownDwRef
public import proofs.«01_k».proof.Proof.Gen.FfnUpDw
public import proofs.«01_k».proof.Proof.Gen.FfnUpDw.Frame
public import proofs.«01_k».proof.Proof.FfnUpDwRef
public import proofs.«01_k».proof.Proof.Gen.ScOutDw
public import proofs.«01_k».proof.Proof.Gen.ScOutDw.Frame
public import proofs.«01_k».proof.Proof.ScOutDwRef
public import proofs.«01_k».proof.Proof.Gen.ScInDw
public import proofs.«01_k».proof.Proof.Gen.ScInDw.Frame
public import proofs.«01_k».proof.Proof.ScInDwRef
public import proofs.«01_k».proof.Proof.Gen.LruOutDw
public import proofs.«01_k».proof.Proof.Gen.LruOutDw.Frame
public import proofs.«01_k».proof.Proof.LruOutDwRef
public import proofs.«01_k».proof.Proof.Gen.LruInDw
public import proofs.«01_k».proof.Proof.Gen.LruInDw.Frame
public import proofs.«01_k».proof.Proof.LruInDwRef
public import proofs.«01_k».proof.Proof.Gen.FfnUpDx
public import proofs.«01_k».proof.Proof.Gen.FfnUpDx.Frame
public import proofs.«01_k».proof.Proof.FfnUpDxRef
public import proofs.«01_k».proof.Proof.Gen.ScInDx
public import proofs.«01_k».proof.Proof.Gen.ScInDx.Frame
public import proofs.«01_k».proof.Proof.ScInDxRef
public import proofs.«01_k».proof.Proof.Gen.LruInDx
public import proofs.«01_k».proof.Proof.Gen.LruInDx.Frame
public import proofs.«01_k».proof.Proof.LruInDxRef
public import proofs.«01_k».proof.Proof.Gen.ScOutDx
public import proofs.«01_k».proof.Proof.Gen.ScOutDx.Frame
public import proofs.«01_k».proof.Proof.ScOutDxRef
public import proofs.«01_k».proof.Proof.Gen.LruOutDx
public import proofs.«01_k».proof.Proof.Gen.LruOutDx.Frame
public import proofs.«01_k».proof.Proof.LruOutDxRef
public import proofs.«01_k».proof.Proof.Gen.ScIn
public import proofs.«01_k».proof.Proof.Gen.ScIn.Frame
public import proofs.«01_k».proof.Proof.ScInRef
public import proofs.«01_k».proof.Proof.Gen.LruIn
public import proofs.«01_k».proof.Proof.Gen.LruIn.Frame
public import proofs.«01_k».proof.Proof.LruInRef
public import proofs.«01_k».proof.Proof.Gen.FfnDownLn
public import proofs.«01_k».proof.Proof.Gen.FfnDownLn.Frame
public import proofs.«01_k».proof.Proof.FfnDownLnRef
public import proofs.«01_k».proof.Proof.Gen.ScOutLn
public import proofs.«01_k».proof.Proof.Gen.ScOutLn.Frame
public import proofs.«01_k».proof.Proof.ScOutLnRef
public import proofs.«01_k».proof.Proof.Gen.LruOutLn
public import proofs.«01_k».proof.Proof.Gen.LruOutLn.Frame
public import proofs.«01_k».proof.Proof.LruOutLnRef
public import proofs.«01_k».proof.Proof.Gen.LnBwd.Frame
public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.Gen.Pre_finite
public import proofs.«01_k».proof.Proof.LnBwdRun
public import proofs.«01_k».proof.Proof.LnBwdRef
public import proofs.«01_k».proof.Proof.Gen.LnLoss.Frame
public import proofs.«01_k».proof.Proof.Gen.LnLossIdeal.Frame
public import proofs.«01_k».proof.Proof.Gen.LnLossRefIdeal.Run
public import proofs.«01_k».proof.Proof.Gen.LnLossRefIdeal.Read
public import proofs.«01_k».proof.Proof.Gen.Pre_finite_error
public import proofs.«01_k».proof.Proof.LnLossRun
public import proofs.«01_k».proof.Proof.LnLossRef
public import proofs.«01_k».proof.Proof.Gen.Loss
public import proofs.«01_k».proof.Proof.Gen.LossIdeal
public import proofs.«01_k».proof.Proof.Gen.LossRefIdeal
public import proofs.«01_k».proof.Proof.LossVal
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpRun
public import proofs.«01_k».proof.Proof.FfnUpRef
public import proofs.«01_k».proof.Proof.Gen.UpdScIn.Frame
public import proofs.«01_k».proof.Proof.Gen.UpdScInIdeal.Frame
public import proofs.«01_k».proof.Proof.Gen.UpdScInRefIdeal.Run
public import proofs.«01_k».proof.Proof.Gen.UpdScInRefIdeal.Read
public import proofs.«01_k».proof.Proof.UpdScInRun
public import proofs.«01_k».proof.Proof.UpdScInRef
public import proofs.«01_k».proof.Proof.Gen.UpdScOut.Frame
public import proofs.«01_k».proof.Proof.Gen.UpdScOutIdeal.Frame
public import proofs.«01_k».proof.Proof.Gen.UpdScOutRefIdeal.Run
public import proofs.«01_k».proof.Proof.Gen.UpdScOutRefIdeal.Read
public import proofs.«01_k».proof.Proof.UpdScOutRun
public import proofs.«01_k».proof.Proof.UpdScOutRef
public import proofs.«01_k».proof.Proof.Gen.UpdLruIn.Frame
public import proofs.«01_k».proof.Proof.Gen.UpdLruInIdeal.Frame
public import proofs.«01_k».proof.Proof.Gen.UpdLruInRefIdeal.Run
public import proofs.«01_k».proof.Proof.Gen.UpdLruInRefIdeal.Read
public import proofs.«01_k».proof.Proof.UpdLruInRun
public import proofs.«01_k».proof.Proof.UpdLruInRef
public import proofs.«01_k».proof.Proof.Gen.UpdLruOut.Frame
public import proofs.«01_k».proof.Proof.Gen.UpdLruOutIdeal.Frame
public import proofs.«01_k».proof.Proof.Gen.UpdLruOutRefIdeal.Run
public import proofs.«01_k».proof.Proof.Gen.UpdLruOutRefIdeal.Read
public import proofs.«01_k».proof.Proof.UpdLruOutRun
public import proofs.«01_k».proof.Proof.UpdLruOutRef
public import proofs.«01_k».proof.Proof.Gen.UpdUp.Frame
public import proofs.«01_k».proof.Proof.Gen.UpdUpIdeal.Frame
public import proofs.«01_k».proof.Proof.Gen.UpdUpRefIdeal.Run
public import proofs.«01_k».proof.Proof.Gen.UpdUpRefIdeal.Read
public import proofs.«01_k».proof.Proof.UpdUpRun
public import proofs.«01_k».proof.Proof.UpdUpRef
public import proofs.«01_k».proof.Proof.Gen.UpdDown.Frame
public import proofs.«01_k».proof.Proof.Gen.UpdDownIdeal.Frame
public import proofs.«01_k».proof.Proof.Gen.UpdDownRefIdeal.Run
public import proofs.«01_k».proof.Proof.Gen.UpdDownRefIdeal.Read
public import proofs.«01_k».proof.Proof.UpdDownRun
public import proofs.«01_k».proof.Proof.UpdDownRef
public import proofs.«01_k».proof.Proof.Gen.UpdGate.Frame
public import proofs.«01_k».proof.Proof.Gen.UpdGateIdeal.Frame
public import proofs.«01_k».proof.Proof.Gen.UpdGateRefIdeal.Run
public import proofs.«01_k».proof.Proof.Gen.UpdGateRefIdeal.Read
public import proofs.«01_k».proof.Proof.UpdGateRun
public import proofs.«01_k».proof.Proof.UpdGateRef
public import proofs.«01_k».proof.Proof.Gen.ScFwd.Frame
public import proofs.«01_k».proof.Proof.Gen.ScFwdIdeal.Value
public import proofs.«01_k».proof.Proof.Gen.ScFwdRefIdeal.Run
public import proofs.«01_k».proof.Proof.Gen.ScFwdRefIdeal.Read
public import proofs.«01_k».proof.Proof.ScFwdRun
public import proofs.«01_k».proof.Proof.ScFwdRef
public import proofs.«01_k».proof.Proof.Gen.UpdPack.Frame
public import proofs.«01_k».proof.Proof.Gen.UpdPackIdeal.Frame
public import proofs.«01_k».proof.Proof.Gen.UpdPackRefIdeal.Run
public import proofs.«01_k».proof.Proof.Gen.UpdPackRefIdeal.Read
public import proofs.«01_k».proof.Proof.UpdPackRun
public import proofs.«01_k».proof.Proof.UpdPackRef
public import proofs.«01_k».proof.Proof.Gen.UpdSmall.Frame
public import proofs.«01_k».proof.Proof.Gen.UpdSmallIdeal.Frame
public import proofs.«01_k».proof.Proof.Gen.UpdSmallRefIdeal.Run
public import proofs.«01_k».proof.Proof.Gen.UpdSmallRefIdeal.Read
public import proofs.«01_k».proof.Proof.UpdSmallRun
public import proofs.«01_k».proof.Proof.UpdSmallRef
public import Idealize.ShloMosaic.Adequacy
public import Idealize.ShloMosaic.Init

@[expose] public section

noncomputable section

namespace Cert.Proof

open Idealize.ShloMosaic Idealize.SL.Sem Cert.ScBwd

/-- The kernel's gradients and those of the reference, over the ideal reals. -/
theorem sc_value : Cert.algebraic_ScBwdIdeal_ScRefIdeal :=
  fun m g m' g' _ h => ⟨fun c => scDh (Cert.ScBwdIdeal.Value.srcOf m c), fun c => scDw (Cert.ScBwdIdeal.Value.srcOf m c),
    fun c => scDb (Cert.ScBwdIdeal.Value.srcOf m c), Cert.ScBwdIdeal.Value.run m g,
    (θ_run _ _ _).mono (fun r hr c => by
      have hc := hr c
      obtain ⟨a0, a1, a2, a3⟩ := h c
      refine ⟨hc.1.trans ?_, hc.2.1.trans ?_, hc.2.2.1.trans ?_, hc.2.2.2⟩ <;> rw [a0, a1, a2, a3] <;> rfl)
      (Cert.ScRefIdeal.Value.run_gradients m' g')⟩

/-- The reference ends with its arguments as they were; it declares no semaphore. -/
theorem sc_ref_frame : Cert.quiescent_ScRefIdeal := fun m ρ _ =>
  (θ_run _ _ _).mono (fun _ h => ⟨fun c => (h c).2.2.2, funext fun g => nomatch g.2⟩) (Cert.ScRefIdeal.Value.run m ρ)

theorem claim : Cert.Claim := ⟨Cert.ScBwd.Gen.facts, Cert.ScBwdIdeal.Gen.facts, Cert.ScRefIdeal.Gen.facts,
  Cert.FfnDownDw.Gen.facts, Cert.FfnDownDwIdeal.Gen.facts, Cert.FfnDownDwRefIdeal.Gen.facts, Cert.FfnUpDw.Gen.facts,
  Cert.FfnUpDwIdeal.Gen.facts, Cert.FfnUpDwRefIdeal.Gen.facts, Cert.ScOutDw.Gen.facts, Cert.ScOutDwIdeal.Gen.facts,
  Cert.ScOutDwRefIdeal.Gen.facts, Cert.ScInDw.Gen.facts, Cert.ScInDwIdeal.Gen.facts, Cert.ScInDwRefIdeal.Gen.facts,
  Cert.LruOutDw.Gen.facts, Cert.LruOutDwIdeal.Gen.facts, Cert.LruOutDwRefIdeal.Gen.facts, Cert.LruInDw.Gen.facts,
  Cert.LruInDwIdeal.Gen.facts, Cert.LruInDwRefIdeal.Gen.facts, Cert.FfnUpDx.Gen.facts, Cert.FfnUpDxIdeal.Gen.facts,
  Cert.FfnUpDxRefIdeal.Gen.facts, Cert.ScInDx.Gen.facts, Cert.ScInDxIdeal.Gen.facts, Cert.ScInDxRefIdeal.Gen.facts,
  Cert.LruInDx.Gen.facts, Cert.LruInDxIdeal.Gen.facts, Cert.LruInDxRefIdeal.Gen.facts, Cert.ScOutDx.Gen.facts,
  Cert.ScOutDxIdeal.Gen.facts, Cert.ScOutDxRefIdeal.Gen.facts, Cert.LruOutDx.Gen.facts, Cert.LruOutDxIdeal.Gen.facts,
  Cert.LruOutDxRefIdeal.Gen.facts, Cert.ScIn.Gen.facts, Cert.ScInIdeal.Gen.facts, Cert.ScInRefIdeal.Gen.facts,
  Cert.LruIn.Gen.facts, Cert.LruInIdeal.Gen.facts, Cert.LruInRefIdeal.Gen.facts, Cert.FfnDownLn.Gen.facts,
  Cert.FfnDownLnIdeal.Gen.facts, Cert.FfnDownLnRefIdeal.Gen.facts, Cert.ScOutLn.Gen.facts, Cert.ScOutLnIdeal.Gen.facts,
  Cert.ScOutLnRefIdeal.Gen.facts, Cert.LruOutLn.Gen.facts, Cert.LruOutLnIdeal.Gen.facts, Cert.LruOutLnRefIdeal.Gen.facts,
  Cert.LnBwd.Gen.facts, Cert.LnBwdIdeal.Gen.facts, Cert.LnBwdRefIdeal.Gen.facts,
  Cert.FfnUp.Gen.facts, Cert.FfnUpIdeal.Gen.facts, Cert.FfnUpRefIdeal.Gen.facts,
  Cert.UpdScIn.Gen.facts, Cert.UpdScInIdeal.Gen.facts, Cert.UpdScInRefIdeal.Gen.facts,
  Cert.UpdScOut.Gen.facts, Cert.UpdScOutIdeal.Gen.facts, Cert.UpdScOutRefIdeal.Gen.facts,
  Cert.UpdLruIn.Gen.facts, Cert.UpdLruInIdeal.Gen.facts, Cert.UpdLruInRefIdeal.Gen.facts,
  Cert.UpdLruOut.Gen.facts, Cert.UpdLruOutIdeal.Gen.facts, Cert.UpdLruOutRefIdeal.Gen.facts,
  Cert.UpdUp.Gen.facts, Cert.UpdUpIdeal.Gen.facts, Cert.UpdUpRefIdeal.Gen.facts,
  Cert.UpdDown.Gen.facts, Cert.UpdDownIdeal.Gen.facts, Cert.UpdDownRefIdeal.Gen.facts,
  Cert.UpdGate.Gen.facts, Cert.UpdGateIdeal.Gen.facts, Cert.UpdGateRefIdeal.Gen.facts,
  Cert.ScFwd.Gen.facts, Cert.ScFwdIdeal.Gen.facts, Cert.ScFwdRefIdeal.Gen.facts,
  Cert.UpdPack.Gen.facts, Cert.UpdPackIdeal.Gen.facts, Cert.UpdPackRefIdeal.Gen.facts,
  Cert.UpdSmall.Gen.facts, Cert.UpdSmallIdeal.Gen.facts, Cert.UpdSmallRefIdeal.Gen.facts,
  Cert.LnLoss.Gen.facts, Cert.LnLossIdeal.Gen.facts, Cert.LnLossRefIdeal.Gen.facts,
  Cert.Loss.Gen.facts, Cert.LossIdeal.Gen.facts, Cert.LossRefIdeal.Gen.facts,
  Cert.Pre_finite.Gen.facts, Cert.Pre_finite_error.Gen.facts,
  fun m ρ _ => Cert.ScBwd.Gen.frame m ρ,
  fun m ρ _ => Cert.ScBwdIdeal.Gen.frame m ρ,
  sc_ref_frame,
  fun m ρ _ => Cert.FfnDownDw.Gen.frame m ρ,
  fun m ρ _ => Cert.FfnDownDwIdeal.Gen.frame m ρ,
  Cert.FfnDownDwRefIdeal.Value.ends,
  fun m ρ _ => Cert.FfnUpDw.Gen.frame m ρ,
  fun m ρ _ => Cert.FfnUpDwIdeal.Gen.frame m ρ,
  Cert.FfnUpDwRefIdeal.Value.ends,
  fun m ρ _ => Cert.ScOutDw.Gen.frame m ρ,
  fun m ρ _ => Cert.ScOutDwIdeal.Gen.frame m ρ,
  Cert.ScOutDwRefIdeal.Value.ends,
  fun m ρ _ => Cert.ScInDw.Gen.frame m ρ,
  fun m ρ _ => Cert.ScInDwIdeal.Gen.frame m ρ,
  Cert.ScInDwRefIdeal.Value.ends,
  fun m ρ _ => Cert.LruOutDw.Gen.frame m ρ,
  fun m ρ _ => Cert.LruOutDwIdeal.Gen.frame m ρ,
  Cert.LruOutDwRefIdeal.Value.ends,
  fun m ρ _ => Cert.LruInDw.Gen.frame m ρ,
  fun m ρ _ => Cert.LruInDwIdeal.Gen.frame m ρ,
  Cert.LruInDwRefIdeal.Value.ends,
  fun m ρ _ => Cert.FfnUpDx.Gen.frame m ρ,
  fun m ρ _ => Cert.FfnUpDxIdeal.Gen.frame m ρ,
  Cert.FfnUpDxRefIdeal.Value.ends,
  fun m ρ _ => Cert.ScInDx.Gen.frame m ρ,
  fun m ρ _ => Cert.ScInDxIdeal.Gen.frame m ρ,
  Cert.ScInDxRefIdeal.Value.ends,
  fun m ρ _ => Cert.LruInDx.Gen.frame m ρ,
  fun m ρ _ => Cert.LruInDxIdeal.Gen.frame m ρ,
  Cert.LruInDxRefIdeal.Value.ends,
  fun m ρ _ => Cert.ScOutDx.Gen.frame m ρ,
  fun m ρ _ => Cert.ScOutDxIdeal.Gen.frame m ρ,
  Cert.ScOutDxRefIdeal.Value.ends,
  fun m ρ _ => Cert.LruOutDx.Gen.frame m ρ,
  fun m ρ _ => Cert.LruOutDxIdeal.Gen.frame m ρ,
  Cert.LruOutDxRefIdeal.Value.ends,
  fun m ρ _ => Cert.ScIn.Gen.frame m ρ,
  fun m ρ _ => Cert.ScInIdeal.Gen.frame m ρ,
  Cert.ScInRefIdeal.Value.ends,
  fun m ρ _ => Cert.LruIn.Gen.frame m ρ,
  fun m ρ _ => Cert.LruInIdeal.Gen.frame m ρ,
  Cert.LruInRefIdeal.Value.ends,
  fun m ρ _ => Cert.FfnDownLn.Gen.frame m ρ,
  fun m ρ _ => Cert.FfnDownLnIdeal.Gen.frame m ρ,
  Cert.FfnDownLnRefIdeal.Value.ends,
  fun m ρ _ => Cert.ScOutLn.Gen.frame m ρ,
  fun m ρ _ => Cert.ScOutLnIdeal.Gen.frame m ρ,
  Cert.ScOutLnRefIdeal.Value.ends,
  fun m ρ _ => Cert.LruOutLn.Gen.frame m ρ,
  fun m ρ _ => Cert.LruOutLnIdeal.Gen.frame m ρ,
  Cert.LruOutLnRefIdeal.Value.ends,
  fun m ρ _ => Cert.LnBwd.Gen.frame m ρ,
  fun m ρ _ => Cert.LnBwdIdeal.Gen.frame m ρ,
  LnBwd_ends_finite,
  Cert.LnBwdRefIdeal.Value.ends,
  Cert.LnBwdRefIdeal.Value.ends_finite,
  fun m ρ _ => Cert.FfnUp.Gen.frame m ρ,
  fun m ρ _ => Cert.FfnUpIdeal.Gen.frame m ρ,
  Cert.FfnUpRefIdeal.Value.ends,
  fun m ρ _ => Cert.UpdScIn.Gen.frame m ρ trivial,
  fun m ρ _ => Cert.UpdScInIdeal.Gen.frame m ρ trivial,
  Cert.UpdScInRefIdeal.Value.ends,
  fun m ρ _ => Cert.UpdScOut.Gen.frame m ρ trivial,
  fun m ρ _ => Cert.UpdScOutIdeal.Gen.frame m ρ trivial,
  Cert.UpdScOutRefIdeal.Value.ends,
  fun m ρ _ => Cert.UpdLruIn.Gen.frame m ρ trivial,
  fun m ρ _ => Cert.UpdLruInIdeal.Gen.frame m ρ trivial,
  Cert.UpdLruInRefIdeal.Value.ends,
  fun m ρ _ => Cert.UpdLruOut.Gen.frame m ρ trivial,
  fun m ρ _ => Cert.UpdLruOutIdeal.Gen.frame m ρ trivial,
  Cert.UpdLruOutRefIdeal.Value.ends,
  fun m ρ _ => Cert.UpdUp.Gen.frame m ρ trivial,
  fun m ρ _ => Cert.UpdUpIdeal.Gen.frame m ρ trivial,
  Cert.UpdUpRefIdeal.Value.ends,
  fun m ρ _ => Cert.UpdDown.Gen.frame m ρ trivial,
  fun m ρ _ => Cert.UpdDownIdeal.Gen.frame m ρ trivial,
  Cert.UpdDownRefIdeal.Value.ends,
  fun m ρ _ => Cert.UpdGate.Gen.frame m ρ trivial,
  fun m ρ _ => Cert.UpdGateIdeal.Gen.frame m ρ trivial,
  Cert.UpdGateRefIdeal.Value.ends,
  fun m ρ _ => Cert.ScFwd.Gen.frame m ρ,
  fun m ρ _ => Cert.ScFwdIdeal.Gen.frame m ρ,
  Cert.ScFwdRefIdeal.Value.ends,
  fun m ρ _ => Cert.UpdPack.Gen.frame m ρ trivial,
  fun m ρ _ => Cert.UpdPackIdeal.Gen.frame m ρ trivial,
  Cert.UpdPackRefIdeal.Value.ends,
  fun m ρ _ => Cert.UpdSmall.Gen.frame m ρ trivial,
  fun m ρ _ => Cert.UpdSmallIdeal.Gen.frame m ρ trivial,
  Cert.UpdSmallRefIdeal.Value.ends,
  fun m ρ _ => Cert.LnLoss.Gen.frame m ρ,
  fun m ρ _ => Cert.LnLossIdeal.Gen.frame m ρ,
  LnLoss_ends_finite_error,
  Cert.LnLossRefIdeal.Value.ends,
  Cert.LnLossRefIdeal.Value.ends_finite_error,
  Loss_ends,
  LossIdeal_ends,
  LossRef_ends,
  trivial, sc_value, trivial, FfnDownDw_value, trivial, FfnUpDw_value, trivial, ScOutDw_value, trivial, ScInDw_value, trivial,
  LruOutDw_value, trivial, LruInDw_value, trivial, FfnUpDx_value, trivial, ScInDx_value, trivial, LruInDx_value, trivial,
  ScOutDx_value, trivial, LruOutDx_value, trivial, ScIn_value, trivial, LruIn_value, trivial, FfnDownLn_value, trivial,
  ScOutLn_value, trivial, LruOutLn_value, trivial, LnBwd_value,
  trivial, FfnUp_value,
  trivial, UpdScIn_value,
  trivial, UpdScOut_value,
  trivial, UpdLruIn_value,
  trivial, UpdLruOut_value,
  trivial, UpdUp_value,
  trivial, UpdDown_value,
  trivial, UpdGate_value,
  trivial, ScFwd_value,
  trivial, UpdPack_value,
  trivial, UpdSmall_value,
  trivial, LnLoss_value,
  trivial, Loss_value⟩

end Cert.Proof

end
